-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Kernel25Ideal_finite_prep [hPre_finite_prep : Cert.Pre_finite_prep.Facts] (m : (ℓ : Loc Cert.Kernel25Ideal.nD Cert.Kernel25Ideal.τ Cert.Kernel25Ideal.sig) → Buf (Elt Ideal) ℓ) : Prop :=
  ∀ c : Dev Cert.Kernel25Ideal.nD,
    (Cert.Pre_finite_prep.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2))) = (fun _ => 1#1)

def Pre_Reference25Ideal (m : (ℓ : Loc Cert.Reference25Ideal.nD Cert.Reference25Ideal.τ Cert.Reference25Ideal.sig) → Buf (Elt Ideal) ℓ) : Prop :=
  True

def Pre_Reference25Ideal_finite_prep [hPre_finite_prep : Cert.Pre_finite_prep.Facts] (m : (ℓ : Loc Cert.Reference25Ideal.nD Cert.Reference25Ideal.τ Cert.Reference25Ideal.sig) → Buf (Elt Ideal) ℓ) : Prop :=
  ∀ c : Dev Cert.Reference25Ideal.nD,
    (Cert.Pre_finite_prep.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6)
      ∧ r.2.mem ((c.tc : Thread Cert.Kernel23.nD Cert.Kernel23.τ).loc Cert.Kernel23.main_arg7) = m ((c.tc : Thread Cert.Kernel23.nD Cert.Kernel23.τ).loc Cert.Kernel23.main_arg7)
      ∧ r.2.mem ((c.tc : Thread Cert.Kernel23.nD Cert.Kernel23.τ).loc Cert.Kernel23.main_arg8) = m ((c.tc : Thread Cert.Kernel23.nD Cert.Kernel23.τ).loc Cert.Kernel23.main_arg8)
      ∧ r.2.mem ((c.tc : Thread Cert.Kernel23.nD Cert.Kernel23.τ).loc Cert.Kernel23.main_arg9) = m ((c.tc : Thread Cert.Kernel23.nD Cert.Kernel23.τ).loc Cert.Kernel23.main_arg9)
      ∧ r.2.mem ((c.tc : Thread Cert.Kernel23.nD Cert.Kernel23.τ).loc Cert.Kernel23.main_arg10) = m ((c.tc : Thread Cert.Kernel23.nD Cert.Kernel23.τ).loc Cert.Kernel23.main_arg10)
      ∧ r.2.mem ((c.tc : Thread Cert.Kernel23.nD Cert.Kernel23.τ).loc Cert.Kernel23.main_arg11) = m ((c.tc : Thread Cert.Kernel23.nD Cert.Kernel23.τ).loc Cert.Kernel23.main_arg11)
      ∧ r.2.mem ((c.tc : Thread Cert.Kernel23.nD Cert.Kernel23.τ).loc Cert.Kernel23.main_arg12) = m ((c.tc : Thread Cert.Kernel23.nD Cert.Kernel23.τ).loc Cert.Kernel23.main_arg12)
      ∧ r.2.mem ((c.tc : Thread Cert.Kernel23.nD Cert.Kernel23.τ).loc Cert.Kernel23.main_arg13) = m ((c.tc : Thread Cert.Kernel23.nD Cert.Kernel23.τ).loc Cert.Kernel23.main_arg13)
      ∧ r.2.mem ((c.tc : Thread Cert.Kernel23.nD Cert.Kernel23.τ).loc Cert.Kernel23.main_arg14) = m ((c.tc : Thread Cert.Kernel23.nD Cert.Kernel23.τ).loc Cert.Kernel23.main_arg14)
      ∧ r.2.mem ((c.tc : Thread Cert.Kernel23.nD Cert.Kernel23.τ).loc Cert.Kernel23.main_arg15) = m ((c.tc : Thread Cert.Kernel23.nD Cert.Kernel23.τ).loc Cert.Kernel23.main_arg15)
      ∧ r.2.mem ((c.tc : Thread Cert.Kernel23.nD Cert.Kernel23.τ).loc Cert.Kernel23.main_arg16) = m ((c.tc : Thread Cert.Kernel23.nD Cert.Kernel23.τ).loc Cert.Kernel23.main_arg16)
      ∧ r.2.mem ((c.tc : Thread Cert.Kernel23.nD Cert.Kernel23.τ).loc Cert.Kernel23.main_arg17) = m ((c.tc : Thread Cert.Kernel23.nD Cert.Kernel23.τ).loc Cert.Kernel23.main_arg17)
      ∧ r.2.mem ((c.tc : Thread Cert.Kernel23.nD Cert.Kernel23.τ).loc Cert.Kernel23.main_arg18) = m ((c.tc : Thread Cert.Kernel23.nD Cert.Kernel23.τ).loc Cert.Kernel23.main_arg18)
      ∧ r.2.mem ((c.tc : Thread Cert.Kernel23.nD Cert.Kernel23.τ).loc Cert.Kernel23.main_arg19) = m ((c.tc : Thread Cert.Kernel23.nD Cert.Kernel23.τ).loc Cert.Kernel23.main_arg19)
      ∧ r.2.mem ((c.tc : Thread Cert.Kernel23.nD Cert.Kernel23.τ).loc Cert.Kernel23.main_arg20) = m ((c.tc : Thread Cert.Kernel23.nD Cert.Kernel23.τ).loc Cert.Kernel23.main_arg20)
      ∧ r.2.mem ((c.tc : Thread Cert.Kernel23.nD Cert.Kernel23.τ).loc Cert.Kernel23.main_arg21) = m ((c.tc : Thread Cert.Kernel23.nD Cert.Kernel23.τ).loc Cert.Kernel23.main_arg21)
      ∧ r.2.mem ((c.tc : Thread Cert.Kernel23.nD Cert.Kernel23.τ).loc Cert.Kernel23.main_arg22) = m ((c.tc : Thread Cert.Kernel23.nD Cert.Kernel23.τ).loc Cert.Kernel23.main_arg22)
      ∧ r.2.mem ((c.tc : Thread Cert.Kernel23.nD Cert.Kernel23.τ).loc Cert.Kernel23.main_arg23) = m ((c.tc : Thread Cert.Kernel23.nD Cert.Kernel23.τ).loc Cert.Kernel23.main_arg23)
      ∧ r.2.mem ((c.tc : Thread Cert.Kernel23.nD Cert.Kernel23.τ).loc Cert.Kernel23.main_arg24) = m ((c.tc : Thread Cert.Kernel23.nD Cert.Kernel23.τ).loc Cert.Kernel23.main_arg24)
      ∧ r.2.mem ((c.tc : Thread Cert.Kernel23.nD Cert.Kernel23.τ).loc Cert.Kernel23.main_arg25) = m ((c.tc : Thread Cert.Kernel23.nD Cert.Kernel23.τ).loc Cert.Kernel23.main_arg25)
      ∧ r.2.mem ((c.tc : Thread Cert.Kernel23.nD Cert.Kernel23.τ).loc Cert.Kernel23.main_arg26) = m ((c.tc : Thread Cert.Kernel23.nD Cert.Kernel23.τ).loc Cert.Kernel23.main_arg26)
      ∧ r.2.mem ((c.tc : Thread Cert.Kernel23.nD Cert.Kernel23.τ).loc Cert.Kernel23.main_arg27) = m ((c.tc : Thread Cert.Kernel23.nD Cert.Kernel23.τ).loc Cert.Kernel23.main_arg27)
      ∧ r.2.mem ((c.tc : Thread Cert.Kernel23.nD Cert.Kernel23.τ).loc Cert.Kernel23.main_arg28) = m ((c.tc : Thread Cert.Kernel23.nD Cert.Kernel23.τ).loc Cert.Kernel23.main_arg28)
      ∧ r.2.mem ((c.tc : Thread Cert.Kernel23.nD Cert.Kernel23.τ).loc Cert.Kernel23.main_arg29) = m ((c.tc : Thread Cert.Kernel23.nD Cert.Kernel23.τ).loc Cert.Kernel23.main_arg29)
      ∧ r.2.mem ((c.tc : Thread Cert.Kernel23.nD Cert.Kernel23.τ).loc Cert.Kernel23.main_arg30) = m ((c.tc : Thread Cert.Kernel23.nD Cert.Kernel23.τ).loc Cert.Kernel23.main_arg30)
      ∧ r.2.mem ((c.tc : Thread Cert.Kernel23.nD Cert.Kernel23.τ).loc Cert.Kernel23.main_arg31) = m ((c.tc : Thread Cert.Kernel23.nD Cert.Kernel23.τ).loc Cert.Kernel23.main_arg31)
      ∧ r.2.mem ((c.tc : Thread Cert.Kernel23.nD Cert.Kernel23.τ).loc Cert.Kernel23.main_arg32) = m ((c.tc : Thread Cert.Kernel23.nD Cert.Kernel23.τ).loc Cert.Kernel23.main_arg32)
      ∧ r.2.mem ((c.tc : Thread Cert.Kernel23.nD Cert.Kernel23.τ).loc Cert.Kernel23.main_arg33) = m ((c.tc : Thread Cert.Kernel23.nD Cert.Kernel23.τ).loc Cert.Kernel23.main_arg33)
      ∧ r.2.mem ((c.tc : Thread Cert.Kernel23.nD Cert.Kernel23.τ).loc Cert.Kernel23.main_arg34) = m ((c.tc : Thread Cert.Kernel23.nD Cert.Kernel23.τ).loc Cert.Kernel23.main_arg34)
      ∧ r.2.mem ((c.tc : Thread Cert.Kernel23.nD Cert.Kernel23.τ).loc Cert.Kernel23.main_arg35) = m ((c.tc : Thread Cert.Kernel23.nD Cert.Kernel23.τ).loc Cert.Kernel23.main_arg35)
      ∧ r.2.mem ((c.tc : Thread Cert.Kernel23.nD Cert.Kernel23.τ).loc Cert.Kernel23.main_arg36) = m ((c.tc : Thread Cert.Kernel23.nD Cert.Kernel23.τ).loc Cert.Kernel23.main_arg36)
      ∧ r.2.mem ((c.tc : Thread Cert.Kernel23.nD Cert.Kernel23.τ).loc Cert.Kernel23.main_arg37) = m ((c.tc : Thread Cert.Kernel23.nD Cert.Kernel23.τ).loc Cert.Kernel23.main_arg37)
      ∧ r.2.mem ((c.tc : Thread Cert.Kernel23.nD Cert.Kernel23.τ).loc Cert.Kernel23.main_arg38) = m ((c.tc : Thread Cert.Kernel23.nD Cert.Kernel23.τ).loc Cert.Kernel23.main_arg38)
      ∧ r.2.mem ((c.tc : Thread Cert.Kernel23.nD Cert.Kernel23.τ).loc Cert.Kernel23.main_arg39) = m ((c.tc : Thread Cert.Kernel23.nD Cert.Kernel23.τ).loc Cert.Kernel23.main_arg39)
      ∧ r.2.mem ((c.tc : Thread Cert.Kernel23.nD Cert.Kernel23.τ).loc Cert.Kernel23.main_arg40) = m ((c.tc : Thread Cert.Kernel23.nD Cert.Kernel23.τ).loc Cert.Kernel23.main_arg40)
      ∧ r.2.mem ((c.tc : Thread Cert.Kernel23.nD Cert.Kernel23.τ).loc Cert.Kernel23.main_arg41) = m ((c.tc : Thread Cert.Kernel23.nD Cert.Kernel23.τ).loc Cert.Kernel23.main_arg41)
      ∧ r.2.mem ((c.tc : Thread Cert.Kernel23.nD Cert.Kernel23.τ).loc Cert.Kernel23.main_arg42) = m ((c.tc : Thread Cert.Kernel23.nD Cert.Kernel23.τ).loc Cert.Kernel23.main_arg42)
      ∧ r.2.mem ((c.tc : Thread Cert.Kernel23.nD Cert.Kernel23.τ).loc Cert.Kernel23.main_arg43) = m ((c.tc : Thread Cert.Kernel23.nD Cert.Kernel23.τ).loc Cert.Kernel23.main_arg43)
      ∧ r.2.mem ((c.tc : Thread Cert.Kernel23.nD Cert.Kernel23.τ).loc Cert.Kernel23.main_arg44) = m ((c.tc : Thread Cert.Kernel23.nD Cert.Kernel23.τ).loc Cert.Kernel23.main_arg44)
      ∧ r.2.mem ((c.tc : Thread Cert.Kernel23.nD Cert.Kernel23.τ).loc Cert.Kernel23.main_arg45) = m ((c.tc : Thread Cert.Kernel23.nD Cert.Kernel23.τ).loc Cert.Kernel23.main_arg45)
      ∧ r.2.mem ((c.tc : Thread Cert.Kernel23.nD Cert.Kernel23.τ).loc Cert.Kernel23.main_arg46) = m ((c.tc : Thread Cert.Kernel23.nD Cert.Kernel23.τ).loc Cert.Kernel23.main_arg46)
      ∧ r.2.mem ((c.tc : Thread Cert.Kernel23.nD Cert.Kernel23.τ).loc Cert.Kernel23.main_arg47) = m ((c.tc : Thread Cert.Kernel23.nD Cert.Kernel23.τ).loc Cert.Kernel23.main_arg47)
      ∧ r.2.mem ((c.tc : Thread Cert.Kernel23.nD Cert.Kernel23.τ).loc Cert.Kernel23.main_arg48) = m ((c.tc : Thread Cert.Kernel23.nD Cert.Kernel23.τ).loc Cert.Kernel23.main_arg48)
      ∧ r.2.mem ((c.tc : Thread Cert.Kernel23.nD Cert.Kernel23.τ).loc Cert.Kernel23.main_arg49) = m ((c.tc : Thread Cert.Kernel23.nD Cert.Kernel23.τ).loc Cert.Kernel23.main_arg49)
      ∧ r.2.mem ((c.tc : Thread Cert.Kernel23.nD Cert.Kernel23.τ).loc Cert.Kernel23.main_arg50) = m ((c.tc : Thread Cert.Kernel23.nD Cert.Kernel23.τ).loc Cert.Kernel23.main_arg50)
      ∧ r.2.mem ((c.tc : Thread Cert.Kernel23.nD Cert.Kernel23.τ).loc Cert.Kernel23.main_arg51) = m ((c.tc : Thread Cert.Kernel23.nD Cert.Kernel23.τ).loc Cert.Kernel23.main_arg51)
      ∧ r.2.mem ((c.tc : Thread Cert.Kernel23.nD Cert.Kernel23.τ).loc Cert.Kernel23.main_arg52) = m ((c.tc : Thread Cert.Kernel23.nD Cert.Kernel23.τ).loc Cert.Kernel23.main_arg52)
      ∧ r.2.mem ((c.tc : Thread Cert.Kernel23.nD Cert.Kernel23.τ).loc Cert.Kernel23.main_arg53) = m ((c.tc : Thread Cert.Kernel23.nD Cert.Kernel23.τ).loc Cert.Kernel23.main_arg53)
      ∧ r.2.mem ((c.tc : Thread Cert.Kernel23.nD Cert.Kernel23.τ).loc Cert.Kernel23.main_arg54) = m ((c.tc : Thread Cert.Kernel23.nD Cert.Kernel23.τ).loc Cert.Kernel23.main_arg54)
      ∧ r.2.mem ((c.tc : Thread Cert.Kernel23.nD Cert.Kernel23.τ).loc Cert.Kernel23.main_arg55) = m ((c.tc : Thread Cert.Kernel23.nD Cert.Kernel23.τ).loc Cert.Kernel23.main_arg55)
      ∧ r.2.mem ((c.tc : Thread Cert.Kernel23.nD Cert.Kernel23.τ).loc Cert.Kernel23.main_arg56) = m ((c.tc : Thread Cert.Kernel23.nD Cert.Kernel23.τ).loc Cert.Kernel23.main_arg56)
      ∧ r.2.mem ((c.tc : Thread Cert.Kernel23.nD Cert.Kernel23.τ).loc Cert.Kernel23.main_arg57) = m ((c.tc : Thread Cert.Kernel23.nD Cert.Kernel23.τ).loc Cert.Kernel23.main_arg57)
      ∧ r.2.mem ((c.tc : Thread Cert.Kernel23.nD Cert.Kernel23.τ).loc Cert.Kernel23.main_arg58) = m ((c.tc : Thread Cert.Kernel23.nD Cert.Kernel23.τ).loc Cert.Kernel23.main_arg58)
      ∧ r.2.mem ((c.tc : Thread Cert.Kernel23.nD Cert.Kernel23.τ).loc Cert.Kernel23.main_arg59) = m ((c.tc : Thread Cert.Kernel23.nD Cert.Kernel23.τ).loc Cert.Kernel23.main_arg59)
      ∧ r.2.mem ((c.tc : Thread Cert.Kernel23.nD Cert.Kernel23.τ).loc Cert.Kernel23.main_arg60) = m ((c.tc : Thread Cert.Kernel23.nD Cert.Kernel23.τ).loc Cert.Kernel23.main_arg60)
      ∧ r.2.mem ((c.tc : Thread Cert.Kernel23.nD Cert.Kernel23.τ).loc Cert.Kernel23.main_arg61) = m ((c.tc : Thread Cert.Kernel23.nD Cert.Kernel23.τ).loc Cert.Kernel23.main_arg61)
      ∧ r.2.mem ((c.tc : Thread Cert.Kernel23.nD Cert.Kernel23.τ).loc Cert.Kernel23.main_arg62) = m ((c.tc : Thread Cert.Kernel23.nD Cert.Kernel23.τ).loc Cert.Kernel23.main_arg62)
      ∧ r.2.mem ((c.tc : Thread Cert.Kernel23.nD Cert.Kernel23.τ).loc Cert.Kernel23.main_arg63) = m ((c.tc : Thread Cert.Kernel23.nD Cert.Kernel23.τ).loc Cert.Kernel23.main_arg63)
      ∧ r.2.mem ((c.tc : Thread Cert.Kernel23.nD Cert.Kernel23.τ).loc Cert.Kernel23.main_arg64) = m ((c.tc : Thread Cert.Kernel23.nD Cert.Kernel23.τ).loc Cert.Kernel23.main_arg64)
      ∧ r.2.mem ((c.tc : Thread Cert.Kernel23.nD Cert.Kernel23.τ).loc Cert.Kernel23.main_arg65) = m ((c.tc : Thread Cert.Kernel23.nD Cert.Kernel23.τ).loc Cert.Kernel23.main_arg65)
      ∧ r.2.mem ((c.tc : Thread Cert.Kernel23.nD Cert.Kernel23.τ).loc Cert.Kernel23.main_arg66) = m ((c.tc : Thread Cert.Kernel23.nD Cert.Kernel23.τ).loc Cert.Kernel23.main_arg66)
      ∧ r.2.mem ((c.tc : Thread Cert.Kernel23.nD Cert.Kernel23.τ).loc Cert.Kernel23.main_arg67) = m ((c.tc : Thread Cert.Kernel23.nD Cert.Kernel23.τ).loc Cert.Kernel23.main_arg67)
      ∧ r.2.mem ((c.tc : Thread Cert.Kernel23.nD Cert.Kernel23.τ).loc Cert.Kernel23.main_arg68) = m ((c.tc : Thread Cert.Kernel23.nD Cert.Kernel23.τ).loc Cert.Kernel23.main_arg68)
      ∧ r.2.mem ((c.tc : Thread Cert.Kernel23.nD Cert.Kernel23.τ).loc Cert.Kernel23.main_arg69) = m ((c.tc : Thread Cert.Kernel23.nD Cert.Kernel23.τ).loc Cert.Kernel23.main_arg69)
      ∧ r.2.mem ((c.tc : Thread Cert.Kernel23.nD Cert.Kernel23.τ).loc Cert.Kernel23.main_arg70) = m ((c.tc : Thread Cert.Kernel23.nD Cert.Kernel23.τ).loc Cert.Kernel23.main_arg70)
      ∧ r.2.mem ((c.tc : Thread Cert.Kernel23.nD Cert.Kernel23.τ).loc Cert.Kernel23.main_arg71) = m ((c.tc : Thread Cert.Kernel23.nD Cert.Kernel23.τ).loc Cert.Kernel23.main_arg71)
      ∧ r.2.mem ((c.tc : Thread Cert.Kernel23.nD Cert.Kernel23.τ).loc Cert.Kernel23.main_arg72) = m ((c.tc : Thread Cert.Kernel23.nD Cert.Kernel23.τ).loc Cert.Kernel23.main_arg72)
      ∧ r.2.mem ((c.tc : Thread Cert.Kernel23.nD Cert.Kernel23.τ).loc Cert.Kernel23.main_arg73) = m ((c.tc : Thread Cert.Kernel23.nD Cert.Kernel23.τ).loc Cert.Kernel23.main_arg73)
      ∧ r.2.mem ((c.tc : Thread Cert.Kernel23.nD Cert.Kernel23.τ).loc Cert.Kernel23.main_arg74) = m ((c.tc : Thread Cert.Kernel23.nD Cert.Kernel23.τ).loc Cert.Kernel23.main_arg74)
      ∧ r.2.mem ((c.tc : Thread Cert.Kernel23.nD Cert.Kernel23.τ).loc Cert.Kernel23.main_arg75) = m ((c.tc : Thread Cert.Kernel23.nD Cert.Kernel23.τ).loc Cert.Kernel23.main_arg75))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
      ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
      ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8)
      ∧ r.2.mem ((c.tc : Thread Cert.Kernel23Ideal.nD Cert.Kernel23Ideal.τ).loc Cert.Kernel23Ideal.main_arg9) = m ((c.tc : Thread Cert.Kernel23Ideal.nD Cert.Kernel23Ideal.τ).loc Cert.Kernel23Ideal.main_arg9)
      ∧ r.2.mem ((c.tc : Thread Cert.Kernel23Ideal.nD Cert.Kernel23Ideal.τ).loc Cert.Kernel23Ideal.main_arg10) = m ((c.tc : Thread Cert.Kernel23Ideal.nD Cert.Kernel23Ideal.τ).loc Cert.Kernel23Ideal.main_arg10)
      ∧ r.2.mem ((c.tc : Thread Cert.Kernel23Ideal.nD Cert.Kernel23Ideal.τ).loc Cert.Kernel23Ideal.main_arg11) = m ((c.tc : Thread Cert.Kernel23Ideal.nD Cert.Kernel23Ideal.τ).loc Cert.Kernel23Ideal.main_arg11)
      ∧ r.2.mem ((c.tc : Thread Cert.Kernel23Ideal.nD Cert.Kernel23Ideal.τ).loc Cert.Kernel23Ideal.main_arg12) = m ((c.tc : Thread Cert.Kernel23Ideal.nD Cert.Kernel23Ideal.τ).loc Cert.Kernel23Ideal.main_arg12)
      ∧ r.2.mem ((c.tc : Thread Cert.Kernel23Ideal.nD Cert.Kernel23Ideal.τ).loc Cert.Kernel23Ideal.main_arg13) = m ((c.tc : Thread Cert.Kernel23Ideal.nD Cert.Kernel23Ideal.τ).loc Cert.Kernel23Ideal.main_arg13)
      ∧ r.2.mem ((c.tc : Thread Cert.Kernel23Ideal.nD Cert.Kernel23Ideal.τ).loc Cert.Kernel23Ideal.main_arg14) = m ((c.tc : Thread Cert.Kernel23Ideal.nD Cert.Kernel23Ideal.τ).loc Cert.Kernel23Ideal.main_arg14)
      ∧ r.2.mem ((c.tc : Thread Cert.Kernel23Ideal.nD Cert.Kernel23Ideal.τ).loc Cert.Kernel23Ideal.main_arg15) = m ((c.tc : Thread Cert.Kernel23Ideal.nD Cert.Kernel23Ideal.τ).loc Cert.Kernel23Ideal.main_arg15)
      ∧ r.2.mem ((c.tc : Thread Cert.Kernel23Ideal.nD Cert.Kernel23Ideal.τ).loc Cert.Kernel23Ideal.main_arg16) = m ((c.tc : Thread Cert.Kernel23Ideal.nD Cert.Kernel23Ideal.τ).loc Cert.Kernel23Ideal.main_arg16)
      ∧ r.2.mem ((c.tc : Thread Cert.Kernel23Ideal.nD Cert.Kernel23Ideal.τ).loc Cert.Kernel23Ideal.main_arg17) = m ((c.tc : Thread Cert.Kernel23Ideal.nD Cert.Kernel23Ideal.τ).loc Cert.Kernel23Ideal.main_arg17)
      ∧ r.2.mem ((c.tc : Thread Cert.Kernel23Ideal.nD Cert.Kernel23Ideal.τ).loc Cert.Kernel23Ideal.main_arg18) = m ((c.tc : Thread Cert.Kernel23Ideal.nD Cert.Kernel23Ideal.τ).loc Cert.Kernel23Ideal.main_arg18)
      ∧ r.2.mem ((c.tc : Thread Cert.Kernel23Ideal.nD Cert.Kernel23Ideal.τ).loc Cert.Kernel23Ideal.main_arg19) = m ((c.tc : Thread Cert.Kernel23Ideal.nD Cert.Kernel23Ideal.τ).loc Cert.Kernel23Ideal.main_arg19)
      ∧ r.2.mem ((c.tc : Thread Cert.Kernel23Ideal.nD Cert.Kernel23Ideal.τ).loc Cert.Kernel23Ideal.main_arg20) = m ((c.tc : Thread Cert.Kernel23Ideal.nD Cert.Kernel23Ideal.τ).loc Cert.Kernel23Ideal.main_arg20)
      ∧ r.2.mem ((c.tc : Thread Cert.Kernel23Ideal.nD Cert.Kernel23Ideal.τ).loc Cert.Kernel23Ideal.main_arg21) = m ((c.tc : Thread Cert.Kernel23Ideal.nD Cert.Kernel23Ideal.τ).loc Cert.Kernel23Ideal.main_arg21)
      ∧ r.2.mem ((c.tc : Thread Cert.Kernel23Ideal.nD Cert.Kernel23Ideal.τ).loc Cert.Kernel23Ideal.main_arg22) = m ((c.tc : Thread Cert.Kernel23Ideal.nD Cert.Kernel23Ideal.τ).loc Cert.Kernel23Ideal.main_arg22)
      ∧ r.2.mem ((c.tc : Thread Cert.Kernel23Ideal.nD Cert.Kernel23Ideal.τ).loc Cert.Kernel23Ideal.main_arg23) = m ((c.tc : Thread Cert.Kernel23Ideal.nD Cert.Kernel23Ideal.τ).loc Cert.Kernel23Ideal.main_arg23)
      ∧ r.2.mem ((c.tc : Thread Cert.Kernel23Ideal.nD Cert.Kernel23Ideal.τ).loc Cert.Kernel23Ideal.main_arg24) = m ((c.tc : Thread Cert.Kernel23Ideal.nD Cert.Kernel23Ideal.τ).loc Cert.Kernel23Ideal.main_arg24)
      ∧ r.2.mem ((c.tc : Thread Cert.Kernel23Ideal.nD Cert.Kernel23Ideal.τ).loc Cert.Kernel23Ideal.main_arg25) = m ((c.tc : Thread Cert.Kernel23Ideal.nD Cert.Kernel23Ideal.τ).loc Cert.Kernel23Ideal.main_arg25)
      ∧ r.2.mem ((c.tc : Thread Cert.Kernel23Ideal.nD Cert.Kernel23Ideal.τ).loc Cert.Kernel23Ideal.main_arg26) = m ((c.tc : Thread Cert.Kernel23Ideal.nD Cert.Kernel23Ideal.τ).loc Cert.Kernel23Ideal.main_arg26)
      ∧ r.2.mem ((c.tc : Thread Cert.Kernel23Ideal.nD Cert.Kernel23Ideal.τ).loc Cert.Kernel23Ideal.main_arg27) = m ((c.tc : Thread Cert.Kernel23Ideal.nD Cert.Kernel23Ideal.τ).loc Cert.Kernel23Ideal.main_arg27)
      ∧ r.2.mem ((c.tc : Thread Cert.Kernel23Ideal.nD Cert.Kernel23Ideal.τ).loc Cert.Kernel23Ideal.main_arg28) = m ((c.tc : Thread Cert.Kernel23Ideal.nD Cert.Kernel23Ideal.τ).loc Cert.Kernel23Ideal.main_arg28)
      ∧ r.2.mem ((c.tc : Thread Cert.Kernel23Ideal.nD Cert.Kernel23Ideal.τ).loc Cert.Kernel23Ideal.main_arg29) = m ((c.tc : Thread Cert.Kernel23Ideal.nD Cert.Kernel23Ideal.τ).loc Cert.Kernel23Ideal.main_arg29)
      ∧ r.2.mem ((c.tc : Thread Cert.Kernel23Ideal.nD Cert.Kernel23Ideal.τ).loc Cert.Kernel23Ideal.main_arg30) = m ((c.tc : Thread Cert.Kernel23Ideal.nD Cert.Kernel23Ideal.τ).loc Cert.Kernel23Ideal.main_arg30)
      ∧ r.2.mem ((c.tc : Thread Cert.Kernel23Ideal.nD Cert.Kernel23Ideal.τ).loc Cert.Kernel23Ideal.main_arg31) = m ((c.tc : Thread Cert.Kernel23Ideal.nD Cert.Kernel23Ideal.τ).loc Cert.Kernel23Ideal.main_arg31)
      ∧ r.2.mem ((c.tc : Thread Cert.Kernel23Ideal.nD Cert.Kernel23Ideal.τ).loc Cert.Kernel23Ideal.main_arg32) = m ((c.tc : Thread Cert.Kernel23Ideal.nD Cert.Kernel23Ideal.τ).loc Cert.Kernel23Ideal.main_arg32)
      ∧ r.2.mem ((c.tc : Thread Cert.Kernel23Ideal.nD Cert.Kernel23Ideal.τ).loc Cert.Kernel23Ideal.main_arg33) = m ((c.tc : Thread Cert.Kernel23Ideal.nD Cert.Kernel23Ideal.τ).loc Cert.Kernel23Ideal.main_arg33)
      ∧ r.2.mem ((c.tc : Thread Cert.Kernel23Ideal.nD Cert.Kernel23Ideal.τ).loc Cert.Kernel23Ideal.main_arg34) = m ((c.tc : Thread Cert.Kernel23Ideal.nD Cert.Kernel23Ideal.τ).loc Cert.Kernel23Ideal.main_arg34)
      ∧ r.2.mem ((c.tc : Thread Cert.Kernel23Ideal.nD Cert.Kernel23Ideal.τ).loc Cert.Kernel23Ideal.main_arg35) = m ((c.tc : Thread Cert.Kernel23Ideal.nD Cert.Kernel23Ideal.τ).loc Cert.Kernel23Ideal.main_arg35)
      ∧ r.2.mem ((c.tc : Thread Cert.Kernel23Ideal.nD Cert.Kernel23Ideal.τ).loc Cert.Kernel23Ideal.main_arg36) = m ((c.tc : Thread Cert.Kernel23Ideal.nD Cert.Kernel23Ideal.τ).loc Cert.Kernel23Ideal.main_arg36)
      ∧ r.2.mem ((c.tc : Thread Cert.Kernel23Ideal.nD Cert.Kernel23Ideal.τ).loc Cert.Kernel23Ideal.main_arg37) = m ((c.tc : Thread Cert.Kernel23Ideal.nD Cert.Kernel23Ideal.τ).loc Cert.Kernel23Ideal.main_arg37)
      ∧ r.2.mem ((c.tc : Thread Cert.Kernel23Ideal.nD Cert.Kernel23Ideal.τ).loc Cert.Kernel23Ideal.main_arg38) = m ((c.tc : Thread Cert.Kernel23Ideal.nD Cert.Kernel23Ideal.τ).loc Cert.Kernel23Ideal.main_arg38)
      ∧ r.2.mem ((c.tc : Thread Cert.Kernel23Ideal.nD Cert.Kernel23Ideal.τ).loc Cert.Kernel23Ideal.main_arg39) = m ((c.tc : Thread Cert.Kernel23Ideal.nD Cert.Kernel23Ideal.τ).loc Cert.Kernel23Ideal.main_arg39)
      ∧ r.2.mem ((c.tc : Thread Cert.Kernel23Ideal.nD Cert.Kernel23Ideal.τ).loc Cert.Kernel23Ideal.main_arg40) = m ((c.tc : Thread Cert.Kernel23Ideal.nD Cert.Kernel23Ideal.τ).loc Cert.Kernel23Ideal.main_arg40)
      ∧ r.2.mem ((c.tc : Thread Cert.Kernel23Ideal.nD Cert.Kernel23Ideal.τ).loc Cert.Kernel23Ideal.main_arg41) = m ((c.tc : Thread Cert.Kernel23Ideal.nD Cert.Kernel23Ideal.τ).loc Cert.Kernel23Ideal.main_arg41)
      ∧ r.2.mem ((c.tc : Thread Cert.Kernel23Ideal.nD Cert.Kernel23Ideal.τ).loc Cert.Kernel23Ideal.main_arg42) = m ((c.tc : Thread Cert.Kernel23Ideal.nD Cert.Kernel23Ideal.τ).loc Cert.Kernel23Ideal.main_arg42)
      ∧ r.2.mem ((c.tc : Thread Cert.Kernel23Ideal.nD Cert.Kernel23Ideal.τ).loc Cert.Kernel23Ideal.main_arg43) = m ((c.tc : Thread Cert.Kernel23Ideal.nD Cert.Kernel23Ideal.τ).loc Cert.Kernel23Ideal.main_arg43)
      ∧ r.2.mem ((c.tc : Thread Cert.Kernel23Ideal.nD Cert.Kernel23Ideal.τ).loc Cert.Kernel23Ideal.main_arg44) = m ((c.tc : Thread Cert.Kernel23Ideal.nD Cert.Kernel23Ideal.τ).loc Cert.Kernel23Ideal.main_arg44)
      ∧ r.2.mem ((c.tc : Thread Cert.Kernel23Ideal.nD Cert.Kernel23Ideal.τ).loc Cert.Kernel23Ideal.main_arg45) = m ((c.tc : Thread Cert.Kernel23Ideal.nD Cert.Kernel23Ideal.τ).loc Cert.Kernel23Ideal.main_arg45)
      ∧ r.2.mem ((c.tc : Thread Cert.Kernel23Ideal.nD Cert.Kernel23Ideal.τ).loc Cert.Kernel23Ideal.main_arg46) = m ((c.tc : Thread Cert.Kernel23Ideal.nD Cert.Kernel23Ideal.τ).loc Cert.Kernel23Ideal.main_arg46)
      ∧ r.2.mem ((c.tc : Thread Cert.Kernel23Ideal.nD Cert.Kernel23Ideal.τ).loc Cert.Kernel23Ideal.main_arg47) = m ((c.tc : Thread Cert.Kernel23Ideal.nD Cert.Kernel23Ideal.τ).loc Cert.Kernel23Ideal.main_arg47)
      ∧ r.2.mem ((c.tc : Thread Cert.Kernel23Ideal.nD Cert.Kernel23Ideal.τ).loc Cert.Kernel23Ideal.main_arg48) = m ((c.tc : Thread Cert.Kernel23Ideal.nD Cert.Kernel23Ideal.τ).loc Cert.Kernel23Ideal.main_arg48)
      ∧ r.2.mem ((c.tc : Thread Cert.Kernel23Ideal.nD Cert.Kernel23Ideal.τ).loc Cert.Kernel23Ideal.main_arg49) = m ((c.tc : Thread Cert.Kernel23Ideal.nD Cert.Kernel23Ideal.τ).loc Cert.Kernel23Ideal.main_arg49)
      ∧ r.2.mem ((c.tc : Thread Cert.Kernel23Ideal.nD Cert.Kernel23Ideal.τ).loc Cert.Kernel23Ideal.main_arg50) = m ((c.tc : Thread Cert.Kernel23Ideal.nD Cert.Kernel23Ideal.τ).loc Cert.Kernel23Ideal.main_arg50)
      ∧ r.2.mem ((c.tc : Thread Cert.Kernel23Ideal.nD Cert.Kernel23Ideal.τ).loc Cert.Kernel23Ideal.main_arg51) = m ((c.tc : Thread Cert.Kernel23Ideal.nD Cert.Kernel23Ideal.τ).loc Cert.Kernel23Ideal.main_arg51)
      ∧ r.2.mem ((c.tc : Thread Cert.Kernel23Ideal.nD Cert.Kernel23Ideal.τ).loc Cert.Kernel23Ideal.main_arg52) = m ((c.tc : Thread Cert.Kernel23Ideal.nD Cert.Kernel23Ideal.τ).loc Cert.Kernel23Ideal.main_arg52)
      ∧ r.2.mem ((c.tc : Thread Cert.Kernel23Ideal.nD Cert.Kernel23Ideal.τ).loc Cert.Kernel23Ideal.main_arg53) = m ((c.tc : Thread Cert.Kernel23Ideal.nD Cert.Kernel23Ideal.τ).loc Cert.Kernel23Ideal.main_arg53)
      ∧ r.2.mem ((c.tc : Thread Cert.Kernel23Ideal.nD Cert.Kernel23Ideal.τ).loc Cert.Kernel23Ideal.main_arg54) = m ((c.tc : Thread Cert.Kernel23Ideal.nD Cert.Kernel23Ideal.τ).loc Cert.Kernel23Ideal.main_arg54)
      ∧ r.2.mem ((c.tc : Thread Cert.Kernel23Ideal.nD Cert.Kernel23Ideal.τ).loc Cert.Kernel23Ideal.main_arg55) = m ((c.tc : Thread Cert.Kernel23Ideal.nD Cert.Kernel23Ideal.τ).loc Cert.Kernel23Ideal.main_arg55)
      ∧ r.2.mem ((c.tc : Thread Cert.Kernel23Ideal.nD Cert.Kernel23Ideal.τ).loc Cert.Kernel23Ideal.main_arg56) = m ((c.tc : Thread Cert.Kernel23Ideal.nD Cert.Kernel23Ideal.τ).loc Cert.Kernel23Ideal.main_arg56)
      ∧ r.2.mem ((c.tc : Thread Cert.Kernel23Ideal.nD Cert.Kernel23Ideal.τ).loc Cert.Kernel23Ideal.main_arg57) = m ((c.tc : Thread Cert.Kernel23Ideal.nD Cert.Kernel23Ideal.τ).loc Cert.Kernel23Ideal.main_arg57)
      ∧ r.2.mem ((c.tc : Thread Cert.Kernel23Ideal.nD Cert.Kernel23Ideal.τ).loc Cert.Kernel23Ideal.main_arg58) = m ((c.tc : Thread Cert.Kernel23Ideal.nD Cert.Kernel23Ideal.τ).loc Cert.Kernel23Ideal.main_arg58)
      ∧ r.2.mem ((c.tc : Thread Cert.Kernel23Ideal.nD Cert.Kernel23Ideal.τ).loc Cert.Kernel23Ideal.main_arg59) = m ((c.tc : Thread Cert.Kernel23Ideal.nD Cert.Kernel23Ideal.τ).loc Cert.Kernel23Ideal.main_arg59)
      ∧ r.2.mem ((c.tc : Thread Cert.Kernel23Ideal.nD Cert.Kernel23Ideal.τ).loc Cert.Kernel23Ideal.main_arg60) = m ((c.tc : Thread Cert.Kernel23Ideal.nD Cert.Kernel23Ideal.τ).loc Cert.Kernel23Ideal.main_arg60)
      ∧ r.2.mem ((c.tc : Thread Cert.Kernel23Ideal.nD Cert.Kernel23Ideal.τ).loc Cert.Kernel23Ideal.main_arg61) = m ((c.tc : Thread Cert.Kernel23Ideal.nD Cert.Kernel23Ideal.τ).loc Cert.Kernel23Ideal.main_arg61)
      ∧ r.2.mem ((c.tc : Thread Cert.Kernel23Ideal.nD Cert.Kernel23Ideal.τ).loc Cert.Kernel23Ideal.main_arg62) = m ((c.tc : Thread Cert.Kernel23Ideal.nD Cert.Kernel23Ideal.τ).loc Cert.Kernel23Ideal.main_arg62)
      ∧ r.2.mem ((c.tc : Thread Cert.Kernel23Ideal.nD Cert.Kernel23Ideal.τ).loc Cert.Kernel23Ideal.main_arg63) = m ((c.tc : Thread Cert.Kernel23Ideal.nD Cert.Kernel23Ideal.τ).loc Cert.Kernel23Ideal.main_arg63)
      ∧ r.2.mem ((c.tc : Thread Cert.Kernel23Ideal.nD Cert.Kernel23Ideal.τ).loc Cert.Kernel23Ideal.main_arg64) = m ((c.tc : Thread Cert.Kernel23Ideal.nD Cert.Kernel23Ideal.τ).loc Cert.Kernel23Ideal.main_arg64)
      ∧ r.2.mem ((c.tc : Thread Cert.Kernel23Ideal.nD Cert.Kernel23Ideal.τ).loc Cert.Kernel23Ideal.main_arg65) = m ((c.tc : Thread Cert.Kernel23Ideal.nD Cert.Kernel23Ideal.τ).loc Cert.Kernel23Ideal.main_arg65)
      ∧ r.2.mem ((c.tc : Thread Cert.Kernel23Ideal.nD Cert.Kernel23Ideal.τ).loc Cert.Kernel23Ideal.main_arg66) = m ((c.tc : Thread Cert.Kernel23Ideal.nD Cert.Kernel23Ideal.τ).loc Cert.Kernel23Ideal.main_arg66)
      ∧ r.2.mem ((c.tc : Thread Cert.Kernel23Ideal.nD Cert.Kernel23Ideal.τ).loc Cert.Kernel23Ideal.main_arg67) = m ((c.tc : Thread Cert.Kernel23Ideal.nD Cert.Kernel23Ideal.τ).loc Cert.Kernel23Ideal.main_arg67)
      ∧ r.2.mem ((c.tc : Thread Cert.Kernel23Ideal.nD Cert.Kernel23Ideal.τ).loc Cert.Kernel23Ideal.main_arg68) = m ((c.tc : Thread Cert.Kernel23Ideal.nD Cert.Kernel23Ideal.τ).loc Cert.Kernel23Ideal.main_arg68)
      ∧ r.2.mem ((c.tc : Thread Cert.Kernel23Ideal.nD Cert.Kernel23Ideal.τ).loc Cert.Kernel23Ideal.main_arg69) = m ((c.tc : Thread Cert.Kernel23Ideal.nD Cert.Kernel23Ideal.τ).loc Cert.Kernel23Ideal.main_arg69)
      ∧ r.2.mem ((c.tc : Thread Cert.Kernel23Ideal.nD Cert.Kernel23Ideal.τ).loc Cert.Kernel23Ideal.main_arg70) = m ((c.tc : Thread Cert.Kernel23Ideal.nD Cert.Kernel23Ideal.τ).loc Cert.Kernel23Ideal.main_arg70)
      ∧ r.2.mem ((c.tc : Thread Cert.Kernel23Ideal.nD Cert.Kernel23Ideal.τ).loc Cert.Kernel23Ideal.main_arg71) = m ((c.tc : Thread Cert.Kernel23Ideal.nD Cert.Kernel23Ideal.τ).loc Cert.Kernel23Ideal.main_arg71)
      ∧ r.2.mem ((c.tc : Thread Cert.Kernel23Ideal.nD Cert.Kernel23Ideal.τ).loc Cert.Kernel23Ideal.main_arg72) = m ((c.tc : Thread Cert.Kernel23Ideal.nD Cert.Kernel23Ideal.τ).loc Cert.Kernel23Ideal.main_arg72)
      ∧ r.2.mem ((c.tc : Thread Cert.Kernel23Ideal.nD Cert.Kernel23Ideal.τ).loc Cert.Kernel23Ideal.main_arg73) = m ((c.tc : Thread Cert.Kernel23Ideal.nD Cert.Kernel23Ideal.τ).loc Cert.Kernel23Ideal.main_arg73)
      ∧ r.2.mem ((c.tc : Thread Cert.Kernel23Ideal.nD Cert.Kernel23Ideal.τ).loc Cert.Kernel23Ideal.main_arg74) = m ((c.tc : Thread Cert.Kernel23Ideal.nD Cert.Kernel23Ideal.τ).loc Cert.Kernel23Ideal.main_arg74)
      ∧ r.2.mem ((c.tc : Thread Cert.Kernel23Ideal.nD Cert.Kernel23Ideal.τ).loc Cert.Kernel23Ideal.main_arg75) = m ((c.tc : Thread Cert.Kernel23Ideal.nD Cert.Kernel23Ideal.τ).loc Cert.Kernel23Ideal.main_arg75))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7)
      ∧ r.2.mem ((c.tc : Thread Cert.Reference23Ideal.nD Cert.Reference23Ideal.τ).loc Cert.Reference23Ideal.main_arg8) = m ((c.tc : Thread Cert.Reference23Ideal.nD Cert.Reference23Ideal.τ).loc Cert.Reference23Ideal.main_arg8)
      ∧ r.2.mem ((c.tc : Thread Cert.Reference23Ideal.nD Cert.Reference23Ideal.τ).loc Cert.Reference23Ideal.main_arg9) = m ((c.tc : Thread Cert.Reference23Ideal.nD Cert.Reference23Ideal.τ).loc Cert.Reference23Ideal.main_arg9)
      ∧ r.2.mem ((c.tc : Thread Cert.Reference23Ideal.nD Cert.Reference23Ideal.τ).loc Cert.Reference23Ideal.main_arg10) = m ((c.tc : Thread Cert.Reference23Ideal.nD Cert.Reference23Ideal.τ).loc Cert.Reference23Ideal.main_arg10)
      ∧ r.2.mem ((c.tc : Thread Cert.Reference23Ideal.nD Cert.Reference23Ideal.τ).loc Cert.Reference23Ideal.main_arg11) = m ((c.tc : Thread Cert.Reference23Ideal.nD Cert.Reference23Ideal.τ).loc Cert.Reference23Ideal.main_arg11)
      ∧ r.2.mem ((c.tc : Thread Cert.Reference23Ideal.nD Cert.Reference23Ideal.τ).loc Cert.Reference23Ideal.main_arg12) = m ((c.tc : Thread Cert.Reference23Ideal.nD Cert.Reference23Ideal.τ).loc Cert.Reference23Ideal.main_arg12)
      ∧ r.2.mem ((c.tc : Thread Cert.Reference23Ideal.nD Cert.Reference23Ideal.τ).loc Cert.Reference23Ideal.main_arg13) = m ((c.tc : Thread Cert.Reference23Ideal.nD Cert.Reference23Ideal.τ).loc Cert.Reference23Ideal.main_arg13)
      ∧ r.2.mem ((c.tc : Thread Cert.Reference23Ideal.nD Cert.Reference23Ideal.τ).loc Cert.Reference23Ideal.main_arg14) = m ((c.tc : Thread Cert.Reference23Ideal.nD Cert.Reference23Ideal.τ).loc Cert.Reference23Ideal.main_arg14)
      ∧ r.2.mem ((c.tc : Thread Cert.Reference23Ideal.nD Cert.Reference23Ideal.τ).loc Cert.Reference23Ideal.main_arg15) = m ((c.tc : Thread Cert.Reference23Ideal.nD Cert.Reference23Ideal.τ).loc Cert.Reference23Ideal.main_arg15)
      ∧ r.2.mem ((c.tc : Thread Cert.Reference23Ideal.nD Cert.Reference23Ideal.τ).loc Cert.Reference23Ideal.main_arg16) = m ((c.tc : Thread Cert.Reference23Ideal.nD Cert.Reference23Ideal.τ).loc Cert.Reference23Ideal.main_arg16)
      ∧ r.2.mem ((c.tc : Thread Cert.Reference23Ideal.nD Cert.Reference23Ideal.τ).loc Cert.Reference23Ideal.main_arg17) = m ((c.tc : Thread Cert.Reference23Ideal.nD Cert.Reference23Ideal.τ).loc Cert.Reference23Ideal.main_arg17)
      ∧ r.2.mem ((c.tc : Thread Cert.Reference23Ideal.nD Cert.Reference23Ideal.τ).loc Cert.Reference23Ideal.main_arg18) = m ((c.tc : Thread Cert.Reference23Ideal.nD Cert.Reference23Ideal.τ).loc Cert.Reference23Ideal.main_arg18)
      ∧ r.2.mem ((c.tc : Thread Cert.Reference23Ideal.nD Cert.Reference23Ideal.τ).loc Cert.Reference23Ideal.main_arg19) = m ((c.tc : Thread Cert.Reference23Ideal.nD Cert.Reference23Ideal.τ).loc Cert.Reference23Ideal.main_arg19)
      ∧ r.2.mem ((c.tc : Thread Cert.Reference23Ideal.nD Cert.Reference23Ideal.τ).loc Cert.Reference23Ideal.main_arg20) = m ((c.tc : Thread Cert.Reference23Ideal.nD Cert.Reference23Ideal.τ).loc Cert.Reference23Ideal.main_arg20)
      ∧ r.2.mem ((c.tc : Thread Cert.Reference23Ideal.nD Cert.Reference23Ideal.τ).loc Cert.Reference23Ideal.main_arg21) = m ((c.tc : Thread Cert.Reference23Ideal.nD Cert.Reference23Ideal.τ).loc Cert.Reference23Ideal.main_arg21)
      ∧ r.2.mem ((c.tc : Thread Cert.Reference23Ideal.nD Cert.Reference23Ideal.τ).loc Cert.Reference23Ideal.main_arg22) = m ((c.tc : Thread Cert.Reference23Ideal.nD Cert.Reference23Ideal.τ).loc Cert.Reference23Ideal.main_arg22)
      ∧ r.2.mem ((c.tc : Thread Cert.Reference23Ideal.nD Cert.Reference23Ideal.τ).loc Cert.Reference23Ideal.main_arg23) = m ((c.tc : Thread Cert.Reference23Ideal.nD Cert.Reference23Ideal.τ).loc Cert.Reference23Ideal.main_arg23)
      ∧ r.2.mem ((c.tc : Thread Cert.Reference23Ideal.nD Cert.Reference23Ideal.τ).loc Cert.Reference23Ideal.main_arg24) = m ((c.tc : Thread Cert.Reference23Ideal.nD Cert.Reference23Ideal.τ).loc Cert.Reference23Ideal.main_arg24)
      ∧ r.2.mem ((c.tc : Thread Cert.Reference23Ideal.nD Cert.Reference23Ideal.τ).loc Cert.Reference23Ideal.main_arg25) = m ((c.tc : Thread Cert.Reference23Ideal.nD Cert.Reference23Ideal.τ).loc Cert.Reference23Ideal.main_arg25)
      ∧ r.2.mem ((c.tc : Thread Cert.Reference23Ideal.nD Cert.Reference23Ideal.τ).loc Cert.Reference23Ideal.main_arg26) = m ((c.tc : Thread Cert.Reference23Ideal.nD Cert.Reference23Ideal.τ).loc Cert.Reference23Ideal.main_arg26)
      ∧ r.2.mem ((c.tc : Thread Cert.Reference23Ideal.nD Cert.Reference23Ideal.τ).loc Cert.Reference23Ideal.main_arg27) = m ((c.tc : Thread Cert.Reference23Ideal.nD Cert.Reference23Ideal.τ).loc Cert.Reference23Ideal.main_arg27)
      ∧ r.2.mem ((c.tc : Thread Cert.Reference23Ideal.nD Cert.Reference23Ideal.τ).loc Cert.Reference23Ideal.main_arg28) = m ((c.tc : Thread Cert.Reference23Ideal.nD Cert.Reference23Ideal.τ).loc Cert.Reference23Ideal.main_arg28)
      ∧ r.2.mem ((c.tc : Thread Cert.Reference23Ideal.nD Cert.Reference23Ideal.τ).loc Cert.Reference23Ideal.main_arg29) = m ((c.tc : Thread Cert.Reference23Ideal.nD Cert.Reference23Ideal.τ).loc Cert.Reference23Ideal.main_arg29)
      ∧ r.2.mem ((c.tc : Thread Cert.Reference23Ideal.nD Cert.Reference23Ideal.τ).loc Cert.Reference23Ideal.main_arg30) = m ((c.tc : Thread Cert.Reference23Ideal.nD Cert.Reference23Ideal.τ).loc Cert.Reference23Ideal.main_arg30)
      ∧ r.2.mem ((c.tc : Thread Cert.Reference23Ideal.nD Cert.Reference23Ideal.τ).loc Cert.Reference23Ideal.main_arg31) = m ((c.tc : Thread Cert.Reference23Ideal.nD Cert.Reference23Ideal.τ).loc Cert.Reference23Ideal.main_arg31)
      ∧ r.2.mem ((c.tc : Thread Cert.Reference23Ideal.nD Cert.Reference23Ideal.τ).loc Cert.Reference23Ideal.main_arg32) = m ((c.tc : Thread Cert.Reference23Ideal.nD Cert.Reference23Ideal.τ).loc Cert.Reference23Ideal.main_arg32)
      ∧ r.2.mem ((c.tc : Thread Cert.Reference23Ideal.nD Cert.Reference23Ideal.τ).loc Cert.Reference23Ideal.main_arg33) = m ((c.tc : Thread Cert.Reference23Ideal.nD Cert.Reference23Ideal.τ).loc Cert.Reference23Ideal.main_arg33)
      ∧ r.2.mem ((c.tc : Thread Cert.Reference23Ideal.nD Cert.Reference23Ideal.τ).loc Cert.Reference23Ideal.main_arg34) = m ((c.tc : Thread Cert.Reference23Ideal.nD Cert.Reference23Ideal.τ).loc Cert.Reference23Ideal.main_arg34)
      ∧ r.2.mem ((c.tc : Thread Cert.Reference23Ideal.nD Cert.Reference23Ideal.τ).loc Cert.Reference23Ideal.main_arg35) = m ((c.tc : Thread Cert.Reference23Ideal.nD Cert.Reference23Ideal.τ).loc Cert.Reference23Ideal.main_arg35)
      ∧ r.2.mem ((c.tc : Thread Cert.Reference23Ideal.nD Cert.Reference23Ideal.τ).loc Cert.Reference23Ideal.main_arg36) = m ((c.tc : Thread Cert.Reference23Ideal.nD Cert.Reference23Ideal.τ).loc Cert.Reference23Ideal.main_arg36)
      ∧ r.2.mem ((c.tc : Thread Cert.Reference23Ideal.nD Cert.Reference23Ideal.τ).loc Cert.Reference23Ideal.main_arg37) = m ((c.tc : Thread Cert.Reference23Ideal.nD Cert.Reference23Ideal.τ).loc Cert.Reference23Ideal.main_arg37)
      ∧ r.2.mem ((c.tc : Thread Cert.Reference23Ideal.nD Cert.Reference23Ideal.τ).loc Cert.Reference23Ideal.main_arg38) = m ((c.tc : Thread Cert.Reference23Ideal.nD Cert.Reference23Ideal.τ).loc Cert.Reference23Ideal.main_arg38)
      ∧ r.2.mem ((c.tc : Thread Cert.Reference23Ideal.nD Cert.Reference23Ideal.τ).loc Cert.Reference23Ideal.main_arg39) = m ((c.tc : Thread Cert.Reference23Ideal.nD Cert.Reference23Ideal.τ).loc Cert.Reference23Ideal.main_arg39)
      ∧ r.2.mem ((c.tc : Thread Cert.Reference23Ideal.nD Cert.Reference23Ideal.τ).loc Cert.Reference23Ideal.main_arg40) = m ((c.tc : Thread Cert.Reference23Ideal.nD Cert.Reference23Ideal.τ).loc Cert.Reference23Ideal.main_arg40)
      ∧ r.2.mem ((c.tc : Thread Cert.Reference23Ideal.nD Cert.Reference23Ideal.τ).loc Cert.Reference23Ideal.main_arg41) = m ((c.tc : Thread Cert.Reference23Ideal.nD Cert.Reference23Ideal.τ).loc Cert.Reference23Ideal.main_arg41)
      ∧ r.2.mem ((c.tc : Thread Cert.Reference23Ideal.nD Cert.Reference23Ideal.τ).loc Cert.Reference23Ideal.main_arg42) = m ((c.tc : Thread Cert.Reference23Ideal.nD Cert.Reference23Ideal.τ).loc Cert.Reference23Ideal.main_arg42)
      ∧ r.2.mem ((c.tc : Thread Cert.Reference23Ideal.nD Cert.Reference23Ideal.τ).loc Cert.Reference23Ideal.main_arg43) = m ((c.tc : Thread Cert.Reference23Ideal.nD Cert.Reference23Ideal.τ).loc Cert.Reference23Ideal.main_arg43)
      ∧ r.2.mem ((c.tc : Thread Cert.Reference23Ideal.nD Cert.Reference23Ideal.τ).loc Cert.Reference23Ideal.main_arg44) = m ((c.tc : Thread Cert.Reference23Ideal.nD Cert.Reference23Ideal.τ).loc Cert.Reference23Ideal.main_arg44)
      ∧ r.2.mem ((c.tc : Thread Cert.Reference23Ideal.nD Cert.Reference23Ideal.τ).loc Cert.Reference23Ideal.main_arg45) = m ((c.tc : Thread Cert.Reference23Ideal.nD Cert.Reference23Ideal.τ).loc Cert.Reference23Ideal.main_arg45)
      ∧ r.2.mem ((c.tc : Thread Cert.Reference23Ideal.nD Cert.Reference23Ideal.τ).loc Cert.Reference23Ideal.main_arg46) = m ((c.tc : Thread Cert.Reference23Ideal.nD Cert.Reference23Ideal.τ).loc Cert.Reference23Ideal.main_arg46)
      ∧ r.2.mem ((c.tc : Thread Cert.Reference23Ideal.nD Cert.Reference23Ideal.τ).loc Cert.Reference23Ideal.main_arg47) = m ((c.tc : Thread Cert.Reference23Ideal.nD Cert.Reference23Ideal.τ).loc Cert.Reference23Ideal.main_arg47)
      ∧ r.2.mem ((c.tc : Thread Cert.Reference23Ideal.nD Cert.Reference23Ideal.τ).loc Cert.Reference23Ideal.main_arg48) = m ((c.tc : Thread Cert.Reference23Ideal.nD Cert.Reference23Ideal.τ).loc Cert.Reference23Ideal.main_arg48)
      ∧ r.2.mem ((c.tc : Thread Cert.Reference23Ideal.nD Cert.Reference23Ideal.τ).loc Cert.Reference23Ideal.main_arg49) = m ((c.tc : Thread Cert.Reference23Ideal.nD Cert.Reference23Ideal.τ).loc Cert.Reference23Ideal.main_arg49)
      ∧ r.2.mem ((c.tc : Thread Cert.Reference23Ideal.nD Cert.Reference23Ideal.τ).loc Cert.Reference23Ideal.main_arg50) = m ((c.tc : Thread Cert.Reference23Ideal.nD Cert.Reference23Ideal.τ).loc Cert.Reference23Ideal.main_arg50)
      ∧ r.2.mem ((c.tc : Thread Cert.Reference23Ideal.nD Cert.Reference23Ideal.τ).loc Cert.Reference23Ideal.main_arg51) = m ((c.tc : Thread Cert.Reference23Ideal.nD Cert.Reference23Ideal.τ).loc Cert.Reference23Ideal.main_arg51)
      ∧ r.2.mem ((c.tc : Thread Cert.Reference23Ideal.nD Cert.Reference23Ideal.τ).loc Cert.Reference23Ideal.main_arg52) = m ((c.tc : Thread Cert.Reference23Ideal.nD Cert.Reference23Ideal.τ).loc Cert.Reference23Ideal.main_arg52)
      ∧ r.2.mem ((c.tc : Thread Cert.Reference23Ideal.nD Cert.Reference23Ideal.τ).loc Cert.Reference23Ideal.main_arg53) = m ((c.tc : Thread Cert.Reference23Ideal.nD Cert.Reference23Ideal.τ).loc Cert.Reference23Ideal.main_arg53)
      ∧ r.2.mem ((c.tc : Thread Cert.Reference23Ideal.nD Cert.Reference23Ideal.τ).loc Cert.Reference23Ideal.main_arg54) = m ((c.tc : Thread Cert.Reference23Ideal.nD Cert.Reference23Ideal.τ).loc Cert.Reference23Ideal.main_arg54)
      ∧ r.2.mem ((c.tc : Thread Cert.Reference23Ideal.nD Cert.Reference23Ideal.τ).loc Cert.Reference23Ideal.main_arg55) = m ((c.tc : Thread Cert.Reference23Ideal.nD Cert.Reference23Ideal.τ).loc Cert.Reference23Ideal.main_arg55)
      ∧ r.2.mem ((c.tc : Thread Cert.Reference23Ideal.nD Cert.Reference23Ideal.τ).loc Cert.Reference23Ideal.main_arg56) = m ((c.tc : Thread Cert.Reference23Ideal.nD Cert.Reference23Ideal.τ).loc Cert.Reference23Ideal.main_arg56)
      ∧ r.2.mem ((c.tc : Thread Cert.Reference23Ideal.nD Cert.Reference23Ideal.τ).loc Cert.Reference23Ideal.main_arg57) = m ((c.tc : Thread Cert.Reference23Ideal.nD Cert.Reference23Ideal.τ).loc Cert.Reference23Ideal.main_arg57)
      ∧ r.2.mem ((c.tc : Thread Cert.Reference23Ideal.nD Cert.Reference23Ideal.τ).loc Cert.Reference23Ideal.main_arg58) = m ((c.tc : Thread Cert.Reference23Ideal.nD Cert.Reference23Ideal.τ).loc Cert.Reference23Ideal.main_arg58)
      ∧ r.2.mem ((c.tc : Thread Cert.Reference23Ideal.nD Cert.Reference23Ideal.τ).loc Cert.Reference23Ideal.main_arg59) = m ((c.tc : Thread Cert.Reference23Ideal.nD Cert.Reference23Ideal.τ).loc Cert.Reference23Ideal.main_arg59)
      ∧ r.2.mem ((c.tc : Thread Cert.Reference23Ideal.nD Cert.Reference23Ideal.τ).loc Cert.Reference23Ideal.main_arg60) = m ((c.tc : Thread Cert.Reference23Ideal.nD Cert.Reference23Ideal.τ).loc Cert.Reference23Ideal.main_arg60)
      ∧ r.2.mem ((c.tc : Thread Cert.Reference23Ideal.nD Cert.Reference23Ideal.τ).loc Cert.Reference23Ideal.main_arg61) = m ((c.tc : Thread Cert.Reference23Ideal.nD Cert.Reference23Ideal.τ).loc Cert.Reference23Ideal.main_arg61)
      ∧ r.2.mem ((c.tc : Thread Cert.Reference23Ideal.nD Cert.Reference23Ideal.τ).loc Cert.Reference23Ideal.main_arg62) = m ((c.tc : Thread Cert.Reference23Ideal.nD Cert.Reference23Ideal.τ).loc Cert.Reference23Ideal.main_arg62)
      ∧ r.2.mem ((c.tc : Thread Cert.Reference23Ideal.nD Cert.Reference23Ideal.τ).loc Cert.Reference23Ideal.main_arg63) = m ((c.tc : Thread Cert.Reference23Ideal.nD Cert.Reference23Ideal.τ).loc Cert.Reference23Ideal.main_arg63)
      ∧ r.2.mem ((c.tc : Thread Cert.Reference23Ideal.nD Cert.Reference23Ideal.τ).loc Cert.Reference23Ideal.main_arg64) = m ((c.tc : Thread Cert.Reference23Ideal.nD Cert.Reference23Ideal.τ).loc Cert.Reference23Ideal.main_arg64)
      ∧ r.2.mem ((c.tc : Thread Cert.Reference23Ideal.nD Cert.Reference23Ideal.τ).loc Cert.Reference23Ideal.main_arg65) = m ((c.tc : Thread Cert.Reference23Ideal.nD Cert.Reference23Ideal.τ).loc Cert.Reference23Ideal.main_arg65)
      ∧ r.2.mem ((c.tc : Thread Cert.Reference23Ideal.nD Cert.Reference23Ideal.τ).loc Cert.Reference23Ideal.main_arg66) = m ((c.tc : Thread Cert.Reference23Ideal.nD Cert.Reference23Ideal.τ).loc Cert.Reference23Ideal.main_arg66)
      ∧ r.2.mem ((c.tc : Thread Cert.Reference23Ideal.nD Cert.Reference23Ideal.τ).loc Cert.Reference23Ideal.main_arg67) = m ((c.tc : Thread Cert.Reference23Ideal.nD Cert.Reference23Ideal.τ).loc Cert.Reference23Ideal.main_arg67)
      ∧ r.2.mem ((c.tc : Thread Cert.Reference23Ideal.nD Cert.Reference23Ideal.τ).loc Cert.Reference23Ideal.main_arg68) = m ((c.tc : Thread Cert.Reference23Ideal.nD Cert.Reference23Ideal.τ).loc Cert.Reference23Ideal.main_arg68)
      ∧ r.2.mem ((c.tc : Thread Cert.Reference23Ideal.nD Cert.Reference23Ideal.τ).loc Cert.Reference23Ideal.main_arg69) = m ((c.tc : Thread Cert.Reference23Ideal.nD Cert.Reference23Ideal.τ).loc Cert.Reference23Ideal.main_arg69)
      ∧ r.2.mem ((c.tc : Thread Cert.Reference23Ideal.nD Cert.Reference23Ideal.τ).loc Cert.Reference23Ideal.main_arg70) = m ((c.tc : Thread Cert.Reference23Ideal.nD Cert.Reference23Ideal.τ).loc Cert.Reference23Ideal.main_arg70)
      ∧ r.2.mem ((c.tc : Thread Cert.Reference23Ideal.nD Cert.Reference23Ideal.τ).loc Cert.Reference23Ideal.main_arg71) = m ((c.tc : Thread Cert.Reference23Ideal.nD Cert.Reference23Ideal.τ).loc Cert.Reference23Ideal.main_arg71)
      ∧ r.2.mem ((c.tc : Thread Cert.Reference23Ideal.nD Cert.Reference23Ideal.τ).loc Cert.Reference23Ideal.main_arg72) = m ((c.tc : Thread Cert.Reference23Ideal.nD Cert.Reference23Ideal.τ).loc Cert.Reference23Ideal.main_arg72)
      ∧ r.2.mem ((c.tc : Thread Cert.Reference23Ideal.nD Cert.Reference23Ideal.τ).loc Cert.Reference23Ideal.main_arg73) = m ((c.tc : Thread Cert.Reference23Ideal.nD Cert.Reference23Ideal.τ).loc Cert.Reference23Ideal.main_arg73)
      ∧ r.2.mem ((c.tc : Thread Cert.Reference23Ideal.nD Cert.Reference23Ideal.τ).loc Cert.Reference23Ideal.main_arg74) = m ((c.tc : Thread Cert.Reference23Ideal.nD Cert.Reference23Ideal.τ).loc Cert.Reference23Ideal.main_arg74)
      ∧ r.2.mem ((c.tc : Thread Cert.Reference23Ideal.nD Cert.Reference23Ideal.τ).loc Cert.Reference23Ideal.main_arg75) = m ((c.tc : Thread Cert.Reference23Ideal.nD Cert.Reference23Ideal.τ).loc Cert.Reference23Ideal.main_arg75))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Kernel25Ideal_pre_finite_prep [hKernel25Ideal : Cert.Kernel25Ideal.Facts] [hPre_finite_prep : Cert.Pre_finite_prep.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal_finite_prep m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Reference25Ideal_pre_finite_prep [hReference25Ideal : Cert.Reference25Ideal.Facts] [hPre_finite_prep : Cert.Pre_finite_prep.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal_finite_prep m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def preserves_Kernel_KernelIdeal : Prop :=
  IdealRules.named_const.Statement Cert.KernelIdeal.κ "gelu_cubic" .f32 0x3D372713#32 ((8943 / 200000 : ℝ) : EReal)
  ∧ IdealRules.named_const.Statement Cert.KernelIdeal.κ "gelu_cubic3" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v100) = v3 c
          ∧ r.2.mem ((c.tc : Thread Cert.ReferenceIdeal.nD Cert.ReferenceIdeal.τ).loc Cert.ReferenceIdeal.main_v110) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_v43) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v17)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)) (v2 : (c : Dev Cert.Kernel5Ideal.nD) → Buf (Elt Ideal) ((c.tc : Thread Cert.Kernel5Ideal.nD Cert.Kernel5Ideal.τ).loc Cert.Kernel5Ideal.main_v6_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_v6_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_v16) = v1 c
          ∧ r.2.mem ((c.tc : Thread Cert.Reference5Ideal.nD Cert.Reference5Ideal.τ).loc Cert.Reference5Ideal.main_v18) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v17)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v17) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v17) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_v16) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v17)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v17) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v18) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v11_0)) (v1 : (c : Dev Cert.Kernel12Ideal.nD) → Buf (Elt Ideal) ((c.tc : Thread Cert.Kernel12Ideal.nD Cert.Kernel12Ideal.τ).loc Cert.Kernel12Ideal.main_v11_1)) (v2 : (c : Dev Cert.Kernel12Ideal.nD) → Buf (Elt Ideal) ((c.tc : Thread Cert.Kernel12Ideal.nD Cert.Kernel12Ideal.τ).loc Cert.Kernel12Ideal.main_v11_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v11_0) = v0 c
          ∧ r.2.mem ((c.tc : Thread Cert.Kernel12Ideal.nD Cert.Kernel12Ideal.τ).loc Cert.Kernel12Ideal.main_v11_1) = v1 c
          ∧ r.2.mem ((c.tc : Thread Cert.Kernel12Ideal.nD Cert.Kernel12Ideal.τ).loc Cert.Kernel12Ideal.main_v11_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v39) = v0 c
          ∧ r.2.mem ((c.tc : Thread Cert.Reference12Ideal.nD Cert.Reference12Ideal.τ).loc Cert.Reference12Ideal.main_v41) = v1 c
          ∧ r.2.mem ((c.tc : Thread Cert.Reference12Ideal.nD Cert.Reference12Ideal.τ).loc Cert.Reference12Ideal.main_v42) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)) →
    ∃ (v0 : (c : Dev Cert.Kernel13Ideal.nD) → Buf (Elt Ideal) ((c.tc : Thread Cert.Kernel13Ideal.nD Cert.Kernel13Ideal.τ).loc Cert.Kernel13Ideal.main_v8_0)) (v1 : (c : Dev Cert.Kernel13Ideal.nD) → Buf (Elt Ideal) ((c.tc : Thread Cert.Kernel13Ideal.nD Cert.Kernel13Ideal.τ).loc Cert.Kernel13Ideal.main_v8_1)) (v2 : (c : Dev Cert.Kernel13Ideal.nD) → Buf (Elt Ideal) ((c.tc : Thread Cert.Kernel13Ideal.nD Cert.Kernel13Ideal.τ).loc Cert.Kernel13Ideal.main_v8_2)) (v3 : (c : Dev Cert.Kernel13Ideal.nD) → Buf (Elt Ideal) ((c.tc : Thread Cert.Kernel13Ideal.nD Cert.Kernel13Ideal.τ).loc Cert.Kernel13Ideal.main_v8_3)) (v4 : (c : Dev Cert.Kernel13Ideal.nD) → Buf (Elt Ideal) ((c.tc : Thread Cert.Kernel13Ideal.nD Cert.Kernel13Ideal.τ).loc Cert.Kernel13Ideal.main_v8_4)) (v5 : (c : Dev Cert.Kernel13Ideal.nD) → Buf (Elt Ideal) ((c.tc : Thread Cert.Kernel13Ideal.nD Cert.Kernel13Ideal.τ).loc Cert.Kernel13Ideal.main_v8_5)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v8_0) = v0 c
          ∧ r.2.mem ((c.tc : Thread Cert.Kernel13Ideal.nD Cert.Kernel13Ideal.τ).loc Cert.Kernel13Ideal.main_v8_1) = v1 c
          ∧ r.2.mem ((c.tc : Thread Cert.Kernel13Ideal.nD Cert.Kernel13Ideal.τ).loc Cert.Kernel13Ideal.main_v8_2) = v2 c
          ∧ r.2.mem ((c.tc : Thread Cert.Kernel13Ideal.nD Cert.Kernel13Ideal.τ).loc Cert.Kernel13Ideal.main_v8_3) = v3 c
          ∧ r.2.mem ((c.tc : Thread Cert.Kernel13Ideal.nD Cert.Kernel13Ideal.τ).loc Cert.Kernel13Ideal.main_v8_4) = v4 c
          ∧ r.2.mem ((c.tc : Thread Cert.Kernel13Ideal.nD Cert.Kernel13Ideal.τ).loc Cert.Kernel13Ideal.main_v8_5) = v5 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v91) = v0 c
          ∧ r.2.mem ((c.tc : Thread Cert.Reference13Ideal.nD Cert.Reference13Ideal.τ).loc Cert.Reference13Ideal.main_v94) = v1 c
          ∧ r.2.mem ((c.tc : Thread Cert.Reference13Ideal.nD Cert.Reference13Ideal.τ).loc Cert.Reference13Ideal.main_v95) = v2 c
          ∧ r.2.mem ((c.tc : Thread Cert.Reference13Ideal.nD Cert.Reference13Ideal.τ).loc Cert.Reference13Ideal.main_v96) = v3 c
          ∧ r.2.mem ((c.tc : Thread Cert.Reference13Ideal.nD Cert.Reference13Ideal.τ).loc Cert.Reference13Ideal.main_v97) = v4 c
          ∧ r.2.mem ((c.tc : Thread Cert.Reference13Ideal.nD Cert.Reference13Ideal.τ).loc Cert.Reference13Ideal.main_v98) = v5 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v3_0)) (v1 : (c : Dev Cert.Kernel15Ideal.nD) → Buf (Elt Ideal) ((c.tc : Thread Cert.Kernel15Ideal.nD Cert.Kernel15Ideal.τ).loc Cert.Kernel15Ideal.main_v3_1)) (v2 : (c : Dev Cert.Kernel15Ideal.nD) → Buf (Elt Ideal) ((c.tc : Thread Cert.Kernel15Ideal.nD Cert.Kernel15Ideal.τ).loc Cert.Kernel15Ideal.main_v3_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3_0) = v0 c
          ∧ r.2.mem ((c.tc : Thread Cert.Kernel15Ideal.nD Cert.Kernel15Ideal.τ).loc Cert.Kernel15Ideal.main_v3_1) = v1 c
          ∧ r.2.mem ((c.tc : Thread Cert.Kernel15Ideal.nD Cert.Kernel15Ideal.τ).loc Cert.Kernel15Ideal.main_v3_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v51) = v0 c
          ∧ r.2.mem ((c.tc : Thread Cert.Reference15Ideal.nD Cert.Reference15Ideal.τ).loc Cert.Reference15Ideal.main_v52) = v1 c
          ∧ r.2.mem ((c.tc : Thread Cert.Reference15Ideal.nD Cert.Reference15Ideal.τ).loc Cert.Reference15Ideal.main_v53) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v4_0)) (v1 : (c : Dev Cert.Kernel16Ideal.nD) → Buf (Elt Ideal) ((c.tc : Thread Cert.Kernel16Ideal.nD Cert.Kernel16Ideal.τ).loc Cert.Kernel16Ideal.main_v4_1)) (v2 : (c : Dev Cert.Kernel16Ideal.nD) → Buf (Elt Ideal) ((c.tc : Thread Cert.Kernel16Ideal.nD Cert.Kernel16Ideal.τ).loc Cert.Kernel16Ideal.main_v4_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4_0) = v0 c
          ∧ r.2.mem ((c.tc : Thread Cert.Kernel16Ideal.nD Cert.Kernel16Ideal.τ).loc Cert.Kernel16Ideal.main_v4_1) = v1 c
          ∧ r.2.mem ((c.tc : Thread Cert.Kernel16Ideal.nD Cert.Kernel16Ideal.τ).loc Cert.Kernel16Ideal.main_v4_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v24) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v26) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v4_0)) (v1 : (c : Dev Cert.Kernel17Ideal.nD) → Buf (Elt Ideal) ((c.tc : Thread Cert.Kernel17Ideal.nD Cert.Kernel17Ideal.τ).loc Cert.Kernel17Ideal.main_v4_1)) (v2 : (c : Dev Cert.Kernel17Ideal.nD) → Buf (Elt Ideal) ((c.tc : Thread Cert.Kernel17Ideal.nD Cert.Kernel17Ideal.τ).loc Cert.Kernel17Ideal.main_v4_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4_0) = v0 c
          ∧ r.2.mem ((c.tc : Thread Cert.Kernel17Ideal.nD Cert.Kernel17Ideal.τ).loc Cert.Kernel17Ideal.main_v4_1) = v1 c
          ∧ r.2.mem ((c.tc : Thread Cert.Kernel17Ideal.nD Cert.Kernel17Ideal.τ).loc Cert.Kernel17Ideal.main_v4_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v24) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v26) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v4_0)) (v1 : (c : Dev Cert.Kernel18Ideal.nD) → Buf (Elt Ideal) ((c.tc : Thread Cert.Kernel18Ideal.nD Cert.Kernel18Ideal.τ).loc Cert.Kernel18Ideal.main_v4_1)) (v2 : (c : Dev Cert.Kernel18Ideal.nD) → Buf (Elt Ideal) ((c.tc : Thread Cert.Kernel18Ideal.nD Cert.Kernel18Ideal.τ).loc Cert.Kernel18Ideal.main_v4_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4_0) = v0 c
          ∧ r.2.mem ((c.tc : Thread Cert.Kernel18Ideal.nD Cert.Kernel18Ideal.τ).loc Cert.Kernel18Ideal.main_v4_1) = v1 c
          ∧ r.2.mem ((c.tc : Thread Cert.Kernel18Ideal.nD Cert.Kernel18Ideal.τ).loc Cert.Kernel18Ideal.main_v4_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v24) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v26) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v4_0)) (v1 : (c : Dev Cert.Kernel19Ideal.nD) → Buf (Elt Ideal) ((c.tc : Thread Cert.Kernel19Ideal.nD Cert.Kernel19Ideal.τ).loc Cert.Kernel19Ideal.main_v4_1)) (v2 : (c : Dev Cert.Kernel19Ideal.nD) → Buf (Elt Ideal) ((c.tc : Thread Cert.Kernel19Ideal.nD Cert.Kernel19Ideal.τ).loc Cert.Kernel19Ideal.main_v4_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4_0) = v0 c
          ∧ r.2.mem ((c.tc : Thread Cert.Kernel19Ideal.nD Cert.Kernel19Ideal.τ).loc Cert.Kernel19Ideal.main_v4_1) = v1 c
          ∧ r.2.mem ((c.tc : Thread Cert.Kernel19Ideal.nD Cert.Kernel19Ideal.τ).loc Cert.Kernel19Ideal.main_v4_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v24) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v26) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v4_0)) (v1 : (c : Dev Cert.Kernel20Ideal.nD) → Buf (Elt Ideal) ((c.tc : Thread Cert.Kernel20Ideal.nD Cert.Kernel20Ideal.τ).loc Cert.Kernel20Ideal.main_v4_1)) (v2 : (c : Dev Cert.Kernel20Ideal.nD) → Buf (Elt Ideal) ((c.tc : Thread Cert.Kernel20Ideal.nD Cert.Kernel20Ideal.τ).loc Cert.Kernel20Ideal.main_v4_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4_0) = v0 c
          ∧ r.2.mem ((c.tc : Thread Cert.Kernel20Ideal.nD Cert.Kernel20Ideal.τ).loc Cert.Kernel20Ideal.main_v4_1) = v1 c
          ∧ r.2.mem ((c.tc : Thread Cert.Kernel20Ideal.nD Cert.Kernel20Ideal.τ).loc Cert.Kernel20Ideal.main_v4_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v24) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v26) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v4_0)) (v1 : (c : Dev Cert.Kernel21Ideal.nD) → Buf (Elt Ideal) ((c.tc : Thread Cert.Kernel21Ideal.nD Cert.Kernel21Ideal.τ).loc Cert.Kernel21Ideal.main_v4_1)) (v2 : (c : Dev Cert.Kernel21Ideal.nD) → Buf (Elt Ideal) ((c.tc : Thread Cert.Kernel21Ideal.nD Cert.Kernel21Ideal.τ).loc Cert.Kernel21Ideal.main_v4_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4_0) = v0 c
          ∧ r.2.mem ((c.tc : Thread Cert.Kernel21Ideal.nD Cert.Kernel21Ideal.τ).loc Cert.Kernel21Ideal.main_v4_1) = v1 c
          ∧ r.2.mem ((c.tc : Thread Cert.Kernel21Ideal.nD Cert.Kernel21Ideal.τ).loc Cert.Kernel21Ideal.main_v4_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v24) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v26) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v4_0)) (v1 : (c : Dev Cert.Kernel22Ideal.nD) → Buf (Elt Ideal) ((c.tc : Thread Cert.Kernel22Ideal.nD Cert.Kernel22Ideal.τ).loc Cert.Kernel22Ideal.main_v4_1)) (v2 : (c : Dev Cert.Kernel22Ideal.nD) → Buf (Elt Ideal) ((c.tc : Thread Cert.Kernel22Ideal.nD Cert.Kernel22Ideal.τ).loc Cert.Kernel22Ideal.main_v4_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v4_0) = v0 c
          ∧ r.2.mem ((c.tc : Thread Cert.Kernel22Ideal.nD Cert.Kernel22Ideal.τ).loc Cert.Kernel22Ideal.main_v4_1) = v1 c
          ∧ r.2.mem ((c.tc : Thread Cert.Kernel22Ideal.nD Cert.Kernel22Ideal.τ).loc Cert.Kernel22Ideal.main_v4_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v24) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v26) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)
      ∧ m' ((c.tc : Thread Cert.Reference23Ideal.nD Cert.Reference23Ideal.τ).loc Cert.Reference23Ideal.main_arg7) = m ((c.tc : Thread Cert.Kernel23Ideal.nD Cert.Kernel23Ideal.τ).loc Cert.Kernel23Ideal.main_arg7)
      ∧ m' ((c.tc : Thread Cert.Reference23Ideal.nD Cert.Reference23Ideal.τ).loc Cert.Reference23Ideal.main_arg8) = m ((c.tc : Thread Cert.Kernel23Ideal.nD Cert.Kernel23Ideal.τ).loc Cert.Kernel23Ideal.main_arg8)
      ∧ m' ((c.tc : Thread Cert.Reference23Ideal.nD Cert.Reference23Ideal.τ).loc Cert.Reference23Ideal.main_arg9) = m ((c.tc : Thread Cert.Kernel23Ideal.nD Cert.Kernel23Ideal.τ).loc Cert.Kernel23Ideal.main_arg9)
      ∧ m' ((c.tc : Thread Cert.Reference23Ideal.nD Cert.Reference23Ideal.τ).loc Cert.Reference23Ideal.main_arg10) = m ((c.tc : Thread Cert.Kernel23Ideal.nD Cert.Kernel23Ideal.τ).loc Cert.Kernel23Ideal.main_arg10)
      ∧ m' ((c.tc : Thread Cert.Reference23Ideal.nD Cert.Reference23Ideal.τ).loc Cert.Reference23Ideal.main_arg11) = m ((c.tc : Thread Cert.Kernel23Ideal.nD Cert.Kernel23Ideal.τ).loc Cert.Kernel23Ideal.main_arg11)
      ∧ m' ((c.tc : Thread Cert.Reference23Ideal.nD Cert.Reference23Ideal.τ).loc Cert.Reference23Ideal.main_arg12) = m ((c.tc : Thread Cert.Kernel23Ideal.nD Cert.Kernel23Ideal.τ).loc Cert.Kernel23Ideal.main_arg12)
      ∧ m' ((c.tc : Thread Cert.Reference23Ideal.nD Cert.Reference23Ideal.τ).loc Cert.Reference23Ideal.main_arg13) = m ((c.tc : Thread Cert.Kernel23Ideal.nD Cert.Kernel23Ideal.τ).loc Cert.Kernel23Ideal.main_arg13)
      ∧ m' ((c.tc : Thread Cert.Reference23Ideal.nD Cert.Reference23Ideal.τ).loc Cert.Reference23Ideal.main_arg14) = m ((c.tc : Thread Cert.Kernel23Ideal.nD Cert.Kernel23Ideal.τ).loc Cert.Kernel23Ideal.main_arg14)
      ∧ m' ((c.tc : Thread Cert.Reference23Ideal.nD Cert.Reference23Ideal.τ).loc Cert.Reference23Ideal.main_arg15) = m ((c.tc : Thread Cert.Kernel23Ideal.nD Cert.Kernel23Ideal.τ).loc Cert.Kernel23Ideal.main_arg15)
      ∧ m' ((c.tc : Thread Cert.Reference23Ideal.nD Cert.Reference23Ideal.τ).loc Cert.Reference23Ideal.main_arg16) = m ((c.tc : Thread Cert.Kernel23Ideal.nD Cert.Kernel23Ideal.τ).loc Cert.Kernel23Ideal.main_arg16)
      ∧ m' ((c.tc : Thread Cert.Reference23Ideal.nD Cert.Reference23Ideal.τ).loc Cert.Reference23Ideal.main_arg17) = m ((c.tc : Thread Cert.Kernel23Ideal.nD Cert.Kernel23Ideal.τ).loc Cert.Kernel23Ideal.main_arg17)
      ∧ m' ((c.tc : Thread Cert.Reference23Ideal.nD Cert.Reference23Ideal.τ).loc Cert.Reference23Ideal.main_arg18) = m ((c.tc : Thread Cert.Kernel23Ideal.nD Cert.Kernel23Ideal.τ).loc Cert.Kernel23Ideal.main_arg18)
      ∧ m' ((c.tc : Thread Cert.Reference23Ideal.nD Cert.Reference23Ideal.τ).loc Cert.Reference23Ideal.main_arg19) = m ((c.tc : Thread Cert.Kernel23Ideal.nD Cert.Kernel23Ideal.τ).loc Cert.Kernel23Ideal.main_arg19)
      ∧ m' ((c.tc : Thread Cert.Reference23Ideal.nD Cert.Reference23Ideal.τ).loc Cert.Reference23Ideal.main_arg20) = m ((c.tc : Thread Cert.Kernel23Ideal.nD Cert.Kernel23Ideal.τ).loc Cert.Kernel23Ideal.main_arg20)
      ∧ m' ((c.tc : Thread Cert.Reference23Ideal.nD Cert.Reference23Ideal.τ).loc Cert.Reference23Ideal.main_arg21) = m ((c.tc : Thread Cert.Kernel23Ideal.nD Cert.Kernel23Ideal.τ).loc Cert.Kernel23Ideal.main_arg21)
      ∧ m' ((c.tc : Thread Cert.Reference23Ideal.nD Cert.Reference23Ideal.τ).loc Cert.Reference23Ideal.main_arg22) = m ((c.tc : Thread Cert.Kernel23Ideal.nD Cert.Kernel23Ideal.τ).loc Cert.Kernel23Ideal.main_arg22)
      ∧ m' ((c.tc : Thread Cert.Reference23Ideal.nD Cert.Reference23Ideal.τ).loc Cert.Reference23Ideal.main_arg23) = m ((c.tc : Thread Cert.Kernel23Ideal.nD Cert.Kernel23Ideal.τ).loc Cert.Kernel23Ideal.main_arg23)
      ∧ m' ((c.tc : Thread Cert.Reference23Ideal.nD Cert.Reference23Ideal.τ).loc Cert.Reference23Ideal.main_arg24) = m ((c.tc : Thread Cert.Kernel23Ideal.nD Cert.Kernel23Ideal.τ).loc Cert.Kernel23Ideal.main_arg24)
      ∧ m' ((c.tc : Thread Cert.Reference23Ideal.nD Cert.Reference23Ideal.τ).loc Cert.Reference23Ideal.main_arg25) = m ((c.tc : Thread Cert.Kernel23Ideal.nD Cert.Kernel23Ideal.τ).loc Cert.Kernel23Ideal.main_arg25)
      ∧ m' ((c.tc : Thread Cert.Reference23Ideal.nD Cert.Reference23Ideal.τ).loc Cert.Reference23Ideal.main_arg26) = m ((c.tc : Thread Cert.Kernel23Ideal.nD Cert.Kernel23Ideal.τ).loc Cert.Kernel23Ideal.main_arg26)
      ∧ m' ((c.tc : Thread Cert.Reference23Ideal.nD Cert.Reference23Ideal.τ).loc Cert.Reference23Ideal.main_arg27) = m ((c.tc : Thread Cert.Kernel23Ideal.nD Cert.Kernel23Ideal.τ).loc Cert.Kernel23Ideal.main_arg27)
      ∧ m' ((c.tc : Thread Cert.Reference23Ideal.nD Cert.Reference23Ideal.τ).loc Cert.Reference23Ideal.main_arg28) = m ((c.tc : Thread Cert.Kernel23Ideal.nD Cert.Kernel23Ideal.τ).loc Cert.Kernel23Ideal.main_arg28)
      ∧ m' ((c.tc : Thread Cert.Reference23Ideal.nD Cert.Reference23Ideal.τ).loc Cert.Reference23Ideal.main_arg29) = m ((c.tc : Thread Cert.Kernel23Ideal.nD Cert.Kernel23Ideal.τ).loc Cert.Kernel23Ideal.main_arg29)
      ∧ m' ((c.tc : Thread Cert.Reference23Ideal.nD Cert.Reference23Ideal.τ).loc Cert.Reference23Ideal.main_arg30) = m ((c.tc : Thread Cert.Kernel23Ideal.nD Cert.Kernel23Ideal.τ).loc Cert.Kernel23Ideal.main_arg30)
      ∧ m' ((c.tc : Thread Cert.Reference23Ideal.nD Cert.Reference23Ideal.τ).loc Cert.Reference23Ideal.main_arg31) = m ((c.tc : Thread Cert.Kernel23Ideal.nD Cert.Kernel23Ideal.τ).loc Cert.Kernel23Ideal.main_arg31)
      ∧ m' ((c.tc : Thread Cert.Reference23Ideal.nD Cert.Reference23Ideal.τ).loc Cert.Reference23Ideal.main_arg32) = m ((c.tc : Thread Cert.Kernel23Ideal.nD Cert.Kernel23Ideal.τ).loc Cert.Kernel23Ideal.main_arg32)
      ∧ m' ((c.tc : Thread Cert.Reference23Ideal.nD Cert.Reference23Ideal.τ).loc Cert.Reference23Ideal.main_arg33) = m ((c.tc : Thread Cert.Kernel23Ideal.nD Cert.Kernel23Ideal.τ).loc Cert.Kernel23Ideal.main_arg33)
      ∧ m' ((c.tc : Thread Cert.Reference23Ideal.nD Cert.Reference23Ideal.τ).loc Cert.Reference23Ideal.main_arg34) = m ((c.tc : Thread Cert.Kernel23Ideal.nD Cert.Kernel23Ideal.τ).loc Cert.Kernel23Ideal.main_arg34)
      ∧ m' ((c.tc : Thread Cert.Reference23Ideal.nD Cert.Reference23Ideal.τ).loc Cert.Reference23Ideal.main_arg35) = m ((c.tc : Thread Cert.Kernel23Ideal.nD Cert.Kernel23Ideal.τ).loc Cert.Kernel23Ideal.main_arg35)
      ∧ m' ((c.tc : Thread Cert.Reference23Ideal.nD Cert.Reference23Ideal.τ).loc Cert.Reference23Ideal.main_arg36) = m ((c.tc : Thread Cert.Kernel23Ideal.nD Cert.Kernel23Ideal.τ).loc Cert.Kernel23Ideal.main_arg36)
      ∧ m' ((c.tc : Thread Cert.Reference23Ideal.nD Cert.Reference23Ideal.τ).loc Cert.Reference23Ideal.main_arg37) = m ((c.tc : Thread Cert.Kernel23Ideal.nD Cert.Kernel23Ideal.τ).loc Cert.Kernel23Ideal.main_arg37)
      ∧ m' ((c.tc : Thread Cert.Reference23Ideal.nD Cert.Reference23Ideal.τ).loc Cert.Reference23Ideal.main_arg38) = m ((c.tc : Thread Cert.Kernel23Ideal.nD Cert.Kernel23Ideal.τ).loc Cert.Kernel23Ideal.main_arg38)
      ∧ m' ((c.tc : Thread Cert.Reference23Ideal.nD Cert.Reference23Ideal.τ).loc Cert.Reference23Ideal.main_arg39) = m ((c.tc : Thread Cert.Kernel23Ideal.nD Cert.Kernel23Ideal.τ).loc Cert.Kernel23Ideal.main_arg39)
      ∧ m' ((c.tc : Thread Cert.Reference23Ideal.nD Cert.Reference23Ideal.τ).loc Cert.Reference23Ideal.main_arg40) = m ((c.tc : Thread Cert.Kernel23Ideal.nD Cert.Kernel23Ideal.τ).loc Cert.Kernel23Ideal.main_arg40)
      ∧ m' ((c.tc : Thread Cert.Reference23Ideal.nD Cert.Reference23Ideal.τ).loc Cert.Reference23Ideal.main_arg41) = m ((c.tc : Thread Cert.Kernel23Ideal.nD Cert.Kernel23Ideal.τ).loc Cert.Kernel23Ideal.main_arg41)
      ∧ m' ((c.tc : Thread Cert.Reference23Ideal.nD Cert.Reference23Ideal.τ).loc Cert.Reference23Ideal.main_arg42) = m ((c.tc : Thread Cert.Kernel23Ideal.nD Cert.Kernel23Ideal.τ).loc Cert.Kernel23Ideal.main_arg42)
      ∧ m' ((c.tc : Thread Cert.Reference23Ideal.nD Cert.Reference23Ideal.τ).loc Cert.Reference23Ideal.main_arg43) = m ((c.tc : Thread Cert.Kernel23Ideal.nD Cert.Kernel23Ideal.τ).loc Cert.Kernel23Ideal.main_arg43)
      ∧ m' ((c.tc : Thread Cert.Reference23Ideal.nD Cert.Reference23Ideal.τ).loc Cert.Reference23Ideal.main_arg44) = m ((c.tc : Thread Cert.Kernel23Ideal.nD Cert.Kernel23Ideal.τ).loc Cert.Kernel23Ideal.main_arg44)
      ∧ m' ((c.tc : Thread Cert.Reference23Ideal.nD Cert.Reference23Ideal.τ).loc Cert.Reference23Ideal.main_arg45) = m ((c.tc : Thread Cert.Kernel23Ideal.nD Cert.Kernel23Ideal.τ).loc Cert.Kernel23Ideal.main_arg45)
      ∧ m' ((c.tc : Thread Cert.Reference23Ideal.nD Cert.Reference23Ideal.τ).loc Cert.Reference23Ideal.main_arg46) = m ((c.tc : Thread Cert.Kernel23Ideal.nD Cert.Kernel23Ideal.τ).loc Cert.Kernel23Ideal.main_arg46)
      ∧ m' ((c.tc : Thread Cert.Reference23Ideal.nD Cert.Reference23Ideal.τ).loc Cert.Reference23Ideal.main_arg47) = m ((c.tc : Thread Cert.Kernel23Ideal.nD Cert.Kernel23Ideal.τ).loc Cert.Kernel23Ideal.main_arg47)
      ∧ m' ((c.tc : Thread Cert.Reference23Ideal.nD Cert.Reference23Ideal.τ).loc Cert.Reference23Ideal.main_arg48) = m ((c.tc : Thread Cert.Kernel23Ideal.nD Cert.Kernel23Ideal.τ).loc Cert.Kernel23Ideal.main_arg48)
      ∧ m' ((c.tc : Thread Cert.Reference23Ideal.nD Cert.Reference23Ideal.τ).loc Cert.Reference23Ideal.main_arg49) = m ((c.tc : Thread Cert.Kernel23Ideal.nD Cert.Kernel23Ideal.τ).loc Cert.Kernel23Ideal.main_arg49)
      ∧ m' ((c.tc : Thread Cert.Reference23Ideal.nD Cert.Reference23Ideal.τ).loc Cert.Reference23Ideal.main_arg50) = m ((c.tc : Thread Cert.Kernel23Ideal.nD Cert.Kernel23Ideal.τ).loc Cert.Kernel23Ideal.main_arg50)
      ∧ m' ((c.tc : Thread Cert.Reference23Ideal.nD Cert.Reference23Ideal.τ).loc Cert.Reference23Ideal.main_arg51) = m ((c.tc : Thread Cert.Kernel23Ideal.nD Cert.Kernel23Ideal.τ).loc Cert.Kernel23Ideal.main_arg51)
      ∧ m' ((c.tc : Thread Cert.Reference23Ideal.nD Cert.Reference23Ideal.τ).loc Cert.Reference23Ideal.main_arg52) = m ((c.tc : Thread Cert.Kernel23Ideal.nD Cert.Kernel23Ideal.τ).loc Cert.Kernel23Ideal.main_arg52)
      ∧ m' ((c.tc : Thread Cert.Reference23Ideal.nD Cert.Reference23Ideal.τ).loc Cert.Reference23Ideal.main_arg53) = m ((c.tc : Thread Cert.Kernel23Ideal.nD Cert.Kernel23Ideal.τ).loc Cert.Kernel23Ideal.main_arg53)
      ∧ m' ((c.tc : Thread Cert.Reference23Ideal.nD Cert.Reference23Ideal.τ).loc Cert.Reference23Ideal.main_arg54) = m ((c.tc : Thread Cert.Kernel23Ideal.nD Cert.Kernel23Ideal.τ).loc Cert.Kernel23Ideal.main_arg54)
      ∧ m' ((c.tc : Thread Cert.Reference23Ideal.nD Cert.Reference23Ideal.τ).loc Cert.Reference23Ideal.main_arg55) = m ((c.tc : Thread Cert.Kernel23Ideal.nD Cert.Kernel23Ideal.τ).loc Cert.Kernel23Ideal.main_arg55)
      ∧ m' ((c.tc : Thread Cert.Reference23Ideal.nD Cert.Reference23Ideal.τ).loc Cert.Reference23Ideal.main_arg56) = m ((c.tc : Thread Cert.Kernel23Ideal.nD Cert.Kernel23Ideal.τ).loc Cert.Kernel23Ideal.main_arg56)
      ∧ m' ((c.tc : Thread Cert.Reference23Ideal.nD Cert.Reference23Ideal.τ).loc Cert.Reference23Ideal.main_arg57) = m ((c.tc : Thread Cert.Kernel23Ideal.nD Cert.Kernel23Ideal.τ).loc Cert.Kernel23Ideal.main_arg57)
      ∧ m' ((c.tc : Thread Cert.Reference23Ideal.nD Cert.Reference23Ideal.τ).loc Cert.Reference23Ideal.main_arg58) = m ((c.tc : Thread Cert.Kernel23Ideal.nD Cert.Kernel23Ideal.τ).loc Cert.Kernel23Ideal.main_arg58)
      ∧ m' ((c.tc : Thread Cert.Reference23Ideal.nD Cert.Reference23Ideal.τ).loc Cert.Reference23Ideal.main_arg59) = m ((c.tc : Thread Cert.Kernel23Ideal.nD Cert.Kernel23Ideal.τ).loc Cert.Kernel23Ideal.main_arg59)
      ∧ m' ((c.tc : Thread Cert.Reference23Ideal.nD Cert.Reference23Ideal.τ).loc Cert.Reference23Ideal.main_arg60) = m ((c.tc : Thread Cert.Kernel23Ideal.nD Cert.Kernel23Ideal.τ).loc Cert.Kernel23Ideal.main_arg60)
      ∧ m' ((c.tc : Thread Cert.Reference23Ideal.nD Cert.Reference23Ideal.τ).loc Cert.Reference23Ideal.main_arg61) = m ((c.tc : Thread Cert.Kernel23Ideal.nD Cert.Kernel23Ideal.τ).loc Cert.Kernel23Ideal.main_arg61)
      ∧ m' ((c.tc : Thread Cert.Reference23Ideal.nD Cert.Reference23Ideal.τ).loc Cert.Reference23Ideal.main_arg62) = m ((c.tc : Thread Cert.Kernel23Ideal.nD Cert.Kernel23Ideal.τ).loc Cert.Kernel23Ideal.main_arg62)
      ∧ m' ((c.tc : Thread Cert.Reference23Ideal.nD Cert.Reference23Ideal.τ).loc Cert.Reference23Ideal.main_arg63) = m ((c.tc : Thread Cert.Kernel23Ideal.nD Cert.Kernel23Ideal.τ).loc Cert.Kernel23Ideal.main_arg63)
      ∧ m' ((c.tc : Thread Cert.Reference23Ideal.nD Cert.Reference23Ideal.τ).loc Cert.Reference23Ideal.main_arg64) = m ((c.tc : Thread Cert.Kernel23Ideal.nD Cert.Kernel23Ideal.τ).loc Cert.Kernel23Ideal.main_arg64)
      ∧ m' ((c.tc : Thread Cert.Reference23Ideal.nD Cert.Reference23Ideal.τ).loc Cert.Reference23Ideal.main_arg65) = m ((c.tc : Thread Cert.Kernel23Ideal.nD Cert.Kernel23Ideal.τ).loc Cert.Kernel23Ideal.main_arg65)
      ∧ m' ((c.tc : Thread Cert.Reference23Ideal.nD Cert.Reference23Ideal.τ).loc Cert.Reference23Ideal.main_arg66) = m ((c.tc : Thread Cert.Kernel23Ideal.nD Cert.Kernel23Ideal.τ).loc Cert.Kernel23Ideal.main_arg66)
      ∧ m' ((c.tc : Thread Cert.Reference23Ideal.nD Cert.Reference23Ideal.τ).loc Cert.Reference23Ideal.main_arg67) = m ((c.tc : Thread Cert.Kernel23Ideal.nD Cert.Kernel23Ideal.τ).loc Cert.Kernel23Ideal.main_arg67)
      ∧ m' ((c.tc : Thread Cert.Reference23Ideal.nD Cert.Reference23Ideal.τ).loc Cert.Reference23Ideal.main_arg68) = m ((c.tc : Thread Cert.Kernel23Ideal.nD Cert.Kernel23Ideal.τ).loc Cert.Kernel23Ideal.main_arg68)
      ∧ m' ((c.tc : Thread Cert.Reference23Ideal.nD Cert.Reference23Ideal.τ).loc Cert.Reference23Ideal.main_arg69) = m ((c.tc : Thread Cert.Kernel23Ideal.nD Cert.Kernel23Ideal.τ).loc Cert.Kernel23Ideal.main_arg69)
      ∧ m' ((c.tc : Thread Cert.Reference23Ideal.nD Cert.Reference23Ideal.τ).loc Cert.Reference23Ideal.main_arg70) = m ((c.tc : Thread Cert.Kernel23Ideal.nD Cert.Kernel23Ideal.τ).loc Cert.Kernel23Ideal.main_arg70)
      ∧ m' ((c.tc : Thread Cert.Reference23Ideal.nD Cert.Reference23Ideal.τ).loc Cert.Reference23Ideal.main_arg71) = m ((c.tc : Thread Cert.Kernel23Ideal.nD Cert.Kernel23Ideal.τ).loc Cert.Kernel23Ideal.main_arg71)
      ∧ m' ((c.tc : Thread Cert.Reference23Ideal.nD Cert.Reference23Ideal.τ).loc Cert.Reference23Ideal.main_arg72) = m ((c.tc : Thread Cert.Kernel23Ideal.nD Cert.Kernel23Ideal.τ).loc Cert.Kernel23Ideal.main_arg72)
      ∧ m' ((c.tc : Thread Cert.Reference23Ideal.nD Cert.Reference23Ideal.τ).loc Cert.Reference23Ideal.main_arg73) = m ((c.tc : Thread Cert.Kernel23Ideal.nD Cert.Kernel23Ideal.τ).loc Cert.Kernel23Ideal.main_arg73)
      ∧ m' ((c.tc : Thread Cert.Reference23Ideal.nD Cert.Reference23Ideal.τ).loc Cert.Reference23Ideal.main_arg74) = m ((c.tc : Thread Cert.Kernel23Ideal.nD Cert.Kernel23Ideal.τ).loc Cert.Kernel23Ideal.main_arg74)
      ∧ m' ((c.tc : Thread Cert.Reference23Ideal.nD Cert.Reference23Ideal.τ).loc Cert.Reference23Ideal.main_arg75) = m ((c.tc : Thread Cert.Kernel23Ideal.nD Cert.Kernel23Ideal.τ).loc Cert.Kernel23Ideal.main_arg75)) →
    ∃ (v0 : (c : Dev Cert.Kernel23Ideal.nD) → Buf (Elt Ideal) ((c.tc : Thread Cert.Kernel23Ideal.nD Cert.Kernel23Ideal.τ).loc Cert.Kernel23Ideal.main_v92_0)) (v1 : (c : Dev Cert.Kernel23Ideal.nD) → Buf (Elt Ideal) ((c.tc : Thread Cert.Kernel23Ideal.nD Cert.Kernel23Ideal.τ).loc Cert.Kernel23Ideal.main_v92_1)) (v2 : (c : Dev Cert.Kernel23Ideal.nD) → Buf (Elt Ideal) ((c.tc : Thread Cert.Kernel23Ideal.nD Cert.Kernel23Ideal.τ).loc Cert.Kernel23Ideal.main_v92_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v92_0) = v0 c
          ∧ r.2.mem ((c.tc : Thread Cert.Kernel23Ideal.nD Cert.Kernel23Ideal.τ).loc Cert.Kernel23Ideal.main_v92_1) = v1 c
          ∧ r.2.mem ((c.tc : Thread Cert.Kernel23Ideal.nD Cert.Kernel23Ideal.τ).loc Cert.Kernel23Ideal.main_v92_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
          ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
          ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8)
          ∧ r.2.mem ((c.tc : Thread Cert.Kernel23Ideal.nD Cert.Kernel23Ideal.τ).loc Cert.Kernel23Ideal.main_arg9) = m ((c.tc : Thread Cert.Kernel23Ideal.nD Cert.Kernel23Ideal.τ).loc Cert.Kernel23Ideal.main_arg9)
          ∧ r.2.mem ((c.tc : Thread Cert.Kernel23Ideal.nD Cert.Kernel23Ideal.τ).loc Cert.Kernel23Ideal.main_arg10) = m ((c.tc : Thread Cert.Kernel23Ideal.nD Cert.Kernel23Ideal.τ).loc Cert.Kernel23Ideal.main_arg10)
          ∧ r.2.mem ((c.tc : Thread Cert.Kernel23Ideal.nD Cert.Kernel23Ideal.τ).loc Cert.Kernel23Ideal.main_arg11) = m ((c.tc : Thread Cert.Kernel23Ideal.nD Cert.Kernel23Ideal.τ).loc Cert.Kernel23Ideal.main_arg11)
          ∧ r.2.mem ((c.tc : Thread Cert.Kernel23Ideal.nD Cert.Kernel23Ideal.τ).loc Cert.Kernel23Ideal.main_arg12) = m ((c.tc : Thread Cert.Kernel23Ideal.nD Cert.Kernel23Ideal.τ).loc Cert.Kernel23Ideal.main_arg12)
          ∧ r.2.mem ((c.tc : Thread Cert.Kernel23Ideal.nD Cert.Kernel23Ideal.τ).loc Cert.Kernel23Ideal.main_arg13) = m ((c.tc : Thread Cert.Kernel23Ideal.nD Cert.Kernel23Ideal.τ).loc Cert.Kernel23Ideal.main_arg13)
          ∧ r.2.mem ((c.tc : Thread Cert.Kernel23Ideal.nD Cert.Kernel23Ideal.τ).loc Cert.Kernel23Ideal.main_arg14) = m ((c.tc : Thread Cert.Kernel23Ideal.nD Cert.Kernel23Ideal.τ).loc Cert.Kernel23Ideal.main_arg14)
          ∧ r.2.mem ((c.tc : Thread Cert.Kernel23Ideal.nD Cert.Kernel23Ideal.τ).loc Cert.Kernel23Ideal.main_arg15) = m ((c.tc : Thread Cert.Kernel23Ideal.nD Cert.Kernel23Ideal.τ).loc Cert.Kernel23Ideal.main_arg15)
          ∧ r.2.mem ((c.tc : Thread Cert.Kernel23Ideal.nD Cert.Kernel23Ideal.τ).loc Cert.Kernel23Ideal.main_arg16) = m ((c.tc : Thread Cert.Kernel23Ideal.nD Cert.Kernel23Ideal.τ).loc Cert.Kernel23Ideal.main_arg16)
          ∧ r.2.mem ((c.tc : Thread Cert.Kernel23Ideal.nD Cert.Kernel23Ideal.τ).loc Cert.Kernel23Ideal.main_arg17) = m ((c.tc : Thread Cert.Kernel23Ideal.nD Cert.Kernel23Ideal.τ).loc Cert.Kernel23Ideal.main_arg17)
          ∧ r.2.mem ((c.tc : Thread Cert.Kernel23Ideal.nD Cert.Kernel23Ideal.τ).loc Cert.Kernel23Ideal.main_arg18) = m ((c.tc : Thread Cert.Kernel23Ideal.nD Cert.Kernel23Ideal.τ).loc Cert.Kernel23Ideal.main_arg18)
          ∧ r.2.mem ((c.tc : Thread Cert.Kernel23Ideal.nD Cert.Kernel23Ideal.τ).loc Cert.Kernel23Ideal.main_arg19) = m ((c.tc : Thread Cert.Kernel23Ideal.nD Cert.Kernel23Ideal.τ).loc Cert.Kernel23Ideal.main_arg19)
          ∧ r.2.mem ((c.tc : Thread Cert.Kernel23Ideal.nD Cert.Kernel23Ideal.τ).loc Cert.Kernel23Ideal.main_arg20) = m ((c.tc : Thread Cert.Kernel23Ideal.nD Cert.Kernel23Ideal.τ).loc Cert.Kernel23Ideal.main_arg20)
          ∧ r.2.mem ((c.tc : Thread Cert.Kernel23Ideal.nD Cert.Kernel23Ideal.τ).loc Cert.Kernel23Ideal.main_arg21) = m ((c.tc : Thread Cert.Kernel23Ideal.nD Cert.Kernel23Ideal.τ).loc Cert.Kernel23Ideal.main_arg21)
          ∧ r.2.mem ((c.tc : Thread Cert.Kernel23Ideal.nD Cert.Kernel23Ideal.τ).loc Cert.Kernel23Ideal.main_arg22) = m ((c.tc : Thread Cert.Kernel23Ideal.nD Cert.Kernel23Ideal.τ).loc Cert.Kernel23Ideal.main_arg22)
          ∧ r.2.mem ((c.tc : Thread Cert.Kernel23Ideal.nD Cert.Kernel23Ideal.τ).loc Cert.Kernel23Ideal.main_arg23) = m ((c.tc : Thread Cert.Kernel23Ideal.nD Cert.Kernel23Ideal.τ).loc Cert.Kernel23Ideal.main_arg23)
          ∧ r.2.mem ((c.tc : Thread Cert.Kernel23Ideal.nD Cert.Kernel23Ideal.τ).loc Cert.Kernel23Ideal.main_arg24) = m ((c.tc : Thread Cert.Kernel23Ideal.nD Cert.Kernel23Ideal.τ).loc Cert.Kernel23Ideal.main_arg24)
          ∧ r.2.mem ((c.tc : Thread Cert.Kernel23Ideal.nD Cert.Kernel23Ideal.τ).loc Cert.Kernel23Ideal.main_arg25) = m ((c.tc : Thread Cert.Kernel23Ideal.nD Cert.Kernel23Ideal.τ).loc Cert.Kernel23Ideal.main_arg25)
          ∧ r.2.mem ((c.tc : Thread Cert.Kernel23Ideal.nD Cert.Kernel23Ideal.τ).loc Cert.Kernel23Ideal.main_arg26) = m ((c.tc : Thread Cert.Kernel23Ideal.nD Cert.Kernel23Ideal.τ).loc Cert.Kernel23Ideal.main_arg26)
          ∧ r.2.mem ((c.tc : Thread Cert.Kernel23Ideal.nD Cert.Kernel23Ideal.τ).loc Cert.Kernel23Ideal.main_arg27) = m ((c.tc : Thread Cert.Kernel23Ideal.nD Cert.Kernel23Ideal.τ).loc Cert.Kernel23Ideal.main_arg27)
          ∧ r.2.mem ((c.tc : Thread Cert.Kernel23Ideal.nD Cert.Kernel23Ideal.τ).loc Cert.Kernel23Ideal.main_arg28) = m ((c.tc : Thread Cert.Kernel23Ideal.nD Cert.Kernel23Ideal.τ).loc Cert.Kernel23Ideal.main_arg28)
          ∧ r.2.mem ((c.tc : Thread Cert.Kernel23Ideal.nD Cert.Kernel23Ideal.τ).loc Cert.Kernel23Ideal.main_arg29) = m ((c.tc : Thread Cert.Kernel23Ideal.nD Cert.Kernel23Ideal.τ).loc Cert.Kernel23Ideal.main_arg29)
          ∧ r.2.mem ((c.tc : Thread Cert.Kernel23Ideal.nD Cert.Kernel23Ideal.τ).loc Cert.Kernel23Ideal.main_arg30) = m ((c.tc : Thread Cert.Kernel23Ideal.nD Cert.Kernel23Ideal.τ).loc Cert.Kernel23Ideal.main_arg30)
          ∧ r.2.mem ((c.tc : Thread Cert.Kernel23Ideal.nD Cert.Kernel23Ideal.τ).loc Cert.Kernel23Ideal.main_arg31) = m ((c.tc : Thread Cert.Kernel23Ideal.nD Cert.Kernel23Ideal.τ).loc Cert.Kernel23Ideal.main_arg31)
          ∧ r.2.mem ((c.tc : Thread Cert.Kernel23Ideal.nD Cert.Kernel23Ideal.τ).loc Cert.Kernel23Ideal.main_arg32) = m ((c.tc : Thread Cert.Kernel23Ideal.nD Cert.Kernel23Ideal.τ).loc Cert.Kernel23Ideal.main_arg32)
          ∧ r.2.mem ((c.tc : Thread Cert.Kernel23Ideal.nD Cert.Kernel23Ideal.τ).loc Cert.Kernel23Ideal.main_arg33) = m ((c.tc : Thread Cert.Kernel23Ideal.nD Cert.Kernel23Ideal.τ).loc Cert.Kernel23Ideal.main_arg33)
          ∧ r.2.mem ((c.tc : Thread Cert.Kernel23Ideal.nD Cert.Kernel23Ideal.τ).loc Cert.Kernel23Ideal.main_arg34) = m ((c.tc : Thread Cert.Kernel23Ideal.nD Cert.Kernel23Ideal.τ).loc Cert.Kernel23Ideal.main_arg34)
          ∧ r.2.mem ((c.tc : Thread Cert.Kernel23Ideal.nD Cert.Kernel23Ideal.τ).loc Cert.Kernel23Ideal.main_arg35) = m ((c.tc : Thread Cert.Kernel23Ideal.nD Cert.Kernel23Ideal.τ).loc Cert.Kernel23Ideal.main_arg35)
          ∧ r.2.mem ((c.tc : Thread Cert.Kernel23Ideal.nD Cert.Kernel23Ideal.τ).loc Cert.Kernel23Ideal.main_arg36) = m ((c.tc : Thread Cert.Kernel23Ideal.nD Cert.Kernel23Ideal.τ).loc Cert.Kernel23Ideal.main_arg36)
          ∧ r.2.mem ((c.tc : Thread Cert.Kernel23Ideal.nD Cert.Kernel23Ideal.τ).loc Cert.Kernel23Ideal.main_arg37) = m ((c.tc : Thread Cert.Kernel23Ideal.nD Cert.Kernel23Ideal.τ).loc Cert.Kernel23Ideal.main_arg37)
          ∧ r.2.mem ((c.tc : Thread Cert.Kernel23Ideal.nD Cert.Kernel23Ideal.τ).loc Cert.Kernel23Ideal.main_arg38) = m ((c.tc : Thread Cert.Kernel23Ideal.nD Cert.Kernel23Ideal.τ).loc Cert.Kernel23Ideal.main_arg38)
          ∧ r.2.mem ((c.tc : Thread Cert.Kernel23Ideal.nD Cert.Kernel23Ideal.τ).loc Cert.Kernel23Ideal.main_arg39) = m ((c.tc : Thread Cert.Kernel23Ideal.nD Cert.Kernel23Ideal.τ).loc Cert.Kernel23Ideal.main_arg39)
          ∧ r.2.mem ((c.tc : Thread Cert.Kernel23Ideal.nD Cert.Kernel23Ideal.τ).loc Cert.Kernel23Ideal.main_arg40) = m ((c.tc : Thread Cert.Kernel23Ideal.nD Cert.Kernel23Ideal.τ).loc Cert.Kernel23Ideal.main_arg40)
          ∧ r.2.mem ((c.tc : Thread Cert.Kernel23Ideal.nD Cert.Kernel23Ideal.τ).loc Cert.Kernel23Ideal.main_arg41) = m ((c.tc : Thread Cert.Kernel23Ideal.nD Cert.Kernel23Ideal.τ).loc Cert.Kernel23Ideal.main_arg41)
          ∧ r.2.mem ((c.tc : Thread Cert.Kernel23Ideal.nD Cert.Kernel23Ideal.τ).loc Cert.Kernel23Ideal.main_arg42) = m ((c.tc : Thread Cert.Kernel23Ideal.nD Cert.Kernel23Ideal.τ).loc Cert.Kernel23Ideal.main_arg42)
          ∧ r.2.mem ((c.tc : Thread Cert.Kernel23Ideal.nD Cert.Kernel23Ideal.τ).loc Cert.Kernel23Ideal.main_arg43) = m ((c.tc : Thread Cert.Kernel23Ideal.nD Cert.Kernel23Ideal.τ).loc Cert.Kernel23Ideal.main_arg43)
          ∧ r.2.mem ((c.tc : Thread Cert.Kernel23Ideal.nD Cert.Kernel23Ideal.τ).loc Cert.Kernel23Ideal.main_arg44) = m ((c.tc : Thread Cert.Kernel23Ideal.nD Cert.Kernel23Ideal.τ).loc Cert.Kernel23Ideal.main_arg44)
          ∧ r.2.mem ((c.tc : Thread Cert.Kernel23Ideal.nD Cert.Kernel23Ideal.τ).loc Cert.Kernel23Ideal.main_arg45) = m ((c.tc : Thread Cert.Kernel23Ideal.nD Cert.Kernel23Ideal.τ).loc Cert.Kernel23Ideal.main_arg45)
          ∧ r.2.mem ((c.tc : Thread Cert.Kernel23Ideal.nD Cert.Kernel23Ideal.τ).loc Cert.Kernel23Ideal.main_arg46) = m ((c.tc : Thread Cert.Kernel23Ideal.nD Cert.Kernel23Ideal.τ).loc Cert.Kernel23Ideal.main_arg46)
          ∧ r.2.mem ((c.tc : Thread Cert.Kernel23Ideal.nD Cert.Kernel23Ideal.τ).loc Cert.Kernel23Ideal.main_arg47) = m ((c.tc : Thread Cert.Kernel23Ideal.nD Cert.Kernel23Ideal.τ).loc Cert.Kernel23Ideal.main_arg47)
          ∧ r.2.mem ((c.tc : Thread Cert.Kernel23Ideal.nD Cert.Kernel23Ideal.τ).loc Cert.Kernel23Ideal.main_arg48) = m ((c.tc : Thread Cert.Kernel23Ideal.nD Cert.Kernel23Ideal.τ).loc Cert.Kernel23Ideal.main_arg48)
          ∧ r.2.mem ((c.tc : Thread Cert.Kernel23Ideal.nD Cert.Kernel23Ideal.τ).loc Cert.Kernel23Ideal.main_arg49) = m ((c.tc : Thread Cert.Kernel23Ideal.nD Cert.Kernel23Ideal.τ).loc Cert.Kernel23Ideal.main_arg49)
          ∧ r.2.mem ((c.tc : Thread Cert.Kernel23Ideal.nD Cert.Kernel23Ideal.τ).loc Cert.Kernel23Ideal.main_arg50) = m ((c.tc : Thread Cert.Kernel23Ideal.nD Cert.Kernel23Ideal.τ).loc Cert.Kernel23Ideal.main_arg50)
          ∧ r.2.mem ((c.tc : Thread Cert.Kernel23Ideal.nD Cert.Kernel23Ideal.τ).loc Cert.Kernel23Ideal.main_arg51) = m ((c.tc : Thread Cert.Kernel23Ideal.nD Cert.Kernel23Ideal.τ).loc Cert.Kernel23Ideal.main_arg51)
          ∧ r.2.mem ((c.tc : Thread Cert.Kernel23Ideal.nD Cert.Kernel23Ideal.τ).loc Cert.Kernel23Ideal.main_arg52) = m ((c.tc : Thread Cert.Kernel23Ideal.nD Cert.Kernel23Ideal.τ).loc Cert.Kernel23Ideal.main_arg52)
          ∧ r.2.mem ((c.tc : Thread Cert.Kernel23Ideal.nD Cert.Kernel23Ideal.τ).loc Cert.Kernel23Ideal.main_arg53) = m ((c.tc : Thread Cert.Kernel23Ideal.nD Cert.Kernel23Ideal.τ).loc Cert.Kernel23Ideal.main_arg53)
          ∧ r.2.mem ((c.tc : Thread Cert.Kernel23Ideal.nD Cert.Kernel23Ideal.τ).loc Cert.Kernel23Ideal.main_arg54) = m ((c.tc : Thread Cert.Kernel23Ideal.nD Cert.Kernel23Ideal.τ).loc Cert.Kernel23Ideal.main_arg54)
          ∧ r.2.mem ((c.tc : Thread Cert.Kernel23Ideal.nD Cert.Kernel23Ideal.τ).loc Cert.Kernel23Ideal.main_arg55) = m ((c.tc : Thread Cert.Kernel23Ideal.nD Cert.Kernel23Ideal.τ).loc Cert.Kernel23Ideal.main_arg55)
          ∧ r.2.mem ((c.tc : Thread Cert.Kernel23Ideal.nD Cert.Kernel23Ideal.τ).loc Cert.Kernel23Ideal.main_arg56) = m ((c.tc : Thread Cert.Kernel23Ideal.nD Cert.Kernel23Ideal.τ).loc Cert.Kernel23Ideal.main_arg56)
          ∧ r.2.mem ((c.tc : Thread Cert.Kernel23Ideal.nD Cert.Kernel23Ideal.τ).loc Cert.Kernel23Ideal.main_arg57) = m ((c.tc : Thread Cert.Kernel23Ideal.nD Cert.Kernel23Ideal.τ).loc Cert.Kernel23Ideal.main_arg57)
          ∧ r.2.mem ((c.tc : Thread Cert.Kernel23Ideal.nD Cert.Kernel23Ideal.τ).loc Cert.Kernel23Ideal.main_arg58) = m ((c.tc : Thread Cert.Kernel23Ideal.nD Cert.Kernel23Ideal.τ).loc Cert.Kernel23Ideal.main_arg58)
          ∧ r.2.mem ((c.tc : Thread Cert.Kernel23Ideal.nD Cert.Kernel23Ideal.τ).loc Cert.Kernel23Ideal.main_arg59) = m ((c.tc : Thread Cert.Kernel23Ideal.nD Cert.Kernel23Ideal.τ).loc Cert.Kernel23Ideal.main_arg59)
          ∧ r.2.mem ((c.tc : Thread Cert.Kernel23Ideal.nD Cert.Kernel23Ideal.τ).loc Cert.Kernel23Ideal.main_arg60) = m ((c.tc : Thread Cert.Kernel23Ideal.nD Cert.Kernel23Ideal.τ).loc Cert.Kernel23Ideal.main_arg60)
          ∧ r.2.mem ((c.tc : Thread Cert.Kernel23Ideal.nD Cert.Kernel23Ideal.τ).loc Cert.Kernel23Ideal.main_arg61) = m ((c.tc : Thread Cert.Kernel23Ideal.nD Cert.Kernel23Ideal.τ).loc Cert.Kernel23Ideal.main_arg61)
          ∧ r.2.mem ((c.tc : Thread Cert.Kernel23Ideal.nD Cert.Kernel23Ideal.τ).loc Cert.Kernel23Ideal.main_arg62) = m ((c.tc : Thread Cert.Kernel23Ideal.nD Cert.Kernel23Ideal.τ).loc Cert.Kernel23Ideal.main_arg62)
          ∧ r.2.mem ((c.tc : Thread Cert.Kernel23Ideal.nD Cert.Kernel23Ideal.τ).loc Cert.Kernel23Ideal.main_arg63) = m ((c.tc : Thread Cert.Kernel23Ideal.nD Cert.Kernel23Ideal.τ).loc Cert.Kernel23Ideal.main_arg63)
          ∧ r.2.mem ((c.tc : Thread Cert.Kernel23Ideal.nD Cert.Kernel23Ideal.τ).loc Cert.Kernel23Ideal.main_arg64) = m ((c.tc : Thread Cert.Kernel23Ideal.nD Cert.Kernel23Ideal.τ).loc Cert.Kernel23Ideal.main_arg64)
          ∧ r.2.mem ((c.tc : Thread Cert.Kernel23Ideal.nD Cert.Kernel23Ideal.τ).loc Cert.Kernel23Ideal.main_arg65) = m ((c.tc : Thread Cert.Kernel23Ideal.nD Cert.Kernel23Ideal.τ).loc Cert.Kernel23Ideal.main_arg65)
          ∧ r.2.mem ((c.tc : Thread Cert.Kernel23Ideal.nD Cert.Kernel23Ideal.τ).loc Cert.Kernel23Ideal.main_arg66) = m ((c.tc : Thread Cert.Kernel23Ideal.nD Cert.Kernel23Ideal.τ).loc Cert.Kernel23Ideal.main_arg66)
          ∧ r.2.mem ((c.tc : Thread Cert.Kernel23Ideal.nD Cert.Kernel23Ideal.τ).loc Cert.Kernel23Ideal.main_arg67) = m ((c.tc : Thread Cert.Kernel23Ideal.nD Cert.Kernel23Ideal.τ).loc Cert.Kernel23Ideal.main_arg67)
          ∧ r.2.mem ((c.tc : Thread Cert.Kernel23Ideal.nD Cert.Kernel23Ideal.τ).loc Cert.Kernel23Ideal.main_arg68) = m ((c.tc : Thread Cert.Kernel23Ideal.nD Cert.Kernel23Ideal.τ).loc Cert.Kernel23Ideal.main_arg68)
          ∧ r.2.mem ((c.tc : Thread Cert.Kernel23Ideal.nD Cert.Kernel23Ideal.τ).loc Cert.Kernel23Ideal.main_arg69) = m ((c.tc : Thread Cert.Kernel23Ideal.nD Cert.Kernel23Ideal.τ).loc Cert.Kernel23Ideal.main_arg69)
          ∧ r.2.mem ((c.tc : Thread Cert.Kernel23Ideal.nD Cert.Kernel23Ideal.τ).loc Cert.Kernel23Ideal.main_arg70) = m ((c.tc : Thread Cert.Kernel23Ideal.nD Cert.Kernel23Ideal.τ).loc Cert.Kernel23Ideal.main_arg70)
          ∧ r.2.mem ((c.tc : Thread Cert.Kernel23Ideal.nD Cert.Kernel23Ideal.τ).loc Cert.Kernel23Ideal.main_arg71) = m ((c.tc : Thread Cert.Kernel23Ideal.nD Cert.Kernel23Ideal.τ).loc Cert.Kernel23Ideal.main_arg71)
          ∧ r.2.mem ((c.tc : Thread Cert.Kernel23Ideal.nD Cert.Kernel23Ideal.τ).loc Cert.Kernel23Ideal.main_arg72) = m ((c.tc : Thread Cert.Kernel23Ideal.nD Cert.Kernel23Ideal.τ).loc Cert.Kernel23Ideal.main_arg72)
          ∧ r.2.mem ((c.tc : Thread Cert.Kernel23Ideal.nD Cert.Kernel23Ideal.τ).loc Cert.Kernel23Ideal.main_arg73) = m ((c.tc : Thread Cert.Kernel23Ideal.nD Cert.Kernel23Ideal.τ).loc Cert.Kernel23Ideal.main_arg73)
          ∧ r.2.mem ((c.tc : Thread Cert.Kernel23Ideal.nD Cert.Kernel23Ideal.τ).loc Cert.Kernel23Ideal.main_arg74) = m ((c.tc : Thread Cert.Kernel23Ideal.nD Cert.Kernel23Ideal.τ).loc Cert.Kernel23Ideal.main_arg74)
          ∧ r.2.mem ((c.tc : Thread Cert.Kernel23Ideal.nD Cert.Kernel23Ideal.τ).loc Cert.Kernel23Ideal.main_arg75) = m ((c.tc : Thread Cert.Kernel23Ideal.nD Cert.Kernel23Ideal.τ).loc Cert.Kernel23Ideal.main_arg75))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v478) = v0 c
          ∧ r.2.mem ((c.tc : Thread Cert.Reference23Ideal.nD Cert.Reference23Ideal.τ).loc Cert.Reference23Ideal.main_v501) = v1 c
          ∧ r.2.mem ((c.tc : Thread Cert.Reference23Ideal.nD Cert.Reference23Ideal.τ).loc Cert.Reference23Ideal.main_v524) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6)
          ∧ r.2.mem ((c.tc : Thread Cert.Reference23Ideal.nD Cert.Reference23Ideal.τ).loc Cert.Reference23Ideal.main_arg7) = m' ((c.tc : Thread Cert.Reference23Ideal.nD Cert.Reference23Ideal.τ).loc Cert.Reference23Ideal.main_arg7)
          ∧ r.2.mem ((c.tc : Thread Cert.Reference23Ideal.nD Cert.Reference23Ideal.τ).loc Cert.Reference23Ideal.main_arg8) = m' ((c.tc : Thread Cert.Reference23Ideal.nD Cert.Reference23Ideal.τ).loc Cert.Reference23Ideal.main_arg8)
          ∧ r.2.mem ((c.tc : Thread Cert.Reference23Ideal.nD Cert.Reference23Ideal.τ).loc Cert.Reference23Ideal.main_arg9) = m' ((c.tc : Thread Cert.Reference23Ideal.nD Cert.Reference23Ideal.τ).loc Cert.Reference23Ideal.main_arg9)
          ∧ r.2.mem ((c.tc : Thread Cert.Reference23Ideal.nD Cert.Reference23Ideal.τ).loc Cert.Reference23Ideal.main_arg10) = m' ((c.tc : Thread Cert.Reference23Ideal.nD Cert.Reference23Ideal.τ).loc Cert.Reference23Ideal.main_arg10)
          ∧ r.2.mem ((c.tc : Thread Cert.Reference23Ideal.nD Cert.Reference23Ideal.τ).loc Cert.Reference23Ideal.main_arg11) = m' ((c.tc : Thread Cert.Reference23Ideal.nD Cert.Reference23Ideal.τ).loc Cert.Reference23Ideal.main_arg11)
          ∧ r.2.mem ((c.tc : Thread Cert.Reference23Ideal.nD Cert.Reference23Ideal.τ).loc Cert.Reference23Ideal.main_arg12) = m' ((c.tc : Thread Cert.Reference23Ideal.nD Cert.Reference23Ideal.τ).loc Cert.Reference23Ideal.main_arg12)
          ∧ r.2.mem ((c.tc : Thread Cert.Reference23Ideal.nD Cert.Reference23Ideal.τ).loc Cert.Reference23Ideal.main_arg13) = m' ((c.tc : Thread Cert.Reference23Ideal.nD Cert.Reference23Ideal.τ).loc Cert.Reference23Ideal.main_arg13)
          ∧ r.2.mem ((c.tc : Thread Cert.Reference23Ideal.nD Cert.Reference23Ideal.τ).loc Cert.Reference23Ideal.main_arg14) = m' ((c.tc : Thread Cert.Reference23Ideal.nD Cert.Reference23Ideal.τ).loc Cert.Reference23Ideal.main_arg14)
          ∧ r.2.mem ((c.tc : Thread Cert.Reference23Ideal.nD Cert.Reference23Ideal.τ).loc Cert.Reference23Ideal.main_arg15) = m' ((c.tc : Thread Cert.Reference23Ideal.nD Cert.Reference23Ideal.τ).loc Cert.Reference23Ideal.main_arg15)
          ∧ r.2.mem ((c.tc : Thread Cert.Reference23Ideal.nD Cert.Reference23Ideal.τ).loc Cert.Reference23Ideal.main_arg16) = m' ((c.tc : Thread Cert.Reference23Ideal.nD Cert.Reference23Ideal.τ).loc Cert.Reference23Ideal.main_arg16)
          ∧ r.2.mem ((c.tc : Thread Cert.Reference23Ideal.nD Cert.Reference23Ideal.τ).loc Cert.Reference23Ideal.main_arg17) = m' ((c.tc : Thread Cert.Reference23Ideal.nD Cert.Reference23Ideal.τ).loc Cert.Reference23Ideal.main_arg17)
          ∧ r.2.mem ((c.tc : Thread Cert.Reference23Ideal.nD Cert.Reference23Ideal.τ).loc Cert.Reference23Ideal.main_arg18) = m' ((c.tc : Thread Cert.Reference23Ideal.nD Cert.Reference23Ideal.τ).loc Cert.Reference23Ideal.main_arg18)
          ∧ r.2.mem ((c.tc : Thread Cert.Reference23Ideal.nD Cert.Reference23Ideal.τ).loc Cert.Reference23Ideal.main_arg19) = m' ((c.tc : Thread Cert.Reference23Ideal.nD Cert.Reference23Ideal.τ).loc Cert.Reference23Ideal.main_arg19)
          ∧ r.2.mem ((c.tc : Thread Cert.Reference23Ideal.nD Cert.Reference23Ideal.τ).loc Cert.Reference23Ideal.main_arg20) = m' ((c.tc : Thread Cert.Reference23Ideal.nD Cert.Reference23Ideal.τ).loc Cert.Reference23Ideal.main_arg20)
          ∧ r.2.mem ((c.tc : Thread Cert.Reference23Ideal.nD Cert.Reference23Ideal.τ).loc Cert.Reference23Ideal.main_arg21) = m' ((c.tc : Thread Cert.Reference23Ideal.nD Cert.Reference23Ideal.τ).loc Cert.Reference23Ideal.main_arg21)
          ∧ r.2.mem ((c.tc : Thread Cert.Reference23Ideal.nD Cert.Reference23Ideal.τ).loc Cert.Reference23Ideal.main_arg22) = m' ((c.tc : Thread Cert.Reference23Ideal.nD Cert.Reference23Ideal.τ).loc Cert.Reference23Ideal.main_arg22)
          ∧ r.2.mem ((c.tc : Thread Cert.Reference23Ideal.nD Cert.Reference23Ideal.τ).loc Cert.Reference23Ideal.main_arg23) = m' ((c.tc : Thread Cert.Reference23Ideal.nD Cert.Reference23Ideal.τ).loc Cert.Reference23Ideal.main_arg23)
          ∧ r.2.mem ((c.tc : Thread Cert.Reference23Ideal.nD Cert.Reference23Ideal.τ).loc Cert.Reference23Ideal.main_arg24) = m' ((c.tc : Thread Cert.Reference23Ideal.nD Cert.Reference23Ideal.τ).loc Cert.Reference23Ideal.main_arg24)
          ∧ r.2.mem ((c.tc : Thread Cert.Reference23Ideal.nD Cert.Reference23Ideal.τ).loc Cert.Reference23Ideal.main_arg25) = m' ((c.tc : Thread Cert.Reference23Ideal.nD Cert.Reference23Ideal.τ).loc Cert.Reference23Ideal.main_arg25)
          ∧ r.2.mem ((c.tc : Thread Cert.Reference23Ideal.nD Cert.Reference23Ideal.τ).loc Cert.Reference23Ideal.main_arg26) = m' ((c.tc : Thread Cert.Reference23Ideal.nD Cert.Reference23Ideal.τ).loc Cert.Reference23Ideal.main_arg26)
          ∧ r.2.mem ((c.tc : Thread Cert.Reference23Ideal.nD Cert.Reference23Ideal.τ).loc Cert.Reference23Ideal.main_arg27) = m' ((c.tc : Thread Cert.Reference23Ideal.nD Cert.Reference23Ideal.τ).loc Cert.Reference23Ideal.main_arg27)
          ∧ r.2.mem ((c.tc : Thread Cert.Reference23Ideal.nD Cert.Reference23Ideal.τ).loc Cert.Reference23Ideal.main_arg28) = m' ((c.tc : Thread Cert.Reference23Ideal.nD Cert.Reference23Ideal.τ).loc Cert.Reference23Ideal.main_arg28)
          ∧ r.2.mem ((c.tc : Thread Cert.Reference23Ideal.nD Cert.Reference23Ideal.τ).loc Cert.Reference23Ideal.main_arg29) = m' ((c.tc : Thread Cert.Reference23Ideal.nD Cert.Reference23Ideal.τ).loc Cert.Reference23Ideal.main_arg29)
          ∧ r.2.mem ((c.tc : Thread Cert.Reference23Ideal.nD Cert.Reference23Ideal.τ).loc Cert.Reference23Ideal.main_arg30) = m' ((c.tc : Thread Cert.Reference23Ideal.nD Cert.Reference23Ideal.τ).loc Cert.Reference23Ideal.main_arg30)
          ∧ r.2.mem ((c.tc : Thread Cert.Reference23Ideal.nD Cert.Reference23Ideal.τ).loc Cert.Reference23Ideal.main_arg31) = m' ((c.tc : Thread Cert.Reference23Ideal.nD Cert.Reference23Ideal.τ).loc Cert.Reference23Ideal.main_arg31)
          ∧ r.2.mem ((c.tc : Thread Cert.Reference23Ideal.nD Cert.Reference23Ideal.τ).loc Cert.Reference23Ideal.main_arg32) = m' ((c.tc : Thread Cert.Reference23Ideal.nD Cert.Reference23Ideal.τ).loc Cert.Reference23Ideal.main_arg32)
          ∧ r.2.mem ((c.tc : Thread Cert.Reference23Ideal.nD Cert.Reference23Ideal.τ).loc Cert.Reference23Ideal.main_arg33) = m' ((c.tc : Thread Cert.Reference23Ideal.nD Cert.Reference23Ideal.τ).loc Cert.Reference23Ideal.main_arg33)
          ∧ r.2.mem ((c.tc : Thread Cert.Reference23Ideal.nD Cert.Reference23Ideal.τ).loc Cert.Reference23Ideal.main_arg34) = m' ((c.tc : Thread Cert.Reference23Ideal.nD Cert.Reference23Ideal.τ).loc Cert.Reference23Ideal.main_arg34)
          ∧ r.2.mem ((c.tc : Thread Cert.Reference23Ideal.nD Cert.Reference23Ideal.τ).loc Cert.Reference23Ideal.main_arg35) = m' ((c.tc : Thread Cert.Reference23Ideal.nD Cert.Reference23Ideal.τ).loc Cert.Reference23Ideal.main_arg35)
          ∧ r.2.mem ((c.tc : Thread Cert.Reference23Ideal.nD Cert.Reference23Ideal.τ).loc Cert.Reference23Ideal.main_arg36) = m' ((c.tc : Thread Cert.Reference23Ideal.nD Cert.Reference23Ideal.τ).loc Cert.Reference23Ideal.main_arg36)
          ∧ r.2.mem ((c.tc : Thread Cert.Reference23Ideal.nD Cert.Reference23Ideal.τ).loc Cert.Reference23Ideal.main_arg37) = m' ((c.tc : Thread Cert.Reference23Ideal.nD Cert.Reference23Ideal.τ).loc Cert.Reference23Ideal.main_arg37)
          ∧ r.2.mem ((c.tc : Thread Cert.Reference23Ideal.nD Cert.Reference23Ideal.τ).loc Cert.Reference23Ideal.main_arg38) = m' ((c.tc : Thread Cert.Reference23Ideal.nD Cert.Reference23Ideal.τ).loc Cert.Reference23Ideal.main_arg38)
          ∧ r.2.mem ((c.tc : Thread Cert.Reference23Ideal.nD Cert.Reference23Ideal.τ).loc Cert.Reference23Ideal.main_arg39) = m' ((c.tc : Thread Cert.Reference23Ideal.nD Cert.Reference23Ideal.τ).loc Cert.Reference23Ideal.main_arg39)
          ∧ r.2.mem ((c.tc : Thread Cert.Reference23Ideal.nD Cert.Reference23Ideal.τ).loc Cert.Reference23Ideal.main_arg40) = m' ((c.tc : Thread Cert.Reference23Ideal.nD Cert.Reference23Ideal.τ).loc Cert.Reference23Ideal.main_arg40)
          ∧ r.2.mem ((c.tc : Thread Cert.Reference23Ideal.nD Cert.Reference23Ideal.τ).loc Cert.Reference23Ideal.main_arg41) = m' ((c.tc : Thread Cert.Reference23Ideal.nD Cert.Reference23Ideal.τ).loc Cert.Reference23Ideal.main_arg41)
          ∧ r.2.mem ((c.tc : Thread Cert.Reference23Ideal.nD Cert.Reference23Ideal.τ).loc Cert.Reference23Ideal.main_arg42) = m' ((c.tc : Thread Cert.Reference23Ideal.nD Cert.Reference23Ideal.τ).loc Cert.Reference23Ideal.main_arg42)
          ∧ r.2.mem ((c.tc : Thread Cert.Reference23Ideal.nD Cert.Reference23Ideal.τ).loc Cert.Reference23Ideal.main_arg43) = m' ((c.tc : Thread Cert.Reference23Ideal.nD Cert.Reference23Ideal.τ).loc Cert.Reference23Ideal.main_arg43)
          ∧ r.2.mem ((c.tc : Thread Cert.Reference23Ideal.nD Cert.Reference23Ideal.τ).loc Cert.Reference23Ideal.main_arg44) = m' ((c.tc : Thread Cert.Reference23Ideal.nD Cert.Reference23Ideal.τ).loc Cert.Reference23Ideal.main_arg44)
          ∧ r.2.mem ((c.tc : Thread Cert.Reference23Ideal.nD Cert.Reference23Ideal.τ).loc Cert.Reference23Ideal.main_arg45) = m' ((c.tc : Thread Cert.Reference23Ideal.nD Cert.Reference23Ideal.τ).loc Cert.Reference23Ideal.main_arg45)
          ∧ r.2.mem ((c.tc : Thread Cert.Reference23Ideal.nD Cert.Reference23Ideal.τ).loc Cert.Reference23Ideal.main_arg46) = m' ((c.tc : Thread Cert.Reference23Ideal.nD Cert.Reference23Ideal.τ).loc Cert.Reference23Ideal.main_arg46)
          ∧ r.2.mem ((c.tc : Thread Cert.Reference23Ideal.nD Cert.Reference23Ideal.τ).loc Cert.Reference23Ideal.main_arg47) = m' ((c.tc : Thread Cert.Reference23Ideal.nD Cert.Reference23Ideal.τ).loc Cert.Reference23Ideal.main_arg47)
          ∧ r.2.mem ((c.tc : Thread Cert.Reference23Ideal.nD Cert.Reference23Ideal.τ).loc Cert.Reference23Ideal.main_arg48) = m' ((c.tc : Thread Cert.Reference23Ideal.nD Cert.Reference23Ideal.τ).loc Cert.Reference23Ideal.main_arg48)
          ∧ r.2.mem ((c.tc : Thread Cert.Reference23Ideal.nD Cert.Reference23Ideal.τ).loc Cert.Reference23Ideal.main_arg49) = m' ((c.tc : Thread Cert.Reference23Ideal.nD Cert.Reference23Ideal.τ).loc Cert.Reference23Ideal.main_arg49)
          ∧ r.2.mem ((c.tc : Thread Cert.Reference23Ideal.nD Cert.Reference23Ideal.τ).loc Cert.Reference23Ideal.main_arg50) = m' ((c.tc : Thread Cert.Reference23Ideal.nD Cert.Reference23Ideal.τ).loc Cert.Reference23Ideal.main_arg50)
          ∧ r.2.mem ((c.tc : Thread Cert.Reference23Ideal.nD Cert.Reference23Ideal.τ).loc Cert.Reference23Ideal.main_arg51) = m' ((c.tc : Thread Cert.Reference23Ideal.nD Cert.Reference23Ideal.τ).loc Cert.Reference23Ideal.main_arg51)
          ∧ r.2.mem ((c.tc : Thread Cert.Reference23Ideal.nD Cert.Reference23Ideal.τ).loc Cert.Reference23Ideal.main_arg52) = m' ((c.tc : Thread Cert.Reference23Ideal.nD Cert.Reference23Ideal.τ).loc Cert.Reference23Ideal.main_arg52)
          ∧ r.2.mem ((c.tc : Thread Cert.Reference23Ideal.nD Cert.Reference23Ideal.τ).loc Cert.Reference23Ideal.main_arg53) = m' ((c.tc : Thread Cert.Reference23Ideal.nD Cert.Reference23Ideal.τ).loc Cert.Reference23Ideal.main_arg53)
          ∧ r.2.mem ((c.tc : Thread Cert.Reference23Ideal.nD Cert.Reference23Ideal.τ).loc Cert.Reference23Ideal.main_arg54) = m' ((c.tc : Thread Cert.Reference23Ideal.nD Cert.Reference23Ideal.τ).loc Cert.Reference23Ideal.main_arg54)
          ∧ r.2.mem ((c.tc : Thread Cert.Reference23Ideal.nD Cert.Reference23Ideal.τ).loc Cert.Reference23Ideal.main_arg55) = m' ((c.tc : Thread Cert.Reference23Ideal.nD Cert.Reference23Ideal.τ).loc Cert.Reference23Ideal.main_arg55)
          ∧ r.2.mem ((c.tc : Thread Cert.Reference23Ideal.nD Cert.Reference23Ideal.τ).loc Cert.Reference23Ideal.main_arg56) = m' ((c.tc : Thread Cert.Reference23Ideal.nD Cert.Reference23Ideal.τ).loc Cert.Reference23Ideal.main_arg56)
          ∧ r.2.mem ((c.tc : Thread Cert.Reference23Ideal.nD Cert.Reference23Ideal.τ).loc Cert.Reference23Ideal.main_arg57) = m' ((c.tc : Thread Cert.Reference23Ideal.nD Cert.Reference23Ideal.τ).loc Cert.Reference23Ideal.main_arg57)
          ∧ r.2.mem ((c.tc : Thread Cert.Reference23Ideal.nD Cert.Reference23Ideal.τ).loc Cert.Reference23Ideal.main_arg58) = m' ((c.tc : Thread Cert.Reference23Ideal.nD Cert.Reference23Ideal.τ).loc Cert.Reference23Ideal.main_arg58)
          ∧ r.2.mem ((c.tc : Thread Cert.Reference23Ideal.nD Cert.Reference23Ideal.τ).loc Cert.Reference23Ideal.main_arg59) = m' ((c.tc : Thread Cert.Reference23Ideal.nD Cert.Reference23Ideal.τ).loc Cert.Reference23Ideal.main_arg59)
          ∧ r.2.mem ((c.tc : Thread Cert.Reference23Ideal.nD Cert.Reference23Ideal.τ).loc Cert.Reference23Ideal.main_arg60) = m' ((c.tc : Thread Cert.Reference23Ideal.nD Cert.Reference23Ideal.τ).loc Cert.Reference23Ideal.main_arg60)
          ∧ r.2.mem ((c.tc : Thread Cert.Reference23Ideal.nD Cert.Reference23Ideal.τ).loc Cert.Reference23Ideal.main_arg61) = m' ((c.tc : Thread Cert.Reference23Ideal.nD Cert.Reference23Ideal.τ).loc Cert.Reference23Ideal.main_arg61)
          ∧ r.2.mem ((c.tc : Thread Cert.Reference23Ideal.nD Cert.Reference23Ideal.τ).loc Cert.Reference23Ideal.main_arg62) = m' ((c.tc : Thread Cert.Reference23Ideal.nD Cert.Reference23Ideal.τ).loc Cert.Reference23Ideal.main_arg62)
          ∧ r.2.mem ((c.tc : Thread Cert.Reference23Ideal.nD Cert.Reference23Ideal.τ).loc Cert.Reference23Ideal.main_arg63) = m' ((c.tc : Thread Cert.Reference23Ideal.nD Cert.Reference23Ideal.τ).loc Cert.Reference23Ideal.main_arg63)
          ∧ r.2.mem ((c.tc : Thread Cert.Reference23Ideal.nD Cert.Reference23Ideal.τ).loc Cert.Reference23Ideal.main_arg64) = m' ((c.tc : Thread Cert.Reference23Ideal.nD Cert.Reference23Ideal.τ).loc Cert.Reference23Ideal.main_arg64)
          ∧ r.2.mem ((c.tc : Thread Cert.Reference23Ideal.nD Cert.Reference23Ideal.τ).loc Cert.Reference23Ideal.main_arg65) = m' ((c.tc : Thread Cert.Reference23Ideal.nD Cert.Reference23Ideal.τ).loc Cert.Reference23Ideal.main_arg65)
          ∧ r.2.mem ((c.tc : Thread Cert.Reference23Ideal.nD Cert.Reference23Ideal.τ).loc Cert.Reference23Ideal.main_arg66) = m' ((c.tc : Thread Cert.Reference23Ideal.nD Cert.Reference23Ideal.τ).loc Cert.Reference23Ideal.main_arg66)
          ∧ r.2.mem ((c.tc : Thread Cert.Reference23Ideal.nD Cert.Reference23Ideal.τ).loc Cert.Reference23Ideal.main_arg67) = m' ((c.tc : Thread Cert.Reference23Ideal.nD Cert.Reference23Ideal.τ).loc Cert.Reference23Ideal.main_arg67)
          ∧ r.2.mem ((c.tc : Thread Cert.Reference23Ideal.nD Cert.Reference23Ideal.τ).loc Cert.Reference23Ideal.main_arg68) = m' ((c.tc : Thread Cert.Reference23Ideal.nD Cert.Reference23Ideal.τ).loc Cert.Reference23Ideal.main_arg68)
          ∧ r.2.mem ((c.tc : Thread Cert.Reference23Ideal.nD Cert.Reference23Ideal.τ).loc Cert.Reference23Ideal.main_arg69) = m' ((c.tc : Thread Cert.Reference23Ideal.nD Cert.Reference23Ideal.τ).loc Cert.Reference23Ideal.main_arg69)
          ∧ r.2.mem ((c.tc : Thread Cert.Reference23Ideal.nD Cert.Reference23Ideal.τ).loc Cert.Reference23Ideal.main_arg70) = m' ((c.tc : Thread Cert.Reference23Ideal.nD Cert.Reference23Ideal.τ).loc Cert.Reference23Ideal.main_arg70)
          ∧ r.2.mem ((c.tc : Thread Cert.Reference23Ideal.nD Cert.Reference23Ideal.τ).loc Cert.Reference23Ideal.main_arg71) = m' ((c.tc : Thread Cert.Reference23Ideal.nD Cert.Reference23Ideal.τ).loc Cert.Reference23Ideal.main_arg71)
          ∧ r.2.mem ((c.tc : Thread Cert.Reference23Ideal.nD Cert.Reference23Ideal.τ).loc Cert.Reference23Ideal.main_arg72) = m' ((c.tc : Thread Cert.Reference23Ideal.nD Cert.Reference23Ideal.τ).loc Cert.Reference23Ideal.main_arg72)
          ∧ r.2.mem ((c.tc : Thread Cert.Reference23Ideal.nD Cert.Reference23Ideal.τ).loc Cert.Reference23Ideal.main_arg73) = m' ((c.tc : Thread Cert.Reference23Ideal.nD Cert.Reference23Ideal.τ).loc Cert.Reference23Ideal.main_arg73)
          ∧ r.2.mem ((c.tc : Thread Cert.Reference23Ideal.nD Cert.Reference23Ideal.τ).loc Cert.Reference23Ideal.main_arg74) = m' ((c.tc : Thread Cert.Reference23Ideal.nD Cert.Reference23Ideal.τ).loc Cert.Reference23Ideal.main_arg74)
          ∧ r.2.mem ((c.tc : Thread Cert.Reference23Ideal.nD Cert.Reference23Ideal.τ).loc Cert.Reference23Ideal.main_arg75) = m' ((c.tc : Thread Cert.Reference23Ideal.nD Cert.Reference23Ideal.τ).loc Cert.Reference23Ideal.main_arg75))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)) →
    ∃ (v0 : (c : Dev Cert.Kernel24Ideal.nD) → Buf (Elt Ideal) ((c.tc : Thread Cert.Kernel24Ideal.nD Cert.Kernel24Ideal.τ).loc Cert.Kernel24Ideal.main_v7_0)) (v1 : (c : Dev Cert.Kernel24Ideal.nD) → Buf (Elt Ideal) ((c.tc : Thread Cert.Kernel24Ideal.nD Cert.Kernel24Ideal.τ).loc Cert.Kernel24Ideal.main_v7_3)) (v2 : (c : Dev Cert.Kernel24Ideal.nD) → Buf (Elt Ideal) ((c.tc : Thread Cert.Kernel24Ideal.nD Cert.Kernel24Ideal.τ).loc Cert.Kernel24Ideal.main_v7_4)) (v3 : (c : Dev Cert.Kernel24Ideal.nD) → Buf (Elt Ideal) ((c.tc : Thread Cert.Kernel24Ideal.nD Cert.Kernel24Ideal.τ).loc Cert.Kernel24Ideal.main_v7_5)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v7_0) = v0 c
          ∧ r.2.mem ((c.tc : Thread Cert.Kernel24Ideal.nD Cert.Kernel24Ideal.τ).loc Cert.Kernel24Ideal.main_v7_3) = v1 c
          ∧ r.2.mem ((c.tc : Thread Cert.Kernel24Ideal.nD Cert.Kernel24Ideal.τ).loc Cert.Kernel24Ideal.main_v7_4) = v2 c
          ∧ r.2.mem ((c.tc : Thread Cert.Kernel24Ideal.nD Cert.Kernel24Ideal.τ).loc Cert.Kernel24Ideal.main_v7_5) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v103) = v0 c
          ∧ r.2.mem ((c.tc : Thread Cert.Reference24Ideal.nD Cert.Reference24Ideal.τ).loc Cert.Reference24Ideal.main_v104) = v1 c
          ∧ r.2.mem ((c.tc : Thread Cert.Reference24Ideal.nD Cert.Reference24Ideal.τ).loc Cert.Reference24Ideal.main_v105) = v2 c
          ∧ r.2.mem ((c.tc : Thread Cert.Reference24Ideal.nD Cert.Reference24Ideal.τ).loc Cert.Reference24Ideal.main_v106) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6))

def preserves_Kernel25_Kernel25Ideal : Prop :=
  True

def algebraic_Kernel25Ideal_Reference25Ideal_pre_finite_prep [hKernel25Ideal : Cert.Kernel25Ideal.Facts] [hReference25Ideal : Cert.Reference25Ideal.Facts] [hPre_finite_prep : Cert.Pre_finite_prep.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal_finite_prep m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v1_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1_1) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v126) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite : Cert.Pre_finite.Facts) (hPre_finite_prep : Cert.Pre_finite_prep.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Kernel25Ideal_pre_finite_prep (hKernel25Ideal := hKernel25Ideal) (hPre_finite_prep := hPre_finite_prep)
    ∧ quiescent_Reference25Ideal (hReference25Ideal := hReference25Ideal)
    ∧ quiescent_Reference25Ideal_pre_finite_prep (hReference25Ideal := hReference25Ideal) (hPre_finite_prep := hPre_finite_prep)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal_pre_finite_prep (hKernel25Ideal := hKernel25Ideal) (hReference25Ideal := hReference25Ideal) (hPre_finite_prep := hPre_finite_prep)
-- ==== Pre_finite.lean ====
abbrev S4x2048x1024 : Shape := ⟨3, ![4, 2048, 1024]⟩
abbrev S2816x1024 : Shape := ⟨2, ![2816, 1024]⟩
abbrev S4x2048x2816 : Shape := ⟨3, ![4, 2048, 2816]⟩
abbrev S3x2816 : Shape := ⟨2, ![3, 2816]⟩
abbrev S2816 : Shape := ⟨1, ![2816]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4x2048x2816 : S_.BroadcastsInDim S4x2048x2816 (![] : Fin 0 → Fin S4x2048x2816.rank)
  reducesTo_S4x2048x2816_S_d0_1_2 : S4x2048x2816.ReducesTo [0, 1, 2] S_
  bcast_S_S3x2816 : S_.BroadcastsInDim S3x2816 (![] : Fin 0 → Fin S3x2816.rank)
  reducesTo_S3x2816_S_d0_1 : S3x2816.ReducesTo [0, 1] S_
  bcast_S_S2816 : S_.BroadcastsInDim S2816 (![] : Fin 0 → Fin S2816.rank)
  reducesTo_S2816_S_d0 : S2816.ReducesTo [0] S_

variable [Facts]

def fn_part1 {F : FTy → Type} [FloatOps F] (main_arg4 : FVec F S3x2816 .f32) (main_arg5 : FVec F S2816 .f32) (main_v13 : IVec S_ 1) (main_v16 : IVec S4x2048x2816 1) : IVec S_ 1 :=
  let main_c_5 : IVec S_ 1 := constantI S_ 1 1#1
  let main_v17 : IVec S_ 1 := (fun x v => Host.reduce IntOp.andi x v reducesTo_S4x2048x2816_S_d0_1_2 h_S_) main_v16 main_c_5
  let main_v18 : IVec S_ 1 := andi main_v13 main_v17
  let main_v19 : FVec F S3x2816 .f32 := Host.absf main_arg4
  let main_cst_6 : FVec F S_ .f32 := constant S_ .f32 0x7F61B1E6#32
  let main_v20 : FVec F S3x2816 .f32 := broadcastInDim S3x2816 ![] bcast_S_S3x2816 main_cst_6
  let main_v21 : IVec S3x2816 1 := cmpf .ole main_v19 main_v20
  let main_c_7 : IVec S_ 1 := constantI S_ 1 1#1
  let main_v22 : IVec S_ 1 := (fun x v => Host.reduce IntOp.andi x v reducesTo_S3x2816_S_d0_1 h_S_) main_v21 main_c_7
  let main_v23 : IVec S_ 1 := andi main_v18 main_v22
  let main_v24 : FVec F S2816 .f32 := Host.absf main_arg5
  let main_cst_8 : FVec F S_ .f32 := constant S_ .f32 0x7F61B1E6#32
  let main_v25 : FVec F S2816 .f32 := broadcastInDim S2816 ![] bcast_S_S2816 main_cst_8
  let main_v26 : IVec S2816 1 := cmpf .ole main_v24 main_v25
  let main_c_9 : IVec S_ 1 := constantI S_ 1 1#1
  let main_v27 : IVec S_ 1 := (fun x v => Host.reduce IntOp.andi x v reducesTo_S2816_S_d0 h_S_) main_v26 main_c_9
  let main_v28 : IVec S_ 1 := andi main_v23 main_v27
  main_v28

def fn {F : FTy → Type} [FloatOps F] (main_arg0 : FVec F S4x2048x1024 .f32) (main_arg1 : FVec F S2816x1024 .f32) (main_arg2 : FVec F S4x2048x2816 .f32) (main_arg3 : FVec F S4x2048x2816 .f32) (main_arg4 : FVec F S3x2816 .f32) (main_arg5 : FVec F S2816 .f32) : IVec S_ 1 :=
  let main_v0 : FVec F S4x2048x1024 .f32 := Host.absf main_arg0
  let main_cst : FVec F S_ .f32 := constant S_ .f32 0x7F61B1E6#32
  let main_v1 : FVec F S4x2048x1024 .f32 := broadcastInDim S4x2048x1024 ![] bcast_S_S4x2048x1024 main_cst
  let main_v2 : IVec S4x2048x1024 1 := cmpf .ole main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S2816x1024 .f32 := Host.absf main_arg1
  let main_cst_0 : FVec F S_ .f32 := constant S_ .f32 0x7F61B1E6#32
  let main_v5 : FVec F S2816x1024 .f32 := broadcastInDim S2816x1024 ![] bcast_S_S2816x1024 main_cst_0
  let main_v6 : IVec S2816x1024 1 := cmpf .ole main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S4x2048x2816 .f32 := Host.absf main_arg2
  let main_cst_2 : FVec F S_ .f32 := constant S_ .f32 0x7F61B1E6#32
  let main_v10 : FVec F S4x2048x2816 .f32 := broadcastInDim S4x2048x2816 ![] bcast_S_S4x2048x2816 main_cst_2
  let main_v11 : IVec S4x2048x2816 1 := cmpf .ole main_v9 main_v10
  let main_c_3 : IVec S_ 1 := constantI S_ 1 1#1
  let main_v12 : IVec S_ 1 := (fun x v => Host.reduce IntOp.andi x v reducesTo_S4x2048x2816_S_d0_1_2 h_S_) main_v11 main_c_3
  let main_v13 : IVec S_ 1 := andi main_v8 main_v12
  let main_v14 : FVec F S4x2048x2816 .f32 := Host.absf main_arg3
  let main_cst_4 : FVec F S_ .f32 := constant S_ .f32 0x7F61B1E6#32
  let main_v15 : FVec F S4x2048x2816 .f32 := broadcastInDim S4x2048x2816 ![] bcast_S_S4x2048x2816 main_cst_4
  let main_v16 : IVec S4x2048x2816 1 := cmpf .ole main_v14 main_v15
  fn_part1 (F := F) main_arg4 main_arg5 main_v13 main_v16
-- ==== Pre_finite_prep.lean ====
abbrev S3x8192x512 : Shape := ⟨3, ![3, 8192, 512]⟩
abbrev S4x2048x3200 : Shape := ⟨3, ![4, 2048, 3200]⟩
abbrev S4x1536 : Shape := ⟨2, ![4, 1536]⟩
abbrev S_ : Shape := ⟨0, ![]⟩

class Facts : Prop where
  bcast_S_S3x8192x512 : S_.BroadcastsInDim S3x8192x512 (![] : Fin 0 → Fin S3x8192x512.rank)
  reducesTo_S3x8192x512_S_d0_1_2 : S3x8192x512.ReducesTo [0, 1, 2] S_
  h_S_ : 0 < S_.numel
  bcast_S_S4x2048x3200 : S_.BroadcastsInDim S4x2048x3200 (![] : Fin 0 → Fin S4x2048x3200.rank)
  reducesTo_S4x2048x3200_S_d0_1_2 : S4x2048x3200.ReducesTo [0, 1, 2] S_
  bcast_S_S4x1536 : S_.BroadcastsInDim S4x1536 (![] : Fin 0 → Fin S4x1536.rank)
  reducesTo_S4x1536_S_d0_1 : S4x1536.ReducesTo [0, 1] S_

variable [Facts]

def fn {F : FTy → Type} [FloatOps F] (main_arg0 : FVec F S3x8192x512 .f32) (main_arg1 : FVec F S4x2048x3200 .f32) (main_arg2 : FVec F S4x1536 .f32) : IVec S_ 1 :=
  let main_v0 : FVec F S3x8192x512 .f32 := Host.absf main_arg0
  let main_cst : FVec F S_ .f32 := constant S_ .f32 0x7F61B1E6#32
  let main_v1 : FVec F S3x8192x512 .f32 := broadcastInDim S3x8192x512 ![] bcast_S_S3x8192x512 main_cst
  let main_v2 : IVec S3x8192x512 1 := cmpf .ole main_v0 main_v1
  let main_c : IVec S_ 1 := constantI S_ 1 1#1
  let main_v3 : IVec S_ 1 := (fun x v => Host.reduce IntOp.andi x v reducesTo_S3x8192x512_S_d0_1_2 h_S_) main_v2 main_c
  let main_v4 : FVec F S4x2048x3200 .f32 := Host.absf main_arg1
  let main_cst_0 : FVec F S_ .f32 := constant S_ .f32 0x7F61B1E6#32
  let main_v5 : FVec F S4x2048x3200 .f32 := broadcastInDim S4x2048x3200 ![] bcast_S_S4x2048x3200 main_cst_0
  let main_v6 : IVec S4x2048x3200 1 := cmpf .ole main_v4 main_v5
  let main_c_1 : IVec S_ 1 := constantI S_ 1 1#1
  let main_v7 : IVec S_ 1 := (fun x v => Host.reduce IntOp.andi x v reducesTo_S4x2048x3200_S_d0_1_2 h_S_) main_v6 main_c_1
  let main_v8 : IVec S_ 1 := andi main_v3 main_v7
  let main_v9 : FVec F S4x1536 .f32 := Host.absf main_arg2
  let main_cst_2 : FVec F S_ .f32 := constant S_ .f32 0x7F61B1E6#32
  let main_v10 : FVec F S4x1536 .f32 := broadcastInDim S4x1536 ![] bcast_S_S4x1536 main_cst_2
  let main_v11 : IVec S4x1536 1 := cmpf .ole main_v9 main_v10
  let main_c_3 : IVec S_ 1 := constantI S_ 1 1#1
  let main_v12 : IVec S_ 1 := (fun x v => Host.reduce IntOp.andi x v reducesTo_S4x1536_S_d0_1 h_S_) main_v11 main_c_3
  let main_v13 : IVec S_ 1 := andi main_v8 main_v12
  main_v13
-- ==== Kernel.lean ====
abbrev S4x2048x1024 : Shape := ⟨3, ![4, 2048, 1024]⟩
abbrev S2816x1024 : Shape := ⟨2, ![2816, 1024]⟩
abbrev S4x2048x2816 : Shape := ⟨3, ![4, 2048, 2816]⟩
abbrev S3x2816 : Shape := ⟨2, ![3, 2816]⟩
abbrev S2816 : Shape := ⟨1, ![2816]⟩
abbrev S8192x1024 : Shape := ⟨2, ![8192, 1024]⟩
abbrev S8192x2816 : Shape := ⟨2, ![8192, 2816]⟩
abbrev S1x2816 : Shape := ⟨2, ![1, 2816]⟩
abbrev S2048x1024 : Shape := ⟨2, ![2048, 1024]⟩
abbrev S256x1024 : Shape := ⟨2, ![256, 1024]⟩
abbrev S2048x256 : Shape := ⟨2, ![2048, 256]⟩
abbrev S3x256 : Shape := ⟨2, ![3, 256]⟩
abbrev S1x256 : Shape := ⟨2, ![1, 256]⟩
abbrev S256 : Shape := ⟨1, ![256]⟩

abbrev nBuf : Space → Nat
  | .hbm => 17
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S2816x1024, .f32⟩
  | .hbm, ⟨2, _⟩ => ⟨S4x2048x2816, .f32⟩
  | .hbm, ⟨3, _⟩ => ⟨S4x2048x2816, .f32⟩
  | .hbm, ⟨4, _⟩ => ⟨S3x2816, .f32⟩
  | .hbm, ⟨5, _⟩ => ⟨S2816, .f32⟩
  | .hbm, ⟨6, _⟩ => ⟨S8192x1024, .f32⟩
  | .hbm, ⟨7, _⟩ => ⟨S8192x1024, .bf16⟩
  | .hbm, ⟨8, _⟩ => ⟨S2816x1024, .bf16⟩
  | .hbm, ⟨9, _⟩ => ⟨S8192x2816, .f32⟩
  | .hbm, ⟨10, _⟩ => ⟨S8192x2816, .f32⟩
  | .hbm, ⟨11, _⟩ => ⟨S1x2816, .f32⟩
  | .hbm, ⟨12, _⟩ => ⟨S8192x2816, .bf16⟩
  | .hbm, ⟨13, _⟩ => ⟨S8192x2816, .bf16⟩
  | .hbm, ⟨14, _⟩ => ⟨S2816x1024, .f32⟩
  | .hbm, ⟨15, _⟩ => ⟨S3x2816, .f32⟩
  | .hbm, ⟨16, _⟩ => ⟨S1x2816, .f32⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S256x1024, .f32⟩
  | .local _ .vmem, ⟨17, _⟩ => ⟨S256x1024, .f32⟩
  | .local _ .vmem, ⟨18, _⟩ => ⟨S3x256, .f32⟩
  | .local _ .vmem, ⟨19, _⟩ => ⟨S3x256, .f32⟩
  | .local _ .vmem, ⟨20, _⟩ => ⟨S1x256, .f32⟩
  | .local _ .vmem, ⟨21, _⟩ => ⟨S1x256, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
abbrev S4x2048x1024 : Shape := ⟨3, ![4, 2048, 1024]⟩
abbrev S2816x1024 : Shape := ⟨2, ![2816, 1024]⟩
abbrev S4x2048x2816 : Shape := ⟨3, ![4, 2048, 2816]⟩
abbrev S3x2816 : Shape := ⟨2, ![3, 2816]⟩
abbrev S2816 : Shape := ⟨1, ![2816]⟩
abbrev S8192x1024 : Shape := ⟨2, ![8192, 1024]⟩
abbrev S8192x2816 : Shape := ⟨2, ![8192, 2816]⟩
abbrev S1x2816 : Shape := ⟨2, ![1, 2816]⟩
abbrev S2048x1024 : Shape := ⟨2, ![2048, 1024]⟩
abbrev S256x1024 : Shape := ⟨2, ![256, 1024]⟩
abbrev S2048x256 : Shape := ⟨2, ![2048, 256]⟩
abbrev S3x256 : Shape := ⟨2, ![3, 256]⟩
abbrev S1x256 : Shape := ⟨2, ![1, 256]⟩
abbrev S256 : Shape := ⟨1, ![256]⟩

abbrev nBuf : Space → Nat
  | .hbm => 17
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S2816x1024, .f32⟩
  | .hbm, ⟨2, _⟩ => ⟨S4x2048x2816, .f32⟩
  | .hbm, ⟨3, _⟩ => ⟨S4x2048x2816, .f32⟩
  | .hbm, ⟨4, _⟩ => ⟨S3x2816, .f32⟩
  | .hbm, ⟨5, _⟩ => ⟨S2816, .f32⟩
  | .hbm, ⟨6, _⟩ => ⟨S8192x1024, .f32⟩
  | .hbm, ⟨7, _⟩ => ⟨S8192x1024, .bf16⟩
  | .hbm, ⟨8, _⟩ => ⟨S2816x1024, .bf16⟩
  | .hbm, ⟨9, _⟩ => ⟨S8192x2816, .f32⟩
  | .hbm, ⟨10, _⟩ => ⟨S8192x2816, .f32⟩
  | .hbm, ⟨11, _⟩ => ⟨S1x2816, .f32⟩
  | .hbm, ⟨12, _⟩ => ⟨S8192x2816, .bf16⟩
  | .hbm, ⟨13, _⟩ => ⟨S8192x2816, .bf16⟩
  | .hbm, ⟨14, _⟩ => ⟨S2816x1024, .f32⟩
  | .hbm, ⟨15, _⟩ => ⟨S3x2816, .f32⟩
  | .hbm, ⟨16, _⟩ => ⟨S1x2816, .f32⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S256x1024, .f32⟩
  | .local _ .vmem, ⟨17, _⟩ => ⟨S256x1024, .f32⟩
  | .local _ .vmem, ⟨18, _⟩ => ⟨S3x256, .f32⟩
  | .local _ .vmem, ⟨19, _⟩ => ⟨S3x256, .f32⟩
  | .local _ .vmem, ⟨20, _⟩ => ⟨S1x256, .f32⟩
  | .local _ .vmem, ⟨21, _⟩ => ⟨S1x256, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F] [Named F]

def κ : String → Option EReal := fun
  | "gelu_cubic" => some ((8943 / 200000 : ℝ) : EReal)
  | "gelu_cubic3" => some ((26829 / 200000 : ℝ) : EReal)
  | _ => none

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S4x2048x1024 : Shape := ⟨3, ![4, 2048, 1024]⟩
abbrev S2816x1024 : Shape := ⟨2, ![2816, 1024]⟩
abbrev S4x2048x2816 : Shape := ⟨3, ![4, 2048, 2816]⟩
abbrev S3x2816 : Shape := ⟨2, ![3, 2816]⟩
abbrev S2816 : Shape := ⟨1, ![2816]⟩
abbrev S_ : Shape := ⟨0, ![]⟩
abbrev S4x1x2816 : Shape := ⟨3, ![4, 1, 2816]⟩
abbrev S4x2050x2816 : Shape := ⟨3, ![4, 2050, 2816]⟩
abbrev S1x2816 : Shape := ⟨2, ![1, 2816]⟩
abbrev S1x1x2816 : Shape := ⟨3, ![1, 1, 2816]⟩
abbrev S1024x2816 : Shape := ⟨2, ![1024, 2816]⟩
abbrev S8192x2816 : Shape := ⟨2, ![8192, 2816]⟩

abbrev nBuf : Space → Nat
  | .hbm => 145
  | .vmem => 0
  | .smem => 0
  | _ => 0

abbrev hbmTy0_0 (i : Nat) : BufTy := match i % 128 with
  | 0 => ⟨S4x2048x1024, .f32⟩
  | 1 => ⟨S2816x1024, .f32⟩
  | 2 => ⟨S4x2048x2816, .f32⟩
  | 3 => ⟨S4x2048x2816, .f32⟩
  | 4 => ⟨S3x2816, .f32⟩
  | 5 => ⟨S2816, .f32⟩
  | 6 => ⟨S_, .f32⟩
  | 7 => ⟨S4x1x2816, .f32⟩
  | 8 => ⟨S_, .f32⟩
  | 9 => ⟨S4x1x2816, .f32⟩
  | 10 => ⟨S4x2050x2816, .f32⟩
  | 11 => ⟨S_, .f32⟩
  | 12 => ⟨S4x1x2816, .f32⟩
  | 13 => ⟨S_, .f32⟩
  | 14 => ⟨S4x1x2816, .f32⟩
  | 15 => ⟨S4x2048x2816, .f32⟩
  | 16 => ⟨S1x2816, .f32⟩
  | 17 => ⟨S2816, .f32⟩
  | 18 => ⟨S1x1x2816, .f32⟩
  | 19 => ⟨S4x2048x2816, .f32⟩
  | 20 => ⟨S4x2048x2816, .f32⟩
  | 21 => ⟨S4x2048x2816, .f32⟩
  | 22 => ⟨S1x2816, .f32⟩
  | 23 => ⟨S2816, .f32⟩
  | 24 => ⟨S1x1x2816, .f32⟩
  | 25 => ⟨S4x2048x2816, .f32⟩
  | 26 => ⟨S4x2048x2816, .f32⟩
  | 27 => ⟨S4x2048x2816, .f32⟩
  | 28 => ⟨S4x2048x2816, .f32⟩
  | 29 => ⟨S1x2816, .f32⟩
  | 30 => ⟨S2816, .f32⟩
  | 31 => ⟨S1x1x2816, .f32⟩
  | 32 => ⟨S4x2048x2816, .f32⟩
  | 33 => ⟨S4x2048x2816, .f32⟩
  | 34 => ⟨S4x2048x2816, .f32⟩
  | 35 => ⟨S1x1x2816, .f32⟩
  | 36 => ⟨S4x2048x2816, .f32⟩
  | 37 => ⟨S4x2048x2816, .f32⟩
  | 38 => ⟨S_, .f32⟩
  | 39 => ⟨S_, .f32⟩
  | 40 => ⟨S_, .f32⟩
  | 41 => ⟨S4x2048x2816, .f32⟩
  | 42 => ⟨S4x2048x2816, .f32⟩
  | 43 => ⟨S4x2048x2816, .f32⟩
  | 44 => ⟨S_, .f32⟩
  | 45 => ⟨S4x2048x2816, .f32⟩
  | 46 => ⟨S4x2048x2816, .f32⟩
  | 47 => ⟨S4x2048x2816, .f32⟩
  | 48 => ⟨S4x2048x2816, .f32⟩
  | 49 => ⟨S4x2048x2816, .f32⟩
  | 50 => ⟨S_, .f32⟩
  | 51 => ⟨S4x2048x2816, .f32⟩
  | 52 => ⟨S4x2048x2816, .f32⟩
  | 53 => ⟨S4x2048x2816, .f32⟩
  | 54 => ⟨S_, .f32⟩
  | 55 => ⟨S4x2048x2816, .f32⟩
  | 56 => ⟨S4x2048x2816, .f32⟩
  | 57 => ⟨S_, .f32⟩
  | 58 => ⟨S4x2048x2816, .f32⟩
  | 59 => ⟨S4x2048x2816, .f32⟩
  | 60 => ⟨S4x2048x2816, .f32⟩
  | 61 => ⟨S_, .f32⟩
  | 62 => ⟨S4x2048x2816, .f32⟩
  | 63 => ⟨S4x2048x2816, .f32⟩
  | 64 => ⟨S_, .f32⟩
  | 65 => ⟨S4x2048x2816, .f32⟩
  | 66 => ⟨S4x2048x2816, .f32⟩
  | 67 => ⟨S4x2048x2816, .f32⟩
  | 68 => ⟨S4x2048x2816, .f32⟩
  | 69 => ⟨S4x2048x1024, .f32⟩
  | 70 => ⟨S1024x2816, .f32⟩
  | 71 => ⟨S2816x1024, .f32⟩
  | 72 => ⟨S4x2048x2816, .f32⟩
  | 73 => ⟨S4x2048x2816, .f32⟩
  | 74 => ⟨S4x2048x2816, .f32⟩
  | 75 => ⟨S4x2048x2816, .f32⟩
  | 76 => ⟨S4x2048x2816, .f32⟩
  | 77 => ⟨S_, .f32⟩
  | 78 => ⟨S4x2048x2816, .f32⟩
  | 79 => ⟨S4x2048x2816, .f32⟩
  | 80 => ⟨S4x2048x2816, .f32⟩
  | 81 => ⟨S_, .f32⟩
  | 82 => ⟨S4x2048x2816, .f32⟩
  | 83 => ⟨S4x2048x2816, .f32⟩
  | 84 => ⟨S4x2048x2816, .f32⟩
  | 85 => ⟨S4x2048x2816, .f32⟩
  | 86 => ⟨S4x2048x2816, .f32⟩
  | 87 => ⟨S4x2048x2816, .f32⟩
  | 88 => ⟨S4x2048x2816, .f32⟩
  | 89 => ⟨S_, .f32⟩
  | 90 => ⟨S2816, .f32⟩
  | 91 => ⟨S1x1x2816, .f32⟩
  | 92 => ⟨S_, .f32⟩
  | 93 => ⟨S2816, .f32⟩
  | 94 => ⟨S4x2048x2816, .f32⟩
  | 95 => ⟨S_, .f32⟩
  | 96 => ⟨S2816, .f32⟩
  | 97 => ⟨S1x1x2816, .f32⟩
  | 98 => ⟨S4x2048x2816, .f32⟩
  | 99 => ⟨S4x2048x2816, .f32⟩
  | 100 => ⟨S_, .f32⟩
  | 101 => ⟨S2816, .f32⟩
  | 102 => ⟨S1x2816, .f32⟩
  | 103 => ⟨S_, .f32⟩
  | 104 => ⟨S3x2816, .f32⟩
  | 105 => ⟨S_, .f32⟩
  | 106 => ⟨S4x2050x2816, .f32⟩
  | 107 => ⟨S4x2048x2816, .f32⟩
  | 108 => ⟨S_, .f32⟩
  | 109 => ⟨S2816, .f32⟩
  | 110 => ⟨S1x1x2816, .f32⟩
  | 111 => ⟨S4x2048x2816, .f32⟩
  | 112 => ⟨S4x2048x2816, .f32⟩
  | 113 => ⟨S_, .f32⟩
  | 114 => ⟨S2816, .f32⟩
  | 115 => ⟨S1x2816, .f32⟩
  | 116 => ⟨S_, .f32⟩
  | 117 => ⟨S3x2816, .f32⟩
  | 118 => ⟨S3x2816, .f32⟩
  | 119 => ⟨S_, .f32⟩
  | 120 => ⟨S4x2050x2816, .f32⟩
  | 121 => ⟨S4x2050x2816, .f32⟩
  | 122 => ⟨S4x2048x2816, .f32⟩
  | 123 => ⟨S_, .f32⟩
  | 124 => ⟨S2816, .f32⟩
  | 125 => ⟨S1x1x2816, .f32⟩
  | 126 => ⟨S4x2048x2816, .f32⟩
  | 127 => ⟨S4x2048x2816, .f32⟩
  | _ => ⟨S4x2048x1024, .f32⟩

abbrev hbmTy0_1 (i : Nat) : BufTy := match i % 128 with
  | 0 => ⟨S_, .f32⟩
  | 1 => ⟨S2816, .f32⟩
  | 2 => ⟨S1x2816, .f32⟩
  | 3 => ⟨S_, .f32⟩
  | 4 => ⟨S3x2816, .f32⟩
  | 5 => ⟨S3x2816, .f32⟩
  | 6 => ⟨S_, .f32⟩
  | 7 => ⟨S4x2050x2816, .f32⟩
  | 8 => ⟨S4x2050x2816, .f32⟩
  | 9 => ⟨S4x1x2816, .f32⟩
  | 10 => ⟨S4x2048x2816, .f32⟩
  | 11 => ⟨S4x1x2816, .f32⟩
  | 12 => ⟨S8192x2816, .f32⟩
  | 13 => ⟨S8192x2816, .bf16⟩
  | 14 => ⟨S8192x2816, .f32⟩
  | 15 => ⟨S8192x2816, .bf16⟩
  | 16 => ⟨S1x2816, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_11 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_12 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_13 : Ref sig .tc := ⟨.hbm, 89, rfl⟩
abbrev main_v69 : Ref sig .tc := ⟨.hbm, 90, rfl⟩
abbrev main_v70 : Ref sig .tc := ⟨.hbm, 91, rfl⟩
abbrev main_cst_14 : Ref sig .tc := ⟨.hbm, 92, rfl⟩
abbrev main_v71 : Ref sig .tc := ⟨.hbm, 93, rfl⟩
abbrev main_v72 : Ref sig .tc := ⟨.hbm, 94, rfl⟩
abbrev main_cst_15 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_16 : Ref sig .tc := ⟨.hbm, 100, rfl⟩
abbrev main_v77 : Ref sig .tc := ⟨.hbm, 101, rfl⟩
abbrev main_v78 : Ref sig .tc := ⟨.hbm, 102, rfl⟩
abbrev main_cst_17 : Ref sig .tc := ⟨.hbm, 103, rfl⟩
abbrev main_v79 : Ref sig .tc := ⟨.hbm, 104, rfl⟩
abbrev main_cst_18 : Ref sig .tc := ⟨.hbm, 105, rfl⟩
abbrev main_v80 : Ref sig .tc := ⟨.hbm, 106, rfl⟩
abbrev main_v81 : Ref sig .tc := ⟨.hbm, 107, rfl⟩
abbrev main_cst_19 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_20 : Ref sig .tc := ⟨.hbm, 113, rfl⟩
abbrev main_v86 : Ref sig .tc := ⟨.hbm, 114, rfl⟩
abbrev main_v87 : Ref sig .tc := ⟨.hbm, 115, rfl⟩
abbrev main_cst_21 : Ref sig .tc := ⟨.hbm, 116, rfl⟩
abbrev main_v88 : Ref sig .tc := ⟨.hbm, 117, rfl⟩
abbrev main_v89 : Ref sig .tc := ⟨.hbm, 118, rfl⟩
abbrev main_cst_22 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_23 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_24 : Ref sig .tc := ⟨.hbm, 128, rfl⟩
abbrev main_v97 : Ref sig .tc := ⟨.hbm, 129, rfl⟩
abbrev main_v98 : Ref sig .tc := ⟨.hbm, 130, rfl⟩
abbrev main_cst_25 : Ref sig .tc := ⟨.hbm, 131, rfl⟩
abbrev main_v99 : Ref sig .tc := ⟨.hbm, 132, rfl⟩
abbrev main_v100 : Ref sig .tc := ⟨.hbm, 133, rfl⟩
abbrev main_cst_26 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩

abbrev nD : Nat := 1
abbrev τ : Topo := Topo.v7x

variable {F : FTy → Type} [FloatOps F]
-- ==== Kernel2.lean ====
abbrev S4x2048x2816 : Shape := ⟨3, ![4, 2048, 2816]⟩
abbrev S4x2048x1024 : Shape := ⟨3, ![4, 2048, 1024]⟩
abbrev S1024 : Shape := ⟨1, ![1024]⟩
abbrev S1024x2816 : Shape := ⟨2, ![1024, 2816]⟩
abbrev S8192x2816 : Shape := ⟨2, ![8192, 2816]⟩
abbrev S8192x1024 : Shape := ⟨2, ![8192, 1024]⟩
abbrev S1x1024 : Shape := ⟨2, ![1, 1024]⟩
abbrev S2816x1024 : Shape := ⟨2, ![2816, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 20
  | .vmem => 14
  | .smem => 0
  | _ => 0

abbrev bufTy : (tb : Table) → Fin (tcTables nBuf tb) → BufTy
  | .hbm, ⟨0, _⟩ => ⟨S4x2048x2816, .f32⟩
  | .hbm, ⟨1, _⟩ => ⟨S4x2048x2816, .f32⟩
  | .hbm, ⟨2, _⟩ => ⟨S4x2048x1024, .f32⟩
  | .hbm, ⟨3, _⟩ => ⟨S4x2048x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S8192x2816, .f32⟩
  | .hbm, ⟨8, _⟩ => ⟨S8192x2816, .bf16⟩
  | .hbm, ⟨9, _⟩ => ⟨S8192x2816, .f32⟩
  | .hbm, ⟨10, _⟩ => ⟨S8192x2816, .bf16⟩
  | .hbm, ⟨11, _⟩ => ⟨S8192x1024, .f32⟩
  | .hbm, ⟨12, _⟩ => ⟨S8192x1024, .f32⟩
  | .hbm, ⟨13, _⟩ => ⟨S1x1024, .f32⟩
  | .hbm, ⟨14, _⟩ => ⟨S2816x1024, .f32⟩
  | .hbm, ⟨15, _⟩ => ⟨S2816x1024, .bf16⟩
  | .hbm, ⟨16, _⟩ => ⟨S2816x1024, .f32⟩
  | .hbm, ⟨17, _⟩ => ⟨S2816x1024, .bf16⟩
  | .hbm, ⟨18, _⟩ => ⟨S8192x1024, .f32⟩
  | .hbm, ⟨19, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S2816x1024, .bf16⟩
  | .local _ .vmem, ⟨10, _⟩ => ⟨S2816x1024, .bf16⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S4x2048x2816 : Shape := ⟨3, ![4, 2048, 2816]⟩
abbrev S4x2048x1024 : Shape := ⟨3, ![4, 2048, 1024]⟩
abbrev S1024 : Shape := ⟨1, ![1024]⟩
abbrev S1024x2816 : Shape := ⟨2, ![1024, 2816]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4x2048x2816, .f32⟩
  | .hbm, ⟨1, _⟩ => ⟨S4x2048x2816, .f32⟩
  | .hbm, ⟨2, _⟩ => ⟨S4x2048x1024, .f32⟩
  | .hbm, ⟨3, _⟩ => ⟨S4x2048x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S4x2048x1024, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x1024, .f32⟩
  | .hbm, ⟨23, _⟩ => ⟨S4x2048x1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x2048x2816, .f32⟩
  | .hbm, ⟨28, _⟩ => ⟨S4x2048x2816, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S4x2048x1024, .f32⟩
  | .hbm, ⟨33, _⟩ => ⟨S_, .f32⟩
  | .hbm, ⟨34, _⟩ => ⟨S1024, .f32⟩
  | .hbm, ⟨35, _⟩ => ⟨S1x1x1024, .f32⟩
  | .hbm, ⟨36, _⟩ => ⟨S4x2048x1024, .f32⟩
  | .hbm, ⟨37, _⟩ => ⟨S4x2048x1024, .f32⟩
  | .hbm, ⟨38, _⟩ => ⟨S_, .f32⟩
  | .hbm, ⟨39, _⟩ => ⟨S1024, .f32⟩
  | .hbm, ⟨40, _⟩ => ⟨S4x2048x1024, .f32⟩
  | .hbm, ⟨41, _⟩ => ⟨S_, .f32⟩
  | .hbm, ⟨42, _⟩ => ⟨S4x2048, .f32⟩
  | .hbm, ⟨43, _⟩ => ⟨S4x2048x1, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S4x2048x1, .f32⟩
  | .hbm, ⟨48, _⟩ => ⟨S_, .f32⟩
  | .hbm, ⟨49, _⟩ => ⟨S4x2048x1, .f32⟩
  | .hbm, ⟨50, _⟩ => ⟨S4x2048x1, .f32⟩
  | .hbm, ⟨51, _⟩ => ⟨S_, .f32⟩
  | .hbm, ⟨52, _⟩ => ⟨S4x2048, .f32⟩
  | .hbm, ⟨53, _⟩ => ⟨S4x2048x1024, .f32⟩
  | .hbm, ⟨54, _⟩ => ⟨S4x2048x1024, .f32⟩
  | .hbm, ⟨55, _⟩ => ⟨S4x2048x1024, .f32⟩
  | .hbm, ⟨56, _⟩ => ⟨S4x2048x1024, .f32⟩
  | .hbm, ⟨57, _⟩ => ⟨S4x2048x1024, .f32⟩
  | .hbm, ⟨58, _⟩ => ⟨S8192x1024, .f32⟩
  | .hbm, ⟨59, _⟩ => ⟨S1x1024, .f32⟩
  | _, _ => ⟨S4x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Kernel3.lean ====
abbrev S4x2048x2816 : Shape := ⟨3, ![4, 2048, 2816]⟩
abbrev S4x2048x1024 : Shape := ⟨3, ![4, 2048, 1024]⟩
abbrev S1024 : Shape := ⟨1, ![1024]⟩
abbrev S8192x2816 : Shape := ⟨2, ![8192, 2816]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 24
  | .vmem => 6
  | .smem => 0
  | _ => 0

abbrev bufTy : (tb : Table) → Fin (tcTables nBuf tb) → BufTy
  | .hbm, ⟨0, _⟩ => ⟨S4x2048x2816, .f32⟩
  | .hbm, ⟨1, _⟩ => ⟨S4x2048x1024, .f32⟩
  | .hbm, ⟨2, _⟩ => ⟨S1024, .f32⟩
  | .hbm, ⟨3, _⟩ => ⟨S8192x2816, .f32⟩
  | .hbm, ⟨4, _⟩ => ⟨S8192x2816, .bf16⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S8192x1024, .f32⟩
  | .hbm, ⟨22, _⟩ => ⟨S8192x1024, .bf16⟩
  | .hbm, ⟨23, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Kernel3Ideal.lean ====
abbrev S4x2048x2816 : Shape := ⟨3, ![4, 2048, 2816]⟩
abbrev S4x2048x1024 : Shape := ⟨3, ![4, 2048, 1024]⟩
abbrev S1024 : Shape := ⟨1, ![1024]⟩
abbrev S8192x2816 : Shape := ⟨2, ![8192, 2816]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 24
  | .vmem => 6
  | .smem => 0
  | _ => 0

abbrev bufTy : (tb : Table) → Fin (tcTables nBuf tb) → BufTy
  | .hbm, ⟨0, _⟩ => ⟨S4x2048x2816, .f32⟩
  | .hbm, ⟨1, _⟩ => ⟨S4x2048x1024, .f32⟩
  | .hbm, ⟨2, _⟩ => ⟨S1024, .f32⟩
  | .hbm, ⟨3, _⟩ => ⟨S8192x2816, .f32⟩
  | .hbm, ⟨4, _⟩ => ⟨S8192x2816, .bf16⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S8192x1024, .f32⟩
  | .hbm, ⟨22, _⟩ => ⟨S8192x1024, .bf16⟩
  | .hbm, ⟨23, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference3Ideal.lean ====
abbrev S4x2048x2816 : Shape := ⟨3, ![4, 2048, 2816]⟩
abbrev S4x2048x1024 : Shape := ⟨3, ![4, 2048, 1024]⟩
abbrev S1024 : Shape := ⟨1, ![1024]⟩
abbrev S_ : Shape := ⟨0, ![]⟩
abbrev S1024x2816 : Shape := ⟨2, ![1024, 2816]⟩
abbrev S4x2048 : Shape := ⟨2, ![4, 2048]⟩
abbrev S4x2048x1 : Shape := ⟨3, ![4, 2048, 1]⟩
abbrev S1x1x1024 : Shape := ⟨3, ![1, 1, 1024]⟩
abbrev S2816x1024 : Shape := ⟨2, ![2816, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x2816, .f32⟩
  | .hbm, ⟨1, _⟩ => ⟨S4x2048x1024, .f32⟩
  | .hbm, ⟨2, _⟩ => ⟨S1024, .f32⟩
  | .hbm, ⟨3, _⟩ => ⟨S_, .f32⟩
  | .hbm, ⟨4, _⟩ => ⟨S1024x2816, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x2816, .f32⟩
  | .hbm, ⟨22, _⟩ => ⟨S2816x1024, .f32⟩
  | .hbm, ⟨23, _⟩ => ⟨S1024x2816, .f32⟩
  | .hbm, ⟨24, _⟩ => ⟨S2816x1024, .f32⟩
  | .hbm, ⟨25, _⟩ => ⟨S2816x1024, .bf16⟩
  | _, _ => ⟨S4x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel4.lean ====
abbrev S4x2048x2816 : Shape := ⟨3, ![4, 2048, 2816]⟩
abbrev S4x2048x1024 : Shape := ⟨3, ![4, 2048, 1024]⟩
abbrev S1024 : Shape := ⟨1, ![1024]⟩
abbrev S8192x2816 : Shape := ⟨2, ![8192, 2816]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 24
  | .vmem => 6
  | .smem => 0
  | _ => 0

abbrev bufTy : (tb : Table) → Fin (tcTables nBuf tb) → BufTy
  | .hbm, ⟨0, _⟩ => ⟨S4x2048x2816, .f32⟩
  | .hbm, ⟨1, _⟩ => ⟨S4x2048x1024, .f32⟩
  | .hbm, ⟨2, _⟩ => ⟨S1024, .f32⟩
  | .hbm, ⟨3, _⟩ => ⟨S8192x2816, .f32⟩
  | .hbm, ⟨4, _⟩ => ⟨S8192x2816, .bf16⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S8192x1024, .f32⟩
  | .hbm, ⟨22, _⟩ => ⟨S8192x1024, .bf16⟩
  | .hbm, ⟨23, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Kernel4Ideal.lean ====
abbrev S4x2048x2816 : Shape := ⟨3, ![4, 2048, 2816]⟩
abbrev S4x2048x1024 : Shape := ⟨3, ![4, 2048, 1024]⟩
abbrev S1024 : Shape := ⟨1, ![1024]⟩
abbrev S8192x2816 : Shape := ⟨2, ![8192, 2816]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 24
  | .vmem => 6
  | .smem => 0
  | _ => 0

abbrev bufTy : (tb : Table) → Fin (tcTables nBuf tb) → BufTy
  | .hbm, ⟨0, _⟩ => ⟨S4x2048x2816, .f32⟩
  | .hbm, ⟨1, _⟩ => ⟨S4x2048x1024, .f32⟩
  | .hbm, ⟨2, _⟩ => ⟨S1024, .f32⟩
  | .hbm, ⟨3, _⟩ => ⟨S8192x2816, .f32⟩
  | .hbm, ⟨4, _⟩ => ⟨S8192x2816, .bf16⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S8192x1024, .f32⟩
  | .hbm, ⟨22, _⟩ => ⟨S8192x1024, .bf16⟩
  | .hbm, ⟨23, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference4Ideal.lean ====
abbrev S4x2048x2816 : Shape := ⟨3, ![4, 2048, 2816]⟩
abbrev S4x2048x1024 : Shape := ⟨3, ![4, 2048, 1024]⟩
abbrev S1024 : Shape := ⟨1, ![1024]⟩
abbrev S_ : Shape := ⟨0, ![]⟩
abbrev S1024x2816 : Shape := ⟨2, ![1024, 2816]⟩
abbrev S4x2048 : Shape := ⟨2, ![4, 2048]⟩
abbrev S4x2048x1 : Shape := ⟨3, ![4, 2048, 1]⟩
abbrev S1x1x1024 : Shape := ⟨3, ![1, 1, 1024]⟩
abbrev S2816x1024 : Shape := ⟨2, ![2816, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x2816, .f32⟩
  | .hbm, ⟨1, _⟩ => ⟨S4x2048x1024, .f32⟩
  | .hbm, ⟨2, _⟩ => ⟨S1024, .f32⟩
  | .hbm, ⟨3, _⟩ => ⟨S_, .f32⟩
  | .hbm, ⟨4, _⟩ => ⟨S1024x2816, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x2816, .f32⟩
  | .hbm, ⟨22, _⟩ => ⟨S2816x1024, .f32⟩
  | .hbm, ⟨23, _⟩ => ⟨S1024x2816, .f32⟩
  | .hbm, ⟨24, _⟩ => ⟨S2816x1024, .f32⟩
  | .hbm, ⟨25, _⟩ => ⟨S2816x1024, .bf16⟩
  | _, _ => ⟨S4x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel5.lean ====
abbrev S4x2048x1024 : Shape := ⟨3, ![4, 2048, 1024]⟩
abbrev S1024 : Shape := ⟨1, ![1024]⟩
abbrev S1024x2816 : Shape := ⟨2, ![1024, 2816]⟩
abbrev S8192x1024 : Shape := ⟨2, ![8192, 1024]⟩
abbrev S1x1024 : Shape := ⟨2, ![1, 1024]⟩
abbrev S2816x1024 : Shape := ⟨2, ![2816, 1024]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 13
  | .vmem => 11
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S8192x1024, .f32⟩
  | .hbm, ⟨5, _⟩ => ⟨S1x1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S8192x1024, .bf16⟩
  | .hbm, ⟨11, _⟩ => ⟨S8192x2816, .f32⟩
  | .hbm, ⟨12, _⟩ => ⟨S8192x2816, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S256x1024, .bf16⟩
  | .local _ .vmem, ⟨6, _⟩ => ⟨S256x1024, .bf16⟩
  | .local _ .vmem, ⟨7, _⟩ => ⟨S256x2816, .f32⟩
  | .local _ .vmem, ⟨8, _⟩ => ⟨S256x2816, .f32⟩
  | .local _ .vmem, ⟨9, _⟩ => ⟨S256x2816, .f32⟩
  | .local _ .vmem, ⟨10, _⟩ => ⟨S256x2816, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S4x2048x1024 : Shape := ⟨3, ![4, 2048, 1024]⟩
abbrev S1024 : Shape := ⟨1, ![1024]⟩
abbrev S1024x2816 : Shape := ⟨2, ![1024, 2816]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S4x2048x2816 : Shape := ⟨3, ![4, 2048, 2816]⟩
abbrev S8192x2816 : Shape := ⟨2, ![8192, 2816]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4x2048x1024, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x1024, .f32⟩
  | .hbm, ⟨16, _⟩ => ⟨S4x2048x1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S8192x1024, .f32⟩
  | .hbm, ⟨21, _⟩ => ⟨S8192x1024, .bf16⟩
  | .hbm, ⟨22, _⟩ => ⟨S4x2048x2816, .f32⟩
  | .hbm, ⟨23, _⟩ => ⟨S8192x2816, .f32⟩
  | .hbm, ⟨24, _⟩ => ⟨S4x2048x2816, .f32⟩
  | .hbm, ⟨25, _⟩ => ⟨S8192x2816, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel6.lean ====
abbrev S4x2048x2816 : Shape := ⟨3, ![4, 2048, 2816]⟩
abbrev S4x2048x1024 : Shape := ⟨3, ![4, 2048, 1024]⟩
abbrev S2816x1024 : Shape := ⟨2, ![2816, 1024]⟩
abbrev S8192x2816 : Shape := ⟨2, ![8192, 2816]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4x2048x2816, .f32⟩
  | .hbm, ⟨1, _⟩ => ⟨S4x2048x1024, .f32⟩
  | .hbm, ⟨2, _⟩ => ⟨S2816x1024, .f32⟩
  | .hbm, ⟨3, _⟩ => ⟨S8192x2816, .f32⟩
  | .hbm, ⟨4, _⟩ => ⟨S8192x2816, .bf16⟩
  | .hbm, ⟨5, _⟩ => ⟨S8192x1024, .f32⟩
  | .hbm, ⟨6, _⟩ => ⟨S2816x1024, .bf16⟩
  | .hbm, ⟨7, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S512x1024, .f32⟩
  | .local _ .vmem, ⟨3, _⟩ => ⟨S512x1024, .f32⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S4x2048x2816 : Shape := ⟨3, ![4, 2048, 2816]⟩
abbrev S4x2048x1024 : Shape := ⟨3, ![4, 2048, 1024]⟩
abbrev S2816x1024 : Shape := ⟨2, ![2816, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x2048x2816, .f32⟩
  | .hbm, ⟨1, _⟩ => ⟨S4x2048x1024, .f32⟩
  | .hbm, ⟨2, _⟩ => ⟨S2816x1024, .f32⟩
  | .hbm, ⟨3, _⟩ => ⟨S4x2048x1024, .f32⟩
  | .hbm, ⟨4, _⟩ => ⟨S4x2048x1024, .f32⟩
  | .hbm, ⟨5, _⟩ => ⟨S8192x1024, .f32⟩
  | _, _ => ⟨S4x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S4x2048x1024 : Shape := ⟨3, ![4, 2048, 1024]⟩
abbrev S8192x1024 : Shape := ⟨2, ![8192, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S8192x1024, .f32⟩
  | .hbm, ⟨3, _⟩ => ⟨S8192x1024, .bf16⟩
  | .hbm, ⟨4, _⟩ => ⟨S8192x1024, .f32⟩
  | .hbm, ⟨5, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference7Ideal.lean ====
abbrev S4x2048x1024 : Shape := ⟨3, ![4, 2048, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S_, .f32⟩
  | .hbm, ⟨3, _⟩ => ⟨S1024x1024, .f32⟩
  | .hbm, ⟨4, _⟩ => ⟨S4x2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S1024x1024 : Shape := ⟨2, ![1024, 1024]⟩

abbrev nBuf : Space → Nat
  | .hbm => 24
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S8192x1024, .f32⟩
  | .hbm, ⟨20, _⟩ => ⟨S8192x1024, .bf16⟩
  | .hbm, ⟨21, _⟩ => ⟨S8192x1024, .f32⟩
  | .hbm, ⟨22, _⟩ => ⟨S8192x1024, .bf16⟩
  | .hbm, ⟨23, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference8Ideal.lean ====
abbrev S4x2048x1024 : Shape := ⟨3, ![4, 2048, 1024]⟩
abbrev S1024 : Shape := ⟨1, ![1024]⟩
abbrev S_ : Shape := ⟨0, ![]⟩
abbrev S1024x1024 : Shape := ⟨2, ![1024, 1024]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024, .f32⟩
  | .hbm, ⟨3, _⟩ => ⟨S_, .f32⟩
  | .hbm, ⟨4, _⟩ => ⟨S1024x1024, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S1024x1024, .f32⟩
  | .hbm, ⟨23, _⟩ => ⟨S1024x1024, .f32⟩
  | .hbm, ⟨24, _⟩ => ⟨S1024x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel9.lean ====
abbrev S4x2048x1024 : Shape := ⟨3, ![4, 2048, 1024]⟩
abbrev S4x2048x256 : Shape := ⟨3, ![4, 2048, 256]⟩
abbrev S8192x1024 : Shape := ⟨2, ![8192, 1024]⟩
abbrev S8192x256 : Shape := ⟨2, ![8192, 256]⟩
abbrev S1024x256 : Shape := ⟨2, ![1024, 256]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S4x2048x256, .f32⟩
  | .hbm, ⟨2, _⟩ => ⟨S8192x1024, .f32⟩
  | .hbm, ⟨3, _⟩ => ⟨S8192x1024, .bf16⟩
  | .hbm, ⟨4, _⟩ => ⟨S8192x256, .f32⟩
  | .hbm, ⟨5, _⟩ => ⟨S8192x256, .bf16⟩
  | .hbm, ⟨6, _⟩ => ⟨S1024x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference9Ideal.lean ====
abbrev S4x2048x1024 : Shape := ⟨3, ![4, 2048, 1024]⟩
abbrev S4x2048x256 : Shape := ⟨3, ![4, 2048, 256]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x256, .f32⟩
  | .hbm, ⟨2, _⟩ => ⟨S_, .f32⟩
  | .hbm, ⟨3, _⟩ => ⟨S256x1024, .f32⟩
  | .hbm, ⟨4, _⟩ => ⟨S4x2048x1024, .f32⟩
  | .hbm, ⟨5, _⟩ => ⟨S1024x256, .f32⟩
  | .hbm, ⟨6, _⟩ => ⟨S256x1024, .f32⟩
  | .hbm, ⟨7, _⟩ => ⟨S1024x256, .f32⟩
  | .hbm, ⟨8, _⟩ => ⟨S1024x256, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4x2048x1024 : Shape := ⟨3, ![4, 2048, 1024]⟩
abbrev S1024 : Shape := ⟨1, ![1024]⟩
abbrev S1024x3200 : Shape := ⟨2, ![1024, 3200]⟩
abbrev S8192x1024 : Shape := ⟨2, ![8192, 1024]⟩
abbrev S1x1024 : Shape := ⟨2, ![1, 1024]⟩
abbrev S3200x1024 : Shape := ⟨2, ![3200, 1024]⟩
abbrev S8192x3200 : Shape := ⟨2, ![8192, 3200]⟩
abbrev S512x1024 : Shape := ⟨2, ![512, 1024]⟩
abbrev S512x3200 : Shape := ⟨2, ![512, 3200]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x3200, .f32⟩
  | .hbm, ⟨3, _⟩ => ⟨S8192x1024, .f32⟩
  | .hbm, ⟨4, _⟩ => ⟨S1x1024, .f32⟩
  | .hbm, ⟨5, _⟩ => ⟨S3200x1024, .f32⟩
  | .hbm, ⟨6, _⟩ => ⟨S3200x1024, .bf16⟩
  | .hbm, ⟨7, _⟩ => ⟨S8192x1024, .bf16⟩
  | .hbm, ⟨8, _⟩ => ⟨S8192x3200, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3200x1024, .bf16⟩
  | .local _ .vmem, ⟨4, _⟩ => ⟨S512x1024, .bf16⟩
  | .local _ .vmem, ⟨5, _⟩ => ⟨S512x1024, .bf16⟩
  | .local _ .vmem, ⟨6, _⟩ => ⟨S512x3200, .f32⟩
  | .local _ .vmem, ⟨7, _⟩ => ⟨S512x3200, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3200x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S4x2048x1024 : Shape := ⟨3, ![4, 2048, 1024]⟩
abbrev S1024 : Shape := ⟨1, ![1024]⟩
abbrev S1024x3200 : Shape := ⟨2, ![1024, 3200]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S4x2048x3200 : Shape := ⟨3, ![4, 2048, 3200]⟩
abbrev S8192x3200 : Shape := ⟨2, ![8192, 3200]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x3200, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S8192x1024, .f32⟩
  | .hbm, ⟨20, _⟩ => ⟨S8192x1024, .bf16⟩
  | .hbm, ⟨21, _⟩ => ⟨S4x2048x3200, .f32⟩
  | .hbm, ⟨22, _⟩ => ⟨S8192x3200, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel11.lean ====
abbrev S4x2048x3200 : Shape := ⟨3, ![4, 2048, 3200]⟩
abbrev S4x2048x1024 : Shape := ⟨3, ![4, 2048, 1024]⟩
abbrev S1024 : Shape := ⟨1, ![1024]⟩
abbrev S8192x3200 : Shape := ⟨2, ![8192, 3200]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S3200x1024 : Shape := ⟨2, ![3200, 1024]⟩
abbrev S1024x3200 : Shape := ⟨2, ![1024, 3200]⟩
abbrev S1024x1024 : Shape := ⟨2, ![1024, 1024]⟩

abbrev nBuf : Space → Nat
  | .hbm => 24
  | .vmem => 6
  | .smem => 0
  | _ => 0

abbrev bufTy : (tb : Table) → Fin (tcTables nBuf tb) → BufTy
  | .hbm, ⟨0, _⟩ => ⟨S4x2048x3200, .f32⟩
  | .hbm, ⟨1, _⟩ => ⟨S4x2048x1024, .f32⟩
  | .hbm, ⟨2, _⟩ => ⟨S1024, .f32⟩
  | .hbm, ⟨3, _⟩ => ⟨S8192x3200, .f32⟩
  | .hbm, ⟨4, _⟩ => ⟨S8192x3200, .bf16⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S8192x1024, .f32⟩
  | .hbm, ⟨22, _⟩ => ⟨S8192x1024, .bf16⟩
  | .hbm, ⟨23, _⟩ => ⟨S3200x1024, .bf16⟩
  | .local _ .vmem, ⟨0, _⟩ => ⟨S1024x3200, .bf16⟩
  | .local _ .vmem, ⟨1, _⟩ => ⟨S1024x3200, .bf16⟩
  | .local _ .vmem, ⟨2, _⟩ => ⟨S1024x1024, .bf16⟩
  | .local _ .vmem, ⟨3, _⟩ => ⟨S1024x1024, .bf16⟩
  | .local _ .vmem, ⟨4, _⟩ => ⟨S3200x1024, .bf16⟩
  | .local _ .vmem, ⟨5, _⟩ => ⟨S3200x1024, .f32⟩
  | _, _ => ⟨S4x2048x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3200x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference11Ideal.lean ====
abbrev S4x2048x3200 : Shape := ⟨3, ![4, 2048, 3200]⟩
abbrev S4x2048x1024 : Shape := ⟨3, ![4, 2048, 1024]⟩
abbrev S1024 : Shape := ⟨1, ![1024]⟩
abbrev S_ : Shape := ⟨0, ![]⟩
abbrev S1024x3200 : Shape := ⟨2, ![1024, 3200]⟩
abbrev S4x2048 : Shape := ⟨2, ![4, 2048]⟩
abbrev S4x2048x1 : Shape := ⟨3, ![4, 2048, 1]⟩
abbrev S1x1x1024 : Shape := ⟨3, ![1, 1, 1024]⟩
abbrev S3200x1024 : Shape := ⟨2, ![3200, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x3200, .f32⟩
  | .hbm, ⟨1, _⟩ => ⟨S4x2048x1024, .f32⟩
  | .hbm, ⟨2, _⟩ => ⟨S1024, .f32⟩
  | .hbm, ⟨3, _⟩ => ⟨S_, .f32⟩
  | .hbm, ⟨4, _⟩ => ⟨S1024x3200, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x3200, .f32⟩
  | .hbm, ⟨22, _⟩ => ⟨S3200x1024, .f32⟩
  | .hbm, ⟨23, _⟩ => ⟨S1024x3200, .f32⟩
  | .hbm, ⟨24, _⟩ => ⟨S3200x1024, .f32⟩
  | .hbm, ⟨25, _⟩ => ⟨S3200x1024, .bf16⟩
  | _, _ => ⟨S4x2048x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel12.lean ====
abbrev S4x2048x3200 : Shape := ⟨3, ![4, 2048, 3200]⟩
abbrev S4x2048x1024 : Shape := ⟨3, ![4, 2048, 1024]⟩
abbrev S1024 : Shape := ⟨1, ![1024]⟩
abbrev S1024x3200 : Shape := ⟨2, ![1024, 3200]⟩
abbrev S8192x3200 : Shape := ⟨2, ![8192, 3200]⟩
abbrev S8192x1536 : Shape := ⟨2, ![8192, 1536]⟩
abbrev S8192x512 : Shape := ⟨2, ![8192, 512]⟩
abbrev S8192x128 : Shape := ⟨2, ![8192, 128]⟩
abbrev S8192x1024 : Shape := ⟨2, ![8192, 1024]⟩
abbrev S1x1024 : Shape := ⟨2, ![1, 1024]⟩
abbrev S3200x1024 : Shape := ⟨2, ![3200, 1024]⟩
abbrev S512x1536 : Shape := ⟨2, ![512, 1536]⟩
abbrev S512x512 : Shape := ⟨2, ![512, 512]⟩
abbrev S512x128 : Shape := ⟨2, ![512, 128]⟩
abbrev S512x1024 : Shape := ⟨2, ![512, 1024]⟩
abbrev S512x3200 : Shape := ⟨2, ![512, 3200]⟩
abbrev S512 : Shape := ⟨1, ![512]⟩
abbrev S512x1 : Shape := ⟨2, ![512, 1]⟩

abbrev nBuf : Space → Nat
  | .hbm => 19
  | .vmem => 21
  | .smem => 0
  | _ => 0

abbrev bufTy : (tb : Table) → Fin (tcTables nBuf tb) → BufTy
  | .hbm, ⟨0, _⟩ => ⟨S4x2048x3200, .f32⟩
  | .hbm, ⟨1, _⟩ => ⟨S4x2048x1024, .f32⟩
  | .hbm, ⟨2, _⟩ => ⟨S4x2048x1024, .f32⟩
  | .hbm, ⟨3, _⟩ => ⟨S1024, .f32⟩
  | .hbm, ⟨4, _⟩ => ⟨S1024x3200, .f32⟩
  | .hbm, ⟨5, _⟩ => ⟨S8192x3200, .f32⟩
  | .hbm, ⟨6, _⟩ => ⟨S8192x1536, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x128, .f32⟩
  | .hbm, ⟨11, _⟩ => ⟨S8192x1024, .f32⟩
  | .hbm, ⟨12, _⟩ => ⟨S8192x1024, .f32⟩
  | .hbm, ⟨13, _⟩ => ⟨S1x1024, .f32⟩
  | .hbm, ⟨14, _⟩ => ⟨S3200x1024, .f32⟩
  | .hbm, ⟨15, _⟩ => ⟨S3200x1024, .bf16⟩
  | .hbm, ⟨16, _⟩ => ⟨S8192x1024, .f32⟩
  | .hbm, ⟨17, _⟩ => ⟨S8192x3200, .bf16⟩
  | .hbm, ⟨18, _⟩ => ⟨S1x1024, .f32⟩
  | .local _ .vmem, ⟨0, _⟩ => ⟨S512x1536, .f32⟩
  | .local _ .vmem, ⟨1, _⟩ => ⟨S512x1536, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S3200x1024, .bf16⟩
  | .local _ .vmem, ⟨16, _⟩ => ⟨S512x1024, .f32⟩
  | .local _ .vmem, ⟨17, _⟩ => ⟨S512x1024, .f32⟩
  | .local _ .vmem, ⟨18, _⟩ => ⟨S512x3200, .bf16⟩
  | .local _ .vmem, ⟨19, _⟩ => ⟨S512x3200, .bf16⟩
  | .local _ .vmem, ⟨20, _⟩ => ⟨S1x1024, .f32⟩
  | _, _ => ⟨S4x2048x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3200x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3200 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference12Ideal.lean ====
abbrev S4x2048x3200 : Shape := ⟨3, ![4, 2048, 3200]⟩
abbrev S4x2048x1024 : Shape := ⟨3, ![4, 2048, 1024]⟩
abbrev S1024 : Shape := ⟨1, ![1024]⟩
abbrev S1024x3200 : Shape := ⟨2, ![1024, 3200]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S8192x3200 : Shape := ⟨2, ![8192, 3200]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4x2048x3200, .f32⟩
  | .hbm, ⟨1, _⟩ => ⟨S4x2048x1024, .f32⟩
  | .hbm, ⟨2, _⟩ => ⟨S4x2048x1024, .f32⟩
  | .hbm, ⟨3, _⟩ => ⟨S1024, .f32⟩
  | .hbm, ⟨4, _⟩ => ⟨S1024x3200, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1024, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x2048x3200, .f32⟩
  | .hbm, ⟨26, _⟩ => ⟨S4x2048x1024, .f32⟩
  | .hbm, ⟨27, _⟩ => ⟨S4x2048x1024, .f32⟩
  | .hbm, ⟨28, _⟩ => ⟨S_, .f32⟩
  | .hbm, ⟨29, _⟩ => ⟨S1024, .f32⟩
  | .hbm, ⟨30, _⟩ => ⟨S1x1x1024, .f32⟩
  | .hbm, ⟨31, _⟩ => ⟨S4x2048x1024, .f32⟩
  | .hbm, ⟨32, _⟩ => ⟨S4x2048x1024, .f32⟩
  | .hbm, ⟨33, _⟩ => ⟨S_, .f32⟩
  | .hbm, ⟨34, _⟩ => ⟨S1024, .f32⟩
  | .hbm, ⟨35, _⟩ => ⟨S4x2048x1024, .f32⟩
  | .hbm, ⟨36, _⟩ => ⟨S_, .f32⟩
  | .hbm, ⟨37, _⟩ => ⟨S4x2048, .f32⟩
  | .hbm, ⟨38, _⟩ => ⟨S4x2048x1, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S4x2048x1, .f32⟩
  | .hbm, ⟨43, _⟩ => ⟨S_, .f32⟩
  | .hbm, ⟨44, _⟩ => ⟨S4x2048x1, .f32⟩
  | .hbm, ⟨45, _⟩ => ⟨S4x2048x1, .f32⟩
  | .hbm, ⟨46, _⟩ => ⟨S_, .f32⟩
  | .hbm, ⟨47, _⟩ => ⟨S4x2048, .f32⟩
  | .hbm, ⟨48, _⟩ => ⟨S4x2048x1024, .f32⟩
  | .hbm, ⟨49, _⟩ => ⟨S4x2048x1024, .f32⟩
  | .hbm, ⟨50, _⟩ => ⟨S4x2048x1024, .f32⟩
  | .hbm, ⟨51, _⟩ => ⟨S4x2048x1024, .f32⟩
  | .hbm, ⟨52, _⟩ => ⟨S4x2048x1024, .f32⟩
  | .hbm, ⟨53, _⟩ => ⟨S8192x1024, .f32⟩
  | .hbm, ⟨54, _⟩ => ⟨S8192x3200, .f32⟩
  | .hbm, ⟨55, _⟩ => ⟨S8192x3200, .bf16⟩
  | .hbm, ⟨56, _⟩ => ⟨S1x1024, .f32⟩
  | _, _ => ⟨S4x2048x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel13.lean ====
abbrev S4x2048x1024 : Shape := ⟨3, ![4, 2048, 1024]⟩
abbrev S4x2048x256 : Shape := ⟨3, ![4, 2048, 256]⟩
abbrev S1024 : Shape := ⟨1, ![1024]⟩
abbrev S1024x1024 : Shape := ⟨2, ![1024, 1024]⟩
abbrev S256x1024 : Shape := ⟨2, ![256, 1024]⟩
abbrev S8192x1024 : Shape := ⟨2, ![8192, 1024]⟩
abbrev S8192x256 : Shape := ⟨2, ![8192, 256]⟩
abbrev S1x1024 : Shape := ⟨2, ![1, 1024]⟩
abbrev S1024x256 : Shape := ⟨2, ![1024, 256]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 21
  | .vmem => 20
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x256, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S256x1024, .f32⟩
  | .hbm, ⟨7, _⟩ => ⟨S8192x1024, .f32⟩
  | .hbm, ⟨8, _⟩ => ⟨S8192x1024, .f32⟩
  | .hbm, ⟨9, _⟩ => ⟨S8192x256, .f32⟩
  | .hbm, ⟨10, _⟩ => ⟨S1x1024, .f32⟩
  | .hbm, ⟨11, _⟩ => ⟨S1024x1024, .bf16⟩
  | .hbm, ⟨12, _⟩ => ⟨S1x1024, .f32⟩
  | .hbm, ⟨13, _⟩ => ⟨S1024x256, .f32⟩
  | .hbm, ⟨14, _⟩ => ⟨S1024x256, .bf16⟩
  | .hbm, ⟨15, _⟩ => ⟨S8192x1024, .f32⟩
  | .hbm, ⟨16, _⟩ => ⟨S8192x1024, .bf16⟩
  | .hbm, ⟨17, _⟩ => ⟨S8192x1024, .bf16⟩
  | .hbm, ⟨18, _⟩ => ⟨S8192x1024, .bf16⟩
  | .hbm, ⟨19, _⟩ => ⟨S1x1024, .f32⟩
  | .hbm, ⟨20, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S1024x256, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | .local _ .vmem, ⟨19, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v8_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference13Ideal.lean ====
abbrev S4x2048x1024 : Shape := ⟨3, ![4, 2048, 1024]⟩
abbrev S4x2048x256 : Shape := ⟨3, ![4, 2048, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S1x1024 : Shape := ⟨2, ![1, 1024]⟩

abbrev nBuf : Space → Nat
  | .hbm => 126
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x256, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S256x1024, .f32⟩
  | .hbm, ⟨7, _⟩ => ⟨S4x2048x1024, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x1024, .f32⟩
  | .hbm, ⟨23, _⟩ => ⟨S4x2048x1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S1x1x1024, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S4x2048x1024, .f32⟩
  | .hbm, ⟨33, _⟩ => ⟨S_, .f32⟩
  | .hbm, ⟨34, _⟩ => ⟨S4x2048x1024, .f32⟩
  | .hbm, ⟨35, _⟩ => ⟨S4x2048x1024, .f32⟩
  | .hbm, ⟨36, _⟩ => ⟨S_, .f32⟩
  | .hbm, ⟨37, _⟩ => ⟨S4x2048x1024, .f32⟩
  | .hbm, ⟨38, _⟩ => ⟨S4x2048x1024, .f32⟩
  | .hbm, ⟨39, _⟩ => ⟨S_, .f32⟩
  | .hbm, ⟨40, _⟩ => ⟨S4x2048x1024, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S4x2048x1024, .f32⟩
  | .hbm, ⟨48, _⟩ => ⟨S4x2048x1024, .f32⟩
  | .hbm, ⟨49, _⟩ => ⟨S_, .f32⟩
  | .hbm, ⟨50, _⟩ => ⟨S1024, .f32⟩
  | .hbm, ⟨51, _⟩ => ⟨S1x1x1024, .f32⟩
  | .hbm, ⟨52, _⟩ => ⟨S_, .f32⟩
  | .hbm, ⟨53, _⟩ => ⟨S1024, .f32⟩
  | .hbm, ⟨54, _⟩ => ⟨S4x2048x1024, .f32⟩
  | .hbm, ⟨55, _⟩ => ⟨S4x2048x1024, .f32⟩
  | .hbm, ⟨56, _⟩ => ⟨S_, .f32⟩
  | .hbm, ⟨57, _⟩ => ⟨S1024, .f32⟩
  | .hbm, ⟨58, _⟩ => ⟨S1x1x1024, .f32⟩
  | .hbm, ⟨59, _⟩ => ⟨S4x2048x1024, .f32⟩
  | .hbm, ⟨60, _⟩ => ⟨S4x2048x1024, .f32⟩
  | .hbm, ⟨61, _⟩ => ⟨S_, .f32⟩
  | .hbm, ⟨62, _⟩ => ⟨S1024, .f32⟩
  | .hbm, ⟨63, _⟩ => ⟨S4x2048x1024, .f32⟩
  | .hbm, ⟨64, _⟩ => ⟨S_, .f32⟩
  | .hbm, ⟨65, _⟩ => ⟨S4x2048, .f32⟩
  | .hbm, ⟨66, _⟩ => ⟨S4x2048x1, .f32⟩
  | .hbm, ⟨67, _⟩ => ⟨S4x2048x1024, .f32⟩
  | .hbm, ⟨68, _⟩ => ⟨S4x2048x1024, .f32⟩
  | .hbm, ⟨69, _⟩ => ⟨S4x2048x1024, .f32⟩
  | .hbm, ⟨70, _⟩ => ⟨S4x2048x1, .f32⟩
  | .hbm, ⟨71, _⟩ => ⟨S_, .f32⟩
  | .hbm, ⟨72, _⟩ => ⟨S4x2048x1, .f32⟩
  | .hbm, ⟨73, _⟩ => ⟨S4x2048x1, .f32⟩
  | .hbm, ⟨74, _⟩ => ⟨S_, .f32⟩
  | .hbm, ⟨75, _⟩ => ⟨S4x2048, .f32⟩
  | .hbm, ⟨76, _⟩ => ⟨S4x2048x1024, .f32⟩
  | .hbm, ⟨77, _⟩ => ⟨S4x2048x1024, .f32⟩
  | .hbm, ⟨78, _⟩ => ⟨S4x2048x1024, .f32⟩
  | .hbm, ⟨79, _⟩ => ⟨S4x2048x1024, .f32⟩
  | .hbm, ⟨80, _⟩ => ⟨S4x2048x1024, .f32⟩
  | .hbm, ⟨81, _⟩ => ⟨S4x2048x1024, .f32⟩
  | .hbm, ⟨82, _⟩ => ⟨S_, .f32⟩
  | .hbm, ⟨83, _⟩ => ⟨S4x2048, .f32⟩
  | .hbm, ⟨84, _⟩ => ⟨S4x2048x1, .f32⟩
  | .hbm, ⟨85, _⟩ => ⟨S_, .f32⟩
  | .hbm, ⟨86, _⟩ => ⟨S4x2048x1, .f32⟩
  | .hbm, ⟨87, _⟩ => ⟨S4x2048x1, .f32⟩
  | .hbm, ⟨88, _⟩ => ⟨S_, .f32⟩
  | .hbm, ⟨89, _⟩ => ⟨S4x2048x1, .f32⟩
  | .hbm, ⟨90, _⟩ => ⟨S4x2048x1, .f32⟩
  | .hbm, ⟨91, _⟩ => ⟨S4x2048x1, .f32⟩
  | .hbm, ⟨92, _⟩ => ⟨S4x2048x1024, .f32⟩
  | .hbm, ⟨93, _⟩ => ⟨S4x2048x1024, .f32⟩
  | .hbm, ⟨94, _⟩ => ⟨S1x1x1024, .f32⟩
  | .hbm, ⟨95, _⟩ => ⟨S4x2048x1024, .f32⟩
  | .hbm, ⟨96, _⟩ => ⟨S4x2048x1024, .f32⟩
  | .hbm, ⟨97, _⟩ => ⟨S4x2048x1024, .f32⟩
  | .hbm, ⟨98, _⟩ => ⟨S1x1x1024, .f32⟩
  | .hbm, ⟨99, _⟩ => ⟨S4x2048x1024, .f32⟩
  | .hbm, ⟨100, _⟩ => ⟨S4x2048x1024, .f32⟩
  | .hbm, ⟨101, _⟩ => ⟨S4x2048x1024, .f32⟩
  | .hbm, ⟨102, _⟩ => ⟨S4x2048x1024, .f32⟩
  | .hbm, ⟨103, _⟩ => ⟨S4x2048x1024, .f32⟩
  | .hbm, ⟨104, _⟩ => ⟨S_, .f32⟩
  | .hbm, ⟨105, _⟩ => ⟨S4x2048x1024, .f32⟩
  | .hbm, ⟨106, _⟩ => ⟨S4x2048x1024, .f32⟩
  | .hbm, ⟨107, _⟩ => ⟨S_, .f32⟩
  | .hbm, ⟨108, _⟩ => ⟨S4x2048x1024, .f32⟩
  | .hbm, ⟨109, _⟩ => ⟨S4x2048x1024, .f32⟩
  | .hbm, ⟨110, _⟩ => ⟨S_, .f32⟩
  | .hbm, ⟨111, _⟩ => ⟨S4x2048x1024, .f32⟩
  | .hbm, ⟨112, _⟩ => ⟨S4x2048x1024, .f32⟩
  | .hbm, ⟨113, _⟩ => ⟨S4x2048x1024, .f32⟩
  | .hbm, ⟨114, _⟩ => ⟨S4x2048x1024, .f32⟩
  | .hbm, ⟨115, _⟩ => ⟨S4x2048x1024, .f32⟩
  | .hbm, ⟨116, _⟩ => ⟨S4x2048x1024, .f32⟩
  | .hbm, ⟨117, _⟩ => ⟨S4x2048x1024, .f32⟩
  | .hbm, ⟨118, _⟩ => ⟨S8192x1024, .f32⟩
  | .hbm, ⟨119, _⟩ => ⟨S8192x1024, .f32⟩
  | .hbm, ⟨120, _⟩ => ⟨S8192x1024, .f32⟩
  | .hbm, ⟨121, _⟩ => ⟨S8192x1024, .bf16⟩
  | .hbm, ⟨122, _⟩ => ⟨S8192x1024, .bf16⟩
  | .hbm, ⟨123, _⟩ => ⟨S8192x1024, .bf16⟩
  | .hbm, ⟨124, _⟩ => ⟨S1x1024, .f32⟩
  | .hbm, ⟨125, _⟩ => ⟨S1x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩
abbrev main_cst_14 : Ref sig .tc := ⟨.hbm, 85, rfl⟩
abbrev main_v63 : Ref sig .tc := ⟨.hbm, 86, rfl⟩
abbrev main_v64 : Ref sig .tc := ⟨.hbm, 87, rfl⟩
abbrev main_cst_15 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_16 : Ref sig .tc := ⟨.hbm, 104, rfl⟩
abbrev main_v80 : Ref sig .tc := ⟨.hbm, 105, rfl⟩
abbrev main_v81 : Ref sig .tc := ⟨.hbm, 106, rfl⟩
abbrev main_cst_17 : Ref sig .tc := ⟨.hbm, 107, rfl⟩
abbrev main_v82 : Ref sig .tc := ⟨.hbm, 108, rfl⟩
abbrev main_v83 : Ref sig .tc := ⟨.hbm, 109, rfl⟩
abbrev main_cst_18 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩

abbrev nD : Nat := 1
abbrev τ : Topo := Topo.v7x

variable {F : FTy → Type} [FloatOps F]
-- ==== Kernel15.lean ====
abbrev S4x2048x1024 : Shape := ⟨3, ![4, 2048, 1024]⟩
abbrev S1024 : Shape := ⟨1, ![1024]⟩
abbrev S8192x1024 : Shape := ⟨2, ![8192, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 9
  | .vmem => 9
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x2048x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x128, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x128, .f32⟩
  | .local _ .vmem, ⟨8, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference15Ideal.lean ====
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S1x128 : Shape := ⟨2, ![1, 128]⟩
abbrev S1x1024 : Shape := ⟨2, ![1, 1024]⟩

abbrev nBuf : Space → Nat
  | .hbm => 74
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x2048x1024, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1024, .f32⟩
  | .hbm, ⟨19, _⟩ => ⟨S4x2048x1024, .f32⟩
  | .hbm, ⟨20, _⟩ => ⟨S1x1x1024, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S_, .f32⟩
  | .hbm, ⟨26, _⟩ => ⟨S4x2048x1024, .f32⟩
  | .hbm, ⟨27, _⟩ => ⟨S4x2048x1024, .f32⟩
  | .hbm, ⟨28, _⟩ => ⟨S_, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4x2048, .f32⟩
  | .hbm, ⟨41, _⟩ => ⟨S_, .f32⟩
  | .hbm, ⟨42, _⟩ => ⟨S4x2048, .f32⟩
  | .hbm, ⟨43, _⟩ => ⟨S4x2048, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S_, .f32⟩
  | .hbm, ⟨48, _⟩ => ⟨S1024, .f32⟩
  | .hbm, ⟨49, _⟩ => ⟨S1x1x1024, .f32⟩
  | .hbm, ⟨50, _⟩ => ⟨S4x2048x1024, .f32⟩
  | .hbm, ⟨51, _⟩ => ⟨S4x2048x1024, .f32⟩
  | .hbm, ⟨52, _⟩ => ⟨S_, .f32⟩
  | .hbm, ⟨53, _⟩ => ⟨S1024, .f32⟩
  | .hbm, ⟨54, _⟩ => ⟨S4x2048x1024, .f32⟩
  | .hbm, ⟨55, _⟩ => ⟨S_, .f32⟩
  | .hbm, ⟨56, _⟩ => ⟨S4x2048, .f32⟩
  | .hbm, ⟨57, _⟩ => ⟨S4x2048x1, .f32⟩
  | .hbm, ⟨58, _⟩ => ⟨S4x2048x1024, .f32⟩
  | .hbm, ⟨59, _⟩ => ⟨S4x2048x1024, .f32⟩
  | .hbm, ⟨60, _⟩ => ⟨S4x2048x1, .f32⟩
  | .hbm, ⟨61, _⟩ => ⟨S_, .f32⟩
  | .hbm, ⟨62, _⟩ => ⟨S4x2048x1, .f32⟩
  | .hbm, ⟨63, _⟩ => ⟨S4x2048x1, .f32⟩
  | .hbm, ⟨64, _⟩ => ⟨S_, .f32⟩
  | .hbm, ⟨65, _⟩ => ⟨S4x2048, .f32⟩
  | .hbm, ⟨66, _⟩ => ⟨S4x2048x1024, .f32⟩
  | .hbm, ⟨67, _⟩ => ⟨S4x2048x1024, .f32⟩
  | .hbm, ⟨68, _⟩ => ⟨S4x2048x1024, .f32⟩
  | .hbm, ⟨69, _⟩ => ⟨S4x2048x1024, .f32⟩
  | .hbm, ⟨70, _⟩ => ⟨S4x2048x1024, .f32⟩
  | .hbm, ⟨71, _⟩ => ⟨S8192x1024, .f32⟩
  | .hbm, ⟨72, _⟩ => ⟨S1x128, .f32⟩
  | .hbm, ⟨73, _⟩ => ⟨S1x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Kernel16.lean ====
abbrev S4x1024x386 : Shape := ⟨3, ![4, 1024, 386]⟩
abbrev S4096x386 : Shape := ⟨2, ![4096, 386]⟩
abbrev S512x386 : Shape := ⟨2, ![512, 386]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x386, .f32⟩
  | .hbm, ⟨1, _⟩ => ⟨S4x1024x386, .f32⟩
  | .hbm, ⟨2, _⟩ => ⟨S4x1024x386, .f32⟩
  | .hbm, ⟨3, _⟩ => ⟨S4x1024x386, .f32⟩
  | .hbm, ⟨4, _⟩ => ⟨S4096x386, .f32⟩
  | .hbm, ⟨5, _⟩ => ⟨S4096x386, .f32⟩
  | .hbm, ⟨6, _⟩ => ⟨S4096x386, .f32⟩
  | .hbm, ⟨7, _⟩ => ⟨S4096x386, .f32⟩
  | .hbm, ⟨8, _⟩ => ⟨S4096x386, .f32⟩
  | .hbm, ⟨9, _⟩ => ⟨S4096x386, .f32⟩
  | .hbm, ⟨10, _⟩ => ⟨S4096x386, .f32⟩
  | .local _ .vmem, ⟨0, _⟩ => ⟨S512x386, .f32⟩
  | .local _ .vmem, ⟨1, _⟩ => ⟨S512x386, .f32⟩
  | .local _ .vmem, ⟨2, _⟩ => ⟨S512x386, .f32⟩
  | .local _ .vmem, ⟨3, _⟩ => ⟨S512x386, .f32⟩
  | .local _ .vmem, ⟨4, _⟩ => ⟨S512x386, .f32⟩
  | .local _ .vmem, ⟨5, _⟩ => ⟨S512x386, .f32⟩
  | .local _ .vmem, ⟨6, _⟩ => ⟨S512x386, .f32⟩
  | .local _ .vmem, ⟨7, _⟩ => ⟨S512x386, .f32⟩
  | .local _ .vmem, ⟨8, _⟩ => ⟨S512x386, .f32⟩
  | .local _ .vmem, ⟨9, _⟩ => ⟨S512x386, .f32⟩
  | .local _ .vmem, ⟨10, _⟩ => ⟨S512x386, .f32⟩
  | .local _ .vmem, ⟨11, _⟩ => ⟨S512x386, .f32⟩
  | .local _ .vmem, ⟨12, _⟩ => ⟨S512x386, .f32⟩
  | .local _ .vmem, ⟨13, _⟩ => ⟨S512x386, .f32⟩
  | _, _ => ⟨S4x1024x386, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x386 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x386 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x386 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x386 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x386 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x386 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x386 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel16Ideal.lean ====
abbrev S4x1024x386 : Shape := ⟨3, ![4, 1024, 386]⟩
abbrev S4096x386 : Shape := ⟨2, ![4096, 386]⟩
abbrev S512x386 : Shape := ⟨2, ![512, 386]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x386, .f32⟩
  | .hbm, ⟨1, _⟩ => ⟨S4x1024x386, .f32⟩
  | .hbm, ⟨2, _⟩ => ⟨S4x1024x386, .f32⟩
  | .hbm, ⟨3, _⟩ => ⟨S4x1024x386, .f32⟩
  | .hbm, ⟨4, _⟩ => ⟨S4096x386, .f32⟩
  | .hbm, ⟨5, _⟩ => ⟨S4096x386, .f32⟩
  | .hbm, ⟨6, _⟩ => ⟨S4096x386, .f32⟩
  | .hbm, ⟨7, _⟩ => ⟨S4096x386, .f32⟩
  | .hbm, ⟨8, _⟩ => ⟨S4096x386, .f32⟩
  | .hbm, ⟨9, _⟩ => ⟨S4096x386, .f32⟩
  | .hbm, ⟨10, _⟩ => ⟨S4096x386, .f32⟩
  | .local _ .vmem, ⟨0, _⟩ => ⟨S512x386, .f32⟩
  | .local _ .vmem, ⟨1, _⟩ => ⟨S512x386, .f32⟩
  | .local _ .vmem, ⟨2, _⟩ => ⟨S512x386, .f32⟩
  | .local _ .vmem, ⟨3, _⟩ => ⟨S512x386, .f32⟩
  | .local _ .vmem, ⟨4, _⟩ => ⟨S512x386, .f32⟩
  | .local _ .vmem, ⟨5, _⟩ => ⟨S512x386, .f32⟩
  | .local _ .vmem, ⟨6, _⟩ => ⟨S512x386, .f32⟩
  | .local _ .vmem, ⟨7, _⟩ => ⟨S512x386, .f32⟩
  | .local _ .vmem, ⟨8, _⟩ => ⟨S512x386, .f32⟩
  | .local _ .vmem, ⟨9, _⟩ => ⟨S512x386, .f32⟩
  | .local _ .vmem, ⟨10, _⟩ => ⟨S512x386, .f32⟩
  | .local _ .vmem, ⟨11, _⟩ => ⟨S512x386, .f32⟩
  | .local _ .vmem, ⟨12, _⟩ => ⟨S512x386, .f32⟩
  | .local _ .vmem, ⟨13, _⟩ => ⟨S512x386, .f32⟩
  | _, _ => ⟨S4x1024x386, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x386 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x386 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x386 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x386 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x386 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x386 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x386 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S4x1024x386 : Shape := ⟨3, ![4, 1024, 386]⟩
abbrev S_ : Shape := ⟨0, ![]⟩
abbrev S4096x386 : Shape := ⟨2, ![4096, 386]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x386, .f32⟩
  | .hbm, ⟨1, _⟩ => ⟨S4x1024x386, .f32⟩
  | .hbm, ⟨2, _⟩ => ⟨S4x1024x386, .f32⟩
  | .hbm, ⟨3, _⟩ => ⟨S4x1024x386, .f32⟩
  | .hbm, ⟨4, _⟩ => ⟨S_, .f32⟩
  | .hbm, ⟨5, _⟩ => ⟨S4x1024x386, .f32⟩
  | .hbm, ⟨6, _⟩ => ⟨S4x1024x386, .f32⟩
  | .hbm, ⟨7, _⟩ => ⟨S_, .f32⟩
  | .hbm, ⟨8, _⟩ => ⟨S4x1024x386, .f32⟩
  | .hbm, ⟨9, _⟩ => ⟨S4x1024x386, .f32⟩
  | .hbm, ⟨10, _⟩ => ⟨S4x1024x386, .f32⟩
  | .hbm, ⟨11, _⟩ => ⟨S_, .f32⟩
  | .hbm, ⟨12, _⟩ => ⟨S4x1024x386, .f32⟩
  | .hbm, ⟨13, _⟩ => ⟨S4x1024x386, .f32⟩
  | .hbm, ⟨14, _⟩ => ⟨S4x1024x386, .f32⟩
  | .hbm, ⟨15, _⟩ => ⟨S_, .f32⟩
  | .hbm, ⟨16, _⟩ => ⟨S4x1024x386, .f32⟩
  | .hbm, ⟨17, _⟩ => ⟨S4x1024x386, .f32⟩
  | .hbm, ⟨18, _⟩ => ⟨S4x1024x386, .f32⟩
  | .hbm, ⟨19, _⟩ => ⟨S_, .f32⟩
  | .hbm, ⟨20, _⟩ => ⟨S4x1024x386, .f32⟩
  | .hbm, ⟨21, _⟩ => ⟨S4x1024x386, .f32⟩
  | .hbm, ⟨22, _⟩ => ⟨S_, .f32⟩
  | .hbm, ⟨23, _⟩ => ⟨S4x1024x386, .f32⟩
  | .hbm, ⟨24, _⟩ => ⟨S4x1024x386, .f32⟩
  | .hbm, ⟨25, _⟩ => ⟨S4x1024x386, .f32⟩
  | .hbm, ⟨26, _⟩ => ⟨S_, .f32⟩
  | .hbm, ⟨27, _⟩ => ⟨S4x1024x386, .f32⟩
  | .hbm, ⟨28, _⟩ => ⟨S4x1024x386, .f32⟩
  | .hbm, ⟨29, _⟩ => ⟨S4x1024x386, .f32⟩
  | .hbm, ⟨30, _⟩ => ⟨S_, .f32⟩
  | .hbm, ⟨31, _⟩ => ⟨S4x1024x386, .f32⟩
  | .hbm, ⟨32, _⟩ => ⟨S4x1024x386, .f32⟩
  | .hbm, ⟨33, _⟩ => ⟨S4x1024x386, .f32⟩
  | .hbm, ⟨34, _⟩ => ⟨S_, .f32⟩
  | .hbm, ⟨35, _⟩ => ⟨S4x1024x386, .f32⟩
  | .hbm, ⟨36, _⟩ => ⟨S4x1024x386, .f32⟩
  | .hbm, ⟨37, _⟩ => ⟨S4096x386, .f32⟩
  | .hbm, ⟨38, _⟩ => ⟨S4096x386, .f32⟩
  | .hbm, ⟨39, _⟩ => ⟨S4096x386, .f32⟩
  | _, _ => ⟨S4x1024x386, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel17.lean ====
abbrev S4x128x1024 : Shape := ⟨3, ![4, 128, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel17Ideal.lean ====
abbrev S4x128x1024 : Shape := ⟨3, ![4, 128, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference17Ideal.lean ====
abbrev S4x128x1024 : Shape := ⟨3, ![4, 128, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S_, .f32⟩
  | .hbm, ⟨5, _⟩ => ⟨S4x128x1024, .f32⟩
  | .hbm, ⟨6, _⟩ => ⟨S4x128x1024, .f32⟩
  | .hbm, ⟨7, _⟩ => ⟨S_, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S_, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .hbm, ⟨15, _⟩ => ⟨S_, .f32⟩
  | .hbm, ⟨16, _⟩ => ⟨S4x128x1024, .f32⟩
  | .hbm, ⟨17, _⟩ => ⟨S4x128x1024, .f32⟩
  | .hbm, ⟨18, _⟩ => ⟨S4x128x1024, .f32⟩
  | .hbm, ⟨19, _⟩ => ⟨S_, .f32⟩
  | .hbm, ⟨20, _⟩ => ⟨S4x128x1024, .f32⟩
  | .hbm, ⟨21, _⟩ => ⟨S4x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S4x128x1024, .f32⟩
  | .hbm, ⟨26, _⟩ => ⟨S_, .f32⟩
  | .hbm, ⟨27, _⟩ => ⟨S4x128x1024, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel18.lean ====
abbrev S4x1024x352 : Shape := ⟨3, ![4, 1024, 352]⟩
abbrev S4096x352 : Shape := ⟨2, ![4096, 352]⟩
abbrev S512x352 : Shape := ⟨2, ![512, 352]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x352, .f32⟩
  | .hbm, ⟨1, _⟩ => ⟨S4x1024x352, .f32⟩
  | .hbm, ⟨2, _⟩ => ⟨S4x1024x352, .f32⟩
  | .hbm, ⟨3, _⟩ => ⟨S4x1024x352, .f32⟩
  | .hbm, ⟨4, _⟩ => ⟨S4096x352, .f32⟩
  | .hbm, ⟨5, _⟩ => ⟨S4096x352, .f32⟩
  | .hbm, ⟨6, _⟩ => ⟨S4096x352, .f32⟩
  | .hbm, ⟨7, _⟩ => ⟨S4096x352, .f32⟩
  | .hbm, ⟨8, _⟩ => ⟨S4096x352, .f32⟩
  | .hbm, ⟨9, _⟩ => ⟨S4096x352, .f32⟩
  | .hbm, ⟨10, _⟩ => ⟨S4096x352, .f32⟩
  | .local _ .vmem, ⟨0, _⟩ => ⟨S512x352, .f32⟩
  | .local _ .vmem, ⟨1, _⟩ => ⟨S512x352, .f32⟩
  | .local _ .vmem, ⟨2, _⟩ => ⟨S512x352, .f32⟩
  | .local _ .vmem, ⟨3, _⟩ => ⟨S512x352, .f32⟩
  | .local _ .vmem, ⟨4, _⟩ => ⟨S512x352, .f32⟩
  | .local _ .vmem, ⟨5, _⟩ => ⟨S512x352, .f32⟩
  | .local _ .vmem, ⟨6, _⟩ => ⟨S512x352, .f32⟩
  | .local _ .vmem, ⟨7, _⟩ => ⟨S512x352, .f32⟩
  | .local _ .vmem, ⟨8, _⟩ => ⟨S512x352, .f32⟩
  | .local _ .vmem, ⟨9, _⟩ => ⟨S512x352, .f32⟩
  | .local _ .vmem, ⟨10, _⟩ => ⟨S512x352, .f32⟩
  | .local _ .vmem, ⟨11, _⟩ => ⟨S512x352, .f32⟩
  | .local _ .vmem, ⟨12, _⟩ => ⟨S512x352, .f32⟩
  | .local _ .vmem, ⟨13, _⟩ => ⟨S512x352, .f32⟩
  | _, _ => ⟨S4x1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel18Ideal.lean ====
abbrev S4x1024x352 : Shape := ⟨3, ![4, 1024, 352]⟩
abbrev S4096x352 : Shape := ⟨2, ![4096, 352]⟩
abbrev S512x352 : Shape := ⟨2, ![512, 352]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x352, .f32⟩
  | .hbm, ⟨1, _⟩ => ⟨S4x1024x352, .f32⟩
  | .hbm, ⟨2, _⟩ => ⟨S4x1024x352, .f32⟩
  | .hbm, ⟨3, _⟩ => ⟨S4x1024x352, .f32⟩
  | .hbm, ⟨4, _⟩ => ⟨S4096x352, .f32⟩
  | .hbm, ⟨5, _⟩ => ⟨S4096x352, .f32⟩
  | .hbm, ⟨6, _⟩ => ⟨S4096x352, .f32⟩
  | .hbm, ⟨7, _⟩ => ⟨S4096x352, .f32⟩
  | .hbm, ⟨8, _⟩ => ⟨S4096x352, .f32⟩
  | .hbm, ⟨9, _⟩ => ⟨S4096x352, .f32⟩
  | .hbm, ⟨10, _⟩ => ⟨S4096x352, .f32⟩
  | .local _ .vmem, ⟨0, _⟩ => ⟨S512x352, .f32⟩
  | .local _ .vmem, ⟨1, _⟩ => ⟨S512x352, .f32⟩
  | .local _ .vmem, ⟨2, _⟩ => ⟨S512x352, .f32⟩
  | .local _ .vmem, ⟨3, _⟩ => ⟨S512x352, .f32⟩
  | .local _ .vmem, ⟨4, _⟩ => ⟨S512x352, .f32⟩
  | .local _ .vmem, ⟨5, _⟩ => ⟨S512x352, .f32⟩
  | .local _ .vmem, ⟨6, _⟩ => ⟨S512x352, .f32⟩
  | .local _ .vmem, ⟨7, _⟩ => ⟨S512x352, .f32⟩
  | .local _ .vmem, ⟨8, _⟩ => ⟨S512x352, .f32⟩
  | .local _ .vmem, ⟨9, _⟩ => ⟨S512x352, .f32⟩
  | .local _ .vmem, ⟨10, _⟩ => ⟨S512x352, .f32⟩
  | .local _ .vmem, ⟨11, _⟩ => ⟨S512x352, .f32⟩
  | .local _ .vmem, ⟨12, _⟩ => ⟨S512x352, .f32⟩
  | .local _ .vmem, ⟨13, _⟩ => ⟨S512x352, .f32⟩
  | _, _ => ⟨S4x1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S4x1024x352 : Shape := ⟨3, ![4, 1024, 352]⟩
abbrev S_ : Shape := ⟨0, ![]⟩
abbrev S4096x352 : Shape := ⟨2, ![4096, 352]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x352, .f32⟩
  | .hbm, ⟨1, _⟩ => ⟨S4x1024x352, .f32⟩
  | .hbm, ⟨2, _⟩ => ⟨S4x1024x352, .f32⟩
  | .hbm, ⟨3, _⟩ => ⟨S4x1024x352, .f32⟩
  | .hbm, ⟨4, _⟩ => ⟨S_, .f32⟩
  | .hbm, ⟨5, _⟩ => ⟨S4x1024x352, .f32⟩
  | .hbm, ⟨6, _⟩ => ⟨S4x1024x352, .f32⟩
  | .hbm, ⟨7, _⟩ => ⟨S_, .f32⟩
  | .hbm, ⟨8, _⟩ => ⟨S4x1024x352, .f32⟩
  | .hbm, ⟨9, _⟩ => ⟨S4x1024x352, .f32⟩
  | .hbm, ⟨10, _⟩ => ⟨S4x1024x352, .f32⟩
  | .hbm, ⟨11, _⟩ => ⟨S_, .f32⟩
  | .hbm, ⟨12, _⟩ => ⟨S4x1024x352, .f32⟩
  | .hbm, ⟨13, _⟩ => ⟨S4x1024x352, .f32⟩
  | .hbm, ⟨14, _⟩ => ⟨S4x1024x352, .f32⟩
  | .hbm, ⟨15, _⟩ => ⟨S_, .f32⟩
  | .hbm, ⟨16, _⟩ => ⟨S4x1024x352, .f32⟩
  | .hbm, ⟨17, _⟩ => ⟨S4x1024x352, .f32⟩
  | .hbm, ⟨18, _⟩ => ⟨S4x1024x352, .f32⟩
  | .hbm, ⟨19, _⟩ => ⟨S_, .f32⟩
  | .hbm, ⟨20, _⟩ => ⟨S4x1024x352, .f32⟩
  | .hbm, ⟨21, _⟩ => ⟨S4x1024x352, .f32⟩
  | .hbm, ⟨22, _⟩ => ⟨S_, .f32⟩
  | .hbm, ⟨23, _⟩ => ⟨S4x1024x352, .f32⟩
  | .hbm, ⟨24, _⟩ => ⟨S4x1024x352, .f32⟩
  | .hbm, ⟨25, _⟩ => ⟨S4x1024x352, .f32⟩
  | .hbm, ⟨26, _⟩ => ⟨S_, .f32⟩
  | .hbm, ⟨27, _⟩ => ⟨S4x1024x352, .f32⟩
  | .hbm, ⟨28, _⟩ => ⟨S4x1024x352, .f32⟩
  | .hbm, ⟨29, _⟩ => ⟨S4x1024x352, .f32⟩
  | .hbm, ⟨30, _⟩ => ⟨S_, .f32⟩
  | .hbm, ⟨31, _⟩ => ⟨S4x1024x352, .f32⟩
  | .hbm, ⟨32, _⟩ => ⟨S4x1024x352, .f32⟩
  | .hbm, ⟨33, _⟩ => ⟨S4x1024x352, .f32⟩
  | .hbm, ⟨34, _⟩ => ⟨S_, .f32⟩
  | .hbm, ⟨35, _⟩ => ⟨S4x1024x352, .f32⟩
  | .hbm, ⟨36, _⟩ => ⟨S4x1024x352, .f32⟩
  | .hbm, ⟨37, _⟩ => ⟨S4096x352, .f32⟩
  | .hbm, ⟨38, _⟩ => ⟨S4096x352, .f32⟩
  | .hbm, ⟨39, _⟩ => ⟨S4096x352, .f32⟩
  | _, _ => ⟨S4x1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel19.lean ====
abbrev S4x1024x352 : Shape := ⟨3, ![4, 1024, 352]⟩
abbrev S4096x352 : Shape := ⟨2, ![4096, 352]⟩
abbrev S512x352 : Shape := ⟨2, ![512, 352]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x352, .f32⟩
  | .hbm, ⟨1, _⟩ => ⟨S4x1024x352, .f32⟩
  | .hbm, ⟨2, _⟩ => ⟨S4x1024x352, .f32⟩
  | .hbm, ⟨3, _⟩ => ⟨S4x1024x352, .f32⟩
  | .hbm, ⟨4, _⟩ => ⟨S4096x352, .f32⟩
  | .hbm, ⟨5, _⟩ => ⟨S4096x352, .f32⟩
  | .hbm, ⟨6, _⟩ => ⟨S4096x352, .f32⟩
  | .hbm, ⟨7, _⟩ => ⟨S4096x352, .f32⟩
  | .hbm, ⟨8, _⟩ => ⟨S4096x352, .f32⟩
  | .hbm, ⟨9, _⟩ => ⟨S4096x352, .f32⟩
  | .hbm, ⟨10, _⟩ => ⟨S4096x352, .f32⟩
  | .local _ .vmem, ⟨0, _⟩ => ⟨S512x352, .f32⟩
  | .local _ .vmem, ⟨1, _⟩ => ⟨S512x352, .f32⟩
  | .local _ .vmem, ⟨2, _⟩ => ⟨S512x352, .f32⟩
  | .local _ .vmem, ⟨3, _⟩ => ⟨S512x352, .f32⟩
  | .local _ .vmem, ⟨4, _⟩ => ⟨S512x352, .f32⟩
  | .local _ .vmem, ⟨5, _⟩ => ⟨S512x352, .f32⟩
  | .local _ .vmem, ⟨6, _⟩ => ⟨S512x352, .f32⟩
  | .local _ .vmem, ⟨7, _⟩ => ⟨S512x352, .f32⟩
  | .local _ .vmem, ⟨8, _⟩ => ⟨S512x352, .f32⟩
  | .local _ .vmem, ⟨9, _⟩ => ⟨S512x352, .f32⟩
  | .local _ .vmem, ⟨10, _⟩ => ⟨S512x352, .f32⟩
  | .local _ .vmem, ⟨11, _⟩ => ⟨S512x352, .f32⟩
  | .local _ .vmem, ⟨12, _⟩ => ⟨S512x352, .f32⟩
  | .local _ .vmem, ⟨13, _⟩ => ⟨S512x352, .f32⟩
  | _, _ => ⟨S4x1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel19Ideal.lean ====
abbrev S4x1024x352 : Shape := ⟨3, ![4, 1024, 352]⟩
abbrev S4096x352 : Shape := ⟨2, ![4096, 352]⟩
abbrev S512x352 : Shape := ⟨2, ![512, 352]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x352, .f32⟩
  | .hbm, ⟨1, _⟩ => ⟨S4x1024x352, .f32⟩
  | .hbm, ⟨2, _⟩ => ⟨S4x1024x352, .f32⟩
  | .hbm, ⟨3, _⟩ => ⟨S4x1024x352, .f32⟩
  | .hbm, ⟨4, _⟩ => ⟨S4096x352, .f32⟩
  | .hbm, ⟨5, _⟩ => ⟨S4096x352, .f32⟩
  | .hbm, ⟨6, _⟩ => ⟨S4096x352, .f32⟩
  | .hbm, ⟨7, _⟩ => ⟨S4096x352, .f32⟩
  | .hbm, ⟨8, _⟩ => ⟨S4096x352, .f32⟩
  | .hbm, ⟨9, _⟩ => ⟨S4096x352, .f32⟩
  | .hbm, ⟨10, _⟩ => ⟨S4096x352, .f32⟩
  | .local _ .vmem, ⟨0, _⟩ => ⟨S512x352, .f32⟩
  | .local _ .vmem, ⟨1, _⟩ => ⟨S512x352, .f32⟩
  | .local _ .vmem, ⟨2, _⟩ => ⟨S512x352, .f32⟩
  | .local _ .vmem, ⟨3, _⟩ => ⟨S512x352, .f32⟩
  | .local _ .vmem, ⟨4, _⟩ => ⟨S512x352, .f32⟩
  | .local _ .vmem, ⟨5, _⟩ => ⟨S512x352, .f32⟩
  | .local _ .vmem, ⟨6, _⟩ => ⟨S512x352, .f32⟩
  | .local _ .vmem, ⟨7, _⟩ => ⟨S512x352, .f32⟩
  | .local _ .vmem, ⟨8, _⟩ => ⟨S512x352, .f32⟩
  | .local _ .vmem, ⟨9, _⟩ => ⟨S512x352, .f32⟩
  | .local _ .vmem, ⟨10, _⟩ => ⟨S512x352, .f32⟩
  | .local _ .vmem, ⟨11, _⟩ => ⟨S512x352, .f32⟩
  | .local _ .vmem, ⟨12, _⟩ => ⟨S512x352, .f32⟩
  | .local _ .vmem, ⟨13, _⟩ => ⟨S512x352, .f32⟩
  | _, _ => ⟨S4x1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S4x1024x352 : Shape := ⟨3, ![4, 1024, 352]⟩
abbrev S_ : Shape := ⟨0, ![]⟩
abbrev S4096x352 : Shape := ⟨2, ![4096, 352]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x352, .f32⟩
  | .hbm, ⟨1, _⟩ => ⟨S4x1024x352, .f32⟩
  | .hbm, ⟨2, _⟩ => ⟨S4x1024x352, .f32⟩
  | .hbm, ⟨3, _⟩ => ⟨S4x1024x352, .f32⟩
  | .hbm, ⟨4, _⟩ => ⟨S_, .f32⟩
  | .hbm, ⟨5, _⟩ => ⟨S4x1024x352, .f32⟩
  | .hbm, ⟨6, _⟩ => ⟨S4x1024x352, .f32⟩
  | .hbm, ⟨7, _⟩ => ⟨S_, .f32⟩
  | .hbm, ⟨8, _⟩ => ⟨S4x1024x352, .f32⟩
  | .hbm, ⟨9, _⟩ => ⟨S4x1024x352, .f32⟩
  | .hbm, ⟨10, _⟩ => ⟨S4x1024x352, .f32⟩
  | .hbm, ⟨11, _⟩ => ⟨S_, .f32⟩
  | .hbm, ⟨12, _⟩ => ⟨S4x1024x352, .f32⟩
  | .hbm, ⟨13, _⟩ => ⟨S4x1024x352, .f32⟩
  | .hbm, ⟨14, _⟩ => ⟨S4x1024x352, .f32⟩
  | .hbm, ⟨15, _⟩ => ⟨S_, .f32⟩
  | .hbm, ⟨16, _⟩ => ⟨S4x1024x352, .f32⟩
  | .hbm, ⟨17, _⟩ => ⟨S4x1024x352, .f32⟩
  | .hbm, ⟨18, _⟩ => ⟨S4x1024x352, .f32⟩
  | .hbm, ⟨19, _⟩ => ⟨S_, .f32⟩
  | .hbm, ⟨20, _⟩ => ⟨S4x1024x352, .f32⟩
  | .hbm, ⟨21, _⟩ => ⟨S4x1024x352, .f32⟩
  | .hbm, ⟨22, _⟩ => ⟨S_, .f32⟩
  | .hbm, ⟨23, _⟩ => ⟨S4x1024x352, .f32⟩
  | .hbm, ⟨24, _⟩ => ⟨S4x1024x352, .f32⟩
  | .hbm, ⟨25, _⟩ => ⟨S4x1024x352, .f32⟩
  | .hbm, ⟨26, _⟩ => ⟨S_, .f32⟩
  | .hbm, ⟨27, _⟩ => ⟨S4x1024x352, .f32⟩
  | .hbm, ⟨28, _⟩ => ⟨S4x1024x352, .f32⟩
  | .hbm, ⟨29, _⟩ => ⟨S4x1024x352, .f32⟩
  | .hbm, ⟨30, _⟩ => ⟨S_, .f32⟩
  | .hbm, ⟨31, _⟩ => ⟨S4x1024x352, .f32⟩
  | .hbm, ⟨32, _⟩ => ⟨S4x1024x352, .f32⟩
  | .hbm, ⟨33, _⟩ => ⟨S4x1024x352, .f32⟩
  | .hbm, ⟨34, _⟩ => ⟨S_, .f32⟩
  | .hbm, ⟨35, _⟩ => ⟨S4x1024x352, .f32⟩
  | .hbm, ⟨36, _⟩ => ⟨S4x1024x352, .f32⟩
  | .hbm, ⟨37, _⟩ => ⟨S4096x352, .f32⟩
  | .hbm, ⟨38, _⟩ => ⟨S4096x352, .f32⟩
  | .hbm, ⟨39, _⟩ => ⟨S4096x352, .f32⟩
  | _, _ => ⟨S4x1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel20.lean ====
abbrev S4x352x1024 : Shape := ⟨3, ![4, 352, 1024]⟩
abbrev S1408x1024 : Shape := ⟨2, ![1408, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel20Ideal.lean ====
abbrev S4x352x1024 : Shape := ⟨3, ![4, 352, 1024]⟩
abbrev S1408x1024 : Shape := ⟨2, ![1408, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S4x352x1024 : Shape := ⟨3, ![4, 352, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S_, .f32⟩
  | .hbm, ⟨5, _⟩ => ⟨S4x352x1024, .f32⟩
  | .hbm, ⟨6, _⟩ => ⟨S4x352x1024, .f32⟩
  | .hbm, ⟨7, _⟩ => ⟨S_, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S_, .f32⟩
  | .hbm, ⟨12, _⟩ => ⟨S4x352x1024, .f32⟩
  | .hbm, ⟨13, _⟩ => ⟨S4x352x1024, .f32⟩
  | .hbm, ⟨14, _⟩ => ⟨S4x352x1024, .f32⟩
  | .hbm, ⟨15, _⟩ => ⟨S_, .f32⟩
  | .hbm, ⟨16, _⟩ => ⟨S4x352x1024, .f32⟩
  | .hbm, ⟨17, _⟩ => ⟨S4x352x1024, .f32⟩
  | .hbm, ⟨18, _⟩ => ⟨S4x352x1024, .f32⟩
  | .hbm, ⟨19, _⟩ => ⟨S_, .f32⟩
  | .hbm, ⟨20, _⟩ => ⟨S4x352x1024, .f32⟩
  | .hbm, ⟨21, _⟩ => ⟨S4x352x1024, .f32⟩
  | .hbm, ⟨22, _⟩ => ⟨S_, .f32⟩
  | .hbm, ⟨23, _⟩ => ⟨S4x352x1024, .f32⟩
  | .hbm, ⟨24, _⟩ => ⟨S4x352x1024, .f32⟩
  | .hbm, ⟨25, _⟩ => ⟨S4x352x1024, .f32⟩
  | .hbm, ⟨26, _⟩ => ⟨S_, .f32⟩
  | .hbm, ⟨27, _⟩ => ⟨S4x352x1024, .f32⟩
  | .hbm, ⟨28, _⟩ => ⟨S4x352x1024, .f32⟩
  | .hbm, ⟨29, _⟩ => ⟨S4x352x1024, .f32⟩
  | .hbm, ⟨30, _⟩ => ⟨S_, .f32⟩
  | .hbm, ⟨31, _⟩ => ⟨S4x352x1024, .f32⟩
  | .hbm, ⟨32, _⟩ => ⟨S4x352x1024, .f32⟩
  | .hbm, ⟨33, _⟩ => ⟨S4x352x1024, .f32⟩
  | .hbm, ⟨34, _⟩ => ⟨S_, .f32⟩
  | .hbm, ⟨35, _⟩ => ⟨S4x352x1024, .f32⟩
  | .hbm, ⟨36, _⟩ => ⟨S4x352x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel21.lean ====
abbrev S4x128x1024 : Shape := ⟨3, ![4, 128, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel21Ideal.lean ====
abbrev S4x128x1024 : Shape := ⟨3, ![4, 128, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference21Ideal.lean ====
abbrev S4x128x1024 : Shape := ⟨3, ![4, 128, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S_, .f32⟩
  | .hbm, ⟨5, _⟩ => ⟨S4x128x1024, .f32⟩
  | .hbm, ⟨6, _⟩ => ⟨S4x128x1024, .f32⟩
  | .hbm, ⟨7, _⟩ => ⟨S_, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S_, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .hbm, ⟨15, _⟩ => ⟨S_, .f32⟩
  | .hbm, ⟨16, _⟩ => ⟨S4x128x1024, .f32⟩
  | .hbm, ⟨17, _⟩ => ⟨S4x128x1024, .f32⟩
  | .hbm, ⟨18, _⟩ => ⟨S4x128x1024, .f32⟩
  | .hbm, ⟨19, _⟩ => ⟨S_, .f32⟩
  | .hbm, ⟨20, _⟩ => ⟨S4x128x1024, .f32⟩
  | .hbm, ⟨21, _⟩ => ⟨S4x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S4x128x1024, .f32⟩
  | .hbm, ⟨26, _⟩ => ⟨S_, .f32⟩
  | .hbm, ⟨27, _⟩ => ⟨S4x128x1024, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel22.lean ====
abbrev S4x256x128 : Shape := ⟨3, ![4, 256, 128]⟩
abbrev S1024x128 : Shape := ⟨2, ![1024, 128]⟩
abbrev S512x128 : Shape := ⟨2, ![512, 128]⟩

abbrev nBuf : Space → Nat
  | .hbm => 11
  | .vmem => 14
  | .smem => 0
  | _ => 0

abbrev bufTy : (tb : Table) → Fin (tcTables nBuf tb) → BufTy
  | .hbm, ⟨0, _⟩ => ⟨S4x256x128, .f32⟩
  | .hbm, ⟨1, _⟩ => ⟨S4x256x128, .f32⟩
  | .hbm, ⟨2, _⟩ => ⟨S4x256x128, .f32⟩
  | .hbm, ⟨3, _⟩ => ⟨S4x256x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S4x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference22Ideal.lean ====
abbrev S4x256x128 : Shape := ⟨3, ![4, 256, 128]⟩
abbrev S_ : Shape := ⟨0, ![]⟩
abbrev S1024x128 : Shape := ⟨2, ![1024, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x256x128, .f32⟩
  | .hbm, ⟨1, _⟩ => ⟨S4x256x128, .f32⟩
  | .hbm, ⟨2, _⟩ => ⟨S4x256x128, .f32⟩
  | .hbm, ⟨3, _⟩ => ⟨S4x256x128, .f32⟩
  | .hbm, ⟨4, _⟩ => ⟨S_, .f32⟩
  | .hbm, ⟨5, _⟩ => ⟨S4x256x128, .f32⟩
  | .hbm, ⟨6, _⟩ => ⟨S4x256x128, .f32⟩
  | .hbm, ⟨7, _⟩ => ⟨S_, .f32⟩
  | .hbm, ⟨8, _⟩ => ⟨S4x256x128, .f32⟩
  | .hbm, ⟨9, _⟩ => ⟨S4x256x128, .f32⟩
  | .hbm, ⟨10, _⟩ => ⟨S4x256x128, .f32⟩
  | .hbm, ⟨11, _⟩ => ⟨S_, .f32⟩
  | .hbm, ⟨12, _⟩ => ⟨S4x256x128, .f32⟩
  | .hbm, ⟨13, _⟩ => ⟨S4x256x128, .f32⟩
  | .hbm, ⟨14, _⟩ => ⟨S4x256x128, .f32⟩
  | .hbm, ⟨15, _⟩ => ⟨S_, .f32⟩
  | .hbm, ⟨16, _⟩ => ⟨S4x256x128, .f32⟩
  | .hbm, ⟨17, _⟩ => ⟨S4x256x128, .f32⟩
  | .hbm, ⟨18, _⟩ => ⟨S4x256x128, .f32⟩
  | .hbm, ⟨19, _⟩ => ⟨S_, .f32⟩
  | .hbm, ⟨20, _⟩ => ⟨S4x256x128, .f32⟩
  | .hbm, ⟨21, _⟩ => ⟨S4x256x128, .f32⟩
  | .hbm, ⟨22, _⟩ => ⟨S_, .f32⟩
  | .hbm, ⟨23, _⟩ => ⟨S4x256x128, .f32⟩
  | .hbm, ⟨24, _⟩ => ⟨S4x256x128, .f32⟩
  | .hbm, ⟨25, _⟩ => ⟨S4x256x128, .f32⟩
  | .hbm, ⟨26, _⟩ => ⟨S_, .f32⟩
  | .hbm, ⟨27, _⟩ => ⟨S4x256x128, .f32⟩
  | .hbm, ⟨28, _⟩ => ⟨S4x256x128, .f32⟩
  | .hbm, ⟨29, _⟩ => ⟨S4x256x128, .f32⟩
  | .hbm, ⟨30, _⟩ => ⟨S_, .f32⟩
  | .hbm, ⟨31, _⟩ => ⟨S4x256x128, .f32⟩
  | .hbm, ⟨32, _⟩ => ⟨S4x256x128, .f32⟩
  | .hbm, ⟨33, _⟩ => ⟨S4x256x128, .f32⟩
  | .hbm, ⟨34, _⟩ => ⟨S_, .f32⟩
  | .hbm, ⟨35, _⟩ => ⟨S4x256x128, .f32⟩
  | .hbm, ⟨36, _⟩ => ⟨S4x256x128, .f32⟩
  | .hbm, ⟨37, _⟩ => ⟨S1024x128, .f32⟩
  | .hbm, ⟨38, _⟩ => ⟨S1024x128, .f32⟩
  | .hbm, ⟨39, _⟩ => ⟨S1024x128, .f32⟩
  | _, _ => ⟨S4x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel23.lean ====
abbrev S4x1024 : Shape := ⟨2, ![4, 1024]⟩
abbrev S4x2x4 : Shape := ⟨3, ![4, 2, 4]⟩
abbrev S4x128 : Shape := ⟨2, ![4, 128]⟩
abbrev S4x512 : Shape := ⟨2, ![4, 512]⟩
abbrev S4x2x8x64x64 : Shape := ⟨5, ![4, 2, 8, 64, 64]⟩
abbrev S4x2816 : Shape := ⟨2, ![4, 2816]⟩
abbrev S1024 : Shape := ⟨1, ![1024]⟩
abbrev S4x4x192 : Shape := ⟨3, ![4, 4, 192]⟩
abbrev S4x4x64 : Shape := ⟨3, ![4, 4, 64]⟩
abbrev S4x2x64 : Shape := ⟨3, ![4, 2, 64]⟩
abbrev S4x3x352 : Shape := ⟨3, ![4, 3, 352]⟩
abbrev S4096 : Shape := ⟨1, ![4096]⟩
abbrev S32 : Shape := ⟨1, ![32]⟩
abbrev S512 : Shape := ⟨1, ![512]⟩
abbrev S2048 : Shape := ⟨1, ![2048]⟩
abbrev S262144 : Shape := ⟨1, ![262144]⟩
abbrev S11264 : Shape := ⟨1, ![11264]⟩
abbrev S3072 : Shape := ⟨1, ![3072]⟩
abbrev S4224 : Shape := ⟨1, ![4224]⟩
abbrev S562240 : Shape := ⟨1, ![562240]⟩
abbrev S5248 : Shape := ⟨1, ![5248]⟩
abbrev S567488 : Shape := ⟨1, ![567488]⟩
abbrev S_ : Shape := ⟨0, ![]⟩
abbrev S573440 : Shape := ⟨1, ![573440]⟩
abbrev S4480x128 : Shape := ⟨2, ![4480, 128]⟩
abbrev S64x128 : Shape := ⟨2, ![64, 128]⟩

abbrev nBuf : Space → Nat
  | .hbm => 179
  | .vmem => 14
  | .smem => 0
  | _ => 0

abbrev hbmTy0_0 (i : Nat) : BufTy := match i % 128 with
  | 0 => ⟨S4x1024, .f32⟩
  | 1 => ⟨S4x2x4, .f32⟩
  | 2 => ⟨S4x2x4, .f32⟩
  | 3 => ⟨S4x128, .f32⟩
  | 4 => ⟨S4x512, .f32⟩
  | 5 => ⟨S4x2x8x64x64, .f32⟩
  | 6 => ⟨S4x2x8x64x64, .f32⟩
  | 7 => ⟨S4x512, .f32⟩
  | 8 => ⟨S4x1024, .f32⟩
  | 9 => ⟨S4x2816, .f32⟩
  | 10 => ⟨S4x1024, .f32⟩
  | 11 => ⟨S4x1024, .f32⟩
  | 12 => ⟨S1024, .f32⟩
  | 13 => ⟨S4x4x192, .f32⟩
  | 14 => ⟨S4x4x64, .f32⟩
  | 15 => ⟨S4x2x64, .f32⟩
  | 16 => ⟨S4x2x64, .f32⟩
  | 17 => ⟨S4x2x64, .f32⟩
  | 18 => ⟨S4x3x352, .f32⟩
  | 19 => ⟨S4x1024, .f32⟩
  | 20 => ⟨S4x2x4, .f32⟩
  | 21 => ⟨S4x2x4, .f32⟩
  | 22 => ⟨S4x128, .f32⟩
  | 23 => ⟨S4x512, .f32⟩
  | 24 => ⟨S4x2x8x64x64, .f32⟩
  | 25 => ⟨S4x2x8x64x64, .f32⟩
  | 26 => ⟨S4x512, .f32⟩
  | 27 => ⟨S4x1024, .f32⟩
  | 28 => ⟨S4x2816, .f32⟩
  | 29 => ⟨S4x1024, .f32⟩
  | 30 => ⟨S4x1024, .f32⟩
  | 31 => ⟨S1024, .f32⟩
  | 32 => ⟨S4x4x192, .f32⟩
  | 33 => ⟨S4x4x64, .f32⟩
  | 34 => ⟨S4x2x64, .f32⟩
  | 35 => ⟨S4x2x64, .f32⟩
  | 36 => ⟨S4x2x64, .f32⟩
  | 37 => ⟨S4x3x352, .f32⟩
  | 38 => ⟨S4x1024, .f32⟩
  | 39 => ⟨S4x2x4, .f32⟩
  | 40 => ⟨S4x2x4, .f32⟩
  | 41 => ⟨S4x128, .f32⟩
  | 42 => ⟨S4x512, .f32⟩
  | 43 => ⟨S4x2x8x64x64, .f32⟩
  | 44 => ⟨S4x2x8x64x64, .f32⟩
  | 45 => ⟨S4x512, .f32⟩
  | 46 => ⟨S4x1024, .f32⟩
  | 47 => ⟨S4x2816, .f32⟩
  | 48 => ⟨S4x1024, .f32⟩
  | 49 => ⟨S4x1024, .f32⟩
  | 50 => ⟨S1024, .f32⟩
  | 51 => ⟨S4x4x192, .f32⟩
  | 52 => ⟨S4x4x64, .f32⟩
  | 53 => ⟨S4x2x64, .f32⟩
  | 54 => ⟨S4x2x64, .f32⟩
  | 55 => ⟨S4x2x64, .f32⟩
  | 56 => ⟨S4x3x352, .f32⟩
  | 57 => ⟨S4x1024, .f32⟩
  | 58 => ⟨S4x2x4, .f32⟩
  | 59 => ⟨S4x2x4, .f32⟩
  | 60 => ⟨S4x128, .f32⟩
  | 61 => ⟨S4x512, .f32⟩
  | 62 => ⟨S4x2x8x64x64, .f32⟩
  | 63 => ⟨S4x2x8x64x64, .f32⟩
  | 64 => ⟨S4x512, .f32⟩
  | 65 => ⟨S4x1024, .f32⟩
  | 66 => ⟨S4x2816, .f32⟩
  | 67 => ⟨S4x1024, .f32⟩
  | 68 => ⟨S4x1024, .f32⟩
  | 69 => ⟨S1024, .f32⟩
  | 70 => ⟨S4x4x192, .f32⟩
  | 71 => ⟨S4x4x64, .f32⟩
  | 72 => ⟨S4x2x64, .f32⟩
  | 73 => ⟨S4x2x64, .f32⟩
  | 74 => ⟨S4x2x64, .f32⟩
  | 75 => ⟨S4x3x352, .f32⟩
  | 76 => ⟨S4096, .f32⟩
  | 77 => ⟨S32, .f32⟩
  | 78 => ⟨S32, .f32⟩
  | 79 => ⟨S512, .f32⟩
  | 80 => ⟨S2048, .f32⟩
  | 81 => ⟨S262144, .f32⟩
  | 82 => ⟨S262144, .f32⟩
  | 83 => ⟨S2048, .f32⟩
  | 84 => ⟨S4096, .f32⟩
  | 85 => ⟨S11264, .f32⟩
  | 86 => ⟨S4096, .f32⟩
  | 87 => ⟨S4096, .f32⟩
  | 88 => ⟨S3072, .f32⟩
  | 89 => ⟨S1024, .f32⟩
  | 90 => ⟨S512, .f32⟩
  | 91 => ⟨S512, .f32⟩
  | 92 => ⟨S512, .f32⟩
  | 93 => ⟨S4224, .f32⟩
  | 94 => ⟨S562240, .f32⟩
  | 95 => ⟨S5248, .f32⟩
  | 96 => ⟨S567488, .f32⟩
  | 97 => ⟨S_, .i32⟩
  | 98 => ⟨S_, .f32⟩
  | 99 => ⟨S573440, .f32⟩
  | 100 => ⟨S4480x128, .f32⟩
  | 101 => ⟨S4096, .f32⟩
  | 102 => ⟨S32, .f32⟩
  | 103 => ⟨S32, .f32⟩
  | 104 => ⟨S512, .f32⟩
  | 105 => ⟨S2048, .f32⟩
  | 106 => ⟨S262144, .f32⟩
  | 107 => ⟨S262144, .f32⟩
  | 108 => ⟨S2048, .f32⟩
  | 109 => ⟨S4096, .f32⟩
  | 110 => ⟨S11264, .f32⟩
  | 111 => ⟨S4096, .f32⟩
  | 112 => ⟨S4096, .f32⟩
  | 113 => ⟨S3072, .f32⟩
  | 114 => ⟨S1024, .f32⟩
  | 115 => ⟨S512, .f32⟩
  | 116 => ⟨S512, .f32⟩
  | 117 => ⟨S512, .f32⟩
  | 118 => ⟨S4224, .f32⟩
  | 119 => ⟨S562240, .f32⟩
  | 120 => ⟨S5248, .f32⟩
  | 121 => ⟨S567488, .f32⟩
  | 122 => ⟨S_, .i32⟩
  | 123 => ⟨S_, .f32⟩
  | 124 => ⟨S573440, .f32⟩
  | 125 => ⟨S4480x128, .f32⟩
  | 126 => ⟨S4096, .f32⟩
  | 127 => ⟨S32, .f32⟩
  | _ => ⟨S4x1024, .f32⟩

abbrev hbmTy0_1 (i : Nat) : BufTy := match i % 128 with
  | 0 => ⟨S32, .f32⟩
  | 1 => ⟨S512, .f32⟩
  | 2 => ⟨S2048, .f32⟩
  | 3 => ⟨S262144, .f32⟩
  | 4 => ⟨S262144, .f32⟩
  | 5 => ⟨S2048, .f32⟩
  | 6 => ⟨S4096, .f32⟩
  | 7 => ⟨S11264, .f32⟩
  | 8 => ⟨S4096, .f32⟩
  | 9 => ⟨S4096, .f32⟩
  | 10 => ⟨S3072, .f32⟩
  | 11 => ⟨S1024, .f32⟩
  | 12 => ⟨S512, .f32⟩
  | 13 => ⟨S512, .f32⟩
  | 14 => ⟨S512, .f32⟩
  | 15 => ⟨S4224, .f32⟩
  | 16 => ⟨S562240, .f32⟩
  | 17 => ⟨S5248, .f32⟩
  | 18 => ⟨S567488, .f32⟩
  | 19 => ⟨S_, .i32⟩
  | 20 => ⟨S_, .f32⟩
  | 21 => ⟨S573440, .f32⟩
  | 22 => ⟨S4480x128, .f32⟩
  | 23 => ⟨S4096, .f32⟩
  | 24 => ⟨S32, .f32⟩
  | 25 => ⟨S32, .f32⟩
  | 26 => ⟨S512, .f32⟩
  | 27 => ⟨S2048, .f32⟩
  | 28 => ⟨S262144, .f32⟩
  | 29 => ⟨S262144, .f32⟩
  | 30 => ⟨S2048, .f32⟩
  | 31 => ⟨S4096, .f32⟩
  | 32 => ⟨S11264, .f32⟩
  | 33 => ⟨S4096, .f32⟩
  | 34 => ⟨S4096, .f32⟩
  | 35 => ⟨S3072, .f32⟩
  | 36 => ⟨S1024, .f32⟩
  | 37 => ⟨S512, .f32⟩
  | 38 => ⟨S512, .f32⟩
  | 39 => ⟨S512, .f32⟩
  | 40 => ⟨S4224, .f32⟩
  | 41 => ⟨S562240, .f32⟩
  | 42 => ⟨S5248, .f32⟩
  | 43 => ⟨S567488, .f32⟩
  | 44 => ⟨S_, .i32⟩
  | 45 => ⟨S_, .f32⟩
  | 46 => ⟨S573440, .f32⟩
  | 47 => ⟨S4480x128, .f32⟩
  | 48 => ⟨S4480x128, .f32⟩
  | 49 => ⟨S4480x128, .f32⟩
  | 50 => ⟨S4480x128, .f32⟩
  | _ => ⟨S4x1024, .f32⟩

abbrev hbmTy (i : Nat) : BufTy := match i / 128 with
  | 0 => hbmTy0_0 i
  | 1 => hbmTy0_1 i
  | _ => ⟨S4x1024, .f32⟩

abbrev bufTy : (tb : Table) → Fin (tcTables nBuf tb) → BufTy
  | .hbm, ⟨i, _⟩ => hbmTy i
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S64x128, .f32⟩
  | .local _ .vmem, ⟨10, _⟩ => ⟨S64x128, .f32⟩
  | .local _ .vmem, ⟨11, _⟩ => ⟨S64x128, .f32⟩
  | .local _ .vmem, ⟨12, _⟩ => ⟨S64x128, .f32⟩
  | .local _ .vmem, ⟨13, _⟩ => ⟨S64x128, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_arg66 : Ref sig .tc := ⟨.hbm, 66, rfl⟩
abbrev main_arg67 : Ref sig .tc := ⟨.hbm, 67, rfl⟩
abbrev main_arg68 : Ref sig .tc := ⟨.hbm, 68, rfl⟩
abbrev main_arg69 : Ref sig .tc := ⟨.hbm, 69, rfl⟩
abbrev main_arg70 : Ref sig .tc := ⟨.hbm, 70, rfl⟩
abbrev main_arg71 : Ref sig .tc := ⟨.hbm, 71, rfl⟩
abbrev main_arg72 : Ref sig .tc := ⟨.hbm, 72, rfl⟩
abbrev main_arg73 : Ref sig .tc := ⟨.hbm, 73, rfl⟩
abbrev main_arg74 : Ref sig .tc := ⟨.hbm, 74, rfl⟩
abbrev main_arg75 : Ref sig .tc := ⟨.hbm, 75, rfl⟩
abbrev main_v0 : Ref sig .tc := ⟨.hbm, 76, rfl⟩
abbrev main_v1 : Ref sig .tc := ⟨.hbm, 77, rfl⟩
abbrev main_v2 : Ref sig .tc := ⟨.hbm, 78, rfl⟩
abbrev main_v3 : Ref sig .tc := ⟨.hbm, 79, rfl⟩
abbrev main_v4 : Ref sig .tc := ⟨.hbm, 80, rfl⟩
abbrev main_v5 : Ref sig .tc := ⟨.hbm, 81, rfl⟩
abbrev main_v6 : Ref sig .tc := ⟨.hbm, 82, rfl⟩
abbrev main_v7 : Ref sig .tc := ⟨.hbm, 83, rfl⟩
abbrev main_v8 : Ref sig .tc := ⟨.hbm, 84, rfl⟩
abbrev main_v9 : Ref sig .tc := ⟨.hbm, 85, rfl⟩
abbrev main_v10 : Ref sig .tc := ⟨.hbm, 86, rfl⟩
abbrev main_v11 : Ref sig .tc := ⟨.hbm, 87, rfl⟩
abbrev main_v12 : Ref sig .tc := ⟨.hbm, 88, rfl⟩
abbrev main_v13 : Ref sig .tc := ⟨.hbm, 89, rfl⟩
abbrev main_v14 : Ref sig .tc := ⟨.hbm, 90, rfl⟩
abbrev main_v15 : Ref sig .tc := ⟨.hbm, 91, rfl⟩
abbrev main_v16 : Ref sig .tc := ⟨.hbm, 92, rfl⟩
abbrev main_v17 : Ref sig .tc := ⟨.hbm, 93, rfl⟩
abbrev main_v18 : Ref sig .tc := ⟨.hbm, 94, rfl⟩
abbrev main_v19 : Ref sig .tc := ⟨.hbm, 95, rfl⟩
abbrev main_v20 : Ref sig .tc := ⟨.hbm, 96, rfl⟩
abbrev main_c : Ref sig .tc := ⟨.hbm, 97, rfl⟩
abbrev main_call0_v0 : Ref sig .tc := ⟨.hbm, 98, rfl⟩
abbrev main_v21 : Ref sig .tc := ⟨.hbm, 99, rfl⟩
abbrev main_v22 : Ref sig .tc := ⟨.hbm, 100, rfl⟩
abbrev main_v23 : Ref sig .tc := ⟨.hbm, 101, rfl⟩
abbrev main_v24 : Ref sig .tc := ⟨.hbm, 102, rfl⟩
abbrev main_v25 : Ref sig .tc := ⟨.hbm, 103, rfl⟩
abbrev main_v26 : Ref sig .tc := ⟨.hbm, 104, rfl⟩
abbrev main_v27 : Ref sig .tc := ⟨.hbm, 105, rfl⟩
abbrev main_v28 : Ref sig .tc := ⟨.hbm, 106, rfl⟩
abbrev main_v29 : Ref sig .tc := ⟨.hbm, 107, rfl⟩
abbrev main_v30 : Ref sig .tc := ⟨.hbm, 108, rfl⟩
abbrev main_v31 : Ref sig .tc := ⟨.hbm, 109, rfl⟩
abbrev main_v32 : Ref sig .tc := ⟨.hbm, 110, rfl⟩
abbrev main_v33 : Ref sig .tc := ⟨.hbm, 111, rfl⟩
abbrev main_v34 : Ref sig .tc := ⟨.hbm, 112, rfl⟩
abbrev main_v35 : Ref sig .tc := ⟨.hbm, 113, rfl⟩
abbrev main_v36 : Ref sig .tc := ⟨.hbm, 114, rfl⟩
abbrev main_v37 : Ref sig .tc := ⟨.hbm, 115, rfl⟩
abbrev main_v38 : Ref sig .tc := ⟨.hbm, 116, rfl⟩
abbrev main_v39 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_c_0 : Ref sig .tc := ⟨.hbm, 122, rfl⟩
abbrev main_call1_v0 : Ref sig .tc := ⟨.hbm, 123, rfl⟩
abbrev main_v44 : Ref sig .tc := ⟨.hbm, 124, rfl⟩
abbrev main_v45 : Ref sig .tc := ⟨.hbm, 125, rfl⟩
abbrev main_v46 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_c_1 : Ref sig .tc := ⟨.hbm, 147, rfl⟩
abbrev main_call2_v0 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_v70 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_c_2 : Ref sig .tc := ⟨.hbm, 172, rfl⟩
abbrev main_call3_v0 : Ref sig .tc := ⟨.hbm, 173, rfl⟩
abbrev main_v90 : Ref sig .tc := ⟨.hbm, 174, rfl⟩
abbrev main_v91 : Ref sig .tc := ⟨.hbm, 175, rfl⟩
abbrev main_v92_0 : Ref sig .tc := ⟨.hbm, 176, rfl⟩
abbrev main_v92_1 : Ref sig .tc := ⟨.hbm, 177, rfl⟩
abbrev main_v92_2 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![70], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S4x1024 : Shape := ⟨2, ![4, 1024]⟩
abbrev S4x2x4 : Shape := ⟨3, ![4, 2, 4]⟩
abbrev S4x128 : Shape := ⟨2, ![4, 128]⟩
abbrev S4x512 : Shape := ⟨2, ![4, 512]⟩
abbrev S4x2x8x64x64 : Shape := ⟨5, ![4, 2, 8, 64, 64]⟩
abbrev S4x2816 : Shape := ⟨2, ![4, 2816]⟩
abbrev S1024 : Shape := ⟨1, ![1024]⟩
abbrev S4x4x192 : Shape := ⟨3, ![4, 4, 192]⟩
abbrev S4x4x64 : Shape := ⟨3, ![4, 4, 64]⟩
abbrev S4x2x64 : Shape := ⟨3, ![4, 2, 64]⟩
abbrev S4x3x352 : Shape := ⟨3, ![4, 3, 352]⟩
abbrev S_ : Shape := ⟨0, ![]⟩
abbrev S4096 : Shape := ⟨1, ![4096]⟩
abbrev S32 : Shape := ⟨1, ![32]⟩
abbrev S512 : Shape := ⟨1, ![512]⟩
abbrev S2048 : Shape := ⟨1, ![2048]⟩
abbrev S262144 : Shape := ⟨1, ![262144]⟩
abbrev S11264 : Shape := ⟨1, ![11264]⟩
abbrev S3072 : Shape := ⟨1, ![3072]⟩
abbrev S4224 : Shape := ⟨1, ![4224]⟩
abbrev S562240 : Shape := ⟨1, ![562240]⟩
abbrev S5248 : Shape := ⟨1, ![5248]⟩
abbrev S567488 : Shape := ⟨1, ![567488]⟩
abbrev S573440 : Shape := ⟨1, ![573440]⟩
abbrev S4480x128 : Shape := ⟨2, ![4480, 128]⟩

abbrev nBuf : Space → Nat
  | .hbm => 778
  | .vmem => 0
  | .smem => 0
  | _ => 0

abbrev hbmTy0_0 (i : Nat) : BufTy := match i % 128 with
  | 0 => ⟨S4x1024, .f32⟩
  | 1 => ⟨S4x2x4, .f32⟩
  | 2 => ⟨S4x2x4, .f32⟩
  | 3 => ⟨S4x128, .f32⟩
  | 4 => ⟨S4x512, .f32⟩
  | 5 => ⟨S4x2x8x64x64, .f32⟩
  | 6 => ⟨S4x2x8x64x64, .f32⟩
  | 7 => ⟨S4x512, .f32⟩
  | 8 => ⟨S4x1024, .f32⟩
  | 9 => ⟨S4x2816, .f32⟩
  | 10 => ⟨S4x1024, .f32⟩
  | 11 => ⟨S4x1024, .f32⟩
  | 12 => ⟨S1024, .f32⟩
  | 13 => ⟨S4x4x192, .f32⟩
  | 14 => ⟨S4x4x64, .f32⟩
  | 15 => ⟨S4x2x64, .f32⟩
  | 16 => ⟨S4x2x64, .f32⟩
  | 17 => ⟨S4x2x64, .f32⟩
  | 18 => ⟨S4x3x352, .f32⟩
  | 19 => ⟨S4x1024, .f32⟩
  | 20 => ⟨S4x2x4, .f32⟩
  | 21 => ⟨S4x2x4, .f32⟩
  | 22 => ⟨S4x128, .f32⟩
  | 23 => ⟨S4x512, .f32⟩
  | 24 => ⟨S4x2x8x64x64, .f32⟩
  | 25 => ⟨S4x2x8x64x64, .f32⟩
  | 26 => ⟨S4x512, .f32⟩
  | 27 => ⟨S4x1024, .f32⟩
  | 28 => ⟨S4x2816, .f32⟩
  | 29 => ⟨S4x1024, .f32⟩
  | 30 => ⟨S4x1024, .f32⟩
  | 31 => ⟨S1024, .f32⟩
  | 32 => ⟨S4x4x192, .f32⟩
  | 33 => ⟨S4x4x64, .f32⟩
  | 34 => ⟨S4x2x64, .f32⟩
  | 35 => ⟨S4x2x64, .f32⟩
  | 36 => ⟨S4x2x64, .f32⟩
  | 37 => ⟨S4x3x352, .f32⟩
  | 38 => ⟨S4x1024, .f32⟩
  | 39 => ⟨S4x2x4, .f32⟩
  | 40 => ⟨S4x2x4, .f32⟩
  | 41 => ⟨S4x128, .f32⟩
  | 42 => ⟨S4x512, .f32⟩
  | 43 => ⟨S4x2x8x64x64, .f32⟩
  | 44 => ⟨S4x2x8x64x64, .f32⟩
  | 45 => ⟨S4x512, .f32⟩
  | 46 => ⟨S4x1024, .f32⟩
  | 47 => ⟨S4x2816, .f32⟩
  | 48 => ⟨S4x1024, .f32⟩
  | 49 => ⟨S4x1024, .f32⟩
  | 50 => ⟨S1024, .f32⟩
  | 51 => ⟨S4x4x192, .f32⟩
  | 52 => ⟨S4x4x64, .f32⟩
  | 53 => ⟨S4x2x64, .f32⟩
  | 54 => ⟨S4x2x64, .f32⟩
  | 55 => ⟨S4x2x64, .f32⟩
  | 56 => ⟨S4x3x352, .f32⟩
  | 57 => ⟨S4x1024, .f32⟩
  | 58 => ⟨S4x2x4, .f32⟩
  | 59 => ⟨S4x2x4, .f32⟩
  | 60 => ⟨S4x128, .f32⟩
  | 61 => ⟨S4x512, .f32⟩
  | 62 => ⟨S4x2x8x64x64, .f32⟩
  | 63 => ⟨S4x2x8x64x64, .f32⟩
  | 64 => ⟨S4x512, .f32⟩
  | 65 => ⟨S4x1024, .f32⟩
  | 66 => ⟨S4x2816, .f32⟩
  | 67 => ⟨S4x1024, .f32⟩
  | 68 => ⟨S4x1024, .f32⟩
  | 69 => ⟨S1024, .f32⟩
  | 70 => ⟨S4x4x192, .f32⟩
  | 71 => ⟨S4x4x64, .f32⟩
  | 72 => ⟨S4x2x64, .f32⟩
  | 73 => ⟨S4x2x64, .f32⟩
  | 74 => ⟨S4x2x64, .f32⟩
  | 75 => ⟨S4x3x352, .f32⟩
  | 76 => ⟨S_, .f32⟩
  | 77 => ⟨S4x1024, .f32⟩
  | 78 => ⟨S4x1024, .f32⟩
  | 79 => ⟨S_, .f32⟩
  | 80 => ⟨S4x1024, .f32⟩
  | 81 => ⟨S4x1024, .f32⟩
  | 82 => ⟨S4x1024, .f32⟩
  | 83 => ⟨S_, .f32⟩
  | 84 => ⟨S4x1024, .f32⟩
  | 85 => ⟨S4x1024, .f32⟩
  | 86 => ⟨S4x1024, .f32⟩
  | 87 => ⟨S_, .f32⟩
  | 88 => ⟨S4x1024, .f32⟩
  | 89 => ⟨S4x1024, .f32⟩
  | 90 => ⟨S4x1024, .f32⟩
  | 91 => ⟨S_, .f32⟩
  | 92 => ⟨S4x1024, .f32⟩
  | 93 => ⟨S4x1024, .f32⟩
  | 94 => ⟨S_, .f32⟩
  | 95 => ⟨S4x1024, .f32⟩
  | 96 => ⟨S4x1024, .f32⟩
  | 97 => ⟨S4x1024, .f32⟩
  | 98 => ⟨S_, .f32⟩
  | 99 => ⟨S4x1024, .f32⟩
  | 100 => ⟨S4x1024, .f32⟩
  | 101 => ⟨S4x1024, .f32⟩
  | 102 => ⟨S_, .f32⟩
  | 103 => ⟨S4x1024, .f32⟩
  | 104 => ⟨S4x1024, .f32⟩
  | 105 => ⟨S4x1024, .f32⟩
  | 106 => ⟨S_, .f32⟩
  | 107 => ⟨S4x1024, .f32⟩
  | 108 => ⟨S4x1024, .f32⟩
  | 109 => ⟨S_, .f32⟩
  | 110 => ⟨S4x2x4, .f32⟩
  | 111 => ⟨S4x2x4, .f32⟩
  | 112 => ⟨S_, .f32⟩
  | 113 => ⟨S4x2x4, .f32⟩
  | 114 => ⟨S4x2x4, .f32⟩
  | 115 => ⟨S4x2x4, .f32⟩
  | 116 => ⟨S_, .f32⟩
  | 117 => ⟨S4x2x4, .f32⟩
  | 118 => ⟨S4x2x4, .f32⟩
  | 119 => ⟨S4x2x4, .f32⟩
  | 120 => ⟨S_, .f32⟩
  | 121 => ⟨S4x2x4, .f32⟩
  | 122 => ⟨S4x2x4, .f32⟩
  | 123 => ⟨S4x2x4, .f32⟩
  | 124 => ⟨S_, .f32⟩
  | 125 => ⟨S4x2x4, .f32⟩
  | 126 => ⟨S4x2x4, .f32⟩
  | 127 => ⟨S_, .f32⟩
  | _ => ⟨S4x1024, .f32⟩

abbrev hbmTy0_1 (i : Nat) : BufTy := match i % 128 with
  | 0 => ⟨S4x2x4, .f32⟩
  | 1 => ⟨S4x2x4, .f32⟩
  | 2 => ⟨S4x2x4, .f32⟩
  | 3 => ⟨S_, .f32⟩
  | 4 => ⟨S4x2x4, .f32⟩
  | 5 => ⟨S4x2x4, .f32⟩
  | 6 => ⟨S4x2x4, .f32⟩
  | 7 => ⟨S_, .f32⟩
  | 8 => ⟨S4x2x4, .f32⟩
  | 9 => ⟨S4x2x4, .f32⟩
  | 10 => ⟨S4x2x4, .f32⟩
  | 11 => ⟨S_, .f32⟩
  | 12 => ⟨S4x2x4, .f32⟩
  | 13 => ⟨S4x2x4, .f32⟩
  | 14 => ⟨S_, .f32⟩
  | 15 => ⟨S4x2x4, .f32⟩
  | 16 => ⟨S4x2x4, .f32⟩
  | 17 => ⟨S_, .f32⟩
  | 18 => ⟨S4x2x4, .f32⟩
  | 19 => ⟨S4x2x4, .f32⟩
  | 20 => ⟨S4x2x4, .f32⟩
  | 21 => ⟨S_, .f32⟩
  | 22 => ⟨S4x2x4, .f32⟩
  | 23 => ⟨S4x2x4, .f32⟩
  | 24 => ⟨S4x2x4, .f32⟩
  | 25 => ⟨S_, .f32⟩
  | 26 => ⟨S4x2x4, .f32⟩
  | 27 => ⟨S4x2x4, .f32⟩
  | 28 => ⟨S4x2x4, .f32⟩
  | 29 => ⟨S_, .f32⟩
  | 30 => ⟨S4x2x4, .f32⟩
  | 31 => ⟨S4x2x4, .f32⟩
  | 32 => ⟨S_, .f32⟩
  | 33 => ⟨S4x2x4, .f32⟩
  | 34 => ⟨S4x2x4, .f32⟩
  | 35 => ⟨S4x2x4, .f32⟩
  | 36 => ⟨S_, .f32⟩
  | 37 => ⟨S4x2x4, .f32⟩
  | 38 => ⟨S4x2x4, .f32⟩
  | 39 => ⟨S4x2x4, .f32⟩
  | 40 => ⟨S_, .f32⟩
  | 41 => ⟨S4x2x4, .f32⟩
  | 42 => ⟨S4x2x4, .f32⟩
  | 43 => ⟨S4x2x4, .f32⟩
  | 44 => ⟨S_, .f32⟩
  | 45 => ⟨S4x2x4, .f32⟩
  | 46 => ⟨S4x2x4, .f32⟩
  | 47 => ⟨S_, .f32⟩
  | 48 => ⟨S4x128, .f32⟩
  | 49 => ⟨S4x128, .f32⟩
  | 50 => ⟨S_, .f32⟩
  | 51 => ⟨S4x128, .f32⟩
  | 52 => ⟨S4x128, .f32⟩
  | 53 => ⟨S4x128, .f32⟩
  | 54 => ⟨S_, .f32⟩
  | 55 => ⟨S4x128, .f32⟩
  | 56 => ⟨S4x128, .f32⟩
  | 57 => ⟨S4x128, .f32⟩
  | 58 => ⟨S_, .f32⟩
  | 59 => ⟨S4x128, .f32⟩
  | 60 => ⟨S4x128, .f32⟩
  | 61 => ⟨S4x128, .f32⟩
  | 62 => ⟨S_, .f32⟩
  | 63 => ⟨S4x128, .f32⟩
  | 64 => ⟨S4x128, .f32⟩
  | 65 => ⟨S_, .f32⟩
  | 66 => ⟨S4x128, .f32⟩
  | 67 => ⟨S4x128, .f32⟩
  | 68 => ⟨S4x128, .f32⟩
  | 69 => ⟨S_, .f32⟩
  | 70 => ⟨S4x128, .f32⟩
  | 71 => ⟨S4x128, .f32⟩
  | 72 => ⟨S4x128, .f32⟩
  | 73 => ⟨S_, .f32⟩
  | 74 => ⟨S4x128, .f32⟩
  | 75 => ⟨S4x128, .f32⟩
  | 76 => ⟨S4x128, .f32⟩
  | 77 => ⟨S_, .f32⟩
  | 78 => ⟨S4x128, .f32⟩
  | 79 => ⟨S4x128, .f32⟩
  | 80 => ⟨S_, .f32⟩
  | 81 => ⟨S4x512, .f32⟩
  | 82 => ⟨S4x512, .f32⟩
  | 83 => ⟨S_, .f32⟩
  | 84 => ⟨S4x512, .f32⟩
  | 85 => ⟨S4x512, .f32⟩
  | 86 => ⟨S4x512, .f32⟩
  | 87 => ⟨S_, .f32⟩
  | 88 => ⟨S4x512, .f32⟩
  | 89 => ⟨S4x512, .f32⟩
  | 90 => ⟨S4x512, .f32⟩
  | 91 => ⟨S_, .f32⟩
  | 92 => ⟨S4x512, .f32⟩
  | 93 => ⟨S4x512, .f32⟩
  | 94 => ⟨S4x512, .f32⟩
  | 95 => ⟨S_, .f32⟩
  | 96 => ⟨S4x512, .f32⟩
  | 97 => ⟨S4x512, .f32⟩
  | 98 => ⟨S_, .f32⟩
  | 99 => ⟨S4x512, .f32⟩
  | 100 => ⟨S4x512, .f32⟩
  | 101 => ⟨S4x512, .f32⟩
  | 102 => ⟨S_, .f32⟩
  | 103 => ⟨S4x512, .f32⟩
  | 104 => ⟨S4x512, .f32⟩
  | 105 => ⟨S4x512, .f32⟩
  | 106 => ⟨S_, .f32⟩
  | 107 => ⟨S4x512, .f32⟩
  | 108 => ⟨S4x512, .f32⟩
  | 109 => ⟨S4x512, .f32⟩
  | 110 => ⟨S_, .f32⟩
  | 111 => ⟨S4x512, .f32⟩
  | 112 => ⟨S4x512, .f32⟩
  | 113 => ⟨S_, .f32⟩
  | 114 => ⟨S4x2x8x64x64, .f32⟩
  | 115 => ⟨S4x2x8x64x64, .f32⟩
  | 116 => ⟨S_, .f32⟩
  | 117 => ⟨S4x2x8x64x64, .f32⟩
  | 118 => ⟨S4x2x8x64x64, .f32⟩
  | 119 => ⟨S4x2x8x64x64, .f32⟩
  | 120 => ⟨S_, .f32⟩
  | 121 => ⟨S4x2x8x64x64, .f32⟩
  | 122 => ⟨S4x2x8x64x64, .f32⟩
  | 123 => ⟨S4x2x8x64x64, .f32⟩
  | 124 => ⟨S_, .f32⟩
  | 125 => ⟨S4x2x8x64x64, .f32⟩
  | 126 => ⟨S4x2x8x64x64, .f32⟩
  | 127 => ⟨S4x2x8x64x64, .f32⟩
  | _ => ⟨S4x1024, .f32⟩

abbrev hbmTy0_2 (i : Nat) : BufTy := match i % 128 with
  | 0 => ⟨S_, .f32⟩
  | 1 => ⟨S4x2x8x64x64, .f32⟩
  | 2 => ⟨S4x2x8x64x64, .f32⟩
  | 3 => ⟨S_, .f32⟩
  | 4 => ⟨S4x2x8x64x64, .f32⟩
  | 5 => ⟨S4x2x8x64x64, .f32⟩
  | 6 => ⟨S4x2x8x64x64, .f32⟩
  | 7 => ⟨S_, .f32⟩
  | 8 => ⟨S4x2x8x64x64, .f32⟩
  | 9 => ⟨S4x2x8x64x64, .f32⟩
  | 10 => ⟨S4x2x8x64x64, .f32⟩
  | 11 => ⟨S_, .f32⟩
  | 12 => ⟨S4x2x8x64x64, .f32⟩
  | 13 => ⟨S4x2x8x64x64, .f32⟩
  | 14 => ⟨S4x2x8x64x64, .f32⟩
  | 15 => ⟨S_, .f32⟩
  | 16 => ⟨S4x2x8x64x64, .f32⟩
  | 17 => ⟨S4x2x8x64x64, .f32⟩
  | 18 => ⟨S_, .f32⟩
  | 19 => ⟨S4x2x8x64x64, .f32⟩
  | 20 => ⟨S4x2x8x64x64, .f32⟩
  | 21 => ⟨S_, .f32⟩
  | 22 => ⟨S4x2x8x64x64, .f32⟩
  | 23 => ⟨S4x2x8x64x64, .f32⟩
  | 24 => ⟨S4x2x8x64x64, .f32⟩
  | 25 => ⟨S_, .f32⟩
  | 26 => ⟨S4x2x8x64x64, .f32⟩
  | 27 => ⟨S4x2x8x64x64, .f32⟩
  | 28 => ⟨S4x2x8x64x64, .f32⟩
  | 29 => ⟨S_, .f32⟩
  | 30 => ⟨S4x2x8x64x64, .f32⟩
  | 31 => ⟨S4x2x8x64x64, .f32⟩
  | 32 => ⟨S4x2x8x64x64, .f32⟩
  | 33 => ⟨S_, .f32⟩
  | 34 => ⟨S4x2x8x64x64, .f32⟩
  | 35 => ⟨S4x2x8x64x64, .f32⟩
  | 36 => ⟨S_, .f32⟩
  | 37 => ⟨S4x2x8x64x64, .f32⟩
  | 38 => ⟨S4x2x8x64x64, .f32⟩
  | 39 => ⟨S4x2x8x64x64, .f32⟩
  | 40 => ⟨S_, .f32⟩
  | 41 => ⟨S4x2x8x64x64, .f32⟩
  | 42 => ⟨S4x2x8x64x64, .f32⟩
  | 43 => ⟨S4x2x8x64x64, .f32⟩
  | 44 => ⟨S_, .f32⟩
  | 45 => ⟨S4x2x8x64x64, .f32⟩
  | 46 => ⟨S4x2x8x64x64, .f32⟩
  | 47 => ⟨S4x2x8x64x64, .f32⟩
  | 48 => ⟨S_, .f32⟩
  | 49 => ⟨S4x2x8x64x64, .f32⟩
  | 50 => ⟨S4x2x8x64x64, .f32⟩
  | 51 => ⟨S_, .f32⟩
  | 52 => ⟨S4x512, .f32⟩
  | 53 => ⟨S4x512, .f32⟩
  | 54 => ⟨S_, .f32⟩
  | 55 => ⟨S4x512, .f32⟩
  | 56 => ⟨S4x512, .f32⟩
  | 57 => ⟨S4x512, .f32⟩
  | 58 => ⟨S_, .f32⟩
  | 59 => ⟨S4x512, .f32⟩
  | 60 => ⟨S4x512, .f32⟩
  | 61 => ⟨S4x512, .f32⟩
  | 62 => ⟨S_, .f32⟩
  | 63 => ⟨S4x512, .f32⟩
  | 64 => ⟨S4x512, .f32⟩
  | 65 => ⟨S4x512, .f32⟩
  | 66 => ⟨S_, .f32⟩
  | 67 => ⟨S4x512, .f32⟩
  | 68 => ⟨S4x512, .f32⟩
  | 69 => ⟨S_, .f32⟩
  | 70 => ⟨S4x512, .f32⟩
  | 71 => ⟨S4x512, .f32⟩
  | 72 => ⟨S4x512, .f32⟩
  | 73 => ⟨S_, .f32⟩
  | 74 => ⟨S4x512, .f32⟩
  | 75 => ⟨S4x512, .f32⟩
  | 76 => ⟨S4x512, .f32⟩
  | 77 => ⟨S_, .f32⟩
  | 78 => ⟨S4x512, .f32⟩
  | 79 => ⟨S4x512, .f32⟩
  | 80 => ⟨S4x512, .f32⟩
  | 81 => ⟨S_, .f32⟩
  | 82 => ⟨S4x512, .f32⟩
  | 83 => ⟨S4x512, .f32⟩
  | 84 => ⟨S_, .f32⟩
  | 85 => ⟨S4x1024, .f32⟩
  | 86 => ⟨S4x1024, .f32⟩
  | 87 => ⟨S_, .f32⟩
  | 88 => ⟨S4x1024, .f32⟩
  | 89 => ⟨S4x1024, .f32⟩
  | 90 => ⟨S4x1024, .f32⟩
  | 91 => ⟨S_, .f32⟩
  | 92 => ⟨S4x1024, .f32⟩
  | 93 => ⟨S4x1024, .f32⟩
  | 94 => ⟨S4x1024, .f32⟩
  | 95 => ⟨S_, .f32⟩
  | 96 => ⟨S4x1024, .f32⟩
  | 97 => ⟨S4x1024, .f32⟩
  | 98 => ⟨S4x1024, .f32⟩
  | 99 => ⟨S_, .f32⟩
  | 100 => ⟨S4x1024, .f32⟩
  | 101 => ⟨S4x1024, .f32⟩
  | 102 => ⟨S_, .f32⟩
  | 103 => ⟨S4x1024, .f32⟩
  | 104 => ⟨S4x1024, .f32⟩
  | 105 => ⟨S4x1024, .f32⟩
  | 106 => ⟨S_, .f32⟩
  | 107 => ⟨S4x1024, .f32⟩
  | 108 => ⟨S4x1024, .f32⟩
  | 109 => ⟨S4x1024, .f32⟩
  | 110 => ⟨S_, .f32⟩
  | 111 => ⟨S4x1024, .f32⟩
  | 112 => ⟨S4x1024, .f32⟩
  | 113 => ⟨S4x1024, .f32⟩
  | 114 => ⟨S_, .f32⟩
  | 115 => ⟨S4x1024, .f32⟩
  | 116 => ⟨S4x1024, .f32⟩
  | 117 => ⟨S_, .f32⟩
  | 118 => ⟨S4x2816, .f32⟩
  | 119 => ⟨S4x2816, .f32⟩
  | 120 => ⟨S_, .f32⟩
  | 121 => ⟨S4x2816, .f32⟩
  | 122 => ⟨S4x2816, .f32⟩
  | 123 => ⟨S4x2816, .f32⟩
  | 124 => ⟨S_, .f32⟩
  | 125 => ⟨S4x2816, .f32⟩
  | 126 => ⟨S4x2816, .f32⟩
  | 127 => ⟨S4x2816, .f32⟩
  | _ => ⟨S4x1024, .f32⟩

abbrev hbmTy0_3 (i : Nat) : BufTy := match i % 128 with
  | 0 => ⟨S_, .f32⟩
  | 1 => ⟨S4x2816, .f32⟩
  | 2 => ⟨S4x2816, .f32⟩
  | 3 => ⟨S4x2816, .f32⟩
  | 4 => ⟨S_, .f32⟩
  | 5 => ⟨S4x2816, .f32⟩
  | 6 => ⟨S4x2816, .f32⟩
  | 7 => ⟨S_, .f32⟩
  | 8 => ⟨S4x2816, .f32⟩
  | 9 => ⟨S4x2816, .f32⟩
  | 10 => ⟨S4x2816, .f32⟩
  | 11 => ⟨S_, .f32⟩
  | 12 => ⟨S4x2816, .f32⟩
  | 13 => ⟨S4x2816, .f32⟩
  | 14 => ⟨S4x2816, .f32⟩
  | 15 => ⟨S_, .f32⟩
  | 16 => ⟨S4x2816, .f32⟩
  | 17 => ⟨S4x2816, .f32⟩
  | 18 => ⟨S4x2816, .f32⟩
  | 19 => ⟨S_, .f32⟩
  | 20 => ⟨S4x2816, .f32⟩
  | 21 => ⟨S4x2816, .f32⟩
  | 22 => ⟨S_, .f32⟩
  | 23 => ⟨S4x1024, .f32⟩
  | 24 => ⟨S4x1024, .f32⟩
  | 25 => ⟨S_, .f32⟩
  | 26 => ⟨S4x1024, .f32⟩
  | 27 => ⟨S4x1024, .f32⟩
  | 28 => ⟨S4x1024, .f32⟩
  | 29 => ⟨S_, .f32⟩
  | 30 => ⟨S4x1024, .f32⟩
  | 31 => ⟨S4x1024, .f32⟩
  | 32 => ⟨S4x1024, .f32⟩
  | 33 => ⟨S_, .f32⟩
  | 34 => ⟨S4x1024, .f32⟩
  | 35 => ⟨S4x1024, .f32⟩
  | 36 => ⟨S4x1024, .f32⟩
  | 37 => ⟨S_, .f32⟩
  | 38 => ⟨S4x1024, .f32⟩
  | 39 => ⟨S4x1024, .f32⟩
  | 40 => ⟨S_, .f32⟩
  | 41 => ⟨S4x1024, .f32⟩
  | 42 => ⟨S4x1024, .f32⟩
  | 43 => ⟨S4x1024, .f32⟩
  | 44 => ⟨S_, .f32⟩
  | 45 => ⟨S4x1024, .f32⟩
  | 46 => ⟨S4x1024, .f32⟩
  | 47 => ⟨S4x1024, .f32⟩
  | 48 => ⟨S_, .f32⟩
  | 49 => ⟨S4x1024, .f32⟩
  | 50 => ⟨S4x1024, .f32⟩
  | 51 => ⟨S4x1024, .f32⟩
  | 52 => ⟨S_, .f32⟩
  | 53 => ⟨S4x1024, .f32⟩
  | 54 => ⟨S4x1024, .f32⟩
  | 55 => ⟨S_, .f32⟩
  | 56 => ⟨S4x1024, .f32⟩
  | 57 => ⟨S4x1024, .f32⟩
  | 58 => ⟨S_, .f32⟩
  | 59 => ⟨S4x1024, .f32⟩
  | 60 => ⟨S4x1024, .f32⟩
  | 61 => ⟨S4x1024, .f32⟩
  | 62 => ⟨S_, .f32⟩
  | 63 => ⟨S4x1024, .f32⟩
  | 64 => ⟨S4x1024, .f32⟩
  | 65 => ⟨S4x1024, .f32⟩
  | 66 => ⟨S_, .f32⟩
  | 67 => ⟨S4x1024, .f32⟩
  | 68 => ⟨S4x1024, .f32⟩
  | 69 => ⟨S4x1024, .f32⟩
  | 70 => ⟨S_, .f32⟩
  | 71 => ⟨S4x1024, .f32⟩
  | 72 => ⟨S4x1024, .f32⟩
  | 73 => ⟨S_, .f32⟩
  | 74 => ⟨S4x1024, .f32⟩
  | 75 => ⟨S4x1024, .f32⟩
  | 76 => ⟨S4x1024, .f32⟩
  | 77 => ⟨S_, .f32⟩
  | 78 => ⟨S4x1024, .f32⟩
  | 79 => ⟨S4x1024, .f32⟩
  | 80 => ⟨S4x1024, .f32⟩
  | 81 => ⟨S_, .f32⟩
  | 82 => ⟨S4x1024, .f32⟩
  | 83 => ⟨S4x1024, .f32⟩
  | 84 => ⟨S4x1024, .f32⟩
  | 85 => ⟨S_, .f32⟩
  | 86 => ⟨S4x1024, .f32⟩
  | 87 => ⟨S4x1024, .f32⟩
  | 88 => ⟨S_, .f32⟩
  | 89 => ⟨S1024, .f32⟩
  | 90 => ⟨S1024, .f32⟩
  | 91 => ⟨S_, .f32⟩
  | 92 => ⟨S1024, .f32⟩
  | 93 => ⟨S1024, .f32⟩
  | 94 => ⟨S1024, .f32⟩
  | 95 => ⟨S_, .f32⟩
  | 96 => ⟨S1024, .f32⟩
  | 97 => ⟨S1024, .f32⟩
  | 98 => ⟨S1024, .f32⟩
  | 99 => ⟨S_, .f32⟩
  | 100 => ⟨S1024, .f32⟩
  | 101 => ⟨S1024, .f32⟩
  | 102 => ⟨S1024, .f32⟩
  | 103 => ⟨S_, .f32⟩
  | 104 => ⟨S1024, .f32⟩
  | 105 => ⟨S1024, .f32⟩
  | 106 => ⟨S_, .f32⟩
  | 107 => ⟨S1024, .f32⟩
  | 108 => ⟨S1024, .f32⟩
  | 109 => ⟨S1024, .f32⟩
  | 110 => ⟨S_, .f32⟩
  | 111 => ⟨S1024, .f32⟩
  | 112 => ⟨S1024, .f32⟩
  | 113 => ⟨S1024, .f32⟩
  | 114 => ⟨S_, .f32⟩
  | 115 => ⟨S1024, .f32⟩
  | 116 => ⟨S1024, .f32⟩
  | 117 => ⟨S1024, .f32⟩
  | 118 => ⟨S_, .f32⟩
  | 119 => ⟨S1024, .f32⟩
  | 120 => ⟨S1024, .f32⟩
  | 121 => ⟨S_, .f32⟩
  | 122 => ⟨S4x4x192, .f32⟩
  | 123 => ⟨S4x4x192, .f32⟩
  | 124 => ⟨S_, .f32⟩
  | 125 => ⟨S4x4x192, .f32⟩
  | 126 => ⟨S4x4x192, .f32⟩
  | 127 => ⟨S4x4x192, .f32⟩
  | _ => ⟨S4x1024, .f32⟩

abbrev hbmTy0_4 (i : Nat) : BufTy := match i % 128 with
  | 0 => ⟨S_, .f32⟩
  | 1 => ⟨S4x4x192, .f32⟩
  | 2 => ⟨S4x4x192, .f32⟩
  | 3 => ⟨S4x4x192, .f32⟩
  | 4 => ⟨S_, .f32⟩
  | 5 => ⟨S4x4x192, .f32⟩
  | 6 => ⟨S4x4x192, .f32⟩
  | 7 => ⟨S4x4x192, .f32⟩
  | 8 => ⟨S_, .f32⟩
  | 9 => ⟨S4x4x192, .f32⟩
  | 10 => ⟨S4x4x192, .f32⟩
  | 11 => ⟨S_, .f32⟩
  | 12 => ⟨S4x4x192, .f32⟩
  | 13 => ⟨S4x4x192, .f32⟩
  | 14 => ⟨S4x4x192, .f32⟩
  | 15 => ⟨S_, .f32⟩
  | 16 => ⟨S4x4x192, .f32⟩
  | 17 => ⟨S4x4x192, .f32⟩
  | 18 => ⟨S4x4x192, .f32⟩
  | 19 => ⟨S_, .f32⟩
  | 20 => ⟨S4x4x192, .f32⟩
  | 21 => ⟨S4x4x192, .f32⟩
  | 22 => ⟨S4x4x192, .f32⟩
  | 23 => ⟨S_, .f32⟩
  | 24 => ⟨S4x4x192, .f32⟩
  | 25 => ⟨S4x4x192, .f32⟩
  | 26 => ⟨S_, .f32⟩
  | 27 => ⟨S4x4x64, .f32⟩
  | 28 => ⟨S4x4x64, .f32⟩
  | 29 => ⟨S_, .f32⟩
  | 30 => ⟨S4x4x64, .f32⟩
  | 31 => ⟨S4x4x64, .f32⟩
  | 32 => ⟨S4x4x64, .f32⟩
  | 33 => ⟨S_, .f32⟩
  | 34 => ⟨S4x4x64, .f32⟩
  | 35 => ⟨S4x4x64, .f32⟩
  | 36 => ⟨S4x4x64, .f32⟩
  | 37 => ⟨S_, .f32⟩
  | 38 => ⟨S4x4x64, .f32⟩
  | 39 => ⟨S4x4x64, .f32⟩
  | 40 => ⟨S4x4x64, .f32⟩
  | 41 => ⟨S_, .f32⟩
  | 42 => ⟨S4x4x64, .f32⟩
  | 43 => ⟨S4x4x64, .f32⟩
  | 44 => ⟨S_, .f32⟩
  | 45 => ⟨S4x4x64, .f32⟩
  | 46 => ⟨S4x4x64, .f32⟩
  | 47 => ⟨S4x4x64, .f32⟩
  | 48 => ⟨S_, .f32⟩
  | 49 => ⟨S4x4x64, .f32⟩
  | 50 => ⟨S4x4x64, .f32⟩
  | 51 => ⟨S4x4x64, .f32⟩
  | 52 => ⟨S_, .f32⟩
  | 53 => ⟨S4x4x64, .f32⟩
  | 54 => ⟨S4x4x64, .f32⟩
  | 55 => ⟨S4x4x64, .f32⟩
  | 56 => ⟨S_, .f32⟩
  | 57 => ⟨S4x4x64, .f32⟩
  | 58 => ⟨S4x4x64, .f32⟩
  | 59 => ⟨S_, .f32⟩
  | 60 => ⟨S4x2x64, .f32⟩
  | 61 => ⟨S4x2x64, .f32⟩
  | 62 => ⟨S_, .f32⟩
  | 63 => ⟨S4x2x64, .f32⟩
  | 64 => ⟨S4x2x64, .f32⟩
  | 65 => ⟨S4x2x64, .f32⟩
  | 66 => ⟨S_, .f32⟩
  | 67 => ⟨S4x2x64, .f32⟩
  | 68 => ⟨S4x2x64, .f32⟩
  | 69 => ⟨S4x2x64, .f32⟩
  | 70 => ⟨S_, .f32⟩
  | 71 => ⟨S4x2x64, .f32⟩
  | 72 => ⟨S4x2x64, .f32⟩
  | 73 => ⟨S4x2x64, .f32⟩
  | 74 => ⟨S_, .f32⟩
  | 75 => ⟨S4x2x64, .f32⟩
  | 76 => ⟨S4x2x64, .f32⟩
  | 77 => ⟨S_, .f32⟩
  | 78 => ⟨S4x2x64, .f32⟩
  | 79 => ⟨S4x2x64, .f32⟩
  | 80 => ⟨S4x2x64, .f32⟩
  | 81 => ⟨S_, .f32⟩
  | 82 => ⟨S4x2x64, .f32⟩
  | 83 => ⟨S4x2x64, .f32⟩
  | 84 => ⟨S4x2x64, .f32⟩
  | 85 => ⟨S_, .f32⟩
  | 86 => ⟨S4x2x64, .f32⟩
  | 87 => ⟨S4x2x64, .f32⟩
  | 88 => ⟨S4x2x64, .f32⟩
  | 89 => ⟨S_, .f32⟩
  | 90 => ⟨S4x2x64, .f32⟩
  | 91 => ⟨S4x2x64, .f32⟩
  | 92 => ⟨S_, .f32⟩
  | 93 => ⟨S4x2x64, .f32⟩
  | 94 => ⟨S4x2x64, .f32⟩
  | 95 => ⟨S_, .f32⟩
  | 96 => ⟨S4x2x64, .f32⟩
  | 97 => ⟨S4x2x64, .f32⟩
  | 98 => ⟨S4x2x64, .f32⟩
  | 99 => ⟨S_, .f32⟩
  | 100 => ⟨S4x2x64, .f32⟩
  | 101 => ⟨S4x2x64, .f32⟩
  | 102 => ⟨S4x2x64, .f32⟩
  | 103 => ⟨S_, .f32⟩
  | 104 => ⟨S4x2x64, .f32⟩
  | 105 => ⟨S4x2x64, .f32⟩
  | 106 => ⟨S4x2x64, .f32⟩
  | 107 => ⟨S_, .f32⟩
  | 108 => ⟨S4x2x64, .f32⟩
  | 109 => ⟨S4x2x64, .f32⟩
  | 110 => ⟨S_, .f32⟩
  | 111 => ⟨S4x2x64, .f32⟩
  | 112 => ⟨S4x2x64, .f32⟩
  | 113 => ⟨S4x2x64, .f32⟩
  | 114 => ⟨S_, .f32⟩
  | 115 => ⟨S4x2x64, .f32⟩
  | 116 => ⟨S4x2x64, .f32⟩
  | 117 => ⟨S4x2x64, .f32⟩
  | 118 => ⟨S_, .f32⟩
  | 119 => ⟨S4x2x64, .f32⟩
  | 120 => ⟨S4x2x64, .f32⟩
  | 121 => ⟨S4x2x64, .f32⟩
  | 122 => ⟨S_, .f32⟩
  | 123 => ⟨S4x2x64, .f32⟩
  | 124 => ⟨S4x2x64, .f32⟩
  | 125 => ⟨S_, .f32⟩
  | 126 => ⟨S4x2x64, .f32⟩
  | 127 => ⟨S4x2x64, .f32⟩
  | _ => ⟨S4x1024, .f32⟩

abbrev hbmTy0_5 (i : Nat) : BufTy := match i % 128 with
  | 0 => ⟨S_, .f32⟩
  | 1 => ⟨S4x2x64, .f32⟩
  | 2 => ⟨S4x2x64, .f32⟩
  | 3 => ⟨S4x2x64, .f32⟩
  | 4 => ⟨S_, .f32⟩
  | 5 => ⟨S4x2x64, .f32⟩
  | 6 => ⟨S4x2x64, .f32⟩
  | 7 => ⟨S4x2x64, .f32⟩
  | 8 => ⟨S_, .f32⟩
  | 9 => ⟨S4x2x64, .f32⟩
  | 10 => ⟨S4x2x64, .f32⟩
  | 11 => ⟨S4x2x64, .f32⟩
  | 12 => ⟨S_, .f32⟩
  | 13 => ⟨S4x2x64, .f32⟩
  | 14 => ⟨S4x2x64, .f32⟩
  | 15 => ⟨S_, .f32⟩
  | 16 => ⟨S4x2x64, .f32⟩
  | 17 => ⟨S4x2x64, .f32⟩
  | 18 => ⟨S4x2x64, .f32⟩
  | 19 => ⟨S_, .f32⟩
  | 20 => ⟨S4x2x64, .f32⟩
  | 21 => ⟨S4x2x64, .f32⟩
  | 22 => ⟨S4x2x64, .f32⟩
  | 23 => ⟨S_, .f32⟩
  | 24 => ⟨S4x2x64, .f32⟩
  | 25 => ⟨S4x2x64, .f32⟩
  | 26 => ⟨S4x2x64, .f32⟩
  | 27 => ⟨S_, .f32⟩
  | 28 => ⟨S4x2x64, .f32⟩
  | 29 => ⟨S4x2x64, .f32⟩
  | 30 => ⟨S_, .f32⟩
  | 31 => ⟨S4x3x352, .f32⟩
  | 32 => ⟨S4x3x352, .f32⟩
  | 33 => ⟨S_, .f32⟩
  | 34 => ⟨S4x3x352, .f32⟩
  | 35 => ⟨S4x3x352, .f32⟩
  | 36 => ⟨S4x3x352, .f32⟩
  | 37 => ⟨S_, .f32⟩
  | 38 => ⟨S4x3x352, .f32⟩
  | 39 => ⟨S4x3x352, .f32⟩
  | 40 => ⟨S4x3x352, .f32⟩
  | 41 => ⟨S_, .f32⟩
  | 42 => ⟨S4x3x352, .f32⟩
  | 43 => ⟨S4x3x352, .f32⟩
  | 44 => ⟨S4x3x352, .f32⟩
  | 45 => ⟨S_, .f32⟩
  | 46 => ⟨S4x3x352, .f32⟩
  | 47 => ⟨S4x3x352, .f32⟩
  | 48 => ⟨S_, .f32⟩
  | 49 => ⟨S4x3x352, .f32⟩
  | 50 => ⟨S4x3x352, .f32⟩
  | 51 => ⟨S4x3x352, .f32⟩
  | 52 => ⟨S_, .f32⟩
  | 53 => ⟨S4x3x352, .f32⟩
  | 54 => ⟨S4x3x352, .f32⟩
  | 55 => ⟨S4x3x352, .f32⟩
  | 56 => ⟨S_, .f32⟩
  | 57 => ⟨S4x3x352, .f32⟩
  | 58 => ⟨S4x3x352, .f32⟩
  | 59 => ⟨S4x3x352, .f32⟩
  | 60 => ⟨S_, .f32⟩
  | 61 => ⟨S4x3x352, .f32⟩
  | 62 => ⟨S4x3x352, .f32⟩
  | 63 => ⟨S4096, .f32⟩
  | 64 => ⟨S32, .f32⟩
  | 65 => ⟨S32, .f32⟩
  | 66 => ⟨S512, .f32⟩
  | 67 => ⟨S2048, .f32⟩
  | 68 => ⟨S262144, .f32⟩
  | 69 => ⟨S262144, .f32⟩
  | 70 => ⟨S2048, .f32⟩
  | 71 => ⟨S4096, .f32⟩
  | 72 => ⟨S11264, .f32⟩
  | 73 => ⟨S4096, .f32⟩
  | 74 => ⟨S4096, .f32⟩
  | 75 => ⟨S3072, .f32⟩
  | 76 => ⟨S1024, .f32⟩
  | 77 => ⟨S512, .f32⟩
  | 78 => ⟨S512, .f32⟩
  | 79 => ⟨S512, .f32⟩
  | 80 => ⟨S4224, .f32⟩
  | 81 => ⟨S562240, .f32⟩
  | 82 => ⟨S5248, .f32⟩
  | 83 => ⟨S567488, .f32⟩
  | 84 => ⟨S_, .i32⟩
  | 85 => ⟨S_, .f32⟩
  | 86 => ⟨S573440, .f32⟩
  | 87 => ⟨S4480x128, .f32⟩
  | 88 => ⟨S4096, .f32⟩
  | 89 => ⟨S32, .f32⟩
  | 90 => ⟨S32, .f32⟩
  | 91 => ⟨S512, .f32⟩
  | 92 => ⟨S2048, .f32⟩
  | 93 => ⟨S262144, .f32⟩
  | 94 => ⟨S262144, .f32⟩
  | 95 => ⟨S2048, .f32⟩
  | 96 => ⟨S4096, .f32⟩
  | 97 => ⟨S11264, .f32⟩
  | 98 => ⟨S4096, .f32⟩
  | 99 => ⟨S4096, .f32⟩
  | 100 => ⟨S3072, .f32⟩
  | 101 => ⟨S1024, .f32⟩
  | 102 => ⟨S512, .f32⟩
  | 103 => ⟨S512, .f32⟩
  | 104 => ⟨S512, .f32⟩
  | 105 => ⟨S4224, .f32⟩
  | 106 => ⟨S562240, .f32⟩
  | 107 => ⟨S5248, .f32⟩
  | 108 => ⟨S567488, .f32⟩
  | 109 => ⟨S_, .i32⟩
  | 110 => ⟨S_, .f32⟩
  | 111 => ⟨S573440, .f32⟩
  | 112 => ⟨S4480x128, .f32⟩
  | 113 => ⟨S4096, .f32⟩
  | 114 => ⟨S32, .f32⟩
  | 115 => ⟨S32, .f32⟩
  | 116 => ⟨S512, .f32⟩
  | 117 => ⟨S2048, .f32⟩
  | 118 => ⟨S262144, .f32⟩
  | 119 => ⟨S262144, .f32⟩
  | 120 => ⟨S2048, .f32⟩
  | 121 => ⟨S4096, .f32⟩
  | 122 => ⟨S11264, .f32⟩
  | 123 => ⟨S4096, .f32⟩
  | 124 => ⟨S4096, .f32⟩
  | 125 => ⟨S3072, .f32⟩
  | 126 => ⟨S1024, .f32⟩
  | 127 => ⟨S512, .f32⟩
  | _ => ⟨S4x1024, .f32⟩

abbrev hbmTy0_6 (i : Nat) : BufTy := match i % 128 with
  | 0 => ⟨S512, .f32⟩
  | 1 => ⟨S512, .f32⟩
  | 2 => ⟨S4224, .f32⟩
  | 3 => ⟨S562240, .f32⟩
  | 4 => ⟨S5248, .f32⟩
  | 5 => ⟨S567488, .f32⟩
  | 6 => ⟨S_, .i32⟩
  | 7 => ⟨S_, .f32⟩
  | 8 => ⟨S573440, .f32⟩
  | 9 => ⟨S4480x128, .f32⟩
  | _ => ⟨S4x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4x1024, .f32⟩

abbrev bufTy : (tb : Table) → Fin (tcTables nBuf tb) → BufTy
  | .hbm, ⟨i, _⟩ => hbmTy i
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_arg66 : Ref sig .tc := ⟨.hbm, 66, rfl⟩
abbrev main_arg67 : Ref sig .tc := ⟨.hbm, 67, rfl⟩
abbrev main_arg68 : Ref sig .tc := ⟨.hbm, 68, rfl⟩
abbrev main_arg69 : Ref sig .tc := ⟨.hbm, 69, rfl⟩
abbrev main_arg70 : Ref sig .tc := ⟨.hbm, 70, rfl⟩
abbrev main_arg71 : Ref sig .tc := ⟨.hbm, 71, rfl⟩
abbrev main_arg72 : Ref sig .tc := ⟨.hbm, 72, rfl⟩
abbrev main_arg73 : Ref sig .tc := ⟨.hbm, 73, rfl⟩
abbrev main_arg74 : Ref sig .tc := ⟨.hbm, 74, rfl⟩
abbrev main_arg75 : Ref sig .tc := ⟨.hbm, 75, rfl⟩
abbrev main_cst : Ref sig .tc := ⟨.hbm, 76, rfl⟩
abbrev main_v0 : Ref sig .tc := ⟨.hbm, 77, rfl⟩
abbrev main_v1 : Ref sig .tc := ⟨.hbm, 78, rfl⟩
abbrev main_cst_0 : Ref sig .tc := ⟨.hbm, 79, rfl⟩
abbrev main_v2 : Ref sig .tc := ⟨.hbm, 80, rfl⟩
abbrev main_v3 : Ref sig .tc := ⟨.hbm, 81, rfl⟩
abbrev main_v4 : Ref sig .tc := ⟨.hbm, 82, rfl⟩
abbrev main_cst_1 : Ref sig .tc := ⟨.hbm, 83, rfl⟩
abbrev main_v5 : Ref sig .tc := ⟨.hbm, 84, rfl⟩
abbrev main_v6 : Ref sig .tc := ⟨.hbm, 85, rfl⟩
abbrev main_v7 : Ref sig .tc := ⟨.hbm, 86, rfl⟩
abbrev main_cst_2 : Ref sig .tc := ⟨.hbm, 87, rfl⟩
abbrev main_v8 : Ref sig .tc := ⟨.hbm, 88, rfl⟩
abbrev main_v9 : Ref sig .tc := ⟨.hbm, 89, rfl⟩
abbrev main_v10 : Ref sig .tc := ⟨.hbm, 90, rfl⟩
abbrev main_cst_3 : Ref sig .tc := ⟨.hbm, 91, rfl⟩
abbrev main_v11 : Ref sig .tc := ⟨.hbm, 92, rfl⟩
abbrev main_v12 : Ref sig .tc := ⟨.hbm, 93, rfl⟩
abbrev main_cst_4 : Ref sig .tc := ⟨.hbm, 94, rfl⟩
abbrev main_v13 : Ref sig .tc := ⟨.hbm, 95, rfl⟩
abbrev main_v14 : Ref sig .tc := ⟨.hbm, 96, rfl⟩
abbrev main_v15 : Ref sig .tc := ⟨.hbm, 97, rfl⟩
abbrev main_cst_5 : Ref sig .tc := ⟨.hbm, 98, rfl⟩
abbrev main_v16 : Ref sig .tc := ⟨.hbm, 99, rfl⟩
abbrev main_v17 : Ref sig .tc := ⟨.hbm, 100, rfl⟩
abbrev main_v18 : Ref sig .tc := ⟨.hbm, 101, rfl⟩
abbrev main_cst_6 : Ref sig .tc := ⟨.hbm, 102, rfl⟩
abbrev main_v19 : Ref sig .tc := ⟨.hbm, 103, rfl⟩
abbrev main_v20 : Ref sig .tc := ⟨.hbm, 104, rfl⟩
abbrev main_v21 : Ref sig .tc := ⟨.hbm, 105, rfl⟩
abbrev main_cst_7 : Ref sig .tc := ⟨.hbm, 106, rfl⟩
abbrev main_v22 : Ref sig .tc := ⟨.hbm, 107, rfl⟩
abbrev main_v23 : Ref sig .tc := ⟨.hbm, 108, rfl⟩
abbrev main_cst_8 : Ref sig .tc := ⟨.hbm, 109, rfl⟩
abbrev main_v24 : Ref sig .tc := ⟨.hbm, 110, rfl⟩
abbrev main_v25 : Ref sig .tc := ⟨.hbm, 111, rfl⟩
abbrev main_cst_9 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_cst_10 : Ref sig .tc := ⟨.hbm, 116, rfl⟩
abbrev main_v29 : Ref sig .tc := ⟨.hbm, 117, rfl⟩
abbrev main_v30 : Ref sig .tc := ⟨.hbm, 118, rfl⟩
abbrev main_v31 : Ref sig .tc := ⟨.hbm, 119, rfl⟩
abbrev main_cst_11 : Ref sig .tc := ⟨.hbm, 120, rfl⟩
abbrev main_v32 : Ref sig .tc := ⟨.hbm, 121, rfl⟩
abbrev main_v33 : Ref sig .tc := ⟨.hbm, 122, rfl⟩
abbrev main_v34 : Ref sig .tc := ⟨.hbm, 123, rfl⟩
abbrev main_cst_12 : Ref sig .tc := ⟨.hbm, 124, rfl⟩
abbrev main_v35 : Ref sig .tc := ⟨.hbm, 125, rfl⟩
abbrev main_v36 : Ref sig .tc := ⟨.hbm, 126, rfl⟩
abbrev main_cst_13 : Ref sig .tc := ⟨.hbm, 127, rfl⟩
abbrev main_v37 : Ref sig .tc := ⟨.hbm, 128, rfl⟩
abbrev main_v38 : Ref sig .tc := ⟨.hbm, 129, rfl⟩
abbrev main_v39 : Ref sig .tc := ⟨.hbm, 130, rfl⟩
abbrev main_cst_14 : Ref sig .tc := ⟨.hbm, 131, rfl⟩
abbrev main_v40 : Ref sig .tc := ⟨.hbm, 132, rfl⟩
abbrev main_v41 : Ref sig .tc := ⟨.hbm, 133, rfl⟩
abbrev main_v42 : Ref sig .tc := ⟨.hbm, 134, rfl⟩
abbrev main_cst_15 : Ref sig .tc := ⟨.hbm, 135, rfl⟩
abbrev main_v43 : Ref sig .tc := ⟨.hbm, 136, rfl⟩
abbrev main_v44 : Ref sig .tc := ⟨.hbm, 137, rfl⟩
abbrev main_v45 : Ref sig .tc := ⟨.hbm, 138, rfl⟩
abbrev main_cst_16 : Ref sig .tc := ⟨.hbm, 139, rfl⟩
abbrev main_v46 : Ref sig .tc := ⟨.hbm, 140, rfl⟩
abbrev main_v47 : Ref sig .tc := ⟨.hbm, 141, rfl⟩
abbrev main_cst_17 : Ref sig .tc := ⟨.hbm, 142, rfl⟩
abbrev main_v48 : Ref sig .tc := ⟨.hbm, 143, rfl⟩
abbrev main_v49 : Ref sig .tc := ⟨.hbm, 144, rfl⟩
abbrev main_cst_18 : Ref sig .tc := ⟨.hbm, 145, rfl⟩
abbrev main_v50 : Ref sig .tc := ⟨.hbm, 146, rfl⟩
abbrev main_v51 : Ref sig .tc := ⟨.hbm, 147, rfl⟩
abbrev main_v52 : Ref sig .tc := ⟨.hbm, 148, rfl⟩
abbrev main_cst_19 : Ref sig .tc := ⟨.hbm, 149, rfl⟩
abbrev main_v53 : Ref sig .tc := ⟨.hbm, 150, rfl⟩
abbrev main_v54 : Ref sig .tc := ⟨.hbm, 151, rfl⟩
abbrev main_v55 : Ref sig .tc := ⟨.hbm, 152, rfl⟩
abbrev main_cst_20 : Ref sig .tc := ⟨.hbm, 153, rfl⟩
abbrev main_v56 : Ref sig .tc := ⟨.hbm, 154, rfl⟩
abbrev main_v57 : Ref sig .tc := ⟨.hbm, 155, rfl⟩
abbrev main_v58 : Ref sig .tc := ⟨.hbm, 156, rfl⟩
abbrev main_cst_21 : Ref sig .tc := ⟨.hbm, 157, rfl⟩
abbrev main_v59 : Ref sig .tc := ⟨.hbm, 158, rfl⟩
abbrev main_v60 : Ref sig .tc := ⟨.hbm, 159, rfl⟩
abbrev main_cst_22 : Ref sig .tc := ⟨.hbm, 160, rfl⟩
abbrev main_v61 : Ref sig .tc := ⟨.hbm, 161, rfl⟩
abbrev main_v62 : Ref sig .tc := ⟨.hbm, 162, rfl⟩
abbrev main_v63 : Ref sig .tc := ⟨.hbm, 163, rfl⟩
abbrev main_cst_23 : Ref sig .tc := ⟨.hbm, 164, rfl⟩
abbrev main_v64 : Ref sig .tc := ⟨.hbm, 165, rfl⟩
abbrev main_v65 : Ref sig .tc := ⟨.hbm, 166, rfl⟩
abbrev main_v66 : Ref sig .tc := ⟨.hbm, 167, rfl⟩
abbrev main_cst_24 : Ref sig .tc := ⟨.hbm, 168, rfl⟩
abbrev main_v67 : Ref sig .tc := ⟨.hbm, 169, rfl⟩
abbrev main_v68 : Ref sig .tc := ⟨.hbm, 170, rfl⟩
abbrev main_v69 : Ref sig .tc := ⟨.hbm, 171, rfl⟩
abbrev main_cst_25 : Ref sig .tc := ⟨.hbm, 172, rfl⟩
abbrev main_v70 : Ref sig .tc := ⟨.hbm, 173, rfl⟩
abbrev main_v71 : Ref sig .tc := ⟨.hbm, 174, rfl⟩
abbrev main_cst_26 : Ref sig .tc := ⟨.hbm, 175, rfl⟩
abbrev main_v72 : Ref sig .tc := ⟨.hbm, 176, rfl⟩
abbrev main_v73 : Ref sig .tc := ⟨.hbm, 177, rfl⟩
abbrev main_cst_27 : Ref sig .tc := ⟨.hbm, 178, rfl⟩
abbrev main_v74 : Ref sig .tc := ⟨.hbm, 179, rfl⟩
abbrev main_v75 : Ref sig .tc := ⟨.hbm, 180, rfl⟩
abbrev main_v76 : Ref sig .tc := ⟨.hbm, 181, rfl⟩
abbrev main_cst_28 : Ref sig .tc := ⟨.hbm, 182, rfl⟩
abbrev main_v77 : Ref sig .tc := ⟨.hbm, 183, rfl⟩
abbrev main_v78 : Ref sig .tc := ⟨.hbm, 184, rfl⟩
abbrev main_v79 : Ref sig .tc := ⟨.hbm, 185, rfl⟩
abbrev main_cst_29 : Ref sig .tc := ⟨.hbm, 186, rfl⟩
abbrev main_v80 : Ref sig .tc := ⟨.hbm, 187, rfl⟩
abbrev main_v81 : Ref sig .tc := ⟨.hbm, 188, rfl⟩
abbrev main_v82 : Ref sig .tc := ⟨.hbm, 189, rfl⟩
abbrev main_cst_30 : Ref sig .tc := ⟨.hbm, 190, rfl⟩
abbrev main_v83 : Ref sig .tc := ⟨.hbm, 191, rfl⟩
abbrev main_v84 : Ref sig .tc := ⟨.hbm, 192, rfl⟩
abbrev main_cst_31 : Ref sig .tc := ⟨.hbm, 193, rfl⟩
abbrev main_v85 : Ref sig .tc := ⟨.hbm, 194, rfl⟩
abbrev main_v86 : Ref sig .tc := ⟨.hbm, 195, rfl⟩
abbrev main_v87 : Ref sig .tc := ⟨.hbm, 196, rfl⟩
abbrev main_cst_32 : Ref sig .tc := ⟨.hbm, 197, rfl⟩
abbrev main_v88 : Ref sig .tc := ⟨.hbm, 198, rfl⟩
abbrev main_v89 : Ref sig .tc := ⟨.hbm, 199, rfl⟩
abbrev main_v90 : Ref sig .tc := ⟨.hbm, 200, rfl⟩
abbrev main_cst_33 : Ref sig .tc := ⟨.hbm, 201, rfl⟩
abbrev main_v91 : Ref sig .tc := ⟨.hbm, 202, rfl⟩
abbrev main_v92 : Ref sig .tc := ⟨.hbm, 203, rfl⟩
abbrev main_v93 : Ref sig .tc := ⟨.hbm, 204, rfl⟩
abbrev main_cst_34 : Ref sig .tc := ⟨.hbm, 205, rfl⟩
abbrev main_v94 : Ref sig .tc := ⟨.hbm, 206, rfl⟩
abbrev main_v95 : Ref sig .tc := ⟨.hbm, 207, rfl⟩
abbrev main_cst_35 : Ref sig .tc := ⟨.hbm, 208, rfl⟩
abbrev main_v96 : Ref sig .tc := ⟨.hbm, 209, rfl⟩
abbrev main_v97 : Ref sig .tc := ⟨.hbm, 210, rfl⟩
abbrev main_cst_36 : Ref sig .tc := ⟨.hbm, 211, rfl⟩
abbrev main_v98 : Ref sig .tc := ⟨.hbm, 212, rfl⟩
abbrev main_v99 : Ref sig .tc := ⟨.hbm, 213, rfl⟩
abbrev main_v100 : Ref sig .tc := ⟨.hbm, 214, rfl⟩
abbrev main_cst_37 : Ref sig .tc := ⟨.hbm, 215, rfl⟩
abbrev main_v101 : Ref sig .tc := ⟨.hbm, 216, rfl⟩
abbrev main_v102 : Ref sig .tc := ⟨.hbm, 217, rfl⟩
abbrev main_v103 : Ref sig .tc := ⟨.hbm, 218, rfl⟩
abbrev main_cst_38 : Ref sig .tc := ⟨.hbm, 219, rfl⟩
abbrev main_v104 : Ref sig .tc := ⟨.hbm, 220, rfl⟩
abbrev main_v105 : Ref sig .tc := ⟨.hbm, 221, rfl⟩
abbrev main_v106 : Ref sig .tc := ⟨.hbm, 222, rfl⟩
abbrev main_cst_39 : Ref sig .tc := ⟨.hbm, 223, rfl⟩
abbrev main_v107 : Ref sig .tc := ⟨.hbm, 224, rfl⟩
abbrev main_v108 : Ref sig .tc := ⟨.hbm, 225, rfl⟩
abbrev main_cst_40 : Ref sig .tc := ⟨.hbm, 226, rfl⟩
abbrev main_v109 : Ref sig .tc := ⟨.hbm, 227, rfl⟩
abbrev main_v110 : Ref sig .tc := ⟨.hbm, 228, rfl⟩
abbrev main_v111 : Ref sig .tc := ⟨.hbm, 229, rfl⟩
abbrev main_cst_41 : Ref sig .tc := ⟨.hbm, 230, rfl⟩
abbrev main_v112 : Ref sig .tc := ⟨.hbm, 231, rfl⟩
abbrev main_v113 : Ref sig .tc := ⟨.hbm, 232, rfl⟩
abbrev main_v114 : Ref sig .tc := ⟨.hbm, 233, rfl⟩
abbrev main_cst_42 : Ref sig .tc := ⟨.hbm, 234, rfl⟩
abbrev main_v115 : Ref sig .tc := ⟨.hbm, 235, rfl⟩
abbrev main_v116 : Ref sig .tc := ⟨.hbm, 236, rfl⟩
abbrev main_v117 : Ref sig .tc := ⟨.hbm, 237, rfl⟩
abbrev main_cst_43 : Ref sig .tc := ⟨.hbm, 238, rfl⟩
abbrev main_v118 : Ref sig .tc := ⟨.hbm, 239, rfl⟩
abbrev main_v119 : Ref sig .tc := ⟨.hbm, 240, rfl⟩
abbrev main_cst_44 : Ref sig .tc := ⟨.hbm, 241, rfl⟩
abbrev main_v120 : Ref sig .tc := ⟨.hbm, 242, rfl⟩
abbrev main_v121 : Ref sig .tc := ⟨.hbm, 243, rfl⟩
abbrev main_cst_45 : Ref sig .tc := ⟨.hbm, 244, rfl⟩
abbrev main_v122 : Ref sig .tc := ⟨.hbm, 245, rfl⟩
abbrev main_v123 : Ref sig .tc := ⟨.hbm, 246, rfl⟩
abbrev main_v124 : Ref sig .tc := ⟨.hbm, 247, rfl⟩
abbrev main_cst_46 : Ref sig .tc := ⟨.hbm, 248, rfl⟩
abbrev main_v125 : Ref sig .tc := ⟨.hbm, 249, rfl⟩
abbrev main_v126 : Ref sig .tc := ⟨.hbm, 250, rfl⟩
abbrev main_v127 : Ref sig .tc := ⟨.hbm, 251, rfl⟩
abbrev main_cst_47 : Ref sig .tc := ⟨.hbm, 252, rfl⟩
abbrev main_v128 : Ref sig .tc := ⟨.hbm, 253, rfl⟩
abbrev main_v129 : Ref sig .tc := ⟨.hbm, 254, rfl⟩
abbrev main_v130 : Ref sig .tc := ⟨.hbm, 255, rfl⟩
abbrev main_cst_48 : Ref sig .tc := ⟨.hbm, 256, rfl⟩
abbrev main_v131 : Ref sig .tc := ⟨.hbm, 257, rfl⟩
abbrev main_v132 : Ref sig .tc := ⟨.hbm, 258, rfl⟩
abbrev main_cst_49 : Ref sig .tc := ⟨.hbm, 259, rfl⟩
abbrev main_v133 : Ref sig .tc := ⟨.hbm, 260, rfl⟩
abbrev main_v134 : Ref sig .tc := ⟨.hbm, 261, rfl⟩
abbrev main_v135 : Ref sig .tc := ⟨.hbm, 262, rfl⟩
abbrev main_cst_50 : Ref sig .tc := ⟨.hbm, 263, rfl⟩
abbrev main_v136 : Ref sig .tc := ⟨.hbm, 264, rfl⟩
abbrev main_v137 : Ref sig .tc := ⟨.hbm, 265, rfl⟩
abbrev main_v138 : Ref sig .tc := ⟨.hbm, 266, rfl⟩
abbrev main_cst_51 : Ref sig .tc := ⟨.hbm, 267, rfl⟩
abbrev main_v139 : Ref sig .tc := ⟨.hbm, 268, rfl⟩
abbrev main_v140 : Ref sig .tc := ⟨.hbm, 269, rfl⟩
abbrev main_v141 : Ref sig .tc := ⟨.hbm, 270, rfl⟩
abbrev main_cst_52 : Ref sig .tc := ⟨.hbm, 271, rfl⟩
abbrev main_v142 : Ref sig .tc := ⟨.hbm, 272, rfl⟩
abbrev main_v143 : Ref sig .tc := ⟨.hbm, 273, rfl⟩
abbrev main_cst_53 : Ref sig .tc := ⟨.hbm, 274, rfl⟩
abbrev main_v144 : Ref sig .tc := ⟨.hbm, 275, rfl⟩
abbrev main_v145 : Ref sig .tc := ⟨.hbm, 276, rfl⟩
abbrev main_cst_54 : Ref sig .tc := ⟨.hbm, 277, rfl⟩
abbrev main_v146 : Ref sig .tc := ⟨.hbm, 278, rfl⟩
abbrev main_v147 : Ref sig .tc := ⟨.hbm, 279, rfl⟩
abbrev main_v148 : Ref sig .tc := ⟨.hbm, 280, rfl⟩
abbrev main_cst_55 : Ref sig .tc := ⟨.hbm, 281, rfl⟩
abbrev main_v149 : Ref sig .tc := ⟨.hbm, 282, rfl⟩
abbrev main_v150 : Ref sig .tc := ⟨.hbm, 283, rfl⟩
abbrev main_v151 : Ref sig .tc := ⟨.hbm, 284, rfl⟩
abbrev main_cst_56 : Ref sig .tc := ⟨.hbm, 285, rfl⟩
abbrev main_v152 : Ref sig .tc := ⟨.hbm, 286, rfl⟩
abbrev main_v153 : Ref sig .tc := ⟨.hbm, 287, rfl⟩
abbrev main_v154 : Ref sig .tc := ⟨.hbm, 288, rfl⟩
abbrev main_cst_57 : Ref sig .tc := ⟨.hbm, 289, rfl⟩
abbrev main_v155 : Ref sig .tc := ⟨.hbm, 290, rfl⟩
abbrev main_v156 : Ref sig .tc := ⟨.hbm, 291, rfl⟩
abbrev main_cst_58 : Ref sig .tc := ⟨.hbm, 292, rfl⟩
abbrev main_v157 : Ref sig .tc := ⟨.hbm, 293, rfl⟩
abbrev main_v158 : Ref sig .tc := ⟨.hbm, 294, rfl⟩
abbrev main_v159 : Ref sig .tc := ⟨.hbm, 295, rfl⟩
abbrev main_cst_59 : Ref sig .tc := ⟨.hbm, 296, rfl⟩
abbrev main_v160 : Ref sig .tc := ⟨.hbm, 297, rfl⟩
abbrev main_v161 : Ref sig .tc := ⟨.hbm, 298, rfl⟩
abbrev main_v162 : Ref sig .tc := ⟨.hbm, 299, rfl⟩
abbrev main_cst_60 : Ref sig .tc := ⟨.hbm, 300, rfl⟩
abbrev main_v163 : Ref sig .tc := ⟨.hbm, 301, rfl⟩
abbrev main_v164 : Ref sig .tc := ⟨.hbm, 302, rfl⟩
abbrev main_v165 : Ref sig .tc := ⟨.hbm, 303, rfl⟩
abbrev main_cst_61 : Ref sig .tc := ⟨.hbm, 304, rfl⟩
abbrev main_v166 : Ref sig .tc := ⟨.hbm, 305, rfl⟩
abbrev main_v167 : Ref sig .tc := ⟨.hbm, 306, rfl⟩
abbrev main_cst_62 : Ref sig .tc := ⟨.hbm, 307, rfl⟩
abbrev main_v168 : Ref sig .tc := ⟨.hbm, 308, rfl⟩
abbrev main_v169 : Ref sig .tc := ⟨.hbm, 309, rfl⟩
abbrev main_cst_63 : Ref sig .tc := ⟨.hbm, 310, rfl⟩
abbrev main_v170 : Ref sig .tc := ⟨.hbm, 311, rfl⟩
abbrev main_v171 : Ref sig .tc := ⟨.hbm, 312, rfl⟩
abbrev main_v172 : Ref sig .tc := ⟨.hbm, 313, rfl⟩
abbrev main_cst_64 : Ref sig .tc := ⟨.hbm, 314, rfl⟩
abbrev main_v173 : Ref sig .tc := ⟨.hbm, 315, rfl⟩
abbrev main_v174 : Ref sig .tc := ⟨.hbm, 316, rfl⟩
abbrev main_v175 : Ref sig .tc := ⟨.hbm, 317, rfl⟩
abbrev main_cst_65 : Ref sig .tc := ⟨.hbm, 318, rfl⟩
abbrev main_v176 : Ref sig .tc := ⟨.hbm, 319, rfl⟩
abbrev main_v177 : Ref sig .tc := ⟨.hbm, 320, rfl⟩
abbrev main_v178 : Ref sig .tc := ⟨.hbm, 321, rfl⟩
abbrev main_cst_66 : Ref sig .tc := ⟨.hbm, 322, rfl⟩
abbrev main_v179 : Ref sig .tc := ⟨.hbm, 323, rfl⟩
abbrev main_v180 : Ref sig .tc := ⟨.hbm, 324, rfl⟩
abbrev main_cst_67 : Ref sig .tc := ⟨.hbm, 325, rfl⟩
abbrev main_v181 : Ref sig .tc := ⟨.hbm, 326, rfl⟩
abbrev main_v182 : Ref sig .tc := ⟨.hbm, 327, rfl⟩
abbrev main_v183 : Ref sig .tc := ⟨.hbm, 328, rfl⟩
abbrev main_cst_68 : Ref sig .tc := ⟨.hbm, 329, rfl⟩
abbrev main_v184 : Ref sig .tc := ⟨.hbm, 330, rfl⟩
abbrev main_v185 : Ref sig .tc := ⟨.hbm, 331, rfl⟩
abbrev main_v186 : Ref sig .tc := ⟨.hbm, 332, rfl⟩
abbrev main_cst_69 : Ref sig .tc := ⟨.hbm, 333, rfl⟩
abbrev main_v187 : Ref sig .tc := ⟨.hbm, 334, rfl⟩
abbrev main_v188 : Ref sig .tc := ⟨.hbm, 335, rfl⟩
abbrev main_v189 : Ref sig .tc := ⟨.hbm, 336, rfl⟩
abbrev main_cst_70 : Ref sig .tc := ⟨.hbm, 337, rfl⟩
abbrev main_v190 : Ref sig .tc := ⟨.hbm, 338, rfl⟩
abbrev main_v191 : Ref sig .tc := ⟨.hbm, 339, rfl⟩
abbrev main_cst_71 : Ref sig .tc := ⟨.hbm, 340, rfl⟩
abbrev main_v192 : Ref sig .tc := ⟨.hbm, 341, rfl⟩
abbrev main_v193 : Ref sig .tc := ⟨.hbm, 342, rfl⟩
abbrev main_cst_72 : Ref sig .tc := ⟨.hbm, 343, rfl⟩
abbrev main_v194 : Ref sig .tc := ⟨.hbm, 344, rfl⟩
abbrev main_v195 : Ref sig .tc := ⟨.hbm, 345, rfl⟩
abbrev main_v196 : Ref sig .tc := ⟨.hbm, 346, rfl⟩
abbrev main_cst_73 : Ref sig .tc := ⟨.hbm, 347, rfl⟩
abbrev main_v197 : Ref sig .tc := ⟨.hbm, 348, rfl⟩
abbrev main_v198 : Ref sig .tc := ⟨.hbm, 349, rfl⟩
abbrev main_v199 : Ref sig .tc := ⟨.hbm, 350, rfl⟩
abbrev main_cst_74 : Ref sig .tc := ⟨.hbm, 351, rfl⟩
abbrev main_v200 : Ref sig .tc := ⟨.hbm, 352, rfl⟩
abbrev main_v201 : Ref sig .tc := ⟨.hbm, 353, rfl⟩
abbrev main_v202 : Ref sig .tc := ⟨.hbm, 354, rfl⟩
abbrev main_cst_75 : Ref sig .tc := ⟨.hbm, 355, rfl⟩
abbrev main_v203 : Ref sig .tc := ⟨.hbm, 356, rfl⟩
abbrev main_v204 : Ref sig .tc := ⟨.hbm, 357, rfl⟩
abbrev main_cst_76 : Ref sig .tc := ⟨.hbm, 358, rfl⟩
abbrev main_v205 : Ref sig .tc := ⟨.hbm, 359, rfl⟩
abbrev main_v206 : Ref sig .tc := ⟨.hbm, 360, rfl⟩
abbrev main_v207 : Ref sig .tc := ⟨.hbm, 361, rfl⟩
abbrev main_cst_77 : Ref sig .tc := ⟨.hbm, 362, rfl⟩
abbrev main_v208 : Ref sig .tc := ⟨.hbm, 363, rfl⟩
abbrev main_v209 : Ref sig .tc := ⟨.hbm, 364, rfl⟩
abbrev main_v210 : Ref sig .tc := ⟨.hbm, 365, rfl⟩
abbrev main_cst_78 : Ref sig .tc := ⟨.hbm, 366, rfl⟩
abbrev main_v211 : Ref sig .tc := ⟨.hbm, 367, rfl⟩
abbrev main_v212 : Ref sig .tc := ⟨.hbm, 368, rfl⟩
abbrev main_v213 : Ref sig .tc := ⟨.hbm, 369, rfl⟩
abbrev main_cst_79 : Ref sig .tc := ⟨.hbm, 370, rfl⟩
abbrev main_v214 : Ref sig .tc := ⟨.hbm, 371, rfl⟩
abbrev main_v215 : Ref sig .tc := ⟨.hbm, 372, rfl⟩
abbrev main_cst_80 : Ref sig .tc := ⟨.hbm, 373, rfl⟩
abbrev main_v216 : Ref sig .tc := ⟨.hbm, 374, rfl⟩
abbrev main_v217 : Ref sig .tc := ⟨.hbm, 375, rfl⟩
abbrev main_cst_81 : Ref sig .tc := ⟨.hbm, 376, rfl⟩
abbrev main_v218 : Ref sig .tc := ⟨.hbm, 377, rfl⟩
abbrev main_v219 : Ref sig .tc := ⟨.hbm, 378, rfl⟩
abbrev main_v220 : Ref sig .tc := ⟨.hbm, 379, rfl⟩
abbrev main_cst_82 : Ref sig .tc := ⟨.hbm, 380, rfl⟩
abbrev main_v221 : Ref sig .tc := ⟨.hbm, 381, rfl⟩
abbrev main_v222 : Ref sig .tc := ⟨.hbm, 382, rfl⟩
abbrev main_v223 : Ref sig .tc := ⟨.hbm, 383, rfl⟩
abbrev main_cst_83 : Ref sig .tc := ⟨.hbm, 384, rfl⟩
abbrev main_v224 : Ref sig .tc := ⟨.hbm, 385, rfl⟩
abbrev main_v225 : Ref sig .tc := ⟨.hbm, 386, rfl⟩
abbrev main_v226 : Ref sig .tc := ⟨.hbm, 387, rfl⟩
abbrev main_cst_84 : Ref sig .tc := ⟨.hbm, 388, rfl⟩
abbrev main_v227 : Ref sig .tc := ⟨.hbm, 389, rfl⟩
abbrev main_v228 : Ref sig .tc := ⟨.hbm, 390, rfl⟩
abbrev main_cst_85 : Ref sig .tc := ⟨.hbm, 391, rfl⟩
abbrev main_v229 : Ref sig .tc := ⟨.hbm, 392, rfl⟩
abbrev main_v230 : Ref sig .tc := ⟨.hbm, 393, rfl⟩
abbrev main_v231 : Ref sig .tc := ⟨.hbm, 394, rfl⟩
abbrev main_cst_86 : Ref sig .tc := ⟨.hbm, 395, rfl⟩
abbrev main_v232 : Ref sig .tc := ⟨.hbm, 396, rfl⟩
abbrev main_v233 : Ref sig .tc := ⟨.hbm, 397, rfl⟩
abbrev main_v234 : Ref sig .tc := ⟨.hbm, 398, rfl⟩
abbrev main_cst_87 : Ref sig .tc := ⟨.hbm, 399, rfl⟩
abbrev main_v235 : Ref sig .tc := ⟨.hbm, 400, rfl⟩
abbrev main_v236 : Ref sig .tc := ⟨.hbm, 401, rfl⟩
abbrev main_v237 : Ref sig .tc := ⟨.hbm, 402, rfl⟩
abbrev main_cst_88 : Ref sig .tc := ⟨.hbm, 403, rfl⟩
abbrev main_v238 : Ref sig .tc := ⟨.hbm, 404, rfl⟩
abbrev main_v239 : Ref sig .tc := ⟨.hbm, 405, rfl⟩
abbrev main_cst_89 : Ref sig .tc := ⟨.hbm, 406, rfl⟩
abbrev main_v240 : Ref sig .tc := ⟨.hbm, 407, rfl⟩
abbrev main_v241 : Ref sig .tc := ⟨.hbm, 408, rfl⟩
abbrev main_cst_90 : Ref sig .tc := ⟨.hbm, 409, rfl⟩
abbrev main_v242 : Ref sig .tc := ⟨.hbm, 410, rfl⟩
abbrev main_v243 : Ref sig .tc := ⟨.hbm, 411, rfl⟩
abbrev main_v244 : Ref sig .tc := ⟨.hbm, 412, rfl⟩
abbrev main_cst_91 : Ref sig .tc := ⟨.hbm, 413, rfl⟩
abbrev main_v245 : Ref sig .tc := ⟨.hbm, 414, rfl⟩
abbrev main_v246 : Ref sig .tc := ⟨.hbm, 415, rfl⟩
abbrev main_v247 : Ref sig .tc := ⟨.hbm, 416, rfl⟩
abbrev main_cst_92 : Ref sig .tc := ⟨.hbm, 417, rfl⟩
abbrev main_v248 : Ref sig .tc := ⟨.hbm, 418, rfl⟩
abbrev main_v249 : Ref sig .tc := ⟨.hbm, 419, rfl⟩
abbrev main_v250 : Ref sig .tc := ⟨.hbm, 420, rfl⟩
abbrev main_cst_93 : Ref sig .tc := ⟨.hbm, 421, rfl⟩
abbrev main_v251 : Ref sig .tc := ⟨.hbm, 422, rfl⟩
abbrev main_v252 : Ref sig .tc := ⟨.hbm, 423, rfl⟩
abbrev main_cst_94 : Ref sig .tc := ⟨.hbm, 424, rfl⟩
abbrev main_v253 : Ref sig .tc := ⟨.hbm, 425, rfl⟩
abbrev main_v254 : Ref sig .tc := ⟨.hbm, 426, rfl⟩
abbrev main_v255 : Ref sig .tc := ⟨.hbm, 427, rfl⟩
abbrev main_cst_95 : Ref sig .tc := ⟨.hbm, 428, rfl⟩
abbrev main_v256 : Ref sig .tc := ⟨.hbm, 429, rfl⟩
abbrev main_v257 : Ref sig .tc := ⟨.hbm, 430, rfl⟩
abbrev main_v258 : Ref sig .tc := ⟨.hbm, 431, rfl⟩
abbrev main_cst_96 : Ref sig .tc := ⟨.hbm, 432, rfl⟩
abbrev main_v259 : Ref sig .tc := ⟨.hbm, 433, rfl⟩
abbrev main_v260 : Ref sig .tc := ⟨.hbm, 434, rfl⟩
abbrev main_v261 : Ref sig .tc := ⟨.hbm, 435, rfl⟩
abbrev main_cst_97 : Ref sig .tc := ⟨.hbm, 436, rfl⟩
abbrev main_v262 : Ref sig .tc := ⟨.hbm, 437, rfl⟩
abbrev main_v263 : Ref sig .tc := ⟨.hbm, 438, rfl⟩
abbrev main_cst_98 : Ref sig .tc := ⟨.hbm, 439, rfl⟩
abbrev main_v264 : Ref sig .tc := ⟨.hbm, 440, rfl⟩
abbrev main_v265 : Ref sig .tc := ⟨.hbm, 441, rfl⟩
abbrev main_cst_99 : Ref sig .tc := ⟨.hbm, 442, rfl⟩
abbrev main_v266 : Ref sig .tc := ⟨.hbm, 443, rfl⟩
abbrev main_v267 : Ref sig .tc := ⟨.hbm, 444, rfl⟩
abbrev main_v268 : Ref sig .tc := ⟨.hbm, 445, rfl⟩
abbrev main_cst_100 : Ref sig .tc := ⟨.hbm, 446, rfl⟩
abbrev main_v269 : Ref sig .tc := ⟨.hbm, 447, rfl⟩
abbrev main_v270 : Ref sig .tc := ⟨.hbm, 448, rfl⟩
abbrev main_v271 : Ref sig .tc := ⟨.hbm, 449, rfl⟩
abbrev main_cst_101 : Ref sig .tc := ⟨.hbm, 450, rfl⟩
abbrev main_v272 : Ref sig .tc := ⟨.hbm, 451, rfl⟩
abbrev main_v273 : Ref sig .tc := ⟨.hbm, 452, rfl⟩
abbrev main_v274 : Ref sig .tc := ⟨.hbm, 453, rfl⟩
abbrev main_cst_102 : Ref sig .tc := ⟨.hbm, 454, rfl⟩
abbrev main_v275 : Ref sig .tc := ⟨.hbm, 455, rfl⟩
abbrev main_v276 : Ref sig .tc := ⟨.hbm, 456, rfl⟩
abbrev main_cst_103 : Ref sig .tc := ⟨.hbm, 457, rfl⟩
abbrev main_v277 : Ref sig .tc := ⟨.hbm, 458, rfl⟩
abbrev main_v278 : Ref sig .tc := ⟨.hbm, 459, rfl⟩
abbrev main_v279 : Ref sig .tc := ⟨.hbm, 460, rfl⟩
abbrev main_cst_104 : Ref sig .tc := ⟨.hbm, 461, rfl⟩
abbrev main_v280 : Ref sig .tc := ⟨.hbm, 462, rfl⟩
abbrev main_v281 : Ref sig .tc := ⟨.hbm, 463, rfl⟩
abbrev main_v282 : Ref sig .tc := ⟨.hbm, 464, rfl⟩
abbrev main_cst_105 : Ref sig .tc := ⟨.hbm, 465, rfl⟩
abbrev main_v283 : Ref sig .tc := ⟨.hbm, 466, rfl⟩
abbrev main_v284 : Ref sig .tc := ⟨.hbm, 467, rfl⟩
abbrev main_v285 : Ref sig .tc := ⟨.hbm, 468, rfl⟩
abbrev main_cst_106 : Ref sig .tc := ⟨.hbm, 469, rfl⟩
abbrev main_v286 : Ref sig .tc := ⟨.hbm, 470, rfl⟩
abbrev main_v287 : Ref sig .tc := ⟨.hbm, 471, rfl⟩
abbrev main_cst_107 : Ref sig .tc := ⟨.hbm, 472, rfl⟩
abbrev main_v288 : Ref sig .tc := ⟨.hbm, 473, rfl⟩
abbrev main_v289 : Ref sig .tc := ⟨.hbm, 474, rfl⟩
abbrev main_cst_108 : Ref sig .tc := ⟨.hbm, 475, rfl⟩
abbrev main_v290 : Ref sig .tc := ⟨.hbm, 476, rfl⟩
abbrev main_v291 : Ref sig .tc := ⟨.hbm, 477, rfl⟩
abbrev main_v292 : Ref sig .tc := ⟨.hbm, 478, rfl⟩
abbrev main_cst_109 : Ref sig .tc := ⟨.hbm, 479, rfl⟩
abbrev main_v293 : Ref sig .tc := ⟨.hbm, 480, rfl⟩
abbrev main_v294 : Ref sig .tc := ⟨.hbm, 481, rfl⟩
abbrev main_v295 : Ref sig .tc := ⟨.hbm, 482, rfl⟩
abbrev main_cst_110 : Ref sig .tc := ⟨.hbm, 483, rfl⟩
abbrev main_v296 : Ref sig .tc := ⟨.hbm, 484, rfl⟩
abbrev main_v297 : Ref sig .tc := ⟨.hbm, 485, rfl⟩
abbrev main_v298 : Ref sig .tc := ⟨.hbm, 486, rfl⟩
abbrev main_cst_111 : Ref sig .tc := ⟨.hbm, 487, rfl⟩
abbrev main_v299 : Ref sig .tc := ⟨.hbm, 488, rfl⟩
abbrev main_v300 : Ref sig .tc := ⟨.hbm, 489, rfl⟩
abbrev main_cst_112 : Ref sig .tc := ⟨.hbm, 490, rfl⟩
abbrev main_v301 : Ref sig .tc := ⟨.hbm, 491, rfl⟩
abbrev main_v302 : Ref sig .tc := ⟨.hbm, 492, rfl⟩
abbrev main_v303 : Ref sig .tc := ⟨.hbm, 493, rfl⟩
abbrev main_cst_113 : Ref sig .tc := ⟨.hbm, 494, rfl⟩
abbrev main_v304 : Ref sig .tc := ⟨.hbm, 495, rfl⟩
abbrev main_v305 : Ref sig .tc := ⟨.hbm, 496, rfl⟩
abbrev main_v306 : Ref sig .tc := ⟨.hbm, 497, rfl⟩
abbrev main_cst_114 : Ref sig .tc := ⟨.hbm, 498, rfl⟩
abbrev main_v307 : Ref sig .tc := ⟨.hbm, 499, rfl⟩
abbrev main_v308 : Ref sig .tc := ⟨.hbm, 500, rfl⟩
abbrev main_v309 : Ref sig .tc := ⟨.hbm, 501, rfl⟩
abbrev main_cst_115 : Ref sig .tc := ⟨.hbm, 502, rfl⟩
abbrev main_v310 : Ref sig .tc := ⟨.hbm, 503, rfl⟩
abbrev main_v311 : Ref sig .tc := ⟨.hbm, 504, rfl⟩
abbrev main_cst_116 : Ref sig .tc := ⟨.hbm, 505, rfl⟩
abbrev main_v312 : Ref sig .tc := ⟨.hbm, 506, rfl⟩
abbrev main_v313 : Ref sig .tc := ⟨.hbm, 507, rfl⟩
abbrev main_cst_117 : Ref sig .tc := ⟨.hbm, 508, rfl⟩
abbrev main_v314 : Ref sig .tc := ⟨.hbm, 509, rfl⟩
abbrev main_v315 : Ref sig .tc := ⟨.hbm, 510, rfl⟩
abbrev main_v316 : Ref sig .tc := ⟨.hbm, 511, rfl⟩
abbrev main_cst_118 : Ref sig .tc := ⟨.hbm, 512, rfl⟩
abbrev main_v317 : Ref sig .tc := ⟨.hbm, 513, rfl⟩
abbrev main_v318 : Ref sig .tc := ⟨.hbm, 514, rfl⟩
abbrev main_v319 : Ref sig .tc := ⟨.hbm, 515, rfl⟩
abbrev main_cst_119 : Ref sig .tc := ⟨.hbm, 516, rfl⟩
abbrev main_v320 : Ref sig .tc := ⟨.hbm, 517, rfl⟩
abbrev main_v321 : Ref sig .tc := ⟨.hbm, 518, rfl⟩
abbrev main_v322 : Ref sig .tc := ⟨.hbm, 519, rfl⟩
abbrev main_cst_120 : Ref sig .tc := ⟨.hbm, 520, rfl⟩
abbrev main_v323 : Ref sig .tc := ⟨.hbm, 521, rfl⟩
abbrev main_v324 : Ref sig .tc := ⟨.hbm, 522, rfl⟩
abbrev main_cst_121 : Ref sig .tc := ⟨.hbm, 523, rfl⟩
abbrev main_v325 : Ref sig .tc := ⟨.hbm, 524, rfl⟩
abbrev main_v326 : Ref sig .tc := ⟨.hbm, 525, rfl⟩
abbrev main_v327 : Ref sig .tc := ⟨.hbm, 526, rfl⟩
abbrev main_cst_122 : Ref sig .tc := ⟨.hbm, 527, rfl⟩
abbrev main_v328 : Ref sig .tc := ⟨.hbm, 528, rfl⟩
abbrev main_v329 : Ref sig .tc := ⟨.hbm, 529, rfl⟩
abbrev main_v330 : Ref sig .tc := ⟨.hbm, 530, rfl⟩
abbrev main_cst_123 : Ref sig .tc := ⟨.hbm, 531, rfl⟩
abbrev main_v331 : Ref sig .tc := ⟨.hbm, 532, rfl⟩
abbrev main_v332 : Ref sig .tc := ⟨.hbm, 533, rfl⟩
abbrev main_v333 : Ref sig .tc := ⟨.hbm, 534, rfl⟩
abbrev main_cst_124 : Ref sig .tc := ⟨.hbm, 535, rfl⟩
abbrev main_v334 : Ref sig .tc := ⟨.hbm, 536, rfl⟩
abbrev main_v335 : Ref sig .tc := ⟨.hbm, 537, rfl⟩
abbrev main_cst_125 : Ref sig .tc := ⟨.hbm, 538, rfl⟩
abbrev main_v336 : Ref sig .tc := ⟨.hbm, 539, rfl⟩
abbrev main_v337 : Ref sig .tc := ⟨.hbm, 540, rfl⟩
abbrev main_cst_126 : Ref sig .tc := ⟨.hbm, 541, rfl⟩
abbrev main_v338 : Ref sig .tc := ⟨.hbm, 542, rfl⟩
abbrev main_v339 : Ref sig .tc := ⟨.hbm, 543, rfl⟩
abbrev main_v340 : Ref sig .tc := ⟨.hbm, 544, rfl⟩
abbrev main_cst_127 : Ref sig .tc := ⟨.hbm, 545, rfl⟩
abbrev main_v341 : Ref sig .tc := ⟨.hbm, 546, rfl⟩
abbrev main_v342 : Ref sig .tc := ⟨.hbm, 547, rfl⟩
abbrev main_v343 : Ref sig .tc := ⟨.hbm, 548, rfl⟩
abbrev main_cst_128 : Ref sig .tc := ⟨.hbm, 549, rfl⟩
abbrev main_v344 : Ref sig .tc := ⟨.hbm, 550, rfl⟩
abbrev main_v345 : Ref sig .tc := ⟨.hbm, 551, rfl⟩
abbrev main_v346 : Ref sig .tc := ⟨.hbm, 552, rfl⟩
abbrev main_cst_129 : Ref sig .tc := ⟨.hbm, 553, rfl⟩
abbrev main_v347 : Ref sig .tc := ⟨.hbm, 554, rfl⟩
abbrev main_v348 : Ref sig .tc := ⟨.hbm, 555, rfl⟩
abbrev main_cst_130 : Ref sig .tc := ⟨.hbm, 556, rfl⟩
abbrev main_v349 : Ref sig .tc := ⟨.hbm, 557, rfl⟩
abbrev main_v350 : Ref sig .tc := ⟨.hbm, 558, rfl⟩
abbrev main_v351 : Ref sig .tc := ⟨.hbm, 559, rfl⟩
abbrev main_cst_131 : Ref sig .tc := ⟨.hbm, 560, rfl⟩
abbrev main_v352 : Ref sig .tc := ⟨.hbm, 561, rfl⟩
abbrev main_v353 : Ref sig .tc := ⟨.hbm, 562, rfl⟩
abbrev main_v354 : Ref sig .tc := ⟨.hbm, 563, rfl⟩
abbrev main_cst_132 : Ref sig .tc := ⟨.hbm, 564, rfl⟩
abbrev main_v355 : Ref sig .tc := ⟨.hbm, 565, rfl⟩
abbrev main_v356 : Ref sig .tc := ⟨.hbm, 566, rfl⟩
abbrev main_v357 : Ref sig .tc := ⟨.hbm, 567, rfl⟩
abbrev main_cst_133 : Ref sig .tc := ⟨.hbm, 568, rfl⟩
abbrev main_v358 : Ref sig .tc := ⟨.hbm, 569, rfl⟩
abbrev main_v359 : Ref sig .tc := ⟨.hbm, 570, rfl⟩
abbrev main_cst_134 : Ref sig .tc := ⟨.hbm, 571, rfl⟩
abbrev main_v360 : Ref sig .tc := ⟨.hbm, 572, rfl⟩
abbrev main_v361 : Ref sig .tc := ⟨.hbm, 573, rfl⟩
abbrev main_cst_135 : Ref sig .tc := ⟨.hbm, 574, rfl⟩
abbrev main_v362 : Ref sig .tc := ⟨.hbm, 575, rfl⟩
abbrev main_v363 : Ref sig .tc := ⟨.hbm, 576, rfl⟩
abbrev main_v364 : Ref sig .tc := ⟨.hbm, 577, rfl⟩
abbrev main_cst_136 : Ref sig .tc := ⟨.hbm, 578, rfl⟩
abbrev main_v365 : Ref sig .tc := ⟨.hbm, 579, rfl⟩
abbrev main_v366 : Ref sig .tc := ⟨.hbm, 580, rfl⟩
abbrev main_v367 : Ref sig .tc := ⟨.hbm, 581, rfl⟩
abbrev main_cst_137 : Ref sig .tc := ⟨.hbm, 582, rfl⟩
abbrev main_v368 : Ref sig .tc := ⟨.hbm, 583, rfl⟩
abbrev main_v369 : Ref sig .tc := ⟨.hbm, 584, rfl⟩
abbrev main_v370 : Ref sig .tc := ⟨.hbm, 585, rfl⟩
abbrev main_cst_138 : Ref sig .tc := ⟨.hbm, 586, rfl⟩
abbrev main_v371 : Ref sig .tc := ⟨.hbm, 587, rfl⟩
abbrev main_v372 : Ref sig .tc := ⟨.hbm, 588, rfl⟩
abbrev main_cst_139 : Ref sig .tc := ⟨.hbm, 589, rfl⟩
abbrev main_v373 : Ref sig .tc := ⟨.hbm, 590, rfl⟩
abbrev main_v374 : Ref sig .tc := ⟨.hbm, 591, rfl⟩
abbrev main_v375 : Ref sig .tc := ⟨.hbm, 592, rfl⟩
abbrev main_cst_140 : Ref sig .tc := ⟨.hbm, 593, rfl⟩
abbrev main_v376 : Ref sig .tc := ⟨.hbm, 594, rfl⟩
abbrev main_v377 : Ref sig .tc := ⟨.hbm, 595, rfl⟩
abbrev main_v378 : Ref sig .tc := ⟨.hbm, 596, rfl⟩
abbrev main_cst_141 : Ref sig .tc := ⟨.hbm, 597, rfl⟩
abbrev main_v379 : Ref sig .tc := ⟨.hbm, 598, rfl⟩
abbrev main_v380 : Ref sig .tc := ⟨.hbm, 599, rfl⟩
abbrev main_v381 : Ref sig .tc := ⟨.hbm, 600, rfl⟩
abbrev main_cst_142 : Ref sig .tc := ⟨.hbm, 601, rfl⟩
abbrev main_v382 : Ref sig .tc := ⟨.hbm, 602, rfl⟩
abbrev main_v383 : Ref sig .tc := ⟨.hbm, 603, rfl⟩
abbrev main_cst_143 : Ref sig .tc := ⟨.hbm, 604, rfl⟩
abbrev main_v384 : Ref sig .tc := ⟨.hbm, 605, rfl⟩
abbrev main_v385 : Ref sig .tc := ⟨.hbm, 606, rfl⟩
abbrev main_cst_144 : Ref sig .tc := ⟨.hbm, 607, rfl⟩
abbrev main_v386 : Ref sig .tc := ⟨.hbm, 608, rfl⟩
abbrev main_v387 : Ref sig .tc := ⟨.hbm, 609, rfl⟩
abbrev main_v388 : Ref sig .tc := ⟨.hbm, 610, rfl⟩
abbrev main_cst_145 : Ref sig .tc := ⟨.hbm, 611, rfl⟩
abbrev main_v389 : Ref sig .tc := ⟨.hbm, 612, rfl⟩
abbrev main_v390 : Ref sig .tc := ⟨.hbm, 613, rfl⟩
abbrev main_v391 : Ref sig .tc := ⟨.hbm, 614, rfl⟩
abbrev main_cst_146 : Ref sig .tc := ⟨.hbm, 615, rfl⟩
abbrev main_v392 : Ref sig .tc := ⟨.hbm, 616, rfl⟩
abbrev main_v393 : Ref sig .tc := ⟨.hbm, 617, rfl⟩
abbrev main_v394 : Ref sig .tc := ⟨.hbm, 618, rfl⟩
abbrev main_cst_147 : Ref sig .tc := ⟨.hbm, 619, rfl⟩
abbrev main_v395 : Ref sig .tc := ⟨.hbm, 620, rfl⟩
abbrev main_v396 : Ref sig .tc := ⟨.hbm, 621, rfl⟩
abbrev main_cst_148 : Ref sig .tc := ⟨.hbm, 622, rfl⟩
abbrev main_v397 : Ref sig .tc := ⟨.hbm, 623, rfl⟩
abbrev main_v398 : Ref sig .tc := ⟨.hbm, 624, rfl⟩
abbrev main_v399 : Ref sig .tc := ⟨.hbm, 625, rfl⟩
abbrev main_cst_149 : Ref sig .tc := ⟨.hbm, 626, rfl⟩
abbrev main_v400 : Ref sig .tc := ⟨.hbm, 627, rfl⟩
abbrev main_v401 : Ref sig .tc := ⟨.hbm, 628, rfl⟩
abbrev main_v402 : Ref sig .tc := ⟨.hbm, 629, rfl⟩
abbrev main_cst_150 : Ref sig .tc := ⟨.hbm, 630, rfl⟩
abbrev main_v403 : Ref sig .tc := ⟨.hbm, 631, rfl⟩
abbrev main_v404 : Ref sig .tc := ⟨.hbm, 632, rfl⟩
abbrev main_v405 : Ref sig .tc := ⟨.hbm, 633, rfl⟩
abbrev main_cst_151 : Ref sig .tc := ⟨.hbm, 634, rfl⟩
abbrev main_v406 : Ref sig .tc := ⟨.hbm, 635, rfl⟩
abbrev main_v407 : Ref sig .tc := ⟨.hbm, 636, rfl⟩
abbrev main_cst_152 : Ref sig .tc := ⟨.hbm, 637, rfl⟩
abbrev main_v408 : Ref sig .tc := ⟨.hbm, 638, rfl⟩
abbrev main_v409 : Ref sig .tc := ⟨.hbm, 639, rfl⟩
abbrev main_cst_153 : Ref sig .tc := ⟨.hbm, 640, rfl⟩
abbrev main_v410 : Ref sig .tc := ⟨.hbm, 641, rfl⟩
abbrev main_v411 : Ref sig .tc := ⟨.hbm, 642, rfl⟩
abbrev main_v412 : Ref sig .tc := ⟨.hbm, 643, rfl⟩
abbrev main_cst_154 : Ref sig .tc := ⟨.hbm, 644, rfl⟩
abbrev main_v413 : Ref sig .tc := ⟨.hbm, 645, rfl⟩
abbrev main_v414 : Ref sig .tc := ⟨.hbm, 646, rfl⟩
abbrev main_v415 : Ref sig .tc := ⟨.hbm, 647, rfl⟩
abbrev main_cst_155 : Ref sig .tc := ⟨.hbm, 648, rfl⟩
abbrev main_v416 : Ref sig .tc := ⟨.hbm, 649, rfl⟩
abbrev main_v417 : Ref sig .tc := ⟨.hbm, 650, rfl⟩
abbrev main_v418 : Ref sig .tc := ⟨.hbm, 651, rfl⟩
abbrev main_cst_156 : Ref sig .tc := ⟨.hbm, 652, rfl⟩
abbrev main_v419 : Ref sig .tc := ⟨.hbm, 653, rfl⟩
abbrev main_v420 : Ref sig .tc := ⟨.hbm, 654, rfl⟩
abbrev main_cst_157 : Ref sig .tc := ⟨.hbm, 655, rfl⟩
abbrev main_v421 : Ref sig .tc := ⟨.hbm, 656, rfl⟩
abbrev main_v422 : Ref sig .tc := ⟨.hbm, 657, rfl⟩
abbrev main_v423 : Ref sig .tc := ⟨.hbm, 658, rfl⟩
abbrev main_cst_158 : Ref sig .tc := ⟨.hbm, 659, rfl⟩
abbrev main_v424 : Ref sig .tc := ⟨.hbm, 660, rfl⟩
abbrev main_v425 : Ref sig .tc := ⟨.hbm, 661, rfl⟩
abbrev main_v426 : Ref sig .tc := ⟨.hbm, 662, rfl⟩
abbrev main_cst_159 : Ref sig .tc := ⟨.hbm, 663, rfl⟩
abbrev main_v427 : Ref sig .tc := ⟨.hbm, 664, rfl⟩
abbrev main_v428 : Ref sig .tc := ⟨.hbm, 665, rfl⟩
abbrev main_v429 : Ref sig .tc := ⟨.hbm, 666, rfl⟩
abbrev main_cst_160 : Ref sig .tc := ⟨.hbm, 667, rfl⟩
abbrev main_v430 : Ref sig .tc := ⟨.hbm, 668, rfl⟩
abbrev main_v431 : Ref sig .tc := ⟨.hbm, 669, rfl⟩
abbrev main_cst_161 : Ref sig .tc := ⟨.hbm, 670, rfl⟩
abbrev main_v432 : Ref sig .tc := ⟨.hbm, 671, rfl⟩
abbrev main_v433 : Ref sig .tc := ⟨.hbm, 672, rfl⟩
abbrev main_cst_162 : Ref sig .tc := ⟨.hbm, 673, rfl⟩
abbrev main_v434 : Ref sig .tc := ⟨.hbm, 674, rfl⟩
abbrev main_v435 : Ref sig .tc := ⟨.hbm, 675, rfl⟩
abbrev main_v436 : Ref sig .tc := ⟨.hbm, 676, rfl⟩
abbrev main_cst_163 : Ref sig .tc := ⟨.hbm, 677, rfl⟩
abbrev main_v437 : Ref sig .tc := ⟨.hbm, 678, rfl⟩
abbrev main_v438 : Ref sig .tc := ⟨.hbm, 679, rfl⟩
abbrev main_v439 : Ref sig .tc := ⟨.hbm, 680, rfl⟩
abbrev main_cst_164 : Ref sig .tc := ⟨.hbm, 681, rfl⟩
abbrev main_v440 : Ref sig .tc := ⟨.hbm, 682, rfl⟩
abbrev main_v441 : Ref sig .tc := ⟨.hbm, 683, rfl⟩
abbrev main_v442 : Ref sig .tc := ⟨.hbm, 684, rfl⟩
abbrev main_cst_165 : Ref sig .tc := ⟨.hbm, 685, rfl⟩
abbrev main_v443 : Ref sig .tc := ⟨.hbm, 686, rfl⟩
abbrev main_v444 : Ref sig .tc := ⟨.hbm, 687, rfl⟩
abbrev main_cst_166 : Ref sig .tc := ⟨.hbm, 688, rfl⟩
abbrev main_v445 : Ref sig .tc := ⟨.hbm, 689, rfl⟩
abbrev main_v446 : Ref sig .tc := ⟨.hbm, 690, rfl⟩
abbrev main_v447 : Ref sig .tc := ⟨.hbm, 691, rfl⟩
abbrev main_cst_167 : Ref sig .tc := ⟨.hbm, 692, rfl⟩
abbrev main_v448 : Ref sig .tc := ⟨.hbm, 693, rfl⟩
abbrev main_v449 : Ref sig .tc := ⟨.hbm, 694, rfl⟩
abbrev main_v450 : Ref sig .tc := ⟨.hbm, 695, rfl⟩
abbrev main_cst_168 : Ref sig .tc := ⟨.hbm, 696, rfl⟩
abbrev main_v451 : Ref sig .tc := ⟨.hbm, 697, rfl⟩
abbrev main_v452 : Ref sig .tc := ⟨.hbm, 698, rfl⟩
abbrev main_v453 : Ref sig .tc := ⟨.hbm, 699, rfl⟩
abbrev main_cst_169 : Ref sig .tc := ⟨.hbm, 700, rfl⟩
abbrev main_v454 : Ref sig .tc := ⟨.hbm, 701, rfl⟩
abbrev main_v455 : Ref sig .tc := ⟨.hbm, 702, rfl⟩
abbrev main_v456 : Ref sig .tc := ⟨.hbm, 703, rfl⟩
abbrev main_v457 : Ref sig .tc := ⟨.hbm, 704, rfl⟩
abbrev main_v458 : Ref sig .tc := ⟨.hbm, 705, rfl⟩
abbrev main_v459 : Ref sig .tc := ⟨.hbm, 706, rfl⟩
abbrev main_v460 : Ref sig .tc := ⟨.hbm, 707, rfl⟩
abbrev main_v461 : Ref sig .tc := ⟨.hbm, 708, rfl⟩
abbrev main_v462 : Ref sig .tc := ⟨.hbm, 709, rfl⟩
abbrev main_v463 : Ref sig .tc := ⟨.hbm, 710, rfl⟩
abbrev main_v464 : Ref sig .tc := ⟨.hbm, 711, rfl⟩
abbrev main_v465 : Ref sig .tc := ⟨.hbm, 712, rfl⟩
abbrev main_v466 : Ref sig .tc := ⟨.hbm, 713, rfl⟩
abbrev main_v467 : Ref sig .tc := ⟨.hbm, 714, rfl⟩
abbrev main_v468 : Ref sig .tc := ⟨.hbm, 715, rfl⟩
abbrev main_v469 : Ref sig .tc := ⟨.hbm, 716, rfl⟩
abbrev main_v470 : Ref sig .tc := ⟨.hbm, 717, rfl⟩
abbrev main_v471 : Ref sig .tc := ⟨.hbm, 718, rfl⟩
abbrev main_v472 : Ref sig .tc := ⟨.hbm, 719, rfl⟩
abbrev main_v473 : Ref sig .tc := ⟨.hbm, 720, rfl⟩
abbrev main_v474 : Ref sig .tc := ⟨.hbm, 721, rfl⟩
abbrev main_v475 : Ref sig .tc := ⟨.hbm, 722, rfl⟩
abbrev main_v476 : Ref sig .tc := ⟨.hbm, 723, rfl⟩
abbrev main_c : Ref sig .tc := ⟨.hbm, 724, rfl⟩
abbrev main_call0_v0 : Ref sig .tc := ⟨.hbm, 725, rfl⟩
abbrev main_v477 : Ref sig .tc := ⟨.hbm, 726, rfl⟩
abbrev main_v478 : Ref sig .tc := ⟨.hbm, 727, rfl⟩
abbrev main_v479 : Ref sig .tc := ⟨.hbm, 728, rfl⟩
abbrev main_v480 : Ref sig .tc := ⟨.hbm, 729, rfl⟩
abbrev main_v481 : Ref sig .tc := ⟨.hbm, 730, rfl⟩
abbrev main_v482 : Ref sig .tc := ⟨.hbm, 731, rfl⟩
abbrev main_v483 : Ref sig .tc := ⟨.hbm, 732, rfl⟩
abbrev main_v484 : Ref sig .tc := ⟨.hbm, 733, rfl⟩
abbrev main_v485 : Ref sig .tc := ⟨.hbm, 734, rfl⟩
abbrev main_v486 : Ref sig .tc := ⟨.hbm, 735, rfl⟩
abbrev main_v487 : Ref sig .tc := ⟨.hbm, 736, rfl⟩
abbrev main_v488 : Ref sig .tc := ⟨.hbm, 737, rfl⟩
abbrev main_v489 : Ref sig .tc := ⟨.hbm, 738, rfl⟩
abbrev main_v490 : Ref sig .tc := ⟨.hbm, 739, rfl⟩
abbrev main_v491 : Ref sig .tc := ⟨.hbm, 740, rfl⟩
abbrev main_v492 : Ref sig .tc := ⟨.hbm, 741, rfl⟩
abbrev main_v493 : Ref sig .tc := ⟨.hbm, 742, rfl⟩
abbrev main_v494 : Ref sig .tc := ⟨.hbm, 743, rfl⟩
abbrev main_v495 : Ref sig .tc := ⟨.hbm, 744, rfl⟩
abbrev main_v496 : Ref sig .tc := ⟨.hbm, 745, rfl⟩
abbrev main_v497 : Ref sig .tc := ⟨.hbm, 746, rfl⟩
abbrev main_v498 : Ref sig .tc := ⟨.hbm, 747, rfl⟩
abbrev main_v499 : Ref sig .tc := ⟨.hbm, 748, rfl⟩
abbrev main_c_170 : Ref sig .tc := ⟨.hbm, 749, rfl⟩
abbrev main_call1_v0 : Ref sig .tc := ⟨.hbm, 750, rfl⟩
abbrev main_v500 : Ref sig .tc := ⟨.hbm, 751, rfl⟩
abbrev main_v501 : Ref sig .tc := ⟨.hbm, 752, rfl⟩
abbrev main_v502 : Ref sig .tc := ⟨.hbm, 753, rfl⟩
abbrev main_v503 : Ref sig .tc := ⟨.hbm, 754, rfl⟩
abbrev main_v504 : Ref sig .tc := ⟨.hbm, 755, rfl⟩
abbrev main_v505 : Ref sig .tc := ⟨.hbm, 756, rfl⟩
abbrev main_v506 : Ref sig .tc := ⟨.hbm, 757, rfl⟩
abbrev main_v507 : Ref sig .tc := ⟨.hbm, 758, rfl⟩
abbrev main_v508 : Ref sig .tc := ⟨.hbm, 759, rfl⟩
abbrev main_v509 : Ref sig .tc := ⟨.hbm, 760, rfl⟩
abbrev main_v510 : Ref sig .tc := ⟨.hbm, 761, rfl⟩
abbrev main_v511 : Ref sig .tc := ⟨.hbm, 762, rfl⟩
abbrev main_v512 : Ref sig .tc := ⟨.hbm, 763, rfl⟩
abbrev main_v513 : Ref sig .tc := ⟨.hbm, 764, rfl⟩
abbrev main_v514 : Ref sig .tc := ⟨.hbm, 765, rfl⟩
abbrev main_v515 : Ref sig .tc := ⟨.hbm, 766, rfl⟩
abbrev main_v516 : Ref sig .tc := ⟨.hbm, 767, rfl⟩
abbrev main_v517 : Ref sig .tc := ⟨.hbm, 768, rfl⟩
abbrev main_v518 : Ref sig .tc := ⟨.hbm, 769, rfl⟩
abbrev main_v519 : Ref sig .tc := ⟨.hbm, 770, rfl⟩
abbrev main_v520 : Ref sig .tc := ⟨.hbm, 771, rfl⟩
abbrev main_v521 : Ref sig .tc := ⟨.hbm, 772, rfl⟩
abbrev main_v522 : Ref sig .tc := ⟨.hbm, 773, rfl⟩
abbrev main_c_171 : Ref sig .tc := ⟨.hbm, 774, rfl⟩
abbrev main_call2_v0 : Ref sig .tc := ⟨.hbm, 775, rfl⟩
abbrev main_v523 : Ref sig .tc := ⟨.hbm, 776, rfl⟩
abbrev main_v524 : Ref sig .tc := ⟨.hbm, 777, rfl⟩

abbrev nD : Nat := 1
abbrev τ : Topo := Topo.v7x

variable {F : FTy → Type} [FloatOps F]
-- ==== Kernel24.lean ====
abbrev S4x2048x1024 : Shape := ⟨3, ![4, 2048, 1024]⟩
abbrev S4x2048x512 : Shape := ⟨3, ![4, 2048, 512]⟩
abbrev S4x2048x3200 : Shape := ⟨3, ![4, 2048, 3200]⟩
abbrev S128 : Shape := ⟨1, ![128]⟩
abbrev S512 : Shape := ⟨1, ![512]⟩
abbrev S1024x1024 : Shape := ⟨2, ![1024, 1024]⟩
abbrev S8192x1024 : Shape := ⟨2, ![8192, 1024]⟩
abbrev S8192x512 : Shape := ⟨2, ![8192, 512]⟩
abbrev S8192x3200 : Shape := ⟨2, ![8192, 3200]⟩
abbrev S1x128 : Shape := ⟨2, ![1, 128]⟩
abbrev S1x512 : Shape := ⟨2, ![1, 512]⟩
abbrev S512x1024 : Shape := ⟨2, ![512, 1024]⟩
abbrev S512x512 : Shape := ⟨2, ![512, 512]⟩
abbrev S512x128 : Shape := ⟨2, ![512, 128]⟩
abbrev S512x1 : Shape := ⟨2, ![512, 1]⟩

abbrev nBuf : Space → Nat
  | .hbm => 20
  | .vmem => 23
  | .smem => 0
  | _ => 0

abbrev bufTy : (tb : Table) → Fin (tcTables nBuf tb) → BufTy
  | .hbm, ⟨0, _⟩ => ⟨S4x2048x1024, .f32⟩
  | .hbm, ⟨1, _⟩ => ⟨S4x2048x512, .f32⟩
  | .hbm, ⟨2, _⟩ => ⟨S4x2048x3200, .f32⟩
  | .hbm, ⟨3, _⟩ => ⟨S4x2048x512, .f32⟩
  | .hbm, ⟨4, _⟩ => ⟨S128, .f32⟩
  | .hbm, ⟨5, _⟩ => ⟨S512, .f32⟩
  | .hbm, ⟨6, _⟩ => ⟨S1024x1024, .f32⟩
  | .hbm, ⟨7, _⟩ => ⟨S8192x1024, .f32⟩
  | .hbm, ⟨8, _⟩ => ⟨S8192x512, .f32⟩
  | .hbm, ⟨9, _⟩ => ⟨S8192x3200, .f32⟩
  | .hbm, ⟨10, _⟩ => ⟨S8192x512, .f32⟩
  | .hbm, ⟨11, _⟩ => ⟨S1x128, .f32⟩
  | .hbm, ⟨12, _⟩ => ⟨S1x512, .f32⟩
  | .hbm, ⟨13, _⟩ => ⟨S1024x1024, .bf16⟩
  | .hbm, ⟨14, _⟩ => ⟨S8192x512, .bf16⟩
  | .hbm, ⟨15, _⟩ => ⟨S8192x512, .bf16⟩
  | .hbm, ⟨16, _⟩ => ⟨S8192x512, .bf16⟩
  | .hbm, ⟨17, _⟩ => ⟨S8192x512, .f32⟩
  | .hbm, ⟨18, _⟩ => ⟨S1x128, .f32⟩
  | .hbm, ⟨19, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x128, .f32⟩
  | .local _ .vmem, ⟨11, _⟩ => ⟨S1x512, .f32⟩
  | .local _ .vmem, ⟨12, _⟩ => ⟨S1024x1024, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .f32⟩
  | .local _ .vmem, ⟨20, _⟩ => ⟨S512x512, .f32⟩
  | .local _ .vmem, ⟨21, _⟩ => ⟨S1x128, .f32⟩
  | .local _ .vmem, ⟨22, _⟩ => ⟨S1x512, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v7_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference24Ideal.lean ====
abbrev S4x2048x1024 : Shape := ⟨3, ![4, 2048, 1024]⟩
abbrev S4x2048x512 : Shape := ⟨3, ![4, 2048, 512]⟩
abbrev S4x2048x3200 : Shape := ⟨3, ![4, 2048, 3200]⟩
abbrev S128 : Shape := ⟨1, ![128]⟩
abbrev S512 : Shape := ⟨1, ![512]⟩
abbrev S1024x1024 : Shape := ⟨2, ![1024, 1024]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩
abbrev S1x1x128 : Shape := ⟨3, ![1, 1, 128]⟩
abbrev S4x2048 : Shape := ⟨2, ![4, 2048]⟩
abbrev S4x2048x1 : Shape := ⟨3, ![4, 2048, 1]⟩
abbrev S1x1x512 : Shape := ⟨3, ![1, 1, 512]⟩
abbrev S8192x512 : Shape := ⟨2, ![8192, 512]⟩
abbrev S1x128 : Shape := ⟨2, ![1, 128]⟩
abbrev S1x512 : Shape := ⟨2, ![1, 512]⟩

abbrev nBuf : Space → Nat
  | .hbm => 144
  | .vmem => 0
  | .smem => 0
  | _ => 0

abbrev hbmTy0_0 (i : Nat) : BufTy := match i % 128 with
  | 0 => ⟨S4x2048x1024, .f32⟩
  | 1 => ⟨S4x2048x512, .f32⟩
  | 2 => ⟨S4x2048x3200, .f32⟩
  | 3 => ⟨S4x2048x512, .f32⟩
  | 4 => ⟨S128, .f32⟩
  | 5 => ⟨S512, .f32⟩
  | 6 => ⟨S1024x1024, .f32⟩
  | 7 => ⟨S4x2048x512, .f32⟩
  | 8 => ⟨S4x2048x512, .f32⟩
  | 9 => ⟨S8192x4x128, .f32⟩
  | 10 => ⟨S8192x4x128, .f32⟩
  | 11 => ⟨S_, .f32⟩
  | 12 => ⟨S8192x4, .f32⟩
  | 13 => ⟨S8192x4x1, .f32⟩
  | 14 => ⟨S_, .f32⟩
  | 15 => ⟨S8192x4x1, .f32⟩
  | 16 => ⟨S8192x4x1, .f32⟩
  | 17 => ⟨S_, .f32⟩
  | 18 => ⟨S8192x4x1, .f32⟩
  | 19 => ⟨S8192x4x1, .f32⟩
  | 20 => ⟨S8192x4x1, .f32⟩
  | 21 => ⟨S8192x4x1, .f32⟩
  | 22 => ⟨S_, .f32⟩
  | 23 => ⟨S8192x4x1, .f32⟩
  | 24 => ⟨S8192x4x1, .f32⟩
  | 25 => ⟨S8192x4x128, .f32⟩
  | 26 => ⟨S8192x4x128, .f32⟩
  | 27 => ⟨S1x1x128, .f32⟩
  | 28 => ⟨S8192x4x128, .f32⟩
  | 29 => ⟨S8192x4x128, .f32⟩
  | 30 => ⟨S8192x4x128, .f32⟩
  | 31 => ⟨S8192x4x128, .f32⟩
  | 32 => ⟨S8192x4x128, .f32⟩
  | 33 => ⟨S_, .f32⟩
  | 34 => ⟨S8192x4x128, .f32⟩
  | 35 => ⟨S8192x4x128, .f32⟩
  | 36 => ⟨S_, .f32⟩
  | 37 => ⟨S8192x4x128, .f32⟩
  | 38 => ⟨S8192x4x128, .f32⟩
  | 39 => ⟨S8192x4x128, .f32⟩
  | 40 => ⟨S8192x4x128, .f32⟩
  | 41 => ⟨S4x2048x512, .f32⟩
  | 42 => ⟨S4x2048x512, .f32⟩
  | 43 => ⟨S4x2048x512, .f32⟩
  | 44 => ⟨S_, .f32⟩
  | 45 => ⟨S4x2048x512, .f32⟩
  | 46 => ⟨S4x2048x512, .f32⟩
  | 47 => ⟨S4x2048x512, .f32⟩
  | 48 => ⟨S_, .f32⟩
  | 49 => ⟨S4x2048x512, .f32⟩
  | 50 => ⟨S4x2048x512, .f32⟩
  | 51 => ⟨S4x2048x512, .f32⟩
  | 52 => ⟨S_, .f32⟩
  | 53 => ⟨S4x2048x512, .f32⟩
  | 54 => ⟨S4x2048x512, .f32⟩
  | 55 => ⟨S_, .f32⟩
  | 56 => ⟨S4x2048x512, .f32⟩
  | 57 => ⟨S4x2048x512, .f32⟩
  | 58 => ⟨S4x2048x512, .f32⟩
  | 59 => ⟨S4x2048x512, .f32⟩
  | 60 => ⟨S4x2048x512, .f32⟩
  | 61 => ⟨S_, .f32⟩
  | 62 => ⟨S4x2048, .f32⟩
  | 63 => ⟨S4x2048x1, .f32⟩
  | 64 => ⟨S_, .f32⟩
  | 65 => ⟨S4x2048x1, .f32⟩
  | 66 => ⟨S4x2048x1, .f32⟩
  | 67 => ⟨S_, .f32⟩
  | 68 => ⟨S4x2048x1, .f32⟩
  | 69 => ⟨S4x2048x1, .f32⟩
  | 70 => ⟨S4x2048x1, .f32⟩
  | 71 => ⟨S4x2048x1, .f32⟩
  | 72 => ⟨S_, .f32⟩
  | 73 => ⟨S4x2048x1, .f32⟩
  | 74 => ⟨S4x2048x1, .f32⟩
  | 75 => ⟨S4x2048x512, .f32⟩
  | 76 => ⟨S4x2048x512, .f32⟩
  | 77 => ⟨S1x1x512, .f32⟩
  | 78 => ⟨S4x2048x512, .f32⟩
  | 79 => ⟨S4x2048x512, .f32⟩
  | 80 => ⟨S4x2048x1024, .f32⟩
  | 81 => ⟨S4x2048x1024, .f32⟩
  | 82 => ⟨S4x2048x1024, .f32⟩
  | 83 => ⟨S4x2048x512, .f32⟩
  | 84 => ⟨S4x2048x512, .f32⟩
  | 85 => ⟨S4x2048x512, .f32⟩
  | 86 => ⟨S_, .f32⟩
  | 87 => ⟨S512, .f32⟩
  | 88 => ⟨S1x1x512, .f32⟩
  | 89 => ⟨S4x2048x512, .f32⟩
  | 90 => ⟨S4x2048x512, .f32⟩
  | 91 => ⟨S_, .f32⟩
  | 92 => ⟨S512, .f32⟩
  | 93 => ⟨S4x2048x512, .f32⟩
  | 94 => ⟨S_, .f32⟩
  | 95 => ⟨S4x2048, .f32⟩
  | 96 => ⟨S4x2048x1, .f32⟩
  | 97 => ⟨S4x2048x512, .f32⟩
  | 98 => ⟨S4x2048x512, .f32⟩
  | 99 => ⟨S4x2048x1, .f32⟩
  | 100 => ⟨S_, .f32⟩
  | 101 => ⟨S4x2048x1, .f32⟩
  | 102 => ⟨S4x2048x1, .f32⟩
  | 103 => ⟨S_, .f32⟩
  | 104 => ⟨S4x2048, .f32⟩
  | 105 => ⟨S4x2048x512, .f32⟩
  | 106 => ⟨S4x2048x512, .f32⟩
  | 107 => ⟨S4x2048x512, .f32⟩
  | 108 => ⟨S4x2048x512, .f32⟩
  | 109 => ⟨S4x2048x512, .f32⟩
  | 110 => ⟨S4x2048x512, .f32⟩
  | 111 => ⟨S8192x4x128, .f32⟩
  | 112 => ⟨S8192x4x128, .f32⟩
  | 113 => ⟨S8192x4x128, .f32⟩
  | 114 => ⟨S_, .f32⟩
  | 115 => ⟨S128, .f32⟩
  | 116 => ⟨S1x1x128, .f32⟩
  | 117 => ⟨S8192x4x128, .f32⟩
  | 118 => ⟨S8192x4x128, .f32⟩
  | 119 => ⟨S_, .f32⟩
  | 120 => ⟨S128, .f32⟩
  | 121 => ⟨S8192x4x128, .f32⟩
  | 122 => ⟨S_, .f32⟩
  | 123 => ⟨S8192x4, .f32⟩
  | 124 => ⟨S8192x4x1, .f32⟩
  | 125 => ⟨S8192x4x128, .f32⟩
  | 126 => ⟨S8192x4x128, .f32⟩
  | 127 => ⟨S8192x4x1, .f32⟩
  | _ => ⟨S4x2048x1024, .f32⟩

abbrev hbmTy0_1 (i : Nat) : BufTy := match i % 128 with
  | 0 => ⟨S_, .f32⟩
  | 1 => ⟨S8192x4x1, .f32⟩
  | 2 => ⟨S8192x4x1, .f32⟩
  | 3 => ⟨S_, .f32⟩
  | 4 => ⟨S8192x4, .f32⟩
  | 5 => ⟨S8192x4x128, .f32⟩
  | 6 => ⟨S8192x4x128, .f32⟩
  | 7 => ⟨S8192x4x128, .f32⟩
  | 8 => ⟨S8192x4x128, .f32⟩
  | 9 => ⟨S8192x4x128, .f32⟩
  | 10 => ⟨S4x2048x512, .f32⟩
  | 11 => ⟨S8192x512, .f32⟩
  | 12 => ⟨S8192x512, .bf16⟩
  | 13 => ⟨S8192x512, .f32⟩
  | 14 => ⟨S1x128, .f32⟩
  | 15 => ⟨S1x512, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_12 : Ref sig .tc := ⟨.hbm, 91, rfl⟩
abbrev main_v63 : Ref sig .tc := ⟨.hbm, 92, rfl⟩
abbrev main_v64 : Ref sig .tc := ⟨.hbm, 93, rfl⟩
abbrev main_cst_13 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_14 : Ref sig .tc := ⟨.hbm, 100, rfl⟩
abbrev main_v70 : Ref sig .tc := ⟨.hbm, 101, rfl⟩
abbrev main_v71 : Ref sig .tc := ⟨.hbm, 102, rfl⟩
abbrev main_cst_15 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_16 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_17 : Ref sig .tc := ⟨.hbm, 119, rfl⟩
abbrev main_v86 : Ref sig .tc := ⟨.hbm, 120, rfl⟩
abbrev main_v87 : Ref sig .tc := ⟨.hbm, 121, rfl⟩
abbrev main_cst_18 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_19 : Ref sig .tc := ⟨.hbm, 128, rfl⟩
abbrev main_v93 : Ref sig .tc := ⟨.hbm, 129, rfl⟩
abbrev main_v94 : Ref sig .tc := ⟨.hbm, 130, rfl⟩
abbrev main_cst_20 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩

abbrev nD : Nat := 1
abbrev τ : Topo := Topo.v7x

variable {F : FTy → Type} [FloatOps F]
-- ==== Kernel25.lean ====
abbrev S3x8192x512 : Shape := ⟨3, ![3, 8192, 512]⟩
abbrev S4x2048x3200 : Shape := ⟨3, ![4, 2048, 3200]⟩
abbrev S4x1536 : Shape := ⟨2, ![4, 1536]⟩
abbrev S8192x3200 : Shape := ⟨2, ![8192, 3200]⟩
abbrev S8192x1536 : Shape := ⟨2, ![8192, 1536]⟩
abbrev S2048x512 : Shape := ⟨2, ![2048, 512]⟩
abbrev S1x2048x512 : Shape := ⟨3, ![1, 2048, 512]⟩
abbrev S4x512 : Shape := ⟨2, ![4, 512]⟩
abbrev S1x512 : Shape := ⟨2, ![1, 512]⟩
abbrev S2048x128 : Shape := ⟨2, ![2048, 128]⟩
abbrev S2048 : Shape := ⟨1, ![2048]⟩
abbrev S2048x1 : Shape := ⟨2, ![2048, 1]⟩
abbrev S512 : Shape := ⟨1, ![512]⟩

abbrev nBuf : Space → Nat
  | .hbm => 6
  | .vmem => 10
  | .smem => 0
  | _ => 0

abbrev bufTy : (tb : Table) → Fin (tcTables nBuf tb) → BufTy
  | .hbm, ⟨0, _⟩ => ⟨S3x8192x512, .f32⟩
  | .hbm, ⟨1, _⟩ => ⟨S4x2048x3200, .f32⟩
  | .hbm, ⟨2, _⟩ => ⟨S4x1536, .f32⟩
  | .hbm, ⟨3, _⟩ => ⟨S8192x3200, .f32⟩
  | .hbm, ⟨4, _⟩ => ⟨S8192x1536, .bf16⟩
  | .hbm, ⟨5, _⟩ => ⟨S4x1536, .f32⟩
  | .local _ .vmem, ⟨0, _⟩ => ⟨S2048x512, .f32⟩
  | .local _ .vmem, ⟨1, _⟩ => ⟨S2048x512, .f32⟩
  | .local _ .vmem, ⟨2, _⟩ => ⟨S1x2048x512, .f32⟩
  | .local _ .vmem, ⟨3, _⟩ => ⟨S1x2048x512, .f32⟩
  | .local _ .vmem, ⟨4, _⟩ => ⟨S4x512, .f32⟩
  | .local _ .vmem, ⟨5, _⟩ => ⟨S4x512, .f32⟩
  | .local _ .vmem, ⟨6, _⟩ => ⟨S2048x512, .bf16⟩
  | .local _ .vmem, ⟨7, _⟩ => ⟨S2048x512, .bf16⟩
  | .local _ .vmem, ⟨8, _⟩ => ⟨S4x512, .f32⟩
  | .local _ .vmem, ⟨9, _⟩ => ⟨S4x512, .f32⟩
  | _, _ => ⟨S3x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference25Ideal.lean ====
abbrev S3x8192x512 : Shape := ⟨3, ![3, 8192, 512]⟩
abbrev S4x2048x3200 : Shape := ⟨3, ![4, 2048, 3200]⟩
abbrev S4x1536 : Shape := ⟨2, ![4, 1536]⟩
abbrev S1x8192x512 : Shape := ⟨3, ![1, 8192, 512]⟩
abbrev S8192x512 : Shape := ⟨2, ![8192, 512]⟩
abbrev S8192x4x128 : Shape := ⟨3, ![8192, 4, 128]⟩
abbrev S4x2048x1536 : Shape := ⟨3, ![4, 2048, 1536]⟩
abbrev S_ : Shape := ⟨0, ![]⟩
abbrev S4x2051x1536 : Shape := ⟨3, ![4, 2051, 1536]⟩
abbrev S1x1536 : Shape := ⟨2, ![1, 1536]⟩
abbrev S1536 : Shape := ⟨1, ![1536]⟩
abbrev S1x1x1536 : Shape := ⟨3, ![1, 1, 1536]⟩
abbrev S4x2048x512 : Shape := ⟨3, ![4, 2048, 512]⟩
abbrev S8192x4 : Shape := ⟨2, ![8192, 4]⟩
abbrev S8192x4x1 : Shape := ⟨3, ![8192, 4, 1]⟩

abbrev nBuf : Space → Nat
  | .hbm => 172
  | .vmem => 0
  | .smem => 0
  | _ => 0

abbrev hbmTy0_0 (i : Nat) : BufTy := match i % 128 with
  | 0 => ⟨S3x8192x512, .f32⟩
  | 1 => ⟨S4x2048x3200, .f32⟩
  | 2 => ⟨S4x1536, .f32⟩
  | 3 => ⟨S1x8192x512, .f32⟩
  | 4 => ⟨S8192x512, .f32⟩
  | 5 => ⟨S8192x4x128, .f32⟩
  | 6 => ⟨S1x8192x512, .f32⟩
  | 7 => ⟨S8192x512, .f32⟩
  | 8 => ⟨S8192x4x128, .f32⟩
  | 9 => ⟨S1x8192x512, .f32⟩
  | 10 => ⟨S8192x512, .f32⟩
  | 11 => ⟨S8192x4x128, .f32⟩
  | 12 => ⟨S4x2048x1536, .f32⟩
  | 13 => ⟨S_, .i32⟩
  | 14 => ⟨S_, .f32⟩
  | 15 => ⟨S4x2051x1536, .f32⟩
  | 16 => ⟨S4x2048x1536, .f32⟩
  | 17 => ⟨S1x1536, .f32⟩
  | 18 => ⟨S1536, .f32⟩
  | 19 => ⟨S1x1x1536, .f32⟩
  | 20 => ⟨S4x2048x1536, .f32⟩
  | 21 => ⟨S4x2048x1536, .f32⟩
  | 22 => ⟨S4x2048x1536, .f32⟩
  | 23 => ⟨S1x1536, .f32⟩
  | 24 => ⟨S1536, .f32⟩
  | 25 => ⟨S1x1x1536, .f32⟩
  | 26 => ⟨S4x2048x1536, .f32⟩
  | 27 => ⟨S4x2048x1536, .f32⟩
  | 28 => ⟨S4x2048x1536, .f32⟩
  | 29 => ⟨S4x2048x1536, .f32⟩
  | 30 => ⟨S1x1536, .f32⟩
  | 31 => ⟨S1536, .f32⟩
  | 32 => ⟨S1x1x1536, .f32⟩
  | 33 => ⟨S4x2048x1536, .f32⟩
  | 34 => ⟨S4x2048x1536, .f32⟩
  | 35 => ⟨S4x2048x1536, .f32⟩
  | 36 => ⟨S4x2048x1536, .f32⟩
  | 37 => ⟨S1x1536, .f32⟩
  | 38 => ⟨S1536, .f32⟩
  | 39 => ⟨S1x1x1536, .f32⟩
  | 40 => ⟨S4x2048x1536, .f32⟩
  | 41 => ⟨S4x2048x1536, .f32⟩
  | 42 => ⟨S4x2048x1536, .f32⟩
  | 43 => ⟨S4x2048x1536, .f32⟩
  | 44 => ⟨S4x2048x1536, .f32⟩
  | 45 => ⟨S_, .f32⟩
  | 46 => ⟨S4x2048x1536, .f32⟩
  | 47 => ⟨S4x2048x1536, .f32⟩
  | 48 => ⟨S_, .f32⟩
  | 49 => ⟨S4x2048x1536, .f32⟩
  | 50 => ⟨S4x2048x1536, .f32⟩
  | 51 => ⟨S_, .f32⟩
  | 52 => ⟨S4x2048x1536, .f32⟩
  | 53 => ⟨S4x2048x1536, .f32⟩
  | 54 => ⟨S4x2048x1536, .f32⟩
  | 55 => ⟨S4x2048x1536, .f32⟩
  | 56 => ⟨S4x2048x512, .f32⟩
  | 57 => ⟨S8192x4x128, .f32⟩
  | 58 => ⟨S8192x4x128, .f32⟩
  | 59 => ⟨S_, .f32⟩
  | 60 => ⟨S8192x4, .f32⟩
  | 61 => ⟨S8192x4x1, .f32⟩
  | 62 => ⟨S_, .f32⟩
  | 63 => ⟨S8192x4x1, .f32⟩
  | 64 => ⟨S8192x4x1, .f32⟩
  | 65 => ⟨S8192x4x1, .f32⟩
  | 66 => ⟨S8192x4x1, .f32⟩
  | 67 => ⟨S_, .f32⟩
  | 68 => ⟨S8192x4x1, .f32⟩
  | 69 => ⟨S8192x4x1, .f32⟩
  | 70 => ⟨S8192x4x128, .f32⟩
  | 71 => ⟨S8192x4x128, .f32⟩
  | 72 => ⟨S4x2048x512, .f32⟩
  | 73 => ⟨S8192x4x128, .f32⟩
  | 74 => ⟨S8192x4x128, .f32⟩
  | 75 => ⟨S_, .f32⟩
  | 76 => ⟨S8192x4, .f32⟩
  | 77 => ⟨S8192x4x1, .f32⟩
  | 78 => ⟨S_, .f32⟩
  | 79 => ⟨S8192x4x1, .f32⟩
  | 80 => ⟨S8192x4x1, .f32⟩
  | 81 => ⟨S8192x4x1, .f32⟩
  | 82 => ⟨S8192x4x1, .f32⟩
  | 83 => ⟨S_, .f32⟩
  | 84 => ⟨S8192x4x1, .f32⟩
  | 85 => ⟨S8192x4x1, .f32⟩
  | 86 => ⟨S8192x4x128, .f32⟩
  | 87 => ⟨S8192x4x128, .f32⟩
  | 88 => ⟨S4x2048x512, .f32⟩
  | 89 => ⟨S8192x4x128, .f32⟩
  | 90 => ⟨S4x2048x512, .f32⟩
  | 91 => ⟨S_, .f32⟩
  | 92 => ⟨S4x2048x1536, .f32⟩
  | 93 => ⟨S8192x4x128, .f32⟩
  | 94 => ⟨S_, .f32⟩
  | 95 => ⟨S8192x4, .f32⟩
  | 96 => ⟨S8192x4x1, .f32⟩
  | 97 => ⟨S8192x4x128, .f32⟩
  | 98 => ⟨S8192x4x128, .f32⟩
  | 99 => ⟨S8192x4x1, .f32⟩
  | 100 => ⟨S_, .f32⟩
  | 101 => ⟨S8192x4, .f32⟩
  | 102 => ⟨S8192x4x128, .f32⟩
  | 103 => ⟨S8192x4x128, .f32⟩
  | 104 => ⟨S8192x4x128, .f32⟩
  | 105 => ⟨S8192x4x128, .f32⟩
  | 106 => ⟨S8192x4x128, .f32⟩
  | 107 => ⟨S4x2048x512, .f32⟩
  | 108 => ⟨S_, .f32⟩
  | 109 => ⟨S4x2048x1536, .f32⟩
  | 110 => ⟨S4x2048x1536, .f32⟩
  | 111 => ⟨S8192x4x128, .f32⟩
  | 112 => ⟨S_, .f32⟩
  | 113 => ⟨S8192x4, .f32⟩
  | 114 => ⟨S8192x4x1, .f32⟩
  | 115 => ⟨S8192x4x128, .f32⟩
  | 116 => ⟨S8192x4x128, .f32⟩
  | 117 => ⟨S8192x4x1, .f32⟩
  | 118 => ⟨S_, .f32⟩
  | 119 => ⟨S8192x4, .f32⟩
  | 120 => ⟨S8192x4x128, .f32⟩
  | 121 => ⟨S8192x4x128, .f32⟩
  | 122 => ⟨S8192x4x128, .f32⟩
  | 123 => ⟨S8192x4x128, .f32⟩
  | 124 => ⟨S8192x4x128, .f32⟩
  | 125 => ⟨S4x2048x512, .f32⟩
  | 126 => ⟨S_, .f32⟩
  | 127 => ⟨S4x2048x1536, .f32⟩
  | _ => ⟨S3x8192x512, .f32⟩

abbrev hbmTy0_1 (i : Nat) : BufTy := match i % 128 with
  | 0 => ⟨S4x2048x1536, .f32⟩
  | 1 => ⟨S4x2048x1536, .f32⟩
  | 2 => ⟨S4x2048x1536, .f32⟩
  | 3 => ⟨S4x2048x1536, .f32⟩
  | 4 => ⟨S4x2048x1536, .f32⟩
  | 5 => ⟨S4x2048x1536, .f32⟩
  | 6 => ⟨S_, .f32⟩
  | 7 => ⟨S1536, .f32⟩
  | 8 => ⟨S1x1x1536, .f32⟩
  | 9 => ⟨S_, .f32⟩
  | 10 => ⟨S1536, .f32⟩
  | 11 => ⟨S1x1536, .f32⟩
  | 12 => ⟨S_, .f32⟩
  | 13 => ⟨S4x1536, .f32⟩
  | 14 => ⟨S4x2048x1536, .f32⟩
  | 15 => ⟨S_, .f32⟩
  | 16 => ⟨S1536, .f32⟩
  | 17 => ⟨S1x1x1536, .f32⟩
  | 18 => ⟨S_, .f32⟩
  | 19 => ⟨S1536, .f32⟩
  | 20 => ⟨S1x1536, .f32⟩
  | 21 => ⟨S_, .f32⟩
  | 22 => ⟨S4x1536, .f32⟩
  | 23 => ⟨S4x1536, .f32⟩
  | 24 => ⟨S4x2048x1536, .f32⟩
  | 25 => ⟨S_, .f32⟩
  | 26 => ⟨S1536, .f32⟩
  | 27 => ⟨S1x1x1536, .f32⟩
  | 28 => ⟨S_, .f32⟩
  | 29 => ⟨S1536, .f32⟩
  | 30 => ⟨S1x1536, .f32⟩
  | 31 => ⟨S_, .f32⟩
  | 32 => ⟨S4x1536, .f32⟩
  | 33 => ⟨S4x1536, .f32⟩
  | 34 => ⟨S4x2048x1536, .f32⟩
  | 35 => ⟨S_, .f32⟩
  | 36 => ⟨S1536, .f32⟩
  | 37 => ⟨S1x1x1536, .f32⟩
  | 38 => ⟨S_, .f32⟩
  | 39 => ⟨S1536, .f32⟩
  | 40 => ⟨S1x1536, .f32⟩
  | 41 => ⟨S_, .f32⟩
  | 42 => ⟨S4x1536, .f32⟩
  | 43 => ⟨S4x1536, .f32⟩
  | _ => ⟨S3x8192x512, .f32⟩

abbrev hbmTy (i : Nat) : BufTy := match i / 128 with
  | 0 => hbmTy0_0 i
  | 1 => hbmTy0_1 i
  | _ => ⟨S3x8192x512, .f32⟩

abbrev bufTy : (tb : Table) → Fin (tcTables nBuf tb) → BufTy
  | .hbm, ⟨i, _⟩ => hbmTy i
  | _, _ => ⟨S3x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_v38_2 : Ref sig .tc := ⟨.hbm, 50, rfl⟩
abbrev main_call1_cst_1 : Ref sig .tc := ⟨.hbm, 51, rfl⟩
abbrev main_call1_v6 : Ref sig .tc := ⟨.hbm, 52, rfl⟩
abbrev main_call1_v7 : Ref sig .tc := ⟨.hbm, 53, rfl⟩
abbrev main_v38_1 : Ref sig .tc := ⟨.hbm, 54, rfl⟩
abbrev main_v38_0 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst : Ref sig .tc := ⟨.hbm, 59, rfl⟩
abbrev main_v42 : Ref sig .tc := ⟨.hbm, 60, rfl⟩
abbrev main_v43 : Ref sig .tc := ⟨.hbm, 61, rfl⟩
abbrev main_cst_0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_1 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_2 : Ref sig .tc := ⟨.hbm, 75, rfl⟩
abbrev main_v55 : Ref sig .tc := ⟨.hbm, 76, rfl⟩
abbrev main_v56 : Ref sig .tc := ⟨.hbm, 77, rfl⟩
abbrev main_cst_3 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_4 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_5 : Ref sig .tc := ⟨.hbm, 91, rfl⟩
abbrev main_v68 : Ref sig .tc := ⟨.hbm, 92, rfl⟩
abbrev main_v69 : Ref sig .tc := ⟨.hbm, 93, rfl⟩
abbrev main_cst_6 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_7 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_8 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_9 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_10 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_11 : Ref sig .tc := ⟨.hbm, 126, rfl⟩
abbrev main_v97 : Ref sig .tc := ⟨.hbm, 127, rfl⟩
abbrev main_v98 : Ref sig .tc := ⟨.hbm, 128, rfl⟩
abbrev main_call2_v0 : Ref sig .tc := ⟨.hbm, 129, rfl⟩
abbrev main_call2_v1 : Ref sig .tc := ⟨.hbm, 130, rfl⟩
abbrev main_call2_v2 : Ref sig .tc := ⟨.hbm, 131, rfl⟩
abbrev main_v99 : Ref sig .tc := ⟨.hbm, 132, rfl⟩
abbrev main_v100 : Ref sig .tc := ⟨.hbm, 133, rfl⟩
abbrev main_cst_12 : Ref sig .tc := ⟨.hbm, 134, rfl⟩
abbrev main_v101 : Ref sig .tc := ⟨.hbm, 135, rfl⟩
abbrev main_v102 : Ref sig .tc := ⟨.hbm, 136, rfl⟩
abbrev main_cst_13 : Ref sig .tc := ⟨.hbm, 137, rfl⟩
abbrev main_v103 : Ref sig .tc := ⟨.hbm, 138, rfl⟩
abbrev main_v104 : Ref sig .tc := ⟨.hbm, 139, rfl⟩
abbrev main_cst_14 : Ref sig .tc := ⟨.hbm, 140, rfl⟩
abbrev main_v105 : Ref sig .tc := ⟨.hbm, 141, rfl⟩
abbrev main_v106 : Ref sig .tc := ⟨.hbm, 142, rfl⟩
abbrev main_cst_15 : Ref sig .tc := ⟨.hbm, 143, rfl⟩
abbrev main_v107 : Ref sig .tc := ⟨.hbm, 144, rfl⟩
abbrev main_v108 : Ref sig .tc := ⟨.hbm, 145, rfl⟩
abbrev main_cst_16 : Ref sig .tc := ⟨.hbm, 146, rfl⟩
abbrev main_v109 : Ref sig .tc := ⟨.hbm, 147, rfl⟩
abbrev main_v110 : Ref sig .tc := ⟨.hbm, 148, rfl⟩
abbrev main_cst_17 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_18 : Ref sig .tc := ⟨.hbm, 153, rfl⟩
abbrev main_v114 : Ref sig .tc := ⟨.hbm, 154, rfl⟩
abbrev main_v115 : Ref sig .tc := ⟨.hbm, 155, rfl⟩
abbrev main_cst_19 : Ref sig .tc := ⟨.hbm, 156, rfl⟩
abbrev main_v116 : Ref sig .tc := ⟨.hbm, 157, rfl⟩
abbrev main_v117 : Ref sig .tc := ⟨.hbm, 158, rfl⟩
abbrev main_cst_20 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_cst_21 : Ref sig .tc := ⟨.hbm, 163, rfl⟩
abbrev main_v121 : Ref sig .tc := ⟨.hbm, 164, rfl⟩
abbrev main_v122 : Ref sig .tc := ⟨.hbm, 165, rfl⟩
abbrev main_cst_22 : Ref sig .tc := ⟨.hbm, 166, rfl⟩
abbrev main_v123 : Ref sig .tc := ⟨.hbm, 167, rfl⟩
abbrev main_v124 : Ref sig .tc := ⟨.hbm, 168, rfl⟩
abbrev main_cst_23 : Ref sig .tc := ⟨.hbm, 169, rfl⟩
abbrev main_v125 : Ref sig .tc := ⟨.hbm, 170, rfl⟩
abbrev main_v126 : Ref sig .tc := ⟨.hbm, 171, rfl⟩

abbrev nD : Nat := 1
abbrev τ : Topo := Topo.v7x

variable {F : FTy → Type} [FloatOps F]
-- ==== Proof.Lift.Basic.lean ====
/- Arrays of real numbers among the ideal arrays: `up r` holds the real array `r`, and every operation the
   programs use, applied to such arrays, is `up` of the real operation. -/
module

public import Idealize.ShloMosaic.PureOps.Ideal
public import Idealize.ShloMosaic.PureOps.IdealRules
public import Idealize.ShloMosaic.Lib.ValueIdx
public import Idealize.ShloMosaic.Lib.Pipeline.Value
public import Idealize.ShloMosaic.Lib.KernelVsHost

@[expose] public section

noncomputable section

namespace Cert.Lift

open Idealize.ShloMosaic

/-- The ideal array that holds the real array `r`. -/
def up {s : Shape} (r : s.Idx → ℝ) : s.Idx → EReal := fun i => ((r i : ℝ) : EReal)

variable {s t u : Shape} {φ ψ : FTy}

theorem up_apply (r : s.Idx → ℝ) (i : s.Idx) : up r i = ((r i : ℝ) : EReal) := rfl

theorem up_inj {a b : s.Idx → ℝ} (h : a = b) : up a = up b := by rw [h]

/-- The coercion of a finite sum of reals. -/
theorem coe_sum {ι : Type} (S : Finset ι) (f : ι → ℝ) : ((∑ i ∈ S, f i : ℝ) : EReal) = ∑ i ∈ S, ((f i : ℝ) : EReal) := by
  classical
  induction S using Finset.induction_on with
  | empty => simp
  | insert a S ha ih => rw [Finset.sum_insert ha, Finset.sum_insert ha, EReal.coe_add, ih]

/-- An array of finite values is a real array. -/
theorem eq_up (x : s.Idx → EReal) (h : ∀ i, x i ≠ ⊤ ∧ x i ≠ ⊥) : x = up fun i => (x i).toReal := by
  funext i
  exact (EReal.coe_toReal (h i).1 (h i).2).symm

/-! ### Elementwise operations -/

theorem addf_up (a b : s.Idx → ℝ) :
    addf (F := Ideal) (s := s) (φ := φ) (up a) (up b) = up fun i => a i + b i := by
  funext i; exact (EReal.coe_add _ _).symm
theorem subf_up (a b : s.Idx → ℝ) :
    subf (F := Ideal) (s := s) (φ := φ) (up a) (up b) = up fun i => a i - b i := by
  funext i; exact (EReal.coe_sub _ _).symm
theorem mulf_up (a b : s.Idx → ℝ) :
    mulf (F := Ideal) (s := s) (φ := φ) (up a) (up b) = up fun i => a i * b i := by
  funext i; exact (EReal.coe_mul _ _).symm
theorem negf_up (a : s.Idx → ℝ) :
    negf (F := Ideal) (s := s) (φ := φ) (up a) = up fun i => - a i := by
  funext i; exact (EReal.coe_neg _).symm
theorem hostNegf_up (a : s.Idx → ℝ) :
    Host.negf (F := Ideal) (s := s) (φ := φ) (up a) = up fun i => - a i := by
  funext i; exact (EReal.coe_neg _).symm
theorem tanh_up (a : s.Idx → ℝ) :
    tanh (F := Ideal) (s := s) (φ := φ) (up a) = up fun i => Real.tanh (a i) := by
  funext i; exact Ideal.tanh_coe _
theorem hostTanh_up (a : s.Idx → ℝ) :
    Host.tanh (F := Ideal) (s := s) (φ := φ) (up a) = up fun i => Real.tanh (a i) := by
  funext i; exact Ideal.tanh_coe _
theorem hostDivf_up (a b : s.Idx → ℝ) (hb : ∀ i, b i ≠ 0) :
    Host.divf (F := Ideal) (s := s) (φ := φ) (up a) (up b) = up fun i => a i / b i := by
  funext i
  refine (Ideal.div_coe (hb i) _).trans ?_
  rw [up_apply, up_apply, ← EReal.coe_mul, mul_one_div]
theorem truncf_up (h : φ.bits > ψ.bits) (a : s.Idx → ℝ) :
    truncf (F := Ideal) (s := s) (φ := φ) ψ (up a) h = up a := rfl
theorem extf_up (h : φ.bits < ψ.bits) (a : s.Idx → ℝ) :
    extf (F := Ideal) (s := s) (φ := φ) ψ (up a) h = up a := rfl

/-! ### Constants -/

theorem broadcast_coe (r : ℝ) : broadcast s ((r : ℝ) : EReal) = up fun _ => r := rfl

theorem constant_up (w : BitVec φ.bits) (q : ℝ) (h : Scalar.ofBits (F := Ideal) φ w = ((q : ℝ) : EReal)) :
    constant (F := Ideal) s φ w = up fun _ => q := by
  funext i; exact h

/-! ### Operations that only move elements -/

theorem shapeCast_up (a : s.Idx → ℝ) (h : Shape.ShapeCasts s t) :
    shapeCast t (up a) h = up (shapeCast t a h) := rfl
theorem broadcastTo_up (a : s.Idx → ℝ) (h) :
    broadcastTo t (up a) h = up (broadcastTo t a h) := rfl
theorem broadcastInDim_up (dims) (a : s.Idx → ℝ) (h) :
    broadcastInDim t dims h (up a) = up (broadcastInDim t dims h a) := rfl
theorem slice_up (off) (a : s.Idx → ℝ) (h) :
    extractStridedSlice t off (up a) h = up (extractStridedSlice t off a h) := rfl
theorem transpose_up (perm) (a : s.Idx → ℝ) (h) :
    transpose t perm (up a) h = up (transpose t perm a h) := rfl
theorem rotate_up (ax) (n : BitVec 32) (a : s.Idx → ℝ) (h) :
    dynamicRotate ax n none (up a) h = up (dynamicRotate ax n none a h) := rfl
theorem select_up (c : IVec s 1) (a b : s.Idx → ℝ) :
    select c (up a) (up b) = up (select c a b) := by
  funext i
  show Scalar.select (c i) _ _ = ((Scalar.select (c i) (a i) (b i) : ℝ) : EReal)
  unfold Scalar.select
  split <;> rfl

/-! ### Products and sums -/

theorem matmul_up (d : DotDims s t u) (pr) (l : s.Idx → ℝ) (r : t.Idx → ℝ) (a : u.Idx → ℝ) :
    matmul (F := Ideal) (φ₁ := φ) (φ₂ := ψ) d pr (up l) (up r) (up a)
      = up fun j => a j + ∑ k : d.contr.Idx, l (d.lhsIdx j k) * r (d.rhsIdx j k) := by
  funext j
  show ((a j : ℝ) : EReal) + ∑ k : d.contr.Idx, ((l (d.lhsIdx j k) : ℝ) : EReal) * ((r (d.rhsIdx j k) : ℝ) : EReal) = _
  rw [up_apply, EReal.coe_add, coe_sum]
  simp only [EReal.coe_mul]

theorem dotGeneral_up (d : DotDims s t u) (pr) (l : s.Idx → ℝ) (r : t.Idx → ℝ) :
    Host.dotGeneral (F := Ideal) (φ₁ := φ) (φ₂ := ψ) d pr (up l) (up r)
      = up fun j => ∑ k : d.contr.Idx, l (d.lhsIdx j k) * r (d.rhsIdx j k) := by
  funext j
  show (0 : EReal) + ∑ k : d.contr.Idx, ((l (d.lhsIdx j k) : ℝ) : EReal) * ((r (d.rhsIdx j k) : ℝ) : EReal) = _
  rw [up_apply, coe_sum, zero_add]
  simp only [EReal.coe_mul]

theorem multiReduction_up {axes : List (Fin s.rank)} (a : s.Idx → ℝ) (acc : BitVec φ.bits) (h : s.Reduces axes t) (h1) (h2) :
    multiReduction (F := Ideal) (φ := φ) .add axes t (up a) acc h h1 h2
      = up fun j => ∑ i ∈ Finset.univ.filter (fun i => h.drop i = j), a i := by
  funext j
  show ∑ i ∈ Finset.univ.filter (fun i => h.drop i = j), ((a i : ℝ) : EReal) = _
  rw [up_apply, coe_sum]

theorem hostReduceAdd_up {axes : List (Fin s.rank)} (a : s.Idx → ℝ) (z : u.Idx → ℝ) (h : s.ReducesTo axes t) (h1 : 0 < u.numel) :
    Host.reduceAdd (F := Ideal) (φ := φ) (up a) (up z) h h1
      = up fun j => z (Shape.Idx.first h1) + ∑ i ∈ Finset.univ.filter (fun i => h.drop i = j), a i := by
  funext j
  show ((z (Shape.Idx.first h1) : ℝ) : EReal) + ∑ i ∈ Finset.univ.filter (fun i => h.drop i = j), ((a i : ℝ) : EReal) = _
  rw [up_apply, EReal.coe_add, coe_sum]

theorem pad_up (lo hi interior) (a : s.Idx → ℝ) (z : u.Idx → ℝ) (h) (hu : 0 < u.numel) :
    pad t lo hi interior (up a) (up z) h hu = up (pad t lo hi interior a z h hu) := by
  funext j
  unfold pad up
  dsimp only
  split <;> rfl

end Cert.Lift

end
-- ==== Proof.Lift.Sums.lean ====
/- The sums of the matrix products and of the reductions over axes, re-indexed by the coordinates they run over. -/
module

public import proofs.«01_k».proof.Proof.Lift.Basic

@[expose] public section

noncomputable section

namespace Cert.Lift

open Idealize.ShloMosaic Idealize.ShloMosaic.ValueIdx

/-- The coordinates of an index, at the extents' own types. -/
def v0 {n : Nat} (j : (⟨1, ![n]⟩ : Shape).Idx) : Fin n := j 0
def r0 {n₀ n₁ : Nat} (j : (⟨2, ![n₀, n₁]⟩ : Shape).Idx) : Fin n₀ := j 0
def c1 {n₀ n₁ : Nat} (j : (⟨2, ![n₀, n₁]⟩ : Shape).Idx) : Fin n₁ := j 1
def d0 {n₀ n₁ n₂ : Nat} (j : (⟨3, ![n₀, n₁, n₂]⟩ : Shape).Idx) : Fin n₀ := j 0
def d1 {n₀ n₁ n₂ : Nat} (j : (⟨3, ![n₀, n₁, n₂]⟩ : Shape).Idx) : Fin n₁ := j 1
def d2 {n₀ n₁ n₂ : Nat} (j : (⟨3, ![n₀, n₁, n₂]⟩ : Shape).Idx) : Fin n₂ := j 2

theorem eq_rc {n₀ n₁ : Nat} (j : (⟨2, ![n₀, n₁]⟩ : Shape).Idx) : j = ix2 (r0 j) (c1 j) := eq_ix2 j

section Dot
variable {A : Type} [AddCommMonoid A]
variable {sl sr so : Shape} (d : DotDims sl sr so)

theorem idx_val_eq {s : Shape} (j : s.Idx) (p q : Nat) (hp : p < s.rank) (hq : q < s.rank) (h : p = q) :
    (j ⟨p, hp⟩).val = (j ⟨q, hq⟩).val := by subst h; rfl

/-- A kept axis of the left operand reads the result's coordinate at its place. -/
theorem lhs_kept (j : so.Idx) (k : d.contr.Idx) (a : Fin sl.rank) (p : Nat) (hp : p < so.rank)
    (hb : d.lhsBatch = []) (hn : a ∈ d.lhsNonContracting) (hq : d.lhsNonContracting.idxOf a = p) :
    (d.lhsIdx j k a).val = (j ⟨p, hp⟩).val := by
  have hb' : a ∉ d.lhsBatch := by rw [hb]; exact List.not_mem_nil
  unfold DotDims.lhsIdx
  rw [dif_neg hb', dif_pos hn]
  simp only [Fin.val_cast]
  exact idx_val_eq j _ _ _ _ (by rw [hb, hq]; simp)

/-- A kept axis of the right operand reads the result's coordinate after the left's. -/
theorem rhs_kept (j : so.Idx) (k : d.contr.Idx) (a : Fin sr.rank) (p : Nat) (hp : p < so.rank)
    (hb : d.rhsBatch = []) (hbl : d.lhsBatch = []) (hn : a ∈ d.rhsNonContracting)
    (hq : d.lhsNonContracting.length + d.rhsNonContracting.idxOf a = p) :
    (d.rhsIdx j k a).val = (j ⟨p, hp⟩).val := by
  have hb' : a ∉ d.rhsBatch := by rw [hb]; exact List.not_mem_nil
  unfold DotDims.rhsIdx
  rw [dif_neg hb', dif_pos hn]
  simp only [Fin.val_cast]
  exact idx_val_eq j _ _ _ _ (by rw [hbl]; simp; omega)

/-- A contracted axis of the left operand reads the contraction's coordinate at its place. -/
theorem lhs_contr (j : so.Idx) (k : d.contr.Idx) (a : Fin sl.rank) (p : Nat) (hp : p < d.contr.rank)
    (hm : a ∈ d.lhsContracting) (hq : d.lhsContracting.idxOf a = p) :
    (d.lhsIdx j k a).val = (k ⟨p, hp⟩).val := by
  unfold DotDims.lhsIdx
  rw [dif_neg (d.not_mem_lhsBatch_of_mem_contracting hm), dif_neg (d.not_mem_lhsNon_of_mem_contracting hm)]
  simp only [Fin.val_cast]
  exact idx_val_eq k _ _ _ _ hq

theorem rhs_contr (j : so.Idx) (k : d.contr.Idx) (a : Fin sr.rank) (p : Nat) (hp : p < d.contr.rank)
    (hm : a ∈ d.rhsContracting) (hq : d.rhsContracting.idxOf a = p) :
    (d.rhsIdx j k a).val = (k ⟨p, hp⟩).val := by
  unfold DotDims.rhsIdx
  rw [dif_neg (d.not_mem_rhsBatch_of_mem_contracting hm), dif_neg (d.not_mem_rhsNon_of_mem_contracting hm)]
  simp only [Fin.val_cast]
  exact idx_val_eq k _ _ _ _ hq

/-- The contraction shape's extents. -/
theorem contr_rank {l : List (Fin sl.rank)} (hl : d.lhsContracting = l) : d.contr.rank = l.length := by
  rw [d.rank_contr, hl]

theorem contr_size {l : List (Fin sl.rank)} (hl : d.lhsContracting = l) (p : Nat) (hp : p < d.contr.rank) (hp' : p < l.length) :
    d.contr.size ⟨p, hp⟩ = sl.size l[p] := by
  subst hl; exact d.size_contr p hp'

/-- A sum over the contraction's positions of one axis. -/
theorem sum_contr1 {n : Nat} (hr : d.contr.rank = 1) (hs : d.contr.size ⟨0, by omega⟩ = n)
    (f : d.contr.Idx → A) (g : Fin n → A)
    (h : ∀ (k : d.contr.Idx) (x : Fin n), (k ⟨0, by omega⟩).val = x.val → f k = g x) : ∑ k, f k = ∑ x, g x := by
  rw [← Equiv.sum_comp (contrEquiv1 d n hr hs).symm f]
  exact Finset.sum_congr rfl fun x _ => h _ x (contrEquiv1_symm_val d n hr hs x)

/-- A contraction index of two axes is its two coordinates. -/
def contrEquiv2 (n₀ n₁ : Nat) (hr : d.contr.rank = 2) (h0 : d.contr.size ⟨0, by omega⟩ = n₀)
    (h1 : d.contr.size ⟨1, by omega⟩ = n₁) : d.contr.Idx ≃ Fin n₀ × Fin n₁ where
  toFun q := ((q ⟨0, by omega⟩).cast h0, (q ⟨1, by omega⟩).cast h1)
  invFun i := fun a => if h : a.val = 0 then i.1.cast (h0.symm.trans (by congr 1; exact Fin.ext h.symm))
    else i.2.cast (h1.symm.trans (by congr 1; exact Fin.ext (by show 1 = a.val; have := a.isLt; omega)))
  left_inv q := by
    funext a
    obtain ⟨v, hv⟩ := a
    have hv2 : v < 2 := by omega
    rcases (by omega : v = 0 ∨ v = 1) with h | h <;> subst h <;> simp
  right_inv i := by simp

theorem sum_contr2 {n₀ n₁ : Nat} (hr : d.contr.rank = 2) (h0 : d.contr.size ⟨0, by omega⟩ = n₀)
    (h1 : d.contr.size ⟨1, by omega⟩ = n₁) (f : d.contr.Idx → A) (g : Fin n₀ → Fin n₁ → A)
    (h : ∀ (k : d.contr.Idx) (x : Fin n₀) (y : Fin n₁), (k ⟨0, by omega⟩).val = x.val → (k ⟨1, by omega⟩).val = y.val → f k = g x y) :
    ∑ k, f k = ∑ x, ∑ y, g x y := by
  rw [← Equiv.sum_comp (contrEquiv2 d n₀ n₁ hr h0 h1).symm f, Fintype.sum_prod_type]
  refine Finset.sum_congr rfl fun x _ => Finset.sum_congr rfl fun y _ => h _ x y ?_ ?_ <;> simp [contrEquiv2]

end Dot

section Products
variable {A : Type} [AddCommMonoid A] [Mul A]
variable {M N K B S : Nat}

/-- Rows by rows. -/
theorem dot_nt (d : DotDims ⟨2, ![M, K]⟩ ⟨2, ![N, K]⟩ ⟨2, ![M, N]⟩)
    (h1 : d.lhsContracting = [1]) (h2 : d.rhsContracting = [1]) (h3 : d.lhsNonContracting = [0]) (h4 : d.rhsNonContracting = [0])
    (h5 : d.lhsBatch = []) (h6 : d.rhsBatch = []) (l : (⟨2, ![M, K]⟩ : Shape).Idx → A) (r : (⟨2, ![N, K]⟩ : Shape).Idx → A)
    (a : Fin M) (b : Fin N) :
    ∑ k : d.contr.Idx, l (d.lhsIdx (ix2 a b) k) * r (d.rhsIdx (ix2 a b) k) = ∑ k : Fin K, l (ix2 a k) * r (ix2 b k) := by
  have hr := contr_rank d h1
  refine sum_contr1 d hr ((contr_size d h1 0 (by rw [hr]; simp) (by simp)).trans rfl) _ _ fun k x hx => ?_
  congr 2
  · funext e; apply Fin.ext
    match e with
    | ⟨0, _⟩ => exact lhs_kept d _ k 0 0 (by simp) h5 (by rw [h3]; simp) (by rw [h3]; rfl)
    | ⟨1, _⟩ => exact (lhs_contr d _ k 1 0 (by rw [hr]; simp) (by rw [h1]; simp) (by rw [h1]; rfl)).trans hx
  · funext e; apply Fin.ext
    match e with
    | ⟨0, _⟩ => exact rhs_kept d _ k 0 1 (by simp) h6 h5 (by rw [h4]; simp) (by rw [h3, h4]; rfl)
    | ⟨1, _⟩ => exact (rhs_contr d _ k 1 0 (by rw [hr]; simp) (by rw [h2]; simp) (by rw [h2]; rfl)).trans hx

/-- Rows by columns. -/
theorem dot_nn (d : DotDims ⟨2, ![M, K]⟩ ⟨2, ![K, N]⟩ ⟨2, ![M, N]⟩)
    (h1 : d.lhsContracting = [1]) (h2 : d.rhsContracting = [0]) (h3 : d.lhsNonContracting = [0]) (h4 : d.rhsNonContracting = [1])
    (h5 : d.lhsBatch = []) (h6 : d.rhsBatch = []) (l : (⟨2, ![M, K]⟩ : Shape).Idx → A) (r : (⟨2, ![K, N]⟩ : Shape).Idx → A)
    (a : Fin M) (b : Fin N) :
    ∑ k : d.contr.Idx, l (d.lhsIdx (ix2 a b) k) * r (d.rhsIdx (ix2 a b) k) = ∑ k : Fin K, l (ix2 a k) * r (ix2 k b) := by
  have hr := contr_rank d h1
  refine sum_contr1 d hr ((contr_size d h1 0 (by rw [hr]; simp) (by simp)).trans rfl) _ _ fun k x hx => ?_
  congr 2
  · funext e; apply Fin.ext
    match e with
    | ⟨0, _⟩ => exact lhs_kept d _ k 0 0 (by simp) h5 (by rw [h3]; simp) (by rw [h3]; rfl)
    | ⟨1, _⟩ => exact (lhs_contr d _ k 1 0 (by rw [hr]; simp) (by rw [h1]; simp) (by rw [h1]; rfl)).trans hx
  · funext e; apply Fin.ext
    match e with
    | ⟨1, _⟩ => exact rhs_kept d _ k 1 1 (by simp) h6 h5 (by rw [h4]; simp) (by rw [h3, h4]; rfl)
    | ⟨0, _⟩ => exact (rhs_contr d _ k 0 0 (by rw [hr]; simp) (by rw [h2]; simp) (by rw [h2]; rfl)).trans hx

/-- Columns by columns. -/
theorem dot_tn (d : DotDims ⟨2, ![K, M]⟩ ⟨2, ![K, N]⟩ ⟨2, ![M, N]⟩)
    (h1 : d.lhsContracting = [0]) (h2 : d.rhsContracting = [0]) (h3 : d.lhsNonContracting = [1]) (h4 : d.rhsNonContracting = [1])
    (h5 : d.lhsBatch = []) (h6 : d.rhsBatch = []) (l : (⟨2, ![K, M]⟩ : Shape).Idx → A) (r : (⟨2, ![K, N]⟩ : Shape).Idx → A)
    (a : Fin M) (b : Fin N) :
    ∑ k : d.contr.Idx, l (d.lhsIdx (ix2 a b) k) * r (d.rhsIdx (ix2 a b) k) = ∑ k : Fin K, l (ix2 k a) * r (ix2 k b) := by
  have hr := contr_rank d h1
  refine sum_contr1 d hr ((contr_size d h1 0 (by rw [hr]; simp) (by simp)).trans rfl) _ _ fun k x hx => ?_
  congr 2
  · funext e; apply Fin.ext
    match e with
    | ⟨1, _⟩ => exact lhs_kept d _ k 1 0 (by simp) h5 (by rw [h3]; simp) (by rw [h3]; rfl)
    | ⟨0, _⟩ => exact (lhs_contr d _ k 0 0 (by rw [hr]; simp) (by rw [h1]; simp) (by rw [h1]; rfl)).trans hx
  · funext e; apply Fin.ext
    match e with
    | ⟨1, _⟩ => exact rhs_kept d _ k 1 1 (by simp) h6 h5 (by rw [h4]; simp) (by rw [h3, h4]; rfl)
    | ⟨0, _⟩ => exact (rhs_contr d _ k 0 0 (by rw [hr]; simp) (by rw [h2]; simp) (by rw [h2]; rfl)).trans hx

/-- A batch of rows by rows. -/
theorem dot3_nt (d : DotDims ⟨3, ![B, S, K]⟩ ⟨2, ![N, K]⟩ ⟨3, ![B, S, N]⟩)
    (h1 : d.lhsContracting = [2]) (h2 : d.rhsContracting = [1]) (h3 : d.lhsNonContracting = [0, 1]) (h4 : d.rhsNonContracting = [0])
    (h5 : d.lhsBatch = []) (h6 : d.rhsBatch = []) (l : (⟨3, ![B, S, K]⟩ : Shape).Idx → A) (r : (⟨2, ![N, K]⟩ : Shape).Idx → A)
    (a : Fin B) (b : Fin S) (c : Fin N) :
    ∑ k : d.contr.Idx, l (d.lhsIdx (ix3 a b c) k) * r (d.rhsIdx (ix3 a b c) k) = ∑ k : Fin K, l (ix3 a b k) * r (ix2 c k) := by
  have hr := contr_rank d h1
  refine sum_contr1 d hr ((contr_size d h1 0 (by rw [hr]; simp) (by simp)).trans rfl) _ _ fun k x hx => ?_
  congr 2
  · funext e; apply Fin.ext
    match e with
    | ⟨0, _⟩ => exact lhs_kept d _ k 0 0 (by simp) h5 (by rw [h3]; simp) (by rw [h3]; rfl)
    | ⟨1, _⟩ => exact lhs_kept d _ k 1 1 (by simp) h5 (by rw [h3]; simp) (by rw [h3]; rfl)
    | ⟨2, _⟩ => exact (lhs_contr d _ k 2 0 (by rw [hr]; simp) (by rw [h1]; simp) (by rw [h1]; rfl)).trans hx
  · funext e; apply Fin.ext
    match e with
    | ⟨0, _⟩ => exact rhs_kept d _ k 0 2 (by simp) h6 h5 (by rw [h4]; simp) (by rw [h3, h4]; rfl)
    | ⟨1, _⟩ => exact (rhs_contr d _ k 1 0 (by rw [hr]; simp) (by rw [h2]; simp) (by rw [h2]; rfl)).trans hx

/-- A batch of rows by columns. -/
theorem dot3_nn (d : DotDims ⟨3, ![B, S, K]⟩ ⟨2, ![K, N]⟩ ⟨3, ![B, S, N]⟩)
    (h1 : d.lhsContracting = [2]) (h2 : d.rhsContracting = [0]) (h3 : d.lhsNonContracting = [0, 1]) (h4 : d.rhsNonContracting = [1])
    (h5 : d.lhsBatch = []) (h6 : d.rhsBatch = []) (l : (⟨3, ![B, S, K]⟩ : Shape).Idx → A) (r : (⟨2, ![K, N]⟩ : Shape).Idx → A)
    (a : Fin B) (b : Fin S) (c : Fin N) :
    ∑ k : d.contr.Idx, l (d.lhsIdx (ix3 a b c) k) * r (d.rhsIdx (ix3 a b c) k) = ∑ k : Fin K, l (ix3 a b k) * r (ix2 k c) := by
  have hr := contr_rank d h1
  refine sum_contr1 d hr ((contr_size d h1 0 (by rw [hr]; simp) (by simp)).trans rfl) _ _ fun k x hx => ?_
  congr 2
  · funext e; apply Fin.ext
    match e with
    | ⟨0, _⟩ => exact lhs_kept d _ k 0 0 (by simp) h5 (by rw [h3]; simp) (by rw [h3]; rfl)
    | ⟨1, _⟩ => exact lhs_kept d _ k 1 1 (by simp) h5 (by rw [h3]; simp) (by rw [h3]; rfl)
    | ⟨2, _⟩ => exact (lhs_contr d _ k 2 0 (by rw [hr]; simp) (by rw [h1]; simp) (by rw [h1]; rfl)).trans hx
  · funext e; apply Fin.ext
    match e with
    | ⟨1, _⟩ => exact rhs_kept d _ k 1 2 (by simp) h6 h5 (by rw [h4]; simp) (by rw [h3, h4]; rfl)
    | ⟨0, _⟩ => exact (rhs_contr d _ k 0 0 (by rw [hr]; simp) (by rw [h2]; simp) (by rw [h2]; rfl)).trans hx

/-- Both batch axes contracted: the gradient of a weight. -/
theorem dot3_tn (d : DotDims ⟨3, ![B, S, M]⟩ ⟨3, ![B, S, N]⟩ ⟨2, ![M, N]⟩)
    (h1 : d.lhsContracting = [0, 1]) (h2 : d.rhsContracting = [0, 1]) (h3 : d.lhsNonContracting = [2]) (h4 : d.rhsNonContracting = [2])
    (h5 : d.lhsBatch = []) (h6 : d.rhsBatch = []) (l : (⟨3, ![B, S, M]⟩ : Shape).Idx → A) (r : (⟨3, ![B, S, N]⟩ : Shape).Idx → A)
    (a : Fin M) (b : Fin N) :
    ∑ k : d.contr.Idx, l (d.lhsIdx (ix2 a b) k) * r (d.rhsIdx (ix2 a b) k)
      = ∑ p : Fin B, ∑ q : Fin S, l (ix3 p q a) * r (ix3 p q b) := by
  have hr := contr_rank d h1
  refine sum_contr2 d hr ((contr_size d h1 0 (by rw [hr]; simp) (by simp)).trans rfl)
    ((contr_size d h1 1 (by rw [hr]; simp) (by simp)).trans rfl) _ _ fun k x y hx hy => ?_
  congr 2
  · funext e; apply Fin.ext
    match e with
    | ⟨0, _⟩ => exact (lhs_contr d _ k 0 0 (by rw [hr]; simp) (by rw [h1]; simp) (by rw [h1]; rfl)).trans hx
    | ⟨1, _⟩ => exact (lhs_contr d _ k 1 1 (by rw [hr]; simp) (by rw [h1]; simp) (by rw [h1]; rfl)).trans hy
    | ⟨2, _⟩ => exact lhs_kept d _ k 2 0 (by simp) h5 (by rw [h3]; simp) (by rw [h3]; rfl)
  · funext e; apply Fin.ext
    match e with
    | ⟨0, _⟩ => exact (rhs_contr d _ k 0 0 (by rw [hr]; simp) (by rw [h2]; simp) (by rw [h2]; rfl)).trans hx
    | ⟨1, _⟩ => exact (rhs_contr d _ k 1 1 (by rw [hr]; simp) (by rw [h2]; simp) (by rw [h2]; rfl)).trans hy
    | ⟨2, _⟩ => exact rhs_kept d _ k 2 1 (by simp) h6 h5 (by rw [h4]; simp) (by rw [h3, h4]; rfl)

end Products

section Reductions
variable {A : Type} [AddCommMonoid A]
variable {B R C : Nat}

/-- A three-axis index from its coordinates. -/
theorem eq_ix3' (i : (⟨3, ![B, R, C]⟩ : Shape).Idx) : i = ix3 (d0 i) (d1 i) (d2 i) := by
  funext a
  match a with
  | ⟨0, _⟩ => rfl
  | ⟨1, _⟩ => rfl
  | ⟨2, _⟩ => rfl

/-- The sum down the columns. -/
theorem sum_rows (h : (⟨2, ![R, C]⟩ : Shape).Reduces [0] ⟨1, ![C]⟩) (a : (⟨2, ![R, C]⟩ : Shape).Idx → A) (j : (⟨1, ![C]⟩ : Shape).Idx) :
    ∑ i ∈ Finset.univ.filter (fun i => h.drop i = j), a i = ∑ r : Fin R, a (ix2 r (v0 j)) := by
  refine Finset.sum_nbij' r0 (fun r => ix2 r (v0 j)) (fun _ _ => Finset.mem_univ _) ?_ ?_ ?_ ?_
  · intro r _
    rw [Finset.mem_filter]
    refine ⟨Finset.mem_univ _, ?_⟩
    funext b; apply Fin.ext
    match b with
    | ⟨0, _⟩ => exact h.drop_apply_val_of_eq _ 0 1 (Nat.succ_pos _) rfl
  · intro i hi
    rw [Finset.mem_filter] at hi
    have : (i 1).val = (j 0).val := by rw [← hi.2]; exact (h.drop_apply_val_of_eq i 0 1 (Nat.succ_pos _) rfl).symm
    funext b; apply Fin.ext
    match b with
    | ⟨0, _⟩ => rfl
    | ⟨1, _⟩ => exact this.symm
  · intro r _; rfl
  · intro i hi
    rw [Finset.mem_filter] at hi
    have : (i 1).val = (j 0).val := by rw [← hi.2]; exact (h.drop_apply_val_of_eq i 0 1 (Nat.succ_pos _) rfl).symm
    congr 1
    funext b; apply Fin.ext
    match b with
    | ⟨0, _⟩ => rfl
    | ⟨1, _⟩ => exact this

/-- The sum along the rows. -/
theorem sum_cols (h : (⟨2, ![R, C]⟩ : Shape).Reduces [1] ⟨1, ![R]⟩) (a : (⟨2, ![R, C]⟩ : Shape).Idx → A) (j : (⟨1, ![R]⟩ : Shape).Idx) :
    ∑ i ∈ Finset.univ.filter (fun i => h.drop i = j), a i = ∑ k : Fin C, a (ix2 (v0 j) k) := by
  refine Finset.sum_nbij' c1 (fun r => ix2 (v0 j) r) (fun _ _ => Finset.mem_univ _) ?_ ?_ ?_ ?_
  · intro r _
    rw [Finset.mem_filter]
    refine ⟨Finset.mem_univ _, ?_⟩
    funext b; apply Fin.ext
    match b with
    | ⟨0, _⟩ => exact h.drop_apply_val_of_eq _ 0 0 (Nat.succ_pos _) rfl
  · intro i hi
    rw [Finset.mem_filter] at hi
    have : (i 0).val = (j 0).val := by rw [← hi.2]; exact (h.drop_apply_val_of_eq i 0 0 (Nat.succ_pos _) rfl).symm
    funext b; apply Fin.ext
    match b with
    | ⟨0, _⟩ => exact this.symm
    | ⟨1, _⟩ => rfl
  · intro r _; rfl
  · intro i hi
    rw [Finset.mem_filter] at hi
    have : (i 0).val = (j 0).val := by rw [← hi.2]; exact (h.drop_apply_val_of_eq i 0 0 (Nat.succ_pos _) rfl).symm
    congr 1
    funext b; apply Fin.ext
    match b with
    | ⟨0, _⟩ => exact this
    | ⟨1, _⟩ => rfl

/-- The host's sum over both batch axes. -/
theorem host_sum_rows3 (h : (⟨3, ![B, R, C]⟩ : Shape).ReducesTo [0, 1] ⟨1, ![C]⟩) (a : (⟨3, ![B, R, C]⟩ : Shape).Idx → A)
    (j : (⟨1, ![C]⟩ : Shape).Idx) :
    ∑ i ∈ Finset.univ.filter (fun i => h.drop i = j), a i = ∑ p : Fin B, ∑ r : Fin R, a (ix3 p r (v0 j)) := by
  rw [← Fintype.sum_prod_type' (f := fun (p : Fin B) (r : Fin R) => a (ix3 p r (v0 j)))]
  refine Finset.sum_nbij' (fun i => (d0 i, d1 i)) (fun r => ix3 r.1 r.2 (v0 j)) (fun _ _ => Finset.mem_univ _) ?_ ?_ ?_ ?_
  · intro r _
    rw [Finset.mem_filter]
    refine ⟨Finset.mem_univ _, ?_⟩
    funext b; apply Fin.ext
    match b with
    | ⟨0, _⟩ => exact h.drop_apply_val_of_eq _ 0 2 (Nat.succ_pos _) rfl
  · intro i hi
    rw [Finset.mem_filter] at hi
    have : (i 2).val = (j 0).val := by rw [← hi.2]; exact (h.drop_apply_val_of_eq i 0 2 (Nat.succ_pos _) rfl).symm
    funext b; apply Fin.ext
    match b with
    | ⟨0, _⟩ => rfl
    | ⟨1, _⟩ => rfl
    | ⟨2, _⟩ => exact this.symm
  · intro r _; rfl
  · intro i hi
    rw [Finset.mem_filter] at hi
    have : (i 2).val = (j 0).val := by rw [← hi.2]; exact (h.drop_apply_val_of_eq i 0 2 (Nat.succ_pos _) rfl).symm
    congr 1
    funext b; apply Fin.ext
    match b with
    | ⟨0, _⟩ => rfl
    | ⟨1, _⟩ => rfl
    | ⟨2, _⟩ => exact this

/-- The host's sum along the last axis. -/
theorem host_sum_last3 (h : (⟨3, ![B, R, C]⟩ : Shape).ReducesTo [2] ⟨2, ![B, R]⟩) (a : (⟨3, ![B, R, C]⟩ : Shape).Idx → A)
    (j : (⟨2, ![B, R]⟩ : Shape).Idx) :
    ∑ i ∈ Finset.univ.filter (fun i => h.drop i = j), a i = ∑ k : Fin C, a (ix3 (r0 j) (c1 j) k) := by
  refine Finset.sum_nbij' d2 (fun r => ix3 (r0 j) (c1 j) r) (fun _ _ => Finset.mem_univ _) ?_ ?_ ?_ ?_
  · intro r _
    rw [Finset.mem_filter]
    refine ⟨Finset.mem_univ _, ?_⟩
    funext b; apply Fin.ext
    match b with
    | ⟨0, _⟩ => exact h.drop_apply_val_of_eq _ 0 0 (Nat.succ_pos _) rfl
    | ⟨1, _⟩ => exact h.drop_apply_val_of_eq _ 1 1 (Nat.le_refl 2) rfl
  · intro i hi
    rw [Finset.mem_filter] at hi
    have h0 : (i 0).val = (j 0).val := by rw [← hi.2]; exact (h.drop_apply_val_of_eq i 0 0 (Nat.succ_pos _) rfl).symm
    have h1 : (i 1).val = (j 1).val := by rw [← hi.2]; exact (h.drop_apply_val_of_eq i 1 1 (Nat.le_refl 2) rfl).symm
    funext b; apply Fin.ext
    match b with
    | ⟨0, _⟩ => exact h0.symm
    | ⟨1, _⟩ => exact h1.symm
    | ⟨2, _⟩ => rfl
  · intro r _; rfl
  · intro i hi
    rw [Finset.mem_filter] at hi
    have h0 : (i 0).val = (j 0).val := by rw [← hi.2]; exact (h.drop_apply_val_of_eq i 0 0 (Nat.succ_pos _) rfl).symm
    have h1 : (i 1).val = (j 1).val := by rw [← hi.2]; exact (h.drop_apply_val_of_eq i 1 1 (Nat.le_refl 2) rfl).symm
    congr 1
    funext b; apply Fin.ext
    match b with
    | ⟨0, _⟩ => exact h0
    | ⟨1, _⟩ => exact h1
    | ⟨2, _⟩ => rfl

end Reductions

end Cert.Lift

end
-- ==== Proof.Lift.Rows.lean ====
/- The layout operations of the blocks, read at an index, and the block shifted by one row with zero at the border. -/
module

public import proofs.«01_k».proof.Proof.Lift.Sums

@[expose] public section

noncomputable section

namespace Cert.Lift

open Idealize.ShloMosaic Idealize.ShloMosaic.ValueIdx

/-! ### The float literals -/

theorem ofBits_zero : Scalar.ofBits (F := Ideal) .f32 0x00000000#32 = ((0 : ℝ) : EReal) := by
  show Ideal.ofBits .f32 0x00000000#32 = _
  simp [Ideal.ofBits, Ideal.ieee, -EReal.coe_mul]
theorem ofBits_half : Scalar.ofBits (F := Ideal) .f32 0x3F000000#32 = ((1 / 2 : ℝ) : EReal) := by
  show Ideal.ofBits .f32 0x3F000000#32 = _
  simp [Ideal.ofBits, Ideal.ieee, -EReal.coe_mul]; norm_num
theorem ofBits_one : Scalar.ofBits (F := Ideal) .f32 0x3F800000#32 = ((1 : ℝ) : EReal) := by
  show Ideal.ofBits .f32 0x3F800000#32 = _
  simp [Ideal.ofBits, Ideal.ieee, -EReal.coe_mul]; norm_num
theorem ofBits_three : Scalar.ofBits (F := Ideal) .f32 0x40400000#32 = ((3 : ℝ) : EReal) := by
  show Ideal.ofBits .f32 0x40400000#32 = _
  simp [Ideal.ofBits, Ideal.ieee, -EReal.coe_mul]; norm_num
/-- The float nearest the square root of `2 / π`. -/
theorem ofBits_root : Scalar.ofBits (F := Ideal) .f32 0x3F4C422A#32 = ((13386282 / 16777216 : ℝ) : EReal) := by
  show Ideal.ofBits .f32 0x3F4C422A#32 = _
  simp [Ideal.ofBits, Ideal.ieee, -EReal.coe_mul]; norm_num
theorem ofBits_44715 : Scalar.ofBits (F := Ideal) .f32 0x472EAB00#32 = ((44715 : ℝ) : EReal) := by
  show Ideal.ofBits .f32 0x472EAB00#32 = _
  simp [Ideal.ofBits, Ideal.ieee, -EReal.coe_mul]; norm_num
theorem ofBits_million : Scalar.ofBits (F := Ideal) .f32 0x49742400#32 = ((1000000 : ℝ) : EReal) := by
  show Ideal.ofBits .f32 0x49742400#32 = _
  simp [Ideal.ofBits, Ideal.ieee, -EReal.coe_mul]; norm_num

section
variable {s : Shape}
theorem splat_zero : broadcast s (Scalar.ofBits (F := Ideal) .f32 0x00000000#32) = up fun _ => (0 : ℝ) := by rw [ofBits_zero]; rfl
theorem splat_half : broadcast s (Scalar.ofBits (F := Ideal) .f32 0x3F000000#32) = up fun _ => (1 / 2 : ℝ) := by rw [ofBits_half]; rfl
theorem splat_one : broadcast s (Scalar.ofBits (F := Ideal) .f32 0x3F800000#32) = up fun _ => (1 : ℝ) := by rw [ofBits_one]; rfl
theorem splat_root : broadcast s (Scalar.ofBits (F := Ideal) .f32 0x3F4C422A#32) = up fun _ => (13386282 / 16777216 : ℝ) := by
  rw [ofBits_root]; rfl
theorem const_zero : constant (F := Ideal) s .f32 0x00000000#32 = up fun _ => (0 : ℝ) := constant_up _ _ ofBits_zero
theorem const_half : constant (F := Ideal) s .f32 0x3F000000#32 = up fun _ => (1 / 2 : ℝ) := constant_up _ _ ofBits_half
theorem const_one : constant (F := Ideal) s .f32 0x3F800000#32 = up fun _ => (1 : ℝ) := constant_up _ _ ofBits_one
theorem const_three : constant (F := Ideal) s .f32 0x40400000#32 = up fun _ => (3 : ℝ) := constant_up _ _ ofBits_three
theorem const_root : constant (F := Ideal) s .f32 0x3F4C422A#32 = up fun _ => (13386282 / 16777216 : ℝ) := constant_up _ _ ofBits_root
theorem const_44715 : constant (F := Ideal) s .f32 0x472EAB00#32 = up fun _ => (44715 : ℝ) := constant_up _ _ ofBits_44715
theorem const_million : constant (F := Ideal) s .f32 0x49742400#32 = up fun _ => (1000000 : ℝ) := constant_up _ _ ofBits_million
end

/-! ### Layout -/

section Layout
variable {α : Type} {R C : Nat}

/-- A row read on every row. -/
theorem rowTo_apply (a : (⟨2, ![1, C]⟩ : Shape).Idx → α) (h) (j : (⟨2, ![R, C]⟩ : Shape).Idx) :
    broadcastTo ⟨2, ![R, C]⟩ a h j = a (ix2 0 (c1 j)) := by
  refine broadcastTo_apply a h j _ fun e => ?_
  match e with
  | ⟨0, _⟩ => rfl
  | ⟨1, _⟩ =>
    show (j 1).val = if C = 1 then 0 else (j 1).val
    have : (j 1).val < C := (j 1).isLt
    split <;> omega

/-- A vector as a row. -/
theorem asRow_apply (a : (⟨1, ![C]⟩ : Shape).Idx → α) (h) (j : (⟨2, ![1, C]⟩ : Shape).Idx) :
    shapeCast ⟨2, ![1, C]⟩ a h j = a (ix1 (c1 j)) := by
  refine shapeCast_apply a h j _ ?_
  rw [Shape.rowMajor_val_one, Shape.rowMajor_val_two]
  show (j 1).val = (r0 j).val * C + (j 1).val
  have : (r0 j).val < 1 := (j 0).isLt
  have : (r0 j).val = 0 := by omega
  rw [this]; omega

/-- One row of a table. -/
theorem row_apply (q : Nat) (hq : q < R) (a : (⟨2, ![R, C]⟩ : Shape).Idx → α) (h) (j : (⟨2, ![1, C]⟩ : Shape).Idx) :
    extractStridedSlice ⟨2, ![1, C]⟩ ![q, 0] a h j = a (ix2 ⟨q, hq⟩ (c1 j)) := by
  refine extractStridedSlice_apply _ a h j _ fun e => ?_
  match e with
  | ⟨0, _⟩ =>
    show q = q + (r0 j).val
    have : (r0 j).val < 1 := (j 0).isLt
    omega
  | ⟨1, _⟩ => show (j 1).val = 0 + (j 1).val; omega

end Layout

/-! ### One row up, one row down -/

/-- The sequence one place back, zero before its first place. -/
def prev {n : Nat} (g : Fin n → ℝ) (r : Fin n) : ℝ := if r.val = 0 then 0 else g ⟨r.val - 1, by omega⟩
/-- The sequence one place on, zero after its last place. -/
def next {n : Nat} (g : Fin n → ℝ) (r : Fin n) : ℝ := if h : r.val + 1 < n then g ⟨r.val + 1, h⟩ else 0

theorem prev_mask : ∀ r : Fin 2048,
    IntOp.andi (IntOp.cmpi .sge (IntOp.addi (BitVec.ofNat 32 r.val) 4294967295#32) 0#32)
      (IntOp.cmpi .slt (IntOp.addi (BitVec.ofNat 32 r.val) 4294967295#32) 2048#32) = if r.val = 0 then 0#1 else 1#1 := by
  decide +kernel
theorem next_mask : ∀ r : Fin 2048,
    IntOp.andi (IntOp.cmpi .sge (IntOp.addi (BitVec.ofNat 32 r.val) 1#32) 0#32)
      (IntOp.cmpi .slt (IntOp.addi (BitVec.ofNat 32 r.val) 1#32) 2048#32) = if r.val + 1 < 2048 then 1#1 else 0#1 := by
  decide +kernel

section Shift
variable {C : Nat}

theorem prev_up (hi) (hr) (a : (⟨2, ![2048, C]⟩ : Shape).Idx → ℝ) :
    select (andi (cmpi .sge (addi (iota .tc ⟨2, ![2048, C]⟩ 32 [0] hi) (broadcast _ 4294967295#32)) (broadcast _ 0#32))
        (cmpi .slt (addi (iota .tc ⟨2, ![2048, C]⟩ 32 [0] hi) (broadcast _ 4294967295#32)) (broadcast _ 2048#32)))
      (dynamicRotate 0 1#32 none (up a) hr) (broadcast _ (Scalar.ofBits (F := Ideal) .f32 0x00000000#32))
      = up fun j => prev (fun r => a (ix2 r (c1 j))) (r0 j) := by
  rw [splat_zero, rotate_up, select_up]
  congr 1
  funext j
  have hm : andi (cmpi .sge (addi (iota .tc ⟨2, ![2048, C]⟩ 32 [0] hi) (broadcast _ 4294967295#32)) (broadcast _ 0#32))
        (cmpi .slt (addi (iota .tc ⟨2, ![2048, C]⟩ 32 [0] hi) (broadcast _ 4294967295#32)) (broadcast _ 2048#32)) j = if (r0 j).val = 0 then 0#1 else 1#1 := by
    show IntOp.andi (IntOp.cmpi .sge (IntOp.addi (iota .tc ⟨2, ![2048, C]⟩ 32 [0] hi j) 4294967295#32) 0#32)
      (IntOp.cmpi .slt (IntOp.addi (iota .tc ⟨2, ![2048, C]⟩ 32 [0] hi j) 4294967295#32) 2048#32) = _
    rw [iota_single_apply]
    exact prev_mask (r0 j)
  rw [select_apply, hm]
  unfold Scalar.select prev
  by_cases h0 : (r0 j).val = 0
  · rw [if_pos h0, if_pos h0, if_neg (by decide : ¬(0#1 : BitVec 1) = 1)]
  · rw [if_neg h0, if_neg h0, if_pos (by decide : (1#1 : BitVec 1) = 1)]
    have hlt : (r0 j).val < 2048 := (r0 j).isLt
    refine dynamicRotate_apply 0 1#32 a hr j _ fun b => ?_
    match b with
    | ⟨0, _⟩ =>
      show (r0 j).val - 1 = ((r0 j).val + 2048 - 1 % 2048) % 2048
      omega
    | ⟨1, _⟩ => rfl

theorem next_up (hi) (hr) (a : (⟨2, ![2048, C]⟩ : Shape).Idx → ℝ) :
    select (andi (cmpi .sge (addi (iota .tc ⟨2, ![2048, C]⟩ 32 [0] hi) (broadcast _ 1#32)) (broadcast _ 0#32))
        (cmpi .slt (addi (iota .tc ⟨2, ![2048, C]⟩ 32 [0] hi) (broadcast _ 1#32)) (broadcast _ 2048#32)))
      (dynamicRotate 0 2047#32 none (up a) hr) (broadcast _ (Scalar.ofBits (F := Ideal) .f32 0x00000000#32))
      = up fun j => next (fun r => a (ix2 r (c1 j))) (r0 j) := by
  rw [splat_zero, rotate_up, select_up]
  congr 1
  funext j
  have hm : andi (cmpi .sge (addi (iota .tc ⟨2, ![2048, C]⟩ 32 [0] hi) (broadcast _ 1#32)) (broadcast _ 0#32))
        (cmpi .slt (addi (iota .tc ⟨2, ![2048, C]⟩ 32 [0] hi) (broadcast _ 1#32)) (broadcast _ 2048#32)) j = if (r0 j).val + 1 < 2048 then 1#1 else 0#1 := by
    show IntOp.andi (IntOp.cmpi .sge (IntOp.addi (iota .tc ⟨2, ![2048, C]⟩ 32 [0] hi j) 1#32) 0#32)
      (IntOp.cmpi .slt (IntOp.addi (iota .tc ⟨2, ![2048, C]⟩ 32 [0] hi j) 1#32) 2048#32) = _
    rw [iota_single_apply]
    exact next_mask (r0 j)
  rw [select_apply, hm]
  unfold Scalar.select next
  have hlt : (r0 j).val < 2048 := (r0 j).isLt
  by_cases h0 : (r0 j).val + 1 < 2048
  · rw [if_pos h0, dif_pos h0, if_pos (by decide : (1#1 : BitVec 1) = 1)]
    refine dynamicRotate_apply 0 2047#32 a hr j _ fun b => ?_
    match b with
    | ⟨0, _⟩ =>
      show (r0 j).val + 1 = ((r0 j).val + 2048 - 2047 % 2048) % 2048
      omega
    | ⟨1, _⟩ => rfl
  · rw [if_neg h0, dif_neg h0, if_neg (by decide : ¬(0#1 : BitVec 1) = 1)]

end Shift

end Cert.Lift

end
-- ==== Proof.Lift.Dots.lean ====
/- The matrix products and the sums over axes of real arrays, at an index. -/
module

public import proofs.«01_k».proof.Proof.Lift.Rows

@[expose] public section

noncomputable section

namespace Cert.Lift

open Idealize.ShloMosaic Idealize.ShloMosaic.ValueIdx

variable {M N K B S : Nat} {φ ψ : FTy}

theorem eq_dd {n₀ n₁ n₂ : Nat} (j : (⟨3, ![n₀, n₁, n₂]⟩ : Shape).Idx) : j = ix3 (d0 j) (d1 j) (d2 j) := eq_ix3' j

theorem matmul_nt (d : DotDims ⟨2, ![M, K]⟩ ⟨2, ![N, K]⟩ ⟨2, ![M, N]⟩) (h1 : d.lhsContracting = [1]) (h2 : d.rhsContracting = [1])
    (h3 : d.lhsNonContracting = [0]) (h4 : d.rhsNonContracting = [0]) (h5 : d.lhsBatch = []) (h6 : d.rhsBatch = []) (pr)
    (l : (⟨2, ![M, K]⟩ : Shape).Idx → ℝ) (r : (⟨2, ![N, K]⟩ : Shape).Idx → ℝ) (a : (⟨2, ![M, N]⟩ : Shape).Idx → ℝ) :
    matmul (F := Ideal) (φ₁ := φ) (φ₂ := ψ) d pr (up l) (up r) (up a)
      = up fun j => a j + ∑ k : Fin K, l (ix2 (r0 j) k) * r (ix2 (c1 j) k) := by
  rw [matmul_up]
  congr 1
  funext j
  congr 1
  rw [eq_rc j]
  exact dot_nt d h1 h2 h3 h4 h5 h6 l r _ _

theorem host_nt (d : DotDims ⟨2, ![M, K]⟩ ⟨2, ![N, K]⟩ ⟨2, ![M, N]⟩) (h1 : d.lhsContracting = [1]) (h2 : d.rhsContracting = [1])
    (h3 : d.lhsNonContracting = [0]) (h4 : d.rhsNonContracting = [0]) (h5 : d.lhsBatch = []) (h6 : d.rhsBatch = []) (pr)
    (l : (⟨2, ![M, K]⟩ : Shape).Idx → ℝ) (r : (⟨2, ![N, K]⟩ : Shape).Idx → ℝ) :
    Host.dotGeneral (F := Ideal) (φ₁ := φ) (φ₂ := ψ) d pr (up l) (up r)
      = up fun j => ∑ k : Fin K, l (ix2 (r0 j) k) * r (ix2 (c1 j) k) := by
  rw [dotGeneral_up]
  congr 1
  funext j
  rw [eq_rc j]
  exact dot_nt d h1 h2 h3 h4 h5 h6 l r _ _

theorem matmul_nn (d : DotDims ⟨2, ![M, K]⟩ ⟨2, ![K, N]⟩ ⟨2, ![M, N]⟩) (h1 : d.lhsContracting = [1]) (h2 : d.rhsContracting = [0])
    (h3 : d.lhsNonContracting = [0]) (h4 : d.rhsNonContracting = [1]) (h5 : d.lhsBatch = []) (h6 : d.rhsBatch = []) (pr)
    (l : (⟨2, ![M, K]⟩ : Shape).Idx → ℝ) (r : (⟨2, ![K, N]⟩ : Shape).Idx → ℝ) (a : (⟨2, ![M, N]⟩ : Shape).Idx → ℝ) :
    matmul (F := Ideal) (φ₁ := φ) (φ₂ := ψ) d pr (up l) (up r) (up a)
      = up fun j => a j + ∑ k : Fin K, l (ix2 (r0 j) k) * r (ix2 k (c1 j)) := by
  rw [matmul_up]
  congr 1
  funext j
  congr 1
  rw [eq_rc j]
  exact dot_nn d h1 h2 h3 h4 h5 h6 l r _ _

theorem host_nn (d : DotDims ⟨2, ![M, K]⟩ ⟨2, ![K, N]⟩ ⟨2, ![M, N]⟩) (h1 : d.lhsContracting = [1]) (h2 : d.rhsContracting = [0])
    (h3 : d.lhsNonContracting = [0]) (h4 : d.rhsNonContracting = [1]) (h5 : d.lhsBatch = []) (h6 : d.rhsBatch = []) (pr)
    (l : (⟨2, ![M, K]⟩ : Shape).Idx → ℝ) (r : (⟨2, ![K, N]⟩ : Shape).Idx → ℝ) :
    Host.dotGeneral (F := Ideal) (φ₁ := φ) (φ₂ := ψ) d pr (up l) (up r)
      = up fun j => ∑ k : Fin K, l (ix2 (r0 j) k) * r (ix2 k (c1 j)) := by
  rw [dotGeneral_up]
  congr 1
  funext j
  rw [eq_rc j]
  exact dot_nn d h1 h2 h3 h4 h5 h6 l r _ _

theorem matmul_tn (d : DotDims ⟨2, ![K, M]⟩ ⟨2, ![K, N]⟩ ⟨2, ![M, N]⟩) (h1 : d.lhsContracting = [0]) (h2 : d.rhsContracting = [0])
    (h3 : d.lhsNonContracting = [1]) (h4 : d.rhsNonContracting = [1]) (h5 : d.lhsBatch = []) (h6 : d.rhsBatch = []) (pr)
    (l : (⟨2, ![K, M]⟩ : Shape).Idx → ℝ) (r : (⟨2, ![K, N]⟩ : Shape).Idx → ℝ) (a : (⟨2, ![M, N]⟩ : Shape).Idx → ℝ) :
    matmul (F := Ideal) (φ₁ := φ) (φ₂ := ψ) d pr (up l) (up r) (up a)
      = up fun j => a j + ∑ k : Fin K, l (ix2 k (r0 j)) * r (ix2 k (c1 j)) := by
  rw [matmul_up]
  congr 1
  funext j
  congr 1
  rw [eq_rc j]
  exact dot_tn d h1 h2 h3 h4 h5 h6 l r _ _

theorem host_tn (d : DotDims ⟨2, ![K, M]⟩ ⟨2, ![K, N]⟩ ⟨2, ![M, N]⟩) (h1 : d.lhsContracting = [0]) (h2 : d.rhsContracting = [0])
    (h3 : d.lhsNonContracting = [1]) (h4 : d.rhsNonContracting = [1]) (h5 : d.lhsBatch = []) (h6 : d.rhsBatch = []) (pr)
    (l : (⟨2, ![K, M]⟩ : Shape).Idx → ℝ) (r : (⟨2, ![K, N]⟩ : Shape).Idx → ℝ) :
    Host.dotGeneral (F := Ideal) (φ₁ := φ) (φ₂ := ψ) d pr (up l) (up r)
      = up fun j => ∑ k : Fin K, l (ix2 k (r0 j)) * r (ix2 k (c1 j)) := by
  rw [dotGeneral_up]
  congr 1
  funext j
  rw [eq_rc j]
  exact dot_tn d h1 h2 h3 h4 h5 h6 l r _ _

theorem host_3nt (d : DotDims ⟨3, ![B, S, K]⟩ ⟨2, ![N, K]⟩ ⟨3, ![B, S, N]⟩) (h1 : d.lhsContracting = [2]) (h2 : d.rhsContracting = [1])
    (h3 : d.lhsNonContracting = [0, 1]) (h4 : d.rhsNonContracting = [0]) (h5 : d.lhsBatch = []) (h6 : d.rhsBatch = []) (pr)
    (l : (⟨3, ![B, S, K]⟩ : Shape).Idx → ℝ) (r : (⟨2, ![N, K]⟩ : Shape).Idx → ℝ) :
    Host.dotGeneral (F := Ideal) (φ₁ := φ) (φ₂ := ψ) d pr (up l) (up r)
      = up fun j => ∑ k : Fin K, l (ix3 (d0 j) (d1 j) k) * r (ix2 (d2 j) k) := by
  rw [dotGeneral_up]
  congr 1
  funext j
  rw [eq_dd j]
  exact dot3_nt d h1 h2 h3 h4 h5 h6 l r _ _ _

theorem host_3nn (d : DotDims ⟨3, ![B, S, K]⟩ ⟨2, ![K, N]⟩ ⟨3, ![B, S, N]⟩) (h1 : d.lhsContracting = [2]) (h2 : d.rhsContracting = [0])
    (h3 : d.lhsNonContracting = [0, 1]) (h4 : d.rhsNonContracting = [1]) (h5 : d.lhsBatch = []) (h6 : d.rhsBatch = []) (pr)
    (l : (⟨3, ![B, S, K]⟩ : Shape).Idx → ℝ) (r : (⟨2, ![K, N]⟩ : Shape).Idx → ℝ) :
    Host.dotGeneral (F := Ideal) (φ₁ := φ) (φ₂ := ψ) d pr (up l) (up r)
      = up fun j => ∑ k : Fin K, l (ix3 (d0 j) (d1 j) k) * r (ix2 k (d2 j)) := by
  rw [dotGeneral_up]
  congr 1
  funext j
  rw [eq_dd j]
  exact dot3_nn d h1 h2 h3 h4 h5 h6 l r _ _ _

theorem host_3tn (d : DotDims ⟨3, ![B, S, M]⟩ ⟨3, ![B, S, N]⟩ ⟨2, ![M, N]⟩) (h1 : d.lhsContracting = [0, 1]) (h2 : d.rhsContracting = [0, 1])
    (h3 : d.lhsNonContracting = [2]) (h4 : d.rhsNonContracting = [2]) (h5 : d.lhsBatch = []) (h6 : d.rhsBatch = []) (pr)
    (l : (⟨3, ![B, S, M]⟩ : Shape).Idx → ℝ) (r : (⟨3, ![B, S, N]⟩ : Shape).Idx → ℝ) :
    Host.dotGeneral (F := Ideal) (φ₁ := φ) (φ₂ := ψ) d pr (up l) (up r)
      = up fun j => ∑ p : Fin B, ∑ q : Fin S, l (ix3 p q (r0 j)) * r (ix3 p q (c1 j)) := by
  rw [dotGeneral_up]
  congr 1
  funext j
  rw [eq_rc j]
  exact dot3_tn d h1 h2 h3 h4 h5 h6 l r _ _

theorem rows_up {R C : Nat} (a : (⟨2, ![R, C]⟩ : Shape).Idx → ℝ) (acc : BitVec φ.bits) (h) (h1) (h2) :
    multiReduction (F := Ideal) (φ := φ) .add [0] ⟨1, ![C]⟩ (up a) acc h h1 h2 = up fun j => ∑ r : Fin R, a (ix2 r (v0 j)) := by
  rw [multiReduction_up]
  congr 1
  funext j
  exact sum_rows h a j

theorem cols_up {R C : Nat} (a : (⟨2, ![R, C]⟩ : Shape).Idx → ℝ) (acc : BitVec φ.bits) (h) (h1) (h2) :
    multiReduction (F := Ideal) (φ := φ) .add [1] ⟨1, ![R]⟩ (up a) acc h h1 h2 = up fun j => ∑ k : Fin C, a (ix2 (v0 j) k) := by
  rw [multiReduction_up]
  congr 1
  funext j
  exact sum_cols h a j

theorem host_rows3_up {R C : Nat} {u : Shape} (a : (⟨3, ![B, R, C]⟩ : Shape).Idx → ℝ) (z : u.Idx → ℝ) (h) (hu : 0 < u.numel) :
    Host.reduceAdd (F := Ideal) (φ := φ) (axes := [0, 1]) (t := ⟨1, ![C]⟩) (up a) (up z) h hu
      = up fun j => z (Shape.Idx.first hu) + ∑ p : Fin B, ∑ r : Fin R, a (ix3 p r (v0 j)) := by
  rw [hostReduceAdd_up]
  congr 1
  funext j
  rw [host_sum_rows3 h a j]

theorem host_last3_up {R C : Nat} {u : Shape} (a : (⟨3, ![B, R, C]⟩ : Shape).Idx → ℝ) (z : u.Idx → ℝ) (h) (hu : 0 < u.numel) :
    Host.reduceAdd (F := Ideal) (φ := φ) (axes := [2]) (t := ⟨2, ![B, R]⟩) (up a) (up z) h hu
      = up fun j => z (Shape.Idx.first hu) + ∑ k : Fin C, a (ix3 (r0 j) (c1 j) k) := by
  rw [hostReduceAdd_up]
  congr 1
  funext j
  rw [host_sum_last3 h a j]

theorem rowTo_up {R C : Nat} (a : (⟨2, ![1, C]⟩ : Shape).Idx → ℝ) (h) :
    broadcastTo ⟨2, ![R, C]⟩ (up a) h = up fun j => a (ix2 0 (c1 j)) := by
  funext j
  exact rowTo_apply (up a) h j

theorem asRow_up {C : Nat} (a : (⟨1, ![C]⟩ : Shape).Idx → ℝ) (h) :
    shapeCast ⟨2, ![1, C]⟩ (up a) h = up fun j => a (ix1 (c1 j)) := by
  funext j
  exact asRow_apply (up a) h j

theorem row_up {R C : Nat} (q : Nat) (hq : q < R) (a : (⟨2, ![R, C]⟩ : Shape).Idx → ℝ) (h) :
    extractStridedSlice ⟨2, ![1, C]⟩ ![q, 0] (up a) h = up fun j => a (ix2 ⟨q, hq⟩ (c1 j)) := by
  funext j
  exact row_apply q hq (up a) h j

theorem self_up {s : Shape} (a : s.Idx → ℝ) (h) : shapeCast s (up a) h = up a := shapeCast_self _ _

@[simp] theorem r0_ix2 {n₀ n₁ : Nat} (a : Fin n₀) (b : Fin n₁) : r0 (ix2 a b) = a := rfl
@[simp] theorem c1_ix2 {n₀ n₁ : Nat} (a : Fin n₀) (b : Fin n₁) : c1 (ix2 a b) = b := rfl
@[simp] theorem v0_ix1 {n₀ : Nat} (a : Fin n₀) : v0 (ix1 a) = a := rfl
@[simp] theorem d0_ix3 {n₀ n₁ n₂ : Nat} (a : Fin n₀) (b : Fin n₁) (c : Fin n₂) : d0 (ix3 a b c) = a := rfl
@[simp] theorem d1_ix3 {n₀ n₁ n₂ : Nat} (a : Fin n₀) (b : Fin n₁) (c : Fin n₂) : d1 (ix3 a b c) = b := rfl
@[simp] theorem d2_ix3 {n₀ n₁ n₂ : Nat} (a : Fin n₀) (b : Fin n₁) (c : Fin n₂) : d2 (ix3 a b c) = c := rfl

end Cert.Lift

end
-- ==== Proof.Lift.Place.lean ====
/- Where an index of a block lies in the array the block is cut from. -/
module

public import proofs.«01_k».proof.Proof.Lift.Sums

@[expose] public section

noncomputable section

namespace Cert.Lift

open Idealize.ShloMosaic Idealize.ShloMosaic.ValueIdx

/-- The index `e` of the array is that of the block's `y`, the block being the one at row `p` and column `q` of blocks. -/
theorem place {A B TA TB : Nat} [NeZero A] [NeZero B] (e : (⟨2, ![A, B]⟩ : Shape).Idx) (y : (⟨2, ![TA, TB]⟩ : Shape).Idx) (p q i j : Nat) (hi : i = p) (hj : j = q)
    (hp : p * TA + TA ≤ A) (hq : q * TB + TB ≤ B) (e0 : (e 0 : Nat) = i * TA + 1 * (r0 y).val) (e1 : (e 1 : Nat) = j * TB + 1 * (c1 y).val) :
    e = ix2 (Fin.ofNat A (p * TA + (r0 y).val)) (Fin.ofNat B (q * TB + (c1 y).val)) := by
  subst hi hj
  have hr : (r0 y).val < TA := (y 0).isLt
  have hc : (c1 y).val < TB := (y 1).isLt
  refine funext fun d => Fin.ext ?_
  match d with
  | ⟨0, _⟩ =>
    show (e 0 : Nat) = (i * TA + (r0 y).val) % A
    rw [Nat.mod_eq_of_lt (by omega)]; omega
  | ⟨1, _⟩ =>
    show (e 1 : Nat) = (j * TB + (c1 y).val) % B
    rw [Nat.mod_eq_of_lt (by omega)]; omega

/-- What holds of both axes. -/
theorem both {P : Fin 2 → Prop} (h0 : P 0) (h1 : P 1) : ∀ a, P a := Fin.forall_fin_two.mpr ⟨h0, h1⟩

theorem within {k x T : Nat} (q : Nat) (h : k = q) (h' : q * T ≤ x ∧ x < q * T + T) : k * T ≤ x ∧ x < k * T + T := h ▸ h'

end Cert.Lift

end
-- ==== Proof.Act.Geometry.lean ====
/- Where the blocks of the grid lie: what a point reads of each array, and that the written blocks fill the results. -/
module

public import proofs.«01_k».proof.Proof.Gen.KernelIdeal.Value
public import proofs.«01_k».proof.Proof.Lift.Dots
public import proofs.«01_k».proof.Proof.Lift.Place

@[expose] public section

noncomputable section

namespace Cert.Act

open Cert.KernelIdeal Cert.KernelIdeal.Gen Idealize.ShloMosaic Idealize.ShloMosaic.TcCoe Idealize.SL.Sem Cert.Lift Idealize.ShloMosaic.ValueIdx
open Idealize.ShloMosaic.Pipeline (Dat)

variable (m : (ℓ : Loc nD τ sig) → Buf (Elt Ideal) ℓ) (c : Dev nD)

theorem hN : cfg0.N = 44 := N_0

/-! ### The input blocks -/

theorem idx0_0 : ∀ t : Fin cfg0.N, win0_0.index t 0 = t.val % 4 := by decide +kernel
theorem idx0_1 : ∀ t : Fin cfg0.N, win0_0.index t 1 = 0 := by decide +kernel
theorem rd0 (t : Fin cfg0.N) (a : S8192x1024.Idx → ℝ) (h : (V m c main_v1 : S8192x1024.Idx → EReal) = up a) :
    (iblk m c 0 t : S2048x1024.Idx → EReal) = up fun y => a (ix2 (Fin.ofNat 8192 (t.val % 4 * 2048 + (r0 y).val)) (Fin.ofNat 1024 (0 * 1024 + (c1 y).val))) := by
  have ht : t.val < 44 := hN ▸ t.isLt
  funext y
  unfold iblk
  rw [View.read_apply]
  exact (congrFun h _).trans (congrArg (fun z => ((a z : ℝ) : EReal)) (place _ y _ _ _ _ (idx0_0 t) (idx0_1 t) (by omega) (by omega) rfl rfl))

theorem idx1_0 : ∀ t : Fin cfg0.N, win0_1.index t 0 = t.val / 4 := by decide +kernel
theorem idx1_1 : ∀ t : Fin cfg0.N, win0_1.index t 1 = 0 := by decide +kernel
theorem rd1 (t : Fin cfg0.N) (a : S2816x1024.Idx → ℝ) (h : (V m c main_v2 : S2816x1024.Idx → EReal) = up a) :
    (iblk m c 1 t : S256x1024.Idx → EReal) = up fun y => a (ix2 (Fin.ofNat 2816 (t.val / 4 * 256 + (r0 y).val)) (Fin.ofNat 1024 (0 * 1024 + (c1 y).val))) := by
  have ht : t.val < 44 := hN ▸ t.isLt
  funext y
  unfold iblk
  rw [View.read_apply]
  exact (congrFun h _).trans (congrArg (fun z => ((a z : ℝ) : EReal)) (place _ y _ _ _ _ (idx1_0 t) (idx1_1 t) (by omega) (by omega) rfl rfl))

theorem idx2_0 : ∀ t : Fin cfg0.N, win0_2.index t 0 = t.val % 4 := by decide +kernel
theorem idx2_1 : ∀ t : Fin cfg0.N, win0_2.index t 1 = t.val / 4 := by decide +kernel
theorem rd2 (t : Fin cfg0.N) (a : S8192x2816.Idx → ℝ) (h : (V m c main_v3 : S8192x2816.Idx → EReal) = up a) :
    (iblk m c 2 t : S2048x256.Idx → EReal) = up fun y => a (ix2 (Fin.ofNat 8192 (t.val % 4 * 2048 + (r0 y).val)) (Fin.ofNat 2816 (t.val / 4 * 256 + (c1 y).val))) := by
  have ht : t.val < 44 := hN ▸ t.isLt
  funext y
  unfold iblk
  rw [View.read_apply]
  exact (congrFun h _).trans (congrArg (fun z => ((a z : ℝ) : EReal)) (place _ y _ _ _ _ (idx2_0 t) (idx2_1 t) (by omega) (by omega) rfl rfl))

theorem idx3_0 : ∀ t : Fin cfg0.N, win0_3.index t 0 = t.val % 4 := by decide +kernel
theorem idx3_1 : ∀ t : Fin cfg0.N, win0_3.index t 1 = t.val / 4 := by decide +kernel
theorem rd3 (t : Fin cfg0.N) (a : S8192x2816.Idx → ℝ) (h : (V m c main_v4 : S8192x2816.Idx → EReal) = up a) :
    (iblk m c 3 t : S2048x256.Idx → EReal) = up fun y => a (ix2 (Fin.ofNat 8192 (t.val % 4 * 2048 + (r0 y).val)) (Fin.ofNat 2816 (t.val / 4 * 256 + (c1 y).val))) := by
  have ht : t.val < 44 := hN ▸ t.isLt
  funext y
  unfold iblk
  rw [View.read_apply]
  exact (congrFun h _).trans (congrArg (fun z => ((a z : ℝ) : EReal)) (place _ y _ _ _ _ (idx3_0 t) (idx3_1 t) (by omega) (by omega) rfl rfl))

theorem idx4_0 : ∀ t : Fin cfg0.N, win0_4.index t 0 = 0 := by decide +kernel
theorem idx4_1 : ∀ t : Fin cfg0.N, win0_4.index t 1 = t.val / 4 := by decide +kernel
theorem rd4 (t : Fin cfg0.N) (a : S3x2816.Idx → ℝ) (h : (V m c main_arg4 : S3x2816.Idx → EReal) = up a) :
    (iblk m c 4 t : S3x256.Idx → EReal) = up fun y => a (ix2 (Fin.ofNat 3 (0 * 3 + (r0 y).val)) (Fin.ofNat 2816 (t.val / 4 * 256 + (c1 y).val))) := by
  have ht : t.val < 44 := hN ▸ t.isLt
  funext y
  unfold iblk
  rw [View.read_apply]
  exact (congrFun h _).trans (congrArg (fun z => ((a z : ℝ) : EReal)) (place _ y _ _ _ _ (idx4_0 t) (idx4_1 t) (by omega) (by omega) rfl rfl))

theorem idx5_0 : ∀ t : Fin cfg0.N, win0_5.index t 0 = 0 := by decide +kernel
theorem idx5_1 : ∀ t : Fin cfg0.N, win0_5.index t 1 = t.val / 4 := by decide +kernel
theorem rd5 (t : Fin cfg0.N) (a : S1x2816.Idx → ℝ) (h : (V m c main_v5 : S1x2816.Idx → EReal) = up a) :
    (iblk m c 5 t : S1x256.Idx → EReal) = up fun y => a (ix2 (Fin.ofNat 1 (0 * 1 + (r0 y).val)) (Fin.ofNat 2816 (t.val / 4 * 256 + (c1 y).val))) := by
  have ht : t.val < 44 := hN ▸ t.isLt
  funext y
  unfold iblk
  rw [View.read_apply]
  exact (congrFun h _).trans (congrArg (fun z => ((a z : ℝ) : EReal)) (place _ y _ _ _ _ (idx5_0 t) (idx5_1 t) (by omega) (by omega) rfl rfl))

/-! ### The output arrays -/

theorem idx6_0 : ∀ t : Fin cfg0.N, win0_6.index t 0 = t.val % 4 := by decide +kernel
theorem idx6_1 : ∀ t : Fin cfg0.N, win0_6.index t 1 = t.val / 4 := by decide +kernel
theorem arr6 (p : Fin cfg0.N → S2048x256.Idx → ℝ) (G : S8192x2816.Idx → ℝ)
    (hp : ∀ t, (cfg0.win 6).flush t = true → ((dats m 0 c).after 6 t : S2048x256.Idx → EReal) = up (p t))
    (hG : ∀ t, (cfg0.win 6).flush t = true → ∀ y, p t y = G (ix2 (Fin.ofNat 8192 (t.val % 4 * 2048 + (r0 y).val)) (Fin.ofNat 2816 (t.val / 4 * 256 + (c1 y).val)))) :
    ((dats m 0 c).arrAt 6 cfg0.N : S8192x2816.Idx → EReal) = up G := by
  refine (dats m 0 c).arrAt_eq_of_cover 6 (up G : S8192x2816.Idx → EReal) (fun t hf => ?_) fun i => ?_
  · have ht : t.val < 44 := hN ▸ t.isLt
    refine funext fun (y : S2048x256.Idx) => ?_
    refine (congrFun (hp t hf) y).trans ?_
    rw [View.read_apply]
    exact (congrArg (fun z : ℝ => (z : EReal)) (hG t hf y)).trans (congrArg (fun z => ((G z : ℝ) : EReal)) (place _ y _ _ _ _ (idx6_0 t) (idx6_1 t) (by omega) (by omega) rfl rfl).symm)
  · have h0 : (i 0 : Nat) < 8192 := (i 0).isLt
    have h1 : (i 1 : Nat) < 2816 := (i 1).isLt
    have hlt : 4 * ((i 1 : Nat) / 256) + (i 0 : Nat) / 2048 < cfg0.N := by rw [hN]; omega
    refine ⟨⟨4 * ((i 1 : Nat) / 256) + (i 0 : Nat) / 2048, hlt⟩, flush0_6 ⟨_, hlt⟩, ?_⟩
    show i ∈ ((View.whole main_v6_0).slice (win0_6.rect ⟨4 * ((i 1 : Nat) / 256) + (i 0 : Nat) / 2048, hlt⟩)).set
    rw [View.set_slice_whole, Rect.mem_set_unit]
    exact both (within (T := 2048) ((4 * ((i 1 : Nat) / 256) + (i 0 : Nat) / 2048) % 4) (idx6_0 _) (by omega)) (within (T := 256) ((4 * ((i 1 : Nat) / 256) + (i 0 : Nat) / 2048) / 4) (idx6_1 _) (by omega))

theorem idx7_0 : ∀ t : Fin cfg0.N, win0_7.index t 0 = t.val % 4 := by decide +kernel
theorem idx7_1 : ∀ t : Fin cfg0.N, win0_7.index t 1 = t.val / 4 := by decide +kernel
theorem arr7 (p : Fin cfg0.N → S2048x256.Idx → ℝ) (G : S8192x2816.Idx → ℝ)
    (hp : ∀ t, (cfg0.win 7).flush t = true → ((dats m 0 c).after 7 t : S2048x256.Idx → EReal) = up (p t))
    (hG : ∀ t, (cfg0.win 7).flush t = true → ∀ y, p t y = G (ix2 (Fin.ofNat 8192 (t.val % 4 * 2048 + (r0 y).val)) (Fin.ofNat 2816 (t.val / 4 * 256 + (c1 y).val)))) :
    ((dats m 0 c).arrAt 7 cfg0.N : S8192x2816.Idx → EReal) = up G := by
  refine (dats m 0 c).arrAt_eq_of_cover 7 (up G : S8192x2816.Idx → EReal) (fun t hf => ?_) fun i => ?_
  · have ht : t.val < 44 := hN ▸ t.isLt
    refine funext fun (y : S2048x256.Idx) => ?_
    refine (congrFun (hp t hf) y).trans ?_
    rw [View.read_apply]
    exact (congrArg (fun z : ℝ => (z : EReal)) (hG t hf y)).trans (congrArg (fun z => ((G z : ℝ) : EReal)) (place _ y _ _ _ _ (idx7_0 t) (idx7_1 t) (by omega) (by omega) rfl rfl).symm)
  · have h0 : (i 0 : Nat) < 8192 := (i 0).isLt
    have h1 : (i 1 : Nat) < 2816 := (i 1).isLt
    have hlt : 4 * ((i 1 : Nat) / 256) + (i 0 : Nat) / 2048 < cfg0.N := by rw [hN]; omega
    refine ⟨⟨4 * ((i 1 : Nat) / 256) + (i 0 : Nat) / 2048, hlt⟩, flush0_7 ⟨_, hlt⟩, ?_⟩
    show i ∈ ((View.whole main_v6_1).slice (win0_7.rect ⟨4 * ((i 1 : Nat) / 256) + (i 0 : Nat) / 2048, hlt⟩)).set
    rw [View.set_slice_whole, Rect.mem_set_unit]
    exact both (within (T := 2048) ((4 * ((i 1 : Nat) / 256) + (i 0 : Nat) / 2048) % 4) (idx7_0 _) (by omega)) (within (T := 256) ((4 * ((i 1 : Nat) / 256) + (i 0 : Nat) / 2048) / 4) (idx7_1 _) (by omega))

theorem idx8_0 : ∀ t : Fin cfg0.N, win0_8.index t 0 = t.val / 4 := by decide +kernel
theorem idx8_1 : ∀ t : Fin cfg0.N, win0_8.index t 1 = 0 := by decide +kernel
theorem arr8 (p : Fin cfg0.N → S256x1024.Idx → ℝ) (G : S2816x1024.Idx → ℝ)
    (hp : ∀ t, (cfg0.win 8).flush t = true → ((dats m 0 c).after 8 t : S256x1024.Idx → EReal) = up (p t))
    (hG : ∀ t, (cfg0.win 8).flush t = true → ∀ y, p t y = G (ix2 (Fin.ofNat 2816 (t.val / 4 * 256 + (r0 y).val)) (Fin.ofNat 1024 (0 * 1024 + (c1 y).val)))) :
    ((dats m 0 c).arrAt 8 cfg0.N : S2816x1024.Idx → EReal) = up G := by
  refine (dats m 0 c).arrAt_eq_of_cover 8 (up G : S2816x1024.Idx → EReal) (fun t hf => ?_) fun i => ?_
  · have ht : t.val < 44 := hN ▸ t.isLt
    refine funext fun (y : S256x1024.Idx) => ?_
    refine (congrFun (hp t hf) y).trans ?_
    rw [View.read_apply]
    exact (congrArg (fun z : ℝ => (z : EReal)) (hG t hf y)).trans (congrArg (fun z => ((G z : ℝ) : EReal)) (place _ y _ _ _ _ (idx8_0 t) (idx8_1 t) (by omega) (by omega) rfl rfl).symm)
  · have h0 : (i 0 : Nat) < 2816 := (i 0).isLt
    have h1 : (i 1 : Nat) < 1024 := (i 1).isLt
    have hlt : 4 * ((i 0 : Nat) / 256) + 3 < cfg0.N := by rw [hN]; omega
    refine ⟨⟨4 * ((i 0 : Nat) / 256) + 3, hlt⟩, (flush0_8 ⟨_, hlt⟩).mpr (by show (4 * ((i 0 : Nat) / 256) + 3) % 4 = 3; omega), ?_⟩
    show i ∈ ((View.whole main_v6_2).slice (win0_8.rect ⟨4 * ((i 0 : Nat) / 256) + 3, hlt⟩)).set
    rw [View.set_slice_whole, Rect.mem_set_unit]
    exact both (within (T := 256) ((4 * ((i 0 : Nat) / 256) + 3) / 4) (idx8_0 _) (by omega)) (within (T := 1024) (0) (idx8_1 _) (by omega))

theorem idx9_0 : ∀ t : Fin cfg0.N, win0_9.index t 0 = 0 := by decide +kernel
theorem idx9_1 : ∀ t : Fin cfg0.N, win0_9.index t 1 = t.val / 4 := by decide +kernel
theorem arr9 (p : Fin cfg0.N → S3x256.Idx → ℝ) (G : S3x2816.Idx → ℝ)
    (hp : ∀ t, (cfg0.win 9).flush t = true → ((dats m 0 c).after 9 t : S3x256.Idx → EReal) = up (p t))
    (hG : ∀ t, (cfg0.win 9).flush t = true → ∀ y, p t y = G (ix2 (Fin.ofNat 3 (0 * 3 + (r0 y).val)) (Fin.ofNat 2816 (t.val / 4 * 256 + (c1 y).val)))) :
    ((dats m 0 c).arrAt 9 cfg0.N : S3x2816.Idx → EReal) = up G := by
  refine (dats m 0 c).arrAt_eq_of_cover 9 (up G : S3x2816.Idx → EReal) (fun t hf => ?_) fun i => ?_
  · have ht : t.val < 44 := hN ▸ t.isLt
    refine funext fun (y : S3x256.Idx) => ?_
    refine (congrFun (hp t hf) y).trans ?_
    rw [View.read_apply]
    exact (congrArg (fun z : ℝ => (z : EReal)) (hG t hf y)).trans (congrArg (fun z => ((G z : ℝ) : EReal)) (place _ y _ _ _ _ (idx9_0 t) (idx9_1 t) (by omega) (by omega) rfl rfl).symm)
  · have h0 : (i 0 : Nat) < 3 := (i 0).isLt
    have h1 : (i 1 : Nat) < 2816 := (i 1).isLt
    have hlt : 4 * ((i 1 : Nat) / 256) + 3 < cfg0.N := by rw [hN]; omega
    refine ⟨⟨4 * ((i 1 : Nat) / 256) + 3, hlt⟩, (flush0_9 ⟨_, hlt⟩).mpr (by show (4 * ((i 1 : Nat) / 256) + 3) % 4 = 3; omega), ?_⟩
    show i ∈ ((View.whole main_v6_3).slice (win0_9.rect ⟨4 * ((i 1 : Nat) / 256) + 3, hlt⟩)).set
    rw [View.set_slice_whole, Rect.mem_set_unit]
    exact both (within (T := 3) (0) (idx9_0 _) (by omega)) (within (T := 256) ((4 * ((i 1 : Nat) / 256) + 3) / 4) (idx9_1 _) (by omega))

theorem idx10_0 : ∀ t : Fin cfg0.N, win0_10.index t 0 = 0 := by decide +kernel
theorem idx10_1 : ∀ t : Fin cfg0.N, win0_10.index t 1 = t.val / 4 := by decide +kernel
theorem arr10 (p : Fin cfg0.N → S1x256.Idx → ℝ) (G : S1x2816.Idx → ℝ)
    (hp : ∀ t, (cfg0.win 10).flush t = true → ((dats m 0 c).after 10 t : S1x256.Idx → EReal) = up (p t))
    (hG : ∀ t, (cfg0.win 10).flush t = true → ∀ y, p t y = G (ix2 (Fin.ofNat 1 (0 * 1 + (r0 y).val)) (Fin.ofNat 2816 (t.val / 4 * 256 + (c1 y).val)))) :
    ((dats m 0 c).arrAt 10 cfg0.N : S1x2816.Idx → EReal) = up G := by
  refine (dats m 0 c).arrAt_eq_of_cover 10 (up G : S1x2816.Idx → EReal) (fun t hf => ?_) fun i => ?_
  · have ht : t.val < 44 := hN ▸ t.isLt
    refine funext fun (y : S1x256.Idx) => ?_
    refine (congrFun (hp t hf) y).trans ?_
    rw [View.read_apply]
    exact (congrArg (fun z : ℝ => (z : EReal)) (hG t hf y)).trans (congrArg (fun z => ((G z : ℝ) : EReal)) (place _ y _ _ _ _ (idx10_0 t) (idx10_1 t) (by omega) (by omega) rfl rfl).symm)
  · have h0 : (i 0 : Nat) < 1 := (i 0).isLt
    have h1 : (i 1 : Nat) < 2816 := (i 1).isLt
    have hlt : 4 * ((i 1 : Nat) / 256) + 3 < cfg0.N := by rw [hN]; omega
    refine ⟨⟨4 * ((i 1 : Nat) / 256) + 3, hlt⟩, (flush0_10 ⟨_, hlt⟩).mpr (by show (4 * ((i 1 : Nat) / 256) + 3) % 4 = 3; omega), ?_⟩
    show i ∈ ((View.whole main_v6_4).slice (win0_10.rect ⟨4 * ((i 1 : Nat) / 256) + 3, hlt⟩)).set
    rw [View.set_slice_whole, Rect.mem_set_unit]
    exact both (within (T := 1) (0) (idx10_0 _) (by omega)) (within (T := 256) ((4 * ((i 1 : Nat) / 256) + 3) / 4) (idx10_1 _) (by omega))

end Cert.Act

end
-- ==== Proof.Act.Spec.lean ====
/- The backward pass of the gated activation, on one column of one batch row: real numbers only.
   A column of the sequence is a function of the place; the convolution reads three neighbouring places. -/
module

public import proofs.«01_k».proof.Proof.Lift.Dots

@[expose] public section

noncomputable section

namespace Cert.Act

open Cert.Lift

/-- The convolution of three places with its bias: the gate. -/
def gate {n : Nat} (g : Fin n → ℝ) (w0 w1 w2 b : ℝ) (r : Fin n) : ℝ :=
  prev g r * w0 + g r * w1 + next g r * w2 + b

/-- The hyperbolic tangent inside the activation. -/
def th (x : ℝ) : ℝ := Real.tanh (13386282 / 16777216 * (x + 8943 / 200000 * x * x * x))
/-- The activation. -/
def gel (x : ℝ) : ℝ := 1 / 2 * x * (1 + th x)
/-- Its derivative. -/
def dgel (x : ℝ) : ℝ :=
  1 / 2 * (1 + th x) + 1 / 2 * x * (1 - th x * th x) * (13386282 / 16777216) * (1 + 26829 / 200000 * x * x)

/-- The gate's gradient, from the gradient `d` of the product's first factor and the second factor `u`. -/
def dgate {n : Nat} (d u g : Fin n → ℝ) (w0 w1 w2 b : ℝ) (r : Fin n) : ℝ := d r * u r * dgel (gate g w0 w1 w2 b r)

/-- The gradient of the convolution's argument. -/
def dx {n : Nat} (e : Fin n → ℝ) (w0 w1 w2 : ℝ) (r : Fin n) : ℝ := next e r * w0 + e r * w1 + prev e r * w2

end Cert.Act

end
-- ==== Proof.Act.Block.lean ====
/- What one grid point computes from real blocks: the payloads of the kernel's body, as real arrays. -/
module

public import proofs.«01_k».proof.Proof.Gen.KernelIdeal.Skeleton
public import proofs.«01_k».proof.Proof.Act.Spec
public import Idealize.ShloMosaic.Lib.Pipeline.ReadBack
public import Idealize.ShloMosaic.Lib.Pipeline.ValueKit.Geometry

@[expose] public section

noncomputable section

namespace Cert.Act

open Cert.KernelIdeal Cert.KernelIdeal.Gen Cert.Lift Idealize.ShloMosaic Idealize.ShloMosaic.ValueIdx

theorem cubic {s : Shape} : broadcast s (Named.named (F := Ideal) (φ := .f32) κ "gelu_cubic" 0x3D372713#32) = up fun _ => (8943 / 200000 : ℝ) := by
  rw [IdealRules.named_const.ideal_named_scalar κ "gelu_cubic" (φ := .f32) _ _ rfl]; rfl
theorem cubic3 {s : Shape} : broadcast s (Named.named (F := Ideal) (φ := .f32) κ "gelu_cubic3" 0x3E095D4F#32) = up fun _ => (26829 / 200000 : ℝ) := by
  rw [IdealRules.named_const.ideal_named_scalar κ "gelu_cubic3" (φ := .f32) _ _ rfl]; rfl

theorem rows256 (a : S2048x256.Idx → ℝ) :
    multiReduction (F := Ideal) (φ := .f32) .add [0] S256 (up a) 0x00000000#32 reduces_S2048x256_S256 (.inl rfl) rfl
      = up fun j => ∑ r : Fin 2048, a (ix2 r (v0 j)) :=
  rows_up a _ _ _ _
theorem prev256 (a : S2048x256.Idx → ℝ) :
    select (andi (cmpi .sge (addi (iota .tc S2048x256 32 [0] iota_S2048x256_d0_w32) (broadcast S2048x256 4294967295#32)) (broadcast S2048x256 0#32))
        (cmpi .slt (addi (iota .tc S2048x256 32 [0] iota_S2048x256_d0_w32) (broadcast S2048x256 4294967295#32)) (broadcast S2048x256 2048#32)))
      (dynamicRotate 0 1#32 none (up a) rotates_S2048x256_d0) (broadcast S2048x256 (Scalar.ofBits (F := Ideal) .f32 0x00000000#32))
      = up fun j => prev (fun r => a (ix2 r (c1 j))) (r0 j) := prev_up _ _ a
theorem next256 (a : S2048x256.Idx → ℝ) :
    select (andi (cmpi .sge (addi (iota .tc S2048x256 32 [0] iota_S2048x256_d0_w32) (broadcast S2048x256 1#32)) (broadcast S2048x256 0#32))
        (cmpi .slt (addi (iota .tc S2048x256 32 [0] iota_S2048x256_d0_w32) (broadcast S2048x256 1#32)) (broadcast S2048x256 2048#32)))
      (dynamicRotate 0 2047#32 none (up a) rotates_S2048x256_d0) (broadcast S2048x256 (Scalar.ofBits (F := Ideal) .f32 0x00000000#32))
      = up fun j => next (fun r => a (ix2 r (c1 j))) (r0 j) := next_up _ _ a

section
variable (x0 : S2048x1024.Idx → ℝ) (x1 : S256x1024.Idx → ℝ) (x2 x3 : S2048x256.Idx → ℝ) (x4 : S3x256.Idx → ℝ) (x5 : S1x256.Idx → ℝ)

/-- The block's gate. -/
def bGate : S2048x256.Idx → ℝ := fun j =>
  gate (fun r => x2 (ix2 r (c1 j))) (x4 (ix2 0 (c1 j))) (x4 (ix2 1 (c1 j))) (x4 (ix2 2 (c1 j))) (x5 (ix2 0 (c1 j))) (r0 j)
/-- The product of the incoming gradient's rows with the weight's. -/
def bDact : S2048x256.Idx → ℝ := fun j => ∑ k : Fin 1024, x0 (ix2 (r0 j) k) * x1 (ix2 (c1 j) k)
/-- The gate's gradient. -/
def bDgate : S2048x256.Idx → ℝ := fun j => bDact x0 x1 j * x3 j * dgel (bGate x2 x4 x5 j)

theorem pay5_up : k0_pay5 (F := Ideal) (up x0) (up x1) = up (bDact x0 x1) := by
  unfold k0_pay5 k0_pay4
  simp only [self_up, const_zero]
  rw [matmul_nt dot_S2048x1024_S256x1024_S2048x256_1_1_0_0_n_n rfl rfl rfl rfl rfl rfl]
  simp only [zero_add]
  rfl

theorem pay6_up : k0_pay6 (F := Ideal) (up x2) = up x2 := by unfold k0_pay6; exact self_up _ _
theorem pay7_up : k0_pay7 (F := Ideal) (up x2) = up x2 := by unfold k0_pay7; exact self_up _ _
theorem pay4_up : k0_pay4 (F := Ideal) (up x0) = up x0 := by unfold k0_pay4; exact self_up _ _

theorem gate_up (h0) (h1) (h2) :
    k0_pay10 (F := Ideal) (k0_pay8 (up x2) (extractStridedSlice ⟨2, ![1, 256]⟩ ![0, 0] (up x4) h0) (extractStridedSlice ⟨2, ![1, 256]⟩ ![1, 0] (up x4) h1))
      (iota .tc S2048x256 32 [0] iota_S2048x256_d0_w32) (k0_pay9 (up x2)) 1#32 (extractStridedSlice ⟨2, ![1, 256]⟩ ![2, 0] (up x4) h2) (up x5)
      = up (bGate x2 x4 x5) := by
  unfold k0_pay10 k0_pay8 k0_pay9
  simp only [pay6_up]
  rw [prev256, next256]
  simp only [row_up 0 (by decide : 0 < 3), row_up 1 (by decide : 1 < 3), row_up 2 (by decide : 2 < 3), rowTo_up, self_up,
    mulf_up, addf_up, c1_ix2]
  congr 1
  funext j
  unfold bGate gate
  rw [eq_rc j]
  rfl

section
variable (g : S2048x256.Idx → ℝ) (v31 : FVec Ideal S2048x256 .f32) (v32 : IVec S2048x256 32) (v33 : FVec Ideal S2048x256 .f32) (w : BitVec 32)
  (v45 v49 : Vec Ideal S1x256 .f32) (hg : k0_pay10 v31 v32 v33 w v45 v49 = up g)
include hg

theorem pay11_up : k0_pay11 (F := Ideal) v31 v32 v33 w v45 v49 = up fun j => th (g j) := by
  unfold k0_pay11
  simp only [hg, cubic, splat_root, mulf_up, addf_up, tanh_up]
  rfl
theorem pay12_up : k0_pay12 (F := Ideal) v31 v32 v33 w v45 v49 = up fun j => gel (g j) := by
  unfold k0_pay12
  simp only [pay11_up g v31 v32 v33 w v45 v49 hg, hg, splat_half, splat_one, mulf_up, addf_up]
  rfl
theorem pay13_up : k0_pay13 (F := Ideal) v31 v32 v33 w v45 v49 = up fun j => 1 / 2 * (1 + th (g j)) := by
  unfold k0_pay13
  simp only [pay11_up g v31 v32 v33 w v45 v49 hg, hg, splat_half, splat_one, mulf_up, addf_up]
theorem pay14_up : k0_pay14 (F := Ideal) v31 v32 v33 w v45 v49 = up fun j => 1 / 2 * g j * (1 - th (g j) * th (g j)) := by
  unfold k0_pay14
  simp only [pay11_up g v31 v32 v33 w v45 v49 hg, hg, splat_half, splat_one, mulf_up, addf_up, subf_up]
end

theorem pay15_up : k0_pay15 (F := Ideal) = up fun _ => (13386282 / 16777216 : ℝ) := splat_root

theorem pay17_up (d u g : S2048x256.Idx → ℝ) :
    k0_pay17 (F := Ideal) (up d) (up u) (up g) (up fun j => 1 / 2 * (1 + th (g j))) (up fun j => 1 / 2 * g j * (1 - th (g j) * th (g j)))
      (up fun _ => (13386282 / 16777216 : ℝ)) = up fun j => d j * u j * dgel (g j) := by
  unfold k0_pay17
  simp only [cubic3, splat_one, mulf_up, addf_up]
  rfl

theorem pay16_up (d l : S2048x256.Idx → ℝ) : k0_pay16 (F := Ideal) (up d) (up l) = up fun j => d j * l j := by
  unfold k0_pay16
  simp only [mulf_up, truncf_up]

theorem pay18_up (d u g : S2048x256.Idx → ℝ) (a : S1x256.Idx → ℝ) :
    k0_pay18 (F := Ideal) (up d) (up u) (up g) (up fun j => 1 / 2 * (1 + th (g j))) (up fun j => 1 / 2 * g j * (1 - th (g j) * th (g j)))
      (up fun _ => (13386282 / 16777216 : ℝ)) (up a)
      = up fun j => a j + ∑ r : Fin 2048, d (ix2 r (c1 j)) * u (ix2 r (c1 j)) * dgel (g (ix2 r (c1 j))) := by
  unfold k0_pay18
  simp only [pay17_up, self_up]
  erw [rows256]
  simp only [asRow_up, addf_up, v0_ix1]

/-- The gradient of the convolution's argument, from the gate's gradient `e`. -/
theorem pay31_up (d u g e : S2048x256.Idx → ℝ) (he : ∀ j, e j = d j * u j * dgel (g j)) (h0) (h1) (h2) :
    k0_pay31 (F := Ideal) (k0_pay24 (up e) (k0_pay19 (up d) (up u) (up g) (up fun j => 1 / 2 * (1 + th (g j)))
        (up fun j => 1 / 2 * g j * (1 - th (g j) * th (g j))) (up fun _ => (13386282 / 16777216 : ℝ))
        (extractStridedSlice ⟨2, ![1, 256]⟩ ![0, 0] (up x4) h0))
        (extractStridedSlice ⟨2, ![1, 256]⟩ ![1, 0] (up x4) h1) (extractStridedSlice ⟨2, ![1, 256]⟩ ![2, 0] (up x4) h2))
      = up fun j => dx (fun r => e (ix2 r (c1 j))) (x4 (ix2 0 (c1 j))) (x4 (ix2 1 (c1 j))) (x4 (ix2 2 (c1 j))) (r0 j) := by
  unfold k0_pay31 k0_pay24 k0_pay19
  obtain rfl : e = fun j => d j * u j * dgel (g j) := funext he
  simp only [pay17_up]
  rw [prev256, next256]
  simp only [row_up 0 (by decide : 0 < 3), row_up 1 (by decide : 1 < 3), row_up 2 (by decide : 2 < 3), rowTo_up,
    mulf_up, addf_up, truncf_up]
  congr 1
  funext j
  unfold dx
  rw [eq_rc j]
  rfl

theorem pay28_up (e : S2048x256.Idx → ℝ) (a : S1x256.Idx → ℝ) :
    k0_pay28 (F := Ideal) (k0_pay22 (up e) (iota .tc S2048x256 32 [0] iota_S2048x256_d0_w32) (k0_pay20 (up x2)) k0_pay21) (up a)
      = up fun j => a j + ∑ r : Fin 2048, e (ix2 r (c1 j)) * prev (fun r => x2 (ix2 r (c1 j))) r := by
  unfold k0_pay28 k0_pay22 k0_pay20 k0_pay21
  dsimp only
  rw [prev256, mulf_up]
  erw [rows256]
  simp only [asRow_up, self_up, addf_up, v0_ix1, c1_ix2, r0_ix2]

theorem pay29_up (e : S2048x256.Idx → ℝ) (a : S1x256.Idx → ℝ) :
    k0_pay29 (F := Ideal) (k0_pay23 (up x2) (up e)) (up a)
      = up fun j => a j + ∑ r : Fin 2048, e (ix2 r (c1 j)) * x2 (ix2 r (c1 j)) := by
  unfold k0_pay29 k0_pay23
  dsimp only
  rw [mulf_up]
  erw [rows256]
  simp only [asRow_up, self_up, addf_up, v0_ix1]

theorem pay30_up (e : S2048x256.Idx → ℝ) (a : S1x256.Idx → ℝ) :
    k0_pay30 (F := Ideal) (up e) (iota .tc S2048x256 32 [0] iota_S2048x256_d0_w32) (k0_pay25 (up x2)) k0_pay26 k0_pay27 (up a)
      = up fun j => a j + ∑ r : Fin 2048, e (ix2 r (c1 j)) * next (fun r => x2 (ix2 r (c1 j))) r := by
  unfold k0_pay30 k0_pay25 k0_pay26 k0_pay27
  dsimp only
  rw [next256, mulf_up]
  erw [rows256]
  simp only [asRow_up, self_up, addf_up, v0_ix1, c1_ix2, r0_ix2]

theorem pay32_up (u l : S2048x256.Idx → ℝ) (a : S256x1024.Idx → ℝ) :
    k0_pay32 (F := Ideal) (up x0) (up u) (up l) (up a)
      = up fun j => a j + ∑ r : Fin 2048, l (ix2 r (r0 j)) * u (ix2 r (r0 j)) * x0 (ix2 r (c1 j)) := by
  unfold k0_pay32
  simp only [self_up, const_zero, mulf_up, truncf_up]
  rw [matmul_tn dot_S2048x256_S2048x1024_S256x1024_0_0_1_1_n_n rfl rfl rfl rfl rfl rfl]
  simp only [zero_add, addf_up]

theorem pay1_up : k0_pay1 (F := Ideal) = up fun _ => (0 : ℝ) := by unfold k0_pay1; simp only [const_zero, splat_zero, self_up]
theorem pay2_up : k0_pay2 (F := Ideal) = up fun _ => (0 : ℝ) := by unfold k0_pay2; simp only [const_zero, splat_zero, self_up]
theorem pay3_up : k0_pay3 (F := Ideal) = up fun _ => (0 : ℝ) := by unfold k0_pay3; simp only [const_zero, splat_zero, self_up]

/-! ### The block's results, each from the blocks alone -/

/-- The gate's argument seen by row `k` of the convolution's weight. -/
def tap {n : Nat} (k : Fin 3) (g : Fin n → ℝ) (r : Fin n) : ℝ := if k.val = 0 then prev g r else if k.val = 1 then g r else next g r

/-- The gradient of the convolution's argument. -/
def oDgp : S2048x256.Idx → ℝ := fun j =>
  dx (fun r => bDgate x0 x1 x2 x3 x4 x5 (ix2 r (c1 j))) (x4 (ix2 0 (c1 j))) (x4 (ix2 1 (c1 j))) (x4 (ix2 2 (c1 j))) (r0 j)
/-- The second factor's gradient. -/
def oDup : S2048x256.Idx → ℝ := fun j => bDact x0 x1 j * gel (bGate x2 x4 x5 j)
/-- The batch row's part of the product's weight gradient. -/
def pDwd : S256x1024.Idx → ℝ := fun j => ∑ r : Fin 2048, gel (bGate x2 x4 x5 (ix2 r (r0 j))) * x3 (ix2 r (r0 j)) * x0 (ix2 r (c1 j))
/-- The batch row's part of the convolution's weight gradient. -/
def pDcw : S3x256.Idx → ℝ := fun j =>
  ∑ r : Fin 2048, bDgate x0 x1 x2 x3 x4 x5 (ix2 r (c1 j)) * tap (r0 j) (fun r => x2 (ix2 r (c1 j))) r
/-- The batch row's part of the bias's gradient. -/
def pDcb : S1x256.Idx → ℝ := fun j => ∑ r : Fin 2048, bDgate x0 x1 x2 x3 x4 x5 (ix2 r (c1 j))

theorem row_at (p : S1x256.Idx → ℝ) (G : S3x256.Idx → ℝ) (q : Nat) (hq : q < 3) (hi) (h : ∀ c : Fin 256, p (ix2 0 c) = G (ix2 ⟨q, hq⟩ c)) (x : S1x256.Idx) :
    (up p : S1x256.Idx → EReal) x = up G ((Rect.unit (s := S3x256) ![q, 0] ![1, 256] hi).emb x) := by
  have e : (Rect.unit (s := S3x256) ![q, 0] ![1, 256] hi).emb x = ix2 ⟨q, hq⟩ (c1 x) := by
    refine Rect.emb_eq_of_coords (Rect.unit (s := S3x256) ![q, 0] ![1, 256] hi) x _ fun a => ?_
    match a with
    | ⟨0, _⟩ =>
      have h1 : (x 0).val < 1 := (x 0).isLt
      show q = q + 1 * (x 0).val
      omega
    | ⟨1, _⟩ =>
      show (x 1).val = 0 + 1 * (x 1).val
      omega
  have e' : x = ix2 0 (c1 x) := by
    refine (eq_rc x).trans ?_
    have h1 : (r0 x).val < 1 := (x 0).isLt
    exact congrArg (fun z => ix2 z (c1 x)) (Fin.ext (by show (r0 x).val = 0; omega))
  rw [e]
  refine (congrArg (up p) e').trans ?_
  exact congrArg (fun z : ℝ => (z : EReal)) (h (c1 x))

/-- The three rows written one by one, over whatever was there. -/
theorem canon_rows (Q0 Q1 Q2 : Vec Ideal S1x256 .f32) (p0 p1 p2 : S1x256.Idx → ℝ) (q0 : Q0 = up p0) (q1 : Q1 = up p1) (q2 : Q2 = up p2) (G : S3x256.Idx → ℝ) (h0 : ∀ c, p0 (ix2 0 c) = G (ix2 0 c)) (h1 : ∀ c, p1 (ix2 0 c) = G (ix2 1 c))
    (h2 : ∀ c, p2 (ix2 0 c) = G (ix2 2 c)) (L : List (View.Piece (Elt Ideal) S3x256 .f32)) :
    View.canon ((⟨Rect.unit ![2, 0] ![1, 256] inb_S3x256_S1x256_2_0, Q2⟩ : View.Piece (Elt Ideal) S3x256 .f32)
      :: ⟨Rect.unit ![1, 0] ![1, 256] inb_S3x256_S1x256_1_0, Q1⟩
      :: ⟨Rect.unit ![0, 0] ![1, 256] inb_S3x256_S1x256_0_0, Q0⟩ :: L) = (up G : S3x256.Idx → Ideal .f32) := by
  subst q0 q1 q2
  funext y
  refine View.canon_append_of_piecesOf (up G : S3x256.Idx → Ideal .f32) L [⟨Rect.unit ![2, 0] ![1, 256] inb_S3x256_S1x256_2_0, (up p2 : S1x256.Idx → Ideal .f32)⟩,
    ⟨Rect.unit ![1, 0] ![1, 256] inb_S3x256_S1x256_1_0, (up p1 : S1x256.Idx → Ideal .f32)⟩, ⟨Rect.unit ![0, 0] ![1, 256] inb_S3x256_S1x256_0_0, (up p0 : S1x256.Idx → Ideal .f32)⟩] ⟨?_, ?_, ?_, trivial⟩ y ?_
  · intro x; exact row_at p2 G 2 (by decide) inb_S3x256_S1x256_2_0 h2 x
  · intro x; exact row_at p1 G 1 (by decide) inb_S3x256_S1x256_1_0 h1 x
  · intro x; exact row_at p0 G 0 (by decide) inb_S3x256_S1x256_0_0 h0 x
  · have h3 : (r0 y).val < 3 := (y 0).isLt
    have hc : (c1 y).val < 256 := (y 1).isLt
    have hm : ∀ (q : Nat) (hi), (r0 y).val = q → y ∈ (Rect.unit (s := S3x256) ![q, 0] ![1, 256] hi).set := fun q hi hq => Rect.mem_set_unit.mpr fun a =>
      match a with | ⟨0, _⟩ => ⟨by show q ≤ (r0 y).val; omega, by show (r0 y).val < q + 1; omega⟩ | ⟨1, _⟩ => ⟨Nat.zero_le _, by show (c1 y).val < 0 + 256; omega⟩
    by_cases e0 : (r0 y).val = 0
    · exact ⟨_, List.mem_cons_of_mem _ (List.mem_cons_of_mem _ (List.mem_singleton_self _)), hm 0 inb_S3x256_S1x256_0_0 e0⟩
    by_cases e1 : (r0 y).val = 1
    · exact ⟨_, List.mem_cons_of_mem _ List.mem_cons_self, hm 1 inb_S3x256_S1x256_1_0 e1⟩
    · exact ⟨_, List.mem_cons_self, hm 2 inb_S3x256_S1x256_2_0 (by omega)⟩

/-! ### The stores' whole terms -/

section
variable (h0 : S3x256.Slices ![0, 0] ⟨2, ![1, 256]⟩) (h1 : S3x256.Slices ![1, 0] ⟨2, ![1, 256]⟩) (h2 : S3x256.Slices ![2, 0] ⟨2, ![1, 256]⟩)

theorem full17 : (k0_pay17 (F := Ideal) (k0_pay5 (up x0) (up x1)) (k0_pay7 (up x3)) (k0_pay10 (k0_pay8 (up x2) (extractStridedSlice ⟨2, ![1, 256]⟩ ![0, 0] (up x4) h0) (extractStridedSlice ⟨2, ![1, 256]⟩ ![1, 0] (up x4) h1))
        (iota .tc S2048x256 32 [0] iota_S2048x256_d0_w32) (k0_pay9 (up x2)) 1#32 (extractStridedSlice ⟨2, ![1, 256]⟩ ![2, 0] (up x4) h2) (up x5))
      (k0_pay13 (k0_pay8 (up x2) (extractStridedSlice ⟨2, ![1, 256]⟩ ![0, 0] (up x4) h0) (extractStridedSlice ⟨2, ![1, 256]⟩ ![1, 0] (up x4) h1))
        (iota .tc S2048x256 32 [0] iota_S2048x256_d0_w32) (k0_pay9 (up x2)) 1#32 (extractStridedSlice ⟨2, ![1, 256]⟩ ![2, 0] (up x4) h2) (up x5))
      (k0_pay14 (k0_pay8 (up x2) (extractStridedSlice ⟨2, ![1, 256]⟩ ![0, 0] (up x4) h0) (extractStridedSlice ⟨2, ![1, 256]⟩ ![1, 0] (up x4) h1))
        (iota .tc S2048x256 32 [0] iota_S2048x256_d0_w32) (k0_pay9 (up x2)) 1#32 (extractStridedSlice ⟨2, ![1, 256]⟩ ![2, 0] (up x4) h2) (up x5))
      k0_pay15) = up (bDgate x0 x1 x2 x3 x4 x5) := by
  rw [pay5_up, pay7_up, pay13_up _ _ _ _ _ _ _ (gate_up x2 x4 x5 h0 h1 h2), pay14_up _ _ _ _ _ _ _ (gate_up x2 x4 x5 h0 h1 h2), gate_up, pay15_up, pay17_up]
  rfl
theorem full7 : k0_pay16 (F := Ideal) (k0_pay5 (up x0) (up x1)) (k0_pay12 (k0_pay8 (up x2) (extractStridedSlice ⟨2, ![1, 256]⟩ ![0, 0] (up x4) h0) (extractStridedSlice ⟨2, ![1, 256]⟩ ![1, 0] (up x4) h1))
        (iota .tc S2048x256 32 [0] iota_S2048x256_d0_w32) (k0_pay9 (up x2)) 1#32 (extractStridedSlice ⟨2, ![1, 256]⟩ ![2, 0] (up x4) h2) (up x5)) = up (oDup x0 x1 x2 x4 x5) := by
  rw [pay5_up, pay12_up _ _ _ _ _ _ _ (gate_up x2 x4 x5 h0 h1 h2), pay16_up]
  rfl
theorem full8 (A : Vec Ideal S256x1024 .f32) (a : S256x1024.Idx → ℝ) (hA : A = up a) : k0_pay32 (F := Ideal) (k0_pay4 (up x0)) (k0_pay7 (up x3)) (k0_pay12 (k0_pay8 (up x2) (extractStridedSlice ⟨2, ![1, 256]⟩ ![0, 0] (up x4) h0) (extractStridedSlice ⟨2, ![1, 256]⟩ ![1, 0] (up x4) h1))
        (iota .tc S2048x256 32 [0] iota_S2048x256_d0_w32) (k0_pay9 (up x2)) 1#32 (extractStridedSlice ⟨2, ![1, 256]⟩ ![2, 0] (up x4) h2) (up x5)) A
      = up fun j => a j + pDwd x0 x2 x3 x4 x5 j := by
  subst hA
  rw [pay4_up, pay7_up, pay12_up _ _ _ _ _ _ _ (gate_up x2 x4 x5 h0 h1 h2), pay32_up]
  rfl
theorem full10 (A : Vec Ideal S1x256 .f32) (a : S1x256.Idx → ℝ) (hA : A = up a) : k0_pay18 (F := Ideal) (k0_pay5 (up x0) (up x1)) (k0_pay7 (up x3)) (k0_pay10 (k0_pay8 (up x2) (extractStridedSlice ⟨2, ![1, 256]⟩ ![0, 0] (up x4) h0) (extractStridedSlice ⟨2, ![1, 256]⟩ ![1, 0] (up x4) h1))
        (iota .tc S2048x256 32 [0] iota_S2048x256_d0_w32) (k0_pay9 (up x2)) 1#32 (extractStridedSlice ⟨2, ![1, 256]⟩ ![2, 0] (up x4) h2) (up x5))
      (k0_pay13 (k0_pay8 (up x2) (extractStridedSlice ⟨2, ![1, 256]⟩ ![0, 0] (up x4) h0) (extractStridedSlice ⟨2, ![1, 256]⟩ ![1, 0] (up x4) h1))
        (iota .tc S2048x256 32 [0] iota_S2048x256_d0_w32) (k0_pay9 (up x2)) 1#32 (extractStridedSlice ⟨2, ![1, 256]⟩ ![2, 0] (up x4) h2) (up x5))
      (k0_pay14 (k0_pay8 (up x2) (extractStridedSlice ⟨2, ![1, 256]⟩ ![0, 0] (up x4) h0) (extractStridedSlice ⟨2, ![1, 256]⟩ ![1, 0] (up x4) h1))
        (iota .tc S2048x256 32 [0] iota_S2048x256_d0_w32) (k0_pay9 (up x2)) 1#32 (extractStridedSlice ⟨2, ![1, 256]⟩ ![2, 0] (up x4) h2) (up x5))
      k0_pay15 A
      = up fun j => a j + pDcb x0 x1 x2 x3 x4 x5 j := by
  subst hA
  rw [pay5_up, pay7_up, pay13_up _ _ _ _ _ _ _ (gate_up x2 x4 x5 h0 h1 h2), pay14_up _ _ _ _ _ _ _ (gate_up x2 x4 x5 h0 h1 h2), gate_up, pay15_up, pay18_up]
  rfl
theorem full6 : k0_pay31 (F := Ideal) (k0_pay24 (k0_pay17 (F := Ideal) (k0_pay5 (up x0) (up x1)) (k0_pay7 (up x3)) (k0_pay10 (k0_pay8 (up x2) (extractStridedSlice ⟨2, ![1, 256]⟩ ![0, 0] (up x4) h0) (extractStridedSlice ⟨2, ![1, 256]⟩ ![1, 0] (up x4) h1))
        (iota .tc S2048x256 32 [0] iota_S2048x256_d0_w32) (k0_pay9 (up x2)) 1#32 (extractStridedSlice ⟨2, ![1, 256]⟩ ![2, 0] (up x4) h2) (up x5))
      (k0_pay13 (k0_pay8 (up x2) (extractStridedSlice ⟨2, ![1, 256]⟩ ![0, 0] (up x4) h0) (extractStridedSlice ⟨2, ![1, 256]⟩ ![1, 0] (up x4) h1))
        (iota .tc S2048x256 32 [0] iota_S2048x256_d0_w32) (k0_pay9 (up x2)) 1#32 (extractStridedSlice ⟨2, ![1, 256]⟩ ![2, 0] (up x4) h2) (up x5))
      (k0_pay14 (k0_pay8 (up x2) (extractStridedSlice ⟨2, ![1, 256]⟩ ![0, 0] (up x4) h0) (extractStridedSlice ⟨2, ![1, 256]⟩ ![1, 0] (up x4) h1))
        (iota .tc S2048x256 32 [0] iota_S2048x256_d0_w32) (k0_pay9 (up x2)) 1#32 (extractStridedSlice ⟨2, ![1, 256]⟩ ![2, 0] (up x4) h2) (up x5))
      k0_pay15)
      (k0_pay19 (k0_pay5 (up x0) (up x1)) (k0_pay7 (up x3)) (k0_pay10 (k0_pay8 (up x2) (extractStridedSlice ⟨2, ![1, 256]⟩ ![0, 0] (up x4) h0) (extractStridedSlice ⟨2, ![1, 256]⟩ ![1, 0] (up x4) h1))
        (iota .tc S2048x256 32 [0] iota_S2048x256_d0_w32) (k0_pay9 (up x2)) 1#32 (extractStridedSlice ⟨2, ![1, 256]⟩ ![2, 0] (up x4) h2) (up x5))
      (k0_pay13 (k0_pay8 (up x2) (extractStridedSlice ⟨2, ![1, 256]⟩ ![0, 0] (up x4) h0) (extractStridedSlice ⟨2, ![1, 256]⟩ ![1, 0] (up x4) h1))
        (iota .tc S2048x256 32 [0] iota_S2048x256_d0_w32) (k0_pay9 (up x2)) 1#32 (extractStridedSlice ⟨2, ![1, 256]⟩ ![2, 0] (up x4) h2) (up x5))
      (k0_pay14 (k0_pay8 (up x2) (extractStridedSlice ⟨2, ![1, 256]⟩ ![0, 0] (up x4) h0) (extractStridedSlice ⟨2, ![1, 256]⟩ ![1, 0] (up x4) h1))
        (iota .tc S2048x256 32 [0] iota_S2048x256_d0_w32) (k0_pay9 (up x2)) 1#32 (extractStridedSlice ⟨2, ![1, 256]⟩ ![2, 0] (up x4) h2) (up x5))
      k0_pay15 (extractStridedSlice ⟨2, ![1, 256]⟩ ![0, 0] (up x4) h0))
      (extractStridedSlice ⟨2, ![1, 256]⟩ ![1, 0] (up x4) h1) (extractStridedSlice ⟨2, ![1, 256]⟩ ![2, 0] (up x4) h2))
      = up (oDgp x0 x1 x2 x3 x4 x5) := by
  rw [full17, pay5_up, pay7_up, pay13_up _ _ _ _ _ _ _ (gate_up x2 x4 x5 h0 h1 h2), pay14_up _ _ _ _ _ _ _ (gate_up x2 x4 x5 h0 h1 h2), gate_up, pay15_up,
    pay31_up x4 (bDact x0 x1) x3 (bGate x2 x4 x5) (bDgate x0 x1 x2 x3 x4 x5) (fun _ => rfl)]
  rfl
theorem full9a (A : Vec Ideal S1x256 .f32) (a : S1x256.Idx → ℝ) (hA : A = up a) : k0_pay28 (F := Ideal) (k0_pay22 (k0_pay17 (F := Ideal) (k0_pay5 (up x0) (up x1)) (k0_pay7 (up x3)) (k0_pay10 (k0_pay8 (up x2) (extractStridedSlice ⟨2, ![1, 256]⟩ ![0, 0] (up x4) h0) (extractStridedSlice ⟨2, ![1, 256]⟩ ![1, 0] (up x4) h1))
        (iota .tc S2048x256 32 [0] iota_S2048x256_d0_w32) (k0_pay9 (up x2)) 1#32 (extractStridedSlice ⟨2, ![1, 256]⟩ ![2, 0] (up x4) h2) (up x5))
      (k0_pay13 (k0_pay8 (up x2) (extractStridedSlice ⟨2, ![1, 256]⟩ ![0, 0] (up x4) h0) (extractStridedSlice ⟨2, ![1, 256]⟩ ![1, 0] (up x4) h1))
        (iota .tc S2048x256 32 [0] iota_S2048x256_d0_w32) (k0_pay9 (up x2)) 1#32 (extractStridedSlice ⟨2, ![1, 256]⟩ ![2, 0] (up x4) h2) (up x5))
      (k0_pay14 (k0_pay8 (up x2) (extractStridedSlice ⟨2, ![1, 256]⟩ ![0, 0] (up x4) h0) (extractStridedSlice ⟨2, ![1, 256]⟩ ![1, 0] (up x4) h1))
        (iota .tc S2048x256 32 [0] iota_S2048x256_d0_w32) (k0_pay9 (up x2)) 1#32 (extractStridedSlice ⟨2, ![1, 256]⟩ ![2, 0] (up x4) h2) (up x5))
      k0_pay15) (iota .tc S2048x256 32 [0] iota_S2048x256_d0_w32) (k0_pay20 (k0_pay6 (up x2))) k0_pay21) A
      = up fun j => a j + ∑ r : Fin 2048, bDgate x0 x1 x2 x3 x4 x5 (ix2 r (c1 j)) * prev (fun r => x2 (ix2 r (c1 j))) r := by
  subst hA
  rw [full17, pay6_up, pay28_up]
theorem full9b (A : Vec Ideal S1x256 .f32) (a : S1x256.Idx → ℝ) (hA : A = up a) : k0_pay29 (F := Ideal) (k0_pay23 (k0_pay6 (up x2)) (k0_pay17 (F := Ideal) (k0_pay5 (up x0) (up x1)) (k0_pay7 (up x3)) (k0_pay10 (k0_pay8 (up x2) (extractStridedSlice ⟨2, ![1, 256]⟩ ![0, 0] (up x4) h0) (extractStridedSlice ⟨2, ![1, 256]⟩ ![1, 0] (up x4) h1))
        (iota .tc S2048x256 32 [0] iota_S2048x256_d0_w32) (k0_pay9 (up x2)) 1#32 (extractStridedSlice ⟨2, ![1, 256]⟩ ![2, 0] (up x4) h2) (up x5))
      (k0_pay13 (k0_pay8 (up x2) (extractStridedSlice ⟨2, ![1, 256]⟩ ![0, 0] (up x4) h0) (extractStridedSlice ⟨2, ![1, 256]⟩ ![1, 0] (up x4) h1))
        (iota .tc S2048x256 32 [0] iota_S2048x256_d0_w32) (k0_pay9 (up x2)) 1#32 (extractStridedSlice ⟨2, ![1, 256]⟩ ![2, 0] (up x4) h2) (up x5))
      (k0_pay14 (k0_pay8 (up x2) (extractStridedSlice ⟨2, ![1, 256]⟩ ![0, 0] (up x4) h0) (extractStridedSlice ⟨2, ![1, 256]⟩ ![1, 0] (up x4) h1))
        (iota .tc S2048x256 32 [0] iota_S2048x256_d0_w32) (k0_pay9 (up x2)) 1#32 (extractStridedSlice ⟨2, ![1, 256]⟩ ![2, 0] (up x4) h2) (up x5))
      k0_pay15)) A
      = up fun j => a j + ∑ r : Fin 2048, bDgate x0 x1 x2 x3 x4 x5 (ix2 r (c1 j)) * x2 (ix2 r (c1 j)) := by
  subst hA
  rw [full17, pay6_up, pay29_up]
theorem full9c (A : Vec Ideal S1x256 .f32) (a : S1x256.Idx → ℝ) (hA : A = up a) : k0_pay30 (F := Ideal) (k0_pay17 (F := Ideal) (k0_pay5 (up x0) (up x1)) (k0_pay7 (up x3)) (k0_pay10 (k0_pay8 (up x2) (extractStridedSlice ⟨2, ![1, 256]⟩ ![0, 0] (up x4) h0) (extractStridedSlice ⟨2, ![1, 256]⟩ ![1, 0] (up x4) h1))
        (iota .tc S2048x256 32 [0] iota_S2048x256_d0_w32) (k0_pay9 (up x2)) 1#32 (extractStridedSlice ⟨2, ![1, 256]⟩ ![2, 0] (up x4) h2) (up x5))
      (k0_pay13 (k0_pay8 (up x2) (extractStridedSlice ⟨2, ![1, 256]⟩ ![0, 0] (up x4) h0) (extractStridedSlice ⟨2, ![1, 256]⟩ ![1, 0] (up x4) h1))
        (iota .tc S2048x256 32 [0] iota_S2048x256_d0_w32) (k0_pay9 (up x2)) 1#32 (extractStridedSlice ⟨2, ![1, 256]⟩ ![2, 0] (up x4) h2) (up x5))
      (k0_pay14 (k0_pay8 (up x2) (extractStridedSlice ⟨2, ![1, 256]⟩ ![0, 0] (up x4) h0) (extractStridedSlice ⟨2, ![1, 256]⟩ ![1, 0] (up x4) h1))
        (iota .tc S2048x256 32 [0] iota_S2048x256_d0_w32) (k0_pay9 (up x2)) 1#32 (extractStridedSlice ⟨2, ![1, 256]⟩ ![2, 0] (up x4) h2) (up x5))
      k0_pay15) (iota .tc S2048x256 32 [0] iota_S2048x256_d0_w32) (k0_pay25 (k0_pay6 (up x2))) k0_pay26 k0_pay27 A
      = up fun j => a j + ∑ r : Fin 2048, bDgate x0 x1 x2 x3 x4 x5 (ix2 r (c1 j)) * next (fun r => x2 (ix2 r (c1 j))) r := by
  subst hA
  rw [full17, pay6_up, pay30_up]
end

end

end Cert.Act

end
-- ==== Proof.Act.Opened.lean ====
/- What each grid point leaves in the output blocks, from real input blocks: the first point of a batch sweep starts the
   sums, every later one adds to what the point before left. -/
module

public import proofs.«01_k».proof.Proof.Act.Block
public import proofs.«01_k».proof.Proof.Gen.KernelIdeal.Value

@[expose] public section

noncomputable section

namespace Cert.Act

open Cert.KernelIdeal Cert.KernelIdeal.Gen Idealize.ShloMosaic Idealize.ShloMosaic.TcCoe Idealize.ShloMosaic.Tactic Idealize.SL.Sem Cert.Lift Idealize.ShloMosaic.ValueIdx

theorem hz : (![0, 0] : Fin 2 → Nat) = fun _ => 0 := funext fun a => by fin_cases a <;> rfl
theorem hz' : ∀ a, (![0, 0] : Fin 2 → Nat) a = 0 := fun a => congrFun hz a

section CaseA
variable (c : Dev nD) (i : grid0.Coords) (arg2 : Memref sig .tc .vmem S2048x1024 .bf16) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S3x256 .f32) (harg6 : arg6.IsWhole) (arg7 : Memref sig .tc .vmem S1x256 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S256x1024 .f32) (harg10 : arg10.IsWhole) (arg11 : Memref sig .tc .vmem S3x256 .f32) (harg11 : arg11.IsWhole) (arg12 : Memref sig .tc .vmem S1x256 .f32) (harg12 : arg12.IsWhole) (hc0 : cond0_0 i)
  (x0 : S2048x1024.Idx → ℝ) (x1 : S256x1024.Idx → ℝ) (x2 x3 : S2048x256.Idx → ℝ) (x4 : S3x256.Idx → ℝ) (x5 : S1x256.Idx → ℝ)

theorem out0_A_6_up :
    out0_A_6 (F := Ideal) c i arg2 harg2 arg3 harg3 arg4 harg4 arg5 harg5 arg6 harg6 arg7 harg7 arg8 harg8 arg9 harg9 arg10 harg10 arg11 harg11 arg12 harg12 hc0 (up x0) (up x1) (up x2) (up x3) (up x4) (up x5) = up (oDgp x0 x1 x2 x3 x4 x5) := by
  unfold out0_A_6
  rw [View.read_writes_eq_canon _ _ _ (cover0_A_6 (F := Ideal) c i arg2 harg2 arg3 harg3 arg4 harg4 arg5 harg5 arg6 harg6 arg7 harg7 arg8 harg8 arg9 harg9 arg10 harg10 arg11 harg11 arg12 harg12 hc0 (up x0) (up x1) (up x2) (up x3) (up x4) (up x5))]
  unfold kernelRun0_A
  dsimp only
  sl_unfold_words
  first | rw [View.canon_unit_zero hz] | rw [View.canon_cons_unit_zero (S := S2048x256) hz]
  simp only [View.readAt_eq_ld, harg2.read_unread, harg3.read_unread, harg4.read_unread, harg5.read_unread, harg6.read_unread, harg7.read_unread,
    harg8.read_unread, harg9.read_unread, harg10.read_unread, harg11.read_unread, harg12.read_unread, View.ld_unit_zero (S := S2048x1024) hz,
    View.ld_unit_zero (S := S256x1024) hz, View.ld_unit_zero (S := S2048x256) hz, View.ld_unit_zero (S := S1x256) hz, View.ld_unit]
  exact full6 x0 x1 x2 x3 x4 x5 _ _ _

theorem out0_A_7_up :
    out0_A_7 (F := Ideal) c i arg2 harg2 arg3 harg3 arg4 harg4 arg5 harg5 arg6 harg6 arg7 harg7 arg8 harg8 arg9 harg9 arg10 harg10 arg11 harg11 arg12 harg12 hc0 (up x0) (up x1) (up x2) (up x3) (up x4) (up x5) = up (oDup x0 x1 x2 x4 x5) := by
  unfold out0_A_7
  rw [View.read_writes_eq_canon _ _ _ (cover0_A_7 (F := Ideal) c i arg2 harg2 arg3 harg3 arg4 harg4 arg5 harg5 arg6 harg6 arg7 harg7 arg8 harg8 arg9 harg9 arg10 harg10 arg11 harg11 arg12 harg12 hc0 (up x0) (up x1) (up x2) (up x3) (up x4) (up x5))]
  unfold kernelRun0_A
  dsimp only
  sl_unfold_words
  first | rw [View.canon_unit_zero hz] | rw [View.canon_cons_unit_zero (S := S2048x256) hz]
  simp only [View.readAt_eq_ld, harg2.read_unread, harg3.read_unread, harg4.read_unread, harg5.read_unread, harg6.read_unread, harg7.read_unread,
    harg8.read_unread, harg9.read_unread, harg10.read_unread, harg11.read_unread, harg12.read_unread, View.ld_unit_zero (S := S2048x1024) hz,
    View.ld_unit_zero (S := S256x1024) hz, View.ld_unit_zero (S := S2048x256) hz, View.ld_unit_zero (S := S1x256) hz, View.ld_unit]
  exact full7 x0 x1 x2 x4 x5 _ _ _

theorem out0_A_8_up :
    out0_A_8 (F := Ideal) c i arg2 harg2 arg3 harg3 arg4 harg4 arg5 harg5 arg6 harg6 arg7 harg7 arg8 harg8 arg9 harg9 arg10 harg10 arg11 harg11 arg12 harg12 hc0 (up x0) (up x1) (up x2) (up x3) (up x4) (up x5) = up (pDwd x0 x2 x3 x4 x5) := by
  unfold out0_A_8
  rw [View.read_writes_eq_canon _ _ _ (cover0_A_8 (F := Ideal) c i arg2 harg2 arg3 harg3 arg4 harg4 arg5 harg5 arg6 harg6 arg7 harg7 arg8 harg8 arg9 harg9 arg10 harg10 arg11 harg11 arg12 harg12 hc0 (up x0) (up x1) (up x2) (up x3) (up x4) (up x5))]
  unfold kernelRun0_A
  dsimp only
  sl_unfold_words
  first | rw [View.canon_unit_zero hz] | rw [View.canon_cons_unit_zero (S := S256x1024) hz]
  simp only [View.readAt_eq_ld, harg2.read_unread, harg3.read_unread, harg4.read_unread, harg5.read_unread, harg6.read_unread, harg7.read_unread,
    harg8.read_unread, harg9.read_unread, harg10.read_unread, harg11.read_unread, harg12.read_unread, View.ld_unit_zero (S := S2048x1024) hz,
    View.ld_unit_zero (S := S256x1024) hz, View.ld_unit_zero (S := S2048x256) hz, View.ld_unit_zero (S := S1x256) hz, View.ld_unit]
  refine (full8 x0 x2 x3 x4 x5 _ _ _ _ (fun _ => 0) ((View.readCov_unit_zero (S := S256x1024) _ hz _ _).trans pay1_up)).trans ?_
  simp only [zero_add]
  all_goals rfl

theorem out0_A_9_up :
    out0_A_9 (F := Ideal) c i arg2 harg2 arg3 harg3 arg4 harg4 arg5 harg5 arg6 harg6 arg7 harg7 arg8 harg8 arg9 harg9 arg10 harg10 arg11 harg11 arg12 harg12 hc0 (up x0) (up x1) (up x2) (up x3) (up x4) (up x5) = up (pDcw x0 x1 x2 x3 x4 x5) := by
  unfold out0_A_9
  rw [View.read_writes_eq_canon _ _ _ (cover0_A_9 (F := Ideal) c i arg2 harg2 arg3 harg3 arg4 harg4 arg5 harg5 arg6 harg6 arg7 harg7 arg8 harg8 arg9 harg9 arg10 harg10 arg11 harg11 arg12 harg12 hc0 (up x0) (up x1) (up x2) (up x3) (up x4) (up x5))]
  unfold kernelRun0_A
  dsimp only
  sl_unfold_words
  simp only [View.readAt_eq_ld, harg2.read_unread, harg3.read_unread, harg4.read_unread, harg5.read_unread, harg6.read_unread, harg7.read_unread,
    harg8.read_unread, harg9.read_unread, harg10.read_unread, harg11.read_unread, harg12.read_unread, View.ld_unit_zero (S := S2048x1024) hz,
    View.ld_unit_zero (S := S256x1024) hz, View.ld_unit_zero (S := S2048x256) hz, View.ld_unit_zero (S := S1x256) hz, View.ld_unit]
  refine canon_rows _ _ _ _ _ _ (full9a x0 x1 x2 x3 x4 x5 _ _ _ _ (fun _ => 0) ?_)
    (full9b x0 x1 x2 x3 x4 x5 _ _ _ _ (fun _ => 0) ?_)
    (full9c x0 x1 x2 x3 x4 x5 _ _ _ _ (fun _ => 0) ?_)
    _ (fun c => ?_) (fun c => ?_) (fun c => ?_) _
  · exact (View.readCov_fill (s := S3x256) _ _ _ _ _ hz').trans ((View.ld_unit _ _ _ _).trans (congrArg (fun z => extractStridedSlice _ _ z _) pay2_up))
  · refine (View.readCov_skip _ _ _ _ _ (by decide)).trans ?_; exact (View.readCov_fill (s := S3x256) _ _ _ _ _ hz').trans ((View.ld_unit _ _ _ _).trans (congrArg (fun z => extractStridedSlice _ _ z _) pay2_up))
  · refine (View.readCov_skip _ _ _ _ _ (by decide)).trans ?_; refine (View.readCov_skip _ _ _ _ _ (by decide)).trans ?_; exact (View.readCov_fill (s := S3x256) _ _ _ _ _ hz').trans ((View.ld_unit _ _ _ _).trans (congrArg (fun z => extractStridedSlice _ _ z _) pay2_up))
  all_goals simp only [c1_ix2, r0_ix2, pDcw, tap]
  all_goals simp

theorem out0_A_10_up :
    out0_A_10 (F := Ideal) c i arg2 harg2 arg3 harg3 arg4 harg4 arg5 harg5 arg6 harg6 arg7 harg7 arg8 harg8 arg9 harg9 arg10 harg10 arg11 harg11 arg12 harg12 hc0 (up x0) (up x1) (up x2) (up x3) (up x4) (up x5) = up (pDcb x0 x1 x2 x3 x4 x5) := by
  unfold out0_A_10
  rw [View.read_writes_eq_canon _ _ _ (cover0_A_10 (F := Ideal) c i arg2 harg2 arg3 harg3 arg4 harg4 arg5 harg5 arg6 harg6 arg7 harg7 arg8 harg8 arg9 harg9 arg10 harg10 arg11 harg11 arg12 harg12 hc0 (up x0) (up x1) (up x2) (up x3) (up x4) (up x5))]
  unfold kernelRun0_A
  dsimp only
  sl_unfold_words
  first | rw [View.canon_unit_zero hz] | rw [View.canon_cons_unit_zero (S := S1x256) hz]
  simp only [View.readAt_eq_ld, harg2.read_unread, harg3.read_unread, harg4.read_unread, harg5.read_unread, harg6.read_unread, harg7.read_unread,
    harg8.read_unread, harg9.read_unread, harg10.read_unread, harg11.read_unread, harg12.read_unread, View.ld_unit_zero (S := S2048x1024) hz,
    View.ld_unit_zero (S := S256x1024) hz, View.ld_unit_zero (S := S2048x256) hz, View.ld_unit_zero (S := S1x256) hz, View.ld_unit]
  refine (full10 x0 x1 x2 x3 x4 x5 _ _ _ _ (fun _ => 0) ((View.readCov_unit_zero (S := S1x256) _ hz _ _).trans pay3_up)).trans ?_
  simp only [zero_add]
  all_goals rfl

end CaseA

section CaseB
variable (c : Dev nD) (i : grid0.Coords) (arg2 : Memref sig .tc .vmem S2048x1024 .bf16) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S3x256 .f32) (harg6 : arg6.IsWhole) (arg7 : Memref sig .tc .vmem S1x256 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S256x1024 .f32) (harg10 : arg10.IsWhole) (arg11 : Memref sig .tc .vmem S3x256 .f32) (harg11 : arg11.IsWhole) (arg12 : Memref sig .tc .vmem S1x256 .f32) (harg12 : arg12.IsWhole) (hc0 : ¬cond0_0 i)
  (x0 : S2048x1024.Idx → ℝ) (x1 : S256x1024.Idx → ℝ) (x2 x3 : S2048x256.Idx → ℝ) (x4 : S3x256.Idx → ℝ) (x5 : S1x256.Idx → ℝ)
  (xo8 : S256x1024.Idx → ℝ) (xo9 : S3x256.Idx → ℝ) (xo10 : S1x256.Idx → ℝ)

theorem out0_B_6_up :
    out0_B_6 (F := Ideal) c i arg2 harg2 arg3 harg3 arg4 harg4 arg5 harg5 arg6 harg6 arg7 harg7 arg8 harg8 arg9 harg9 arg10 harg10 arg11 harg11 arg12 harg12 hc0 (up x0) (up x1) (up x2) (up x3) (up x4) (up x5) (up xo8) (up xo9) (up xo10) = up (oDgp x0 x1 x2 x3 x4 x5) := by
  unfold out0_B_6
  rw [View.read_writes_eq_canon _ _ _ (cover0_B_6 (F := Ideal) c i arg2 harg2 arg3 harg3 arg4 harg4 arg5 harg5 arg6 harg6 arg7 harg7 arg8 harg8 arg9 harg9 arg10 harg10 arg11 harg11 arg12 harg12 hc0 (up x0) (up x1) (up x2) (up x3) (up x4) (up x5) (up xo8) (up xo9) (up xo10))]
  unfold kernelRun0_B
  dsimp only
  sl_unfold_words
  first | rw [View.canon_unit_zero hz] | rw [View.canon_cons_unit_zero (S := S2048x256) hz]
  simp only [View.readAt_eq_ld, harg2.read_unread, harg3.read_unread, harg4.read_unread, harg5.read_unread, harg6.read_unread, harg7.read_unread,
    harg8.read_unread, harg9.read_unread, harg10.read_unread, harg11.read_unread, harg12.read_unread, View.ld_unit_zero (S := S2048x1024) hz,
    View.ld_unit_zero (S := S256x1024) hz, View.ld_unit_zero (S := S2048x256) hz, View.ld_unit_zero (S := S1x256) hz, View.ld_unit]
  exact full6 x0 x1 x2 x3 x4 x5 _ _ _

theorem out0_B_7_up :
    out0_B_7 (F := Ideal) c i arg2 harg2 arg3 harg3 arg4 harg4 arg5 harg5 arg6 harg6 arg7 harg7 arg8 harg8 arg9 harg9 arg10 harg10 arg11 harg11 arg12 harg12 hc0 (up x0) (up x1) (up x2) (up x3) (up x4) (up x5) (up xo8) (up xo9) (up xo10) = up (oDup x0 x1 x2 x4 x5) := by
  unfold out0_B_7
  rw [View.read_writes_eq_canon _ _ _ (cover0_B_7 (F := Ideal) c i arg2 harg2 arg3 harg3 arg4 harg4 arg5 harg5 arg6 harg6 arg7 harg7 arg8 harg8 arg9 harg9 arg10 harg10 arg11 harg11 arg12 harg12 hc0 (up x0) (up x1) (up x2) (up x3) (up x4) (up x5) (up xo8) (up xo9) (up xo10))]
  unfold kernelRun0_B
  dsimp only
  sl_unfold_words
  first | rw [View.canon_unit_zero hz] | rw [View.canon_cons_unit_zero (S := S2048x256) hz]
  simp only [View.readAt_eq_ld, harg2.read_unread, harg3.read_unread, harg4.read_unread, harg5.read_unread, harg6.read_unread, harg7.read_unread,
    harg8.read_unread, harg9.read_unread, harg10.read_unread, harg11.read_unread, harg12.read_unread, View.ld_unit_zero (S := S2048x1024) hz,
    View.ld_unit_zero (S := S256x1024) hz, View.ld_unit_zero (S := S2048x256) hz, View.ld_unit_zero (S := S1x256) hz, View.ld_unit]
  exact full7 x0 x1 x2 x4 x5 _ _ _

theorem out0_B_8_up :
    out0_B_8 (F := Ideal) c i arg2 harg2 arg3 harg3 arg4 harg4 arg5 harg5 arg6 harg6 arg7 harg7 arg8 harg8 arg9 harg9 arg10 harg10 arg11 harg11 arg12 harg12 hc0 (up x0) (up x1) (up x2) (up x3) (up x4) (up x5) (up xo8) (up xo9) (up xo10) = up fun j => xo8 j + pDwd x0 x2 x3 x4 x5 j := by
  unfold out0_B_8
  rw [View.read_writes_eq_canon _ _ _ (cover0_B_8 (F := Ideal) c i arg2 harg2 arg3 harg3 arg4 harg4 arg5 harg5 arg6 harg6 arg7 harg7 arg8 harg8 arg9 harg9 arg10 harg10 arg11 harg11 arg12 harg12 hc0 (up x0) (up x1) (up x2) (up x3) (up x4) (up x5) (up xo8) (up xo9) (up xo10))]
  unfold kernelRun0_B
  dsimp only
  sl_unfold_words
  first | rw [View.canon_unit_zero hz] | rw [View.canon_cons_unit_zero (S := S256x1024) hz]
  simp only [View.readAt_eq_ld, harg2.read_unread, harg3.read_unread, harg4.read_unread, harg5.read_unread, harg6.read_unread, harg7.read_unread,
    harg8.read_unread, harg9.read_unread, harg10.read_unread, harg11.read_unread, harg12.read_unread, View.ld_unit_zero (S := S2048x1024) hz,
    View.ld_unit_zero (S := S256x1024) hz, View.ld_unit_zero (S := S2048x256) hz, View.ld_unit_zero (S := S1x256) hz, View.ld_unit]
  exact full8 x0 x2 x3 x4 x5 _ _ _ _ xo8 rfl

theorem out0_B_9_up :
    out0_B_9 (F := Ideal) c i arg2 harg2 arg3 harg3 arg4 harg4 arg5 harg5 arg6 harg6 arg7 harg7 arg8 harg8 arg9 harg9 arg10 harg10 arg11 harg11 arg12 harg12 hc0 (up x0) (up x1) (up x2) (up x3) (up x4) (up x5) (up xo8) (up xo9) (up xo10) = up fun j => xo9 j + pDcw x0 x1 x2 x3 x4 x5 j := by
  unfold out0_B_9
  rw [View.read_writes_eq_canon _ _ _ (cover0_B_9 (F := Ideal) c i arg2 harg2 arg3 harg3 arg4 harg4 arg5 harg5 arg6 harg6 arg7 harg7 arg8 harg8 arg9 harg9 arg10 harg10 arg11 harg11 arg12 harg12 hc0 (up x0) (up x1) (up x2) (up x3) (up x4) (up x5) (up xo8) (up xo9) (up xo10))]
  unfold kernelRun0_B
  dsimp only
  sl_unfold_words
  simp only [View.readAt_eq_ld, harg2.read_unread, harg3.read_unread, harg4.read_unread, harg5.read_unread, harg6.read_unread, harg7.read_unread,
    harg8.read_unread, harg9.read_unread, harg10.read_unread, harg11.read_unread, harg12.read_unread, View.ld_unit_zero (S := S2048x1024) hz,
    View.ld_unit_zero (S := S256x1024) hz, View.ld_unit_zero (S := S2048x256) hz, View.ld_unit_zero (S := S1x256) hz, View.ld_unit]
  refine canon_rows _ _ _ _ _ _ (full9a x0 x1 x2 x3 x4 x5 _ _ _ _ (fun j => xo9 (ix2 0 (c1 j))) (row_up 0 (by decide : 0 < 3) xo9 _))
    (full9b x0 x1 x2 x3 x4 x5 _ _ _ _ (fun j => xo9 (ix2 1 (c1 j))) (row_up 1 (by decide : 1 < 3) xo9 _))
    (full9c x0 x1 x2 x3 x4 x5 _ _ _ _ (fun j => xo9 (ix2 2 (c1 j))) (row_up 2 (by decide : 2 < 3) xo9 _))
    _ (fun c => ?_) (fun c => ?_) (fun c => ?_) _
  all_goals simp only [c1_ix2, r0_ix2, pDcw, tap]
  all_goals simp

theorem out0_B_10_up :
    out0_B_10 (F := Ideal) c i arg2 harg2 arg3 harg3 arg4 harg4 arg5 harg5 arg6 harg6 arg7 harg7 arg8 harg8 arg9 harg9 arg10 harg10 arg11 harg11 arg12 harg12 hc0 (up x0) (up x1) (up x2) (up x3) (up x4) (up x5) (up xo8) (up xo9) (up xo10) = up fun j => xo10 j + pDcb x0 x1 x2 x3 x4 x5 j := by
  unfold out0_B_10
  rw [View.read_writes_eq_canon _ _ _ (cover0_B_10 (F := Ideal) c i arg2 harg2 arg3 harg3 arg4 harg4 arg5 harg5 arg6 harg6 arg7 harg7 arg8 harg8 arg9 harg9 arg10 harg10 arg11 harg11 arg12 harg12 hc0 (up x0) (up x1) (up x2) (up x3) (up x4) (up x5) (up xo8) (up xo9) (up xo10))]
  unfold kernelRun0_B
  dsimp only
  sl_unfold_words
  first | rw [View.canon_unit_zero hz] | rw [View.canon_cons_unit_zero (S := S1x256) hz]
  simp only [View.readAt_eq_ld, harg2.read_unread, harg3.read_unread, harg4.read_unread, harg5.read_unread, harg6.read_unread, harg7.read_unread,
    harg8.read_unread, harg9.read_unread, harg10.read_unread, harg11.read_unread, harg12.read_unread, View.ld_unit_zero (S := S2048x1024) hz,
    View.ld_unit_zero (S := S256x1024) hz, View.ld_unit_zero (S := S2048x256) hz, View.ld_unit_zero (S := S1x256) hz, View.ld_unit]
  exact full10 x0 x1 x2 x3 x4 x5 _ _ _ _ xo10 rfl

end CaseB

end Cert.Act

end
-- ==== Proof.Lift.Fold.lean ====
/- Sums that a sweep of grid points builds up, flat rows of a batch, and indices read from numbers. -/
module

public import proofs.«01_k».proof.Proof.Lift.Dots

@[expose] public section

noncomputable section

namespace Cert.Lift

open Idealize.ShloMosaic Idealize.ShloMosaic.ValueIdx

/-- A property carried along the sweeps of `L` points: started at a sweep's first point, kept by every later one. -/
theorem sweep {N : Nat} (L : Nat) (P : (n : ℕ) → n < N → Prop)
    (hA : ∀ n h, n % L = 0 → P n h)
    (hB : ∀ n h, n % L ≠ 0 → ∀ h' : n - 1 < N, P (n - 1) h' → P n h) : ∀ n h, P n h := by
  intro n
  induction n with
  | zero => intro h; exact hA 0 h (Nat.zero_mod _)
  | succ n ih =>
    intro h
    by_cases h0 : (n + 1) % L = 0
    · exact hA _ h h0
    · exact hB _ h h0 (Nat.lt_of_succ_lt h) (ih (Nat.lt_of_succ_lt h))

/-- The sum of the sweep's points so far. -/
def part {A : Type} [AddCommMonoid A] {ι : Type} (L : Nat) (p : ℕ → ι → A) (n : Nat) (y : ι) : A := ∑ b ∈ Finset.range (n % L + 1), p (n - n % L + b) y

theorem part_first {A : Type} [AddCommMonoid A] {ι : Type} (L : Nat) (p : ℕ → ι → A) (n : Nat) (h : n % L = 0) : part L p n = p n := by
  funext y
  simp [part, h]

theorem part_next {A : Type} [AddCommMonoid A] {ι : Type} (L : Nat) (p : ℕ → ι → A) (n : Nat) (h : n % L ≠ 0) (hL : 0 < L) :
    (fun y => part L p (n - 1) y + p n y) = part L p n := by
  funext y
  have h1 : (n - 1) % L = n % L - 1 := by
    have e := Nat.div_add_mod n L
    have hl := Nat.mod_lt n hL
    have : n - 1 = L * (n / L) + (n % L - 1) := by omega
    rw [this, Nat.mul_add_mod]
    exact Nat.mod_eq_of_lt (by omega)
  have hle := Nat.mod_le n L
  unfold part
  rw [h1, show n % L - 1 + 1 = n % L by omega, Finset.sum_range_succ, show n - n % L + n % L = n by omega,
    show n - 1 - (n % L - 1) = n - n % L by omega]

/-- A whole sweep's sum. -/
theorem part_last {A : Type} [AddCommMonoid A] {ι : Type} (L : Nat) (p : ℕ → ι → A) (n : Nat) (h : n % L + 1 = L) (y : ι) :
    part L p n y = ∑ b : Fin L, p (n - n % L + b.val) y := by
  unfold part
  rw [h, Finset.sum_range]

/-- The rows of a batch laid flat. -/
theorem flat3 {B R C N : Nat} {α : Type} (a : (⟨3, ![B, R, C]⟩ : Shape).Idx → α)
    (h : (⟨3, ![B, R, C]⟩ : Shape).ShapeCasts ⟨2, ![N, C]⟩) (j : (⟨2, ![N, C]⟩ : Shape).Idx) (b : Fin B) (r : Fin R)
    (hj : (r0 j).val = b.val * R + r.val) : shapeCast ⟨2, ![N, C]⟩ a h j = a (ix3 b r (c1 j)) := by
  refine shapeCast_apply a h j _ ?_
  rw [Shape.rowMajor_val_two, Shape.rowMajor_val_three]
  show (b.val * R + r.val) * C + (c1 j).val = (r0 j).val * C + (c1 j).val
  rw [hj]

theorem ofNat_fst {n : Nat} [NeZero n] (r : Fin n) (k : Nat) : Fin.ofNat n (0 * k + r.val) = r :=
  Fin.ext (by show (0 * k + r.val) % n = r.val; rw [Nat.zero_mul, Nat.zero_add]; exact Nat.mod_eq_of_lt r.isLt)

theorem ofNat_val {n : Nat} [NeZero n] (r : Fin n) (k : Nat) (h : k = r.val) : Fin.ofNat n k = r :=
  Fin.ext (by show k % n = r.val; rw [h]; exact Nat.mod_eq_of_lt r.isLt)

end Cert.Lift

end
-- ==== Proof.Act.Arrays.lean ====
/- The arrays the kernel leaves, from real arguments: each result is one function of the argument arrays. -/
module

public import proofs.«01_k».proof.Proof.Act.Geometry
public import proofs.«01_k».proof.Proof.Act.Opened
public import proofs.«01_k».proof.Proof.Lift.Fold

@[expose] public section

noncomputable section

namespace Cert.Act

open Cert.KernelIdeal Cert.KernelIdeal.Gen Idealize.ShloMosaic Idealize.ShloMosaic.TcCoe Idealize.SL.Sem Cert.Lift Idealize.ShloMosaic.ValueIdx
open Idealize.ShloMosaic.Pipeline (Dat)

variable (A0 : S4x2048x1024.Idx → ℝ) (A1 : S2816x1024.Idx → ℝ) (A2 A3 : S4x2048x2816.Idx → ℝ) (A4 : S3x2816.Idx → ℝ) (A5 : S2816.Idx → ℝ)

/-! ### The results as functions of the arguments -/

/-- The gate at a place of one column. -/
def gG (b : Fin 4) (k : Fin 2816) (r : Fin 2048) : ℝ :=
  gate (fun r => A2 (ix3 b r k)) (A4 (ix2 0 k)) (A4 (ix2 1 k)) (A4 (ix2 2 k)) (A5 (ix1 k)) r
/-- The gradient that reaches the product. -/
def gD (b : Fin 4) (k : Fin 2816) (r : Fin 2048) : ℝ := ∑ q : Fin 1024, A0 (ix3 b r q) * A1 (ix2 k q)
/-- The gradient that reaches the gate. -/
def gE (b : Fin 4) (k : Fin 2816) (r : Fin 2048) : ℝ := gD A0 A1 b k r * A3 (ix3 b r k) * dgel (gG A2 A4 A5 b k r)
/-- The gradient of the convolution's argument. -/
def gDgp (b : Fin 4) (k : Fin 2816) (r : Fin 2048) : ℝ :=
  dx (gE A0 A1 A2 A3 A4 A5 b k) (A4 (ix2 0 k)) (A4 (ix2 1 k)) (A4 (ix2 2 k)) r
/-- The second factor's gradient. -/
def gDup (b : Fin 4) (k : Fin 2816) (r : Fin 2048) : ℝ := gD A0 A1 b k r * gel (gG A2 A4 A5 b k r)
/-- The weights' gradients. -/
def gDwd (k : Fin 2816) (q : Fin 1024) : ℝ :=
  ∑ b : Fin 4, ∑ r : Fin 2048, gel (gG A2 A4 A5 b k r) * A3 (ix3 b r k) * A0 (ix3 b r q)
def gDcw (e : Fin 3) (k : Fin 2816) : ℝ :=
  ∑ b : Fin 4, ∑ r : Fin 2048, gE A0 A1 A2 A3 A4 A5 b k r * tap e (fun r => A2 (ix3 b r k)) r
def gDcb (k : Fin 2816) : ℝ := ∑ b : Fin 4, ∑ r : Fin 2048, gE A0 A1 A2 A3 A4 A5 b k r

def GDgp : S8192x2816.Idx → ℝ := fun j =>
  gDgp A0 A1 A2 A3 A4 A5 (Fin.ofNat 4 ((r0 j).val / 2048)) (c1 j) (Fin.ofNat 2048 (r0 j).val)
def GDup : S8192x2816.Idx → ℝ := fun j =>
  gDup A0 A1 A2 A4 A5 (Fin.ofNat 4 ((r0 j).val / 2048)) (c1 j) (Fin.ofNat 2048 (r0 j).val)
def GDwd : S2816x1024.Idx → ℝ := fun j => gDwd A0 A2 A3 A4 A5 (r0 j) (c1 j)
def GDcw : S3x2816.Idx → ℝ := fun j => gDcw A0 A1 A2 A3 A4 A5 (r0 j) (c1 j)
def GDcb : S1x2816.Idx → ℝ := fun j => gDcb A0 A1 A2 A3 A4 A5 (c1 j)

/-! ### The blocks of the arguments -/

/-- The batch row and the column that point `n` works on. -/
abbrev bb (n : ℕ) : Fin 4 := Fin.ofNat 4 (n % 4)
abbrev kk (n : ℕ) (q : Fin 256) : Fin 2816 := Fin.ofNat 2816 (n / 4 * 256 + q.val)

def B0 (n : ℕ) : S2048x1024.Idx → ℝ := fun y => A0 (ix3 (bb n) (r0 y) (c1 y))
def B1 (n : ℕ) : S256x1024.Idx → ℝ := fun y => A1 (ix2 (kk n (r0 y)) (c1 y))
def B2 (n : ℕ) : S2048x256.Idx → ℝ := fun y => A2 (ix3 (bb n) (r0 y) (kk n (c1 y)))
def B4 (n : ℕ) : S3x256.Idx → ℝ := fun y => A4 (ix2 (r0 y) (kk n (c1 y)))
def B5 (n : ℕ) : S1x256.Idx → ℝ := fun y => A5 (ix1 (kk n (c1 y)))

variable (m : (ℓ : Loc nD τ sig) → Buf (Elt Ideal) ℓ) (c : Dev nD)

/-- The arguments hold the real arrays. -/
structure Holds : Prop where
  h0 : (m ((c : Thread nD τ).loc main_arg0) : S4x2048x1024.Idx → EReal) = up A0
  h1 : (m ((c : Thread nD τ).loc main_arg1) : S2816x1024.Idx → EReal) = up A1
  h2 : (m ((c : Thread nD τ).loc main_arg2) : S4x2048x2816.Idx → EReal) = up A2
  h3 : (m ((c : Thread nD τ).loc main_arg3) : S4x2048x2816.Idx → EReal) = up A3
  h4 : (m ((c : Thread nD τ).loc main_arg4) : S3x2816.Idx → EReal) = up A4
  h5 : (m ((c : Thread nD τ).loc main_arg5) : S2816.Idx → EReal) = up A5

variable {A0 A1 A2 A3 A4 A5 m c} (H : Holds A0 A1 A2 A3 A4 A5 m c)
include H

theorem ent0 : (V m c main_v1 : S8192x1024.Idx → EReal) = up (shapeCast S8192x1024 A0 shapeCasts_S4x2048x1024_S8192x1024) := by
  refine Eq.trans ?_ (congrArg (fun z : S4x2048x1024.Idx → EReal => shapeCast S8192x1024 z shapeCasts_S4x2048x1024_S8192x1024) H.h0)
  rfl
theorem ent1 : (V m c main_v2 : S2816x1024.Idx → EReal) = up A1 := by
  refine Eq.trans ?_ H.h1
  rfl
theorem ent2 : (V m c main_v3 : S8192x2816.Idx → EReal) = up (shapeCast S8192x2816 A2 shapeCasts_S4x2048x2816_S8192x2816) := by
  refine Eq.trans ?_ (congrArg (fun z : S4x2048x2816.Idx → EReal => shapeCast S8192x2816 z shapeCasts_S4x2048x2816_S8192x2816) H.h2)
  rfl
theorem ent3 : (V m c main_v4 : S8192x2816.Idx → EReal) = up (shapeCast S8192x2816 A3 shapeCasts_S4x2048x2816_S8192x2816) := by
  refine Eq.trans ?_ (congrArg (fun z : S4x2048x2816.Idx → EReal => shapeCast S8192x2816 z shapeCasts_S4x2048x2816_S8192x2816) H.h3)
  rfl
theorem ent4 : (V m c main_arg4 : S3x2816.Idx → EReal) = up A4 := by
  refine Eq.trans ?_ H.h4
  rfl
theorem ent5 : (V m c main_v5 : S1x2816.Idx → EReal) = up (shapeCast S1x2816 A5 shapeCasts_S2816_S1x2816) := by
  refine Eq.trans ?_ (congrArg (fun z : S2816.Idx → EReal => shapeCast S1x2816 z shapeCasts_S2816_S1x2816) H.h5)
  rfl

variable (t : Fin cfg0.N)

theorem blk0 : (iblk m c 0 t : S2048x1024.Idx → EReal) = up (B0 A0 t.val) := by
  refine (rd0 m c t _ (ent0 H)).trans (congrArg up (funext fun y => ?_))
  have ht : t.val < 44 := hN ▸ t.isLt
  have hr := (r0 y).isLt
  refine (flat3 A0 _ _ (bb t.val) (r0 y) ?_).trans ?_
  · show (t.val % 4 * 2048 + (r0 y).val) % 8192 = (t.val % 4) % 4 * 2048 + (r0 y).val
    omega
  · show A0 (ix3 (bb t.val) (r0 y) (Fin.ofNat 1024 (0 * 1024 + (c1 y).val))) = _
    rw [ofNat_val (c1 y) _ (by omega)]
    rfl
theorem blk1 : (iblk m c 1 t : S256x1024.Idx → EReal) = up (B1 A1 t.val) := by
  refine (rd1 m c t _ (ent1 H)).trans (congrArg up (funext fun y => ?_))
  rw [ofNat_val (c1 y) _ (by omega)]
  rfl
theorem blk2 : (iblk m c 2 t : S2048x256.Idx → EReal) = up (B2 A2 t.val) := by
  refine (rd2 m c t _ (ent2 H)).trans (congrArg up (funext fun y => ?_))
  have ht : t.val < 44 := hN ▸ t.isLt
  have hr := (r0 y).isLt
  refine (flat3 A2 _ _ (bb t.val) (r0 y) ?_).trans rfl
  show (t.val % 4 * 2048 + (r0 y).val) % 8192 = (t.val % 4) % 4 * 2048 + (r0 y).val
  omega
theorem blk3 : (iblk m c 3 t : S2048x256.Idx → EReal) = up (B2 A3 t.val) := by
  refine (rd3 m c t _ (ent3 H)).trans (congrArg up (funext fun y => ?_))
  have ht : t.val < 44 := hN ▸ t.isLt
  have hr := (r0 y).isLt
  refine (flat3 A3 _ _ (bb t.val) (r0 y) ?_).trans rfl
  show (t.val % 4 * 2048 + (r0 y).val) % 8192 = (t.val % 4) % 4 * 2048 + (r0 y).val
  omega
theorem blk4 : (iblk m c 4 t : S3x256.Idx → EReal) = up (B4 A4 t.val) := by
  refine (rd4 m c t _ (ent4 H)).trans (congrArg up (funext fun y => ?_))
  rw [ofNat_val (r0 y) _ (by omega)]
  rfl
theorem blk5 : (iblk m c 5 t : S1x256.Idx → EReal) = up (B5 A5 t.val) := by
  refine (rd5 m c t _ (ent5 H)).trans (congrArg up (funext fun y => ?_))
  exact asRow_apply A5 _ _

/-! ### What each grid point leaves -/

omit H in
/-- The parts of the sums that point `n` adds. -/
def p8 (A0 : S4x2048x1024.Idx → ℝ) (A2 A3 : S4x2048x2816.Idx → ℝ) (A4 : S3x2816.Idx → ℝ) (A5 : S2816.Idx → ℝ) (n : ℕ) : S256x1024.Idx → ℝ :=
  pDwd (B0 A0 n) (B2 A2 n) (B2 A3 n) (B4 A4 n) (B5 A5 n)
omit H in
def p9 (A0 : S4x2048x1024.Idx → ℝ) (A1 : S2816x1024.Idx → ℝ) (A2 A3 : S4x2048x2816.Idx → ℝ) (A4 : S3x2816.Idx → ℝ) (A5 : S2816.Idx → ℝ) (n : ℕ) : S3x256.Idx → ℝ :=
  pDcw (B0 A0 n) (B1 A1 n) (B2 A2 n) (B2 A3 n) (B4 A4 n) (B5 A5 n)
omit H in
def p10 (A0 : S4x2048x1024.Idx → ℝ) (A1 : S2816x1024.Idx → ℝ) (A2 A3 : S4x2048x2816.Idx → ℝ) (A4 : S3x2816.Idx → ℝ) (A5 : S2816.Idx → ℝ) (n : ℕ) : S1x256.Idx → ℝ :=
  pDcb (B0 A0 n) (B1 A1 n) (B2 A2 n) (B2 A3 n) (B4 A4 n) (B5 A5 n)

theorem first6 (h0 : t.val % 4 = 0) : ((outsAt0 m c t.val t.isLt).1 : S2048x256.Idx → EReal) = up (oDgp (B0 A0 t.val) (B1 A1 t.val) (B2 A2 t.val) (B2 A3 t.val) (B4 A4 t.val) (B5 A5 t.val)) := by
  rw [outsAt0_A m c t h0]
  dsimp only
  rw [blk0 H t, blk1 H t, blk2 H t, blk3 H t, blk4 H t, blk5 H t]
  exact out0_A_6_up _ _ _ _ _ _ _ _ _ _ _ _ _ _ _ _ _ _ _ _ _ _ _ _ _ (B0 A0 t.val) (B1 A1 t.val) (B2 A2 t.val) (B2 A3 t.val) (B4 A4 t.val) (B5 A5 t.val)
theorem first7 (h0 : t.val % 4 = 0) : ((outsAt0 m c t.val t.isLt).2.1 : S2048x256.Idx → EReal) = up (oDup (B0 A0 t.val) (B1 A1 t.val) (B2 A2 t.val) (B4 A4 t.val) (B5 A5 t.val)) := by
  rw [outsAt0_A m c t h0]
  dsimp only
  rw [blk0 H t, blk1 H t, blk2 H t, blk3 H t, blk4 H t, blk5 H t]
  exact out0_A_7_up _ _ _ _ _ _ _ _ _ _ _ _ _ _ _ _ _ _ _ _ _ _ _ _ _ (B0 A0 t.val) (B1 A1 t.val) (B2 A2 t.val) (B2 A3 t.val) (B4 A4 t.val) (B5 A5 t.val)
theorem first8 (h0 : t.val % 4 = 0) : ((outsAt0 m c t.val t.isLt).2.2.1 : S256x1024.Idx → EReal) = up (p8 A0 A2 A3 A4 A5 t.val) := by
  rw [outsAt0_A m c t h0]
  dsimp only
  rw [blk0 H t, blk1 H t, blk2 H t, blk3 H t, blk4 H t, blk5 H t]
  exact out0_A_8_up _ _ _ _ _ _ _ _ _ _ _ _ _ _ _ _ _ _ _ _ _ _ _ _ _ (B0 A0 t.val) (B1 A1 t.val) (B2 A2 t.val) (B2 A3 t.val) (B4 A4 t.val) (B5 A5 t.val)
theorem first9 (h0 : t.val % 4 = 0) : ((outsAt0 m c t.val t.isLt).2.2.2.1 : S3x256.Idx → EReal) = up (p9 A0 A1 A2 A3 A4 A5 t.val) := by
  rw [outsAt0_A m c t h0]
  dsimp only
  rw [blk0 H t, blk1 H t, blk2 H t, blk3 H t, blk4 H t, blk5 H t]
  exact out0_A_9_up _ _ _ _ _ _ _ _ _ _ _ _ _ _ _ _ _ _ _ _ _ _ _ _ _ (B0 A0 t.val) (B1 A1 t.val) (B2 A2 t.val) (B2 A3 t.val) (B4 A4 t.val) (B5 A5 t.val)
theorem first10 (h0 : t.val % 4 = 0) : ((outsAt0 m c t.val t.isLt).2.2.2.2 : S1x256.Idx → EReal) = up (p10 A0 A1 A2 A3 A4 A5 t.val) := by
  rw [outsAt0_A m c t h0]
  dsimp only
  rw [blk0 H t, blk1 H t, blk2 H t, blk3 H t, blk4 H t, blk5 H t]
  exact out0_A_10_up _ _ _ _ _ _ _ _ _ _ _ _ _ _ _ _ _ _ _ _ _ _ _ _ _ (B0 A0 t.val) (B1 A1 t.val) (B2 A2 t.val) (B2 A3 t.val) (B4 A4 t.val) (B5 A5 t.val)
theorem later6 (h0 : ¬t.val % 4 = 0) (hp) (a8 : S256x1024.Idx → ℝ) (a9 : S3x256.Idx → ℝ) (a10 : S1x256.Idx → ℝ)
    (h8 : ((outsAt0 m c (t.val - 1) hp).2.2.1 : S256x1024.Idx → EReal) = up a8)
    (h9 : ((outsAt0 m c (t.val - 1) hp).2.2.2.1 : S3x256.Idx → EReal) = up a9)
    (h10 : ((outsAt0 m c (t.val - 1) hp).2.2.2.2 : S1x256.Idx → EReal) = up a10) :
    ((outsAt0 m c t.val t.isLt).1 : S2048x256.Idx → EReal) = up (oDgp (B0 A0 t.val) (B1 A1 t.val) (B2 A2 t.val) (B2 A3 t.val) (B4 A4 t.val) (B5 A5 t.val)) := by
  rw [outsAt0_B m c t h0]
  dsimp only
  rw [blk0 H t, blk1 H t, blk2 H t, blk3 H t, blk4 H t, blk5 H t, h8, h9, h10]
  exact out0_B_6_up _ _ _ _ _ _ _ _ _ _ _ _ _ _ _ _ _ _ _ _ _ _ _ _ _ (B0 A0 t.val) (B1 A1 t.val) (B2 A2 t.val) (B2 A3 t.val) (B4 A4 t.val) (B5 A5 t.val) a8 a9 a10
theorem later7 (h0 : ¬t.val % 4 = 0) (hp) (a8 : S256x1024.Idx → ℝ) (a9 : S3x256.Idx → ℝ) (a10 : S1x256.Idx → ℝ)
    (h8 : ((outsAt0 m c (t.val - 1) hp).2.2.1 : S256x1024.Idx → EReal) = up a8)
    (h9 : ((outsAt0 m c (t.val - 1) hp).2.2.2.1 : S3x256.Idx → EReal) = up a9)
    (h10 : ((outsAt0 m c (t.val - 1) hp).2.2.2.2 : S1x256.Idx → EReal) = up a10) :
    ((outsAt0 m c t.val t.isLt).2.1 : S2048x256.Idx → EReal) = up (oDup (B0 A0 t.val) (B1 A1 t.val) (B2 A2 t.val) (B4 A4 t.val) (B5 A5 t.val)) := by
  rw [outsAt0_B m c t h0]
  dsimp only
  rw [blk0 H t, blk1 H t, blk2 H t, blk3 H t, blk4 H t, blk5 H t, h8, h9, h10]
  exact out0_B_7_up _ _ _ _ _ _ _ _ _ _ _ _ _ _ _ _ _ _ _ _ _ _ _ _ _ (B0 A0 t.val) (B1 A1 t.val) (B2 A2 t.val) (B2 A3 t.val) (B4 A4 t.val) (B5 A5 t.val) a8 a9 a10
theorem later8 (h0 : ¬t.val % 4 = 0) (hp) (a8 : S256x1024.Idx → ℝ) (a9 : S3x256.Idx → ℝ) (a10 : S1x256.Idx → ℝ)
    (h8 : ((outsAt0 m c (t.val - 1) hp).2.2.1 : S256x1024.Idx → EReal) = up a8)
    (h9 : ((outsAt0 m c (t.val - 1) hp).2.2.2.1 : S3x256.Idx → EReal) = up a9)
    (h10 : ((outsAt0 m c (t.val - 1) hp).2.2.2.2 : S1x256.Idx → EReal) = up a10) :
    ((outsAt0 m c t.val t.isLt).2.2.1 : S256x1024.Idx → EReal) = up fun y => a8 y + p8 A0 A2 A3 A4 A5 t.val y := by
  rw [outsAt0_B m c t h0]
  dsimp only
  rw [blk0 H t, blk1 H t, blk2 H t, blk3 H t, blk4 H t, blk5 H t, h8, h9, h10]
  exact out0_B_8_up _ _ _ _ _ _ _ _ _ _ _ _ _ _ _ _ _ _ _ _ _ _ _ _ _ (B0 A0 t.val) (B1 A1 t.val) (B2 A2 t.val) (B2 A3 t.val) (B4 A4 t.val) (B5 A5 t.val) a8 a9 a10
theorem later9 (h0 : ¬t.val % 4 = 0) (hp) (a8 : S256x1024.Idx → ℝ) (a9 : S3x256.Idx → ℝ) (a10 : S1x256.Idx → ℝ)
    (h8 : ((outsAt0 m c (t.val - 1) hp).2.2.1 : S256x1024.Idx → EReal) = up a8)
    (h9 : ((outsAt0 m c (t.val - 1) hp).2.2.2.1 : S3x256.Idx → EReal) = up a9)
    (h10 : ((outsAt0 m c (t.val - 1) hp).2.2.2.2 : S1x256.Idx → EReal) = up a10) :
    ((outsAt0 m c t.val t.isLt).2.2.2.1 : S3x256.Idx → EReal) = up fun y => a9 y + p9 A0 A1 A2 A3 A4 A5 t.val y := by
  rw [outsAt0_B m c t h0]
  dsimp only
  rw [blk0 H t, blk1 H t, blk2 H t, blk3 H t, blk4 H t, blk5 H t, h8, h9, h10]
  exact out0_B_9_up _ _ _ _ _ _ _ _ _ _ _ _ _ _ _ _ _ _ _ _ _ _ _ _ _ (B0 A0 t.val) (B1 A1 t.val) (B2 A2 t.val) (B2 A3 t.val) (B4 A4 t.val) (B5 A5 t.val) a8 a9 a10
theorem later10 (h0 : ¬t.val % 4 = 0) (hp) (a8 : S256x1024.Idx → ℝ) (a9 : S3x256.Idx → ℝ) (a10 : S1x256.Idx → ℝ)
    (h8 : ((outsAt0 m c (t.val - 1) hp).2.2.1 : S256x1024.Idx → EReal) = up a8)
    (h9 : ((outsAt0 m c (t.val - 1) hp).2.2.2.1 : S3x256.Idx → EReal) = up a9)
    (h10 : ((outsAt0 m c (t.val - 1) hp).2.2.2.2 : S1x256.Idx → EReal) = up a10) :
    ((outsAt0 m c t.val t.isLt).2.2.2.2 : S1x256.Idx → EReal) = up fun y => a10 y + p10 A0 A1 A2 A3 A4 A5 t.val y := by
  rw [outsAt0_B m c t h0]
  dsimp only
  rw [blk0 H t, blk1 H t, blk2 H t, blk3 H t, blk4 H t, blk5 H t, h8, h9, h10]
  exact out0_B_10_up _ _ _ _ _ _ _ _ _ _ _ _ _ _ _ _ _ _ _ _ _ _ _ _ _ (B0 A0 t.val) (B1 A1 t.val) (B2 A2 t.val) (B2 A3 t.val) (B4 A4 t.val) (B5 A5 t.val) a8 a9 a10

/-- The sums at every point. -/
theorem sums (n : ℕ) (h : n < cfg0.N) :
    ((outsAt0 m c n h).2.2.1 : S256x1024.Idx → EReal) = up (part 4 (p8 A0 A2 A3 A4 A5) n)
    ∧ ((outsAt0 m c n h).2.2.2.1 : S3x256.Idx → EReal) = up (part 4 (p9 A0 A1 A2 A3 A4 A5) n)
    ∧ ((outsAt0 m c n h).2.2.2.2 : S1x256.Idx → EReal) = up (part 4 (p10 A0 A1 A2 A3 A4 A5) n) := by
  refine sweep 4 (fun n h => ((outsAt0 m c n h).2.2.1 : S256x1024.Idx → EReal) = up (part 4 (p8 A0 A2 A3 A4 A5) n)
    ∧ ((outsAt0 m c n h).2.2.2.1 : S3x256.Idx → EReal) = up (part 4 (p9 A0 A1 A2 A3 A4 A5) n)
    ∧ ((outsAt0 m c n h).2.2.2.2 : S1x256.Idx → EReal) = up (part 4 (p10 A0 A1 A2 A3 A4 A5) n)) ?_ ?_ n h
  · intro n h h0
    rw [part_first 4 _ n h0, part_first 4 _ n h0, part_first 4 _ n h0]
    exact ⟨first8 H ⟨n, h⟩ h0, first9 H ⟨n, h⟩ h0, first10 H ⟨n, h⟩ h0⟩
  · rintro n h h0 h' ⟨h8, h9, h10⟩
    rw [← part_next 4 _ n h0 (by decide), ← part_next 4 _ n h0 (by decide), ← part_next 4 _ n h0 (by decide)]
    exact ⟨later8 H ⟨n, h⟩ h0 h' _ _ _ h8 h9 h10, later9 H ⟨n, h⟩ h0 h' _ _ _ h8 h9 h10, later10 H ⟨n, h⟩ h0 h' _ _ _ h8 h9 h10⟩

theorem at6 : ((outsAt0 m c t.val t.isLt).1 : S2048x256.Idx → EReal) = up (oDgp (B0 A0 t.val) (B1 A1 t.val) (B2 A2 t.val) (B2 A3 t.val) (B4 A4 t.val) (B5 A5 t.val)) := by
  by_cases h0 : t.val % 4 = 0
  · exact first6 H t h0
  · have hp : t.val - 1 < cfg0.N := Nat.lt_of_le_of_lt (Nat.sub_le _ _) t.isLt
    obtain ⟨h8, h9, h10⟩ := sums H (t.val - 1) hp
    exact later6 H t h0 hp _ _ _ h8 h9 h10

theorem at7 : ((outsAt0 m c t.val t.isLt).2.1 : S2048x256.Idx → EReal) = up (oDup (B0 A0 t.val) (B1 A1 t.val) (B2 A2 t.val) (B4 A4 t.val) (B5 A5 t.val)) := by
  by_cases h0 : t.val % 4 = 0
  · exact first7 H t h0
  · have hp : t.val - 1 < cfg0.N := Nat.lt_of_le_of_lt (Nat.sub_le _ _) t.isLt
    obtain ⟨h8, h9, h10⟩ := sums H (t.val - 1) hp
    exact later7 H t h0 hp _ _ _ h8 h9 h10

/-! ### The results -/

theorem res6 : ((dats m 0 c).arrAt 6 cfg0.N : S8192x2816.Idx → EReal) = up (GDgp A0 A1 A2 A3 A4 A5) := by
  refine arr6 m c (fun t => oDgp (B0 A0 t.val) (B1 A1 t.val) (B2 A2 t.val) (B2 A3 t.val) (B4 A4 t.val) (B5 A5 t.val)) _ (fun t _ => (after0_6 m c t).trans (at6 H t)) fun t _ y => ?_
  have ht : t.val < 44 := hN ▸ t.isLt
  have hr := (r0 y).isLt
  show gDgp A0 A1 A2 A3 A4 A5 (bb t.val) (kk t.val (c1 y)) (r0 y)
    = gDgp A0 A1 A2 A3 A4 A5 (Fin.ofNat 4 ((t.val % 4 * 2048 + (r0 y).val) % 8192 / 2048)) (kk t.val (c1 y)) (Fin.ofNat 2048 ((t.val % 4 * 2048 + (r0 y).val) % 8192))
  rw [show Fin.ofNat 2048 ((t.val % 4 * 2048 + (r0 y).val) % 8192) = r0 y from
    Fin.ext (by show (t.val % 4 * 2048 + (r0 y).val) % 8192 % 2048 = (r0 y).val; omega), show (t.val % 4 * 2048 + (r0 y).val) % 8192 / 2048 = t.val % 4 by omega]
theorem res7 : ((dats m 0 c).arrAt 7 cfg0.N : S8192x2816.Idx → EReal) = up (GDup A0 A1 A2 A4 A5) := by
  refine arr7 m c (fun t => oDup (B0 A0 t.val) (B1 A1 t.val) (B2 A2 t.val) (B4 A4 t.val) (B5 A5 t.val)) _ (fun t _ => (after0_7 m c t).trans (at7 H t)) fun t _ y => ?_
  have ht : t.val < 44 := hN ▸ t.isLt
  have hr := (r0 y).isLt
  show gDup A0 A1 A2 A4 A5 (bb t.val) (kk t.val (c1 y)) (r0 y)
    = gDup A0 A1 A2 A4 A5 (Fin.ofNat 4 ((t.val % 4 * 2048 + (r0 y).val) % 8192 / 2048)) (kk t.val (c1 y)) (Fin.ofNat 2048 ((t.val % 4 * 2048 + (r0 y).val) % 8192))
  rw [show Fin.ofNat 2048 ((t.val % 4 * 2048 + (r0 y).val) % 8192) = r0 y from
    Fin.ext (by show (t.val % 4 * 2048 + (r0 y).val) % 8192 % 2048 = (r0 y).val; omega), show (t.val % 4 * 2048 + (r0 y).val) % 8192 / 2048 = t.val % 4 by omega]
theorem res8 : ((dats m 0 c).arrAt 8 cfg0.N : S2816x1024.Idx → EReal) = up (GDwd A0 A2 A3 A4 A5) := by
  refine arr8 m c (fun t => part 4 (p8 A0 A2 A3 A4 A5) t.val) _
    (fun t _ => (after0_8 m c t).trans (sums H t.val t.isLt).1) fun t hf y => ?_
  have ht : t.val < 44 := hN ▸ t.isLt
  have h3 : t.val % 4 = 3 := (flush0_8 t).mp hf
  show _ = gDwd A0 A2 A3 A4 A5 (Fin.ofNat 2816 (t.val / 4 * 256 + (r0 y).val)) (Fin.ofNat 1024 (0 * 1024 + (c1 y).val))
  rw [ofNat_val (c1 y) _ (by omega)]
  rw [part_last 4 _ _ (by rw [h3])]
  show _ = gDwd A0 A2 A3 A4 A5 (kk t.val (r0 y)) (c1 y)
  refine Finset.sum_congr rfl fun b _ => ?_
  have hb := b.isLt
  have e : bb (t.val - t.val % 4 + b.val) = b := ofNat_val b _ (by omega)
  have e' : ∀ q, kk (t.val - t.val % 4 + b.val) q = kk t.val q := fun q => by
    have : (t.val - t.val % 4 + b.val) / 4 = t.val / 4 := by omega
    unfold kk
    rw [this]
  rw [← e' (r0 y)]
  generalize t.val - t.val % 4 + b.val = n at e
  subst e
  rfl
theorem res9 : ((dats m 0 c).arrAt 9 cfg0.N : S3x2816.Idx → EReal) = up (GDcw A0 A1 A2 A3 A4 A5) := by
  refine arr9 m c (fun t => part 4 (p9 A0 A1 A2 A3 A4 A5) t.val) _
    (fun t _ => (after0_9 m c t).trans (sums H t.val t.isLt).2.1) fun t hf y => ?_
  have ht : t.val < 44 := hN ▸ t.isLt
  have h3 : t.val % 4 = 3 := (flush0_9 t).mp hf
  show _ = gDcw A0 A1 A2 A3 A4 A5 (Fin.ofNat 3 (0 * 3 + (r0 y).val)) (Fin.ofNat 2816 (t.val / 4 * 256 + (c1 y).val))
  rw [ofNat_val (r0 y) _ (by omega)]
  rw [part_last 4 _ _ (by rw [h3])]
  show _ = gDcw A0 A1 A2 A3 A4 A5 (r0 y) (kk t.val (c1 y))
  refine Finset.sum_congr rfl fun b _ => ?_
  have hb := b.isLt
  have e : bb (t.val - t.val % 4 + b.val) = b := ofNat_val b _ (by omega)
  have e' : ∀ q, kk (t.val - t.val % 4 + b.val) q = kk t.val q := fun q => by
    have : (t.val - t.val % 4 + b.val) / 4 = t.val / 4 := by omega
    unfold kk
    rw [this]
  rw [← e' (c1 y)]
  generalize t.val - t.val % 4 + b.val = n at e
  subst e
  rfl
theorem res10 : ((dats m 0 c).arrAt 10 cfg0.N : S1x2816.Idx → EReal) = up (GDcb A0 A1 A2 A3 A4 A5) := by
  refine arr10 m c (fun t => part 4 (p10 A0 A1 A2 A3 A4 A5) t.val) _
    (fun t _ => (after0_10 m c t).trans (sums H t.val t.isLt).2.2) fun t hf y => ?_
  have ht : t.val < 44 := hN ▸ t.isLt
  have h3 : t.val % 4 = 3 := (flush0_10 t).mp hf
  show _ = gDcb A0 A1 A2 A3 A4 A5 (Fin.ofNat 2816 (t.val / 4 * 256 + (c1 y).val))

  rw [part_last 4 _ _ (by rw [h3])]
  show _ = gDcb A0 A1 A2 A3 A4 A5 (kk t.val (c1 y))
  refine Finset.sum_congr rfl fun b _ => ?_
  have hb := b.isLt
  have e : bb (t.val - t.val % 4 + b.val) = b := ofNat_val b _ (by omega)
  have e' : ∀ q, kk (t.val - t.val % 4 + b.val) q = kk t.val q := fun q => by
    have : (t.val - t.val % 4 + b.val) / 4 = t.val / 4 := by omega
    unfold kk
    rw [this]
  rw [← e' (c1 y)]
  generalize t.val - t.val % 4 + b.val = n at e
  subst e
  rfl

end Cert.Act

end
-- ==== Proof.Lift.Host.lean ====
/- The host's layout operations on real arrays, at an index, and the finiteness a bounded array has. -/
module

public import proofs.«01_k».proof.Proof.Lift.Fold
public import Idealize.ShloMosaic.Lib.KernelVsHost
public import Idealize.ShloMosaic.Lib.ReduceAll

@[expose] public section

noncomputable section

namespace Cert.Lift

open Idealize.ShloMosaic Idealize.ShloMosaic.ValueIdx

/-! ### Finiteness -/

theorem ofBits_big : Scalar.ofBits (F := Ideal) .f32 0x7F61B1E6#32 = ((14791142 * 2 ^ 104 : ℝ) : EReal) := by
  show Ideal.ofBits .f32 0x7F61B1E6#32 = _
  simp [Ideal.ofBits, Ideal.ieee, -EReal.coe_mul]

/-- An array bounded by a real number has only real elements. -/
theorem real_of_bounded {s t u z : Shape} {axes : List (Fin s.rank)} [Subsingleton t.Idx] (x : s.Idx → EReal) (dims) (hb : z.BroadcastsInDim s dims)
    (init : u.Idx → BitVec 1) (h : s.ReducesTo axes t) (hu : 0 < u.numel) (j : t.Idx)
    (e : Host.reduce IntOp.andi (cmpf (F := Ideal) (φ := .f32) .ole (Host.absf (F := Ideal) (φ := .f32) x)
      (broadcastInDim s dims hb (constant (F := Ideal) z .f32 0x7F61B1E6#32))) init h hu j = 1#1) :
    x = up fun i => (x i).toReal := by
  refine eq_up x fun i => ?_
  have hi := Host.reduce_andi_all _ init h hu j e i
  have hi' : Ideal.cmp .ole (max (x i) (-(x i))) (Scalar.ofBits (F := Ideal) .f32 0x7F61B1E6#32) = 1#1 := hi
  rw [ofBits_big] at hi'
  have hle : max (x i) (-(x i)) ≤ ((14791142 * 2 ^ 104 : ℝ) : EReal) := by
    by_contra hc
    have e : Ideal.cmp .ole (max (x i) (-(x i))) ((14791142 * 2 ^ 104 : ℝ) : EReal) = BitVec.ofBool (decide (max (x i) (-(x i)) ≤ ((14791142 * 2 ^ 104 : ℝ) : EReal))) := rfl
    rw [e, decide_eq_false hc] at hi'
    exact absurd hi' (by decide)
  constructor
  · intro ht
    rw [ht] at hle
    exact absurd (le_trans (le_max_left _ _) hle) (by simp only [top_le_iff]; exact EReal.coe_ne_top _)
  · intro ht
    rw [ht] at hle
    exact absurd (le_trans (le_max_right _ _) hle) (by simp only [EReal.neg_bot, top_le_iff]; exact EReal.coe_ne_top _)

/-! ### Layout -/

section Layout
variable {α : Type} {B R C : Nat}

theorem splat_host {z t : Shape} (dims) (h : z.BroadcastsInDim t dims) (q : ℝ) :
    broadcastInDim t dims h (up fun _ => q) = up fun _ => q := rfl

/-- A vector read along the last of three axes. -/
theorem last_up (h : (⟨3, ![1, 1, C]⟩ : Shape).BroadcastsInDim ⟨3, ![B, R, C]⟩ ![0, 1, 2])
    (h' : (⟨1, ![C]⟩ : Shape).BroadcastsInDim ⟨3, ![1, 1, C]⟩ ![2]) (a : (⟨1, ![C]⟩ : Shape).Idx → ℝ) :
    broadcastInDim ⟨3, ![B, R, C]⟩ ![0, 1, 2] h (broadcastInDim ⟨3, ![1, 1, C]⟩ ![2] h' (up a)) = up fun j => a (ix1 (d2 j)) := by
  funext j
  have hj : (d2 j).val < C := (d2 j).isLt
  refine (broadcastInDim_apply _ h _ j (ix3 (0 : Fin 1) (0 : Fin 1) (d2 j)) fun e => ?_).trans ?_
  · match e with
    | ⟨0, _⟩ => rfl
    | ⟨1, _⟩ => rfl
    | ⟨2, _⟩ =>
      show (d2 j).val = if C = 1 then 0 else (d2 j).val
      split <;> omega
  · refine broadcastInDim_apply _ h' _ _ (ix1 (d2 j)) fun e => ?_
    match e with
    | ⟨0, _⟩ =>
      show (d2 j).val = if C = 1 then 0 else (d2 j).val
      split <;> omega

/-- A row as a vector. -/
theorem vec_up (a : (⟨2, ![1, C]⟩ : Shape).Idx → ℝ) (h) :
    shapeCast ⟨1, ![C]⟩ (up a) h = up fun j => a (ix2 0 (v0 j)) := by
  funext j
  refine shapeCast_apply (up a) h j _ ?_
  rw [Shape.rowMajor_val_one, Shape.rowMajor_val_two]
  show 0 * C + (v0 j).val = (j 0).val
  rw [Nat.zero_mul, Nat.zero_add]
  rfl

/-- A vector through three axes and back. -/
theorem sum_back {u : Shape} (a : (⟨1, ![C]⟩ : Shape).Idx → ℝ) (z : u.Idx → ℝ) (h : (⟨1, ![C]⟩ : Shape).ShapeCasts ⟨3, ![1, 1, C]⟩)
    (hr) (hu : 0 < u.numel) :
    Host.reduceAdd (F := Ideal) (φ := .f32) (axes := [0, 1]) (t := ⟨1, ![C]⟩) (shapeCast ⟨3, ![1, 1, C]⟩ (up a) h) (up z) hr hu
      = up fun j => z (Shape.Idx.first hu) + a j := by
  rw [shapeCast_up, host_rows3_up]
  congr 1
  funext j
  congr 1
  rw [Fin.sum_univ_one, Fin.sum_univ_one]
  refine shapeCast_apply a h _ _ ?_
  rw [Shape.rowMajor_val_one, Shape.rowMajor_val_three]
  show (j 0).val = ((0 * 1 + 0) * C + (v0 j).val)
  simp [v0]

/-- A vector as a row of a table of one row. -/
theorem rowOf_up (h : (⟨1, ![C]⟩ : Shape).BroadcastsInDim ⟨2, ![1, C]⟩ ![1]) (a : (⟨1, ![C]⟩ : Shape).Idx → ℝ) :
    broadcastInDim ⟨2, ![1, C]⟩ ![1] h (up a) = up fun j => a (ix1 (c1 j)) := by
  funext j
  have hj : (c1 j).val < C := (c1 j).isLt
  refine broadcastInDim_apply _ h _ j _ fun e => ?_
  match e with
  | ⟨0, _⟩ =>
    show (c1 j).val = if C = 1 then 0 else (c1 j).val
    split <;> omega

/-- The transpose of a table. -/
theorem swap_up (a : (⟨2, ![R, C]⟩ : Shape).Idx → ℝ) (h) :
    transpose ⟨2, ![C, R]⟩ [1, 0] (up a) h = up fun j => a (ix2 (c1 j) (r0 j)) := by
  funext j
  refine transpose_apply _ _ h j _ fun e => ?_
  match e with
  | ⟨0, _⟩ => rfl
  | ⟨1, _⟩ => rfl

/-- The rows of a batch laid flat, at an index of the flat rows. -/
theorem flat_up {N : Nat} [NeZero B] [NeZero R] (hN : N = B * R) (a : (⟨3, ![B, R, C]⟩ : Shape).Idx → ℝ)
    (h : (⟨3, ![B, R, C]⟩ : Shape).ShapeCasts ⟨2, ![N, C]⟩) :
    shapeCast ⟨2, ![N, C]⟩ (up a) h = up fun j => a (ix3 (Fin.ofNat B ((r0 j).val / R)) (Fin.ofNat R (r0 j).val) (c1 j)) := by
  rw [shapeCast_up]
  congr 1
  funext j
  refine flat3 a h j _ _ ?_
  show (r0 j).val = (r0 j).val / R % B * R + (r0 j).val % R
  have hj : (r0 j).val < B * R := hN ▸ (r0 j).isLt
  have hlt : (r0 j).val / R < B := Nat.div_lt_of_lt_mul (by rw [Nat.mul_comm]; exact hj)
  rw [Nat.mod_eq_of_lt hlt, Nat.mul_comm]
  exact (Nat.div_add_mod _ _).symm

end Layout

/-! ### A sequence with a border of zeros -/

section Border
variable {B C n : Nat}

/-- The sequence of each column between two zero places, cut at the border's first place: one place back. -/
theorem border0 (g : (⟨3, ![B, n, C]⟩ : Shape).Idx → ℝ) (h) (hs) :
    extractStridedSlice ⟨3, ![B, n, C]⟩ ![0, 0, 0]
      (concatenate ⟨3, ![B, n + 2, C]⟩ 1 [⟨⟨3, ![B, 1, C]⟩, up fun _ => 0⟩, ⟨⟨3, ![B, n, C]⟩, up g⟩, ⟨⟨3, ![B, 1, C]⟩, up fun _ => 0⟩] h) hs
      = up fun j => prev (fun r => g (ix3 (d0 j) r (d2 j))) (d1 j) := by
  funext j
  have hn : (d1 j).val < n := (d1 j).isLt
  refine (extractStridedSlice_apply _ _ hs j (ix3 (d0 j) (⟨(d1 j).val, by omega⟩ : Fin (n + 2)) (d2 j)) fun e => ?_).trans ?_
  · match e with
    | ⟨0, _⟩ => show (d0 j).val = 0 + (d0 j).val; omega
    | ⟨1, _⟩ => show (d1 j).val = 0 + (d1 j).val; omega
    | ⟨2, _⟩ => show (d2 j).val = 0 + (d2 j).val; omega
  · unfold prev
    by_cases h0 : (d1 j).val = 0
    · refine (concatenate_apply_piece _ _ h _ 0 (by simp) ⟨3, ![B, 1, C]⟩ (up fun _ => 0) rfl rfl 0 rfl (ix3 (d0 j) (0 : Fin 1) (d2 j)) ?_ ?_).trans ?_
      · intro b hb
        match b with
        | ⟨0, _⟩ => rfl
        | ⟨1, _⟩ => exact absurd rfl hb
        | ⟨2, _⟩ => rfl
      · show 0 + 0 = (d1 j).val; omega
      · simp only [up]; rw [if_pos h0]
    · refine (concatenate_apply_piece _ _ h _ 1 (by simp) ⟨3, ![B, n, C]⟩ (up g) rfl rfl 1 (by simp) (ix3 (d0 j) (⟨(d1 j).val - 1, by omega⟩ : Fin n) (d2 j)) ?_ ?_).trans ?_
      · intro b hb
        match b with
        | ⟨0, _⟩ => rfl
        | ⟨1, _⟩ => exact absurd rfl hb
        | ⟨2, _⟩ => rfl
      · show 1 + ((d1 j).val - 1) = (d1 j).val; omega
      · simp only [up]; rw [if_neg h0]

theorem border0' (g : (⟨3, ![B, n, C]⟩ : Shape).Idx → ℝ) (z : (⟨3, ![B, 1, C]⟩ : Shape).Idx → EReal) (G : (⟨3, ![B, n, C]⟩ : Shape).Idx → EReal)
    (hz : z = up fun _ => 0) (hG : G = up g) (h) (hs) :
    extractStridedSlice ⟨3, ![B, n, C]⟩ ![0, 0, 0]
      (concatenate ⟨3, ![B, n + 2, C]⟩ 1 [⟨⟨3, ![B, 1, C]⟩, z⟩, ⟨⟨3, ![B, n, C]⟩, G⟩, ⟨⟨3, ![B, 1, C]⟩, z⟩] h) hs
      = up fun j => prev (fun r => g (ix3 (d0 j) r (d2 j))) (d1 j) := by
  subst hz hG
  exact border0 g h hs

/-- Cut at its second place: the sequence itself. -/
theorem border1 (g : (⟨3, ![B, n, C]⟩ : Shape).Idx → ℝ) (h) (hs) :
    extractStridedSlice ⟨3, ![B, n, C]⟩ ![0, 1, 0]
      (concatenate ⟨3, ![B, n + 2, C]⟩ 1 [⟨⟨3, ![B, 1, C]⟩, up fun _ => 0⟩, ⟨⟨3, ![B, n, C]⟩, up g⟩, ⟨⟨3, ![B, 1, C]⟩, up fun _ => 0⟩] h) hs
      = up g := by
  funext j
  have hn : (d1 j).val < n := (d1 j).isLt
  refine (extractStridedSlice_apply _ _ hs j (ix3 (d0 j) (⟨1 + (d1 j).val, by omega⟩ : Fin (n + 2)) (d2 j)) fun e => ?_).trans ?_
  · match e with
    | ⟨0, _⟩ => show (d0 j).val = 0 + (d0 j).val; omega
    | ⟨1, _⟩ => rfl
    | ⟨2, _⟩ => show (d2 j).val = 0 + (d2 j).val; omega
  · refine concatenate_apply_piece _ _ h _ 1 (by simp) ⟨3, ![B, n, C]⟩ (up g) rfl rfl 1 (by simp) j ?_ ?_
    · intro b hb
      match b with
      | ⟨0, _⟩ => rfl
      | ⟨1, _⟩ => exact absurd rfl hb
      | ⟨2, _⟩ => rfl
    · rfl

theorem border1' (g : (⟨3, ![B, n, C]⟩ : Shape).Idx → ℝ) (z : (⟨3, ![B, 1, C]⟩ : Shape).Idx → EReal) (G : (⟨3, ![B, n, C]⟩ : Shape).Idx → EReal)
    (hz : z = up fun _ => 0) (hG : G = up g) (h) (hs) :
    extractStridedSlice ⟨3, ![B, n, C]⟩ ![0, 1, 0]
      (concatenate ⟨3, ![B, n + 2, C]⟩ 1 [⟨⟨3, ![B, 1, C]⟩, z⟩, ⟨⟨3, ![B, n, C]⟩, G⟩, ⟨⟨3, ![B, 1, C]⟩, z⟩] h) hs
      = up g := by
  subst hz hG
  exact border1 g h hs

/-- Cut at its third place: one place on. -/
theorem border2 (g : (⟨3, ![B, n, C]⟩ : Shape).Idx → ℝ) (h) (hs) :
    extractStridedSlice ⟨3, ![B, n, C]⟩ ![0, 2, 0]
      (concatenate ⟨3, ![B, n + 2, C]⟩ 1 [⟨⟨3, ![B, 1, C]⟩, up fun _ => 0⟩, ⟨⟨3, ![B, n, C]⟩, up g⟩, ⟨⟨3, ![B, 1, C]⟩, up fun _ => 0⟩] h) hs
      = up fun j => next (fun r => g (ix3 (d0 j) r (d2 j))) (d1 j) := by
  funext j
  have hn : (d1 j).val < n := (d1 j).isLt
  refine (extractStridedSlice_apply _ _ hs j (ix3 (d0 j) (⟨2 + (d1 j).val, by omega⟩ : Fin (n + 2)) (d2 j)) fun e => ?_).trans ?_
  · match e with
    | ⟨0, _⟩ => show (d0 j).val = 0 + (d0 j).val; omega
    | ⟨1, _⟩ => rfl
    | ⟨2, _⟩ => show (d2 j).val = 0 + (d2 j).val; omega
  · unfold next
    by_cases h0 : (d1 j).val + 1 < n
    · refine (concatenate_apply_piece _ _ h _ 1 (by simp) ⟨3, ![B, n, C]⟩ (up g) rfl rfl 1 (by simp) (ix3 (d0 j) (⟨(d1 j).val + 1, h0⟩ : Fin n) (d2 j)) ?_ ?_).trans ?_
      · intro b hb
        match b with
        | ⟨0, _⟩ => rfl
        | ⟨1, _⟩ => exact absurd rfl hb
        | ⟨2, _⟩ => rfl
      · show 1 + ((d1 j).val + 1) = 2 + (d1 j).val; omega
      · simp only [up]; rw [dif_pos h0]
    · refine (concatenate_apply_piece _ _ h _ 2 (by simp) ⟨3, ![B, 1, C]⟩ (up fun _ => 0) rfl rfl (n + 1) ?_ (ix3 (d0 j) (0 : Fin 1) (d2 j)) ?_ ?_).trans ?_
      · simp; omega
      · intro b hb
        match b with
        | ⟨0, _⟩ => rfl
        | ⟨1, _⟩ => exact absurd rfl hb
        | ⟨2, _⟩ => rfl
      · show n + 1 + 0 = 2 + (d1 j).val; omega
      · simp only [up]; rw [dif_neg h0]

theorem border2' (g : (⟨3, ![B, n, C]⟩ : Shape).Idx → ℝ) (z : (⟨3, ![B, 1, C]⟩ : Shape).Idx → EReal) (G : (⟨3, ![B, n, C]⟩ : Shape).Idx → EReal)
    (hz : z = up fun _ => 0) (hG : G = up g) (h) (hs) :
    extractStridedSlice ⟨3, ![B, n, C]⟩ ![0, 2, 0]
      (concatenate ⟨3, ![B, n + 2, C]⟩ 1 [⟨⟨3, ![B, 1, C]⟩, z⟩, ⟨⟨3, ![B, n, C]⟩, G⟩, ⟨⟨3, ![B, 1, C]⟩, z⟩] h) hs
      = up fun j => next (fun r => g (ix3 (d0 j) r (d2 j))) (d1 j) := by
  subst hz hG
  exact border2 g h hs

/-- Padded by two zeros before: at the second place and on, one place back. -/
theorem pad2_cut (g : (⟨3, ![B, n, C]⟩ : Shape).Idx → ℝ) {u : Shape} (h) (hu : 0 < u.numel) (b : Fin B) (r : Fin n) (k : Fin C) :
    pad ⟨3, ![B, n + 2, C]⟩ ![0, 2, 0] ![0, 0, 0] ![0, 0, 0] g (fun _ : u.Idx => (0 : ℝ)) h hu (ix3 b (⟨1 + r.val, by omega⟩ : Fin (n + 2)) k)
      = prev (fun r => g (ix3 b r k)) r := by
  unfold prev
  by_cases h0 : r.val = 0
  · rw [if_pos h0]
    refine pad_apply_of_not_inside _ _ _ _ _ h hu _ 1 ?_
    rintro ⟨h1, -⟩
    have h1' : 2 ≤ 1 + r.val := h1
    omega
  · rw [if_neg h0]
    refine pad_apply_of_inside _ _ _ _ _ h hu _ (ix3 b (⟨r.val - 1, by omega⟩ : Fin n) k) fun a => ?_
    match a with
    | ⟨0, _⟩ => show b.val = 0 + b.val * (0 + 1); omega
    | ⟨1, _⟩ => show 1 + r.val = 2 + (r.val - 1) * (0 + 1); omega
    | ⟨2, _⟩ => show k.val = 0 + k.val * (0 + 1); omega

theorem pad1_cut (g : (⟨3, ![B, n, C]⟩ : Shape).Idx → ℝ) {u : Shape} (h) (hu : 0 < u.numel) (b : Fin B) (r : Fin n) (k : Fin C) :
    pad ⟨3, ![B, n + 2, C]⟩ ![0, 1, 0] ![0, 1, 0] ![0, 0, 0] g (fun _ : u.Idx => (0 : ℝ)) h hu (ix3 b (⟨1 + r.val, by omega⟩ : Fin (n + 2)) k)
      = g (ix3 b r k) := by
  refine pad_apply_of_inside _ _ _ _ _ h hu _ (ix3 b r k) fun a => ?_
  match a with
  | ⟨0, _⟩ => show b.val = 0 + b.val * (0 + 1); omega
  | ⟨1, _⟩ => show 1 + r.val = 1 + r.val * (0 + 1); omega
  | ⟨2, _⟩ => show k.val = 0 + k.val * (0 + 1); omega

theorem pad0_cut (g : (⟨3, ![B, n, C]⟩ : Shape).Idx → ℝ) {u : Shape} (h) (hu : 0 < u.numel) (b : Fin B) (r : Fin n) (k : Fin C) :
    pad ⟨3, ![B, n + 2, C]⟩ ![0, 0, 0] ![0, 2, 0] ![0, 0, 0] g (fun _ : u.Idx => (0 : ℝ)) h hu (ix3 b (⟨1 + r.val, by omega⟩ : Fin (n + 2)) k)
      = next (fun r => g (ix3 b r k)) r := by
  unfold next
  by_cases h0 : r.val + 1 < n
  · rw [dif_pos h0]
    refine pad_apply_of_inside _ _ _ _ _ h hu _ (ix3 b (⟨r.val + 1, h0⟩ : Fin n) k) fun a => ?_
    match a with
    | ⟨0, _⟩ => show b.val = 0 + b.val * (0 + 1); omega
    | ⟨1, _⟩ => show 1 + r.val = 0 + (r.val + 1) * (0 + 1); omega
    | ⟨2, _⟩ => show k.val = 0 + k.val * (0 + 1); omega
  · rw [dif_neg h0]
    refine pad_apply_of_not_inside _ _ _ _ _ h hu _ 1 ?_
    rintro ⟨-, -, h1⟩
    have h1' : (1 + r.val - 0) / (0 + 1) < n := h1
    simp only [Nat.sub_zero, Nat.zero_add, Nat.div_one] at h1'
    omega

/-- The three shifted sequences put back together: the inner places of the sum of the three paddings. -/
theorem pads_cut (g2 g1 g0 : (⟨3, ![B, n, C]⟩ : Shape).Idx → ℝ) {u : Shape} (h2 h1 h0) (hu : 0 < u.numel) (hs) :
    extractStridedSlice ⟨3, ![B, n, C]⟩ ![0, 1, 0]
      (addf (F := Ideal) (φ := .f32) (addf (F := Ideal) (φ := .f32)
        (pad ⟨3, ![B, n + 2, C]⟩ ![0, 2, 0] ![0, 0, 0] ![0, 0, 0] (up g2) (up fun _ : u.Idx => (0 : ℝ)) h2 hu)
        (pad ⟨3, ![B, n + 2, C]⟩ ![0, 1, 0] ![0, 1, 0] ![0, 0, 0] (up g1) (up fun _ : u.Idx => (0 : ℝ)) h1 hu))
        (pad ⟨3, ![B, n + 2, C]⟩ ![0, 0, 0] ![0, 2, 0] ![0, 0, 0] (up g0) (up fun _ : u.Idx => (0 : ℝ)) h0 hu)) hs
      = up fun j => prev (fun r => g2 (ix3 (d0 j) r (d2 j))) (d1 j) + g1 j + next (fun r => g0 (ix3 (d0 j) r (d2 j))) (d1 j) := by
  rw [pad_up, pad_up, pad_up, addf_up, addf_up, slice_up]
  congr 1
  funext j
  have hn : (d1 j).val < n := (d1 j).isLt
  refine (extractStridedSlice_apply _ _ hs j (ix3 (d0 j) (⟨1 + (d1 j).val, by omega⟩ : Fin (n + 2)) (d2 j)) fun e => ?_).trans ?_
  · match e with
    | ⟨0, _⟩ => show (d0 j).val = 0 + (d0 j).val; omega
    | ⟨1, _⟩ => rfl
    | ⟨2, _⟩ => show (d2 j).val = 0 + (d2 j).val; omega
  · show _ + _ + _ = _
    rw [pad2_cut, pad1_cut, pad0_cut, ← eq_dd]

/-- Three rows put under each other. -/
theorem three_rows (g2 g1 g0 : (⟨2, ![1, C]⟩ : Shape).Idx → ℝ) {u : Shape} (h2 h1 h0) (hu : 0 < u.numel) :
    addf (F := Ideal) (φ := .f32) (addf (F := Ideal) (φ := .f32)
        (pad ⟨2, ![3, C]⟩ ![2, 0] ![0, 0] ![0, 0] (up g2) (up fun _ : u.Idx => (0 : ℝ)) h2 hu)
        (pad ⟨2, ![3, C]⟩ ![1, 0] ![1, 0] ![0, 0] (up g1) (up fun _ : u.Idx => (0 : ℝ)) h1 hu))
        (pad ⟨2, ![3, C]⟩ ![0, 0] ![2, 0] ![0, 0] (up g0) (up fun _ : u.Idx => (0 : ℝ)) h0 hu)
      = up fun j => if (r0 j).val = 0 then g0 (ix2 0 (c1 j)) else if (r0 j).val = 1 then g1 (ix2 0 (c1 j)) else g2 (ix2 0 (c1 j)) := by
  rw [pad_up, pad_up, pad_up, addf_up, addf_up]
  congr 1
  funext j
  have hj : (r0 j).val < 3 := (r0 j).isLt
  have inside : ∀ (q : Nat) (lo hi : Fin 2 → Nat) (hlo : lo 0 = q) (hlo1 : lo 1 = 0) (g : (⟨2, ![1, C]⟩ : Shape).Idx → ℝ) (h : (⟨2, ![1, C]⟩ : Shape).Pads lo hi ![0, 0] ⟨2, ![3, C]⟩),
      (r0 j).val = q → pad ⟨2, ![3, C]⟩ lo hi ![0, 0] g (fun _ : u.Idx => (0 : ℝ)) h hu j = g (ix2 0 (c1 j)) := by
    intro q lo hi hlo hlo1 g h hq
    refine pad_apply_of_inside _ _ _ _ _ h hu _ (ix2 (0 : Fin 1) (c1 j)) fun a => ?_
    match a with
    | ⟨0, _⟩ => show (r0 j).val = lo 0 + 0 * (0 + 1); rw [hlo]; omega
    | ⟨1, _⟩ => show (c1 j).val = lo 1 + (c1 j).val * (0 + 1); rw [hlo1]; omega
  have outside : ∀ (q : Nat) (lo hi : Fin 2 → Nat) (hlo : lo 0 = q) (g : (⟨2, ![1, C]⟩ : Shape).Idx → ℝ) (h : (⟨2, ![1, C]⟩ : Shape).Pads lo hi ![0, 0] ⟨2, ![3, C]⟩),
      (r0 j).val ≠ q → pad ⟨2, ![3, C]⟩ lo hi ![0, 0] g (fun _ : u.Idx => (0 : ℝ)) h hu j = 0 := by
    intro q lo hi hlo g h hq
    refine pad_apply_of_not_inside _ _ _ _ _ h hu _ 0 ?_
    rintro ⟨h1, -, h3⟩
    have h1' : lo 0 ≤ (r0 j).val := h1
    have h3' : ((r0 j).val - lo 0) / (0 + 1) < 1 := h3
    rw [hlo] at h1' h3'
    simp only [Nat.zero_add, Nat.div_one] at h3'
    omega
  rcases (by omega : (r0 j).val = 0 ∨ (r0 j).val = 1 ∨ (r0 j).val = 2) with e | e | e
  · rw [outside 2 _ _ rfl g2 h2 (by omega), outside 1 _ _ rfl g1 h1 (by omega), inside 0 _ _ rfl rfl g0 h0 e, if_pos e]
    simp
  · rw [outside 2 _ _ rfl g2 h2 (by omega), inside 1 _ _ rfl rfl g1 h1 e, outside 0 _ _ rfl g0 h0 (by omega), if_neg (by omega), if_pos e]
    simp
  · rw [inside 2 _ _ rfl rfl g2 h2 e, outside 1 _ _ rfl g1 h1 (by omega), outside 0 _ _ rfl g0 h0 (by omega), if_neg (by omega), if_neg (by omega)]
    simp

end Border

end Cert.Lift

end
-- ==== Proof.Act.Ref.lean ====
/- The reference's results, from real arguments: the same functions of the argument arrays as the kernel's. -/
module

public import proofs.«01_k».proof.Proof.Act.Arrays
public import proofs.«01_k».proof.Proof.Lift.Host
public import proofs.«01_k».proof.Proof.Gen.ReferenceIdeal.Run

@[expose] public section

noncomputable section

namespace Cert.Act.Ref

open Cert.ReferenceIdeal Cert.ReferenceIdeal.Gen Cert.ReferenceIdeal.Value Idealize.ShloMosaic Idealize.ShloMosaic.TcCoe Idealize.SL.Sem
  Idealize.ShloMosaic.StableHlo Cert.Lift Idealize.ShloMosaic.ValueIdx

variable (A0 : S4x2048x1024.Idx → ℝ) (A1 : S2816x1024.Idx → ℝ) (A2 A3 : S4x2048x2816.Idx → ℝ) (A4 : S3x2816.Idx → ℝ) (A5 : S2816.Idx → ℝ)

/-- The arguments hold the real arrays. -/
structure Holds (V0 : Valuation τ sig (Elt Ideal)) : Prop where
  h0 : (V0 (Proc.devRef .tc main_arg0) : S4x2048x1024.Idx → EReal) = up A0
  h1 : (V0 (Proc.devRef .tc main_arg1) : S2816x1024.Idx → EReal) = up A1
  h2 : (V0 (Proc.devRef .tc main_arg2) : S4x2048x2816.Idx → EReal) = up A2
  h3 : (V0 (Proc.devRef .tc main_arg3) : S4x2048x2816.Idx → EReal) = up A3
  h4 : (V0 (Proc.devRef .tc main_arg4) : S3x2816.Idx → EReal) = up A4
  h5 : (V0 (Proc.devRef .tc main_arg5) : S2816.Idx → EReal) = up A5

variable {A0 A1 A2 A3 A4 A5} {V0 : Valuation τ sig (Elt Ideal)} (H : Holds A0 A1 A2 A3 A4 A5 V0)
include H

theorem v5_up : (res_main_v5 V0 : S4x2048x2816.Idx → EReal) = up fun j => prev (fun r => A2 (ix3 (d0 j) r (d2 j))) (d1 j) := by
  unfold res_main_v5 res_main_v2
  exact border0' A2 _ _ (by rw [const_zero]; rfl) H.h2 _ _
theorem v11_up : (res_main_v11 V0 : S4x2048x2816.Idx → EReal) = up A2 := by
  unfold res_main_v11 res_main_v2
  exact border1' A2 _ _ (by rw [const_zero]; rfl) H.h2 _ _
theorem v18_up : (res_main_v18 V0 : S4x2048x2816.Idx → EReal) = up fun j => next (fun r => A2 (ix3 (d0 j) r (d2 j))) (d1 j) := by
  unfold res_main_v18 res_main_v2
  exact border2' A2 _ _ (by rw [const_zero]; rfl) H.h2 _ _

theorem w0_up : (broadcastInDim S4x2048x2816 ![0, 1, 2] bcast_S1x1x2816_S4x2048x2816_0_1_2 (res_main_v8 V0) : S4x2048x2816.Idx → EReal)
    = up fun j => A4 (ix2 0 (d2 j)) := by
  unfold res_main_v8
  rw [H.h4, row_up 0 (by decide), vec_up, last_up]
  rfl
theorem w1_up : (broadcastInDim S4x2048x2816 ![0, 1, 2] bcast_S1x1x2816_S4x2048x2816_0_1_2 (res_main_v14 V0) : S4x2048x2816.Idx → EReal)
    = up fun j => A4 (ix2 1 (d2 j)) := by
  unfold res_main_v14
  rw [H.h4, row_up 1 (by decide), vec_up, last_up]
  rfl
theorem w2_up : (broadcastInDim S4x2048x2816 ![0, 1, 2] bcast_S1x1x2816_S4x2048x2816_0_1_2 (res_main_v21 V0) : S4x2048x2816.Idx → EReal)
    = up fun j => A4 (ix2 2 (d2 j)) := by
  unfold res_main_v21
  rw [H.h4, row_up 2 (by decide), vec_up, last_up]
  rfl

/-- The gate. -/
theorem v27_up : (res_main_v27 V0 : S4x2048x2816.Idx → EReal) = up fun j => gG A2 A4 A5 (d0 j) (d2 j) (d1 j) := by
  unfold res_main_v27
  rw [v5_up H, v11_up H, v18_up H, w0_up H, w1_up H, w2_up H, H.h5, last_up]
  simp only [mulf_up, addf_up]
  congr 1
  funext j
  show _ = prev _ _ * _ + A2 (ix3 (d0 j) (d1 j) (d2 j)) * _ + _ + _
  rw [← eq_dd j]

omit H in
theorem v28_up : (res_main_v28 V0 : S_.Idx → EReal) = up fun _ => (8943 / 200000 : ℝ) := by
  unfold res_main_v28
  rw [const_44715, const_million, hostDivf_up _ _ (fun _ => by norm_num)]
  congr 1
  funext j
  norm_num

/-- The hyperbolic tangent in the activation. -/
theorem v39_up : (res_main_v39 V0 : S4x2048x2816.Idx → EReal) = up fun j => th (gG A2 A4 A5 (d0 j) (d2 j) (d1 j)) := by
  unfold res_main_v39
  rw [v27_up H, v28_up, const_root]
  simp only [splat_host, mulf_up, addf_up, hostTanh_up]
  congr 1
  funext j
  unfold th
  congr 1
  ring

theorem v48_up : (res_main_v48 V0 : S4x2048x2816.Idx → EReal) = up fun j => 1 / 2 * (1 + th (gG A2 A4 A5 (d0 j) (d2 j) (d1 j))) := by
  unfold res_main_v48
  rw [v39_up H, const_half, const_one]
  simp only [splat_host, mulf_up, addf_up]
  rfl

theorem v49_up : (res_main_v49 V0 : S4x2048x2816.Idx → EReal) = up fun j => gel (gG A2 A4 A5 (d0 j) (d2 j) (d1 j)) := by
  unfold res_main_v49
  rw [v27_up H, v48_up H]
  simp only [mulf_up]
  congr 1
  funext j
  unfold gel
  ring

theorem v54_up : (res_main_v54 V0 : S4x2048x2816.Idx → EReal) = up fun j => gD A0 A1 (d0 j) (d2 j) (d1 j) := by
  unfold res_main_v54
  rw [H.h0, H.h1, host_3nt dot_S4x2048x1024_S2816x1024_S4x2048x2816_2_1_01_0_n_n rfl rfl rfl rfl rfl rfl]
  rfl

theorem v56_up : (res_main_v56 V0 : S4x2048x2816.Idx → EReal) = up fun j => gD A0 A1 (d0 j) (d2 j) (d1 j) * A3 j := by
  unfold res_main_v56
  rw [v54_up H, H.h3, mulf_up]
  rfl

theorem v63_up : (res_main_v63 V0 : S4x2048x2816.Idx → EReal) = up fun j =>
    13386282 / 16777216 * (1 / 2 * (gG A2 A4 A5 (d0 j) (d2 j) (d1 j) * (gD A0 A1 (d0 j) (d2 j) (d1 j) * A3 j))
      * ((1 + th (gG A2 A4 A5 (d0 j) (d2 j) (d1 j))) * (1 - th (gG A2 A4 A5 (d0 j) (d2 j) (d1 j))))) := by
  unfold res_main_v63
  rw [v56_up H, v27_up H, v39_up H, const_root, const_half, const_one]
  simp only [splat_host, mulf_up, addf_up, subf_up]
  rfl

/-- The gate's gradient. -/
theorem v68_up : (res_main_v68 V0 : S4x2048x2816.Idx → EReal) = up fun j => gE A0 A1 A2 A3 A4 A5 (d0 j) (d2 j) (d1 j) := by
  unfold res_main_v68
  rw [v63_up H, v56_up H, v27_up H, v48_up H, v28_up, const_three]
  simp only [splat_host, mulf_up, addf_up]
  congr 1
  funext j
  unfold gE dgel
  rw [← eq_dd j]
  ring

/-! ### The results -/

theorem out0 : (truncf (F := Ideal) .bf16 (shapeCast _ (extractStridedSlice S4x2048x2816 ![0, 1, 0] (res_main_v102 V0) slices_S4x2050x2816_S4x2048x2816_0_1_0) shapeCasts_S4x2048x2816_S8192x2816) bitsLt_bf16_f32 : S8192x2816.Idx → EReal)
    = up (GDgp A0 A1 A2 A3 A4 A5) := by
  unfold res_main_v102
  rw [v68_up H, w0_up H, w1_up H, w2_up H, const_zero]
  simp only [mulf_up]
  rw [pads_cut, flat_up (by decide), truncf_up]
  congr 1
  funext j
  unfold GDgp gDgp dx
  simp only [d0_ix3, d1_ix3, d2_ix3]
  unfold prev next
  split <;> split <;> ring

theorem out1 : (truncf (F := Ideal) .bf16 (shapeCast _ (mulf (res_main_v49 V0) (res_main_v54 V0)) shapeCasts_S4x2048x2816_S8192x2816) bitsLt_bf16_f32 : S8192x2816.Idx → EReal)
    = up (GDup A0 A1 A2 A4 A5) := by
  rw [v49_up H, v54_up H, mulf_up, flat_up (by decide), truncf_up]
  congr 1
  funext j
  unfold GDup gDup
  simp only [d0_ix3, d1_ix3, d2_ix3]
  ring

theorem out2 : (transpose S2816x1024 [1, 0] (Host.dotGeneral (F := Ideal) (φ₁ := .f32) (φ₂ := .f32) dot_S4x2048x1024_S4x2048x2816_S1024x2816_01_01_2_2_n_n none (V0 (Proc.devRef .tc main_arg0)) (res_main_v50 V0)) transposes_S1024x2816_S2816x1024_1_0 : S2816x1024.Idx → EReal)
    = up (GDwd A0 A2 A3 A4 A5) := by
  unfold res_main_v50
  rw [v49_up H, H.h3, H.h0, mulf_up, host_3tn dot_S4x2048x1024_S4x2048x2816_S1024x2816_01_01_2_2_n_n rfl rfl rfl rfl rfl rfl, swap_up]
  congr 1
  funext j
  unfold GDwd gDwd
  simp only [d0_ix3, d1_ix3, d2_ix3, r0_ix2, c1_ix2]
  refine Finset.sum_congr rfl fun b _ => Finset.sum_congr rfl fun r _ => ?_
  ring

omit H in
/-- The sum over the batch of a product, through the three axes and back. -/
theorem sum_row (a : S4x2048x2816.Idx → ℝ) :
    (broadcastInDim S1x2816 ![1] bcast_S2816_S1x2816_1 (Host.reduceAdd (F := Ideal) (φ := .f32) (shapeCast _ (Host.reduceAdd (F := Ideal) (φ := .f32) (up a) (constant S_ .f32 0x00000000#32) reducesTo_S4x2048x2816_S2816_d0_1 h_S_) shapeCasts_S2816_S1x1x2816) (constant S_ .f32 0x00000000#32) reducesTo_S1x1x2816_S2816_d0_1 h_S_) : S1x2816.Idx → EReal)
      = up fun j => ∑ b : Fin 4, ∑ r : Fin 2048, a (ix3 b r (c1 j)) := by
  rw [const_zero, host_rows3_up, sum_back, rowOf_up]
  simp only [zero_add, v0_ix1]

theorem out3 : (addf (F := Ideal) (φ := .f32) (addf (pad S3x2816 ![2, 0] ![0, 0] ![0, 0] (broadcastInDim S1x2816 ![1] bcast_S2816_S1x2816_1 (Host.reduceAdd (shapeCast _ (Host.reduceAdd (mulf (res_main_v18 V0) (res_main_v68 V0)) (constant S_ .f32 0x00000000#32) reducesTo_S4x2048x2816_S2816_d0_1 h_S_) shapeCasts_S2816_S1x1x2816) (constant S_ .f32 0x00000000#32) reducesTo_S1x1x2816_S2816_d0_1 h_S_)) (constant S_ .f32 0x00000000#32) pads_S1x2816_S3x2816_200_000 h_S_) (pad S3x2816 ![1, 0] ![1, 0] ![0, 0] (broadcastInDim S1x2816 ![1] bcast_S2816_S1x2816_1 (Host.reduceAdd (shapeCast _ (Host.reduceAdd (mulf (res_main_v11 V0) (res_main_v68 V0)) (constant S_ .f32 0x00000000#32) reducesTo_S4x2048x2816_S2816_d0_1 h_S_) shapeCasts_S2816_S1x1x2816) (constant S_ .f32 0x00000000#32) reducesTo_S1x1x2816_S2816_d0_1 h_S_)) (constant S_ .f32 0x00000000#32) pads_S1x2816_S3x2816_110_000 h_S_)) (pad S3x2816 ![0, 0] ![2, 0] ![0, 0] (broadcastInDim S1x2816 ![1] bcast_S2816_S1x2816_1 (Host.reduceAdd (shapeCast _ (Host.reduceAdd (mulf (res_main_v5 V0) (res_main_v68 V0)) (constant S_ .f32 0x00000000#32) reducesTo_S4x2048x2816_S2816_d0_1 h_S_) shapeCasts_S2816_S1x1x2816) (constant S_ .f32 0x00000000#32) reducesTo_S1x1x2816_S2816_d0_1 h_S_)) (constant S_ .f32 0x00000000#32) pads_S1x2816_S3x2816_020_000 h_S_) : S3x2816.Idx → EReal)
    = up (GDcw A0 A1 A2 A3 A4 A5) := by
  rw [v5_up H, v11_up H, v18_up H, v68_up H, mulf_up, mulf_up, mulf_up, sum_row, sum_row, sum_row, const_zero]
  refine (three_rows _ _ _ _ _ _ _).trans ?_
  congr 1
  funext j
  unfold GDcw gDcw tap
  simp only [d0_ix3, d1_ix3, d2_ix3, c1_ix2]
  split
  · exact Finset.sum_congr rfl fun b _ => Finset.sum_congr rfl fun r _ => by ring
  · split
    · exact Finset.sum_congr rfl fun b _ => Finset.sum_congr rfl fun r _ => by ring
    · exact Finset.sum_congr rfl fun b _ => Finset.sum_congr rfl fun r _ => by ring

theorem out4 : (shapeCast S1x2816 (Host.reduceAdd (F := Ideal) (φ := .f32) (shapeCast _ (Host.reduceAdd (res_main_v68 V0) (constant S_ .f32 0x00000000#32) reducesTo_S4x2048x2816_S2816_d0_1 h_S_) shapeCasts_S2816_S1x1x2816) (constant S_ .f32 0x00000000#32) reducesTo_S1x1x2816_S2816_d0_1 h_S_) shapeCasts_S2816_S1x2816 : S1x2816.Idx → EReal)
    = up (GDcb A0 A1 A2 A3 A4 A5) := by
  rw [v68_up H, const_zero, host_rows3_up, sum_back, asRow_up]
  congr 1
  funext j
  simp only [zero_add, v0_ix1, d0_ix3, d1_ix3, d2_ix3]
  rfl

end Cert.Act.Ref

end
-- ==== Proof.Act.Claims.lean ====
/- The claims about the backward pass of the gated activation. -/
module

public import proofs.«01_k».proof.Defs
public import proofs.«01_k».proof.Proof.Act.Arrays
public import proofs.«01_k».proof.Proof.Act.Ref
public import proofs.«01_k».proof.Proof.Gen.Kernel.Frame
public import proofs.«01_k».proof.Proof.Gen.Pre_finite
public import Idealize.ShloMosaic.Adequacy
public import Idealize.ShloMosaic.Init

@[expose] public section

noncomputable section

namespace Cert.Act

open Idealize.ShloMosaic Idealize.ShloMosaic.TcCoe Idealize.SL.Sem Cert.Lift Idealize.ShloMosaic.ValueIdx

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite := fun m ρ _ => Cert.KernelIdeal.Gen.frame m ρ
theorem frame_ri : Cert.quiescent_ReferenceIdeal := fun m ρ _ => (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)
theorem frame_ri_pre : Cert.quiescent_ReferenceIdeal_pre_finite := fun m ρ _ => (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

theorem preserves : Cert.preserves_Kernel_KernelIdeal :=
  ⟨IdealRules.named_const.statement Cert.KernelIdeal.κ "gelu_cubic" .f32 0x3D372713#32 ((8943 / 200000 : ℝ) : EReal) rfl,
    IdealRules.named_const.statement Cert.KernelIdeal.κ "gelu_cubic3" .f32 0x3E095D4F#32 ((26829 / 200000 : ℝ) : EReal) rfl⟩

instance : Subsingleton Cert.Pre_finite.S_.Idx := ⟨fun a b => funext fun x => x.elim0⟩

/-- Bounded arguments are real arrays. -/
theorem holds {m : (ℓ : Loc Cert.KernelIdeal.nD Cert.KernelIdeal.τ Cert.KernelIdeal.sig) → Buf (Elt Ideal) ℓ}
    (hpre : Cert.Pre_KernelIdeal_finite m) (c : Dev Cert.KernelIdeal.nD) :
    ∃ A0 A1 A2 A3 A4 A5, Holds A0 A1 A2 A3 A4 A5 m c := by
  have h := congrFun (hpre c) (fun a => a.elim0)
  unfold Cert.Pre_finite.fn Cert.Pre_finite.fn_part1 at h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨_, _, _, _, _, _, ⟨real_of_bounded _ _ _ _ _ _ _ h0, real_of_bounded _ _ _ _ _ _ _ h1, real_of_bounded _ _ _ _ _ _ _ h2,
    real_of_bounded _ _ _ _ _ _ _ h3, real_of_bounded _ _ _ _ _ _ _ h4, real_of_bounded _ _ _ _ _ _ _ h5⟩⟩

/-- The kernel's five results are the reference's: both are the same functions of the real arguments. -/
theorem algebraic : Cert.algebraic_KernelIdeal_ReferenceIdeal_pre_finite := by
  intro m ρ m' ρ' hpre hagree
  refine ⟨_, _, _, _, _, Cert.KernelIdeal.Value.run_blocks (F := Ideal) m ρ, ?_⟩
  refine (θ_run Cert.ReferenceIdeal.defs _ _).mono (fun _ h c => ?_) (Cert.ReferenceIdeal.Value.run (F := Ideal) m' ρ')
  obtain ⟨A0, A1, A2, A3, A4, A5, H⟩ := holds hpre c
  obtain ⟨e0, e1, e2, e3, e4, e5⟩ := hagree c
  have H' : Ref.Holds A0 A1 A2 A3 A4 A5 (StableHlo.launchContents m' c) :=
    ⟨e0.trans H.h0, e1.trans H.h1, e2.trans H.h2, e3.trans H.h3, e4.trans H.h4, e5.trans H.h5⟩
  exact ⟨(h c).1.trans ((Ref.out0 H').trans (res6 H).symm), (h c).2.1.trans ((Ref.out1 H').trans (res7 H).symm),
    (h c).2.2.1.trans ((Ref.out2 H').trans (res8 H).symm), (h c).2.2.2.1.trans ((Ref.out3 H').trans (res9 H).symm),
    (h c).2.2.2.2.1.trans ((Ref.out4 H').trans (res10 H).symm), (h c).2.2.2.2.2⟩

end Cert.Act

end
-- ==== Proof.Lift.Ext.lean ====
/- The operations on ideal arrays, read at an index: products and sums as sums over the coordinates they run over, and the
   layout operations. -/
module

public import proofs.«01_k».proof.Proof.Lift.Host

@[expose] public section

noncomputable section

namespace Cert.Ext

open Idealize.ShloMosaic Idealize.ShloMosaic.ValueIdx Cert.Lift

/-- An array of extended reals. -/
abbrev Arr (s : Shape) := s.Idx → EReal

theorem hz : (![0, 0] : Fin 2 → Nat) = fun _ => 0 := funext fun a => by fin_cases a <;> rfl

theorem congr2 {α β δ : Type} (f : α → β → δ) {a a' : α} {b b' : β} (ha : a = a') (hb : b = b') : f a b = f a' b' := by
  rw [ha, hb]
theorem congr3 {α β γ δ : Type} (f : α → β → γ → δ) {a a' : α} {b b' : β} {c c' : γ} (ha : a = a') (hb : b = b') (hc : c = c') :
    f a b c = f a' b' c' := by
  rw [ha, hb, hc]
theorem congr4 {α β γ δ ε : Type} (f : α → β → γ → δ → ε) {a a' : α} {b b' : β} {c c' : γ} {d d' : δ} (ha : a = a') (hb : b = b') (hc : c = c')
    (hd : d = d') : f a b c d = f a' b' c' d' := by
  rw [ha, hb, hc, hd]

/-! ### Words -/

theorem zeroF : Scalar.ofBits (F := Ideal) .f32 0x00000000#32 = (0 : EReal) := ofBits_zero
theorem zeroI : Ideal.ofBits .f32 0x00000000#32 = (0 : EReal) := ofBits_zero
theorem dimI : Ideal.ofBits .f32 0x44800000#32 = ((1024 : ℝ) : EReal) := by
  simp [Ideal.ofBits, Ideal.ieee, -EReal.coe_mul]; norm_num
theorem neghalfI : Ideal.ofBits .f32 0xBF000000#32 = ((-(1 / 2) : ℝ) : EReal) := by
  simp [Ideal.ofBits, Ideal.ieee, -EReal.coe_mul]; norm_num
theorem epsI : Ideal.ofBits .f32 0x358637BD#32 = ((8796093 / 2 ^ 43 : ℝ) : EReal) := by
  simp [Ideal.ofBits, Ideal.ieee, -EReal.coe_mul]; norm_num

/-! ### Products -/

section Products
variable {φ ψ : FTy} {M N K B S : Nat}

theorem matmul_nt (d : DotDims ⟨2, ![M, K]⟩ ⟨2, ![N, K]⟩ ⟨2, ![M, N]⟩) (h1 : d.lhsContracting = [1]) (h2 : d.rhsContracting = [1])
    (h3 : d.lhsNonContracting = [0]) (h4 : d.rhsNonContracting = [0]) (h5 : d.lhsBatch = []) (h6 : d.rhsBatch = []) (pr)
    (l : Arr ⟨2, ![M, K]⟩) (r : Arr ⟨2, ![N, K]⟩) :
    (matmul (F := Ideal) (φ₁ := φ) (φ₂ := ψ) d pr l r (constant (F := Ideal) _ .f32 0x00000000#32) : Arr ⟨2, ![M, N]⟩)
      = fun j => ∑ k : Fin K, l (ix2 (r0 j) k) * r (ix2 (c1 j) k) := by
  funext j
  refine Eq.trans (congrArg (· + _) zeroF) ((zero_add _).trans ?_)
  rw [eq_rc j]
  exact dot_nt d h1 h2 h3 h4 h5 h6 l r (r0 j) (c1 j)

theorem matmul_nn (d : DotDims ⟨2, ![M, K]⟩ ⟨2, ![K, N]⟩ ⟨2, ![M, N]⟩) (h1 : d.lhsContracting = [1]) (h2 : d.rhsContracting = [0])
    (h3 : d.lhsNonContracting = [0]) (h4 : d.rhsNonContracting = [1]) (h5 : d.lhsBatch = []) (h6 : d.rhsBatch = []) (pr)
    (l : Arr ⟨2, ![M, K]⟩) (r : Arr ⟨2, ![K, N]⟩) :
    (matmul (F := Ideal) (φ₁ := φ) (φ₂ := ψ) d pr l r (constant (F := Ideal) _ .f32 0x00000000#32) : Arr ⟨2, ![M, N]⟩)
      = fun j => ∑ k : Fin K, l (ix2 (r0 j) k) * r (ix2 k (c1 j)) := by
  funext j
  refine Eq.trans (congrArg (· + _) zeroF) ((zero_add _).trans ?_)
  rw [eq_rc j]
  exact dot_nn d h1 h2 h3 h4 h5 h6 l r (r0 j) (c1 j)

theorem matmul_tn (d : DotDims ⟨2, ![K, M]⟩ ⟨2, ![K, N]⟩ ⟨2, ![M, N]⟩) (h1 : d.lhsContracting = [0]) (h2 : d.rhsContracting = [0])
    (h3 : d.lhsNonContracting = [1]) (h4 : d.rhsNonContracting = [1]) (h5 : d.lhsBatch = []) (h6 : d.rhsBatch = []) (pr)
    (l : Arr ⟨2, ![K, M]⟩) (r : Arr ⟨2, ![K, N]⟩) :
    (matmul (F := Ideal) (φ₁ := φ) (φ₂ := ψ) d pr l r (constant (F := Ideal) _ .f32 0x00000000#32) : Arr ⟨2, ![M, N]⟩)
      = fun j => ∑ k : Fin K, l (ix2 k (r0 j)) * r (ix2 k (c1 j)) := by
  funext j
  refine Eq.trans (congrArg (· + _) zeroF) ((zero_add _).trans ?_)
  rw [eq_rc j]
  exact dot_tn d h1 h2 h3 h4 h5 h6 l r (r0 j) (c1 j)

theorem host_nn3 (d : DotDims ⟨3, ![B, S, K]⟩ ⟨2, ![K, N]⟩ ⟨3, ![B, S, N]⟩) (h1 : d.lhsContracting = [2]) (h2 : d.rhsContracting = [0])
    (h3 : d.lhsNonContracting = [0, 1]) (h4 : d.rhsNonContracting = [1]) (h5 : d.lhsBatch = []) (h6 : d.rhsBatch = []) (pr)
    (l : Arr ⟨3, ![B, S, K]⟩) (r : Arr ⟨2, ![K, N]⟩) :
    (Host.dotGeneral (F := Ideal) (φ₁ := φ) (φ₂ := ψ) d pr l r : Arr ⟨3, ![B, S, N]⟩)
      = fun j => ∑ k : Fin K, l (ix3 (d0 j) (d1 j) k) * r (ix2 k (d2 j)) := by
  funext j
  refine (zero_add _).trans ?_
  rw [eq_ix3' j]
  exact dot3_nn d h1 h2 h3 h4 h5 h6 l r (d0 j) (d1 j) (d2 j)

theorem host_nt3 (d : DotDims ⟨3, ![B, S, K]⟩ ⟨2, ![N, K]⟩ ⟨3, ![B, S, N]⟩) (h1 : d.lhsContracting = [2]) (h2 : d.rhsContracting = [1])
    (h3 : d.lhsNonContracting = [0, 1]) (h4 : d.rhsNonContracting = [0]) (h5 : d.lhsBatch = []) (h6 : d.rhsBatch = []) (pr)
    (l : Arr ⟨3, ![B, S, K]⟩) (r : Arr ⟨2, ![N, K]⟩) :
    (Host.dotGeneral (F := Ideal) (φ₁ := φ) (φ₂ := ψ) d pr l r : Arr ⟨3, ![B, S, N]⟩)
      = fun j => ∑ k : Fin K, l (ix3 (d0 j) (d1 j) k) * r (ix2 (d2 j) k) := by
  funext j
  refine (zero_add _).trans ?_
  rw [eq_ix3' j]
  exact dot3_nt d h1 h2 h3 h4 h5 h6 l r (d0 j) (d1 j) (d2 j)

theorem host_tn3 (d : DotDims ⟨3, ![B, S, M]⟩ ⟨3, ![B, S, N]⟩ ⟨2, ![M, N]⟩) (h1 : d.lhsContracting = [0, 1]) (h2 : d.rhsContracting = [0, 1])
    (h3 : d.lhsNonContracting = [2]) (h4 : d.rhsNonContracting = [2]) (h5 : d.lhsBatch = []) (h6 : d.rhsBatch = []) (pr)
    (l : Arr ⟨3, ![B, S, M]⟩) (r : Arr ⟨3, ![B, S, N]⟩) :
    (Host.dotGeneral (F := Ideal) (φ₁ := φ) (φ₂ := ψ) d pr l r : Arr ⟨2, ![M, N]⟩)
      = fun j => ∑ p : Fin B, ∑ q : Fin S, l (ix3 p q (r0 j)) * r (ix3 p q (c1 j)) := by
  funext j
  refine (zero_add _).trans ?_
  rw [eq_rc j]
  exact dot3_tn d h1 h2 h3 h4 h5 h6 l r (r0 j) (c1 j)

end Products

/-! ### Sums -/

section Sums
variable {B R C : Nat}

theorem rowsE (a : Arr ⟨2, ![R, C]⟩) (acc) (h) (h1) (h2) :
    (multiReduction (F := Ideal) (φ := .f32) .add [0] ⟨1, ![C]⟩ a acc h h1 h2 : Arr ⟨1, ![C]⟩) = fun j => ∑ r : Fin R, a (ix2 r (v0 j)) :=
  funext fun j => sum_rows h a j

theorem colsE (a : Arr ⟨2, ![R, C]⟩) (acc) (h) (h1) (h2) :
    (multiReduction (F := Ideal) (φ := .f32) .add [1] ⟨1, ![R]⟩ a acc h h1 h2 : Arr ⟨1, ![R]⟩) = fun j => ∑ k : Fin C, a (ix2 (v0 j) k) :=
  funext fun j => sum_cols h a j

theorem hostRows3 {u : Shape} (a : Arr ⟨3, ![B, R, C]⟩) (h) (hu : 0 < u.numel) :
    (Host.reduceAdd (F := Ideal) (φ := .f32) (axes := [0, 1]) (t := ⟨1, ![C]⟩) a (constant (F := Ideal) u .f32 0x00000000#32) h hu : Arr ⟨1, ![C]⟩)
      = fun j => ∑ p : Fin B, ∑ r : Fin R, a (ix3 p r (v0 j)) := by
  funext j
  refine Eq.trans (congrArg (· + _) zeroF) ((zero_add _).trans ?_)
  exact host_sum_rows3 h a j

theorem hostLast3 {u : Shape} (a : Arr ⟨3, ![B, R, C]⟩) (h) (hu : 0 < u.numel) :
    (Host.reduceAdd (F := Ideal) (φ := .f32) (axes := [2]) (t := ⟨2, ![B, R]⟩) a (constant (F := Ideal) u .f32 0x00000000#32) h hu : Arr ⟨2, ![B, R]⟩)
      = fun j => ∑ k : Fin C, a (ix3 (r0 j) (c1 j) k) := by
  funext j
  refine Eq.trans (congrArg (· + _) zeroF) ((zero_add _).trans ?_)
  exact host_sum_last3 h a j

end Sums

/-! ### Layout -/

section Layout
variable {α : Type} {B R C N : Nat}

theorem colTo (a : (⟨2, ![R, 1]⟩ : Shape).Idx → α) (h) :
    broadcastTo ⟨2, ![R, C]⟩ a h = fun j => a (ix2 (r0 j) 0) := by
  funext j
  refine broadcastTo_apply a h j _ fun e => ?_
  match e with
  | ⟨0, _⟩ =>
    show (r0 j).val = if R = 1 then 0 else (r0 j).val
    have := (r0 j).isLt
    split <;> omega
  | ⟨1, _⟩ => rfl

theorem rowTo (a : (⟨2, ![1, C]⟩ : Shape).Idx → α) (h) :
    broadcastTo ⟨2, ![R, C]⟩ a h = fun j => a (ix2 0 (c1 j)) := funext fun j => rowTo_apply a h j

theorem asRow (a : (⟨1, ![C]⟩ : Shape).Idx → α) (h) :
    shapeCast ⟨2, ![1, C]⟩ a h = fun j => a (ix1 (c1 j)) := funext fun j => asRow_apply a h j

theorem asCol (a : (⟨1, ![R]⟩ : Shape).Idx → α) (h) :
    shapeCast ⟨2, ![R, 1]⟩ a h = fun j => a (ix1 (r0 j)) := by
  funext j
  refine shapeCast_apply a h j _ ?_
  rw [Shape.rowMajor_val_one, Shape.rowMajor_val_two]
  show (r0 j).val = (r0 j).val * 1 + (c1 j).val
  have : (c1 j).val < 1 := (c1 j).isLt
  omega

theorem swap (a : (⟨2, ![R, C]⟩ : Shape).Idx → α) (h) :
    transpose ⟨2, ![C, R]⟩ [1, 0] a h = fun j => a (ix2 (c1 j) (r0 j)) := by
  funext j
  refine transpose_apply _ _ h j _ fun e => ?_
  match e with
  | ⟨0, _⟩ => rfl
  | ⟨1, _⟩ => rfl

theorem flat [NeZero B] [NeZero R] (hN : N = B * R) (a : (⟨3, ![B, R, C]⟩ : Shape).Idx → α)
    (h : (⟨3, ![B, R, C]⟩ : Shape).ShapeCasts ⟨2, ![N, C]⟩) :
    shapeCast ⟨2, ![N, C]⟩ a h = fun j => a (ix3 (Fin.ofNat B ((r0 j).val / R)) (Fin.ofNat R (r0 j).val) (c1 j)) := by
  funext j
  refine flat3 a h j _ _ ?_
  show (r0 j).val = (r0 j).val / R % B * R + (r0 j).val % R
  have hj : (r0 j).val < B * R := hN ▸ (r0 j).isLt
  have hlt : (r0 j).val / R < B := Nat.div_lt_of_lt_mul (by rw [Nat.mul_comm]; exact hj)
  rw [Nat.mod_eq_of_lt hlt, Nat.mul_comm]
  exact (Nat.div_add_mod _ _).symm

/-- A table under a last axis of one. -/
theorem under (h : (⟨2, ![B, R]⟩ : Shape).BroadcastsInDim ⟨3, ![B, R, 1]⟩ ![0, 1]) (a : (⟨2, ![B, R]⟩ : Shape).Idx → α) :
    broadcastInDim ⟨3, ![B, R, 1]⟩ ![0, 1] h a = fun j => a (ix2 (d0 j) (d1 j)) := by
  funext j
  have h0 := (d0 j).isLt
  have h1 := (d1 j).isLt
  refine broadcastInDim_apply _ h _ j _ fun e => ?_
  match e with
  | ⟨0, _⟩ =>
    show (d0 j).val = if B = 1 then 0 else (d0 j).val
    split <;> omega
  | ⟨1, _⟩ =>
    show (d1 j).val = if R = 1 then 0 else (d1 j).val
    split <;> omega

/-- A table repeated along a last axis. -/
theorem along (h : (⟨2, ![B, R]⟩ : Shape).BroadcastsInDim ⟨3, ![B, R, C]⟩ ![0, 1]) (a : (⟨2, ![B, R]⟩ : Shape).Idx → α) :
    broadcastInDim ⟨3, ![B, R, C]⟩ ![0, 1] h a = fun j => a (ix2 (d0 j) (d1 j)) := by
  funext j
  have h0 := (d0 j).isLt
  have h1 := (d1 j).isLt
  refine broadcastInDim_apply _ h _ j _ fun e => ?_
  match e with
  | ⟨0, _⟩ =>
    show (d0 j).val = if B = 1 then 0 else (d0 j).val
    split <;> omega
  | ⟨1, _⟩ =>
    show (d1 j).val = if R = 1 then 0 else (d1 j).val
    split <;> omega

/-- A last axis of one, repeated. -/
theorem widen (h : (⟨3, ![B, R, 1]⟩ : Shape).BroadcastsInDim ⟨3, ![B, R, C]⟩ ![0, 1, 2]) (a : (⟨3, ![B, R, 1]⟩ : Shape).Idx → α) :
    broadcastInDim ⟨3, ![B, R, C]⟩ ![0, 1, 2] h a = fun j => a (ix3 (d0 j) (d1 j) 0) := by
  funext j
  have h0 := (d0 j).isLt
  have h1 := (d1 j).isLt
  refine broadcastInDim_apply _ h _ j _ fun e => ?_
  match e with
  | ⟨0, _⟩ =>
    show (d0 j).val = if B = 1 then 0 else (d0 j).val
    split <;> omega
  | ⟨1, _⟩ =>
    show (d1 j).val = if R = 1 then 0 else (d1 j).val
    split <;> omega
  | ⟨2, _⟩ => rfl

/-- A vector along the last of three axes. -/
theorem last (h : (⟨3, ![1, 1, C]⟩ : Shape).BroadcastsInDim ⟨3, ![B, R, C]⟩ ![0, 1, 2])
    (h' : (⟨1, ![C]⟩ : Shape).BroadcastsInDim ⟨3, ![1, 1, C]⟩ ![2]) (a : (⟨1, ![C]⟩ : Shape).Idx → α) :
    broadcastInDim ⟨3, ![B, R, C]⟩ ![0, 1, 2] h (broadcastInDim ⟨3, ![1, 1, C]⟩ ![2] h' a) = fun j => a (ix1 (d2 j)) := by
  funext j
  have hj : (d2 j).val < C := (d2 j).isLt
  refine (broadcastInDim_apply _ h _ j (ix3 (0 : Fin 1) (0 : Fin 1) (d2 j)) fun e => ?_).trans ?_
  · match e with
    | ⟨0, _⟩ => rfl
    | ⟨1, _⟩ => rfl
    | ⟨2, _⟩ =>
      show (d2 j).val = if C = 1 then 0 else (d2 j).val
      split <;> omega
  · refine broadcastInDim_apply _ h' _ _ (ix1 (d2 j)) fun e => ?_
    match e with
    | ⟨0, _⟩ =>
      show (d2 j).val = if C = 1 then 0 else (d2 j).val
      split <;> omega

/-- A table given a last axis of one. -/
theorem cast1 (a : (⟨2, ![B, R]⟩ : Shape).Idx → α) (h) :
    shapeCast ⟨3, ![B, R, 1]⟩ a h = fun j => a (ix2 (d0 j) (d1 j)) := by
  funext j
  refine shapeCast_apply a h j _ ?_
  rw [Shape.rowMajor_val_two, Shape.rowMajor_val_three]
  show (d0 j).val * R + (d1 j).val = ((d0 j).val * R + (d1 j).val) * 1 + (d2 j).val
  have : (d2 j).val < 1 := (d2 j).isLt
  omega

/-- A vector given two first axes of one. -/
theorem cast11 (a : (⟨1, ![C]⟩ : Shape).Idx → α) (h) :
    shapeCast ⟨3, ![1, 1, C]⟩ a h = fun j => a (ix1 (d2 j)) := by
  funext j
  refine shapeCast_apply a h j _ ?_
  rw [Shape.rowMajor_val_one, Shape.rowMajor_val_three]
  show (d2 j).val = ((d0 j).val * 1 + (d1 j).val) * C + (d2 j).val
  have h0 : (d0 j).val = 0 := by have := (d0 j).isLt; omega
  have h1 : (d1 j).val = 0 := by have := (d1 j).isLt; omega
  rw [h0, h1]; simp

end Layout

/-! ### Sums over the flat rows -/

/-- The flat rows in blocks. -/
theorem sum_blocks {A : Type} [AddCommMonoid A] (G T : Nat) {N : Nat} [NeZero N] (hN : N = G * T) (f : Fin N → A) :
    ∑ n : Fin N, f n = ∑ g : Fin G, ∑ t : Fin T, f (Fin.ofNat N (g.val * T + t.val)) := by
  subst hN
  rw [← Fintype.sum_prod_type', ← finProdFinEquiv.sum_comp]
  refine Finset.sum_congr rfl fun x _ => congrArg f (Fin.ext ?_)
  obtain ⟨g, t⟩ := x
  show t.val + T * g.val = (g.val * T + t.val) % (G * T)
  have h1 : g.val * T + t.val < G * T := by
    calc g.val * T + t.val < g.val * T + T := by have := t.isLt; omega
      _ = (g.val + 1) * T := by ring
      _ ≤ G * T := Nat.mul_le_mul_right _ g.isLt
  rw [Nat.mod_eq_of_lt h1, Nat.mul_comm, Nat.add_comm]

theorem flat_row (B R : Nat) [NeZero B] [NeZero R] [NeZero (B * R)] (p : Fin B) (q : Fin R) :
    Fin.ofNat B ((Fin.ofNat (B * R) (p.val * R + q.val)).val / R) = p ∧ Fin.ofNat R (Fin.ofNat (B * R) (p.val * R + q.val)).val = q := by
  have hq := q.isLt
  have h1 : p.val * R + q.val < B * R := by
    calc p.val * R + q.val < p.val * R + R := by omega
      _ = (p.val + 1) * R := by ring
      _ ≤ B * R := Nat.mul_le_mul_right _ p.isLt
  constructor
  · refine Fin.ext ?_
    show (p.val * R + q.val) % (B * R) / R % B = p.val
    rw [Nat.mod_eq_of_lt h1, Nat.mul_comm, Nat.mul_add_div (by omega), Nat.div_eq_of_lt hq, Nat.add_zero, Nat.mod_eq_of_lt p.isLt]
  · refine Fin.ext ?_
    show (p.val * R + q.val) % (B * R) % R = q.val
    rw [Nat.mod_eq_of_lt h1, Nat.mul_comm, Nat.mul_add_mod, Nat.mod_eq_of_lt hq]

/-- A sum over the rows of the batch is the sum over the blocks of its flat rows. -/
theorem sum_batch {A : Type} [AddCommMonoid A] (B R G T : Nat) [NeZero B] [NeZero R] [NeZero (B * R)] (hN : B * R = G * T)
    (f : Fin B → Fin R → A) :
    ∑ g : Fin G, ∑ t : Fin T, f (Fin.ofNat B ((Fin.ofNat (B * R) (g.val * T + t.val)).val / R)) (Fin.ofNat R (Fin.ofNat (B * R) (g.val * T + t.val)).val)
      = ∑ p : Fin B, ∑ q : Fin R, f p q := by
  rw [← sum_blocks G T hN fun n : Fin (B * R) => f (Fin.ofNat B (n.val / R)) (Fin.ofNat R n.val), sum_blocks B R rfl]
  refine Finset.sum_congr rfl fun p _ => Finset.sum_congr rfl fun q _ => ?_
  obtain ⟨h1, h2⟩ := flat_row B R p q
  rw [h1, h2]

end Cert.Ext

end
-- ==== Proof.Lift.Norm.lean ====
/- The normalisation of the rows of a batch, and a batch's product contracted over its rows. -/
module

public import proofs.«01_k».proof.Proof.Lift.Ext

@[expose] public section

noncomputable section

namespace Cert.Ext

open Idealize.ShloMosaic Idealize.ShloMosaic.ValueIdx Cert.Lift

/-- The mean square of a row plus the small constant, from the row's sum of squares. -/
def den (s : EReal) : EReal := Ideal.div s (Ideal.ofBits .f32 0x44800000#32) + Ideal.ofBits .f32 0x358637BD#32

/-- The reciprocal root of a row's mean square. -/
def inv (s : EReal) : EReal := Ideal.rsqrt (den s)

section
variable {B R C : Nat}

/-- A row's sum of squares. -/
def sq (r : Arr ⟨3, ![B, R, C]⟩) (p : Fin B) (q : Fin R) : EReal := ∑ k : Fin C, r (ix3 p q k) * r (ix3 p q k)

/-- The normalised rows times the gain. -/
def norm (r : Arr ⟨3, ![B, R, C]⟩) (g : Arr ⟨1, ![C]⟩) : Arr ⟨3, ![B, R, C]⟩ := fun j =>
  r j * inv (sq r (d0 j) (d1 j)) * g (ix1 (d2 j))

theorem host_inv {u : Shape} (r : Arr ⟨3, ![B, R, C]⟩) (h) (hu : 0 < u.numel) (hb : (⟨2, ![B, R]⟩ : Shape).BroadcastsInDim ⟨3, ![B, R, 1]⟩ ![0, 1])
    (hc : (⟨3, ![B, R, 1]⟩ : Shape).BroadcastsInDim ⟨3, ![B, R, C]⟩ ![0, 1, 2]) (u1 u2 : Shape) (x1 : Fin u1.rank → Fin 3) (x2 : Fin u2.rank → Fin 3)
    (h1 : u1.BroadcastsInDim ⟨3, ![B, R, 1]⟩ x1) (h2 : u2.BroadcastsInDim ⟨3, ![B, R, 1]⟩ x2) :
    (broadcastInDim ⟨3, ![B, R, C]⟩ ![0, 1, 2] hc (Host.rsqrt (F := Ideal) (φ := .f32) (addf (F := Ideal) (φ := .f32) (Host.divf (F := Ideal) (φ := .f32)
        (broadcastInDim ⟨3, ![B, R, 1]⟩ ![0, 1] hb (Host.reduceAdd (F := Ideal) (φ := .f32) (axes := [2]) (t := ⟨2, ![B, R]⟩) (mulf (F := Ideal) (φ := .f32) r r) (constant (F := Ideal) u .f32 0x00000000#32) h hu))
        (broadcastInDim (s := u1) ⟨3, ![B, R, 1]⟩ x1 h1 (constant (F := Ideal) u1 .f32 0x44800000#32)))
        (broadcastInDim (s := u2) ⟨3, ![B, R, 1]⟩ x2 h2 (constant (F := Ideal) u2 .f32 0x358637BD#32)))) : Arr ⟨3, ![B, R, C]⟩)
      = fun j => inv (sq r (d0 j) (d1 j)) := by
  rw [widen]
  funext j
  have e : (broadcastInDim ⟨3, ![B, R, 1]⟩ ![0, 1] hb (Host.reduceAdd (F := Ideal) (φ := .f32) (axes := [2]) (t := ⟨2, ![B, R]⟩) (mulf (F := Ideal) (φ := .f32) r r) (constant (F := Ideal) u .f32 0x00000000#32) h hu) : Arr ⟨3, ![B, R, 1]⟩) (ix3 (d0 j) (d1 j) 0)
      = sq r (d0 j) (d1 j) := by
    rw [under]
    exact congrFun (hostLast3 _ h hu) (ix2 (d0 j) (d1 j))
  exact congrArg inv e

/-- The host's lines of the normalisation. -/
theorem host_norm {u : Shape} (r : Arr ⟨3, ![B, R, C]⟩) (g : Arr ⟨1, ![C]⟩) (h) (hu : 0 < u.numel) (hb : (⟨2, ![B, R]⟩ : Shape).BroadcastsInDim ⟨3, ![B, R, 1]⟩ ![0, 1])
    (hc : (⟨3, ![B, R, 1]⟩ : Shape).BroadcastsInDim ⟨3, ![B, R, C]⟩ ![0, 1, 2]) (u1 u2 : Shape) (x1 : Fin u1.rank → Fin 3) (x2 : Fin u2.rank → Fin 3)
    (h1 : u1.BroadcastsInDim ⟨3, ![B, R, 1]⟩ x1) (h2 : u2.BroadcastsInDim ⟨3, ![B, R, 1]⟩ x2)
    (hg : (⟨3, ![1, 1, C]⟩ : Shape).BroadcastsInDim ⟨3, ![B, R, C]⟩ ![0, 1, 2]) (hg' : (⟨1, ![C]⟩ : Shape).BroadcastsInDim ⟨3, ![1, 1, C]⟩ ![2]) :
    (mulf (F := Ideal) (φ := .f32) (mulf (F := Ideal) (φ := .f32) r (broadcastInDim ⟨3, ![B, R, C]⟩ ![0, 1, 2] hc (Host.rsqrt (F := Ideal) (φ := .f32) (addf (F := Ideal) (φ := .f32) (Host.divf (F := Ideal) (φ := .f32)
        (broadcastInDim ⟨3, ![B, R, 1]⟩ ![0, 1] hb (Host.reduceAdd (F := Ideal) (φ := .f32) (axes := [2]) (t := ⟨2, ![B, R]⟩) (mulf (F := Ideal) (φ := .f32) r r) (constant (F := Ideal) u .f32 0x00000000#32) h hu))
        (broadcastInDim (s := u1) ⟨3, ![B, R, 1]⟩ x1 h1 (constant (F := Ideal) u1 .f32 0x44800000#32)))
        (broadcastInDim (s := u2) ⟨3, ![B, R, 1]⟩ x2 h2 (constant (F := Ideal) u2 .f32 0x358637BD#32))))))
      (broadcastInDim ⟨3, ![B, R, C]⟩ ![0, 1, 2] hg (broadcastInDim ⟨3, ![1, 1, C]⟩ ![2] hg' g)) : Arr ⟨3, ![B, R, C]⟩) = norm r g := by
  rw [host_inv, last]
  rfl

end

/-- A batch's product contracted over its rows. -/
def tn {B R M N : Nat} (x : Arr ⟨3, ![B, R, M]⟩) (y : Arr ⟨3, ![B, R, N]⟩) : Arr ⟨2, ![M, N]⟩ := fun j =>
  ∑ p : Fin B, ∑ q : Fin R, x (ix3 p q (r0 j)) * y (ix3 p q (c1 j))

/-- The batch's rows laid flat. -/
def flatA {C : Nat} (a : Arr ⟨3, ![4, 2048, C]⟩) : Arr ⟨2, ![8192, C]⟩ := fun j =>
  a (ix3 (Fin.ofNat 4 ((r0 j).val / 2048)) (Fin.ofNat 2048 (r0 j).val) (c1 j))

theorem flat8 {C : Nat} (a : Arr ⟨3, ![4, 2048, C]⟩) (h) : shapeCast ⟨2, ![8192, C]⟩ a h = flatA a :=
  flat (B := 4) (R := 2048) (N := 8192) rfl a h

/-- What a block of 1024 flat rows adds. -/
def tnBlock {M N : Nat} (x : Arr ⟨3, ![4, 2048, M]⟩) (y : Arr ⟨3, ![4, 2048, N]⟩) (b : Nat) : Arr ⟨2, ![M, N]⟩ := fun j =>
  ∑ k : Fin 1024, flatA x (ix2 (Fin.ofNat 8192 (b * 1024 + k.val)) (r0 j)) * flatA y (ix2 (Fin.ofNat 8192 (b * 1024 + k.val)) (c1 j))

/-- The eight blocks make the whole. -/
theorem tn_blocks {M N : Nat} (x : Arr ⟨3, ![4, 2048, M]⟩) (y : Arr ⟨3, ![4, 2048, N]⟩) (j) :
    ∑ b : Fin 8, tnBlock x y b.val j = tn x y j :=
  sum_batch 4 2048 8 1024 rfl fun p q => x (ix3 p q (r0 j)) * y (ix3 p q (c1 j))

/-- The product of two tables. -/
def mm {M K N : Nat} (x : Arr ⟨2, ![M, K]⟩) (w : Arr ⟨2, ![K, N]⟩) : Arr ⟨2, ![M, N]⟩ := fun j =>
  ∑ k : Fin K, x (ix2 (r0 j) k) * w (ix2 k (c1 j))

/-- The host's product of a batch with a weight, its rows laid flat. -/
theorem host_mm {φ ψ : FTy} {K N : Nat} (d : DotDims ⟨3, ![4, 2048, K]⟩ ⟨2, ![K, N]⟩ ⟨3, ![4, 2048, N]⟩) (h1 : d.lhsContracting = [2]) (h2 : d.rhsContracting = [0])
    (h3 : d.lhsNonContracting = [0, 1]) (h4 : d.rhsNonContracting = [1]) (h5 : d.lhsBatch = []) (h6 : d.rhsBatch = []) (pr)
    (a : Arr ⟨3, ![4, 2048, K]⟩) (w : Arr ⟨2, ![K, N]⟩) (h) :
    shapeCast ⟨2, ![8192, N]⟩ (Host.dotGeneral (F := Ideal) (φ₁ := φ) (φ₂ := ψ) d pr a w : Arr ⟨3, ![4, 2048, N]⟩) h = mm (flatA a) w := by
  rw [flat8, host_nn3 d h1 h2 h3 h4 h5 h6]
  rfl

/-! ### A block of rows -/

section
variable {T C : Nat}

/-- The rows of a block, normalised, times the gain. -/
def rowNorm (x : Arr ⟨2, ![T, C]⟩) (g : Arr ⟨2, ![1, C]⟩) : Arr ⟨2, ![T, C]⟩ := fun j =>
  x j * inv (∑ k : Fin C, x (ix2 (r0 j) k) * x (ix2 (r0 j) k)) * g (ix2 0 (c1 j))

theorem blk_inv (x : Arr ⟨2, ![T, C]⟩) (acc) (h : (⟨2, ![T, C]⟩ : Shape).Reduces [1] ⟨1, ![T]⟩) (h1) (h2) (h3 : (⟨1, ![T]⟩ : Shape).ShapeCasts ⟨2, ![T, 1]⟩) :
    (rsqrt (F := Ideal) (φ := .f32) (addf (F := Ideal) (φ := .f32) (divf (F := Ideal) (φ := .f32)
        (shapeCast ⟨2, ![T, 1]⟩ (multiReduction (F := Ideal) (φ := .f32) .add [1] ⟨1, ![T]⟩ (mulf (F := Ideal) (φ := .f32) x x) acc h h1 h2) h3)
        (broadcast ⟨2, ![T, 1]⟩ (Scalar.ofBits (F := Ideal) .f32 0x44800000#32))) (broadcast ⟨2, ![T, 1]⟩ (Scalar.ofBits (F := Ideal) .f32 0x358637BD#32))) : Arr ⟨2, ![T, 1]⟩)
      = fun j => inv (∑ k : Fin C, x (ix2 (r0 j) k) * x (ix2 (r0 j) k)) := by
  rw [asCol]
  funext j
  exact congrArg inv (congrFun (colsE (mulf (F := Ideal) (φ := .f32) x x) acc h h1 h2) (ix1 (r0 j)))

theorem blk_norm (x : Arr ⟨2, ![T, C]⟩) (g : Arr ⟨2, ![1, C]⟩) (acc) (h : (⟨2, ![T, C]⟩ : Shape).Reduces [1] ⟨1, ![T]⟩) (h1) (h2) (h3 : (⟨1, ![T]⟩ : Shape).ShapeCasts ⟨2, ![T, 1]⟩)
    (h4 : (⟨2, ![T, 1]⟩ : Shape).Broadcasts ⟨2, ![T, C]⟩) (h5 : (⟨2, ![1, C]⟩ : Shape).Broadcasts ⟨2, ![T, C]⟩) :
    (mulf (F := Ideal) (φ := .f32) (mulf (F := Ideal) (φ := .f32) x (broadcastTo ⟨2, ![T, C]⟩ (rsqrt (F := Ideal) (φ := .f32) (addf (F := Ideal) (φ := .f32) (divf (F := Ideal) (φ := .f32)
        (shapeCast ⟨2, ![T, 1]⟩ (multiReduction (F := Ideal) (φ := .f32) .add [1] ⟨1, ![T]⟩ (mulf (F := Ideal) (φ := .f32) x x) acc h h1 h2) h3)
        (broadcast ⟨2, ![T, 1]⟩ (Scalar.ofBits (F := Ideal) .f32 0x44800000#32))) (broadcast ⟨2, ![T, 1]⟩ (Scalar.ofBits (F := Ideal) .f32 0x358637BD#32)))) h4))
        (broadcastTo ⟨2, ![T, C]⟩ g h5) : Arr ⟨2, ![T, C]⟩) = rowNorm x g := by
  rw [blk_inv, colTo, rowTo]
  rfl

end

end Cert.Ext

end
-- ==== Proof.Lift.Rms.lean ====
/- The backward pass of the normalisation: one formula for a row, reached both from the closed form and from
   the differentiated one. -/
module

public import proofs.«01_k».proof.Proof.Lift.Norm

@[expose] public section

noncomputable section

namespace Cert.Ext

open Idealize.ShloMosaic Idealize.ShloMosaic.ValueIdx Cert.Lift

/-! ### A row's reciprocal root -/

theorem mul_self_nonneg' (x : EReal) : 0 ≤ x * x := by
  rcases le_total 0 x with h | h
  · exact mul_nonneg h h
  · rw [← neg_mul_neg]
    have h' : 0 ≤ -x := by rw [EReal.neg_nonneg]; exact h
    exact mul_nonneg h' h'

theorem sum_sq_nonneg {n : Nat} (x : Fin n → EReal) : 0 ≤ ∑ k, x k * x k := Finset.sum_nonneg fun k _ => mul_self_nonneg' (x k)

theorem div1024 (x : EReal) : Ideal.div x (Ideal.ofBits .f32 0x44800000#32) = x * ((1 / 1024 : ℝ) : EReal) := by
  rw [dimI]; exact Ideal.div_coe (by norm_num) x

/-- A row's sum of squares is infinite and the reciprocal root zero, or the root is a positive real. -/
theorem inv_cases (s : EReal) (hs : 0 ≤ s) : (den s = ⊤ ∧ inv s = 0) ∨ ∃ p : ℝ, 0 < p ∧ inv s = (p : EReal) ∧ den s = ((1 / (p * p) : ℝ) : EReal) := by
  induction s using EReal.rec with
  | bot => exact absurd hs (by simp)
  | top =>
    left
    have h : den ⊤ = ⊤ := by
      unfold den
      rw [div1024, epsI, EReal.top_mul_coe_of_pos (by norm_num), EReal.top_add_coe]
    refine ⟨h, ?_⟩
    unfold inv
    rw [h]
    rfl
  | coe r =>
    right
    have hr : 0 ≤ r := EReal.coe_nonneg.mp hs
    have hv : 0 < r * (1 / 1024) + 8796093 / 2 ^ 43 := by positivity
    have h : den (r : EReal) = ((r * (1 / 1024) + 8796093 / 2 ^ 43 : ℝ) : EReal) := by
      unfold den
      rw [div1024, epsI, ← EReal.coe_mul, ← EReal.coe_add]
    refine ⟨(√(r * (1 / 1024) + 8796093 / 2 ^ 43))⁻¹, by positivity, ?_, ?_⟩
    · unfold inv
      rw [h, Ideal.rsqrt_coe, if_neg (not_lt.mpr hv.le), if_neg hv.ne']
    · rw [h, ← mul_inv, Real.mul_self_sqrt hv.le]
      generalize r * (1 / 1024) + 8796093 / 2 ^ 43 = v
      rw [one_div, inv_inv]

theorem inv_nonneg (s : EReal) (hs : 0 ≤ s) : 0 ≤ inv s := by
  rcases inv_cases s hs with ⟨_, h⟩ | ⟨p, hp, h, _⟩
  · rw [h]
  · rw [h]; exact EReal.coe_nonneg.mpr hp.le

theorem inv_ne_top (s : EReal) (hs : 0 ≤ s) : inv s ≠ ⊤ := by
  rcases inv_cases s hs with ⟨_, h⟩ | ⟨p, hp, h, _⟩
  · rw [h]; exact EReal.zero_ne_top
  · rw [h]; exact EReal.coe_ne_top p

/-- A factor that is neither negative nor infinite leaves a sum. -/
theorem pull_sum {n : Nat} (i : EReal) (h0 : 0 ≤ i) (h1 : i ≠ ⊤) (f : Fin n → EReal) : ∑ k, i * f k = i * ∑ k, f k := by
  refine Finset.induction_on (motive := fun t : Finset (Fin n) => ∑ k ∈ t, i * f k = i * ∑ k ∈ t, f k) Finset.univ (by simp) fun a t ha ih => ?_
  rw [Finset.sum_insert ha, Finset.sum_insert ha, ih, EReal.left_distrib_of_nonneg_of_ne_top h0 h1]

/-! ### A row of the backward pass -/

/-- An entry of the gradient: the cotangent passed on, the entry of the row, its cotangent, the row's sum of squares
    and the row's product with its cotangents. -/
def mid (c x d s S : EReal) : EReal := c + inv s * (d - x * inv s * Ideal.div (inv s * S) (Ideal.ofBits .f32 0x44800000#32))

theorem closed_row {n : Nat} (x d : Fin n → EReal) (c : EReal) (k : Fin n) (s : EReal) (hs : 0 ≤ s) :
    c + inv s * (d k - x k * inv s * Ideal.div (∑ j, d j * (x j * inv s)) (Ideal.ofBits .f32 0x44800000#32)) = mid c (x k) (d k) s (∑ j, x j * d j) := by
  have e : ∑ j, d j * (x j * inv s) = inv s * ∑ j, x j * d j := by
    rw [← pull_sum _ (inv_nonneg s hs) (inv_ne_top s hs)]
    exact Finset.sum_congr rfl fun j _ => by rw [mul_comm (d j), mul_comm (x j), mul_assoc]
  rw [e, mid]

theorem open_row (c x d s S : EReal) (hs : 0 ≤ s) :
    ((c + d * inv s) + x * Ideal.div (S * (Ideal.ofBits .f32 0xBF000000#32 * Ideal.div (inv s) (den s))) (Ideal.ofBits .f32 0x44800000#32))
      + Ideal.div (S * (Ideal.ofBits .f32 0xBF000000#32 * Ideal.div (inv s) (den s))) (Ideal.ofBits .f32 0x44800000#32) * x = mid c x d s S := by
  unfold mid
  rw [div1024, div1024, neghalfI]
  rcases inv_cases s hs with ⟨hd, hi⟩ | ⟨p, hp, hi, hd⟩
  · have e : Ideal.div (0 : EReal) ⊤ = 0 := by unfold Ideal.div; rw [if_neg EReal.top_ne_zero, zero_mul]
    rw [hd, hi, e]
    simp
  · have hpp : (1 / (p * p) : ℝ) ≠ 0 := by positivity
    rw [hd, hi, Ideal.div_coe hpp, one_div_one_div]
    have e1 : x * (S * (((-(1 / 2) : ℝ) : EReal) * ((p : EReal) * ((p * p : ℝ) : EReal))) * ((1 / 1024 : ℝ) : EReal)) = -((x * S) * ((p * p * p * (1 / 2048) : ℝ) : EReal)) := by
      rw [← mul_neg, ← EReal.coe_neg, show (-(p * p * p * (1 / 2048)) : ℝ) = -(1 / 2) * (p * (p * p)) * (1 / 1024) by ring]
      simp only [EReal.coe_mul, mul_assoc]
    have e2 : (p : EReal) * (x * p * (p * S * ((1 / 1024 : ℝ) : EReal))) = (x * S) * ((p * p * p * (1 / 2048) + p * p * p * (1 / 2048) : ℝ) : EReal) := by
      rw [show (p * p * p * (1 / 2048) + p * p * p * (1 / 2048) : ℝ) = p * p * p * (1 / 1024) by ring]
      simp only [EReal.coe_mul]
      ac_rfl
    have hz : (0 : EReal) ≤ ((p * p * p * (1 / 2048) : ℝ) : EReal) := EReal.coe_nonneg.mpr (by positivity)
    rw [mul_comm _ x, e1, sub_eq_add_neg, EReal.left_distrib_of_nonneg_of_ne_top (EReal.coe_nonneg.mpr hp.le) (EReal.coe_ne_top p), mul_neg, e2, EReal.coe_add,
      EReal.left_distrib_of_nonneg hz hz, mul_comm d, add_assoc, add_assoc]
    congr 2
    generalize hA : (x * S) * ((p * p * p * (1 / 2048) : ℝ) : EReal) = A
    induction A using EReal.rec with
    | bot => rfl
    | top => rfl
    | coe a => rw [← EReal.coe_neg, ← EReal.coe_add, ← EReal.coe_add, ← EReal.coe_neg]; congr 1; ring

/-! ### A block -/

section
variable {T C : Nat}

/-- The gradient of a block of rows. -/
def backBlk (ct x d : Arr ⟨2, ![T, C]⟩) : Arr ⟨2, ![T, C]⟩ := fun j =>
  mid (ct j) (x j) (d j) (∑ k : Fin C, x (ix2 (r0 j) k) * x (ix2 (r0 j) k)) (∑ k : Fin C, x (ix2 (r0 j) k) * d (ix2 (r0 j) k))

theorem blk_back (ct x d : Arr ⟨2, ![T, C]⟩) (i : Arr ⟨2, ![T, 1]⟩) (hi : i = fun j => inv (∑ k : Fin C, x (ix2 (r0 j) k) * x (ix2 (r0 j) k)))
    (acc) (h : (⟨2, ![T, C]⟩ : Shape).Reduces [1] ⟨1, ![T]⟩) (h1) (h2) (h3 : (⟨1, ![T]⟩ : Shape).ShapeCasts ⟨2, ![T, 1]⟩)
    (h4 : (⟨2, ![T, 1]⟩ : Shape).Broadcasts ⟨2, ![T, C]⟩) :
    (addf (F := Ideal) (φ := .f32) ct (mulf (F := Ideal) (φ := .f32) (broadcastTo ⟨2, ![T, C]⟩ i h4) (subf (F := Ideal) (φ := .f32) d
        (mulf (F := Ideal) (φ := .f32) (mulf (F := Ideal) (φ := .f32) x (broadcastTo ⟨2, ![T, C]⟩ i h4))
          (broadcastTo ⟨2, ![T, C]⟩ (divf (F := Ideal) (φ := .f32) (shapeCast ⟨2, ![T, 1]⟩ (multiReduction (F := Ideal) (φ := .f32) .add [1] ⟨1, ![T]⟩
              (mulf (F := Ideal) (φ := .f32) d (mulf (F := Ideal) (φ := .f32) x (broadcastTo ⟨2, ![T, C]⟩ i h4))) acc h h1 h2) h3)
            (broadcast ⟨2, ![T, 1]⟩ (Scalar.ofBits (F := Ideal) .f32 0x44800000#32))) h4)))) : Arr ⟨2, ![T, C]⟩)
      = backBlk ct x d := by
  subst hi
  rw [colTo, colTo, asCol]
  funext j
  rw [eq_rc j]
  refine Eq.trans ?_ (closed_row (fun k => x (ix2 (r0 j) k)) (fun k => d (ix2 (r0 j) k)) (ct (ix2 (r0 j) (c1 j))) (c1 j) _ (sum_sq_nonneg _))
  refine congrArg (fun S => ct _ + inv _ * (d _ - x _ * inv _ * Ideal.div S _)) ?_
  exact congrFun (colsE _ acc h h1 h2) (ix1 (r0 j))

end

/-! ### A batch -/

section
variable {B R C : Nat}

/-- The gradient of a batch of rows. -/
def back (ct r d : Arr ⟨3, ![B, R, C]⟩) : Arr ⟨3, ![B, R, C]⟩ := fun j =>
  mid (ct j) (r j) (d j) (sq r (d0 j) (d1 j)) (∑ k : Fin C, r (ix3 (d0 j) (d1 j) k) * d (ix3 (d0 j) (d1 j) k))

theorem host_den {u : Shape} (r : Arr ⟨3, ![B, R, C]⟩) (h) (hu : 0 < u.numel) (hb : (⟨2, ![B, R]⟩ : Shape).BroadcastsInDim ⟨3, ![B, R, 1]⟩ ![0, 1])
    (u1 u2 : Shape) (x1 : Fin u1.rank → Fin 3) (x2 : Fin u2.rank → Fin 3)
    (h1 : u1.BroadcastsInDim ⟨3, ![B, R, 1]⟩ x1) (h2 : u2.BroadcastsInDim ⟨3, ![B, R, 1]⟩ x2) :
    (addf (F := Ideal) (φ := .f32) (Host.divf (F := Ideal) (φ := .f32)
        (broadcastInDim ⟨3, ![B, R, 1]⟩ ![0, 1] hb (Host.reduceAdd (F := Ideal) (φ := .f32) (axes := [2]) (t := ⟨2, ![B, R]⟩) (mulf (F := Ideal) (φ := .f32) r r) (constant (F := Ideal) u .f32 0x00000000#32) h hu))
        (broadcastInDim (s := u1) ⟨3, ![B, R, 1]⟩ x1 h1 (constant (F := Ideal) u1 .f32 0x44800000#32)))
        (broadcastInDim (s := u2) ⟨3, ![B, R, 1]⟩ x2 h2 (constant (F := Ideal) u2 .f32 0x358637BD#32)) : Arr ⟨3, ![B, R, 1]⟩)
      = fun j => den (sq r (d0 j) (d1 j)) := by
  funext j
  have e : (broadcastInDim ⟨3, ![B, R, 1]⟩ ![0, 1] hb (Host.reduceAdd (F := Ideal) (φ := .f32) (axes := [2]) (t := ⟨2, ![B, R]⟩) (mulf (F := Ideal) (φ := .f32) r r) (constant (F := Ideal) u .f32 0x00000000#32) h hu) : Arr ⟨3, ![B, R, 1]⟩) j
      = sq r (d0 j) (d1 j) := by
    rw [under]
    exact congrFun (hostLast3 _ h hu) (ix2 (d0 j) (d1 j))
  exact congrArg den e

/-- The host's lines of the derivative, `v` the mean square with the small constant. -/
theorem host_back {u : Shape} (ct r d : Arr ⟨3, ![B, R, C]⟩) (v : Arr ⟨3, ![B, R, 1]⟩) (hv : v = fun j => den (sq r (d0 j) (d1 j))) (h) (h') (hu : 0 < u.numel)
    (hc : (⟨3, ![B, R, 1]⟩ : Shape).BroadcastsInDim ⟨3, ![B, R, C]⟩ ![0, 1, 2]) (ha : (⟨2, ![B, R]⟩ : Shape).BroadcastsInDim ⟨3, ![B, R, C]⟩ ![0, 1])
    (hs : (⟨2, ![B, R]⟩ : Shape).ShapeCasts ⟨3, ![B, R, 1]⟩) (u1 u2 : Shape) (x1 : Fin u1.rank → Fin 3) (x2 : Fin u2.rank → Fin 3)
    (h1 : u1.BroadcastsInDim ⟨3, ![B, R, 1]⟩ x1) (h2 : u2.BroadcastsInDim ⟨3, ![B, R, 1]⟩ x2) (q : Arr ⟨3, ![B, R, C]⟩)
    (hq : q = broadcastInDim ⟨3, ![B, R, C]⟩ ![0, 1] ha (Host.reduceAdd (F := Ideal) (φ := .f32) (axes := [2]) (t := ⟨2, ![B, R]⟩)
        (Host.divf (F := Ideal) (φ := .f32) (mulf (F := Ideal) (φ := .f32)
          (shapeCast ⟨3, ![B, R, 1]⟩ (Host.reduceAdd (F := Ideal) (φ := .f32) (axes := [2]) (t := ⟨2, ![B, R]⟩) (mulf (F := Ideal) (φ := .f32) r d) (constant (F := Ideal) u .f32 0x00000000#32) h hu : Arr ⟨2, ![B, R]⟩) hs)
          (mulf (F := Ideal) (φ := .f32) (broadcastInDim (s := u1) ⟨3, ![B, R, 1]⟩ x1 h1 (constant (F := Ideal) u1 .f32 0xBF000000#32))
            (Host.divf (F := Ideal) (φ := .f32) (Host.rsqrt (F := Ideal) (φ := .f32) v) v)))
          (broadcastInDim (s := u2) ⟨3, ![B, R, 1]⟩ x2 h2 (constant (F := Ideal) u2 .f32 0x44800000#32))) (constant (F := Ideal) u .f32 0x00000000#32) h' hu : Arr ⟨2, ![B, R]⟩)) :
    (addf (F := Ideal) (φ := .f32) (addf (F := Ideal) (φ := .f32) (addf (F := Ideal) (φ := .f32) ct (mulf (F := Ideal) (φ := .f32) d
        (broadcastInDim ⟨3, ![B, R, C]⟩ ![0, 1, 2] hc (Host.rsqrt (F := Ideal) (φ := .f32) v))))
        (mulf (F := Ideal) (φ := .f32) r q)) (mulf (F := Ideal) (φ := .f32) q r) : Arr ⟨3, ![B, R, C]⟩) = back ct r d := by
  have e : q = fun j => Ideal.div ((∑ k : Fin C, r (ix3 (d0 j) (d1 j) k) * d (ix3 (d0 j) (d1 j) k)) * (Ideal.ofBits .f32 0xBF000000#32 * Ideal.div (inv (sq r (d0 j) (d1 j))) (den (sq r (d0 j) (d1 j))))) (Ideal.ofBits .f32 0x44800000#32) := by
    rw [hq, along, hostLast3, cast1, hostLast3, hv]
    funext j
    exact Fin.sum_univ_one _
  rw [e, widen, hv]
  funext j
  exact open_row (ct j) (r j) (d j) _ _ (sum_sq_nonneg _)

end

/-! ### The gradient of the gain -/

/-- The gradient of the gain, laid as a row. -/
def gain {C : Nat} (r dh : Arr ⟨3, ![4, 2048, C]⟩) : Arr ⟨2, ![1, C]⟩ := fun j =>
  ∑ p : Fin 4, ∑ q : Fin 2048, dh (ix3 p q (c1 j)) * (r (ix3 p q (c1 j)) * inv (sq r p q))

/-- What one block of flat rows adds to it. -/
def gainBlk {C : Nat} (T : Nat) (r dh : Arr ⟨3, ![4, 2048, C]⟩) (t : Nat) : Arr ⟨2, ![1, C]⟩ := fun j =>
  ∑ y : Fin T, flatA dh (ix2 (Fin.ofNat 8192 (t * T + y.val)) (c1 j))
    * (flatA r (ix2 (Fin.ofNat 8192 (t * T + y.val)) (c1 j)) * inv (∑ k : Fin C, flatA r (ix2 (Fin.ofNat 8192 (t * T + y.val)) k) * flatA r (ix2 (Fin.ofNat 8192 (t * T + y.val)) k)))

theorem gain_blocks {C : Nat} (G T : Nat) (h : 8192 = G * T) (r dh : Arr ⟨3, ![4, 2048, C]⟩) (j) : ∑ b : Fin G, gainBlk T r dh b.val j = gain r dh j :=
  sum_batch 4 2048 G T h fun p q => dh (ix3 p q (c1 j)) * (r (ix3 p q (c1 j)) * inv (sq r p q))

/-- The host's lines of the gain's gradient. -/
theorem host_gain {C : Nat} {u : Shape} (r dh i : Arr ⟨3, ![4, 2048, C]⟩) (hi : i = fun j => inv (sq r (d0 j) (d1 j))) (h) (h') (hu : 0 < u.numel)
    (hs : (⟨1, ![C]⟩ : Shape).ShapeCasts ⟨3, ![1, 1, C]⟩) (hs' : (⟨1, ![C]⟩ : Shape).ShapeCasts ⟨2, ![1, C]⟩) :
    (shapeCast ⟨2, ![1, C]⟩ (Host.reduceAdd (F := Ideal) (φ := .f32) (axes := [0, 1]) (t := ⟨1, ![C]⟩)
        (shapeCast ⟨3, ![1, 1, C]⟩ (Host.reduceAdd (F := Ideal) (φ := .f32) (axes := [0, 1]) (t := ⟨1, ![C]⟩)
          (mulf (F := Ideal) (φ := .f32) (mulf (F := Ideal) (φ := .f32) r i) dh) (constant (F := Ideal) u .f32 0x00000000#32) h hu : Arr ⟨1, ![C]⟩) hs)
        (constant (F := Ideal) u .f32 0x00000000#32) h' hu : Arr ⟨1, ![C]⟩) hs' : Arr ⟨2, ![1, C]⟩) = gain r dh := by
  rw [asRow, hostRows3, hostRows3, cast11, hi]
  funext j
  refine (Fin.sum_univ_one _).trans ((Fin.sum_univ_one _).trans ?_)
  exact Finset.sum_congr rfl fun p _ => Finset.sum_congr rfl fun q _ => mul_comm _ _

/-- A block's part of the gain's gradient. -/
theorem blk_gain {T C : Nat} (dh xh : Arr ⟨2, ![T, C]⟩) (a : Arr ⟨2, ![1, C]⟩) (acc) (h : (⟨2, ![T, C]⟩ : Shape).Reduces [0] ⟨1, ![C]⟩) (h1) (h2) (h3 : (⟨1, ![C]⟩ : Shape).ShapeCasts ⟨2, ![1, C]⟩) :
    (addf (F := Ideal) (φ := .f32) a (shapeCast ⟨2, ![1, C]⟩ (multiReduction (F := Ideal) (φ := .f32) .add [0] ⟨1, ![C]⟩ (mulf (F := Ideal) (φ := .f32) dh xh) acc h h1 h2) h3) : Arr ⟨2, ![1, C]⟩)
      = fun j => a j + ∑ y : Fin T, dh (ix2 y (c1 j)) * xh (ix2 y (c1 j)) := by
  rw [asRow]
  funext j
  exact congrArg (a j + ·) (congrFun (rowsE _ acc h h1 h2) (ix1 (c1 j)))

end Cert.Ext

end
-- ==== Proof.FfnInBwd.Geometry.lean ====
/- Where the blocks of the grid lie: what a point reads of each array, and that the written blocks fill the results. -/
module

public import proofs.«01_k».proof.Proof.Gen.Kernel2Ideal.Value
public import proofs.«01_k».proof.Proof.Lift.Rms
public import proofs.«01_k».proof.Proof.Lift.Place

@[expose] public section

noncomputable section

namespace Cert.FfnInBwd

open Cert.Kernel2Ideal Cert.Kernel2Ideal.Gen Cert.Ext Idealize.ShloMosaic Idealize.ShloMosaic.TcCoe Idealize.SL.Sem Cert.Lift Idealize.ShloMosaic.ValueIdx
open Idealize.ShloMosaic.Pipeline (Dat)

variable (m : (ℓ : Loc nD τ sig) → Buf (Elt Ideal) ℓ) (c : Dev nD)

theorem hN : cfg0.N = 32 := N_0

/-! ### The input blocks -/

theorem idx0_0 : ∀ t : Fin cfg0.N, win0_0.index t 0 = t.val := by decide +kernel
theorem idx0_1 : ∀ t : Fin cfg0.N, win0_0.index t 1 = 0 := by decide +kernel
theorem rd0 (t : Fin cfg0.N) (a : S8192x2816.Idx → EReal) (h : (V m c main_v1 : S8192x2816.Idx → EReal) = a) :
    (iblk m c 0 t : S256x2816.Idx → EReal) = fun y => a (ix2 (Fin.ofNat 8192 (t.val * 256 + (r0 y).val)) (Fin.ofNat 2816 (0 * 2816 + (c1 y).val))) := by
  have ht : t.val < 32 := hN ▸ t.isLt
  funext y
  unfold iblk
  rw [View.read_apply]
  exact (congrFun h _).trans (congrArg a (place _ y _ _ _ _ (idx0_0 t) (idx0_1 t) (by omega) (by omega) rfl rfl))

theorem idx1_0 : ∀ t : Fin cfg0.N, win0_1.index t 0 = t.val := by decide +kernel
theorem idx1_1 : ∀ t : Fin cfg0.N, win0_1.index t 1 = 0 := by decide +kernel
theorem rd1 (t : Fin cfg0.N) (a : S8192x2816.Idx → EReal) (h : (V m c main_v3 : S8192x2816.Idx → EReal) = a) :
    (iblk m c 1 t : S256x2816.Idx → EReal) = fun y => a (ix2 (Fin.ofNat 8192 (t.val * 256 + (r0 y).val)) (Fin.ofNat 2816 (0 * 2816 + (c1 y).val))) := by
  have ht : t.val < 32 := hN ▸ t.isLt
  funext y
  unfold iblk
  rw [View.read_apply]
  exact (congrFun h _).trans (congrArg a (place _ y _ _ _ _ (idx1_0 t) (idx1_1 t) (by omega) (by omega) rfl rfl))

theorem idx2_0 : ∀ t : Fin cfg0.N, win0_2.index t 0 = t.val := by decide +kernel
theorem idx2_1 : ∀ t : Fin cfg0.N, win0_2.index t 1 = 0 := by decide +kernel
theorem rd2 (t : Fin cfg0.N) (a : S8192x1024.Idx → EReal) (h : (V m c main_v4 : S8192x1024.Idx → EReal) = a) :
    (iblk m c 2 t : S256x1024.Idx → EReal) = fun y => a (ix2 (Fin.ofNat 8192 (t.val * 256 + (r0 y).val)) (Fin.ofNat 1024 (0 * 1024 + (c1 y).val))) := by
  have ht : t.val < 32 := hN ▸ t.isLt
  funext y
  unfold iblk
  rw [View.read_apply]
  exact (congrFun h _).trans (congrArg a (place _ y _ _ _ _ (idx2_0 t) (idx2_1 t) (by omega) (by omega) rfl rfl))

theorem idx3_0 : ∀ t : Fin cfg0.N, win0_3.index t 0 = t.val := by decide +kernel
theorem idx3_1 : ∀ t : Fin cfg0.N, win0_3.index t 1 = 0 := by decide +kernel
theorem rd3 (t : Fin cfg0.N) (a : S8192x1024.Idx → EReal) (h : (V m c main_v5 : S8192x1024.Idx → EReal) = a) :
    (iblk m c 3 t : S256x1024.Idx → EReal) = fun y => a (ix2 (Fin.ofNat 8192 (t.val * 256 + (r0 y).val)) (Fin.ofNat 1024 (0 * 1024 + (c1 y).val))) := by
  have ht : t.val < 32 := hN ▸ t.isLt
  funext y
  unfold iblk
  rw [View.read_apply]
  exact (congrFun h _).trans (congrArg a (place _ y _ _ _ _ (idx3_0 t) (idx3_1 t) (by omega) (by omega) rfl rfl))

theorem idx4_0 : ∀ t : Fin cfg0.N, win0_4.index t 0 = 0 := by decide +kernel
theorem idx4_1 : ∀ t : Fin cfg0.N, win0_4.index t 1 = 0 := by decide +kernel
theorem rd4 (t : Fin cfg0.N) (a : S1x1024.Idx → EReal) (h : (V m c main_v6 : S1x1024.Idx → EReal) = a) :
    (iblk m c 4 t : S1x1024.Idx → EReal) = fun y => a (ix2 (Fin.ofNat 1 (0 * 1 + (r0 y).val)) (Fin.ofNat 1024 (0 * 1024 + (c1 y).val))) := by
  have ht : t.val < 32 := hN ▸ t.isLt
  funext y
  unfold iblk
  rw [View.read_apply]
  exact (congrFun h _).trans (congrArg a (place _ y _ _ _ _ (idx4_0 t) (idx4_1 t) (by omega) (by omega) rfl rfl))

theorem idx5_0 : ∀ t : Fin cfg0.N, win0_5.index t 0 = 0 := by decide +kernel
theorem idx5_1 : ∀ t : Fin cfg0.N, win0_5.index t 1 = 0 := by decide +kernel
theorem rd5 (t : Fin cfg0.N) (a : S2816x1024.Idx → EReal) (h : (V m c main_v8 : S2816x1024.Idx → EReal) = a) :
    (iblk m c 5 t : S2816x1024.Idx → EReal) = fun y => a (ix2 (Fin.ofNat 2816 (0 * 2816 + (r0 y).val)) (Fin.ofNat 1024 (0 * 1024 + (c1 y).val))) := by
  have ht : t.val < 32 := hN ▸ t.isLt
  funext y
  unfold iblk
  rw [View.read_apply]
  exact (congrFun h _).trans (congrArg a (place _ y _ _ _ _ (idx5_0 t) (idx5_1 t) (by omega) (by omega) rfl rfl))

theorem idx6_0 : ∀ t : Fin cfg0.N, win0_6.index t 0 = 0 := by decide +kernel
theorem idx6_1 : ∀ t : Fin cfg0.N, win0_6.index t 1 = 0 := by decide +kernel
theorem rd6 (t : Fin cfg0.N) (a : S2816x1024.Idx → EReal) (h : (V m c main_v10 : S2816x1024.Idx → EReal) = a) :
    (iblk m c 6 t : S2816x1024.Idx → EReal) = fun y => a (ix2 (Fin.ofNat 2816 (0 * 2816 + (r0 y).val)) (Fin.ofNat 1024 (0 * 1024 + (c1 y).val))) := by
  have ht : t.val < 32 := hN ▸ t.isLt
  funext y
  unfold iblk
  rw [View.read_apply]
  exact (congrFun h _).trans (congrArg a (place _ y _ _ _ _ (idx6_0 t) (idx6_1 t) (by omega) (by omega) rfl rfl))

/-! ### The output arrays -/

theorem idx7_0 : ∀ t : Fin cfg0.N, win0_7.index t 0 = t.val := by decide +kernel
theorem idx7_1 : ∀ t : Fin cfg0.N, win0_7.index t 1 = 0 := by decide +kernel
theorem arr7 (p : Fin cfg0.N → S256x1024.Idx → EReal) (G : S8192x1024.Idx → EReal)
    (hp : ∀ t, (cfg0.win 7).flush t = true → ((dats m 0 c).after 7 t : S256x1024.Idx → EReal) = p t)
    (hG : ∀ t, (cfg0.win 7).flush t = true → ∀ y, p t y = G (ix2 (Fin.ofNat 8192 (t.val * 256 + (r0 y).val)) (Fin.ofNat 1024 (0 * 1024 + (c1 y).val)))) :
    ((dats m 0 c).arrAt 7 cfg0.N : S8192x1024.Idx → EReal) = G := by
  refine (dats m 0 c).arrAt_eq_of_cover 7 G (fun t hf => ?_) fun i => ?_
  · have ht : t.val < 32 := hN ▸ t.isLt
    refine funext fun (y : S256x1024.Idx) => ?_
    refine (congrFun (hp t hf) y).trans ?_
    rw [View.read_apply]
    exact (hG t hf y).trans (congrArg G (place _ y _ _ _ _ (idx7_0 t) (idx7_1 t) (by omega) (by omega) rfl rfl).symm)
  · have h0 : (i 0 : Nat) < 8192 := (i 0).isLt
    have h1 : (i 1 : Nat) < 1024 := (i 1).isLt
    have hlt : (i 0 : Nat) / 256 < cfg0.N := by rw [hN]; omega
    refine ⟨⟨(i 0 : Nat) / 256, hlt⟩, flush0_7 ⟨_, hlt⟩, ?_⟩
    show i ∈ ((View.whole main_v11_0).slice (win0_7.rect ⟨(i 0 : Nat) / 256, hlt⟩)).set
    rw [View.set_slice_whole, Rect.mem_set_unit]
    exact both (within (T := 256) (((i 0 : Nat) / 256)) (idx7_0 _) (by omega)) (within (T := 1024) (0) (idx7_1 _) (by omega))

theorem idx8_0 : ∀ t : Fin cfg0.N, win0_8.index t 0 = 0 := by decide +kernel
theorem idx8_1 : ∀ t : Fin cfg0.N, win0_8.index t 1 = 0 := by decide +kernel
theorem arr8 (p : Fin cfg0.N → S1x1024.Idx → EReal) (G : S1x1024.Idx → EReal)
    (hp : ∀ t, (cfg0.win 8).flush t = true → ((dats m 0 c).after 8 t : S1x1024.Idx → EReal) = p t)
    (hG : ∀ t, (cfg0.win 8).flush t = true → ∀ y, p t y = G (ix2 (Fin.ofNat 1 (0 * 1 + (r0 y).val)) (Fin.ofNat 1024 (0 * 1024 + (c1 y).val)))) :
    ((dats m 0 c).arrAt 8 cfg0.N : S1x1024.Idx → EReal) = G := by
  refine (dats m 0 c).arrAt_eq_of_cover 8 G (fun t hf => ?_) fun i => ?_
  · have ht : t.val < 32 := hN ▸ t.isLt
    refine funext fun (y : S1x1024.Idx) => ?_
    refine (congrFun (hp t hf) y).trans ?_
    rw [View.read_apply]
    exact (hG t hf y).trans (congrArg G (place _ y _ _ _ _ (idx8_0 t) (idx8_1 t) (by omega) (by omega) rfl rfl).symm)
  · have h0 : (i 0 : Nat) < 1 := (i 0).isLt
    have h1 : (i 1 : Nat) < 1024 := (i 1).isLt
    have hlt : 31 < cfg0.N := by rw [hN]; omega
    refine ⟨⟨31, hlt⟩, (flush0_8 ⟨_, hlt⟩).mpr (by show (31) % 32 = 31; omega), ?_⟩
    show i ∈ ((View.whole main_v11_1).slice (win0_8.rect ⟨31, hlt⟩)).set
    rw [View.set_slice_whole, Rect.mem_set_unit]
    exact both (within (T := 1) (0) (idx8_0 _) (by omega)) (within (T := 1024) (0) (idx8_1 _) (by omega))

end Cert.FfnInBwd

end
-- ==== Proof.FfnInBwd.Value.lean ====
/- The two arrays the call returns: the gradient of the rows and of the gain. -/
module

public import proofs.«01_k».proof.Proof.FfnInBwd.Geometry

@[expose] public section

noncomputable section

namespace Cert.FfnInBwd

open Cert.Kernel2Ideal Cert.Kernel2Ideal.Gen Cert.Ext Idealize.ShloMosaic Idealize.ShloMosaic.TcCoe Idealize.ShloMosaic.Tactic Idealize.SL.Sem Cert.Lift Idealize.ShloMosaic.ValueIdx

/-! ### What a point stores -/

section
variable {c : Dev nD} {i : grid0.Coords} {arg1 : Memref sig .tc .vmem S256x2816 .bf16} {harg1 : arg1.IsWhole} {arg2 : Memref sig .tc .vmem S256x2816 .bf16} {harg2 : arg2.IsWhole} {arg3 : Memref sig .tc .vmem S256x1024 .f32} {harg3 : arg3.IsWhole} {arg4 : Memref sig .tc .vmem S256x1024 .f32} {harg4 : arg4.IsWhole} {arg5 : Memref sig .tc .vmem S1x1024 .f32} {harg5 : arg5.IsWhole} {arg6 : Memref sig .tc .vmem S2816x1024 .bf16} {harg6 : arg6.IsWhole} {arg7 : Memref sig .tc .vmem S2816x1024 .bf16} {harg7 : arg7.IsWhole} {arg8 : Memref sig .tc .vmem S256x1024 .f32} {harg8 : arg8.IsWhole} {arg9 : Memref sig .tc .vmem S1x1024 .f32} {harg9 : arg9.IsWhole}
  (x0 x1 : Vec Ideal S256x2816 .bf16) (x2 x3 : Vec Ideal S256x1024 .f32) (x4 : Vec Ideal S1x1024 .f32) (x5 x6 : Vec Ideal S2816x1024 .bf16) (xo8 : Vec Ideal S1x1024 .f32)

theorem rowsA (hc0 : cond0_0 i) :
    out0_A_7 (F := Ideal) c i arg1 harg1 arg2 harg2 arg3 harg3 arg4 harg4 arg5 harg5 arg6 harg6 arg7 harg7 arg8 harg8 arg9 harg9 hc0 x0 x1 x2 x3 x4 x5 x6 = k0_pay2 (F := Ideal) (k0_pay5 (F := Ideal) x3) (k0_pay8 (F := Ideal) x4 x0 x5 x1 x6) (k0_pay9 (F := Ideal) x4 x3 x0 x5 x1 x6) x2 := by
  unfold out0_A_7
  rw [View.read_writes_eq_canon _ _ _ (cover0_A_7 (F := Ideal) c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  first | rw [View.canon_unit_zero hz] | rw [View.canon_cons_unit_zero (S := S256x1024) hz]
  simp only [View.readAt_eq_ld, harg1.read_unread, harg2.read_unread, harg3.read_unread, harg4.read_unread, harg5.read_unread, harg6.read_unread, harg7.read_unread, harg8.read_unread, harg9.read_unread, View.ld_unit_zero (S := S256x2816) hz, View.ld_unit_zero (S := S256x1024) hz, View.ld_unit_zero (S := S1x1024) hz, View.ld_unit_zero (S := S2816x1024) hz]

theorem rowsB (hc0 : ¬cond0_0 i) :
    out0_B_7 (F := Ideal) c i arg1 harg1 arg2 harg2 arg3 harg3 arg4 harg4 arg5 harg5 arg6 harg6 arg7 harg7 arg8 harg8 arg9 harg9 hc0 x0 x1 x2 x3 x4 x5 x6 xo8 = k0_pay2 (F := Ideal) (k0_pay5 (F := Ideal) x3) (k0_pay8 (F := Ideal) x4 x0 x5 x1 x6) (k0_pay9 (F := Ideal) x4 x3 x0 x5 x1 x6) x2 := by
  unfold out0_B_7
  rw [View.read_writes_eq_canon _ _ _ (cover0_B_7 (F := Ideal) c i arg1 harg1 arg2 harg2 arg3 harg3 arg4 harg4 arg5 harg5 arg6 harg6 arg7 harg7 arg8 harg8 arg9 harg9 hc0 x0 x1 x2 x3 x4 x5 x6 xo8)]
  unfold kernelRun0_B
  dsimp only
  sl_unfold_words
  first | rw [View.canon_unit_zero hz] | rw [View.canon_cons_unit_zero (S := S256x1024) hz]
  simp only [View.readAt_eq_ld, harg1.read_unread, harg2.read_unread, harg3.read_unread, harg4.read_unread, harg5.read_unread, harg6.read_unread, harg7.read_unread, harg8.read_unread, harg9.read_unread, View.ld_unit_zero (S := S256x2816) hz, View.ld_unit_zero (S := S256x1024) hz, View.ld_unit_zero (S := S1x1024) hz, View.ld_unit_zero (S := S2816x1024) hz]

theorem gainA (hc0 : cond0_0 i) :
    out0_A_8 (F := Ideal) c i arg1 harg1 arg2 harg2 arg3 harg3 arg4 harg4 arg5 harg5 arg6 harg6 arg7 harg7 arg8 harg8 arg9 harg9 hc0 x0 x1 x2 x3 x4 x5 x6 = k0_pay1 (F := Ideal) (k0_pay6 (F := Ideal) x3) (k0_pay7 (F := Ideal) x0 x5 x1 x6) (k0_pay3 (F := Ideal)) := by
  unfold out0_A_8
  rw [View.read_writes_eq_canon _ _ _ (cover0_A_8 (F := Ideal) c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  first | rw [View.canon_unit_zero hz] | rw [View.canon_cons_unit_zero (S := S1x1024) hz]
  simp only [View.readAt_eq_ld, harg1.read_unread, harg2.read_unread, harg3.read_unread, harg4.read_unread, harg5.read_unread, harg6.read_unread, harg7.read_unread, harg8.read_unread, harg9.read_unread, View.ld_unit_zero (S := S256x2816) hz, View.ld_unit_zero (S := S256x1024) hz, View.ld_unit_zero (S := S1x1024) hz, View.ld_unit_zero (S := S2816x1024) hz]
  congr 1
  exact View.readCov_unit_zero (S := S1x1024) _ hz _ _

theorem gainB (hc0 : ¬cond0_0 i) :
    out0_B_8 (F := Ideal) c i arg1 harg1 arg2 harg2 arg3 harg3 arg4 harg4 arg5 harg5 arg6 harg6 arg7 harg7 arg8 harg8 arg9 harg9 hc0 x0 x1 x2 x3 x4 x5 x6 xo8 = k0_pay1 (F := Ideal) (k0_pay6 (F := Ideal) x3) (k0_pay7 (F := Ideal) x0 x5 x1 x6) xo8 := by
  unfold out0_B_8
  rw [View.read_writes_eq_canon _ _ _ (cover0_B_8 (F := Ideal) c i arg1 harg1 arg2 harg2 arg3 harg3 arg4 harg4 arg5 harg5 arg6 harg6 arg7 harg7 arg8 harg8 arg9 harg9 hc0 x0 x1 x2 x3 x4 x5 x6 xo8)]
  unfold kernelRun0_B
  dsimp only
  sl_unfold_words
  first | rw [View.canon_unit_zero hz] | rw [View.canon_cons_unit_zero (S := S1x1024) hz]
  simp only [View.readAt_eq_ld, harg1.read_unread, harg2.read_unread, harg3.read_unread, harg4.read_unread, harg5.read_unread, harg6.read_unread, harg7.read_unread, harg8.read_unread, harg9.read_unread, View.ld_unit_zero (S := S256x2816) hz, View.ld_unit_zero (S := S256x1024) hz, View.ld_unit_zero (S := S1x1024) hz, View.ld_unit_zero (S := S2816x1024) hz]

end

/-! ### The stored values, index by index -/

section
variable (x0 x1 : S256x2816.Idx → EReal) (x2 x3 : S256x1024.Idx → EReal) (x4 : S1x1024.Idx → EReal) (x5 x6 : S2816x1024.Idx → EReal)

theorem pay4 : (k0_pay4 (F := Ideal) x3 : S256x1024.Idx → EReal) = x3 := by
  unfold k0_pay4
  exact shapeCast_self _ _

theorem pay5 : (k0_pay5 (F := Ideal) x3 : S256x1.Idx → EReal) = fun j => inv (∑ k : Fin 1024, x3 (ix2 (r0 j) k) * x3 (ix2 (r0 j) k)) := by
  unfold k0_pay5
  rw [pay4]
  exact blk_inv x3 _ _ _ _ _

theorem pay6 : (k0_pay6 (F := Ideal) x3 : S256x1024.Idx → EReal) = fun j => x3 j * inv (∑ k : Fin 1024, x3 (ix2 (r0 j) k) * x3 (ix2 (r0 j) k)) := by
  unfold k0_pay6
  rw [pay4, pay5]
  dsimp only
  rw [colTo]
  rfl

theorem pay7 : (k0_pay7 (F := Ideal) x0 x5 x1 x6 : S256x1024.Idx → EReal)
    = fun j => (∑ k : Fin 2816, x0 (ix2 (r0 j) k) * x5 (ix2 k (c1 j))) + ∑ k : Fin 2816, x1 (ix2 (r0 j) k) * x6 (ix2 k (c1 j)) := by
  unfold k0_pay7
  dsimp only
  rw [shapeCast_self, shapeCast_self, shapeCast_self, shapeCast_self]
  funext j
  exact congrArg₂ (· + ·) (congrFun (matmul_nn _ rfl rfl rfl rfl rfl rfl _ x0 x5) j) (congrFun (matmul_nn _ rfl rfl rfl rfl rfl rfl _ x1 x6) j)

theorem pay8 : (k0_pay8 (F := Ideal) x4 x0 x5 x1 x6 : S256x1024.Idx → EReal)
    = fun j => ((∑ k : Fin 2816, x0 (ix2 (r0 j) k) * x5 (ix2 k (c1 j))) + ∑ k : Fin 2816, x1 (ix2 (r0 j) k) * x6 (ix2 k (c1 j))) * x4 (ix2 0 (c1 j)) := by
  unfold k0_pay8
  rw [pay7]
  dsimp only
  rw [shapeCast_self, rowTo]
  rfl

theorem rows : (k0_pay2 (F := Ideal) (k0_pay5 (F := Ideal) x3) (k0_pay8 (F := Ideal) x4 x0 x5 x1 x6) (k0_pay9 (F := Ideal) x4 x3 x0 x5 x1 x6) x2 : S256x1024.Idx → EReal) = backBlk x2 x3 (k0_pay8 (F := Ideal) x4 x0 x5 x1 x6) := by
  unfold k0_pay9 k0_pay2
  have h6 : (k0_pay6 (F := Ideal) x3 : S256x1024.Idx → EReal) = mulf (F := Ideal) (φ := .f32) x3 (broadcastTo S256x1024 (k0_pay5 (F := Ideal) x3) broadcasts_S256x1_S256x1024) := by
    conv_lhs => unfold k0_pay6
    rw [pay4]
  rw [h6]
  dsimp only
  rw [shapeCast_self]
  exact blk_back x2 x3 (k0_pay8 (F := Ideal) x4 x0 x5 x1 x6) (k0_pay5 (F := Ideal) x3) (pay5 x3) _ _ _ _ _ _

theorem gains (a : S1x1024.Idx → EReal) : (k0_pay1 (F := Ideal) (k0_pay6 (F := Ideal) x3) (k0_pay7 (F := Ideal) x0 x5 x1 x6) a : S1x1024.Idx → EReal) = fun j => a j + ∑ y : Fin 256,
    ((∑ k : Fin 2816, x0 (ix2 y k) * x5 (ix2 k (c1 j))) + ∑ k : Fin 2816, x1 (ix2 y k) * x6 (ix2 k (c1 j))) * (x3 (ix2 y (c1 j)) * inv (∑ k : Fin 1024, x3 (ix2 y k) * x3 (ix2 y k))) := by
  unfold k0_pay1
  rw [pay6, pay7]
  dsimp only
  rw [shapeCast_self]
  exact blk_gain _ _ a _ _ _ _ _

theorem zeros : (k0_pay3 (F := Ideal) : S1x1024.Idx → EReal) = fun _ => 0 := by
  unfold k0_pay3
  funext j
  exact zeroF

end

/-! ### The results -/

/-- The gradient of the normalised rows. -/
def dh (a u : Arr S4x2048x2816) (wg wu : Arr S1024x2816) : Arr S4x2048x1024 := fun j =>
  (∑ k : Fin 2816, a (ix3 (d0 j) (d1 j) k) * wg (ix2 (d2 j) k)) + ∑ k : Fin 2816, u (ix3 (d0 j) (d1 j) k) * wu (ix2 (d2 j) k)

/-- … times the gain. -/
def dx (a u : Arr S4x2048x2816) (g : Arr S1024) (wg wu : Arr S1024x2816) : Arr S4x2048x1024 := fun j => dh a u wg wu j * g (ix1 (d2 j))

variable (m : (ℓ : Loc nD τ sig) → Buf (Elt Ideal) ℓ) (c : Dev nD)

theorem atA (t : Fin cfg0.N) (h0 : t.val % 32 = 0) : (outsAt0 m c t.val t.isLt).2 = k0_pay1 (F := Ideal) (k0_pay6 (F := Ideal) (iblk m c 3 t)) (k0_pay7 (F := Ideal) (iblk m c 0 t) (iblk m c 5 t) (iblk m c 1 t) (iblk m c 6 t)) (k0_pay3 (F := Ideal)) := by
  rw [outsAt0_A m c t h0]
  dsimp only
  exact gainA (c := c) (i := grid0.coords t) (x0 := iblk m c 0 t) (x1 := iblk m c 1 t) (x2 := iblk m c 2 t) (x3 := iblk m c 3 t) (x4 := iblk m c 4 t) (x5 := iblk m c 5 t) (x6 := iblk m c 6 t) _

theorem atB (t : Fin cfg0.N) (h0 : ¬t.val % 32 = 0) : (outsAt0 m c t.val t.isLt).2 = k0_pay1 (F := Ideal) (k0_pay6 (F := Ideal) (iblk m c 3 t)) (k0_pay7 (F := Ideal) (iblk m c 0 t) (iblk m c 5 t) (iblk m c 1 t) (iblk m c 6 t)) (outsAt0 m c (t.val - 1) (Nat.lt_of_le_of_lt (Nat.sub_le _ _) t.isLt)).2 := by
  rw [outsAt0_B m c t h0]
  dsimp only
  exact gainB (c := c) (i := grid0.coords t) (x0 := iblk m c 0 t) (x1 := iblk m c 1 t) (x2 := iblk m c 2 t) (x3 := iblk m c 3 t) (x4 := iblk m c 4 t) (x5 := iblk m c 5 t) (x6 := iblk m c 6 t) _ _

theorem atRows (t : Fin cfg0.N) : (outsAt0 m c t.val t.isLt).1 = k0_pay2 (F := Ideal) (k0_pay5 (F := Ideal) (iblk m c 3 t)) (k0_pay8 (F := Ideal) (iblk m c 4 t) (iblk m c 0 t) (iblk m c 5 t) (iblk m c 1 t) (iblk m c 6 t)) (k0_pay9 (F := Ideal) (iblk m c 4 t) (iblk m c 3 t) (iblk m c 0 t) (iblk m c 5 t) (iblk m c 1 t) (iblk m c 6 t)) (iblk m c 2 t) := by
  by_cases h0 : t.val % 32 = 0
  · rw [outsAt0_A m c t h0]
    dsimp only
    exact rowsA (c := c) (i := grid0.coords t) (x0 := iblk m c 0 t) (x1 := iblk m c 1 t) (x2 := iblk m c 2 t) (x3 := iblk m c 3 t) (x4 := iblk m c 4 t) (x5 := iblk m c 5 t) (x6 := iblk m c 6 t) _
  · rw [outsAt0_B m c t h0]
    dsimp only
    exact rowsB (c := c) (i := grid0.coords t) (x0 := iblk m c 0 t) (x1 := iblk m c 1 t) (x2 := iblk m c 2 t) (x3 := iblk m c 3 t) (x4 := iblk m c 4 t) (x5 := iblk m c 5 t) (x6 := iblk m c 6 t) _ _

variable (a u : Arr S4x2048x2816) (ct r : Arr S4x2048x1024) (g : Arr S1024) (wg wu : Arr S1024x2816)
  (ha : m ((c : Thread nD τ).loc main_arg0) = a) (hu : m ((c : Thread nD τ).loc main_arg1) = u) (hc : m ((c : Thread nD τ).loc main_arg2) = ct)
  (hr : m ((c : Thread nD τ).loc main_arg3) = r) (hg : m ((c : Thread nD τ).loc main_arg4) = g) (h5 : m ((c : Thread nD τ).loc main_arg5) = wg) (h6 : m ((c : Thread nD τ).loc main_arg6) = wu)
include ha hu hc hr hg h5 h6

theorem reads : (V m c main_v1 : S8192x2816.Idx → EReal) = flatA a ∧ (V m c main_v3 : S8192x2816.Idx → EReal) = flatA u
    ∧ (V m c main_v4 : S8192x1024.Idx → EReal) = flatA ct ∧ (V m c main_v5 : S8192x1024.Idx → EReal) = flatA r ∧ (V m c main_v6 : S1x1024.Idx → EReal) = (fun j => g (ix1 (c1 j)))
    ∧ (V m c main_v8 : S2816x1024.Idx → EReal) = (fun j => wg (ix2 (c1 j) (r0 j))) ∧ (V m c main_v10 : S2816x1024.Idx → EReal) = (fun j => wu (ix2 (c1 j) (r0 j))) := by
  refine ⟨?_, ?_, ?_, ?_, ?_, ?_, ?_⟩
  · rw [← ha]; exact flat8 (m ((c : Thread nD τ).loc main_arg0)) shapeCasts_S4x2048x2816_S8192x2816
  · rw [← hu]; exact flat8 (m ((c : Thread nD τ).loc main_arg1)) shapeCasts_S4x2048x2816_S8192x2816
  · rw [← hc]; exact flat8 (m ((c : Thread nD τ).loc main_arg2)) shapeCasts_S4x2048x1024_S8192x1024
  · rw [← hr]; exact flat8 (m ((c : Thread nD τ).loc main_arg3)) shapeCasts_S4x2048x1024_S8192x1024
  · rw [← hg]; exact asRow (m ((c : Thread nD τ).loc main_arg4)) shapeCasts_S1024_S1x1024
  · rw [← h5]; exact swap (m ((c : Thread nD τ).loc main_arg5)) transposes_S1024x2816_S2816x1024_1_0
  · rw [← h6]; exact swap (m ((c : Thread nD τ).loc main_arg6)) transposes_S1024x2816_S2816x1024_1_0

/-- A point's gradient of its normalised rows. -/
theorem dhAt (t : Fin cfg0.N) : (k0_pay7 (F := Ideal) (iblk m c 0 t) (iblk m c 5 t) (iblk m c 1 t) (iblk m c 6 t) : S256x1024.Idx → EReal)
    = fun y => flatA (dh a u wg wu) (ix2 (Fin.ofNat 8192 (t.val * 256 + (r0 y).val)) (c1 y)) := by
  obtain ⟨e0, e1, e2, e3, e4, e5, e6⟩ := reads m c a u ct r g wg wu ha hu hc hr hg h5 h6
  refine (congr4 (k0_pay7 (F := Ideal)) (rd0 m c t _ e0) (rd5 m c t _ e5) (rd1 m c t _ e1) (rd6 m c t _ e6)).trans ((pay7 _ _ _ _).trans ?_)
  funext y
  simp only [ofNat_fst]
  rfl

theorem dxAt (t : Fin cfg0.N) : (k0_pay8 (F := Ideal) (iblk m c 4 t) (iblk m c 0 t) (iblk m c 5 t) (iblk m c 1 t) (iblk m c 6 t) : S256x1024.Idx → EReal)
    = fun y => flatA (dx a u g wg wu) (ix2 (Fin.ofNat 8192 (t.val * 256 + (r0 y).val)) (c1 y)) := by
  obtain ⟨e0, e1, e2, e3, e4, e5, e6⟩ := reads m c a u ct r g wg wu ha hu hc hr hg h5 h6
  refine (congrArg (fun b => k0_pay8 (F := Ideal) b (iblk m c 0 t) (iblk m c 5 t) (iblk m c 1 t) (iblk m c 6 t)) (rd4 m c t _ e4)).trans ?_
  refine (congr4 (k0_pay8 (F := Ideal) _) (rd0 m c t _ e0) (rd5 m c t _ e5) (rd1 m c t _ e1) (rd6 m c t _ e6)).trans ((pay8 _ _ _ _ _).trans ?_)
  funext y
  simp only [ofNat_fst]
  rfl

theorem array7 : ((dats m 0 c).arrAt 7 cfg0.N : S8192x1024.Idx → EReal) = flatA (back ct r (dx a u g wg wu)) := by
  obtain ⟨e0, e1, e2, e3, e4, e5, e6⟩ := reads m c a u ct r g wg wu ha hu hc hr hg h5 h6
  refine arr7 m c _ _ (fun t _ => (after0_7 m c t).trans ((atRows m c t).trans ((rows _ _ _ _ _ _ _).trans
    (congr3 backBlk (rd2 m c t _ e2) (rd3 m c t _ e3) (dxAt m c a u ct r g wg wu ha hu hc hr hg h5 h6 t))))) (fun t _ y => ?_)
  simp only [ofNat_fst, backBlk]
  rfl

theorem gainAt (b : S1x1024.Idx → EReal) (t : Fin cfg0.N) : (k0_pay1 (F := Ideal) (k0_pay6 (F := Ideal) (iblk m c 3 t)) (k0_pay7 (F := Ideal) (iblk m c 0 t) (iblk m c 5 t) (iblk m c 1 t) (iblk m c 6 t)) b : S1x1024.Idx → EReal) = fun j => b j + gainBlk 256 r (dh a u wg wu) t.val j := by
  obtain ⟨e0, e1, e2, e3, e4, e5, e6⟩ := reads m c a u ct r g wg wu ha hu hc hr hg h5 h6
  have hd := dhAt m c a u ct r g wg wu ha hu hc hr hg h5 h6 t
  rw [pay7] at hd
  have h3 : (iblk m c 3 t : S256x1024.Idx → EReal) = fun y => flatA r (ix2 (Fin.ofNat 8192 (t.val * 256 + (r0 y).val)) (c1 y)) := by
    refine (rd3 m c t _ e3).trans ?_
    funext y
    simp only [ofNat_fst]
  refine (gains _ _ _ _ _ _).trans ?_
  funext j
  refine congrArg (b j + ·) (Finset.sum_congr rfl fun y _ => ?_)
  have hd' := congrFun hd (ix2 y (c1 j))
  exact congrArg₂ (· * ·) hd' (by rw [h3]; rfl)

/-- The second result's block after a point: the sum of the blocks so far. -/
theorem acc : ∀ n h, ((outsAt0 m c n h).2 : S1x1024.Idx → EReal) = part 32 (gainBlk 256 r (dh a u wg wu)) n := by
  refine sweep 32 (fun n h => ((outsAt0 m c n h).2 : S1x1024.Idx → EReal) = part 32 (gainBlk 256 r (dh a u wg wu)) n) (fun n h h0 => ?_) (fun n h h0 h' ih => ?_)
  · rw [part_first 32 _ n h0]
    refine (atA m c ⟨n, h⟩ h0).trans ?_
    refine (congrArg (k0_pay1 (F := Ideal) _ _) zeros).trans ((gainAt m c a u ct r g wg wu ha hu hc hr hg h5 h6 _ ⟨n, h⟩).trans ?_)
    funext j
    exact zero_add _
  · rw [← part_next 32 (gainBlk 256 r (dh a u wg wu)) n h0 (by decide)]
    refine (atB m c ⟨n, h⟩ h0).trans ?_
    exact (congrArg (k0_pay1 (F := Ideal) _ _) ih).trans (gainAt m c a u ct r g wg wu ha hu hc hr hg h5 h6 _ ⟨n, h⟩)

theorem array8 : ((dats m 0 c).arrAt 8 cfg0.N : S1x1024.Idx → EReal) = gain r (dh a u wg wu) := by
  refine arr8 m c (fun _ => gain r (dh a u wg wu)) _ (fun t hf => ?_) (fun t _ y => ?_)
  · have h1 := (flush0_8 t).mp hf
    refine (after0_8 m c t).trans ((acc m c a u ct r g wg wu ha hu hc hr hg h5 h6 t.val t.isLt).trans ?_)
    funext j
    rw [part_last 32 _ _ (by omega)]
    have e : t.val - t.val % 32 = 0 := by have ht : t.val < 32 := hN ▸ t.isLt; omega
    simp only [e, zero_add]
    exact gain_blocks 32 256 rfl r (dh a u wg wu) j
  · rw [ofNat_fst, ofNat_fst]
    exact congrArg (gain r (dh a u wg wu)) (eq_rc y)

end Cert.FfnInBwd

end
-- ==== Proof.FfnInBwd.Claims.lean ====
/- The claims about the backward pass of the gated block's first products and of its normalisation. -/
module

public import proofs.«01_k».proof.Defs
public import proofs.«01_k».proof.Proof.FfnInBwd.Value
public import proofs.«01_k».proof.Proof.Gen.Kernel2.Frame
public import proofs.«01_k».proof.Proof.Gen.Reference2Ideal.Run
public import Idealize.ShloMosaic.Adequacy
public import Idealize.ShloMosaic.Init

@[expose] public section

noncomputable section

namespace Cert.FfnInBwd

open Idealize.ShloMosaic Idealize.ShloMosaic.TcCoe Idealize.SL.Sem Cert.Ext Cert.Lift Idealize.ShloMosaic.ValueIdx

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ => (θ_run Cert.Reference2Ideal.defs _ _).mono (fun r h => ⟨fun c => (h c).2.2,
      Idealize.ShloMosaic.sem_eq_zero_of_no_sems (by decide) r.2⟩)
    (Cert.Reference2Ideal.Value.run (F := Ideal) m ρ)

theorem preserves : Cert.preserves_Kernel2_Kernel2Ideal := trivial

section
open Cert.Reference2Ideal Cert.Reference2Ideal.Gen
variable (a u : Arr S4x2048x2816) (ct r : Arr S4x2048x1024) (g : Arr S1024) (wg wu : Arr S1024x2816)

theorem ref_dh : ((addf (F := Ideal) (φ := .f32) (Host.dotGeneral (F := Ideal) (φ₁ := .f32) (φ₂ := .f32) dot_S4x2048x2816_S1024x2816_S4x2048x1024_2_1_01_0_n_n none u wu) (Host.dotGeneral (F := Ideal) (φ₁ := .f32) (φ₂ := .f32) dot_S4x2048x2816_S1024x2816_S4x2048x1024_2_1_01_0_n_n none a wg)) : Arr S4x2048x1024) = dh a u wg wu := by
  rw [host_nt3 _ rfl rfl rfl rfl rfl rfl _ u wu, host_nt3 _ rfl rfl rfl rfl rfl rfl _ a wg]
  funext j
  exact add_comm _ _

theorem ref_dx : ((mulf (F := Ideal) (φ := .f32) (addf (F := Ideal) (φ := .f32) (Host.dotGeneral (F := Ideal) (φ₁ := .f32) (φ₂ := .f32) dot_S4x2048x2816_S1024x2816_S4x2048x1024_2_1_01_0_n_n none u wu) (Host.dotGeneral (F := Ideal) (φ₁ := .f32) (φ₂ := .f32) dot_S4x2048x2816_S1024x2816_S4x2048x1024_2_1_01_0_n_n none a wg)) (broadcastInDim S4x2048x1024 ![0, 1, 2] bcast_S1x1x1024_S4x2048x1024_0_1_2 (broadcastInDim S1x1x1024 ![2] bcast_S1024_S1x1x1024_2 g))) : Arr S4x2048x1024) = dx a u g wg wu := by
  rw [ref_dh, last]
  rfl

/-- The reference's gradient of the rows. -/
theorem ref_rows : (shapeCast S8192x1024 (addf (F := Ideal) (φ := .f32) (addf (F := Ideal) (φ := .f32) (addf (F := Ideal) (φ := .f32) ct (mulf (F := Ideal) (φ := .f32) (mulf (F := Ideal) (φ := .f32) (addf (F := Ideal) (φ := .f32) (Host.dotGeneral (F := Ideal) (φ₁ := .f32) (φ₂ := .f32) dot_S4x2048x2816_S1024x2816_S4x2048x1024_2_1_01_0_n_n none u wu) (Host.dotGeneral (F := Ideal) (φ₁ := .f32) (φ₂ := .f32) dot_S4x2048x2816_S1024x2816_S4x2048x1024_2_1_01_0_n_n none a wg)) (broadcastInDim S4x2048x1024 ![0, 1, 2] bcast_S1x1x1024_S4x2048x1024_0_1_2 (broadcastInDim S1x1x1024 ![2] bcast_S1024_S1x1x1024_2 g))) (broadcastInDim S4x2048x1024 ![0, 1, 2] bcast_S4x2048x1_S4x2048x1024_0_1_2 (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32))))))) (mulf (F := Ideal) (φ := .f32) r (broadcastInDim S4x2048x1024 ![0, 1] bcast_S4x2048_S4x2048x1024_0_1 (Host.reduceAdd (F := Ideal) (φ := .f32) (Host.divf (F := Ideal) (φ := .f32) (mulf (F := Ideal) (φ := .f32) (shapeCast S4x2048x1 (Host.reduceAdd (F := Ideal) (φ := .f32) (mulf (F := Ideal) (φ := .f32) r (mulf (F := Ideal) (φ := .f32) (addf (F := Ideal) (φ := .f32) (Host.dotGeneral (F := Ideal) (φ₁ := .f32) (φ₂ := .f32) dot_S4x2048x2816_S1024x2816_S4x2048x1024_2_1_01_0_n_n none u wu) (Host.dotGeneral (F := Ideal) (φ₁ := .f32) (φ₂ := .f32) dot_S4x2048x2816_S1024x2816_S4x2048x1024_2_1_01_0_n_n none a wg)) (broadcastInDim S4x2048x1024 ![0, 1, 2] bcast_S1x1x1024_S4x2048x1024_0_1_2 (broadcastInDim S1x1x1024 ![2] bcast_S1024_S1x1x1024_2 g)))) (constant (F := Ideal) S_ .f32 0x00000000#32) reducesTo_S4x2048x1024_S4x2048_d2 h_S_) shapeCasts_S4x2048_S4x2048x1) (mulf (F := Ideal) (φ := .f32) (broadcastInDim S4x2048x1 ![] bcast_S_S4x2048x1 (constant (F := Ideal) S_ .f32 0xBF000000#32)) (Host.divf (F := Ideal) (φ := .f32) (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))))) (broadcastInDim S4x2048x1 ![] bcast_S_S4x2048x1 (constant (F := Ideal) S_ .f32 0x44800000#32))) (constant (F := Ideal) S_ .f32 0x00000000#32) reducesTo_S4x2048x1_S4x2048_d2 h_S_)))) (mulf (F := Ideal) (φ := .f32) (broadcastInDim S4x2048x1024 ![0, 1] bcast_S4x2048_S4x2048x1024_0_1 (Host.reduceAdd (F := Ideal) (φ := .f32) (Host.divf (F := Ideal) (φ := .f32) (mulf (F := Ideal) (φ := .f32) (shapeCast S4x2048x1 (Host.reduceAdd (F := Ideal) (φ := .f32) (mulf (F := Ideal) (φ := .f32) r (mulf (F := Ideal) (φ := .f32) (addf (F := Ideal) (φ := .f32) (Host.dotGeneral (F := Ideal) (φ₁ := .f32) (φ₂ := .f32) dot_S4x2048x2816_S1024x2816_S4x2048x1024_2_1_01_0_n_n none u wu) (Host.dotGeneral (F := Ideal) (φ₁ := .f32) (φ₂ := .f32) dot_S4x2048x2816_S1024x2816_S4x2048x1024_2_1_01_0_n_n none a wg)) (broadcastInDim S4x2048x1024 ![0, 1, 2] bcast_S1x1x1024_S4x2048x1024_0_1_2 (broadcastInDim S1x1x1024 ![2] bcast_S1024_S1x1x1024_2 g)))) (constant (F := Ideal) S_ .f32 0x00000000#32) reducesTo_S4x2048x1024_S4x2048_d2 h_S_) shapeCasts_S4x2048_S4x2048x1) (mulf (F := Ideal) (φ := .f32) (broadcastInDim S4x2048x1 ![] bcast_S_S4x2048x1 (constant (F := Ideal) S_ .f32 0xBF000000#32)) (Host.divf (F := Ideal) (φ := .f32) (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))))) (broadcastInDim S4x2048x1 ![] bcast_S_S4x2048x1 (constant (F := Ideal) S_ .f32 0x44800000#32))) (constant (F := Ideal) S_ .f32 0x00000000#32) reducesTo_S4x2048x1_S4x2048_d2 h_S_)) r)) shapeCasts_S4x2048x1024_S8192x1024 : S8192x1024.Idx → EReal) = flatA (back ct r (dx a u g wg wu)) := by
  rw [ref_dx]
  refine (congrArg (fun x => shapeCast S8192x1024 x shapeCasts_S4x2048x1024_S8192x1024) (host_back (B := 4) (R := 2048) (C := 1024) ct r (dx a u g wg wu) _ (host_den (B := 4) (R := 2048) (C := 1024) r reducesTo_S4x2048x1024_S4x2048_d2 h_S_ bcast_S4x2048_S4x2048x1_0_1 S_ S_ ![] ![] bcast_S_S4x2048x1 bcast_S_S4x2048x1)
    reducesTo_S4x2048x1024_S4x2048_d2 reducesTo_S4x2048x1_S4x2048_d2 h_S_ bcast_S4x2048x1_S4x2048x1024_0_1_2 bcast_S4x2048_S4x2048x1024_0_1 shapeCasts_S4x2048_S4x2048x1 S_ S_ ![] ![] bcast_S_S4x2048x1 bcast_S_S4x2048x1 _ rfl)).trans ?_
  exact flat8 (back ct r (dx a u g wg wu)) shapeCasts_S4x2048x1024_S8192x1024

/-- The reference's gradient of the gain. -/
theorem ref_gain : (shapeCast S1x1024 (Host.reduceAdd (F := Ideal) (φ := .f32) (shapeCast S1x1x1024 (Host.reduceAdd (F := Ideal) (φ := .f32) (mulf (F := Ideal) (φ := .f32) (mulf (F := Ideal) (φ := .f32) r (broadcastInDim S4x2048x1024 ![0, 1, 2] bcast_S4x2048x1_S4x2048x1024_0_1_2 (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))))) (addf (F := Ideal) (φ := .f32) (Host.dotGeneral (F := Ideal) (φ₁ := .f32) (φ₂ := .f32) dot_S4x2048x2816_S1024x2816_S4x2048x1024_2_1_01_0_n_n none u wu) (Host.dotGeneral (F := Ideal) (φ₁ := .f32) (φ₂ := .f32) dot_S4x2048x2816_S1024x2816_S4x2048x1024_2_1_01_0_n_n none a wg))) (constant (F := Ideal) S_ .f32 0x00000000#32) reducesTo_S4x2048x1024_S1024_d0_1 h_S_) shapeCasts_S1024_S1x1x1024) (constant (F := Ideal) S_ .f32 0x00000000#32) reducesTo_S1x1x1024_S1024_d0_1 h_S_) shapeCasts_S1024_S1x1024 : S1x1024.Idx → EReal) = gain r (dh a u wg wu) := by
  rw [ref_dh]
  exact host_gain r (dh a u wg wu) _ (host_inv (B := 4) (R := 2048) (C := 1024) r reducesTo_S4x2048x1024_S4x2048_d2 h_S_ bcast_S4x2048_S4x2048x1_0_1 bcast_S4x2048x1_S4x2048x1024_0_1_2 S_ S_ ![] ![] bcast_S_S4x2048x1 bcast_S_S4x2048x1) reducesTo_S4x2048x1024_S1024_d0_1 reducesTo_S1x1x1024_S1024_d0_1 h_S_ shapeCasts_S1024_S1x1x1024 shapeCasts_S1024_S1x1024

end

theorem algebraic : Cert.algebraic_Kernel2Ideal_Reference2Ideal := by
  intro m ρ m' ρ' hpre hagree
  refine ⟨_, _, Cert.Kernel2Ideal.Value.run_blocks (F := Ideal) m ρ, ?_⟩
  refine (θ_run Cert.Reference2Ideal.defs _ _).mono (fun _ h c => ?_) (Cert.Reference2Ideal.Value.run (F := Ideal) m' ρ')
  obtain ⟨e0, e1, e2, e3, e4, e5, e6⟩ := hagree c
  exact ⟨(h c).1.trans ((ref_rows _ _ _ _ _ _ _).trans (array7 m c _ _ _ _ _ _ _ e0.symm e1.symm e2.symm e3.symm e4.symm e5.symm e6.symm).symm),
    (h c).2.1.trans ((ref_gain _ _ _ _ _).trans (array8 m c _ _ _ _ _ _ _ e0.symm e1.symm e2.symm e3.symm e4.symm e5.symm e6.symm).symm), (h c).2.2⟩

end Cert.FfnInBwd

end
-- ==== Proof.DFfnWg.Geometry.lean ====
/- Where the blocks of the grid lie: what a point reads of each array, and that the written block fills the result. -/
module

public import proofs.«01_k».proof.Proof.Gen.Kernel3Ideal.Value
public import proofs.«01_k».proof.Proof.Lift.Norm
public import proofs.«01_k».proof.Proof.Lift.Place

@[expose] public section

noncomputable section

namespace Cert.DFfnWg

open Cert.Kernel3Ideal Cert.Kernel3Ideal.Gen Cert.Ext Idealize.ShloMosaic Idealize.ShloMosaic.TcCoe Idealize.SL.Sem Cert.Lift Idealize.ShloMosaic.ValueIdx
open Idealize.ShloMosaic.Pipeline (Dat)

variable (m : (ℓ : Loc nD τ sig) → Buf (Elt Ideal) ℓ) (c : Dev nD)

theorem hN : cfg0.N = 8 := N_0

/-! ### The input blocks -/

theorem idx0_0 : ∀ t : Fin cfg0.N, win0_0.index t 0 = t.val := by decide +kernel
theorem idx0_1 : ∀ t : Fin cfg0.N, win0_0.index t 1 = 0 := by decide +kernel
theorem rd0 (t : Fin cfg0.N) (a : S8192x2816.Idx → EReal) (h : (V m c main_v1 : S8192x2816.Idx → EReal) = a) :
    (iblk m c 0 t : S1024x2816.Idx → EReal) = fun y => a (ix2 (Fin.ofNat 8192 (t.val * 1024 + (r0 y).val)) (Fin.ofNat 2816 (0 * 2816 + (c1 y).val))) := by
  have ht : t.val < 8 := hN ▸ t.isLt
  funext y
  unfold iblk
  rw [View.read_apply]
  exact (congrFun h _).trans (congrArg a (place _ y _ _ _ _ (idx0_0 t) (idx0_1 t) (by omega) (by omega) rfl rfl))

theorem idx1_0 : ∀ t : Fin cfg0.N, win0_1.index t 0 = t.val := by decide +kernel
theorem idx1_1 : ∀ t : Fin cfg0.N, win0_1.index t 1 = 0 := by decide +kernel
theorem rd1 (t : Fin cfg0.N) (a : S8192x1024.Idx → EReal) (h : (V m c main_v16 : S8192x1024.Idx → EReal) = a) :
    (iblk m c 1 t : S1024x1024.Idx → EReal) = fun y => a (ix2 (Fin.ofNat 8192 (t.val * 1024 + (r0 y).val)) (Fin.ofNat 1024 (0 * 1024 + (c1 y).val))) := by
  have ht : t.val < 8 := hN ▸ t.isLt
  funext y
  unfold iblk
  rw [View.read_apply]
  exact (congrFun h _).trans (congrArg a (place _ y _ _ _ _ (idx1_0 t) (idx1_1 t) (by omega) (by omega) rfl rfl))

/-! ### The output arrays -/

theorem idx2_0 : ∀ t : Fin cfg0.N, win0_2.index t 0 = 0 := by decide +kernel
theorem idx2_1 : ∀ t : Fin cfg0.N, win0_2.index t 1 = 0 := by decide +kernel
theorem arr2 (p : Fin cfg0.N → S2816x1024.Idx → EReal) (G : S2816x1024.Idx → EReal)
    (hp : ∀ t, (cfg0.win 2).flush t = true → ((dats m 0 c).after 2 t : S2816x1024.Idx → EReal) = p t)
    (hG : ∀ t, (cfg0.win 2).flush t = true → ∀ y, p t y = G (ix2 (Fin.ofNat 2816 (0 * 2816 + (r0 y).val)) (Fin.ofNat 1024 (0 * 1024 + (c1 y).val)))) :
    ((dats m 0 c).arrAt 2 cfg0.N : S2816x1024.Idx → EReal) = G := by
  refine (dats m 0 c).arrAt_eq_of_cover 2 G (fun t hf => ?_) fun i => ?_
  · have ht : t.val < 8 := hN ▸ t.isLt
    refine funext fun (y : S2816x1024.Idx) => ?_
    refine (congrFun (hp t hf) y).trans ?_
    rw [View.read_apply]
    exact (hG t hf y).trans (congrArg G (place _ y _ _ _ _ (idx2_0 t) (idx2_1 t) (by omega) (by omega) rfl rfl).symm)
  · have h0 : (i 0 : Nat) < 2816 := (i 0).isLt
    have h1 : (i 1 : Nat) < 1024 := (i 1).isLt
    have hlt : 7 < cfg0.N := by rw [hN]; omega
    refine ⟨⟨7, hlt⟩, (flush0_2 ⟨_, hlt⟩).mpr (by show (7) % 8 = 7; omega), ?_⟩
    show i ∈ ((View.whole main_v17).slice (win0_2.rect ⟨7, hlt⟩)).set
    rw [View.set_slice_whole, Rect.mem_set_unit]
    exact both (within (T := 2816) (0) (idx2_0 _) (by omega)) (within (T := 1024) (0) (idx2_1 _) (by omega))

end Cert.DFfnWg

end
-- ==== Proof.DFfnWg.Value.lean ====
/- The gradient of the gate weight: what each point leaves, and the array the call returns. -/
module

public import proofs.«01_k».proof.Proof.DFfnWg.Geometry

@[expose] public section

noncomputable section

namespace Cert.DFfnWg

open Cert.Kernel3Ideal Cert.Kernel3Ideal.Gen Cert.Ext Idealize.ShloMosaic Idealize.ShloMosaic.TcCoe Idealize.ShloMosaic.Tactic Idealize.SL.Sem Cert.Lift Idealize.ShloMosaic.ValueIdx

theorem zeros : (k0_pay1 (F := Ideal) : S2816x1024.Idx → EReal) = fun _ => 0 := by
  unfold k0_pay1
  dsimp only
  rw [shapeCast_self]
  funext j
  exact zeroF

theorem step (a : S2816x1024.Idx → EReal) (x0 : S1024x2816.Idx → EReal) (x1 : S1024x1024.Idx → EReal) :
    (k0_pay2 (F := Ideal) a x0 x1 : S2816x1024.Idx → EReal) = fun j => a j + ∑ k : Fin 1024, x0 (ix2 k (r0 j)) * x1 (ix2 k (c1 j)) := by
  unfold k0_pay2
  funext j
  rw [shapeCast_self, shapeCast_self, shapeCast_self]
  exact congrArg (a j + ·) (congrFun (matmul_tn _ rfl rfl rfl rfl rfl rfl _ x0 x1) j)

theorem last (a : S2816x1024.Idx → EReal) : (k0_pay3 (F := Ideal) a : S2816x1024.Idx → EReal) = a := rfl

section
variable {c : Dev nD} {i : grid0.Coords} {arg2 : Memref sig .tc .vmem S1024x2816 .bf16} {harg2 : arg2.IsWhole} {arg3 : Memref sig .tc .vmem S1024x1024 .bf16} {harg3 : arg3.IsWhole} {arg4 : Memref sig .tc .vmem S2816x1024 .bf16} {harg4 : arg4.IsWhole} {arg5 : Memref sig .tc .vmem S2816x1024 .f32} {harg5 : arg5.IsWhole}
  (x0 : Vec Ideal S1024x2816 .bf16) (x1 : Vec Ideal S1024x1024 .bf16) (xs0 : Vec Ideal S2816x1024 .f32)

theorem accA (hc0 : cond0_0 i) (hc1 : ¬cond0_1 i) :
    sout0_A_0 (F := Ideal) c i arg2 harg2 arg3 harg3 arg4 harg4 arg5 harg5 hc0 hc1 x0 x1 = k0_pay2 (F := Ideal) (k0_pay1 (F := Ideal)) x0 x1 := by
  unfold sout0_A_0
  rw [View.read_writes_eq_canon _ _ _ (scover0_A_0 (F := Ideal) c i arg2 harg2 arg3 harg3 arg4 harg4 arg5 harg5 hc0 hc1 x0 x1)]
  unfold kernelRun0_A
  dsimp only
  sl_unfold_words
  first | rw [View.canon_unit_zero hz] | rw [View.canon_cons_unit_zero (S := S2816x1024) hz]
  simp only [View.readAt_eq_ld, harg2.read_unread, harg3.read_unread, harg4.read_unread, harg5.read_unread, View.ld_unit_zero (S := S1024x2816) hz, View.ld_unit_zero (S := S1024x1024) hz, View.ld_unit_zero (S := S2816x1024) hz]
  congr 1
  exact View.readCov_unit_zero (S := S2816x1024) _ hz _ _

theorem accB (hc0 : ¬cond0_0 i) (hc1 : ¬cond0_1 i) :
    sout0_B_0 (F := Ideal) c i arg2 harg2 arg3 harg3 arg4 harg4 arg5 harg5 hc0 hc1 x0 x1 xs0 = k0_pay2 (F := Ideal) xs0 x0 x1 := by
  unfold sout0_B_0
  rw [View.read_writes_eq_canon _ _ _ (scover0_B_0 (F := Ideal) c i arg2 harg2 arg3 harg3 arg4 harg4 arg5 harg5 hc0 hc1 x0 x1 xs0)]
  unfold kernelRun0_B
  dsimp only
  sl_unfold_words
  first | rw [View.canon_unit_zero hz] | rw [View.canon_cons_unit_zero (S := S2816x1024) hz]
  simp only [View.readAt_eq_ld, harg2.read_unread, harg3.read_unread, harg4.read_unread, harg5.read_unread, View.ld_unit_zero (S := S1024x2816) hz, View.ld_unit_zero (S := S1024x1024) hz, View.ld_unit_zero (S := S2816x1024) hz]

theorem outC (hc0 : ¬cond0_0 i) (hc1 : cond0_1 i) :
    out0_C_2 (F := Ideal) c i arg2 harg2 arg3 harg3 arg4 harg4 arg5 harg5 hc0 hc1 x0 x1 xs0 = k0_pay3 (F := Ideal) (k0_pay2 (F := Ideal) xs0 x0 x1) := by
  unfold out0_C_2
  rw [View.read_writes_eq_canon _ _ _ (cover0_C_2 (F := Ideal) c i arg2 harg2 arg3 harg3 arg4 harg4 arg5 harg5 hc0 hc1 x0 x1 xs0)]
  unfold kernelRun0_C
  dsimp only
  sl_unfold_words
  first | rw [View.canon_unit_zero hz] | rw [View.canon_cons_unit_zero (S := S2816x1024) hz]
  simp only [View.readAt_eq_ld, harg2.read_unread, harg3.read_unread, harg4.read_unread, harg5.read_unread, View.ld_unit_zero (S := S1024x2816) hz, View.ld_unit_zero (S := S1024x1024) hz, View.ld_unit_zero (S := S2816x1024) hz]
  congr 1
  exact View.readCov_unit_zero (S := S2816x1024) _ hz _ _

end

variable (m : (ℓ : Loc nD τ sig) → Buf (Elt Ideal) ℓ) (c : Dev nD) (X : Arr ⟨3, ![4, 2048, 2816]⟩) (Y : Arr ⟨3, ![4, 2048, 1024]⟩)
  (hX : (V m c main_v1 : S8192x2816.Idx → EReal) = flatA X) (hY : (V m c main_v16 : S8192x1024.Idx → EReal) = flatA Y)
include hX hY

theorem stepAt (a : S2816x1024.Idx → EReal) (t : Fin cfg0.N) :
    (k0_pay2 (F := Ideal) a (iblk m c 0 t) (iblk m c 1 t) : S2816x1024.Idx → EReal) = fun j => a j + tnBlock X Y t.val j := by
  refine (congr2 (k0_pay2 (F := Ideal) a) (rd0 m c t _ hX) (rd1 m c t _ hY)).trans ((step _ _ _).trans ?_)
  funext j
  simp only [ofNat_fst, tnBlock]
  rfl

omit hX hY in
theorem atA (t : Fin cfg0.N) (h0 : t.val % 8 = 0) (h1 : ¬t.val % 8 = 7) :
    (outsAt0 m c t.val t.isLt).2 = k0_pay2 (F := Ideal) (k0_pay1 (F := Ideal)) (iblk m c 0 t) (iblk m c 1 t) := by
  rw [outsAt0_A m c t h0 h1]
  dsimp only
  exact accA (c := c) (i := grid0.coords t) (x0 := iblk m c 0 t) (x1 := iblk m c 1 t) _ _

omit hX hY in
theorem atB (t : Fin cfg0.N) (h0 : ¬t.val % 8 = 0) (h1 : ¬t.val % 8 = 7) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h0 h1]
  dsimp only
  exact accB (c := c) (i := grid0.coords t) (x0 := iblk m c 0 t) (x1 := iblk m c 1 t) _ _ _

omit hX hY in
theorem atC (t : Fin cfg0.N) (h0 : ¬t.val % 8 = 0) (h1 : t.val % 8 = 7) :
    (outsAt0 m c t.val t.isLt).1 = k0_pay3 (F := Ideal) (k0_pay2 (F := Ideal) (outsAt0 m c (t.val - 1) (Nat.lt_of_le_of_lt (Nat.sub_le _ _) t.isLt)).2 (iblk m c 0 t) (iblk m c 1 t)) := by
  rw [outsAt0_C m c t h0 h1]
  dsimp only
  exact outC (c := c) (i := grid0.coords t) (x0 := iblk m c 0 t) (x1 := iblk m c 1 t) _ _ _

/-- The scratch after a point holds the sum of the blocks so far. -/
theorem acc : ∀ n h, n % 8 ≠ 7 → ((outsAt0 m c n h).2 : S2816x1024.Idx → EReal) = part 8 (tnBlock X Y) n := by
  refine sweep 8 (fun n h => n % 8 ≠ 7 → ((outsAt0 m c n h).2 : S2816x1024.Idx → EReal) = part 8 (tnBlock X Y) n) (fun n h h0 h1 => ?_) (fun n h h0 h' ih h1 => ?_)
  · rw [part_first 8 _ n h0]
    refine (atA m c ⟨n, h⟩ h0 h1).trans ?_
    refine (congr3 (k0_pay2 (F := Ideal)) zeros rfl rfl).trans ((stepAt m c X Y hX hY _ ⟨n, h⟩).trans ?_)
    funext j
    exact zero_add _
  · rw [← part_next 8 (tnBlock X Y) n h0 (by decide)]
    refine (atB m c ⟨n, h⟩ h0 h1).trans ?_
    exact (congr3 (k0_pay2 (F := Ideal)) (ih (by omega)) rfl rfl).trans (stepAt m c X Y hX hY _ ⟨n, h⟩)

theorem array : ((dats m 0 c).arrAt 2 cfg0.N : S2816x1024.Idx → EReal) = tn X Y := by
  refine arr2 m c (fun _ => tn X Y) _ (fun t hf => ?_) (fun t _ y => ?_)
  · have h1 := (flush0_2 t).mp hf
    have h0 : ¬t.val % 8 = 0 := by omega
    have hp : t.val - 1 < cfg0.N := Nat.lt_of_le_of_lt (Nat.sub_le _ _) t.isLt
    refine (after0_2 m c t).trans ((atC m c t h0 h1).trans ((last _).trans ?_))
    refine ((congr3 (k0_pay2 (F := Ideal)) (acc m c X Y hX hY (t.val - 1) hp (by omega)) rfl rfl).trans (stepAt m c X Y hX hY _ t)).trans ?_
    rw [part_next 8 (tnBlock X Y) t.val h0 (by decide)]
    funext j
    rw [part_last 8 _ _ (by omega)]
    have e : t.val - t.val % 8 = 0 := by have ht : t.val < 8 := hN ▸ t.isLt; omega
    simp only [e, zero_add]
    exact tn_blocks X Y j
  · rw [ofNat_fst, ofNat_fst]
    exact congrArg (tn X Y) (eq_rc y)

end Cert.DFfnWg

end
-- ==== Proof.DFfnWg.Claims.lean ====
/- The gradient of the gate weight: the claims. -/
module

public import proofs.«01_k».proof.Defs
public import proofs.«01_k».proof.Proof.DFfnWg.Value
public import proofs.«01_k».proof.Proof.Gen.Kernel3.Frame
public import proofs.«01_k».proof.Proof.Gen.Reference3Ideal.Run
public import Idealize.ShloMosaic.Adequacy
public import Idealize.ShloMosaic.Init

@[expose] public section

noncomputable section

namespace Cert.DFfnWg

open Idealize.ShloMosaic Idealize.ShloMosaic.TcCoe Idealize.SL.Sem Cert.Ext Cert.Lift Idealize.ShloMosaic.ValueIdx

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ => (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem preserves : Cert.preserves_Kernel3_Kernel3Ideal := trivial

section
open Cert.Kernel3Ideal Cert.Kernel3Ideal.Gen
variable (m : (ℓ : Loc nD τ sig) → Buf (Elt Ideal) ℓ) (c : Dev nD)

/-- The call's array, from the arguments. -/
theorem ker (ct : Arr ⟨3, ![4, 2048, 2816]⟩) (r : Arr ⟨3, ![4, 2048, 1024]⟩) (g : Arr ⟨1, ![1024]⟩)
    (hct : m ((c : Thread nD τ).loc main_arg0) = ct)
    (hr : m ((c : Thread nD τ).loc main_arg1) = r)
    (hg : m ((c : Thread nD τ).loc main_arg2) = g) :
    ((dats m 0 c).arrAt 2 cfg0.N : S2816x1024.Idx → EReal) = tn ct (norm r g) := by
  have e_main_v1 : (V m c main_v1 : S8192x2816.Idx → EReal) = flatA ct := by
    rw [← hct]
    exact flat8 _ shapeCasts_S4x2048x2816_S8192x2816
  have e_main_v16 : (V m c main_v16 : S8192x1024.Idx → EReal) = flatA (norm r g) := by
    show StableHlo.after hostOps0 (fun b => m (c, b)) (Proc.devRef .tc main_v16) = _
    simp only [hostOps0, List.flatten_cons, List.flatten_nil, List.append_nil, List.cons_append, List.nil_append]
    after_results
    have h1 : m (c, Proc.devRef .tc main_arg1) = r := hr
    have h2 : m (c, Proc.devRef .tc main_arg2) = g := hg
    rw [h1, h2]
    rw [host_norm (B := 4) (R := 2048) (C := 1024) r g reducesTo_S4x2048x1024_S4x2048_d2 h_S_
      bcast_S4x2048_S4x2048x1_0_1 bcast_S4x2048x1_S4x2048x1024_0_1_2 S_ S_ ![] ![] bcast_S_S4x2048x1 bcast_S_S4x2048x1 bcast_S1x1x1024_S4x2048x1024_0_1_2 bcast_S1024_S1x1x1024_2]
    exact flat8 (norm r g) shapeCasts_S4x2048x1024_S8192x1024
  exact array m c _ _ e_main_v1 e_main_v16

end

open Cert.Reference3Ideal Cert.Reference3Ideal.Gen in
/-- The reference's array. -/
theorem ref (ct : Arr ⟨3, ![4, 2048, 2816]⟩) (r : Arr ⟨3, ![4, 2048, 1024]⟩) (g : Arr ⟨1, ![1024]⟩) :
    (truncf (F := Ideal) .bf16 (transpose S2816x1024 [1, 0] (transpose S1024x2816 [1, 0] (Host.dotGeneral (F := Ideal) (φ₁ := .f32) (φ₂ := .f32) dot_S4x2048x2816_S4x2048x1024_S2816x1024_01_01_2_2_n_n none ct (mulf (F := Ideal) (φ := .f32) (mulf (F := Ideal) (φ := .f32) r (broadcastInDim S4x2048x1024 ![0, 1, 2] bcast_S4x2048x1_S4x2048x1024_0_1_2 (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))))) (broadcastInDim S4x2048x1024 ![0, 1, 2] bcast_S1x1x1024_S4x2048x1024_0_1_2 (broadcastInDim S1x1x1024 ![2] bcast_S1024_S1x1x1024_2 g)))) transposes_S2816x1024_S1024x2816_1_0) transposes_S1024x2816_S2816x1024_1_0) bitsLt_bf16_f32 : S2816x1024.Idx → EReal) = tn ct (norm r g) := by
  rw [host_norm (B := 4) (R := 2048) (C := 1024) r g reducesTo_S4x2048x1024_S4x2048_d2 h_S_ bcast_S4x2048_S4x2048x1_0_1 bcast_S4x2048x1_S4x2048x1024_0_1_2 S_ S_ ![] ![]
    bcast_S_S4x2048x1 bcast_S_S4x2048x1 bcast_S1x1x1024_S4x2048x1024_0_1_2 bcast_S1024_S1x1x1024_2]
  refine (swap (R := 1024) (C := 2816) (transpose S1024x2816 [1, 0] (Host.dotGeneral (F := Ideal) (φ₁ := .f32) (φ₂ := .f32) dot_S4x2048x2816_S4x2048x1024_S2816x1024_01_01_2_2_n_n none ct (norm r g)) transposes_S2816x1024_S1024x2816_1_0) transposes_S1024x2816_S2816x1024_1_0).trans ?_
  rw [swap (R := 2816) (C := 1024), host_tn3 (B := 4) (S := 2048) (M := 2816) (N := 1024) _ rfl rfl rfl rfl rfl rfl]
  rfl

theorem algebraic : Cert.algebraic_Kernel3Ideal_Reference3Ideal := by
  intro m ρ m' ρ' hpre hagree
  refine ⟨_, Cert.Kernel3Ideal.Value.run_blocks (F := Ideal) m ρ, ?_⟩
  refine (θ_run Cert.Reference3Ideal.defs _ _).mono (fun _ h c => ?_) (Cert.Reference3Ideal.Value.run (F := Ideal) m' ρ')
  obtain ⟨e0, e1, e2⟩ := hagree c
  exact ⟨(h c).1.trans ((ref _ _ _).trans (ker m c _ _ _ e0.symm e1.symm e2.symm).symm), (h c).2⟩

end Cert.DFfnWg

end
-- ==== Proof.DFfnWu.Geometry.lean ====
/- Where the blocks of the grid lie: what a point reads of each array, and that the written block fills the result. -/
module

public import proofs.«01_k».proof.Proof.Gen.Kernel4Ideal.Value
public import proofs.«01_k».proof.Proof.Lift.Norm
public import proofs.«01_k».proof.Proof.Lift.Place

@[expose] public section

noncomputable section

namespace Cert.DFfnWu

open Cert.Kernel4Ideal Cert.Kernel4Ideal.Gen Cert.Ext Idealize.ShloMosaic Idealize.ShloMosaic.TcCoe Idealize.SL.Sem Cert.Lift Idealize.ShloMosaic.ValueIdx
open Idealize.ShloMosaic.Pipeline (Dat)

variable (m : (ℓ : Loc nD τ sig) → Buf (Elt Ideal) ℓ) (c : Dev nD)

theorem hN : cfg0.N = 8 := N_0

/-! ### The input blocks -/

theorem idx0_0 : ∀ t : Fin cfg0.N, win0_0.index t 0 = t.val := by decide +kernel
theorem idx0_1 : ∀ t : Fin cfg0.N, win0_0.index t 1 = 0 := by decide +kernel
theorem rd0 (t : Fin cfg0.N) (a : S8192x2816.Idx → EReal) (h : (V m c main_v1 : S8192x2816.Idx → EReal) = a) :
    (iblk m c 0 t : S1024x2816.Idx → EReal) = fun y => a (ix2 (Fin.ofNat 8192 (t.val * 1024 + (r0 y).val)) (Fin.ofNat 2816 (0 * 2816 + (c1 y).val))) := by
  have ht : t.val < 8 := hN ▸ t.isLt
  funext y
  unfold iblk
  rw [View.read_apply]
  exact (congrFun h _).trans (congrArg a (place _ y _ _ _ _ (idx0_0 t) (idx0_1 t) (by omega) (by omega) rfl rfl))

theorem idx1_0 : ∀ t : Fin cfg0.N, win0_1.index t 0 = t.val := by decide +kernel
theorem idx1_1 : ∀ t : Fin cfg0.N, win0_1.index t 1 = 0 := by decide +kernel
theorem rd1 (t : Fin cfg0.N) (a : S8192x1024.Idx → EReal) (h : (V m c main_v16 : S8192x1024.Idx → EReal) = a) :
    (iblk m c 1 t : S1024x1024.Idx → EReal) = fun y => a (ix2 (Fin.ofNat 8192 (t.val * 1024 + (r0 y).val)) (Fin.ofNat 1024 (0 * 1024 + (c1 y).val))) := by
  have ht : t.val < 8 := hN ▸ t.isLt
  funext y
  unfold iblk
  rw [View.read_apply]
  exact (congrFun h _).trans (congrArg a (place _ y _ _ _ _ (idx1_0 t) (idx1_1 t) (by omega) (by omega) rfl rfl))

/-! ### The output arrays -/

theorem idx2_0 : ∀ t : Fin cfg0.N, win0_2.index t 0 = 0 := by decide +kernel
theorem idx2_1 : ∀ t : Fin cfg0.N, win0_2.index t 1 = 0 := by decide +kernel
theorem arr2 (p : Fin cfg0.N → S2816x1024.Idx → EReal) (G : S2816x1024.Idx → EReal)
    (hp : ∀ t, (cfg0.win 2).flush t = true → ((dats m 0 c).after 2 t : S2816x1024.Idx → EReal) = p t)
    (hG : ∀ t, (cfg0.win 2).flush t = true → ∀ y, p t y = G (ix2 (Fin.ofNat 2816 (0 * 2816 + (r0 y).val)) (Fin.ofNat 1024 (0 * 1024 + (c1 y).val)))) :
    ((dats m 0 c).arrAt 2 cfg0.N : S2816x1024.Idx → EReal) = G := by
  refine (dats m 0 c).arrAt_eq_of_cover 2 G (fun t hf => ?_) fun i => ?_
  · have ht : t.val < 8 := hN ▸ t.isLt
    refine funext fun (y : S2816x1024.Idx) => ?_
    refine (congrFun (hp t hf) y).trans ?_
    rw [View.read_apply]
    exact (hG t hf y).trans (congrArg G (place _ y _ _ _ _ (idx2_0 t) (idx2_1 t) (by omega) (by omega) rfl rfl).symm)
  · have h0 : (i 0 : Nat) < 2816 := (i 0).isLt
    have h1 : (i 1 : Nat) < 1024 := (i 1).isLt
    have hlt : 7 < cfg0.N := by rw [hN]; omega
    refine ⟨⟨7, hlt⟩, (flush0_2 ⟨_, hlt⟩).mpr (by show (7) % 8 = 7; omega), ?_⟩
    show i ∈ ((View.whole main_v17).slice (win0_2.rect ⟨7, hlt⟩)).set
    rw [View.set_slice_whole, Rect.mem_set_unit]
    exact both (within (T := 2816) (0) (idx2_0 _) (by omega)) (within (T := 1024) (0) (idx2_1 _) (by omega))

end Cert.DFfnWu

end
-- ==== Proof.DFfnWu.Value.lean ====
/- The gradient of the up weight: what each point leaves, and the array the call returns. -/
module

public import proofs.«01_k».proof.Proof.DFfnWu.Geometry

@[expose] public section

noncomputable section

namespace Cert.DFfnWu

open Cert.Kernel4Ideal Cert.Kernel4Ideal.Gen Cert.Ext Idealize.ShloMosaic Idealize.ShloMosaic.TcCoe Idealize.ShloMosaic.Tactic Idealize.SL.Sem Cert.Lift Idealize.ShloMosaic.ValueIdx

theorem zeros : (k0_pay1 (F := Ideal) : S2816x1024.Idx → EReal) = fun _ => 0 := by
  unfold k0_pay1
  dsimp only
  rw [shapeCast_self]
  funext j
  exact zeroF

theorem step (a : S2816x1024.Idx → EReal) (x0 : S1024x2816.Idx → EReal) (x1 : S1024x1024.Idx → EReal) :
    (k0_pay2 (F := Ideal) a x0 x1 : S2816x1024.Idx → EReal) = fun j => a j + ∑ k : Fin 1024, x0 (ix2 k (r0 j)) * x1 (ix2 k (c1 j)) := by
  unfold k0_pay2
  funext j
  rw [shapeCast_self, shapeCast_self, shapeCast_self]
  exact congrArg (a j + ·) (congrFun (matmul_tn _ rfl rfl rfl rfl rfl rfl _ x0 x1) j)

theorem last (a : S2816x1024.Idx → EReal) : (k0_pay3 (F := Ideal) a : S2816x1024.Idx → EReal) = a := rfl

section
variable {c : Dev nD} {i : grid0.Coords} {arg2 : Memref sig .tc .vmem S1024x2816 .bf16} {harg2 : arg2.IsWhole} {arg3 : Memref sig .tc .vmem S1024x1024 .bf16} {harg3 : arg3.IsWhole} {arg4 : Memref sig .tc .vmem S2816x1024 .bf16} {harg4 : arg4.IsWhole} {arg5 : Memref sig .tc .vmem S2816x1024 .f32} {harg5 : arg5.IsWhole}
  (x0 : Vec Ideal S1024x2816 .bf16) (x1 : Vec Ideal S1024x1024 .bf16) (xs0 : Vec Ideal S2816x1024 .f32)

theorem accA (hc0 : cond0_0 i) (hc1 : ¬cond0_1 i) :
    sout0_A_0 (F := Ideal) c i arg2 harg2 arg3 harg3 arg4 harg4 arg5 harg5 hc0 hc1 x0 x1 = k0_pay2 (F := Ideal) (k0_pay1 (F := Ideal)) x0 x1 := by
  unfold sout0_A_0
  rw [View.read_writes_eq_canon _ _ _ (scover0_A_0 (F := Ideal) c i arg2 harg2 arg3 harg3 arg4 harg4 arg5 harg5 hc0 hc1 x0 x1)]
  unfold kernelRun0_A
  dsimp only
  sl_unfold_words
  first | rw [View.canon_unit_zero hz] | rw [View.canon_cons_unit_zero (S := S2816x1024) hz]
  simp only [View.readAt_eq_ld, harg2.read_unread, harg3.read_unread, harg4.read_unread, harg5.read_unread, View.ld_unit_zero (S := S1024x2816) hz, View.ld_unit_zero (S := S1024x1024) hz, View.ld_unit_zero (S := S2816x1024) hz]
  congr 1
  exact View.readCov_unit_zero (S := S2816x1024) _ hz _ _

theorem accB (hc0 : ¬cond0_0 i) (hc1 : ¬cond0_1 i) :
    sout0_B_0 (F := Ideal) c i arg2 harg2 arg3 harg3 arg4 harg4 arg5 harg5 hc0 hc1 x0 x1 xs0 = k0_pay2 (F := Ideal) xs0 x0 x1 := by
  unfold sout0_B_0
  rw [View.read_writes_eq_canon _ _ _ (scover0_B_0 (F := Ideal) c i arg2 harg2 arg3 harg3 arg4 harg4 arg5 harg5 hc0 hc1 x0 x1 xs0)]
  unfold kernelRun0_B
  dsimp only
  sl_unfold_words
  first | rw [View.canon_unit_zero hz] | rw [View.canon_cons_unit_zero (S := S2816x1024) hz]
  simp only [View.readAt_eq_ld, harg2.read_unread, harg3.read_unread, harg4.read_unread, harg5.read_unread, View.ld_unit_zero (S := S1024x2816) hz, View.ld_unit_zero (S := S1024x1024) hz, View.ld_unit_zero (S := S2816x1024) hz]

theorem outC (hc0 : ¬cond0_0 i) (hc1 : cond0_1 i) :
    out0_C_2 (F := Ideal) c i arg2 harg2 arg3 harg3 arg4 harg4 arg5 harg5 hc0 hc1 x0 x1 xs0 = k0_pay3 (F := Ideal) (k0_pay2 (F := Ideal) xs0 x0 x1) := by
  unfold out0_C_2
  rw [View.read_writes_eq_canon _ _ _ (cover0_C_2 (F := Ideal) c i arg2 harg2 arg3 harg3 arg4 harg4 arg5 harg5 hc0 hc1 x0 x1 xs0)]
  unfold kernelRun0_C
  dsimp only
  sl_unfold_words
  first | rw [View.canon_unit_zero hz] | rw [View.canon_cons_unit_zero (S := S2816x1024) hz]
  simp only [View.readAt_eq_ld, harg2.read_unread, harg3.read_unread, harg4.read_unread, harg5.read_unread, View.ld_unit_zero (S := S1024x2816) hz, View.ld_unit_zero (S := S1024x1024) hz, View.ld_unit_zero (S := S2816x1024) hz]
  congr 1
  exact View.readCov_unit_zero (S := S2816x1024) _ hz _ _

end

variable (m : (ℓ : Loc nD τ sig) → Buf (Elt Ideal) ℓ) (c : Dev nD) (X : Arr ⟨3, ![4, 2048, 2816]⟩) (Y : Arr ⟨3, ![4, 2048, 1024]⟩)
  (hX : (V m c main_v1 : S8192x2816.Idx → EReal) = flatA X) (hY : (V m c main_v16 : S8192x1024.Idx → EReal) = flatA Y)
include hX hY

theorem stepAt (a : S2816x1024.Idx → EReal) (t : Fin cfg0.N) :
    (k0_pay2 (F := Ideal) a (iblk m c 0 t) (iblk m c 1 t) : S2816x1024.Idx → EReal) = fun j => a j + tnBlock X Y t.val j := by
  refine (congr2 (k0_pay2 (F := Ideal) a) (rd0 m c t _ hX) (rd1 m c t _ hY)).trans ((step _ _ _).trans ?_)
  funext j
  simp only [ofNat_fst, tnBlock]
  rfl

omit hX hY in
theorem atA (t : Fin cfg0.N) (h0 : t.val % 8 = 0) (h1 : ¬t.val % 8 = 7) :
    (outsAt0 m c t.val t.isLt).2 = k0_pay2 (F := Ideal) (k0_pay1 (F := Ideal)) (iblk m c 0 t) (iblk m c 1 t) := by
  rw [outsAt0_A m c t h0 h1]
  dsimp only
  exact accA (c := c) (i := grid0.coords t) (x0 := iblk m c 0 t) (x1 := iblk m c 1 t) _ _

omit hX hY in
theorem atB (t : Fin cfg0.N) (h0 : ¬t.val % 8 = 0) (h1 : ¬t.val % 8 = 7) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h0 h1]
  dsimp only
  exact accB (c := c) (i := grid0.coords t) (x0 := iblk m c 0 t) (x1 := iblk m c 1 t) _ _ _

omit hX hY in
theorem atC (t : Fin cfg0.N) (h0 : ¬t.val % 8 = 0) (h1 : t.val % 8 = 7) :
    (outsAt0 m c t.val t.isLt).1 = k0_pay3 (F := Ideal) (k0_pay2 (F := Ideal) (outsAt0 m c (t.val - 1) (Nat.lt_of_le_of_lt (Nat.sub_le _ _) t.isLt)).2 (iblk m c 0 t) (iblk m c 1 t)) := by
  rw [outsAt0_C m c t h0 h1]
  dsimp only
  exact outC (c := c) (i := grid0.coords t) (x0 := iblk m c 0 t) (x1 := iblk m c 1 t) _ _ _

/-- The scratch after a point holds the sum of the blocks so far. -/
theorem acc : ∀ n h, n % 8 ≠ 7 → ((outsAt0 m c n h).2 : S2816x1024.Idx → EReal) = part 8 (tnBlock X Y) n := by
  refine sweep 8 (fun n h => n % 8 ≠ 7 → ((outsAt0 m c n h).2 : S2816x1024.Idx → EReal) = part 8 (tnBlock X Y) n) (fun n h h0 h1 => ?_) (fun n h h0 h' ih h1 => ?_)
  · rw [part_first 8 _ n h0]
    refine (atA m c ⟨n, h⟩ h0 h1).trans ?_
    refine (congr3 (k0_pay2 (F := Ideal)) zeros rfl rfl).trans ((stepAt m c X Y hX hY _ ⟨n, h⟩).trans ?_)
    funext j
    exact zero_add _
  · rw [← part_next 8 (tnBlock X Y) n h0 (by decide)]
    refine (atB m c ⟨n, h⟩ h0 h1).trans ?_
    exact (congr3 (k0_pay2 (F := Ideal)) (ih (by omega)) rfl rfl).trans (stepAt m c X Y hX hY _ ⟨n, h⟩)

theorem array : ((dats m 0 c).arrAt 2 cfg0.N : S2816x1024.Idx → EReal) = tn X Y := by
  refine arr2 m c (fun _ => tn X Y) _ (fun t hf => ?_) (fun t _ y => ?_)
  · have h1 := (flush0_2 t).mp hf
    have h0 : ¬t.val % 8 = 0 := by omega
    have hp : t.val - 1 < cfg0.N := Nat.lt_of_le_of_lt (Nat.sub_le _ _) t.isLt
    refine (after0_2 m c t).trans ((atC m c t h0 h1).trans ((last _).trans ?_))
    refine ((congr3 (k0_pay2 (F := Ideal)) (acc m c X Y hX hY (t.val - 1) hp (by omega)) rfl rfl).trans (stepAt m c X Y hX hY _ t)).trans ?_
    rw [part_next 8 (tnBlock X Y) t.val h0 (by decide)]
    funext j
    rw [part_last 8 _ _ (by omega)]
    have e : t.val - t.val % 8 = 0 := by have ht : t.val < 8 := hN ▸ t.isLt; omega
    simp only [e, zero_add]
    exact tn_blocks X Y j
  · rw [ofNat_fst, ofNat_fst]
    exact congrArg (tn X Y) (eq_rc y)

end Cert.DFfnWu

end
-- ==== Proof.DFfnWu.Claims.lean ====
/- The gradient of the up weight: the claims. -/
module

public import proofs.«01_k».proof.Defs
public import proofs.«01_k».proof.Proof.DFfnWu.Value
public import proofs.«01_k».proof.Proof.Gen.Kernel4.Frame
public import proofs.«01_k».proof.Proof.Gen.Reference4Ideal.Run
public import Idealize.ShloMosaic.Adequacy
public import Idealize.ShloMosaic.Init

@[expose] public section

noncomputable section

namespace Cert.DFfnWu

open Idealize.ShloMosaic Idealize.ShloMosaic.TcCoe Idealize.SL.Sem Cert.Ext Cert.Lift Idealize.ShloMosaic.ValueIdx

theorem frame_p : Cert.quiescent_Kernel4 := fun m ρ _ => Cert.Kernel4.Gen.frame m ρ
theorem frame_pi : Cert.quiescent_Kernel4Ideal := fun m ρ _ => Cert.Kernel4Ideal.Gen.frame m ρ
theorem frame_ri : Cert.quiescent_Reference4Ideal := fun m ρ _ => (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem preserves : Cert.preserves_Kernel4_Kernel4Ideal := trivial

section
open Cert.Kernel4Ideal Cert.Kernel4Ideal.Gen
variable (m : (ℓ : Loc nD τ sig) → Buf (Elt Ideal) ℓ) (c : Dev nD)

/-- The call's array, from the arguments. -/
theorem ker (ct : Arr ⟨3, ![4, 2048, 2816]⟩) (r : Arr ⟨3, ![4, 2048, 1024]⟩) (g : Arr ⟨1, ![1024]⟩)
    (hct : m ((c : Thread nD τ).loc main_arg0) = ct)
    (hr : m ((c : Thread nD τ).loc main_arg1) = r)
    (hg : m ((c : Thread nD τ).loc main_arg2) = g) :
    ((dats m 0 c).arrAt 2 cfg0.N : S2816x1024.Idx → EReal) = tn ct (norm r g) := by
  have e_main_v1 : (V m c main_v1 : S8192x2816.Idx → EReal) = flatA ct := by
    rw [← hct]
    exact flat8 _ shapeCasts_S4x2048x2816_S8192x2816
  have e_main_v16 : (V m c main_v16 : S8192x1024.Idx → EReal) = flatA (norm r g) := by
    show StableHlo.after hostOps0 (fun b => m (c, b)) (Proc.devRef .tc main_v16) = _
    simp only [hostOps0, List.flatten_cons, List.flatten_nil, List.append_nil, List.cons_append, List.nil_append]
    after_results
    have h1 : m (c, Proc.devRef .tc main_arg1) = r := hr
    have h2 : m (c, Proc.devRef .tc main_arg2) = g := hg
    rw [h1, h2]
    rw [host_norm (B := 4) (R := 2048) (C := 1024) r g reducesTo_S4x2048x1024_S4x2048_d2 h_S_
      bcast_S4x2048_S4x2048x1_0_1 bcast_S4x2048x1_S4x2048x1024_0_1_2 S_ S_ ![] ![] bcast_S_S4x2048x1 bcast_S_S4x2048x1 bcast_S1x1x1024_S4x2048x1024_0_1_2 bcast_S1024_S1x1x1024_2]
    exact flat8 (norm r g) shapeCasts_S4x2048x1024_S8192x1024
  exact array m c _ _ e_main_v1 e_main_v16

end

open Cert.Reference4Ideal Cert.Reference4Ideal.Gen in
/-- The reference's array. -/
theorem ref (ct : Arr ⟨3, ![4, 2048, 2816]⟩) (r : Arr ⟨3, ![4, 2048, 1024]⟩) (g : Arr ⟨1, ![1024]⟩) :
    (truncf (F := Ideal) .bf16 (transpose S2816x1024 [1, 0] (transpose S1024x2816 [1, 0] (Host.dotGeneral (F := Ideal) (φ₁ := .f32) (φ₂ := .f32) dot_S4x2048x2816_S4x2048x1024_S2816x1024_01_01_2_2_n_n none ct (mulf (F := Ideal) (φ := .f32) (mulf (F := Ideal) (φ := .f32) r (broadcastInDim S4x2048x1024 ![0, 1, 2] bcast_S4x2048x1_S4x2048x1024_0_1_2 (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))))) (broadcastInDim S4x2048x1024 ![0, 1, 2] bcast_S1x1x1024_S4x2048x1024_0_1_2 (broadcastInDim S1x1x1024 ![2] bcast_S1024_S1x1x1024_2 g)))) transposes_S2816x1024_S1024x2816_1_0) transposes_S1024x2816_S2816x1024_1_0) bitsLt_bf16_f32 : S2816x1024.Idx → EReal) = tn ct (norm r g) := by
  rw [host_norm (B := 4) (R := 2048) (C := 1024) r g reducesTo_S4x2048x1024_S4x2048_d2 h_S_ bcast_S4x2048_S4x2048x1_0_1 bcast_S4x2048x1_S4x2048x1024_0_1_2 S_ S_ ![] ![]
    bcast_S_S4x2048x1 bcast_S_S4x2048x1 bcast_S1x1x1024_S4x2048x1024_0_1_2 bcast_S1024_S1x1x1024_2]
  refine (swap (R := 1024) (C := 2816) (transpose S1024x2816 [1, 0] (Host.dotGeneral (F := Ideal) (φ₁ := .f32) (φ₂ := .f32) dot_S4x2048x2816_S4x2048x1024_S2816x1024_01_01_2_2_n_n none ct (norm r g)) transposes_S2816x1024_S1024x2816_1_0) transposes_S1024x2816_S2816x1024_1_0).trans ?_
  rw [swap (R := 2816) (C := 1024), host_tn3 (B := 4) (S := 2048) (M := 2816) (N := 1024) _ rfl rfl rfl rfl rfl rfl]
  rfl

theorem algebraic : Cert.algebraic_Kernel4Ideal_Reference4Ideal := by
  intro m ρ m' ρ' hpre hagree
  refine ⟨_, Cert.Kernel4Ideal.Value.run_blocks (F := Ideal) m ρ, ?_⟩
  refine (θ_run Cert.Reference4Ideal.defs _ _).mono (fun _ h c => ?_) (Cert.Reference4Ideal.Value.run (F := Ideal) m' ρ')
  obtain ⟨e0, e1, e2⟩ := hagree c
  exact ⟨(h c).1.trans ((ref _ _ _).trans (ker m c _ _ _ e0.symm e1.symm e2.symm).symm), (h c).2⟩

end Cert.DFfnWu

end
-- ==== Proof.FfnIn.Geometry.lean ====
/- Where the blocks of the grid lie: what a point reads of each array, and that the written blocks fill the results. -/
module

public import proofs.«01_k».proof.Proof.Gen.Kernel5Ideal.Value
public import proofs.«01_k».proof.Proof.Lift.Norm
public import proofs.«01_k».proof.Proof.Lift.Place

@[expose] public section

noncomputable section

namespace Cert.FfnIn

open Cert.Kernel5Ideal Cert.Kernel5Ideal.Gen Cert.Ext Idealize.ShloMosaic Idealize.ShloMosaic.TcCoe Idealize.SL.Sem Cert.Lift Idealize.ShloMosaic.ValueIdx
open Idealize.ShloMosaic.Pipeline (Dat)

variable (m : (ℓ : Loc nD τ sig) → Buf (Elt Ideal) ℓ) (c : Dev nD)

theorem hN : cfg0.N = 32 := N_0

/-! ### The input blocks -/

theorem idx0_0 : ∀ t : Fin cfg0.N, win0_0.index t 0 = t.val := by decide +kernel
theorem idx0_1 : ∀ t : Fin cfg0.N, win0_0.index t 1 = 0 := by decide +kernel
theorem rd0 (t : Fin cfg0.N) (a : S8192x1024.Idx → EReal) (h : (V m c main_v0 : S8192x1024.Idx → EReal) = a) :
    (iblk m c 0 t : S256x1024.Idx → EReal) = fun y => a (ix2 (Fin.ofNat 8192 (t.val * 256 + (r0 y).val)) (Fin.ofNat 1024 (0 * 1024 + (c1 y).val))) := by
  have ht : t.val < 32 := hN ▸ t.isLt
  funext y
  unfold iblk
  rw [View.read_apply]
  exact (congrFun h _).trans (congrArg a (place _ y _ _ _ _ (idx0_0 t) (idx0_1 t) (by omega) (by omega) rfl rfl))

theorem idx1_0 : ∀ t : Fin cfg0.N, win0_1.index t 0 = 0 := by decide +kernel
theorem idx1_1 : ∀ t : Fin cfg0.N, win0_1.index t 1 = 0 := by decide +kernel
theorem rd1 (t : Fin cfg0.N) (a : S1x1024.Idx → EReal) (h : (V m c main_v1 : S1x1024.Idx → EReal) = a) :
    (iblk m c 1 t : S1x1024.Idx → EReal) = fun y => a (ix2 (Fin.ofNat 1 (0 * 1 + (r0 y).val)) (Fin.ofNat 1024 (0 * 1024 + (c1 y).val))) := by
  have ht : t.val < 32 := hN ▸ t.isLt
  funext y
  unfold iblk
  rw [View.read_apply]
  exact (congrFun h _).trans (congrArg a (place _ y _ _ _ _ (idx1_0 t) (idx1_1 t) (by omega) (by omega) rfl rfl))

theorem idx2_0 : ∀ t : Fin cfg0.N, win0_2.index t 0 = 0 := by decide +kernel
theorem idx2_1 : ∀ t : Fin cfg0.N, win0_2.index t 1 = 0 := by decide +kernel
theorem rd2 (t : Fin cfg0.N) (a : S2816x1024.Idx → EReal) (h : (V m c main_v3 : S2816x1024.Idx → EReal) = a) :
    (iblk m c 2 t : S2816x1024.Idx → EReal) = fun y => a (ix2 (Fin.ofNat 2816 (0 * 2816 + (r0 y).val)) (Fin.ofNat 1024 (0 * 1024 + (c1 y).val))) := by
  have ht : t.val < 32 := hN ▸ t.isLt
  funext y
  unfold iblk
  rw [View.read_apply]
  exact (congrFun h _).trans (congrArg a (place _ y _ _ _ _ (idx2_0 t) (idx2_1 t) (by omega) (by omega) rfl rfl))

theorem idx3_0 : ∀ t : Fin cfg0.N, win0_3.index t 0 = 0 := by decide +kernel
theorem idx3_1 : ∀ t : Fin cfg0.N, win0_3.index t 1 = 0 := by decide +kernel
theorem rd3 (t : Fin cfg0.N) (a : S2816x1024.Idx → EReal) (h : (V m c main_v5 : S2816x1024.Idx → EReal) = a) :
    (iblk m c 3 t : S2816x1024.Idx → EReal) = fun y => a (ix2 (Fin.ofNat 2816 (0 * 2816 + (r0 y).val)) (Fin.ofNat 1024 (0 * 1024 + (c1 y).val))) := by
  have ht : t.val < 32 := hN ▸ t.isLt
  funext y
  unfold iblk
  rw [View.read_apply]
  exact (congrFun h _).trans (congrArg a (place _ y _ _ _ _ (idx3_0 t) (idx3_1 t) (by omega) (by omega) rfl rfl))

/-! ### The output arrays -/

theorem idx4_0 : ∀ t : Fin cfg0.N, win0_4.index t 0 = t.val := by decide +kernel
theorem idx4_1 : ∀ t : Fin cfg0.N, win0_4.index t 1 = 0 := by decide +kernel
theorem arr4 (p : Fin cfg0.N → S256x1024.Idx → EReal) (G : S8192x1024.Idx → EReal)
    (hp : ∀ t, (cfg0.win 4).flush t = true → ((dats m 0 c).after 4 t : S256x1024.Idx → EReal) = p t)
    (hG : ∀ t, (cfg0.win 4).flush t = true → ∀ y, p t y = G (ix2 (Fin.ofNat 8192 (t.val * 256 + (r0 y).val)) (Fin.ofNat 1024 (0 * 1024 + (c1 y).val)))) :
    ((dats m 0 c).arrAt 4 cfg0.N : S8192x1024.Idx → EReal) = G := by
  refine (dats m 0 c).arrAt_eq_of_cover 4 G (fun t hf => ?_) fun i => ?_
  · have ht : t.val < 32 := hN ▸ t.isLt
    refine funext fun (y : S256x1024.Idx) => ?_
    refine (congrFun (hp t hf) y).trans ?_
    rw [View.read_apply]
    exact (hG t hf y).trans (congrArg G (place _ y _ _ _ _ (idx4_0 t) (idx4_1 t) (by omega) (by omega) rfl rfl).symm)
  · have h0 : (i 0 : Nat) < 8192 := (i 0).isLt
    have h1 : (i 1 : Nat) < 1024 := (i 1).isLt
    have hlt : (i 0 : Nat) / 256 < cfg0.N := by rw [hN]; omega
    refine ⟨⟨(i 0 : Nat) / 256, hlt⟩, flush0_4 ⟨_, hlt⟩, ?_⟩
    show i ∈ ((View.whole main_v6_0).slice (win0_4.rect ⟨(i 0 : Nat) / 256, hlt⟩)).set
    rw [View.set_slice_whole, Rect.mem_set_unit]
    exact both (within (T := 256) (((i 0 : Nat) / 256)) (idx4_0 _) (by omega)) (within (T := 1024) (0) (idx4_1 _) (by omega))

theorem idx5_0 : ∀ t : Fin cfg0.N, win0_5.index t 0 = t.val := by decide +kernel
theorem idx5_1 : ∀ t : Fin cfg0.N, win0_5.index t 1 = 0 := by decide +kernel
theorem arr5 (p : Fin cfg0.N → S256x2816.Idx → EReal) (G : S8192x2816.Idx → EReal)
    (hp : ∀ t, (cfg0.win 5).flush t = true → ((dats m 0 c).after 5 t : S256x2816.Idx → EReal) = p t)
    (hG : ∀ t, (cfg0.win 5).flush t = true → ∀ y, p t y = G (ix2 (Fin.ofNat 8192 (t.val * 256 + (r0 y).val)) (Fin.ofNat 2816 (0 * 2816 + (c1 y).val)))) :
    ((dats m 0 c).arrAt 5 cfg0.N : S8192x2816.Idx → EReal) = G := by
  refine (dats m 0 c).arrAt_eq_of_cover 5 G (fun t hf => ?_) fun i => ?_
  · have ht : t.val < 32 := hN ▸ t.isLt
    refine funext fun (y : S256x2816.Idx) => ?_
    refine (congrFun (hp t hf) y).trans ?_
    rw [View.read_apply]
    exact (hG t hf y).trans (congrArg G (place _ y _ _ _ _ (idx5_0 t) (idx5_1 t) (by omega) (by omega) rfl rfl).symm)
  · have h0 : (i 0 : Nat) < 8192 := (i 0).isLt
    have h1 : (i 1 : Nat) < 2816 := (i 1).isLt
    have hlt : (i 0 : Nat) / 256 < cfg0.N := by rw [hN]; omega
    refine ⟨⟨(i 0 : Nat) / 256, hlt⟩, flush0_5 ⟨_, hlt⟩, ?_⟩
    show i ∈ ((View.whole main_v6_1).slice (win0_5.rect ⟨(i 0 : Nat) / 256, hlt⟩)).set
    rw [View.set_slice_whole, Rect.mem_set_unit]
    exact both (within (T := 256) (((i 0 : Nat) / 256)) (idx5_0 _) (by omega)) (within (T := 2816) (0) (idx5_1 _) (by omega))

theorem idx6_0 : ∀ t : Fin cfg0.N, win0_6.index t 0 = t.val := by decide +kernel
theorem idx6_1 : ∀ t : Fin cfg0.N, win0_6.index t 1 = 0 := by decide +kernel
theorem arr6 (p : Fin cfg0.N → S256x2816.Idx → EReal) (G : S8192x2816.Idx → EReal)
    (hp : ∀ t, (cfg0.win 6).flush t = true → ((dats m 0 c).after 6 t : S256x2816.Idx → EReal) = p t)
    (hG : ∀ t, (cfg0.win 6).flush t = true → ∀ y, p t y = G (ix2 (Fin.ofNat 8192 (t.val * 256 + (r0 y).val)) (Fin.ofNat 2816 (0 * 2816 + (c1 y).val)))) :
    ((dats m 0 c).arrAt 6 cfg0.N : S8192x2816.Idx → EReal) = G := by
  refine (dats m 0 c).arrAt_eq_of_cover 6 G (fun t hf => ?_) fun i => ?_
  · have ht : t.val < 32 := hN ▸ t.isLt
    refine funext fun (y : S256x2816.Idx) => ?_
    refine (congrFun (hp t hf) y).trans ?_
    rw [View.read_apply]
    exact (hG t hf y).trans (congrArg G (place _ y _ _ _ _ (idx6_0 t) (idx6_1 t) (by omega) (by omega) rfl rfl).symm)
  · have h0 : (i 0 : Nat) < 8192 := (i 0).isLt
    have h1 : (i 1 : Nat) < 2816 := (i 1).isLt
    have hlt : (i 0 : Nat) / 256 < cfg0.N := by rw [hN]; omega
    refine ⟨⟨(i 0 : Nat) / 256, hlt⟩, flush0_6 ⟨_, hlt⟩, ?_⟩
    show i ∈ ((View.whole main_v6_2).slice (win0_6.rect ⟨(i 0 : Nat) / 256, hlt⟩)).set
    rw [View.set_slice_whole, Rect.mem_set_unit]
    exact both (within (T := 256) (((i 0 : Nat) / 256)) (idx6_0 _) (by omega)) (within (T := 2816) (0) (idx6_1 _) (by omega))

end Cert.FfnIn

end
-- ==== Proof.FfnIn.Value.lean ====
/- The three arrays the call returns, index by index: the normalised rows and their two products. -/
module

public import proofs.«01_k».proof.Proof.FfnIn.Geometry

@[expose] public section

noncomputable section

namespace Cert.FfnIn

open Cert.Kernel5Ideal Cert.Kernel5Ideal.Gen Cert.Ext Idealize.ShloMosaic Idealize.ShloMosaic.TcCoe Idealize.SL.Sem Cert.Lift Idealize.ShloMosaic.ValueIdx

theorem rows (x0 : S256x1024.Idx → EReal) (x1 : S1x1024.Idx → EReal) :
    (k0_pay1 (F := Ideal) x0 x1 : S256x1024.Idx → EReal) = rowNorm x0 x1 := by
  unfold k0_pay1
  dsimp only
  rw [shapeCast_self, shapeCast_self]
  exact blk_norm x0 x1 _ _ _ _ _ _ _

theorem block4 (x0 : S256x1024.Idx → EReal) (x1 : S1x1024.Idx → EReal) (x2 x3 : S2816x1024.Idx → EReal) :
    (out0_4 (F := Ideal) x0 x1 x2 x3 : S256x1024.Idx → EReal) = rowNorm x0 x1 := by
  unfold out0_4
  rw [View.canon_unit_zero hz, View.ld_unit_zero (S := S256x1024) hz, View.ld_unit_zero (S := S1x1024) hz]
  exact rows x0 x1

theorem block5 (x0 : S256x1024.Idx → EReal) (x1 : S1x1024.Idx → EReal) (x2 x3 : S2816x1024.Idx → EReal) :
    (out0_5 (F := Ideal) x0 x1 x2 x3 : S256x2816.Idx → EReal) = fun j => ∑ k : Fin 1024, rowNorm x0 x1 (ix2 (r0 j) k) * x2 (ix2 (c1 j) k) := by
  unfold out0_5
  rw [View.canon_unit_zero hz, View.ld_unit_zero (S := S256x1024) hz, View.ld_unit_zero (S := S1x1024) hz, View.ld_unit_zero (S := S2816x1024) hz]
  unfold k0_pay2
  rw [shapeCast_self, rows]
  exact matmul_nt _ rfl rfl rfl rfl rfl rfl _ (rowNorm x0 x1) x2

theorem block6 (x0 : S256x1024.Idx → EReal) (x1 : S1x1024.Idx → EReal) (x2 x3 : S2816x1024.Idx → EReal) :
    (out0_6 (F := Ideal) x0 x1 x2 x3 : S256x2816.Idx → EReal) = fun j => ∑ k : Fin 1024, rowNorm x0 x1 (ix2 (r0 j) k) * x3 (ix2 (c1 j) k) := by
  unfold out0_6
  rw [View.canon_unit_zero hz, View.ld_unit_zero (S := S256x1024) hz, View.ld_unit_zero (S := S1x1024) hz, View.ld_unit_zero (S := S2816x1024) hz]
  unfold k0_pay3
  rw [shapeCast_self, rows]
  exact matmul_nt _ rfl rfl rfl rfl rfl rfl _ (rowNorm x0 x1) x3

variable (m : (ℓ : Loc nD τ sig) → Buf (Elt Ideal) ℓ) (c : Dev nD)
  (r : Arr S4x2048x1024) (g : Arr S1024) (wg wu : Arr S1024x2816)
  (hr : m ((c : Thread nD τ).loc main_arg0) = r) (hg : m ((c : Thread nD τ).loc main_arg1) = g)
  (h2 : m ((c : Thread nD τ).loc main_arg2) = wg) (h3 : m ((c : Thread nD τ).loc main_arg3) = wu)
include hr hg h2 h3

theorem reads : (V m c main_v0 : S8192x1024.Idx → EReal) = flatA r ∧ (V m c main_v1 : S1x1024.Idx → EReal) = (fun j => g (ix1 (c1 j)))
    ∧ (V m c main_v3 : S2816x1024.Idx → EReal) = (fun j => wg (ix2 (c1 j) (r0 j))) ∧ (V m c main_v5 : S2816x1024.Idx → EReal) = (fun j => wu (ix2 (c1 j) (r0 j))) := by
  refine ⟨?_, ?_, ?_, ?_⟩
  · rw [← hr]; exact flat8 (m ((c : Thread nD τ).loc main_arg0)) shapeCasts_S4x2048x1024_S8192x1024
  · rw [← hg]; exact asRow (m ((c : Thread nD τ).loc main_arg1)) shapeCasts_S1024_S1x1024
  · rw [← h2]; exact swap (m ((c : Thread nD τ).loc main_arg2)) transposes_S1024x2816_S2816x1024_1_0
  · rw [← h3]; exact swap (m ((c : Thread nD τ).loc main_arg3)) transposes_S1024x2816_S2816x1024_1_0

theorem array4 : ((dats m 0 c).arrAt 4 cfg0.N : S8192x1024.Idx → EReal) = flatA (norm r g) := by
  obtain ⟨e0, e1, e2, e3⟩ := reads m c r g wg wu hr hg h2 h3
  refine arr4 m c _ _ (fun t _ => ((after0_4 m c t).trans (congr4 (out0_4 (F := Ideal)) (rd0 m c t _ e0) (rd1 m c t _ e1) (rd2 m c t _ e2) (rd3 m c t _ e3))).trans (block4 _ _ _ _)) (fun t _ y => ?_)
  simp only [ofNat_fst, rowNorm]
  rfl

theorem array5 : ((dats m 0 c).arrAt 5 cfg0.N : S8192x2816.Idx → EReal) = mm (flatA (norm r g)) wg := by
  obtain ⟨e0, e1, e2, e3⟩ := reads m c r g wg wu hr hg h2 h3
  refine arr5 m c _ _ (fun t _ => ((after0_5 m c t).trans (congr4 (out0_5 (F := Ideal)) (rd0 m c t _ e0) (rd1 m c t _ e1) (rd2 m c t _ e2) (rd3 m c t _ e3))).trans (block5 _ _ _ _)) (fun t _ y => ?_)
  simp only [ofNat_fst, rowNorm]
  rfl

theorem array6 : ((dats m 0 c).arrAt 6 cfg0.N : S8192x2816.Idx → EReal) = mm (flatA (norm r g)) wu := by
  obtain ⟨e0, e1, e2, e3⟩ := reads m c r g wg wu hr hg h2 h3
  refine arr6 m c _ _ (fun t _ => ((after0_6 m c t).trans (congr4 (out0_6 (F := Ideal)) (rd0 m c t _ e0) (rd1 m c t _ e1) (rd2 m c t _ e2) (rd3 m c t _ e3))).trans (block6 _ _ _ _)) (fun t _ y => ?_)
  simp only [ofNat_fst, rowNorm]
  rfl

end Cert.FfnIn

end
-- ==== Proof.FfnIn.Claims.lean ====
/- The claims about the forward norm and the two products of the gated block. -/
module

public import proofs.«01_k».proof.Defs
public import proofs.«01_k».proof.Proof.FfnIn.Value
public import proofs.«01_k».proof.Proof.Gen.Kernel5.Frame
public import proofs.«01_k».proof.Proof.Gen.Reference5Ideal.Run
public import Idealize.ShloMosaic.Adequacy
public import Idealize.ShloMosaic.Init

@[expose] public section

noncomputable section

namespace Cert.FfnIn

open Idealize.ShloMosaic Idealize.ShloMosaic.TcCoe Idealize.SL.Sem Cert.Ext Cert.Lift Idealize.ShloMosaic.ValueIdx

theorem frame_p : Cert.quiescent_Kernel5 := fun m ρ _ => Cert.Kernel5.Gen.frame m ρ
theorem frame_pi : Cert.quiescent_Kernel5Ideal := fun m ρ _ => Cert.Kernel5Ideal.Gen.frame m ρ
theorem frame_ri : Cert.quiescent_Reference5Ideal := fun m ρ _ => (θ_run Cert.Reference5Ideal.defs _ _).mono (fun r h => ⟨fun c => (h c).2.2.2,
      Idealize.ShloMosaic.sem_eq_zero_of_no_sems (by decide) r.2⟩)
    (Cert.Reference5Ideal.Value.run (F := Ideal) m ρ)

theorem preserves : Cert.preserves_Kernel5_Kernel5Ideal := trivial

section
open Cert.Reference5Ideal Cert.Reference5Ideal.Gen
variable (r : Arr S4x2048x1024) (g : Arr S1024) (w : Arr S1024x2816)

/-- The reference's normalised rows. -/
theorem ref_h : (truncf (F := Ideal) (φ := .f32) .bf16 (shapeCast S8192x1024 (mulf (F := Ideal) (φ := .f32) (mulf (F := Ideal) (φ := .f32) r (broadcastInDim S4x2048x1024 ![0, 1, 2] bcast_S4x2048x1_S4x2048x1024_0_1_2 (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 g))) shapeCasts_S4x2048x1024_S8192x1024) bitsLt_bf16_f32 : S8192x1024.Idx → EReal) = flatA (norm r g) := by
  rw [host_norm (B := 4) (R := 2048) (C := 1024) r g reducesTo_S4x2048x1024_S4x2048_d2 h_S_ bcast_S4x2048_S4x2048x1_0_1 bcast_S4x2048x1_S4x2048x1024_0_1_2 S_ S_ ![] ![] bcast_S_S4x2048x1 bcast_S_S4x2048x1 bcast_S1x1x1024_S4x2048x1024_0_1_2 bcast_S1024_S1x1x1024_2]
  exact flat8 (norm r g) shapeCasts_S4x2048x1024_S8192x1024

/-- The reference's product. -/
theorem ref_w : (shapeCast S8192x2816 (Host.dotGeneral (F := Ideal) (φ₁ := .f32) (φ₂ := .f32) dot_S4x2048x1024_S1024x2816_S4x2048x2816_2_0_01_1_n_n none (mulf (F := Ideal) (φ := .f32) (mulf (F := Ideal) (φ := .f32) r (broadcastInDim S4x2048x1024 ![0, 1, 2] bcast_S4x2048x1_S4x2048x1024_0_1_2 (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 g))) w) shapeCasts_S4x2048x2816_S8192x2816 : S8192x2816.Idx → EReal)
    = mm (flatA (norm r g)) w := by
  rw [host_norm (B := 4) (R := 2048) (C := 1024) r g reducesTo_S4x2048x1024_S4x2048_d2 h_S_ bcast_S4x2048_S4x2048x1_0_1 bcast_S4x2048x1_S4x2048x1024_0_1_2 S_ S_ ![] ![] bcast_S_S4x2048x1 bcast_S_S4x2048x1 bcast_S1x1x1024_S4x2048x1024_0_1_2 bcast_S1024_S1x1x1024_2]
  exact host_mm _ rfl rfl rfl rfl rfl rfl _ (norm r g) w _

end

theorem algebraic : Cert.algebraic_Kernel5Ideal_Reference5Ideal := by
  intro m ρ m' ρ' hpre hagree
  refine ⟨_, _, _, Cert.Kernel5Ideal.Value.run_blocks (F := Ideal) m ρ, ?_⟩
  refine (θ_run Cert.Reference5Ideal.defs _ _).mono (fun _ h c => ?_) (Cert.Reference5Ideal.Value.run (F := Ideal) m' ρ')
  obtain ⟨e0, e1, e2, e3⟩ := hagree c
  exact ⟨(h c).1.trans ((ref_h _ _).trans (array4 m c _ _ _ _ e0.symm e1.symm e2.symm e3.symm).symm),
    (h c).2.1.trans ((ref_w _ _ _).trans (array5 m c _ _ _ _ e0.symm e1.symm e2.symm e3.symm).symm),
    (h c).2.2.1.trans ((ref_w _ _ _).trans (array6 m c _ _ _ _ e0.symm e1.symm e2.symm e3.symm).symm), (h c).2.2.2⟩

end Cert.FfnIn

end
-- ==== Proof.FfnOut.Geometry.lean ====
/- Where the blocks of the grid lie: what a point reads of each array, and that the written blocks fill the result. -/
module

public import proofs.«01_k».proof.Proof.Gen.Kernel6Ideal.Value
public import proofs.«01_k».proof.Proof.Lift.Ext
public import proofs.«01_k».proof.Proof.Lift.Place

@[expose] public section

noncomputable section

namespace Cert.FfnOut

open Cert.Kernel6Ideal Cert.Kernel6Ideal.Gen Cert.Ext Idealize.ShloMosaic Idealize.ShloMosaic.TcCoe Idealize.SL.Sem Cert.Lift Idealize.ShloMosaic.ValueIdx
open Idealize.ShloMosaic.Pipeline (Dat)

variable (m : (ℓ : Loc nD τ sig) → Buf (Elt Ideal) ℓ) (c : Dev nD)

theorem hN : cfg0.N = 16 := N_0

/-! ### The input blocks -/

theorem idx0_0 : ∀ t : Fin cfg0.N, win0_0.index t 0 = t.val := by decide +kernel
theorem idx0_1 : ∀ t : Fin cfg0.N, win0_0.index t 1 = 0 := by decide +kernel
theorem rd0 (t : Fin cfg0.N) (a : S8192x2816.Idx → EReal) (h : (V m c main_v1 : S8192x2816.Idx → EReal) = a) :
    (iblk m c 0 t : S512x2816.Idx → EReal) = fun y => a (ix2 (Fin.ofNat 8192 (t.val * 512 + (r0 y).val)) (Fin.ofNat 2816 (0 * 2816 + (c1 y).val))) := by
  have ht : t.val < 16 := hN ▸ t.isLt
  funext y
  unfold iblk
  rw [View.read_apply]
  exact (congrFun h _).trans (congrArg a (place _ y _ _ _ _ (idx0_0 t) (idx0_1 t) (by omega) (by omega) rfl rfl))

theorem idx1_0 : ∀ t : Fin cfg0.N, win0_1.index t 0 = t.val := by decide +kernel
theorem idx1_1 : ∀ t : Fin cfg0.N, win0_1.index t 1 = 0 := by decide +kernel
theorem rd1 (t : Fin cfg0.N) (a : S8192x1024.Idx → EReal) (h : (V m c main_v2 : S8192x1024.Idx → EReal) = a) :
    (iblk m c 1 t : S512x1024.Idx → EReal) = fun y => a (ix2 (Fin.ofNat 8192 (t.val * 512 + (r0 y).val)) (Fin.ofNat 1024 (0 * 1024 + (c1 y).val))) := by
  have ht : t.val < 16 := hN ▸ t.isLt
  funext y
  unfold iblk
  rw [View.read_apply]
  exact (congrFun h _).trans (congrArg a (place _ y _ _ _ _ (idx1_0 t) (idx1_1 t) (by omega) (by omega) rfl rfl))

theorem idx2_0 : ∀ t : Fin cfg0.N, win0_2.index t 0 = 0 := by decide +kernel
theorem idx2_1 : ∀ t : Fin cfg0.N, win0_2.index t 1 = 0 := by decide +kernel
theorem rd2 (t : Fin cfg0.N) (a : S2816x1024.Idx → EReal) (h : (V m c main_v3 : S2816x1024.Idx → EReal) = a) :
    (iblk m c 2 t : S2816x1024.Idx → EReal) = fun y => a (ix2 (Fin.ofNat 2816 (0 * 2816 + (r0 y).val)) (Fin.ofNat 1024 (0 * 1024 + (c1 y).val))) := by
  have ht : t.val < 16 := hN ▸ t.isLt
  funext y
  unfold iblk
  rw [View.read_apply]
  exact (congrFun h _).trans (congrArg a (place _ y _ _ _ _ (idx2_0 t) (idx2_1 t) (by omega) (by omega) rfl rfl))

/-! ### The output arrays -/

theorem idx3_0 : ∀ t : Fin cfg0.N, win0_3.index t 0 = t.val := by decide +kernel
theorem idx3_1 : ∀ t : Fin cfg0.N, win0_3.index t 1 = 0 := by decide +kernel
theorem arr3 (p : Fin cfg0.N → S512x1024.Idx → EReal) (G : S8192x1024.Idx → EReal)
    (hp : ∀ t, (cfg0.win 3).flush t = true → ((dats m 0 c).after 3 t : S512x1024.Idx → EReal) = p t)
    (hG : ∀ t, (cfg0.win 3).flush t = true → ∀ y, p t y = G (ix2 (Fin.ofNat 8192 (t.val * 512 + (r0 y).val)) (Fin.ofNat 1024 (0 * 1024 + (c1 y).val)))) :
    ((dats m 0 c).arrAt 3 cfg0.N : S8192x1024.Idx → EReal) = G := by
  refine (dats m 0 c).arrAt_eq_of_cover 3 G (fun t hf => ?_) fun i => ?_
  · have ht : t.val < 16 := hN ▸ t.isLt
    refine funext fun (y : S512x1024.Idx) => ?_
    refine (congrFun (hp t hf) y).trans ?_
    rw [View.read_apply]
    exact (hG t hf y).trans (congrArg G (place _ y _ _ _ _ (idx3_0 t) (idx3_1 t) (by omega) (by omega) rfl rfl).symm)
  · have h0 : (i 0 : Nat) < 8192 := (i 0).isLt
    have h1 : (i 1 : Nat) < 1024 := (i 1).isLt
    have hlt : (i 0 : Nat) / 512 < cfg0.N := by rw [hN]; omega
    refine ⟨⟨(i 0 : Nat) / 512, hlt⟩, flush0_3 ⟨_, hlt⟩, ?_⟩
    show i ∈ ((View.whole main_v4).slice (win0_3.rect ⟨(i 0 : Nat) / 512, hlt⟩)).set
    rw [View.set_slice_whole, Rect.mem_set_unit]
    exact both (within (T := 512) (((i 0 : Nat) / 512)) (idx3_0 _) (by omega)) (within (T := 1024) (0) (idx3_1 _) (by omega))

end Cert.FfnOut

end
-- ==== Proof.FfnOut.Value.lean ====
/- The array the call returns, index by index: a row of the residual plus the row's product with the weight. -/
module

public import proofs.«01_k».proof.Proof.FfnOut.Geometry

@[expose] public section

noncomputable section

namespace Cert.FfnOut

open Cert.Kernel6Ideal Cert.Kernel6Ideal.Gen Cert.Ext Idealize.ShloMosaic Idealize.ShloMosaic.TcCoe Idealize.SL.Sem Cert.Lift Idealize.ShloMosaic.ValueIdx

theorem block (x0 : S512x2816.Idx → EReal) (x1 : S512x1024.Idx → EReal) (x2 : S2816x1024.Idx → EReal) :
    (out0_3 (F := Ideal) x0 x1 x2 : S512x1024.Idx → EReal) = fun j => x1 j + ∑ k : Fin 2816, x0 (ix2 (r0 j) k) * x2 (ix2 k (c1 j)) := by
  unfold out0_3
  rw [View.canon_unit_zero hz, View.ld_unit_zero (S := S512x2816) hz, View.ld_unit_zero (S := S512x1024) hz, View.ld_unit_zero (S := S2816x1024) hz]
  unfold k0_pay1
  rw [shapeCast_self, shapeCast_self, shapeCast_self]
  funext j
  exact congrArg (x1 j + ·) (congrFun (matmul_nn _ rfl rfl rfl rfl rfl rfl _ x0 x2) j)

/-- The result, from the arguments. -/
def res (a : Arr S4x2048x2816) (r : Arr S4x2048x1024) (w : Arr S2816x1024) : Arr S8192x1024 := fun j =>
  let p : Fin 4 := Fin.ofNat 4 ((r0 j).val / 2048)
  let q : Fin 2048 := Fin.ofNat 2048 (r0 j).val
  r (ix3 p q (c1 j)) + ∑ k : Fin 2816, a (ix3 p q k) * w (ix2 k (c1 j))

variable (m : (ℓ : Loc nD τ sig) → Buf (Elt Ideal) ℓ) (c : Dev nD)

theorem array (a : Arr S4x2048x2816) (r : Arr S4x2048x1024) (w : Arr S2816x1024)
    (ha : m ((c : Thread nD τ).loc main_arg0) = a) (hr : m ((c : Thread nD τ).loc main_arg1) = r) (hw : m ((c : Thread nD τ).loc main_arg2) = w) :
    ((dats m 0 c).arrAt 3 cfg0.N : S8192x1024.Idx → EReal) = res a r w := by
  have e0 : (V m c main_v1 : S8192x2816.Idx → EReal) = fun j => a (ix3 (Fin.ofNat 4 ((r0 j).val / 2048)) (Fin.ofNat 2048 (r0 j).val) (c1 j)) := by
    rw [← ha]; exact flat rfl (m ((c : Thread nD τ).loc main_arg0)) shapeCasts_S4x2048x2816_S8192x2816
  have e1 : (V m c main_v2 : S8192x1024.Idx → EReal) = fun j => r (ix3 (Fin.ofNat 4 ((r0 j).val / 2048)) (Fin.ofNat 2048 (r0 j).val) (c1 j)) := by
    rw [← hr]; exact flat rfl (m ((c : Thread nD τ).loc main_arg1)) shapeCasts_S4x2048x1024_S8192x1024
  have e2 : (V m c main_v3 : S2816x1024.Idx → EReal) = w := by
    rw [← hw]; rfl
  refine arr3 m c _ _ (fun t _ => ((after0_3 m c t).trans (congr3 (out0_3 (F := Ideal)) (rd0 m c t _ e0) (rd1 m c t _ e1) (rd2 m c t _ e2))).trans (block _ _ _)) (fun t _ y => ?_)
  simp only [ofNat_fst, res]
  rfl

end Cert.FfnOut

end
-- ==== Proof.FfnOut.Claims.lean ====
/- The claims about the forward product with the last weight of the gated block. -/
module

public import proofs.«01_k».proof.Defs
public import proofs.«01_k».proof.Proof.FfnOut.Value
public import proofs.«01_k».proof.Proof.Gen.Kernel6.Frame
public import proofs.«01_k».proof.Proof.Gen.Reference6Ideal.Run
public import Idealize.ShloMosaic.Adequacy
public import Idealize.ShloMosaic.Init

@[expose] public section

noncomputable section

namespace Cert.FfnOut

open Idealize.ShloMosaic Idealize.ShloMosaic.TcCoe Idealize.SL.Sem Cert.Ext Cert.Lift Idealize.ShloMosaic.ValueIdx

theorem frame_p : Cert.quiescent_Kernel6 := fun m ρ _ => Cert.Kernel6.Gen.frame m ρ
theorem frame_pi : Cert.quiescent_Kernel6Ideal := fun m ρ _ => Cert.Kernel6Ideal.Gen.frame m ρ
theorem frame_ri : Cert.quiescent_Reference6Ideal := fun m ρ _ => (θ_run Cert.Reference6Ideal.defs _ _).mono (fun r h => ⟨fun c => (h c).2,
      Idealize.ShloMosaic.sem_eq_zero_of_no_sems (by decide) r.2⟩)
    (Cert.Reference6Ideal.Value.run (F := Ideal) m ρ)

theorem preserves : Cert.preserves_Kernel6_Kernel6Ideal := trivial

open Cert.Reference6Ideal Cert.Reference6Ideal.Gen in
/-- The reference's array. -/
theorem ref (a : Arr S4x2048x2816) (r : Arr S4x2048x1024) (w : Arr S2816x1024) :
    (shapeCast S8192x1024 (addf (F := Ideal) (φ := .f32) r (Host.dotGeneral (F := Ideal) (φ₁ := .f32) (φ₂ := .f32) dot_S4x2048x2816_S2816x1024_S4x2048x1024_2_0_01_1_n_n none a w))
      shapeCasts_S4x2048x1024_S8192x1024 : S8192x1024.Idx → EReal) = res a r w := by
  refine (flat (B := 4) (R := 2048) (C := 1024) (N := 8192) rfl _ _).trans ?_
  funext j
  exact congrArg (r _ + ·) (congrFun (host_nn3 _ rfl rfl rfl rfl rfl rfl _ a w) _)

theorem algebraic : Cert.algebraic_Kernel6Ideal_Reference6Ideal := by
  intro m ρ m' ρ' hpre hagree
  refine ⟨_, Cert.Kernel6Ideal.Value.run_blocks (F := Ideal) m ρ, ?_⟩
  refine (θ_run Cert.Reference6Ideal.defs _ _).mono (fun _ h c => ?_) (Cert.Reference6Ideal.Value.run (F := Ideal) m' ρ')
  obtain ⟨e0, e1, e2⟩ := hagree c
  exact ⟨(h c).1.trans ((ref _ _ _).trans (array m c _ _ _ e0.symm e1.symm e2.symm).symm), (h c).2⟩

end Cert.FfnOut

end
-- ==== Proof.DWOut.Geometry.lean ====
/- Where the blocks of the grid lie: what a point reads of each array, and that the written block fills the result. -/
module

public import proofs.«01_k».proof.Proof.Gen.Kernel7Ideal.Value
public import proofs.«01_k».proof.Proof.Lift.Norm
public import proofs.«01_k».proof.Proof.Lift.Place

@[expose] public section

noncomputable section

namespace Cert.DWOut

open Cert.Kernel7Ideal Cert.Kernel7Ideal.Gen Cert.Ext Idealize.ShloMosaic Idealize.ShloMosaic.TcCoe Idealize.SL.Sem Cert.Lift Idealize.ShloMosaic.ValueIdx
open Idealize.ShloMosaic.Pipeline (Dat)

variable (m : (ℓ : Loc nD τ sig) → Buf (Elt Ideal) ℓ) (c : Dev nD)

theorem hN : cfg0.N = 8 := N_0

/-! ### The input blocks -/

theorem idx0_0 : ∀ t : Fin cfg0.N, win0_0.index t 0 = t.val := by decide +kernel
theorem idx0_1 : ∀ t : Fin cfg0.N, win0_0.index t 1 = 0 := by decide +kernel
theorem rd0 (t : Fin cfg0.N) (a : S8192x1024.Idx → EReal) (h : (V m c main_v1 : S8192x1024.Idx → EReal) = a) :
    (iblk m c 0 t : S1024x1024.Idx → EReal) = fun y => a (ix2 (Fin.ofNat 8192 (t.val * 1024 + (r0 y).val)) (Fin.ofNat 1024 (0 * 1024 + (c1 y).val))) := by
  have ht : t.val < 8 := hN ▸ t.isLt
  funext y
  unfold iblk
  rw [View.read_apply]
  exact (congrFun h _).trans (congrArg a (place _ y _ _ _ _ (idx0_0 t) (idx0_1 t) (by omega) (by omega) rfl rfl))

theorem idx1_0 : ∀ t : Fin cfg0.N, win0_1.index t 0 = t.val := by decide +kernel
theorem idx1_1 : ∀ t : Fin cfg0.N, win0_1.index t 1 = 0 := by decide +kernel
theorem rd1 (t : Fin cfg0.N) (a : S8192x1024.Idx → EReal) (h : (V m c main_v2 : S8192x1024.Idx → EReal) = a) :
    (iblk m c 1 t : S1024x1024.Idx → EReal) = fun y => a (ix2 (Fin.ofNat 8192 (t.val * 1024 + (r0 y).val)) (Fin.ofNat 1024 (0 * 1024 + (c1 y).val))) := by
  have ht : t.val < 8 := hN ▸ t.isLt
  funext y
  unfold iblk
  rw [View.read_apply]
  exact (congrFun h _).trans (congrArg a (place _ y _ _ _ _ (idx1_0 t) (idx1_1 t) (by omega) (by omega) rfl rfl))

/-! ### The output arrays -/

theorem idx2_0 : ∀ t : Fin cfg0.N, win0_2.index t 0 = 0 := by decide +kernel
theorem idx2_1 : ∀ t : Fin cfg0.N, win0_2.index t 1 = 0 := by decide +kernel
theorem arr2 (p : Fin cfg0.N → S1024x1024.Idx → EReal) (G : S1024x1024.Idx → EReal)
    (hp : ∀ t, (cfg0.win 2).flush t = true → ((dats m 0 c).after 2 t : S1024x1024.Idx → EReal) = p t)
    (hG : ∀ t, (cfg0.win 2).flush t = true → ∀ y, p t y = G (ix2 (Fin.ofNat 1024 (0 * 1024 + (r0 y).val)) (Fin.ofNat 1024 (0 * 1024 + (c1 y).val)))) :
    ((dats m 0 c).arrAt 2 cfg0.N : S1024x1024.Idx → EReal) = G := by
  refine (dats m 0 c).arrAt_eq_of_cover 2 G (fun t hf => ?_) fun i => ?_
  · have ht : t.val < 8 := hN ▸ t.isLt
    refine funext fun (y : S1024x1024.Idx) => ?_
    refine (congrFun (hp t hf) y).trans ?_
    rw [View.read_apply]
    exact (hG t hf y).trans (congrArg G (place _ y _ _ _ _ (idx2_0 t) (idx2_1 t) (by omega) (by omega) rfl rfl).symm)
  · have h0 : (i 0 : Nat) < 1024 := (i 0).isLt
    have h1 : (i 1 : Nat) < 1024 := (i 1).isLt
    have hlt : 7 < cfg0.N := by rw [hN]; omega
    refine ⟨⟨7, hlt⟩, (flush0_2 ⟨_, hlt⟩).mpr (by show (7) % 8 = 7; omega), ?_⟩
    show i ∈ ((View.whole main_v3).slice (win0_2.rect ⟨7, hlt⟩)).set
    rw [View.set_slice_whole, Rect.mem_set_unit]
    exact both (within (T := 1024) (0) (idx2_0 _) (by omega)) (within (T := 1024) (0) (idx2_1 _) (by omega))

end Cert.DWOut

end
-- ==== Proof.DWOut.Value.lean ====
/- The gradient of the output weight: what each point leaves, and the array the call returns. -/
module

public import proofs.«01_k».proof.Proof.DWOut.Geometry

@[expose] public section

noncomputable section

namespace Cert.DWOut

open Cert.Kernel7Ideal Cert.Kernel7Ideal.Gen Cert.Ext Idealize.ShloMosaic Idealize.ShloMosaic.TcCoe Idealize.ShloMosaic.Tactic Idealize.SL.Sem Cert.Lift Idealize.ShloMosaic.ValueIdx

theorem zeros : (k0_pay1 (F := Ideal) : S1024x1024.Idx → EReal) = fun _ => 0 := by
  unfold k0_pay1
  dsimp only
  rw [shapeCast_self]
  funext j
  exact zeroF

theorem step (a : S1024x1024.Idx → EReal) (x0 : S1024x1024.Idx → EReal) (x1 : S1024x1024.Idx → EReal) :
    (k0_pay2 (F := Ideal) a x0 x1 : S1024x1024.Idx → EReal) = fun j => a j + ∑ k : Fin 1024, x0 (ix2 k (r0 j)) * x1 (ix2 k (c1 j)) := by
  unfold k0_pay2
  funext j
  rw [shapeCast_self, shapeCast_self, shapeCast_self]
  exact congrArg (a j + ·) (congrFun (matmul_tn _ rfl rfl rfl rfl rfl rfl _ x0 x1) j)

theorem last (a : S1024x1024.Idx → EReal) : (k0_pay3 (F := Ideal) a : S1024x1024.Idx → EReal) = a := rfl

section
variable {c : Dev nD} {i : grid0.Coords} {arg2 : Memref sig .tc .vmem S1024x1024 .bf16} {harg2 : arg2.IsWhole} {arg3 : Memref sig .tc .vmem S1024x1024 .f32} {harg3 : arg3.IsWhole} {arg4 : Memref sig .tc .vmem S1024x1024 .bf16} {harg4 : arg4.IsWhole} {arg5 : Memref sig .tc .vmem S1024x1024 .f32} {harg5 : arg5.IsWhole}
  (x0 : Vec Ideal S1024x1024 .bf16) (x1 : Vec Ideal S1024x1024 .f32) (xs0 : Vec Ideal S1024x1024 .f32)

theorem accA (hc0 : cond0_0 i) (hc1 : ¬cond0_1 i) :
    sout0_A_0 (F := Ideal) c i arg2 harg2 arg3 harg3 arg4 harg4 arg5 harg5 hc0 hc1 x0 x1 = k0_pay2 (F := Ideal) (k0_pay1 (F := Ideal)) x0 x1 := by
  unfold sout0_A_0
  rw [View.read_writes_eq_canon _ _ _ (scover0_A_0 (F := Ideal) c i arg2 harg2 arg3 harg3 arg4 harg4 arg5 harg5 hc0 hc1 x0 x1)]
  unfold kernelRun0_A
  dsimp only
  sl_unfold_words
  first | rw [View.canon_unit_zero hz] | rw [View.canon_cons_unit_zero (S := S1024x1024) hz]
  simp only [View.readAt_eq_ld, harg2.read_unread, harg3.read_unread, harg4.read_unread, harg5.read_unread, View.ld_unit_zero (S := S1024x1024) hz]
  congr 1
  exact View.readCov_unit_zero (S := S1024x1024) _ hz _ _

theorem accB (hc0 : ¬cond0_0 i) (hc1 : ¬cond0_1 i) :
    sout0_B_0 (F := Ideal) c i arg2 harg2 arg3 harg3 arg4 harg4 arg5 harg5 hc0 hc1 x0 x1 xs0 = k0_pay2 (F := Ideal) xs0 x0 x1 := by
  unfold sout0_B_0
  rw [View.read_writes_eq_canon _ _ _ (scover0_B_0 (F := Ideal) c i arg2 harg2 arg3 harg3 arg4 harg4 arg5 harg5 hc0 hc1 x0 x1 xs0)]
  unfold kernelRun0_B
  dsimp only
  sl_unfold_words
  first | rw [View.canon_unit_zero hz] | rw [View.canon_cons_unit_zero (S := S1024x1024) hz]
  simp only [View.readAt_eq_ld, harg2.read_unread, harg3.read_unread, harg4.read_unread, harg5.read_unread, View.ld_unit_zero (S := S1024x1024) hz]

theorem outC (hc0 : ¬cond0_0 i) (hc1 : cond0_1 i) :
    out0_C_2 (F := Ideal) c i arg2 harg2 arg3 harg3 arg4 harg4 arg5 harg5 hc0 hc1 x0 x1 xs0 = k0_pay3 (F := Ideal) (k0_pay2 (F := Ideal) xs0 x0 x1) := by
  unfold out0_C_2
  rw [View.read_writes_eq_canon _ _ _ (cover0_C_2 (F := Ideal) c i arg2 harg2 arg3 harg3 arg4 harg4 arg5 harg5 hc0 hc1 x0 x1 xs0)]
  unfold kernelRun0_C
  dsimp only
  sl_unfold_words
  first | rw [View.canon_unit_zero hz] | rw [View.canon_cons_unit_zero (S := S1024x1024) hz]
  simp only [View.readAt_eq_ld, harg2.read_unread, harg3.read_unread, harg4.read_unread, harg5.read_unread, View.ld_unit_zero (S := S1024x1024) hz]
  congr 1
  exact View.readCov_unit_zero (S := S1024x1024) _ hz _ _

end

variable (m : (ℓ : Loc nD τ sig) → Buf (Elt Ideal) ℓ) (c : Dev nD) (X : Arr ⟨3, ![4, 2048, 1024]⟩) (Y : Arr ⟨3, ![4, 2048, 1024]⟩)
  (hX : (V m c main_v1 : S8192x1024.Idx → EReal) = flatA X) (hY : (V m c main_v2 : S8192x1024.Idx → EReal) = flatA Y)
include hX hY

theorem stepAt (a : S1024x1024.Idx → EReal) (t : Fin cfg0.N) :
    (k0_pay2 (F := Ideal) a (iblk m c 0 t) (iblk m c 1 t) : S1024x1024.Idx → EReal) = fun j => a j + tnBlock X Y t.val j := by
  refine (congr2 (k0_pay2 (F := Ideal) a) (rd0 m c t _ hX) (rd1 m c t _ hY)).trans ((step _ _ _).trans ?_)
  funext j
  simp only [ofNat_fst, tnBlock]
  rfl

omit hX hY in
theorem atA (t : Fin cfg0.N) (h0 : t.val % 8 = 0) (h1 : ¬t.val % 8 = 7) :
    (outsAt0 m c t.val t.isLt).2 = k0_pay2 (F := Ideal) (k0_pay1 (F := Ideal)) (iblk m c 0 t) (iblk m c 1 t) := by
  rw [outsAt0_A m c t h0 h1]
  dsimp only
  exact accA (c := c) (i := grid0.coords t) (x0 := iblk m c 0 t) (x1 := iblk m c 1 t) _ _

omit hX hY in
theorem atB (t : Fin cfg0.N) (h0 : ¬t.val % 8 = 0) (h1 : ¬t.val % 8 = 7) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h0 h1]
  dsimp only
  exact accB (c := c) (i := grid0.coords t) (x0 := iblk m c 0 t) (x1 := iblk m c 1 t) _ _ _

omit hX hY in
theorem atC (t : Fin cfg0.N) (h0 : ¬t.val % 8 = 0) (h1 : t.val % 8 = 7) :
    (outsAt0 m c t.val t.isLt).1 = k0_pay3 (F := Ideal) (k0_pay2 (F := Ideal) (outsAt0 m c (t.val - 1) (Nat.lt_of_le_of_lt (Nat.sub_le _ _) t.isLt)).2 (iblk m c 0 t) (iblk m c 1 t)) := by
  rw [outsAt0_C m c t h0 h1]
  dsimp only
  exact outC (c := c) (i := grid0.coords t) (x0 := iblk m c 0 t) (x1 := iblk m c 1 t) _ _ _

/-- The scratch after a point holds the sum of the blocks so far. -/
theorem acc : ∀ n h, n % 8 ≠ 7 → ((outsAt0 m c n h).2 : S1024x1024.Idx → EReal) = part 8 (tnBlock X Y) n := by
  refine sweep 8 (fun n h => n % 8 ≠ 7 → ((outsAt0 m c n h).2 : S1024x1024.Idx → EReal) = part 8 (tnBlock X Y) n) (fun n h h0 h1 => ?_) (fun n h h0 h' ih h1 => ?_)
  · rw [part_first 8 _ n h0]
    refine (atA m c ⟨n, h⟩ h0 h1).trans ?_
    refine (congr3 (k0_pay2 (F := Ideal)) zeros rfl rfl).trans ((stepAt m c X Y hX hY _ ⟨n, h⟩).trans ?_)
    funext j
    exact zero_add _
  · rw [← part_next 8 (tnBlock X Y) n h0 (by decide)]
    refine (atB m c ⟨n, h⟩ h0 h1).trans ?_
    exact (congr3 (k0_pay2 (F := Ideal)) (ih (by omega)) rfl rfl).trans (stepAt m c X Y hX hY _ ⟨n, h⟩)

theorem array : ((dats m 0 c).arrAt 2 cfg0.N : S1024x1024.Idx → EReal) = tn X Y := by
  refine arr2 m c (fun _ => tn X Y) _ (fun t hf => ?_) (fun t _ y => ?_)
  · have h1 := (flush0_2 t).mp hf
    have h0 : ¬t.val % 8 = 0 := by omega
    have hp : t.val - 1 < cfg0.N := Nat.lt_of_le_of_lt (Nat.sub_le _ _) t.isLt
    refine (after0_2 m c t).trans ((atC m c t h0 h1).trans ((last _).trans ?_))
    refine ((congr3 (k0_pay2 (F := Ideal)) (acc m c X Y hX hY (t.val - 1) hp (by omega)) rfl rfl).trans (stepAt m c X Y hX hY _ t)).trans ?_
    rw [part_next 8 (tnBlock X Y) t.val h0 (by decide)]
    funext j
    rw [part_last 8 _ _ (by omega)]
    have e : t.val - t.val % 8 = 0 := by have ht : t.val < 8 := hN ▸ t.isLt; omega
    simp only [e, zero_add]
    exact tn_blocks X Y j
  · rw [ofNat_fst, ofNat_fst]
    exact congrArg (tn X Y) (eq_rc y)

end Cert.DWOut

end
-- ==== Proof.DWOut.Claims.lean ====
/- The gradient of the output weight: the claims. -/
module

public import proofs.«01_k».proof.Defs
public import proofs.«01_k».proof.Proof.DWOut.Value
public import proofs.«01_k».proof.Proof.Gen.Kernel7.Frame
public import proofs.«01_k».proof.Proof.Gen.Reference7Ideal.Run
public import Idealize.ShloMosaic.Adequacy
public import Idealize.ShloMosaic.Init

@[expose] public section

noncomputable section

namespace Cert.DWOut

open Idealize.ShloMosaic Idealize.ShloMosaic.TcCoe Idealize.SL.Sem Cert.Ext Cert.Lift Idealize.ShloMosaic.ValueIdx

theorem frame_p : Cert.quiescent_Kernel7 := fun m ρ _ => Cert.Kernel7.Gen.frame m ρ
theorem frame_pi : Cert.quiescent_Kernel7Ideal := fun m ρ _ => Cert.Kernel7Ideal.Gen.frame m ρ
theorem frame_ri : Cert.quiescent_Reference7Ideal := fun m ρ _ => (θ_run Cert.Reference7Ideal.defs _ _).mono (fun r h => ⟨fun c => (h c).2,
      Idealize.ShloMosaic.sem_eq_zero_of_no_sems (by decide) r.2⟩)
    (Cert.Reference7Ideal.Value.run (F := Ideal) m ρ)

theorem preserves : Cert.preserves_Kernel7_Kernel7Ideal := trivial

section
open Cert.Kernel7Ideal Cert.Kernel7Ideal.Gen
variable (m : (ℓ : Loc nD τ sig) → Buf (Elt Ideal) ℓ) (c : Dev nD)

/-- The call's array, from the arguments. -/
theorem ker (ct : Arr ⟨3, ![4, 2048, 1024]⟩) (mix : Arr ⟨3, ![4, 2048, 1024]⟩)
    (hct : m ((c : Thread nD τ).loc main_arg0) = ct)
    (hmix : m ((c : Thread nD τ).loc main_arg1) = mix) :
    ((dats m 0 c).arrAt 2 cfg0.N : S1024x1024.Idx → EReal) = tn mix ct := by
  have e_main_v1 : (V m c main_v1 : S8192x1024.Idx → EReal) = flatA mix := by
    rw [← hmix]
    exact flat8 _ shapeCasts_S4x2048x1024_S8192x1024
  have e_main_v2 : (V m c main_v2 : S8192x1024.Idx → EReal) = flatA ct := by
    rw [← hct]
    exact flat8 _ shapeCasts_S4x2048x1024_S8192x1024
  exact array m c _ _ e_main_v1 e_main_v2

end

open Cert.Reference7Ideal Cert.Reference7Ideal.Gen in
/-- The reference's array. -/
theorem ref (ct : Arr ⟨3, ![4, 2048, 1024]⟩) (mix : Arr ⟨3, ![4, 2048, 1024]⟩) :
    (truncf (F := Ideal) .bf16 (transpose S1024x1024 [1, 0] (Host.dotGeneral (F := Ideal) (φ₁ := .f32) (φ₂ := .f32) dot_S4x2048x1024_S4x2048x1024_S1024x1024_01_01_2_2_n_n none ct mix) transposes_S1024x1024_S1024x1024_1_0) bitsLt_bf16_f32 : S1024x1024.Idx → EReal) = tn mix ct := by
  refine (swap (R := 1024) (C := 1024) (Host.dotGeneral (F := Ideal) (φ₁ := .f32) (φ₂ := .f32) dot_S4x2048x1024_S4x2048x1024_S1024x1024_01_01_2_2_n_n none ct mix) transposes_S1024x1024_S1024x1024_1_0).trans ?_
  rw [host_tn3 (B := 4) (S := 2048) (M := 1024) (N := 1024) _ rfl rfl rfl rfl rfl rfl]
  funext j
  exact Finset.sum_congr rfl fun p _ => Finset.sum_congr rfl fun q _ => mul_comm _ _

theorem algebraic : Cert.algebraic_Kernel7Ideal_Reference7Ideal := by
  intro m ρ m' ρ' hpre hagree
  refine ⟨_, Cert.Kernel7Ideal.Value.run_blocks (F := Ideal) m ρ, ?_⟩
  refine (θ_run Cert.Reference7Ideal.defs _ _).mono (fun _ h c => ?_) (Cert.Reference7Ideal.Value.run (F := Ideal) m' ρ')
  obtain ⟨e0, e1⟩ := hagree c
  exact ⟨(h c).1.trans ((ref _ _).trans (ker m c _ _ e0.symm e1.symm).symm), (h c).2⟩

end Cert.DWOut

end
-- ==== Proof.DPleWg.Geometry.lean ====
/- Where the blocks of the grid lie: what a point reads of each array, and that the written block fills the result. -/
module

public import proofs.«01_k».proof.Proof.Gen.Kernel8Ideal.Value
public import proofs.«01_k».proof.Proof.Lift.Norm
public import proofs.«01_k».proof.Proof.Lift.Place

@[expose] public section

noncomputable section

namespace Cert.DPleWg

open Cert.Kernel8Ideal Cert.Kernel8Ideal.Gen Cert.Ext Idealize.ShloMosaic Idealize.ShloMosaic.TcCoe Idealize.SL.Sem Cert.Lift Idealize.ShloMosaic.ValueIdx
open Idealize.ShloMosaic.Pipeline (Dat)

variable (m : (ℓ : Loc nD τ sig) → Buf (Elt Ideal) ℓ) (c : Dev nD)

theorem hN : cfg0.N = 8 := N_0

/-! ### The input blocks -/

theorem idx0_0 : ∀ t : Fin cfg0.N, win0_0.index t 0 = t.val := by decide +kernel
theorem idx0_1 : ∀ t : Fin cfg0.N, win0_0.index t 1 = 0 := by decide +kernel
theorem rd0 (t : Fin cfg0.N) (a : S8192x1024.Idx → EReal) (h : (V m c main_v14 : S8192x1024.Idx → EReal) = a) :
    (iblk m c 0 t : S1024x1024.Idx → EReal) = fun y => a (ix2 (Fin.ofNat 8192 (t.val * 1024 + (r0 y).val)) (Fin.ofNat 1024 (0 * 1024 + (c1 y).val))) := by
  have ht : t.val < 8 := hN ▸ t.isLt
  funext y
  unfold iblk
  rw [View.read_apply]
  exact (congrFun h _).trans (congrArg a (place _ y _ _ _ _ (idx0_0 t) (idx0_1 t) (by omega) (by omega) rfl rfl))

theorem idx1_0 : ∀ t : Fin cfg0.N, win0_1.index t 0 = t.val := by decide +kernel
theorem idx1_1 : ∀ t : Fin cfg0.N, win0_1.index t 1 = 0 := by decide +kernel
theorem rd1 (t : Fin cfg0.N) (a : S8192x1024.Idx → EReal) (h : (V m c main_v16 : S8192x1024.Idx → EReal) = a) :
    (iblk m c 1 t : S1024x1024.Idx → EReal) = fun y => a (ix2 (Fin.ofNat 8192 (t.val * 1024 + (r0 y).val)) (Fin.ofNat 1024 (0 * 1024 + (c1 y).val))) := by
  have ht : t.val < 8 := hN ▸ t.isLt
  funext y
  unfold iblk
  rw [View.read_apply]
  exact (congrFun h _).trans (congrArg a (place _ y _ _ _ _ (idx1_0 t) (idx1_1 t) (by omega) (by omega) rfl rfl))

/-! ### The output arrays -/

theorem idx2_0 : ∀ t : Fin cfg0.N, win0_2.index t 0 = 0 := by decide +kernel
theorem idx2_1 : ∀ t : Fin cfg0.N, win0_2.index t 1 = 0 := by decide +kernel
theorem arr2 (p : Fin cfg0.N → S1024x1024.Idx → EReal) (G : S1024x1024.Idx → EReal)
    (hp : ∀ t, (cfg0.win 2).flush t = true → ((dats m 0 c).after 2 t : S1024x1024.Idx → EReal) = p t)
    (hG : ∀ t, (cfg0.win 2).flush t = true → ∀ y, p t y = G (ix2 (Fin.ofNat 1024 (0 * 1024 + (r0 y).val)) (Fin.ofNat 1024 (0 * 1024 + (c1 y).val)))) :
    ((dats m 0 c).arrAt 2 cfg0.N : S1024x1024.Idx → EReal) = G := by
  refine (dats m 0 c).arrAt_eq_of_cover 2 G (fun t hf => ?_) fun i => ?_
  · have ht : t.val < 8 := hN ▸ t.isLt
    refine funext fun (y : S1024x1024.Idx) => ?_
    refine (congrFun (hp t hf) y).trans ?_
    rw [View.read_apply]
    exact (hG t hf y).trans (congrArg G (place _ y _ _ _ _ (idx2_0 t) (idx2_1 t) (by omega) (by omega) rfl rfl).symm)
  · have h0 : (i 0 : Nat) < 1024 := (i 0).isLt
    have h1 : (i 1 : Nat) < 1024 := (i 1).isLt
    have hlt : 7 < cfg0.N := by rw [hN]; omega
    refine ⟨⟨7, hlt⟩, (flush0_2 ⟨_, hlt⟩).mpr (by show (7) % 8 = 7; omega), ?_⟩
    show i ∈ ((View.whole main_v17).slice (win0_2.rect ⟨7, hlt⟩)).set
    rw [View.set_slice_whole, Rect.mem_set_unit]
    exact both (within (T := 1024) (0) (idx2_0 _) (by omega)) (within (T := 1024) (0) (idx2_1 _) (by omega))

end Cert.DPleWg

end
-- ==== Proof.DPleWg.Value.lean ====
/- The gradient of the per-layer gate weight: what each point leaves, and the array the call returns. -/
module

public import proofs.«01_k».proof.Proof.DPleWg.Geometry

@[expose] public section

noncomputable section

namespace Cert.DPleWg

open Cert.Kernel8Ideal Cert.Kernel8Ideal.Gen Cert.Ext Idealize.ShloMosaic Idealize.ShloMosaic.TcCoe Idealize.ShloMosaic.Tactic Idealize.SL.Sem Cert.Lift Idealize.ShloMosaic.ValueIdx

theorem zeros : (k0_pay1 (F := Ideal) : S1024x1024.Idx → EReal) = fun _ => 0 := by
  unfold k0_pay1
  dsimp only
  rw [shapeCast_self]
  funext j
  exact zeroF

theorem step (a : S1024x1024.Idx → EReal) (x0 : S1024x1024.Idx → EReal) (x1 : S1024x1024.Idx → EReal) :
    (k0_pay2 (F := Ideal) a x0 x1 : S1024x1024.Idx → EReal) = fun j => a j + ∑ k : Fin 1024, x0 (ix2 k (r0 j)) * x1 (ix2 k (c1 j)) := by
  unfold k0_pay2
  funext j
  rw [shapeCast_self, shapeCast_self, shapeCast_self]
  exact congrArg (a j + ·) (congrFun (matmul_tn _ rfl rfl rfl rfl rfl rfl _ x0 x1) j)

theorem last (a : S1024x1024.Idx → EReal) : (k0_pay3 (F := Ideal) a : S1024x1024.Idx → EReal) = a := rfl

section
variable {c : Dev nD} {i : grid0.Coords} {arg2 : Memref sig .tc .vmem S1024x1024 .bf16} {harg2 : arg2.IsWhole} {arg3 : Memref sig .tc .vmem S1024x1024 .bf16} {harg3 : arg3.IsWhole} {arg4 : Memref sig .tc .vmem S1024x1024 .bf16} {harg4 : arg4.IsWhole} {arg5 : Memref sig .tc .vmem S1024x1024 .f32} {harg5 : arg5.IsWhole}
  (x0 : Vec Ideal S1024x1024 .bf16) (x1 : Vec Ideal S1024x1024 .bf16) (xs0 : Vec Ideal S1024x1024 .f32)

theorem accA (hc0 : cond0_0 i) (hc1 : ¬cond0_1 i) :
    sout0_A_0 (F := Ideal) c i arg2 harg2 arg3 harg3 arg4 harg4 arg5 harg5 hc0 hc1 x0 x1 = k0_pay2 (F := Ideal) (k0_pay1 (F := Ideal)) x0 x1 := by
  unfold sout0_A_0
  rw [View.read_writes_eq_canon _ _ _ (scover0_A_0 (F := Ideal) c i arg2 harg2 arg3 harg3 arg4 harg4 arg5 harg5 hc0 hc1 x0 x1)]
  unfold kernelRun0_A
  dsimp only
  sl_unfold_words
  first | rw [View.canon_unit_zero hz] | rw [View.canon_cons_unit_zero (S := S1024x1024) hz]
  simp only [View.readAt_eq_ld, harg2.read_unread, harg3.read_unread, harg4.read_unread, harg5.read_unread, View.ld_unit_zero (S := S1024x1024) hz]
  congr 1
  exact View.readCov_unit_zero (S := S1024x1024) _ hz _ _

theorem accB (hc0 : ¬cond0_0 i) (hc1 : ¬cond0_1 i) :
    sout0_B_0 (F := Ideal) c i arg2 harg2 arg3 harg3 arg4 harg4 arg5 harg5 hc0 hc1 x0 x1 xs0 = k0_pay2 (F := Ideal) xs0 x0 x1 := by
  unfold sout0_B_0
  rw [View.read_writes_eq_canon _ _ _ (scover0_B_0 (F := Ideal) c i arg2 harg2 arg3 harg3 arg4 harg4 arg5 harg5 hc0 hc1 x0 x1 xs0)]
  unfold kernelRun0_B
  dsimp only
  sl_unfold_words
  first | rw [View.canon_unit_zero hz] | rw [View.canon_cons_unit_zero (S := S1024x1024) hz]
  simp only [View.readAt_eq_ld, harg2.read_unread, harg3.read_unread, harg4.read_unread, harg5.read_unread, View.ld_unit_zero (S := S1024x1024) hz]

theorem outC (hc0 : ¬cond0_0 i) (hc1 : cond0_1 i) :
    out0_C_2 (F := Ideal) c i arg2 harg2 arg3 harg3 arg4 harg4 arg5 harg5 hc0 hc1 x0 x1 xs0 = k0_pay3 (F := Ideal) (k0_pay2 (F := Ideal) xs0 x0 x1) := by
  unfold out0_C_2
  rw [View.read_writes_eq_canon _ _ _ (cover0_C_2 (F := Ideal) c i arg2 harg2 arg3 harg3 arg4 harg4 arg5 harg5 hc0 hc1 x0 x1 xs0)]
  unfold kernelRun0_C
  dsimp only
  sl_unfold_words
  first | rw [View.canon_unit_zero hz] | rw [View.canon_cons_unit_zero (S := S1024x1024) hz]
  simp only [View.readAt_eq_ld, harg2.read_unread, harg3.read_unread, harg4.read_unread, harg5.read_unread, View.ld_unit_zero (S := S1024x1024) hz]
  congr 1
  exact View.readCov_unit_zero (S := S1024x1024) _ hz _ _

end

variable (m : (ℓ : Loc nD τ sig) → Buf (Elt Ideal) ℓ) (c : Dev nD) (X : Arr ⟨3, ![4, 2048, 1024]⟩) (Y : Arr ⟨3, ![4, 2048, 1024]⟩)
  (hX : (V m c main_v14 : S8192x1024.Idx → EReal) = flatA X) (hY : (V m c main_v16 : S8192x1024.Idx → EReal) = flatA Y)
include hX hY

theorem stepAt (a : S1024x1024.Idx → EReal) (t : Fin cfg0.N) :
    (k0_pay2 (F := Ideal) a (iblk m c 0 t) (iblk m c 1 t) : S1024x1024.Idx → EReal) = fun j => a j + tnBlock X Y t.val j := by
  refine (congr2 (k0_pay2 (F := Ideal) a) (rd0 m c t _ hX) (rd1 m c t _ hY)).trans ((step _ _ _).trans ?_)
  funext j
  simp only [ofNat_fst, tnBlock]
  rfl

omit hX hY in
theorem atA (t : Fin cfg0.N) (h0 : t.val % 8 = 0) (h1 : ¬t.val % 8 = 7) :
    (outsAt0 m c t.val t.isLt).2 = k0_pay2 (F := Ideal) (k0_pay1 (F := Ideal)) (iblk m c 0 t) (iblk m c 1 t) := by
  rw [outsAt0_A m c t h0 h1]
  dsimp only
  exact accA (c := c) (i := grid0.coords t) (x0 := iblk m c 0 t) (x1 := iblk m c 1 t) _ _

omit hX hY in
theorem atB (t : Fin cfg0.N) (h0 : ¬t.val % 8 = 0) (h1 : ¬t.val % 8 = 7) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h0 h1]
  dsimp only
  exact accB (c := c) (i := grid0.coords t) (x0 := iblk m c 0 t) (x1 := iblk m c 1 t) _ _ _

omit hX hY in
theorem atC (t : Fin cfg0.N) (h0 : ¬t.val % 8 = 0) (h1 : t.val % 8 = 7) :
    (outsAt0 m c t.val t.isLt).1 = k0_pay3 (F := Ideal) (k0_pay2 (F := Ideal) (outsAt0 m c (t.val - 1) (Nat.lt_of_le_of_lt (Nat.sub_le _ _) t.isLt)).2 (iblk m c 0 t) (iblk m c 1 t)) := by
  rw [outsAt0_C m c t h0 h1]
  dsimp only
  exact outC (c := c) (i := grid0.coords t) (x0 := iblk m c 0 t) (x1 := iblk m c 1 t) _ _ _

/-- The scratch after a point holds the sum of the blocks so far. -/
theorem acc : ∀ n h, n % 8 ≠ 7 → ((outsAt0 m c n h).2 : S1024x1024.Idx → EReal) = part 8 (tnBlock X Y) n := by
  refine sweep 8 (fun n h => n % 8 ≠ 7 → ((outsAt0 m c n h).2 : S1024x1024.Idx → EReal) = part 8 (tnBlock X Y) n) (fun n h h0 h1 => ?_) (fun n h h0 h' ih h1 => ?_)
  · rw [part_first 8 _ n h0]
    refine (atA m c ⟨n, h⟩ h0 h1).trans ?_
    refine (congr3 (k0_pay2 (F := Ideal)) zeros rfl rfl).trans ((stepAt m c X Y hX hY _ ⟨n, h⟩).trans ?_)
    funext j
    exact zero_add _
  · rw [← part_next 8 (tnBlock X Y) n h0 (by decide)]
    refine (atB m c ⟨n, h⟩ h0 h1).trans ?_
    exact (congr3 (k0_pay2 (F := Ideal)) (ih (by omega)) rfl rfl).trans (stepAt m c X Y hX hY _ ⟨n, h⟩)

theorem array : ((dats m 0 c).arrAt 2 cfg0.N : S1024x1024.Idx → EReal) = tn X Y := by
  refine arr2 m c (fun _ => tn X Y) _ (fun t hf => ?_) (fun t _ y => ?_)
  · have h1 := (flush0_2 t).mp hf
    have h0 : ¬t.val % 8 = 0 := by omega
    have hp : t.val - 1 < cfg0.N := Nat.lt_of_le_of_lt (Nat.sub_le _ _) t.isLt
    refine (after0_2 m c t).trans ((atC m c t h0 h1).trans ((last _).trans ?_))
    refine ((congr3 (k0_pay2 (F := Ideal)) (acc m c X Y hX hY (t.val - 1) hp (by omega)) rfl rfl).trans (stepAt m c X Y hX hY _ t)).trans ?_
    rw [part_next 8 (tnBlock X Y) t.val h0 (by decide)]
    funext j
    rw [part_last 8 _ _ (by omega)]
    have e : t.val - t.val % 8 = 0 := by have ht : t.val < 8 := hN ▸ t.isLt; omega
    simp only [e, zero_add]
    exact tn_blocks X Y j
  · rw [ofNat_fst, ofNat_fst]
    exact congrArg (tn X Y) (eq_rc y)

end Cert.DPleWg

end
-- ==== Proof.DPleWg.Claims.lean ====
/- The gradient of the per-layer gate weight: the claims. -/
module

public import proofs.«01_k».proof.Defs
public import proofs.«01_k».proof.Proof.DPleWg.Value
public import proofs.«01_k».proof.Proof.Gen.Kernel8.Frame
public import proofs.«01_k».proof.Proof.Gen.Reference8Ideal.Run
public import Idealize.ShloMosaic.Adequacy
public import Idealize.ShloMosaic.Init

@[expose] public section

noncomputable section

namespace Cert.DPleWg

open Idealize.ShloMosaic Idealize.ShloMosaic.TcCoe Idealize.SL.Sem Cert.Ext Cert.Lift Idealize.ShloMosaic.ValueIdx

theorem frame_p : Cert.quiescent_Kernel8 := fun m ρ _ => Cert.Kernel8.Gen.frame m ρ
theorem frame_pi : Cert.quiescent_Kernel8Ideal := fun m ρ _ => Cert.Kernel8Ideal.Gen.frame m ρ
theorem frame_ri : Cert.quiescent_Reference8Ideal := fun m ρ _ => (θ_run Cert.Reference8Ideal.defs _ _).mono (fun r h => ⟨fun c => (h c).2,
      Idealize.ShloMosaic.sem_eq_zero_of_no_sems (by decide) r.2⟩)
    (Cert.Reference8Ideal.Value.run (F := Ideal) m ρ)

theorem preserves : Cert.preserves_Kernel8_Kernel8Ideal := trivial

section
open Cert.Kernel8Ideal Cert.Kernel8Ideal.Gen
variable (m : (ℓ : Loc nD τ sig) → Buf (Elt Ideal) ℓ) (c : Dev nD)

/-- The call's array, from the arguments. -/
theorem ker (ct : Arr ⟨3, ![4, 2048, 1024]⟩) (r : Arr ⟨3, ![4, 2048, 1024]⟩) (g : Arr ⟨1, ![1024]⟩)
    (hct : m ((c : Thread nD τ).loc main_arg0) = ct)
    (hr : m ((c : Thread nD τ).loc main_arg1) = r)
    (hg : m ((c : Thread nD τ).loc main_arg2) = g) :
    ((dats m 0 c).arrAt 2 cfg0.N : S1024x1024.Idx → EReal) = tn (norm r g) ct := by
  have e_main_v14 : (V m c main_v14 : S8192x1024.Idx → EReal) = flatA (norm r g) := by
    show StableHlo.after hostOps0 (fun b => m (c, b)) (Proc.devRef .tc main_v14) = _
    simp only [hostOps0, List.flatten_cons, List.flatten_nil, List.append_nil, List.cons_append, List.nil_append]
    after_results
    have h1 : m (c, Proc.devRef .tc main_arg1) = r := hr
    have h2 : m (c, Proc.devRef .tc main_arg2) = g := hg
    rw [h1, h2]
    rw [host_norm (B := 4) (R := 2048) (C := 1024) r g reducesTo_S4x2048x1024_S4x2048_d2 h_S_
      bcast_S4x2048_S4x2048x1_0_1 bcast_S4x2048x1_S4x2048x1024_0_1_2 S_ S_ ![] ![] bcast_S_S4x2048x1 bcast_S_S4x2048x1 bcast_S1x1x1024_S4x2048x1024_0_1_2 bcast_S1024_S1x1x1024_2]
    exact flat8 (norm r g) shapeCasts_S4x2048x1024_S8192x1024
  have e_main_v16 : (V m c main_v16 : S8192x1024.Idx → EReal) = flatA ct := by
    rw [← hct]
    exact flat8 _ shapeCasts_S4x2048x1024_S8192x1024
  exact array m c _ _ e_main_v14 e_main_v16

end

open Cert.Reference8Ideal Cert.Reference8Ideal.Gen in
/-- The reference's array. -/
theorem ref (ct : Arr ⟨3, ![4, 2048, 1024]⟩) (r : Arr ⟨3, ![4, 2048, 1024]⟩) (g : Arr ⟨1, ![1024]⟩) :
    (truncf (F := Ideal) .bf16 (transpose S1024x1024 [1, 0] (Host.dotGeneral (F := Ideal) (φ₁ := .f32) (φ₂ := .f32) dot_S4x2048x1024_S4x2048x1024_S1024x1024_01_01_2_2_n_n none ct (mulf (F := Ideal) (φ := .f32) (mulf (F := Ideal) (φ := .f32) r (broadcastInDim S4x2048x1024 ![0, 1, 2] bcast_S4x2048x1_S4x2048x1024_0_1_2 (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))))) (broadcastInDim S4x2048x1024 ![0, 1, 2] bcast_S1x1x1024_S4x2048x1024_0_1_2 (broadcastInDim S1x1x1024 ![2] bcast_S1024_S1x1x1024_2 g)))) transposes_S1024x1024_S1024x1024_1_0) bitsLt_bf16_f32 : S1024x1024.Idx → EReal) = tn (norm r g) ct := by
  rw [host_norm (B := 4) (R := 2048) (C := 1024) r g reducesTo_S4x2048x1024_S4x2048_d2 h_S_ bcast_S4x2048_S4x2048x1_0_1 bcast_S4x2048x1_S4x2048x1024_0_1_2 S_ S_ ![] ![]
    bcast_S_S4x2048x1 bcast_S_S4x2048x1 bcast_S1x1x1024_S4x2048x1024_0_1_2 bcast_S1024_S1x1x1024_2]
  refine (swap (R := 1024) (C := 1024) (Host.dotGeneral (F := Ideal) (φ₁ := .f32) (φ₂ := .f32) dot_S4x2048x1024_S4x2048x1024_S1024x1024_01_01_2_2_n_n none ct (norm r g)) transposes_S1024x1024_S1024x1024_1_0).trans ?_
  rw [host_tn3 (B := 4) (S := 2048) (M := 1024) (N := 1024) _ rfl rfl rfl rfl rfl rfl]
  funext j
  exact Finset.sum_congr rfl fun p _ => Finset.sum_congr rfl fun q _ => mul_comm _ _

theorem algebraic : Cert.algebraic_Kernel8Ideal_Reference8Ideal := by
  intro m ρ m' ρ' hpre hagree
  refine ⟨_, Cert.Kernel8Ideal.Value.run_blocks (F := Ideal) m ρ, ?_⟩
  refine (θ_run Cert.Reference8Ideal.defs _ _).mono (fun _ h c => ?_) (Cert.Reference8Ideal.Value.run (F := Ideal) m' ρ')
  obtain ⟨e0, e1, e2⟩ := hagree c
  exact ⟨(h c).1.trans ((ref _ _ _).trans (ker m c _ _ _ e0.symm e1.symm e2.symm).symm), (h c).2⟩

end Cert.DPleWg

end
-- ==== Proof.DPleWp.Geometry.lean ====
/- Where the blocks of the grid lie: what a point reads of each array, and that the written block fills the result. -/
module

public import proofs.«01_k».proof.Proof.Gen.Kernel9Ideal.Value
public import proofs.«01_k».proof.Proof.Lift.Norm
public import proofs.«01_k».proof.Proof.Lift.Place

@[expose] public section

noncomputable section

namespace Cert.DPleWp

open Cert.Kernel9Ideal Cert.Kernel9Ideal.Gen Cert.Ext Idealize.ShloMosaic Idealize.ShloMosaic.TcCoe Idealize.SL.Sem Cert.Lift Idealize.ShloMosaic.ValueIdx
open Idealize.ShloMosaic.Pipeline (Dat)

variable (m : (ℓ : Loc nD τ sig) → Buf (Elt Ideal) ℓ) (c : Dev nD)

theorem hN : cfg0.N = 8 := N_0

/-! ### The input blocks -/

theorem idx0_0 : ∀ t : Fin cfg0.N, win0_0.index t 0 = t.val := by decide +kernel
theorem idx0_1 : ∀ t : Fin cfg0.N, win0_0.index t 1 = 0 := by decide +kernel
theorem rd0 (t : Fin cfg0.N) (a : S8192x1024.Idx → EReal) (h : (V m c main_v1 : S8192x1024.Idx → EReal) = a) :
    (iblk m c 0 t : S1024x1024.Idx → EReal) = fun y => a (ix2 (Fin.ofNat 8192 (t.val * 1024 + (r0 y).val)) (Fin.ofNat 1024 (0 * 1024 + (c1 y).val))) := by
  have ht : t.val < 8 := hN ▸ t.isLt
  funext y
  unfold iblk
  rw [View.read_apply]
  exact (congrFun h _).trans (congrArg a (place _ y _ _ _ _ (idx0_0 t) (idx0_1 t) (by omega) (by omega) rfl rfl))

theorem idx1_0 : ∀ t : Fin cfg0.N, win0_1.index t 0 = t.val := by decide +kernel
theorem idx1_1 : ∀ t : Fin cfg0.N, win0_1.index t 1 = 0 := by decide +kernel
theorem rd1 (t : Fin cfg0.N) (a : S8192x256.Idx → EReal) (h : (V m c main_v3 : S8192x256.Idx → EReal) = a) :
    (iblk m c 1 t : S1024x256.Idx → EReal) = fun y => a (ix2 (Fin.ofNat 8192 (t.val * 1024 + (r0 y).val)) (Fin.ofNat 256 (0 * 256 + (c1 y).val))) := by
  have ht : t.val < 8 := hN ▸ t.isLt
  funext y
  unfold iblk
  rw [View.read_apply]
  exact (congrFun h _).trans (congrArg a (place _ y _ _ _ _ (idx1_0 t) (idx1_1 t) (by omega) (by omega) rfl rfl))

/-! ### The output arrays -/

theorem idx2_0 : ∀ t : Fin cfg0.N, win0_2.index t 0 = 0 := by decide +kernel
theorem idx2_1 : ∀ t : Fin cfg0.N, win0_2.index t 1 = 0 := by decide +kernel
theorem arr2 (p : Fin cfg0.N → S1024x256.Idx → EReal) (G : S1024x256.Idx → EReal)
    (hp : ∀ t, (cfg0.win 2).flush t = true → ((dats m 0 c).after 2 t : S1024x256.Idx → EReal) = p t)
    (hG : ∀ t, (cfg0.win 2).flush t = true → ∀ y, p t y = G (ix2 (Fin.ofNat 1024 (0 * 1024 + (r0 y).val)) (Fin.ofNat 256 (0 * 256 + (c1 y).val)))) :
    ((dats m 0 c).arrAt 2 cfg0.N : S1024x256.Idx → EReal) = G := by
  refine (dats m 0 c).arrAt_eq_of_cover 2 G (fun t hf => ?_) fun i => ?_
  · have ht : t.val < 8 := hN ▸ t.isLt
    refine funext fun (y : S1024x256.Idx) => ?_
    refine (congrFun (hp t hf) y).trans ?_
    rw [View.read_apply]
    exact (hG t hf y).trans (congrArg G (place _ y _ _ _ _ (idx2_0 t) (idx2_1 t) (by omega) (by omega) rfl rfl).symm)
  · have h0 : (i 0 : Nat) < 1024 := (i 0).isLt
    have h1 : (i 1 : Nat) < 256 := (i 1).isLt
    have hlt : 7 < cfg0.N := by rw [hN]; omega
    refine ⟨⟨7, hlt⟩, (flush0_2 ⟨_, hlt⟩).mpr (by show (7) % 8 = 7; omega), ?_⟩
    show i ∈ ((View.whole main_v4).slice (win0_2.rect ⟨7, hlt⟩)).set
    rw [View.set_slice_whole, Rect.mem_set_unit]
    exact both (within (T := 1024) (0) (idx2_0 _) (by omega)) (within (T := 256) (0) (idx2_1 _) (by omega))

end Cert.DPleWp

end
-- ==== Proof.DPleWp.Value.lean ====
/- The gradient of the per-layer projection weight: what each point leaves, and the array the call returns. -/
module

public import proofs.«01_k».proof.Proof.DPleWp.Geometry

@[expose] public section

noncomputable section

namespace Cert.DPleWp

open Cert.Kernel9Ideal Cert.Kernel9Ideal.Gen Cert.Ext Idealize.ShloMosaic Idealize.ShloMosaic.TcCoe Idealize.ShloMosaic.Tactic Idealize.SL.Sem Cert.Lift Idealize.ShloMosaic.ValueIdx

theorem zeros : (k0_pay1 (F := Ideal) : S1024x256.Idx → EReal) = fun _ => 0 := by
  unfold k0_pay1
  dsimp only
  rw [shapeCast_self]
  funext j
  exact zeroF

theorem step (a : S1024x256.Idx → EReal) (x0 : S1024x1024.Idx → EReal) (x1 : S1024x256.Idx → EReal) :
    (k0_pay2 (F := Ideal) a x0 x1 : S1024x256.Idx → EReal) = fun j => a j + ∑ k : Fin 1024, x0 (ix2 k (r0 j)) * x1 (ix2 k (c1 j)) := by
  unfold k0_pay2
  funext j
  rw [shapeCast_self, shapeCast_self, shapeCast_self]
  exact congrArg (a j + ·) (congrFun (matmul_tn _ rfl rfl rfl rfl rfl rfl _ x0 x1) j)

theorem last (a : S1024x256.Idx → EReal) : (k0_pay3 (F := Ideal) a : S1024x256.Idx → EReal) = a := rfl

section
variable {c : Dev nD} {i : grid0.Coords} {arg2 : Memref sig .tc .vmem S1024x1024 .bf16} {harg2 : arg2.IsWhole} {arg3 : Memref sig .tc .vmem S1024x256 .bf16} {harg3 : arg3.IsWhole} {arg4 : Memref sig .tc .vmem S1024x256 .bf16} {harg4 : arg4.IsWhole} {arg5 : Memref sig .tc .vmem S1024x256 .f32} {harg5 : arg5.IsWhole}
  (x0 : Vec Ideal S1024x1024 .bf16) (x1 : Vec Ideal S1024x256 .bf16) (xs0 : Vec Ideal S1024x256 .f32)

theorem accA (hc0 : cond0_0 i) (hc1 : ¬cond0_1 i) :
    sout0_A_0 (F := Ideal) c i arg2 harg2 arg3 harg3 arg4 harg4 arg5 harg5 hc0 hc1 x0 x1 = k0_pay2 (F := Ideal) (k0_pay1 (F := Ideal)) x0 x1 := by
  unfold sout0_A_0
  rw [View.read_writes_eq_canon _ _ _ (scover0_A_0 (F := Ideal) c i arg2 harg2 arg3 harg3 arg4 harg4 arg5 harg5 hc0 hc1 x0 x1)]
  unfold kernelRun0_A
  dsimp only
  sl_unfold_words
  first | rw [View.canon_unit_zero hz] | rw [View.canon_cons_unit_zero (S := S1024x256) hz]
  simp only [View.readAt_eq_ld, harg2.read_unread, harg3.read_unread, harg4.read_unread, harg5.read_unread, View.ld_unit_zero (S := S1024x1024) hz, View.ld_unit_zero (S := S1024x256) hz]
  congr 1
  exact View.readCov_unit_zero (S := S1024x256) _ hz _ _

theorem accB (hc0 : ¬cond0_0 i) (hc1 : ¬cond0_1 i) :
    sout0_B_0 (F := Ideal) c i arg2 harg2 arg3 harg3 arg4 harg4 arg5 harg5 hc0 hc1 x0 x1 xs0 = k0_pay2 (F := Ideal) xs0 x0 x1 := by
  unfold sout0_B_0
  rw [View.read_writes_eq_canon _ _ _ (scover0_B_0 (F := Ideal) c i arg2 harg2 arg3 harg3 arg4 harg4 arg5 harg5 hc0 hc1 x0 x1 xs0)]
  unfold kernelRun0_B
  dsimp only
  sl_unfold_words
  first | rw [View.canon_unit_zero hz] | rw [View.canon_cons_unit_zero (S := S1024x256) hz]
  simp only [View.readAt_eq_ld, harg2.read_unread, harg3.read_unread, harg4.read_unread, harg5.read_unread, View.ld_unit_zero (S := S1024x1024) hz, View.ld_unit_zero (S := S1024x256) hz]

theorem outC (hc0 : ¬cond0_0 i) (hc1 : cond0_1 i) :
    out0_C_2 (F := Ideal) c i arg2 harg2 arg3 harg3 arg4 harg4 arg5 harg5 hc0 hc1 x0 x1 xs0 = k0_pay3 (F := Ideal) (k0_pay2 (F := Ideal) xs0 x0 x1) := by
  unfold out0_C_2
  rw [View.read_writes_eq_canon _ _ _ (cover0_C_2 (F := Ideal) c i arg2 harg2 arg3 harg3 arg4 harg4 arg5 harg5 hc0 hc1 x0 x1 xs0)]
  unfold kernelRun0_C
  dsimp only
  sl_unfold_words
  first | rw [View.canon_unit_zero hz] | rw [View.canon_cons_unit_zero (S := S1024x256) hz]
  simp only [View.readAt_eq_ld, harg2.read_unread, harg3.read_unread, harg4.read_unread, harg5.read_unread, View.ld_unit_zero (S := S1024x1024) hz, View.ld_unit_zero (S := S1024x256) hz]
  congr 1
  exact View.readCov_unit_zero (S := S1024x256) _ hz _ _

end

variable (m : (ℓ : Loc nD τ sig) → Buf (Elt Ideal) ℓ) (c : Dev nD) (X : Arr ⟨3, ![4, 2048, 1024]⟩) (Y : Arr ⟨3, ![4, 2048, 256]⟩)
  (hX : (V m c main_v1 : S8192x1024.Idx → EReal) = flatA X) (hY : (V m c main_v3 : S8192x256.Idx → EReal) = flatA Y)
include hX hY

theorem stepAt (a : S1024x256.Idx → EReal) (t : Fin cfg0.N) :
    (k0_pay2 (F := Ideal) a (iblk m c 0 t) (iblk m c 1 t) : S1024x256.Idx → EReal) = fun j => a j + tnBlock X Y t.val j := by
  refine (congr2 (k0_pay2 (F := Ideal) a) (rd0 m c t _ hX) (rd1 m c t _ hY)).trans ((step _ _ _).trans ?_)
  funext j
  simp only [ofNat_fst, tnBlock]
  rfl

omit hX hY in
theorem atA (t : Fin cfg0.N) (h0 : t.val % 8 = 0) (h1 : ¬t.val % 8 = 7) :
    (outsAt0 m c t.val t.isLt).2 = k0_pay2 (F := Ideal) (k0_pay1 (F := Ideal)) (iblk m c 0 t) (iblk m c 1 t) := by
  rw [outsAt0_A m c t h0 h1]
  dsimp only
  exact accA (c := c) (i := grid0.coords t) (x0 := iblk m c 0 t) (x1 := iblk m c 1 t) _ _

omit hX hY in
theorem atB (t : Fin cfg0.N) (h0 : ¬t.val % 8 = 0) (h1 : ¬t.val % 8 = 7) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h0 h1]
  dsimp only
  exact accB (c := c) (i := grid0.coords t) (x0 := iblk m c 0 t) (x1 := iblk m c 1 t) _ _ _

omit hX hY in
theorem atC (t : Fin cfg0.N) (h0 : ¬t.val % 8 = 0) (h1 : t.val % 8 = 7) :
    (outsAt0 m c t.val t.isLt).1 = k0_pay3 (F := Ideal) (k0_pay2 (F := Ideal) (outsAt0 m c (t.val - 1) (Nat.lt_of_le_of_lt (Nat.sub_le _ _) t.isLt)).2 (iblk m c 0 t) (iblk m c 1 t)) := by
  rw [outsAt0_C m c t h0 h1]
  dsimp only
  exact outC (c := c) (i := grid0.coords t) (x0 := iblk m c 0 t) (x1 := iblk m c 1 t) _ _ _

/-- The scratch after a point holds the sum of the blocks so far. -/
theorem acc : ∀ n h, n % 8 ≠ 7 → ((outsAt0 m c n h).2 : S1024x256.Idx → EReal) = part 8 (tnBlock X Y) n := by
  refine sweep 8 (fun n h => n % 8 ≠ 7 → ((outsAt0 m c n h).2 : S1024x256.Idx → EReal) = part 8 (tnBlock X Y) n) (fun n h h0 h1 => ?_) (fun n h h0 h' ih h1 => ?_)
  · rw [part_first 8 _ n h0]
    refine (atA m c ⟨n, h⟩ h0 h1).trans ?_
    refine (congr3 (k0_pay2 (F := Ideal)) zeros rfl rfl).trans ((stepAt m c X Y hX hY _ ⟨n, h⟩).trans ?_)
    funext j
    exact zero_add _
  · rw [← part_next 8 (tnBlock X Y) n h0 (by decide)]
    refine (atB m c ⟨n, h⟩ h0 h1).trans ?_
    exact (congr3 (k0_pay2 (F := Ideal)) (ih (by omega)) rfl rfl).trans (stepAt m c X Y hX hY _ ⟨n, h⟩)

theorem array : ((dats m 0 c).arrAt 2 cfg0.N : S1024x256.Idx → EReal) = tn X Y := by
  refine arr2 m c (fun _ => tn X Y) _ (fun t hf => ?_) (fun t _ y => ?_)
  · have h1 := (flush0_2 t).mp hf
    have h0 : ¬t.val % 8 = 0 := by omega
    have hp : t.val - 1 < cfg0.N := Nat.lt_of_le_of_lt (Nat.sub_le _ _) t.isLt
    refine (after0_2 m c t).trans ((atC m c t h0 h1).trans ((last _).trans ?_))
    refine ((congr3 (k0_pay2 (F := Ideal)) (acc m c X Y hX hY (t.val - 1) hp (by omega)) rfl rfl).trans (stepAt m c X Y hX hY _ t)).trans ?_
    rw [part_next 8 (tnBlock X Y) t.val h0 (by decide)]
    funext j
    rw [part_last 8 _ _ (by omega)]
    have e : t.val - t.val % 8 = 0 := by have ht : t.val < 8 := hN ▸ t.isLt; omega
    simp only [e, zero_add]
    exact tn_blocks X Y j
  · rw [ofNat_fst, ofNat_fst]
    exact congrArg (tn X Y) (eq_rc y)

end Cert.DPleWp

end
-- ==== Proof.DPleWp.Claims.lean ====
/- The gradient of the per-layer projection weight: the claims. -/
module

public import proofs.«01_k».proof.Defs
public import proofs.«01_k».proof.Proof.DPleWp.Value
public import proofs.«01_k».proof.Proof.Gen.Kernel9.Frame
public import proofs.«01_k».proof.Proof.Gen.Reference9Ideal.Run
public import Idealize.ShloMosaic.Adequacy
public import Idealize.ShloMosaic.Init

@[expose] public section

noncomputable section

namespace Cert.DPleWp

open Idealize.ShloMosaic Idealize.ShloMosaic.TcCoe Idealize.SL.Sem Cert.Ext Cert.Lift Idealize.ShloMosaic.ValueIdx

theorem frame_p : Cert.quiescent_Kernel9 := fun m ρ _ => Cert.Kernel9.Gen.frame m ρ
theorem frame_pi : Cert.quiescent_Kernel9Ideal := fun m ρ _ => Cert.Kernel9Ideal.Gen.frame m ρ
theorem frame_ri : Cert.quiescent_Reference9Ideal := fun m ρ _ => (θ_run Cert.Reference9Ideal.defs _ _).mono (fun r h => ⟨fun c => (h c).2,
      Idealize.ShloMosaic.sem_eq_zero_of_no_sems (by decide) r.2⟩)
    (Cert.Reference9Ideal.Value.run (F := Ideal) m ρ)

theorem preserves : Cert.preserves_Kernel9_Kernel9Ideal := trivial

section
open Cert.Kernel9Ideal Cert.Kernel9Ideal.Gen
variable (m : (ℓ : Loc nD τ sig) → Buf (Elt Ideal) ℓ) (c : Dev nD)

/-- The call's array, from the arguments. -/
theorem ker (ct : Arr ⟨3, ![4, 2048, 1024]⟩) (p : Arr ⟨3, ![4, 2048, 256]⟩)
    (hct : m ((c : Thread nD τ).loc main_arg0) = ct)
    (hp : m ((c : Thread nD τ).loc main_arg1) = p) :
    ((dats m 0 c).arrAt 2 cfg0.N : S1024x256.Idx → EReal) = tn ct p := by
  have e_main_v1 : (V m c main_v1 : S8192x1024.Idx → EReal) = flatA ct := by
    rw [← hct]
    exact flat8 _ shapeCasts_S4x2048x1024_S8192x1024
  have e_main_v3 : (V m c main_v3 : S8192x256.Idx → EReal) = flatA p := by
    rw [← hp]
    exact flat8 _ shapeCasts_S4x2048x256_S8192x256
  exact array m c _ _ e_main_v1 e_main_v3

end

open Cert.Reference9Ideal Cert.Reference9Ideal.Gen in
/-- The reference's array. -/
theorem ref (ct : Arr ⟨3, ![4, 2048, 1024]⟩) (p : Arr ⟨3, ![4, 2048, 256]⟩) :
    (truncf (F := Ideal) .bf16 (transpose S1024x256 [1, 0] (transpose S256x1024 [1, 0] (Host.dotGeneral (F := Ideal) (φ₁ := .f32) (φ₂ := .f32) dot_S4x2048x1024_S4x2048x256_S1024x256_01_01_2_2_n_n none ct p) transposes_S1024x256_S256x1024_1_0) transposes_S256x1024_S1024x256_1_0) bitsLt_bf16_f32 : S1024x256.Idx → EReal) = tn ct p := by
  refine (swap (R := 256) (C := 1024) (transpose S256x1024 [1, 0] (Host.dotGeneral (F := Ideal) (φ₁ := .f32) (φ₂ := .f32) dot_S4x2048x1024_S4x2048x256_S1024x256_01_01_2_2_n_n none ct p) transposes_S1024x256_S256x1024_1_0) transposes_S256x1024_S1024x256_1_0).trans ?_
  rw [swap (R := 1024) (C := 256), host_tn3 (B := 4) (S := 2048) (M := 1024) (N := 256) _ rfl rfl rfl rfl rfl rfl]
  rfl

theorem algebraic : Cert.algebraic_Kernel9Ideal_Reference9Ideal := by
  intro m ρ m' ρ' hpre hagree
  refine ⟨_, Cert.Kernel9Ideal.Value.run_blocks (F := Ideal) m ρ, ?_⟩
  refine (θ_run Cert.Reference9Ideal.defs _ _).mono (fun _ h c => ?_) (Cert.Reference9Ideal.Value.run (F := Ideal) m' ρ')
  obtain ⟨e0, e1⟩ := hagree c
  exact ⟨(h c).1.trans ((ref _ _).trans (ker m c _ _ e0.symm e1.symm).symm), (h c).2⟩

end Cert.DPleWp

end
-- ==== Proof.InProj.Geometry.lean ====
/- Where the blocks of the grid lie: what a point reads of each array, and that the written blocks fill the results. -/
module

public import proofs.«01_k».proof.Proof.Gen.Kernel10Ideal.Value
public import proofs.«01_k».proof.Proof.Lift.Norm
public import proofs.«01_k».proof.Proof.Lift.Place

@[expose] public section

noncomputable section

namespace Cert.InProj

open Cert.Kernel10Ideal Cert.Kernel10Ideal.Gen Cert.Ext Idealize.ShloMosaic Idealize.ShloMosaic.TcCoe Idealize.SL.Sem Cert.Lift Idealize.ShloMosaic.ValueIdx
open Idealize.ShloMosaic.Pipeline (Dat)

variable (m : (ℓ : Loc nD τ sig) → Buf (Elt Ideal) ℓ) (c : Dev nD)

theorem hN : cfg0.N = 16 := N_0

/-! ### The input blocks -/

theorem idx0_0 : ∀ t : Fin cfg0.N, win0_0.index t 0 = t.val := by decide +kernel
theorem idx0_1 : ∀ t : Fin cfg0.N, win0_0.index t 1 = 0 := by decide +kernel
theorem rd0 (t : Fin cfg0.N) (a : S8192x1024.Idx → EReal) (h : (V m c main_v0 : S8192x1024.Idx → EReal) = a) :
    (iblk m c 0 t : S512x1024.Idx → EReal) = fun y => a (ix2 (Fin.ofNat 8192 (t.val * 512 + (r0 y).val)) (Fin.ofNat 1024 (0 * 1024 + (c1 y).val))) := by
  have ht : t.val < 16 := hN ▸ t.isLt
  funext y
  unfold iblk
  rw [View.read_apply]
  exact (congrFun h _).trans (congrArg a (place _ y _ _ _ _ (idx0_0 t) (idx0_1 t) (by omega) (by omega) rfl rfl))

theorem idx1_0 : ∀ t : Fin cfg0.N, win0_1.index t 0 = 0 := by decide +kernel
theorem idx1_1 : ∀ t : Fin cfg0.N, win0_1.index t 1 = 0 := by decide +kernel
theorem rd1 (t : Fin cfg0.N) (a : S1x1024.Idx → EReal) (h : (V m c main_v1 : S1x1024.Idx → EReal) = a) :
    (iblk m c 1 t : S1x1024.Idx → EReal) = fun y => a (ix2 (Fin.ofNat 1 (0 * 1 + (r0 y).val)) (Fin.ofNat 1024 (0 * 1024 + (c1 y).val))) := by
  have ht : t.val < 16 := hN ▸ t.isLt
  funext y
  unfold iblk
  rw [View.read_apply]
  exact (congrFun h _).trans (congrArg a (place _ y _ _ _ _ (idx1_0 t) (idx1_1 t) (by omega) (by omega) rfl rfl))

theorem idx2_0 : ∀ t : Fin cfg0.N, win0_2.index t 0 = 0 := by decide +kernel
theorem idx2_1 : ∀ t : Fin cfg0.N, win0_2.index t 1 = 0 := by decide +kernel
theorem rd2 (t : Fin cfg0.N) (a : S3200x1024.Idx → EReal) (h : (V m c main_v3 : S3200x1024.Idx → EReal) = a) :
    (iblk m c 2 t : S3200x1024.Idx → EReal) = fun y => a (ix2 (Fin.ofNat 3200 (0 * 3200 + (r0 y).val)) (Fin.ofNat 1024 (0 * 1024 + (c1 y).val))) := by
  have ht : t.val < 16 := hN ▸ t.isLt
  funext y
  unfold iblk
  rw [View.read_apply]
  exact (congrFun h _).trans (congrArg a (place _ y _ _ _ _ (idx2_0 t) (idx2_1 t) (by omega) (by omega) rfl rfl))

/-! ### The output arrays -/

theorem idx3_0 : ∀ t : Fin cfg0.N, win0_3.index t 0 = t.val := by decide +kernel
theorem idx3_1 : ∀ t : Fin cfg0.N, win0_3.index t 1 = 0 := by decide +kernel
theorem arr3 (p : Fin cfg0.N → S512x1024.Idx → EReal) (G : S8192x1024.Idx → EReal)
    (hp : ∀ t, (cfg0.win 3).flush t = true → ((dats m 0 c).after 3 t : S512x1024.Idx → EReal) = p t)
    (hG : ∀ t, (cfg0.win 3).flush t = true → ∀ y, p t y = G (ix2 (Fin.ofNat 8192 (t.val * 512 + (r0 y).val)) (Fin.ofNat 1024 (0 * 1024 + (c1 y).val)))) :
    ((dats m 0 c).arrAt 3 cfg0.N : S8192x1024.Idx → EReal) = G := by
  refine (dats m 0 c).arrAt_eq_of_cover 3 G (fun t hf => ?_) fun i => ?_
  · have ht : t.val < 16 := hN ▸ t.isLt
    refine funext fun (y : S512x1024.Idx) => ?_
    refine (congrFun (hp t hf) y).trans ?_
    rw [View.read_apply]
    exact (hG t hf y).trans (congrArg G (place _ y _ _ _ _ (idx3_0 t) (idx3_1 t) (by omega) (by omega) rfl rfl).symm)
  · have h0 : (i 0 : Nat) < 8192 := (i 0).isLt
    have h1 : (i 1 : Nat) < 1024 := (i 1).isLt
    have hlt : (i 0 : Nat) / 512 < cfg0.N := by rw [hN]; omega
    refine ⟨⟨(i 0 : Nat) / 512, hlt⟩, flush0_3 ⟨_, hlt⟩, ?_⟩
    show i ∈ ((View.whole main_v4_0).slice (win0_3.rect ⟨(i 0 : Nat) / 512, hlt⟩)).set
    rw [View.set_slice_whole, Rect.mem_set_unit]
    exact both (within (T := 512) (((i 0 : Nat) / 512)) (idx3_0 _) (by omega)) (within (T := 1024) (0) (idx3_1 _) (by omega))

theorem idx4_0 : ∀ t : Fin cfg0.N, win0_4.index t 0 = t.val := by decide +kernel
theorem idx4_1 : ∀ t : Fin cfg0.N, win0_4.index t 1 = 0 := by decide +kernel
theorem arr4 (p : Fin cfg0.N → S512x3200.Idx → EReal) (G : S8192x3200.Idx → EReal)
    (hp : ∀ t, (cfg0.win 4).flush t = true → ((dats m 0 c).after 4 t : S512x3200.Idx → EReal) = p t)
    (hG : ∀ t, (cfg0.win 4).flush t = true → ∀ y, p t y = G (ix2 (Fin.ofNat 8192 (t.val * 512 + (r0 y).val)) (Fin.ofNat 3200 (0 * 3200 + (c1 y).val)))) :
    ((dats m 0 c).arrAt 4 cfg0.N : S8192x3200.Idx → EReal) = G := by
  refine (dats m 0 c).arrAt_eq_of_cover 4 G (fun t hf => ?_) fun i => ?_
  · have ht : t.val < 16 := hN ▸ t.isLt
    refine funext fun (y : S512x3200.Idx) => ?_
    refine (congrFun (hp t hf) y).trans ?_
    rw [View.read_apply]
    exact (hG t hf y).trans (congrArg G (place _ y _ _ _ _ (idx4_0 t) (idx4_1 t) (by omega) (by omega) rfl rfl).symm)
  · have h0 : (i 0 : Nat) < 8192 := (i 0).isLt
    have h1 : (i 1 : Nat) < 3200 := (i 1).isLt
    have hlt : (i 0 : Nat) / 512 < cfg0.N := by rw [hN]; omega
    refine ⟨⟨(i 0 : Nat) / 512, hlt⟩, flush0_4 ⟨_, hlt⟩, ?_⟩
    show i ∈ ((View.whole main_v4_1).slice (win0_4.rect ⟨(i 0 : Nat) / 512, hlt⟩)).set
    rw [View.set_slice_whole, Rect.mem_set_unit]
    exact both (within (T := 512) (((i 0 : Nat) / 512)) (idx4_0 _) (by omega)) (within (T := 3200) (0) (idx4_1 _) (by omega))

end Cert.InProj

end
-- ==== Proof.InProj.Value.lean ====
/- The two arrays the call returns, index by index: the normalised rows and their product. -/
module

public import proofs.«01_k».proof.Proof.InProj.Geometry

@[expose] public section

noncomputable section

namespace Cert.InProj

open Cert.Kernel10Ideal Cert.Kernel10Ideal.Gen Cert.Ext Idealize.ShloMosaic Idealize.ShloMosaic.TcCoe Idealize.SL.Sem Cert.Lift Idealize.ShloMosaic.ValueIdx

theorem rows (x0 : S512x1024.Idx → EReal) (x1 : S1x1024.Idx → EReal) :
    (k0_pay1 (F := Ideal) x0 x1 : S512x1024.Idx → EReal) = rowNorm x0 x1 := by
  unfold k0_pay1
  dsimp only
  rw [shapeCast_self, shapeCast_self]
  exact blk_norm x0 x1 _ _ _ _ _ _ _

theorem block4 (x0 : S512x1024.Idx → EReal) (x1 : S1x1024.Idx → EReal) (x2 : S3200x1024.Idx → EReal) :
    (out0_3 (F := Ideal) x0 x1 x2 : S512x1024.Idx → EReal) = rowNorm x0 x1 := by
  unfold out0_3
  rw [View.canon_unit_zero hz, View.ld_unit_zero (S := S512x1024) hz, View.ld_unit_zero (S := S1x1024) hz]
  exact rows x0 x1

theorem block5 (x0 : S512x1024.Idx → EReal) (x1 : S1x1024.Idx → EReal) (x2 : S3200x1024.Idx → EReal) :
    (out0_4 (F := Ideal) x0 x1 x2 : S512x3200.Idx → EReal) = fun j => ∑ k : Fin 1024, rowNorm x0 x1 (ix2 (r0 j) k) * x2 (ix2 (c1 j) k) := by
  unfold out0_4
  rw [View.canon_unit_zero hz, View.ld_unit_zero (S := S512x1024) hz, View.ld_unit_zero (S := S1x1024) hz, View.ld_unit_zero (S := S3200x1024) hz]
  unfold k0_pay2
  rw [shapeCast_self, rows]
  exact matmul_nt _ rfl rfl rfl rfl rfl rfl _ (rowNorm x0 x1) x2

variable (m : (ℓ : Loc nD τ sig) → Buf (Elt Ideal) ℓ) (c : Dev nD)
  (r : Arr S4x2048x1024) (g : Arr S1024) (wg : Arr S1024x3200)
  (hr : m ((c : Thread nD τ).loc main_arg0) = r) (hg : m ((c : Thread nD τ).loc main_arg1) = g)
  (h2 : m ((c : Thread nD τ).loc main_arg2) = wg)
include hr hg h2

theorem reads : (V m c main_v0 : S8192x1024.Idx → EReal) = flatA r ∧ (V m c main_v1 : S1x1024.Idx → EReal) = (fun j => g (ix1 (c1 j)))
    ∧ (V m c main_v3 : S3200x1024.Idx → EReal) = (fun j => wg (ix2 (c1 j) (r0 j))) := by
  refine ⟨?_, ?_, ?_⟩
  · rw [← hr]; exact flat8 (m ((c : Thread nD τ).loc main_arg0)) shapeCasts_S4x2048x1024_S8192x1024
  · rw [← hg]; exact asRow (m ((c : Thread nD τ).loc main_arg1)) shapeCasts_S1024_S1x1024
  · rw [← h2]; exact swap (m ((c : Thread nD τ).loc main_arg2)) transposes_S1024x3200_S3200x1024_1_0

theorem array3 : ((dats m 0 c).arrAt 3 cfg0.N : S8192x1024.Idx → EReal) = flatA (norm r g) := by
  obtain ⟨e0, e1, e2⟩ := reads m c r g wg hr hg h2
  refine arr3 m c _ _ (fun t _ => ((after0_3 m c t).trans (congr3 (out0_3 (F := Ideal)) (rd0 m c t _ e0) (rd1 m c t _ e1) (rd2 m c t _ e2))).trans (block4 _ _ _)) (fun t _ y => ?_)
  simp only [ofNat_fst, rowNorm]
  rfl

theorem array4 : ((dats m 0 c).arrAt 4 cfg0.N : S8192x3200.Idx → EReal) = mm (flatA (norm r g)) wg := by
  obtain ⟨e0, e1, e2⟩ := reads m c r g wg hr hg h2
  refine arr4 m c _ _ (fun t _ => ((after0_4 m c t).trans (congr3 (out0_4 (F := Ideal)) (rd0 m c t _ e0) (rd1 m c t _ e1) (rd2 m c t _ e2))).trans (block5 _ _ _)) (fun t _ y => ?_)
  simp only [ofNat_fst, rowNorm]
  rfl

end Cert.InProj

end
-- ==== Proof.InProj.Claims.lean ====
/- The claims about the forward norm and the input projection. -/
module

public import proofs.«01_k».proof.Defs
public import proofs.«01_k».proof.Proof.InProj.Value
public import proofs.«01_k».proof.Proof.Gen.Kernel10.Frame
public import proofs.«01_k».proof.Proof.Gen.Reference10Ideal.Run
public import Idealize.ShloMosaic.Adequacy
public import Idealize.ShloMosaic.Init

@[expose] public section

noncomputable section

namespace Cert.InProj

open Idealize.ShloMosaic Idealize.ShloMosaic.TcCoe Idealize.SL.Sem Cert.Ext Cert.Lift Idealize.ShloMosaic.ValueIdx

theorem frame_p : Cert.quiescent_Kernel10 := fun m ρ _ => Cert.Kernel10.Gen.frame m ρ
theorem frame_pi : Cert.quiescent_Kernel10Ideal := fun m ρ _ => Cert.Kernel10Ideal.Gen.frame m ρ
theorem frame_ri : Cert.quiescent_Reference10Ideal := fun m ρ _ => (θ_run Cert.Reference10Ideal.defs _ _).mono (fun r h => ⟨fun c => (h c).2.2,
      Idealize.ShloMosaic.sem_eq_zero_of_no_sems (by decide) r.2⟩)
    (Cert.Reference10Ideal.Value.run (F := Ideal) m ρ)

theorem preserves : Cert.preserves_Kernel10_Kernel10Ideal := trivial

section
open Cert.Reference10Ideal Cert.Reference10Ideal.Gen
variable (r : Arr S4x2048x1024) (g : Arr S1024) (w : Arr S1024x3200)

/-- The reference's normalised rows. -/
theorem ref_h : (truncf (F := Ideal) (φ := .f32) .bf16 (shapeCast S8192x1024 (mulf (F := Ideal) (φ := .f32) (mulf (F := Ideal) (φ := .f32) r (broadcastInDim S4x2048x1024 ![0, 1, 2] bcast_S4x2048x1_S4x2048x1024_0_1_2 (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 g))) shapeCasts_S4x2048x1024_S8192x1024) bitsLt_bf16_f32 : S8192x1024.Idx → EReal) = flatA (norm r g) := by
  rw [host_norm (B := 4) (R := 2048) (C := 1024) r g reducesTo_S4x2048x1024_S4x2048_d2 h_S_ bcast_S4x2048_S4x2048x1_0_1 bcast_S4x2048x1_S4x2048x1024_0_1_2 S_ S_ ![] ![] bcast_S_S4x2048x1 bcast_S_S4x2048x1 bcast_S1x1x1024_S4x2048x1024_0_1_2 bcast_S1024_S1x1x1024_2]
  exact flat8 (norm r g) shapeCasts_S4x2048x1024_S8192x1024

/-- The reference's product. -/
theorem ref_w : (shapeCast S8192x3200 (Host.dotGeneral (F := Ideal) (φ₁ := .f32) (φ₂ := .f32) dot_S4x2048x1024_S1024x3200_S4x2048x3200_2_0_01_1_n_n none (mulf (F := Ideal) (φ := .f32) (mulf (F := Ideal) (φ := .f32) r (broadcastInDim S4x2048x1024 ![0, 1, 2] bcast_S4x2048x1_S4x2048x1024_0_1_2 (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 g))) w) shapeCasts_S4x2048x3200_S8192x3200 : S8192x3200.Idx → EReal)
    = mm (flatA (norm r g)) w := by
  rw [host_norm (B := 4) (R := 2048) (C := 1024) r g reducesTo_S4x2048x1024_S4x2048_d2 h_S_ bcast_S4x2048_S4x2048x1_0_1 bcast_S4x2048x1_S4x2048x1024_0_1_2 S_ S_ ![] ![] bcast_S_S4x2048x1 bcast_S_S4x2048x1 bcast_S1x1x1024_S4x2048x1024_0_1_2 bcast_S1024_S1x1x1024_2]
  exact host_mm _ rfl rfl rfl rfl rfl rfl _ (norm r g) w _

end

theorem algebraic : Cert.algebraic_Kernel10Ideal_Reference10Ideal := by
  intro m ρ m' ρ' hpre hagree
  refine ⟨_, _, Cert.Kernel10Ideal.Value.run_blocks (F := Ideal) m ρ, ?_⟩
  refine (θ_run Cert.Reference10Ideal.defs _ _).mono (fun _ h c => ?_) (Cert.Reference10Ideal.Value.run (F := Ideal) m' ρ')
  obtain ⟨e0, e1, e2⟩ := hagree c
  exact ⟨(h c).1.trans ((ref_h _ _).trans (array3 m c _ _ _ e0.symm e1.symm e2.symm).symm),
    (h c).2.1.trans ((ref_w _ _ _).trans (array4 m c _ _ _ e0.symm e1.symm e2.symm).symm), (h c).2.2⟩

end Cert.InProj

end
-- ==== Proof.DWIn.Geometry.lean ====
/- Where the blocks of the grid lie: what a point reads of each array, and that the written block fills the result. -/
module

public import proofs.«01_k».proof.Proof.Gen.Kernel11Ideal.Value
public import proofs.«01_k».proof.Proof.Lift.Norm
public import proofs.«01_k».proof.Proof.Lift.Place

@[expose] public section

noncomputable section

namespace Cert.DWIn

open Cert.Kernel11Ideal Cert.Kernel11Ideal.Gen Cert.Ext Idealize.ShloMosaic Idealize.ShloMosaic.TcCoe Idealize.SL.Sem Cert.Lift Idealize.ShloMosaic.ValueIdx
open Idealize.ShloMosaic.Pipeline (Dat)

variable (m : (ℓ : Loc nD τ sig) → Buf (Elt Ideal) ℓ) (c : Dev nD)

theorem hN : cfg0.N = 8 := N_0

/-! ### The input blocks -/

theorem idx0_0 : ∀ t : Fin cfg0.N, win0_0.index t 0 = t.val := by decide +kernel
theorem idx0_1 : ∀ t : Fin cfg0.N, win0_0.index t 1 = 0 := by decide +kernel
theorem rd0 (t : Fin cfg0.N) (a : S8192x3200.Idx → EReal) (h : (V m c main_v1 : S8192x3200.Idx → EReal) = a) :
    (iblk m c 0 t : S1024x3200.Idx → EReal) = fun y => a (ix2 (Fin.ofNat 8192 (t.val * 1024 + (r0 y).val)) (Fin.ofNat 3200 (0 * 3200 + (c1 y).val))) := by
  have ht : t.val < 8 := hN ▸ t.isLt
  funext y
  unfold iblk
  rw [View.read_apply]
  exact (congrFun h _).trans (congrArg a (place _ y _ _ _ _ (idx0_0 t) (idx0_1 t) (by omega) (by omega) rfl rfl))

theorem idx1_0 : ∀ t : Fin cfg0.N, win0_1.index t 0 = t.val := by decide +kernel
theorem idx1_1 : ∀ t : Fin cfg0.N, win0_1.index t 1 = 0 := by decide +kernel
theorem rd1 (t : Fin cfg0.N) (a : S8192x1024.Idx → EReal) (h : (V m c main_v16 : S8192x1024.Idx → EReal) = a) :
    (iblk m c 1 t : S1024x1024.Idx → EReal) = fun y => a (ix2 (Fin.ofNat 8192 (t.val * 1024 + (r0 y).val)) (Fin.ofNat 1024 (0 * 1024 + (c1 y).val))) := by
  have ht : t.val < 8 := hN ▸ t.isLt
  funext y
  unfold iblk
  rw [View.read_apply]
  exact (congrFun h _).trans (congrArg a (place _ y _ _ _ _ (idx1_0 t) (idx1_1 t) (by omega) (by omega) rfl rfl))

/-! ### The output arrays -/

theorem idx2_0 : ∀ t : Fin cfg0.N, win0_2.index t 0 = 0 := by decide +kernel
theorem idx2_1 : ∀ t : Fin cfg0.N, win0_2.index t 1 = 0 := by decide +kernel
theorem arr2 (p : Fin cfg0.N → S3200x1024.Idx → EReal) (G : S3200x1024.Idx → EReal)
    (hp : ∀ t, (cfg0.win 2).flush t = true → ((dats m 0 c).after 2 t : S3200x1024.Idx → EReal) = p t)
    (hG : ∀ t, (cfg0.win 2).flush t = true → ∀ y, p t y = G (ix2 (Fin.ofNat 3200 (0 * 3200 + (r0 y).val)) (Fin.ofNat 1024 (0 * 1024 + (c1 y).val)))) :
    ((dats m 0 c).arrAt 2 cfg0.N : S3200x1024.Idx → EReal) = G := by
  refine (dats m 0 c).arrAt_eq_of_cover 2 G (fun t hf => ?_) fun i => ?_
  · have ht : t.val < 8 := hN ▸ t.isLt
    refine funext fun (y : S3200x1024.Idx) => ?_
    refine (congrFun (hp t hf) y).trans ?_
    rw [View.read_apply]
    exact (hG t hf y).trans (congrArg G (place _ y _ _ _ _ (idx2_0 t) (idx2_1 t) (by omega) (by omega) rfl rfl).symm)
  · have h0 : (i 0 : Nat) < 3200 := (i 0).isLt
    have h1 : (i 1 : Nat) < 1024 := (i 1).isLt
    have hlt : 7 < cfg0.N := by rw [hN]; omega
    refine ⟨⟨7, hlt⟩, (flush0_2 ⟨_, hlt⟩).mpr (by show (7) % 8 = 7; omega), ?_⟩
    show i ∈ ((View.whole main_v17).slice (win0_2.rect ⟨7, hlt⟩)).set
    rw [View.set_slice_whole, Rect.mem_set_unit]
    exact both (within (T := 3200) (0) (idx2_0 _) (by omega)) (within (T := 1024) (0) (idx2_1 _) (by omega))

end Cert.DWIn

end
-- ==== Proof.DWIn.Value.lean ====
/- The gradient of the input projection weight: what each point leaves, and the array the call returns. -/
module

public import proofs.«01_k».proof.Proof.DWIn.Geometry

@[expose] public section

noncomputable section

namespace Cert.DWIn

open Cert.Kernel11Ideal Cert.Kernel11Ideal.Gen Cert.Ext Idealize.ShloMosaic Idealize.ShloMosaic.TcCoe Idealize.ShloMosaic.Tactic Idealize.SL.Sem Cert.Lift Idealize.ShloMosaic.ValueIdx

theorem zeros : (k0_pay1 (F := Ideal) : S3200x1024.Idx → EReal) = fun _ => 0 := by
  unfold k0_pay1
  dsimp only
  rw [shapeCast_self]
  funext j
  exact zeroF

theorem step (a : S3200x1024.Idx → EReal) (x0 : S1024x3200.Idx → EReal) (x1 : S1024x1024.Idx → EReal) :
    (k0_pay2 (F := Ideal) a x0 x1 : S3200x1024.Idx → EReal) = fun j => a j + ∑ k : Fin 1024, x0 (ix2 k (r0 j)) * x1 (ix2 k (c1 j)) := by
  unfold k0_pay2
  funext j
  rw [shapeCast_self, shapeCast_self, shapeCast_self]
  exact congrArg (a j + ·) (congrFun (matmul_tn _ rfl rfl rfl rfl rfl rfl _ x0 x1) j)

theorem last (a : S3200x1024.Idx → EReal) : (k0_pay3 (F := Ideal) a : S3200x1024.Idx → EReal) = a := rfl

section
variable {c : Dev nD} {i : grid0.Coords} {arg2 : Memref sig .tc .vmem S1024x3200 .bf16} {harg2 : arg2.IsWhole} {arg3 : Memref sig .tc .vmem S1024x1024 .bf16} {harg3 : arg3.IsWhole} {arg4 : Memref sig .tc .vmem S3200x1024 .bf16} {harg4 : arg4.IsWhole} {arg5 : Memref sig .tc .vmem S3200x1024 .f32} {harg5 : arg5.IsWhole}
  (x0 : Vec Ideal S1024x3200 .bf16) (x1 : Vec Ideal S1024x1024 .bf16) (xs0 : Vec Ideal S3200x1024 .f32)

theorem accA (hc0 : cond0_0 i) (hc1 : ¬cond0_1 i) :
    sout0_A_0 (F := Ideal) c i arg2 harg2 arg3 harg3 arg4 harg4 arg5 harg5 hc0 hc1 x0 x1 = k0_pay2 (F := Ideal) (k0_pay1 (F := Ideal)) x0 x1 := by
  unfold sout0_A_0
  rw [View.read_writes_eq_canon _ _ _ (scover0_A_0 (F := Ideal) c i arg2 harg2 arg3 harg3 arg4 harg4 arg5 harg5 hc0 hc1 x0 x1)]
  unfold kernelRun0_A
  dsimp only
  sl_unfold_words
  first | rw [View.canon_unit_zero hz] | rw [View.canon_cons_unit_zero (S := S3200x1024) hz]
  simp only [View.readAt_eq_ld, harg2.read_unread, harg3.read_unread, harg4.read_unread, harg5.read_unread, View.ld_unit_zero (S := S1024x3200) hz, View.ld_unit_zero (S := S1024x1024) hz, View.ld_unit_zero (S := S3200x1024) hz]
  congr 1
  exact View.readCov_unit_zero (S := S3200x1024) _ hz _ _

theorem accB (hc0 : ¬cond0_0 i) (hc1 : ¬cond0_1 i) :
    sout0_B_0 (F := Ideal) c i arg2 harg2 arg3 harg3 arg4 harg4 arg5 harg5 hc0 hc1 x0 x1 xs0 = k0_pay2 (F := Ideal) xs0 x0 x1 := by
  unfold sout0_B_0
  rw [View.read_writes_eq_canon _ _ _ (scover0_B_0 (F := Ideal) c i arg2 harg2 arg3 harg3 arg4 harg4 arg5 harg5 hc0 hc1 x0 x1 xs0)]
  unfold kernelRun0_B
  dsimp only
  sl_unfold_words
  first | rw [View.canon_unit_zero hz] | rw [View.canon_cons_unit_zero (S := S3200x1024) hz]
  simp only [View.readAt_eq_ld, harg2.read_unread, harg3.read_unread, harg4.read_unread, harg5.read_unread, View.ld_unit_zero (S := S1024x3200) hz, View.ld_unit_zero (S := S1024x1024) hz, View.ld_unit_zero (S := S3200x1024) hz]

theorem outC (hc0 : ¬cond0_0 i) (hc1 : cond0_1 i) :
    out0_C_2 (F := Ideal) c i arg2 harg2 arg3 harg3 arg4 harg4 arg5 harg5 hc0 hc1 x0 x1 xs0 = k0_pay3 (F := Ideal) (k0_pay2 (F := Ideal) xs0 x0 x1) := by
  unfold out0_C_2
  rw [View.read_writes_eq_canon _ _ _ (cover0_C_2 (F := Ideal) c i arg2 harg2 arg3 harg3 arg4 harg4 arg5 harg5 hc0 hc1 x0 x1 xs0)]
  unfold kernelRun0_C
  dsimp only
  sl_unfold_words
  first | rw [View.canon_unit_zero hz] | rw [View.canon_cons_unit_zero (S := S3200x1024) hz]
  simp only [View.readAt_eq_ld, harg2.read_unread, harg3.read_unread, harg4.read_unread, harg5.read_unread, View.ld_unit_zero (S := S1024x3200) hz, View.ld_unit_zero (S := S1024x1024) hz, View.ld_unit_zero (S := S3200x1024) hz]
  congr 1
  exact View.readCov_unit_zero (S := S3200x1024) _ hz _ _

end

variable (m : (ℓ : Loc nD τ sig) → Buf (Elt Ideal) ℓ) (c : Dev nD) (X : Arr ⟨3, ![4, 2048, 3200]⟩) (Y : Arr ⟨3, ![4, 2048, 1024]⟩)
  (hX : (V m c main_v1 : S8192x3200.Idx → EReal) = flatA X) (hY : (V m c main_v16 : S8192x1024.Idx → EReal) = flatA Y)
include hX hY

theorem stepAt (a : S3200x1024.Idx → EReal) (t : Fin cfg0.N) :
    (k0_pay2 (F := Ideal) a (iblk m c 0 t) (iblk m c 1 t) : S3200x1024.Idx → EReal) = fun j => a j + tnBlock X Y t.val j := by
  refine (congr2 (k0_pay2 (F := Ideal) a) (rd0 m c t _ hX) (rd1 m c t _ hY)).trans ((step _ _ _).trans ?_)
  funext j
  simp only [ofNat_fst, tnBlock]
  rfl

omit hX hY in
theorem atA (t : Fin cfg0.N) (h0 : t.val % 8 = 0) (h1 : ¬t.val % 8 = 7) :
    (outsAt0 m c t.val t.isLt).2 = k0_pay2 (F := Ideal) (k0_pay1 (F := Ideal)) (iblk m c 0 t) (iblk m c 1 t) := by
  rw [outsAt0_A m c t h0 h1]
  dsimp only
  exact accA (c := c) (i := grid0.coords t) (x0 := iblk m c 0 t) (x1 := iblk m c 1 t) _ _

omit hX hY in
theorem atB (t : Fin cfg0.N) (h0 : ¬t.val % 8 = 0) (h1 : ¬t.val % 8 = 7) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h0 h1]
  dsimp only
  exact accB (c := c) (i := grid0.coords t) (x0 := iblk m c 0 t) (x1 := iblk m c 1 t) _ _ _

omit hX hY in
theorem atC (t : Fin cfg0.N) (h0 : ¬t.val % 8 = 0) (h1 : t.val % 8 = 7) :
    (outsAt0 m c t.val t.isLt).1 = k0_pay3 (F := Ideal) (k0_pay2 (F := Ideal) (outsAt0 m c (t.val - 1) (Nat.lt_of_le_of_lt (Nat.sub_le _ _) t.isLt)).2 (iblk m c 0 t) (iblk m c 1 t)) := by
  rw [outsAt0_C m c t h0 h1]
  dsimp only
  exact outC (c := c) (i := grid0.coords t) (x0 := iblk m c 0 t) (x1 := iblk m c 1 t) _ _ _

/-- The scratch after a point holds the sum of the blocks so far. -/
theorem acc : ∀ n h, n % 8 ≠ 7 → ((outsAt0 m c n h).2 : S3200x1024.Idx → EReal) = part 8 (tnBlock X Y) n := by
  refine sweep 8 (fun n h => n % 8 ≠ 7 → ((outsAt0 m c n h).2 : S3200x1024.Idx → EReal) = part 8 (tnBlock X Y) n) (fun n h h0 h1 => ?_) (fun n h h0 h' ih h1 => ?_)
  · rw [part_first 8 _ n h0]
    refine (atA m c ⟨n, h⟩ h0 h1).trans ?_
    refine (congr3 (k0_pay2 (F := Ideal)) zeros rfl rfl).trans ((stepAt m c X Y hX hY _ ⟨n, h⟩).trans ?_)
    funext j
    exact zero_add _
  · rw [← part_next 8 (tnBlock X Y) n h0 (by decide)]
    refine (atB m c ⟨n, h⟩ h0 h1).trans ?_
    exact (congr3 (k0_pay2 (F := Ideal)) (ih (by omega)) rfl rfl).trans (stepAt m c X Y hX hY _ ⟨n, h⟩)

theorem array : ((dats m 0 c).arrAt 2 cfg0.N : S3200x1024.Idx → EReal) = tn X Y := by
  refine arr2 m c (fun _ => tn X Y) _ (fun t hf => ?_) (fun t _ y => ?_)
  · have h1 := (flush0_2 t).mp hf
    have h0 : ¬t.val % 8 = 0 := by omega
    have hp : t.val - 1 < cfg0.N := Nat.lt_of_le_of_lt (Nat.sub_le _ _) t.isLt
    refine (after0_2 m c t).trans ((atC m c t h0 h1).trans ((last _).trans ?_))
    refine ((congr3 (k0_pay2 (F := Ideal)) (acc m c X Y hX hY (t.val - 1) hp (by omega)) rfl rfl).trans (stepAt m c X Y hX hY _ t)).trans ?_
    rw [part_next 8 (tnBlock X Y) t.val h0 (by decide)]
    funext j
    rw [part_last 8 _ _ (by omega)]
    have e : t.val - t.val % 8 = 0 := by have ht : t.val < 8 := hN ▸ t.isLt; omega
    simp only [e, zero_add]
    exact tn_blocks X Y j
  · rw [ofNat_fst, ofNat_fst]
    exact congrArg (tn X Y) (eq_rc y)

end Cert.DWIn

end
-- ==== Proof.DWIn.Claims.lean ====
/- The gradient of the input projection weight: the claims. -/
module

public import proofs.«01_k».proof.Defs
public import proofs.«01_k».proof.Proof.DWIn.Value
public import proofs.«01_k».proof.Proof.Gen.Kernel11.Frame
public import proofs.«01_k».proof.Proof.Gen.Reference11Ideal.Run
public import Idealize.ShloMosaic.Adequacy
public import Idealize.ShloMosaic.Init

@[expose] public section

noncomputable section

namespace Cert.DWIn

open Idealize.ShloMosaic Idealize.ShloMosaic.TcCoe Idealize.SL.Sem Cert.Ext Cert.Lift Idealize.ShloMosaic.ValueIdx

theorem frame_p : Cert.quiescent_Kernel11 := fun m ρ _ => Cert.Kernel11.Gen.frame m ρ
theorem frame_pi : Cert.quiescent_Kernel11Ideal := fun m ρ _ => Cert.Kernel11Ideal.Gen.frame m ρ
theorem frame_ri : Cert.quiescent_Reference11Ideal := fun m ρ _ => (θ_run Cert.Reference11Ideal.defs _ _).mono (fun r h => ⟨fun c => (h c).2,
      Idealize.ShloMosaic.sem_eq_zero_of_no_sems (by decide) r.2⟩)
    (Cert.Reference11Ideal.Value.run (F := Ideal) m ρ)

theorem preserves : Cert.preserves_Kernel11_Kernel11Ideal := trivial

section
open Cert.Kernel11Ideal Cert.Kernel11Ideal.Gen
variable (m : (ℓ : Loc nD τ sig) → Buf (Elt Ideal) ℓ) (c : Dev nD)

/-- The call's array, from the arguments. -/
theorem ker (ct : Arr ⟨3, ![4, 2048, 3200]⟩) (r : Arr ⟨3, ![4, 2048, 1024]⟩) (g : Arr ⟨1, ![1024]⟩)
    (hct : m ((c : Thread nD τ).loc main_arg0) = ct)
    (hr : m ((c : Thread nD τ).loc main_arg1) = r)
    (hg : m ((c : Thread nD τ).loc main_arg2) = g) :
    ((dats m 0 c).arrAt 2 cfg0.N : S3200x1024.Idx → EReal) = tn ct (norm r g) := by
  have e_main_v1 : (V m c main_v1 : S8192x3200.Idx → EReal) = flatA ct := by
    rw [← hct]
    exact flat8 _ shapeCasts_S4x2048x3200_S8192x3200
  have e_main_v16 : (V m c main_v16 : S8192x1024.Idx → EReal) = flatA (norm r g) := by
    show StableHlo.after hostOps0 (fun b => m (c, b)) (Proc.devRef .tc main_v16) = _
    simp only [hostOps0, List.flatten_cons, List.flatten_nil, List.append_nil, List.cons_append, List.nil_append]
    after_results
    have h1 : m (c, Proc.devRef .tc main_arg1) = r := hr
    have h2 : m (c, Proc.devRef .tc main_arg2) = g := hg
    rw [h1, h2]
    rw [host_norm (B := 4) (R := 2048) (C := 1024) r g reducesTo_S4x2048x1024_S4x2048_d2 h_S_
      bcast_S4x2048_S4x2048x1_0_1 bcast_S4x2048x1_S4x2048x1024_0_1_2 S_ S_ ![] ![] bcast_S_S4x2048x1 bcast_S_S4x2048x1 bcast_S1x1x1024_S4x2048x1024_0_1_2 bcast_S1024_S1x1x1024_2]
    exact flat8 (norm r g) shapeCasts_S4x2048x1024_S8192x1024
  exact array m c _ _ e_main_v1 e_main_v16

end

open Cert.Reference11Ideal Cert.Reference11Ideal.Gen in
/-- The reference's array. -/
theorem ref (ct : Arr ⟨3, ![4, 2048, 3200]⟩) (r : Arr ⟨3, ![4, 2048, 1024]⟩) (g : Arr ⟨1, ![1024]⟩) :
    (truncf (F := Ideal) .bf16 (transpose S3200x1024 [1, 0] (transpose S1024x3200 [1, 0] (Host.dotGeneral (F := Ideal) (φ₁ := .f32) (φ₂ := .f32) dot_S4x2048x3200_S4x2048x1024_S3200x1024_01_01_2_2_n_n none ct (mulf (F := Ideal) (φ := .f32) (mulf (F := Ideal) (φ := .f32) r (broadcastInDim S4x2048x1024 ![0, 1, 2] bcast_S4x2048x1_S4x2048x1024_0_1_2 (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))))) (broadcastInDim S4x2048x1024 ![0, 1, 2] bcast_S1x1x1024_S4x2048x1024_0_1_2 (broadcastInDim S1x1x1024 ![2] bcast_S1024_S1x1x1024_2 g)))) transposes_S3200x1024_S1024x3200_1_0) transposes_S1024x3200_S3200x1024_1_0) bitsLt_bf16_f32 : S3200x1024.Idx → EReal) = tn ct (norm r g) := by
  rw [host_norm (B := 4) (R := 2048) (C := 1024) r g reducesTo_S4x2048x1024_S4x2048_d2 h_S_ bcast_S4x2048_S4x2048x1_0_1 bcast_S4x2048x1_S4x2048x1024_0_1_2 S_ S_ ![] ![]
    bcast_S_S4x2048x1 bcast_S_S4x2048x1 bcast_S1x1x1024_S4x2048x1024_0_1_2 bcast_S1024_S1x1x1024_2]
  refine (swap (R := 1024) (C := 3200) (transpose S1024x3200 [1, 0] (Host.dotGeneral (F := Ideal) (φ₁ := .f32) (φ₂ := .f32) dot_S4x2048x3200_S4x2048x1024_S3200x1024_01_01_2_2_n_n none ct (norm r g)) transposes_S3200x1024_S1024x3200_1_0) transposes_S1024x3200_S3200x1024_1_0).trans ?_
  rw [swap (R := 3200) (C := 1024), host_tn3 (B := 4) (S := 2048) (M := 3200) (N := 1024) _ rfl rfl rfl rfl rfl rfl]
  rfl

theorem algebraic : Cert.algebraic_Kernel11Ideal_Reference11Ideal := by
  intro m ρ m' ρ' hpre hagree
  refine ⟨_, Cert.Kernel11Ideal.Value.run_blocks (F := Ideal) m ρ, ?_⟩
  refine (θ_run Cert.Reference11Ideal.defs _ _).mono (fun _ h c => ?_) (Cert.Reference11Ideal.Value.run (F := Ideal) m' ρ')
  obtain ⟨e0, e1, e2⟩ := hagree c
  exact ⟨(h c).1.trans ((ref _ _ _).trans (ker m c _ _ _ e0.symm e1.symm e2.symm).symm), (h c).2⟩

end Cert.DWIn

end
-- ==== Proof.InProjBwd.Geometry.lean ====
/- Where the blocks of the grid lie: what a point reads of each array, and that the written blocks fill the results. -/
module

public import proofs.«01_k».proof.Proof.Gen.Kernel12Ideal.Value
public import proofs.«01_k».proof.Proof.Lift.Rms
public import proofs.«01_k».proof.Proof.Lift.Place

@[expose] public section

noncomputable section

namespace Cert.InProjBwd

open Cert.Kernel12Ideal Cert.Kernel12Ideal.Gen Cert.Ext Idealize.ShloMosaic Idealize.ShloMosaic.TcCoe Idealize.SL.Sem Cert.Lift Idealize.ShloMosaic.ValueIdx
open Idealize.ShloMosaic.Pipeline (Dat)

variable (m : (ℓ : Loc nD τ sig) → Buf (Elt Ideal) ℓ) (c : Dev nD)

theorem hN : cfg0.N = 16 := N_0

/-! ### The input blocks -/

theorem idx0_0 : ∀ t : Fin cfg0.N, win0_0.index t 0 = t.val := by decide +kernel
theorem idx0_1 : ∀ t : Fin cfg0.N, win0_0.index t 1 = 0 := by decide +kernel
theorem rd0 (t : Fin cfg0.N) (a : S8192x1536.Idx → EReal) (h : (V m c main_v1 : S8192x1536.Idx → EReal) = a) :
    (iblk m c 0 t : S512x1536.Idx → EReal) = fun y => a (ix2 (Fin.ofNat 8192 (t.val * 512 + (r0 y).val)) (Fin.ofNat 1536 (0 * 1536 + (c1 y).val))) := by
  have ht : t.val < 16 := hN ▸ t.isLt
  funext y
  unfold iblk
  rw [View.read_apply]
  exact (congrFun h _).trans (congrArg a (place _ y _ _ _ _ (idx0_0 t) (idx0_1 t) (by omega) (by omega) rfl rfl))

theorem idx1_0 : ∀ t : Fin cfg0.N, win0_1.index t 0 = t.val := by decide +kernel
theorem idx1_1 : ∀ t : Fin cfg0.N, win0_1.index t 1 = 0 := by decide +kernel
theorem rd1 (t : Fin cfg0.N) (a : S8192x512.Idx → EReal) (h : (V m c main_v2 : S8192x512.Idx → EReal) = a) :
    (iblk m c 1 t : S512x512.Idx → EReal) = fun y => a (ix2 (Fin.ofNat 8192 (t.val * 512 + (r0 y).val)) (Fin.ofNat 512 (0 * 512 + (c1 y).val))) := by
  have ht : t.val < 16 := hN ▸ t.isLt
  funext y
  unfold iblk
  rw [View.read_apply]
  exact (congrFun h _).trans (congrArg a (place _ y _ _ _ _ (idx1_0 t) (idx1_1 t) (by omega) (by omega) rfl rfl))

theorem idx2_0 : ∀ t : Fin cfg0.N, win0_2.index t 0 = t.val := by decide +kernel
theorem idx2_1 : ∀ t : Fin cfg0.N, win0_2.index t 1 = 0 := by decide +kernel
theorem rd2 (t : Fin cfg0.N) (a : S8192x512.Idx → EReal) (h : (V m c main_v3 : S8192x512.Idx → EReal) = a) :
    (iblk m c 2 t : S512x512.Idx → EReal) = fun y => a (ix2 (Fin.ofNat 8192 (t.val * 512 + (r0 y).val)) (Fin.ofNat 512 (0 * 512 + (c1 y).val))) := by
  have ht : t.val < 16 := hN ▸ t.isLt
  funext y
  unfold iblk
  rw [View.read_apply]
  exact (congrFun h _).trans (congrArg a (place _ y _ _ _ _ (idx2_0 t) (idx2_1 t) (by omega) (by omega) rfl rfl))

theorem idx3_0 : ∀ t : Fin cfg0.N, win0_3.index t 0 = t.val := by decide +kernel
theorem idx3_1 : ∀ t : Fin cfg0.N, win0_3.index t 1 = 0 := by decide +kernel
theorem rd3 (t : Fin cfg0.N) (a : S8192x512.Idx → EReal) (h : (V m c main_v4 : S8192x512.Idx → EReal) = a) :
    (iblk m c 3 t : S512x512.Idx → EReal) = fun y => a (ix2 (Fin.ofNat 8192 (t.val * 512 + (r0 y).val)) (Fin.ofNat 512 (0 * 512 + (c1 y).val))) := by
  have ht : t.val < 16 := hN ▸ t.isLt
  funext y
  unfold iblk
  rw [View.read_apply]
  exact (congrFun h _).trans (congrArg a (place _ y _ _ _ _ (idx3_0 t) (idx3_1 t) (by omega) (by omega) rfl rfl))

theorem idx4_0 : ∀ t : Fin cfg0.N, win0_4.index t 0 = t.val := by decide +kernel
theorem idx4_1 : ∀ t : Fin cfg0.N, win0_4.index t 1 = 0 := by decide +kernel
theorem rd4 (t : Fin cfg0.N) (a : S8192x128.Idx → EReal) (h : (V m c main_v5 : S8192x128.Idx → EReal) = a) :
    (iblk m c 4 t : S512x128.Idx → EReal) = fun y => a (ix2 (Fin.ofNat 8192 (t.val * 512 + (r0 y).val)) (Fin.ofNat 128 (0 * 128 + (c1 y).val))) := by
  have ht : t.val < 16 := hN ▸ t.isLt
  funext y
  unfold iblk
  rw [View.read_apply]
  exact (congrFun h _).trans (congrArg a (place _ y _ _ _ _ (idx4_0 t) (idx4_1 t) (by omega) (by omega) rfl rfl))

theorem idx5_0 : ∀ t : Fin cfg0.N, win0_5.index t 0 = t.val := by decide +kernel
theorem idx5_1 : ∀ t : Fin cfg0.N, win0_5.index t 1 = 0 := by decide +kernel
theorem rd5 (t : Fin cfg0.N) (a : S8192x1024.Idx → EReal) (h : (V m c main_v6 : S8192x1024.Idx → EReal) = a) :
    (iblk m c 5 t : S512x1024.Idx → EReal) = fun y => a (ix2 (Fin.ofNat 8192 (t.val * 512 + (r0 y).val)) (Fin.ofNat 1024 (0 * 1024 + (c1 y).val))) := by
  have ht : t.val < 16 := hN ▸ t.isLt
  funext y
  unfold iblk
  rw [View.read_apply]
  exact (congrFun h _).trans (congrArg a (place _ y _ _ _ _ (idx5_0 t) (idx5_1 t) (by omega) (by omega) rfl rfl))

theorem idx6_0 : ∀ t : Fin cfg0.N, win0_6.index t 0 = t.val := by decide +kernel
theorem idx6_1 : ∀ t : Fin cfg0.N, win0_6.index t 1 = 0 := by decide +kernel
theorem rd6 (t : Fin cfg0.N) (a : S8192x1024.Idx → EReal) (h : (V m c main_v7 : S8192x1024.Idx → EReal) = a) :
    (iblk m c 6 t : S512x1024.Idx → EReal) = fun y => a (ix2 (Fin.ofNat 8192 (t.val * 512 + (r0 y).val)) (Fin.ofNat 1024 (0 * 1024 + (c1 y).val))) := by
  have ht : t.val < 16 := hN ▸ t.isLt
  funext y
  unfold iblk
  rw [View.read_apply]
  exact (congrFun h _).trans (congrArg a (place _ y _ _ _ _ (idx6_0 t) (idx6_1 t) (by omega) (by omega) rfl rfl))

theorem idx7_0 : ∀ t : Fin cfg0.N, win0_7.index t 0 = 0 := by decide +kernel
theorem idx7_1 : ∀ t : Fin cfg0.N, win0_7.index t 1 = 0 := by decide +kernel
theorem rd7 (t : Fin cfg0.N) (a : S1x1024.Idx → EReal) (h : (V m c main_v8 : S1x1024.Idx → EReal) = a) :
    (iblk m c 7 t : S1x1024.Idx → EReal) = fun y => a (ix2 (Fin.ofNat 1 (0 * 1 + (r0 y).val)) (Fin.ofNat 1024 (0 * 1024 + (c1 y).val))) := by
  have ht : t.val < 16 := hN ▸ t.isLt
  funext y
  unfold iblk
  rw [View.read_apply]
  exact (congrFun h _).trans (congrArg a (place _ y _ _ _ _ (idx7_0 t) (idx7_1 t) (by omega) (by omega) rfl rfl))

theorem idx8_0 : ∀ t : Fin cfg0.N, win0_8.index t 0 = 0 := by decide +kernel
theorem idx8_1 : ∀ t : Fin cfg0.N, win0_8.index t 1 = 0 := by decide +kernel
theorem rd8 (t : Fin cfg0.N) (a : S3200x1024.Idx → EReal) (h : (V m c main_v10 : S3200x1024.Idx → EReal) = a) :
    (iblk m c 8 t : S3200x1024.Idx → EReal) = fun y => a (ix2 (Fin.ofNat 3200 (0 * 3200 + (r0 y).val)) (Fin.ofNat 1024 (0 * 1024 + (c1 y).val))) := by
  have ht : t.val < 16 := hN ▸ t.isLt
  funext y
  unfold iblk
  rw [View.read_apply]
  exact (congrFun h _).trans (congrArg a (place _ y _ _ _ _ (idx8_0 t) (idx8_1 t) (by omega) (by omega) rfl rfl))

/-! ### The output arrays -/

theorem idx9_0 : ∀ t : Fin cfg0.N, win0_9.index t 0 = t.val := by decide +kernel
theorem idx9_1 : ∀ t : Fin cfg0.N, win0_9.index t 1 = 0 := by decide +kernel
theorem arr9 (p : Fin cfg0.N → S512x1024.Idx → EReal) (G : S8192x1024.Idx → EReal)
    (hp : ∀ t, (cfg0.win 9).flush t = true → ((dats m 0 c).after 9 t : S512x1024.Idx → EReal) = p t)
    (hG : ∀ t, (cfg0.win 9).flush t = true → ∀ y, p t y = G (ix2 (Fin.ofNat 8192 (t.val * 512 + (r0 y).val)) (Fin.ofNat 1024 (0 * 1024 + (c1 y).val)))) :
    ((dats m 0 c).arrAt 9 cfg0.N : S8192x1024.Idx → EReal) = G := by
  refine (dats m 0 c).arrAt_eq_of_cover 9 G (fun t hf => ?_) fun i => ?_
  · have ht : t.val < 16 := hN ▸ t.isLt
    refine funext fun (y : S512x1024.Idx) => ?_
    refine (congrFun (hp t hf) y).trans ?_
    rw [View.read_apply]
    exact (hG t hf y).trans (congrArg G (place _ y _ _ _ _ (idx9_0 t) (idx9_1 t) (by omega) (by omega) rfl rfl).symm)
  · have h0 : (i 0 : Nat) < 8192 := (i 0).isLt
    have h1 : (i 1 : Nat) < 1024 := (i 1).isLt
    have hlt : (i 0 : Nat) / 512 < cfg0.N := by rw [hN]; omega
    refine ⟨⟨(i 0 : Nat) / 512, hlt⟩, flush0_9 ⟨_, hlt⟩, ?_⟩
    show i ∈ ((View.whole main_v11_0).slice (win0_9.rect ⟨(i 0 : Nat) / 512, hlt⟩)).set
    rw [View.set_slice_whole, Rect.mem_set_unit]
    exact both (within (T := 512) (((i 0 : Nat) / 512)) (idx9_0 _) (by omega)) (within (T := 1024) (0) (idx9_1 _) (by omega))

theorem idx10_0 : ∀ t : Fin cfg0.N, win0_10.index t 0 = t.val := by decide +kernel
theorem idx10_1 : ∀ t : Fin cfg0.N, win0_10.index t 1 = 0 := by decide +kernel
theorem arr10 (p : Fin cfg0.N → S512x3200.Idx → EReal) (G : S8192x3200.Idx → EReal)
    (hp : ∀ t, (cfg0.win 10).flush t = true → ((dats m 0 c).after 10 t : S512x3200.Idx → EReal) = p t)
    (hG : ∀ t, (cfg0.win 10).flush t = true → ∀ y, p t y = G (ix2 (Fin.ofNat 8192 (t.val * 512 + (r0 y).val)) (Fin.ofNat 3200 (0 * 3200 + (c1 y).val)))) :
    ((dats m 0 c).arrAt 10 cfg0.N : S8192x3200.Idx → EReal) = G := by
  refine (dats m 0 c).arrAt_eq_of_cover 10 G (fun t hf => ?_) fun i => ?_
  · have ht : t.val < 16 := hN ▸ t.isLt
    refine funext fun (y : S512x3200.Idx) => ?_
    refine (congrFun (hp t hf) y).trans ?_
    rw [View.read_apply]
    exact (hG t hf y).trans (congrArg G (place _ y _ _ _ _ (idx10_0 t) (idx10_1 t) (by omega) (by omega) rfl rfl).symm)
  · have h0 : (i 0 : Nat) < 8192 := (i 0).isLt
    have h1 : (i 1 : Nat) < 3200 := (i 1).isLt
    have hlt : (i 0 : Nat) / 512 < cfg0.N := by rw [hN]; omega
    refine ⟨⟨(i 0 : Nat) / 512, hlt⟩, flush0_10 ⟨_, hlt⟩, ?_⟩
    show i ∈ ((View.whole main_v11_1).slice (win0_10.rect ⟨(i 0 : Nat) / 512, hlt⟩)).set
    rw [View.set_slice_whole, Rect.mem_set_unit]
    exact both (within (T := 512) (((i 0 : Nat) / 512)) (idx10_0 _) (by omega)) (within (T := 3200) (0) (idx10_1 _) (by omega))

theorem idx11_0 : ∀ t : Fin cfg0.N, win0_11.index t 0 = 0 := by decide +kernel
theorem idx11_1 : ∀ t : Fin cfg0.N, win0_11.index t 1 = 0 := by decide +kernel
theorem arr11 (p : Fin cfg0.N → S1x1024.Idx → EReal) (G : S1x1024.Idx → EReal)
    (hp : ∀ t, (cfg0.win 11).flush t = true → ((dats m 0 c).after 11 t : S1x1024.Idx → EReal) = p t)
    (hG : ∀ t, (cfg0.win 11).flush t = true → ∀ y, p t y = G (ix2 (Fin.ofNat 1 (0 * 1 + (r0 y).val)) (Fin.ofNat 1024 (0 * 1024 + (c1 y).val)))) :
    ((dats m 0 c).arrAt 11 cfg0.N : S1x1024.Idx → EReal) = G := by
  refine (dats m 0 c).arrAt_eq_of_cover 11 G (fun t hf => ?_) fun i => ?_
  · have ht : t.val < 16 := hN ▸ t.isLt
    refine funext fun (y : S1x1024.Idx) => ?_
    refine (congrFun (hp t hf) y).trans ?_
    rw [View.read_apply]
    exact (hG t hf y).trans (congrArg G (place _ y _ _ _ _ (idx11_0 t) (idx11_1 t) (by omega) (by omega) rfl rfl).symm)
  · have h0 : (i 0 : Nat) < 1 := (i 0).isLt
    have h1 : (i 1 : Nat) < 1024 := (i 1).isLt
    have hlt : 15 < cfg0.N := by rw [hN]; omega
    refine ⟨⟨15, hlt⟩, (flush0_11 ⟨_, hlt⟩).mpr (by show (15) % 16 = 15; omega), ?_⟩
    show i ∈ ((View.whole main_v11_2).slice (win0_11.rect ⟨15, hlt⟩)).set
    rw [View.set_slice_whole, Rect.mem_set_unit]
    exact both (within (T := 1) (0) (idx11_0 _) (by omega)) (within (T := 1024) (0) (idx11_1 _) (by omega))

end Cert.InProjBwd

end
-- ==== Proof.InProjBwd.Value.lean ====
/- The three arrays the call returns: the gradient of the rows, the cotangent gathered in one array, and the gradient of the gain. -/
module

public import proofs.«01_k».proof.Proof.InProjBwd.Geometry
public import Idealize.ShloMosaic.Lib.Pipeline.ValueKit.Tiles

@[expose] public section

noncomputable section

namespace Cert.InProjBwd

open Cert.Kernel12Ideal Cert.Kernel12Ideal.Gen Cert.Ext Idealize.ShloMosaic Idealize.ShloMosaic.TcCoe Idealize.ShloMosaic.Tactic Idealize.SL.Sem Cert.Lift Idealize.ShloMosaic.ValueIdx

/-- Five column ranges side by side. -/
def dpBlk (x0 : S512x1536.Idx → EReal) (x1 x2 x3 : S512x512.Idx → EReal) (x4 : S512x128.Idx → EReal) : S512x3200.Idx → EReal := fun j =>
  if (c1 j).val < 1536 then x0 (ix2 (r0 j) (Fin.ofNat 1536 (c1 j).val))
  else if (c1 j).val < 2048 then x1 (ix2 (r0 j) (Fin.ofNat 512 ((c1 j).val - 1536)))
  else if (c1 j).val < 2560 then x2 (ix2 (r0 j) (Fin.ofNat 512 ((c1 j).val - 2048)))
  else if (c1 j).val < 3072 then x3 (ix2 (r0 j) (Fin.ofNat 512 ((c1 j).val - 2560)))
  else x4 (ix2 (r0 j) (Fin.ofNat 128 ((c1 j).val - 3072)))

section
variable (x0 : Vec Ideal S512x1536 .f32) (x1 x2 x3 : Vec Ideal S512x512 .f32) (x4 : Vec Ideal S512x128 .f32)

theorem piece0 : (k0_pay2 (F := Ideal) x0 : S512x1536.Idx → EReal) = x0 := by
  unfold k0_pay2; dsimp only; rw [shapeCast_self]; rfl
theorem piece1 : (k0_pay3 (F := Ideal) x1 : S512x512.Idx → EReal) = x1 := by
  unfold k0_pay3; dsimp only; rw [shapeCast_self]; rfl
theorem piece2 : (k0_pay4 (F := Ideal) x2 : S512x512.Idx → EReal) = x2 := by
  unfold k0_pay4; dsimp only; rw [shapeCast_self]; rfl
theorem piece3 : (k0_pay5 (F := Ideal) x3 : S512x512.Idx → EReal) = x3 := by
  unfold k0_pay5; dsimp only; rw [shapeCast_self]; rfl
theorem piece4 : (k0_pay6 (F := Ideal) x4 : S512x128.Idx → EReal) = x4 := by
  unfold k0_pay6; dsimp only; rw [shapeCast_self]; rfl

/-- The five stores of a point, read together. -/
theorem five :
    View.canon ([⟨Rect.unit (s := S512x3200) ![0, 3072] S512x128.size inb_S512x3200_S512x128_0_3072, k0_pay6 (F := Ideal) x4⟩, ⟨Rect.unit (s := S512x3200) ![0, 2560] S512x512.size inb_S512x3200_S512x512_0_2560, k0_pay5 (F := Ideal) x3⟩, ⟨Rect.unit (s := S512x3200) ![0, 2048] S512x512.size inb_S512x3200_S512x512_0_2048, k0_pay4 (F := Ideal) x2⟩, ⟨Rect.unit (s := S512x3200) ![0, 1536] S512x512.size inb_S512x3200_S512x512_0_1536, k0_pay3 (F := Ideal) x1⟩, ⟨Rect.unit (s := S512x3200) ![0, 0] S512x1536.size inb_S512x3200_S512x1536_0_0, k0_pay2 (F := Ideal) x0⟩] : List (View.Piece (Elt Ideal) S512x3200 .bf16)) = (dpBlk x0 x1 x2 x3 x4 : S512x3200.Idx → EReal) := by
  funext j
  refine View.canon_eq_of_allAt _ j _ (View.cover_of_tiledBy _ ![512, 128] (by sl_kernel_rfl) j) ?_
  refine View.allAt_cons_unit _ _ _ _ _ (fun x hx => ?_) <| View.allAt_cons_unit _ _ _ _ _ (fun x hx => ?_) <| View.allAt_cons_unit _ _ _ _ _ (fun x hx => ?_) <|
    View.allAt_cons_unit _ _ _ _ _ (fun x hx => ?_) <| View.allAt_cons_unit _ _ _ _ _ (fun x hx => ?_) (fun p hp => absurd hp List.not_mem_nil)
  · have h0 : (r0 j).val = 0 + (x 0).val := hx 0
    have h1 : (c1 j).val = 3072 + (x 1).val := hx 1
    have hb : (x 1).val < 128 := (x 1).isLt
    refine (congrFun (piece4 x4) x).trans ?_
    unfold dpBlk
    rw [if_neg (by omega : ¬(c1 j).val < 1536), if_neg (by omega : ¬(c1 j).val < 2048), if_neg (by omega : ¬(c1 j).val < 2560), if_neg (by omega : ¬(c1 j).val < 3072)]
    refine congrArg x4 (funext fun d => Fin.ext ?_)
    match d with
    | ⟨0, _⟩ => show (x 0).val = (r0 j).val; omega
    | ⟨1, _⟩ => show (x 1).val = ((c1 j).val - 3072) % 128; omega
  · have h0 : (r0 j).val = 0 + (x 0).val := hx 0
    have h1 : (c1 j).val = 2560 + (x 1).val := hx 1
    have hb : (x 1).val < 512 := (x 1).isLt
    refine (congrFun (piece3 x3) x).trans ?_
    unfold dpBlk
    rw [if_neg (by omega : ¬(c1 j).val < 1536), if_neg (by omega : ¬(c1 j).val < 2048), if_neg (by omega : ¬(c1 j).val < 2560), if_pos (by omega : (c1 j).val < 3072)]
    refine congrArg x3 (funext fun d => Fin.ext ?_)
    match d with
    | ⟨0, _⟩ => show (x 0).val = (r0 j).val; omega
    | ⟨1, _⟩ => show (x 1).val = ((c1 j).val - 2560) % 512; omega
  · have h0 : (r0 j).val = 0 + (x 0).val := hx 0
    have h1 : (c1 j).val = 2048 + (x 1).val := hx 1
    have hb : (x 1).val < 512 := (x 1).isLt
    refine (congrFun (piece2 x2) x).trans ?_
    unfold dpBlk
    rw [if_neg (by omega : ¬(c1 j).val < 1536), if_neg (by omega : ¬(c1 j).val < 2048), if_pos (by omega : (c1 j).val < 2560)]
    refine congrArg x2 (funext fun d => Fin.ext ?_)
    match d with
    | ⟨0, _⟩ => show (x 0).val = (r0 j).val; omega
    | ⟨1, _⟩ => show (x 1).val = ((c1 j).val - 2048) % 512; omega
  · have h0 : (r0 j).val = 0 + (x 0).val := hx 0
    have h1 : (c1 j).val = 1536 + (x 1).val := hx 1
    have hb : (x 1).val < 512 := (x 1).isLt
    refine (congrFun (piece1 x1) x).trans ?_
    unfold dpBlk
    rw [if_neg (by omega : ¬(c1 j).val < 1536), if_pos (by omega : (c1 j).val < 2048)]
    refine congrArg x1 (funext fun d => Fin.ext ?_)
    match d with
    | ⟨0, _⟩ => show (x 0).val = (r0 j).val; omega
    | ⟨1, _⟩ => show (x 1).val = ((c1 j).val - 1536) % 512; omega
  · have h0 : (r0 j).val = 0 + (x 0).val := hx 0
    have h1 : (c1 j).val = 0 + (x 1).val := hx 1
    have hb : (x 1).val < 1536 := (x 1).isLt
    refine (congrFun (piece0 x0) x).trans ?_
    unfold dpBlk
    rw [if_pos (by omega : (c1 j).val < 1536)]
    refine congrArg x0 (funext fun d => Fin.ext ?_)
    match d with
    | ⟨0, _⟩ => show (x 0).val = (r0 j).val; omega
    | ⟨1, _⟩ => show (x 1).val = ((c1 j).val) % 1536; omega

theorem readFive {sig' : RefSig} {κ' : Kind} {sp : Space} (v : View sig' κ' sp S512x3200 .bf16) :
    v.readCov (Val := Elt Ideal) ([⟨Rect.unit (s := S512x3200) ![0, 3072] S512x128.size inb_S512x3200_S512x128_0_3072, k0_pay6 (F := Ideal) x4⟩, ⟨Rect.unit (s := S512x3200) ![0, 2560] S512x512.size inb_S512x3200_S512x512_0_2560, k0_pay5 (F := Ideal) x3⟩, ⟨Rect.unit (s := S512x3200) ![0, 2048] S512x512.size inb_S512x3200_S512x512_0_2048, k0_pay4 (F := Ideal) x2⟩, ⟨Rect.unit (s := S512x3200) ![0, 1536] S512x512.size inb_S512x3200_S512x512_0_1536, k0_pay3 (F := Ideal) x1⟩, ⟨Rect.unit (s := S512x3200) ![0, 0] S512x1536.size inb_S512x3200_S512x1536_0_0, k0_pay2 (F := Ideal) x0⟩] : List (View.Piece (Elt Ideal) S512x3200 .bf16)) (Rect.unit (s := S512x3200) ![0, 0] S512x3200.size inb_S512x3200_S512x3200_0_0).toLoadRect
      = (dpBlk x0 x1 x2 x3 x4 : S512x3200.Idx → EReal) := by
  rw [View.readCov_eq_canon', five]
  exact View.ld_unit_zero (Val := Elt Ideal) (e := .bf16) (S := S512x3200) hz _ (dpBlk x0 x1 x2 x3 x4)

end

/-! ### What a point stores -/

section
variable {c : Dev nD} {i : grid0.Coords} {arg1 : Memref sig .tc .vmem S512x1536 .f32} {harg1 : arg1.IsWhole} {arg2 : Memref sig .tc .vmem S512x512 .f32} {harg2 : arg2.IsWhole} {arg3 : Memref sig .tc .vmem S512x512 .f32} {harg3 : arg3.IsWhole} {arg4 : Memref sig .tc .vmem S512x512 .f32} {harg4 : arg4.IsWhole} {arg5 : Memref sig .tc .vmem S512x128 .f32} {harg5 : arg5.IsWhole} {arg6 : Memref sig .tc .vmem S512x1024 .f32} {harg6 : arg6.IsWhole} {arg7 : Memref sig .tc .vmem S512x1024 .f32} {harg7 : arg7.IsWhole} {arg8 : Memref sig .tc .vmem S1x1024 .f32} {harg8 : arg8.IsWhole} {arg9 : Memref sig .tc .vmem S3200x1024 .bf16} {harg9 : arg9.IsWhole} {arg10 : Memref sig .tc .vmem S512x1024 .f32} {harg10 : arg10.IsWhole} {arg11 : Memref sig .tc .vmem S512x3200 .bf16} {harg11 : arg11.IsWhole} {arg12 : Memref sig .tc .vmem S1x1024 .f32} {harg12 : arg12.IsWhole}
  (x0 : Vec Ideal S512x1536 .f32) (x1 x2 x3 : Vec Ideal S512x512 .f32) (x4 : Vec Ideal S512x128 .f32) (x5 x6 : Vec Ideal S512x1024 .f32) (x7 : Vec Ideal S1x1024 .f32) (x8 : Vec Ideal S3200x1024 .bf16) (xo11 : Vec Ideal S1x1024 .f32)

theorem blockA (hc0 : cond0_0 i) :
    out0_A_10 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 = (dpBlk x0 x1 x2 x3 x4) := by
  unfold out0_A_10
  rw [View.read_writes_eq_canon _ _ _ (cover0_A_10 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun0_A
  dsimp only
  sl_unfold_words
  skip
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x1536) hz, View.ld_unit_zero (S := S512x512) hz, View.ld_unit_zero (S := S512x128) hz, View.ld_unit_zero (S := S512x1024) hz, View.ld_unit_zero (S := S1x1024) hz, View.ld_unit_zero (S := S3200x1024) hz, View.ld_unit_zero (S := S512x3200) hz]
  exact five x0 x1 x2 x3 x4

theorem blockB (hc0 : ¬cond0_0 i) :
    out0_B_10 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo11 = (dpBlk x0 x1 x2 x3 x4) := by
  unfold out0_B_10
  rw [View.read_writes_eq_canon _ _ _ (cover0_B_10 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo11)]
  unfold kernelRun0_B
  dsimp only
  sl_unfold_words
  skip
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x1536) hz, View.ld_unit_zero (S := S512x512) hz, View.ld_unit_zero (S := S512x128) hz, View.ld_unit_zero (S := S512x1024) hz, View.ld_unit_zero (S := S1x1024) hz, View.ld_unit_zero (S := S3200x1024) hz, View.ld_unit_zero (S := S512x3200) hz]
  exact five x0 x1 x2 x3 x4

theorem rowsA (hc0 : cond0_0 i) :
    out0_A_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 = k0_pay13 (F := Ideal) (k0_pay7 (F := Ideal) x7) (k0_pay8 (F := Ideal) x6) (dpBlk x0 x1 x2 x3 x4) x8 x5 := by
  unfold out0_A_9
  rw [View.read_writes_eq_canon _ _ _ (cover0_A_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun0_A
  dsimp only
  sl_unfold_words
  first | rw [View.canon_unit_zero hz] | rw [View.canon_cons_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x1536) hz, View.ld_unit_zero (S := S512x512) hz, View.ld_unit_zero (S := S512x128) hz, View.ld_unit_zero (S := S512x1024) hz, View.ld_unit_zero (S := S1x1024) hz, View.ld_unit_zero (S := S3200x1024) hz, View.ld_unit_zero (S := S512x3200) hz]
  rw [readFive]

theorem rowsB (hc0 : ¬cond0_0 i) :
    out0_B_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo11 = k0_pay13 (F := Ideal) (k0_pay7 (F := Ideal) x7) (k0_pay8 (F := Ideal) x6) (dpBlk x0 x1 x2 x3 x4) x8 x5 := by
  unfold out0_B_9
  rw [View.read_writes_eq_canon _ _ _ (cover0_B_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo11)]
  unfold kernelRun0_B
  dsimp only
  sl_unfold_words
  first | rw [View.canon_unit_zero hz] | rw [View.canon_cons_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x1536) hz, View.ld_unit_zero (S := S512x512) hz, View.ld_unit_zero (S := S512x128) hz, View.ld_unit_zero (S := S512x1024) hz, View.ld_unit_zero (S := S1x1024) hz, View.ld_unit_zero (S := S3200x1024) hz, View.ld_unit_zero (S := S512x3200) hz]
  rw [readFive]

theorem gainA (hc0 : cond0_0 i) :
    out0_A_11 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 = k0_pay12 (F := Ideal) (k0_pay8 (F := Ideal) x6) (dpBlk x0 x1 x2 x3 x4) x8 (k0_pay1 (F := Ideal)) := by
  unfold out0_A_11
  rw [View.read_writes_eq_canon _ _ _ (cover0_A_11 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun0_A
  dsimp only
  sl_unfold_words
  first | rw [View.canon_unit_zero hz] | rw [View.canon_cons_unit_zero (S := S1x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x1536) hz, View.ld_unit_zero (S := S512x512) hz, View.ld_unit_zero (S := S512x128) hz, View.ld_unit_zero (S := S512x1024) hz, View.ld_unit_zero (S := S1x1024) hz, View.ld_unit_zero (S := S3200x1024) hz, View.ld_unit_zero (S := S512x3200) hz]
  rw [readFive]
  congr 1
  exact View.readCov_unit_zero (S := S1x1024) _ hz _ _

theorem gainB (hc0 : ¬cond0_0 i) :
    out0_B_11 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo11 = k0_pay12 (F := Ideal) (k0_pay8 (F := Ideal) x6) (dpBlk x0 x1 x2 x3 x4) x8 xo11 := by
  unfold out0_B_11
  rw [View.read_writes_eq_canon _ _ _ (cover0_B_11 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo11)]
  unfold kernelRun0_B
  dsimp only
  sl_unfold_words
  first | rw [View.canon_unit_zero hz] | rw [View.canon_cons_unit_zero (S := S1x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x1536) hz, View.ld_unit_zero (S := S512x512) hz, View.ld_unit_zero (S := S512x128) hz, View.ld_unit_zero (S := S512x1024) hz, View.ld_unit_zero (S := S1x1024) hz, View.ld_unit_zero (S := S3200x1024) hz, View.ld_unit_zero (S := S512x3200) hz]
  rw [readFive]

end

/-! ### The stored values, index by index -/

section
variable (d : S512x3200.Idx → EReal) (x5 x6 : S512x1024.Idx → EReal) (x7 : S1x1024.Idx → EReal) (x8 : S3200x1024.Idx → EReal)

theorem pay7 : (k0_pay7 (F := Ideal) x7 : S1x1024.Idx → EReal) = x7 := by
  unfold k0_pay7
  exact shapeCast_self _ _

theorem pay8 : (k0_pay8 (F := Ideal) x6 : S512x1024.Idx → EReal) = x6 := by
  unfold k0_pay8
  exact shapeCast_self _ _

theorem pay9 : (k0_pay9 (F := Ideal) x6 : S512x1.Idx → EReal) = fun j => inv (∑ k : Fin 1024, x6 (ix2 (r0 j) k) * x6 (ix2 (r0 j) k)) := by
  unfold k0_pay9
  exact blk_inv x6 _ _ _ _ _

theorem pay10 : (k0_pay10 (F := Ideal) x6 : S512x1024.Idx → EReal) = mulf (F := Ideal) (φ := .f32) x6 (broadcastTo S512x1024 (k0_pay9 (F := Ideal) x6) broadcasts_S512x1_S512x1024) := by
  unfold k0_pay10
  rfl

theorem pay11 : (k0_pay11 (F := Ideal) d x8 : S512x1024.Idx → EReal) = fun j => ∑ k : Fin 3200, d (ix2 (r0 j) k) * x8 (ix2 k (c1 j)) := by
  unfold k0_pay11
  dsimp only
  rw [shapeCast_self, shapeCast_self]
  exact matmul_nn _ rfl rfl rfl rfl rfl rfl _ d x8

theorem rows : (k0_pay13 (F := Ideal) (k0_pay7 (F := Ideal) x7) (k0_pay8 (F := Ideal) x6) d x8 x5 : S512x1024.Idx → EReal) = backBlk x5 x6 (fun j => k0_pay11 (F := Ideal) d x8 j * x7 (ix2 0 (c1 j))) := by
  rw [pay7, pay8]
  unfold k0_pay13
  rw [pay10]
  dsimp only
  rw [shapeCast_self]
  refine (blk_back x5 x6 (mulf (F := Ideal) (φ := .f32) (k0_pay11 (F := Ideal) d x8) (broadcastTo S512x1024 x7 broadcasts_S1x1024_S512x1024)) (k0_pay9 (F := Ideal) x6) (pay9 x6) _ _ _ _ _ _).trans ?_
  refine congrArg (backBlk x5 x6) ?_
  rw [rowTo]
  rfl

theorem gains (a : S1x1024.Idx → EReal) : (k0_pay12 (F := Ideal) (k0_pay8 (F := Ideal) x6) d x8 a : S1x1024.Idx → EReal) = fun j => a j + ∑ y : Fin 512,
    (∑ k : Fin 3200, d (ix2 y k) * x8 (ix2 k (c1 j))) * (x6 (ix2 y (c1 j)) * inv (∑ k : Fin 1024, x6 (ix2 y k) * x6 (ix2 y k))) := by
  rw [pay8]
  unfold k0_pay12
  rw [pay10, pay11, pay9, colTo]
  dsimp only
  rw [shapeCast_self]
  exact blk_gain _ _ a _ _ _ _ _

theorem zeros : (k0_pay1 (F := Ideal) : S1x1024.Idx → EReal) = fun _ => 0 := by
  unfold k0_pay1
  funext j
  exact zeroF

end

/-! ### The results -/

/-- The gradient of the normalised rows. -/
def dh (ct : Arr S4x2048x3200) (w : Arr S1024x3200) : Arr S4x2048x1024 := fun j => ∑ k : Fin 3200, ct (ix3 (d0 j) (d1 j) k) * w (ix2 (d2 j) k)

/-- … times the gain. -/
def dx (ct : Arr S4x2048x3200) (g : Arr S1024) (w : Arr S1024x3200) : Arr S4x2048x1024 := fun j => dh ct w j * g (ix1 (d2 j))

variable (m : (ℓ : Loc nD τ sig) → Buf (Elt Ideal) ℓ) (c : Dev nD)

theorem atA (t : Fin cfg0.N) (h0 : t.val % 16 = 0) : (outsAt0 m c t.val t.isLt).2.2 = k0_pay12 (F := Ideal) (k0_pay8 (F := Ideal) (iblk m c 6 t)) (dpBlk (iblk m c 0 t) (iblk m c 1 t) (iblk m c 2 t) (iblk m c 3 t) (iblk m c 4 t)) (iblk m c 8 t) (k0_pay1 (F := Ideal)) := by
  rw [outsAt0_A m c t h0]
  dsimp only
  exact gainA (c := c) (i := grid0.coords t) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) _

theorem atB (t : Fin cfg0.N) (h0 : ¬t.val % 16 = 0) : (outsAt0 m c t.val t.isLt).2.2 = k0_pay12 (F := Ideal) (k0_pay8 (F := Ideal) (iblk m c 6 t)) (dpBlk (iblk m c 0 t) (iblk m c 1 t) (iblk m c 2 t) (iblk m c 3 t) (iblk m c 4 t)) (iblk m c 8 t) (outsAt0 m c (t.val - 1) (Nat.lt_of_le_of_lt (Nat.sub_le _ _) t.isLt)).2.2 := by
  rw [outsAt0_B m c t h0]
  dsimp only
  exact gainB (c := c) (i := grid0.coords t) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) _ _

theorem atRows (t : Fin cfg0.N) : (outsAt0 m c t.val t.isLt).1 = k0_pay13 (F := Ideal) (k0_pay7 (F := Ideal) (iblk m c 7 t)) (k0_pay8 (F := Ideal) (iblk m c 6 t)) (dpBlk (iblk m c 0 t) (iblk m c 1 t) (iblk m c 2 t) (iblk m c 3 t) (iblk m c 4 t)) (iblk m c 8 t) (iblk m c 5 t) := by
  by_cases h0 : t.val % 16 = 0
  · rw [outsAt0_A m c t h0]
    dsimp only
    exact rowsA (c := c) (i := grid0.coords t) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) _
  · rw [outsAt0_B m c t h0]
    dsimp only
    exact rowsB (c := c) (i := grid0.coords t) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) _ _

theorem atBlock (t : Fin cfg0.N) : (outsAt0 m c t.val t.isLt).2.1 = (dpBlk (iblk m c 0 t) (iblk m c 1 t) (iblk m c 2 t) (iblk m c 3 t) (iblk m c 4 t)) := by
  by_cases h0 : t.val % 16 = 0
  · rw [outsAt0_A m c t h0]
    dsimp only
    exact blockA (c := c) (i := grid0.coords t) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) _
  · rw [outsAt0_B m c t h0]
    dsimp only
    exact blockB (c := c) (i := grid0.coords t) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) _ _

section
variable (ct : Arr S4x2048x3200) (hct : m ((c : Thread nD τ).loc main_arg0) = ct)
include hct

theorem slice0 : (V m c main_v1 : S8192x1536.Idx → EReal) = fun j => flatA ct (ix2 (r0 j) (Fin.ofNat 3200 (0 + (c1 j).val))) := by
  subst hct
  funext j
  have hj : (c1 j).val < 1536 := (j 1).isLt
  refine (congrFun (flat8 (m ((c : Thread nD τ).loc main_arg0)) shapeCasts_S4x2048x3200_S8192x3200) _).trans ?_
  refine congrArg (flatA (m ((c : Thread nD τ).loc main_arg0))) (funext fun d => Fin.ext ?_)
  match d with
  | ⟨0, _⟩ => exact Nat.zero_add _
  | ⟨1, _⟩ => exact (Nat.mod_eq_of_lt (by omega : 0 + (c1 j).val < 3200)).symm

theorem slice1 : (V m c main_v2 : S8192x512.Idx → EReal) = fun j => flatA ct (ix2 (r0 j) (Fin.ofNat 3200 (1536 + (c1 j).val))) := by
  subst hct
  funext j
  have hj : (c1 j).val < 512 := (j 1).isLt
  refine (congrFun (flat8 (m ((c : Thread nD τ).loc main_arg0)) shapeCasts_S4x2048x3200_S8192x3200) _).trans ?_
  refine congrArg (flatA (m ((c : Thread nD τ).loc main_arg0))) (funext fun d => Fin.ext ?_)
  match d with
  | ⟨0, _⟩ => exact Nat.zero_add _
  | ⟨1, _⟩ => exact (Nat.mod_eq_of_lt (by omega : 1536 + (c1 j).val < 3200)).symm

theorem slice2 : (V m c main_v3 : S8192x512.Idx → EReal) = fun j => flatA ct (ix2 (r0 j) (Fin.ofNat 3200 (2048 + (c1 j).val))) := by
  subst hct
  funext j
  have hj : (c1 j).val < 512 := (j 1).isLt
  refine (congrFun (flat8 (m ((c : Thread nD τ).loc main_arg0)) shapeCasts_S4x2048x3200_S8192x3200) _).trans ?_
  refine congrArg (flatA (m ((c : Thread nD τ).loc main_arg0))) (funext fun d => Fin.ext ?_)
  match d with
  | ⟨0, _⟩ => exact Nat.zero_add _
  | ⟨1, _⟩ => exact (Nat.mod_eq_of_lt (by omega : 2048 + (c1 j).val < 3200)).symm

theorem slice3 : (V m c main_v4 : S8192x512.Idx → EReal) = fun j => flatA ct (ix2 (r0 j) (Fin.ofNat 3200 (2560 + (c1 j).val))) := by
  subst hct
  funext j
  have hj : (c1 j).val < 512 := (j 1).isLt
  refine (congrFun (flat8 (m ((c : Thread nD τ).loc main_arg0)) shapeCasts_S4x2048x3200_S8192x3200) _).trans ?_
  refine congrArg (flatA (m ((c : Thread nD τ).loc main_arg0))) (funext fun d => Fin.ext ?_)
  match d with
  | ⟨0, _⟩ => exact Nat.zero_add _
  | ⟨1, _⟩ => exact (Nat.mod_eq_of_lt (by omega : 2560 + (c1 j).val < 3200)).symm

theorem slice4 : (V m c main_v5 : S8192x128.Idx → EReal) = fun j => flatA ct (ix2 (r0 j) (Fin.ofNat 3200 (3072 + (c1 j).val))) := by
  subst hct
  funext j
  have hj : (c1 j).val < 128 := (j 1).isLt
  refine (congrFun (flat8 (m ((c : Thread nD τ).loc main_arg0)) shapeCasts_S4x2048x3200_S8192x3200) _).trans ?_
  refine congrArg (flatA (m ((c : Thread nD τ).loc main_arg0))) (funext fun d => Fin.ext ?_)
  match d with
  | ⟨0, _⟩ => exact Nat.zero_add _
  | ⟨1, _⟩ => exact (Nat.mod_eq_of_lt (by omega : 3072 + (c1 j).val < 3200)).symm

/-- A point's five column ranges, side by side, are a block of the rows of the cotangent. -/
theorem dpAt (t : Fin cfg0.N) : (dpBlk (iblk m c 0 t) (iblk m c 1 t) (iblk m c 2 t) (iblk m c 3 t) (iblk m c 4 t)) = fun y => flatA ct (ix2 (Fin.ofNat 8192 (t.val * 512 + (r0 y).val)) (c1 y)) := by
  refine (congrFun (congr4 dpBlk (rd0 m c t _ (slice0 m c ct hct)) (rd1 m c t _ (slice1 m c ct hct)) (rd2 m c t _ (slice2 m c ct hct)) (rd3 m c t _ (slice3 m c ct hct))) _).trans ((congrArg _ (rd4 m c t _ (slice4 m c ct hct))).trans ?_)
  funext y
  have hy : (c1 y).val < 3200 := (y 1).isLt
  unfold dpBlk
  split_ifs
  · refine congrArg (flatA ct) (congrArg₂ ix2 rfl (Fin.ext ?_))
    show (0 + (0 * 1536 + ((c1 y).val) % 1536) % 1536) % 3200 = (c1 y).val
    omega
  · refine congrArg (flatA ct) (congrArg₂ ix2 rfl (Fin.ext ?_))
    show (1536 + (0 * 512 + ((c1 y).val - 1536) % 512) % 512) % 3200 = (c1 y).val
    omega
  · refine congrArg (flatA ct) (congrArg₂ ix2 rfl (Fin.ext ?_))
    show (2048 + (0 * 512 + ((c1 y).val - 2048) % 512) % 512) % 3200 = (c1 y).val
    omega
  · refine congrArg (flatA ct) (congrArg₂ ix2 rfl (Fin.ext ?_))
    show (2560 + (0 * 512 + ((c1 y).val - 2560) % 512) % 512) % 3200 = (c1 y).val
    omega
  · refine congrArg (flatA ct) (congrArg₂ ix2 rfl (Fin.ext ?_))
    show (3072 + (0 * 128 + ((c1 y).val - 3072) % 128) % 128) % 3200 = (c1 y).val
    omega

end

variable (ct : Arr S4x2048x3200) (cr r : Arr S4x2048x1024) (g : Arr S1024) (w : Arr S1024x3200)
  (hct : m ((c : Thread nD τ).loc main_arg0) = ct) (hcr : m ((c : Thread nD τ).loc main_arg1) = cr)
  (hr : m ((c : Thread nD τ).loc main_arg2) = r) (hg : m ((c : Thread nD τ).loc main_arg3) = g) (hw : m ((c : Thread nD τ).loc main_arg4) = w)
include hct hcr hr hg hw

theorem reads : (V m c main_v6 : S8192x1024.Idx → EReal) = flatA cr ∧ (V m c main_v7 : S8192x1024.Idx → EReal) = flatA r ∧ (V m c main_v8 : S1x1024.Idx → EReal) = (fun j => g (ix1 (c1 j)))
    ∧ (V m c main_v10 : S3200x1024.Idx → EReal) = (fun j => w (ix2 (c1 j) (r0 j))) := by
  refine ⟨?_, ?_, ?_, ?_⟩
  · rw [← hcr]; exact flat8 (m ((c : Thread nD τ).loc main_arg1)) shapeCasts_S4x2048x1024_S8192x1024
  · rw [← hr]; exact flat8 (m ((c : Thread nD τ).loc main_arg2)) shapeCasts_S4x2048x1024_S8192x1024
  · rw [← hg]; exact asRow (m ((c : Thread nD τ).loc main_arg3)) shapeCasts_S1024_S1x1024
  · rw [← hw]; exact swap (m ((c : Thread nD τ).loc main_arg4)) transposes_S1024x3200_S3200x1024_1_0

/-- A point's gradient of its normalised rows. -/
theorem dhAt (t : Fin cfg0.N) : (k0_pay11 (F := Ideal) (dpBlk (iblk m c 0 t) (iblk m c 1 t) (iblk m c 2 t) (iblk m c 3 t) (iblk m c 4 t)) (iblk m c 8 t) : S512x1024.Idx → EReal)
    = fun y => flatA (dh ct w) (ix2 (Fin.ofNat 8192 (t.val * 512 + (r0 y).val)) (c1 y)) := by
  obtain ⟨e5, e6, e7, e8⟩ := reads m c ct cr r g w hct hcr hr hg hw
  refine (congrArg₂ (k0_pay11 (F := Ideal)) (dpAt m c ct hct t) (rd8 m c t _ e8)).trans ((pay11 _ _).trans ?_)
  funext y
  simp only [ofNat_fst]
  rfl

theorem array9 : ((dats m 0 c).arrAt 9 cfg0.N : S8192x1024.Idx → EReal) = flatA (back cr r (dx ct g w)) := by
  obtain ⟨e5, e6, e7, e8⟩ := reads m c ct cr r g w hct hcr hr hg hw
  refine arr9 m c _ _ (fun t _ => (after0_9 m c t).trans ((atRows m c t).trans ((rows _ _ _ _ _).trans
    (congr3 backBlk (rd5 m c t _ e5) (rd6 m c t _ e6) (congrArg₂ (fun (a : S512x1024.Idx → EReal) (b : S1x1024.Idx → EReal) => fun j => a j * b (ix2 0 (c1 j)))
      (dhAt m c ct cr r g w hct hcr hr hg hw t) (rd7 m c t _ e7)))))) (fun t _ y => ?_)
  simp only [ofNat_fst, backBlk]
  rfl

theorem array10 : ((dats m 0 c).arrAt 10 cfg0.N : S8192x3200.Idx → EReal) = flatA ct := by
  refine arr10 m c _ _ (fun t _ => (after0_10 m c t).trans ((atBlock m c t).trans (dpAt m c ct hct t))) (fun t _ y => ?_)
  simp only [ofNat_fst]

theorem gainAt (b : S1x1024.Idx → EReal) (t : Fin cfg0.N) : (k0_pay12 (F := Ideal) (k0_pay8 (F := Ideal) (iblk m c 6 t)) (dpBlk (iblk m c 0 t) (iblk m c 1 t) (iblk m c 2 t) (iblk m c 3 t) (iblk m c 4 t)) (iblk m c 8 t) b : S1x1024.Idx → EReal) = fun j => b j + gainBlk 512 r (dh ct w) t.val j := by
  obtain ⟨e5, e6, e7, e8⟩ := reads m c ct cr r g w hct hcr hr hg hw
  have hd := dhAt m c ct cr r g w hct hcr hr hg hw t
  rw [pay11] at hd
  have h3 : (iblk m c 6 t : S512x1024.Idx → EReal) = fun y => flatA r (ix2 (Fin.ofNat 8192 (t.val * 512 + (r0 y).val)) (c1 y)) := by
    refine (rd6 m c t _ e6).trans ?_
    funext y
    simp only [ofNat_fst]
  refine (gains _ _ _ _).trans ?_
  funext j
  refine congrArg (b j + ·) (Finset.sum_congr rfl fun y _ => ?_)
  have hd' := congrFun hd (ix2 y (c1 j))
  exact congrArg₂ (· * ·) hd' (by rw [h3]; rfl)

/-- The third result's block after a point: the sum of the blocks so far. -/
theorem acc : ∀ n h, ((outsAt0 m c n h).2.2 : S1x1024.Idx → EReal) = part 16 (gainBlk 512 r (dh ct w)) n := by
  refine sweep 16 (fun n h => ((outsAt0 m c n h).2.2 : S1x1024.Idx → EReal) = part 16 (gainBlk 512 r (dh ct w)) n) (fun n h h0 => ?_) (fun n h h0 h' ih => ?_)
  · rw [part_first 16 _ n h0]
    refine (atA m c ⟨n, h⟩ h0).trans ?_
    refine (congrArg (k0_pay12 (F := Ideal) _ _ _) zeros).trans ((gainAt m c ct cr r g w hct hcr hr hg hw _ ⟨n, h⟩).trans ?_)
    funext j
    exact zero_add _
  · rw [← part_next 16 (gainBlk 512 r (dh ct w)) n h0 (by decide)]
    refine (atB m c ⟨n, h⟩ h0).trans ?_
    exact (congrArg (k0_pay12 (F := Ideal) _ _ _) ih).trans (gainAt m c ct cr r g w hct hcr hr hg hw _ ⟨n, h⟩)

theorem array11 : ((dats m 0 c).arrAt 11 cfg0.N : S1x1024.Idx → EReal) = gain r (dh ct w) := by
  refine arr11 m c (fun _ => gain r (dh ct w)) _ (fun t hf => ?_) (fun t _ y => ?_)
  · have h1 := (flush0_11 t).mp hf
    refine (after0_11 m c t).trans ((acc m c ct cr r g w hct hcr hr hg hw t.val t.isLt).trans ?_)
    funext j
    rw [part_last 16 _ _ (by omega)]
    have e : t.val - t.val % 16 = 0 := by have ht : t.val < 16 := hN ▸ t.isLt; omega
    simp only [e, zero_add]
    exact gain_blocks 16 512 rfl r (dh ct w) j
  · rw [ofNat_fst, ofNat_fst]
    exact congrArg (gain r (dh ct w)) (eq_rc y)

end Cert.InProjBwd

end
-- ==== Proof.InProjBwd.Claims.lean ====
/- The claims about the backward pass of the input projection and of its normalisation. -/
module

public import proofs.«01_k».proof.Defs
public import proofs.«01_k».proof.Proof.InProjBwd.Value
public import proofs.«01_k».proof.Proof.Gen.Kernel12.Frame
public import proofs.«01_k».proof.Proof.Gen.Reference12Ideal.Run
public import Idealize.ShloMosaic.Adequacy
public import Idealize.ShloMosaic.Init

@[expose] public section

noncomputable section

namespace Cert.InProjBwd

open Idealize.ShloMosaic Idealize.ShloMosaic.TcCoe Idealize.SL.Sem Cert.Ext Cert.Lift Idealize.ShloMosaic.ValueIdx

theorem frame_p : Cert.quiescent_Kernel12 := fun m ρ _ => Cert.Kernel12.Gen.frame m ρ
theorem frame_pi : Cert.quiescent_Kernel12Ideal := fun m ρ _ => Cert.Kernel12Ideal.Gen.frame m ρ
theorem frame_ri : Cert.quiescent_Reference12Ideal := fun m ρ _ => (θ_run Cert.Reference12Ideal.defs _ _).mono (fun r h => ⟨fun c => (h c).2.2.2,
      Idealize.ShloMosaic.sem_eq_zero_of_no_sems (by decide) r.2⟩)
    (Cert.Reference12Ideal.Value.run (F := Ideal) m ρ)

theorem preserves : Cert.preserves_Kernel12_Kernel12Ideal := trivial

section
open Cert.Reference12Ideal Cert.Reference12Ideal.Gen
variable (ct : Arr S4x2048x3200) (cr r : Arr S4x2048x1024) (g : Arr S1024) (w : Arr S1024x3200)

theorem ref_dh : ((Host.dotGeneral (F := Ideal) (φ₁ := .f32) (φ₂ := .f32) dot_S4x2048x3200_S1024x3200_S4x2048x1024_2_1_01_0_n_n none ct w) : Arr S4x2048x1024) = dh ct w := host_nt3 _ rfl rfl rfl rfl rfl rfl _ ct w

theorem ref_dx : ((mulf (F := Ideal) (φ := .f32) (Host.dotGeneral (F := Ideal) (φ₁ := .f32) (φ₂ := .f32) dot_S4x2048x3200_S1024x3200_S4x2048x1024_2_1_01_0_n_n none ct w) (broadcastInDim S4x2048x1024 ![0, 1, 2] bcast_S1x1x1024_S4x2048x1024_0_1_2 (broadcastInDim S1x1x1024 ![2] bcast_S1024_S1x1x1024_2 g))) : Arr S4x2048x1024) = dx ct g w := by
  rw [ref_dh, last]
  rfl

/-- The reference's gradient of the rows. -/
theorem ref_rows : (shapeCast S8192x1024 (addf (F := Ideal) (φ := .f32) (addf (F := Ideal) (φ := .f32) (addf (F := Ideal) (φ := .f32) cr (mulf (F := Ideal) (φ := .f32) (mulf (F := Ideal) (φ := .f32) (Host.dotGeneral (F := Ideal) (φ₁ := .f32) (φ₂ := .f32) dot_S4x2048x3200_S1024x3200_S4x2048x1024_2_1_01_0_n_n none ct w) (broadcastInDim S4x2048x1024 ![0, 1, 2] bcast_S1x1x1024_S4x2048x1024_0_1_2 (broadcastInDim S1x1x1024 ![2] bcast_S1024_S1x1x1024_2 g))) (broadcastInDim S4x2048x1024 ![0, 1, 2] bcast_S4x2048x1_S4x2048x1024_0_1_2 (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32))))))) (mulf (F := Ideal) (φ := .f32) r (broadcastInDim S4x2048x1024 ![0, 1] bcast_S4x2048_S4x2048x1024_0_1 (Host.reduceAdd (F := Ideal) (φ := .f32) (Host.divf (F := Ideal) (φ := .f32) (mulf (F := Ideal) (φ := .f32) (shapeCast S4x2048x1 (Host.reduceAdd (F := Ideal) (φ := .f32) (mulf (F := Ideal) (φ := .f32) r (mulf (F := Ideal) (φ := .f32) (Host.dotGeneral (F := Ideal) (φ₁ := .f32) (φ₂ := .f32) dot_S4x2048x3200_S1024x3200_S4x2048x1024_2_1_01_0_n_n none ct w) (broadcastInDim S4x2048x1024 ![0, 1, 2] bcast_S1x1x1024_S4x2048x1024_0_1_2 (broadcastInDim S1x1x1024 ![2] bcast_S1024_S1x1x1024_2 g)))) (constant (F := Ideal) S_ .f32 0x00000000#32) reducesTo_S4x2048x1024_S4x2048_d2 h_S_) shapeCasts_S4x2048_S4x2048x1) (mulf (F := Ideal) (φ := .f32) (broadcastInDim S4x2048x1 ![] bcast_S_S4x2048x1 (constant (F := Ideal) S_ .f32 0xBF000000#32)) (Host.divf (F := Ideal) (φ := .f32) (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))))) (broadcastInDim S4x2048x1 ![] bcast_S_S4x2048x1 (constant (F := Ideal) S_ .f32 0x44800000#32))) (constant (F := Ideal) S_ .f32 0x00000000#32) reducesTo_S4x2048x1_S4x2048_d2 h_S_)))) (mulf (F := Ideal) (φ := .f32) (broadcastInDim S4x2048x1024 ![0, 1] bcast_S4x2048_S4x2048x1024_0_1 (Host.reduceAdd (F := Ideal) (φ := .f32) (Host.divf (F := Ideal) (φ := .f32) (mulf (F := Ideal) (φ := .f32) (shapeCast S4x2048x1 (Host.reduceAdd (F := Ideal) (φ := .f32) (mulf (F := Ideal) (φ := .f32) r (mulf (F := Ideal) (φ := .f32) (Host.dotGeneral (F := Ideal) (φ₁ := .f32) (φ₂ := .f32) dot_S4x2048x3200_S1024x3200_S4x2048x1024_2_1_01_0_n_n none ct w) (broadcastInDim S4x2048x1024 ![0, 1, 2] bcast_S1x1x1024_S4x2048x1024_0_1_2 (broadcastInDim S1x1x1024 ![2] bcast_S1024_S1x1x1024_2 g)))) (constant (F := Ideal) S_ .f32 0x00000000#32) reducesTo_S4x2048x1024_S4x2048_d2 h_S_) shapeCasts_S4x2048_S4x2048x1) (mulf (F := Ideal) (φ := .f32) (broadcastInDim S4x2048x1 ![] bcast_S_S4x2048x1 (constant (F := Ideal) S_ .f32 0xBF000000#32)) (Host.divf (F := Ideal) (φ := .f32) (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))))) (broadcastInDim S4x2048x1 ![] bcast_S_S4x2048x1 (constant (F := Ideal) S_ .f32 0x44800000#32))) (constant (F := Ideal) S_ .f32 0x00000000#32) reducesTo_S4x2048x1_S4x2048_d2 h_S_)) r)) shapeCasts_S4x2048x1024_S8192x1024 : S8192x1024.Idx → EReal) = flatA (back cr r (dx ct g w)) := by
  rw [ref_dx]
  refine (congrArg (fun x => shapeCast S8192x1024 x shapeCasts_S4x2048x1024_S8192x1024) (host_back (B := 4) (R := 2048) (C := 1024) cr r (dx ct g w) _ (host_den (B := 4) (R := 2048) (C := 1024) r reducesTo_S4x2048x1024_S4x2048_d2 h_S_ bcast_S4x2048_S4x2048x1_0_1 S_ S_ ![] ![] bcast_S_S4x2048x1 bcast_S_S4x2048x1)
    reducesTo_S4x2048x1024_S4x2048_d2 reducesTo_S4x2048x1_S4x2048_d2 h_S_ bcast_S4x2048x1_S4x2048x1024_0_1_2 bcast_S4x2048_S4x2048x1024_0_1 shapeCasts_S4x2048_S4x2048x1 S_ S_ ![] ![] bcast_S_S4x2048x1 bcast_S_S4x2048x1 _ rfl)).trans ?_
  exact flat8 (back cr r (dx ct g w)) shapeCasts_S4x2048x1024_S8192x1024

theorem ref_block : (truncf (F := Ideal) (φ := .f32) .bf16 (shapeCast S8192x3200 ct shapeCasts_S4x2048x3200_S8192x3200) bitsLt_bf16_f32 : S8192x3200.Idx → EReal) = flatA ct :=
  flat8 ct shapeCasts_S4x2048x3200_S8192x3200

/-- The reference's gradient of the gain. -/
theorem ref_gain : (shapeCast S1x1024 (Host.reduceAdd (F := Ideal) (φ := .f32) (shapeCast S1x1x1024 (Host.reduceAdd (F := Ideal) (φ := .f32) (mulf (F := Ideal) (φ := .f32) (mulf (F := Ideal) (φ := .f32) r (broadcastInDim S4x2048x1024 ![0, 1, 2] bcast_S4x2048x1_S4x2048x1024_0_1_2 (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))))) (Host.dotGeneral (F := Ideal) (φ₁ := .f32) (φ₂ := .f32) dot_S4x2048x3200_S1024x3200_S4x2048x1024_2_1_01_0_n_n none ct w)) (constant (F := Ideal) S_ .f32 0x00000000#32) reducesTo_S4x2048x1024_S1024_d0_1 h_S_) shapeCasts_S1024_S1x1x1024) (constant (F := Ideal) S_ .f32 0x00000000#32) reducesTo_S1x1x1024_S1024_d0_1 h_S_) shapeCasts_S1024_S1x1024 : S1x1024.Idx → EReal) = gain r (dh ct w) := by
  rw [ref_dh]
  exact host_gain r (dh ct w) _ (host_inv (B := 4) (R := 2048) (C := 1024) r reducesTo_S4x2048x1024_S4x2048_d2 h_S_ bcast_S4x2048_S4x2048x1_0_1 bcast_S4x2048x1_S4x2048x1024_0_1_2 S_ S_ ![] ![] bcast_S_S4x2048x1 bcast_S_S4x2048x1) reducesTo_S4x2048x1024_S1024_d0_1 reducesTo_S1x1x1024_S1024_d0_1 h_S_ shapeCasts_S1024_S1x1x1024 shapeCasts_S1024_S1x1024

end

theorem algebraic : Cert.algebraic_Kernel12Ideal_Reference12Ideal := by
  intro m ρ m' ρ' hpre hagree
  refine ⟨_, _, _, Cert.Kernel12Ideal.Value.run_blocks (F := Ideal) m ρ, ?_⟩
  refine (θ_run Cert.Reference12Ideal.defs _ _).mono (fun _ h c => ?_) (Cert.Reference12Ideal.Value.run (F := Ideal) m' ρ')
  obtain ⟨e0, e1, e2, e3, e4⟩ := hagree c
  exact ⟨(h c).1.trans ((ref_rows _ _ _ _ _).trans (array9 m c _ _ _ _ _ e0.symm e1.symm e2.symm e3.symm e4.symm).symm),
    (h c).2.1.trans ((ref_block _).trans (array10 m c _ _ _ _ _ e0.symm e1.symm e2.symm e3.symm e4.symm).symm),
    (h c).2.2.1.trans ((ref_gain _ _ _).trans (array11 m c _ _ _ _ _ e0.symm e1.symm e2.symm e3.symm e4.symm).symm), (h c).2.2.2⟩

end Cert.InProjBwd

end
-- ==== Proof.Lift.Col.lean ====
/- The sums of an array's columns, and the logistic function. -/
module

public import proofs.«01_k».proof.Proof.Lift.Rms

@[expose] public section

noncomputable section

namespace Cert.Ext

open Idealize.ShloMosaic Cert.Lift Idealize.ShloMosaic.ValueIdx

/-- The logistic function, of the words of its formula. -/
def sg (x : EReal) : EReal := Ideal.div (Ideal.ofBits .f32 0x3F800000#32) (Ideal.ofBits .f32 0x3F800000#32 + Ideal.exp (-x))

/-- The sums of the columns. -/
def colSum {C : Nat} (x : Arr ⟨3, ![4, 2048, C]⟩) : Arr ⟨2, ![1, C]⟩ := fun j => ∑ p : Fin 4, ∑ q : Fin 2048, x (ix3 p q (c1 j))

/-- What one block of flat rows adds to them. -/
def colBlk {C : Nat} (T : Nat) (x : Arr ⟨3, ![4, 2048, C]⟩) (t : Nat) : Arr ⟨2, ![1, C]⟩ := fun j =>
  ∑ y : Fin T, flatA x (ix2 (Fin.ofNat 8192 (t * T + y.val)) (c1 j))

theorem col_blocks {C : Nat} (G T : Nat) (h : 8192 = G * T) (x : Arr ⟨3, ![4, 2048, C]⟩) (j) : ∑ b : Fin G, colBlk T x b.val j = colSum x j :=
  sum_batch 4 2048 G T h fun p q => x (ix3 p q (c1 j))

/-- The host's lines of the sums. -/
theorem host_col {C : Nat} {u : Shape} (x : Arr ⟨3, ![4, 2048, C]⟩) (h) (h') (hu : 0 < u.numel)
    (hs : (⟨1, ![C]⟩ : Shape).ShapeCasts ⟨3, ![1, 1, C]⟩) (hs' : (⟨1, ![C]⟩ : Shape).ShapeCasts ⟨2, ![1, C]⟩) :
    (shapeCast ⟨2, ![1, C]⟩ (Host.reduceAdd (F := Ideal) (φ := .f32) (axes := [0, 1]) (t := ⟨1, ![C]⟩)
        (shapeCast ⟨3, ![1, 1, C]⟩ (Host.reduceAdd (F := Ideal) (φ := .f32) (axes := [0, 1]) (t := ⟨1, ![C]⟩)
          x (constant (F := Ideal) u .f32 0x00000000#32) h hu : Arr ⟨1, ![C]⟩) hs)
        (constant (F := Ideal) u .f32 0x00000000#32) h' hu : Arr ⟨1, ![C]⟩) hs' : Arr ⟨2, ![1, C]⟩) = colSum x := by
  rw [asRow, hostRows3, hostRows3, cast11]
  funext j
  exact (Fin.sum_univ_one _).trans (Fin.sum_univ_one _)

/-- A block's part of the sums. -/
theorem blk_col {T C : Nat} (x : Arr ⟨2, ![T, C]⟩) (a : Arr ⟨2, ![1, C]⟩) (acc) (h : (⟨2, ![T, C]⟩ : Shape).Reduces [0] ⟨1, ![C]⟩) (h1) (h2) (h3 : (⟨1, ![C]⟩ : Shape).ShapeCasts ⟨2, ![1, C]⟩) :
    (addf (F := Ideal) (φ := .f32) a (shapeCast ⟨2, ![1, C]⟩ (multiReduction (F := Ideal) (φ := .f32) .add [0] ⟨1, ![C]⟩ x acc h h1 h2) h3) : Arr ⟨2, ![1, C]⟩)
      = fun j => a j + ∑ y : Fin T, x (ix2 y (c1 j)) := by
  rw [asRow]
  funext j
  exact congrArg (a j + ·) (congrFun (rowsE _ acc h h1 h2) (ix1 (c1 j)))

end Cert.Ext

end
-- ==== Proof.PleBwd.Geometry.lean ====
/- Where the blocks of the grid lie: what a point reads of each array, and that the written blocks fill the results. -/
module

public import proofs.«01_k».proof.Proof.Gen.Kernel13Ideal.Value
public import proofs.«01_k».proof.Proof.Lift.Col
public import proofs.«01_k».proof.Proof.Lift.Place

@[expose] public section

noncomputable section

namespace Cert.PleBwd

open Cert.Kernel13Ideal Cert.Kernel13Ideal.Gen Cert.Ext Idealize.ShloMosaic Idealize.ShloMosaic.TcCoe Idealize.SL.Sem Cert.Lift Idealize.ShloMosaic.ValueIdx
open Idealize.ShloMosaic.Pipeline (Dat)

variable (m : (ℓ : Loc nD τ sig) → Buf (Elt Ideal) ℓ) (c : Dev nD)

theorem hN : cfg0.N = 16 := N_0

/-! ### The input blocks -/

theorem idx0_0 : ∀ t : Fin cfg0.N, win0_0.index t 0 = t.val := by decide +kernel
theorem idx0_1 : ∀ t : Fin cfg0.N, win0_0.index t 1 = 0 := by decide +kernel
theorem rd0 (t : Fin cfg0.N) (a : S8192x1024.Idx → EReal) (h : (V m c main_v0 : S8192x1024.Idx → EReal) = a) :
    (iblk m c 0 t : S512x1024.Idx → EReal) = fun y => a (ix2 (Fin.ofNat 8192 (t.val * 512 + (r0 y).val)) (Fin.ofNat 1024 (0 * 1024 + (c1 y).val))) := by
  have ht : t.val < 16 := hN ▸ t.isLt
  funext y
  unfold iblk
  rw [View.read_apply]
  exact (congrFun h _).trans (congrArg a (place _ y _ _ _ _ (idx0_0 t) (idx0_1 t) (by omega) (by omega) rfl rfl))

theorem idx1_0 : ∀ t : Fin cfg0.N, win0_1.index t 0 = t.val := by decide +kernel
theorem idx1_1 : ∀ t : Fin cfg0.N, win0_1.index t 1 = 0 := by decide +kernel
theorem rd1 (t : Fin cfg0.N) (a : S8192x1024.Idx → EReal) (h : (V m c main_v1 : S8192x1024.Idx → EReal) = a) :
    (iblk m c 1 t : S512x1024.Idx → EReal) = fun y => a (ix2 (Fin.ofNat 8192 (t.val * 512 + (r0 y).val)) (Fin.ofNat 1024 (0 * 1024 + (c1 y).val))) := by
  have ht : t.val < 16 := hN ▸ t.isLt
  funext y
  unfold iblk
  rw [View.read_apply]
  exact (congrFun h _).trans (congrArg a (place _ y _ _ _ _ (idx1_0 t) (idx1_1 t) (by omega) (by omega) rfl rfl))

theorem idx2_0 : ∀ t : Fin cfg0.N, win0_2.index t 0 = t.val := by decide +kernel
theorem idx2_1 : ∀ t : Fin cfg0.N, win0_2.index t 1 = 0 := by decide +kernel
theorem rd2 (t : Fin cfg0.N) (a : S8192x256.Idx → EReal) (h : (V m c main_v2 : S8192x256.Idx → EReal) = a) :
    (iblk m c 2 t : S512x256.Idx → EReal) = fun y => a (ix2 (Fin.ofNat 8192 (t.val * 512 + (r0 y).val)) (Fin.ofNat 256 (0 * 256 + (c1 y).val))) := by
  have ht : t.val < 16 := hN ▸ t.isLt
  funext y
  unfold iblk
  rw [View.read_apply]
  exact (congrFun h _).trans (congrArg a (place _ y _ _ _ _ (idx2_0 t) (idx2_1 t) (by omega) (by omega) rfl rfl))

theorem idx3_0 : ∀ t : Fin cfg0.N, win0_3.index t 0 = 0 := by decide +kernel
theorem idx3_1 : ∀ t : Fin cfg0.N, win0_3.index t 1 = 0 := by decide +kernel
theorem rd3 (t : Fin cfg0.N) (a : S1x1024.Idx → EReal) (h : (V m c main_v3 : S1x1024.Idx → EReal) = a) :
    (iblk m c 3 t : S1x1024.Idx → EReal) = fun y => a (ix2 (Fin.ofNat 1 (0 * 1 + (r0 y).val)) (Fin.ofNat 1024 (0 * 1024 + (c1 y).val))) := by
  have ht : t.val < 16 := hN ▸ t.isLt
  funext y
  unfold iblk
  rw [View.read_apply]
  exact (congrFun h _).trans (congrArg a (place _ y _ _ _ _ (idx3_0 t) (idx3_1 t) (by omega) (by omega) rfl rfl))

theorem idx4_0 : ∀ t : Fin cfg0.N, win0_4.index t 0 = 0 := by decide +kernel
theorem idx4_1 : ∀ t : Fin cfg0.N, win0_4.index t 1 = 0 := by decide +kernel
theorem rd4 (t : Fin cfg0.N) (a : S1024x1024.Idx → EReal) (h : (V m c main_v4 : S1024x1024.Idx → EReal) = a) :
    (iblk m c 4 t : S1024x1024.Idx → EReal) = fun y => a (ix2 (Fin.ofNat 1024 (0 * 1024 + (r0 y).val)) (Fin.ofNat 1024 (0 * 1024 + (c1 y).val))) := by
  have ht : t.val < 16 := hN ▸ t.isLt
  funext y
  unfold iblk
  rw [View.read_apply]
  exact (congrFun h _).trans (congrArg a (place _ y _ _ _ _ (idx4_0 t) (idx4_1 t) (by omega) (by omega) rfl rfl))

theorem idx5_0 : ∀ t : Fin cfg0.N, win0_5.index t 0 = 0 := by decide +kernel
theorem idx5_1 : ∀ t : Fin cfg0.N, win0_5.index t 1 = 0 := by decide +kernel
theorem rd5 (t : Fin cfg0.N) (a : S1x1024.Idx → EReal) (h : (V m c main_v5 : S1x1024.Idx → EReal) = a) :
    (iblk m c 5 t : S1x1024.Idx → EReal) = fun y => a (ix2 (Fin.ofNat 1 (0 * 1 + (r0 y).val)) (Fin.ofNat 1024 (0 * 1024 + (c1 y).val))) := by
  have ht : t.val < 16 := hN ▸ t.isLt
  funext y
  unfold iblk
  rw [View.read_apply]
  exact (congrFun h _).trans (congrArg a (place _ y _ _ _ _ (idx5_0 t) (idx5_1 t) (by omega) (by omega) rfl rfl))

theorem idx6_0 : ∀ t : Fin cfg0.N, win0_6.index t 0 = 0 := by decide +kernel
theorem idx6_1 : ∀ t : Fin cfg0.N, win0_6.index t 1 = 0 := by decide +kernel
theorem rd6 (t : Fin cfg0.N) (a : S1024x256.Idx → EReal) (h : (V m c main_v7 : S1024x256.Idx → EReal) = a) :
    (iblk m c 6 t : S1024x256.Idx → EReal) = fun y => a (ix2 (Fin.ofNat 1024 (0 * 1024 + (r0 y).val)) (Fin.ofNat 256 (0 * 256 + (c1 y).val))) := by
  have ht : t.val < 16 := hN ▸ t.isLt
  funext y
  unfold iblk
  rw [View.read_apply]
  exact (congrFun h _).trans (congrArg a (place _ y _ _ _ _ (idx6_0 t) (idx6_1 t) (by omega) (by omega) rfl rfl))

/-! ### The output arrays -/

theorem idx7_0 : ∀ t : Fin cfg0.N, win0_7.index t 0 = t.val := by decide +kernel
theorem idx7_1 : ∀ t : Fin cfg0.N, win0_7.index t 1 = 0 := by decide +kernel
theorem arr7 (p : Fin cfg0.N → S512x1024.Idx → EReal) (G : S8192x1024.Idx → EReal)
    (hp : ∀ t, (cfg0.win 7).flush t = true → ((dats m 0 c).after 7 t : S512x1024.Idx → EReal) = p t)
    (hG : ∀ t, (cfg0.win 7).flush t = true → ∀ y, p t y = G (ix2 (Fin.ofNat 8192 (t.val * 512 + (r0 y).val)) (Fin.ofNat 1024 (0 * 1024 + (c1 y).val)))) :
    ((dats m 0 c).arrAt 7 cfg0.N : S8192x1024.Idx → EReal) = G := by
  refine (dats m 0 c).arrAt_eq_of_cover 7 G (fun t hf => ?_) fun i => ?_
  · have ht : t.val < 16 := hN ▸ t.isLt
    refine funext fun (y : S512x1024.Idx) => ?_
    refine (congrFun (hp t hf) y).trans ?_
    rw [View.read_apply]
    exact (hG t hf y).trans (congrArg G (place _ y _ _ _ _ (idx7_0 t) (idx7_1 t) (by omega) (by omega) rfl rfl).symm)
  · have h0 : (i 0 : Nat) < 8192 := (i 0).isLt
    have h1 : (i 1 : Nat) < 1024 := (i 1).isLt
    have hlt : (i 0 : Nat) / 512 < cfg0.N := by rw [hN]; omega
    refine ⟨⟨(i 0 : Nat) / 512, hlt⟩, flush0_7 ⟨_, hlt⟩, ?_⟩
    show i ∈ ((View.whole main_v8_0).slice (win0_7.rect ⟨(i 0 : Nat) / 512, hlt⟩)).set
    rw [View.set_slice_whole, Rect.mem_set_unit]
    exact both (within (T := 512) (((i 0 : Nat) / 512)) (idx7_0 _) (by omega)) (within (T := 1024) (0) (idx7_1 _) (by omega))

theorem idx8_0 : ∀ t : Fin cfg0.N, win0_8.index t 0 = t.val := by decide +kernel
theorem idx8_1 : ∀ t : Fin cfg0.N, win0_8.index t 1 = 0 := by decide +kernel
theorem arr8 (p : Fin cfg0.N → S512x1024.Idx → EReal) (G : S8192x1024.Idx → EReal)
    (hp : ∀ t, (cfg0.win 8).flush t = true → ((dats m 0 c).after 8 t : S512x1024.Idx → EReal) = p t)
    (hG : ∀ t, (cfg0.win 8).flush t = true → ∀ y, p t y = G (ix2 (Fin.ofNat 8192 (t.val * 512 + (r0 y).val)) (Fin.ofNat 1024 (0 * 1024 + (c1 y).val)))) :
    ((dats m 0 c).arrAt 8 cfg0.N : S8192x1024.Idx → EReal) = G := by
  refine (dats m 0 c).arrAt_eq_of_cover 8 G (fun t hf => ?_) fun i => ?_
  · have ht : t.val < 16 := hN ▸ t.isLt
    refine funext fun (y : S512x1024.Idx) => ?_
    refine (congrFun (hp t hf) y).trans ?_
    rw [View.read_apply]
    exact (hG t hf y).trans (congrArg G (place _ y _ _ _ _ (idx8_0 t) (idx8_1 t) (by omega) (by omega) rfl rfl).symm)
  · have h0 : (i 0 : Nat) < 8192 := (i 0).isLt
    have h1 : (i 1 : Nat) < 1024 := (i 1).isLt
    have hlt : (i 0 : Nat) / 512 < cfg0.N := by rw [hN]; omega
    refine ⟨⟨(i 0 : Nat) / 512, hlt⟩, flush0_8 ⟨_, hlt⟩, ?_⟩
    show i ∈ ((View.whole main_v8_1).slice (win0_8.rect ⟨(i 0 : Nat) / 512, hlt⟩)).set
    rw [View.set_slice_whole, Rect.mem_set_unit]
    exact both (within (T := 512) (((i 0 : Nat) / 512)) (idx8_0 _) (by omega)) (within (T := 1024) (0) (idx8_1 _) (by omega))

theorem idx9_0 : ∀ t : Fin cfg0.N, win0_9.index t 0 = t.val := by decide +kernel
theorem idx9_1 : ∀ t : Fin cfg0.N, win0_9.index t 1 = 0 := by decide +kernel
theorem arr9 (p : Fin cfg0.N → S512x1024.Idx → EReal) (G : S8192x1024.Idx → EReal)
    (hp : ∀ t, (cfg0.win 9).flush t = true → ((dats m 0 c).after 9 t : S512x1024.Idx → EReal) = p t)
    (hG : ∀ t, (cfg0.win 9).flush t = true → ∀ y, p t y = G (ix2 (Fin.ofNat 8192 (t.val * 512 + (r0 y).val)) (Fin.ofNat 1024 (0 * 1024 + (c1 y).val)))) :
    ((dats m 0 c).arrAt 9 cfg0.N : S8192x1024.Idx → EReal) = G := by
  refine (dats m 0 c).arrAt_eq_of_cover 9 G (fun t hf => ?_) fun i => ?_
  · have ht : t.val < 16 := hN ▸ t.isLt
    refine funext fun (y : S512x1024.Idx) => ?_
    refine (congrFun (hp t hf) y).trans ?_
    rw [View.read_apply]
    exact (hG t hf y).trans (congrArg G (place _ y _ _ _ _ (idx9_0 t) (idx9_1 t) (by omega) (by omega) rfl rfl).symm)
  · have h0 : (i 0 : Nat) < 8192 := (i 0).isLt
    have h1 : (i 1 : Nat) < 1024 := (i 1).isLt
    have hlt : (i 0 : Nat) / 512 < cfg0.N := by rw [hN]; omega
    refine ⟨⟨(i 0 : Nat) / 512, hlt⟩, flush0_9 ⟨_, hlt⟩, ?_⟩
    show i ∈ ((View.whole main_v8_2).slice (win0_9.rect ⟨(i 0 : Nat) / 512, hlt⟩)).set
    rw [View.set_slice_whole, Rect.mem_set_unit]
    exact both (within (T := 512) (((i 0 : Nat) / 512)) (idx9_0 _) (by omega)) (within (T := 1024) (0) (idx9_1 _) (by omega))

theorem idx10_0 : ∀ t : Fin cfg0.N, win0_10.index t 0 = t.val := by decide +kernel
theorem idx10_1 : ∀ t : Fin cfg0.N, win0_10.index t 1 = 0 := by decide +kernel
theorem arr10 (p : Fin cfg0.N → S512x1024.Idx → EReal) (G : S8192x1024.Idx → EReal)
    (hp : ∀ t, (cfg0.win 10).flush t = true → ((dats m 0 c).after 10 t : S512x1024.Idx → EReal) = p t)
    (hG : ∀ t, (cfg0.win 10).flush t = true → ∀ y, p t y = G (ix2 (Fin.ofNat 8192 (t.val * 512 + (r0 y).val)) (Fin.ofNat 1024 (0 * 1024 + (c1 y).val)))) :
    ((dats m 0 c).arrAt 10 cfg0.N : S8192x1024.Idx → EReal) = G := by
  refine (dats m 0 c).arrAt_eq_of_cover 10 G (fun t hf => ?_) fun i => ?_
  · have ht : t.val < 16 := hN ▸ t.isLt
    refine funext fun (y : S512x1024.Idx) => ?_
    refine (congrFun (hp t hf) y).trans ?_
    rw [View.read_apply]
    exact (hG t hf y).trans (congrArg G (place _ y _ _ _ _ (idx10_0 t) (idx10_1 t) (by omega) (by omega) rfl rfl).symm)
  · have h0 : (i 0 : Nat) < 8192 := (i 0).isLt
    have h1 : (i 1 : Nat) < 1024 := (i 1).isLt
    have hlt : (i 0 : Nat) / 512 < cfg0.N := by rw [hN]; omega
    refine ⟨⟨(i 0 : Nat) / 512, hlt⟩, flush0_10 ⟨_, hlt⟩, ?_⟩
    show i ∈ ((View.whole main_v8_3).slice (win0_10.rect ⟨(i 0 : Nat) / 512, hlt⟩)).set
    rw [View.set_slice_whole, Rect.mem_set_unit]
    exact both (within (T := 512) (((i 0 : Nat) / 512)) (idx10_0 _) (by omega)) (within (T := 1024) (0) (idx10_1 _) (by omega))

theorem idx11_0 : ∀ t : Fin cfg0.N, win0_11.index t 0 = 0 := by decide +kernel
theorem idx11_1 : ∀ t : Fin cfg0.N, win0_11.index t 1 = 0 := by decide +kernel
theorem arr11 (p : Fin cfg0.N → S1x1024.Idx → EReal) (G : S1x1024.Idx → EReal)
    (hp : ∀ t, (cfg0.win 11).flush t = true → ((dats m 0 c).after 11 t : S1x1024.Idx → EReal) = p t)
    (hG : ∀ t, (cfg0.win 11).flush t = true → ∀ y, p t y = G (ix2 (Fin.ofNat 1 (0 * 1 + (r0 y).val)) (Fin.ofNat 1024 (0 * 1024 + (c1 y).val)))) :
    ((dats m 0 c).arrAt 11 cfg0.N : S1x1024.Idx → EReal) = G := by
  refine (dats m 0 c).arrAt_eq_of_cover 11 G (fun t hf => ?_) fun i => ?_
  · have ht : t.val < 16 := hN ▸ t.isLt
    refine funext fun (y : S1x1024.Idx) => ?_
    refine (congrFun (hp t hf) y).trans ?_
    rw [View.read_apply]
    exact (hG t hf y).trans (congrArg G (place _ y _ _ _ _ (idx11_0 t) (idx11_1 t) (by omega) (by omega) rfl rfl).symm)
  · have h0 : (i 0 : Nat) < 1 := (i 0).isLt
    have h1 : (i 1 : Nat) < 1024 := (i 1).isLt
    have hlt : 15 < cfg0.N := by rw [hN]; omega
    refine ⟨⟨15, hlt⟩, (flush0_11 ⟨_, hlt⟩).mpr (by show (15) % 16 = 15; omega), ?_⟩
    show i ∈ ((View.whole main_v8_4).slice (win0_11.rect ⟨15, hlt⟩)).set
    rw [View.set_slice_whole, Rect.mem_set_unit]
    exact both (within (T := 1) (0) (idx11_0 _) (by omega)) (within (T := 1024) (0) (idx11_1 _) (by omega))

theorem idx12_0 : ∀ t : Fin cfg0.N, win0_12.index t 0 = 0 := by decide +kernel
theorem idx12_1 : ∀ t : Fin cfg0.N, win0_12.index t 1 = 0 := by decide +kernel
theorem arr12 (p : Fin cfg0.N → S1x1024.Idx → EReal) (G : S1x1024.Idx → EReal)
    (hp : ∀ t, (cfg0.win 12).flush t = true → ((dats m 0 c).after 12 t : S1x1024.Idx → EReal) = p t)
    (hG : ∀ t, (cfg0.win 12).flush t = true → ∀ y, p t y = G (ix2 (Fin.ofNat 1 (0 * 1 + (r0 y).val)) (Fin.ofNat 1024 (0 * 1024 + (c1 y).val)))) :
    ((dats m 0 c).arrAt 12 cfg0.N : S1x1024.Idx → EReal) = G := by
  refine (dats m 0 c).arrAt_eq_of_cover 12 G (fun t hf => ?_) fun i => ?_
  · have ht : t.val < 16 := hN ▸ t.isLt
    refine funext fun (y : S1x1024.Idx) => ?_
    refine (congrFun (hp t hf) y).trans ?_
    rw [View.read_apply]
    exact (hG t hf y).trans (congrArg G (place _ y _ _ _ _ (idx12_0 t) (idx12_1 t) (by omega) (by omega) rfl rfl).symm)
  · have h0 : (i 0 : Nat) < 1 := (i 0).isLt
    have h1 : (i 1 : Nat) < 1024 := (i 1).isLt
    have hlt : 15 < cfg0.N := by rw [hN]; omega
    refine ⟨⟨15, hlt⟩, (flush0_12 ⟨_, hlt⟩).mpr (by show (15) % 16 = 15; omega), ?_⟩
    show i ∈ ((View.whole main_v8_5).slice (win0_12.rect ⟨15, hlt⟩)).set
    rw [View.set_slice_whole, Rect.mem_set_unit]
    exact both (within (T := 1) (0) (idx12_0 _) (by omega)) (within (T := 1024) (0) (idx12_1 _) (by omega))

end Cert.PleBwd

end
-- ==== Proof.PleBwd.Stored.lean ====
/- What a point of the grid stores. -/
module

public import proofs.«01_k».proof.Proof.PleBwd.Geometry

@[expose] public section

noncomputable section

namespace Cert.PleBwd

open Cert.Kernel13Ideal Cert.Kernel13Ideal.Gen Cert.Ext Idealize.ShloMosaic Idealize.ShloMosaic.TcCoe Idealize.ShloMosaic.Tactic Idealize.SL.Sem Cert.Lift Idealize.ShloMosaic.ValueIdx

section
variable {c : Dev nD} {i : grid0.Coords} {arg1 : Memref sig .tc .vmem S512x1024 .f32} {harg1 : arg1.IsWhole} {arg2 : Memref sig .tc .vmem S512x1024 .f32} {harg2 : arg2.IsWhole} {arg3 : Memref sig .tc .vmem S512x256 .f32} {harg3 : arg3.IsWhole} {arg4 : Memref sig .tc .vmem S1x1024 .f32} {harg4 : arg4.IsWhole} {arg5 : Memref sig .tc .vmem S1024x1024 .bf16} {harg5 : arg5.IsWhole} {arg6 : Memref sig .tc .vmem S1x1024 .f32} {harg6 : arg6.IsWhole} {arg7 : Memref sig .tc .vmem S1024x256 .bf16} {harg7 : arg7.IsWhole} {arg8 : Memref sig .tc .vmem S512x1024 .f32} {harg8 : arg8.IsWhole} {arg9 : Memref sig .tc .vmem S512x1024 .bf16} {harg9 : arg9.IsWhole} {arg10 : Memref sig .tc .vmem S512x1024 .bf16} {harg10 : arg10.IsWhole} {arg11 : Memref sig .tc .vmem S512x1024 .bf16} {harg11 : arg11.IsWhole} {arg12 : Memref sig .tc .vmem S1x1024 .f32} {harg12 : arg12.IsWhole} {arg13 : Memref sig .tc .vmem S1x1024 .f32} {harg13 : arg13.IsWhole}
  (x0 x1 : Vec Ideal S512x1024 .f32) (x2 : Vec Ideal S512x256 .f32) (x3 : Vec Ideal S1x1024 .f32) (x4 : Vec Ideal S1024x1024 .bf16) (x5 : Vec Ideal S1x1024 .f32) (x6 : Vec Ideal S1024x256 .bf16) (xo11 xo12 : Vec Ideal S1x1024 .f32)

theorem out7A (hc0 : cond0_0 i) :
    out0_A_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 = k0_pay2 (F := Ideal) (k0_pay7 (F := Ideal) x0) (k0_pay17 (F := Ideal) (k0_pay6 (F := Ideal) x3) (k0_pay7 (F := Ideal) x0) (k0_pay9 (F := Ideal) x1) (k0_pay10 (F := Ideal) x1) (k0_pay11 (F := Ideal) x3 x1 x4 x5) x2 x6 x4) := by
  unfold out0_A_7
  rw [View.read_writes_eq_canon _ _ _ (cover0_A_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6)]
  unfold kernelRun0_A
  dsimp only
  sl_unfold_words
  first | rw [View.canon_unit_zero hz] | rw [View.canon_cons_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz, View.ld_unit_zero (S := S512x256) hz, View.ld_unit_zero (S := S1x1024) hz, View.ld_unit_zero (S := S1024x1024) hz, View.ld_unit_zero (S := S1024x256) hz]

theorem out7B (hc0 : ¬cond0_0 i) :
    out0_B_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo11 xo12 = k0_pay2 (F := Ideal) (k0_pay7 (F := Ideal) x0) (k0_pay17 (F := Ideal) (k0_pay6 (F := Ideal) x3) (k0_pay7 (F := Ideal) x0) (k0_pay9 (F := Ideal) x1) (k0_pay10 (F := Ideal) x1) (k0_pay11 (F := Ideal) x3 x1 x4 x5) x2 x6 x4) := by
  unfold out0_B_7
  rw [View.read_writes_eq_canon _ _ _ (cover0_B_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo11 xo12)]
  unfold kernelRun0_B
  dsimp only
  sl_unfold_words
  first | rw [View.canon_unit_zero hz] | rw [View.canon_cons_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz, View.ld_unit_zero (S := S512x256) hz, View.ld_unit_zero (S := S1x1024) hz, View.ld_unit_zero (S := S1024x1024) hz, View.ld_unit_zero (S := S1024x256) hz]

theorem out8A (hc0 : cond0_0 i) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 = k0_pay3 (F := Ideal) (k0_pay7 (F := Ideal) x0) (k0_pay17 (F := Ideal) (k0_pay6 (F := Ideal) x3) (k0_pay7 (F := Ideal) x0) (k0_pay9 (F := Ideal) x1) (k0_pay10 (F := Ideal) x1) (k0_pay11 (F := Ideal) x3 x1 x4 x5) x2 x6 x4) := by
  unfold out0_A_8
  rw [View.read_writes_eq_canon _ _ _ (cover0_A_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6)]
  unfold kernelRun0_A
  dsimp only
  sl_unfold_words
  first | rw [View.canon_unit_zero hz] | rw [View.canon_cons_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz, View.ld_unit_zero (S := S512x256) hz, View.ld_unit_zero (S := S1x1024) hz, View.ld_unit_zero (S := S1024x1024) hz, View.ld_unit_zero (S := S1024x256) hz]

theorem out8B (hc0 : ¬cond0_0 i) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo11 xo12 = k0_pay3 (F := Ideal) (k0_pay7 (F := Ideal) x0) (k0_pay17 (F := Ideal) (k0_pay6 (F := Ideal) x3) (k0_pay7 (F := Ideal) x0) (k0_pay9 (F := Ideal) x1) (k0_pay10 (F := Ideal) x1) (k0_pay11 (F := Ideal) x3 x1 x4 x5) x2 x6 x4) := by
  unfold out0_B_8
  rw [View.read_writes_eq_canon _ _ _ (cover0_B_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo11 xo12)]
  unfold kernelRun0_B
  dsimp only
  sl_unfold_words
  first | rw [View.canon_unit_zero hz] | rw [View.canon_cons_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz, View.ld_unit_zero (S := S512x256) hz, View.ld_unit_zero (S := S1x1024) hz, View.ld_unit_zero (S := S1024x1024) hz, View.ld_unit_zero (S := S1024x256) hz]

theorem out9A (hc0 : cond0_0 i) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 = k0_pay14 (F := Ideal) (k0_pay7 (F := Ideal) x0) (k0_pay11 (F := Ideal) x3 x1 x4 x5) x2 x6 := by
  unfold out0_A_9
  rw [View.read_writes_eq_canon _ _ _ (cover0_A_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6)]
  unfold kernelRun0_A
  dsimp only
  sl_unfold_words
  first | rw [View.canon_unit_zero hz] | rw [View.canon_cons_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz, View.ld_unit_zero (S := S512x256) hz, View.ld_unit_zero (S := S1x1024) hz, View.ld_unit_zero (S := S1024x1024) hz, View.ld_unit_zero (S := S1024x256) hz]

theorem out9B (hc0 : ¬cond0_0 i) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo11 xo12 = k0_pay14 (F := Ideal) (k0_pay7 (F := Ideal) x0) (k0_pay11 (F := Ideal) x3 x1 x4 x5) x2 x6 := by
  unfold out0_B_9
  rw [View.read_writes_eq_canon _ _ _ (cover0_B_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo11 xo12)]
  unfold kernelRun0_B
  dsimp only
  sl_unfold_words
  first | rw [View.canon_unit_zero hz] | rw [View.canon_cons_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz, View.ld_unit_zero (S := S512x256) hz, View.ld_unit_zero (S := S1x1024) hz, View.ld_unit_zero (S := S1024x1024) hz, View.ld_unit_zero (S := S1024x256) hz]

theorem out10A (hc0 : cond0_0 i) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 = k0_pay12 (F := Ideal) (k0_pay7 (F := Ideal) x0) (k0_pay11 (F := Ideal) x3 x1 x4 x5) := by
  unfold out0_A_10
  rw [View.read_writes_eq_canon _ _ _ (cover0_A_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6)]
  unfold kernelRun0_A
  dsimp only
  sl_unfold_words
  first | rw [View.canon_unit_zero hz] | rw [View.canon_cons_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz, View.ld_unit_zero (S := S512x256) hz, View.ld_unit_zero (S := S1x1024) hz, View.ld_unit_zero (S := S1024x1024) hz, View.ld_unit_zero (S := S1024x256) hz]

theorem out10B (hc0 : ¬cond0_0 i) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo11 xo12 = k0_pay12 (F := Ideal) (k0_pay7 (F := Ideal) x0) (k0_pay11 (F := Ideal) x3 x1 x4 x5) := by
  unfold out0_B_10
  rw [View.read_writes_eq_canon _ _ _ (cover0_B_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo11 xo12)]
  unfold kernelRun0_B
  dsimp only
  sl_unfold_words
  first | rw [View.canon_unit_zero hz] | rw [View.canon_cons_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz, View.ld_unit_zero (S := S512x256) hz, View.ld_unit_zero (S := S1x1024) hz, View.ld_unit_zero (S := S1024x1024) hz, View.ld_unit_zero (S := S1024x256) hz]

theorem out11A (hc0 : cond0_0 i) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 = k0_pay1 (F := Ideal) (k0_pay18 (F := Ideal) (k0_pay7 (F := Ideal) x0) (k0_pay10 (F := Ideal) x1) (k0_pay11 (F := Ideal) x3 x1 x4 x5) x2 x6 x4) (k0_pay4 (F := Ideal)) := by
  unfold out0_A_11
  rw [View.read_writes_eq_canon _ _ _ (cover0_A_11 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6)]
  unfold kernelRun0_A
  dsimp only
  sl_unfold_words
  first | rw [View.canon_unit_zero hz] | rw [View.canon_cons_unit_zero (S := S1x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz, View.ld_unit_zero (S := S512x256) hz, View.ld_unit_zero (S := S1x1024) hz, View.ld_unit_zero (S := S1024x1024) hz, View.ld_unit_zero (S := S1024x256) hz]
  congr 1
  exact View.readCov_unit_zero (S := S1x1024) _ hz _ _

theorem out11B (hc0 : ¬cond0_0 i) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo11 xo12 = k0_pay1 (F := Ideal) (k0_pay18 (F := Ideal) (k0_pay7 (F := Ideal) x0) (k0_pay10 (F := Ideal) x1) (k0_pay11 (F := Ideal) x3 x1 x4 x5) x2 x6 x4) xo11 := by
  unfold out0_B_11
  rw [View.read_writes_eq_canon _ _ _ (cover0_B_11 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo11 xo12)]
  unfold kernelRun0_B
  dsimp only
  sl_unfold_words
  first | rw [View.canon_unit_zero hz] | rw [View.canon_cons_unit_zero (S := S1x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz, View.ld_unit_zero (S := S512x256) hz, View.ld_unit_zero (S := S1x1024) hz, View.ld_unit_zero (S := S1024x1024) hz, View.ld_unit_zero (S := S1024x256) hz]

theorem out12A (hc0 : cond0_0 i) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 = k0_pay15 (F := Ideal) (k0_pay7 (F := Ideal) x0) (k0_pay11 (F := Ideal) x3 x1 x4 x5) x2 x6 (k0_pay5 (F := Ideal)) := by
  unfold out0_A_12
  rw [View.read_writes_eq_canon _ _ _ (cover0_A_12 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6)]
  unfold kernelRun0_A
  dsimp only
  sl_unfold_words
  first | rw [View.canon_unit_zero hz] | rw [View.canon_cons_unit_zero (S := S1x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz, View.ld_unit_zero (S := S512x256) hz, View.ld_unit_zero (S := S1x1024) hz, View.ld_unit_zero (S := S1024x1024) hz, View.ld_unit_zero (S := S1024x256) hz]
  congr 1
  exact View.readCov_unit_zero (S := S1x1024) _ hz _ _

theorem out12B (hc0 : ¬cond0_0 i) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo11 xo12 = k0_pay15 (F := Ideal) (k0_pay7 (F := Ideal) x0) (k0_pay11 (F := Ideal) x3 x1 x4 x5) x2 x6 xo12 := by
  unfold out0_B_12
  rw [View.read_writes_eq_canon _ _ _ (cover0_B_12 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo11 xo12)]
  unfold kernelRun0_B
  dsimp only
  sl_unfold_words
  first | rw [View.canon_unit_zero hz] | rw [View.canon_cons_unit_zero (S := S1x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz, View.ld_unit_zero (S := S512x256) hz, View.ld_unit_zero (S := S1x1024) hz, View.ld_unit_zero (S := S1024x1024) hz, View.ld_unit_zero (S := S1024x256) hz]

end

variable (m : (ℓ : Loc nD τ sig) → Buf (Elt Ideal) ℓ) (c : Dev nD)

theorem at7 (t : Fin cfg0.N) : (outsAt0 m c t.val t.isLt).1 = k0_pay2 (F := Ideal) (k0_pay7 (F := Ideal) (iblk m c 0 t)) (k0_pay17 (F := Ideal) (k0_pay6 (F := Ideal) (iblk m c 3 t)) (k0_pay7 (F := Ideal) (iblk m c 0 t)) (k0_pay9 (F := Ideal) (iblk m c 1 t)) (k0_pay10 (F := Ideal) (iblk m c 1 t)) (k0_pay11 (F := Ideal) (iblk m c 3 t) (iblk m c 1 t) (iblk m c 4 t) (iblk m c 5 t)) (iblk m c 2 t) (iblk m c 6 t) (iblk m c 4 t)) := by
  by_cases h0 : t.val % 16 = 0
  · rw [outsAt0_A m c t h0]
    dsimp only
    exact out7A (c := c) (i := grid0.coords t) (x0 := iblk m c 0 t) (x1 := iblk m c 1 t) (x2 := iblk m c 2 t) (x3 := iblk m c 3 t) (x4 := iblk m c 4 t) (x5 := iblk m c 5 t) (x6 := iblk m c 6 t) _
  · rw [outsAt0_B m c t h0]
    dsimp only
    exact out7B (c := c) (i := grid0.coords t) (x0 := iblk m c 0 t) (x1 := iblk m c 1 t) (x2 := iblk m c 2 t) (x3 := iblk m c 3 t) (x4 := iblk m c 4 t) (x5 := iblk m c 5 t) (x6 := iblk m c 6 t) _ _ _

theorem at8 (t : Fin cfg0.N) : (outsAt0 m c t.val t.isLt).2.1 = k0_pay3 (F := Ideal) (k0_pay7 (F := Ideal) (iblk m c 0 t)) (k0_pay17 (F := Ideal) (k0_pay6 (F := Ideal) (iblk m c 3 t)) (k0_pay7 (F := Ideal) (iblk m c 0 t)) (k0_pay9 (F := Ideal) (iblk m c 1 t)) (k0_pay10 (F := Ideal) (iblk m c 1 t)) (k0_pay11 (F := Ideal) (iblk m c 3 t) (iblk m c 1 t) (iblk m c 4 t) (iblk m c 5 t)) (iblk m c 2 t) (iblk m c 6 t) (iblk m c 4 t)) := by
  by_cases h0 : t.val % 16 = 0
  · rw [outsAt0_A m c t h0]
    dsimp only
    exact out8A (c := c) (i := grid0.coords t) (x0 := iblk m c 0 t) (x1 := iblk m c 1 t) (x2 := iblk m c 2 t) (x3 := iblk m c 3 t) (x4 := iblk m c 4 t) (x5 := iblk m c 5 t) (x6 := iblk m c 6 t) _
  · rw [outsAt0_B m c t h0]
    dsimp only
    exact out8B (c := c) (i := grid0.coords t) (x0 := iblk m c 0 t) (x1 := iblk m c 1 t) (x2 := iblk m c 2 t) (x3 := iblk m c 3 t) (x4 := iblk m c 4 t) (x5 := iblk m c 5 t) (x6 := iblk m c 6 t) _ _ _

theorem at9 (t : Fin cfg0.N) : (outsAt0 m c t.val t.isLt).2.2.1 = k0_pay14 (F := Ideal) (k0_pay7 (F := Ideal) (iblk m c 0 t)) (k0_pay11 (F := Ideal) (iblk m c 3 t) (iblk m c 1 t) (iblk m c 4 t) (iblk m c 5 t)) (iblk m c 2 t) (iblk m c 6 t) := by
  by_cases h0 : t.val % 16 = 0
  · rw [outsAt0_A m c t h0]
    dsimp only
    exact out9A (c := c) (i := grid0.coords t) (x0 := iblk m c 0 t) (x1 := iblk m c 1 t) (x2 := iblk m c 2 t) (x3 := iblk m c 3 t) (x4 := iblk m c 4 t) (x5 := iblk m c 5 t) (x6 := iblk m c 6 t) _
  · rw [outsAt0_B m c t h0]
    dsimp only
    exact out9B (c := c) (i := grid0.coords t) (x0 := iblk m c 0 t) (x1 := iblk m c 1 t) (x2 := iblk m c 2 t) (x3 := iblk m c 3 t) (x4 := iblk m c 4 t) (x5 := iblk m c 5 t) (x6 := iblk m c 6 t) _ _ _

theorem at10 (t : Fin cfg0.N) : (outsAt0 m c t.val t.isLt).2.2.2.1 = k0_pay12 (F := Ideal) (k0_pay7 (F := Ideal) (iblk m c 0 t)) (k0_pay11 (F := Ideal) (iblk m c 3 t) (iblk m c 1 t) (iblk m c 4 t) (iblk m c 5 t)) := by
  by_cases h0 : t.val % 16 = 0
  · rw [outsAt0_A m c t h0]
    dsimp only
    exact out10A (c := c) (i := grid0.coords t) (x0 := iblk m c 0 t) (x1 := iblk m c 1 t) (x2 := iblk m c 2 t) (x3 := iblk m c 3 t) (x4 := iblk m c 4 t) (x5 := iblk m c 5 t) (x6 := iblk m c 6 t) _
  · rw [outsAt0_B m c t h0]
    dsimp only
    exact out10B (c := c) (i := grid0.coords t) (x0 := iblk m c 0 t) (x1 := iblk m c 1 t) (x2 := iblk m c 2 t) (x3 := iblk m c 3 t) (x4 := iblk m c 4 t) (x5 := iblk m c 5 t) (x6 := iblk m c 6 t) _ _ _

theorem at11A (t : Fin cfg0.N) (h0 : t.val % 16 = 0) : (outsAt0 m c t.val t.isLt).2.2.2.2.1 = k0_pay1 (F := Ideal) (k0_pay18 (F := Ideal) (k0_pay7 (F := Ideal) (iblk m c 0 t)) (k0_pay10 (F := Ideal) (iblk m c 1 t)) (k0_pay11 (F := Ideal) (iblk m c 3 t) (iblk m c 1 t) (iblk m c 4 t) (iblk m c 5 t)) (iblk m c 2 t) (iblk m c 6 t) (iblk m c 4 t)) (k0_pay4 (F := Ideal)) := by
  rw [outsAt0_A m c t h0]
  dsimp only
  exact out11A (c := c) (i := grid0.coords t) (x0 := iblk m c 0 t) (x1 := iblk m c 1 t) (x2 := iblk m c 2 t) (x3 := iblk m c 3 t) (x4 := iblk m c 4 t) (x5 := iblk m c 5 t) (x6 := iblk m c 6 t) _

theorem at11B (t : Fin cfg0.N) (h0 : ¬t.val % 16 = 0) : (outsAt0 m c t.val t.isLt).2.2.2.2.1 = k0_pay1 (F := Ideal) (k0_pay18 (F := Ideal) (k0_pay7 (F := Ideal) (iblk m c 0 t)) (k0_pay10 (F := Ideal) (iblk m c 1 t)) (k0_pay11 (F := Ideal) (iblk m c 3 t) (iblk m c 1 t) (iblk m c 4 t) (iblk m c 5 t)) (iblk m c 2 t) (iblk m c 6 t) (iblk m c 4 t)) (outsAt0 m c (t.val - 1) (Nat.lt_of_le_of_lt (Nat.sub_le _ _) t.isLt)).2.2.2.2.1 := by
  rw [outsAt0_B m c t h0]
  dsimp only
  exact out11B (c := c) (i := grid0.coords t) (x0 := iblk m c 0 t) (x1 := iblk m c 1 t) (x2 := iblk m c 2 t) (x3 := iblk m c 3 t) (x4 := iblk m c 4 t) (x5 := iblk m c 5 t) (x6 := iblk m c 6 t) _ _ _

theorem at12A (t : Fin cfg0.N) (h0 : t.val % 16 = 0) : (outsAt0 m c t.val t.isLt).2.2.2.2.2 = k0_pay15 (F := Ideal) (k0_pay7 (F := Ideal) (iblk m c 0 t)) (k0_pay11 (F := Ideal) (iblk m c 3 t) (iblk m c 1 t) (iblk m c 4 t) (iblk m c 5 t)) (iblk m c 2 t) (iblk m c 6 t) (k0_pay5 (F := Ideal)) := by
  rw [outsAt0_A m c t h0]
  dsimp only
  exact out12A (c := c) (i := grid0.coords t) (x0 := iblk m c 0 t) (x1 := iblk m c 1 t) (x2 := iblk m c 2 t) (x3 := iblk m c 3 t) (x4 := iblk m c 4 t) (x5 := iblk m c 5 t) (x6 := iblk m c 6 t) _

theorem at12B (t : Fin cfg0.N) (h0 : ¬t.val % 16 = 0) : (outsAt0 m c t.val t.isLt).2.2.2.2.2 = k0_pay15 (F := Ideal) (k0_pay7 (F := Ideal) (iblk m c 0 t)) (k0_pay11 (F := Ideal) (iblk m c 3 t) (iblk m c 1 t) (iblk m c 4 t) (iblk m c 5 t)) (iblk m c 2 t) (iblk m c 6 t) (outsAt0 m c (t.val - 1) (Nat.lt_of_le_of_lt (Nat.sub_le _ _) t.isLt)).2.2.2.2.2 := by
  rw [outsAt0_B m c t h0]
  dsimp only
  exact out12B (c := c) (i := grid0.coords t) (x0 := iblk m c 0 t) (x1 := iblk m c 1 t) (x2 := iblk m c 2 t) (x3 := iblk m c 3 t) (x4 := iblk m c 4 t) (x5 := iblk m c 5 t) (x6 := iblk m c 6 t) _ _ _

end Cert.PleBwd

end
-- ==== Proof.PleBwd.Value.lean ====
/- The six arrays the call returns: the gradient of the rows, twice, the cotangents of the gate and of the projection, and the gradients of the gain and the bias. -/
module

public import proofs.«01_k».proof.Proof.PleBwd.Stored

@[expose] public section

noncomputable section

namespace Cert.PleBwd

open Cert.Kernel13Ideal Cert.Kernel13Ideal.Gen Cert.Ext Idealize.ShloMosaic Idealize.ShloMosaic.TcCoe Idealize.ShloMosaic.Tactic Idealize.SL.Sem Cert.Lift Idealize.ShloMosaic.ValueIdx

/-! ### The stored values, index by index -/

section
variable (x0 x1 : S512x1024.Idx → EReal) (x2 : S512x256.Idx → EReal) (x3 : S1x1024.Idx → EReal) (x4 : S1024x1024.Idx → EReal) (x5 : S1x1024.Idx → EReal) (x6 : S1024x256.Idx → EReal)

theorem pay6 : (k0_pay6 (F := Ideal) x3 : S1x1024.Idx → EReal) = x3 := by
  unfold k0_pay6
  exact shapeCast_self _ _

theorem pay7 : (k0_pay7 (F := Ideal) x0 : S512x1024.Idx → EReal) = x0 := by
  unfold k0_pay7
  exact shapeCast_self _ _

theorem pay8 : (k0_pay8 (F := Ideal) x1 : S512x1024.Idx → EReal) = x1 := by
  unfold k0_pay8
  exact shapeCast_self _ _

theorem pay9 : (k0_pay9 (F := Ideal) x1 : S512x1.Idx → EReal) = fun j => inv (∑ k : Fin 1024, x1 (ix2 (r0 j) k) * x1 (ix2 (r0 j) k)) := by
  unfold k0_pay9
  rw [pay8]
  exact blk_inv x1 _ _ _ _ _

theorem pay10 : (k0_pay10 (F := Ideal) x1 : S512x1024.Idx → EReal) = mulf (F := Ideal) (φ := .f32) x1 (broadcastTo S512x1024 (k0_pay9 (F := Ideal) x1) broadcasts_S512x1_S512x1024) := by
  unfold k0_pay10
  rw [pay8]

theorem pay10' : (k0_pay10 (F := Ideal) x1 : S512x1024.Idx → EReal) = fun j => x1 j * inv (∑ k : Fin 1024, x1 (ix2 (r0 j) k) * x1 (ix2 (r0 j) k)) := by
  rw [pay10, pay9, colTo]
  rfl

theorem normed : (mulf (F := Ideal) (φ := .f32) (k0_pay10 (F := Ideal) x1) (broadcastTo S512x1024 (k0_pay6 (F := Ideal) x3) broadcasts_S1x1024_S512x1024) : S512x1024.Idx → EReal) = rowNorm x1 x3 := by
  rw [pay10', pay6, rowTo]
  rfl

/-- A block of the gate. -/
theorem pay11 : (k0_pay11 (F := Ideal) x3 x1 x4 x5 : S512x1024.Idx → EReal) = fun j => sg ((∑ k : Fin 1024, rowNorm x1 x3 (ix2 (r0 j) k) * x4 (ix2 k (c1 j))) + x5 (ix2 0 (c1 j))) := by
  unfold k0_pay11
  dsimp only
  rw [normed]
  rw [shapeCast_self, shapeCast_self, rowTo]
  have hm := matmul_nn dot_S512x1024_S1024x1024_S512x1024_1_0_0_1_n_n rfl rfl rfl rfl rfl rfl none (φ := .bf16) (ψ := .bf16) (rowNorm x1 x3) x4
  funext j
  refine congrArg (fun z => Ideal.div (Ideal.ofBits .f32 0x3F800000#32) (Ideal.ofBits .f32 0x3F800000#32 + Ideal.exp z)) ?_
  refine (congrArg (· - _) zeroF).trans ((zero_sub _).trans (congrArg Neg.neg ?_))
  exact congrArg (· + x5 (ix2 0 (c1 j))) (congrFun hm j)

/-- A block of the gate's cotangent. -/
theorem pay13 (s : S512x1024.Idx → EReal) : (k0_pay13 (F := Ideal) x0 s x2 x6 : S512x1024.Idx → EReal)
    = fun j => x0 j * (∑ k : Fin 256, x2 (ix2 (r0 j) k) * x6 (ix2 (c1 j) k)) * s j * (Ideal.ofBits .f32 0x3F800000#32 - s j) := by
  unfold k0_pay13
  dsimp only
  rw [shapeCast_self, shapeCast_self]
  have hm := matmul_nt dot_S512x256_S1024x256_S512x1024_1_1_0_0_n_n rfl rfl rfl rfl rfl rfl none (φ := .bf16) (ψ := .bf16) x2 x6
  funext j
  exact congrArg (fun z => x0 j * z * s j * (Ideal.ofBits .f32 0x3F800000#32 - s j)) (congrFun hm j)

theorem pay16 (s : S512x1024.Idx → EReal) : (k0_pay16 (F := Ideal) x0 s x2 x6 x4 : S512x1024.Idx → EReal)
    = fun j => ∑ k : Fin 1024, (k0_pay13 (F := Ideal) x0 s x2 x6 : S512x1024.Idx → EReal) (ix2 (r0 j) k) * x4 (ix2 (c1 j) k) := by
  unfold k0_pay16
  dsimp only
  rw [shapeCast_self]
  exact matmul_nt dot_S512x1024_S1024x1024_S512x1024_1_1_0_0_n_n rfl rfl rfl rfl rfl rfl none (φ := .bf16) (ψ := .bf16) (k0_pay13 (F := Ideal) x0 s x2 x6) x4

theorem rows (s : S512x1024.Idx → EReal) : (k0_pay2 (F := Ideal) (k0_pay7 (F := Ideal) x0) (k0_pay17 (F := Ideal) (k0_pay6 (F := Ideal) x3) (k0_pay7 (F := Ideal) x0) (k0_pay9 (F := Ideal) x1) (k0_pay10 (F := Ideal) x1) s x2 x6 x4) : S512x1024.Idx → EReal)
    = backBlk x0 x1 (fun j => (k0_pay16 (F := Ideal) (k0_pay7 (F := Ideal) x0) s x2 x6 x4 : S512x1024.Idx → EReal) j * x3 (ix2 0 (c1 j))) := by
  rw [pay6]
  unfold k0_pay2 k0_pay17
  rw [pay10, pay7]
  dsimp only
  refine (blk_back x0 x1 (mulf (F := Ideal) (φ := .f32) (k0_pay16 (F := Ideal) x0 s x2 x6 x4) (broadcastTo S512x1024 x3 broadcasts_S1x1024_S512x1024)) (k0_pay9 (F := Ideal) x1) (pay9 x1) _ _ _ _ _ _).trans ?_
  refine congrArg (backBlk x0 x1) ?_
  rw [rowTo]
  rfl

theorem gains (d a) : (k0_pay1 (F := Ideal) (mulf (F := Ideal) (φ := .f32) d (k0_pay10 (F := Ideal) x1)) a : S1x1024.Idx → EReal) = fun j => a j + ∑ y : Fin 512,
    (d : S512x1024.Idx → EReal) (ix2 y (c1 j)) * (x1 (ix2 y (c1 j)) * inv (∑ k : Fin 1024, x1 (ix2 y k) * x1 (ix2 y k))) := by
  rw [pay10']
  unfold k0_pay1
  dsimp only
  rw [shapeCast_self]
  exact blk_gain _ _ a _ _ _ _ _

theorem bias (s : S512x1024.Idx → EReal) (a) : (k0_pay15 (F := Ideal) x0 s x2 x6 a : S1x1024.Idx → EReal) = fun j => a j + ∑ y : Fin 512, (k0_pay13 (F := Ideal) x0 s x2 x6 : S512x1024.Idx → EReal) (ix2 y (c1 j)) := by
  unfold k0_pay15
  dsimp only
  rw [shapeCast_self]
  exact blk_col _ a _ _ _ _ _

theorem zeros : (k0_pay4 (F := Ideal) : S1x1024.Idx → EReal) = fun _ => 0 := by
  unfold k0_pay4
  funext j
  exact zeroF

theorem zeros' : (k0_pay5 (F := Ideal) : S1x1024.Idx → EReal) = fun _ => 0 := by
  unfold k0_pay5
  funext j
  exact zeroF

end

/-! ### The results -/

/-- The gate. -/
def gate (r : Arr S4x2048x1024) (g : Arr S1024) (wg : Arr S1024x1024) (bg : Arr S1024) : Arr S4x2048x1024 := fun j =>
  sg ((∑ k : Fin 1024, norm r g (ix3 (d0 j) (d1 j) k) * wg (ix2 k (d2 j))) + bg (ix1 (d2 j)))

/-- The projected embedding. -/
def proj (p : Arr S4x2048x256) (wp : Arr S256x1024) : Arr S4x2048x1024 := fun j => ∑ k : Fin 256, p (ix3 (d0 j) (d1 j) k) * wp (ix2 k (d2 j))

section
variable (ct r : Arr S4x2048x1024) (p : Arr S4x2048x256) (g : Arr S1024) (wg : Arr S1024x1024) (bg : Arr S1024) (wp : Arr S256x1024)

/-- The cotangent of the gate's logits. -/
def dlog : Arr S4x2048x1024 := fun j => ct j * proj p wp j * gate r g wg bg j * (Ideal.ofBits .f32 0x3F800000#32 - gate r g wg bg j)

/-- The cotangent of the projection. -/
def dpp : Arr S4x2048x1024 := fun j => ct j * gate r g wg bg j

/-- The gradient of the normalised rows. -/
def dh : Arr S4x2048x1024 := fun j => ∑ k : Fin 1024, dlog ct r p g wg bg wp (ix3 (d0 j) (d1 j) k) * wg (ix2 (d2 j) k)

/-- … times the gain. -/
def dx : Arr S4x2048x1024 := fun j => dh ct r p g wg bg wp j * g (ix1 (d2 j))

end

variable (m : (ℓ : Loc nD τ sig) → Buf (Elt Ideal) ℓ) (c : Dev nD)
variable (ct r : Arr S4x2048x1024) (p : Arr S4x2048x256) (g : Arr S1024) (wg : Arr S1024x1024) (bg : Arr S1024) (wp : Arr S256x1024)
  (hct : m ((c : Thread nD τ).loc main_arg0) = ct) (hr : m ((c : Thread nD τ).loc main_arg1) = r) (hp : m ((c : Thread nD τ).loc main_arg2) = p)
  (hg : m ((c : Thread nD τ).loc main_arg3) = g) (hwg : m ((c : Thread nD τ).loc main_arg4) = wg) (hbg : m ((c : Thread nD τ).loc main_arg5) = bg) (hwp : m ((c : Thread nD τ).loc main_arg6) = wp)
include hct hr hp hg hwg hbg hwp

theorem reads : (V m c main_v0 : S8192x1024.Idx → EReal) = flatA ct ∧ (V m c main_v1 : S8192x1024.Idx → EReal) = flatA r ∧ (V m c main_v2 : S8192x256.Idx → EReal) = flatA p
    ∧ (V m c main_v3 : S1x1024.Idx → EReal) = (fun j => g (ix1 (c1 j))) ∧ (V m c main_v4 : S1024x1024.Idx → EReal) = wg ∧ (V m c main_v5 : S1x1024.Idx → EReal) = (fun j => bg (ix1 (c1 j)))
    ∧ (V m c main_v7 : S1024x256.Idx → EReal) = (fun j => wp (ix2 (c1 j) (r0 j))) := by
  refine ⟨?_, ?_, ?_, ?_, ?_, ?_, ?_⟩
  · rw [← hct]; exact flat8 (m ((c : Thread nD τ).loc main_arg0)) shapeCasts_S4x2048x1024_S8192x1024
  · rw [← hr]; exact flat8 (m ((c : Thread nD τ).loc main_arg1)) shapeCasts_S4x2048x1024_S8192x1024
  · rw [← hp]; exact flat8 (m ((c : Thread nD τ).loc main_arg2)) shapeCasts_S4x2048x256_S8192x256
  · rw [← hg]; exact asRow (m ((c : Thread nD τ).loc main_arg3)) shapeCasts_S1024_S1x1024
  · rw [← hwg]; rfl
  · rw [← hbg]; exact asRow (m ((c : Thread nD τ).loc main_arg5)) shapeCasts_S1024_S1x1024
  · rw [← hwp]; exact swap (m ((c : Thread nD τ).loc main_arg6)) transposes_S256x1024_S1024x256_1_0

/-- A point's block of the gate. -/
theorem gateAt (t : Fin cfg0.N) : ((k0_pay11 (F := Ideal) (iblk m c 3 t) (iblk m c 1 t) (iblk m c 4 t) (iblk m c 5 t)) : S512x1024.Idx → EReal) = fun y => flatA (gate r g wg bg) (ix2 (Fin.ofNat 8192 (t.val * 512 + (r0 y).val)) (c1 y)) := by
  obtain ⟨e0, e1, e2, e3, e4, e5, e6⟩ := reads m c ct r p g wg bg wp hct hr hp hg hwg hbg hwp
  refine (congr4 (k0_pay11 (F := Ideal)) (rd3 m c t _ e3) (rd1 m c t _ e1) (rd4 m c t _ e4) (rd5 m c t _ e5)).trans ((pay11 _ _ _ _).trans ?_)
  funext y
  simp only [ofNat_fst, rowNorm]
  rfl

theorem ctAt (t : Fin cfg0.N) : ((k0_pay7 (F := Ideal) (iblk m c 0 t)) : S512x1024.Idx → EReal) = fun y => flatA ct (ix2 (Fin.ofNat 8192 (t.val * 512 + (r0 y).val)) (c1 y)) := by
  obtain ⟨e0, e1, e2, e3, e4, e5, e6⟩ := reads m c ct r p g wg bg wp hct hr hp hg hwg hbg hwp
  refine (pay7 _).trans ((rd0 m c t _ e0).trans ?_)
  funext y
  simp only [ofNat_fst]

/-- A point's block of the cotangent of the logits. -/
theorem dlogAt (t : Fin cfg0.N) : (k0_pay13 (F := Ideal) (k0_pay7 (F := Ideal) (iblk m c 0 t)) (k0_pay11 (F := Ideal) (iblk m c 3 t) (iblk m c 1 t) (iblk m c 4 t) (iblk m c 5 t)) (iblk m c 2 t) (iblk m c 6 t) : S512x1024.Idx → EReal) = fun y => flatA (dlog ct r p g wg bg wp) (ix2 (Fin.ofNat 8192 (t.val * 512 + (r0 y).val)) (c1 y)) := by
  obtain ⟨e0, e1, e2, e3, e4, e5, e6⟩ := reads m c ct r p g wg bg wp hct hr hp hg hwg hbg hwp
  refine (congr4 (k0_pay13 (F := Ideal)) (ctAt m c ct r p g wg bg wp hct hr hp hg hwg hbg hwp t) (gateAt m c ct r p g wg bg wp hct hr hp hg hwg hbg hwp t) (rd2 m c t _ e2) (rd6 m c t _ e6)).trans ((pay13 _ _ _ _).trans ?_)
  funext y
  simp only [ofNat_fst]
  rfl

/-- A point's block of the gradient of the normalised rows. -/
theorem dhAt (t : Fin cfg0.N) : (k0_pay16 (F := Ideal) (k0_pay7 (F := Ideal) (iblk m c 0 t)) (k0_pay11 (F := Ideal) (iblk m c 3 t) (iblk m c 1 t) (iblk m c 4 t) (iblk m c 5 t)) (iblk m c 2 t) (iblk m c 6 t) (iblk m c 4 t) : S512x1024.Idx → EReal) = fun y => flatA (dh ct r p g wg bg wp) (ix2 (Fin.ofNat 8192 (t.val * 512 + (r0 y).val)) (c1 y)) := by
  obtain ⟨e0, e1, e2, e3, e4, e5, e6⟩ := reads m c ct r p g wg bg wp hct hr hp hg hwg hbg hwp
  refine (pay16 _ _ _ _ _).trans ?_
  refine (congrArg₂ (fun (d : S512x1024.Idx → EReal) (w : S1024x1024.Idx → EReal) => fun j : S512x1024.Idx => ∑ k : Fin 1024, d (ix2 (r0 j) k) * w (ix2 (c1 j) k)) (dlogAt m c ct r p g wg bg wp hct hr hp hg hwg hbg hwp t) (rd4 m c t _ e4)).trans ?_
  funext y
  simp only [ofNat_fst]
  rfl

theorem rowsAt (t : Fin cfg0.N) : (k0_pay2 (F := Ideal) (k0_pay7 (F := Ideal) (iblk m c 0 t)) (k0_pay17 (F := Ideal) (k0_pay6 (F := Ideal) (iblk m c 3 t)) (k0_pay7 (F := Ideal) (iblk m c 0 t)) (k0_pay9 (F := Ideal) (iblk m c 1 t)) (k0_pay10 (F := Ideal) (iblk m c 1 t)) (k0_pay11 (F := Ideal) (iblk m c 3 t) (iblk m c 1 t) (iblk m c 4 t) (iblk m c 5 t)) (iblk m c 2 t) (iblk m c 6 t) (iblk m c 4 t)) : S512x1024.Idx → EReal) = fun y => flatA (back ct r (dx ct r p g wg bg wp)) (ix2 (Fin.ofNat 8192 (t.val * 512 + (r0 y).val)) (c1 y)) := by
  obtain ⟨e0, e1, e2, e3, e4, e5, e6⟩ := reads m c ct r p g wg bg wp hct hr hp hg hwg hbg hwp
  refine (rows _ _ _ _ _ _ _).trans ((congr3 backBlk (rd0 m c t _ e0) (rd1 m c t _ e1) (congrArg₂ (fun (a : S512x1024.Idx → EReal) (b : S1x1024.Idx → EReal) => fun j => a j * b (ix2 0 (c1 j)))
      (dhAt m c ct r p g wg bg wp hct hr hp hg hwg hbg hwp t) (rd3 m c t _ e3))).trans ?_)
  funext y
  simp only [ofNat_fst, backBlk]
  rfl

theorem array7 : ((dats m 0 c).arrAt 7 cfg0.N : S8192x1024.Idx → EReal) = flatA (back ct r (dx ct r p g wg bg wp)) := by
  refine arr7 m c _ _ (fun t _ => (after0_7 m c t).trans ((at7 m c t).trans (rowsAt m c ct r p g wg bg wp hct hr hp hg hwg hbg hwp t))) (fun t _ y => ?_)
  simp only [ofNat_fst]

theorem array8 : ((dats m 0 c).arrAt 8 cfg0.N : S8192x1024.Idx → EReal) = flatA (back ct r (dx ct r p g wg bg wp)) := by
  refine arr8 m c _ _ (fun t _ => (after0_8 m c t).trans ((at8 m c t).trans (rowsAt m c ct r p g wg bg wp hct hr hp hg hwg hbg hwp t))) (fun t _ y => ?_)
  simp only [ofNat_fst]

theorem array9 : ((dats m 0 c).arrAt 9 cfg0.N : S8192x1024.Idx → EReal) = flatA (dlog ct r p g wg bg wp) := by
  refine arr9 m c _ _ (fun t _ => (after0_9 m c t).trans ((at9 m c t).trans (dlogAt m c ct r p g wg bg wp hct hr hp hg hwg hbg hwp t))) (fun t _ y => ?_)
  simp only [ofNat_fst]

theorem array10 : ((dats m 0 c).arrAt 10 cfg0.N : S8192x1024.Idx → EReal) = flatA (dpp ct r g wg bg) := by
  refine arr10 m c _ _ (fun t _ => (after0_10 m c t).trans ((at10 m c t).trans (congrArg₂ (fun (a b : S512x1024.Idx → EReal) => fun j => a j * b j) (ctAt m c ct r p g wg bg wp hct hr hp hg hwg hbg hwp t) (gateAt m c ct r p g wg bg wp hct hr hp hg hwg hbg hwp t)))) (fun t _ y => ?_)
  simp only [ofNat_fst]
  rfl

theorem gainAt (b : S1x1024.Idx → EReal) (t : Fin cfg0.N) : (k0_pay1 (F := Ideal) (k0_pay18 (F := Ideal) (k0_pay7 (F := Ideal) (iblk m c 0 t)) (k0_pay10 (F := Ideal) (iblk m c 1 t)) (k0_pay11 (F := Ideal) (iblk m c 3 t) (iblk m c 1 t) (iblk m c 4 t) (iblk m c 5 t)) (iblk m c 2 t) (iblk m c 6 t) (iblk m c 4 t)) b : S1x1024.Idx → EReal) = fun j => b j + gainBlk 512 r (dh ct r p g wg bg wp) t.val j := by
  obtain ⟨e0, e1, e2, e3, e4, e5, e6⟩ := reads m c ct r p g wg bg wp hct hr hp hg hwg hbg hwp
  have hd := dhAt m c ct r p g wg bg wp hct hr hp hg hwg hbg hwp t
  have h3 : (iblk m c 1 t : S512x1024.Idx → EReal) = fun y => flatA r (ix2 (Fin.ofNat 8192 (t.val * 512 + (r0 y).val)) (c1 y)) := by
    refine (rd1 m c t _ e1).trans ?_
    funext y
    simp only [ofNat_fst]
  refine (gains _ _ _).trans ?_
  funext j
  refine congrArg (b j + ·) (Finset.sum_congr rfl fun y _ => ?_)
  exact congrArg₂ (· * ·) (congrFun hd (ix2 y (c1 j))) (by rw [h3]; rfl)

theorem biasAt (b : S1x1024.Idx → EReal) (t : Fin cfg0.N) : (k0_pay15 (F := Ideal) (k0_pay7 (F := Ideal) (iblk m c 0 t)) (k0_pay11 (F := Ideal) (iblk m c 3 t) (iblk m c 1 t) (iblk m c 4 t) (iblk m c 5 t)) (iblk m c 2 t) (iblk m c 6 t) b : S1x1024.Idx → EReal) = fun j => b j + colBlk 512 (dlog ct r p g wg bg wp) t.val j := by
  have hd := dlogAt m c ct r p g wg bg wp hct hr hp hg hwg hbg hwp t
  refine (bias _ _ _ _ _).trans ?_
  funext j
  exact congrArg (b j + ·) (Finset.sum_congr rfl fun y _ => congrFun hd (ix2 y (c1 j)))

theorem acc11 : ∀ n h, ((outsAt0 m c n h).2.2.2.2.1 : S1x1024.Idx → EReal) = part 16 (gainBlk 512 r (dh ct r p g wg bg wp)) n := by
  refine sweep 16 (fun n h => ((outsAt0 m c n h).2.2.2.2.1 : S1x1024.Idx → EReal) = part 16 (gainBlk 512 r (dh ct r p g wg bg wp)) n) (fun n h h0 => ?_) (fun n h h0 h' ih => ?_)
  · rw [part_first 16 _ n h0]
    refine (at11A m c ⟨n, h⟩ h0).trans ?_
    refine (congrArg (k0_pay1 (F := Ideal) _) zeros).trans ((gainAt m c ct r p g wg bg wp hct hr hp hg hwg hbg hwp _ ⟨n, h⟩).trans ?_)
    funext j
    exact zero_add _
  · rw [← part_next 16 (gainBlk 512 r (dh ct r p g wg bg wp)) n h0 (by decide)]
    refine (at11B m c ⟨n, h⟩ h0).trans ?_
    exact (congrArg (k0_pay1 (F := Ideal) _) ih).trans (gainAt m c ct r p g wg bg wp hct hr hp hg hwg hbg hwp _ ⟨n, h⟩)

theorem array11 : ((dats m 0 c).arrAt 11 cfg0.N : S1x1024.Idx → EReal) = gain r (dh ct r p g wg bg wp) := by
  refine arr11 m c (fun _ => gain r (dh ct r p g wg bg wp)) _ (fun t hf => ?_) (fun t _ y => ?_)
  · have h1 := (flush0_11 t).mp hf
    refine (after0_11 m c t).trans ((acc11 m c ct r p g wg bg wp hct hr hp hg hwg hbg hwp t.val t.isLt).trans ?_)
    funext j
    rw [part_last 16 _ _ (by omega)]
    have e : t.val - t.val % 16 = 0 := by have ht : t.val < 16 := hN ▸ t.isLt; omega
    simp only [e, zero_add]
    exact gain_blocks 16 512 rfl r (dh ct r p g wg bg wp) j
  · rw [ofNat_fst, ofNat_fst]
    exact congrArg (gain r (dh ct r p g wg bg wp)) (eq_rc y)

theorem acc12 : ∀ n h, ((outsAt0 m c n h).2.2.2.2.2 : S1x1024.Idx → EReal) = part 16 (colBlk 512 (dlog ct r p g wg bg wp)) n := by
  refine sweep 16 (fun n h => ((outsAt0 m c n h).2.2.2.2.2 : S1x1024.Idx → EReal) = part 16 (colBlk 512 (dlog ct r p g wg bg wp)) n) (fun n h h0 => ?_) (fun n h h0 h' ih => ?_)
  · rw [part_first 16 _ n h0]
    refine (at12A m c ⟨n, h⟩ h0).trans ?_
    refine (congrArg (k0_pay15 (F := Ideal) _ _ _ _) zeros').trans ((biasAt m c ct r p g wg bg wp hct hr hp hg hwg hbg hwp _ ⟨n, h⟩).trans ?_)
    funext j
    exact zero_add _
  · rw [← part_next 16 (colBlk 512 (dlog ct r p g wg bg wp)) n h0 (by decide)]
    refine (at12B m c ⟨n, h⟩ h0).trans ?_
    exact (congrArg (k0_pay15 (F := Ideal) _ _ _ _) ih).trans (biasAt m c ct r p g wg bg wp hct hr hp hg hwg hbg hwp _ ⟨n, h⟩)

theorem array12 : ((dats m 0 c).arrAt 12 cfg0.N : S1x1024.Idx → EReal) = colSum (dlog ct r p g wg bg wp) := by
  refine arr12 m c (fun _ => colSum (dlog ct r p g wg bg wp)) _ (fun t hf => ?_) (fun t _ y => ?_)
  · have h1 := (flush0_12 t).mp hf
    refine (after0_12 m c t).trans ((acc12 m c ct r p g wg bg wp hct hr hp hg hwg hbg hwp t.val t.isLt).trans ?_)
    funext j
    rw [part_last 16 _ _ (by omega)]
    have e : t.val - t.val % 16 = 0 := by have ht : t.val < 16 := hN ▸ t.isLt; omega
    simp only [e, zero_add]
    exact col_blocks 16 512 rfl (dlog ct r p g wg bg wp) j
  · rw [ofNat_fst, ofNat_fst]
    exact congrArg (colSum (dlog ct r p g wg bg wp)) (eq_rc y)

end Cert.PleBwd

end
-- ==== Proof.PleBwd.Claims.lean ====
/- The claims about the backward pass of the gated embedding. -/
module

public import proofs.«01_k».proof.Defs
public import proofs.«01_k».proof.Proof.PleBwd.Value
public import proofs.«01_k».proof.Proof.Gen.Kernel13.Frame
public import proofs.«01_k».proof.Proof.Gen.Reference13Ideal.Run
public import Idealize.ShloMosaic.Adequacy
public import Idealize.ShloMosaic.Init

@[expose] public section

noncomputable section

namespace Cert.PleBwd

open Idealize.ShloMosaic Idealize.ShloMosaic.TcCoe Idealize.SL.Sem Cert.Ext Cert.Lift Idealize.ShloMosaic.ValueIdx

theorem frame_p : Cert.quiescent_Kernel13 := fun m ρ _ => Cert.Kernel13.Gen.frame m ρ
theorem frame_pi : Cert.quiescent_Kernel13Ideal := fun m ρ _ => Cert.Kernel13Ideal.Gen.frame m ρ
theorem frame_ri : Cert.quiescent_Reference13Ideal := fun m ρ _ => (θ_run Cert.Reference13Ideal.defs _ _).mono (fun r h => ⟨fun c => (h c).2.2.2.2.2.2,
      Idealize.ShloMosaic.sem_eq_zero_of_no_sems (by decide) r.2⟩)
    (Cert.Reference13Ideal.Value.run (F := Ideal) m ρ)

theorem preserves : Cert.preserves_Kernel13_Kernel13Ideal := trivial

section
open Cert.Reference13Ideal Cert.Reference13Ideal.Gen
variable (ct r : Arr S4x2048x1024) (p : Arr S4x2048x256) (g : Arr S1024) (wg : Arr S1024x1024) (bg : Arr S1024) (wp : Arr S256x1024)

/-- The host's lines of the gate. -/
abbrev gateH : Arr S4x2048x1024 := (Host.divf (F := Ideal) (φ := .f32) (broadcastInDim S4x2048x1024 ![] bcast_S_S4x2048x1024 (constant (F := Ideal) S_ .f32 0x3F800000#32)) (addf (F := Ideal) (φ := .f32) (broadcastInDim S4x2048x1024 ![] bcast_S_S4x2048x1024 (constant (F := Ideal) S_ .f32 0x3F800000#32)) (Host.exp (F := Ideal) (φ := .f32) (Host.negf (F := Ideal) (φ := .f32) (addf (F := Ideal) (φ := .f32) (Host.dotGeneral (F := Ideal) (φ₁ := .f32) (φ₂ := .f32) dot_S4x2048x1024_S1024x1024_S4x2048x1024_2_0_01_1_n_n none (mulf (F := Ideal) (φ := .f32) (mulf (F := Ideal) (φ := .f32) r (broadcastInDim S4x2048x1024 ![0, 1, 2] bcast_S4x2048x1_S4x2048x1024_0_1_2 (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))))) (broadcastInDim S4x2048x1024 ![0, 1, 2] bcast_S1x1x1024_S4x2048x1024_0_1_2 (broadcastInDim S1x1x1024 ![2] bcast_S1024_S1x1x1024_2 g))) wg) (broadcastInDim S4x2048x1024 ![0, 1, 2] bcast_S1x1x1024_S4x2048x1024_0_1_2 (broadcastInDim S1x1x1024 ![2] bcast_S1024_S1x1x1024_2 bg)))))))

theorem ref_gate : gateH r g wg bg = gate r g wg bg := by
  unfold gateH
  rw [host_norm, last, host_nn3 _ rfl rfl rfl rfl rfl rfl]
  rfl

/-- The host's lines of the cotangent of the logits. -/
abbrev dlogH : Arr S4x2048x1024 := (mulf (F := Ideal) (φ := .f32) (mulf (F := Ideal) (φ := .f32) ct (Host.dotGeneral (F := Ideal) (φ₁ := .f32) (φ₂ := .f32) dot_S4x2048x256_S256x1024_S4x2048x1024_2_0_01_1_n_n none p wp)) (mulf (F := Ideal) (φ := .f32) (gateH r g wg bg) (subf (F := Ideal) (φ := .f32) (broadcastInDim S4x2048x1024 ![] bcast_S_S4x2048x1024 (constant (F := Ideal) S_ .f32 0x3F800000#32)) (gateH r g wg bg))))

theorem ref_dlog : dlogH ct r p g wg bg wp = dlog ct r p g wg bg wp := by
  unfold dlogH
  rw [ref_gate, host_nn3 _ rfl rfl rfl rfl rfl rfl]
  funext j
  exact (mul_assoc (ct j * proj p wp j) (gate r g wg bg j) (Ideal.ofBits .f32 0x3F800000#32 - gate r g wg bg j)).symm

theorem ref_dlog' : dlogH (shapeCast S4x2048x1024 ct shapeCasts_S4x2048x1024_S4x2048x1024) r p g wg bg wp = dlog ct r p g wg bg wp := by
  rw [shapeCast_self, ref_dlog]

/-- The host's lines of the gradient of the normalised rows. -/
abbrev dhH : Arr S4x2048x1024 := (Host.dotGeneral (F := Ideal) (φ₁ := .f32) (φ₂ := .f32) dot_S4x2048x1024_S1024x1024_S4x2048x1024_2_1_01_0_n_n none (dlogH (shapeCast S4x2048x1024 ct shapeCasts_S4x2048x1024_S4x2048x1024) r p g wg bg wp) wg)

theorem ref_dh : dhH ct r p g wg bg wp = dh ct r p g wg bg wp := by
  unfold dhH
  rw [ref_dlog', host_nt3 _ rfl rfl rfl rfl rfl rfl]
  rfl

/-- … times the gain. -/
abbrev dxH : Arr S4x2048x1024 := mulf (F := Ideal) (φ := .f32) (dhH ct r p g wg bg wp) (broadcastInDim S4x2048x1024 ![0, 1, 2] bcast_S1x1x1024_S4x2048x1024_0_1_2 (broadcastInDim S1x1x1024 ![2] bcast_S1024_S1x1x1024_2 g))

theorem ref_dx : dxH ct r p g wg bg wp = dx ct r p g wg bg wp := by
  unfold dxH
  rw [ref_dh, last]
  rfl

/-- The reference's gradient of the rows. -/
theorem ref_rows : (shapeCast S8192x1024 (addf (F := Ideal) (φ := .f32) (addf (F := Ideal) (φ := .f32) (addf (F := Ideal) (φ := .f32) ct (mulf (F := Ideal) (φ := .f32) (dxH ct r p g wg bg wp) (broadcastInDim S4x2048x1024 ![0, 1, 2] bcast_S4x2048x1_S4x2048x1024_0_1_2 (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32))))))) (mulf (F := Ideal) (φ := .f32) r (broadcastInDim S4x2048x1024 ![0, 1] bcast_S4x2048_S4x2048x1024_0_1 (Host.reduceAdd (F := Ideal) (φ := .f32) (Host.divf (F := Ideal) (φ := .f32) (mulf (F := Ideal) (φ := .f32) (shapeCast S4x2048x1 (Host.reduceAdd (F := Ideal) (φ := .f32) (mulf (F := Ideal) (φ := .f32) r (dxH ct r p g wg bg wp)) (constant (F := Ideal) S_ .f32 0x00000000#32) reducesTo_S4x2048x1024_S4x2048_d2 h_S_) shapeCasts_S4x2048_S4x2048x1) (mulf (F := Ideal) (φ := .f32) (broadcastInDim S4x2048x1 ![] bcast_S_S4x2048x1 (constant (F := Ideal) S_ .f32 0xBF000000#32)) (Host.divf (F := Ideal) (φ := .f32) (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))))) (broadcastInDim S4x2048x1 ![] bcast_S_S4x2048x1 (constant (F := Ideal) S_ .f32 0x44800000#32))) (constant (F := Ideal) S_ .f32 0x00000000#32) reducesTo_S4x2048x1_S4x2048_d2 h_S_)))) (mulf (F := Ideal) (φ := .f32) (broadcastInDim S4x2048x1024 ![0, 1] bcast_S4x2048_S4x2048x1024_0_1 (Host.reduceAdd (F := Ideal) (φ := .f32) (Host.divf (F := Ideal) (φ := .f32) (mulf (F := Ideal) (φ := .f32) (shapeCast S4x2048x1 (Host.reduceAdd (F := Ideal) (φ := .f32) (mulf (F := Ideal) (φ := .f32) r (dxH ct r p g wg bg wp)) (constant (F := Ideal) S_ .f32 0x00000000#32) reducesTo_S4x2048x1024_S4x2048_d2 h_S_) shapeCasts_S4x2048_S4x2048x1) (mulf (F := Ideal) (φ := .f32) (broadcastInDim S4x2048x1 ![] bcast_S_S4x2048x1 (constant (F := Ideal) S_ .f32 0xBF000000#32)) (Host.divf (F := Ideal) (φ := .f32) (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))))) (broadcastInDim S4x2048x1 ![] bcast_S_S4x2048x1 (constant (F := Ideal) S_ .f32 0x44800000#32))) (constant (F := Ideal) S_ .f32 0x00000000#32) reducesTo_S4x2048x1_S4x2048_d2 h_S_)) r)) shapeCasts_S4x2048x1024_S8192x1024 : S8192x1024.Idx → EReal) = flatA (back ct r (dx ct r p g wg bg wp)) := by
  rw [ref_dx]
  refine (congrArg (fun x => shapeCast S8192x1024 x shapeCasts_S4x2048x1024_S8192x1024) (host_back (B := 4) (R := 2048) (C := 1024) ct r (dx ct r p g wg bg wp) _ (host_den (B := 4) (R := 2048) (C := 1024) r reducesTo_S4x2048x1024_S4x2048_d2 h_S_ bcast_S4x2048_S4x2048x1_0_1 S_ S_ ![] ![] bcast_S_S4x2048x1 bcast_S_S4x2048x1)
    reducesTo_S4x2048x1024_S4x2048_d2 reducesTo_S4x2048x1_S4x2048_d2 h_S_ bcast_S4x2048x1_S4x2048x1024_0_1_2 bcast_S4x2048_S4x2048x1024_0_1 shapeCasts_S4x2048_S4x2048x1 S_ S_ ![] ![] bcast_S_S4x2048x1 bcast_S_S4x2048x1 _ rfl)).trans ?_
  exact flat8 (back ct r (dx ct r p g wg bg wp)) shapeCasts_S4x2048x1024_S8192x1024

theorem ref_logits : (truncf (F := Ideal) (φ := .f32) .bf16 (shapeCast S8192x1024 (dlogH ct r p g wg bg wp) shapeCasts_S4x2048x1024_S8192x1024) bitsLt_bf16_f32 : S8192x1024.Idx → EReal) = flatA (dlog ct r p g wg bg wp) := by
  rw [ref_dlog]
  exact flat8 (dlog ct r p g wg bg wp) shapeCasts_S4x2048x1024_S8192x1024

theorem ref_proj : (truncf (F := Ideal) (φ := .f32) .bf16 (shapeCast S8192x1024 (mulf (F := Ideal) (φ := .f32) (gateH r g wg bg) ct) shapeCasts_S4x2048x1024_S8192x1024) bitsLt_bf16_f32 : S8192x1024.Idx → EReal) = flatA (dpp ct r g wg bg) := by
  rw [ref_gate]
  have e : (mulf (F := Ideal) (φ := .f32) (gate r g wg bg) ct : Arr S4x2048x1024) = dpp ct r g wg bg := funext fun j => mul_comm _ _
  rw [e]
  exact flat8 (dpp ct r g wg bg) shapeCasts_S4x2048x1024_S8192x1024

/-- The reference's gradient of the gain. -/
theorem ref_gain : (shapeCast S1x1024 (Host.reduceAdd (F := Ideal) (φ := .f32) (shapeCast S1x1x1024 (Host.reduceAdd (F := Ideal) (φ := .f32) (mulf (F := Ideal) (φ := .f32) (mulf (F := Ideal) (φ := .f32) r (broadcastInDim S4x2048x1024 ![0, 1, 2] bcast_S4x2048x1_S4x2048x1024_0_1_2 (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))))) (dhH ct r p g wg bg wp)) (constant (F := Ideal) S_ .f32 0x00000000#32) reducesTo_S4x2048x1024_S1024_d0_1 h_S_) shapeCasts_S1024_S1x1x1024) (constant (F := Ideal) S_ .f32 0x00000000#32) reducesTo_S1x1x1024_S1024_d0_1 h_S_) shapeCasts_S1024_S1x1024 : S1x1024.Idx → EReal) = gain r (dh ct r p g wg bg wp) := by
  rw [ref_dh]
  exact host_gain r (dh ct r p g wg bg wp) _ (host_inv (B := 4) (R := 2048) (C := 1024) r reducesTo_S4x2048x1024_S4x2048_d2 h_S_ bcast_S4x2048_S4x2048x1_0_1 bcast_S4x2048x1_S4x2048x1024_0_1_2 S_ S_ ![] ![] bcast_S_S4x2048x1 bcast_S_S4x2048x1) reducesTo_S4x2048x1024_S1024_d0_1 reducesTo_S1x1x1024_S1024_d0_1 h_S_ shapeCasts_S1024_S1x1x1024 shapeCasts_S1024_S1x1024

/-- The reference's gradient of the bias. -/
theorem ref_bias : (shapeCast S1x1024 (Host.reduceAdd (F := Ideal) (φ := .f32) (shapeCast S1x1x1024 (Host.reduceAdd (F := Ideal) (φ := .f32) (dlogH (shapeCast S4x2048x1024 ct shapeCasts_S4x2048x1024_S4x2048x1024) r p g wg bg wp) (constant (F := Ideal) S_ .f32 0x00000000#32) reducesTo_S4x2048x1024_S1024_d0_1 h_S_) shapeCasts_S1024_S1x1x1024) (constant (F := Ideal) S_ .f32 0x00000000#32) reducesTo_S1x1x1024_S1024_d0_1 h_S_) shapeCasts_S1024_S1x1024 : S1x1024.Idx → EReal) = colSum (dlog ct r p g wg bg wp) := by
  rw [ref_dlog']
  exact host_col (dlog ct r p g wg bg wp) reducesTo_S4x2048x1024_S1024_d0_1 reducesTo_S1x1x1024_S1024_d0_1 h_S_ shapeCasts_S1024_S1x1x1024 shapeCasts_S1024_S1x1024

end

theorem algebraic : Cert.algebraic_Kernel13Ideal_Reference13Ideal := by
  intro m ρ m' ρ' hpre hagree
  refine ⟨_, _, _, _, _, _, Cert.Kernel13Ideal.Value.run_blocks (F := Ideal) m ρ, ?_⟩
  refine (θ_run Cert.Reference13Ideal.defs _ _).mono (fun _ h c => ?_) (Cert.Reference13Ideal.Value.run (F := Ideal) m' ρ')
  obtain ⟨e0, e1, e2, e3, e4, e5, e6⟩ := hagree c
  exact ⟨(h c).1.trans ((ref_rows _ _ _ _ _ _ _).trans (array7 m c _ _ _ _ _ _ _ e0.symm e1.symm e2.symm e3.symm e4.symm e5.symm e6.symm).symm),
    (h c).2.1.trans ((ref_rows _ _ _ _ _ _ _).trans (array8 m c _ _ _ _ _ _ _ e0.symm e1.symm e2.symm e3.symm e4.symm e5.symm e6.symm).symm),
    (h c).2.2.1.trans ((ref_logits _ _ _ _ _ _ _).trans (array9 m c _ _ _ _ _ _ _ e0.symm e1.symm e2.symm e3.symm e4.symm e5.symm e6.symm).symm),
    (h c).2.2.2.1.trans ((ref_proj _ _ _ _ _).trans (array10 m c _ _ _ _ _ _ _ e0.symm e1.symm e2.symm e3.symm e4.symm e5.symm e6.symm).symm),
    (h c).2.2.2.2.1.trans ((ref_gain _ _ _ _ _ _ _).trans (array11 m c _ _ _ _ _ _ _ e0.symm e1.symm e2.symm e3.symm e4.symm e5.symm e6.symm).symm),
    (h c).2.2.2.2.2.1.trans ((ref_bias _ _ _ _ _ _ _).trans (array12 m c _ _ _ _ _ _ _ e0.symm e1.symm e2.symm e3.symm e4.symm e5.symm e6.symm).symm), (h c).2.2.2.2.2.2⟩

end Cert.PleBwd

end
-- ==== Proof.Lift.Whole.lean ====
/- Sums of whole arrays to a single number. -/
module

public import proofs.«01_k».proof.Proof.Lift.Rms

@[expose] public section

noncomputable section

namespace Cert.Ext

open Idealize.ShloMosaic Cert.Lift Idealize.ShloMosaic.ValueIdx

section
variable {T C : Nat}

/-- A block's whole sum, taken through a leading axis of one. -/
theorem blk_whole (x : Arr ⟨2, ![T, C]⟩) (acc) (h0 : (⟨2, ![T, C]⟩ : Shape).ShapeCasts ⟨3, ![1, T, C]⟩)
    (h : (⟨3, ![1, T, C]⟩ : Shape).Reduces [1, 2] ⟨1, ![1]⟩) (h1) (h2) (h3 : (⟨1, ![1]⟩ : Shape).ShapeCasts ⟨3, ![1, 1, 1]⟩) (j : (⟨3, ![1, 1, 1]⟩ : Shape).Idx) :
    (shapeCast ⟨3, ![1, 1, 1]⟩ (multiReduction (F := Ideal) (φ := .f32) .add [1, 2] ⟨1, ![1]⟩ (shapeCast ⟨3, ![1, T, C]⟩ x h0) acc h h1 h2) h3 : Arr ⟨3, ![1, 1, 1]⟩) j
      = ∑ y : Fin T, ∑ k : Fin C, x (ix2 y k) := by
  have e : ∀ i : (⟨3, ![1, T, C]⟩ : Shape).Idx, (shapeCast ⟨3, ![1, T, C]⟩ x h0 : Arr ⟨3, ![1, T, C]⟩) i = x (ix2 (d1 i) (d2 i)) := fun i => by
    refine shapeCast_apply x h0 i _ ?_
    rw [Shape.rowMajor_val_two, Shape.rowMajor_val_three]
    have hi : (d0 i).val < 1 := (d0 i).isLt
    show (d1 i).val * C + (d2 i).val = ((d0 i).val * T + (d1 i).val) * C + (d2 i).val
    rw [Nat.lt_one_iff.mp hi, Nat.zero_mul, Nat.zero_add]
  refine (shapeCast_apply _ h3 j (ix1 (0 : Fin 1)) ?_).trans ?_
  · rw [Shape.rowMajor_val_one, Shape.rowMajor_val_three]
    have g0 : (d0 j).val < 1 := (d0 j).isLt
    have g1 : (d1 j).val < 1 := (d1 j).isLt
    have g2 : (d2 j).val < 1 := (d2 j).isLt
    show 0 = ((d0 j).val * 1 + (d1 j).val) * 1 + (d2 j).val
    omega
  · show (∑ i ∈ Finset.univ.filter (fun i => h.drop i = ix1 (0 : Fin 1)), (shapeCast ⟨3, ![1, T, C]⟩ x h0 : Arr ⟨3, ![1, T, C]⟩) i) = _
    rw [← Fintype.sum_prod_type' (f := fun (y : Fin T) (k : Fin C) => x (ix2 y k))]
    refine Finset.sum_nbij' (fun i => (d1 i, d2 i)) (fun p => ix3 (0 : Fin 1) p.1 p.2) (fun _ _ => Finset.mem_univ _) ?_ ?_ ?_ ?_
    · intro p _
      refine Finset.mem_filter.mpr ⟨Finset.mem_univ _, funext fun b => ?_⟩
      match b with
      | ⟨0, _⟩ => exact Subsingleton.elim (α := Fin 1) _ _
    · intro i _
      funext b
      match b with
      | ⟨0, _⟩ => exact Subsingleton.elim (α := Fin 1) _ _
      | ⟨1, _⟩ => rfl
      | ⟨2, _⟩ => rfl
    · intro p _
      rfl
    · intro i _
      exact e i

end

/-- The host's sum of a whole array. -/
theorem host_whole {B R : Nat} {u : Shape} (a : Arr ⟨2, ![B, R]⟩) (h : (⟨2, ![B, R]⟩ : Shape).ReducesTo [0, 1] ⟨0, ![]⟩) (hu : 0 < u.numel) (j) :
    (Host.reduceAdd (F := Ideal) (φ := .f32) (axes := [0, 1]) (t := ⟨0, ![]⟩) a (constant (F := Ideal) u .f32 0x00000000#32) h hu : Arr ⟨0, ![]⟩) j
      = ∑ p : Fin B, ∑ q : Fin R, a (ix2 p q) := by
  refine Eq.trans (congrArg (· + _) zeroF) ((zero_add _).trans ?_)
  show (∑ i ∈ Finset.univ.filter (fun i => h.drop i = j), a i) = _
  rw [← Fintype.sum_prod_type' (f := fun (y : Fin B) (k : Fin R) => a (ix2 y k))]
  refine Finset.sum_nbij' (fun i => (r0 i, c1 i)) (fun p => ix2 p.1 p.2) (fun _ _ => Finset.mem_univ _) ?_ ?_ ?_ ?_
  · intro p _
    exact Finset.mem_filter.mpr ⟨Finset.mem_univ _, funext fun b => b.elim0⟩
  · intro i _
    exact (eq_rc i).symm
  · intro p _
    rfl
  · intro i _
    exact congrArg a (eq_rc i)

/-- A result to which nothing is added. -/
theorem alone {s : Shape} (x : Arr s) : x = addf (F := Ideal) (φ := .f32) (fun _ => 0) x := funext fun _ => (zero_add _).symm

end Cert.Ext

end
-- ==== Proof.LossHead.Geometry.lean ====
/- Where the blocks of the grid lie: what a point reads of each array, and that the written blocks fill the results. -/
module

public import proofs.«01_k».proof.Proof.Gen.Kernel15Ideal.Value
public import proofs.«01_k».proof.Proof.Lift.Whole
public import proofs.«01_k».proof.Proof.Lift.Place

@[expose] public section

noncomputable section

namespace Cert.LossHead

open Cert.Kernel15Ideal Cert.Kernel15Ideal.Gen Cert.Ext Idealize.ShloMosaic Idealize.ShloMosaic.TcCoe Idealize.SL.Sem Cert.Lift Idealize.ShloMosaic.ValueIdx
open Idealize.ShloMosaic.Pipeline (Dat)

variable (m : (ℓ : Loc nD τ sig) → Buf (Elt Ideal) ℓ) (c : Dev nD)

theorem hN : cfg0.N = 16 := N_0

/-! ### The input blocks -/

theorem idx0_0 : ∀ t : Fin cfg0.N, win0_0.index t 0 = t.val := by decide +kernel
theorem idx0_1 : ∀ t : Fin cfg0.N, win0_0.index t 1 = 0 := by decide +kernel
theorem rd0 (t : Fin cfg0.N) (a : S8192x1024.Idx → EReal) (h : (V m c main_v0 : S8192x1024.Idx → EReal) = a) :
    (iblk m c 0 t : S512x1024.Idx → EReal) = fun y => a (ix2 (Fin.ofNat 8192 (t.val * 512 + (r0 y).val)) (Fin.ofNat 1024 (0 * 1024 + (c1 y).val))) := by
  have ht : t.val < 16 := hN ▸ t.isLt
  funext y
  unfold iblk
  rw [View.read_apply]
  exact (congrFun h _).trans (congrArg a (place _ y _ _ _ _ (idx0_0 t) (idx0_1 t) (by omega) (by omega) rfl rfl))

theorem idx1_0 : ∀ t : Fin cfg0.N, win0_1.index t 0 = t.val := by decide +kernel
theorem idx1_1 : ∀ t : Fin cfg0.N, win0_1.index t 1 = 0 := by decide +kernel
theorem rd1 (t : Fin cfg0.N) (a : S8192x1024.Idx → EReal) (h : (V m c main_v1 : S8192x1024.Idx → EReal) = a) :
    (iblk m c 1 t : S512x1024.Idx → EReal) = fun y => a (ix2 (Fin.ofNat 8192 (t.val * 512 + (r0 y).val)) (Fin.ofNat 1024 (0 * 1024 + (c1 y).val))) := by
  have ht : t.val < 16 := hN ▸ t.isLt
  funext y
  unfold iblk
  rw [View.read_apply]
  exact (congrFun h _).trans (congrArg a (place _ y _ _ _ _ (idx1_0 t) (idx1_1 t) (by omega) (by omega) rfl rfl))

theorem idx2_0 : ∀ t : Fin cfg0.N, win0_2.index t 0 = 0 := by decide +kernel
theorem idx2_1 : ∀ t : Fin cfg0.N, win0_2.index t 1 = 0 := by decide +kernel
theorem rd2 (t : Fin cfg0.N) (a : S1x1024.Idx → EReal) (h : (V m c main_v2 : S1x1024.Idx → EReal) = a) :
    (iblk m c 2 t : S1x1024.Idx → EReal) = fun y => a (ix2 (Fin.ofNat 1 (0 * 1 + (r0 y).val)) (Fin.ofNat 1024 (0 * 1024 + (c1 y).val))) := by
  have ht : t.val < 16 := hN ▸ t.isLt
  funext y
  unfold iblk
  rw [View.read_apply]
  exact (congrFun h _).trans (congrArg a (place _ y _ _ _ _ (idx2_0 t) (idx2_1 t) (by omega) (by omega) rfl rfl))

/-! ### The output arrays -/

theorem idx3_0 : ∀ t : Fin cfg0.N, win0_3.index t 0 = t.val := by decide +kernel
theorem idx3_1 : ∀ t : Fin cfg0.N, win0_3.index t 1 = 0 := by decide +kernel
theorem arr3 (p : Fin cfg0.N → S512x1024.Idx → EReal) (G : S8192x1024.Idx → EReal)
    (hp : ∀ t, (cfg0.win 3).flush t = true → ((dats m 0 c).after 3 t : S512x1024.Idx → EReal) = p t)
    (hG : ∀ t, (cfg0.win 3).flush t = true → ∀ y, p t y = G (ix2 (Fin.ofNat 8192 (t.val * 512 + (r0 y).val)) (Fin.ofNat 1024 (0 * 1024 + (c1 y).val)))) :
    ((dats m 0 c).arrAt 3 cfg0.N : S8192x1024.Idx → EReal) = G := by
  refine (dats m 0 c).arrAt_eq_of_cover 3 G (fun t hf => ?_) fun i => ?_
  · have ht : t.val < 16 := hN ▸ t.isLt
    refine funext fun (y : S512x1024.Idx) => ?_
    refine (congrFun (hp t hf) y).trans ?_
    rw [View.read_apply]
    exact (hG t hf y).trans (congrArg G (place _ y _ _ _ _ (idx3_0 t) (idx3_1 t) (by omega) (by omega) rfl rfl).symm)
  · have h0 : (i 0 : Nat) < 8192 := (i 0).isLt
    have h1 : (i 1 : Nat) < 1024 := (i 1).isLt
    have hlt : (i 0 : Nat) / 512 < cfg0.N := by rw [hN]; omega
    refine ⟨⟨(i 0 : Nat) / 512, hlt⟩, flush0_3 ⟨_, hlt⟩, ?_⟩
    show i ∈ ((View.whole main_v3_0).slice (win0_3.rect ⟨(i 0 : Nat) / 512, hlt⟩)).set
    rw [View.set_slice_whole, Rect.mem_set_unit]
    exact both (within (T := 512) (((i 0 : Nat) / 512)) (idx3_0 _) (by omega)) (within (T := 1024) (0) (idx3_1 _) (by omega))

theorem idx4_0 : ∀ t : Fin cfg0.N, win0_4.index t 0 = 0 := by decide +kernel
theorem idx4_1 : ∀ t : Fin cfg0.N, win0_4.index t 1 = 0 := by decide +kernel
theorem arr4 (p : Fin cfg0.N → S1x128.Idx → EReal) (G : S1x128.Idx → EReal)
    (hp : ∀ t, (cfg0.win 4).flush t = true → ((dats m 0 c).after 4 t : S1x128.Idx → EReal) = p t)
    (hG : ∀ t, (cfg0.win 4).flush t = true → ∀ y, p t y = G (ix2 (Fin.ofNat 1 (0 * 1 + (r0 y).val)) (Fin.ofNat 128 (0 * 128 + (c1 y).val)))) :
    ((dats m 0 c).arrAt 4 cfg0.N : S1x128.Idx → EReal) = G := by
  refine (dats m 0 c).arrAt_eq_of_cover 4 G (fun t hf => ?_) fun i => ?_
  · have ht : t.val < 16 := hN ▸ t.isLt
    refine funext fun (y : S1x128.Idx) => ?_
    refine (congrFun (hp t hf) y).trans ?_
    rw [View.read_apply]
    exact (hG t hf y).trans (congrArg G (place _ y _ _ _ _ (idx4_0 t) (idx4_1 t) (by omega) (by omega) rfl rfl).symm)
  · have h0 : (i 0 : Nat) < 1 := (i 0).isLt
    have h1 : (i 1 : Nat) < 128 := (i 1).isLt
    have hlt : 15 < cfg0.N := by rw [hN]; omega
    refine ⟨⟨15, hlt⟩, (flush0_4 ⟨_, hlt⟩).mpr (by show (15) % 16 = 15; omega), ?_⟩
    show i ∈ ((View.whole main_v3_1).slice (win0_4.rect ⟨15, hlt⟩)).set
    rw [View.set_slice_whole, Rect.mem_set_unit]
    exact both (within (T := 1) (0) (idx4_0 _) (by omega)) (within (T := 128) (0) (idx4_1 _) (by omega))

theorem idx5_0 : ∀ t : Fin cfg0.N, win0_5.index t 0 = 0 := by decide +kernel
theorem idx5_1 : ∀ t : Fin cfg0.N, win0_5.index t 1 = 0 := by decide +kernel
theorem arr5 (p : Fin cfg0.N → S1x1024.Idx → EReal) (G : S1x1024.Idx → EReal)
    (hp : ∀ t, (cfg0.win 5).flush t = true → ((dats m 0 c).after 5 t : S1x1024.Idx → EReal) = p t)
    (hG : ∀ t, (cfg0.win 5).flush t = true → ∀ y, p t y = G (ix2 (Fin.ofNat 1 (0 * 1 + (r0 y).val)) (Fin.ofNat 1024 (0 * 1024 + (c1 y).val)))) :
    ((dats m 0 c).arrAt 5 cfg0.N : S1x1024.Idx → EReal) = G := by
  refine (dats m 0 c).arrAt_eq_of_cover 5 G (fun t hf => ?_) fun i => ?_
  · have ht : t.val < 16 := hN ▸ t.isLt
    refine funext fun (y : S1x1024.Idx) => ?_
    refine (congrFun (hp t hf) y).trans ?_
    rw [View.read_apply]
    exact (hG t hf y).trans (congrArg G (place _ y _ _ _ _ (idx5_0 t) (idx5_1 t) (by omega) (by omega) rfl rfl).symm)
  · have h0 : (i 0 : Nat) < 1 := (i 0).isLt
    have h1 : (i 1 : Nat) < 1024 := (i 1).isLt
    have hlt : 15 < cfg0.N := by rw [hN]; omega
    refine ⟨⟨15, hlt⟩, (flush0_5 ⟨_, hlt⟩).mpr (by show (15) % 16 = 15; omega), ?_⟩
    show i ∈ ((View.whole main_v3_2).slice (win0_5.rect ⟨15, hlt⟩)).set
    rw [View.set_slice_whole, Rect.mem_set_unit]
    exact both (within (T := 1) (0) (idx5_0 _) (by omega)) (within (T := 1024) (0) (idx5_1 _) (by omega))

end Cert.LossHead

end
-- ==== Proof.LossHead.Value.lean ====
/- The three arrays the call returns: the gradient of the rows, the loss, and the gradient of the gain. -/
module

public import proofs.«01_k».proof.Proof.LossHead.Geometry

@[expose] public section

noncomputable section

namespace Cert.LossHead

open Cert.Kernel15Ideal Cert.Kernel15Ideal.Gen Cert.Ext Idealize.ShloMosaic Idealize.ShloMosaic.TcCoe Idealize.ShloMosaic.Tactic Idealize.SL.Sem Cert.Lift Idealize.ShloMosaic.ValueIdx

/-! ### What a point stores -/

section
variable {c : Dev nD} {i : grid0.Coords} {arg1 : Memref sig .tc .vmem S512x1024 .f32} {harg1 : arg1.IsWhole} {arg2 : Memref sig .tc .vmem S512x1024 .f32} {harg2 : arg2.IsWhole} {arg3 : Memref sig .tc .vmem S1x1024 .f32} {harg3 : arg3.IsWhole} {arg4 : Memref sig .tc .vmem S512x1024 .f32} {harg4 : arg4.IsWhole} {arg5 : Memref sig .tc .vmem S1x128 .f32} {harg5 : arg5.IsWhole} {arg6 : Memref sig .tc .vmem S1x1024 .f32} {harg6 : arg6.IsWhole}
  (x0 x1 : Vec Ideal S512x1024 .f32) (x2 : Vec Ideal S1x1024 .f32) (xo4 : Vec Ideal S1x128 .f32) (xo5 : Vec Ideal S1x1024 .f32)

theorem rowsA (hc0 : cond0_0 i) :
    out0_A_3 (F := Ideal) c i arg1 harg1 arg2 harg2 arg3 harg3 arg4 harg4 arg5 harg5 arg6 harg6 hc0 x0 x1 x2 = k0_pay1 (F := Ideal) (k0_pay7 (F := Ideal) x0) (k0_pay8 (F := Ideal) x0) (k0_pay12 (F := Ideal) x2 x0 x1) (k0_pay13 (F := Ideal) x2 x0 x1) := by
  unfold out0_A_3
  rw [View.read_writes_eq_canon _ _ _ (cover0_A_3 (F := Ideal) c i arg1 harg1 arg2 harg2 arg3 harg3 arg4 harg4 arg5 harg5 arg6 harg6 hc0 x0 x1 x2)]
  unfold kernelRun0_A
  dsimp only
  sl_unfold_words
  first | rw [View.canon_unit_zero hz] | rw [View.canon_cons_unit_zero (S := S512x1024) hz]
  simp only [View.readAt_eq_ld, harg1.read_unread, harg2.read_unread, harg3.read_unread, harg4.read_unread, harg5.read_unread, harg6.read_unread, View.ld_unit_zero (S := S512x1024) hz, View.ld_unit_zero (S := S1x128) hz, View.ld_unit_zero (S := S1x1024) hz]

theorem rowsB (hc0 : ¬cond0_0 i) :
    out0_B_3 (F := Ideal) c i arg1 harg1 arg2 harg2 arg3 harg3 arg4 harg4 arg5 harg5 arg6 harg6 hc0 x0 x1 x2 xo4 xo5 = k0_pay1 (F := Ideal) (k0_pay7 (F := Ideal) x0) (k0_pay8 (F := Ideal) x0) (k0_pay12 (F := Ideal) x2 x0 x1) (k0_pay13 (F := Ideal) x2 x0 x1) := by
  unfold out0_B_3
  rw [View.read_writes_eq_canon _ _ _ (cover0_B_3 (F := Ideal) c i arg1 harg1 arg2 harg2 arg3 harg3 arg4 harg4 arg5 harg5 arg6 harg6 hc0 x0 x1 x2 xo4 xo5)]
  unfold kernelRun0_B
  dsimp only
  sl_unfold_words
  first | rw [View.canon_unit_zero hz] | rw [View.canon_cons_unit_zero (S := S512x1024) hz]
  simp only [View.readAt_eq_ld, harg1.read_unread, harg2.read_unread, harg3.read_unread, harg4.read_unread, harg5.read_unread, harg6.read_unread, View.ld_unit_zero (S := S512x1024) hz, View.ld_unit_zero (S := S1x128) hz, View.ld_unit_zero (S := S1x1024) hz]

theorem lossA (hc0 : cond0_0 i) :
    out0_A_4 (F := Ideal) c i arg1 harg1 arg2 harg2 arg3 harg3 arg4 harg4 arg5 harg5 arg6 harg6 hc0 x0 x1 x2 = k0_pay10 (F := Ideal) x2 x0 x1 (k0_pay3 (F := Ideal)) := by
  unfold out0_A_4
  rw [View.read_writes_eq_canon _ _ _ (cover0_A_4 (F := Ideal) c i arg1 harg1 arg2 harg2 arg3 harg3 arg4 harg4 arg5 harg5 arg6 harg6 hc0 x0 x1 x2)]
  unfold kernelRun0_A
  dsimp only
  sl_unfold_words
  first | rw [View.canon_unit_zero hz] | rw [View.canon_cons_unit_zero (S := S1x128) hz]
  simp only [View.readAt_eq_ld, harg1.read_unread, harg2.read_unread, harg3.read_unread, harg4.read_unread, harg5.read_unread, harg6.read_unread, View.ld_unit_zero (S := S512x1024) hz, View.ld_unit_zero (S := S1x128) hz, View.ld_unit_zero (S := S1x1024) hz]
  congr 1
  exact View.readCov_unit_zero (S := S1x128) _ hz _ _

theorem lossB (hc0 : ¬cond0_0 i) :
    out0_B_4 (F := Ideal) c i arg1 harg1 arg2 harg2 arg3 harg3 arg4 harg4 arg5 harg5 arg6 harg6 hc0 x0 x1 x2 xo4 xo5 = k0_pay10 (F := Ideal) x2 x0 x1 xo4 := by
  unfold out0_B_4
  rw [View.read_writes_eq_canon _ _ _ (cover0_B_4 (F := Ideal) c i arg1 harg1 arg2 harg2 arg3 harg3 arg4 harg4 arg5 harg5 arg6 harg6 hc0 x0 x1 x2 xo4 xo5)]
  unfold kernelRun0_B
  dsimp only
  sl_unfold_words
  first | rw [View.canon_unit_zero hz] | rw [View.canon_cons_unit_zero (S := S1x128) hz]
  simp only [View.readAt_eq_ld, harg1.read_unread, harg2.read_unread, harg3.read_unread, harg4.read_unread, harg5.read_unread, harg6.read_unread, View.ld_unit_zero (S := S512x1024) hz, View.ld_unit_zero (S := S1x128) hz, View.ld_unit_zero (S := S1x1024) hz]

theorem gainA (hc0 : cond0_0 i) :
    out0_A_5 (F := Ideal) c i arg1 harg1 arg2 harg2 arg3 harg3 arg4 harg4 arg5 harg5 arg6 harg6 hc0 x0 x1 x2 = k0_pay2 (F := Ideal) (k0_pay8 (F := Ideal) x0) (k0_pay11 (F := Ideal) x2 x0 x1) (k0_pay4 (F := Ideal)) := by
  unfold out0_A_5
  rw [View.read_writes_eq_canon _ _ _ (cover0_A_5 (F := Ideal) c i arg1 harg1 arg2 harg2 arg3 harg3 arg4 harg4 arg5 harg5 arg6 harg6 hc0 x0 x1 x2)]
  unfold kernelRun0_A
  dsimp only
  sl_unfold_words
  first | rw [View.canon_unit_zero hz] | rw [View.canon_cons_unit_zero (S := S1x1024) hz]
  simp only [View.readAt_eq_ld, harg1.read_unread, harg2.read_unread, harg3.read_unread, harg4.read_unread, harg5.read_unread, harg6.read_unread, View.ld_unit_zero (S := S512x1024) hz, View.ld_unit_zero (S := S1x128) hz, View.ld_unit_zero (S := S1x1024) hz]
  congr 1
  exact View.readCov_unit_zero (S := S1x1024) _ hz _ _

theorem gainB (hc0 : ¬cond0_0 i) :
    out0_B_5 (F := Ideal) c i arg1 harg1 arg2 harg2 arg3 harg3 arg4 harg4 arg5 harg5 arg6 harg6 hc0 x0 x1 x2 xo4 xo5 = k0_pay2 (F := Ideal) (k0_pay8 (F := Ideal) x0) (k0_pay11 (F := Ideal) x2 x0 x1) xo5 := by
  unfold out0_B_5
  rw [View.read_writes_eq_canon _ _ _ (cover0_B_5 (F := Ideal) c i arg1 harg1 arg2 harg2 arg3 harg3 arg4 harg4 arg5 harg5 arg6 harg6 hc0 x0 x1 x2 xo4 xo5)]
  unfold kernelRun0_B
  dsimp only
  sl_unfold_words
  first | rw [View.canon_unit_zero hz] | rw [View.canon_cons_unit_zero (S := S1x1024) hz]
  simp only [View.readAt_eq_ld, harg1.read_unread, harg2.read_unread, harg3.read_unread, harg4.read_unread, harg5.read_unread, harg6.read_unread, View.ld_unit_zero (S := S512x1024) hz, View.ld_unit_zero (S := S1x128) hz, View.ld_unit_zero (S := S1x1024) hz]

end

/-! ### The stored values, index by index -/

section
variable (x0 x1 : S512x1024.Idx → EReal) (x2 : S1x1024.Idx → EReal)

/-- A block of errors. -/
def errBlk : S512x1024.Idx → EReal := fun j => (x0 j * inv (∑ k : Fin 1024, x0 (ix2 (r0 j) k) * x0 (ix2 (r0 j) k)) * x2 (ix2 0 (c1 j)) - x1 j)

theorem pay5 : (k0_pay5 (F := Ideal) x2 : S1x1024.Idx → EReal) = x2 := by
  unfold k0_pay5
  exact shapeCast_self _ _

theorem pay6 : (k0_pay6 (F := Ideal) x0 : S512x1024.Idx → EReal) = x0 := by
  unfold k0_pay6
  exact shapeCast_self _ _

theorem pay7 : (k0_pay7 (F := Ideal) x0 : S512x1.Idx → EReal) = fun j => inv (∑ k : Fin 1024, x0 (ix2 (r0 j) k) * x0 (ix2 (r0 j) k)) := by
  unfold k0_pay7
  rw [pay6]
  exact blk_inv x0 _ _ _ _ _

theorem pay8 : (k0_pay8 (F := Ideal) x0 : S512x1024.Idx → EReal) = mulf (F := Ideal) (φ := .f32) x0 (broadcastTo S512x1024 (k0_pay7 (F := Ideal) x0) broadcasts_S512x1_S512x1024) := by
  unfold k0_pay8
  rw [pay6]

theorem pay8' : (k0_pay8 (F := Ideal) x0 : S512x1024.Idx → EReal) = fun j => x0 j * inv (∑ k : Fin 1024, x0 (ix2 (r0 j) k) * x0 (ix2 (r0 j) k)) := by
  rw [pay8, pay7, colTo]
  rfl

theorem pay9 : (k0_pay9 (F := Ideal) x2 x0 x1 : S512x1024.Idx → EReal) = errBlk x0 x1 x2 := by
  unfold k0_pay9
  rw [pay8', pay5]
  dsimp only
  rw [shapeCast_self, rowTo]
  rfl

theorem pay11 : (k0_pay11 (F := Ideal) x2 x0 x1 : S512x1024.Idx → EReal) = fun j => errBlk x0 x1 x2 j * Ideal.ofBits .f32 0x3A800000#32 := by
  unfold k0_pay11
  rw [pay9]
  rfl

theorem pay12 : (k0_pay12 (F := Ideal) x2 x0 x1 : S512x1024.Idx → EReal) = fun j => errBlk x0 x1 x2 j * Ideal.ofBits .f32 0x3A800000#32 * x2 (ix2 0 (c1 j)) := by
  unfold k0_pay12
  rw [pay11, pay5]
  dsimp only
  rw [rowTo]
  rfl

theorem rows : (k0_pay1 (F := Ideal) (k0_pay7 (F := Ideal) x0) (k0_pay8 (F := Ideal) x0) (k0_pay12 (F := Ideal) x2 x0 x1) (k0_pay13 (F := Ideal) x2 x0 x1) : S512x1024.Idx → EReal) = backBlk (fun _ => 0) x0 (k0_pay12 (F := Ideal) x2 x0 x1) := by
  unfold k0_pay13 k0_pay1
  rw [pay8]
  dsimp only
  exact (alone _).trans (blk_back (fun _ => 0) x0 (k0_pay12 (F := Ideal) x2 x0 x1) (k0_pay7 (F := Ideal) x0) (pay7 x0) _ _ _ _ _ _)

theorem losses (a : S1x128.Idx → EReal) : (k0_pay10 (F := Ideal) x2 x0 x1 a : S1x128.Idx → EReal) = fun j => a j + Ideal.ofBits .f32 0x3A000000#32 * ∑ y : Fin 512, ∑ k : Fin 1024,
    errBlk x0 x1 x2 (ix2 y k) * errBlk x0 x1 x2 (ix2 y k) := by
  unfold k0_pay10
  rw [pay9]
  dsimp only
  rw [shapeCast_self]
  funext j
  exact congrArg (fun s => a j + Ideal.ofBits .f32 0x3A000000#32 * s) (blk_whole (T := 512) (C := 1024) (mulf (F := Ideal) (φ := .f32) (errBlk x0 x1 x2) (errBlk x0 x1 x2)) _ _ _ _ _ _ _)

theorem gains (a : S1x1024.Idx → EReal) : (k0_pay2 (F := Ideal) (k0_pay8 (F := Ideal) x0) (k0_pay11 (F := Ideal) x2 x0 x1) a : S1x1024.Idx → EReal) = fun j => a j + ∑ y : Fin 512,
    errBlk x0 x1 x2 (ix2 y (c1 j)) * Ideal.ofBits .f32 0x3A800000#32 * (x0 (ix2 y (c1 j)) * inv (∑ k : Fin 1024, x0 (ix2 y k) * x0 (ix2 y k))) := by
  unfold k0_pay2
  rw [pay8', pay11]
  dsimp only
  rw [shapeCast_self]
  exact blk_gain _ _ a _ _ _ _ _

theorem zeros3 : (k0_pay3 (F := Ideal) : S1x128.Idx → EReal) = fun _ => 0 := by
  unfold k0_pay3
  funext j
  exact zeroF

theorem zeros4 : (k0_pay4 (F := Ideal) : S1x1024.Idx → EReal) = fun _ => 0 := by
  unfold k0_pay4
  funext j
  exact zeroF

end

/-! ### The results -/

/-- The errors. -/
def err (r : Arr S4x2048x1024) (g : Arr S1024) (w : Arr S4x2048x1024) : Arr S4x2048x1024 := fun j => norm r g j - w j

/-- The gradient of the normalised rows. -/
def dh (r : Arr S4x2048x1024) (g : Arr S1024) (w : Arr S4x2048x1024) : Arr S4x2048x1024 := fun j => err r g w j * Ideal.ofBits .f32 0x3A800000#32

/-- … times the gain. -/
def dx (r : Arr S4x2048x1024) (g : Arr S1024) (w : Arr S4x2048x1024) : Arr S4x2048x1024 := fun j => dh r g w j * g (ix1 (d2 j))

/-- The sum of a row's squared errors. -/
def rowErr (r : Arr S4x2048x1024) (g : Arr S1024) (w : Arr S4x2048x1024) (p : Fin 4) (q : Fin 2048) : EReal := ∑ k : Fin 1024, err r g w (ix3 p q k) * err r g w (ix3 p q k)

/-- The loss. -/
def loss (r : Arr S4x2048x1024) (g : Arr S1024) (w : Arr S4x2048x1024) : EReal := Ideal.ofBits .f32 0x3A000000#32 * ∑ p : Fin 4, ∑ q : Fin 2048, rowErr r g w p q

/-- What one block of flat rows adds to it. -/
def lossBlk (r : Arr S4x2048x1024) (g : Arr S1024) (w : Arr S4x2048x1024) (t : Nat) : S1x128.Idx → EReal := fun _ =>
  Ideal.ofBits .f32 0x3A000000#32 * ∑ y : Fin 512, ∑ k : Fin 1024,
    flatA (err r g w) (ix2 (Fin.ofNat 8192 (t * 512 + y.val)) k) * flatA (err r g w) (ix2 (Fin.ofNat 8192 (t * 512 + y.val)) k)

theorem half_mean : Ideal.ofBits .f32 0x3A000000#32 = ((1 / 2048 : ℝ) : EReal) := by
  simp [Ideal.ofBits, Ideal.ieee, -EReal.coe_mul]; norm_num

theorem loss_blocks (r : Arr S4x2048x1024) (g : Arr S1024) (w : Arr S4x2048x1024) (j) : ∑ b : Fin 16, lossBlk r g w b.val j = loss r g w := by
  unfold lossBlk loss
  rw [half_mean, pull_sum _ (EReal.coe_nonneg.mpr (by norm_num)) (EReal.coe_ne_top _)]
  exact congrArg (_ * ·) (sum_batch 4 2048 16 512 rfl fun p q => rowErr r g w p q)

variable (m : (ℓ : Loc nD τ sig) → Buf (Elt Ideal) ℓ) (c : Dev nD)

theorem lossAtA (t : Fin cfg0.N) (h0 : t.val % 16 = 0) : (outsAt0 m c t.val t.isLt).2.1 = k0_pay10 (F := Ideal) (iblk m c 2 t) (iblk m c 0 t) (iblk m c 1 t) (k0_pay3 (F := Ideal)) := by
  rw [outsAt0_A m c t h0]
  dsimp only
  exact lossA (c := c) (i := grid0.coords t) (x0 := iblk m c 0 t) (x1 := iblk m c 1 t) (x2 := iblk m c 2 t) _

theorem lossAtB (t : Fin cfg0.N) (h0 : ¬t.val % 16 = 0) : (outsAt0 m c t.val t.isLt).2.1 = k0_pay10 (F := Ideal) (iblk m c 2 t) (iblk m c 0 t) (iblk m c 1 t) (outsAt0 m c (t.val - 1) (Nat.lt_of_le_of_lt (Nat.sub_le _ _) t.isLt)).2.1 := by
  rw [outsAt0_B m c t h0]
  dsimp only
  exact lossB (c := c) (i := grid0.coords t) (x0 := iblk m c 0 t) (x1 := iblk m c 1 t) (x2 := iblk m c 2 t) _ _ _

theorem gainAtA (t : Fin cfg0.N) (h0 : t.val % 16 = 0) : (outsAt0 m c t.val t.isLt).2.2 = k0_pay2 (F := Ideal) (k0_pay8 (F := Ideal) (iblk m c 0 t)) (k0_pay11 (F := Ideal) (iblk m c 2 t) (iblk m c 0 t) (iblk m c 1 t)) (k0_pay4 (F := Ideal)) := by
  rw [outsAt0_A m c t h0]
  dsimp only
  exact gainA (c := c) (i := grid0.coords t) (x0 := iblk m c 0 t) (x1 := iblk m c 1 t) (x2 := iblk m c 2 t) _

theorem gainAtB (t : Fin cfg0.N) (h0 : ¬t.val % 16 = 0) : (outsAt0 m c t.val t.isLt).2.2 = k0_pay2 (F := Ideal) (k0_pay8 (F := Ideal) (iblk m c 0 t)) (k0_pay11 (F := Ideal) (iblk m c 2 t) (iblk m c 0 t) (iblk m c 1 t)) (outsAt0 m c (t.val - 1) (Nat.lt_of_le_of_lt (Nat.sub_le _ _) t.isLt)).2.2 := by
  rw [outsAt0_B m c t h0]
  dsimp only
  exact gainB (c := c) (i := grid0.coords t) (x0 := iblk m c 0 t) (x1 := iblk m c 1 t) (x2 := iblk m c 2 t) _ _ _

theorem atRows (t : Fin cfg0.N) : (outsAt0 m c t.val t.isLt).1 = k0_pay1 (F := Ideal) (k0_pay7 (F := Ideal) (iblk m c 0 t)) (k0_pay8 (F := Ideal) (iblk m c 0 t)) (k0_pay12 (F := Ideal) (iblk m c 2 t) (iblk m c 0 t) (iblk m c 1 t)) (k0_pay13 (F := Ideal) (iblk m c 2 t) (iblk m c 0 t) (iblk m c 1 t)) := by
  by_cases h0 : t.val % 16 = 0
  · rw [outsAt0_A m c t h0]
    dsimp only
    exact rowsA (c := c) (i := grid0.coords t) (x0 := iblk m c 0 t) (x1 := iblk m c 1 t) (x2 := iblk m c 2 t) _
  · rw [outsAt0_B m c t h0]
    dsimp only
    exact rowsB (c := c) (i := grid0.coords t) (x0 := iblk m c 0 t) (x1 := iblk m c 1 t) (x2 := iblk m c 2 t) _ _ _

variable (r : Arr S4x2048x1024) (g : Arr S1024) (w : Arr S4x2048x1024)
  (hr : m ((c : Thread nD τ).loc main_arg0) = r) (hg : m ((c : Thread nD τ).loc main_arg1) = g) (hw : m ((c : Thread nD τ).loc main_arg2) = w)
include hr hg hw

theorem reads : (V m c main_v0 : S8192x1024.Idx → EReal) = flatA r ∧ (V m c main_v1 : S8192x1024.Idx → EReal) = flatA w ∧ (V m c main_v2 : S1x1024.Idx → EReal) = (fun j => g (ix1 (c1 j))) := by
  refine ⟨?_, ?_, ?_⟩
  · rw [← hr]; exact flat8 (m ((c : Thread nD τ).loc main_arg0)) shapeCasts_S4x2048x1024_S8192x1024
  · rw [← hw]; exact flat8 (m ((c : Thread nD τ).loc main_arg2)) shapeCasts_S4x2048x1024_S8192x1024
  · rw [← hg]; exact asRow (m ((c : Thread nD τ).loc main_arg1)) shapeCasts_S1024_S1x1024

/-- A point's errors. -/
theorem errAt (t : Fin cfg0.N) : errBlk (iblk m c 0 t) (iblk m c 1 t) (iblk m c 2 t) = fun y => flatA (err r g w) (ix2 (Fin.ofNat 8192 (t.val * 512 + (r0 y).val)) (c1 y)) := by
  obtain ⟨e0, e1, e2⟩ := reads m c r g w hr hg hw
  refine (congr3 errBlk (rd0 m c t _ e0) (rd1 m c t _ e1) (rd2 m c t _ e2)).trans ?_
  funext y
  simp only [ofNat_fst, errBlk]
  rfl

theorem array3 : ((dats m 0 c).arrAt 3 cfg0.N : S8192x1024.Idx → EReal) = flatA (back (fun _ => 0) r (dx r g w)) := by
  obtain ⟨e0, e1, e2⟩ := reads m c r g w hr hg hw
  have h12 : ∀ t : Fin cfg0.N, (k0_pay12 (F := Ideal) (iblk m c 2 t) (iblk m c 0 t) (iblk m c 1 t) : S512x1024.Idx → EReal)
      = fun y => flatA (dx r g w) (ix2 (Fin.ofNat 8192 (t.val * 512 + (r0 y).val)) (c1 y)) := fun t => by
    rw [pay12, errAt m c r g w hr hg hw t]
    funext y
    refine congrArg (flatA (err r g w) (ix2 (Fin.ofNat 8192 (t.val * 512 + (r0 y).val)) (c1 y)) * Ideal.ofBits .f32 0x3A800000#32 * ·) ((congrFun (rd2 m c t _ e2) (ix2 0 (c1 y))).trans ?_)
    simp only [ofNat_fst]
    rfl
  refine arr3 m c _ _ (fun t _ => (after0_3 m c t).trans ((atRows m c t).trans ((rows _ _ _).trans
    (congrArg₂ (backBlk fun _ => 0) (rd0 m c t _ e0) (h12 t))))) (fun t _ y => ?_)
  simp only [ofNat_fst, backBlk]
  rfl

theorem lossAt (b : S1x128.Idx → EReal) (t : Fin cfg0.N) : (k0_pay10 (F := Ideal) (iblk m c 2 t) (iblk m c 0 t) (iblk m c 1 t) b : S1x128.Idx → EReal) = fun j => b j + lossBlk r g w t.val j := by
  refine (losses _ _ _ _).trans ?_
  rw [errAt m c r g w hr hg hw t]
  rfl

theorem gainAt (b : S1x1024.Idx → EReal) (t : Fin cfg0.N) : (k0_pay2 (F := Ideal) (k0_pay8 (F := Ideal) (iblk m c 0 t)) (k0_pay11 (F := Ideal) (iblk m c 2 t) (iblk m c 0 t) (iblk m c 1 t)) b : S1x1024.Idx → EReal) = fun j => b j + gainBlk 512 r (dh r g w) t.val j := by
  obtain ⟨e0, e1, e2⟩ := reads m c r g w hr hg hw
  have h0 : (iblk m c 0 t : S512x1024.Idx → EReal) = fun y => flatA r (ix2 (Fin.ofNat 8192 (t.val * 512 + (r0 y).val)) (c1 y)) := by
    refine (rd0 m c t _ e0).trans ?_
    funext y
    simp only [ofNat_fst]
  refine (gains _ _ _ _).trans ?_
  rw [errAt m c r g w hr hg hw t, h0]
  rfl

/-- The second result's block after a point: the sum of the blocks so far. -/
theorem sumLoss : ∀ n h, ((outsAt0 m c n h).2.1 : S1x128.Idx → EReal) = part 16 (lossBlk r g w) n := by
  refine sweep 16 (fun n h => ((outsAt0 m c n h).2.1 : S1x128.Idx → EReal) = part 16 (lossBlk r g w) n) (fun n h h0 => ?_) (fun n h h0 h' ih => ?_)
  · rw [part_first 16 _ n h0]
    refine (lossAtA m c ⟨n, h⟩ h0).trans ?_
    refine (congrArg (k0_pay10 (F := Ideal) _ _ _) zeros3).trans ((lossAt m c r g w hr hg hw _ ⟨n, h⟩).trans ?_)
    funext j
    exact zero_add _
  · rw [← part_next 16 (lossBlk r g w) n h0 (by decide)]
    refine (lossAtB m c ⟨n, h⟩ h0).trans ?_
    exact (congrArg (k0_pay10 (F := Ideal) _ _ _) ih).trans (lossAt m c r g w hr hg hw _ ⟨n, h⟩)

/-- The third result's block after a point: the sum of the blocks so far. -/
theorem sumGain : ∀ n h, ((outsAt0 m c n h).2.2 : S1x1024.Idx → EReal) = part 16 (gainBlk 512 r (dh r g w)) n := by
  refine sweep 16 (fun n h => ((outsAt0 m c n h).2.2 : S1x1024.Idx → EReal) = part 16 (gainBlk 512 r (dh r g w)) n) (fun n h h0 => ?_) (fun n h h0 h' ih => ?_)
  · rw [part_first 16 _ n h0]
    refine (gainAtA m c ⟨n, h⟩ h0).trans ?_
    refine (congrArg (k0_pay2 (F := Ideal) _ _) zeros4).trans ((gainAt m c r g w hr hg hw _ ⟨n, h⟩).trans ?_)
    funext j
    exact zero_add _
  · rw [← part_next 16 (gainBlk 512 r (dh r g w)) n h0 (by decide)]
    refine (gainAtB m c ⟨n, h⟩ h0).trans ?_
    exact (congrArg (k0_pay2 (F := Ideal) _ _) ih).trans (gainAt m c r g w hr hg hw _ ⟨n, h⟩)

theorem array4 : ((dats m 0 c).arrAt 4 cfg0.N : S1x128.Idx → EReal) = fun _ => loss r g w := by
  refine arr4 m c (fun _ _ => loss r g w) _ (fun t hf => ?_) (fun t _ y => rfl)
  have h1 := (flush0_4 t).mp hf
  refine (after0_4 m c t).trans ((sumLoss m c r g w hr hg hw t.val t.isLt).trans ?_)
  funext j
  rw [part_last 16 _ _ (by omega)]
  have e : t.val - t.val % 16 = 0 := by have ht : t.val < 16 := hN ▸ t.isLt; omega
  simp only [e, zero_add]
  exact loss_blocks r g w j

theorem array5 : ((dats m 0 c).arrAt 5 cfg0.N : S1x1024.Idx → EReal) = gain r (dh r g w) := by
  refine arr5 m c (fun _ => gain r (dh r g w)) _ (fun t hf => ?_) (fun t _ y => ?_)
  · have h1 := (flush0_5 t).mp hf
    refine (after0_5 m c t).trans ((sumGain m c r g w hr hg hw t.val t.isLt).trans ?_)
    funext j
    rw [part_last 16 _ _ (by omega)]
    have e : t.val - t.val % 16 = 0 := by have ht : t.val < 16 := hN ▸ t.isLt; omega
    simp only [e, zero_add]
    exact gain_blocks 16 512 rfl r (dh r g w) j
  · rw [ofNat_fst, ofNat_fst]
    exact congrArg (gain r (dh r g w)) (eq_rc y)

end Cert.LossHead

end
-- ==== Proof.LossHead.Claims.lean ====
/- The claims about the loss and its derivative through the last normalisation. -/
module

public import proofs.«01_k».proof.Defs
public import proofs.«01_k».proof.Proof.LossHead.Value
public import proofs.«01_k».proof.Proof.Gen.Kernel15.Frame
public import proofs.«01_k».proof.Proof.Gen.Reference15Ideal.Run
public import Idealize.ShloMosaic.Adequacy
public import Idealize.ShloMosaic.Init

@[expose] public section

noncomputable section

namespace Cert.LossHead

open Idealize.ShloMosaic Idealize.ShloMosaic.TcCoe Idealize.SL.Sem Cert.Ext Cert.Lift Idealize.ShloMosaic.ValueIdx

theorem frame_p : Cert.quiescent_Kernel15 := fun m ρ _ => Cert.Kernel15.Gen.frame m ρ
theorem frame_pi : Cert.quiescent_Kernel15Ideal := fun m ρ _ => Cert.Kernel15Ideal.Gen.frame m ρ
theorem frame_ri : Cert.quiescent_Reference15Ideal := fun m ρ _ => (θ_run Cert.Reference15Ideal.defs _ _).mono (fun r h => ⟨fun c => (h c).2.2.2,
      Idealize.ShloMosaic.sem_eq_zero_of_no_sems (by decide) r.2⟩)
    (Cert.Reference15Ideal.Value.run (F := Ideal) m ρ)

theorem preserves : Cert.preserves_Kernel15_Kernel15Ideal := trivial

section
open Cert.Reference15Ideal Cert.Reference15Ideal.Gen
variable (r : Arr S4x2048x1024) (g : Arr S1024) (w : Arr S4x2048x1024)

theorem ref_err : ((subf (F := Ideal) (φ := .f32) (mulf (F := Ideal) (φ := .f32) (mulf (F := Ideal) (φ := .f32) r (broadcastInDim S4x2048x1024 ![0, 1, 2] bcast_S4x2048x1_S4x2048x1024_0_1_2 (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))))) (broadcastInDim S4x2048x1024 ![0, 1, 2] bcast_S1x1x1024_S4x2048x1024_0_1_2 (broadcastInDim S1x1x1024 ![2] bcast_S1024_S1x1x1024_2 g))) w) : Arr S4x2048x1024) = err r g w :=
  congrArg (fun y : Arr S4x2048x1024 => subf (F := Ideal) (φ := .f32) y w) (host_norm (B := 4) (R := 2048) (C := 1024) r g reducesTo_S4x2048x1024_S4x2048_d2 h_S_ bcast_S4x2048_S4x2048x1_0_1 bcast_S4x2048x1_S4x2048x1024_0_1_2 S_ S_ ![] ![] bcast_S_S4x2048x1 bcast_S_S4x2048x1 bcast_S1x1x1024_S4x2048x1024_0_1_2 bcast_S1024_S1x1x1024_2)

theorem scaled (e : EReal) : Ideal.div (Ideal.ofBits .f32 0x3F000000#32 * Ideal.ofBits .f32 0x3F800000#32) (Ideal.ofBits .f32 0x44800000#32) * (Ideal.ofBits .f32 0x40000000#32 * e)
    = e * Ideal.ofBits .f32 0x3A800000#32 := by
  have h1 : Ideal.ofBits .f32 0x3F000000#32 = ((1 / 2 : ℝ) : EReal) := by simp [Ideal.ofBits, Ideal.ieee, -EReal.coe_mul]; norm_num
  have h2 : Ideal.ofBits .f32 0x3F800000#32 = ((1 : ℝ) : EReal) := by simp [Ideal.ofBits, Ideal.ieee, -EReal.coe_mul]; norm_num
  have h3 : Ideal.ofBits .f32 0x40000000#32 = ((2 : ℝ) : EReal) := by simp [Ideal.ofBits, Ideal.ieee, -EReal.coe_mul]; norm_num
  have h4 : Ideal.ofBits .f32 0x3A800000#32 = ((1 / 1024 : ℝ) : EReal) := by simp [Ideal.ofBits, Ideal.ieee, -EReal.coe_mul]; norm_num
  rw [div1024, h1, h2, h3, h4, ← mul_assoc, ← EReal.coe_mul, ← EReal.coe_mul, ← EReal.coe_mul, mul_comm e]
  norm_num

theorem ref_dh : ((mulf (F := Ideal) (φ := .f32) (broadcastInDim S4x2048x1024 ![0, 1] bcast_S4x2048_S4x2048x1024_0_1 (Host.divf (F := Ideal) (φ := .f32) (broadcastInDim S4x2048 ![] bcast_S_S4x2048 (mulf (F := Ideal) (φ := .f32) (constant (F := Ideal) S_ .f32 0x3F000000#32) (constant (F := Ideal) S_ .f32 0x3F800000#32))) (broadcastInDim S4x2048 ![] bcast_S_S4x2048 (constant (F := Ideal) S_ .f32 0x44800000#32)))) (mulf (F := Ideal) (φ := .f32) (broadcastInDim S4x2048x1024 ![] bcast_S_S4x2048x1024 (constant (F := Ideal) S_ .f32 0x40000000#32)) (subf (F := Ideal) (φ := .f32) (mulf (F := Ideal) (φ := .f32) (mulf (F := Ideal) (φ := .f32) r (broadcastInDim S4x2048x1024 ![0, 1, 2] bcast_S4x2048x1_S4x2048x1024_0_1_2 (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))))) (broadcastInDim S4x2048x1024 ![0, 1, 2] bcast_S1x1x1024_S4x2048x1024_0_1_2 (broadcastInDim S1x1x1024 ![2] bcast_S1024_S1x1x1024_2 g))) w))) : Arr S4x2048x1024) = dh r g w := by
  rw [ref_err]
  funext j
  exact scaled (err r g w j)

theorem ref_dx : ((mulf (F := Ideal) (φ := .f32) (mulf (F := Ideal) (φ := .f32) (broadcastInDim S4x2048x1024 ![0, 1] bcast_S4x2048_S4x2048x1024_0_1 (Host.divf (F := Ideal) (φ := .f32) (broadcastInDim S4x2048 ![] bcast_S_S4x2048 (mulf (F := Ideal) (φ := .f32) (constant (F := Ideal) S_ .f32 0x3F000000#32) (constant (F := Ideal) S_ .f32 0x3F800000#32))) (broadcastInDim S4x2048 ![] bcast_S_S4x2048 (constant (F := Ideal) S_ .f32 0x44800000#32)))) (mulf (F := Ideal) (φ := .f32) (broadcastInDim S4x2048x1024 ![] bcast_S_S4x2048x1024 (constant (F := Ideal) S_ .f32 0x40000000#32)) (subf (F := Ideal) (φ := .f32) (mulf (F := Ideal) (φ := .f32) (mulf (F := Ideal) (φ := .f32) r (broadcastInDim S4x2048x1024 ![0, 1, 2] bcast_S4x2048x1_S4x2048x1024_0_1_2 (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))))) (broadcastInDim S4x2048x1024 ![0, 1, 2] bcast_S1x1x1024_S4x2048x1024_0_1_2 (broadcastInDim S1x1x1024 ![2] bcast_S1024_S1x1x1024_2 g))) w))) (broadcastInDim S4x2048x1024 ![0, 1, 2] bcast_S1x1x1024_S4x2048x1024_0_1_2 (broadcastInDim S1x1x1024 ![2] bcast_S1024_S1x1x1024_2 g))) : Arr S4x2048x1024) = dx r g w := by
  rw [ref_dh, last]
  rfl

/-- The reference's gradient of the rows. -/
theorem ref_rows : (shapeCast S8192x1024 (addf (F := Ideal) (φ := .f32) (addf (F := Ideal) (φ := .f32) (mulf (F := Ideal) (φ := .f32) (mulf (F := Ideal) (φ := .f32) (mulf (F := Ideal) (φ := .f32) (broadcastInDim S4x2048x1024 ![0, 1] bcast_S4x2048_S4x2048x1024_0_1 (Host.divf (F := Ideal) (φ := .f32) (broadcastInDim S4x2048 ![] bcast_S_S4x2048 (mulf (F := Ideal) (φ := .f32) (constant (F := Ideal) S_ .f32 0x3F000000#32) (constant (F := Ideal) S_ .f32 0x3F800000#32))) (broadcastInDim S4x2048 ![] bcast_S_S4x2048 (constant (F := Ideal) S_ .f32 0x44800000#32)))) (mulf (F := Ideal) (φ := .f32) (broadcastInDim S4x2048x1024 ![] bcast_S_S4x2048x1024 (constant (F := Ideal) S_ .f32 0x40000000#32)) (subf (F := Ideal) (φ := .f32) (mulf (F := Ideal) (φ := .f32) (mulf (F := Ideal) (φ := .f32) r (broadcastInDim S4x2048x1024 ![0, 1, 2] bcast_S4x2048x1_S4x2048x1024_0_1_2 (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))))) (broadcastInDim S4x2048x1024 ![0, 1, 2] bcast_S1x1x1024_S4x2048x1024_0_1_2 (broadcastInDim S1x1x1024 ![2] bcast_S1024_S1x1x1024_2 g))) w))) (broadcastInDim S4x2048x1024 ![0, 1, 2] bcast_S1x1x1024_S4x2048x1024_0_1_2 (broadcastInDim S1x1x1024 ![2] bcast_S1024_S1x1x1024_2 g))) (broadcastInDim S4x2048x1024 ![0, 1, 2] bcast_S4x2048x1_S4x2048x1024_0_1_2 (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))))) (mulf (F := Ideal) (φ := .f32) r (broadcastInDim S4x2048x1024 ![0, 1] bcast_S4x2048_S4x2048x1024_0_1 (Host.reduceAdd (F := Ideal) (φ := .f32) (Host.divf (F := Ideal) (φ := .f32) (mulf (F := Ideal) (φ := .f32) (shapeCast S4x2048x1 (Host.reduceAdd (F := Ideal) (φ := .f32) (mulf (F := Ideal) (φ := .f32) r (mulf (F := Ideal) (φ := .f32) (mulf (F := Ideal) (φ := .f32) (broadcastInDim S4x2048x1024 ![0, 1] bcast_S4x2048_S4x2048x1024_0_1 (Host.divf (F := Ideal) (φ := .f32) (broadcastInDim S4x2048 ![] bcast_S_S4x2048 (mulf (F := Ideal) (φ := .f32) (constant (F := Ideal) S_ .f32 0x3F000000#32) (constant (F := Ideal) S_ .f32 0x3F800000#32))) (broadcastInDim S4x2048 ![] bcast_S_S4x2048 (constant (F := Ideal) S_ .f32 0x44800000#32)))) (mulf (F := Ideal) (φ := .f32) (broadcastInDim S4x2048x1024 ![] bcast_S_S4x2048x1024 (constant (F := Ideal) S_ .f32 0x40000000#32)) (subf (F := Ideal) (φ := .f32) (mulf (F := Ideal) (φ := .f32) (mulf (F := Ideal) (φ := .f32) r (broadcastInDim S4x2048x1024 ![0, 1, 2] bcast_S4x2048x1_S4x2048x1024_0_1_2 (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))))) (broadcastInDim S4x2048x1024 ![0, 1, 2] bcast_S1x1x1024_S4x2048x1024_0_1_2 (broadcastInDim S1x1x1024 ![2] bcast_S1024_S1x1x1024_2 g))) w))) (broadcastInDim S4x2048x1024 ![0, 1, 2] bcast_S1x1x1024_S4x2048x1024_0_1_2 (broadcastInDim S1x1x1024 ![2] bcast_S1024_S1x1x1024_2 g)))) (constant (F := Ideal) S_ .f32 0x00000000#32) reducesTo_S4x2048x1024_S4x2048_d2 h_S_) shapeCasts_S4x2048_S4x2048x1) (mulf (F := Ideal) (φ := .f32) (broadcastInDim S4x2048x1 ![] bcast_S_S4x2048x1 (constant (F := Ideal) S_ .f32 0xBF000000#32)) (Host.divf (F := Ideal) (φ := .f32) (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))))) (broadcastInDim S4x2048x1 ![] bcast_S_S4x2048x1 (constant (F := Ideal) S_ .f32 0x44800000#32))) (constant (F := Ideal) S_ .f32 0x00000000#32) reducesTo_S4x2048x1_S4x2048_d2 h_S_)))) (mulf (F := Ideal) (φ := .f32) (broadcastInDim S4x2048x1024 ![0, 1] bcast_S4x2048_S4x2048x1024_0_1 (Host.reduceAdd (F := Ideal) (φ := .f32) (Host.divf (F := Ideal) (φ := .f32) (mulf (F := Ideal) (φ := .f32) (shapeCast S4x2048x1 (Host.reduceAdd (F := Ideal) (φ := .f32) (mulf (F := Ideal) (φ := .f32) r (mulf (F := Ideal) (φ := .f32) (mulf (F := Ideal) (φ := .f32) (broadcastInDim S4x2048x1024 ![0, 1] bcast_S4x2048_S4x2048x1024_0_1 (Host.divf (F := Ideal) (φ := .f32) (broadcastInDim S4x2048 ![] bcast_S_S4x2048 (mulf (F := Ideal) (φ := .f32) (constant (F := Ideal) S_ .f32 0x3F000000#32) (constant (F := Ideal) S_ .f32 0x3F800000#32))) (broadcastInDim S4x2048 ![] bcast_S_S4x2048 (constant (F := Ideal) S_ .f32 0x44800000#32)))) (mulf (F := Ideal) (φ := .f32) (broadcastInDim S4x2048x1024 ![] bcast_S_S4x2048x1024 (constant (F := Ideal) S_ .f32 0x40000000#32)) (subf (F := Ideal) (φ := .f32) (mulf (F := Ideal) (φ := .f32) (mulf (F := Ideal) (φ := .f32) r (broadcastInDim S4x2048x1024 ![0, 1, 2] bcast_S4x2048x1_S4x2048x1024_0_1_2 (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))))) (broadcastInDim S4x2048x1024 ![0, 1, 2] bcast_S1x1x1024_S4x2048x1024_0_1_2 (broadcastInDim S1x1x1024 ![2] bcast_S1024_S1x1x1024_2 g))) w))) (broadcastInDim S4x2048x1024 ![0, 1, 2] bcast_S1x1x1024_S4x2048x1024_0_1_2 (broadcastInDim S1x1x1024 ![2] bcast_S1024_S1x1x1024_2 g)))) (constant (F := Ideal) S_ .f32 0x00000000#32) reducesTo_S4x2048x1024_S4x2048_d2 h_S_) shapeCasts_S4x2048_S4x2048x1) (mulf (F := Ideal) (φ := .f32) (broadcastInDim S4x2048x1 ![] bcast_S_S4x2048x1 (constant (F := Ideal) S_ .f32 0xBF000000#32)) (Host.divf (F := Ideal) (φ := .f32) (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))))) (broadcastInDim S4x2048x1 ![] bcast_S_S4x2048x1 (constant (F := Ideal) S_ .f32 0x44800000#32))) (constant (F := Ideal) S_ .f32 0x00000000#32) reducesTo_S4x2048x1_S4x2048_d2 h_S_)) r)) shapeCasts_S4x2048x1024_S8192x1024 : S8192x1024.Idx → EReal) = flatA (back (fun _ => 0) r (dx r g w)) := by
  rw [ref_dx]
  have e := host_back (B := 4) (R := 2048) (C := 1024) (fun _ => 0) r (dx r g w) _ (host_den (B := 4) (R := 2048) (C := 1024) r reducesTo_S4x2048x1024_S4x2048_d2 h_S_ bcast_S4x2048_S4x2048x1_0_1 S_ S_ ![] ![] bcast_S_S4x2048x1 bcast_S_S4x2048x1)
    reducesTo_S4x2048x1024_S4x2048_d2 reducesTo_S4x2048x1_S4x2048_d2 h_S_ bcast_S4x2048x1_S4x2048x1024_0_1_2 bcast_S4x2048_S4x2048x1024_0_1 shapeCasts_S4x2048_S4x2048x1 S_ S_ ![] ![] bcast_S_S4x2048x1 bcast_S_S4x2048x1 _ rfl
  rw [← alone] at e
  refine (congrArg (fun x => shapeCast S8192x1024 x shapeCasts_S4x2048x1024_S8192x1024) e).trans ?_
  exact flat8 (back (fun _ => 0) r (dx r g w)) shapeCasts_S4x2048x1024_S8192x1024

theorem halved (f : Fin 4 → Fin 2048 → EReal) : Ideal.ofBits .f32 0x3F000000#32 * ∑ p, ∑ q, Ideal.div (f p q) (Ideal.ofBits .f32 0x44800000#32)
    = Ideal.ofBits .f32 0x3A000000#32 * ∑ p, ∑ q, f p q := by
  have h1 : Ideal.ofBits .f32 0x3F000000#32 = ((1 / 2 : ℝ) : EReal) := by simp [Ideal.ofBits, Ideal.ieee, -EReal.coe_mul]; norm_num
  have h0 : (0 : EReal) ≤ ((1 / 1024 : ℝ) : EReal) := EReal.coe_nonneg.mpr (by norm_num)
  have e : ∀ p, ∑ q, Ideal.div (f p q) (Ideal.ofBits .f32 0x44800000#32) = ((1 / 1024 : ℝ) : EReal) * ∑ q, f p q := fun p => by
    rw [← pull_sum _ h0 (EReal.coe_ne_top _)]
    exact Finset.sum_congr rfl fun q _ => (div1024 _).trans (mul_comm _ _)
  rw [Finset.sum_congr rfl fun p _ => e p, pull_sum _ h0 (EReal.coe_ne_top _), ← mul_assoc, h1, half_mean, ← EReal.coe_mul]
  norm_num

/-- The reference's loss. -/
theorem ref_loss : (broadcastInDim S1x128 ![] bcast_S_S1x128 (mulf (F := Ideal) (φ := .f32) (constant (F := Ideal) S_ .f32 0x3F000000#32) (Host.reduceAdd (F := Ideal) (φ := .f32) (Host.divf (F := Ideal) (φ := .f32) (Host.reduceAdd (F := Ideal) (φ := .f32) (mulf (F := Ideal) (φ := .f32) (subf (F := Ideal) (φ := .f32) (mulf (F := Ideal) (φ := .f32) (mulf (F := Ideal) (φ := .f32) r (broadcastInDim S4x2048x1024 ![0, 1, 2] bcast_S4x2048x1_S4x2048x1024_0_1_2 (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))))) (broadcastInDim S4x2048x1024 ![0, 1, 2] bcast_S1x1x1024_S4x2048x1024_0_1_2 (broadcastInDim S1x1x1024 ![2] bcast_S1024_S1x1x1024_2 g))) w) (subf (F := Ideal) (φ := .f32) (mulf (F := Ideal) (φ := .f32) (mulf (F := Ideal) (φ := .f32) r (broadcastInDim S4x2048x1024 ![0, 1, 2] bcast_S4x2048x1_S4x2048x1024_0_1_2 (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))))) (broadcastInDim S4x2048x1024 ![0, 1, 2] bcast_S1x1x1024_S4x2048x1024_0_1_2 (broadcastInDim S1x1x1024 ![2] bcast_S1024_S1x1x1024_2 g))) w)) (constant (F := Ideal) S_ .f32 0x00000000#32) reducesTo_S4x2048x1024_S4x2048_d2 h_S_) (broadcastInDim S4x2048 ![] bcast_S_S4x2048 (constant (F := Ideal) S_ .f32 0x44800000#32))) (constant (F := Ideal) S_ .f32 0x00000000#32) reducesTo_S4x2048_S_d0_1 h_S_)) : S1x128.Idx → EReal) = fun _ => loss r g w := by
  rw [ref_err, hostLast3]
  funext j
  exact (congrArg (Ideal.ofBits .f32 0x3F000000#32 * ·) (host_whole (B := 4) (R := 2048) _ reducesTo_S4x2048_S_d0_1 h_S_ _)).trans (halved (rowErr r g w))

/-- The reference's gradient of the gain. -/
theorem ref_gain : (shapeCast S1x1024 (Host.reduceAdd (F := Ideal) (φ := .f32) (shapeCast S1x1x1024 (Host.reduceAdd (F := Ideal) (φ := .f32) (mulf (F := Ideal) (φ := .f32) (mulf (F := Ideal) (φ := .f32) r (broadcastInDim S4x2048x1024 ![0, 1, 2] bcast_S4x2048x1_S4x2048x1024_0_1_2 (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))))) (mulf (F := Ideal) (φ := .f32) (broadcastInDim S4x2048x1024 ![0, 1] bcast_S4x2048_S4x2048x1024_0_1 (Host.divf (F := Ideal) (φ := .f32) (broadcastInDim S4x2048 ![] bcast_S_S4x2048 (mulf (F := Ideal) (φ := .f32) (constant (F := Ideal) S_ .f32 0x3F000000#32) (constant (F := Ideal) S_ .f32 0x3F800000#32))) (broadcastInDim S4x2048 ![] bcast_S_S4x2048 (constant (F := Ideal) S_ .f32 0x44800000#32)))) (mulf (F := Ideal) (φ := .f32) (broadcastInDim S4x2048x1024 ![] bcast_S_S4x2048x1024 (constant (F := Ideal) S_ .f32 0x40000000#32)) (subf (F := Ideal) (φ := .f32) (mulf (F := Ideal) (φ := .f32) (mulf (F := Ideal) (φ := .f32) r (broadcastInDim S4x2048x1024 ![0, 1, 2] bcast_S4x2048x1_S4x2048x1024_0_1_2 (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) r r) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))))) (broadcastInDim S4x2048x1024 ![0, 1, 2] bcast_S1x1x1024_S4x2048x1024_0_1_2 (broadcastInDim S1x1x1024 ![2] bcast_S1024_S1x1x1024_2 g))) w)))) (constant (F := Ideal) S_ .f32 0x00000000#32) reducesTo_S4x2048x1024_S1024_d0_1 h_S_) shapeCasts_S1024_S1x1x1024) (constant (F := Ideal) S_ .f32 0x00000000#32) reducesTo_S1x1x1024_S1024_d0_1 h_S_) shapeCasts_S1024_S1x1024 : S1x1024.Idx → EReal) = gain r (dh r g w) := by
  rw [ref_dh]
  exact host_gain r (dh r g w) _ (host_inv (B := 4) (R := 2048) (C := 1024) r reducesTo_S4x2048x1024_S4x2048_d2 h_S_ bcast_S4x2048_S4x2048x1_0_1 bcast_S4x2048x1_S4x2048x1024_0_1_2 S_ S_ ![] ![] bcast_S_S4x2048x1 bcast_S_S4x2048x1) reducesTo_S4x2048x1024_S1024_d0_1 reducesTo_S1x1x1024_S1024_d0_1 h_S_ shapeCasts_S1024_S1x1x1024 shapeCasts_S1024_S1x1024

end

theorem algebraic : Cert.algebraic_Kernel15Ideal_Reference15Ideal := by
  intro m ρ m' ρ' hpre hagree
  refine ⟨_, _, _, Cert.Kernel15Ideal.Value.run_blocks (F := Ideal) m ρ, ?_⟩
  refine (θ_run Cert.Reference15Ideal.defs _ _).mono (fun _ h c => ?_) (Cert.Reference15Ideal.Value.run (F := Ideal) m' ρ')
  obtain ⟨e0, e1, e2⟩ := hagree c
  exact ⟨(h c).1.trans ((ref_rows _ _ _).trans (array3 m c _ _ _ e0.symm e1.symm e2.symm).symm),
    (h c).2.1.trans ((ref_loss _ _ _).trans (array4 m c _ _ _ e0.symm e1.symm e2.symm).symm),
    (h c).2.2.1.trans ((ref_gain _ _ _).trans (array5 m c _ _ _ e0.symm e1.symm e2.symm).symm), (h c).2.2.2⟩

end Cert.LossHead

end
-- ==== Proof.Lift.Adam.lean ====
/- One AdamW step on a number: the new first and second moments, and the change of the weight. -/
module

public import proofs.«01_k».proof.Proof.Lift.Norm

@[expose] public section

noncomputable section

namespace Cert.Lift

open Idealize.ShloMosaic

/-- The number a float word stands for. -/
def word (b : BitVec 32) : EReal := (Scalar.ofBits (F := Ideal) .f32 b : Ideal .f32)

/-- The new first moment. -/
def newM (g m : EReal) : EReal := word 0x3F666666#32 * m + word 0x3DCCCCCD#32 * g

/-- The new second moment. -/
def newV (g v : EReal) : EReal := word 0x3F7FBE77#32 * v + word 0x3A83126F#32 * (g * g)

/-- The change of the weight. -/
def delta (w g m v : EReal) : EReal :=
  word 0xBA83126F#32 * (Ideal.div (Ideal.div (newM g m) (word 0x3F26BD02#32))
    (Ideal.sqrt (Ideal.div (newV g v) (word 0x3C231ACC#32)) + word 0x322BCC77#32) + word 0x3C23D70A#32 * w)

end Cert.Lift

end
-- ==== Proof.AdamWIn.Geometry.lean ====
/- Where the blocks of the grid lie: what a point reads of each array, and that the written blocks fill the results. -/
module

public import proofs.«01_k».proof.Proof.Gen.Kernel16Ideal.Value
public import proofs.«01_k».proof.Proof.Lift.Adam
public import proofs.«01_k».proof.Proof.Lift.Place

@[expose] public section

noncomputable section

namespace Cert.AdamWIn

open Cert.Kernel16Ideal Cert.Kernel16Ideal.Gen Cert.Ext Idealize.ShloMosaic Idealize.ShloMosaic.TcCoe Idealize.SL.Sem Cert.Lift Idealize.ShloMosaic.ValueIdx
open Idealize.ShloMosaic.Pipeline (Dat)

variable (m : (ℓ : Loc nD τ sig) → Buf (Elt Ideal) ℓ) (c : Dev nD)

theorem hN : cfg0.N = 8 := N_0

/-! ### The input blocks -/

theorem idx0_0 : ∀ t : Fin cfg0.N, win0_0.index t 0 = t.val := by decide +kernel
theorem idx0_1 : ∀ t : Fin cfg0.N, win0_0.index t 1 = 0 := by decide +kernel
theorem rd0 (t : Fin cfg0.N) (a : S4096x386.Idx → EReal) (h : (V m c main_v0 : S4096x386.Idx → EReal) = a) :
    (iblk m c 0 t : S512x386.Idx → EReal) = fun y => a (ix2 (Fin.ofNat 4096 (t.val * 512 + (r0 y).val)) (Fin.ofNat 386 (0 * 386 + (c1 y).val))) := by
  have ht : t.val < 8 := hN ▸ t.isLt
  funext y
  unfold iblk
  rw [View.read_apply]
  exact (congrFun h _).trans (congrArg a (place _ y _ _ _ _ (idx0_0 t) (idx0_1 t) (by omega) (by omega) rfl rfl))

theorem idx1_0 : ∀ t : Fin cfg0.N, win0_1.index t 0 = t.val := by decide +kernel
theorem idx1_1 : ∀ t : Fin cfg0.N, win0_1.index t 1 = 0 := by decide +kernel
theorem rd1 (t : Fin cfg0.N) (a : S4096x386.Idx → EReal) (h : (V m c main_v1 : S4096x386.Idx → EReal) = a) :
    (iblk m c 1 t : S512x386.Idx → EReal) = fun y => a (ix2 (Fin.ofNat 4096 (t.val * 512 + (r0 y).val)) (Fin.ofNat 386 (0 * 386 + (c1 y).val))) := by
  have ht : t.val < 8 := hN ▸ t.isLt
  funext y
  unfold iblk
  rw [View.read_apply]
  exact (congrFun h _).trans (congrArg a (place _ y _ _ _ _ (idx1_0 t) (idx1_1 t) (by omega) (by omega) rfl rfl))

theorem idx2_0 : ∀ t : Fin cfg0.N, win0_2.index t 0 = t.val := by decide +kernel
theorem idx2_1 : ∀ t : Fin cfg0.N, win0_2.index t 1 = 0 := by decide +kernel
theorem rd2 (t : Fin cfg0.N) (a : S4096x386.Idx → EReal) (h : (V m c main_v2 : S4096x386.Idx → EReal) = a) :
    (iblk m c 2 t : S512x386.Idx → EReal) = fun y => a (ix2 (Fin.ofNat 4096 (t.val * 512 + (r0 y).val)) (Fin.ofNat 386 (0 * 386 + (c1 y).val))) := by
  have ht : t.val < 8 := hN ▸ t.isLt
  funext y
  unfold iblk
  rw [View.read_apply]
  exact (congrFun h _).trans (congrArg a (place _ y _ _ _ _ (idx2_0 t) (idx2_1 t) (by omega) (by omega) rfl rfl))

theorem idx3_0 : ∀ t : Fin cfg0.N, win0_3.index t 0 = t.val := by decide +kernel
theorem idx3_1 : ∀ t : Fin cfg0.N, win0_3.index t 1 = 0 := by decide +kernel
theorem rd3 (t : Fin cfg0.N) (a : S4096x386.Idx → EReal) (h : (V m c main_v3 : S4096x386.Idx → EReal) = a) :
    (iblk m c 3 t : S512x386.Idx → EReal) = fun y => a (ix2 (Fin.ofNat 4096 (t.val * 512 + (r0 y).val)) (Fin.ofNat 386 (0 * 386 + (c1 y).val))) := by
  have ht : t.val < 8 := hN ▸ t.isLt
  funext y
  unfold iblk
  rw [View.read_apply]
  exact (congrFun h _).trans (congrArg a (place _ y _ _ _ _ (idx3_0 t) (idx3_1 t) (by omega) (by omega) rfl rfl))

/-! ### The output arrays -/

theorem idx4_0 : ∀ t : Fin cfg0.N, win0_4.index t 0 = t.val := by decide +kernel
theorem idx4_1 : ∀ t : Fin cfg0.N, win0_4.index t 1 = 0 := by decide +kernel
theorem arr4 (p : Fin cfg0.N → S512x386.Idx → EReal) (G : S4096x386.Idx → EReal)
    (hp : ∀ t, (cfg0.win 4).flush t = true → ((dats m 0 c).after 4 t : S512x386.Idx → EReal) = p t)
    (hG : ∀ t, (cfg0.win 4).flush t = true → ∀ y, p t y = G (ix2 (Fin.ofNat 4096 (t.val * 512 + (r0 y).val)) (Fin.ofNat 386 (0 * 386 + (c1 y).val)))) :
    ((dats m 0 c).arrAt 4 cfg0.N : S4096x386.Idx → EReal) = G := by
  refine (dats m 0 c).arrAt_eq_of_cover 4 G (fun t hf => ?_) fun i => ?_
  · have ht : t.val < 8 := hN ▸ t.isLt
    refine funext fun (y : S512x386.Idx) => ?_
    refine (congrFun (hp t hf) y).trans ?_
    rw [View.read_apply]
    exact (hG t hf y).trans (congrArg G (place _ y _ _ _ _ (idx4_0 t) (idx4_1 t) (by omega) (by omega) rfl rfl).symm)
  · have h0 : (i 0 : Nat) < 4096 := (i 0).isLt
    have h1 : (i 1 : Nat) < 386 := (i 1).isLt
    have hlt : (i 0 : Nat) / 512 < cfg0.N := by rw [hN]; omega
    refine ⟨⟨(i 0 : Nat) / 512, hlt⟩, flush0_4 ⟨_, hlt⟩, ?_⟩
    show i ∈ ((View.whole main_v4_0).slice (win0_4.rect ⟨(i 0 : Nat) / 512, hlt⟩)).set
    rw [View.set_slice_whole, Rect.mem_set_unit]
    exact both (within (T := 512) (((i 0 : Nat) / 512)) (idx4_0 _) (by omega)) (within (T := 386) (0) (idx4_1 _) (by omega))

theorem idx5_0 : ∀ t : Fin cfg0.N, win0_5.index t 0 = t.val := by decide +kernel
theorem idx5_1 : ∀ t : Fin cfg0.N, win0_5.index t 1 = 0 := by decide +kernel
theorem arr5 (p : Fin cfg0.N → S512x386.Idx → EReal) (G : S4096x386.Idx → EReal)
    (hp : ∀ t, (cfg0.win 5).flush t = true → ((dats m 0 c).after 5 t : S512x386.Idx → EReal) = p t)
    (hG : ∀ t, (cfg0.win 5).flush t = true → ∀ y, p t y = G (ix2 (Fin.ofNat 4096 (t.val * 512 + (r0 y).val)) (Fin.ofNat 386 (0 * 386 + (c1 y).val)))) :
    ((dats m 0 c).arrAt 5 cfg0.N : S4096x386.Idx → EReal) = G := by
  refine (dats m 0 c).arrAt_eq_of_cover 5 G (fun t hf => ?_) fun i => ?_
  · have ht : t.val < 8 := hN ▸ t.isLt
    refine funext fun (y : S512x386.Idx) => ?_
    refine (congrFun (hp t hf) y).trans ?_
    rw [View.read_apply]
    exact (hG t hf y).trans (congrArg G (place _ y _ _ _ _ (idx5_0 t) (idx5_1 t) (by omega) (by omega) rfl rfl).symm)
  · have h0 : (i 0 : Nat) < 4096 := (i 0).isLt
    have h1 : (i 1 : Nat) < 386 := (i 1).isLt
    have hlt : (i 0 : Nat) / 512 < cfg0.N := by rw [hN]; omega
    refine ⟨⟨(i 0 : Nat) / 512, hlt⟩, flush0_5 ⟨_, hlt⟩, ?_⟩
    show i ∈ ((View.whole main_v4_1).slice (win0_5.rect ⟨(i 0 : Nat) / 512, hlt⟩)).set
    rw [View.set_slice_whole, Rect.mem_set_unit]
    exact both (within (T := 512) (((i 0 : Nat) / 512)) (idx5_0 _) (by omega)) (within (T := 386) (0) (idx5_1 _) (by omega))

theorem idx6_0 : ∀ t : Fin cfg0.N, win0_6.index t 0 = t.val := by decide +kernel
theorem idx6_1 : ∀ t : Fin cfg0.N, win0_6.index t 1 = 0 := by decide +kernel
theorem arr6 (p : Fin cfg0.N → S512x386.Idx → EReal) (G : S4096x386.Idx → EReal)
    (hp : ∀ t, (cfg0.win 6).flush t = true → ((dats m 0 c).after 6 t : S512x386.Idx → EReal) = p t)
    (hG : ∀ t, (cfg0.win 6).flush t = true → ∀ y, p t y = G (ix2 (Fin.ofNat 4096 (t.val * 512 + (r0 y).val)) (Fin.ofNat 386 (0 * 386 + (c1 y).val)))) :
    ((dats m 0 c).arrAt 6 cfg0.N : S4096x386.Idx → EReal) = G := by
  refine (dats m 0 c).arrAt_eq_of_cover 6 G (fun t hf => ?_) fun i => ?_
  · have ht : t.val < 8 := hN ▸ t.isLt
    refine funext fun (y : S512x386.Idx) => ?_
    refine (congrFun (hp t hf) y).trans ?_
    rw [View.read_apply]
    exact (hG t hf y).trans (congrArg G (place _ y _ _ _ _ (idx6_0 t) (idx6_1 t) (by omega) (by omega) rfl rfl).symm)
  · have h0 : (i 0 : Nat) < 4096 := (i 0).isLt
    have h1 : (i 1 : Nat) < 386 := (i 1).isLt
    have hlt : (i 0 : Nat) / 512 < cfg0.N := by rw [hN]; omega
    refine ⟨⟨(i 0 : Nat) / 512, hlt⟩, flush0_6 ⟨_, hlt⟩, ?_⟩
    show i ∈ ((View.whole main_v4_2).slice (win0_6.rect ⟨(i 0 : Nat) / 512, hlt⟩)).set
    rw [View.set_slice_whole, Rect.mem_set_unit]
    exact both (within (T := 512) (((i 0 : Nat) / 512)) (idx6_0 _) (by omega)) (within (T := 386) (0) (idx6_1 _) (by omega))

end Cert.AdamWIn

end
-- ==== Proof.AdamWIn.Value.lean ====
/- The optimiser's call on the input projection weight: the three arrays it returns, index by index. -/
module

public import proofs.«01_k».proof.Proof.AdamWIn.Geometry

@[expose] public section

noncomputable section

namespace Cert.AdamWIn

open Cert.Kernel16Ideal Cert.Kernel16Ideal.Gen Cert.Ext Idealize.ShloMosaic Idealize.ShloMosaic.TcCoe Idealize.SL.Sem Cert.Lift Idealize.ShloMosaic.ValueIdx

theorem payG (x : S512x386.Idx → EReal) : (k0_pay1 (F := Ideal) x : S512x386.Idx → EReal) = x := by
  unfold k0_pay1
  exact shapeCast_self _ _

theorem payM (x1 x2 : S512x386.Idx → EReal) : (k0_pay2 (F := Ideal) x1 x2 : S512x386.Idx → EReal) = fun j => newM (x1 j) (x2 j) := by
  unfold k0_pay2
  dsimp only
  rw [shapeCast_self, payG]
  rfl

theorem payV (x1 x3 : S512x386.Idx → EReal) : (k0_pay3 (F := Ideal) x1 x3 : S512x386.Idx → EReal) = fun j => newV (x1 j) (x3 j) := by
  unfold k0_pay3
  dsimp only
  rw [shapeCast_self, payG]
  rfl

theorem payD (x0 x1 x2 x3 : S512x386.Idx → EReal) : (k0_pay4 (F := Ideal) x1 x2 x3 x0 : S512x386.Idx → EReal) = fun j => delta (x0 j) (x1 j) (x2 j) (x3 j) := by
  unfold k0_pay4
  dsimp only
  rw [shapeCast_self, payM, payV]
  rfl

theorem block4 (x0 x1 x2 x3 : S512x386.Idx → EReal) :
    (out0_4 (F := Ideal) x0 x1 x2 x3 : S512x386.Idx → EReal) = fun j => delta (x0 j) (x1 j) (x2 j) (x3 j) := by
  unfold out0_4
  rw [View.canon_unit_zero hz]
  simp only [View.ld_unit_zero (S := S512x386) hz]
  exact payD x0 x1 x2 x3

theorem block5 (x0 x1 x2 x3 : S512x386.Idx → EReal) :
    (out0_5 (F := Ideal) x0 x1 x2 x3 : S512x386.Idx → EReal) = fun j => newM (x1 j) (x2 j) := by
  unfold out0_5
  rw [View.canon_unit_zero hz]
  simp only [View.ld_unit_zero (S := S512x386) hz]
  exact payM x1 x2

theorem block6 (x0 x1 x2 x3 : S512x386.Idx → EReal) :
    (out0_6 (F := Ideal) x0 x1 x2 x3 : S512x386.Idx → EReal) = fun j => newV (x1 j) (x3 j) := by
  unfold out0_6
  rw [View.canon_unit_zero hz]
  simp only [View.ld_unit_zero (S := S512x386) hz]
  exact payV x1 x3

variable (m : (ℓ : Loc nD τ sig) → Buf (Elt Ideal) ℓ) (c : Dev nD) (W G M U : S4096x386.Idx → EReal)
  (e0 : (V m c main_v0 : S4096x386.Idx → EReal) = W) (e1 : (V m c main_v1 : S4096x386.Idx → EReal) = G)
  (e2 : (V m c main_v2 : S4096x386.Idx → EReal) = M) (e3 : (V m c main_v3 : S4096x386.Idx → EReal) = U)
include e0 e1 e2 e3

theorem array4 : ((dats m 0 c).arrAt 4 cfg0.N : S4096x386.Idx → EReal) = fun j => delta (W j) (G j) (M j) (U j) :=
  arr4 m c _ _ (fun t _ => ((after0_4 m c t).trans (congr4 (out0_4 (F := Ideal)) (rd0 m c t _ e0) (rd1 m c t _ e1) (rd2 m c t _ e2) (rd3 m c t _ e3))).trans (block4 _ _ _ _)) (fun t _ y => rfl)

theorem array5 : ((dats m 0 c).arrAt 5 cfg0.N : S4096x386.Idx → EReal) = fun j => newM (G j) (M j) :=
  arr5 m c _ _ (fun t _ => ((after0_5 m c t).trans (congr4 (out0_5 (F := Ideal)) (rd0 m c t _ e0) (rd1 m c t _ e1) (rd2 m c t _ e2) (rd3 m c t _ e3))).trans (block5 _ _ _ _)) (fun t _ y => rfl)

theorem array6 : ((dats m 0 c).arrAt 6 cfg0.N : S4096x386.Idx → EReal) = fun j => newV (G j) (U j) :=
  arr6 m c _ _ (fun t _ => ((after0_6 m c t).trans (congr4 (out0_6 (F := Ideal)) (rd0 m c t _ e0) (rd1 m c t _ e1) (rd2 m c t _ e2) (rd3 m c t _ e3))).trans (block6 _ _ _ _)) (fun t _ y => rfl)

end Cert.AdamWIn

end
-- ==== Proof.AdamWIn.Claims.lean ====
/- The optimiser's call on the input projection weight: the claims. -/
module

public import proofs.«01_k».proof.Defs
public import proofs.«01_k».proof.Proof.AdamWIn.Value
public import proofs.«01_k».proof.Proof.Gen.Kernel16.Frame
public import proofs.«01_k».proof.Proof.Gen.Reference16Ideal.Run
public import Idealize.ShloMosaic.Adequacy
public import Idealize.ShloMosaic.Init

@[expose] public section

noncomputable section

namespace Cert.AdamWIn

open Idealize.ShloMosaic Idealize.ShloMosaic.TcCoe Idealize.SL.Sem Cert.Ext Cert.Lift Idealize.ShloMosaic.ValueIdx

theorem frame_p : Cert.quiescent_Kernel16 := fun m ρ _ => Cert.Kernel16.Gen.frame m ρ
theorem frame_pi : Cert.quiescent_Kernel16Ideal := fun m ρ _ => Cert.Kernel16Ideal.Gen.frame m ρ
theorem frame_ri : Cert.quiescent_Reference16Ideal := fun m ρ _ => (θ_run Cert.Reference16Ideal.defs _ _).mono (fun r h => ⟨fun c => (h c).2.2.2,
      Idealize.ShloMosaic.sem_eq_zero_of_no_sems (by decide) r.2⟩)
    (Cert.Reference16Ideal.Value.run (F := Ideal) m ρ)

theorem preserves : Cert.preserves_Kernel16_Kernel16Ideal := trivial

section
open Cert.Kernel16Ideal Cert.Kernel16Ideal.Gen

/-- The rows of a stacked weight, one after another. -/
abbrev flat (w : Arr ⟨3, ![4, 1024, 386]⟩) : Arr ⟨2, ![4096, 386]⟩ := shapeCast ⟨2, ![4096, 386]⟩ w shapeCasts_S4x1024x386_S4096x386

variable (m : (ℓ : Loc nD τ sig) → Buf (Elt Ideal) ℓ) (c : Dev nD) (w : Arr ⟨3, ![4, 1024, 386]⟩)

theorem at0 (h : m ((c : Thread nD τ).loc main_arg0) = w) : (V m c main_v0 : S4096x386.Idx → EReal) = flat w := by
  rw [← h]
  rfl

theorem at1 (h : m ((c : Thread nD τ).loc main_arg1) = w) : (V m c main_v1 : S4096x386.Idx → EReal) = flat w := by
  rw [← h]
  rfl

theorem at2 (h : m ((c : Thread nD τ).loc main_arg2) = w) : (V m c main_v2 : S4096x386.Idx → EReal) = flat w := by
  rw [← h]
  rfl

theorem at3 (h : m ((c : Thread nD τ).loc main_arg3) = w) : (V m c main_v3 : S4096x386.Idx → EReal) = flat w := by
  rw [← h]
  rfl

end

section
open Cert.Reference16Ideal Cert.Reference16Ideal.Gen
variable (w g m v : Arr ⟨3, ![4, 1024, 386]⟩)

theorem refD : (shapeCast S4096x386 (mulf (F := Ideal) (φ := .f32) (broadcastInDim S4x1024x386 ![] bcast_S_S4x1024x386 (constant (F := Ideal) S_ .f32 0xBA83126F#32)) (addf (F := Ideal) (φ := .f32) (Host.divf (F := Ideal) (φ := .f32) (Host.divf (F := Ideal) (φ := .f32) (addf (F := Ideal) (φ := .f32) (mulf (F := Ideal) (φ := .f32) (broadcastInDim S4x1024x386 ![] bcast_S_S4x1024x386 (constant (F := Ideal) S_ .f32 0x3F666666#32)) m) (mulf (F := Ideal) (φ := .f32) (broadcastInDim S4x1024x386 ![] bcast_S_S4x1024x386 (constant (F := Ideal) S_ .f32 0x3DCCCCCD#32)) g)) (broadcastInDim S4x1024x386 ![] bcast_S_S4x1024x386 (constant (F := Ideal) S_ .f32 0x3F26BD02#32))) (addf (F := Ideal) (φ := .f32) (Host.sqrt (F := Ideal) (φ := .f32) (Host.divf (F := Ideal) (φ := .f32) (addf (F := Ideal) (φ := .f32) (mulf (F := Ideal) (φ := .f32) (broadcastInDim S4x1024x386 ![] bcast_S_S4x1024x386 (constant (F := Ideal) S_ .f32 0x3F7FBE77#32)) v) (mulf (F := Ideal) (φ := .f32) (broadcastInDim S4x1024x386 ![] bcast_S_S4x1024x386 (constant (F := Ideal) S_ .f32 0x3A83126F#32)) (mulf (F := Ideal) (φ := .f32) g g))) (broadcastInDim S4x1024x386 ![] bcast_S_S4x1024x386 (constant (F := Ideal) S_ .f32 0x3C231ACC#32)))) (broadcastInDim S4x1024x386 ![] bcast_S_S4x1024x386 (constant (F := Ideal) S_ .f32 0x322BCC77#32)))) (mulf (F := Ideal) (φ := .f32) (broadcastInDim S4x1024x386 ![] bcast_S_S4x1024x386 (constant (F := Ideal) S_ .f32 0x3C23D70A#32)) w))) shapeCasts_S4x1024x386_S4096x386 : S4096x386.Idx → EReal) = fun j => delta (flat w j) (flat g j) (flat m j) (flat v j) := rfl

theorem refM : (shapeCast S4096x386 (addf (F := Ideal) (φ := .f32) (mulf (F := Ideal) (φ := .f32) (broadcastInDim S4x1024x386 ![] bcast_S_S4x1024x386 (constant (F := Ideal) S_ .f32 0x3F666666#32)) m) (mulf (F := Ideal) (φ := .f32) (broadcastInDim S4x1024x386 ![] bcast_S_S4x1024x386 (constant (F := Ideal) S_ .f32 0x3DCCCCCD#32)) g)) shapeCasts_S4x1024x386_S4096x386 : S4096x386.Idx → EReal) = fun j => newM (flat g j) (flat m j) := rfl

theorem refV : (shapeCast S4096x386 (addf (F := Ideal) (φ := .f32) (mulf (F := Ideal) (φ := .f32) (broadcastInDim S4x1024x386 ![] bcast_S_S4x1024x386 (constant (F := Ideal) S_ .f32 0x3F7FBE77#32)) v) (mulf (F := Ideal) (φ := .f32) (broadcastInDim S4x1024x386 ![] bcast_S_S4x1024x386 (constant (F := Ideal) S_ .f32 0x3A83126F#32)) (mulf (F := Ideal) (φ := .f32) g g))) shapeCasts_S4x1024x386_S4096x386 : S4096x386.Idx → EReal) = fun j => newV (flat g j) (flat v j) := rfl

end

theorem algebraic : Cert.algebraic_Kernel16Ideal_Reference16Ideal := by
  intro m ρ m' ρ' hpre hagree
  refine ⟨_, _, _, Cert.Kernel16Ideal.Value.run_blocks (F := Ideal) m ρ, ?_⟩
  refine (θ_run Cert.Reference16Ideal.defs _ _).mono (fun _ h c => ?_) (Cert.Reference16Ideal.Value.run (F := Ideal) m' ρ')
  obtain ⟨e0, e1, e2, e3⟩ := hagree c
  exact ⟨(h c).1.trans ((refD _ _ _ _).trans (array4 m c (flat _) (flat _) (flat _) (flat _) (at0 m c _ e0.symm) (at1 m c _ e1.symm) (at2 m c _ e2.symm) (at3 m c _ e3.symm)).symm),
    (h c).2.1.trans ((refM _ _).trans (array5 m c (flat _) (flat _) (flat _) (flat _) (at0 m c _ e0.symm) (at1 m c _ e1.symm) (at2 m c _ e2.symm) (at3 m c _ e3.symm)).symm),
    (h c).2.2.1.trans ((refV _ _).trans (array6 m c (flat _) (flat _) (flat _) (flat _) (at0 m c _ e0.symm) (at1 m c _ e1.symm) (at2 m c _ e2.symm) (at3 m c _ e3.symm)).symm), (h c).2.2.2⟩

end Cert.AdamWIn

end
-- ==== Proof.AdamWOut.Geometry.lean ====
/- Where the blocks of the grid lie: what a point reads of each array, and that the written blocks fill the results. -/
module

public import proofs.«01_k».proof.Proof.Gen.Kernel17Ideal.Value
public import proofs.«01_k».proof.Proof.Lift.Adam
public import proofs.«01_k».proof.Proof.Lift.Place

@[expose] public section

noncomputable section

namespace Cert.AdamWOut

open Cert.Kernel17Ideal Cert.Kernel17Ideal.Gen Cert.Ext Idealize.ShloMosaic Idealize.ShloMosaic.TcCoe Idealize.SL.Sem Cert.Lift Idealize.ShloMosaic.ValueIdx
open Idealize.ShloMosaic.Pipeline (Dat)

variable (m : (ℓ : Loc nD τ sig) → Buf (Elt Ideal) ℓ) (c : Dev nD)

theorem hN : cfg0.N = 1 := N_0

/-! ### The input blocks -/

theorem idx0_0 : ∀ t : Fin cfg0.N, win0_0.index t 0 = 0 := by decide +kernel
theorem idx0_1 : ∀ t : Fin cfg0.N, win0_0.index t 1 = 0 := by decide +kernel
theorem rd0 (t : Fin cfg0.N) (a : S512x1024.Idx → EReal) (h : (V m c main_v0 : S512x1024.Idx → EReal) = a) :
    (iblk m c 0 t : S512x1024.Idx → EReal) = fun y => a (ix2 (Fin.ofNat 512 (0 * 512 + (r0 y).val)) (Fin.ofNat 1024 (0 * 1024 + (c1 y).val))) := by
  have ht : t.val < 1 := hN ▸ t.isLt
  funext y
  unfold iblk
  rw [View.read_apply]
  exact (congrFun h _).trans (congrArg a (place _ y _ _ _ _ (idx0_0 t) (idx0_1 t) (by omega) (by omega) rfl rfl))

theorem idx1_0 : ∀ t : Fin cfg0.N, win0_1.index t 0 = 0 := by decide +kernel
theorem idx1_1 : ∀ t : Fin cfg0.N, win0_1.index t 1 = 0 := by decide +kernel
theorem rd1 (t : Fin cfg0.N) (a : S512x1024.Idx → EReal) (h : (V m c main_v1 : S512x1024.Idx → EReal) = a) :
    (iblk m c 1 t : S512x1024.Idx → EReal) = fun y => a (ix2 (Fin.ofNat 512 (0 * 512 + (r0 y).val)) (Fin.ofNat 1024 (0 * 1024 + (c1 y).val))) := by
  have ht : t.val < 1 := hN ▸ t.isLt
  funext y
  unfold iblk
  rw [View.read_apply]
  exact (congrFun h _).trans (congrArg a (place _ y _ _ _ _ (idx1_0 t) (idx1_1 t) (by omega) (by omega) rfl rfl))

theorem idx2_0 : ∀ t : Fin cfg0.N, win0_2.index t 0 = 0 := by decide +kernel
theorem idx2_1 : ∀ t : Fin cfg0.N, win0_2.index t 1 = 0 := by decide +kernel
theorem rd2 (t : Fin cfg0.N) (a : S512x1024.Idx → EReal) (h : (V m c main_v2 : S512x1024.Idx → EReal) = a) :
    (iblk m c 2 t : S512x1024.Idx → EReal) = fun y => a (ix2 (Fin.ofNat 512 (0 * 512 + (r0 y).val)) (Fin.ofNat 1024 (0 * 1024 + (c1 y).val))) := by
  have ht : t.val < 1 := hN ▸ t.isLt
  funext y
  unfold iblk
  rw [View.read_apply]
  exact (congrFun h _).trans (congrArg a (place _ y _ _ _ _ (idx2_0 t) (idx2_1 t) (by omega) (by omega) rfl rfl))

theorem idx3_0 : ∀ t : Fin cfg0.N, win0_3.index t 0 = 0 := by decide +kernel
theorem idx3_1 : ∀ t : Fin cfg0.N, win0_3.index t 1 = 0 := by decide +kernel
theorem rd3 (t : Fin cfg0.N) (a : S512x1024.Idx → EReal) (h : (V m c main_v3 : S512x1024.Idx → EReal) = a) :
    (iblk m c 3 t : S512x1024.Idx → EReal) = fun y => a (ix2 (Fin.ofNat 512 (0 * 512 + (r0 y).val)) (Fin.ofNat 1024 (0 * 1024 + (c1 y).val))) := by
  have ht : t.val < 1 := hN ▸ t.isLt
  funext y
  unfold iblk
  rw [View.read_apply]
  exact (congrFun h _).trans (congrArg a (place _ y _ _ _ _ (idx3_0 t) (idx3_1 t) (by omega) (by omega) rfl rfl))

/-! ### The output arrays -/

theorem idx4_0 : ∀ t : Fin cfg0.N, win0_4.index t 0 = 0 := by decide +kernel
theorem idx4_1 : ∀ t : Fin cfg0.N, win0_4.index t 1 = 0 := by decide +kernel
theorem arr4 (p : Fin cfg0.N → S512x1024.Idx → EReal) (G : S512x1024.Idx → EReal)
    (hp : ∀ t, (cfg0.win 4).flush t = true → ((dats m 0 c).after 4 t : S512x1024.Idx → EReal) = p t)
    (hG : ∀ t, (cfg0.win 4).flush t = true → ∀ y, p t y = G (ix2 (Fin.ofNat 512 (0 * 512 + (r0 y).val)) (Fin.ofNat 1024 (0 * 1024 + (c1 y).val)))) :
    ((dats m 0 c).arrAt 4 cfg0.N : S512x1024.Idx → EReal) = G := by
  refine (dats m 0 c).arrAt_eq_of_cover 4 G (fun t hf => ?_) fun i => ?_
  · have ht : t.val < 1 := hN ▸ t.isLt
    refine funext fun (y : S512x1024.Idx) => ?_
    refine (congrFun (hp t hf) y).trans ?_
    rw [View.read_apply]
    exact (hG t hf y).trans (congrArg G (place _ y _ _ _ _ (idx4_0 t) (idx4_1 t) (by omega) (by omega) rfl rfl).symm)
  · have h0 : (i 0 : Nat) < 512 := (i 0).isLt
    have h1 : (i 1 : Nat) < 1024 := (i 1).isLt
    have hlt : (i 0 : Nat) / 512 < cfg0.N := by rw [hN]; omega
    refine ⟨⟨(i 0 : Nat) / 512, hlt⟩, flush0_4 ⟨_, hlt⟩, ?_⟩
    show i ∈ ((View.whole main_v4_0).slice (win0_4.rect ⟨(i 0 : Nat) / 512, hlt⟩)).set
    rw [View.set_slice_whole, Rect.mem_set_unit]
    exact both (within (T := 512) (0) (idx4_0 _) (by omega)) (within (T := 1024) (0) (idx4_1 _) (by omega))

theorem idx5_0 : ∀ t : Fin cfg0.N, win0_5.index t 0 = 0 := by decide +kernel
theorem idx5_1 : ∀ t : Fin cfg0.N, win0_5.index t 1 = 0 := by decide +kernel
theorem arr5 (p : Fin cfg0.N → S512x1024.Idx → EReal) (G : S512x1024.Idx → EReal)
    (hp : ∀ t, (cfg0.win 5).flush t = true → ((dats m 0 c).after 5 t : S512x1024.Idx → EReal) = p t)
    (hG : ∀ t, (cfg0.win 5).flush t = true → ∀ y, p t y = G (ix2 (Fin.ofNat 512 (0 * 512 + (r0 y).val)) (Fin.ofNat 1024 (0 * 1024 + (c1 y).val)))) :
    ((dats m 0 c).arrAt 5 cfg0.N : S512x1024.Idx → EReal) = G := by
  refine (dats m 0 c).arrAt_eq_of_cover 5 G (fun t hf => ?_) fun i => ?_
  · have ht : t.val < 1 := hN ▸ t.isLt
    refine funext fun (y : S512x1024.Idx) => ?_
    refine (congrFun (hp t hf) y).trans ?_
    rw [View.read_apply]
    exact (hG t hf y).trans (congrArg G (place _ y _ _ _ _ (idx5_0 t) (idx5_1 t) (by omega) (by omega) rfl rfl).symm)
  · have h0 : (i 0 : Nat) < 512 := (i 0).isLt
    have h1 : (i 1 : Nat) < 1024 := (i 1).isLt
    have hlt : (i 0 : Nat) / 512 < cfg0.N := by rw [hN]; omega
    refine ⟨⟨(i 0 : Nat) / 512, hlt⟩, flush0_5 ⟨_, hlt⟩, ?_⟩
    show i ∈ ((View.whole main_v4_1).slice (win0_5.rect ⟨(i 0 : Nat) / 512, hlt⟩)).set
    rw [View.set_slice_whole, Rect.mem_set_unit]
    exact both (within (T := 512) (0) (idx5_0 _) (by omega)) (within (T := 1024) (0) (idx5_1 _) (by omega))

theorem idx6_0 : ∀ t : Fin cfg0.N, win0_6.index t 0 = 0 := by decide +kernel
theorem idx6_1 : ∀ t : Fin cfg0.N, win0_6.index t 1 = 0 := by decide +kernel
theorem arr6 (p : Fin cfg0.N → S512x1024.Idx → EReal) (G : S512x1024.Idx → EReal)
    (hp : ∀ t, (cfg0.win 6).flush t = true → ((dats m 0 c).after 6 t : S512x1024.Idx → EReal) = p t)
    (hG : ∀ t, (cfg0.win 6).flush t = true → ∀ y, p t y = G (ix2 (Fin.ofNat 512 (0 * 512 + (r0 y).val)) (Fin.ofNat 1024 (0 * 1024 + (c1 y).val)))) :
    ((dats m 0 c).arrAt 6 cfg0.N : S512x1024.Idx → EReal) = G := by
  refine (dats m 0 c).arrAt_eq_of_cover 6 G (fun t hf => ?_) fun i => ?_
  · have ht : t.val < 1 := hN ▸ t.isLt
    refine funext fun (y : S512x1024.Idx) => ?_
    refine (congrFun (hp t hf) y).trans ?_
    rw [View.read_apply]
    exact (hG t hf y).trans (congrArg G (place _ y _ _ _ _ (idx6_0 t) (idx6_1 t) (by omega) (by omega) rfl rfl).symm)
  · have h0 : (i 0 : Nat) < 512 := (i 0).isLt
    have h1 : (i 1 : Nat) < 1024 := (i 1).isLt
    have hlt : (i 0 : Nat) / 512 < cfg0.N := by rw [hN]; omega
    refine ⟨⟨(i 0 : Nat) / 512, hlt⟩, flush0_6 ⟨_, hlt⟩, ?_⟩
    show i ∈ ((View.whole main_v4_2).slice (win0_6.rect ⟨(i 0 : Nat) / 512, hlt⟩)).set
    rw [View.set_slice_whole, Rect.mem_set_unit]
    exact both (within (T := 512) (0) (idx6_0 _) (by omega)) (within (T := 1024) (0) (idx6_1 _) (by omega))

end Cert.AdamWOut

end
-- ==== Proof.AdamWOut.Value.lean ====
/- The optimiser's call on the output weight: the three arrays it returns, index by index. -/
module

public import proofs.«01_k».proof.Proof.AdamWOut.Geometry

@[expose] public section

noncomputable section

namespace Cert.AdamWOut

open Cert.Kernel17Ideal Cert.Kernel17Ideal.Gen Cert.Ext Idealize.ShloMosaic Idealize.ShloMosaic.TcCoe Idealize.SL.Sem Cert.Lift Idealize.ShloMosaic.ValueIdx

theorem payG (x : S512x1024.Idx → EReal) : (k0_pay1 (F := Ideal) x : S512x1024.Idx → EReal) = x := by
  unfold k0_pay1
  exact shapeCast_self _ _

theorem payM (x1 x2 : S512x1024.Idx → EReal) : (k0_pay2 (F := Ideal) x1 x2 : S512x1024.Idx → EReal) = fun j => newM (x1 j) (x2 j) := by
  unfold k0_pay2
  dsimp only
  rw [shapeCast_self, payG]
  rfl

theorem payV (x1 x3 : S512x1024.Idx → EReal) : (k0_pay3 (F := Ideal) x1 x3 : S512x1024.Idx → EReal) = fun j => newV (x1 j) (x3 j) := by
  unfold k0_pay3
  dsimp only
  rw [shapeCast_self, payG]
  rfl

theorem payD (x0 x1 x2 x3 : S512x1024.Idx → EReal) : (k0_pay4 (F := Ideal) x1 x2 x3 x0 : S512x1024.Idx → EReal) = fun j => delta (x0 j) (x1 j) (x2 j) (x3 j) := by
  unfold k0_pay4
  dsimp only
  rw [shapeCast_self, payM, payV]
  rfl

theorem block4 (x0 x1 x2 x3 : S512x1024.Idx → EReal) :
    (out0_4 (F := Ideal) x0 x1 x2 x3 : S512x1024.Idx → EReal) = fun j => delta (x0 j) (x1 j) (x2 j) (x3 j) := by
  unfold out0_4
  rw [View.canon_unit_zero hz]
  simp only [View.ld_unit_zero (S := S512x1024) hz]
  exact payD x0 x1 x2 x3

theorem block5 (x0 x1 x2 x3 : S512x1024.Idx → EReal) :
    (out0_5 (F := Ideal) x0 x1 x2 x3 : S512x1024.Idx → EReal) = fun j => newM (x1 j) (x2 j) := by
  unfold out0_5
  rw [View.canon_unit_zero hz]
  simp only [View.ld_unit_zero (S := S512x1024) hz]
  exact payM x1 x2

theorem block6 (x0 x1 x2 x3 : S512x1024.Idx → EReal) :
    (out0_6 (F := Ideal) x0 x1 x2 x3 : S512x1024.Idx → EReal) = fun j => newV (x1 j) (x3 j) := by
  unfold out0_6
  rw [View.canon_unit_zero hz]
  simp only [View.ld_unit_zero (S := S512x1024) hz]
  exact payV x1 x3

variable (m : (ℓ : Loc nD τ sig) → Buf (Elt Ideal) ℓ) (c : Dev nD) (W G M U : S512x1024.Idx → EReal)
  (e0 : (V m c main_v0 : S512x1024.Idx → EReal) = W) (e1 : (V m c main_v1 : S512x1024.Idx → EReal) = G)
  (e2 : (V m c main_v2 : S512x1024.Idx → EReal) = M) (e3 : (V m c main_v3 : S512x1024.Idx → EReal) = U)
include e0 e1 e2 e3

theorem array4 : ((dats m 0 c).arrAt 4 cfg0.N : S512x1024.Idx → EReal) = fun j => delta (W j) (G j) (M j) (U j) :=
  arr4 m c _ _ (fun t _ => ((after0_4 m c t).trans (congr4 (out0_4 (F := Ideal)) (rd0 m c t _ e0) (rd1 m c t _ e1) (rd2 m c t _ e2) (rd3 m c t _ e3))).trans (block4 _ _ _ _)) (fun t _ y => rfl)

theorem array5 : ((dats m 0 c).arrAt 5 cfg0.N : S512x1024.Idx → EReal) = fun j => newM (G j) (M j) :=
  arr5 m c _ _ (fun t _ => ((after0_5 m c t).trans (congr4 (out0_5 (F := Ideal)) (rd0 m c t _ e0) (rd1 m c t _ e1) (rd2 m c t _ e2) (rd3 m c t _ e3))).trans (block5 _ _ _ _)) (fun t _ y => rfl)

theorem array6 : ((dats m 0 c).arrAt 6 cfg0.N : S512x1024.Idx → EReal) = fun j => newV (G j) (U j) :=
  arr6 m c _ _ (fun t _ => ((after0_6 m c t).trans (congr4 (out0_6 (F := Ideal)) (rd0 m c t _ e0) (rd1 m c t _ e1) (rd2 m c t _ e2) (rd3 m c t _ e3))).trans (block6 _ _ _ _)) (fun t _ y => rfl)

end Cert.AdamWOut

end
-- ==== Proof.AdamWOut.Claims.lean ====
/- The optimiser's call on the output weight: the claims. -/
module

public import proofs.«01_k».proof.Defs
public import proofs.«01_k».proof.Proof.AdamWOut.Value
public import proofs.«01_k».proof.Proof.Gen.Kernel17.Frame
public import proofs.«01_k».proof.Proof.Gen.Reference17Ideal.Run
public import Idealize.ShloMosaic.Adequacy
public import Idealize.ShloMosaic.Init

@[expose] public section

noncomputable section

namespace Cert.AdamWOut

open Idealize.ShloMosaic Idealize.ShloMosaic.TcCoe Idealize.SL.Sem Cert.Ext Cert.Lift Idealize.ShloMosaic.ValueIdx

theorem frame_p : Cert.quiescent_Kernel17 := fun m ρ _ => Cert.Kernel17.Gen.frame m ρ
theorem frame_pi : Cert.quiescent_Kernel17Ideal := fun m ρ _ => Cert.Kernel17Ideal.Gen.frame m ρ
theorem frame_ri : Cert.quiescent_Reference17Ideal := fun m ρ _ => (θ_run Cert.Reference17Ideal.defs _ _).mono (fun r h => ⟨fun c => (h c).2.2.2,
      Idealize.ShloMosaic.sem_eq_zero_of_no_sems (by decide) r.2⟩)
    (Cert.Reference17Ideal.Value.run (F := Ideal) m ρ)

theorem preserves : Cert.preserves_Kernel17_Kernel17Ideal := trivial

section
open Cert.Kernel17Ideal Cert.Kernel17Ideal.Gen

/-- The rows of a stacked weight, one after another. -/
abbrev flat (w : Arr ⟨3, ![4, 128, 1024]⟩) : Arr ⟨2, ![512, 1024]⟩ := shapeCast ⟨2, ![512, 1024]⟩ w shapeCasts_S4x128x1024_S512x1024

variable (m : (ℓ : Loc nD τ sig) → Buf (Elt Ideal) ℓ) (c : Dev nD) (w : Arr ⟨3, ![4, 128, 1024]⟩)

theorem at0 (h : m ((c : Thread nD τ).loc main_arg0) = w) : (V m c main_v0 : S512x1024.Idx → EReal) = flat w := by
  rw [← h]
  rfl

theorem at1 (h : m ((c : Thread nD τ).loc main_arg1) = w) : (V m c main_v1 : S512x1024.Idx → EReal) = flat w := by
  rw [← h]
  rfl

theorem at2 (h : m ((c : Thread nD τ).loc main_arg2) = w) : (V m c main_v2 : S512x1024.Idx → EReal) = flat w := by
  rw [← h]
  rfl

theorem at3 (h : m ((c : Thread nD τ).loc main_arg3) = w) : (V m c main_v3 : S512x1024.Idx → EReal) = flat w := by
  rw [← h]
  rfl

end

section
open Cert.Reference17Ideal Cert.Reference17Ideal.Gen
variable (w g m v : Arr ⟨3, ![4, 128, 1024]⟩)

theorem refD : (shapeCast S512x1024 (mulf (F := Ideal) (φ := .f32) (broadcastInDim S4x128x1024 ![] bcast_S_S4x128x1024 (constant (F := Ideal) S_ .f32 0xBA83126F#32)) (addf (F := Ideal) (φ := .f32) (Host.divf (F := Ideal) (φ := .f32) (Host.divf (F := Ideal) (φ := .f32) (addf (F := Ideal) (φ := .f32) (mulf (F := Ideal) (φ := .f32) (broadcastInDim S4x128x1024 ![] bcast_S_S4x128x1024 (constant (F := Ideal) S_ .f32 0x3F666666#32)) m) (mulf (F := Ideal) (φ := .f32) (broadcastInDim S4x128x1024 ![] bcast_S_S4x128x1024 (constant (F := Ideal) S_ .f32 0x3DCCCCCD#32)) g)) (broadcastInDim S4x128x1024 ![] bcast_S_S4x128x1024 (constant (F := Ideal) S_ .f32 0x3F26BD02#32))) (addf (F := Ideal) (φ := .f32) (Host.sqrt (F := Ideal) (φ := .f32) (Host.divf (F := Ideal) (φ := .f32) (addf (F := Ideal) (φ := .f32) (mulf (F := Ideal) (φ := .f32) (broadcastInDim S4x128x1024 ![] bcast_S_S4x128x1024 (constant (F := Ideal) S_ .f32 0x3F7FBE77#32)) v) (mulf (F := Ideal) (φ := .f32) (broadcastInDim S4x128x1024 ![] bcast_S_S4x128x1024 (constant (F := Ideal) S_ .f32 0x3A83126F#32)) (mulf (F := Ideal) (φ := .f32) g g))) (broadcastInDim S4x128x1024 ![] bcast_S_S4x128x1024 (constant (F := Ideal) S_ .f32 0x3C231ACC#32)))) (broadcastInDim S4x128x1024 ![] bcast_S_S4x128x1024 (constant (F := Ideal) S_ .f32 0x322BCC77#32)))) (mulf (F := Ideal) (φ := .f32) (broadcastInDim S4x128x1024 ![] bcast_S_S4x128x1024 (constant (F := Ideal) S_ .f32 0x3C23D70A#32)) w))) shapeCasts_S4x128x1024_S512x1024 : S512x1024.Idx → EReal) = fun j => delta (flat w j) (flat g j) (flat m j) (flat v j) := rfl

theorem refM : (shapeCast S512x1024 (addf (F := Ideal) (φ := .f32) (mulf (F := Ideal) (φ := .f32) (broadcastInDim S4x128x1024 ![] bcast_S_S4x128x1024 (constant (F := Ideal) S_ .f32 0x3F666666#32)) m) (mulf (F := Ideal) (φ := .f32) (broadcastInDim S4x128x1024 ![] bcast_S_S4x128x1024 (constant (F := Ideal) S_ .f32 0x3DCCCCCD#32)) g)) shapeCasts_S4x128x1024_S512x1024 : S512x1024.Idx → EReal) = fun j => newM (flat g j) (flat m j) := rfl

theorem refV : (shapeCast S512x1024 (addf (F := Ideal) (φ := .f32) (mulf (F := Ideal) (φ := .f32) (broadcastInDim S4x128x1024 ![] bcast_S_S4x128x1024 (constant (F := Ideal) S_ .f32 0x3F7FBE77#32)) v) (mulf (F := Ideal) (φ := .f32) (broadcastInDim S4x128x1024 ![] bcast_S_S4x128x1024 (constant (F := Ideal) S_ .f32 0x3A83126F#32)) (mulf (F := Ideal) (φ := .f32) g g))) shapeCasts_S4x128x1024_S512x1024 : S512x1024.Idx → EReal) = fun j => newV (flat g j) (flat v j) := rfl

end

theorem algebraic : Cert.algebraic_Kernel17Ideal_Reference17Ideal := by
  intro m ρ m' ρ' hpre hagree
  refine ⟨_, _, _, Cert.Kernel17Ideal.Value.run_blocks (F := Ideal) m ρ, ?_⟩
  refine (θ_run Cert.Reference17Ideal.defs _ _).mono (fun _ h c => ?_) (Cert.Reference17Ideal.Value.run (F := Ideal) m' ρ')
  obtain ⟨e0, e1, e2, e3⟩ := hagree c
  exact ⟨(h c).1.trans ((refD _ _ _ _).trans (array4 m c (flat _) (flat _) (flat _) (flat _) (at0 m c _ e0.symm) (at1 m c _ e1.symm) (at2 m c _ e2.symm) (at3 m c _ e3.symm)).symm),
    (h c).2.1.trans ((refM _ _).trans (array5 m c (flat _) (flat _) (flat _) (flat _) (at0 m c _ e0.symm) (at1 m c _ e1.symm) (at2 m c _ e2.symm) (at3 m c _ e3.symm)).symm),
    (h c).2.2.1.trans ((refV _ _).trans (array6 m c (flat _) (flat _) (flat _) (flat _) (at0 m c _ e0.symm) (at1 m c _ e1.symm) (at2 m c _ e2.symm) (at3 m c _ e3.symm)).symm), (h c).2.2.2⟩

end Cert.AdamWOut

end
-- ==== Proof.AdamWg.Geometry.lean ====
/- Where the blocks of the grid lie: what a point reads of each array, and that the written blocks fill the results. -/
module

public import proofs.«01_k».proof.Proof.Gen.Kernel18Ideal.Value
public import proofs.«01_k».proof.Proof.Lift.Adam
public import proofs.«01_k».proof.Proof.Lift.Place

@[expose] public section

noncomputable section

namespace Cert.AdamWg

open Cert.Kernel18Ideal Cert.Kernel18Ideal.Gen Cert.Ext Idealize.ShloMosaic Idealize.ShloMosaic.TcCoe Idealize.SL.Sem Cert.Lift Idealize.ShloMosaic.ValueIdx
open Idealize.ShloMosaic.Pipeline (Dat)

variable (m : (ℓ : Loc nD τ sig) → Buf (Elt Ideal) ℓ) (c : Dev nD)

theorem hN : cfg0.N = 8 := N_0

/-! ### The input blocks -/

theorem idx0_0 : ∀ t : Fin cfg0.N, win0_0.index t 0 = t.val := by decide +kernel
theorem idx0_1 : ∀ t : Fin cfg0.N, win0_0.index t 1 = 0 := by decide +kernel
theorem rd0 (t : Fin cfg0.N) (a : S4096x352.Idx → EReal) (h : (V m c main_v0 : S4096x352.Idx → EReal) = a) :
    (iblk m c 0 t : S512x352.Idx → EReal) = fun y => a (ix2 (Fin.ofNat 4096 (t.val * 512 + (r0 y).val)) (Fin.ofNat 352 (0 * 352 + (c1 y).val))) := by
  have ht : t.val < 8 := hN ▸ t.isLt
  funext y
  unfold iblk
  rw [View.read_apply]
  exact (congrFun h _).trans (congrArg a (place _ y _ _ _ _ (idx0_0 t) (idx0_1 t) (by omega) (by omega) rfl rfl))

theorem idx1_0 : ∀ t : Fin cfg0.N, win0_1.index t 0 = t.val := by decide +kernel
theorem idx1_1 : ∀ t : Fin cfg0.N, win0_1.index t 1 = 0 := by decide +kernel
theorem rd1 (t : Fin cfg0.N) (a : S4096x352.Idx → EReal) (h : (V m c main_v1 : S4096x352.Idx → EReal) = a) :
    (iblk m c 1 t : S512x352.Idx → EReal) = fun y => a (ix2 (Fin.ofNat 4096 (t.val * 512 + (r0 y).val)) (Fin.ofNat 352 (0 * 352 + (c1 y).val))) := by
  have ht : t.val < 8 := hN ▸ t.isLt
  funext y
  unfold iblk
  rw [View.read_apply]
  exact (congrFun h _).trans (congrArg a (place _ y _ _ _ _ (idx1_0 t) (idx1_1 t) (by omega) (by omega) rfl rfl))

theorem idx2_0 : ∀ t : Fin cfg0.N, win0_2.index t 0 = t.val := by decide +kernel
theorem idx2_1 : ∀ t : Fin cfg0.N, win0_2.index t 1 = 0 := by decide +kernel
theorem rd2 (t : Fin cfg0.N) (a : S4096x352.Idx → EReal) (h : (V m c main_v2 : S4096x352.Idx → EReal) = a) :
    (iblk m c 2 t : S512x352.Idx → EReal) = fun y => a (ix2 (Fin.ofNat 4096 (t.val * 512 + (r0 y).val)) (Fin.ofNat 352 (0 * 352 + (c1 y).val))) := by
  have ht : t.val < 8 := hN ▸ t.isLt
  funext y
  unfold iblk
  rw [View.read_apply]
  exact (congrFun h _).trans (congrArg a (place _ y _ _ _ _ (idx2_0 t) (idx2_1 t) (by omega) (by omega) rfl rfl))

theorem idx3_0 : ∀ t : Fin cfg0.N, win0_3.index t 0 = t.val := by decide +kernel
theorem idx3_1 : ∀ t : Fin cfg0.N, win0_3.index t 1 = 0 := by decide +kernel
theorem rd3 (t : Fin cfg0.N) (a : S4096x352.Idx → EReal) (h : (V m c main_v3 : S4096x352.Idx → EReal) = a) :
    (iblk m c 3 t : S512x352.Idx → EReal) = fun y => a (ix2 (Fin.ofNat 4096 (t.val * 512 + (r0 y).val)) (Fin.ofNat 352 (0 * 352 + (c1 y).val))) := by
  have ht : t.val < 8 := hN ▸ t.isLt
  funext y
  unfold iblk
  rw [View.read_apply]
  exact (congrFun h _).trans (congrArg a (place _ y _ _ _ _ (idx3_0 t) (idx3_1 t) (by omega) (by omega) rfl rfl))

/-! ### The output arrays -/

theorem idx4_0 : ∀ t : Fin cfg0.N, win0_4.index t 0 = t.val := by decide +kernel
theorem idx4_1 : ∀ t : Fin cfg0.N, win0_4.index t 1 = 0 := by decide +kernel
theorem arr4 (p : Fin cfg0.N → S512x352.Idx → EReal) (G : S4096x352.Idx → EReal)
    (hp : ∀ t, (cfg0.win 4).flush t = true → ((dats m 0 c).after 4 t : S512x352.Idx → EReal) = p t)
    (hG : ∀ t, (cfg0.win 4).flush t = true → ∀ y, p t y = G (ix2 (Fin.ofNat 4096 (t.val * 512 + (r0 y).val)) (Fin.ofNat 352 (0 * 352 + (c1 y).val)))) :
    ((dats m 0 c).arrAt 4 cfg0.N : S4096x352.Idx → EReal) = G := by
  refine (dats m 0 c).arrAt_eq_of_cover 4 G (fun t hf => ?_) fun i => ?_
  · have ht : t.val < 8 := hN ▸ t.isLt
    refine funext fun (y : S512x352.Idx) => ?_
    refine (congrFun (hp t hf) y).trans ?_
    rw [View.read_apply]
    exact (hG t hf y).trans (congrArg G (place _ y _ _ _ _ (idx4_0 t) (idx4_1 t) (by omega) (by omega) rfl rfl).symm)
  · have h0 : (i 0 : Nat) < 4096 := (i 0).isLt
    have h1 : (i 1 : Nat) < 352 := (i 1).isLt
    have hlt : (i 0 : Nat) / 512 < cfg0.N := by rw [hN]; omega
    refine ⟨⟨(i 0 : Nat) / 512, hlt⟩, flush0_4 ⟨_, hlt⟩, ?_⟩
    show i ∈ ((View.whole main_v4_0).slice (win0_4.rect ⟨(i 0 : Nat) / 512, hlt⟩)).set
    rw [View.set_slice_whole, Rect.mem_set_unit]
    exact both (within (T := 512) (((i 0 : Nat) / 512)) (idx4_0 _) (by omega)) (within (T := 352) (0) (idx4_1 _) (by omega))

theorem idx5_0 : ∀ t : Fin cfg0.N, win0_5.index t 0 = t.val := by decide +kernel
theorem idx5_1 : ∀ t : Fin cfg0.N, win0_5.index t 1 = 0 := by decide +kernel
theorem arr5 (p : Fin cfg0.N → S512x352.Idx → EReal) (G : S4096x352.Idx → EReal)
    (hp : ∀ t, (cfg0.win 5).flush t = true → ((dats m 0 c).after 5 t : S512x352.Idx → EReal) = p t)
    (hG : ∀ t, (cfg0.win 5).flush t = true → ∀ y, p t y = G (ix2 (Fin.ofNat 4096 (t.val * 512 + (r0 y).val)) (Fin.ofNat 352 (0 * 352 + (c1 y).val)))) :
    ((dats m 0 c).arrAt 5 cfg0.N : S4096x352.Idx → EReal) = G := by
  refine (dats m 0 c).arrAt_eq_of_cover 5 G (fun t hf => ?_) fun i => ?_
  · have ht : t.val < 8 := hN ▸ t.isLt
    refine funext fun (y : S512x352.Idx) => ?_
    refine (congrFun (hp t hf) y).trans ?_
    rw [View.read_apply]
    exact (hG t hf y).trans (congrArg G (place _ y _ _ _ _ (idx5_0 t) (idx5_1 t) (by omega) (by omega) rfl rfl).symm)
  · have h0 : (i 0 : Nat) < 4096 := (i 0).isLt
    have h1 : (i 1 : Nat) < 352 := (i 1).isLt
    have hlt : (i 0 : Nat) / 512 < cfg0.N := by rw [hN]; omega
    refine ⟨⟨(i 0 : Nat) / 512, hlt⟩, flush0_5 ⟨_, hlt⟩, ?_⟩
    show i ∈ ((View.whole main_v4_1).slice (win0_5.rect ⟨(i 0 : Nat) / 512, hlt⟩)).set
    rw [View.set_slice_whole, Rect.mem_set_unit]
    exact both (within (T := 512) (((i 0 : Nat) / 512)) (idx5_0 _) (by omega)) (within (T := 352) (0) (idx5_1 _) (by omega))

theorem idx6_0 : ∀ t : Fin cfg0.N, win0_6.index t 0 = t.val := by decide +kernel
theorem idx6_1 : ∀ t : Fin cfg0.N, win0_6.index t 1 = 0 := by decide +kernel
theorem arr6 (p : Fin cfg0.N → S512x352.Idx → EReal) (G : S4096x352.Idx → EReal)
    (hp : ∀ t, (cfg0.win 6).flush t = true → ((dats m 0 c).after 6 t : S512x352.Idx → EReal) = p t)
    (hG : ∀ t, (cfg0.win 6).flush t = true → ∀ y, p t y = G (ix2 (Fin.ofNat 4096 (t.val * 512 + (r0 y).val)) (Fin.ofNat 352 (0 * 352 + (c1 y).val)))) :
    ((dats m 0 c).arrAt 6 cfg0.N : S4096x352.Idx → EReal) = G := by
  refine (dats m 0 c).arrAt_eq_of_cover 6 G (fun t hf => ?_) fun i => ?_
  · have ht : t.val < 8 := hN ▸ t.isLt
    refine funext fun (y : S512x352.Idx) => ?_
    refine (congrFun (hp t hf) y).trans ?_
    rw [View.read_apply]
    exact (hG t hf y).trans (congrArg G (place _ y _ _ _ _ (idx6_0 t) (idx6_1 t) (by omega) (by omega) rfl rfl).symm)
  · have h0 : (i 0 : Nat) < 4096 := (i 0).isLt
    have h1 : (i 1 : Nat) < 352 := (i 1).isLt
    have hlt : (i 0 : Nat) / 512 < cfg0.N := by rw [hN]; omega
    refine ⟨⟨(i 0 : Nat) / 512, hlt⟩, flush0_6 ⟨_, hlt⟩, ?_⟩
    show i ∈ ((View.whole main_v4_2).slice (win0_6.rect ⟨(i 0 : Nat) / 512, hlt⟩)).set
    rw [View.set_slice_whole, Rect.mem_set_unit]
    exact both (within (T := 512) (((i 0 : Nat) / 512)) (idx6_0 _) (by omega)) (within (T := 352) (0) (idx6_1 _) (by omega))

end Cert.AdamWg

end
-- ==== Proof.AdamWg.Value.lean ====
/- The optimiser's call on the gate weight: the three arrays it returns, index by index. -/
module

public import proofs.«01_k».proof.Proof.AdamWg.Geometry

@[expose] public section

noncomputable section

namespace Cert.AdamWg

open Cert.Kernel18Ideal Cert.Kernel18Ideal.Gen Cert.Ext Idealize.ShloMosaic Idealize.ShloMosaic.TcCoe Idealize.SL.Sem Cert.Lift Idealize.ShloMosaic.ValueIdx

theorem payG (x : S512x352.Idx → EReal) : (k0_pay1 (F := Ideal) x : S512x352.Idx → EReal) = x := by
  unfold k0_pay1
  exact shapeCast_self _ _

theorem payM (x1 x2 : S512x352.Idx → EReal) : (k0_pay2 (F := Ideal) x1 x2 : S512x352.Idx → EReal) = fun j => newM (x1 j) (x2 j) := by
  unfold k0_pay2
  dsimp only
  rw [shapeCast_self, payG]
  rfl

theorem payV (x1 x3 : S512x352.Idx → EReal) : (k0_pay3 (F := Ideal) x1 x3 : S512x352.Idx → EReal) = fun j => newV (x1 j) (x3 j) := by
  unfold k0_pay3
  dsimp only
  rw [shapeCast_self, payG]
  rfl

theorem payD (x0 x1 x2 x3 : S512x352.Idx → EReal) : (k0_pay4 (F := Ideal) x1 x2 x3 x0 : S512x352.Idx → EReal) = fun j => delta (x0 j) (x1 j) (x2 j) (x3 j) := by
  unfold k0_pay4
  dsimp only
  rw [shapeCast_self, payM, payV]
  rfl

theorem block4 (x0 x1 x2 x3 : S512x352.Idx → EReal) :
    (out0_4 (F := Ideal) x0 x1 x2 x3 : S512x352.Idx → EReal) = fun j => delta (x0 j) (x1 j) (x2 j) (x3 j) := by
  unfold out0_4
  rw [View.canon_unit_zero hz]
  simp only [View.ld_unit_zero (S := S512x352) hz]
  exact payD x0 x1 x2 x3

theorem block5 (x0 x1 x2 x3 : S512x352.Idx → EReal) :
    (out0_5 (F := Ideal) x0 x1 x2 x3 : S512x352.Idx → EReal) = fun j => newM (x1 j) (x2 j) := by
  unfold out0_5
  rw [View.canon_unit_zero hz]
  simp only [View.ld_unit_zero (S := S512x352) hz]
  exact payM x1 x2

theorem block6 (x0 x1 x2 x3 : S512x352.Idx → EReal) :
    (out0_6 (F := Ideal) x0 x1 x2 x3 : S512x352.Idx → EReal) = fun j => newV (x1 j) (x3 j) := by
  unfold out0_6
  rw [View.canon_unit_zero hz]
  simp only [View.ld_unit_zero (S := S512x352) hz]
  exact payV x1 x3

variable (m : (ℓ : Loc nD τ sig) → Buf (Elt Ideal) ℓ) (c : Dev nD) (W G M U : S4096x352.Idx → EReal)
  (e0 : (V m c main_v0 : S4096x352.Idx → EReal) = W) (e1 : (V m c main_v1 : S4096x352.Idx → EReal) = G)
  (e2 : (V m c main_v2 : S4096x352.Idx → EReal) = M) (e3 : (V m c main_v3 : S4096x352.Idx → EReal) = U)
include e0 e1 e2 e3

theorem array4 : ((dats m 0 c).arrAt 4 cfg0.N : S4096x352.Idx → EReal) = fun j => delta (W j) (G j) (M j) (U j) :=
  arr4 m c _ _ (fun t _ => ((after0_4 m c t).trans (congr4 (out0_4 (F := Ideal)) (rd0 m c t _ e0) (rd1 m c t _ e1) (rd2 m c t _ e2) (rd3 m c t _ e3))).trans (block4 _ _ _ _)) (fun t _ y => rfl)

theorem array5 : ((dats m 0 c).arrAt 5 cfg0.N : S4096x352.Idx → EReal) = fun j => newM (G j) (M j) :=
  arr5 m c _ _ (fun t _ => ((after0_5 m c t).trans (congr4 (out0_5 (F := Ideal)) (rd0 m c t _ e0) (rd1 m c t _ e1) (rd2 m c t _ e2) (rd3 m c t _ e3))).trans (block5 _ _ _ _)) (fun t _ y => rfl)

theorem array6 : ((dats m 0 c).arrAt 6 cfg0.N : S4096x352.Idx → EReal) = fun j => newV (G j) (U j) :=
  arr6 m c _ _ (fun t _ => ((after0_6 m c t).trans (congr4 (out0_6 (F := Ideal)) (rd0 m c t _ e0) (rd1 m c t _ e1) (rd2 m c t _ e2) (rd3 m c t _ e3))).trans (block6 _ _ _ _)) (fun t _ y => rfl)

end Cert.AdamWg

end
-- ==== Proof.AdamWg.Claims.lean ====
/- The optimiser's call on the gate weight: the claims. -/
module

public import proofs.«01_k».proof.Defs
public import proofs.«01_k».proof.Proof.AdamWg.Value
public import proofs.«01_k».proof.Proof.Gen.Kernel18.Frame
public import proofs.«01_k».proof.Proof.Gen.Reference18Ideal.Run
public import Idealize.ShloMosaic.Adequacy
public import Idealize.ShloMosaic.Init

@[expose] public section

noncomputable section

namespace Cert.AdamWg

open Idealize.ShloMosaic Idealize.ShloMosaic.TcCoe Idealize.SL.Sem Cert.Ext Cert.Lift Idealize.ShloMosaic.ValueIdx

theorem frame_p : Cert.quiescent_Kernel18 := fun m ρ _ => Cert.Kernel18.Gen.frame m ρ
theorem frame_pi : Cert.quiescent_Kernel18Ideal := fun m ρ _ => Cert.Kernel18Ideal.Gen.frame m ρ
theorem frame_ri : Cert.quiescent_Reference18Ideal := fun m ρ _ => (θ_run Cert.Reference18Ideal.defs _ _).mono (fun r h => ⟨fun c => (h c).2.2.2,
      Idealize.ShloMosaic.sem_eq_zero_of_no_sems (by decide) r.2⟩)
    (Cert.Reference18Ideal.Value.run (F := Ideal) m ρ)

theorem preserves : Cert.preserves_Kernel18_Kernel18Ideal := trivial

section
open Cert.Kernel18Ideal Cert.Kernel18Ideal.Gen

/-- The rows of a stacked weight, one after another. -/
abbrev flat (w : Arr ⟨3, ![4, 1024, 352]⟩) : Arr ⟨2, ![4096, 352]⟩ := shapeCast ⟨2, ![4096, 352]⟩ w shapeCasts_S4x1024x352_S4096x352

variable (m : (ℓ : Loc nD τ sig) → Buf (Elt Ideal) ℓ) (c : Dev nD) (w : Arr ⟨3, ![4, 1024, 352]⟩)

theorem at0 (h : m ((c : Thread nD τ).loc main_arg0) = w) : (V m c main_v0 : S4096x352.Idx → EReal) = flat w := by
  rw [← h]
  rfl

theorem at1 (h : m ((c : Thread nD τ).loc main_arg1) = w) : (V m c main_v1 : S4096x352.Idx → EReal) = flat w := by
  rw [← h]
  rfl

theorem at2 (h : m ((c : Thread nD τ).loc main_arg2) = w) : (V m c main_v2 : S4096x352.Idx → EReal) = flat w := by
  rw [← h]
  rfl

theorem at3 (h : m ((c : Thread nD τ).loc main_arg3) = w) : (V m c main_v3 : S4096x352.Idx → EReal) = flat w := by
  rw [← h]
  rfl

end

section
open Cert.Reference18Ideal Cert.Reference18Ideal.Gen
variable (w g m v : Arr ⟨3, ![4, 1024, 352]⟩)

theorem refD : (shapeCast S4096x352 (mulf (F := Ideal) (φ := .f32) (broadcastInDim S4x1024x352 ![] bcast_S_S4x1024x352 (constant (F := Ideal) S_ .f32 0xBA83126F#32)) (addf (F := Ideal) (φ := .f32) (Host.divf (F := Ideal) (φ := .f32) (Host.divf (F := Ideal) (φ := .f32) (addf (F := Ideal) (φ := .f32) (mulf (F := Ideal) (φ := .f32) (broadcastInDim S4x1024x352 ![] bcast_S_S4x1024x352 (constant (F := Ideal) S_ .f32 0x3F666666#32)) m) (mulf (F := Ideal) (φ := .f32) (broadcastInDim S4x1024x352 ![] bcast_S_S4x1024x352 (constant (F := Ideal) S_ .f32 0x3DCCCCCD#32)) g)) (broadcastInDim S4x1024x352 ![] bcast_S_S4x1024x352 (constant (F := Ideal) S_ .f32 0x3F26BD02#32))) (addf (F := Ideal) (φ := .f32) (Host.sqrt (F := Ideal) (φ := .f32) (Host.divf (F := Ideal) (φ := .f32) (addf (F := Ideal) (φ := .f32) (mulf (F := Ideal) (φ := .f32) (broadcastInDim S4x1024x352 ![] bcast_S_S4x1024x352 (constant (F := Ideal) S_ .f32 0x3F7FBE77#32)) v) (mulf (F := Ideal) (φ := .f32) (broadcastInDim S4x1024x352 ![] bcast_S_S4x1024x352 (constant (F := Ideal) S_ .f32 0x3A83126F#32)) (mulf (F := Ideal) (φ := .f32) g g))) (broadcastInDim S4x1024x352 ![] bcast_S_S4x1024x352 (constant (F := Ideal) S_ .f32 0x3C231ACC#32)))) (broadcastInDim S4x1024x352 ![] bcast_S_S4x1024x352 (constant (F := Ideal) S_ .f32 0x322BCC77#32)))) (mulf (F := Ideal) (φ := .f32) (broadcastInDim S4x1024x352 ![] bcast_S_S4x1024x352 (constant (F := Ideal) S_ .f32 0x3C23D70A#32)) w))) shapeCasts_S4x1024x352_S4096x352 : S4096x352.Idx → EReal) = fun j => delta (flat w j) (flat g j) (flat m j) (flat v j) := rfl

theorem refM : (shapeCast S4096x352 (addf (F := Ideal) (φ := .f32) (mulf (F := Ideal) (φ := .f32) (broadcastInDim S4x1024x352 ![] bcast_S_S4x1024x352 (constant (F := Ideal) S_ .f32 0x3F666666#32)) m) (mulf (F := Ideal) (φ := .f32) (broadcastInDim S4x1024x352 ![] bcast_S_S4x1024x352 (constant (F := Ideal) S_ .f32 0x3DCCCCCD#32)) g)) shapeCasts_S4x1024x352_S4096x352 : S4096x352.Idx → EReal) = fun j => newM (flat g j) (flat m j) := rfl

theorem refV : (shapeCast S4096x352 (addf (F := Ideal) (φ := .f32) (mulf (F := Ideal) (φ := .f32) (broadcastInDim S4x1024x352 ![] bcast_S_S4x1024x352 (constant (F := Ideal) S_ .f32 0x3F7FBE77#32)) v) (mulf (F := Ideal) (φ := .f32) (broadcastInDim S4x1024x352 ![] bcast_S_S4x1024x352 (constant (F := Ideal) S_ .f32 0x3A83126F#32)) (mulf (F := Ideal) (φ := .f32) g g))) shapeCasts_S4x1024x352_S4096x352 : S4096x352.Idx → EReal) = fun j => newV (flat g j) (flat v j) := rfl

end

theorem algebraic : Cert.algebraic_Kernel18Ideal_Reference18Ideal := by
  intro m ρ m' ρ' hpre hagree
  refine ⟨_, _, _, Cert.Kernel18Ideal.Value.run_blocks (F := Ideal) m ρ, ?_⟩
  refine (θ_run Cert.Reference18Ideal.defs _ _).mono (fun _ h c => ?_) (Cert.Reference18Ideal.Value.run (F := Ideal) m' ρ')
  obtain ⟨e0, e1, e2, e3⟩ := hagree c
  exact ⟨(h c).1.trans ((refD _ _ _ _).trans (array4 m c (flat _) (flat _) (flat _) (flat _) (at0 m c _ e0.symm) (at1 m c _ e1.symm) (at2 m c _ e2.symm) (at3 m c _ e3.symm)).symm),
    (h c).2.1.trans ((refM _ _).trans (array5 m c (flat _) (flat _) (flat _) (flat _) (at0 m c _ e0.symm) (at1 m c _ e1.symm) (at2 m c _ e2.symm) (at3 m c _ e3.symm)).symm),
    (h c).2.2.1.trans ((refV _ _).trans (array6 m c (flat _) (flat _) (flat _) (flat _) (at0 m c _ e0.symm) (at1 m c _ e1.symm) (at2 m c _ e2.symm) (at3 m c _ e3.symm)).symm), (h c).2.2.2⟩

end Cert.AdamWg

end
-- ==== Proof.AdamWu.Geometry.lean ====
/- Where the blocks of the grid lie: what a point reads of each array, and that the written blocks fill the results. -/
module

public import proofs.«01_k».proof.Proof.Gen.Kernel19Ideal.Value
public import proofs.«01_k».proof.Proof.Lift.Adam
public import proofs.«01_k».proof.Proof.Lift.Place

@[expose] public section

noncomputable section

namespace Cert.AdamWu

open Cert.Kernel19Ideal Cert.Kernel19Ideal.Gen Cert.Ext Idealize.ShloMosaic Idealize.ShloMosaic.TcCoe Idealize.SL.Sem Cert.Lift Idealize.ShloMosaic.ValueIdx
open Idealize.ShloMosaic.Pipeline (Dat)

variable (m : (ℓ : Loc nD τ sig) → Buf (Elt Ideal) ℓ) (c : Dev nD)

theorem hN : cfg0.N = 8 := N_0

/-! ### The input blocks -/

theorem idx0_0 : ∀ t : Fin cfg0.N, win0_0.index t 0 = t.val := by decide +kernel
theorem idx0_1 : ∀ t : Fin cfg0.N, win0_0.index t 1 = 0 := by decide +kernel
theorem rd0 (t : Fin cfg0.N) (a : S4096x352.Idx → EReal) (h : (V m c main_v0 : S4096x352.Idx → EReal) = a) :
    (iblk m c 0 t : S512x352.Idx → EReal) = fun y => a (ix2 (Fin.ofNat 4096 (t.val * 512 + (r0 y).val)) (Fin.ofNat 352 (0 * 352 + (c1 y).val))) := by
  have ht : t.val < 8 := hN ▸ t.isLt
  funext y
  unfold iblk
  rw [View.read_apply]
  exact (congrFun h _).trans (congrArg a (place _ y _ _ _ _ (idx0_0 t) (idx0_1 t) (by omega) (by omega) rfl rfl))

theorem idx1_0 : ∀ t : Fin cfg0.N, win0_1.index t 0 = t.val := by decide +kernel
theorem idx1_1 : ∀ t : Fin cfg0.N, win0_1.index t 1 = 0 := by decide +kernel
theorem rd1 (t : Fin cfg0.N) (a : S4096x352.Idx → EReal) (h : (V m c main_v1 : S4096x352.Idx → EReal) = a) :
    (iblk m c 1 t : S512x352.Idx → EReal) = fun y => a (ix2 (Fin.ofNat 4096 (t.val * 512 + (r0 y).val)) (Fin.ofNat 352 (0 * 352 + (c1 y).val))) := by
  have ht : t.val < 8 := hN ▸ t.isLt
  funext y
  unfold iblk
  rw [View.read_apply]
  exact (congrFun h _).trans (congrArg a (place _ y _ _ _ _ (idx1_0 t) (idx1_1 t) (by omega) (by omega) rfl rfl))

theorem idx2_0 : ∀ t : Fin cfg0.N, win0_2.index t 0 = t.val := by decide +kernel
theorem idx2_1 : ∀ t : Fin cfg0.N, win0_2.index t 1 = 0 := by decide +kernel
theorem rd2 (t : Fin cfg0.N) (a : S4096x352.Idx → EReal) (h : (V m c main_v2 : S4096x352.Idx → EReal) = a) :
    (iblk m c 2 t : S512x352.Idx → EReal) = fun y => a (ix2 (Fin.ofNat 4096 (t.val * 512 + (r0 y).val)) (Fin.ofNat 352 (0 * 352 + (c1 y).val))) := by
  have ht : t.val < 8 := hN ▸ t.isLt
  funext y
  unfold iblk
  rw [View.read_apply]
  exact (congrFun h _).trans (congrArg a (place _ y _ _ _ _ (idx2_0 t) (idx2_1 t) (by omega) (by omega) rfl rfl))

theorem idx3_0 : ∀ t : Fin cfg0.N, win0_3.index t 0 = t.val := by decide +kernel
theorem idx3_1 : ∀ t : Fin cfg0.N, win0_3.index t 1 = 0 := by decide +kernel
theorem rd3 (t : Fin cfg0.N) (a : S4096x352.Idx → EReal) (h : (V m c main_v3 : S4096x352.Idx → EReal) = a) :
    (iblk m c 3 t : S512x352.Idx → EReal) = fun y => a (ix2 (Fin.ofNat 4096 (t.val * 512 + (r0 y).val)) (Fin.ofNat 352 (0 * 352 + (c1 y).val))) := by
  have ht : t.val < 8 := hN ▸ t.isLt
  funext y
  unfold iblk
  rw [View.read_apply]
  exact (congrFun h _).trans (congrArg a (place _ y _ _ _ _ (idx3_0 t) (idx3_1 t) (by omega) (by omega) rfl rfl))

/-! ### The output arrays -/

theorem idx4_0 : ∀ t : Fin cfg0.N, win0_4.index t 0 = t.val := by decide +kernel
theorem idx4_1 : ∀ t : Fin cfg0.N, win0_4.index t 1 = 0 := by decide +kernel
theorem arr4 (p : Fin cfg0.N → S512x352.Idx → EReal) (G : S4096x352.Idx → EReal)
    (hp : ∀ t, (cfg0.win 4).flush t = true → ((dats m 0 c).after 4 t : S512x352.Idx → EReal) = p t)
    (hG : ∀ t, (cfg0.win 4).flush t = true → ∀ y, p t y = G (ix2 (Fin.ofNat 4096 (t.val * 512 + (r0 y).val)) (Fin.ofNat 352 (0 * 352 + (c1 y).val)))) :
    ((dats m 0 c).arrAt 4 cfg0.N : S4096x352.Idx → EReal) = G := by
  refine (dats m 0 c).arrAt_eq_of_cover 4 G (fun t hf => ?_) fun i => ?_
  · have ht : t.val < 8 := hN ▸ t.isLt
    refine funext fun (y : S512x352.Idx) => ?_
    refine (congrFun (hp t hf) y).trans ?_
    rw [View.read_apply]
    exact (hG t hf y).trans (congrArg G (place _ y _ _ _ _ (idx4_0 t) (idx4_1 t) (by omega) (by omega) rfl rfl).symm)
  · have h0 : (i 0 : Nat) < 4096 := (i 0).isLt
    have h1 : (i 1 : Nat) < 352 := (i 1).isLt
    have hlt : (i 0 : Nat) / 512 < cfg0.N := by rw [hN]; omega
    refine ⟨⟨(i 0 : Nat) / 512, hlt⟩, flush0_4 ⟨_, hlt⟩, ?_⟩
    show i ∈ ((View.whole main_v4_0).slice (win0_4.rect ⟨(i 0 : Nat) / 512, hlt⟩)).set
    rw [View.set_slice_whole, Rect.mem_set_unit]
    exact both (within (T := 512) (((i 0 : Nat) / 512)) (idx4_0 _) (by omega)) (within (T := 352) (0) (idx4_1 _) (by omega))

theorem idx5_0 : ∀ t : Fin cfg0.N, win0_5.index t 0 = t.val := by decide +kernel
theorem idx5_1 : ∀ t : Fin cfg0.N, win0_5.index t 1 = 0 := by decide +kernel
theorem arr5 (p : Fin cfg0.N → S512x352.Idx → EReal) (G : S4096x352.Idx → EReal)
    (hp : ∀ t, (cfg0.win 5).flush t = true → ((dats m 0 c).after 5 t : S512x352.Idx → EReal) = p t)
    (hG : ∀ t, (cfg0.win 5).flush t = true → ∀ y, p t y = G (ix2 (Fin.ofNat 4096 (t.val * 512 + (r0 y).val)) (Fin.ofNat 352 (0 * 352 + (c1 y).val)))) :
    ((dats m 0 c).arrAt 5 cfg0.N : S4096x352.Idx → EReal) = G := by
  refine (dats m 0 c).arrAt_eq_of_cover 5 G (fun t hf => ?_) fun i => ?_
  · have ht : t.val < 8 := hN ▸ t.isLt
    refine funext fun (y : S512x352.Idx) => ?_
    refine (congrFun (hp t hf) y).trans ?_
    rw [View.read_apply]
    exact (hG t hf y).trans (congrArg G (place _ y _ _ _ _ (idx5_0 t) (idx5_1 t) (by omega) (by omega) rfl rfl).symm)
  · have h0 : (i 0 : Nat) < 4096 := (i 0).isLt
    have h1 : (i 1 : Nat) < 352 := (i 1).isLt
    have hlt : (i 0 : Nat) / 512 < cfg0.N := by rw [hN]; omega
    refine ⟨⟨(i 0 : Nat) / 512, hlt⟩, flush0_5 ⟨_, hlt⟩, ?_⟩
    show i ∈ ((View.whole main_v4_1).slice (win0_5.rect ⟨(i 0 : Nat) / 512, hlt⟩)).set
    rw [View.set_slice_whole, Rect.mem_set_unit]
    exact both (within (T := 512) (((i 0 : Nat) / 512)) (idx5_0 _) (by omega)) (within (T := 352) (0) (idx5_1 _) (by omega))

theorem idx6_0 : ∀ t : Fin cfg0.N, win0_6.index t 0 = t.val := by decide +kernel
theorem idx6_1 : ∀ t : Fin cfg0.N, win0_6.index t 1 = 0 := by decide +kernel
theorem arr6 (p : Fin cfg0.N → S512x352.Idx → EReal) (G : S4096x352.Idx → EReal)
    (hp : ∀ t, (cfg0.win 6).flush t = true → ((dats m 0 c).after 6 t : S512x352.Idx → EReal) = p t)
    (hG : ∀ t, (cfg0.win 6).flush t = true → ∀ y, p t y = G (ix2 (Fin.ofNat 4096 (t.val * 512 + (r0 y).val)) (Fin.ofNat 352 (0 * 352 + (c1 y).val)))) :
    ((dats m 0 c).arrAt 6 cfg0.N : S4096x352.Idx → EReal) = G := by
  refine (dats m 0 c).arrAt_eq_of_cover 6 G (fun t hf => ?_) fun i => ?_
  · have ht : t.val < 8 := hN ▸ t.isLt
    refine funext fun (y : S512x352.Idx) => ?_
    refine (congrFun (hp t hf) y).trans ?_
    rw [View.read_apply]
    exact (hG t hf y).trans (congrArg G (place _ y _ _ _ _ (idx6_0 t) (idx6_1 t) (by omega) (by omega) rfl rfl).symm)
  · have h0 : (i 0 : Nat) < 4096 := (i 0).isLt
    have h1 : (i 1 : Nat) < 352 := (i 1).isLt
    have hlt : (i 0 : Nat) / 512 < cfg0.N := by rw [hN]; omega
    refine ⟨⟨(i 0 : Nat) / 512, hlt⟩, flush0_6 ⟨_, hlt⟩, ?_⟩
    show i ∈ ((View.whole main_v4_2).slice (win0_6.rect ⟨(i 0 : Nat) / 512, hlt⟩)).set
    rw [View.set_slice_whole, Rect.mem_set_unit]
    exact both (within (T := 512) (((i 0 : Nat) / 512)) (idx6_0 _) (by omega)) (within (T := 352) (0) (idx6_1 _) (by omega))

end Cert.AdamWu

end
-- ==== Proof.AdamWu.Value.lean ====
/- The optimiser's call on the up weight: the three arrays it returns, index by index. -/
module

public import proofs.«01_k».proof.Proof.AdamWu.Geometry

@[expose] public section

noncomputable section

namespace Cert.AdamWu

open Cert.Kernel19Ideal Cert.Kernel19Ideal.Gen Cert.Ext Idealize.ShloMosaic Idealize.ShloMosaic.TcCoe Idealize.SL.Sem Cert.Lift Idealize.ShloMosaic.ValueIdx

theorem payG (x : S512x352.Idx → EReal) : (k0_pay1 (F := Ideal) x : S512x352.Idx → EReal) = x := by
  unfold k0_pay1
  exact shapeCast_self _ _

theorem payM (x1 x2 : S512x352.Idx → EReal) : (k0_pay2 (F := Ideal) x1 x2 : S512x352.Idx → EReal) = fun j => newM (x1 j) (x2 j) := by
  unfold k0_pay2
  dsimp only
  rw [shapeCast_self, payG]
  rfl

theorem payV (x1 x3 : S512x352.Idx → EReal) : (k0_pay3 (F := Ideal) x1 x3 : S512x352.Idx → EReal) = fun j => newV (x1 j) (x3 j) := by
  unfold k0_pay3
  dsimp only
  rw [shapeCast_self, payG]
  rfl

theorem payD (x0 x1 x2 x3 : S512x352.Idx → EReal) : (k0_pay4 (F := Ideal) x1 x2 x3 x0 : S512x352.Idx → EReal) = fun j => delta (x0 j) (x1 j) (x2 j) (x3 j) := by
  unfold k0_pay4
  dsimp only
  rw [shapeCast_self, payM, payV]
  rfl

theorem block4 (x0 x1 x2 x3 : S512x352.Idx → EReal) :
    (out0_4 (F := Ideal) x0 x1 x2 x3 : S512x352.Idx → EReal) = fun j => delta (x0 j) (x1 j) (x2 j) (x3 j) := by
  unfold out0_4
  rw [View.canon_unit_zero hz]
  simp only [View.ld_unit_zero (S := S512x352) hz]
  exact payD x0 x1 x2 x3

theorem block5 (x0 x1 x2 x3 : S512x352.Idx → EReal) :
    (out0_5 (F := Ideal) x0 x1 x2 x3 : S512x352.Idx → EReal) = fun j => newM (x1 j) (x2 j) := by
  unfold out0_5
  rw [View.canon_unit_zero hz]
  simp only [View.ld_unit_zero (S := S512x352) hz]
  exact payM x1 x2

theorem block6 (x0 x1 x2 x3 : S512x352.Idx → EReal) :
    (out0_6 (F := Ideal) x0 x1 x2 x3 : S512x352.Idx → EReal) = fun j => newV (x1 j) (x3 j) := by
  unfold out0_6
  rw [View.canon_unit_zero hz]
  simp only [View.ld_unit_zero (S := S512x352) hz]
  exact payV x1 x3

variable (m : (ℓ : Loc nD τ sig) → Buf (Elt Ideal) ℓ) (c : Dev nD) (W G M U : S4096x352.Idx → EReal)
  (e0 : (V m c main_v0 : S4096x352.Idx → EReal) = W) (e1 : (V m c main_v1 : S4096x352.Idx → EReal) = G)
  (e2 : (V m c main_v2 : S4096x352.Idx → EReal) = M) (e3 : (V m c main_v3 : S4096x352.Idx → EReal) = U)
include e0 e1 e2 e3

theorem array4 : ((dats m 0 c).arrAt 4 cfg0.N : S4096x352.Idx → EReal) = fun j => delta (W j) (G j) (M j) (U j) :=
  arr4 m c _ _ (fun t _ => ((after0_4 m c t).trans (congr4 (out0_4 (F := Ideal)) (rd0 m c t _ e0) (rd1 m c t _ e1) (rd2 m c t _ e2) (rd3 m c t _ e3))).trans (block4 _ _ _ _)) (fun t _ y => rfl)

theorem array5 : ((dats m 0 c).arrAt 5 cfg0.N : S4096x352.Idx → EReal) = fun j => newM (G j) (M j) :=
  arr5 m c _ _ (fun t _ => ((after0_5 m c t).trans (congr4 (out0_5 (F := Ideal)) (rd0 m c t _ e0) (rd1 m c t _ e1) (rd2 m c t _ e2) (rd3 m c t _ e3))).trans (block5 _ _ _ _)) (fun t _ y => rfl)

theorem array6 : ((dats m 0 c).arrAt 6 cfg0.N : S4096x352.Idx → EReal) = fun j => newV (G j) (U j) :=
  arr6 m c _ _ (fun t _ => ((after0_6 m c t).trans (congr4 (out0_6 (F := Ideal)) (rd0 m c t _ e0) (rd1 m c t _ e1) (rd2 m c t _ e2) (rd3 m c t _ e3))).trans (block6 _ _ _ _)) (fun t _ y => rfl)

end Cert.AdamWu

end
-- ==== Proof.AdamWu.Claims.lean ====
/- The optimiser's call on the up weight: the claims. -/
module

public import proofs.«01_k».proof.Defs
public import proofs.«01_k».proof.Proof.AdamWu.Value
public import proofs.«01_k».proof.Proof.Gen.Kernel19.Frame
public import proofs.«01_k».proof.Proof.Gen.Reference19Ideal.Run
public import Idealize.ShloMosaic.Adequacy
public import Idealize.ShloMosaic.Init

@[expose] public section

noncomputable section

namespace Cert.AdamWu

open Idealize.ShloMosaic Idealize.ShloMosaic.TcCoe Idealize.SL.Sem Cert.Ext Cert.Lift Idealize.ShloMosaic.ValueIdx

theorem frame_p : Cert.quiescent_Kernel19 := fun m ρ _ => Cert.Kernel19.Gen.frame m ρ
theorem frame_pi : Cert.quiescent_Kernel19Ideal := fun m ρ _ => Cert.Kernel19Ideal.Gen.frame m ρ
theorem frame_ri : Cert.quiescent_Reference19Ideal := fun m ρ _ => (θ_run Cert.Reference19Ideal.defs _ _).mono (fun r h => ⟨fun c => (h c).2.2.2,
      Idealize.ShloMosaic.sem_eq_zero_of_no_sems (by decide) r.2⟩)
    (Cert.Reference19Ideal.Value.run (F := Ideal) m ρ)

theorem preserves : Cert.preserves_Kernel19_Kernel19Ideal := trivial

section
open Cert.Kernel19Ideal Cert.Kernel19Ideal.Gen

/-- The rows of a stacked weight, one after another. -/
abbrev flat (w : Arr ⟨3, ![4, 1024, 352]⟩) : Arr ⟨2, ![4096, 352]⟩ := shapeCast ⟨2, ![4096, 352]⟩ w shapeCasts_S4x1024x352_S4096x352

variable (m : (ℓ : Loc nD τ sig) → Buf (Elt Ideal) ℓ) (c : Dev nD) (w : Arr ⟨3, ![4, 1024, 352]⟩)

theorem at0 (h : m ((c : Thread nD τ).loc main_arg0) = w) : (V m c main_v0 : S4096x352.Idx → EReal) = flat w := by
  rw [← h]
  rfl

theorem at1 (h : m ((c : Thread nD τ).loc main_arg1) = w) : (V m c main_v1 : S4096x352.Idx → EReal) = flat w := by
  rw [← h]
  rfl

theorem at2 (h : m ((c : Thread nD τ).loc main_arg2) = w) : (V m c main_v2 : S4096x352.Idx → EReal) = flat w := by
  rw [← h]
  rfl

theorem at3 (h : m ((c : Thread nD τ).loc main_arg3) = w) : (V m c main_v3 : S4096x352.Idx → EReal) = flat w := by
  rw [← h]
  rfl

end

section
open Cert.Reference19Ideal Cert.Reference19Ideal.Gen
variable (w g m v : Arr ⟨3, ![4, 1024, 352]⟩)

theorem refD : (shapeCast S4096x352 (mulf (F := Ideal) (φ := .f32) (broadcastInDim S4x1024x352 ![] bcast_S_S4x1024x352 (constant (F := Ideal) S_ .f32 0xBA83126F#32)) (addf (F := Ideal) (φ := .f32) (Host.divf (F := Ideal) (φ := .f32) (Host.divf (F := Ideal) (φ := .f32) (addf (F := Ideal) (φ := .f32) (mulf (F := Ideal) (φ := .f32) (broadcastInDim S4x1024x352 ![] bcast_S_S4x1024x352 (constant (F := Ideal) S_ .f32 0x3F666666#32)) m) (mulf (F := Ideal) (φ := .f32) (broadcastInDim S4x1024x352 ![] bcast_S_S4x1024x352 (constant (F := Ideal) S_ .f32 0x3DCCCCCD#32)) g)) (broadcastInDim S4x1024x352 ![] bcast_S_S4x1024x352 (constant (F := Ideal) S_ .f32 0x3F26BD02#32))) (addf (F := Ideal) (φ := .f32) (Host.sqrt (F := Ideal) (φ := .f32) (Host.divf (F := Ideal) (φ := .f32) (addf (F := Ideal) (φ := .f32) (mulf (F := Ideal) (φ := .f32) (broadcastInDim S4x1024x352 ![] bcast_S_S4x1024x352 (constant (F := Ideal) S_ .f32 0x3F7FBE77#32)) v) (mulf (F := Ideal) (φ := .f32) (broadcastInDim S4x1024x352 ![] bcast_S_S4x1024x352 (constant (F := Ideal) S_ .f32 0x3A83126F#32)) (mulf (F := Ideal) (φ := .f32) g g))) (broadcastInDim S4x1024x352 ![] bcast_S_S4x1024x352 (constant (F := Ideal) S_ .f32 0x3C231ACC#32)))) (broadcastInDim S4x1024x352 ![] bcast_S_S4x1024x352 (constant (F := Ideal) S_ .f32 0x322BCC77#32)))) (mulf (F := Ideal) (φ := .f32) (broadcastInDim S4x1024x352 ![] bcast_S_S4x1024x352 (constant (F := Ideal) S_ .f32 0x3C23D70A#32)) w))) shapeCasts_S4x1024x352_S4096x352 : S4096x352.Idx → EReal) = fun j => delta (flat w j) (flat g j) (flat m j) (flat v j) := rfl

theorem refM : (shapeCast S4096x352 (addf (F := Ideal) (φ := .f32) (mulf (F := Ideal) (φ := .f32) (broadcastInDim S4x1024x352 ![] bcast_S_S4x1024x352 (constant (F := Ideal) S_ .f32 0x3F666666#32)) m) (mulf (F := Ideal) (φ := .f32) (broadcastInDim S4x1024x352 ![] bcast_S_S4x1024x352 (constant (F := Ideal) S_ .f32 0x3DCCCCCD#32)) g)) shapeCasts_S4x1024x352_S4096x352 : S4096x352.Idx → EReal) = fun j => newM (flat g j) (flat m j) := rfl

theorem refV : (shapeCast S4096x352 (addf (F := Ideal) (φ := .f32) (mulf (F := Ideal) (φ := .f32) (broadcastInDim S4x1024x352 ![] bcast_S_S4x1024x352 (constant (F := Ideal) S_ .f32 0x3F7FBE77#32)) v) (mulf (F := Ideal) (φ := .f32) (broadcastInDim S4x1024x352 ![] bcast_S_S4x1024x352 (constant (F := Ideal) S_ .f32 0x3A83126F#32)) (mulf (F := Ideal) (φ := .f32) g g))) shapeCasts_S4x1024x352_S4096x352 : S4096x352.Idx → EReal) = fun j => newV (flat g j) (flat v j) := rfl

end

theorem algebraic : Cert.algebraic_Kernel19Ideal_Reference19Ideal := by
  intro m ρ m' ρ' hpre hagree
  refine ⟨_, _, _, Cert.Kernel19Ideal.Value.run_blocks (F := Ideal) m ρ, ?_⟩
  refine (θ_run Cert.Reference19Ideal.defs _ _).mono (fun _ h c => ?_) (Cert.Reference19Ideal.Value.run (F := Ideal) m' ρ')
  obtain ⟨e0, e1, e2, e3⟩ := hagree c
  exact ⟨(h c).1.trans ((refD _ _ _ _).trans (array4 m c (flat _) (flat _) (flat _) (flat _) (at0 m c _ e0.symm) (at1 m c _ e1.symm) (at2 m c _ e2.symm) (at3 m c _ e3.symm)).symm),
    (h c).2.1.trans ((refM _ _).trans (array5 m c (flat _) (flat _) (flat _) (flat _) (at0 m c _ e0.symm) (at1 m c _ e1.symm) (at2 m c _ e2.symm) (at3 m c _ e3.symm)).symm),
    (h c).2.2.1.trans ((refV _ _).trans (array6 m c (flat _) (flat _) (flat _) (flat _) (at0 m c _ e0.symm) (at1 m c _ e1.symm) (at2 m c _ e2.symm) (at3 m c _ e3.symm)).symm), (h c).2.2.2⟩

end Cert.AdamWu

end
-- ==== Proof.AdamWd.Geometry.lean ====
/- Where the blocks of the grid lie: what a point reads of each array, and that the written blocks fill the results. -/
module

public import proofs.«01_k».proof.Proof.Gen.Kernel20Ideal.Value
public import proofs.«01_k».proof.Proof.Lift.Adam
public import proofs.«01_k».proof.Proof.Lift.Place

@[expose] public section

noncomputable section

namespace Cert.AdamWd

open Cert.Kernel20Ideal Cert.Kernel20Ideal.Gen Cert.Ext Idealize.ShloMosaic Idealize.ShloMosaic.TcCoe Idealize.SL.Sem Cert.Lift Idealize.ShloMosaic.ValueIdx
open Idealize.ShloMosaic.Pipeline (Dat)

variable (m : (ℓ : Loc nD τ sig) → Buf (Elt Ideal) ℓ) (c : Dev nD)

theorem hN : cfg0.N = 4 := N_0

/-! ### The input blocks -/

theorem idx0_0 : ∀ t : Fin cfg0.N, win0_0.index t 0 = t.val := by decide +kernel
theorem idx0_1 : ∀ t : Fin cfg0.N, win0_0.index t 1 = 0 := by decide +kernel
theorem rd0 (t : Fin cfg0.N) (a : S1408x1024.Idx → EReal) (h : (V m c main_v0 : S1408x1024.Idx → EReal) = a) :
    (iblk m c 0 t : S352x1024.Idx → EReal) = fun y => a (ix2 (Fin.ofNat 1408 (t.val * 352 + (r0 y).val)) (Fin.ofNat 1024 (0 * 1024 + (c1 y).val))) := by
  have ht : t.val < 4 := hN ▸ t.isLt
  funext y
  unfold iblk
  rw [View.read_apply]
  exact (congrFun h _).trans (congrArg a (place _ y _ _ _ _ (idx0_0 t) (idx0_1 t) (by omega) (by omega) rfl rfl))

theorem idx1_0 : ∀ t : Fin cfg0.N, win0_1.index t 0 = t.val := by decide +kernel
theorem idx1_1 : ∀ t : Fin cfg0.N, win0_1.index t 1 = 0 := by decide +kernel
theorem rd1 (t : Fin cfg0.N) (a : S1408x1024.Idx → EReal) (h : (V m c main_v1 : S1408x1024.Idx → EReal) = a) :
    (iblk m c 1 t : S352x1024.Idx → EReal) = fun y => a (ix2 (Fin.ofNat 1408 (t.val * 352 + (r0 y).val)) (Fin.ofNat 1024 (0 * 1024 + (c1 y).val))) := by
  have ht : t.val < 4 := hN ▸ t.isLt
  funext y
  unfold iblk
  rw [View.read_apply]
  exact (congrFun h _).trans (congrArg a (place _ y _ _ _ _ (idx1_0 t) (idx1_1 t) (by omega) (by omega) rfl rfl))

theorem idx2_0 : ∀ t : Fin cfg0.N, win0_2.index t 0 = t.val := by decide +kernel
theorem idx2_1 : ∀ t : Fin cfg0.N, win0_2.index t 1 = 0 := by decide +kernel
theorem rd2 (t : Fin cfg0.N) (a : S1408x1024.Idx → EReal) (h : (V m c main_v2 : S1408x1024.Idx → EReal) = a) :
    (iblk m c 2 t : S352x1024.Idx → EReal) = fun y => a (ix2 (Fin.ofNat 1408 (t.val * 352 + (r0 y).val)) (Fin.ofNat 1024 (0 * 1024 + (c1 y).val))) := by
  have ht : t.val < 4 := hN ▸ t.isLt
  funext y
  unfold iblk
  rw [View.read_apply]
  exact (congrFun h _).trans (congrArg a (place _ y _ _ _ _ (idx2_0 t) (idx2_1 t) (by omega) (by omega) rfl rfl))

theorem idx3_0 : ∀ t : Fin cfg0.N, win0_3.index t 0 = t.val := by decide +kernel
theorem idx3_1 : ∀ t : Fin cfg0.N, win0_3.index t 1 = 0 := by decide +kernel
theorem rd3 (t : Fin cfg0.N) (a : S1408x1024.Idx → EReal) (h : (V m c main_v3 : S1408x1024.Idx → EReal) = a) :
    (iblk m c 3 t : S352x1024.Idx → EReal) = fun y => a (ix2 (Fin.ofNat 1408 (t.val * 352 + (r0 y).val)) (Fin.ofNat 1024 (0 * 1024 + (c1 y).val))) := by
  have ht : t.val < 4 := hN ▸ t.isLt
  funext y
  unfold iblk
  rw [View.read_apply]
  exact (congrFun h _).trans (congrArg a (place _ y _ _ _ _ (idx3_0 t) (idx3_1 t) (by omega) (by omega) rfl rfl))

/-! ### The output arrays -/

theorem idx4_0 : ∀ t : Fin cfg0.N, win0_4.index t 0 = t.val := by decide +kernel
theorem idx4_1 : ∀ t : Fin cfg0.N, win0_4.index t 1 = 0 := by decide +kernel
theorem arr4 (p : Fin cfg0.N → S352x1024.Idx → EReal) (G : S1408x1024.Idx → EReal)
    (hp : ∀ t, (cfg0.win 4).flush t = true → ((dats m 0 c).after 4 t : S352x1024.Idx → EReal) = p t)
    (hG : ∀ t, (cfg0.win 4).flush t = true → ∀ y, p t y = G (ix2 (Fin.ofNat 1408 (t.val * 352 + (r0 y).val)) (Fin.ofNat 1024 (0 * 1024 + (c1 y).val)))) :
    ((dats m 0 c).arrAt 4 cfg0.N : S1408x1024.Idx → EReal) = G := by
  refine (dats m 0 c).arrAt_eq_of_cover 4 G (fun t hf => ?_) fun i => ?_
  · have ht : t.val < 4 := hN ▸ t.isLt
    refine funext fun (y : S352x1024.Idx) => ?_
    refine (congrFun (hp t hf) y).trans ?_
    rw [View.read_apply]
    exact (hG t hf y).trans (congrArg G (place _ y _ _ _ _ (idx4_0 t) (idx4_1 t) (by omega) (by omega) rfl rfl).symm)
  · have h0 : (i 0 : Nat) < 1408 := (i 0).isLt
    have h1 : (i 1 : Nat) < 1024 := (i 1).isLt
    have hlt : (i 0 : Nat) / 352 < cfg0.N := by rw [hN]; omega
    refine ⟨⟨(i 0 : Nat) / 352, hlt⟩, flush0_4 ⟨_, hlt⟩, ?_⟩
    show i ∈ ((View.whole main_v4_0).slice (win0_4.rect ⟨(i 0 : Nat) / 352, hlt⟩)).set
    rw [View.set_slice_whole, Rect.mem_set_unit]
    exact both (within (T := 352) (((i 0 : Nat) / 352)) (idx4_0 _) (by omega)) (within (T := 1024) (0) (idx4_1 _) (by omega))

theorem idx5_0 : ∀ t : Fin cfg0.N, win0_5.index t 0 = t.val := by decide +kernel
theorem idx5_1 : ∀ t : Fin cfg0.N, win0_5.index t 1 = 0 := by decide +kernel
theorem arr5 (p : Fin cfg0.N → S352x1024.Idx → EReal) (G : S1408x1024.Idx → EReal)
    (hp : ∀ t, (cfg0.win 5).flush t = true → ((dats m 0 c).after 5 t : S352x1024.Idx → EReal) = p t)
    (hG : ∀ t, (cfg0.win 5).flush t = true → ∀ y, p t y = G (ix2 (Fin.ofNat 1408 (t.val * 352 + (r0 y).val)) (Fin.ofNat 1024 (0 * 1024 + (c1 y).val)))) :
    ((dats m 0 c).arrAt 5 cfg0.N : S1408x1024.Idx → EReal) = G := by
  refine (dats m 0 c).arrAt_eq_of_cover 5 G (fun t hf => ?_) fun i => ?_
  · have ht : t.val < 4 := hN ▸ t.isLt
    refine funext fun (y : S352x1024.Idx) => ?_
    refine (congrFun (hp t hf) y).trans ?_
    rw [View.read_apply]
    exact (hG t hf y).trans (congrArg G (place _ y _ _ _ _ (idx5_0 t) (idx5_1 t) (by omega) (by omega) rfl rfl).symm)
  · have h0 : (i 0 : Nat) < 1408 := (i 0).isLt
    have h1 : (i 1 : Nat) < 1024 := (i 1).isLt
    have hlt : (i 0 : Nat) / 352 < cfg0.N := by rw [hN]; omega
    refine ⟨⟨(i 0 : Nat) / 352, hlt⟩, flush0_5 ⟨_, hlt⟩, ?_⟩
    show i ∈ ((View.whole main_v4_1).slice (win0_5.rect ⟨(i 0 : Nat) / 352, hlt⟩)).set
    rw [View.set_slice_whole, Rect.mem_set_unit]
    exact both (within (T := 352) (((i 0 : Nat) / 352)) (idx5_0 _) (by omega)) (within (T := 1024) (0) (idx5_1 _) (by omega))

theorem idx6_0 : ∀ t : Fin cfg0.N, win0_6.index t 0 = t.val := by decide +kernel
theorem idx6_1 : ∀ t : Fin cfg0.N, win0_6.index t 1 = 0 := by decide +kernel
theorem arr6 (p : Fin cfg0.N → S352x1024.Idx → EReal) (G : S1408x1024.Idx → EReal)
    (hp : ∀ t, (cfg0.win 6).flush t = true → ((dats m 0 c).after 6 t : S352x1024.Idx → EReal) = p t)
    (hG : ∀ t, (cfg0.win 6).flush t = true → ∀ y, p t y = G (ix2 (Fin.ofNat 1408 (t.val * 352 + (r0 y).val)) (Fin.ofNat 1024 (0 * 1024 + (c1 y).val)))) :
    ((dats m 0 c).arrAt 6 cfg0.N : S1408x1024.Idx → EReal) = G := by
  refine (dats m 0 c).arrAt_eq_of_cover 6 G (fun t hf => ?_) fun i => ?_
  · have ht : t.val < 4 := hN ▸ t.isLt
    refine funext fun (y : S352x1024.Idx) => ?_
    refine (congrFun (hp t hf) y).trans ?_
    rw [View.read_apply]
    exact (hG t hf y).trans (congrArg G (place _ y _ _ _ _ (idx6_0 t) (idx6_1 t) (by omega) (by omega) rfl rfl).symm)
  · have h0 : (i 0 : Nat) < 1408 := (i 0).isLt
    have h1 : (i 1 : Nat) < 1024 := (i 1).isLt
    have hlt : (i 0 : Nat) / 352 < cfg0.N := by rw [hN]; omega
    refine ⟨⟨(i 0 : Nat) / 352, hlt⟩, flush0_6 ⟨_, hlt⟩, ?_⟩
    show i ∈ ((View.whole main_v4_2).slice (win0_6.rect ⟨(i 0 : Nat) / 352, hlt⟩)).set
    rw [View.set_slice_whole, Rect.mem_set_unit]
    exact both (within (T := 352) (((i 0 : Nat) / 352)) (idx6_0 _) (by omega)) (within (T := 1024) (0) (idx6_1 _) (by omega))

end Cert.AdamWd

end
-- ==== Proof.AdamWd.Value.lean ====
/- The optimiser's call on the down weight: the three arrays it returns, index by index. -/
module

public import proofs.«01_k».proof.Proof.AdamWd.Geometry

@[expose] public section

noncomputable section

namespace Cert.AdamWd

open Cert.Kernel20Ideal Cert.Kernel20Ideal.Gen Cert.Ext Idealize.ShloMosaic Idealize.ShloMosaic.TcCoe Idealize.SL.Sem Cert.Lift Idealize.ShloMosaic.ValueIdx

theorem payG (x : S352x1024.Idx → EReal) : (k0_pay1 (F := Ideal) x : S352x1024.Idx → EReal) = x := by
  unfold k0_pay1
  exact shapeCast_self _ _

theorem payM (x1 x2 : S352x1024.Idx → EReal) : (k0_pay2 (F := Ideal) x1 x2 : S352x1024.Idx → EReal) = fun j => newM (x1 j) (x2 j) := by
  unfold k0_pay2
  dsimp only
  rw [shapeCast_self, payG]
  rfl

theorem payV (x1 x3 : S352x1024.Idx → EReal) : (k0_pay3 (F := Ideal) x1 x3 : S352x1024.Idx → EReal) = fun j => newV (x1 j) (x3 j) := by
  unfold k0_pay3
  dsimp only
  rw [shapeCast_self, payG]
  rfl

theorem payD (x0 x1 x2 x3 : S352x1024.Idx → EReal) : (k0_pay4 (F := Ideal) x1 x2 x3 x0 : S352x1024.Idx → EReal) = fun j => delta (x0 j) (x1 j) (x2 j) (x3 j) := by
  unfold k0_pay4
  dsimp only
  rw [shapeCast_self, payM, payV]
  rfl

theorem block4 (x0 x1 x2 x3 : S352x1024.Idx → EReal) :
    (out0_4 (F := Ideal) x0 x1 x2 x3 : S352x1024.Idx → EReal) = fun j => delta (x0 j) (x1 j) (x2 j) (x3 j) := by
  unfold out0_4
  rw [View.canon_unit_zero hz]
  simp only [View.ld_unit_zero (S := S352x1024) hz]
  exact payD x0 x1 x2 x3

theorem block5 (x0 x1 x2 x3 : S352x1024.Idx → EReal) :
    (out0_5 (F := Ideal) x0 x1 x2 x3 : S352x1024.Idx → EReal) = fun j => newM (x1 j) (x2 j) := by
  unfold out0_5
  rw [View.canon_unit_zero hz]
  simp only [View.ld_unit_zero (S := S352x1024) hz]
  exact payM x1 x2

theorem block6 (x0 x1 x2 x3 : S352x1024.Idx → EReal) :
    (out0_6 (F := Ideal) x0 x1 x2 x3 : S352x1024.Idx → EReal) = fun j => newV (x1 j) (x3 j) := by
  unfold out0_6
  rw [View.canon_unit_zero hz]
  simp only [View.ld_unit_zero (S := S352x1024) hz]
  exact payV x1 x3

variable (m : (ℓ : Loc nD τ sig) → Buf (Elt Ideal) ℓ) (c : Dev nD) (W G M U : S1408x1024.Idx → EReal)
  (e0 : (V m c main_v0 : S1408x1024.Idx → EReal) = W) (e1 : (V m c main_v1 : S1408x1024.Idx → EReal) = G)
  (e2 : (V m c main_v2 : S1408x1024.Idx → EReal) = M) (e3 : (V m c main_v3 : S1408x1024.Idx → EReal) = U)
include e0 e1 e2 e3

theorem array4 : ((dats m 0 c).arrAt 4 cfg0.N : S1408x1024.Idx → EReal) = fun j => delta (W j) (G j) (M j) (U j) :=
  arr4 m c _ _ (fun t _ => ((after0_4 m c t).trans (congr4 (out0_4 (F := Ideal)) (rd0 m c t _ e0) (rd1 m c t _ e1) (rd2 m c t _ e2) (rd3 m c t _ e3))).trans (block4 _ _ _ _)) (fun t _ y => rfl)

theorem array5 : ((dats m 0 c).arrAt 5 cfg0.N : S1408x1024.Idx → EReal) = fun j => newM (G j) (M j) :=
  arr5 m c _ _ (fun t _ => ((after0_5 m c t).trans (congr4 (out0_5 (F := Ideal)) (rd0 m c t _ e0) (rd1 m c t _ e1) (rd2 m c t _ e2) (rd3 m c t _ e3))).trans (block5 _ _ _ _)) (fun t _ y => rfl)

theorem array6 : ((dats m 0 c).arrAt 6 cfg0.N : S1408x1024.Idx → EReal) = fun j => newV (G j) (U j) :=
  arr6 m c _ _ (fun t _ => ((after0_6 m c t).trans (congr4 (out0_6 (F := Ideal)) (rd0 m c t _ e0) (rd1 m c t _ e1) (rd2 m c t _ e2) (rd3 m c t _ e3))).trans (block6 _ _ _ _)) (fun t _ y => rfl)

end Cert.AdamWd

end
-- ==== Proof.AdamWd.Claims.lean ====
/- The optimiser's call on the down weight: the claims. -/
module

public import proofs.«01_k».proof.Defs
public import proofs.«01_k».proof.Proof.AdamWd.Value
public import proofs.«01_k».proof.Proof.Gen.Kernel20.Frame
public import proofs.«01_k».proof.Proof.Gen.Reference20Ideal.Run
public import Idealize.ShloMosaic.Adequacy
public import Idealize.ShloMosaic.Init

@[expose] public section

noncomputable section

namespace Cert.AdamWd

open Idealize.ShloMosaic Idealize.ShloMosaic.TcCoe Idealize.SL.Sem Cert.Ext Cert.Lift Idealize.ShloMosaic.ValueIdx

theorem frame_p : Cert.quiescent_Kernel20 := fun m ρ _ => Cert.Kernel20.Gen.frame m ρ
theorem frame_pi : Cert.quiescent_Kernel20Ideal := fun m ρ _ => Cert.Kernel20Ideal.Gen.frame m ρ
theorem frame_ri : Cert.quiescent_Reference20Ideal := fun m ρ _ => (θ_run Cert.Reference20Ideal.defs _ _).mono (fun r h => ⟨fun c => (h c).2.2.2,
      Idealize.ShloMosaic.sem_eq_zero_of_no_sems (by decide) r.2⟩)
    (Cert.Reference20Ideal.Value.run (F := Ideal) m ρ)

theorem preserves : Cert.preserves_Kernel20_Kernel20Ideal := trivial

section
open Cert.Kernel20Ideal Cert.Kernel20Ideal.Gen

/-- The rows of a stacked weight, one after another. -/
abbrev flat (w : Arr ⟨3, ![4, 352, 1024]⟩) : Arr ⟨2, ![1408, 1024]⟩ := shapeCast ⟨2, ![1408, 1024]⟩ w shapeCasts_S4x352x1024_S1408x1024

variable (m : (ℓ : Loc nD τ sig) → Buf (Elt Ideal) ℓ) (c : Dev nD) (w : Arr ⟨3, ![4, 352, 1024]⟩)

theorem at0 (h : m ((c : Thread nD τ).loc main_arg0) = w) : (V m c main_v0 : S1408x1024.Idx → EReal) = flat w := by
  rw [← h]
  rfl

theorem at1 (h : m ((c : Thread nD τ).loc main_arg1) = w) : (V m c main_v1 : S1408x1024.Idx → EReal) = flat w := by
  rw [← h]
  rfl

theorem at2 (h : m ((c : Thread nD τ).loc main_arg2) = w) : (V m c main_v2 : S1408x1024.Idx → EReal) = flat w := by
  rw [← h]
  rfl

theorem at3 (h : m ((c : Thread nD τ).loc main_arg3) = w) : (V m c main_v3 : S1408x1024.Idx → EReal) = flat w := by
  rw [← h]
  rfl

end

section
open Cert.Reference20Ideal Cert.Reference20Ideal.Gen
variable (w g m v : Arr ⟨3, ![4, 352, 1024]⟩)

theorem refD : (shapeCast S1408x1024 (mulf (F := Ideal) (φ := .f32) (broadcastInDim S4x352x1024 ![] bcast_S_S4x352x1024 (constant (F := Ideal) S_ .f32 0xBA83126F#32)) (addf (F := Ideal) (φ := .f32) (Host.divf (F := Ideal) (φ := .f32) (Host.divf (F := Ideal) (φ := .f32) (addf (F := Ideal) (φ := .f32) (mulf (F := Ideal) (φ := .f32) (broadcastInDim S4x352x1024 ![] bcast_S_S4x352x1024 (constant (F := Ideal) S_ .f32 0x3F666666#32)) m) (mulf (F := Ideal) (φ := .f32) (broadcastInDim S4x352x1024 ![] bcast_S_S4x352x1024 (constant (F := Ideal) S_ .f32 0x3DCCCCCD#32)) g)) (broadcastInDim S4x352x1024 ![] bcast_S_S4x352x1024 (constant (F := Ideal) S_ .f32 0x3F26BD02#32))) (addf (F := Ideal) (φ := .f32) (Host.sqrt (F := Ideal) (φ := .f32) (Host.divf (F := Ideal) (φ := .f32) (addf (F := Ideal) (φ := .f32) (mulf (F := Ideal) (φ := .f32) (broadcastInDim S4x352x1024 ![] bcast_S_S4x352x1024 (constant (F := Ideal) S_ .f32 0x3F7FBE77#32)) v) (mulf (F := Ideal) (φ := .f32) (broadcastInDim S4x352x1024 ![] bcast_S_S4x352x1024 (constant (F := Ideal) S_ .f32 0x3A83126F#32)) (mulf (F := Ideal) (φ := .f32) g g))) (broadcastInDim S4x352x1024 ![] bcast_S_S4x352x1024 (constant (F := Ideal) S_ .f32 0x3C231ACC#32)))) (broadcastInDim S4x352x1024 ![] bcast_S_S4x352x1024 (constant (F := Ideal) S_ .f32 0x322BCC77#32)))) (mulf (F := Ideal) (φ := .f32) (broadcastInDim S4x352x1024 ![] bcast_S_S4x352x1024 (constant (F := Ideal) S_ .f32 0x3C23D70A#32)) w))) shapeCasts_S4x352x1024_S1408x1024 : S1408x1024.Idx → EReal) = fun j => delta (flat w j) (flat g j) (flat m j) (flat v j) := rfl

theorem refM : (shapeCast S1408x1024 (addf (F := Ideal) (φ := .f32) (mulf (F := Ideal) (φ := .f32) (broadcastInDim S4x352x1024 ![] bcast_S_S4x352x1024 (constant (F := Ideal) S_ .f32 0x3F666666#32)) m) (mulf (F := Ideal) (φ := .f32) (broadcastInDim S4x352x1024 ![] bcast_S_S4x352x1024 (constant (F := Ideal) S_ .f32 0x3DCCCCCD#32)) g)) shapeCasts_S4x352x1024_S1408x1024 : S1408x1024.Idx → EReal) = fun j => newM (flat g j) (flat m j) := rfl

theorem refV : (shapeCast S1408x1024 (addf (F := Ideal) (φ := .f32) (mulf (F := Ideal) (φ := .f32) (broadcastInDim S4x352x1024 ![] bcast_S_S4x352x1024 (constant (F := Ideal) S_ .f32 0x3F7FBE77#32)) v) (mulf (F := Ideal) (φ := .f32) (broadcastInDim S4x352x1024 ![] bcast_S_S4x352x1024 (constant (F := Ideal) S_ .f32 0x3A83126F#32)) (mulf (F := Ideal) (φ := .f32) g g))) shapeCasts_S4x352x1024_S1408x1024 : S1408x1024.Idx → EReal) = fun j => newV (flat g j) (flat v j) := rfl

end

theorem algebraic : Cert.algebraic_Kernel20Ideal_Reference20Ideal := by
  intro m ρ m' ρ' hpre hagree
  refine ⟨_, _, _, Cert.Kernel20Ideal.Value.run_blocks (F := Ideal) m ρ, ?_⟩
  refine (θ_run Cert.Reference20Ideal.defs _ _).mono (fun _ h c => ?_) (Cert.Reference20Ideal.Value.run (F := Ideal) m' ρ')
  obtain ⟨e0, e1, e2, e3⟩ := hagree c
  exact ⟨(h c).1.trans ((refD _ _ _ _).trans (array4 m c (flat _) (flat _) (flat _) (flat _) (at0 m c _ e0.symm) (at1 m c _ e1.symm) (at2 m c _ e2.symm) (at3 m c _ e3.symm)).symm),
    (h c).2.1.trans ((refM _ _).trans (array5 m c (flat _) (flat _) (flat _) (flat _) (at0 m c _ e0.symm) (at1 m c _ e1.symm) (at2 m c _ e2.symm) (at3 m c _ e3.symm)).symm),
    (h c).2.2.1.trans ((refV _ _).trans (array6 m c (flat _) (flat _) (flat _) (flat _) (at0 m c _ e0.symm) (at1 m c _ e1.symm) (at2 m c _ e2.symm) (at3 m c _ e3.symm)).symm), (h c).2.2.2⟩

end Cert.AdamWd

end
-- ==== Proof.AdamPleWg.Geometry.lean ====
/- Where the blocks of the grid lie: what a point reads of each array, and that the written blocks fill the results. -/
module

public import proofs.«01_k».proof.Proof.Gen.Kernel21Ideal.Value
public import proofs.«01_k».proof.Proof.Lift.Adam
public import proofs.«01_k».proof.Proof.Lift.Place

@[expose] public section

noncomputable section

namespace Cert.AdamPleWg

open Cert.Kernel21Ideal Cert.Kernel21Ideal.Gen Cert.Ext Idealize.ShloMosaic Idealize.ShloMosaic.TcCoe Idealize.SL.Sem Cert.Lift Idealize.ShloMosaic.ValueIdx
open Idealize.ShloMosaic.Pipeline (Dat)

variable (m : (ℓ : Loc nD τ sig) → Buf (Elt Ideal) ℓ) (c : Dev nD)

theorem hN : cfg0.N = 1 := N_0

/-! ### The input blocks -/

theorem idx0_0 : ∀ t : Fin cfg0.N, win0_0.index t 0 = 0 := by decide +kernel
theorem idx0_1 : ∀ t : Fin cfg0.N, win0_0.index t 1 = 0 := by decide +kernel
theorem rd0 (t : Fin cfg0.N) (a : S512x1024.Idx → EReal) (h : (V m c main_v0 : S512x1024.Idx → EReal) = a) :
    (iblk m c 0 t : S512x1024.Idx → EReal) = fun y => a (ix2 (Fin.ofNat 512 (0 * 512 + (r0 y).val)) (Fin.ofNat 1024 (0 * 1024 + (c1 y).val))) := by
  have ht : t.val < 1 := hN ▸ t.isLt
  funext y
  unfold iblk
  rw [View.read_apply]
  exact (congrFun h _).trans (congrArg a (place _ y _ _ _ _ (idx0_0 t) (idx0_1 t) (by omega) (by omega) rfl rfl))

theorem idx1_0 : ∀ t : Fin cfg0.N, win0_1.index t 0 = 0 := by decide +kernel
theorem idx1_1 : ∀ t : Fin cfg0.N, win0_1.index t 1 = 0 := by decide +kernel
theorem rd1 (t : Fin cfg0.N) (a : S512x1024.Idx → EReal) (h : (V m c main_v1 : S512x1024.Idx → EReal) = a) :
    (iblk m c 1 t : S512x1024.Idx → EReal) = fun y => a (ix2 (Fin.ofNat 512 (0 * 512 + (r0 y).val)) (Fin.ofNat 1024 (0 * 1024 + (c1 y).val))) := by
  have ht : t.val < 1 := hN ▸ t.isLt
  funext y
  unfold iblk
  rw [View.read_apply]
  exact (congrFun h _).trans (congrArg a (place _ y _ _ _ _ (idx1_0 t) (idx1_1 t) (by omega) (by omega) rfl rfl))

theorem idx2_0 : ∀ t : Fin cfg0.N, win0_2.index t 0 = 0 := by decide +kernel
theorem idx2_1 : ∀ t : Fin cfg0.N, win0_2.index t 1 = 0 := by decide +kernel
theorem rd2 (t : Fin cfg0.N) (a : S512x1024.Idx → EReal) (h : (V m c main_v2 : S512x1024.Idx → EReal) = a) :
    (iblk m c 2 t : S512x1024.Idx → EReal) = fun y => a (ix2 (Fin.ofNat 512 (0 * 512 + (r0 y).val)) (Fin.ofNat 1024 (0 * 1024 + (c1 y).val))) := by
  have ht : t.val < 1 := hN ▸ t.isLt
  funext y
  unfold iblk
  rw [View.read_apply]
  exact (congrFun h _).trans (congrArg a (place _ y _ _ _ _ (idx2_0 t) (idx2_1 t) (by omega) (by omega) rfl rfl))

theorem idx3_0 : ∀ t : Fin cfg0.N, win0_3.index t 0 = 0 := by decide +kernel
theorem idx3_1 : ∀ t : Fin cfg0.N, win0_3.index t 1 = 0 := by decide +kernel
theorem rd3 (t : Fin cfg0.N) (a : S512x1024.Idx → EReal) (h : (V m c main_v3 : S512x1024.Idx → EReal) = a) :
    (iblk m c 3 t : S512x1024.Idx → EReal) = fun y => a (ix2 (Fin.ofNat 512 (0 * 512 + (r0 y).val)) (Fin.ofNat 1024 (0 * 1024 + (c1 y).val))) := by
  have ht : t.val < 1 := hN ▸ t.isLt
  funext y
  unfold iblk
  rw [View.read_apply]
  exact (congrFun h _).trans (congrArg a (place _ y _ _ _ _ (idx3_0 t) (idx3_1 t) (by omega) (by omega) rfl rfl))

/-! ### The output arrays -/

theorem idx4_0 : ∀ t : Fin cfg0.N, win0_4.index t 0 = 0 := by decide +kernel
theorem idx4_1 : ∀ t : Fin cfg0.N, win0_4.index t 1 = 0 := by decide +kernel
theorem arr4 (p : Fin cfg0.N → S512x1024.Idx → EReal) (G : S512x1024.Idx → EReal)
    (hp : ∀ t, (cfg0.win 4).flush t = true → ((dats m 0 c).after 4 t : S512x1024.Idx → EReal) = p t)
    (hG : ∀ t, (cfg0.win 4).flush t = true → ∀ y, p t y = G (ix2 (Fin.ofNat 512 (0 * 512 + (r0 y).val)) (Fin.ofNat 1024 (0 * 1024 + (c1 y).val)))) :
    ((dats m 0 c).arrAt 4 cfg0.N : S512x1024.Idx → EReal) = G := by
  refine (dats m 0 c).arrAt_eq_of_cover 4 G (fun t hf => ?_) fun i => ?_
  · have ht : t.val < 1 := hN ▸ t.isLt
    refine funext fun (y : S512x1024.Idx) => ?_
    refine (congrFun (hp t hf) y).trans ?_
    rw [View.read_apply]
    exact (hG t hf y).trans (congrArg G (place _ y _ _ _ _ (idx4_0 t) (idx4_1 t) (by omega) (by omega) rfl rfl).symm)
  · have h0 : (i 0 : Nat) < 512 := (i 0).isLt
    have h1 : (i 1 : Nat) < 1024 := (i 1).isLt
    have hlt : (i 0 : Nat) / 512 < cfg0.N := by rw [hN]; omega
    refine ⟨⟨(i 0 : Nat) / 512, hlt⟩, flush0_4 ⟨_, hlt⟩, ?_⟩
    show i ∈ ((View.whole main_v4_0).slice (win0_4.rect ⟨(i 0 : Nat) / 512, hlt⟩)).set
    rw [View.set_slice_whole, Rect.mem_set_unit]
    exact both (within (T := 512) (0) (idx4_0 _) (by omega)) (within (T := 1024) (0) (idx4_1 _) (by omega))

theorem idx5_0 : ∀ t : Fin cfg0.N, win0_5.index t 0 = 0 := by decide +kernel
theorem idx5_1 : ∀ t : Fin cfg0.N, win0_5.index t 1 = 0 := by decide +kernel
theorem arr5 (p : Fin cfg0.N → S512x1024.Idx → EReal) (G : S512x1024.Idx → EReal)
    (hp : ∀ t, (cfg0.win 5).flush t = true → ((dats m 0 c).after 5 t : S512x1024.Idx → EReal) = p t)
    (hG : ∀ t, (cfg0.win 5).flush t = true → ∀ y, p t y = G (ix2 (Fin.ofNat 512 (0 * 512 + (r0 y).val)) (Fin.ofNat 1024 (0 * 1024 + (c1 y).val)))) :
    ((dats m 0 c).arrAt 5 cfg0.N : S512x1024.Idx → EReal) = G := by
  refine (dats m 0 c).arrAt_eq_of_cover 5 G (fun t hf => ?_) fun i => ?_
  · have ht : t.val < 1 := hN ▸ t.isLt
    refine funext fun (y : S512x1024.Idx) => ?_
    refine (congrFun (hp t hf) y).trans ?_
    rw [View.read_apply]
    exact (hG t hf y).trans (congrArg G (place _ y _ _ _ _ (idx5_0 t) (idx5_1 t) (by omega) (by omega) rfl rfl).symm)
  · have h0 : (i 0 : Nat) < 512 := (i 0).isLt
    have h1 : (i 1 : Nat) < 1024 := (i 1).isLt
    have hlt : (i 0 : Nat) / 512 < cfg0.N := by rw [hN]; omega
    refine ⟨⟨(i 0 : Nat) / 512, hlt⟩, flush0_5 ⟨_, hlt⟩, ?_⟩
    show i ∈ ((View.whole main_v4_1).slice (win0_5.rect ⟨(i 0 : Nat) / 512, hlt⟩)).set
    rw [View.set_slice_whole, Rect.mem_set_unit]
    exact both (within (T := 512) (0) (idx5_0 _) (by omega)) (within (T := 1024) (0) (idx5_1 _) (by omega))

theorem idx6_0 : ∀ t : Fin cfg0.N, win0_6.index t 0 = 0 := by decide +kernel
theorem idx6_1 : ∀ t : Fin cfg0.N, win0_6.index t 1 = 0 := by decide +kernel
theorem arr6 (p : Fin cfg0.N → S512x1024.Idx → EReal) (G : S512x1024.Idx → EReal)
    (hp : ∀ t, (cfg0.win 6).flush t = true → ((dats m 0 c).after 6 t : S512x1024.Idx → EReal) = p t)
    (hG : ∀ t, (cfg0.win 6).flush t = true → ∀ y, p t y = G (ix2 (Fin.ofNat 512 (0 * 512 + (r0 y).val)) (Fin.ofNat 1024 (0 * 1024 + (c1 y).val)))) :
    ((dats m 0 c).arrAt 6 cfg0.N : S512x1024.Idx → EReal) = G := by
  refine (dats m 0 c).arrAt_eq_of_cover 6 G (fun t hf => ?_) fun i => ?_
  · have ht : t.val < 1 := hN ▸ t.isLt
    refine funext fun (y : S512x1024.Idx) => ?_
    refine (congrFun (hp t hf) y).trans ?_
    rw [View.read_apply]
    exact (hG t hf y).trans (congrArg G (place _ y _ _ _ _ (idx6_0 t) (idx6_1 t) (by omega) (by omega) rfl rfl).symm)
  · have h0 : (i 0 : Nat) < 512 := (i 0).isLt
    have h1 : (i 1 : Nat) < 1024 := (i 1).isLt
    have hlt : (i 0 : Nat) / 512 < cfg0.N := by rw [hN]; omega
    refine ⟨⟨(i 0 : Nat) / 512, hlt⟩, flush0_6 ⟨_, hlt⟩, ?_⟩
    show i ∈ ((View.whole main_v4_2).slice (win0_6.rect ⟨(i 0 : Nat) / 512, hlt⟩)).set
    rw [View.set_slice_whole, Rect.mem_set_unit]
    exact both (within (T := 512) (0) (idx6_0 _) (by omega)) (within (T := 1024) (0) (idx6_1 _) (by omega))

end Cert.AdamPleWg

end
-- ==== Proof.AdamPleWg.Value.lean ====
/- The optimiser's call on the per-layer gate weight: the three arrays it returns, index by index. -/
module

public import proofs.«01_k».proof.Proof.AdamPleWg.Geometry

@[expose] public section

noncomputable section

namespace Cert.AdamPleWg

open Cert.Kernel21Ideal Cert.Kernel21Ideal.Gen Cert.Ext Idealize.ShloMosaic Idealize.ShloMosaic.TcCoe Idealize.SL.Sem Cert.Lift Idealize.ShloMosaic.ValueIdx

theorem payG (x : S512x1024.Idx → EReal) : (k0_pay1 (F := Ideal) x : S512x1024.Idx → EReal) = x := by
  unfold k0_pay1
  exact shapeCast_self _ _

theorem payM (x1 x2 : S512x1024.Idx → EReal) : (k0_pay2 (F := Ideal) x1 x2 : S512x1024.Idx → EReal) = fun j => newM (x1 j) (x2 j) := by
  unfold k0_pay2
  dsimp only
  rw [shapeCast_self, payG]
  rfl

theorem payV (x1 x3 : S512x1024.Idx → EReal) : (k0_pay3 (F := Ideal) x1 x3 : S512x1024.Idx → EReal) = fun j => newV (x1 j) (x3 j) := by
  unfold k0_pay3
  dsimp only
  rw [shapeCast_self, payG]
  rfl

theorem payD (x0 x1 x2 x3 : S512x1024.Idx → EReal) : (k0_pay4 (F := Ideal) x1 x2 x3 x0 : S512x1024.Idx → EReal) = fun j => delta (x0 j) (x1 j) (x2 j) (x3 j) := by
  unfold k0_pay4
  dsimp only
  rw [shapeCast_self, payM, payV]
  rfl

theorem block4 (x0 x1 x2 x3 : S512x1024.Idx → EReal) :
    (out0_4 (F := Ideal) x0 x1 x2 x3 : S512x1024.Idx → EReal) = fun j => delta (x0 j) (x1 j) (x2 j) (x3 j) := by
  unfold out0_4
  rw [View.canon_unit_zero hz]
  simp only [View.ld_unit_zero (S := S512x1024) hz]
  exact payD x0 x1 x2 x3

theorem block5 (x0 x1 x2 x3 : S512x1024.Idx → EReal) :
    (out0_5 (F := Ideal) x0 x1 x2 x3 : S512x1024.Idx → EReal) = fun j => newM (x1 j) (x2 j) := by
  unfold out0_5
  rw [View.canon_unit_zero hz]
  simp only [View.ld_unit_zero (S := S512x1024) hz]
  exact payM x1 x2

theorem block6 (x0 x1 x2 x3 : S512x1024.Idx → EReal) :
    (out0_6 (F := Ideal) x0 x1 x2 x3 : S512x1024.Idx → EReal) = fun j => newV (x1 j) (x3 j) := by
  unfold out0_6
  rw [View.canon_unit_zero hz]
  simp only [View.ld_unit_zero (S := S512x1024) hz]
  exact payV x1 x3

variable (m : (ℓ : Loc nD τ sig) → Buf (Elt Ideal) ℓ) (c : Dev nD) (W G M U : S512x1024.Idx → EReal)
  (e0 : (V m c main_v0 : S512x1024.Idx → EReal) = W) (e1 : (V m c main_v1 : S512x1024.Idx → EReal) = G)
  (e2 : (V m c main_v2 : S512x1024.Idx → EReal) = M) (e3 : (V m c main_v3 : S512x1024.Idx → EReal) = U)
include e0 e1 e2 e3

theorem array4 : ((dats m 0 c).arrAt 4 cfg0.N : S512x1024.Idx → EReal) = fun j => delta (W j) (G j) (M j) (U j) :=
  arr4 m c _ _ (fun t _ => ((after0_4 m c t).trans (congr4 (out0_4 (F := Ideal)) (rd0 m c t _ e0) (rd1 m c t _ e1) (rd2 m c t _ e2) (rd3 m c t _ e3))).trans (block4 _ _ _ _)) (fun t _ y => rfl)

theorem array5 : ((dats m 0 c).arrAt 5 cfg0.N : S512x1024.Idx → EReal) = fun j => newM (G j) (M j) :=
  arr5 m c _ _ (fun t _ => ((after0_5 m c t).trans (congr4 (out0_5 (F := Ideal)) (rd0 m c t _ e0) (rd1 m c t _ e1) (rd2 m c t _ e2) (rd3 m c t _ e3))).trans (block5 _ _ _ _)) (fun t _ y => rfl)

theorem array6 : ((dats m 0 c).arrAt 6 cfg0.N : S512x1024.Idx → EReal) = fun j => newV (G j) (U j) :=
  arr6 m c _ _ (fun t _ => ((after0_6 m c t).trans (congr4 (out0_6 (F := Ideal)) (rd0 m c t _ e0) (rd1 m c t _ e1) (rd2 m c t _ e2) (rd3 m c t _ e3))).trans (block6 _ _ _ _)) (fun t _ y => rfl)

end Cert.AdamPleWg

end
-- ==== Proof.AdamPleWg.Claims.lean ====
/- The optimiser's call on the per-layer gate weight: the claims. -/
module

public import proofs.«01_k».proof.Defs
public import proofs.«01_k».proof.Proof.AdamPleWg.Value
public import proofs.«01_k».proof.Proof.Gen.Kernel21.Frame
public import proofs.«01_k».proof.Proof.Gen.Reference21Ideal.Run
public import Idealize.ShloMosaic.Adequacy
public import Idealize.ShloMosaic.Init

@[expose] public section

noncomputable section

namespace Cert.AdamPleWg

open Idealize.ShloMosaic Idealize.ShloMosaic.TcCoe Idealize.SL.Sem Cert.Ext Cert.Lift Idealize.ShloMosaic.ValueIdx

theorem frame_p : Cert.quiescent_Kernel21 := fun m ρ _ => Cert.Kernel21.Gen.frame m ρ
theorem frame_pi : Cert.quiescent_Kernel21Ideal := fun m ρ _ => Cert.Kernel21Ideal.Gen.frame m ρ
theorem frame_ri : Cert.quiescent_Reference21Ideal := fun m ρ _ => (θ_run Cert.Reference21Ideal.defs _ _).mono (fun r h => ⟨fun c => (h c).2.2.2,
      Idealize.ShloMosaic.sem_eq_zero_of_no_sems (by decide) r.2⟩)
    (Cert.Reference21Ideal.Value.run (F := Ideal) m ρ)

theorem preserves : Cert.preserves_Kernel21_Kernel21Ideal := trivial

section
open Cert.Kernel21Ideal Cert.Kernel21Ideal.Gen

/-- The rows of a stacked weight, one after another. -/
abbrev flat (w : Arr ⟨3, ![4, 128, 1024]⟩) : Arr ⟨2, ![512, 1024]⟩ := shapeCast ⟨2, ![512, 1024]⟩ w shapeCasts_S4x128x1024_S512x1024

variable (m : (ℓ : Loc nD τ sig) → Buf (Elt Ideal) ℓ) (c : Dev nD) (w : Arr ⟨3, ![4, 128, 1024]⟩)

theorem at0 (h : m ((c : Thread nD τ).loc main_arg0) = w) : (V m c main_v0 : S512x1024.Idx → EReal) = flat w := by
  rw [← h]
  rfl

theorem at1 (h : m ((c : Thread nD τ).loc main_arg1) = w) : (V m c main_v1 : S512x1024.Idx → EReal) = flat w := by
  rw [← h]
  rfl

theorem at2 (h : m ((c : Thread nD τ).loc main_arg2) = w) : (V m c main_v2 : S512x1024.Idx → EReal) = flat w := by
  rw [← h]
  rfl

theorem at3 (h : m ((c : Thread nD τ).loc main_arg3) = w) : (V m c main_v3 : S512x1024.Idx → EReal) = flat w := by
  rw [← h]
  rfl

end

section
open Cert.Reference21Ideal Cert.Reference21Ideal.Gen
variable (w g m v : Arr ⟨3, ![4, 128, 1024]⟩)

theorem refD : (shapeCast S512x1024 (mulf (F := Ideal) (φ := .f32) (broadcastInDim S4x128x1024 ![] bcast_S_S4x128x1024 (constant (F := Ideal) S_ .f32 0xBA83126F#32)) (addf (F := Ideal) (φ := .f32) (Host.divf (F := Ideal) (φ := .f32) (Host.divf (F := Ideal) (φ := .f32) (addf (F := Ideal) (φ := .f32) (mulf (F := Ideal) (φ := .f32) (broadcastInDim S4x128x1024 ![] bcast_S_S4x128x1024 (constant (F := Ideal) S_ .f32 0x3F666666#32)) m) (mulf (F := Ideal) (φ := .f32) (broadcastInDim S4x128x1024 ![] bcast_S_S4x128x1024 (constant (F := Ideal) S_ .f32 0x3DCCCCCD#32)) g)) (broadcastInDim S4x128x1024 ![] bcast_S_S4x128x1024 (constant (F := Ideal) S_ .f32 0x3F26BD02#32))) (addf (F := Ideal) (φ := .f32) (Host.sqrt (F := Ideal) (φ := .f32) (Host.divf (F := Ideal) (φ := .f32) (addf (F := Ideal) (φ := .f32) (mulf (F := Ideal) (φ := .f32) (broadcastInDim S4x128x1024 ![] bcast_S_S4x128x1024 (constant (F := Ideal) S_ .f32 0x3F7FBE77#32)) v) (mulf (F := Ideal) (φ := .f32) (broadcastInDim S4x128x1024 ![] bcast_S_S4x128x1024 (constant (F := Ideal) S_ .f32 0x3A83126F#32)) (mulf (F := Ideal) (φ := .f32) g g))) (broadcastInDim S4x128x1024 ![] bcast_S_S4x128x1024 (constant (F := Ideal) S_ .f32 0x3C231ACC#32)))) (broadcastInDim S4x128x1024 ![] bcast_S_S4x128x1024 (constant (F := Ideal) S_ .f32 0x322BCC77#32)))) (mulf (F := Ideal) (φ := .f32) (broadcastInDim S4x128x1024 ![] bcast_S_S4x128x1024 (constant (F := Ideal) S_ .f32 0x3C23D70A#32)) w))) shapeCasts_S4x128x1024_S512x1024 : S512x1024.Idx → EReal) = fun j => delta (flat w j) (flat g j) (flat m j) (flat v j) := rfl

theorem refM : (shapeCast S512x1024 (addf (F := Ideal) (φ := .f32) (mulf (F := Ideal) (φ := .f32) (broadcastInDim S4x128x1024 ![] bcast_S_S4x128x1024 (constant (F := Ideal) S_ .f32 0x3F666666#32)) m) (mulf (F := Ideal) (φ := .f32) (broadcastInDim S4x128x1024 ![] bcast_S_S4x128x1024 (constant (F := Ideal) S_ .f32 0x3DCCCCCD#32)) g)) shapeCasts_S4x128x1024_S512x1024 : S512x1024.Idx → EReal) = fun j => newM (flat g j) (flat m j) := rfl

theorem refV : (shapeCast S512x1024 (addf (F := Ideal) (φ := .f32) (mulf (F := Ideal) (φ := .f32) (broadcastInDim S4x128x1024 ![] bcast_S_S4x128x1024 (constant (F := Ideal) S_ .f32 0x3F7FBE77#32)) v) (mulf (F := Ideal) (φ := .f32) (broadcastInDim S4x128x1024 ![] bcast_S_S4x128x1024 (constant (F := Ideal) S_ .f32 0x3A83126F#32)) (mulf (F := Ideal) (φ := .f32) g g))) shapeCasts_S4x128x1024_S512x1024 : S512x1024.Idx → EReal) = fun j => newV (flat g j) (flat v j) := rfl

end

theorem algebraic : Cert.algebraic_Kernel21Ideal_Reference21Ideal := by
  intro m ρ m' ρ' hpre hagree
  refine ⟨_, _, _, Cert.Kernel21Ideal.Value.run_blocks (F := Ideal) m ρ, ?_⟩
  refine (θ_run Cert.Reference21Ideal.defs _ _).mono (fun _ h c => ?_) (Cert.Reference21Ideal.Value.run (F := Ideal) m' ρ')
  obtain ⟨e0, e1, e2, e3⟩ := hagree c
  exact ⟨(h c).1.trans ((refD _ _ _ _).trans (array4 m c (flat _) (flat _) (flat _) (flat _) (at0 m c _ e0.symm) (at1 m c _ e1.symm) (at2 m c _ e2.symm) (at3 m c _ e3.symm)).symm),
    (h c).2.1.trans ((refM _ _).trans (array5 m c (flat _) (flat _) (flat _) (flat _) (at0 m c _ e0.symm) (at1 m c _ e1.symm) (at2 m c _ e2.symm) (at3 m c _ e3.symm)).symm),
    (h c).2.2.1.trans ((refV _ _).trans (array6 m c (flat _) (flat _) (flat _) (flat _) (at0 m c _ e0.symm) (at1 m c _ e1.symm) (at2 m c _ e2.symm) (at3 m c _ e3.symm)).symm), (h c).2.2.2⟩

end Cert.AdamPleWg

end
-- ==== Proof.AdamPleWp.Geometry.lean ====
/- Where the blocks of the grid lie: what a point reads of each array, and that the written blocks fill the results. -/
module

public import proofs.«01_k».proof.Proof.Gen.Kernel22Ideal.Value
public import proofs.«01_k».proof.Proof.Lift.Adam
public import proofs.«01_k».proof.Proof.Lift.Place

@[expose] public section

noncomputable section

namespace Cert.AdamPleWp

open Cert.Kernel22Ideal Cert.Kernel22Ideal.Gen Cert.Ext Idealize.ShloMosaic Idealize.ShloMosaic.TcCoe Idealize.SL.Sem Cert.Lift Idealize.ShloMosaic.ValueIdx
open Idealize.ShloMosaic.Pipeline (Dat)

variable (m : (ℓ : Loc nD τ sig) → Buf (Elt Ideal) ℓ) (c : Dev nD)

theorem hN : cfg0.N = 2 := N_0

/-! ### The input blocks -/

theorem idx0_0 : ∀ t : Fin cfg0.N, win0_0.index t 0 = t.val := by decide +kernel
theorem idx0_1 : ∀ t : Fin cfg0.N, win0_0.index t 1 = 0 := by decide +kernel
theorem rd0 (t : Fin cfg0.N) (a : S1024x128.Idx → EReal) (h : (V m c main_v0 : S1024x128.Idx → EReal) = a) :
    (iblk m c 0 t : S512x128.Idx → EReal) = fun y => a (ix2 (Fin.ofNat 1024 (t.val * 512 + (r0 y).val)) (Fin.ofNat 128 (0 * 128 + (c1 y).val))) := by
  have ht : t.val < 2 := hN ▸ t.isLt
  funext y
  unfold iblk
  rw [View.read_apply]
  exact (congrFun h _).trans (congrArg a (place _ y _ _ _ _ (idx0_0 t) (idx0_1 t) (by omega) (by omega) rfl rfl))

theorem idx1_0 : ∀ t : Fin cfg0.N, win0_1.index t 0 = t.val := by decide +kernel
theorem idx1_1 : ∀ t : Fin cfg0.N, win0_1.index t 1 = 0 := by decide +kernel
theorem rd1 (t : Fin cfg0.N) (a : S1024x128.Idx → EReal) (h : (V m c main_v1 : S1024x128.Idx → EReal) = a) :
    (iblk m c 1 t : S512x128.Idx → EReal) = fun y => a (ix2 (Fin.ofNat 1024 (t.val * 512 + (r0 y).val)) (Fin.ofNat 128 (0 * 128 + (c1 y).val))) := by
  have ht : t.val < 2 := hN ▸ t.isLt
  funext y
  unfold iblk
  rw [View.read_apply]
  exact (congrFun h _).trans (congrArg a (place _ y _ _ _ _ (idx1_0 t) (idx1_1 t) (by omega) (by omega) rfl rfl))

theorem idx2_0 : ∀ t : Fin cfg0.N, win0_2.index t 0 = t.val := by decide +kernel
theorem idx2_1 : ∀ t : Fin cfg0.N, win0_2.index t 1 = 0 := by decide +kernel
theorem rd2 (t : Fin cfg0.N) (a : S1024x128.Idx → EReal) (h : (V m c main_v2 : S1024x128.Idx → EReal) = a) :
    (iblk m c 2 t : S512x128.Idx → EReal) = fun y => a (ix2 (Fin.ofNat 1024 (t.val * 512 + (r0 y).val)) (Fin.ofNat 128 (0 * 128 + (c1 y).val))) := by
  have ht : t.val < 2 := hN ▸ t.isLt
  funext y
  unfold iblk
  rw [View.read_apply]
  exact (congrFun h _).trans (congrArg a (place _ y _ _ _ _ (idx2_0 t) (idx2_1 t) (by omega) (by omega) rfl rfl))

theorem idx3_0 : ∀ t : Fin cfg0.N, win0_3.index t 0 = t.val := by decide +kernel
theorem idx3_1 : ∀ t : Fin cfg0.N, win0_3.index t 1 = 0 := by decide +kernel
theorem rd3 (t : Fin cfg0.N) (a : S1024x128.Idx → EReal) (h : (V m c main_v3 : S1024x128.Idx → EReal) = a) :
    (iblk m c 3 t : S512x128.Idx → EReal) = fun y => a (ix2 (Fin.ofNat 1024 (t.val * 512 + (r0 y).val)) (Fin.ofNat 128 (0 * 128 + (c1 y).val))) := by
  have ht : t.val < 2 := hN ▸ t.isLt
  funext y
  unfold iblk
  rw [View.read_apply]
  exact (congrFun h _).trans (congrArg a (place _ y _ _ _ _ (idx3_0 t) (idx3_1 t) (by omega) (by omega) rfl rfl))

/-! ### The output arrays -/

theorem idx4_0 : ∀ t : Fin cfg0.N, win0_4.index t 0 = t.val := by decide +kernel
theorem idx4_1 : ∀ t : Fin cfg0.N, win0_4.index t 1 = 0 := by decide +kernel
theorem arr4 (p : Fin cfg0.N → S512x128.Idx → EReal) (G : S1024x128.Idx → EReal)
    (hp : ∀ t, (cfg0.win 4).flush t = true → ((dats m 0 c).after 4 t : S512x128.Idx → EReal) = p t)
    (hG : ∀ t, (cfg0.win 4).flush t = true → ∀ y, p t y = G (ix2 (Fin.ofNat 1024 (t.val * 512 + (r0 y).val)) (Fin.ofNat 128 (0 * 128 + (c1 y).val)))) :
    ((dats m 0 c).arrAt 4 cfg0.N : S1024x128.Idx → EReal) = G := by
  refine (dats m 0 c).arrAt_eq_of_cover 4 G (fun t hf => ?_) fun i => ?_
  · have ht : t.val < 2 := hN ▸ t.isLt
    refine funext fun (y : S512x128.Idx) => ?_
    refine (congrFun (hp t hf) y).trans ?_
    rw [View.read_apply]
    exact (hG t hf y).trans (congrArg G (place _ y _ _ _ _ (idx4_0 t) (idx4_1 t) (by omega) (by omega) rfl rfl).symm)
  · have h0 : (i 0 : Nat) < 1024 := (i 0).isLt
    have h1 : (i 1 : Nat) < 128 := (i 1).isLt
    have hlt : (i 0 : Nat) / 512 < cfg0.N := by rw [hN]; omega
    refine ⟨⟨(i 0 : Nat) / 512, hlt⟩, flush0_4 ⟨_, hlt⟩, ?_⟩
    show i ∈ ((View.whole main_v4_0).slice (win0_4.rect ⟨(i 0 : Nat) / 512, hlt⟩)).set
    rw [View.set_slice_whole, Rect.mem_set_unit]
    exact both (within (T := 512) (((i 0 : Nat) / 512)) (idx4_0 _) (by omega)) (within (T := 128) (0) (idx4_1 _) (by omega))

theorem idx5_0 : ∀ t : Fin cfg0.N, win0_5.index t 0 = t.val := by decide +kernel
theorem idx5_1 : ∀ t : Fin cfg0.N, win0_5.index t 1 = 0 := by decide +kernel
theorem arr5 (p : Fin cfg0.N → S512x128.Idx → EReal) (G : S1024x128.Idx → EReal)
    (hp : ∀ t, (cfg0.win 5).flush t = true → ((dats m 0 c).after 5 t : S512x128.Idx → EReal) = p t)
    (hG : ∀ t, (cfg0.win 5).flush t = true → ∀ y, p t y = G (ix2 (Fin.ofNat 1024 (t.val * 512 + (r0 y).val)) (Fin.ofNat 128 (0 * 128 + (c1 y).val)))) :
    ((dats m 0 c).arrAt 5 cfg0.N : S1024x128.Idx → EReal) = G := by
  refine (dats m 0 c).arrAt_eq_of_cover 5 G (fun t hf => ?_) fun i => ?_
  · have ht : t.val < 2 := hN ▸ t.isLt
    refine funext fun (y : S512x128.Idx) => ?_
    refine (congrFun (hp t hf) y).trans ?_
    rw [View.read_apply]
    exact (hG t hf y).trans (congrArg G (place _ y _ _ _ _ (idx5_0 t) (idx5_1 t) (by omega) (by omega) rfl rfl).symm)
  · have h0 : (i 0 : Nat) < 1024 := (i 0).isLt
    have h1 : (i 1 : Nat) < 128 := (i 1).isLt
    have hlt : (i 0 : Nat) / 512 < cfg0.N := by rw [hN]; omega
    refine ⟨⟨(i 0 : Nat) / 512, hlt⟩, flush0_5 ⟨_, hlt⟩, ?_⟩
    show i ∈ ((View.whole main_v4_1).slice (win0_5.rect ⟨(i 0 : Nat) / 512, hlt⟩)).set
    rw [View.set_slice_whole, Rect.mem_set_unit]
    exact both (within (T := 512) (((i 0 : Nat) / 512)) (idx5_0 _) (by omega)) (within (T := 128) (0) (idx5_1 _) (by omega))

theorem idx6_0 : ∀ t : Fin cfg0.N, win0_6.index t 0 = t.val := by decide +kernel
theorem idx6_1 : ∀ t : Fin cfg0.N, win0_6.index t 1 = 0 := by decide +kernel
theorem arr6 (p : Fin cfg0.N → S512x128.Idx → EReal) (G : S1024x128.Idx → EReal)
    (hp : ∀ t, (cfg0.win 6).flush t = true → ((dats m 0 c).after 6 t : S512x128.Idx → EReal) = p t)
    (hG : ∀ t, (cfg0.win 6).flush t = true → ∀ y, p t y = G (ix2 (Fin.ofNat 1024 (t.val * 512 + (r0 y).val)) (Fin.ofNat 128 (0 * 128 + (c1 y).val)))) :
    ((dats m 0 c).arrAt 6 cfg0.N : S1024x128.Idx → EReal) = G := by
  refine (dats m 0 c).arrAt_eq_of_cover 6 G (fun t hf => ?_) fun i => ?_
  · have ht : t.val < 2 := hN ▸ t.isLt
    refine funext fun (y : S512x128.Idx) => ?_
    refine (congrFun (hp t hf) y).trans ?_
    rw [View.read_apply]
    exact (hG t hf y).trans (congrArg G (place _ y _ _ _ _ (idx6_0 t) (idx6_1 t) (by omega) (by omega) rfl rfl).symm)
  · have h0 : (i 0 : Nat) < 1024 := (i 0).isLt
    have h1 : (i 1 : Nat) < 128 := (i 1).isLt
    have hlt : (i 0 : Nat) / 512 < cfg0.N := by rw [hN]; omega
    refine ⟨⟨(i 0 : Nat) / 512, hlt⟩, flush0_6 ⟨_, hlt⟩, ?_⟩
    show i ∈ ((View.whole main_v4_2).slice (win0_6.rect ⟨(i 0 : Nat) / 512, hlt⟩)).set
    rw [View.set_slice_whole, Rect.mem_set_unit]
    exact both (within (T := 512) (((i 0 : Nat) / 512)) (idx6_0 _) (by omega)) (within (T := 128) (0) (idx6_1 _) (by omega))

end Cert.AdamPleWp

end
-- ==== Proof.AdamPleWp.Value.lean ====
/- The optimiser's call on the per-layer projection weight: the three arrays it returns, index by index. -/
module

public import proofs.«01_k».proof.Proof.AdamPleWp.Geometry

@[expose] public section

noncomputable section

namespace Cert.AdamPleWp

open Cert.Kernel22Ideal Cert.Kernel22Ideal.Gen Cert.Ext Idealize.ShloMosaic Idealize.ShloMosaic.TcCoe Idealize.SL.Sem Cert.Lift Idealize.ShloMosaic.ValueIdx

theorem payG (x : S512x128.Idx → EReal) : (k0_pay1 (F := Ideal) x : S512x128.Idx → EReal) = x := by
  unfold k0_pay1
  exact shapeCast_self _ _

theorem payM (x1 x2 : S512x128.Idx → EReal) : (k0_pay2 (F := Ideal) x1 x2 : S512x128.Idx → EReal) = fun j => newM (x1 j) (x2 j) := by
  unfold k0_pay2
  dsimp only
  rw [shapeCast_self, payG]
  rfl

theorem payV (x1 x3 : S512x128.Idx → EReal) : (k0_pay3 (F := Ideal) x1 x3 : S512x128.Idx → EReal) = fun j => newV (x1 j) (x3 j) := by
  unfold k0_pay3
  dsimp only
  rw [shapeCast_self, payG]
  rfl

theorem payD (x0 x1 x2 x3 : S512x128.Idx → EReal) : (k0_pay4 (F := Ideal) x1 x2 x3 x0 : S512x128.Idx → EReal) = fun j => delta (x0 j) (x1 j) (x2 j) (x3 j) := by
  unfold k0_pay4
  dsimp only
  rw [shapeCast_self, payM, payV]
  rfl

theorem block4 (x0 x1 x2 x3 : S512x128.Idx → EReal) :
    (out0_4 (F := Ideal) x0 x1 x2 x3 : S512x128.Idx → EReal) = fun j => delta (x0 j) (x1 j) (x2 j) (x3 j) := by
  unfold out0_4
  rw [View.canon_unit_zero hz]
  simp only [View.ld_unit_zero (S := S512x128) hz]
  exact payD x0 x1 x2 x3

theorem block5 (x0 x1 x2 x3 : S512x128.Idx → EReal) :
    (out0_5 (F := Ideal) x0 x1 x2 x3 : S512x128.Idx → EReal) = fun j => newM (x1 j) (x2 j) := by
  unfold out0_5
  rw [View.canon_unit_zero hz]
  simp only [View.ld_unit_zero (S := S512x128) hz]
  exact payM x1 x2

theorem block6 (x0 x1 x2 x3 : S512x128.Idx → EReal) :
    (out0_6 (F := Ideal) x0 x1 x2 x3 : S512x128.Idx → EReal) = fun j => newV (x1 j) (x3 j) := by
  unfold out0_6
  rw [View.canon_unit_zero hz]
  simp only [View.ld_unit_zero (S := S512x128) hz]
  exact payV x1 x3

variable (m : (ℓ : Loc nD τ sig) → Buf (Elt Ideal) ℓ) (c : Dev nD) (W G M U : S1024x128.Idx → EReal)
  (e0 : (V m c main_v0 : S1024x128.Idx → EReal) = W) (e1 : (V m c main_v1 : S1024x128.Idx → EReal) = G)
  (e2 : (V m c main_v2 : S1024x128.Idx → EReal) = M) (e3 : (V m c main_v3 : S1024x128.Idx → EReal) = U)
include e0 e1 e2 e3

theorem array4 : ((dats m 0 c).arrAt 4 cfg0.N : S1024x128.Idx → EReal) = fun j => delta (W j) (G j) (M j) (U j) :=
  arr4 m c _ _ (fun t _ => ((after0_4 m c t).trans (congr4 (out0_4 (F := Ideal)) (rd0 m c t _ e0) (rd1 m c t _ e1) (rd2 m c t _ e2) (rd3 m c t _ e3))).trans (block4 _ _ _ _)) (fun t _ y => rfl)

theorem array5 : ((dats m 0 c).arrAt 5 cfg0.N : S1024x128.Idx → EReal) = fun j => newM (G j) (M j) :=
  arr5 m c _ _ (fun t _ => ((after0_5 m c t).trans (congr4 (out0_5 (F := Ideal)) (rd0 m c t _ e0) (rd1 m c t _ e1) (rd2 m c t _ e2) (rd3 m c t _ e3))).trans (block5 _ _ _ _)) (fun t _ y => rfl)

theorem array6 : ((dats m 0 c).arrAt 6 cfg0.N : S1024x128.Idx → EReal) = fun j => newV (G j) (U j) :=
  arr6 m c _ _ (fun t _ => ((after0_6 m c t).trans (congr4 (out0_6 (F := Ideal)) (rd0 m c t _ e0) (rd1 m c t _ e1) (rd2 m c t _ e2) (rd3 m c t _ e3))).trans (block6 _ _ _ _)) (fun t _ y => rfl)

end Cert.AdamPleWp

end
-- ==== Proof.AdamPleWp.Claims.lean ====
/- The optimiser's call on the per-layer projection weight: the claims. -/
module

public import proofs.«01_k».proof.Defs
public import proofs.«01_k».proof.Proof.AdamPleWp.Value
public import proofs.«01_k».proof.Proof.Gen.Kernel22.Frame
public import proofs.«01_k».proof.Proof.Gen.Reference22Ideal.Run
public import Idealize.ShloMosaic.Adequacy
public import Idealize.ShloMosaic.Init

@[expose] public section

noncomputable section

namespace Cert.AdamPleWp

open Idealize.ShloMosaic Idealize.ShloMosaic.TcCoe Idealize.SL.Sem Cert.Ext Cert.Lift Idealize.ShloMosaic.ValueIdx

theorem frame_p : Cert.quiescent_Kernel22 := fun m ρ _ => Cert.Kernel22.Gen.frame m ρ
theorem frame_pi : Cert.quiescent_Kernel22Ideal := fun m ρ _ => Cert.Kernel22Ideal.Gen.frame m ρ
theorem frame_ri : Cert.quiescent_Reference22Ideal := fun m ρ _ => (θ_run Cert.Reference22Ideal.defs _ _).mono (fun r h => ⟨fun c => (h c).2.2.2,
      Idealize.ShloMosaic.sem_eq_zero_of_no_sems (by decide) r.2⟩)
    (Cert.Reference22Ideal.Value.run (F := Ideal) m ρ)

theorem preserves : Cert.preserves_Kernel22_Kernel22Ideal := trivial

section
open Cert.Kernel22Ideal Cert.Kernel22Ideal.Gen

/-- The rows of a stacked weight, one after another. -/
abbrev flat (w : Arr ⟨3, ![4, 256, 128]⟩) : Arr ⟨2, ![1024, 128]⟩ := shapeCast ⟨2, ![1024, 128]⟩ w shapeCasts_S4x256x128_S1024x128

variable (m : (ℓ : Loc nD τ sig) → Buf (Elt Ideal) ℓ) (c : Dev nD) (w : Arr ⟨3, ![4, 256, 128]⟩)

theorem at0 (h : m ((c : Thread nD τ).loc main_arg0) = w) : (V m c main_v0 : S1024x128.Idx → EReal) = flat w := by
  rw [← h]
  rfl

theorem at1 (h : m ((c : Thread nD τ).loc main_arg1) = w) : (V m c main_v1 : S1024x128.Idx → EReal) = flat w := by
  rw [← h]
  rfl

theorem at2 (h : m ((c : Thread nD τ).loc main_arg2) = w) : (V m c main_v2 : S1024x128.Idx → EReal) = flat w := by
  rw [← h]
  rfl

theorem at3 (h : m ((c : Thread nD τ).loc main_arg3) = w) : (V m c main_v3 : S1024x128.Idx → EReal) = flat w := by
  rw [← h]
  rfl

end

section
open Cert.Reference22Ideal Cert.Reference22Ideal.Gen
variable (w g m v : Arr ⟨3, ![4, 256, 128]⟩)

theorem refD : (shapeCast S1024x128 (mulf (F := Ideal) (φ := .f32) (broadcastInDim S4x256x128 ![] bcast_S_S4x256x128 (constant (F := Ideal) S_ .f32 0xBA83126F#32)) (addf (F := Ideal) (φ := .f32) (Host.divf (F := Ideal) (φ := .f32) (Host.divf (F := Ideal) (φ := .f32) (addf (F := Ideal) (φ := .f32) (mulf (F := Ideal) (φ := .f32) (broadcastInDim S4x256x128 ![] bcast_S_S4x256x128 (constant (F := Ideal) S_ .f32 0x3F666666#32)) m) (mulf (F := Ideal) (φ := .f32) (broadcastInDim S4x256x128 ![] bcast_S_S4x256x128 (constant (F := Ideal) S_ .f32 0x3DCCCCCD#32)) g)) (broadcastInDim S4x256x128 ![] bcast_S_S4x256x128 (constant (F := Ideal) S_ .f32 0x3F26BD02#32))) (addf (F := Ideal) (φ := .f32) (Host.sqrt (F := Ideal) (φ := .f32) (Host.divf (F := Ideal) (φ := .f32) (addf (F := Ideal) (φ := .f32) (mulf (F := Ideal) (φ := .f32) (broadcastInDim S4x256x128 ![] bcast_S_S4x256x128 (constant (F := Ideal) S_ .f32 0x3F7FBE77#32)) v) (mulf (F := Ideal) (φ := .f32) (broadcastInDim S4x256x128 ![] bcast_S_S4x256x128 (constant (F := Ideal) S_ .f32 0x3A83126F#32)) (mulf (F := Ideal) (φ := .f32) g g))) (broadcastInDim S4x256x128 ![] bcast_S_S4x256x128 (constant (F := Ideal) S_ .f32 0x3C231ACC#32)))) (broadcastInDim S4x256x128 ![] bcast_S_S4x256x128 (constant (F := Ideal) S_ .f32 0x322BCC77#32)))) (mulf (F := Ideal) (φ := .f32) (broadcastInDim S4x256x128 ![] bcast_S_S4x256x128 (constant (F := Ideal) S_ .f32 0x3C23D70A#32)) w))) shapeCasts_S4x256x128_S1024x128 : S1024x128.Idx → EReal) = fun j => delta (flat w j) (flat g j) (flat m j) (flat v j) := rfl

theorem refM : (shapeCast S1024x128 (addf (F := Ideal) (φ := .f32) (mulf (F := Ideal) (φ := .f32) (broadcastInDim S4x256x128 ![] bcast_S_S4x256x128 (constant (F := Ideal) S_ .f32 0x3F666666#32)) m) (mulf (F := Ideal) (φ := .f32) (broadcastInDim S4x256x128 ![] bcast_S_S4x256x128 (constant (F := Ideal) S_ .f32 0x3DCCCCCD#32)) g)) shapeCasts_S4x256x128_S1024x128 : S1024x128.Idx → EReal) = fun j => newM (flat g j) (flat m j) := rfl

theorem refV : (shapeCast S1024x128 (addf (F := Ideal) (φ := .f32) (mulf (F := Ideal) (φ := .f32) (broadcastInDim S4x256x128 ![] bcast_S_S4x256x128 (constant (F := Ideal) S_ .f32 0x3F7FBE77#32)) v) (mulf (F := Ideal) (φ := .f32) (broadcastInDim S4x256x128 ![] bcast_S_S4x256x128 (constant (F := Ideal) S_ .f32 0x3A83126F#32)) (mulf (F := Ideal) (φ := .f32) g g))) shapeCasts_S4x256x128_S1024x128 : S1024x128.Idx → EReal) = fun j => newV (flat g j) (flat v j) := rfl

end

theorem algebraic : Cert.algebraic_Kernel22Ideal_Reference22Ideal := by
  intro m ρ m' ρ' hpre hagree
  refine ⟨_, _, _, Cert.Kernel22Ideal.Value.run_blocks (F := Ideal) m ρ, ?_⟩
  refine (θ_run Cert.Reference22Ideal.defs _ _).mono (fun _ h c => ?_) (Cert.Reference22Ideal.Value.run (F := Ideal) m' ρ')
  obtain ⟨e0, e1, e2, e3⟩ := hagree c
  exact ⟨(h c).1.trans ((refD _ _ _ _).trans (array4 m c (flat _) (flat _) (flat _) (flat _) (at0 m c _ e0.symm) (at1 m c _ e1.symm) (at2 m c _ e2.symm) (at3 m c _ e3.symm)).symm),
    (h c).2.1.trans ((refM _ _).trans (array5 m c (flat _) (flat _) (flat _) (flat _) (at0 m c _ e0.symm) (at1 m c _ e1.symm) (at2 m c _ e2.symm) (at3 m c _ e3.symm)).symm),
    (h c).2.2.1.trans ((refV _ _).trans (array6 m c (flat _) (flat _) (flat _) (flat _) (at0 m c _ e0.symm) (at1 m c _ e1.symm) (at2 m c _ e2.symm) (at3 m c _ e3.symm)).symm), (h c).2.2.2⟩

end Cert.AdamPleWp

end
-- ==== Proof.Lift.Natural.lean ====
/- Layout operations move numbers about and compute none: they commute with any map of the numbers. -/
module

public import proofs.«01_k».proof.Proof.Lift.Basic
public import Idealize.ShloMosaic.Lib.Pointwise.SelectCore

@[expose] public section

noncomputable section

namespace Cert.Lift

open Idealize.ShloMosaic

variable {α β : Type}

/-- An array of a list, its numbers mapped. -/
def mapped (f : α → β) (p : (s : Shape) × (s.Idx → α)) : (s : Shape) × (s.Idx → β) := ⟨p.1, fun i => f (p.2 i)⟩

theorem joinAt_map (f : α → β) {t : Shape} (a : Fin t.rank) (j : t.Idx) :
    ∀ (xs : List ((s : Shape) × (s.Idx → α))) (hs : ∀ s ∈ xs.map (·.1), s.FitsOff t a) (hs' : ∀ s ∈ (xs.map (mapped f)).map (·.1), s.FitsOff t a)
      (c : Nat) (hc : c < (axisSizes t a xs).sum) (hc' : c < (axisSizes t a (xs.map (mapped f))).sum),
      concatenateAt t a j (xs.map (mapped f)) hs' c hc' = f (concatenateAt t a j xs hs c hc)
  | [], _, _, _, hc, _ => absurd hc (Nat.not_lt_zero _)
  | [_], _, _, _, _, _ => rfl
  | ⟨s, x⟩ :: q :: xs, hs, hs', c, hc, hc' => by
    have e := concatenateAt_cons a j x q xs hs c hc
    have e' := concatenateAt_cons a j (fun i => f (x i)) (mapped f q) (xs.map (mapped f)) hs' c hc'
    refine e'.trans (Eq.trans ?_ (congrArg f e).symm)
    split
    · rfl
    · exact joinAt_map f a j (q :: xs) _ _ _ _ _

/-- Joining arrays commutes with a map of the numbers. -/
theorem join_map (f : α → β) (t : Shape) (a : Fin t.rank) (xs : List ((s : Shape) × (s.Idx → α))) (h : Shape.Concatenates (xs.map (·.1)) t a)
    (h' : Shape.Concatenates ((xs.map (mapped f)).map (·.1)) t a) (j : t.Idx) :
    concatenate t a (xs.map (mapped f)) h' j = f (concatenate t a xs h j) := by
  rw [concatenate_apply, concatenate_apply]
  exact joinAt_map f a j xs _ _ _ _ _

/-- Padding commutes with a map of the numbers, the padding's own included. -/
theorem pad_map (f : α → β) {s t : Shape} (lo hi interior : Fin s.rank → Nat) (x : s.Idx → α) (v : (⟨0, ![]⟩ : Shape).Idx → α) (h : s.Pads lo hi interior t) (h0) (j : t.Idx) :
    pad t lo hi interior (fun i => f (x i)) (fun i => f (v i)) h h0 j = f (pad t lo hi interior x v h h0 j) := by
  unfold pad
  split <;> rfl

end Cert.Lift

end
-- ==== Proof.AdamSmall.Pack.lean ====
/- The nineteen small weights packed one after another into rows of 128, and that packing moves numbers about without computing any. -/
module

public import proofs.«01_k».proof.Proof.Gen.Kernel23Ideal
public import proofs.«01_k».proof.Proof.Lift.Natural
public import proofs.«01_k».proof.Proof.Lift.Adam

@[expose] public section

noncomputable section

namespace Cert.AdamSmall

open Cert.Kernel23Ideal Cert.Kernel23Ideal.Gen Idealize.ShloMosaic Cert.Lift

variable {α β : Type}

/-- Nineteen arrays of the small weights' shapes. -/
structure Leaves (α : Type) where
  l0 : S4x1024.Idx → α
  l1 : S4x2x4.Idx → α
  l2 : S4x2x4.Idx → α
  l3 : S4x128.Idx → α
  l4 : S4x512.Idx → α
  l5 : S4x2x8x64x64.Idx → α
  l6 : S4x2x8x64x64.Idx → α
  l7 : S4x512.Idx → α
  l8 : S4x1024.Idx → α
  l9 : S4x2816.Idx → α
  l10 : S4x1024.Idx → α
  l11 : S4x1024.Idx → α
  l12 : S1024.Idx → α
  l13 : S4x4x192.Idx → α
  l14 : S4x4x64.Idx → α
  l15 : S4x2x64.Idx → α
  l16 : S4x2x64.Idx → α
  l17 : S4x2x64.Idx → α
  l18 : S4x3x352.Idx → α

/-- Every number mapped. -/
def Leaves.map (f : α → β) (x : Leaves α) : Leaves β := ⟨fun i => f (x.l0 i), fun i => f (x.l1 i), fun i => f (x.l2 i), fun i => f (x.l3 i), fun i => f (x.l4 i), fun i => f (x.l5 i), fun i => f (x.l6 i), fun i => f (x.l7 i), fun i => f (x.l8 i), fun i => f (x.l9 i), fun i => f (x.l10 i), fun i => f (x.l11 i), fun i => f (x.l12 i), fun i => f (x.l13 i), fun i => f (x.l14 i), fun i => f (x.l15 i), fun i => f (x.l16 i), fun i => f (x.l17 i), fun i => f (x.l18 i)⟩

/-- The arrays as rows of numbers, one after another, in the two runs they are joined in. -/
def runA (x : Leaves α) : List ((s : Shape) × (s.Idx → α)) := [⟨S4096, shapeCast S4096 x.l0 shapeCasts_S4x1024_S4096⟩, ⟨S32, shapeCast S32 x.l1 shapeCasts_S4x2x4_S32⟩, ⟨S32, shapeCast S32 x.l2 shapeCasts_S4x2x4_S32⟩, ⟨S512, shapeCast S512 x.l3 shapeCasts_S4x128_S512⟩, ⟨S2048, shapeCast S2048 x.l4 shapeCasts_S4x512_S2048⟩, ⟨S262144, shapeCast S262144 x.l5 shapeCasts_S4x2x8x64x64_S262144⟩, ⟨S262144, shapeCast S262144 x.l6 shapeCasts_S4x2x8x64x64_S262144⟩, ⟨S2048, shapeCast S2048 x.l7 shapeCasts_S4x512_S2048⟩, ⟨S4096, shapeCast S4096 x.l8 shapeCasts_S4x1024_S4096⟩, ⟨S11264, shapeCast S11264 x.l9 shapeCasts_S4x2816_S11264⟩, ⟨S4096, shapeCast S4096 x.l10 shapeCasts_S4x1024_S4096⟩, ⟨S4096, shapeCast S4096 x.l11 shapeCasts_S4x1024_S4096⟩, ⟨S1024, x.l12⟩, ⟨S3072, shapeCast S3072 x.l13 shapeCasts_S4x4x192_S3072⟩, ⟨S1024, shapeCast S1024 x.l14 shapeCasts_S4x4x64_S1024⟩, ⟨S512, shapeCast S512 x.l15 shapeCasts_S4x2x64_S512⟩]
def runB (x : Leaves α) : List ((s : Shape) × (s.Idx → α)) := [⟨S512, shapeCast S512 x.l16 shapeCasts_S4x2x64_S512⟩, ⟨S512, shapeCast S512 x.l17 shapeCasts_S4x2x64_S512⟩, ⟨S4224, shapeCast S4224 x.l18 shapeCasts_S4x3x352_S4224⟩]

def joinA (x : Leaves α) : S562240.Idx → α := concatenate S562240 0 (runA x) concatenates_S4096_S32_S32_S512_S2048_S262144_S262144_S2048_S4096_S11264_S4096_S4096_S1024_S3072_S1024_S512_S562240_d0
def joinB (x : Leaves α) : S5248.Idx → α := concatenate S5248 0 (runB x) concatenates_S512_S512_S4224_S5248_d0
def joined (x : Leaves α) : S567488.Idx → α := concatenate S567488 0 [⟨S562240, joinA x⟩, ⟨S5248, joinB x⟩] concatenates_S562240_S5248_S567488_d0

/-- The packed rows: the arrays one after another, then `z` up to a whole number of rows. -/
def pack (z : S_.Idx → α) (x : Leaves α) : S4480x128.Idx → α :=
  shapeCast S4480x128 (pad S573440 ![0] ![5952] ![0] (joined x) z pads_S567488_S573440_059520 h_S_) shapeCasts_S573440_S4480x128

/-- The packed rows from the two runs joined. -/
def packed (z : S_.Idx → α) (a : S562240.Idx → α) (b : S5248.Idx → α) : S4480x128.Idx → α :=
  shapeCast S4480x128 (pad S573440 ![0] ![5952] ![0] (concatenate S567488 0 [⟨S562240, a⟩, ⟨S5248, b⟩] concatenates_S562240_S5248_S567488_d0) z pads_S567488_S573440_059520 h_S_) shapeCasts_S573440_S4480x128

/-- Arrays equal one by one are equal joined. -/
theorem sixteen {a0 b0 : S4096.Idx → α} { a1 b1 : S32.Idx → α} { a2 b2 : S32.Idx → α} { a3 b3 : S512.Idx → α} { a4 b4 : S2048.Idx → α} { a5 b5 : S262144.Idx → α} { a6 b6 : S262144.Idx → α} { a7 b7 : S2048.Idx → α} { a8 b8 : S4096.Idx → α} { a9 b9 : S11264.Idx → α} { a10 b10 : S4096.Idx → α} { a11 b11 : S4096.Idx → α} { a12 b12 : S1024.Idx → α} { a13 b13 : S3072.Idx → α} { a14 b14 : S1024.Idx → α} { a15 b15 : S512.Idx → α}
    (h0 : a0 = b0)    (h1 : a1 = b1)    (h2 : a2 = b2)    (h3 : a3 = b3)    (h4 : a4 = b4)    (h5 : a5 = b5)    (h6 : a6 = b6)    (h7 : a7 = b7)    (h8 : a8 = b8)    (h9 : a9 = b9)    (h10 : a10 = b10)    (h11 : a11 = b11)    (h12 : a12 = b12)    (h13 : a13 = b13)    (h14 : a14 = b14)    (h15 : a15 = b15) :
    concatenate S562240 0 [⟨S4096, a0⟩, ⟨S32, a1⟩, ⟨S32, a2⟩, ⟨S512, a3⟩, ⟨S2048, a4⟩, ⟨S262144, a5⟩, ⟨S262144, a6⟩, ⟨S2048, a7⟩, ⟨S4096, a8⟩, ⟨S11264, a9⟩, ⟨S4096, a10⟩, ⟨S4096, a11⟩, ⟨S1024, a12⟩, ⟨S3072, a13⟩, ⟨S1024, a14⟩, ⟨S512, a15⟩] concatenates_S4096_S32_S32_S512_S2048_S262144_S262144_S2048_S4096_S11264_S4096_S4096_S1024_S3072_S1024_S512_S562240_d0
      = concatenate S562240 0 [⟨S4096, b0⟩, ⟨S32, b1⟩, ⟨S32, b2⟩, ⟨S512, b3⟩, ⟨S2048, b4⟩, ⟨S262144, b5⟩, ⟨S262144, b6⟩, ⟨S2048, b7⟩, ⟨S4096, b8⟩, ⟨S11264, b9⟩, ⟨S4096, b10⟩, ⟨S4096, b11⟩, ⟨S1024, b12⟩, ⟨S3072, b13⟩, ⟨S1024, b14⟩, ⟨S512, b15⟩] concatenates_S4096_S32_S32_S512_S2048_S262144_S262144_S2048_S4096_S11264_S4096_S4096_S1024_S3072_S1024_S512_S562240_d0 := by
  subst h0 h1 h2 h3 h4 h5 h6 h7 h8 h9 h10 h11 h12 h13 h14 h15
  rfl

theorem three {a0 b0 a1 b1 : S512.Idx → α} {a2 b2 : S4224.Idx → α} (h0 : a0 = b0) (h1 : a1 = b1) (h2 : a2 = b2) :
    concatenate S5248 0 [⟨S512, a0⟩, ⟨S512, a1⟩, ⟨S4224, a2⟩] concatenates_S512_S512_S4224_S5248_d0
      = concatenate S5248 0 [⟨S512, b0⟩, ⟨S512, b1⟩, ⟨S4224, b2⟩] concatenates_S512_S512_S4224_S5248_d0 := by
  subst h0 h1 h2
  rfl

theorem joinA_map (f : α → β) (x : Leaves α) : joinA (x.map f) = fun j => f (joinA x j) :=
  funext fun j => join_map f S562240 0 (runA x) concatenates_S4096_S32_S32_S512_S2048_S262144_S262144_S2048_S4096_S11264_S4096_S4096_S1024_S3072_S1024_S512_S562240_d0 concatenates_S4096_S32_S32_S512_S2048_S262144_S262144_S2048_S4096_S11264_S4096_S4096_S1024_S3072_S1024_S512_S562240_d0 j

theorem joinB_map (f : α → β) (x : Leaves α) : joinB (x.map f) = fun j => f (joinB x j) :=
  funext fun j => join_map f S5248 0 (runB x) concatenates_S512_S512_S4224_S5248_d0 concatenates_S512_S512_S4224_S5248_d0 j

theorem joined_map (f : α → β) (x : Leaves α) : joined (x.map f) = fun j => f (joined x j) := by
  unfold joined
  rw [joinA_map, joinB_map]
  exact funext fun j => join_map f S567488 0 [⟨S562240, joinA x⟩, ⟨S5248, joinB x⟩] concatenates_S562240_S5248_S567488_d0 concatenates_S562240_S5248_S567488_d0 j

/-- Packing commutes with a map of the numbers, the padding's own included. -/
theorem pack_map (f : α → β) (z : S_.Idx → α) (x : Leaves α) : pack (fun i => f (z i)) (x.map f) = fun j => f (pack z x j) := by
  unfold pack
  rw [joined_map]
  exact congrArg (fun y => shapeCast S4480x128 y shapeCasts_S573440_S4480x128) (funext fun j => pad_map f ![0] ![5952] ![0] (joined x) z pads_S567488_S573440_059520 h_S_ j)

/-- Four families of leaves as one of quadruples. -/
def four (w g m v : Leaves α) : Leaves (α × α × α × α) := ⟨fun i => (w.l0 i, g.l0 i, m.l0 i, v.l0 i), fun i => (w.l1 i, g.l1 i, m.l1 i, v.l1 i), fun i => (w.l2 i, g.l2 i, m.l2 i, v.l2 i), fun i => (w.l3 i, g.l3 i, m.l3 i, v.l3 i), fun i => (w.l4 i, g.l4 i, m.l4 i, v.l4 i), fun i => (w.l5 i, g.l5 i, m.l5 i, v.l5 i), fun i => (w.l6 i, g.l6 i, m.l6 i, v.l6 i), fun i => (w.l7 i, g.l7 i, m.l7 i, v.l7 i), fun i => (w.l8 i, g.l8 i, m.l8 i, v.l8 i), fun i => (w.l9 i, g.l9 i, m.l9 i, v.l9 i), fun i => (w.l10 i, g.l10 i, m.l10 i, v.l10 i), fun i => (w.l11 i, g.l11 i, m.l11 i, v.l11 i), fun i => (w.l12 i, g.l12 i, m.l12 i, v.l12 i), fun i => (w.l13 i, g.l13 i, m.l13 i, v.l13 i), fun i => (w.l14 i, g.l14 i, m.l14 i, v.l14 i), fun i => (w.l15 i, g.l15 i, m.l15 i, v.l15 i), fun i => (w.l16 i, g.l16 i, m.l16 i, v.l16 i), fun i => (w.l17 i, g.l17 i, m.l17 i, v.l17 i), fun i => (w.l18 i, g.l18 i, m.l18 i, v.l18 i)⟩

/-- What is computed number by number from four families, packed, is computed number by number from the four packed. -/
theorem pack_four (f : α → α → α → α → β) (z : S_.Idx → α) (z' : S_.Idx → β) (hz : z' = fun i => f (z i) (z i) (z i) (z i)) (w g m v : Leaves α) :
    pack z' ((four w g m v).map fun q => f q.1 q.2.1 q.2.2.1 q.2.2.2) = fun j => f (pack z w j) (pack z g j) (pack z m j) (pack z v j) := by
  subst hz
  have e0 : pack z w = fun j => (pack (fun i => (z i, z i, z i, z i)) (four w g m v) j).1 := pack_map (fun q : α × α × α × α => q.1) (fun i => (z i, z i, z i, z i)) (four w g m v)
  have e1 : pack z g = fun j => (pack (fun i => (z i, z i, z i, z i)) (four w g m v) j).2.1 := pack_map (fun q : α × α × α × α => q.2.1) (fun i => (z i, z i, z i, z i)) (four w g m v)
  have e2 : pack z m = fun j => (pack (fun i => (z i, z i, z i, z i)) (four w g m v) j).2.2.1 := pack_map (fun q : α × α × α × α => q.2.2.1) (fun i => (z i, z i, z i, z i)) (four w g m v)
  have e3 : pack z v = fun j => (pack (fun i => (z i, z i, z i, z i)) (four w g m v) j).2.2.2 := pack_map (fun q : α × α × α × α => q.2.2.2) (fun i => (z i, z i, z i, z i)) (four w g m v)
  rw [e0, e1, e2, e3]
  exact pack_map (fun q : α × α × α × α => f q.1 q.2.1 q.2.2.1 q.2.2.2) (fun i => (z i, z i, z i, z i)) (four w g m v)

end Cert.AdamSmall

end
-- ==== Proof.AdamSmall.Geometry.lean ====
/- Where the blocks of the grid lie: what a point reads of each array, and that the written blocks fill the results. -/
module

public import proofs.«01_k».proof.Proof.Gen.Kernel23Ideal.Value
public import proofs.«01_k».proof.Proof.Lift.Adam
public import proofs.«01_k».proof.Proof.Lift.Place

@[expose] public section

noncomputable section

namespace Cert.AdamSmall

open Cert.Kernel23Ideal Cert.Kernel23Ideal.Gen Cert.Ext Idealize.ShloMosaic Idealize.ShloMosaic.TcCoe Idealize.SL.Sem Cert.Lift Idealize.ShloMosaic.ValueIdx
open Idealize.ShloMosaic.Pipeline (Dat)

variable (m : (ℓ : Loc nD τ sig) → Buf (Elt Ideal) ℓ) (c : Dev nD)

theorem hN : cfg0.N = 70 := N_0

/-! ### The input blocks -/

theorem idx0_0 : ∀ t : Fin cfg0.N, win0_0.index t 0 = t.val := by decide +kernel
theorem idx0_1 : ∀ t : Fin cfg0.N, win0_0.index t 1 = 0 := by decide +kernel
theorem rd0 (t : Fin cfg0.N) (a : S4480x128.Idx → EReal) (h : (V m c main_v22 : S4480x128.Idx → EReal) = a) :
    (iblk m c 0 t : S64x128.Idx → EReal) = fun y => a (ix2 (Fin.ofNat 4480 (t.val * 64 + (r0 y).val)) (Fin.ofNat 128 (0 * 128 + (c1 y).val))) := by
  have ht : t.val < 70 := hN ▸ t.isLt
  funext y
  unfold iblk
  rw [View.read_apply]
  exact (congrFun h _).trans (congrArg a (place _ y _ _ _ _ (idx0_0 t) (idx0_1 t) (by omega) (by omega) rfl rfl))

theorem idx1_0 : ∀ t : Fin cfg0.N, win0_1.index t 0 = t.val := by decide +kernel
theorem idx1_1 : ∀ t : Fin cfg0.N, win0_1.index t 1 = 0 := by decide +kernel
theorem rd1 (t : Fin cfg0.N) (a : S4480x128.Idx → EReal) (h : (V m c main_v45 : S4480x128.Idx → EReal) = a) :
    (iblk m c 1 t : S64x128.Idx → EReal) = fun y => a (ix2 (Fin.ofNat 4480 (t.val * 64 + (r0 y).val)) (Fin.ofNat 128 (0 * 128 + (c1 y).val))) := by
  have ht : t.val < 70 := hN ▸ t.isLt
  funext y
  unfold iblk
  rw [View.read_apply]
  exact (congrFun h _).trans (congrArg a (place _ y _ _ _ _ (idx1_0 t) (idx1_1 t) (by omega) (by omega) rfl rfl))

theorem idx2_0 : ∀ t : Fin cfg0.N, win0_2.index t 0 = t.val := by decide +kernel
theorem idx2_1 : ∀ t : Fin cfg0.N, win0_2.index t 1 = 0 := by decide +kernel
theorem rd2 (t : Fin cfg0.N) (a : S4480x128.Idx → EReal) (h : (V m c main_v68 : S4480x128.Idx → EReal) = a) :
    (iblk m c 2 t : S64x128.Idx → EReal) = fun y => a (ix2 (Fin.ofNat 4480 (t.val * 64 + (r0 y).val)) (Fin.ofNat 128 (0 * 128 + (c1 y).val))) := by
  have ht : t.val < 70 := hN ▸ t.isLt
  funext y
  unfold iblk
  rw [View.read_apply]
  exact (congrFun h _).trans (congrArg a (place _ y _ _ _ _ (idx2_0 t) (idx2_1 t) (by omega) (by omega) rfl rfl))

theorem idx3_0 : ∀ t : Fin cfg0.N, win0_3.index t 0 = t.val := by decide +kernel
theorem idx3_1 : ∀ t : Fin cfg0.N, win0_3.index t 1 = 0 := by decide +kernel
theorem rd3 (t : Fin cfg0.N) (a : S4480x128.Idx → EReal) (h : (V m c main_v91 : S4480x128.Idx → EReal) = a) :
    (iblk m c 3 t : S64x128.Idx → EReal) = fun y => a (ix2 (Fin.ofNat 4480 (t.val * 64 + (r0 y).val)) (Fin.ofNat 128 (0 * 128 + (c1 y).val))) := by
  have ht : t.val < 70 := hN ▸ t.isLt
  funext y
  unfold iblk
  rw [View.read_apply]
  exact (congrFun h _).trans (congrArg a (place _ y _ _ _ _ (idx3_0 t) (idx3_1 t) (by omega) (by omega) rfl rfl))

/-! ### The output arrays -/

theorem idx4_0 : ∀ t : Fin cfg0.N, win0_4.index t 0 = t.val := by decide +kernel
theorem idx4_1 : ∀ t : Fin cfg0.N, win0_4.index t 1 = 0 := by decide +kernel
theorem arr4 (p : Fin cfg0.N → S64x128.Idx → EReal) (G : S4480x128.Idx → EReal)
    (hp : ∀ t, (cfg0.win 4).flush t = true → ((dats m 0 c).after 4 t : S64x128.Idx → EReal) = p t)
    (hG : ∀ t, (cfg0.win 4).flush t = true → ∀ y, p t y = G (ix2 (Fin.ofNat 4480 (t.val * 64 + (r0 y).val)) (Fin.ofNat 128 (0 * 128 + (c1 y).val)))) :
    ((dats m 0 c).arrAt 4 cfg0.N : S4480x128.Idx → EReal) = G := by
  refine (dats m 0 c).arrAt_eq_of_cover 4 G (fun t hf => ?_) fun i => ?_
  · have ht : t.val < 70 := hN ▸ t.isLt
    refine funext fun (y : S64x128.Idx) => ?_
    refine (congrFun (hp t hf) y).trans ?_
    rw [View.read_apply]
    exact (hG t hf y).trans (congrArg G (place _ y _ _ _ _ (idx4_0 t) (idx4_1 t) (by omega) (by omega) rfl rfl).symm)
  · have h0 : (i 0 : Nat) < 4480 := (i 0).isLt
    have h1 : (i 1 : Nat) < 128 := (i 1).isLt
    have hlt : (i 0 : Nat) / 64 < cfg0.N := by rw [hN]; omega
    refine ⟨⟨(i 0 : Nat) / 64, hlt⟩, flush0_4 ⟨_, hlt⟩, ?_⟩
    show i ∈ ((View.whole main_v92_0).slice (win0_4.rect ⟨(i 0 : Nat) / 64, hlt⟩)).set
    rw [View.set_slice_whole, Rect.mem_set_unit]
    exact both (within (T := 64) (((i 0 : Nat) / 64)) (idx4_0 _) (by omega)) (within (T := 128) (0) (idx4_1 _) (by omega))

theorem idx5_0 : ∀ t : Fin cfg0.N, win0_5.index t 0 = t.val := by decide +kernel
theorem idx5_1 : ∀ t : Fin cfg0.N, win0_5.index t 1 = 0 := by decide +kernel
theorem arr5 (p : Fin cfg0.N → S64x128.Idx → EReal) (G : S4480x128.Idx → EReal)
    (hp : ∀ t, (cfg0.win 5).flush t = true → ((dats m 0 c).after 5 t : S64x128.Idx → EReal) = p t)
    (hG : ∀ t, (cfg0.win 5).flush t = true → ∀ y, p t y = G (ix2 (Fin.ofNat 4480 (t.val * 64 + (r0 y).val)) (Fin.ofNat 128 (0 * 128 + (c1 y).val)))) :
    ((dats m 0 c).arrAt 5 cfg0.N : S4480x128.Idx → EReal) = G := by
  refine (dats m 0 c).arrAt_eq_of_cover 5 G (fun t hf => ?_) fun i => ?_
  · have ht : t.val < 70 := hN ▸ t.isLt
    refine funext fun (y : S64x128.Idx) => ?_
    refine (congrFun (hp t hf) y).trans ?_
    rw [View.read_apply]
    exact (hG t hf y).trans (congrArg G (place _ y _ _ _ _ (idx5_0 t) (idx5_1 t) (by omega) (by omega) rfl rfl).symm)
  · have h0 : (i 0 : Nat) < 4480 := (i 0).isLt
    have h1 : (i 1 : Nat) < 128 := (i 1).isLt
    have hlt : (i 0 : Nat) / 64 < cfg0.N := by rw [hN]; omega
    refine ⟨⟨(i 0 : Nat) / 64, hlt⟩, flush0_5 ⟨_, hlt⟩, ?_⟩
    show i ∈ ((View.whole main_v92_1).slice (win0_5.rect ⟨(i 0 : Nat) / 64, hlt⟩)).set
    rw [View.set_slice_whole, Rect.mem_set_unit]
    exact both (within (T := 64) (((i 0 : Nat) / 64)) (idx5_0 _) (by omega)) (within (T := 128) (0) (idx5_1 _) (by omega))

theorem idx6_0 : ∀ t : Fin cfg0.N, win0_6.index t 0 = t.val := by decide +kernel
theorem idx6_1 : ∀ t : Fin cfg0.N, win0_6.index t 1 = 0 := by decide +kernel
theorem arr6 (p : Fin cfg0.N → S64x128.Idx → EReal) (G : S4480x128.Idx → EReal)
    (hp : ∀ t, (cfg0.win 6).flush t = true → ((dats m 0 c).after 6 t : S64x128.Idx → EReal) = p t)
    (hG : ∀ t, (cfg0.win 6).flush t = true → ∀ y, p t y = G (ix2 (Fin.ofNat 4480 (t.val * 64 + (r0 y).val)) (Fin.ofNat 128 (0 * 128 + (c1 y).val)))) :
    ((dats m 0 c).arrAt 6 cfg0.N : S4480x128.Idx → EReal) = G := by
  refine (dats m 0 c).arrAt_eq_of_cover 6 G (fun t hf => ?_) fun i => ?_
  · have ht : t.val < 70 := hN ▸ t.isLt
    refine funext fun (y : S64x128.Idx) => ?_
    refine (congrFun (hp t hf) y).trans ?_
    rw [View.read_apply]
    exact (hG t hf y).trans (congrArg G (place _ y _ _ _ _ (idx6_0 t) (idx6_1 t) (by omega) (by omega) rfl rfl).symm)
  · have h0 : (i 0 : Nat) < 4480 := (i 0).isLt
    have h1 : (i 1 : Nat) < 128 := (i 1).isLt
    have hlt : (i 0 : Nat) / 64 < cfg0.N := by rw [hN]; omega
    refine ⟨⟨(i 0 : Nat) / 64, hlt⟩, flush0_6 ⟨_, hlt⟩, ?_⟩
    show i ∈ ((View.whole main_v92_2).slice (win0_6.rect ⟨(i 0 : Nat) / 64, hlt⟩)).set
    rw [View.set_slice_whole, Rect.mem_set_unit]
    exact both (within (T := 64) (((i 0 : Nat) / 64)) (idx6_0 _) (by omega)) (within (T := 128) (0) (idx6_1 _) (by omega))

end Cert.AdamSmall

end
-- ==== Proof.AdamSmall.Value.lean ====
/- The optimiser's call on the nineteen small weights: the three arrays it returns, index by index. -/
module

public import proofs.«01_k».proof.Proof.AdamSmall.Geometry

@[expose] public section

noncomputable section

namespace Cert.AdamSmall

open Cert.Kernel23Ideal Cert.Kernel23Ideal.Gen Cert.Ext Idealize.ShloMosaic Idealize.ShloMosaic.TcCoe Idealize.SL.Sem Cert.Lift Idealize.ShloMosaic.ValueIdx

theorem payG (x : S64x128.Idx → EReal) : (k0_pay1 (F := Ideal) x : S64x128.Idx → EReal) = x := by
  unfold k0_pay1
  exact shapeCast_self _ _

theorem payM (x1 x2 : S64x128.Idx → EReal) : (k0_pay2 (F := Ideal) x1 x2 : S64x128.Idx → EReal) = fun j => newM (x1 j) (x2 j) := by
  unfold k0_pay2
  dsimp only
  rw [shapeCast_self, payG]
  rfl

theorem payV (x1 x3 : S64x128.Idx → EReal) : (k0_pay3 (F := Ideal) x1 x3 : S64x128.Idx → EReal) = fun j => newV (x1 j) (x3 j) := by
  unfold k0_pay3
  dsimp only
  rw [shapeCast_self, payG]
  rfl

theorem payD (x0 x1 x2 x3 : S64x128.Idx → EReal) : (k0_pay4 (F := Ideal) x1 x2 x3 x0 : S64x128.Idx → EReal) = fun j => delta (x0 j) (x1 j) (x2 j) (x3 j) := by
  unfold k0_pay4
  dsimp only
  rw [shapeCast_self, payM, payV]
  rfl

theorem block4 (x0 x1 x2 x3 : S64x128.Idx → EReal) :
    (out0_4 (F := Ideal) x0 x1 x2 x3 : S64x128.Idx → EReal) = fun j => delta (x0 j) (x1 j) (x2 j) (x3 j) := by
  unfold out0_4
  rw [View.canon_unit_zero hz]
  simp only [View.ld_unit_zero (S := S64x128) hz]
  exact payD x0 x1 x2 x3

theorem block5 (x0 x1 x2 x3 : S64x128.Idx → EReal) :
    (out0_5 (F := Ideal) x0 x1 x2 x3 : S64x128.Idx → EReal) = fun j => newM (x1 j) (x2 j) := by
  unfold out0_5
  rw [View.canon_unit_zero hz]
  simp only [View.ld_unit_zero (S := S64x128) hz]
  exact payM x1 x2

theorem block6 (x0 x1 x2 x3 : S64x128.Idx → EReal) :
    (out0_6 (F := Ideal) x0 x1 x2 x3 : S64x128.Idx → EReal) = fun j => newV (x1 j) (x3 j) := by
  unfold out0_6
  rw [View.canon_unit_zero hz]
  simp only [View.ld_unit_zero (S := S64x128) hz]
  exact payV x1 x3

variable (m : (ℓ : Loc nD τ sig) → Buf (Elt Ideal) ℓ) (c : Dev nD) (W G M U : S4480x128.Idx → EReal)
  (e0 : (V m c main_v22 : S4480x128.Idx → EReal) = W) (e1 : (V m c main_v45 : S4480x128.Idx → EReal) = G)
  (e2 : (V m c main_v68 : S4480x128.Idx → EReal) = M) (e3 : (V m c main_v91 : S4480x128.Idx → EReal) = U)
include e0 e1 e2 e3

theorem array4 : ((dats m 0 c).arrAt 4 cfg0.N : S4480x128.Idx → EReal) = fun j => delta (W j) (G j) (M j) (U j) :=
  arr4 m c _ _ (fun t _ => ((after0_4 m c t).trans (congr4 (out0_4 (F := Ideal)) (rd0 m c t _ e0) (rd1 m c t _ e1) (rd2 m c t _ e2) (rd3 m c t _ e3))).trans (block4 _ _ _ _)) (fun t _ y => rfl)

theorem array5 : ((dats m 0 c).arrAt 5 cfg0.N : S4480x128.Idx → EReal) = fun j => newM (G j) (M j) :=
  arr5 m c _ _ (fun t _ => ((after0_5 m c t).trans (congr4 (out0_5 (F := Ideal)) (rd0 m c t _ e0) (rd1 m c t _ e1) (rd2 m c t _ e2) (rd3 m c t _ e3))).trans (block5 _ _ _ _)) (fun t _ y => rfl)

theorem array6 : ((dats m 0 c).arrAt 6 cfg0.N : S4480x128.Idx → EReal) = fun j => newV (G j) (U j) :=
  arr6 m c _ _ (fun t _ => ((after0_6 m c t).trans (congr4 (out0_6 (F := Ideal)) (rd0 m c t _ e0) (rd1 m c t _ e1) (rd2 m c t _ e2) (rd3 m c t _ e3))).trans (block6 _ _ _ _)) (fun t _ y => rfl)

end Cert.AdamSmall

end
-- ==== Proof.AdamSmall.Feed.lean ====
/- What the optimiser's call on the small weights is fed: the weights, gradients and moments, each family packed. -/
module

public import proofs.«01_k».proof.Proof.AdamSmall.Pack
public import proofs.«01_k».proof.Proof.AdamSmall.Value
public import Idealize.ShloMosaic.Lib.KernelVsHost
public import Idealize.ShloMosaic.Lib.IdealHost
public import Idealize.ShloMosaic.Lib.StableHlo.RunRead

@[expose] public section

noncomputable section

namespace Cert.AdamSmall

open Cert.Kernel23Ideal Cert.Kernel23Ideal.Gen Cert.Ext Idealize.ShloMosaic Idealize.ShloMosaic.TcCoe Idealize.SL.Sem Cert.Lift

/-- The padding's number, as the program writes it. -/
abbrev nought : S_.Idx → EReal := sitofp (F := Ideal) .f32 (constantI S_ 32 0#32)

section
variable (m : (ℓ : Loc nD τ sig) → Buf (Elt Ideal) ℓ) (c : Dev nD)

abbrev Klw : Leaves EReal := ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16), m ((c.tc : Thread nD τ).loc main_arg17), m ((c.tc : Thread nD τ).loc main_arg18)⟩
abbrev Klg : Leaves EReal := ⟨m ((c.tc : Thread nD τ).loc main_arg19), m ((c.tc : Thread nD τ).loc main_arg20), m ((c.tc : Thread nD τ).loc main_arg21), m ((c.tc : Thread nD τ).loc main_arg22), m ((c.tc : Thread nD τ).loc main_arg23), m ((c.tc : Thread nD τ).loc main_arg24), m ((c.tc : Thread nD τ).loc main_arg25), m ((c.tc : Thread nD τ).loc main_arg26), m ((c.tc : Thread nD τ).loc main_arg27), m ((c.tc : Thread nD τ).loc main_arg28), m ((c.tc : Thread nD τ).loc main_arg29), m ((c.tc : Thread nD τ).loc main_arg30), m ((c.tc : Thread nD τ).loc main_arg31), m ((c.tc : Thread nD τ).loc main_arg32), m ((c.tc : Thread nD τ).loc main_arg33), m ((c.tc : Thread nD τ).loc main_arg34), m ((c.tc : Thread nD τ).loc main_arg35), m ((c.tc : Thread nD τ).loc main_arg36), m ((c.tc : Thread nD τ).loc main_arg37)⟩
abbrev Klm : Leaves EReal := ⟨m ((c.tc : Thread nD τ).loc main_arg38), m ((c.tc : Thread nD τ).loc main_arg39), m ((c.tc : Thread nD τ).loc main_arg40), m ((c.tc : Thread nD τ).loc main_arg41), m ((c.tc : Thread nD τ).loc main_arg42), m ((c.tc : Thread nD τ).loc main_arg43), m ((c.tc : Thread nD τ).loc main_arg44), m ((c.tc : Thread nD τ).loc main_arg45), m ((c.tc : Thread nD τ).loc main_arg46), m ((c.tc : Thread nD τ).loc main_arg47), m ((c.tc : Thread nD τ).loc main_arg48), m ((c.tc : Thread nD τ).loc main_arg49), m ((c.tc : Thread nD τ).loc main_arg50), m ((c.tc : Thread nD τ).loc main_arg51), m ((c.tc : Thread nD τ).loc main_arg52), m ((c.tc : Thread nD τ).loc main_arg53), m ((c.tc : Thread nD τ).loc main_arg54), m ((c.tc : Thread nD τ).loc main_arg55), m ((c.tc : Thread nD τ).loc main_arg56)⟩
abbrev Klu : Leaves EReal := ⟨m ((c.tc : Thread nD τ).loc main_arg57), m ((c.tc : Thread nD τ).loc main_arg58), m ((c.tc : Thread nD τ).loc main_arg59), m ((c.tc : Thread nD τ).loc main_arg60), m ((c.tc : Thread nD τ).loc main_arg61), m ((c.tc : Thread nD τ).loc main_arg62), m ((c.tc : Thread nD τ).loc main_arg63), m ((c.tc : Thread nD τ).loc main_arg64), m ((c.tc : Thread nD τ).loc main_arg65), m ((c.tc : Thread nD τ).loc main_arg66), m ((c.tc : Thread nD τ).loc main_arg67), m ((c.tc : Thread nD τ).loc main_arg68), m ((c.tc : Thread nD τ).loc main_arg69), m ((c.tc : Thread nD τ).loc main_arg70), m ((c.tc : Thread nD τ).loc main_arg71), m ((c.tc : Thread nD τ).loc main_arg72), m ((c.tc : Thread nD τ).loc main_arg73), m ((c.tc : Thread nD τ).loc main_arg74), m ((c.tc : Thread nD τ).loc main_arg75)⟩

theorem at0 : (V m c main_v22 : S4480x128.Idx → EReal) = pack nought (Klw m c) := by
  show StableHlo.after (List.flatten [hostOps0, hostOps0_1, hostOps0_2, hostOps0_3, hostOps0_4, hostOps0_5, hostOps0_6, hostOps0_7, hostOps0_8]) (fun b => m (c, b)) (Proc.devRef .tc main_v22) = _
  after_reads_simp
  refine congrArg₂ (packed nought) (show StableHlo.upto _ _ _ (Proc.devRef .tc main_v18) = joinA _ from ?_) (show StableHlo.upto _ _ _ (Proc.devRef .tc main_v19) = joinB _ from ?_)
  · after_reads_simp
    refine sixteen ?_ ?_ ?_ ?_ ?_ ?_ ?_ ?_ ?_ ?_ ?_ ?_ ?_ ?_ ?_ ?_ <;> (after_reads_simp <;> rfl)
  · after_reads_simp
    refine three ?_ ?_ ?_ <;> (after_reads_simp <;> rfl)

theorem at1 : (V m c main_v45 : S4480x128.Idx → EReal) = pack nought (Klg m c) := by
  show StableHlo.after (List.flatten [hostOps0, hostOps0_1, hostOps0_2, hostOps0_3, hostOps0_4, hostOps0_5, hostOps0_6, hostOps0_7, hostOps0_8]) (fun b => m (c, b)) (Proc.devRef .tc main_v45) = _
  after_reads_simp
  refine congrArg₂ (packed nought) (show StableHlo.upto _ _ _ (Proc.devRef .tc main_v41) = joinA _ from ?_) (show StableHlo.upto _ _ _ (Proc.devRef .tc main_v42) = joinB _ from ?_)
  · after_reads_simp
    refine sixteen ?_ ?_ ?_ ?_ ?_ ?_ ?_ ?_ ?_ ?_ ?_ ?_ ?_ ?_ ?_ ?_ <;> (after_reads_simp <;> rfl)
  · after_reads_simp
    refine three ?_ ?_ ?_ <;> (after_reads_simp <;> rfl)

theorem at2 : (V m c main_v68 : S4480x128.Idx → EReal) = pack nought (Klm m c) := by
  show StableHlo.after (List.flatten [hostOps0, hostOps0_1, hostOps0_2, hostOps0_3, hostOps0_4, hostOps0_5, hostOps0_6, hostOps0_7, hostOps0_8]) (fun b => m (c, b)) (Proc.devRef .tc main_v68) = _
  after_reads_simp
  refine congrArg₂ (packed nought) (show StableHlo.upto _ _ _ (Proc.devRef .tc main_v64) = joinA _ from ?_) (show StableHlo.upto _ _ _ (Proc.devRef .tc main_v65) = joinB _ from ?_)
  · after_reads_simp
    refine sixteen ?_ ?_ ?_ ?_ ?_ ?_ ?_ ?_ ?_ ?_ ?_ ?_ ?_ ?_ ?_ ?_ <;> (after_reads_simp <;> rfl)
  · after_reads_simp
    refine three ?_ ?_ ?_ <;> (after_reads_simp <;> rfl)

theorem at3 : (V m c main_v91 : S4480x128.Idx → EReal) = pack nought (Klu m c) := by
  show StableHlo.after (List.flatten [hostOps0, hostOps0_1, hostOps0_2, hostOps0_3, hostOps0_4, hostOps0_5, hostOps0_6, hostOps0_7, hostOps0_8]) (fun b => m (c, b)) (Proc.devRef .tc main_v91) = _
  after_reads_simp
  refine congrArg₂ (packed nought) (show StableHlo.upto _ _ _ (Proc.devRef .tc main_v87) = joinA _ from ?_) (show StableHlo.upto _ _ _ (Proc.devRef .tc main_v88) = joinB _ from ?_)
  · after_reads_simp
    refine sixteen ?_ ?_ ?_ ?_ ?_ ?_ ?_ ?_ ?_ ?_ ?_ ?_ ?_ ?_ ?_ ?_ <;> (after_reads_simp <;> rfl)
  · after_reads_simp
    refine three ?_ ?_ ?_ <;> (after_reads_simp <;> rfl)

end

/-! ### A step from nothing is nothing -/

theorem ne_a : word 0x3F26BD02#32 ≠ 0 := by
  have h : Ideal.ofBits .f32 0x3F26BD02#32 = ((10927362 / 2 ^ 24 : ℝ) : EReal) := by
    simp [Ideal.ofBits, Ideal.ieee, -EReal.coe_mul]; norm_num
  rw [show word 0x3F26BD02#32 = ((10927362 / 2 ^ 24 : ℝ) : EReal) from h]
  exact EReal.coe_ne_zero.mpr (by norm_num)

theorem ne_b : word 0x3C231ACC#32 ≠ 0 := by
  have h : Ideal.ofBits .f32 0x3C231ACC#32 = ((10689228 / 2 ^ 30 : ℝ) : EReal) := by
    simp [Ideal.ofBits, Ideal.ieee, -EReal.coe_mul]; norm_num
  rw [show word 0x3C231ACC#32 = ((10689228 / 2 ^ 30 : ℝ) : EReal) from h]
  exact EReal.coe_ne_zero.mpr (by norm_num)

theorem ne_c : word 0x322BCC77#32 ≠ 0 := by
  have h : Ideal.ofBits .f32 0x322BCC77#32 = ((11258999 / 2 ^ 50 : ℝ) : EReal) := by
    simp [Ideal.ofBits, Ideal.ieee, -EReal.coe_mul]; norm_num
  rw [show word 0x322BCC77#32 = ((11258999 / 2 ^ 50 : ℝ) : EReal) from h]
  exact EReal.coe_ne_zero.mpr (by norm_num)

theorem newM_zero : newM 0 0 = 0 := by
  unfold newM
  rw [mul_zero, mul_zero, add_zero]

theorem newV_zero : newV 0 0 = 0 := by
  unfold newV
  rw [mul_zero, mul_zero, mul_zero, add_zero]

theorem delta_zero : delta 0 0 0 0 = 0 := by
  unfold delta
  have hs : Ideal.sqrt 0 = 0 := by
    show (if (0 : ℝ) < 0 then ⊥ else ((Real.sqrt 0 : ℝ) : EReal)) = 0
    rw [if_neg (lt_irrefl _), Real.sqrt_zero, EReal.coe_zero]
  rw [newM_zero, newV_zero, Ideal.zero_div ne_a, Ideal.zero_div ne_b, hs, zero_add, Ideal.zero_div ne_c, mul_zero, add_zero, mul_zero]

theorem nought_eq : nought = fun _ => (0 : EReal) := funext fun _ => (sitofp_zero (φ := .f32))

variable (w g m v : Leaves EReal)

theorem packD : pack nought ((four w g m v).map fun q => delta q.1 q.2.1 q.2.2.1 q.2.2.2) = fun j => delta (pack nought w j) (pack nought g j) (pack nought m j) (pack nought v j) :=
  pack_four delta nought nought (by rw [nought_eq]; exact funext fun _ => delta_zero.symm) w g m v

theorem packM : pack nought ((four w g m v).map fun q => newM q.2.1 q.2.2.1) = fun j => newM (pack nought g j) (pack nought m j) :=
  pack_four (fun _ g m _ => newM g m) nought nought (by rw [nought_eq]; exact funext fun _ => newM_zero.symm) w g m v

theorem packV : pack nought ((four w g m v).map fun q => newV q.2.1 q.2.2.2) = fun j => newV (pack nought g j) (pack nought v j) :=
  pack_four (fun _ g _ v => newV g v) nought nought (by rw [nought_eq]; exact funext fun _ => newV_zero.symm) w g m v

theorem Leaves.same {α : Type} (x y : Leaves α) (h0 : x.l0 = y.l0) (h1 : x.l1 = y.l1) (h2 : x.l2 = y.l2) (h3 : x.l3 = y.l3) (h4 : x.l4 = y.l4) (h5 : x.l5 = y.l5) (h6 : x.l6 = y.l6) (h7 : x.l7 = y.l7) (h8 : x.l8 = y.l8) (h9 : x.l9 = y.l9) (h10 : x.l10 = y.l10) (h11 : x.l11 = y.l11) (h12 : x.l12 = y.l12) (h13 : x.l13 = y.l13) (h14 : x.l14 = y.l14) (h15 : x.l15 = y.l15) (h16 : x.l16 = y.l16) (h17 : x.l17 = y.l17) (h18 : x.l18 = y.l18) : x = y := by
  cases x
  cases y
  subst h0 h1 h2 h3 h4 h5 h6 h7 h8 h9 h10 h11 h12 h13 h14 h15 h16 h17 h18
  rfl

end Cert.AdamSmall

end
-- ==== Proof.AdamSmall.Claims.lean ====
/- The optimiser's call on the nineteen small weights: the claims. -/
module

public import proofs.«01_k».proof.Defs
public import proofs.«01_k».proof.Proof.AdamSmall.Feed
public import proofs.«01_k».proof.Proof.Gen.Kernel23.Frame
public import proofs.«01_k».proof.Proof.Gen.Reference23Ideal.Run
public import Idealize.ShloMosaic.Adequacy
public import Idealize.ShloMosaic.Init

@[expose] public section

noncomputable section

namespace Cert.AdamSmall

open Idealize.ShloMosaic Idealize.ShloMosaic.TcCoe Idealize.SL.Sem Cert.Ext Cert.Lift

theorem frame_p : Cert.quiescent_Kernel23 := fun m ρ _ => Cert.Kernel23.Gen.frame m ρ
theorem frame_pi : Cert.quiescent_Kernel23Ideal := fun m ρ _ => Cert.Kernel23Ideal.Gen.frame m ρ
theorem frame_ri : Cert.quiescent_Reference23Ideal := fun m ρ _ => (θ_run Cert.Reference23Ideal.defs _ _).mono (fun r h => ⟨fun c => (h c).2.2.2,
      Idealize.ShloMosaic.sem_eq_zero_of_no_sems (by decide) r.2⟩)
    (Cert.Reference23Ideal.Value.run (F := Ideal) m ρ)

theorem preserves : Cert.preserves_Kernel23_Kernel23Ideal := trivial

section
open Cert.Reference23Ideal Cert.Reference23Ideal.Gen
variable (m : (ℓ : Loc nD τ sig) → Buf (Elt Ideal) ℓ) (c : Dev nD)

abbrev Rlw : Leaves EReal := ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16), m ((c.tc : Thread nD τ).loc main_arg17), m ((c.tc : Thread nD τ).loc main_arg18)⟩
abbrev Rlg : Leaves EReal := ⟨m ((c.tc : Thread nD τ).loc main_arg19), m ((c.tc : Thread nD τ).loc main_arg20), m ((c.tc : Thread nD τ).loc main_arg21), m ((c.tc : Thread nD τ).loc main_arg22), m ((c.tc : Thread nD τ).loc main_arg23), m ((c.tc : Thread nD τ).loc main_arg24), m ((c.tc : Thread nD τ).loc main_arg25), m ((c.tc : Thread nD τ).loc main_arg26), m ((c.tc : Thread nD τ).loc main_arg27), m ((c.tc : Thread nD τ).loc main_arg28), m ((c.tc : Thread nD τ).loc main_arg29), m ((c.tc : Thread nD τ).loc main_arg30), m ((c.tc : Thread nD τ).loc main_arg31), m ((c.tc : Thread nD τ).loc main_arg32), m ((c.tc : Thread nD τ).loc main_arg33), m ((c.tc : Thread nD τ).loc main_arg34), m ((c.tc : Thread nD τ).loc main_arg35), m ((c.tc : Thread nD τ).loc main_arg36), m ((c.tc : Thread nD τ).loc main_arg37)⟩
abbrev Rlm : Leaves EReal := ⟨m ((c.tc : Thread nD τ).loc main_arg38), m ((c.tc : Thread nD τ).loc main_arg39), m ((c.tc : Thread nD τ).loc main_arg40), m ((c.tc : Thread nD τ).loc main_arg41), m ((c.tc : Thread nD τ).loc main_arg42), m ((c.tc : Thread nD τ).loc main_arg43), m ((c.tc : Thread nD τ).loc main_arg44), m ((c.tc : Thread nD τ).loc main_arg45), m ((c.tc : Thread nD τ).loc main_arg46), m ((c.tc : Thread nD τ).loc main_arg47), m ((c.tc : Thread nD τ).loc main_arg48), m ((c.tc : Thread nD τ).loc main_arg49), m ((c.tc : Thread nD τ).loc main_arg50), m ((c.tc : Thread nD τ).loc main_arg51), m ((c.tc : Thread nD τ).loc main_arg52), m ((c.tc : Thread nD τ).loc main_arg53), m ((c.tc : Thread nD τ).loc main_arg54), m ((c.tc : Thread nD τ).loc main_arg55), m ((c.tc : Thread nD τ).loc main_arg56)⟩
abbrev Rlu : Leaves EReal := ⟨m ((c.tc : Thread nD τ).loc main_arg57), m ((c.tc : Thread nD τ).loc main_arg58), m ((c.tc : Thread nD τ).loc main_arg59), m ((c.tc : Thread nD τ).loc main_arg60), m ((c.tc : Thread nD τ).loc main_arg61), m ((c.tc : Thread nD τ).loc main_arg62), m ((c.tc : Thread nD τ).loc main_arg63), m ((c.tc : Thread nD τ).loc main_arg64), m ((c.tc : Thread nD τ).loc main_arg65), m ((c.tc : Thread nD τ).loc main_arg66), m ((c.tc : Thread nD τ).loc main_arg67), m ((c.tc : Thread nD τ).loc main_arg68), m ((c.tc : Thread nD τ).loc main_arg69), m ((c.tc : Thread nD τ).loc main_arg70), m ((c.tc : Thread nD τ).loc main_arg71), m ((c.tc : Thread nD τ).loc main_arg72), m ((c.tc : Thread nD τ).loc main_arg73), m ((c.tc : Thread nD τ).loc main_arg74), m ((c.tc : Thread nD τ).loc main_arg75)⟩

end

theorem packed_of {z : Cert.Kernel23Ideal.S_.Idx → EReal} {a b} {x : Leaves EReal} (ha : a = joinA x) (hb : b = joinB x) : packed z a b = pack z x := by
  subst ha hb
  rfl

theorem algebraic : Cert.algebraic_Kernel23Ideal_Reference23Ideal := by
  intro m ρ m' ρ' hpre hagree
  refine ⟨_, _, _, Cert.Kernel23Ideal.Value.run_blocks (F := Ideal) m ρ, ?_⟩
  refine (θ_run Cert.Reference23Ideal.defs _ _).mono (fun _ h c => ?_) (Cert.Reference23Ideal.Value.run (F := Ideal) m' ρ')
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51, e52, e53, e54, e55, e56, e57, e58, e59, e60, e61, e62, e63, e64, e65, e66, e67, e68, e69, e70, e71, e72, e73, e74, e75⟩ := hagree c
  have hw : Rlw m' c = Klw m c := Leaves.same _ _ e0 e1 e2 e3 e4 e5 e6 e7 e8 e9 e10 e11 e12 e13 e14 e15 e16 e17 e18
  have hg : Rlg m' c = Klg m c := Leaves.same _ _ e19 e20 e21 e22 e23 e24 e25 e26 e27 e28 e29 e30 e31 e32 e33 e34 e35 e36 e37
  have hm : Rlm m' c = Klm m c := Leaves.same _ _ e38 e39 e40 e41 e42 e43 e44 e45 e46 e47 e48 e49 e50 e51 e52 e53 e54 e55 e56
  have hu : Rlu m' c = Klu m c := Leaves.same _ _ e57 e58 e59 e60 e61 e62 e63 e64 e65 e66 e67 e68 e69 e70 e71 e72 e73 e74 e75
  have eD : pack nought ((four (Rlw m' c) (Rlg m' c) (Rlm m' c) (Rlu m' c)).map fun q => delta q.1 q.2.1 q.2.2.1 q.2.2.2) = _ :=
    (packD _ _ _ _).trans (Eq.trans (by rw [hw, hg, hm, hu]) (array4 m c _ _ _ _ (at0 m c) (at1 m c) (at2 m c) (at3 m c)).symm)
  have eM : pack nought ((four (Rlw m' c) (Rlg m' c) (Rlm m' c) (Rlu m' c)).map fun q => newM q.2.1 q.2.2.1) = _ :=
    (packM _ _ _ _).trans (Eq.trans (by rw [hg, hm]) (array5 m c _ _ _ _ (at0 m c) (at1 m c) (at2 m c) (at3 m c)).symm)
  have eV : pack nought ((four (Rlw m' c) (Rlg m' c) (Rlm m' c) (Rlu m' c)).map fun q => newV q.2.1 q.2.2.2) = _ :=
    (packV _ _ _ _).trans (Eq.trans (by rw [hg, hu]) (array6 m c _ _ _ _ (at0 m c) (at1 m c) (at2 m c) (at3 m c)).symm)
  refine ⟨(h c).1.trans (Eq.trans (b := packed nought _ _) rfl ((packed_of ?_ ?_).trans eD)), (h c).2.1.trans (Eq.trans (b := packed nought _ _) rfl ((packed_of ?_ ?_).trans eM)),
    (h c).2.2.1.trans (Eq.trans (b := packed nought _ _) rfl ((packed_of ?_ ?_).trans eV)), (h c).2.2.2⟩
  · unfold Reference23Ideal.Value.res_main_v474
    refine sixteen ?_ ?_ ?_ ?_ ?_ ?_ ?_ ?_ ?_ ?_ ?_ ?_ ?_ ?_ ?_ ?_ <;> rfl
  · refine three ?_ ?_ ?_ <;> rfl
  · refine sixteen ?_ ?_ ?_ ?_ ?_ ?_ ?_ ?_ ?_ ?_ ?_ ?_ ?_ ?_ ?_ ?_ <;> rfl
  · refine three ?_ ?_ ?_ <;> rfl
  · refine sixteen ?_ ?_ ?_ ?_ ?_ ?_ ?_ ?_ ?_ ?_ ?_ ?_ ?_ ?_ ?_ ?_ <;> rfl
  · refine three ?_ ?_ ?_ <;> rfl

end Cert.AdamSmall

end
-- ==== Proof.Lift.Heads.lean ====
/- The normalisation of rows of any length and its backward pass, and the rows of a table cut in heads. -/
module

public import proofs.«01_k».proof.Proof.Lift.Col
public import proofs.«01_k».proof.Proof.Lift.Fold

@[expose] public section

noncomputable section

namespace Cert.Ext

open Idealize.ShloMosaic Idealize.ShloMosaic.ValueIdx Cert.Lift

/-! ### A row whose length is the word `w` -/

/-- The mean square of a row plus the small constant, from the row's sum of squares. -/
def denW (w : BitVec 32) (s : EReal) : EReal := Ideal.div s (Ideal.ofBits .f32 w) + Ideal.ofBits .f32 0x358637BD#32

/-- The reciprocal root of a row's mean square. -/
def invW (w : BitVec 32) (s : EReal) : EReal := Ideal.rsqrt (denW w s)

/-- An entry of the gradient: the entry of the row, its cotangent, the row's sum of squares and the row's product with
    its cotangents. -/
def midW (w : BitVec 32) (x d s S : EReal) : EReal := invW w s * (d - x * invW w s * Ideal.div (invW w s * S) (Ideal.ofBits .f32 w))

section
variable {w : BitVec 32} {n : ℝ} (hn : 0 < n) (hw : Ideal.ofBits .f32 w = (n : EReal))
include hn hw

theorem divW (x : EReal) : Ideal.div x (Ideal.ofBits .f32 w) = x * ((1 / n : ℝ) : EReal) := by
  rw [hw]; exact Ideal.div_coe hn.ne' x

/-- A row's sum of squares is infinite and the reciprocal root zero, or the root is a positive real. -/
theorem invW_cases (s : EReal) (hs : 0 ≤ s) : (denW w s = ⊤ ∧ invW w s = 0) ∨ ∃ p : ℝ, 0 < p ∧ invW w s = (p : EReal) ∧ denW w s = ((1 / (p * p) : ℝ) : EReal) := by
  have hn' : 0 < 1 / n := by positivity
  induction s using EReal.rec with
  | bot => exact absurd hs (by simp)
  | top =>
    left
    have h : denW w ⊤ = ⊤ := by
      unfold denW
      rw [divW hn hw, epsI, EReal.top_mul_coe_of_pos hn', EReal.top_add_coe]
    refine ⟨h, ?_⟩
    unfold invW
    rw [h]
    rfl
  | coe r =>
    right
    have hr : 0 ≤ r := EReal.coe_nonneg.mp hs
    have hv : 0 < r * (1 / n) + 8796093 / 2 ^ 43 := by positivity
    have h : denW w (r : EReal) = ((r * (1 / n) + 8796093 / 2 ^ 43 : ℝ) : EReal) := by
      unfold denW
      rw [divW hn hw, epsI, ← EReal.coe_mul, ← EReal.coe_add]
    refine ⟨(√(r * (1 / n) + 8796093 / 2 ^ 43))⁻¹, by positivity, ?_, ?_⟩
    · unfold invW
      rw [h, Ideal.rsqrt_coe, if_neg (not_lt.mpr hv.le), if_neg hv.ne']
    · rw [h, ← mul_inv, Real.mul_self_sqrt hv.le]
      generalize r * (1 / n) + 8796093 / 2 ^ 43 = v
      rw [one_div, inv_inv]

theorem invW_nonneg (s : EReal) (hs : 0 ≤ s) : 0 ≤ invW w s := by
  rcases invW_cases hn hw s hs with ⟨_, h⟩ | ⟨p, hp, h, _⟩
  · rw [h]
  · rw [h]; exact EReal.coe_nonneg.mpr hp.le

theorem invW_ne_top (s : EReal) (hs : 0 ≤ s) : invW w s ≠ ⊤ := by
  rcases invW_cases hn hw s hs with ⟨_, h⟩ | ⟨p, hp, h, _⟩
  · rw [h]; exact EReal.zero_ne_top
  · rw [h]; exact EReal.coe_ne_top p

theorem closedW {m : Nat} (x d : Fin m → EReal) (k : Fin m) (s : EReal) (hs : 0 ≤ s) :
    invW w s * (d k - x k * invW w s * Ideal.div (∑ j, d j * (x j * invW w s)) (Ideal.ofBits .f32 w)) = midW w (x k) (d k) s (∑ j, x j * d j) := by
  have e : ∑ j, d j * (x j * invW w s) = invW w s * ∑ j, x j * d j := by
    rw [← pull_sum _ (invW_nonneg hn hw s hs) (invW_ne_top hn hw s hs)]
    exact Finset.sum_congr rfl fun j _ => by rw [mul_comm (d j), mul_comm (x j), mul_assoc]
  rw [e, midW]

theorem openW (x d s S : EReal) (hs : 0 ≤ s) :
    (d * invW w s + x * Ideal.div (S * (Ideal.ofBits .f32 0xBF000000#32 * Ideal.div (invW w s) (denW w s))) (Ideal.ofBits .f32 w))
      + Ideal.div (S * (Ideal.ofBits .f32 0xBF000000#32 * Ideal.div (invW w s) (denW w s))) (Ideal.ofBits .f32 w) * x = midW w x d s S := by
  unfold midW
  rw [divW hn hw, divW hn hw, neghalfI]
  rcases invW_cases hn hw s hs with ⟨hd, hi⟩ | ⟨p, hp, hi, hd⟩
  · have e : Ideal.div (0 : EReal) ⊤ = 0 := by unfold Ideal.div; rw [if_neg EReal.top_ne_zero, zero_mul]
    rw [hd, hi, e]
    simp
  · have hpp : (1 / (p * p) : ℝ) ≠ 0 := by positivity
    rw [hd, hi, Ideal.div_coe hpp, one_div_one_div]
    have e1 : x * (S * (((-(1 / 2) : ℝ) : EReal) * ((p : EReal) * ((p * p : ℝ) : EReal))) * ((1 / n : ℝ) : EReal)) = -((x * S) * ((p * p * p * (1 / 2 * (1 / n)) : ℝ) : EReal)) := by
      rw [← mul_neg, ← EReal.coe_neg, show (-(p * p * p * (1 / 2 * (1 / n))) : ℝ) = -(1 / 2) * (p * (p * p)) * (1 / n) by ring]
      simp only [EReal.coe_mul, mul_assoc]
    have e2 : (p : EReal) * (x * p * (p * S * ((1 / n : ℝ) : EReal))) = (x * S) * ((p * p * p * (1 / 2 * (1 / n)) + p * p * p * (1 / 2 * (1 / n)) : ℝ) : EReal) := by
      rw [show (p * p * p * (1 / 2 * (1 / n)) + p * p * p * (1 / 2 * (1 / n)) : ℝ) = p * p * p * (1 / n) by ring]
      simp only [EReal.coe_mul]
      ac_rfl
    have hz : (0 : EReal) ≤ ((p * p * p * (1 / 2 * (1 / n)) : ℝ) : EReal) := EReal.coe_nonneg.mpr (by positivity)
    rw [mul_comm _ x, e1, sub_eq_add_neg, EReal.left_distrib_of_nonneg_of_ne_top (EReal.coe_nonneg.mpr hp.le) (EReal.coe_ne_top p), mul_neg, e2, EReal.coe_add,
      EReal.left_distrib_of_nonneg hz hz, mul_comm d, add_assoc]
    congr 1
    generalize hA : (x * S) * ((p * p * p * (1 / 2 * (1 / n)) : ℝ) : EReal) = A
    induction A using EReal.rec with
    | bot => rfl
    | top => rfl
    | coe a => rw [← EReal.coe_neg, ← EReal.coe_add, ← EReal.coe_add, ← EReal.coe_neg]; congr 1; ring

end

/-! ### A block -/

section
variable {T C : Nat}

/-- The gradient of a block of rows. -/
def backBlkW (w : BitVec 32) (x d : Arr ⟨2, ![T, C]⟩) : Arr ⟨2, ![T, C]⟩ := fun j =>
  midW w (x j) (d j) (∑ k : Fin C, x (ix2 (r0 j) k) * x (ix2 (r0 j) k)) (∑ k : Fin C, x (ix2 (r0 j) k) * d (ix2 (r0 j) k))

theorem blk_invW (w : BitVec 32) (x : Arr ⟨2, ![T, C]⟩) (acc) (h : (⟨2, ![T, C]⟩ : Shape).Reduces [1] ⟨1, ![T]⟩) (h1) (h2) (h3 : (⟨1, ![T]⟩ : Shape).ShapeCasts ⟨2, ![T, 1]⟩) :
    (rsqrt (F := Ideal) (φ := .f32) (addf (F := Ideal) (φ := .f32) (divf (F := Ideal) (φ := .f32)
        (shapeCast ⟨2, ![T, 1]⟩ (multiReduction (F := Ideal) (φ := .f32) .add [1] ⟨1, ![T]⟩ (mulf (F := Ideal) (φ := .f32) x x) acc h h1 h2) h3)
        (broadcast ⟨2, ![T, 1]⟩ (Scalar.ofBits (F := Ideal) .f32 w))) (broadcast ⟨2, ![T, 1]⟩ (Scalar.ofBits (F := Ideal) .f32 0x358637BD#32))) : Arr ⟨2, ![T, 1]⟩)
      = fun j => invW w (∑ k : Fin C, x (ix2 (r0 j) k) * x (ix2 (r0 j) k)) := by
  rw [asCol]
  funext j
  exact congrArg (invW w) (congrFun (colsE (mulf (F := Ideal) (φ := .f32) x x) acc h h1 h2) (ix1 (r0 j)))

theorem blk_backW {w : BitVec 32} {n : ℝ} (hn : 0 < n) (hw : Ideal.ofBits .f32 w = (n : EReal)) (x d y : Arr ⟨2, ![T, C]⟩) (i : Arr ⟨2, ![T, 1]⟩)
    (hi : i = fun j => invW w (∑ k : Fin C, x (ix2 (r0 j) k) * x (ix2 (r0 j) k))) (hy : y = fun j => x j * invW w (∑ k : Fin C, x (ix2 (r0 j) k) * x (ix2 (r0 j) k)))
    (acc) (h : (⟨2, ![T, C]⟩ : Shape).Reduces [1] ⟨1, ![T]⟩) (h1) (h2) (h3 : (⟨1, ![T]⟩ : Shape).ShapeCasts ⟨2, ![T, 1]⟩)
    (h4 : (⟨2, ![T, 1]⟩ : Shape).Broadcasts ⟨2, ![T, C]⟩) :
    (mulf (F := Ideal) (φ := .f32) (broadcastTo ⟨2, ![T, C]⟩ i h4) (subf (F := Ideal) (φ := .f32) d (mulf (F := Ideal) (φ := .f32) y
          (broadcastTo ⟨2, ![T, C]⟩ (divf (F := Ideal) (φ := .f32) (shapeCast ⟨2, ![T, 1]⟩ (multiReduction (F := Ideal) (φ := .f32) .add [1] ⟨1, ![T]⟩
              (mulf (F := Ideal) (φ := .f32) d y) acc h h1 h2) h3)
            (broadcast ⟨2, ![T, 1]⟩ (Scalar.ofBits (F := Ideal) .f32 w))) h4))) : Arr ⟨2, ![T, C]⟩)
      = backBlkW w x d := by
  subst hi hy
  rw [colTo, colTo, asCol]
  funext j
  rw [eq_rc j]
  refine Eq.trans ?_ (closedW hn hw (fun k => x (ix2 (r0 j) k)) (fun k => d (ix2 (r0 j) k)) (c1 j) _ (sum_sq_nonneg _))
  refine congrArg (fun S => invW w _ * (d _ - x _ * invW w _ * Ideal.div S _)) ?_
  exact congrFun (colsE _ acc h h1 h2) (ix1 (r0 j))

end

/-! ### A batch -/

section
variable {B R C : Nat}

/-- The gradient of a batch of rows. -/
def backW (w : BitVec 32) (r d : Arr ⟨3, ![B, R, C]⟩) : Arr ⟨3, ![B, R, C]⟩ := fun j =>
  midW w (r j) (d j) (sq r (d0 j) (d1 j)) (∑ k : Fin C, r (ix3 (d0 j) (d1 j) k) * d (ix3 (d0 j) (d1 j) k))

theorem host_denW (w : BitVec 32) {u : Shape} (r : Arr ⟨3, ![B, R, C]⟩) (h) (hu : 0 < u.numel) (hb : (⟨2, ![B, R]⟩ : Shape).BroadcastsInDim ⟨3, ![B, R, 1]⟩ ![0, 1])
    (u1 u2 : Shape) (x1 : Fin u1.rank → Fin 3) (x2 : Fin u2.rank → Fin 3)
    (h1 : u1.BroadcastsInDim ⟨3, ![B, R, 1]⟩ x1) (h2 : u2.BroadcastsInDim ⟨3, ![B, R, 1]⟩ x2) :
    (addf (F := Ideal) (φ := .f32) (Host.divf (F := Ideal) (φ := .f32)
        (broadcastInDim ⟨3, ![B, R, 1]⟩ ![0, 1] hb (Host.reduceAdd (F := Ideal) (φ := .f32) (axes := [2]) (t := ⟨2, ![B, R]⟩) (mulf (F := Ideal) (φ := .f32) r r) (constant (F := Ideal) u .f32 0x00000000#32) h hu))
        (broadcastInDim (s := u1) ⟨3, ![B, R, 1]⟩ x1 h1 (constant (F := Ideal) u1 .f32 w)))
        (broadcastInDim (s := u2) ⟨3, ![B, R, 1]⟩ x2 h2 (constant (F := Ideal) u2 .f32 0x358637BD#32)) : Arr ⟨3, ![B, R, 1]⟩)
      = fun j => denW w (sq r (d0 j) (d1 j)) := by
  funext j
  have e : (broadcastInDim ⟨3, ![B, R, 1]⟩ ![0, 1] hb (Host.reduceAdd (F := Ideal) (φ := .f32) (axes := [2]) (t := ⟨2, ![B, R]⟩) (mulf (F := Ideal) (φ := .f32) r r) (constant (F := Ideal) u .f32 0x00000000#32) h hu) : Arr ⟨3, ![B, R, 1]⟩) j
      = sq r (d0 j) (d1 j) := by
    rw [under]
    exact congrFun (hostLast3 _ h hu) (ix2 (d0 j) (d1 j))
  exact congrArg (denW w) e

/-- The host's lines of the derivative, `v` the mean square with the small constant. -/
theorem host_backW {w : BitVec 32} {n : ℝ} (hn : 0 < n) (hw : Ideal.ofBits .f32 w = (n : EReal)) {u : Shape} (r d : Arr ⟨3, ![B, R, C]⟩) (v : Arr ⟨3, ![B, R, 1]⟩) (hv : v = fun j => denW w (sq r (d0 j) (d1 j))) (h) (h') (hu : 0 < u.numel)
    (hc : (⟨3, ![B, R, 1]⟩ : Shape).BroadcastsInDim ⟨3, ![B, R, C]⟩ ![0, 1, 2]) (ha : (⟨2, ![B, R]⟩ : Shape).BroadcastsInDim ⟨3, ![B, R, C]⟩ ![0, 1])
    (hs : (⟨2, ![B, R]⟩ : Shape).ShapeCasts ⟨3, ![B, R, 1]⟩) (u1 u2 : Shape) (x1 : Fin u1.rank → Fin 3) (x2 : Fin u2.rank → Fin 3)
    (h1 : u1.BroadcastsInDim ⟨3, ![B, R, 1]⟩ x1) (h2 : u2.BroadcastsInDim ⟨3, ![B, R, 1]⟩ x2) (q : Arr ⟨3, ![B, R, C]⟩)
    (hq : q = broadcastInDim ⟨3, ![B, R, C]⟩ ![0, 1] ha (Host.reduceAdd (F := Ideal) (φ := .f32) (axes := [2]) (t := ⟨2, ![B, R]⟩)
        (Host.divf (F := Ideal) (φ := .f32) (mulf (F := Ideal) (φ := .f32)
          (shapeCast ⟨3, ![B, R, 1]⟩ (Host.reduceAdd (F := Ideal) (φ := .f32) (axes := [2]) (t := ⟨2, ![B, R]⟩) (mulf (F := Ideal) (φ := .f32) r d) (constant (F := Ideal) u .f32 0x00000000#32) h hu : Arr ⟨2, ![B, R]⟩) hs)
          (mulf (F := Ideal) (φ := .f32) (broadcastInDim (s := u1) ⟨3, ![B, R, 1]⟩ x1 h1 (constant (F := Ideal) u1 .f32 0xBF000000#32))
            (Host.divf (F := Ideal) (φ := .f32) (Host.rsqrt (F := Ideal) (φ := .f32) v) v)))
          (broadcastInDim (s := u2) ⟨3, ![B, R, 1]⟩ x2 h2 (constant (F := Ideal) u2 .f32 w))) (constant (F := Ideal) u .f32 0x00000000#32) h' hu : Arr ⟨2, ![B, R]⟩)) :
    (addf (F := Ideal) (φ := .f32) (addf (F := Ideal) (φ := .f32) (mulf (F := Ideal) (φ := .f32) d
        (broadcastInDim ⟨3, ![B, R, C]⟩ ![0, 1, 2] hc (Host.rsqrt (F := Ideal) (φ := .f32) v)))
        (mulf (F := Ideal) (φ := .f32) r q)) (mulf (F := Ideal) (φ := .f32) q r) : Arr ⟨3, ![B, R, C]⟩) = backW w r d := by
  have e : q = fun j => Ideal.div ((∑ k : Fin C, r (ix3 (d0 j) (d1 j) k) * d (ix3 (d0 j) (d1 j) k)) * (Ideal.ofBits .f32 0xBF000000#32 * Ideal.div (invW w (sq r (d0 j) (d1 j))) (denW w (sq r (d0 j) (d1 j))))) (Ideal.ofBits .f32 w) := by
    rw [hq, along, hostLast3, cast1, hostLast3, hv]
    funext j
    exact Fin.sum_univ_one _
  rw [e, widen, hv]
  funext j
  exact openW hn hw (r j) (d j) _ _ (sum_sq_nonneg _)

theorem host_invW (w : BitVec 32) {u : Shape} (r : Arr ⟨3, ![B, R, C]⟩) (h) (hu : 0 < u.numel) (hb : (⟨2, ![B, R]⟩ : Shape).BroadcastsInDim ⟨3, ![B, R, 1]⟩ ![0, 1])
    (hc : (⟨3, ![B, R, 1]⟩ : Shape).BroadcastsInDim ⟨3, ![B, R, C]⟩ ![0, 1, 2]) (u1 u2 : Shape) (x1 : Fin u1.rank → Fin 3) (x2 : Fin u2.rank → Fin 3)
    (h1 : u1.BroadcastsInDim ⟨3, ![B, R, 1]⟩ x1) (h2 : u2.BroadcastsInDim ⟨3, ![B, R, 1]⟩ x2) :
    (broadcastInDim ⟨3, ![B, R, C]⟩ ![0, 1, 2] hc (Host.rsqrt (F := Ideal) (φ := .f32) (addf (F := Ideal) (φ := .f32) (Host.divf (F := Ideal) (φ := .f32)
        (broadcastInDim ⟨3, ![B, R, 1]⟩ ![0, 1] hb (Host.reduceAdd (F := Ideal) (φ := .f32) (axes := [2]) (t := ⟨2, ![B, R]⟩) (mulf (F := Ideal) (φ := .f32) r r) (constant (F := Ideal) u .f32 0x00000000#32) h hu))
        (broadcastInDim (s := u1) ⟨3, ![B, R, 1]⟩ x1 h1 (constant (F := Ideal) u1 .f32 w)))
        (broadcastInDim (s := u2) ⟨3, ![B, R, 1]⟩ x2 h2 (constant (F := Ideal) u2 .f32 0x358637BD#32)))) : Arr ⟨3, ![B, R, C]⟩)
      = fun j => invW w (sq r (d0 j) (d1 j)) := by
  rw [widen]
  funext j
  have e : (broadcastInDim ⟨3, ![B, R, 1]⟩ ![0, 1] hb (Host.reduceAdd (F := Ideal) (φ := .f32) (axes := [2]) (t := ⟨2, ![B, R]⟩) (mulf (F := Ideal) (φ := .f32) r r) (constant (F := Ideal) u .f32 0x00000000#32) h hu) : Arr ⟨3, ![B, R, 1]⟩) (ix3 (d0 j) (d1 j) 0)
      = sq r (d0 j) (d1 j) := by
    rw [under]
    exact congrFun (hostLast3 _ h hu) (ix2 (d0 j) (d1 j))
  exact congrArg (invW w) e

/-- The host's lines of the gain's gradient. -/
theorem host_gainW (w : BitVec 32) {u : Shape} (r dh i : Arr ⟨3, ![B, R, C]⟩) (hi : i = fun j => invW w (sq r (d0 j) (d1 j))) (h) (h') (hu : 0 < u.numel)
    (hs : (⟨1, ![C]⟩ : Shape).ShapeCasts ⟨3, ![1, 1, C]⟩) (hs' : (⟨1, ![C]⟩ : Shape).ShapeCasts ⟨2, ![1, C]⟩) :
    (shapeCast ⟨2, ![1, C]⟩ (Host.reduceAdd (F := Ideal) (φ := .f32) (axes := [0, 1]) (t := ⟨1, ![C]⟩)
        (shapeCast ⟨3, ![1, 1, C]⟩ (Host.reduceAdd (F := Ideal) (φ := .f32) (axes := [0, 1]) (t := ⟨1, ![C]⟩)
          (mulf (F := Ideal) (φ := .f32) (mulf (F := Ideal) (φ := .f32) r i) dh) (constant (F := Ideal) u .f32 0x00000000#32) h hu : Arr ⟨1, ![C]⟩) hs)
        (constant (F := Ideal) u .f32 0x00000000#32) h' hu : Arr ⟨1, ![C]⟩) hs' : Arr ⟨2, ![1, C]⟩) = fun j => ∑ p : Fin B, ∑ q : Fin R, dh (ix3 p q (c1 j)) * (r (ix3 p q (c1 j)) * invW w (sq r p q)) := by
  rw [asRow, hostRows3, hostRows3, cast11, hi]
  funext j
  refine (Fin.sum_univ_one _).trans ((Fin.sum_univ_one _).trans ?_)
  exact Finset.sum_congr rfl fun p _ => Finset.sum_congr rfl fun q _ => mul_comm _ _

end

/-! ### Heads -/

/-- The column of place `k` of head `h`. -/
def hd (h : Fin 4) (k : Fin 128) : Fin 512 := Fin.ofNat 512 (h.val * 128 + k.val)

/-- The columns of head `h`. -/
def sl {T : Nat} (h : Fin 4) (a : Arr ⟨2, ![T, 512]⟩) : Arr ⟨2, ![T, 128]⟩ := fun j => a (ix2 (r0 j) (hd h (c1 j)))

theorem slE {T : Nat} (h : Fin 4) (q : Nat) (hq : q = h.val * 128) (a : Arr ⟨2, ![T, 512]⟩) (hs) :
    extractStridedSlice ⟨2, ![T, 128]⟩ ![0, q] a hs = sl h a := by
  funext j
  have h1 : h.val < 4 := h.isLt
  have h2 : (c1 j).val < 128 := (c1 j).isLt
  refine extractStridedSlice_apply _ a hs j _ fun e => ?_
  match e with
  | ⟨0, _⟩ =>
    show (r0 j).val = 0 + (r0 j).val
    omega
  | ⟨1, _⟩ =>
    show (h.val * 128 + (c1 j).val) % 512 = q + (c1 j).val
    omega

/-- The rows of a table, each cut in heads. -/
def heads (a : Arr ⟨2, ![8192, 512]⟩) : Arr ⟨3, ![8192, 4, 128]⟩ := fun j => a (ix2 (d0 j) (hd (d1 j) (d2 j)))

/-- The heads of each row joined. -/
def joined (a : Arr ⟨3, ![8192, 4, 128]⟩) : Arr ⟨2, ![8192, 512]⟩ := fun j => a (ix3 (r0 j) (Fin.ofNat 4 ((c1 j).val / 128)) (Fin.ofNat 128 (c1 j).val))

theorem headsE (a : Arr ⟨3, ![4, 2048, 512]⟩) (h) : shapeCast ⟨3, ![8192, 4, 128]⟩ a h = heads (flatA a) := by
  funext j
  have h0 : (d0 j).val < 8192 := (d0 j).isLt
  have h1 : (d1 j).val < 4 := (d1 j).isLt
  have h2 : (d2 j).val < 128 := (d2 j).isLt
  refine shapeCast_apply a h j _ ?_
  rw [Shape.rowMajor_val_three, Shape.rowMajor_val_three]
  show ((d0 j).val / 2048 % 4 * 2048 + (d0 j).val % 2048) * 512 + ((d1 j).val * 128 + (d2 j).val) % 512 = ((d0 j).val * 4 + (d1 j).val) * 128 + (d2 j).val
  omega

theorem joinedE (a : Arr ⟨3, ![8192, 4, 128]⟩) (h) (h') :
    shapeCast ⟨2, ![8192, 512]⟩ (shapeCast ⟨3, ![4, 2048, 512]⟩ a h) h' = joined a := by
  rw [flat8]
  funext j
  have h0 : (r0 j).val < 8192 := (r0 j).isLt
  have h1 : (c1 j).val < 512 := (c1 j).isLt
  refine shapeCast_apply a h _ _ ?_
  rw [Shape.rowMajor_val_three, Shape.rowMajor_val_three]
  show ((r0 j).val * 4 + (c1 j).val / 128 % 4) * 128 + (c1 j).val % 128 = ((r0 j).val / 2048 % 4 * 2048 + (r0 j).val % 2048) * 512 + (c1 j).val
  omega

/-- The columns from `q` on. -/
theorem lastE {B R C D : Nat} [NeZero D] (q : Nat) (hq : q + C ≤ D) (a : Arr ⟨3, ![B, R, D]⟩) (h) :
    extractStridedSlice ⟨3, ![B, R, C]⟩ ![0, 0, q] a h = fun j => a (ix3 (d0 j) (d1 j) (Fin.ofNat D (q + (d2 j).val))) := by
  funext j
  have h2 : (d2 j).val < C := (d2 j).isLt
  refine extractStridedSlice_apply _ a h j _ fun e => ?_
  match e with
  | ⟨0, _⟩ =>
    show (d0 j).val = 0 + (d0 j).val
    omega
  | ⟨1, _⟩ =>
    show (d1 j).val = 0 + (d1 j).val
    omega
  | ⟨2, _⟩ =>
    show (q + (d2 j).val) % D = q + (d2 j).val
    exact Nat.mod_eq_of_lt (by omega)

end Cert.Ext

end
-- ==== Proof.MixBwd.Geometry.lean ====
/- Where the blocks of the grid lie: what a point reads of each array, and that the written blocks fill the results. -/
module

public import proofs.«01_k».proof.Proof.Gen.Kernel24Ideal.Value
public import proofs.«01_k».proof.Proof.Lift.Heads
public import proofs.«01_k».proof.Proof.Lift.Place

@[expose] public section

noncomputable section

namespace Cert.MixBwd

open Cert.Kernel24Ideal Cert.Kernel24Ideal.Gen Cert.Ext Idealize.ShloMosaic Idealize.ShloMosaic.TcCoe Idealize.SL.Sem Cert.Lift Idealize.ShloMosaic.ValueIdx
open Idealize.ShloMosaic.Pipeline (Dat)

variable (m : (ℓ : Loc nD τ sig) → Buf (Elt Ideal) ℓ) (c : Dev nD)

theorem hN : cfg0.N = 16 := N_0

/-! ### The input blocks -/

theorem idx0_0 : ∀ t : Fin cfg0.N, win0_0.index t 0 = t.val := by decide +kernel
theorem idx0_1 : ∀ t : Fin cfg0.N, win0_0.index t 1 = 0 := by decide +kernel
theorem rd0 (t : Fin cfg0.N) (a : S8192x1024.Idx → EReal) (h : (V m c main_v0 : S8192x1024.Idx → EReal) = a) :
    (iblk m c 0 t : S512x1024.Idx → EReal) = fun y => a (ix2 (Fin.ofNat 8192 (t.val * 512 + (r0 y).val)) (Fin.ofNat 1024 (0 * 1024 + (c1 y).val))) := by
  have ht : t.val < 16 := hN ▸ t.isLt
  funext y
  unfold iblk
  rw [View.read_apply]
  exact (congrFun h _).trans (congrArg a (place _ y _ _ _ _ (idx0_0 t) (idx0_1 t) (by omega) (by omega) rfl rfl))

theorem idx1_0 : ∀ t : Fin cfg0.N, win0_1.index t 0 = t.val := by decide +kernel
theorem idx1_1 : ∀ t : Fin cfg0.N, win0_1.index t 1 = 0 := by decide +kernel
theorem rd1 (t : Fin cfg0.N) (a : S8192x512.Idx → EReal) (h : (V m c main_v1 : S8192x512.Idx → EReal) = a) :
    (iblk m c 1 t : S512x512.Idx → EReal) = fun y => a (ix2 (Fin.ofNat 8192 (t.val * 512 + (r0 y).val)) (Fin.ofNat 512 (0 * 512 + (c1 y).val))) := by
  have ht : t.val < 16 := hN ▸ t.isLt
  funext y
  unfold iblk
  rw [View.read_apply]
  exact (congrFun h _).trans (congrArg a (place _ y _ _ _ _ (idx1_0 t) (idx1_1 t) (by omega) (by omega) rfl rfl))

theorem idx4_0 : ∀ t : Fin cfg0.N, win0_4.index t 0 = t.val := by decide +kernel
theorem idx4_1 : ∀ t : Fin cfg0.N, win0_4.index t 1 = 0 := by decide +kernel
theorem rd4 (t : Fin cfg0.N) (a : S8192x512.Idx → EReal) (h : (V m c main_v3 : S8192x512.Idx → EReal) = a) :
    (iblk m c 4 t : S512x512.Idx → EReal) = fun y => a (ix2 (Fin.ofNat 8192 (t.val * 512 + (r0 y).val)) (Fin.ofNat 512 (0 * 512 + (c1 y).val))) := by
  have ht : t.val < 16 := hN ▸ t.isLt
  funext y
  unfold iblk
  rw [View.read_apply]
  exact (congrFun h _).trans (congrArg a (place _ y _ _ _ _ (idx4_0 t) (idx4_1 t) (by omega) (by omega) rfl rfl))

theorem idx5_0 : ∀ t : Fin cfg0.N, win0_5.index t 0 = 0 := by decide +kernel
theorem idx5_1 : ∀ t : Fin cfg0.N, win0_5.index t 1 = 0 := by decide +kernel
theorem rd5 (t : Fin cfg0.N) (a : S1x128.Idx → EReal) (h : (V m c main_v4 : S1x128.Idx → EReal) = a) :
    (iblk m c 5 t : S1x128.Idx → EReal) = fun y => a (ix2 (Fin.ofNat 1 (0 * 1 + (r0 y).val)) (Fin.ofNat 128 (0 * 128 + (c1 y).val))) := by
  have ht : t.val < 16 := hN ▸ t.isLt
  funext y
  unfold iblk
  rw [View.read_apply]
  exact (congrFun h _).trans (congrArg a (place _ y _ _ _ _ (idx5_0 t) (idx5_1 t) (by omega) (by omega) rfl rfl))

theorem idx6_0 : ∀ t : Fin cfg0.N, win0_6.index t 0 = 0 := by decide +kernel
theorem idx6_1 : ∀ t : Fin cfg0.N, win0_6.index t 1 = 0 := by decide +kernel
theorem rd6 (t : Fin cfg0.N) (a : S1x512.Idx → EReal) (h : (V m c main_v5 : S1x512.Idx → EReal) = a) :
    (iblk m c 6 t : S1x512.Idx → EReal) = fun y => a (ix2 (Fin.ofNat 1 (0 * 1 + (r0 y).val)) (Fin.ofNat 512 (0 * 512 + (c1 y).val))) := by
  have ht : t.val < 16 := hN ▸ t.isLt
  funext y
  unfold iblk
  rw [View.read_apply]
  exact (congrFun h _).trans (congrArg a (place _ y _ _ _ _ (idx6_0 t) (idx6_1 t) (by omega) (by omega) rfl rfl))

theorem idx7_0 : ∀ t : Fin cfg0.N, win0_7.index t 0 = 0 := by decide +kernel
theorem idx7_1 : ∀ t : Fin cfg0.N, win0_7.index t 1 = 0 := by decide +kernel
theorem rd7 (t : Fin cfg0.N) (a : S1024x1024.Idx → EReal) (h : (V m c main_v6 : S1024x1024.Idx → EReal) = a) :
    (iblk m c 7 t : S1024x1024.Idx → EReal) = fun y => a (ix2 (Fin.ofNat 1024 (0 * 1024 + (r0 y).val)) (Fin.ofNat 1024 (0 * 1024 + (c1 y).val))) := by
  have ht : t.val < 16 := hN ▸ t.isLt
  funext y
  unfold iblk
  rw [View.read_apply]
  exact (congrFun h _).trans (congrArg a (place _ y _ _ _ _ (idx7_0 t) (idx7_1 t) (by omega) (by omega) rfl rfl))

theorem idx2_0 : ∀ t : Fin cfg0.N, win0_2.index t 0 = t.val := by decide +kernel
theorem idx2_1 : ∀ t : Fin cfg0.N, win0_2.index t 1 = 3 := by decide +kernel
theorem part2 (t : Fin cfg0.N) (a : S8192x3200.Idx → EReal) (h : (V m c main_v2 : S8192x3200.Idx → EReal) = a) :
    (X0_2 m c t : S512x512.Idx → EReal) = fun y => a (ix2 (Fin.ofNat 8192 (t.val * 512 + (r0 y).val)) (Fin.ofNat 3200 (3 * 512 + (c1 y).val))) := by
  have ht : t.val < 16 := hN ▸ t.isLt
  refine funext fun (y : S512x512.Idx) => ?_
  unfold X0_2 Pipeline.Window.fill
  rw [dif_pos (moved0_2 t y)]
  unfold iblk
  rw [View.read_apply]
  exact (congrFun h _).trans (congrArg a (place _ y _ _ _ _ (idx2_0 t) (idx2_1 t) (by omega) (by omega) rfl rfl))

theorem idx3_0 : ∀ t : Fin cfg0.N, win0_3.index t 0 = t.val := by decide +kernel
theorem idx3_1 : ∀ t : Fin cfg0.N, win0_3.index t 1 = 5 := by decide +kernel
theorem part3 (t : Fin cfg0.N) (a : S8192x3200.Idx → EReal) (h : (V m c main_v2 : S8192x3200.Idx → EReal) = a) :
    (X0_3 m c t : S512x512.Idx → EReal) = fun y => a (ix2 (Fin.ofNat 8192 (t.val * 512 + (r0 y).val)) (Fin.ofNat 3200 (5 * 512 + (c1 y).val))) := by
  have ht : t.val < 16 := hN ▸ t.isLt
  refine funext fun (y : S512x512.Idx) => ?_
  unfold X0_3 Pipeline.Window.fill
  rw [dif_pos (moved0_3 t y)]
  unfold iblk
  rw [View.read_apply]
  exact (congrFun h _).trans (congrArg a (place _ y _ _ _ _ (idx3_0 t) (idx3_1 t) (by omega) (by omega) rfl rfl))

/-! ### The output arrays -/

theorem idx8_0 : ∀ t : Fin cfg0.N, win0_8.index t 0 = t.val := by decide +kernel
theorem idx8_1 : ∀ t : Fin cfg0.N, win0_8.index t 1 = 0 := by decide +kernel
theorem arr8 (p : Fin cfg0.N → S512x512.Idx → EReal) (G : S8192x512.Idx → EReal)
    (hp : ∀ t, (cfg0.win 8).flush t = true → ((dats m 0 c).after 8 t : S512x512.Idx → EReal) = p t)
    (hG : ∀ t, (cfg0.win 8).flush t = true → ∀ y, p t y = G (ix2 (Fin.ofNat 8192 (t.val * 512 + (r0 y).val)) (Fin.ofNat 512 (0 * 512 + (c1 y).val)))) :
    ((dats m 0 c).arrAt 8 cfg0.N : S8192x512.Idx → EReal) = G := by
  refine (dats m 0 c).arrAt_eq_of_cover 8 G (fun t hf => ?_) fun i => ?_
  · have ht : t.val < 16 := hN ▸ t.isLt
    refine funext fun (y : S512x512.Idx) => ?_
    refine (congrFun (hp t hf) y).trans ?_
    rw [View.read_apply]
    exact (hG t hf y).trans (congrArg G (place _ y _ _ _ _ (idx8_0 t) (idx8_1 t) (by omega) (by omega) rfl rfl).symm)
  · have h0 : (i 0 : Nat) < 8192 := (i 0).isLt
    have h1 : (i 1 : Nat) < 512 := (i 1).isLt
    have hlt : (i 0 : Nat) / 512 < cfg0.N := by rw [hN]; omega
    refine ⟨⟨(i 0 : Nat) / 512, hlt⟩, flush0_8 ⟨_, hlt⟩, ?_⟩
    show i ∈ ((View.whole main_v7_0).slice (win0_8.rect ⟨(i 0 : Nat) / 512, hlt⟩)).set
    rw [View.set_slice_whole, Rect.mem_set_unit]
    exact both (within (T := 512) (((i 0 : Nat) / 512)) (idx8_0 _) (by omega)) (within (T := 512) (0) (idx8_1 _) (by omega))

theorem idx11_0 : ∀ t : Fin cfg0.N, win0_11.index t 0 = t.val := by decide +kernel
theorem idx11_1 : ∀ t : Fin cfg0.N, win0_11.index t 1 = 0 := by decide +kernel
theorem arr11 (p : Fin cfg0.N → S512x512.Idx → EReal) (G : S8192x512.Idx → EReal)
    (hp : ∀ t, (cfg0.win 11).flush t = true → ((dats m 0 c).after 11 t : S512x512.Idx → EReal) = p t)
    (hG : ∀ t, (cfg0.win 11).flush t = true → ∀ y, p t y = G (ix2 (Fin.ofNat 8192 (t.val * 512 + (r0 y).val)) (Fin.ofNat 512 (0 * 512 + (c1 y).val)))) :
    ((dats m 0 c).arrAt 11 cfg0.N : S8192x512.Idx → EReal) = G := by
  refine (dats m 0 c).arrAt_eq_of_cover 11 G (fun t hf => ?_) fun i => ?_
  · have ht : t.val < 16 := hN ▸ t.isLt
    refine funext fun (y : S512x512.Idx) => ?_
    refine (congrFun (hp t hf) y).trans ?_
    rw [View.read_apply]
    exact (hG t hf y).trans (congrArg G (place _ y _ _ _ _ (idx11_0 t) (idx11_1 t) (by omega) (by omega) rfl rfl).symm)
  · have h0 : (i 0 : Nat) < 8192 := (i 0).isLt
    have h1 : (i 1 : Nat) < 512 := (i 1).isLt
    have hlt : (i 0 : Nat) / 512 < cfg0.N := by rw [hN]; omega
    refine ⟨⟨(i 0 : Nat) / 512, hlt⟩, flush0_11 ⟨_, hlt⟩, ?_⟩
    show i ∈ ((View.whole main_v7_3).slice (win0_11.rect ⟨(i 0 : Nat) / 512, hlt⟩)).set
    rw [View.set_slice_whole, Rect.mem_set_unit]
    exact both (within (T := 512) (((i 0 : Nat) / 512)) (idx11_0 _) (by omega)) (within (T := 512) (0) (idx11_1 _) (by omega))

theorem idx12_0 : ∀ t : Fin cfg0.N, win0_12.index t 0 = 0 := by decide +kernel
theorem idx12_1 : ∀ t : Fin cfg0.N, win0_12.index t 1 = 0 := by decide +kernel
theorem arr12 (p : Fin cfg0.N → S1x128.Idx → EReal) (G : S1x128.Idx → EReal)
    (hp : ∀ t, (cfg0.win 12).flush t = true → ((dats m 0 c).after 12 t : S1x128.Idx → EReal) = p t)
    (hG : ∀ t, (cfg0.win 12).flush t = true → ∀ y, p t y = G (ix2 (Fin.ofNat 1 (0 * 1 + (r0 y).val)) (Fin.ofNat 128 (0 * 128 + (c1 y).val)))) :
    ((dats m 0 c).arrAt 12 cfg0.N : S1x128.Idx → EReal) = G := by
  refine (dats m 0 c).arrAt_eq_of_cover 12 G (fun t hf => ?_) fun i => ?_
  · have ht : t.val < 16 := hN ▸ t.isLt
    refine funext fun (y : S1x128.Idx) => ?_
    refine (congrFun (hp t hf) y).trans ?_
    rw [View.read_apply]
    exact (hG t hf y).trans (congrArg G (place _ y _ _ _ _ (idx12_0 t) (idx12_1 t) (by omega) (by omega) rfl rfl).symm)
  · have h0 : (i 0 : Nat) < 1 := (i 0).isLt
    have h1 : (i 1 : Nat) < 128 := (i 1).isLt
    have hlt : 15 < cfg0.N := by rw [hN]; omega
    refine ⟨⟨15, hlt⟩, (flush0_12 ⟨_, hlt⟩).mpr (by show (15) % 16 = 15; omega), ?_⟩
    show i ∈ ((View.whole main_v7_4).slice (win0_12.rect ⟨15, hlt⟩)).set
    rw [View.set_slice_whole, Rect.mem_set_unit]
    exact both (within (T := 1) (0) (idx12_0 _) (by omega)) (within (T := 128) (0) (idx12_1 _) (by omega))

theorem idx13_0 : ∀ t : Fin cfg0.N, win0_13.index t 0 = 0 := by decide +kernel
theorem idx13_1 : ∀ t : Fin cfg0.N, win0_13.index t 1 = 0 := by decide +kernel
theorem arr13 (p : Fin cfg0.N → S1x512.Idx → EReal) (G : S1x512.Idx → EReal)
    (hp : ∀ t, (cfg0.win 13).flush t = true → ((dats m 0 c).after 13 t : S1x512.Idx → EReal) = p t)
    (hG : ∀ t, (cfg0.win 13).flush t = true → ∀ y, p t y = G (ix2 (Fin.ofNat 1 (0 * 1 + (r0 y).val)) (Fin.ofNat 512 (0 * 512 + (c1 y).val)))) :
    ((dats m 0 c).arrAt 13 cfg0.N : S1x512.Idx → EReal) = G := by
  refine (dats m 0 c).arrAt_eq_of_cover 13 G (fun t hf => ?_) fun i => ?_
  · have ht : t.val < 16 := hN ▸ t.isLt
    refine funext fun (y : S1x512.Idx) => ?_
    refine (congrFun (hp t hf) y).trans ?_
    rw [View.read_apply]
    exact (hG t hf y).trans (congrArg G (place _ y _ _ _ _ (idx13_0 t) (idx13_1 t) (by omega) (by omega) rfl rfl).symm)
  · have h0 : (i 0 : Nat) < 1 := (i 0).isLt
    have h1 : (i 1 : Nat) < 512 := (i 1).isLt
    have hlt : 15 < cfg0.N := by rw [hN]; omega
    refine ⟨⟨15, hlt⟩, (flush0_13 ⟨_, hlt⟩).mpr (by show (15) % 16 = 15; omega), ?_⟩
    show i ∈ ((View.whole main_v7_5).slice (win0_13.rect ⟨15, hlt⟩)).set
    rw [View.set_slice_whole, Rect.mem_set_unit]
    exact both (within (T := 1) (0) (idx13_0 _) (by omega)) (within (T := 512) (0) (idx13_1 _) (by omega))

end Cert.MixBwd

end
-- ==== Proof.MixBwd.Block.lean ====
/- What a point computes from its blocks, index by index. -/
module

public import proofs.«01_k».proof.Proof.Gen.Kernel24Ideal.Value
public import proofs.«01_k».proof.Proof.Lift.Heads

@[expose] public section

noncomputable section

namespace Cert.MixBwd

open Cert.Kernel24Ideal Cert.Kernel24Ideal.Gen Cert.Ext Idealize.ShloMosaic Idealize.ShloMosaic.TcCoe Idealize.ShloMosaic.Tactic Idealize.SL.Sem Cert.Lift Idealize.ShloMosaic.ValueIdx

theorem word128 : Ideal.ofBits .f32 0x43000000#32 = ((128 : ℝ) : EReal) := by
  simp [Ideal.ofBits, Ideal.ieee, -EReal.coe_mul]; norm_num
theorem word512 : Ideal.ofBits .f32 0x44000000#32 = ((512 : ℝ) : EReal) := by
  simp [Ideal.ofBits, Ideal.ieee, -EReal.coe_mul]; norm_num

/-! ### Rows -/

section
variable {T : Nat}

/-- The gradient of the mixed rows' columns from `q` on. -/
def dPart (q : Nat) (x : Arr ⟨2, ![T, 1024]⟩) (w : Arr S1024x1024) : Arr ⟨2, ![T, 512]⟩ := fun j =>
  ∑ k : Fin 1024, x (ix2 (r0 j) k) * w (ix2 (Fin.ofNat 1024 (q + (c1 j).val)) k)

/-- The gradient of the normalised heads. -/
def cot (x : Arr ⟨2, ![T, 1024]⟩) (w : Arr S1024x1024) (z : Arr ⟨2, ![T, 512]⟩) : Arr ⟨2, ![T, 512]⟩ := fun j => dPart 0 x w j * (z j * sg (z j))

/-- … of head `h`, times the gain. -/
def headD (h : Fin 4) (x : Arr ⟨2, ![T, 1024]⟩) (w : Arr S1024x1024) (z : Arr ⟨2, ![T, 512]⟩) (g : Arr S1x128) : Arr ⟨2, ![T, 128]⟩ := fun j =>
  sl h (cot x w z) j * g (ix2 0 (c1 j))

/-- The gradient of head `h`. -/
def doHead (h : Fin 4) (x : Arr ⟨2, ![T, 1024]⟩) (w : Arr S1024x1024) (z o : Arr ⟨2, ![T, 512]⟩) (g : Arr S1x128) : Arr ⟨2, ![T, 128]⟩ :=
  backBlkW 0x43000000#32 (sl h o) (headD h x w z g)

/-- The gradient of the heads. -/
def doRows (x : Arr ⟨2, ![T, 1024]⟩) (w : Arr S1024x1024) (z o : Arr ⟨2, ![T, 512]⟩) (g : Arr S1x128) : Arr ⟨2, ![T, 512]⟩ := fun j =>
  doHead (Fin.ofNat 4 ((c1 j).val / 128)) x w z o g (ix2 (r0 j) (Fin.ofNat 128 (c1 j).val))

/-- A row's terms of the gradient of the heads' gain. -/
def gnHead (h : Fin 4) (x : Arr ⟨2, ![T, 1024]⟩) (w : Arr S1024x1024) (z o : Arr ⟨2, ![T, 512]⟩) : Arr ⟨2, ![T, 128]⟩ := fun j =>
  sl h (cot x w z) j * (sl h o j * invW 0x43000000#32 (∑ k : Fin 128, sl h o (ix2 (r0 j) k) * sl h o (ix2 (r0 j) k)))

/-- The smooth rectifier, of the words of its formula. -/
def gelu (x : EReal) : EReal := (Ideal.ofBits .f32 0x3F000000#32 * x)
  * (Ideal.ofBits .f32 0x3F800000#32 + Ideal.tanh (Ideal.ofBits .f32 0x3F4C422A#32 * (x + ((Ideal.ofBits .f32 0x3D372713#32 * x) * x) * x)))

/-- The gated rows. -/
def un (l s : Arr ⟨2, ![T, 512]⟩) : Arr ⟨2, ![T, 512]⟩ := fun j => gelu (l j) * s j

/-- The gradient of the gated rows' normalisation, times its gain. -/
def dl (x : Arr ⟨2, ![T, 1024]⟩) (w : Arr S1024x1024) (g : Arr S1x512) : Arr ⟨2, ![T, 512]⟩ := fun j => dPart 512 x w j * g (ix2 0 (c1 j))

/-- The gradient of the gated state. -/
def dsRows (x : Arr ⟨2, ![T, 1024]⟩) (w : Arr S1024x1024) (l s : Arr ⟨2, ![T, 512]⟩) (g : Arr S1x512) : Arr ⟨2, ![T, 512]⟩ := fun j =>
  backBlkW 0x44000000#32 (un l s) (dl x w g) j * gelu (l j)

/-- A row's terms of the gradient of the second gain. -/
def lrTerm (x : Arr ⟨2, ![T, 1024]⟩) (w : Arr S1024x1024) (l s : Arr ⟨2, ![T, 512]⟩) : Arr ⟨2, ![T, 512]⟩ := fun j =>
  dPart 512 x w j * (un l s j * invW 0x44000000#32 (∑ k : Fin 512, un l s (ix2 (r0 j) k) * un l s (ix2 (r0 j) k)))

end

/-! ### Payloads -/

theorem blk_silu {s : Shape} (z : Arr s) :
    (mulf (F := Ideal) (φ := .f32) z (divf (F := Ideal) (φ := .f32) (broadcast s (Scalar.ofBits (F := Ideal) .f32 0x3F800000#32)) (addf (F := Ideal) (φ := .f32) (broadcast s (Scalar.ofBits (F := Ideal) .f32 0x3F800000#32))
      (exp (F := Ideal) (φ := .f32) (subf (F := Ideal) (φ := .f32) (broadcast s (Scalar.ofBits (F := Ideal) .f32 0x00000000#32)) z)))) : Arr s) = fun j => z j * sg (z j) :=
  funext fun j => congrArg (fun e => z j * Ideal.div (Ideal.ofBits .f32 0x3F800000#32) (Ideal.ofBits .f32 0x3F800000#32 + Ideal.exp e)) ((congrArg (· - z j) zeroF).trans (zero_sub _))

section
variable (x0 : S512x1024.Idx → EReal) (x1 x2 x3 x4 : S512x512.Idx → EReal) (x5 : S1x128.Idx → EReal) (x6 : S1x512.Idx → EReal) (x7 : S1024x1024.Idx → EReal)

/-- The first half of the weight's rows, and the second. -/
abbrev wTop : S512x1024.Idx → EReal := View.ld (Val := Elt Ideal) (e' := .bf16) x7 (Rect.unit (s := S1024x1024) ![0, 0] S512x1024.size inb_S1024x1024_S512x1024_0_0)
abbrev wBot : S512x1024.Idx → EReal := View.ld (Val := Elt Ideal) (e' := .bf16) x7 (Rect.unit (s := S1024x1024) ![512, 0] S512x1024.size inb_S1024x1024_S512x1024_512_0)

theorem half (q : Nat) (hq : q ≤ 512) (hi) :
    (View.ld (Val := Elt Ideal) (e' := .bf16) x7 (Rect.unit (s := S1024x1024) ![q, 0] S512x1024.size hi) : S512x1024.Idx → EReal) = fun y => x7 (ix2 (Fin.ofNat 1024 (q + (r0 y).val)) (c1 y)) := by
  refine funext fun (y : S512x1024.Idx) => congrArg x7 (funext fun d => Fin.ext ?_)
  have h0 : (r0 y).val < 512 := (r0 y).isLt
  match d with
  | ⟨0, _⟩ =>
    show q + 1 * (r0 y).val = (q + (r0 y).val) % 1024
    omega
  | ⟨1, _⟩ =>
    show 0 + 1 * (c1 y).val = (c1 y).val
    omega

theorem top : (k0_pay51 (F := Ideal) (k0_pay50 (F := Ideal) x0) (wTop x7) : S512x512.Idx → EReal) = dPart 0 x0 x7 := by
  unfold k0_pay51 k0_pay50 wTop
  dsimp only
  rw [shapeCast_self, shapeCast_self, half x7 0 (by omega)]
  exact matmul_nt dot_S512x1024_S512x1024_S512x512_1_1_0_0_n_n rfl rfl rfl rfl rfl rfl none (φ := .bf16) (ψ := .bf16) x0 _

theorem bot : (k0_pay52 (F := Ideal) (k0_pay50 (F := Ideal) x0) (wBot x7) : S512x512.Idx → EReal) = dPart 512 x0 x7 := by
  unfold k0_pay52 k0_pay50 wBot
  dsimp only
  rw [shapeCast_self, shapeCast_self, half x7 512 (by omega)]
  exact matmul_nt dot_S512x1024_S512x1024_S512x512_1_1_0_0_n_n rfl rfl rfl rfl rfl rfl none (φ := .bf16) (ψ := .bf16) x0 _

theorem pay5 : (k0_pay5 (F := Ideal) x5 : S1x128.Idx → EReal) = x5 := by unfold k0_pay5; exact shapeCast_self _ _
theorem pay6 : (k0_pay6 (F := Ideal) x6 : S1x512.Idx → EReal) = x6 := by unfold k0_pay6; exact shapeCast_self _ _
theorem pay7 : (k0_pay7 (F := Ideal) x4 : S512x512.Idx → EReal) = x4 := by unfold k0_pay7; exact shapeCast_self _ _
theorem pay8 : (k0_pay8 (F := Ideal) x1 : S512x512.Idx → EReal) = x1 := by unfold k0_pay8; exact shapeCast_self _ _
theorem pay9 : (k0_pay9 (F := Ideal) x2 : S512x512.Idx → EReal) = x2 := by unfold k0_pay9; exact shapeCast_self _ _
theorem pay10 : (k0_pay10 (F := Ideal) x3 : S512x512.Idx → EReal) = x3 := by unfold k0_pay10; exact shapeCast_self _ _

/-! #### Head 0 -/

theorem inv0 : (k0_pay12 (F := Ideal) x1 : S512x1.Idx → EReal) = fun j => invW 0x43000000#32 (∑ k : Fin 128, sl 0 x1 (ix2 (r0 j) k) * sl 0 x1 (ix2 (r0 j) k)) := by
  unfold k0_pay12 k0_pay11
  rw [pay8, slE 0 0 rfl]
  exact blk_invW _ _ _ _ _ _ _

theorem xh0 : (k0_pay13 (F := Ideal) x1 : S512x128.Idx → EReal) = fun j => sl 0 x1 j * invW 0x43000000#32 (∑ k : Fin 128, sl 0 x1 (ix2 (r0 j) k) * sl 0 x1 (ix2 (r0 j) k)) := by
  unfold k0_pay13 k0_pay11
  rw [inv0, pay8, slE 0 0 rfl]
  dsimp only
  rw [colTo]
  rfl

theorem silu0 : (k0_pay17 (F := Ideal) x2 : S512x128.Idx → EReal) = fun j => sl 0 x2 j * sg (sl 0 x2 j) := by
  unfold k0_pay17 k0_pay16 k0_pay15
  rw [pay9, slE 0 0 rfl]
  exact blk_silu _

/-! #### Head 1 -/

theorem inv1 : (k0_pay20 (F := Ideal) (k0_pay8 (F := Ideal) x1) : S512x1.Idx → EReal) = fun j => invW 0x43000000#32 (∑ k : Fin 128, sl 1 x1 (ix2 (r0 j) k) * sl 1 x1 (ix2 (r0 j) k)) := by
  unfold k0_pay20 k0_pay19
  rw [pay8, slE 1 128 rfl]
  exact blk_invW _ _ _ _ _ _ _

theorem xh1 : (k0_pay21 (F := Ideal) (k0_pay8 (F := Ideal) x1) : S512x128.Idx → EReal) = fun j => sl 1 x1 j * invW 0x43000000#32 (∑ k : Fin 128, sl 1 x1 (ix2 (r0 j) k) * sl 1 x1 (ix2 (r0 j) k)) := by
  unfold k0_pay21 k0_pay19
  rw [inv1, pay8, slE 1 128 rfl]
  dsimp only
  rw [colTo]
  rfl

theorem silu1 : (k0_pay25 (F := Ideal) (k0_pay9 (F := Ideal) x2) : S512x128.Idx → EReal) = fun j => sl 1 x2 j * sg (sl 1 x2 j) := by
  unfold k0_pay25 k0_pay24 k0_pay23
  rw [pay9, slE 1 128 rfl]
  exact blk_silu _

/-! #### Head 2 -/

theorem inv2 : (k0_pay28 (F := Ideal) (k0_pay8 (F := Ideal) x1) : S512x1.Idx → EReal) = fun j => invW 0x43000000#32 (∑ k : Fin 128, sl 2 x1 (ix2 (r0 j) k) * sl 2 x1 (ix2 (r0 j) k)) := by
  unfold k0_pay28 k0_pay27
  rw [pay8, slE 2 256 rfl]
  exact blk_invW _ _ _ _ _ _ _

theorem xh2 : (k0_pay29 (F := Ideal) (k0_pay8 (F := Ideal) x1) : S512x128.Idx → EReal) = fun j => sl 2 x1 j * invW 0x43000000#32 (∑ k : Fin 128, sl 2 x1 (ix2 (r0 j) k) * sl 2 x1 (ix2 (r0 j) k)) := by
  unfold k0_pay29 k0_pay27
  rw [inv2, pay8, slE 2 256 rfl]
  dsimp only
  rw [colTo]
  rfl

theorem silu2 : (k0_pay33 (F := Ideal) (k0_pay31 (F := Ideal) (k0_pay9 (F := Ideal) x2)) : S512x128.Idx → EReal) = fun j => sl 2 x2 j * sg (sl 2 x2 j) := by
  unfold k0_pay33 k0_pay32 k0_pay31
  rw [pay9, slE 2 256 rfl]
  exact blk_silu _

/-! #### Head 3 -/

theorem inv3 : (k0_pay36 (F := Ideal) (k0_pay8 (F := Ideal) x1) : S512x1.Idx → EReal) = fun j => invW 0x43000000#32 (∑ k : Fin 128, sl 3 x1 (ix2 (r0 j) k) * sl 3 x1 (ix2 (r0 j) k)) := by
  unfold k0_pay36 k0_pay35
  rw [pay8, slE 3 384 rfl]
  exact blk_invW _ _ _ _ _ _ _

theorem xh3 : (k0_pay37 (F := Ideal) (k0_pay8 (F := Ideal) x1) : S512x128.Idx → EReal) = fun j => sl 3 x1 j * invW 0x43000000#32 (∑ k : Fin 128, sl 3 x1 (ix2 (r0 j) k) * sl 3 x1 (ix2 (r0 j) k)) := by
  unfold k0_pay37 k0_pay35
  rw [inv3, pay8, slE 3 384 rfl]
  dsimp only
  rw [colTo]
  rfl

theorem silu3 : (k0_pay41 (F := Ideal) (k0_pay9 (F := Ideal) x2) : S512x128.Idx → EReal) = fun j => sl 3 x2 j * sg (sl 3 x2 j) := by
  unfold k0_pay41 k0_pay40 k0_pay39
  rw [pay9, slE 3 384 rfl]
  exact blk_silu _

/-! #### The stores -/

theorem cot0 : (k0_pay55 (F := Ideal) (k0_pay17 (F := Ideal) x2) (k0_pay50 (F := Ideal) x0) (wTop x7) : S512x128.Idx → EReal) = sl 0 (cot x0 x7 x2) := by
  unfold k0_pay55 k0_pay53
  rw [top, silu0, slE 0 0 rfl]
  rfl

theorem piece0 : (k0_pay56 (F := Ideal) (k0_pay5 (F := Ideal) x5) (k0_pay12 (F := Ideal) x1) (k0_pay13 (F := Ideal) x1) (k0_pay17 (F := Ideal) x2) (k0_pay50 (F := Ideal) x0) (wTop x7) : S512x128.Idx → EReal) = doHead 0 x0 x7 x2 x1 x5 := by
  unfold k0_pay56
  rw [cot0, pay5, rowTo]
  exact blk_backW (by norm_num) word128 (sl 0 x1) (headD 0 x0 x7 x2 x5) _ _ (inv0 x1) (xh0 x1) _ _ _ _ _ _

theorem cot1 : (k0_pay60 (F := Ideal) (k0_pay25 (F := Ideal) (k0_pay9 (F := Ideal) x2)) (k0_pay50 (F := Ideal) x0) (wTop x7) : S512x128.Idx → EReal) = sl 1 (cot x0 x7 x2) := by
  unfold k0_pay60 k0_pay58
  rw [top, silu1, slE 1 128 rfl]
  rfl

theorem piece1 : (k0_pay63 (F := Ideal) (k0_pay20 (F := Ideal) (k0_pay8 (F := Ideal) x1)) (k0_pay21 (F := Ideal) (k0_pay8 (F := Ideal) x1)) (k0_pay61 (F := Ideal) (k0_pay5 (F := Ideal) x5) (k0_pay25 (F := Ideal) (k0_pay9 (F := Ideal) x2)) (k0_pay50 (F := Ideal) x0) (wTop x7)) (k0_pay62 (F := Ideal) (k0_pay5 (F := Ideal) x5) (k0_pay21 (F := Ideal) (k0_pay8 (F := Ideal) x1)) (k0_pay25 (F := Ideal) (k0_pay9 (F := Ideal) x2)) (k0_pay50 (F := Ideal) x0) (wTop x7)) (Scalar.ofBits (F := Ideal) .f32 0x43000000#32) : S512x128.Idx → EReal) = doHead 1 x0 x7 x2 x1 x5 := by
  unfold k0_pay63 k0_pay62 k0_pay61
  rw [cot1, pay5, rowTo]
  exact blk_backW (by norm_num) word128 (sl 1 x1) (headD 1 x0 x7 x2 x5) _ _ (inv1 x1) (xh1 x1) _ _ _ _ _ _

theorem cot2 : (k0_pay66 (F := Ideal) (k0_pay33 (F := Ideal) (k0_pay31 (F := Ideal) (k0_pay9 (F := Ideal) x2))) (k0_pay51 (F := Ideal) (k0_pay50 (F := Ideal) x0) (wTop x7)) : S512x128.Idx → EReal) = sl 2 (cot x0 x7 x2) := by
  unfold k0_pay66 k0_pay64
  rw [top, silu2, slE 2 256 rfl]
  rfl

theorem piece2 : (k0_pay67 (F := Ideal) (k0_pay5 (F := Ideal) x5) (k0_pay28 (F := Ideal) (k0_pay8 (F := Ideal) x1)) (k0_pay29 (F := Ideal) (k0_pay8 (F := Ideal) x1)) (k0_pay33 (F := Ideal) (k0_pay31 (F := Ideal) (k0_pay9 (F := Ideal) x2))) (k0_pay51 (F := Ideal) (k0_pay50 (F := Ideal) x0) (wTop x7)) : S512x128.Idx → EReal) = doHead 2 x0 x7 x2 x1 x5 := by
  unfold k0_pay67
  rw [cot2, pay5, rowTo]
  exact blk_backW (by norm_num) word128 (sl 2 x1) (headD 2 x0 x7 x2 x5) _ _ (inv2 x1) (xh2 x1) _ _ _ _ _ _

theorem cot3 : (k0_pay71 (F := Ideal) (k0_pay41 (F := Ideal) (k0_pay9 (F := Ideal) x2)) (k0_pay51 (F := Ideal) (k0_pay50 (F := Ideal) x0) (wTop x7)) : S512x128.Idx → EReal) = sl 3 (cot x0 x7 x2) := by
  unfold k0_pay71 k0_pay69
  rw [top, silu3, slE 3 384 rfl]
  rfl

theorem piece3 : (k0_pay73 (F := Ideal) (k0_pay36 (F := Ideal) (k0_pay8 (F := Ideal) x1)) (k0_pay37 (F := Ideal) (k0_pay8 (F := Ideal) x1)) (k0_pay71 (F := Ideal) (k0_pay41 (F := Ideal) (k0_pay9 (F := Ideal) x2)) (k0_pay51 (F := Ideal) (k0_pay50 (F := Ideal) x0) (wTop x7))) (k0_pay72 (F := Ideal) (k0_pay5 (F := Ideal) x5)) : S512x128.Idx → EReal) = doHead 3 x0 x7 x2 x1 x5 := by
  unfold k0_pay73 k0_pay72
  rw [cot3, pay5, rowTo]
  exact blk_backW (by norm_num) word128 (sl 3 x1) (headD 3 x0 x7 x2 x5) _ _ (inv3 x1) (xh3 x1) _ _ _ _ _ _

/-- What a point adds to the gradient of the heads' gain. -/
theorem gains (a : S1x128.Idx → EReal) : (k0_pay74 (F := Ideal) (k0_pay37 (F := Ideal) (k0_pay8 (F := Ideal) x1)) (k0_pay68 (F := Ideal) (k0_pay21 (F := Ideal) (k0_pay8 (F := Ideal) x1)) (k0_pay29 (F := Ideal) (k0_pay8 (F := Ideal) x1)) (k0_pay33 (F := Ideal) (k0_pay31 (F := Ideal) (k0_pay9 (F := Ideal) x2))) (k0_pay51 (F := Ideal) (k0_pay50 (F := Ideal) x0) (wTop x7)) (k0_pay57 (F := Ideal) (k0_pay13 (F := Ideal) x1) (k0_pay17 (F := Ideal) x2) (k0_pay50 (F := Ideal) x0) (wTop x7)) (k0_pay60 (F := Ideal) (k0_pay25 (F := Ideal) (k0_pay9 (F := Ideal) x2)) (k0_pay50 (F := Ideal) x0) (wTop x7))) (k0_pay71 (F := Ideal) (k0_pay41 (F := Ideal) (k0_pay9 (F := Ideal) x2)) (k0_pay51 (F := Ideal) (k0_pay50 (F := Ideal) x0) (wTop x7))) a : S1x128.Idx → EReal)
    = fun j => a j + ((((∑ y : Fin 512, gnHead 0 x0 x7 x2 x1 (ix2 y (c1 j))) + ∑ y : Fin 512, gnHead 1 x0 x7 x2 x1 (ix2 y (c1 j))) + ∑ y : Fin 512, gnHead 2 x0 x7 x2 x1 (ix2 y (c1 j))) + ∑ y : Fin 512, gnHead 3 x0 x7 x2 x1 (ix2 y (c1 j))) := by
  unfold k0_pay74 k0_pay68 k0_pay57
  rw [cot0, cot1, cot2, cot3, xh0, xh1, xh2, xh3]
  dsimp only
  rw [shapeCast_self]
  refine funext fun (j : S1x128.Idx) => congrArg (a j + ·) ?_
  refine (congrFun (blk_gain _ _ _ _ _ _ _ _) j).trans (congrArg (· + _) ?_)
  refine (congrFun (blk_gain _ _ _ _ _ _ _ _) j).trans (congrArg (· + _) ?_)
  refine (congrFun (blk_gain _ _ _ _ _ _ _ _) j).trans (congrArg (· + _) ?_)
  refine (congrFun (blk_gain _ _ _ _ _ _ _ _) j).trans ?_
  exact (congrArg (· + _) zeroF).trans (zero_add _)

theorem gate : ((k0_pay45 (F := Ideal) (k0_pay10 (F := Ideal) x3) (k0_pay43 (F := Ideal) (k0_pay10 (F := Ideal) x3))) : S512x512.Idx → EReal) = fun j => gelu (x3 j) := by
  unfold k0_pay45 k0_pay44 k0_pay43
  rw [pay10]
  rfl

theorem gated : (k0_pay47 (F := Ideal) (k0_pay7 (F := Ideal) x4) (k0_pay10 (F := Ideal) x3) (k0_pay43 (F := Ideal) (k0_pay10 (F := Ideal) x3)) : S512x512.Idx → EReal) = un x3 x4 := by
  unfold k0_pay47
  rw [gate, pay7]
  rfl

theorem invL : ((k0_pay48 (F := Ideal) (k0_pay7 (F := Ideal) x4) (k0_pay10 (F := Ideal) x3) (k0_pay43 (F := Ideal) (k0_pay10 (F := Ideal) x3))) : S512x1.Idx → EReal) = fun j => invW 0x44000000#32 (∑ k : Fin 512, un x3 x4 (ix2 (r0 j) k) * un x3 x4 (ix2 (r0 j) k)) := by
  unfold k0_pay48
  rw [gated]
  exact blk_invW _ _ _ _ _ _ _

theorem xhL : ((k0_pay49 (F := Ideal) (k0_pay7 (F := Ideal) x4) (k0_pay10 (F := Ideal) x3) (k0_pay43 (F := Ideal) (k0_pay10 (F := Ideal) x3))) : S512x512.Idx → EReal) = fun j => un x3 x4 j * invW 0x44000000#32 (∑ k : Fin 512, un x3 x4 (ix2 (r0 j) k) * un x3 x4 (ix2 (r0 j) k)) := by
  unfold k0_pay49
  rw [invL, gated]
  dsimp only
  rw [colTo]
  rfl

theorem states : (k0_pay2 (F := Ideal) (k0_pay45 (F := Ideal) (k0_pay10 (F := Ideal) x3) (k0_pay43 (F := Ideal) (k0_pay10 (F := Ideal) x3))) (k0_pay75 (F := Ideal) (k0_pay6 (F := Ideal) x6) (k0_pay48 (F := Ideal) (k0_pay7 (F := Ideal) x4) (k0_pay10 (F := Ideal) x3) (k0_pay43 (F := Ideal) (k0_pay10 (F := Ideal) x3))) (k0_pay49 (F := Ideal) (k0_pay7 (F := Ideal) x4) (k0_pay10 (F := Ideal) x3) (k0_pay43 (F := Ideal) (k0_pay10 (F := Ideal) x3))) (k0_pay52 (F := Ideal) (k0_pay50 (F := Ideal) x0) (wBot x7))) : S512x512.Idx → EReal) = dsRows x0 x7 x3 x4 x6 := by
  unfold k0_pay2 k0_pay75
  rw [gate, bot, pay6, rowTo]
  exact congrArg (fun b => mulf (F := Ideal) (φ := .f32) b _) (blk_backW (by norm_num) word512 (un x3 x4) (dl x0 x7 x6) _ _ (invL x3 x4) (xhL x3 x4) _ _ _ _ _ _)

theorem gains2 (a : S1x512.Idx → EReal) : (k0_pay76 (F := Ideal) (k0_pay49 (F := Ideal) (k0_pay7 (F := Ideal) x4) (k0_pay10 (F := Ideal) x3) (k0_pay43 (F := Ideal) (k0_pay10 (F := Ideal) x3))) (k0_pay52 (F := Ideal) (k0_pay50 (F := Ideal) x0) (wBot x7)) a : S1x512.Idx → EReal) = fun j => a j + ∑ y : Fin 512, lrTerm x0 x7 x3 x4 (ix2 y (c1 j)) := by
  unfold k0_pay76
  rw [xhL, bot]
  dsimp only
  rw [shapeCast_self]
  exact blk_gain _ _ a _ _ _ _ _

theorem zeros3 : (k0_pay3 (F := Ideal) : S1x128.Idx → EReal) = fun _ => 0 := by
  unfold k0_pay3
  exact funext fun j => zeroF

theorem zeros4 : (k0_pay4 (F := Ideal) : S1x512.Idx → EReal) = fun _ => 0 := by
  unfold k0_pay4
  exact funext fun j => zeroF

end

end Cert.MixBwd

end
-- ==== Proof.MixBwd.Value.lean ====
/- The arrays the call returns: the gradients of the heads, of the state and of the two gains. -/
module

public import proofs.«01_k».proof.Proof.MixBwd.Geometry
public import proofs.«01_k».proof.Proof.MixBwd.Block
public import Idealize.ShloMosaic.Lib.Pipeline.ValueKit.Tiles

@[expose] public section

noncomputable section

namespace Cert.MixBwd

open Cert.Kernel24Ideal Cert.Kernel24Ideal.Gen Cert.Ext Idealize.ShloMosaic Idealize.ShloMosaic.TcCoe Idealize.ShloMosaic.Tactic Idealize.SL.Sem Cert.Lift Idealize.ShloMosaic.ValueIdx

/-! ### What a point stores -/

section
variable (x0 : S512x1024.Idx → EReal) (x1 x2 : S512x512.Idx → EReal) (x5 : S1x128.Idx → EReal) (x7 : S1024x1024.Idx → EReal)

/-- A head's columns among the rows'. -/
theorem head_at (h : Fin 4) (q : Nat) (hq : q = h.val * 128) (x : S512x128.Idx) (j : S512x512.Idx) (h0 : (r0 j).val = 0 + (x 0).val) (h1 : (c1 j).val = q + (x 1).val) :
    doHead (T := 512) h x0 x7 x2 x1 x5 x = doRows (T := 512) x0 x7 x2 x1 x5 j := by
  have hb : (x 1).val < 128 := (x 1).isLt
  have hh := h.isLt
  have e1 : Fin.ofNat 4 ((c1 j).val / 128) = h := Fin.ext (by show ((c1 j).val / 128) % 4 = h.val; omega)
  have e2 : ix2 (r0 j) (Fin.ofNat 128 (c1 j).val) = x := by
    refine funext fun d => Fin.ext ?_
    match d with
    | ⟨0, _⟩ => show (r0 j).val = (x 0).val; omega
    | ⟨1, _⟩ => show (c1 j).val % 128 = (x 1).val; omega
  exact (congrArg₂ (fun h x => doHead (T := 512) h x0 x7 x2 x1 x5 x) e1 e2).symm

/-- The four stores of a point, read together. -/
theorem four :
    View.canon ([⟨Rect.unit (s := S512x512) ![0, 384] S512x128.size inb_S512x512_S512x128_0_384, k0_pay73 (F := Ideal) (k0_pay36 (F := Ideal) (k0_pay8 (F := Ideal) x1)) (k0_pay37 (F := Ideal) (k0_pay8 (F := Ideal) x1)) (k0_pay71 (F := Ideal) (k0_pay41 (F := Ideal) (k0_pay9 (F := Ideal) x2)) (k0_pay51 (F := Ideal) (k0_pay50 (F := Ideal) x0) (wTop x7))) (k0_pay72 (F := Ideal) (k0_pay5 (F := Ideal) x5))⟩, ⟨Rect.unit (s := S512x512) ![0, 256] S512x128.size inb_S512x512_S512x128_0_256, k0_pay67 (F := Ideal) (k0_pay5 (F := Ideal) x5) (k0_pay28 (F := Ideal) (k0_pay8 (F := Ideal) x1)) (k0_pay29 (F := Ideal) (k0_pay8 (F := Ideal) x1)) (k0_pay33 (F := Ideal) (k0_pay31 (F := Ideal) (k0_pay9 (F := Ideal) x2))) (k0_pay51 (F := Ideal) (k0_pay50 (F := Ideal) x0) (wTop x7))⟩, ⟨Rect.unit (s := S512x512) ![0, 128] S512x128.size inb_S512x512_S512x128_0_128, k0_pay63 (F := Ideal) (k0_pay20 (F := Ideal) (k0_pay8 (F := Ideal) x1)) (k0_pay21 (F := Ideal) (k0_pay8 (F := Ideal) x1)) (k0_pay61 (F := Ideal) (k0_pay5 (F := Ideal) x5) (k0_pay25 (F := Ideal) (k0_pay9 (F := Ideal) x2)) (k0_pay50 (F := Ideal) x0) (wTop x7)) (k0_pay62 (F := Ideal) (k0_pay5 (F := Ideal) x5) (k0_pay21 (F := Ideal) (k0_pay8 (F := Ideal) x1)) (k0_pay25 (F := Ideal) (k0_pay9 (F := Ideal) x2)) (k0_pay50 (F := Ideal) x0) (wTop x7)) (Scalar.ofBits (F := Ideal) .f32 0x43000000#32)⟩, ⟨Rect.unit (s := S512x512) ![0, 0] S512x128.size inb_S512x512_S512x128_0_0, k0_pay56 (F := Ideal) (k0_pay5 (F := Ideal) x5) (k0_pay12 (F := Ideal) x1) (k0_pay13 (F := Ideal) x1) (k0_pay17 (F := Ideal) x2) (k0_pay50 (F := Ideal) x0) (wTop x7)⟩] : List (View.Piece (Elt Ideal) S512x512 .bf16)) = (doRows (T := 512) x0 x7 x2 x1 x5 : S512x512.Idx → EReal) := by
  refine funext fun (j : S512x512.Idx) => ?_
  refine View.canon_eq_of_allAt _ j _ (View.cover_of_tiledBy _ ![512, 128] (by sl_kernel_rfl) j) ?_
  refine View.allAt_cons_unit _ _ _ _ _ (fun x hx => ?_) <| View.allAt_cons_unit _ _ _ _ _ (fun x hx => ?_) <| View.allAt_cons_unit _ _ _ _ _ (fun x hx => ?_) <|
    View.allAt_cons_unit _ _ _ _ _ (fun x hx => ?_) (fun p hp => absurd hp List.not_mem_nil)
  · exact (congrFun (piece3 x0 x1 x2 x5 x7) x).trans (head_at x0 x1 x2 x5 x7 3 384 rfl x j (hx 0) (hx 1))
  · exact (congrFun (piece2 x0 x1 x2 x5 x7) x).trans (head_at x0 x1 x2 x5 x7 2 256 rfl x j (hx 0) (hx 1))
  · exact (congrFun (piece1 x0 x1 x2 x5 x7) x).trans (head_at x0 x1 x2 x5 x7 1 128 rfl x j (hx 0) (hx 1))
  · exact (congrFun (piece0 x0 x1 x2 x5 x7) x).trans (head_at x0 x1 x2 x5 x7 0 0 rfl x j (hx 0) (hx 1))

end

section
variable {c : Dev nD} {i : grid0.Coords} {arg1 : Memref sig .tc .vmem S512x1024 .f32} {harg1 : arg1.IsWhole} {arg2 : Memref sig .tc .vmem S512x512 .f32} {harg2 : arg2.IsWhole} {arg3 : Memref sig .tc .vmem S512x512 .f32} {harg3 : arg3.IsWhole} {arg4 : Memref sig .tc .vmem S512x512 .f32} {harg4 : arg4.IsWhole} {arg5 : Memref sig .tc .vmem S512x512 .f32} {harg5 : arg5.IsWhole} {arg6 : Memref sig .tc .vmem S1x128 .f32} {harg6 : arg6.IsWhole} {arg7 : Memref sig .tc .vmem S1x512 .f32} {harg7 : arg7.IsWhole} {arg8 : Memref sig .tc .vmem S1024x1024 .bf16} {harg8 : arg8.IsWhole} {arg9 : Memref sig .tc .vmem S512x512 .bf16} {harg9 : arg9.IsWhole} {arg10 : Memref sig .tc .vmem S512x512 .bf16} {harg10 : arg10.IsWhole} {arg11 : Memref sig .tc .vmem S512x512 .bf16} {harg11 : arg11.IsWhole} {arg12 : Memref sig .tc .vmem S512x512 .f32} {harg12 : arg12.IsWhole} {arg13 : Memref sig .tc .vmem S1x128 .f32} {harg13 : arg13.IsWhole} {arg14 : Memref sig .tc .vmem S1x512 .f32} {harg14 : arg14.IsWhole}
  (x0 : Vec Ideal S512x1024 .f32) (x1 x2 x3 x4 : Vec Ideal S512x512 .f32) (x5 : Vec Ideal S1x128 .f32) (x6 : Vec Ideal S1x512 .f32) (x7 : Vec Ideal S1024x1024 .bf16) (xo12 : Vec Ideal S1x128 .f32) (xo13 : Vec Ideal S1x512 .f32)

theorem rowsA (hc0 : cond0_0 i) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = (doRows (T := 512) x0 x7 x2 x1 x5 : S512x512.Idx → EReal) := by
  unfold out0_A_8
  rw [View.read_writes_eq_canon _ _ _ (cover0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz, View.ld_unit_zero (S := S512x512) hz, View.ld_unit_zero (S := S1x128) hz, View.ld_unit_zero (S := S1x512) hz]
  exact four x0 x1 x2 x5 x7

theorem stateA (hc0 : cond0_0 i) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = (dsRows (T := 512) x0 x7 x3 x4 x6 : S512x512.Idx → EReal) := by
  unfold out0_A_11
  rw [View.read_writes_eq_canon _ _ _ (cover0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  first | rw [View.canon_unit_zero hz] | rw [View.canon_cons_unit_zero (S := S512x512) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz, View.ld_unit_zero (S := S512x512) hz, View.ld_unit_zero (S := S1x128) hz, View.ld_unit_zero (S := S1x512) hz]
  exact states x0 x3 x4 x6 x7

theorem gainA (hc0 : cond0_0 i) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = (fun j => 0 + ((((∑ y : Fin 512, gnHead (T := 512) 0 x0 x7 x2 x1 (ix2 y (c1 j))) + ∑ y : Fin 512, gnHead (T := 512) 1 x0 x7 x2 x1 (ix2 y (c1 j))) + ∑ y : Fin 512, gnHead (T := 512) 2 x0 x7 x2 x1 (ix2 y (c1 j))) + ∑ y : Fin 512, gnHead (T := 512) 3 x0 x7 x2 x1 (ix2 y (c1 j))) : S1x128.Idx → EReal) := by
  unfold out0_A_12
  rw [View.read_writes_eq_canon _ _ _ (cover0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  first | rw [View.canon_unit_zero hz] | rw [View.canon_cons_unit_zero (S := S1x128) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz, View.ld_unit_zero (S := S512x512) hz, View.ld_unit_zero (S := S1x128) hz, View.ld_unit_zero (S := S1x512) hz]
  refine (gains x0 x1 x2 x7 _).trans ?_
  refine funext fun j => congrArg (· + _) ?_
  have e := View.readCov_unit_zero (S := S1x128) (Val := Elt Ideal) (e := .f32) arg13.view hz inb_S1x128_S1x128_0_0 (k0_pay3 (F := Ideal))
  exact (congrFun e j).trans (congrFun zeros3 j)

theorem lgainA (hc0 : cond0_0 i) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = (fun j => 0 + ∑ y : Fin 512, lrTerm (T := 512) x0 x7 x3 x4 (ix2 y (c1 j)) : S1x512.Idx → EReal) := by
  unfold out0_A_13
  rw [View.read_writes_eq_canon _ _ _ (cover0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  first | rw [View.canon_unit_zero hz] | rw [View.canon_cons_unit_zero (S := S1x512) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz, View.ld_unit_zero (S := S512x512) hz, View.ld_unit_zero (S := S1x128) hz, View.ld_unit_zero (S := S1x512) hz]
  refine (gains2 x0 x3 x4 x7 _).trans ?_
  refine funext fun j => congrArg (· + _) ?_
  have e := View.readCov_unit_zero (S := S1x512) (Val := Elt Ideal) (e := .f32) arg14.view hz inb_S1x512_S1x512_0_0 (k0_pay4 (F := Ideal))
  exact (congrFun e j).trans (congrFun zeros4 j)

theorem rowsB (hc0 : ¬cond0_0 i) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo12 xo13 = (doRows (T := 512) x0 x7 x2 x1 x5 : S512x512.Idx → EReal) := by
  unfold out0_B_8
  rw [View.read_writes_eq_canon _ _ _ (cover0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo12 xo13)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz, View.ld_unit_zero (S := S512x512) hz, View.ld_unit_zero (S := S1x128) hz, View.ld_unit_zero (S := S1x512) hz]
  exact four x0 x1 x2 x5 x7

theorem stateB (hc0 : ¬cond0_0 i) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo12 xo13 = (dsRows (T := 512) x0 x7 x3 x4 x6 : S512x512.Idx → EReal) := by
  unfold out0_B_11
  rw [View.read_writes_eq_canon _ _ _ (cover0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo12 xo13)]
  unfold kernelRun0_B
  dsimp only
  sl_unfold_words
  first | rw [View.canon_unit_zero hz] | rw [View.canon_cons_unit_zero (S := S512x512) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz, View.ld_unit_zero (S := S512x512) hz, View.ld_unit_zero (S := S1x128) hz, View.ld_unit_zero (S := S1x512) hz]
  exact states x0 x3 x4 x6 x7

theorem gainB (hc0 : ¬cond0_0 i) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo12 xo13 = (fun j => xo12 j + ((((∑ y : Fin 512, gnHead (T := 512) 0 x0 x7 x2 x1 (ix2 y (c1 j))) + ∑ y : Fin 512, gnHead (T := 512) 1 x0 x7 x2 x1 (ix2 y (c1 j))) + ∑ y : Fin 512, gnHead (T := 512) 2 x0 x7 x2 x1 (ix2 y (c1 j))) + ∑ y : Fin 512, gnHead (T := 512) 3 x0 x7 x2 x1 (ix2 y (c1 j))) : S1x128.Idx → EReal) := by
  unfold out0_B_12
  rw [View.read_writes_eq_canon _ _ _ (cover0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo12 xo13)]
  unfold kernelRun0_B
  dsimp only
  sl_unfold_words
  first | rw [View.canon_unit_zero hz] | rw [View.canon_cons_unit_zero (S := S1x128) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz, View.ld_unit_zero (S := S512x512) hz, View.ld_unit_zero (S := S1x128) hz, View.ld_unit_zero (S := S1x512) hz]
  exact gains x0 x1 x2 x7 xo12

theorem lgainB (hc0 : ¬cond0_0 i) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo12 xo13 = (fun j => xo13 j + ∑ y : Fin 512, lrTerm (T := 512) x0 x7 x3 x4 (ix2 y (c1 j)) : S1x512.Idx → EReal) := by
  unfold out0_B_13
  rw [View.read_writes_eq_canon _ _ _ (cover0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo12 xo13)]
  unfold kernelRun0_B
  dsimp only
  sl_unfold_words
  first | rw [View.canon_unit_zero hz] | rw [View.canon_cons_unit_zero (S := S1x512) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz, View.ld_unit_zero (S := S512x512) hz, View.ld_unit_zero (S := S1x128) hz, View.ld_unit_zero (S := S1x512) hz]
  exact gains2 x0 x3 x4 x7 xo13

end

/-! ### The results -/

/-- A block of 512 rows. -/
def bl {C : Nat} (t : Nat) (a : Arr ⟨2, ![8192, C]⟩) : Arr ⟨2, ![512, C]⟩ := fun y => a (ix2 (Fin.ofNat 8192 (t * 512 + (r0 y).val)) (c1 y))

/-- The columns of the projected rows from `q` on. -/
def cols (q : Nat) (p : Arr S4x2048x3200) : Arr S8192x512 := fun j => flatA p (ix2 (r0 j) (Fin.ofNat 3200 (q + (c1 j).val)))

/-- A point's terms of the gradient of the heads' gain, and of the second gain. -/
def gnBlk (x : Arr S8192x1024) (w : Arr S1024x1024) (z o : Arr S8192x512) (t : Nat) : Arr S1x128 := fun j =>
  ((((∑ y : Fin 512, gnHead 0 x w z o (ix2 (Fin.ofNat 8192 (t * 512 + y.val)) (c1 j))) + ∑ y : Fin 512, gnHead 1 x w z o (ix2 (Fin.ofNat 8192 (t * 512 + y.val)) (c1 j))) + ∑ y : Fin 512, gnHead 2 x w z o (ix2 (Fin.ofNat 8192 (t * 512 + y.val)) (c1 j))) + ∑ y : Fin 512, gnHead 3 x w z o (ix2 (Fin.ofNat 8192 (t * 512 + y.val)) (c1 j)))
def lrBlk (x : Arr S8192x1024) (w : Arr S1024x1024) (l s : Arr S8192x512) (t : Nat) : Arr S1x512 := fun j =>
  ∑ y : Fin 512, lrTerm x w l s (ix2 (Fin.ofNat 8192 (t * 512 + y.val)) (c1 j))

/-- The gradients of the gains. -/
def gnAll (x : Arr S8192x1024) (w : Arr S1024x1024) (z o : Arr S8192x512) : Arr S1x128 := fun j => ∑ n : Fin 8192, ∑ h : Fin 4, gnHead h x w z o (ix2 n (c1 j))
def lrAll (x : Arr S8192x1024) (w : Arr S1024x1024) (l s : Arr S8192x512) : Arr S1x512 := fun j => ∑ n : Fin 8192, lrTerm x w l s (ix2 n (c1 j))

theorem gn_blocks (x : Arr S8192x1024) (w : Arr S1024x1024) (z o : Arr S8192x512) (j) : ∑ b : Fin 16, gnBlk x w z o b.val j = gnAll x w z o j := by
  refine Eq.trans ?_ (sum_blocks 16 512 (N := 8192) rfl fun n => ∑ h : Fin 4, gnHead h x w z o (ix2 n (c1 j))).symm
  refine Finset.sum_congr rfl fun b _ => ?_
  refine Eq.trans ?_ (Finset.sum_congr rfl fun y _ => (Fin.sum_univ_four _).symm)
  rw [Finset.sum_add_distrib, Finset.sum_add_distrib, Finset.sum_add_distrib]
  rfl

theorem lr_blocks (x : Arr S8192x1024) (w : Arr S1024x1024) (l s : Arr S8192x512) (j) : ∑ b : Fin 16, lrBlk x w l s b.val j = lrAll x w l s j :=
  (sum_blocks 16 512 (N := 8192) rfl fun n => lrTerm x w l s (ix2 n (c1 j))).symm

variable (m : (ℓ : Loc nD τ sig) → Buf (Elt Ideal) ℓ) (c : Dev nD)
  (ct : Arr S4x2048x1024) (o : Arr S4x2048x512) (p : Arr S4x2048x3200) (s : Arr S4x2048x512) (dg : Arr S128) (lg : Arr S512) (w : Arr S1024x1024)
  (h0 : m ((c : Thread nD τ).loc main_arg0) = ct) (h1 : m ((c : Thread nD τ).loc main_arg1) = o) (h2 : m ((c : Thread nD τ).loc main_arg2) = p)
  (h3 : m ((c : Thread nD τ).loc main_arg3) = s) (h4 : m ((c : Thread nD τ).loc main_arg4) = dg) (h5 : m ((c : Thread nD τ).loc main_arg5) = lg) (h6 : m ((c : Thread nD τ).loc main_arg6) = w)
include h0 h1 h2 h3 h4 h5 h6

theorem reads : (V m c main_v0 : S8192x1024.Idx → EReal) = flatA ct ∧ (V m c main_v1 : S8192x512.Idx → EReal) = flatA o
    ∧ (V m c main_v2 : S8192x3200.Idx → EReal) = flatA p ∧ (V m c main_v3 : S8192x512.Idx → EReal) = flatA s ∧ (V m c main_v4 : S1x128.Idx → EReal) = (fun j => dg (ix1 (c1 j)))
    ∧ (V m c main_v5 : S1x512.Idx → EReal) = (fun j => lg (ix1 (c1 j))) ∧ (V m c main_v6 : S1024x1024.Idx → EReal) = w := by
  refine ⟨?_, ?_, ?_, ?_, ?_, ?_, ?_⟩
  · rw [← h0]; exact flat8 (m ((c : Thread nD τ).loc main_arg0)) shapeCasts_S4x2048x1024_S8192x1024
  · rw [← h1]; exact flat8 (m ((c : Thread nD τ).loc main_arg1)) shapeCasts_S4x2048x512_S8192x512
  · rw [← h2]; exact flat8 (m ((c : Thread nD τ).loc main_arg2)) shapeCasts_S4x2048x3200_S8192x3200
  · rw [← h3]; exact flat8 (m ((c : Thread nD τ).loc main_arg3)) shapeCasts_S4x2048x512_S8192x512
  · rw [← h4]; exact asRow (m ((c : Thread nD τ).loc main_arg4)) shapeCasts_S128_S1x128
  · rw [← h5]; exact asRow (m ((c : Thread nD τ).loc main_arg5)) shapeCasts_S512_S1x512
  · rw [← h6]; rfl

theorem blocks (t : Fin cfg0.N) : (iblk m c 0 t : S512x1024.Idx → EReal) = bl t.val (flatA ct) ∧ (iblk m c 1 t : S512x512.Idx → EReal) = bl t.val (flatA o)
    ∧ (X0_2 m c t : S512x512.Idx → EReal) = bl t.val (cols (3 * 512) p) ∧ (X0_3 m c t : S512x512.Idx → EReal) = bl t.val (cols (5 * 512) p)
    ∧ (iblk m c 4 t : S512x512.Idx → EReal) = bl t.val (flatA s) ∧ (iblk m c 5 t : S1x128.Idx → EReal) = (fun j => dg (ix1 (c1 j)))
    ∧ (iblk m c 6 t : S1x512.Idx → EReal) = (fun j => lg (ix1 (c1 j))) ∧ (iblk m c 7 t : S1024x1024.Idx → EReal) = w := by
  obtain ⟨e0, e1, e2, e3, e4, e5, e6⟩ := reads m c ct o p s dg lg w h0 h1 h2 h3 h4 h5 h6
  refine ⟨(rd0 m c t _ e0).trans ?_, (rd1 m c t _ e1).trans ?_, (part2 m c t _ e2).trans ?_, (part3 m c t _ e2).trans ?_, (rd4 m c t _ e3).trans ?_, (rd5 m c t _ e4).trans ?_, (rd6 m c t _ e5).trans ?_, (rd7 m c t _ e6).trans ?_⟩
  · funext y; simp only [ofNat_fst]; rfl
  · funext y; simp only [ofNat_fst]; rfl
  · rfl
  · rfl
  · funext y; simp only [ofNat_fst]; rfl
  · funext y; simp only [ofNat_fst]; rfl
  · funext y; simp only [ofNat_fst]; rfl
  · refine funext fun y => ?_
    rw [ofNat_fst, ofNat_fst]
    exact congrArg w (eq_rc y).symm

theorem rowsAt (t : Fin cfg0.N) : ((outsAt0 m c t.val t.isLt).1 : S512x512.Idx → EReal) = bl (C := 512) t.val (doRows (flatA ct) w (cols (3 * 512) p) (flatA o) (fun j => dg (ix1 (c1 j)))) := by
  obtain ⟨b0, b1, b2, b3, b4, b5, b6, b7⟩ := blocks m c ct o p s dg lg w h0 h1 h2 h3 h4 h5 h6 t
  by_cases hq : t.val % 16 = 0
  · rw [outsAt0_A m c t hq]
    dsimp only
    refine (rowsA (c := c) (i := grid0.coords t) (x0 := iblk m c 0 t) (x1 := iblk m c 1 t) (x2 := X0_2 m c t) (x3 := X0_3 m c t) (x4 := iblk m c 4 t) (x5 := iblk m c 5 t) (x6 := iblk m c 6 t) (x7 := iblk m c 7 t) _).trans ?_
    rw [b0, b1, b2, b5, b7]
    rfl
  · rw [outsAt0_B m c t hq]
    dsimp only
    refine (rowsB (c := c) (i := grid0.coords t) (x0 := iblk m c 0 t) (x1 := iblk m c 1 t) (x2 := X0_2 m c t) (x3 := X0_3 m c t) (x4 := iblk m c 4 t) (x5 := iblk m c 5 t) (x6 := iblk m c 6 t) (x7 := iblk m c 7 t) _ _ _).trans ?_
    rw [b0, b1, b2, b5, b7]
    rfl

theorem stateAt (t : Fin cfg0.N) : ((outsAt0 m c t.val t.isLt).2.2.2.1 : S512x512.Idx → EReal) = bl (C := 512) t.val (dsRows (flatA ct) w (cols (5 * 512) p) (flatA s) (fun j => lg (ix1 (c1 j)))) := by
  obtain ⟨b0, b1, b2, b3, b4, b5, b6, b7⟩ := blocks m c ct o p s dg lg w h0 h1 h2 h3 h4 h5 h6 t
  by_cases hq : t.val % 16 = 0
  · rw [outsAt0_A m c t hq]
    dsimp only
    refine (stateA (c := c) (i := grid0.coords t) (x0 := iblk m c 0 t) (x1 := iblk m c 1 t) (x2 := X0_2 m c t) (x3 := X0_3 m c t) (x4 := iblk m c 4 t) (x5 := iblk m c 5 t) (x6 := iblk m c 6 t) (x7 := iblk m c 7 t) _).trans ?_
    rw [b0, b3, b4, b6, b7]
    rfl
  · rw [outsAt0_B m c t hq]
    dsimp only
    refine (stateB (c := c) (i := grid0.coords t) (x0 := iblk m c 0 t) (x1 := iblk m c 1 t) (x2 := X0_2 m c t) (x3 := X0_3 m c t) (x4 := iblk m c 4 t) (x5 := iblk m c 5 t) (x6 := iblk m c 6 t) (x7 := iblk m c 7 t) _ _ _).trans ?_
    rw [b0, b3, b4, b6, b7]
    rfl

theorem gainAtA (t : Fin cfg0.N) (hq : t.val % 16 = 0) : ((outsAt0 m c t.val t.isLt).2.2.2.2.1 : S1x128.Idx → EReal) = gnBlk (flatA ct) w (cols (3 * 512) p) (flatA o) t.val := by
  obtain ⟨b0, b1, b2, b3, b4, b5, b6, b7⟩ := blocks m c ct o p s dg lg w h0 h1 h2 h3 h4 h5 h6 t
  rw [outsAt0_A m c t hq]
  dsimp only
  refine (gainA (c := c) (i := grid0.coords t) (x0 := iblk m c 0 t) (x1 := iblk m c 1 t) (x2 := X0_2 m c t) (x3 := X0_3 m c t) (x4 := iblk m c 4 t) (x5 := iblk m c 5 t) (x6 := iblk m c 6 t) (x7 := iblk m c 7 t) _).trans ?_
  rw [b0, b1, b2, b7]
  exact funext fun j => zero_add _

theorem gainAtB (t : Fin cfg0.N) (hq : ¬t.val % 16 = 0) : ((outsAt0 m c t.val t.isLt).2.2.2.2.1 : S1x128.Idx → EReal)
    = fun j => ((outsAt0 m c (t.val - 1) (Nat.lt_of_le_of_lt (Nat.sub_le _ _) t.isLt)).2.2.2.2.1 : S1x128.Idx → EReal) j + gnBlk (flatA ct) w (cols (3 * 512) p) (flatA o) t.val j := by
  obtain ⟨b0, b1, b2, b3, b4, b5, b6, b7⟩ := blocks m c ct o p s dg lg w h0 h1 h2 h3 h4 h5 h6 t
  rw [outsAt0_B m c t hq]
  dsimp only
  refine (gainB (c := c) (i := grid0.coords t) (x0 := iblk m c 0 t) (x1 := iblk m c 1 t) (x2 := X0_2 m c t) (x3 := X0_3 m c t) (x4 := iblk m c 4 t) (x5 := iblk m c 5 t) (x6 := iblk m c 6 t) (x7 := iblk m c 7 t) _ _ _).trans ?_
  rw [b0, b1, b2, b7]
  rfl

/-- The block after a point: the sum of the points' terms so far. -/
theorem gainAcc : ∀ n h, ((outsAt0 m c n h).2.2.2.2.1 : S1x128.Idx → EReal) = part 16 (gnBlk (flatA ct) w (cols (3 * 512) p) (flatA o)) n := by
  refine sweep 16 (fun n h => ((outsAt0 m c n h).2.2.2.2.1 : S1x128.Idx → EReal) = part 16 (gnBlk (flatA ct) w (cols (3 * 512) p) (flatA o)) n) (fun n h hq => ?_) (fun n h hq h' ih => ?_)
  · rw [part_first 16 _ n hq]
    exact gainAtA m c ct o p s dg lg w h0 h1 h2 h3 h4 h5 h6 ⟨n, h⟩ hq
  · rw [← part_next 16 (gnBlk (flatA ct) w (cols (3 * 512) p) (flatA o)) n hq (by decide)]
    exact (gainAtB m c ct o p s dg lg w h0 h1 h2 h3 h4 h5 h6 ⟨n, h⟩ hq).trans (funext fun j => congrArg (· + _) (congrFun ih j))

theorem lgainAtA (t : Fin cfg0.N) (hq : t.val % 16 = 0) : ((outsAt0 m c t.val t.isLt).2.2.2.2.2 : S1x512.Idx → EReal) = lrBlk (flatA ct) w (cols (5 * 512) p) (flatA s) t.val := by
  obtain ⟨b0, b1, b2, b3, b4, b5, b6, b7⟩ := blocks m c ct o p s dg lg w h0 h1 h2 h3 h4 h5 h6 t
  rw [outsAt0_A m c t hq]
  dsimp only
  refine (lgainA (c := c) (i := grid0.coords t) (x0 := iblk m c 0 t) (x1 := iblk m c 1 t) (x2 := X0_2 m c t) (x3 := X0_3 m c t) (x4 := iblk m c 4 t) (x5 := iblk m c 5 t) (x6 := iblk m c 6 t) (x7 := iblk m c 7 t) _).trans ?_
  rw [b0, b3, b4, b7]
  exact funext fun j => zero_add _

theorem lgainAtB (t : Fin cfg0.N) (hq : ¬t.val % 16 = 0) : ((outsAt0 m c t.val t.isLt).2.2.2.2.2 : S1x512.Idx → EReal)
    = fun j => ((outsAt0 m c (t.val - 1) (Nat.lt_of_le_of_lt (Nat.sub_le _ _) t.isLt)).2.2.2.2.2 : S1x512.Idx → EReal) j + lrBlk (flatA ct) w (cols (5 * 512) p) (flatA s) t.val j := by
  obtain ⟨b0, b1, b2, b3, b4, b5, b6, b7⟩ := blocks m c ct o p s dg lg w h0 h1 h2 h3 h4 h5 h6 t
  rw [outsAt0_B m c t hq]
  dsimp only
  refine (lgainB (c := c) (i := grid0.coords t) (x0 := iblk m c 0 t) (x1 := iblk m c 1 t) (x2 := X0_2 m c t) (x3 := X0_3 m c t) (x4 := iblk m c 4 t) (x5 := iblk m c 5 t) (x6 := iblk m c 6 t) (x7 := iblk m c 7 t) _ _ _).trans ?_
  rw [b0, b3, b4, b7]
  rfl

/-- The block after a point: the sum of the points' terms so far. -/
theorem lgainAcc : ∀ n h, ((outsAt0 m c n h).2.2.2.2.2 : S1x512.Idx → EReal) = part 16 (lrBlk (flatA ct) w (cols (5 * 512) p) (flatA s)) n := by
  refine sweep 16 (fun n h => ((outsAt0 m c n h).2.2.2.2.2 : S1x512.Idx → EReal) = part 16 (lrBlk (flatA ct) w (cols (5 * 512) p) (flatA s)) n) (fun n h hq => ?_) (fun n h hq h' ih => ?_)
  · rw [part_first 16 _ n hq]
    exact lgainAtA m c ct o p s dg lg w h0 h1 h2 h3 h4 h5 h6 ⟨n, h⟩ hq
  · rw [← part_next 16 (lrBlk (flatA ct) w (cols (5 * 512) p) (flatA s)) n hq (by decide)]
    exact (lgainAtB m c ct o p s dg lg w h0 h1 h2 h3 h4 h5 h6 ⟨n, h⟩ hq).trans (funext fun j => congrArg (· + _) (congrFun ih j))

theorem array8 : ((dats m 0 c).arrAt 8 cfg0.N : S8192x512.Idx → EReal) = doRows (flatA ct) w (cols (3 * 512) p) (flatA o) (fun j => dg (ix1 (c1 j))) := by
  refine arr8 m c _ _ (fun t _ => (after0_8 m c t).trans (rowsAt m c ct o p s dg lg w h0 h1 h2 h3 h4 h5 h6 t)) (fun t _ y => ?_)
  simp only [ofNat_fst]
  rfl

theorem array11 : ((dats m 0 c).arrAt 11 cfg0.N : S8192x512.Idx → EReal) = dsRows (flatA ct) w (cols (5 * 512) p) (flatA s) (fun j => lg (ix1 (c1 j))) := by
  refine arr11 m c _ _ (fun t _ => (after0_11 m c t).trans (stateAt m c ct o p s dg lg w h0 h1 h2 h3 h4 h5 h6 t)) (fun t _ y => ?_)
  simp only [ofNat_fst]
  rfl

theorem array12 : ((dats m 0 c).arrAt 12 cfg0.N : S1x128.Idx → EReal) = gnAll (flatA ct) w (cols (3 * 512) p) (flatA o) := by
  refine arr12 m c (fun _ => gnAll (flatA ct) w (cols (3 * 512) p) (flatA o)) _ (fun t hf => ?_) (fun t _ y => ?_)
  · have hl := (flush0_12 t).mp hf
    refine (after0_12 m c t).trans ((gainAcc m c ct o p s dg lg w h0 h1 h2 h3 h4 h5 h6 t.val t.isLt).trans ?_)
    funext j
    rw [part_last 16 _ _ (by omega)]
    have e : t.val - t.val % 16 = 0 := by have ht : t.val < 16 := hN ▸ t.isLt; omega
    simp only [e, zero_add]
    exact gn_blocks _ _ _ _ j
  · rw [ofNat_fst, ofNat_fst]
    exact congrArg (gnAll (flatA ct) w (cols (3 * 512) p) (flatA o)) (eq_rc y)

theorem array13 : ((dats m 0 c).arrAt 13 cfg0.N : S1x512.Idx → EReal) = lrAll (flatA ct) w (cols (5 * 512) p) (flatA s) := by
  refine arr13 m c (fun _ => lrAll (flatA ct) w (cols (5 * 512) p) (flatA s)) _ (fun t hf => ?_) (fun t _ y => ?_)
  · have hl := (flush0_13 t).mp hf
    refine (after0_13 m c t).trans ((lgainAcc m c ct o p s dg lg w h0 h1 h2 h3 h4 h5 h6 t.val t.isLt).trans ?_)
    funext j
    rw [part_last 16 _ _ (by omega)]
    have e : t.val - t.val % 16 = 0 := by have ht : t.val < 16 := hN ▸ t.isLt; omega
    simp only [e, zero_add]
    exact lr_blocks _ _ _ _ j
  · rw [ofNat_fst, ofNat_fst]
    exact congrArg (lrAll (flatA ct) w (cols (5 * 512) p) (flatA s)) (eq_rc y)

end Cert.MixBwd

end
-- ==== Proof.MixBwd.Claims.lean ====
/- The claims about the backward pass of the two mixers' normalisations and gates. -/
module

public import proofs.«01_k».proof.Defs
public import proofs.«01_k».proof.Proof.MixBwd.Value
public import proofs.«01_k».proof.Proof.Gen.Kernel24.Frame
public import proofs.«01_k».proof.Proof.Gen.Reference24Ideal.Run
public import Idealize.ShloMosaic.Adequacy
public import Idealize.ShloMosaic.Init

@[expose] public section

noncomputable section

namespace Cert.MixBwd

open Idealize.ShloMosaic Idealize.ShloMosaic.TcCoe Idealize.SL.Sem Cert.Ext Cert.Lift Idealize.ShloMosaic.ValueIdx

theorem frame_p : Cert.quiescent_Kernel24 := fun m ρ _ => Cert.Kernel24.Gen.frame m ρ
theorem frame_pi : Cert.quiescent_Kernel24Ideal := fun m ρ _ => Cert.Kernel24Ideal.Gen.frame m ρ
theorem frame_ri : Cert.quiescent_Reference24Ideal := fun m ρ _ => (θ_run Cert.Reference24Ideal.defs _ _).mono (fun r h => ⟨fun c => (h c).2.2.2.2,
      Idealize.ShloMosaic.sem_eq_zero_of_no_sems (by decide) r.2⟩)
    (Cert.Reference24Ideal.Value.run (F := Ideal) m ρ)

theorem preserves : Cert.preserves_Kernel24_Kernel24Ideal := trivial

section
open Cert.Reference24Ideal Cert.Reference24Ideal.Gen
variable (ct : Arr S4x2048x1024) (o : Arr S4x2048x512) (p : Arr S4x2048x3200) (s : Arr S4x2048x512) (dg : Arr S128) (lg : Arr S512) (w : Arr S1024x1024)

theorem ref_top : ((shapeCast S8192x4x128 (extractStridedSlice S4x2048x512 ![0, 0, 0] (Host.dotGeneral (F := Ideal) (φ₁ := .f32) (φ₂ := .f32) dot_S4x2048x1024_S1024x1024_S4x2048x1024_2_1_01_0_n_n none ct w) slices_S4x2048x1024_S4x2048x512_0_0_0) shapeCasts_S4x2048x512_S8192x4x128) : Arr S8192x4x128) = heads (dPart 0 (flatA ct) w) := by
  rw [headsE, lastE 0 (by omega), host_nt3 _ rfl rfl rfl rfl rfl rfl _ ct w]
  rfl

theorem ref_gate : ((mulf (F := Ideal) (φ := .f32) (shapeCast S8192x4x128 (extractStridedSlice S4x2048x512 ![0, 0, 1536] p slices_S4x2048x3200_S4x2048x512_0_0_1536) shapeCasts_S4x2048x512_S8192x4x128) (Host.divf (F := Ideal) (φ := .f32) (broadcastInDim S8192x4x128 ![] bcast_S_S8192x4x128 (constant (F := Ideal) S_ .f32 0x3F800000#32)) (addf (F := Ideal) (φ := .f32) (broadcastInDim S8192x4x128 ![] bcast_S_S8192x4x128 (constant (F := Ideal) S_ .f32 0x3F800000#32)) (Host.exp (F := Ideal) (φ := .f32) (Host.negf (F := Ideal) (φ := .f32) (shapeCast S8192x4x128 (extractStridedSlice S4x2048x512 ![0, 0, 1536] p slices_S4x2048x3200_S4x2048x512_0_0_1536) shapeCasts_S4x2048x512_S8192x4x128)))))) : Arr S8192x4x128) = heads (fun j => cols (3 * 512) p j * sg (cols (3 * 512) p j)) := by
  have e : ((shapeCast S8192x4x128 (extractStridedSlice S4x2048x512 ![0, 0, 1536] p slices_S4x2048x3200_S4x2048x512_0_0_1536) shapeCasts_S4x2048x512_S8192x4x128) : Arr S8192x4x128) = heads (cols (3 * 512) p) := by
    rw [headsE, lastE 1536 (by omega)]
    rfl
  rw [e]
  rfl

theorem ref_cot : ((mulf (F := Ideal) (φ := .f32) (shapeCast S8192x4x128 (extractStridedSlice S4x2048x512 ![0, 0, 0] (Host.dotGeneral (F := Ideal) (φ₁ := .f32) (φ₂ := .f32) dot_S4x2048x1024_S1024x1024_S4x2048x1024_2_1_01_0_n_n none ct w) slices_S4x2048x1024_S4x2048x512_0_0_0) shapeCasts_S4x2048x512_S8192x4x128) (mulf (F := Ideal) (φ := .f32) (shapeCast S8192x4x128 (extractStridedSlice S4x2048x512 ![0, 0, 1536] p slices_S4x2048x3200_S4x2048x512_0_0_1536) shapeCasts_S4x2048x512_S8192x4x128) (Host.divf (F := Ideal) (φ := .f32) (broadcastInDim S8192x4x128 ![] bcast_S_S8192x4x128 (constant (F := Ideal) S_ .f32 0x3F800000#32)) (addf (F := Ideal) (φ := .f32) (broadcastInDim S8192x4x128 ![] bcast_S_S8192x4x128 (constant (F := Ideal) S_ .f32 0x3F800000#32)) (Host.exp (F := Ideal) (φ := .f32) (Host.negf (F := Ideal) (φ := .f32) (shapeCast S8192x4x128 (extractStridedSlice S4x2048x512 ![0, 0, 1536] p slices_S4x2048x3200_S4x2048x512_0_0_1536) shapeCasts_S4x2048x512_S8192x4x128))))))) : Arr S8192x4x128) = heads (cot (flatA ct) w (cols (3 * 512) p)) := by
  rw [ref_top, ref_gate]
  rfl

/-- The reference's gradient of the heads. -/
theorem ref_do : ((shapeCast S8192x512 (shapeCast S4x2048x512 (addf (F := Ideal) (φ := .f32) (addf (F := Ideal) (φ := .f32) (mulf (F := Ideal) (φ := .f32) (mulf (F := Ideal) (φ := .f32) (mulf (F := Ideal) (φ := .f32) (shapeCast S8192x4x128 (extractStridedSlice S4x2048x512 ![0, 0, 0] (Host.dotGeneral (F := Ideal) (φ₁ := .f32) (φ₂ := .f32) dot_S4x2048x1024_S1024x1024_S4x2048x1024_2_1_01_0_n_n none ct w) slices_S4x2048x1024_S4x2048x512_0_0_0) shapeCasts_S4x2048x512_S8192x4x128) (mulf (F := Ideal) (φ := .f32) (shapeCast S8192x4x128 (extractStridedSlice S4x2048x512 ![0, 0, 1536] p slices_S4x2048x3200_S4x2048x512_0_0_1536) shapeCasts_S4x2048x512_S8192x4x128) (Host.divf (F := Ideal) (φ := .f32) (broadcastInDim S8192x4x128 ![] bcast_S_S8192x4x128 (constant (F := Ideal) S_ .f32 0x3F800000#32)) (addf (F := Ideal) (φ := .f32) (broadcastInDim S8192x4x128 ![] bcast_S_S8192x4x128 (constant (F := Ideal) S_ .f32 0x3F800000#32)) (Host.exp (F := Ideal) (φ := .f32) (Host.negf (F := Ideal) (φ := .f32) (shapeCast S8192x4x128 (extractStridedSlice S4x2048x512 ![0, 0, 1536] p slices_S4x2048x3200_S4x2048x512_0_0_1536) shapeCasts_S4x2048x512_S8192x4x128))))))) (broadcastInDim S8192x4x128 ![0, 1, 2] bcast_S1x1x128_S8192x4x128_0_1_2 (broadcastInDim S1x1x128 ![2] bcast_S128_S1x1x128_2 dg))) (broadcastInDim S8192x4x128 ![0, 1, 2] bcast_S8192x4x1_S8192x4x128_0_1_2 (Host.rsqrt (F := Ideal) (φ := .f32) (addf (F := Ideal) (φ := .f32) (Host.divf (F := Ideal) (φ := .f32) (broadcastInDim S8192x4x1 ![0, 1] bcast_S8192x4_S8192x4x1_0_1 (Host.reduceAdd (F := Ideal) (φ := .f32) (mulf (F := Ideal) (φ := .f32) (shapeCast S8192x4x128 o shapeCasts_S4x2048x512_S8192x4x128) (shapeCast S8192x4x128 o shapeCasts_S4x2048x512_S8192x4x128)) (constant (F := Ideal) S_ .f32 0x00000000#32) reducesTo_S8192x4x128_S8192x4_d2 h_S_)) (broadcastInDim S8192x4x1 ![] bcast_S_S8192x4x1 (constant (F := Ideal) S_ .f32 0x43000000#32))) (broadcastInDim S8192x4x1 ![] bcast_S_S8192x4x1 (constant (F := Ideal) S_ .f32 0x358637BD#32)))))) (mulf (F := Ideal) (φ := .f32) (shapeCast S8192x4x128 o shapeCasts_S4x2048x512_S8192x4x128) (broadcastInDim S8192x4x128 ![0, 1] bcast_S8192x4_S8192x4x128_0_1 (Host.reduceAdd (F := Ideal) (φ := .f32) (Host.divf (F := Ideal) (φ := .f32) (mulf (F := Ideal) (φ := .f32) (shapeCast S8192x4x1 (Host.reduceAdd (F := Ideal) (φ := .f32) (mulf (F := Ideal) (φ := .f32) (shapeCast S8192x4x128 o shapeCasts_S4x2048x512_S8192x4x128) (mulf (F := Ideal) (φ := .f32) (mulf (F := Ideal) (φ := .f32) (shapeCast S8192x4x128 (extractStridedSlice S4x2048x512 ![0, 0, 0] (Host.dotGeneral (F := Ideal) (φ₁ := .f32) (φ₂ := .f32) dot_S4x2048x1024_S1024x1024_S4x2048x1024_2_1_01_0_n_n none ct w) slices_S4x2048x1024_S4x2048x512_0_0_0) shapeCasts_S4x2048x512_S8192x4x128) (mulf (F := Ideal) (φ := .f32) (shapeCast S8192x4x128 (extractStridedSlice S4x2048x512 ![0, 0, 1536] p slices_S4x2048x3200_S4x2048x512_0_0_1536) shapeCasts_S4x2048x512_S8192x4x128) (Host.divf (F := Ideal) (φ := .f32) (broadcastInDim S8192x4x128 ![] bcast_S_S8192x4x128 (constant (F := Ideal) S_ .f32 0x3F800000#32)) (addf (F := Ideal) (φ := .f32) (broadcastInDim S8192x4x128 ![] bcast_S_S8192x4x128 (constant (F := Ideal) S_ .f32 0x3F800000#32)) (Host.exp (F := Ideal) (φ := .f32) (Host.negf (F := Ideal) (φ := .f32) (shapeCast S8192x4x128 (extractStridedSlice S4x2048x512 ![0, 0, 1536] p slices_S4x2048x3200_S4x2048x512_0_0_1536) shapeCasts_S4x2048x512_S8192x4x128))))))) (broadcastInDim S8192x4x128 ![0, 1, 2] bcast_S1x1x128_S8192x4x128_0_1_2 (broadcastInDim S1x1x128 ![2] bcast_S128_S1x1x128_2 dg)))) (constant (F := Ideal) S_ .f32 0x00000000#32) reducesTo_S8192x4x128_S8192x4_d2 h_S_) shapeCasts_S8192x4_S8192x4x1) (mulf (F := Ideal) (φ := .f32) (broadcastInDim S8192x4x1 ![] bcast_S_S8192x4x1 (constant (F := Ideal) S_ .f32 0xBF000000#32)) (Host.divf (F := Ideal) (φ := .f32) (Host.rsqrt (F := Ideal) (φ := .f32) (addf (F := Ideal) (φ := .f32) (Host.divf (F := Ideal) (φ := .f32) (broadcastInDim S8192x4x1 ![0, 1] bcast_S8192x4_S8192x4x1_0_1 (Host.reduceAdd (F := Ideal) (φ := .f32) (mulf (F := Ideal) (φ := .f32) (shapeCast S8192x4x128 o shapeCasts_S4x2048x512_S8192x4x128) (shapeCast S8192x4x128 o shapeCasts_S4x2048x512_S8192x4x128)) (constant (F := Ideal) S_ .f32 0x00000000#32) reducesTo_S8192x4x128_S8192x4_d2 h_S_)) (broadcastInDim S8192x4x1 ![] bcast_S_S8192x4x1 (constant (F := Ideal) S_ .f32 0x43000000#32))) (broadcastInDim S8192x4x1 ![] bcast_S_S8192x4x1 (constant (F := Ideal) S_ .f32 0x358637BD#32)))) (addf (F := Ideal) (φ := .f32) (Host.divf (F := Ideal) (φ := .f32) (broadcastInDim S8192x4x1 ![0, 1] bcast_S8192x4_S8192x4x1_0_1 (Host.reduceAdd (F := Ideal) (φ := .f32) (mulf (F := Ideal) (φ := .f32) (shapeCast S8192x4x128 o shapeCasts_S4x2048x512_S8192x4x128) (shapeCast S8192x4x128 o shapeCasts_S4x2048x512_S8192x4x128)) (constant (F := Ideal) S_ .f32 0x00000000#32) reducesTo_S8192x4x128_S8192x4_d2 h_S_)) (broadcastInDim S8192x4x1 ![] bcast_S_S8192x4x1 (constant (F := Ideal) S_ .f32 0x43000000#32))) (broadcastInDim S8192x4x1 ![] bcast_S_S8192x4x1 (constant (F := Ideal) S_ .f32 0x358637BD#32)))))) (broadcastInDim S8192x4x1 ![] bcast_S_S8192x4x1 (constant (F := Ideal) S_ .f32 0x43000000#32))) (constant (F := Ideal) S_ .f32 0x00000000#32) reducesTo_S8192x4x1_S8192x4_d2 h_S_)))) (mulf (F := Ideal) (φ := .f32) (broadcastInDim S8192x4x128 ![0, 1] bcast_S8192x4_S8192x4x128_0_1 (Host.reduceAdd (F := Ideal) (φ := .f32) (Host.divf (F := Ideal) (φ := .f32) (mulf (F := Ideal) (φ := .f32) (shapeCast S8192x4x1 (Host.reduceAdd (F := Ideal) (φ := .f32) (mulf (F := Ideal) (φ := .f32) (shapeCast S8192x4x128 o shapeCasts_S4x2048x512_S8192x4x128) (mulf (F := Ideal) (φ := .f32) (mulf (F := Ideal) (φ := .f32) (shapeCast S8192x4x128 (extractStridedSlice S4x2048x512 ![0, 0, 0] (Host.dotGeneral (F := Ideal) (φ₁ := .f32) (φ₂ := .f32) dot_S4x2048x1024_S1024x1024_S4x2048x1024_2_1_01_0_n_n none ct w) slices_S4x2048x1024_S4x2048x512_0_0_0) shapeCasts_S4x2048x512_S8192x4x128) (mulf (F := Ideal) (φ := .f32) (shapeCast S8192x4x128 (extractStridedSlice S4x2048x512 ![0, 0, 1536] p slices_S4x2048x3200_S4x2048x512_0_0_1536) shapeCasts_S4x2048x512_S8192x4x128) (Host.divf (F := Ideal) (φ := .f32) (broadcastInDim S8192x4x128 ![] bcast_S_S8192x4x128 (constant (F := Ideal) S_ .f32 0x3F800000#32)) (addf (F := Ideal) (φ := .f32) (broadcastInDim S8192x4x128 ![] bcast_S_S8192x4x128 (constant (F := Ideal) S_ .f32 0x3F800000#32)) (Host.exp (F := Ideal) (φ := .f32) (Host.negf (F := Ideal) (φ := .f32) (shapeCast S8192x4x128 (extractStridedSlice S4x2048x512 ![0, 0, 1536] p slices_S4x2048x3200_S4x2048x512_0_0_1536) shapeCasts_S4x2048x512_S8192x4x128))))))) (broadcastInDim S8192x4x128 ![0, 1, 2] bcast_S1x1x128_S8192x4x128_0_1_2 (broadcastInDim S1x1x128 ![2] bcast_S128_S1x1x128_2 dg)))) (constant (F := Ideal) S_ .f32 0x00000000#32) reducesTo_S8192x4x128_S8192x4_d2 h_S_) shapeCasts_S8192x4_S8192x4x1) (mulf (F := Ideal) (φ := .f32) (broadcastInDim S8192x4x1 ![] bcast_S_S8192x4x1 (constant (F := Ideal) S_ .f32 0xBF000000#32)) (Host.divf (F := Ideal) (φ := .f32) (Host.rsqrt (F := Ideal) (φ := .f32) (addf (F := Ideal) (φ := .f32) (Host.divf (F := Ideal) (φ := .f32) (broadcastInDim S8192x4x1 ![0, 1] bcast_S8192x4_S8192x4x1_0_1 (Host.reduceAdd (F := Ideal) (φ := .f32) (mulf (F := Ideal) (φ := .f32) (shapeCast S8192x4x128 o shapeCasts_S4x2048x512_S8192x4x128) (shapeCast S8192x4x128 o shapeCasts_S4x2048x512_S8192x4x128)) (constant (F := Ideal) S_ .f32 0x00000000#32) reducesTo_S8192x4x128_S8192x4_d2 h_S_)) (broadcastInDim S8192x4x1 ![] bcast_S_S8192x4x1 (constant (F := Ideal) S_ .f32 0x43000000#32))) (broadcastInDim S8192x4x1 ![] bcast_S_S8192x4x1 (constant (F := Ideal) S_ .f32 0x358637BD#32)))) (addf (F := Ideal) (φ := .f32) (Host.divf (F := Ideal) (φ := .f32) (broadcastInDim S8192x4x1 ![0, 1] bcast_S8192x4_S8192x4x1_0_1 (Host.reduceAdd (F := Ideal) (φ := .f32) (mulf (F := Ideal) (φ := .f32) (shapeCast S8192x4x128 o shapeCasts_S4x2048x512_S8192x4x128) (shapeCast S8192x4x128 o shapeCasts_S4x2048x512_S8192x4x128)) (constant (F := Ideal) S_ .f32 0x00000000#32) reducesTo_S8192x4x128_S8192x4_d2 h_S_)) (broadcastInDim S8192x4x1 ![] bcast_S_S8192x4x1 (constant (F := Ideal) S_ .f32 0x43000000#32))) (broadcastInDim S8192x4x1 ![] bcast_S_S8192x4x1 (constant (F := Ideal) S_ .f32 0x358637BD#32)))))) (broadcastInDim S8192x4x1 ![] bcast_S_S8192x4x1 (constant (F := Ideal) S_ .f32 0x43000000#32))) (constant (F := Ideal) S_ .f32 0x00000000#32) reducesTo_S8192x4x1_S8192x4_d2 h_S_)) (shapeCast S8192x4x128 o shapeCasts_S4x2048x512_S8192x4x128))) shapeCasts_S8192x4x128_S4x2048x512) shapeCasts_S4x2048x512_S8192x512) : S8192x512.Idx → EReal) = doRows (flatA ct) w (cols (3 * 512) p) (flatA o) (fun j => dg (ix1 (c1 j))) := by
  rw [ref_cot, headsE o, last]
  refine (congrArg (fun x => shapeCast S8192x512 (shapeCast S4x2048x512 x shapeCasts_S8192x4x128_S4x2048x512) shapeCasts_S4x2048x512_S8192x512)
    (host_backW (B := 8192) (R := 4) (C := 128) (by norm_num) word128 (heads (flatA o)) (fun j => heads (cot (flatA ct) w (cols (3 * 512) p)) j * dg (ix1 (d2 j))) _ (host_denW (B := 8192) (R := 4) (C := 128) 0x43000000#32 (heads (flatA o)) reducesTo_S8192x4x128_S8192x4_d2 h_S_ bcast_S8192x4_S8192x4x1_0_1 S_ S_ ![] ![] bcast_S_S8192x4x1 bcast_S_S8192x4x1)
    reducesTo_S8192x4x128_S8192x4_d2 reducesTo_S8192x4x1_S8192x4_d2 h_S_ bcast_S8192x4x1_S8192x4x128_0_1_2 bcast_S8192x4_S8192x4x128_0_1 shapeCasts_S8192x4_S8192x4x1 S_ S_ ![] ![] bcast_S_S8192x4x1 bcast_S_S8192x4x1 _ rfl)).trans ?_
  exact (joinedE (backW 0x43000000#32 (heads (flatA o)) (fun j => heads (cot (flatA ct) w (cols (3 * 512) p)) j * dg (ix1 (d2 j)))) shapeCasts_S8192x4x128_S4x2048x512 shapeCasts_S4x2048x512_S8192x512).trans rfl

/-- The reference's gradient of the heads' gain. -/
theorem ref_ddn : (shapeCast S1x128 (Host.reduceAdd (F := Ideal) (φ := .f32) (shapeCast S1x1x128 (Host.reduceAdd (F := Ideal) (φ := .f32) (mulf (F := Ideal) (φ := .f32) (mulf (F := Ideal) (φ := .f32) (shapeCast S8192x4x128 o shapeCasts_S4x2048x512_S8192x4x128) (broadcastInDim S8192x4x128 ![0, 1, 2] bcast_S8192x4x1_S8192x4x128_0_1_2 (Host.rsqrt (F := Ideal) (φ := .f32) (addf (F := Ideal) (φ := .f32) (Host.divf (F := Ideal) (φ := .f32) (broadcastInDim S8192x4x1 ![0, 1] bcast_S8192x4_S8192x4x1_0_1 (Host.reduceAdd (F := Ideal) (φ := .f32) (mulf (F := Ideal) (φ := .f32) (shapeCast S8192x4x128 o shapeCasts_S4x2048x512_S8192x4x128) (shapeCast S8192x4x128 o shapeCasts_S4x2048x512_S8192x4x128)) (constant (F := Ideal) S_ .f32 0x00000000#32) reducesTo_S8192x4x128_S8192x4_d2 h_S_)) (broadcastInDim S8192x4x1 ![] bcast_S_S8192x4x1 (constant (F := Ideal) S_ .f32 0x43000000#32))) (broadcastInDim S8192x4x1 ![] bcast_S_S8192x4x1 (constant (F := Ideal) S_ .f32 0x358637BD#32)))))) (mulf (F := Ideal) (φ := .f32) (shapeCast S8192x4x128 (extractStridedSlice S4x2048x512 ![0, 0, 0] (Host.dotGeneral (F := Ideal) (φ₁ := .f32) (φ₂ := .f32) dot_S4x2048x1024_S1024x1024_S4x2048x1024_2_1_01_0_n_n none ct w) slices_S4x2048x1024_S4x2048x512_0_0_0) shapeCasts_S4x2048x512_S8192x4x128) (mulf (F := Ideal) (φ := .f32) (shapeCast S8192x4x128 (extractStridedSlice S4x2048x512 ![0, 0, 1536] p slices_S4x2048x3200_S4x2048x512_0_0_1536) shapeCasts_S4x2048x512_S8192x4x128) (Host.divf (F := Ideal) (φ := .f32) (broadcastInDim S8192x4x128 ![] bcast_S_S8192x4x128 (constant (F := Ideal) S_ .f32 0x3F800000#32)) (addf (F := Ideal) (φ := .f32) (broadcastInDim S8192x4x128 ![] bcast_S_S8192x4x128 (constant (F := Ideal) S_ .f32 0x3F800000#32)) (Host.exp (F := Ideal) (φ := .f32) (Host.negf (F := Ideal) (φ := .f32) (shapeCast S8192x4x128 (extractStridedSlice S4x2048x512 ![0, 0, 1536] p slices_S4x2048x3200_S4x2048x512_0_0_1536) shapeCasts_S4x2048x512_S8192x4x128)))))))) (constant (F := Ideal) S_ .f32 0x00000000#32) reducesTo_S8192x4x128_S128_d0_1 h_S_) shapeCasts_S128_S1x1x128) (constant (F := Ideal) S_ .f32 0x00000000#32) reducesTo_S1x1x128_S128_d0_1 h_S_) shapeCasts_S128_S1x128 : S1x128.Idx → EReal) = gnAll (flatA ct) w (cols (3 * 512) p) (flatA o) := by
  rw [ref_cot, headsE o]
  exact host_gainW 0x43000000#32 (heads (flatA o)) (heads (cot (flatA ct) w (cols (3 * 512) p))) _ (host_invW (B := 8192) (R := 4) (C := 128) 0x43000000#32 (heads (flatA o)) reducesTo_S8192x4x128_S8192x4_d2 h_S_ bcast_S8192x4_S8192x4x1_0_1 bcast_S8192x4x1_S8192x4x128_0_1_2 S_ S_ ![] ![] bcast_S_S8192x4x1 bcast_S_S8192x4x1) reducesTo_S8192x4x128_S128_d0_1 reducesTo_S1x1x128_S128_d0_1 h_S_ shapeCasts_S128_S1x1x128 shapeCasts_S128_S1x128

/-- The smooth rectifier's rows, and the gated ones. -/
def gB (p : Arr S4x2048x3200) : Arr S4x2048x512 := fun j => gelu (p (ix3 (d0 j) (d1 j) (Fin.ofNat 3200 (5 * 512 + (d2 j).val))))
def uB (p : Arr S4x2048x3200) (s : Arr S4x2048x512) : Arr S4x2048x512 := fun j => gB p j * s j

/-- The mixed rows' last columns. -/
def bB (ct : Arr S4x2048x1024) (w : Arr S1024x1024) : Arr S4x2048x512 := fun j => ∑ k : Fin 1024, ct (ix3 (d0 j) (d1 j) k) * w (ix2 (Fin.ofNat 1024 (512 + (d2 j).val)) k)

theorem gelu_eq (x : EReal) : x * (Ideal.ofBits .f32 0x3F000000#32 * (Ideal.ofBits .f32 0x3F800000#32 + Ideal.tanh (Ideal.ofBits .f32 0x3F4C422A#32 * (x + Ideal.ofBits .f32 0x3D372713#32 * ((x * x) * x))))) = gelu x := by
  unfold gelu
  rw [show Ideal.ofBits .f32 0x3D372713#32 * ((x * x) * x) = ((Ideal.ofBits .f32 0x3D372713#32 * x) * x) * x by simp only [mul_assoc], ← mul_assoc, mul_comm x]

theorem ref_gelu : ((mulf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3F000000#32)) (addf (F := Ideal) (φ := .f32) (broadcastInDim S4x2048x512 ![] bcast_S_S4x2048x512 (constant (F := Ideal) S_ .f32 0x3F800000#32)) (Host.tanh (F := Ideal) (φ := .f32) (mulf (F := Ideal) (φ := .f32) (broadcastInDim S4x2048x512 ![] bcast_S_S4x2048x512 (constant (F := Ideal) S_ .f32 0x3F4C422A#32)) (addf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3D372713#32)) (mulf (F := Ideal) (φ := .f32) (mulf (F := Ideal) (φ := .f32) (extractStridedSlice S4x2048x512 ![0, 0, 2560] p slices_S4x2048x3200_S4x2048x512_0_0_2560) (extractStridedSlice S4x2048x512 ![0, 0, 2560] p slices_S4x2048x3200_S4x2048x512_0_0_2560)) (extractStridedSlice S4x2048x512 ![0, 0, 2560] p slices_S4x2048x3200_S4x2048x512_0_0_2560))))))))) : Arr S4x2048x512) = gB p := by
  rw [lastE 2560 (by omega)]
  exact funext fun j => gelu_eq (p (ix3 (d0 j) (d1 j) (Fin.ofNat 3200 (2560 + (d2 j).val))))

theorem ref_u : ((mulf (F := Ideal) (φ := .f32) (mulf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3F000000#32)) (addf (F := Ideal) (φ := .f32) (broadcastInDim S4x2048x512 ![] bcast_S_S4x2048x512 (constant (F := Ideal) S_ .f32 0x3F800000#32)) (Host.tanh (F := Ideal) (φ := .f32) (mulf (F := Ideal) (φ := .f32) (broadcastInDim S4x2048x512 ![] bcast_S_S4x2048x512 (constant (F := Ideal) S_ .f32 0x3F4C422A#32)) (addf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3D372713#32)) (mulf (F := Ideal) (φ := .f32) (mulf (F := Ideal) (φ := .f32) (extractStridedSlice S4x2048x512 ![0, 0, 2560] p slices_S4x2048x3200_S4x2048x512_0_0_2560) (extractStridedSlice S4x2048x512 ![0, 0, 2560] p slices_S4x2048x3200_S4x2048x512_0_0_2560)) (extractStridedSlice S4x2048x512 ![0, 0, 2560] p slices_S4x2048x3200_S4x2048x512_0_0_2560))))))))) s) : Arr S4x2048x512) = uB p s := by
  rw [ref_gelu]
  rfl

theorem ref_bot : ((extractStridedSlice S4x2048x512 ![0, 0, 512] (Host.dotGeneral (F := Ideal) (φ₁ := .f32) (φ₂ := .f32) dot_S4x2048x1024_S1024x1024_S4x2048x1024_2_1_01_0_n_n none ct w) slices_S4x2048x1024_S4x2048x512_0_0_512) : Arr S4x2048x512) = bB ct w := by
  rw [lastE 512 (by omega), host_nt3 _ rfl rfl rfl rfl rfl rfl _ ct w]
  rfl

/-- The reference's gradient of the state. -/
theorem ref_dhs : (shapeCast S8192x512 (mulf (F := Ideal) (φ := .f32) (mulf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3F000000#32)) (addf (F := Ideal) (φ := .f32) (broadcastInDim S4x2048x512 ![] bcast_S_S4x2048x512 (constant (F := Ideal) S_ .f32 0x3F800000#32)) (Host.tanh (F := Ideal) (φ := .f32) (mulf (F := Ideal) (φ := .f32) (broadcastInDim S4x2048x512 ![] bcast_S_S4x2048x512 (constant (F := Ideal) S_ .f32 0x3F4C422A#32)) (addf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3D372713#32)) (mulf (F := Ideal) (φ := .f32) (mulf (F := Ideal) (φ := .f32) (extractStridedSlice S4x2048x512 ![0, 0, 2560] p slices_S4x2048x3200_S4x2048x512_0_0_2560) (extractStridedSlice S4x2048x512 ![0, 0, 2560] p slices_S4x2048x3200_S4x2048x512_0_0_2560)) (extractStridedSlice S4x2048x512 ![0, 0, 2560] p slices_S4x2048x3200_S4x2048x512_0_0_2560))))))))) (addf (F := Ideal) (φ := .f32) (addf (F := Ideal) (φ := .f32) (mulf (F := Ideal) (φ := .f32) (mulf (F := Ideal) (φ := .f32) (extractStridedSlice S4x2048x512 ![0, 0, 512] (Host.dotGeneral (F := Ideal) (φ₁ := .f32) (φ₂ := .f32) dot_S4x2048x1024_S1024x1024_S4x2048x1024_2_1_01_0_n_n none ct w) slices_S4x2048x1024_S4x2048x512_0_0_512) (broadcastInDim S4x2048x512 ![0, 1, 2] bcast_S1x1x512_S4x2048x512_0_1_2 (broadcastInDim S1x1x512 ![2] bcast_S512_S1x1x512_2 lg))) (broadcastInDim S4x2048x512 ![0, 1, 2] bcast_S4x2048x1_S4x2048x512_0_1_2 (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) (mulf (F := Ideal) (φ := .f32) (mulf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3F000000#32)) (addf (F := Ideal) (φ := .f32) (broadcastInDim S4x2048x512 ![] bcast_S_S4x2048x512 (constant (F := Ideal) S_ .f32 0x3F800000#32)) (Host.tanh (F := Ideal) (φ := .f32) (mulf (F := Ideal) (φ := .f32) (broadcastInDim S4x2048x512 ![] bcast_S_S4x2048x512 (constant (F := Ideal) S_ .f32 0x3F4C422A#32)) (addf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3D372713#32)) (mulf (F := Ideal) (φ := .f32) (mulf (F := Ideal) (φ := .f32) (extractStridedSlice S4x2048x512 ![0, 0, 2560] p slices_S4x2048x3200_S4x2048x512_0_0_2560) (extractStridedSlice S4x2048x512 ![0, 0, 2560] p slices_S4x2048x3200_S4x2048x512_0_0_2560)) (extractStridedSlice S4x2048x512 ![0, 0, 2560] p slices_S4x2048x3200_S4x2048x512_0_0_2560))))))))) s) (mulf (F := Ideal) (φ := .f32) (mulf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3F000000#32)) (addf (F := Ideal) (φ := .f32) (broadcastInDim S4x2048x512 ![] bcast_S_S4x2048x512 (constant (F := Ideal) S_ .f32 0x3F800000#32)) (Host.tanh (F := Ideal) (φ := .f32) (mulf (F := Ideal) (φ := .f32) (broadcastInDim S4x2048x512 ![] bcast_S_S4x2048x512 (constant (F := Ideal) S_ .f32 0x3F4C422A#32)) (addf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3D372713#32)) (mulf (F := Ideal) (φ := .f32) (mulf (F := Ideal) (φ := .f32) (extractStridedSlice S4x2048x512 ![0, 0, 2560] p slices_S4x2048x3200_S4x2048x512_0_0_2560) (extractStridedSlice S4x2048x512 ![0, 0, 2560] p slices_S4x2048x3200_S4x2048x512_0_0_2560)) (extractStridedSlice S4x2048x512 ![0, 0, 2560] p slices_S4x2048x3200_S4x2048x512_0_0_2560))))))))) s)) (constant (F := Ideal) S_ .f32 0x00000000#32) reducesTo_S4x2048x512_S4x2048_d2 h_S_)) (broadcastInDim S4x2048x1 ![] bcast_S_S4x2048x1 (constant (F := Ideal) S_ .f32 0x44000000#32))) (broadcastInDim S4x2048x1 ![] bcast_S_S4x2048x1 (constant (F := Ideal) S_ .f32 0x358637BD#32)))))) (mulf (F := Ideal) (φ := .f32) (mulf (F := Ideal) (φ := .f32) (mulf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3F000000#32)) (addf (F := Ideal) (φ := .f32) (broadcastInDim S4x2048x512 ![] bcast_S_S4x2048x512 (constant (F := Ideal) S_ .f32 0x3F800000#32)) (Host.tanh (F := Ideal) (φ := .f32) (mulf (F := Ideal) (φ := .f32) (broadcastInDim S4x2048x512 ![] bcast_S_S4x2048x512 (constant (F := Ideal) S_ .f32 0x3F4C422A#32)) (addf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3D372713#32)) (mulf (F := Ideal) (φ := .f32) (mulf (F := Ideal) (φ := .f32) (extractStridedSlice S4x2048x512 ![0, 0, 2560] p slices_S4x2048x3200_S4x2048x512_0_0_2560) (extractStridedSlice S4x2048x512 ![0, 0, 2560] p slices_S4x2048x3200_S4x2048x512_0_0_2560)) (extractStridedSlice S4x2048x512 ![0, 0, 2560] p slices_S4x2048x3200_S4x2048x512_0_0_2560))))))))) s) (broadcastInDim S4x2048x512 ![0, 1] bcast_S4x2048_S4x2048x512_0_1 (Host.reduceAdd (F := Ideal) (φ := .f32) (Host.divf (F := Ideal) (φ := .f32) (mulf (F := Ideal) (φ := .f32) (shapeCast S4x2048x1 (Host.reduceAdd (F := Ideal) (φ := .f32) (mulf (F := Ideal) (φ := .f32) (mulf (F := Ideal) (φ := .f32) (mulf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3F000000#32)) (addf (F := Ideal) (φ := .f32) (broadcastInDim S4x2048x512 ![] bcast_S_S4x2048x512 (constant (F := Ideal) S_ .f32 0x3F800000#32)) (Host.tanh (F := Ideal) (φ := .f32) (mulf (F := Ideal) (φ := .f32) (broadcastInDim S4x2048x512 ![] bcast_S_S4x2048x512 (constant (F := Ideal) S_ .f32 0x3F4C422A#32)) (addf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3D372713#32)) (mulf (F := Ideal) (φ := .f32) (mulf (F := Ideal) (φ := .f32) (extractStridedSlice S4x2048x512 ![0, 0, 2560] p slices_S4x2048x3200_S4x2048x512_0_0_2560) (extractStridedSlice S4x2048x512 ![0, 0, 2560] p slices_S4x2048x3200_S4x2048x512_0_0_2560)) (extractStridedSlice S4x2048x512 ![0, 0, 2560] p slices_S4x2048x3200_S4x2048x512_0_0_2560))))))))) s) (mulf (F := Ideal) (φ := .f32) (extractStridedSlice S4x2048x512 ![0, 0, 512] (Host.dotGeneral (F := Ideal) (φ₁ := .f32) (φ₂ := .f32) dot_S4x2048x1024_S1024x1024_S4x2048x1024_2_1_01_0_n_n none ct w) slices_S4x2048x1024_S4x2048x512_0_0_512) (broadcastInDim S4x2048x512 ![0, 1, 2] bcast_S1x1x512_S4x2048x512_0_1_2 (broadcastInDim S1x1x512 ![2] bcast_S512_S1x1x512_2 lg)))) (constant (F := Ideal) S_ .f32 0x00000000#32) reducesTo_S4x2048x512_S4x2048_d2 h_S_) shapeCasts_S4x2048_S4x2048x1) (mulf (F := Ideal) (φ := .f32) (broadcastInDim S4x2048x1 ![] bcast_S_S4x2048x1 (constant (F := Ideal) S_ .f32 0xBF000000#32)) (Host.divf (F := Ideal) (φ := .f32) (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) (mulf (F := Ideal) (φ := .f32) (mulf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3F000000#32)) (addf (F := Ideal) (φ := .f32) (broadcastInDim S4x2048x512 ![] bcast_S_S4x2048x512 (constant (F := Ideal) S_ .f32 0x3F800000#32)) (Host.tanh (F := Ideal) (φ := .f32) (mulf (F := Ideal) (φ := .f32) (broadcastInDim S4x2048x512 ![] bcast_S_S4x2048x512 (constant (F := Ideal) S_ .f32 0x3F4C422A#32)) (addf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3D372713#32)) (mulf (F := Ideal) (φ := .f32) (mulf (F := Ideal) (φ := .f32) (extractStridedSlice S4x2048x512 ![0, 0, 2560] p slices_S4x2048x3200_S4x2048x512_0_0_2560) (extractStridedSlice S4x2048x512 ![0, 0, 2560] p slices_S4x2048x3200_S4x2048x512_0_0_2560)) (extractStridedSlice S4x2048x512 ![0, 0, 2560] p slices_S4x2048x3200_S4x2048x512_0_0_2560))))))))) s) (mulf (F := Ideal) (φ := .f32) (mulf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3F000000#32)) (addf (F := Ideal) (φ := .f32) (broadcastInDim S4x2048x512 ![] bcast_S_S4x2048x512 (constant (F := Ideal) S_ .f32 0x3F800000#32)) (Host.tanh (F := Ideal) (φ := .f32) (mulf (F := Ideal) (φ := .f32) (broadcastInDim S4x2048x512 ![] bcast_S_S4x2048x512 (constant (F := Ideal) S_ .f32 0x3F4C422A#32)) (addf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3D372713#32)) (mulf (F := Ideal) (φ := .f32) (mulf (F := Ideal) (φ := .f32) (extractStridedSlice S4x2048x512 ![0, 0, 2560] p slices_S4x2048x3200_S4x2048x512_0_0_2560) (extractStridedSlice S4x2048x512 ![0, 0, 2560] p slices_S4x2048x3200_S4x2048x512_0_0_2560)) (extractStridedSlice S4x2048x512 ![0, 0, 2560] p slices_S4x2048x3200_S4x2048x512_0_0_2560))))))))) s)) (constant (F := Ideal) S_ .f32 0x00000000#32) reducesTo_S4x2048x512_S4x2048_d2 h_S_)) (broadcastInDim S4x2048x1 ![] bcast_S_S4x2048x1 (constant (F := Ideal) S_ .f32 0x44000000#32))) (broadcastInDim S4x2048x1 ![] bcast_S_S4x2048x1 (constant (F := Ideal) S_ .f32 0x358637BD#32)))) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) (mulf (F := Ideal) (φ := .f32) (mulf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3F000000#32)) (addf (F := Ideal) (φ := .f32) (broadcastInDim S4x2048x512 ![] bcast_S_S4x2048x512 (constant (F := Ideal) S_ .f32 0x3F800000#32)) (Host.tanh (F := Ideal) (φ := .f32) (mulf (F := Ideal) (φ := .f32) (broadcastInDim S4x2048x512 ![] bcast_S_S4x2048x512 (constant (F := Ideal) S_ .f32 0x3F4C422A#32)) (addf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3D372713#32)) (mulf (F := Ideal) (φ := .f32) (mulf (F := Ideal) (φ := .f32) (extractStridedSlice S4x2048x512 ![0, 0, 2560] p slices_S4x2048x3200_S4x2048x512_0_0_2560) (extractStridedSlice S4x2048x512 ![0, 0, 2560] p slices_S4x2048x3200_S4x2048x512_0_0_2560)) (extractStridedSlice S4x2048x512 ![0, 0, 2560] p slices_S4x2048x3200_S4x2048x512_0_0_2560))))))))) s) (mulf (F := Ideal) (φ := .f32) (mulf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3F000000#32)) (addf (F := Ideal) (φ := .f32) (broadcastInDim S4x2048x512 ![] bcast_S_S4x2048x512 (constant (F := Ideal) S_ .f32 0x3F800000#32)) (Host.tanh (F := Ideal) (φ := .f32) (mulf (F := Ideal) (φ := .f32) (broadcastInDim S4x2048x512 ![] bcast_S_S4x2048x512 (constant (F := Ideal) S_ .f32 0x3F4C422A#32)) (addf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3D372713#32)) (mulf (F := Ideal) (φ := .f32) (mulf (F := Ideal) (φ := .f32) (extractStridedSlice S4x2048x512 ![0, 0, 2560] p slices_S4x2048x3200_S4x2048x512_0_0_2560) (extractStridedSlice S4x2048x512 ![0, 0, 2560] p slices_S4x2048x3200_S4x2048x512_0_0_2560)) (extractStridedSlice S4x2048x512 ![0, 0, 2560] p slices_S4x2048x3200_S4x2048x512_0_0_2560))))))))) s)) (constant (F := Ideal) S_ .f32 0x00000000#32) reducesTo_S4x2048x512_S4x2048_d2 h_S_)) (broadcastInDim S4x2048x1 ![] bcast_S_S4x2048x1 (constant (F := Ideal) S_ .f32 0x44000000#32))) (broadcastInDim S4x2048x1 ![] bcast_S_S4x2048x1 (constant (F := Ideal) S_ .f32 0x358637BD#32)))))) (broadcastInDim S4x2048x1 ![] bcast_S_S4x2048x1 (constant (F := Ideal) S_ .f32 0x44000000#32))) (constant (F := Ideal) S_ .f32 0x00000000#32) reducesTo_S4x2048x1_S4x2048_d2 h_S_)))) (mulf (F := Ideal) (φ := .f32) (broadcastInDim S4x2048x512 ![0, 1] bcast_S4x2048_S4x2048x512_0_1 (Host.reduceAdd (F := Ideal) (φ := .f32) (Host.divf (F := Ideal) (φ := .f32) (mulf (F := Ideal) (φ := .f32) (shapeCast S4x2048x1 (Host.reduceAdd (F := Ideal) (φ := .f32) (mulf (F := Ideal) (φ := .f32) (mulf (F := Ideal) (φ := .f32) (mulf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3F000000#32)) (addf (F := Ideal) (φ := .f32) (broadcastInDim S4x2048x512 ![] bcast_S_S4x2048x512 (constant (F := Ideal) S_ .f32 0x3F800000#32)) (Host.tanh (F := Ideal) (φ := .f32) (mulf (F := Ideal) (φ := .f32) (broadcastInDim S4x2048x512 ![] bcast_S_S4x2048x512 (constant (F := Ideal) S_ .f32 0x3F4C422A#32)) (addf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3D372713#32)) (mulf (F := Ideal) (φ := .f32) (mulf (F := Ideal) (φ := .f32) (extractStridedSlice S4x2048x512 ![0, 0, 2560] p slices_S4x2048x3200_S4x2048x512_0_0_2560) (extractStridedSlice S4x2048x512 ![0, 0, 2560] p slices_S4x2048x3200_S4x2048x512_0_0_2560)) (extractStridedSlice S4x2048x512 ![0, 0, 2560] p slices_S4x2048x3200_S4x2048x512_0_0_2560))))))))) s) (mulf (F := Ideal) (φ := .f32) (extractStridedSlice S4x2048x512 ![0, 0, 512] (Host.dotGeneral (F := Ideal) (φ₁ := .f32) (φ₂ := .f32) dot_S4x2048x1024_S1024x1024_S4x2048x1024_2_1_01_0_n_n none ct w) slices_S4x2048x1024_S4x2048x512_0_0_512) (broadcastInDim S4x2048x512 ![0, 1, 2] bcast_S1x1x512_S4x2048x512_0_1_2 (broadcastInDim S1x1x512 ![2] bcast_S512_S1x1x512_2 lg)))) (constant (F := Ideal) S_ .f32 0x00000000#32) reducesTo_S4x2048x512_S4x2048_d2 h_S_) shapeCasts_S4x2048_S4x2048x1) (mulf (F := Ideal) (φ := .f32) (broadcastInDim S4x2048x1 ![] bcast_S_S4x2048x1 (constant (F := Ideal) S_ .f32 0xBF000000#32)) (Host.divf (F := Ideal) (φ := .f32) (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) (mulf (F := Ideal) (φ := .f32) (mulf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3F000000#32)) (addf (F := Ideal) (φ := .f32) (broadcastInDim S4x2048x512 ![] bcast_S_S4x2048x512 (constant (F := Ideal) S_ .f32 0x3F800000#32)) (Host.tanh (F := Ideal) (φ := .f32) (mulf (F := Ideal) (φ := .f32) (broadcastInDim S4x2048x512 ![] bcast_S_S4x2048x512 (constant (F := Ideal) S_ .f32 0x3F4C422A#32)) (addf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3D372713#32)) (mulf (F := Ideal) (φ := .f32) (mulf (F := Ideal) (φ := .f32) (extractStridedSlice S4x2048x512 ![0, 0, 2560] p slices_S4x2048x3200_S4x2048x512_0_0_2560) (extractStridedSlice S4x2048x512 ![0, 0, 2560] p slices_S4x2048x3200_S4x2048x512_0_0_2560)) (extractStridedSlice S4x2048x512 ![0, 0, 2560] p slices_S4x2048x3200_S4x2048x512_0_0_2560))))))))) s) (mulf (F := Ideal) (φ := .f32) (mulf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3F000000#32)) (addf (F := Ideal) (φ := .f32) (broadcastInDim S4x2048x512 ![] bcast_S_S4x2048x512 (constant (F := Ideal) S_ .f32 0x3F800000#32)) (Host.tanh (F := Ideal) (φ := .f32) (mulf (F := Ideal) (φ := .f32) (broadcastInDim S4x2048x512 ![] bcast_S_S4x2048x512 (constant (F := Ideal) S_ .f32 0x3F4C422A#32)) (addf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3D372713#32)) (mulf (F := Ideal) (φ := .f32) (mulf (F := Ideal) (φ := .f32) (extractStridedSlice S4x2048x512 ![0, 0, 2560] p slices_S4x2048x3200_S4x2048x512_0_0_2560) (extractStridedSlice S4x2048x512 ![0, 0, 2560] p slices_S4x2048x3200_S4x2048x512_0_0_2560)) (extractStridedSlice S4x2048x512 ![0, 0, 2560] p slices_S4x2048x3200_S4x2048x512_0_0_2560))))))))) s)) (constant (F := Ideal) S_ .f32 0x00000000#32) reducesTo_S4x2048x512_S4x2048_d2 h_S_)) (broadcastInDim S4x2048x1 ![] bcast_S_S4x2048x1 (constant (F := Ideal) S_ .f32 0x44000000#32))) (broadcastInDim S4x2048x1 ![] bcast_S_S4x2048x1 (constant (F := Ideal) S_ .f32 0x358637BD#32)))) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) (mulf (F := Ideal) (φ := .f32) (mulf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3F000000#32)) (addf (F := Ideal) (φ := .f32) (broadcastInDim S4x2048x512 ![] bcast_S_S4x2048x512 (constant (F := Ideal) S_ .f32 0x3F800000#32)) (Host.tanh (F := Ideal) (φ := .f32) (mulf (F := Ideal) (φ := .f32) (broadcastInDim S4x2048x512 ![] bcast_S_S4x2048x512 (constant (F := Ideal) S_ .f32 0x3F4C422A#32)) (addf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3D372713#32)) (mulf (F := Ideal) (φ := .f32) (mulf (F := Ideal) (φ := .f32) (extractStridedSlice S4x2048x512 ![0, 0, 2560] p slices_S4x2048x3200_S4x2048x512_0_0_2560) (extractStridedSlice S4x2048x512 ![0, 0, 2560] p slices_S4x2048x3200_S4x2048x512_0_0_2560)) (extractStridedSlice S4x2048x512 ![0, 0, 2560] p slices_S4x2048x3200_S4x2048x512_0_0_2560))))))))) s) (mulf (F := Ideal) (φ := .f32) (mulf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3F000000#32)) (addf (F := Ideal) (φ := .f32) (broadcastInDim S4x2048x512 ![] bcast_S_S4x2048x512 (constant (F := Ideal) S_ .f32 0x3F800000#32)) (Host.tanh (F := Ideal) (φ := .f32) (mulf (F := Ideal) (φ := .f32) (broadcastInDim S4x2048x512 ![] bcast_S_S4x2048x512 (constant (F := Ideal) S_ .f32 0x3F4C422A#32)) (addf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3D372713#32)) (mulf (F := Ideal) (φ := .f32) (mulf (F := Ideal) (φ := .f32) (extractStridedSlice S4x2048x512 ![0, 0, 2560] p slices_S4x2048x3200_S4x2048x512_0_0_2560) (extractStridedSlice S4x2048x512 ![0, 0, 2560] p slices_S4x2048x3200_S4x2048x512_0_0_2560)) (extractStridedSlice S4x2048x512 ![0, 0, 2560] p slices_S4x2048x3200_S4x2048x512_0_0_2560))))))))) s)) (constant (F := Ideal) S_ .f32 0x00000000#32) reducesTo_S4x2048x512_S4x2048_d2 h_S_)) (broadcastInDim S4x2048x1 ![] bcast_S_S4x2048x1 (constant (F := Ideal) S_ .f32 0x44000000#32))) (broadcastInDim S4x2048x1 ![] bcast_S_S4x2048x1 (constant (F := Ideal) S_ .f32 0x358637BD#32)))))) (broadcastInDim S4x2048x1 ![] bcast_S_S4x2048x1 (constant (F := Ideal) S_ .f32 0x44000000#32))) (constant (F := Ideal) S_ .f32 0x00000000#32) reducesTo_S4x2048x1_S4x2048_d2 h_S_)) (mulf (F := Ideal) (φ := .f32) (mulf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3F000000#32)) (addf (F := Ideal) (φ := .f32) (broadcastInDim S4x2048x512 ![] bcast_S_S4x2048x512 (constant (F := Ideal) S_ .f32 0x3F800000#32)) (Host.tanh (F := Ideal) (φ := .f32) (mulf (F := Ideal) (φ := .f32) (broadcastInDim S4x2048x512 ![] bcast_S_S4x2048x512 (constant (F := Ideal) S_ .f32 0x3F4C422A#32)) (addf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3D372713#32)) (mulf (F := Ideal) (φ := .f32) (mulf (F := Ideal) (φ := .f32) (extractStridedSlice S4x2048x512 ![0, 0, 2560] p slices_S4x2048x3200_S4x2048x512_0_0_2560) (extractStridedSlice S4x2048x512 ![0, 0, 2560] p slices_S4x2048x3200_S4x2048x512_0_0_2560)) (extractStridedSlice S4x2048x512 ![0, 0, 2560] p slices_S4x2048x3200_S4x2048x512_0_0_2560))))))))) s)))) shapeCasts_S4x2048x512_S8192x512 : S8192x512.Idx → EReal) = dsRows (flatA ct) w (cols (5 * 512) p) (flatA s) (fun j => lg (ix1 (c1 j))) := by
  rw [ref_u, ref_gelu, ref_bot, last]
  refine (congrArg (fun x => shapeCast S8192x512 (mulf (F := Ideal) (φ := .f32) (gB p) x) shapeCasts_S4x2048x512_S8192x512)
    (host_backW (B := 4) (R := 2048) (C := 512) (by norm_num) word512 (uB p s) (fun j => bB ct w j * lg (ix1 (d2 j))) _ (host_denW (B := 4) (R := 2048) (C := 512) 0x44000000#32 (uB p s) reducesTo_S4x2048x512_S4x2048_d2 h_S_ bcast_S4x2048_S4x2048x1_0_1 S_ S_ ![] ![] bcast_S_S4x2048x1 bcast_S_S4x2048x1)
    reducesTo_S4x2048x512_S4x2048_d2 reducesTo_S4x2048x1_S4x2048_d2 h_S_ bcast_S4x2048x1_S4x2048x512_0_1_2 bcast_S4x2048_S4x2048x512_0_1 shapeCasts_S4x2048_S4x2048x1 S_ S_ ![] ![] bcast_S_S4x2048x1 bcast_S_S4x2048x1 _ rfl)).trans ?_
  refine (flat8 _ shapeCasts_S4x2048x512_S8192x512).trans ?_
  exact funext fun j => mul_comm _ _

/-- The reference's gradient of the second gain. -/
theorem ref_dlr : (shapeCast S1x512 (Host.reduceAdd (F := Ideal) (φ := .f32) (shapeCast S1x1x512 (Host.reduceAdd (F := Ideal) (φ := .f32) (mulf (F := Ideal) (φ := .f32) (mulf (F := Ideal) (φ := .f32) (mulf (F := Ideal) (φ := .f32) (mulf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3F000000#32)) (addf (F := Ideal) (φ := .f32) (broadcastInDim S4x2048x512 ![] bcast_S_S4x2048x512 (constant (F := Ideal) S_ .f32 0x3F800000#32)) (Host.tanh (F := Ideal) (φ := .f32) (mulf (F := Ideal) (φ := .f32) (broadcastInDim S4x2048x512 ![] bcast_S_S4x2048x512 (constant (F := Ideal) S_ .f32 0x3F4C422A#32)) (addf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3D372713#32)) (mulf (F := Ideal) (φ := .f32) (mulf (F := Ideal) (φ := .f32) (extractStridedSlice S4x2048x512 ![0, 0, 2560] p slices_S4x2048x3200_S4x2048x512_0_0_2560) (extractStridedSlice S4x2048x512 ![0, 0, 2560] p slices_S4x2048x3200_S4x2048x512_0_0_2560)) (extractStridedSlice S4x2048x512 ![0, 0, 2560] p slices_S4x2048x3200_S4x2048x512_0_0_2560))))))))) s) (broadcastInDim S4x2048x512 ![0, 1, 2] bcast_S4x2048x1_S4x2048x512_0_1_2 (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) (mulf (F := Ideal) (φ := .f32) (mulf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3F000000#32)) (addf (F := Ideal) (φ := .f32) (broadcastInDim S4x2048x512 ![] bcast_S_S4x2048x512 (constant (F := Ideal) S_ .f32 0x3F800000#32)) (Host.tanh (F := Ideal) (φ := .f32) (mulf (F := Ideal) (φ := .f32) (broadcastInDim S4x2048x512 ![] bcast_S_S4x2048x512 (constant (F := Ideal) S_ .f32 0x3F4C422A#32)) (addf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3D372713#32)) (mulf (F := Ideal) (φ := .f32) (mulf (F := Ideal) (φ := .f32) (extractStridedSlice S4x2048x512 ![0, 0, 2560] p slices_S4x2048x3200_S4x2048x512_0_0_2560) (extractStridedSlice S4x2048x512 ![0, 0, 2560] p slices_S4x2048x3200_S4x2048x512_0_0_2560)) (extractStridedSlice S4x2048x512 ![0, 0, 2560] p slices_S4x2048x3200_S4x2048x512_0_0_2560))))))))) s) (mulf (F := Ideal) (φ := .f32) (mulf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3F000000#32)) (addf (F := Ideal) (φ := .f32) (broadcastInDim S4x2048x512 ![] bcast_S_S4x2048x512 (constant (F := Ideal) S_ .f32 0x3F800000#32)) (Host.tanh (F := Ideal) (φ := .f32) (mulf (F := Ideal) (φ := .f32) (broadcastInDim S4x2048x512 ![] bcast_S_S4x2048x512 (constant (F := Ideal) S_ .f32 0x3F4C422A#32)) (addf (F := Ideal) (φ := .f32) (extractStridedSlice S4x2048x512 ![0, 0, 2560] p slices_S4x2048x3200_S4x2048x512_0_0_2560) (mulf (F := Ideal) (φ := .f32) (broadcastInDim S4x2048x512 ![] bcast_S_S4x2048x512 (constant (F := Ideal) S_ .f32 0x3D372713#32)) (mulf (F := Ideal) (φ := .f32) (mulf (F := Ideal) (φ := .f32) (extractStridedSlice S4x2048x512 ![0, 0, 2560] p slices_S4x2048x3200_S4x2048x512_0_0_2560) (extractStridedSlice S4x2048x512 ![0, 0, 2560] p slices_S4x2048x3200_S4x2048x512_0_0_2560)) (extractStridedSlice S4x2048x512 ![0, 0, 2560] p slices_S4x2048x3200_S4x2048x512_0_0_2560))))))))) s)) (constant (F := Ideal) S_ .f32 0x00000000#32) reducesTo_S4x2048x512_S4x2048_d2 h_S_)) (broadcastInDim S4x2048x1 ![] bcast_S_S4x2048x1 (constant (F := Ideal) S_ .f32 0x44000000#32))) (broadcastInDim S4x2048x1 ![] bcast_S_S4x2048x1 (constant (F := Ideal) S_ .f32 0x358637BD#32)))))) (extractStridedSlice S4x2048x512 ![0, 0, 512] (Host.dotGeneral (F := Ideal) (φ₁ := .f32) (φ₂ := .f32) dot_S4x2048x1024_S1024x1024_S4x2048x1024_2_1_01_0_n_n none ct w) slices_S4x2048x1024_S4x2048x512_0_0_512)) (constant (F := Ideal) S_ .f32 0x00000000#32) reducesTo_S4x2048x512_S512_d0_1 h_S_) shapeCasts_S512_S1x1x512) (constant (F := Ideal) S_ .f32 0x00000000#32) reducesTo_S1x1x512_S512_d0_1 h_S_) shapeCasts_S512_S1x512 : S1x512.Idx → EReal) = lrAll (flatA ct) w (cols (5 * 512) p) (flatA s) := by
  rw [ref_u, ref_bot]
  refine (host_gainW 0x44000000#32 (uB p s) (bB ct w) _ (host_invW (B := 4) (R := 2048) (C := 512) 0x44000000#32 (uB p s) reducesTo_S4x2048x512_S4x2048_d2 h_S_ bcast_S4x2048_S4x2048x1_0_1 bcast_S4x2048x1_S4x2048x512_0_1_2 S_ S_ ![] ![] bcast_S_S4x2048x1 bcast_S_S4x2048x1) reducesTo_S4x2048x512_S512_d0_1 reducesTo_S1x1x512_S512_d0_1 h_S_ shapeCasts_S512_S1x1x512 shapeCasts_S512_S1x512).trans ?_
  refine funext fun j => ?_
  exact (sum_batch 4 2048 16 512 rfl fun u v => bB ct w (ix3 u v (c1 j)) * (uB p s (ix3 u v (c1 j)) * invW 0x44000000#32 (sq (uB p s) u v))).symm.trans (lr_blocks (flatA ct) w (cols (5 * 512) p) (flatA s) j)

end

theorem algebraic : Cert.algebraic_Kernel24Ideal_Reference24Ideal := by
  intro m ρ m' ρ' hpre hagree
  refine ⟨_, _, _, _, (θ_run Cert.Kernel24Ideal.defs _ _).mono (fun _ h c => ⟨(h c).1, (h c).2.2.2.1, (h c).2.2.2.2.1, (h c).2.2.2.2.2.1, (h c).2.2.2.2.2.2⟩) (Cert.Kernel24Ideal.Value.run_blocks (F := Ideal) m ρ), ?_⟩
  refine (θ_run Cert.Reference24Ideal.defs _ _).mono (fun _ h c => ?_) (Cert.Reference24Ideal.Value.run (F := Ideal) m' ρ')
  obtain ⟨e0, e1, e2, e3, e4, e5, e6⟩ := hagree c
  exact ⟨(h c).1.trans ((ref_do _ _ _ _ _).trans (array8 m c _ _ _ _ _ _ _ e0.symm e1.symm e2.symm e3.symm e4.symm e5.symm e6.symm).symm),
    (h c).2.1.trans ((ref_dhs _ _ _ _ _).trans (array11 m c _ _ _ _ _ _ _ e0.symm e1.symm e2.symm e3.symm e4.symm e5.symm e6.symm).symm),
    (h c).2.2.1.trans ((ref_ddn _ _ _ _).trans (array12 m c _ _ _ _ _ _ _ e0.symm e1.symm e2.symm e3.symm e4.symm e5.symm e6.symm).symm),
    (h c).2.2.2.1.trans ((ref_dlr _ _ _ _).trans (array13 m c _ _ _ _ _ _ _ e0.symm e1.symm e2.symm e3.symm e4.symm e5.symm e6.symm).symm), (h c).2.2.2.2⟩

end Cert.MixBwd

end
-- ==== Proof.PrepBwd.Geometry.lean ====
/- Where the blocks of the grid lie: what a point reads of each array, and that the written blocks fill the results. -/
module

public import proofs.«01_k».proof.Proof.Gen.Kernel25Ideal.Value
public import proofs.«01_k».proof.Proof.Lift.Heads
public import proofs.«01_k».proof.Proof.Lift.Place

@[expose] public section

noncomputable section

namespace Cert.PrepBwd

open Cert.Kernel25Ideal Cert.Kernel25Ideal.Gen Cert.Ext Idealize.ShloMosaic Idealize.ShloMosaic.TcCoe Idealize.SL.Sem Cert.Lift Idealize.ShloMosaic.ValueIdx
open Idealize.ShloMosaic.Pipeline (Dat)

variable (m : (ℓ : Loc nD τ sig) → Buf (Elt Ideal) ℓ) (c : Dev nD)

theorem hN : cfg0.N = 12 := N_0

theorem sec_of : ∀ t : Fin cfg0.N, ((grid0.coords t) 0).val = t.val / 4 := by decide +kernel

/-! ### The input blocks -/

theorem idx0_0 : ∀ t : Fin cfg0.N, win0_0.index t 0 = t.val % 4 := by decide +kernel
theorem idx0_1 : ∀ t : Fin cfg0.N, win0_0.index t 1 = t.val / 4 := by decide +kernel
theorem part0 (t : Fin cfg0.N) (a : S8192x3200.Idx → EReal) (h : (V m c main_v0 : S8192x3200.Idx → EReal) = a) :
    (X0_0 m c t : S2048x512.Idx → EReal) = fun y => a (ix2 (Fin.ofNat 8192 (t.val % 4 * 2048 + (r0 y).val)) (Fin.ofNat 3200 (t.val / 4 * 512 + (c1 y).val))) := by
  have ht : t.val < 12 := hN ▸ t.isLt
  refine funext fun (y : S2048x512.Idx) => ?_
  unfold X0_0 Pipeline.Window.fill
  rw [dif_pos (moved0_0 t y)]
  unfold iblk
  rw [View.read_apply]
  exact (congrFun h _).trans (congrArg a (place _ y _ _ _ _ (idx0_0 t) (idx0_1 t) (by omega) (by omega) rfl rfl))

theorem idx1_0 : ∀ t : Fin cfg0.N, win0_1.index t 0 = t.val / 4 := by decide +kernel
theorem idx1_1 : ∀ t : Fin cfg0.N, win0_1.index t 1 = t.val % 4 := by decide +kernel
theorem idx1_2 : ∀ t : Fin cfg0.N, win0_1.index t 2 = 0 := by decide +kernel
/-- The index `e` of the stack is that of the block's `y`. -/
theorem place3 (e : S3x8192x512.Idx) (y : S1x2048x512.Idx) (p q i j k : Nat) (hi : i = p) (hj : j = q) (hk : k = 0) (hp : p < 3) (hq : q * 2048 + 2048 ≤ 8192)
    (e0 : (e 0 : Nat) = i * 1 + 1 * (d0 y).val) (e1 : (e 1 : Nat) = j * 2048 + 1 * (d1 y).val) (e2 : (e 2 : Nat) = k * 512 + 1 * (d2 y).val) :
    e = ix3 (Fin.ofNat 3 p) (Fin.ofNat 8192 (q * 2048 + (d1 y).val)) (d2 y) := by
  subst hi hj hk
  have h0 : (d0 y).val < 1 := (y 0).isLt
  have h1 : (d1 y).val < 2048 := (y 1).isLt
  refine funext fun d => Fin.ext ?_
  match d with
  | ⟨0, _⟩ => show (e 0 : Nat) = i % 3; rw [Nat.mod_eq_of_lt (by omega)]; omega
  | ⟨1, _⟩ => show (e 1 : Nat) = (j * 2048 + (d1 y).val) % 8192; rw [Nat.mod_eq_of_lt (by omega)]; omega
  | ⟨2, _⟩ => show (e 2 : Nat) = (d2 y).val; omega
theorem rd1 (t : Fin cfg0.N) (a : S3x8192x512.Idx → EReal) (h : (V m c main_arg0 : S3x8192x512.Idx → EReal) = a) :
    (iblk m c 1 t : S1x2048x512.Idx → EReal) = fun y => a (ix3 (Fin.ofNat 3 (t.val / 4)) (Fin.ofNat 8192 (t.val % 4 * 2048 + (d1 y).val)) (d2 y)) := by
  have ht : t.val < 12 := hN ▸ t.isLt
  funext y
  unfold iblk
  rw [View.read_apply]
  exact (congrFun h _).trans (congrArg a (place3 _ y _ _ _ _ _ (idx1_0 t) (idx1_1 t) (idx1_2 t) (by omega) (by omega) rfl rfl rfl))

theorem idx2_0 : ∀ t : Fin cfg0.N, win0_2.index t 0 = 0 := by decide +kernel
theorem idx2_1 : ∀ t : Fin cfg0.N, win0_2.index t 1 = t.val / 4 := by decide +kernel
theorem rd2 (t : Fin cfg0.N) (a : S4x1536.Idx → EReal) (h : (V m c main_arg2 : S4x1536.Idx → EReal) = a) :
    (iblk m c 2 t : S4x512.Idx → EReal) = fun y => a (ix2 (Fin.ofNat 4 (0 * 4 + (r0 y).val)) (Fin.ofNat 1536 (t.val / 4 * 512 + (c1 y).val))) := by
  have ht : t.val < 12 := hN ▸ t.isLt
  funext y
  unfold iblk
  rw [View.read_apply]
  exact (congrFun h _).trans (congrArg a (place _ y _ _ _ _ (idx2_0 t) (idx2_1 t) (by omega) (by omega) rfl rfl))

/-! ### The output array -/

theorem idx4_0 : ∀ t : Fin cfg0.N, win0_4.index t 0 = 0 := by decide +kernel
theorem idx4_1 : ∀ t : Fin cfg0.N, win0_4.index t 1 = t.val / 4 := by decide +kernel
theorem arr4 (p : Fin cfg0.N → S4x512.Idx → EReal) (G : S4x1536.Idx → EReal)
    (hp : ∀ t, (cfg0.win 4).flush t = true → ((dats m 0 c).after 4 t : S4x512.Idx → EReal) = p t)
    (hG : ∀ t, (cfg0.win 4).flush t = true → ∀ y, p t y = G (ix2 (Fin.ofNat 4 (0 * 4 + (r0 y).val)) (Fin.ofNat 1536 (t.val / 4 * 512 + (c1 y).val)))) :
    ((dats m 0 c).arrAt 4 cfg0.N : S4x1536.Idx → EReal) = G := by
  refine (dats m 0 c).arrAt_eq_of_cover 4 G (fun t hf => ?_) fun i => ?_
  · have ht : t.val < 12 := hN ▸ t.isLt
    refine funext fun (y : S4x512.Idx) => ?_
    refine (congrFun (hp t hf) y).trans ?_
    rw [View.read_apply]
    exact (hG t hf y).trans (congrArg G (place _ y _ _ _ _ (idx4_0 t) (idx4_1 t) (by omega) (by omega) rfl rfl).symm)
  · have h0 : (i 0 : Nat) < 4 := (i 0).isLt
    have h1 : (i 1 : Nat) < 1536 := (i 1).isLt
    have hlt : 4 * ((i 1 : Nat) / 512) + 3 < cfg0.N := by rw [hN]; omega
    refine ⟨⟨4 * ((i 1 : Nat) / 512) + 3, hlt⟩, (flush0_4 ⟨_, hlt⟩).mpr (show (4 * ((i 1 : Nat) / 512) + 3) % 4 = 3 by omega), ?_⟩
    show i ∈ ((View.whole main_v1_1).slice (win0_4.rect ⟨4 * ((i 1 : Nat) / 512) + 3, hlt⟩)).set
    rw [View.set_slice_whole, Rect.mem_set_unit]
    exact both (within (T := 4) 0 (idx4_0 _) (by omega)) (within (T := 512) ((4 * ((i 1 : Nat) / 512) + 3) / 4) (idx4_1 _) (by omega))

end Cert.PrepBwd

end
-- ==== Proof.Lift.Taps.lean ====
/- A convolution of four taps over 2048 places, its gated output, and the gradient of a head's normalisation. -/
module

public import proofs.«01_k».proof.Proof.Lift.Heads

@[expose] public section

noncomputable section

namespace Cert.Ext

open Idealize.ShloMosaic Idealize.ShloMosaic.ValueIdx Cert.Lift

/-- The sequence seen through tap `q`: two places back for tap 0, zero outside. -/
def tapE {A : Type} [Zero A] (q : Nat) (g : Fin 2048 → A) (r : Fin 2048) : A :=
  if h : 2 ≤ r.val + q ∧ r.val + q - 2 < 2048 then g ⟨r.val + q - 2, h.2⟩ else 0

theorem tap_two {A : Type} [Zero A] (g : Fin 2048 → A) (r : Fin 2048) : tapE 2 g r = g r := by
  unfold tapE
  rw [dif_pos ⟨by omega, by have := r.isLt; omega⟩]
  rfl

theorem tap_coe (q : Nat) (g : Fin 2048 → ℝ) (r : Fin 2048) : tapE q (fun r => ((g r : ℝ) : EReal)) r = ((tapE q g r : ℝ) : EReal) := by
  unfold tapE
  split <;> rfl

theorem mask0 : ∀ r : Fin 2048,
    IntOp.andi (IntOp.cmpi .sge (IntOp.addi (BitVec.ofNat 32 r.val) 4294967294#32) 0#32)
      (IntOp.cmpi .slt (IntOp.addi (BitVec.ofNat 32 r.val) 4294967294#32) 2048#32) = if 2 ≤ r.val + 0 ∧ r.val + 0 - 2 < 2048 then 1#1 else 0#1 := by
  decide +kernel
theorem mask1 : ∀ r : Fin 2048,
    IntOp.andi (IntOp.cmpi .sge (IntOp.addi (BitVec.ofNat 32 r.val) 4294967295#32) 0#32)
      (IntOp.cmpi .slt (IntOp.addi (BitVec.ofNat 32 r.val) 4294967295#32) 2048#32) = if 2 ≤ r.val + 1 ∧ r.val + 1 - 2 < 2048 then 1#1 else 0#1 := by
  decide +kernel
theorem mask3 : ∀ r : Fin 2048,
    IntOp.andi (IntOp.cmpi .sge (IntOp.addi (BitVec.ofNat 32 r.val) 1#32) 0#32)
      (IntOp.cmpi .slt (IntOp.addi (BitVec.ofNat 32 r.val) 1#32) 2048#32) = if 2 ≤ r.val + 3 ∧ r.val + 3 - 2 < 2048 then 1#1 else 0#1 := by
  decide +kernel

section
variable {C : Nat}

/-- The block rotated by `n` rows and masked to the rows whose source lies in it. -/
theorem blk_tap (q : Nat) (k n : BitVec 32)
    (hm : ∀ r : Fin 2048, IntOp.andi (IntOp.cmpi .sge (IntOp.addi (BitVec.ofNat 32 r.val) k) 0#32) (IntOp.cmpi .slt (IntOp.addi (BitVec.ofNat 32 r.val) k) 2048#32)
      = if 2 ≤ r.val + q ∧ r.val + q - 2 < 2048 then 1#1 else 0#1)
    (hn : ∀ r : Nat, r < 2048 → 2 ≤ r + q ∧ r + q - 2 < 2048 → r + q - 2 = (r + 2048 - n.toNat % 2048) % 2048)
    (hi) (hr) (a : Arr ⟨2, ![2048, C]⟩) :
    (select (andi (cmpi .sge (addi (iota .tc ⟨2, ![2048, C]⟩ 32 [0] hi) (broadcast _ k)) (broadcast _ 0#32))
        (cmpi .slt (addi (iota .tc ⟨2, ![2048, C]⟩ 32 [0] hi) (broadcast _ k)) (broadcast _ 2048#32)))
      (dynamicRotate 0 n none a hr) (broadcast _ (Scalar.ofBits (F := Ideal) .f32 0x00000000#32)) : Arr ⟨2, ![2048, C]⟩)
      = fun j => tapE q (fun r => a (ix2 r (c1 j))) (r0 j) := by
  funext j
  have e : andi (cmpi .sge (addi (iota .tc ⟨2, ![2048, C]⟩ 32 [0] hi) (broadcast _ k)) (broadcast _ 0#32))
        (cmpi .slt (addi (iota .tc ⟨2, ![2048, C]⟩ 32 [0] hi) (broadcast _ k)) (broadcast _ 2048#32)) j = if 2 ≤ (r0 j).val + q ∧ (r0 j).val + q - 2 < 2048 then 1#1 else 0#1 := by
    show IntOp.andi (IntOp.cmpi .sge (IntOp.addi (iota .tc ⟨2, ![2048, C]⟩ 32 [0] hi j) k) 0#32)
      (IntOp.cmpi .slt (IntOp.addi (iota .tc ⟨2, ![2048, C]⟩ 32 [0] hi j) k) 2048#32) = _
    rw [iota_single_apply]
    exact hm (r0 j)
  rw [select_apply, e]
  unfold Scalar.select tapE
  by_cases h : 2 ≤ (r0 j).val + q ∧ (r0 j).val + q - 2 < 2048
  · rw [if_pos h, if_pos (show (1#1 : BitVec 1) = 1 from rfl), dif_pos h]
    refine dynamicRotate_apply 0 n a hr j _ fun b => ?_
    match b with
    | ⟨0, _⟩ => exact (hn _ (r0 j).isLt h)
    | ⟨1, _⟩ => rfl
  · rw [if_neg h, if_neg (by decide), dif_neg h]
    exact zeroF

theorem blk_tap0 (hi) (hr) (a : Arr ⟨2, ![2048, C]⟩) :
    (select (andi (cmpi .sge (addi (iota .tc ⟨2, ![2048, C]⟩ 32 [0] hi) (broadcast _ 4294967294#32)) (broadcast _ 0#32))
        (cmpi .slt (addi (iota .tc ⟨2, ![2048, C]⟩ 32 [0] hi) (broadcast _ 4294967294#32)) (broadcast _ 2048#32)))
      (dynamicRotate 0 2#32 none a hr) (broadcast _ (Scalar.ofBits (F := Ideal) .f32 0x00000000#32)) : Arr ⟨2, ![2048, C]⟩)
      = fun j => tapE 0 (fun r => a (ix2 r (c1 j))) (r0 j) :=
  blk_tap 0 _ _ mask0 (fun r h1 h2 => by show r + 0 - 2 = (r + 2048 - 2 % 2048) % 2048; omega) hi hr a
theorem blk_tap1 (hi) (hr) (a : Arr ⟨2, ![2048, C]⟩) :
    (select (andi (cmpi .sge (addi (iota .tc ⟨2, ![2048, C]⟩ 32 [0] hi) (broadcast _ 4294967295#32)) (broadcast _ 0#32))
        (cmpi .slt (addi (iota .tc ⟨2, ![2048, C]⟩ 32 [0] hi) (broadcast _ 4294967295#32)) (broadcast _ 2048#32)))
      (dynamicRotate 0 1#32 none a hr) (broadcast _ (Scalar.ofBits (F := Ideal) .f32 0x00000000#32)) : Arr ⟨2, ![2048, C]⟩)
      = fun j => tapE 1 (fun r => a (ix2 r (c1 j))) (r0 j) :=
  blk_tap 1 _ _ mask1 (fun r h1 h2 => by show r + 1 - 2 = (r + 2048 - 1 % 2048) % 2048; omega) hi hr a
theorem blk_tap3 (hi) (hr) (a : Arr ⟨2, ![2048, C]⟩) :
    (select (andi (cmpi .sge (addi (iota .tc ⟨2, ![2048, C]⟩ 32 [0] hi) (broadcast _ 1#32)) (broadcast _ 0#32))
        (cmpi .slt (addi (iota .tc ⟨2, ![2048, C]⟩ 32 [0] hi) (broadcast _ 1#32)) (broadcast _ 2048#32)))
      (dynamicRotate 0 2047#32 none a hr) (broadcast _ (Scalar.ofBits (F := Ideal) .f32 0x00000000#32)) : Arr ⟨2, ![2048, C]⟩)
      = fun j => tapE 3 (fun r => a (ix2 r (c1 j))) (r0 j) :=
  blk_tap 3 _ _ mask3 (fun r h1 h2 => by show r + 3 - 2 = (r + 2048 - 2047 % 2048) % 2048; omega) hi hr a

/-- The batch's rows padded by two before and one after, seen from row `q`. -/
theorem host_tap {B : Nat} (q : Nat) {u : Shape} (a : Arr ⟨3, ![B, 2048, C]⟩) (z : Arr u) (hz : ∀ i, z i = 0) (h) (hu : 0 < u.numel) (hs) :
    (extractStridedSlice ⟨3, ![B, 2048, C]⟩ ![0, q, 0] (pad ⟨3, ![B, 2051, C]⟩ ![0, 2, 0] ![0, 1, 0] ![0, 0, 0] a z h hu) hs : Arr ⟨3, ![B, 2048, C]⟩)
      = fun j => tapE q (fun r => a (ix3 (d0 j) r (d2 j))) (d1 j) := by
  funext j
  have hj : (d1 j).val < 2048 := (d1 j).isLt
  have hq : q + 2048 ≤ 2051 := hs.2 1
  refine (extractStridedSlice_apply ![0, q, 0] (pad ⟨3, ![B, 2051, C]⟩ ![0, 2, 0] ![0, 1, 0] ![0, 0, 0] a z h hu) hs j
    (ix3 (d0 j) (⟨(d1 j).val + q, by omega⟩ : Fin 2051) (d2 j)) fun e => ?_).trans ?_
  · match e with
    | ⟨0, _⟩ => show (d0 j).val = 0 + (d0 j).val; omega
    | ⟨1, _⟩ => show (d1 j).val + q = q + (d1 j).val; omega
    | ⟨2, _⟩ => show (d2 j).val = 0 + (d2 j).val; omega
  · unfold tapE
    by_cases hc : 2 ≤ (d1 j).val + q ∧ (d1 j).val + q - 2 < 2048
    · rw [dif_pos hc]
      refine pad_apply_of_inside _ _ _ a z h hu _ (ix3 (d0 j) (⟨(d1 j).val + q - 2, hc.2⟩ : Fin 2048) (d2 j)) fun e => ?_
      match e with
      | ⟨0, _⟩ => show (d0 j).val = 0 + (d0 j).val * (0 + 1); omega
      | ⟨1, _⟩ => show (d1 j).val + q = 2 + ((d1 j).val + q - 2) * (0 + 1); omega
      | ⟨2, _⟩ => show (d2 j).val = 0 + (d2 j).val * (0 + 1); omega
    · rw [dif_neg hc]
      refine (pad_apply_of_not_inside _ _ _ a z h hu _ 1 ?_).trans (hz _)
      rintro ⟨h1, -, h3⟩
      have h1' : 2 ≤ (d1 j).val + q := h1
      have h3' : ((d1 j).val + q - 2) / (0 + 1) < 2048 := h3
      simp only [Nat.zero_add, Nat.div_one] at h3'
      exact hc ⟨h1', h3'⟩

/-- Four rows put under each other. -/
theorem four_rows (g : Fin 4 → Arr ⟨2, ![1, C]⟩) {u : Shape} (z : Arr u) (hz : ∀ i, z i = 0) (h3 h2 h1 h0) (hu : 0 < u.numel) :
    (addf (F := Ideal) (φ := .f32) (addf (F := Ideal) (φ := .f32) (addf (F := Ideal) (φ := .f32)
        (pad ⟨2, ![4, C]⟩ ![3, 0] ![0, 0] ![0, 0] (g 3) z h3 hu)
        (pad ⟨2, ![4, C]⟩ ![2, 0] ![1, 0] ![0, 0] (g 2) z h2 hu))
        (pad ⟨2, ![4, C]⟩ ![1, 0] ![2, 0] ![0, 0] (g 1) z h1 hu))
        (pad ⟨2, ![4, C]⟩ ![0, 0] ![3, 0] ![0, 0] (g 0) z h0 hu) : Arr ⟨2, ![4, C]⟩)
      = fun j => g (r0 j) (ix2 0 (c1 j)) := by
  funext j
  have hj : (r0 j).val < 4 := (r0 j).isLt
  have key : ∀ (q : Fin 4) (lo hi : Fin 2 → Nat) (hlo : lo 0 = q.val) (hlo1 : lo 1 = 0) (h : (⟨2, ![1, C]⟩ : Shape).Pads lo hi ![0, 0] ⟨2, ![4, C]⟩),
      pad ⟨2, ![4, C]⟩ lo hi ![0, 0] (g q) z h hu j = if r0 j = q then g q (ix2 0 (c1 j)) else 0 := by
    intro q lo hi hlo hlo1 h
    by_cases hq : r0 j = q
    · rw [if_pos hq]
      have hq' : (r0 j).val = q.val := congrArg Fin.val hq
      refine pad_apply_of_inside _ _ _ _ _ h hu _ (ix2 (0 : Fin 1) (c1 j)) fun a => ?_
      match a with
      | ⟨0, _⟩ => show (r0 j).val = lo 0 + 0 * (0 + 1); rw [hlo]; omega
      | ⟨1, _⟩ => show (c1 j).val = lo 1 + (c1 j).val * (0 + 1); rw [hlo1]; omega
    · rw [if_neg hq]
      have hq' : (r0 j).val ≠ q.val := fun e => hq (Fin.ext e)
      refine (pad_apply_of_not_inside _ _ _ _ _ h hu _ 0 ?_).trans (hz _)
      rintro ⟨h1, -, h3⟩
      have h1' : lo 0 ≤ (r0 j).val := h1
      have h3' : ((r0 j).val - lo 0) / (0 + 1) < 1 := h3
      rw [hlo] at h1' h3'
      simp only [Nat.zero_add, Nat.div_one] at h3'
      omega
  show ((_ : EReal) + _) + _ + _ = _
  rw [key 3 ![3, 0] ![0, 0] rfl rfl h3, key 2 ![2, 0] ![1, 0] rfl rfl h2, key 1 ![1, 0] ![2, 0] rfl rfl h1, key 0 ![0, 0] ![3, 0] rfl rfl h0]
  generalize r0 j = r at hj
  fin_cases r <;> simp

/-- A stretch of columns put among zeros. -/
theorem pad_cols {B R D : Nat} (q e : Nat) (a : Arr ⟨3, ![B, R, C]⟩) {u : Shape} (z : Arr u) (hz : ∀ i, z i = 0) (h) (hu : 0 < u.numel) (j : (⟨3, ![B, R, D]⟩ : Shape).Idx) :
    pad ⟨3, ![B, R, D]⟩ ![0, 0, q] ![0, 0, e] ![0, 0, 0] a z h hu j
      = if hq : q ≤ (d2 j).val ∧ (d2 j).val - q < C then a (ix3 (d0 j) (d1 j) (⟨(d2 j).val - q, hq.2⟩ : Fin C)) else 0 := by
  by_cases hq : q ≤ (d2 j).val ∧ (d2 j).val - q < C
  · rw [dif_pos hq]
    refine pad_apply_of_inside _ _ _ a z h hu _ (ix3 (d0 j) (d1 j) (⟨(d2 j).val - q, hq.2⟩ : Fin C)) fun e => ?_
    match e with
    | ⟨0, _⟩ => show (d0 j).val = 0 + (d0 j).val * (0 + 1); omega
    | ⟨1, _⟩ => show (d1 j).val = 0 + (d1 j).val * (0 + 1); omega
    | ⟨2, _⟩ => show (d2 j).val = q + ((d2 j).val - q) * (0 + 1); omega
  · rw [dif_neg hq]
    refine (pad_apply_of_not_inside _ _ _ a z h hu _ 2 ?_).trans (hz _)
    rintro ⟨h1, -, h3⟩
    have h1' : q ≤ (d2 j).val := h1
    have h3' : ((d2 j).val - q) / (0 + 1) < C := h3
    simp only [Nat.zero_add, Nat.div_one] at h3'
    exact hq ⟨h1', h3'⟩

end

/-- The convolution at a place: its four taps. -/
def cvE {A : Type} [Zero A] [Add A] [Mul A] (g : Fin 2048 → A) (w : Fin 4 → A) (r : Fin 2048) : A :=
  ((tapE 0 g r * w 0 + tapE 1 g r * w 1) + tapE 2 g r * w 2) + tapE 3 g r * w 3

/-- The gated value, and its derivative. -/
def silE (x : EReal) : EReal := x * sg x
def dsilE (x : EReal) : EReal := sg x * (Ideal.ofBits .f32 0x3F800000#32 + x * (Ideal.ofBits .f32 0x3F800000#32 - sg x))

/-- The reciprocal root of a sum of squares with the small constant. -/
def ivE (s : EReal) : EReal := Ideal.rsqrt (s + Ideal.ofBits .f32 0x358637BD#32)

/-- An entry of the gradient of a head's normalisation: the head and its cotangents. -/
def nrmE {n : Nat} (y d : Fin n → EReal) (k : Fin n) : EReal :=
  ivE (∑ i, y i * y i) * d k - y k * (ivE (∑ i, y i * y i) * ivE (∑ i, y i * y i) * ivE (∑ i, y i * y i)) * ∑ i, d i * y i

/-- The same as it is written by differentiating the formula. -/
def nrmH {n : Nat} (y d : Fin n → EReal) (k : Fin n) : EReal :=
  (d k * ivE (∑ i, y i * y i) + y k * ((∑ i, y i * d i) * (Ideal.ofBits .f32 0xBF000000#32 * Ideal.div (ivE (∑ i, y i * y i)) ((∑ i, y i * y i) + Ideal.ofBits .f32 0x358637BD#32))))
    + (∑ i, y i * d i) * (Ideal.ofBits .f32 0xBF000000#32 * Ideal.div (ivE (∑ i, y i * y i)) ((∑ i, y i * y i) + Ideal.ofBits .f32 0x358637BD#32)) * y k

/-- The gated value's derivative as it is written by differentiating the formula. -/
def silH (x d : EReal) : EReal := d * sg x + (x * d) * (sg x * (Ideal.ofBits .f32 0x3F800000#32 - sg x))

theorem oneI : Ideal.ofBits .f32 0x3F800000#32 = ((1 : ℝ) : EReal) := ofBits_one

theorem sg_real (x : ℝ) : ∃ s : ℝ, sg (x : EReal) = (s : EReal) := by
  refine ⟨1 / (1 + Real.exp (-x)), ?_⟩
  have h : (1 + Real.exp (-x) : ℝ) ≠ 0 := by positivity
  unfold sg
  rw [oneI, ← EReal.coe_neg, Ideal.exp_coe, ← EReal.coe_add, Ideal.div_coe h, ← EReal.coe_mul, one_mul]

theorem cv_real (g : Fin 2048 → ℝ) (w : Fin 4 → ℝ) (r : Fin 2048) :
    cvE (fun r => ((g r : ℝ) : EReal)) (fun q => ((w q : ℝ) : EReal)) r = ((cvE g w r : ℝ) : EReal) := by
  unfold cvE
  simp only [tap_coe, ← EReal.coe_mul, ← EReal.coe_add]

theorem nrm_real {n : Nat} (y d : Fin n → ℝ) (k : Fin n) :
    ∃ v : ℝ, nrmE (fun i => ((y i : ℝ) : EReal)) (fun i => ((d i : ℝ) : EReal)) k = (v : EReal) ∧ nrmH (fun i => ((y i : ℝ) : EReal)) (fun i => ((d i : ℝ) : EReal)) k = (v : EReal) := by
  have hs : (0 : ℝ) ≤ ∑ i, y i * y i := Finset.sum_nonneg fun i _ => mul_self_nonneg _
  have hv : 0 < (∑ i, y i * y i) + 8796093 / 2 ^ 43 := by positivity
  have hi : ivE (((∑ i, y i * y i : ℝ) : EReal)) = (((√((∑ i, y i * y i) + 8796093 / 2 ^ 43))⁻¹ : ℝ) : EReal) := by
    unfold ivE
    rw [epsI, ← EReal.coe_add, Ideal.rsqrt_coe, if_neg (not_lt.mpr hv.le), if_neg hv.ne']
  have e : 1 / ((∑ i, y i * y i) + 8796093 / 2 ^ 43) = (√((∑ i, y i * y i) + 8796093 / 2 ^ 43))⁻¹ * (√((∑ i, y i * y i) + 8796093 / 2 ^ 43))⁻¹ := by
    rw [← mul_inv, Real.mul_self_sqrt hv.le, one_div]
  have hc : ∑ i, d i * y i = ∑ i, y i * d i := Finset.sum_congr rfl fun i _ => mul_comm _ _
  generalize (√((∑ i, y i * y i) + 8796093 / 2 ^ 43))⁻¹ = p at hi e
  refine ⟨p * d k - y k * (p * p * p) * ∑ i, y i * d i, ?_, ?_⟩
  · unfold nrmE
    simp only [← EReal.coe_mul, ← coe_sum, hi, ← EReal.coe_sub, hc]
  · unfold nrmH
    simp only [← EReal.coe_mul, ← coe_sum, hi, neghalfI, epsI, ← EReal.coe_add, Ideal.div_coe hv.ne', e]
    congr 1
    ring

/-- The two forms of the whole derivative agree on reals. -/
theorem sil_agree (x d : ℝ) : silH (x : EReal) (d : EReal) = (d : EReal) * dsilE (x : EReal) := by
  obtain ⟨s, hs⟩ := sg_real x
  unfold silH dsilE
  rw [hs, oneI]
  simp only [← EReal.coe_mul, ← EReal.coe_sub, ← EReal.coe_add]
  congr 1
  ring

/-! ### A block of rows -/

section
variable {T : Nat}

/-- A head's lines of the derivative. -/
theorem blk_nrm (y d : Arr ⟨2, ![T, 128]⟩) (acc acc') (h : (⟨2, ![T, 128]⟩ : Shape).Reduces [1] ⟨1, ![T]⟩) (h1) (h2) (h' : (⟨2, ![T, 128]⟩ : Shape).Reduces [1] ⟨1, ![T]⟩) (h1') (h2')
    (h3 h3' : (⟨1, ![T]⟩ : Shape).ShapeCasts ⟨2, ![T, 1]⟩) (h4 : (⟨2, ![T, 1]⟩ : Shape).Broadcasts ⟨2, ![T, 128]⟩) (i : Arr ⟨2, ![T, 1]⟩)
    (hi : i = rsqrt (F := Ideal) (φ := .f32) (addf (F := Ideal) (φ := .f32)
        (shapeCast ⟨2, ![T, 1]⟩ (multiReduction (F := Ideal) (φ := .f32) .add [1] ⟨1, ![T]⟩ (mulf (F := Ideal) (φ := .f32) y y) acc h h1 h2) h3)
        (broadcast ⟨2, ![T, 1]⟩ (Scalar.ofBits (F := Ideal) .f32 0x358637BD#32)))) :
    (subf (F := Ideal) (φ := .f32) (mulf (F := Ideal) (φ := .f32) (broadcastTo ⟨2, ![T, 128]⟩ i h4) d)
      (mulf (F := Ideal) (φ := .f32) (mulf (F := Ideal) (φ := .f32) y (broadcastTo ⟨2, ![T, 128]⟩ (mulf (F := Ideal) (φ := .f32) (mulf (F := Ideal) (φ := .f32) i i) i) h4))
        (broadcastTo ⟨2, ![T, 128]⟩ (shapeCast ⟨2, ![T, 1]⟩ (multiReduction (F := Ideal) (φ := .f32) .add [1] ⟨1, ![T]⟩ (mulf (F := Ideal) (φ := .f32) d y) acc' h' h1' h2') h3') h4)) : Arr ⟨2, ![T, 128]⟩)
      = fun j => nrmE (fun k => y (ix2 (r0 j) k)) (fun k => d (ix2 (r0 j) k)) (c1 j) := by
  have e : i = fun j => ivE (∑ k : Fin 128, y (ix2 (r0 j) k) * y (ix2 (r0 j) k)) := by
    rw [hi, asCol]
    funext j
    exact congrArg ivE (congrFun (colsE (mulf (F := Ideal) (φ := .f32) y y) acc h h1 h2) (ix1 (r0 j)))
  rw [e, colTo, colTo, colTo, asCol]
  funext j
  rw [eq_rc j]
  refine congrArg (fun S => ivE _ * d _ - y _ * (ivE _ * ivE _ * ivE _) * S) ?_
  exact congrFun (colsE (mulf (F := Ideal) (φ := .f32) d y) acc' h' h1' h2') (ix1 (r0 j))

/-- The head and the place of a column. -/
def hdOf (c : Fin 512) : Fin 4 := Fin.ofNat 4 (c.val / 128)
def plOf (c : Fin 512) : Fin 128 := Fin.ofNat 128 c.val

theorem hdOf_hd (h : Fin 4) (k : Fin 128) : hdOf (hd h k) = h := Fin.ext (by
  have := h.isLt
  have := k.isLt
  show (h.val * 128 + k.val) % 512 / 128 % 4 = h.val
  omega)
theorem plOf_hd (h : Fin 4) (k : Fin 128) : plOf (hd h k) = k := Fin.ext (by
  have := h.isLt
  have := k.isLt
  show (h.val * 128 + k.val) % 512 % 128 = k.val
  omega)
theorem hd_of (c : Fin 512) : hd (hdOf c) (plOf c) = c := Fin.ext (by
  have := c.isLt
  show (c.val / 128 % 4 * 128 + c.val % 128) % 512 = c.val
  omega)

/-- The block's gradient of the heads' normalisation, or the cotangents themselves. -/
def gradB (b : BitVec 1) (y d : Arr ⟨2, ![T, 512]⟩) : Arr ⟨2, ![T, 512]⟩ := fun j =>
  Scalar.select b (nrmE (fun k => y (ix2 (r0 j) (hd (hdOf (c1 j)) k))) (fun k => d (ix2 (r0 j) (hd (hdOf (c1 j)) k))) (plOf (c1 j))) (d j)

theorem head_grad (h : Fin 4) (b : BitVec 1) (y d : Arr ⟨2, ![T, 512]⟩) :
    (Scalar.select b (fun j => nrmE (fun k => sl h y (ix2 (r0 j) k)) (fun k => sl h d (ix2 (r0 j) k)) (c1 j) : Arr ⟨2, ![T, 128]⟩) (sl h d)) = sl h (gradB b y d) := by
  funext j
  show _ = gradB b y d (ix2 (r0 j) (hd h (c1 j)))
  unfold gradB Scalar.select
  rw [c1_ix2, r0_ix2, hdOf_hd, plOf_hd]
  split <;> rfl

/-- Four heads side by side. -/
theorem four_heads (g : Arr ⟨2, ![T, 512]⟩) (h) :
    (concatenate ⟨2, ![T, 512]⟩ 1 [⟨⟨2, ![T, 128]⟩, sl 0 g⟩, ⟨⟨2, ![T, 128]⟩, sl 1 g⟩, ⟨⟨2, ![T, 128]⟩, sl 2 g⟩, ⟨⟨2, ![T, 128]⟩, sl 3 g⟩] h : Arr ⟨2, ![T, 512]⟩) = g := by
  funext j
  have hc : (c1 j).val < 512 := (c1 j).isLt
  have key : ∀ (q : Fin 4) (hk : q.val < 4) (hx : ([⟨⟨2, ![T, 128]⟩, sl 0 g⟩, ⟨⟨2, ![T, 128]⟩, sl 1 g⟩, ⟨⟨2, ![T, 128]⟩, sl 2 g⟩, ⟨⟨2, ![T, 128]⟩, sl 3 g⟩] : List ((s : Shape) × (s.Idx → EReal)))[q.val]'hk = ⟨⟨2, ![T, 128]⟩, sl q g⟩)
      (hp : (((([⟨⟨2, ![T, 128]⟩, sl 0 g⟩, ⟨⟨2, ![T, 128]⟩, sl 1 g⟩, ⟨⟨2, ![T, 128]⟩, sl 2 g⟩, ⟨⟨2, ![T, 128]⟩, sl 3 g⟩] : List ((s : Shape) × (s.Idx → EReal))).take q.val).map (·.1)).map fun s => if h : s.rank = 2 then s.size ((1 : Fin 2).cast h.symm) else 0).sum = q.val * 128),
      hdOf (c1 j) = q → concatenate ⟨2, ![T, 512]⟩ 1 [⟨⟨2, ![T, 128]⟩, sl 0 g⟩, ⟨⟨2, ![T, 128]⟩, sl 1 g⟩, ⟨⟨2, ![T, 128]⟩, sl 2 g⟩, ⟨⟨2, ![T, 128]⟩, sl 3 g⟩] h j = g j := by
    intro q hk hx hp hq
    refine (concatenate_apply_piece _ _ h j q.val hk ⟨2, ![T, 128]⟩ (sl q g) hx rfl (q.val * 128) hp (ix2 (r0 j) (plOf (c1 j))) ?_ ?_).trans ?_
    · intro b hb
      match b with
      | ⟨0, _⟩ => rfl
      | ⟨1, _⟩ => exact absurd rfl hb
    · subst hq
      show (c1 j).val / 128 % 4 * 128 + (c1 j).val % 128 = (c1 j).val
      omega
    · subst hq
      show g (ix2 (r0 j) (hd (hdOf (c1 j)) (plOf (c1 j)))) = g j
      rw [hd_of, ← eq_rc]
  rcases (by have := (hdOf (c1 j)).isLt; omega : (hdOf (c1 j)).val = 0 ∨ (hdOf (c1 j)).val = 1 ∨ (hdOf (c1 j)).val = 2 ∨ (hdOf (c1 j)).val = 3) with e | e | e | e
  · exact key 0 (by decide) rfl (by simp) (Fin.ext e)
  · exact key 1 (by decide) rfl (by simp) (Fin.ext e)
  · exact key 2 (by decide) rfl (by simp) (Fin.ext e)
  · exact key 3 (by decide) rfl (by simp) (Fin.ext e)

end

end Cert.Ext

end
-- ==== Proof.PrepBwd.Block.lean ====
/- The lines of one point of the grid: the convolution, its gated value and derivative, the heads' gradient and the taps' row sums. -/
module

public import proofs.«01_k».proof.Proof.Gen.Kernel25Ideal.Value
public import proofs.«01_k».proof.Proof.Lift.Taps

@[expose] public section

noncomputable section

namespace Cert.PrepBwd

open Cert.Kernel25Ideal Cert.Kernel25Ideal.Gen Cert.Ext Idealize.ShloMosaic Cert.Lift Idealize.ShloMosaic.ValueIdx

variable (b : BitVec 32) (x : S2048x512.Idx → EReal) (d : S1x2048x512.Idx → EReal) (w : S4x512.Idx → EReal)
  (s0 : S4x512.Slices ![0, 0] ⟨2, ![1, 512]⟩) (s1 : S4x512.Slices ![1, 0] ⟨2, ![1, 512]⟩) (s2 : S4x512.Slices ![2, 0] ⟨2, ![1, 512]⟩) (s3 : S4x512.Slices ![3, 0] ⟨2, ![1, 512]⟩)

/-- The block's convolution, its cotangents, and the gradient of the convolution. -/
def cB : Arr S2048x512 := fun j => cvE (fun r => x (ix2 r (c1 j))) (fun q => w (ix2 q (c1 j))) (r0 j)
def dB : Arr S2048x512 := fun j => d (ix3 0 (r0 j) (c1 j))
def gB : Arr S2048x512 := fun j => gradB (Scalar.cmpi .slt b 2#32) (fun j => silE (cB x w j)) (dB d) j * dsilE (cB x w j)

/-- What the block adds to the taps' gradient. -/
def pB : Arr S4x512 := fun j => ∑ r : Fin 2048, gB b x d w (ix2 r (c1 j)) * tapE (r0 j).val (fun r => x (ix2 r (c1 j))) r

theorem self {s : Shape} (a : Arr s) (h) : shapeCast s a h = a := funext fun j => shapeCast_apply a h j j rfl

theorem pay2_eq : (k0_pay2 (F := Ideal) x : Arr S2048x512) = x := self x _

theorem pay9_eq : (k0_pay9 (F := Ideal) d : Arr S2048x512) = dB d := by
  funext j
  refine shapeCast_apply d _ j _ ?_
  rw [Shape.rowMajor_val_three, Shape.rowMajor_val_two]
  show (0 * 2048 + (r0 j).val) * 512 + (c1 j).val = (r0 j).val * 512 + (c1 j).val
  omega

theorem pay3_eq : (k0_pay3 (F := Ideal) x (extractStridedSlice ⟨2, ![1, 512]⟩ ![0, 0] w s0) : Arr S2048x512)
    = fun j => tapE 0 (fun r => x (ix2 r (c1 j))) (r0 j) * w (ix2 0 (c1 j)) := by
  unfold k0_pay3
  dsimp only
  rw [pay2_eq, rowTo]
  refine (congrArg (fun a => mulf (F := Ideal) (φ := .f32) a _) (blk_tap0 _ _ x)).trans ?_
  funext j
  exact congrArg (tapE 0 (fun r => x (ix2 r (c1 j))) (r0 j) * ·) (row_apply 0 (by decide) w s0 _)

theorem pay4_eq : (k0_pay4 (F := Ideal) x (extractStridedSlice ⟨2, ![1, 512]⟩ ![1, 0] w s1) : Arr S2048x512)
    = fun j => tapE 1 (fun r => x (ix2 r (c1 j))) (r0 j) * w (ix2 1 (c1 j)) := by
  unfold k0_pay4
  dsimp only
  rw [pay2_eq, rowTo]
  refine (congrArg (fun a => mulf (F := Ideal) (φ := .f32) a _) (blk_tap1 _ _ x)).trans ?_
  funext j
  exact congrArg (tapE 1 (fun r => x (ix2 r (c1 j))) (r0 j) * ·) (row_apply 1 (by decide) w s1 _)

theorem pay5_eq (a0 a1 : Arr S2048x512) (e0 : a0 = fun j => tapE 0 (fun r => x (ix2 r (c1 j))) (r0 j) * w (ix2 0 (c1 j))) (e1 : a1 = fun j => tapE 1 (fun r => x (ix2 r (c1 j))) (r0 j) * w (ix2 1 (c1 j))) :
    (k0_pay5 (F := Ideal) x a0 a1 (extractStridedSlice ⟨2, ![1, 512]⟩ ![2, 0] w s2) (extractStridedSlice ⟨2, ![1, 512]⟩ ![3, 0] w s3) : Arr S2048x512) = cB x w := by
  subst e0 e1
  unfold k0_pay5
  dsimp only
  rw [rowTo, rowTo]
  refine (congrArg (fun a => addf (F := Ideal) (φ := .f32) _ (mulf (F := Ideal) (φ := .f32) a _)) (blk_tap3 _ _ x)).trans ?_
  funext j
  have h2 := row_apply 2 (by decide) w s2 (ix2 0 (c1 j))
  have h3 := row_apply 3 (by decide) w s3 (ix2 0 (c1 j))
  have ht : x j = tapE 2 (fun r => x (ix2 r (c1 j))) (r0 j) := (congrArg x (eq_rc j)).trans (tap_two (fun r => x (ix2 r (c1 j))) (r0 j)).symm
  show (tapE 0 (fun r => x (ix2 r (c1 j))) (r0 j) * w (ix2 0 (c1 j)) + tapE 1 (fun r => x (ix2 r (c1 j))) (r0 j) * w (ix2 1 (c1 j)))
      + x j * extractStridedSlice ⟨2, ![1, 512]⟩ ![2, 0] w s2 (ix2 0 (c1 j)) + tapE 3 (fun r => x (ix2 r (c1 j))) (r0 j) * extractStridedSlice ⟨2, ![1, 512]⟩ ![3, 0] w s3 (ix2 0 (c1 j)) = _
  rw [h2, h3, ht]
  rfl

section
variable (a0 a1 : Arr S2048x512) (w2 w3 : Arr S1x512) (c : Arr S2048x512) (hc : (k0_pay5 (F := Ideal) x a0 a1 w2 w3 : Arr S2048x512) = c)
include hc

theorem pay6_eq : (k0_pay6 (F := Ideal) x a0 a1 w2 w3 : Arr S2048x512) = fun j => sg (c j) := by
  unfold k0_pay6
  dsimp only
  rw [hc]
  funext j
  show Ideal.div (Ideal.ofBits .f32 0x3F800000#32) (Ideal.ofBits .f32 0x3F800000#32 + Ideal.exp (Ideal.ofBits .f32 0x00000000#32 - c j)) = sg (c j)
  rw [zeroI, zero_sub]
  rfl

theorem pay7_eq : (k0_pay7 (F := Ideal) x a0 a1 w2 w3 : Arr S2048x512) = fun j => silE (c j) := by
  unfold k0_pay7
  dsimp only
  rw [pay6_eq x a0 a1 w2 w3 c hc, hc]
  rfl

theorem pay8_eq : (k0_pay8 (F := Ideal) x a0 a1 w2 w3 : Arr S2048x512) = fun j => dsilE (c j) := by
  unfold k0_pay8
  dsimp only
  rw [pay6_eq x a0 a1 w2 w3 c hc, hc]
  rfl

end

section
variable (y e : Arr S2048x512)

theorem pay13_eq : (k0_pay13 (F := Ideal) b (sl 0 y) (sl 0 e) (mulf (F := Ideal) (φ := .f32) (sl 0 y) (sl 0 y)) : Arr S2048x128) = sl 0 (gradB (Scalar.cmpi .slt b 2#32) y e) := by
  unfold k0_pay13
  dsimp only
  refine Eq.trans ?_ (head_grad 0 _ y e)
  exact congrArg (fun a => Scalar.select _ a (sl 0 e)) (blk_nrm (sl 0 y) (sl 0 e) _ _ _ _ _ _ _ _ _ _ _ _ rfl)

theorem pay14_eq : (k0_pay14 (F := Ideal) b y e : Arr S2048x128) = sl 1 (gradB (Scalar.cmpi .slt b 2#32) y e) := by
  unfold k0_pay14
  dsimp only
  rw [slE 1 128 rfl y, slE 1 128 rfl e]
  refine Eq.trans ?_ (head_grad 1 _ y e)
  exact congrArg (fun a => Scalar.select _ a (sl 1 e)) (blk_nrm (sl 1 y) (sl 1 e) _ _ _ _ _ _ _ _ _ _ _ _ rfl)

theorem pay19_eq (q : Arr S2048x512) :
    (k0_pay19 (F := Ideal) b y q e (k0_pay13 (F := Ideal) b (sl 0 y) (sl 0 e) (mulf (F := Ideal) (φ := .f32) (sl 0 y) (sl 0 y))) (k0_pay14 (F := Ideal) b y e)
      (k0_pay15 (F := Ideal) y) (k0_pay16 (F := Ideal) e) (k0_pay17 (F := Ideal) y) (k0_pay18 (F := Ideal) y e) : Arr S2048x512)
      = fun j => gradB (Scalar.cmpi .slt b 2#32) y e j * q j := by
  rw [pay13_eq, pay14_eq]
  unfold k0_pay19 k0_pay18 k0_pay17 k0_pay16 k0_pay15
  dsimp only
  rw [slE 2 256 rfl y, slE 2 256 rfl e, slE 3 384 rfl y, slE 3 384 rfl e]
  have e2 := (congrArg (fun a => Scalar.select (Scalar.cmpi .slt b 2#32) a (sl 2 e)) (blk_nrm (sl 2 y) (sl 2 e) 0x00000000#32 0x00000000#32 reduces_S2048x128_S2048 (.inl rfl) rfl reduces_S2048x128_S2048 (.inl rfl) rfl
    shapeCasts_S2048_S2048x1 shapeCasts_S2048_S2048x1 broadcasts_S2048x1_S2048x128 _ rfl)).trans (head_grad 2 _ y e)
  have e3 := (congrArg (fun a => Scalar.select (Scalar.cmpi .slt b 2#32) a (sl 3 e)) (blk_nrm (sl 3 y) (sl 3 e) 0x00000000#32 0x00000000#32 reduces_S2048x128_S2048 (.inl rfl) rfl reduces_S2048x128_S2048 (.inl rfl) rfl
    shapeCasts_S2048_S2048x1 shapeCasts_S2048_S2048x1 broadcasts_S2048x1_S2048x128 _ rfl)).trans (head_grad 3 _ y e)
  dsimp only at e2 e3
  rw [e2, e3]
  exact congrArg (fun a => mulf (F := Ideal) (φ := .f32) a q) (four_heads (gradB (Scalar.cmpi .slt b 2#32) y e) concatenates_S2048x128_S2048x128_S2048x128_S2048x128_S2048x512_d1)

end

/-! ### The taps' row sums -/

section
variable (g : Arr S2048x512)

theorem pay23_eq : (k0_pay23 (F := Ideal) x g : Arr S1x512) = fun j => ∑ r : Fin 2048, g (ix2 r (c1 j)) * tapE 0 (fun r => x (ix2 r (c1 j))) r := by
  unfold k0_pay23
  dsimp only
  rw [asRow]
  funext j
  refine (congrFun (rowsE _ _ _ _ _) (ix1 (c1 j))).trans ?_
  exact Finset.sum_congr rfl fun r _ => congrArg (g (ix2 r (c1 j)) * ·) (congrFun (blk_tap0 _ _ x) (ix2 r (c1 j)))

theorem pay27_eq : (k0_pay27 (F := Ideal) g (iota .tc S2048x512 32 [0] iota_S2048x512_d0_w32) (k0_pay25 (F := Ideal) x) (k0_pay26) : Arr S1x512)
    = fun j => ∑ r : Fin 2048, g (ix2 r (c1 j)) * tapE 1 (fun r => x (ix2 r (c1 j))) r := by
  unfold k0_pay27 k0_pay25 k0_pay26
  dsimp only
  rw [asRow]
  funext j
  refine (congrFun (rowsE _ _ _ _ _) (ix1 (c1 j))).trans ?_
  exact Finset.sum_congr rfl fun r _ => congrArg (g (ix2 r (c1 j)) * ·) (congrFun (blk_tap1 _ _ x) (ix2 r (c1 j)))

theorem pay28_eq : (k0_pay28 (F := Ideal) x g : Arr S1x512) = fun j => ∑ r : Fin 2048, g (ix2 r (c1 j)) * tapE 2 (fun r => x (ix2 r (c1 j))) r := by
  unfold k0_pay28
  dsimp only
  rw [asRow]
  funext j
  refine (congrFun (rowsE _ _ _ _ _) (ix1 (c1 j))).trans ?_
  exact Finset.sum_congr rfl fun r _ => congrArg (g (ix2 r (c1 j)) * ·) (tap_two (fun r => x (ix2 r (c1 j))) r).symm

theorem pay36_eq (o : Arr S1x512) : (k0_pay36 (F := Ideal) g (iota .tc S2048x512 32 [0] iota_S2048x512_d0_w32) (k0_pay30 (F := Ideal) x) (k0_pay31) (k0_pay32) o : Arr S1x512)
    = fun j => o j + ∑ r : Fin 2048, g (ix2 r (c1 j)) * tapE 3 (fun r => x (ix2 r (c1 j))) r := by
  unfold k0_pay36 k0_pay30 k0_pay31 k0_pay32
  dsimp only
  rw [self, asRow]
  funext j
  refine congrArg (o j + ·) ((congrFun (rowsE _ _ _ _ _) (ix1 (c1 j))).trans ?_)
  exact Finset.sum_congr rfl fun r _ => congrArg (g (ix2 r (c1 j)) * ·) (congrFun (blk_tap3 _ _ x) (ix2 r (c1 j)))

theorem pay33_eq (a o : Arr S1x512) : (k0_pay33 (F := Ideal) a o : Arr S1x512) = fun j => o j + a j := by
  unfold k0_pay33
  dsimp only
  rw [self]
  rfl
theorem pay34_eq (a o : Arr S1x512) : (k0_pay34 (F := Ideal) a o : Arr S1x512) = fun j => o j + a j := by
  unfold k0_pay34
  dsimp only
  rw [self]
  rfl
theorem pay35_eq (a o : Arr S1x512) : (k0_pay35 (F := Ideal) a o : Arr S1x512) = fun j => o j + a j := by
  unfold k0_pay35
  dsimp only
  rw [self]
  rfl

end

theorem pay1_eq : (k0_pay1 (F := Ideal) : Arr S4x512) = fun _ => 0 := by
  unfold k0_pay1
  dsimp only
  first | (rw [self]; exact funext fun _ => zeroF) | exact funext fun _ => zeroF

end Cert.PrepBwd

end
-- ==== Proof.PrepBwd.Opened.lean ====
/- What one point of the grid leaves in the block of the taps' gradient. -/
module

public import proofs.«01_k».proof.Proof.PrepBwd.Block
public import Idealize.ShloMosaic.Lib.Pipeline.ReadBack
public import Idealize.ShloMosaic.Lib.Pipeline.ValueKit.Geometry

@[expose] public section

noncomputable section

namespace Cert.PrepBwd

open Cert.Kernel25Ideal Cert.Kernel25Ideal.Gen Cert.Ext Idealize.ShloMosaic Idealize.ShloMosaic.TcCoe Idealize.SL.Sem Cert.Lift Idealize.ShloMosaic.ValueIdx

theorem hz' : ∀ a, (![0, 0] : Fin 2 → Nat) a = 0 := fun a => congrFun hz a
theorem hz3 : (![0, 0, 0] : Fin 3 → Nat) = fun _ => 0 := funext fun a => by fin_cases a <;> rfl

section
variable (b : BitVec 32) (x : S2048x512.Idx → EReal) (d : S1x2048x512.Idx → EReal) (w : S4x512.Idx → EReal)
  (s0 : S4x512.Slices ![0, 0] ⟨2, ![1, 512]⟩) (s1 : S4x512.Slices ![1, 0] ⟨2, ![1, 512]⟩) (s2 : S4x512.Slices ![2, 0] ⟨2, ![1, 512]⟩) (s3 : S4x512.Slices ![3, 0] ⟨2, ![1, 512]⟩)

/-- The gradient of the convolution, as the point's lines compute it. -/
def dcT (x2 a0 a1 : Arr S2048x512) (w2 w3 : Arr S1x512) : Arr S2048x512 :=
  k0_pay19 (F := Ideal) b (k0_pay7 (F := Ideal) x2 a0 a1 w2 w3) (k0_pay8 (F := Ideal) x2 a0 a1 w2 w3) (k0_pay9 (F := Ideal) d)
    (k0_pay13 (F := Ideal) b (k0_pay10 (F := Ideal) x2 a0 a1 w2 w3) (k0_pay11 (F := Ideal) d) (k0_pay12 (F := Ideal) x2 a0 a1 w2 w3))
    (k0_pay14 (F := Ideal) b (k0_pay7 (F := Ideal) x2 a0 a1 w2 w3) (k0_pay9 (F := Ideal) d)) (k0_pay15 (F := Ideal) (k0_pay7 (F := Ideal) x2 a0 a1 w2 w3)) (k0_pay16 (F := Ideal) (k0_pay9 (F := Ideal) d))
    (k0_pay17 (F := Ideal) (k0_pay7 (F := Ideal) x2 a0 a1 w2 w3)) (k0_pay18 (F := Ideal) (k0_pay7 (F := Ideal) x2 a0 a1 w2 w3) (k0_pay9 (F := Ideal) d))

theorem dcT_eq : dcT b d (k0_pay2 (F := Ideal) x) (k0_pay3 (F := Ideal) x (extractStridedSlice ⟨2, ![1, 512]⟩ ![0, 0] w s0)) (k0_pay4 (F := Ideal) x (extractStridedSlice ⟨2, ![1, 512]⟩ ![1, 0] w s1))
    (extractStridedSlice ⟨2, ![1, 512]⟩ ![2, 0] w s2) (extractStridedSlice ⟨2, ![1, 512]⟩ ![3, 0] w s3) = gB b x d w := by
  have hc := pay5_eq x w s2 s3 _ _ (pay3_eq x w s0) (pay4_eq x w s1)
  have h7 := pay7_eq x _ _ _ _ _ hc
  have h8 := pay8_eq x _ _ _ _ _ hc
  rw [pay2_eq]
  unfold dcT k0_pay12 k0_pay10 k0_pay11
  dsimp only
  rw [h7, h8, pay9_eq, slE 0 0 rfl, slE 0 0 rfl]
  exact pay19_eq b _ _ _

section
variable (g : Arr S2048x512) (hg : g = gB b x d w) (o : Arr S1x512) (c : Fin 512)
include hg

theorem row0 : (k0_pay33 (F := Ideal) (k0_pay23 (F := Ideal) (k0_pay2 (F := Ideal) x) g) o : Arr S1x512) (ix2 0 c) = o (ix2 0 c) + pB b x d w (ix2 0 c) := by
  rw [pay2_eq, pay33_eq, pay23_eq, hg]; rfl
theorem row1 : (k0_pay34 (F := Ideal) (k0_pay27 (F := Ideal) g (iota .tc S2048x512 32 [0] iota_S2048x512_d0_w32) (k0_pay25 (F := Ideal) (k0_pay2 (F := Ideal) x)) (k0_pay26)) o : Arr S1x512) (ix2 0 c)
    = o (ix2 0 c) + pB b x d w (ix2 1 c) := by
  rw [pay2_eq, pay34_eq, pay27_eq, hg]; rfl
theorem row2 : (k0_pay35 (F := Ideal) (k0_pay28 (F := Ideal) (k0_pay2 (F := Ideal) x) g) o : Arr S1x512) (ix2 0 c) = o (ix2 0 c) + pB b x d w (ix2 2 c) := by
  rw [pay2_eq, pay35_eq, pay28_eq, hg]; rfl
theorem row3 : (k0_pay36 (F := Ideal) g (iota .tc S2048x512 32 [0] iota_S2048x512_d0_w32) (k0_pay30 (F := Ideal) (k0_pay2 (F := Ideal) x)) (k0_pay31) (k0_pay32) o : Arr S1x512) (ix2 0 c)
    = o (ix2 0 c) + pB b x d w (ix2 3 c) := by
  rw [pay2_eq, pay36_eq, hg]; rfl

end

end

theorem row_at (p : S1x512.Idx → EReal) (G : S4x512.Idx → EReal) (q : Nat) (hq : q < 4) (hi) (h : ∀ c : Fin 512, p (ix2 0 c) = G (ix2 ⟨q, hq⟩ c)) (x : S1x512.Idx) :
    p x = G ((Rect.unit (s := S4x512) ![q, 0] ![1, 512] hi).emb x) := by
  have e : (Rect.unit (s := S4x512) ![q, 0] ![1, 512] hi).emb x = ix2 ⟨q, hq⟩ (c1 x) := by
    refine Rect.emb_eq_of_coords (Rect.unit (s := S4x512) ![q, 0] ![1, 512] hi) x _ fun a => ?_
    match a with
    | ⟨0, _⟩ =>
      have h1 : (x 0).val < 1 := (x 0).isLt
      show q = q + 1 * (x 0).val
      omega
    | ⟨1, _⟩ =>
      show (x 1).val = 0 + 1 * (x 1).val
      omega
  have e' : x = ix2 0 (c1 x) := by
    refine (eq_rc x).trans ?_
    have h1 : (r0 x).val < 1 := (x 0).isLt
    exact congrArg (fun z => ix2 z (c1 x)) (Fin.ext (by show (r0 x).val = 0; omega))
  rw [e]
  exact (congrArg p e').trans (h (c1 x))

/-- The four rows written one by one, over whatever was there. -/
theorem canon_rows (Q0 Q1 Q2 Q3 : Vec Ideal S1x512 .f32) (G : S4x512.Idx → EReal) (h0 : ∀ c, Q0 (ix2 0 c) = G (ix2 0 c)) (h1 : ∀ c, Q1 (ix2 0 c) = G (ix2 1 c))
    (h2 : ∀ c, Q2 (ix2 0 c) = G (ix2 2 c)) (h3 : ∀ c, Q3 (ix2 0 c) = G (ix2 3 c)) (L : List (View.Piece (Elt Ideal) S4x512 .f32)) :
    View.canon ((⟨Rect.unit ![3, 0] ![1, 512] inb_S4x512_S1x512_3_0, Q3⟩ : View.Piece (Elt Ideal) S4x512 .f32)
      :: ⟨Rect.unit ![2, 0] ![1, 512] inb_S4x512_S1x512_2_0, Q2⟩
      :: ⟨Rect.unit ![1, 0] ![1, 512] inb_S4x512_S1x512_1_0, Q1⟩
      :: ⟨Rect.unit ![0, 0] ![1, 512] inb_S4x512_S1x512_0_0, Q0⟩ :: L) = (G : S4x512.Idx → Ideal .f32) := by
  funext y
  refine View.canon_append_of_piecesOf (G : S4x512.Idx → Ideal .f32) L [⟨Rect.unit ![3, 0] ![1, 512] inb_S4x512_S1x512_3_0, Q3⟩, ⟨Rect.unit ![2, 0] ![1, 512] inb_S4x512_S1x512_2_0, Q2⟩,
    ⟨Rect.unit ![1, 0] ![1, 512] inb_S4x512_S1x512_1_0, Q1⟩, ⟨Rect.unit ![0, 0] ![1, 512] inb_S4x512_S1x512_0_0, Q0⟩] ⟨?_, ?_, ?_, ?_, trivial⟩ y ?_
  · intro x; exact row_at Q3 G 3 (by decide) inb_S4x512_S1x512_3_0 h3 x
  · intro x; exact row_at Q2 G 2 (by decide) inb_S4x512_S1x512_2_0 h2 x
  · intro x; exact row_at Q1 G 1 (by decide) inb_S4x512_S1x512_1_0 h1 x
  · intro x; exact row_at Q0 G 0 (by decide) inb_S4x512_S1x512_0_0 h0 x
  · have h4 : (r0 y).val < 4 := (y 0).isLt
    have hc : (c1 y).val < 512 := (y 1).isLt
    have hm : ∀ (q : Nat) (hi), (r0 y).val = q → y ∈ (Rect.unit (s := S4x512) ![q, 0] ![1, 512] hi).set := fun q hi hq => Rect.mem_set_unit.mpr fun a =>
      match a with | ⟨0, _⟩ => ⟨by show q ≤ (r0 y).val; omega, by show (r0 y).val < q + 1; omega⟩ | ⟨1, _⟩ => ⟨Nat.zero_le _, by show (c1 y).val < 0 + 512; omega⟩
    by_cases e0 : (r0 y).val = 0
    · exact ⟨_, List.mem_cons_of_mem _ (List.mem_cons_of_mem _ (List.mem_cons_of_mem _ (List.mem_singleton_self _))), hm 0 inb_S4x512_S1x512_0_0 e0⟩
    by_cases e1 : (r0 y).val = 1
    · exact ⟨_, List.mem_cons_of_mem _ (List.mem_cons_of_mem _ List.mem_cons_self), hm 1 inb_S4x512_S1x512_1_0 e1⟩
    by_cases e2 : (r0 y).val = 2
    · exact ⟨_, List.mem_cons_of_mem _ List.mem_cons_self, hm 2 inb_S4x512_S1x512_2_0 e2⟩
    · exact ⟨_, List.mem_cons_self, hm 3 inb_S4x512_S1x512_3_0 (by omega)⟩

section
variable (c : Dev nD) (i : grid0.Coords) (arg2 : Memref sig .tc .vmem S2048x512 .f32) (harg2 : arg2.IsWhole) (arg3 : Memref sig .tc .vmem S1x2048x512 .f32) (harg3 : arg3.IsWhole) (arg4 : Memref sig .tc .vmem S4x512 .f32) (harg4 : arg4.IsWhole) (arg5 : Memref sig .tc .vmem S2048x512 .bf16) (harg5 : arg5.IsWhole) (arg6 : Memref sig .tc .vmem S4x512 .f32) (harg6 : arg6.IsWhole)
  (x0 : Vec Ideal S2048x512 .f32) (x1 : Vec Ideal S1x2048x512 .f32) (x2 : Vec Ideal S4x512 .f32) (xo4 : Vec Ideal S4x512 .f32)

theorem leftB (hc0 : ¬cond0_0 i) :
    out0_B_4 (F := Ideal) c i arg2 harg2 arg3 harg3 arg4 harg4 arg5 harg5 arg6 harg6 hc0 x0 x1 x2 xo4 = (fun j => xo4 j + pB (BitVec.ofNat 32 (i 0).val) x0 x1 x2 j : S4x512.Idx → EReal) := by
  unfold out0_B_4
  rw [View.read_writes_eq_canon _ _ _ (cover0_B_4 (F := Ideal) c i arg2 harg2 arg3 harg3 arg4 harg4 arg5 harg5 arg6 harg6 hc0 x0 x1 x2 xo4)]
  unfold kernelRun0_B
  dsimp only
  sl_unfold_words
  simp only [View.readAt_eq_ld, harg2.read_unread, harg3.read_unread, harg4.read_unread, harg5.read_unread, harg6.read_unread, View.ld_unit_zero (S := S2048x512) hz, View.ld_unit_zero (S := S1x2048x512) hz3, View.ld_unit_zero (S := S4x512) hz, View.ld_unit]
  refine canon_rows _ _ _ _ _ (fun c => ?_) (fun c => ?_) (fun c => ?_) (fun c => ?_) _
  · exact (row0 _ x0 x1 x2 _ (dcT_eq _ x0 x1 x2 _ _ _ _) _ c).trans (congrArg (· + _) (row_apply 0 (by decide) xo4 _ (ix2 0 c)))
  · exact (row1 _ x0 x1 x2 _ (dcT_eq _ x0 x1 x2 _ _ _ _) _ c).trans (congrArg (· + _) (row_apply 1 (by decide) xo4 _ (ix2 0 c)))
  · exact (row2 _ x0 x1 x2 _ (dcT_eq _ x0 x1 x2 _ _ _ _) _ c).trans (congrArg (· + _) (row_apply 2 (by decide) xo4 _ (ix2 0 c)))
  · exact (row3 _ x0 x1 x2 _ (dcT_eq _ x0 x1 x2 _ _ _ _) _ c).trans (congrArg (· + _) (row_apply 3 (by decide) xo4 _ (ix2 0 c)))

theorem leftA (hc0 : cond0_0 i) :
    out0_A_4 (F := Ideal) c i arg2 harg2 arg3 harg3 arg4 harg4 arg5 harg5 arg6 harg6 hc0 x0 x1 x2 = (pB (BitVec.ofNat 32 (i 0).val) x0 x1 x2 : S4x512.Idx → EReal) := by
  unfold out0_A_4
  rw [View.read_writes_eq_canon _ _ _ (cover0_A_4 (F := Ideal) c i arg2 harg2 arg3 harg3 arg4 harg4 arg5 harg5 arg6 harg6 hc0 x0 x1 x2)]
  unfold kernelRun0_A
  dsimp only
  sl_unfold_words
  simp only [View.readAt_eq_ld, harg2.read_unread, harg3.read_unread, harg4.read_unread, harg5.read_unread, harg6.read_unread, View.ld_unit_zero (S := S2048x512) hz, View.ld_unit_zero (S := S1x2048x512) hz3, View.ld_unit_zero (S := S4x512) hz, View.ld_unit]
  have z : ∀ {o : Arr S1x512} {e : EReal} {c : Fin 512} {q : Nat} {h}, o = extractStridedSlice ⟨2, ![1, 512]⟩ ![q, 0] (k0_pay1 (F := Ideal) : Arr S4x512) h → o (ix2 0 c) + e = e := by
    intro o e c q h ho
    rw [ho, pay1_eq]
    exact zero_add e
  refine canon_rows _ _ _ _ _ (fun c => ?_) (fun c => ?_) (fun c => ?_) (fun c => ?_) _
  · refine (row0 _ x0 x1 x2 _ (dcT_eq _ x0 x1 x2 _ _ _ _) _ c).trans (z (q := 0) (h := by decide) ?_)
    exact (View.readCov_fill (s := S4x512) _ _ _ _ _ hz').trans (View.ld_unit _ _ _ _)
  · refine (row1 _ x0 x1 x2 _ (dcT_eq _ x0 x1 x2 _ _ _ _) _ c).trans (z (q := 1) (h := by decide) ?_)
    refine (View.readCov_skip _ _ _ _ _ (by decide)).trans ?_
    exact (View.readCov_fill (s := S4x512) _ _ _ _ _ hz').trans (View.ld_unit _ _ _ _)
  · refine (row2 _ x0 x1 x2 _ (dcT_eq _ x0 x1 x2 _ _ _ _) _ c).trans (z (q := 2) (h := by decide) ?_)
    refine (View.readCov_skip _ _ _ _ _ (by decide)).trans ?_
    refine (View.readCov_skip _ _ _ _ _ (by decide)).trans ?_
    exact (View.readCov_fill (s := S4x512) _ _ _ _ _ hz').trans (View.ld_unit _ _ _ _)
  · refine (row3 _ x0 x1 x2 _ (dcT_eq _ x0 x1 x2 _ _ _ _) _ c).trans (z (q := 3) (h := by decide) ?_)
    refine (View.readCov_skip _ _ _ _ _ (by decide)).trans ?_
    refine (View.readCov_skip _ _ _ _ _ (by decide)).trans ?_
    refine (View.readCov_skip _ _ _ _ _ (by decide)).trans ?_
    exact (View.readCov_fill (s := S4x512) _ _ _ _ _ hz').trans (View.ld_unit _ _ _ _)

end

end Cert.PrepBwd

end
-- ==== Proof.PrepBwd.Spec.lean ====
/- The gradient of the taps, channel by channel, over the whole batch. -/
module

public import proofs.«01_k».proof.Proof.Lift.Taps
public import proofs.«01_k».proof.Proof.Lift.Norm

@[expose] public section

noncomputable section

namespace Cert.PrepBwd

open Cert.Ext Idealize.ShloMosaic Cert.Lift Idealize.ShloMosaic.ValueIdx

/-- A channel among the heads of 128, and the channels of its head. -/
def lane (ch : Fin 1536) : Fin 128 := Fin.ofNat 128 ch.val
def base (ch : Fin 1536) (k : Fin 128) : Fin 1536 := Fin.ofNat 1536 (ch.val / 128 * 128 + k.val)

section
variable (d : Arr ⟨3, ![3, 8192, 512]⟩) (p : Arr ⟨3, ![4, 2048, 3200]⟩) (w : Arr ⟨2, ![4, 1536]⟩)

/-- The projected rows of a channel, its convolution, and the gradient that arrives. -/
def seqS (b : Fin 4) (ch : Fin 1536) (r : Fin 2048) : EReal := p (ix3 b r (Fin.ofNat 3200 ch.val))
def cvS (b : Fin 4) (r : Fin 2048) (ch : Fin 1536) : EReal := cvE (seqS p b ch) (fun q => w (ix2 q ch)) r
def dS (b : Fin 4) (r : Fin 2048) (ch : Fin 1536) : EReal := d (ix3 (Fin.ofNat 3 (ch.val / 512)) (Fin.ofNat 8192 (b.val * 2048 + r.val)) (Fin.ofNat 512 ch.val))

/-- The gradient before the convolution, in the two forms. -/
def gK (b : Fin 4) (r : Fin 2048) (ch : Fin 1536) : EReal :=
  (if ch.val / 512 < 2 then nrmE (fun k => silE (cvS p w b r (base ch k))) (fun k => dS d b r (base ch k)) (lane ch) else dS d b r ch) * dsilE (cvS p w b r ch)
def gH (b : Fin 4) (r : Fin 2048) (ch : Fin 1536) : EReal :=
  silH (cvS p w b r ch) (if ch.val / 512 < 2 then nrmH (fun k => silE (cvS p w b r (base ch k))) (fun k => dS d b r (base ch k)) (lane ch) else dS d b r ch)

end

/-- The gradient of the taps from the gradient before the convolution. -/
def tapSum (g : Fin 4 → Fin 2048 → Fin 1536 → EReal) (p : Arr ⟨3, ![4, 2048, 3200]⟩) : Arr ⟨2, ![4, 1536]⟩ := fun j =>
  ∑ b : Fin 4, ∑ r : Fin 2048, g b r (c1 j) * tapE (r0 j).val (seqS p b (c1 j)) r

end Cert.PrepBwd

end
-- ==== Proof.PrepBwd.Value.lean ====
/- The array the call returns: the gradient of the taps. -/
module

public import proofs.«01_k».proof.Proof.PrepBwd.Geometry
public import proofs.«01_k».proof.Proof.PrepBwd.Opened
public import proofs.«01_k».proof.Proof.PrepBwd.Spec

@[expose] public section

noncomputable section

namespace Cert.PrepBwd

open Cert.Kernel25Ideal Cert.Kernel25Ideal.Gen Cert.Ext Idealize.ShloMosaic Idealize.ShloMosaic.TcCoe Idealize.SL.Sem Cert.Lift Idealize.ShloMosaic.ValueIdx
open Idealize.ShloMosaic.Pipeline (Dat)

/-- The channel of a section's column. -/
def chan (s : Nat) (c : Fin 512) : Fin 1536 := Fin.ofNat 1536 (s * 512 + c.val)

theorem chan_base (s : Nat) (hs : s < 3) (c : Fin 512) (k : Fin 128) : chan s (hd (hdOf c) k) = base (chan s c) k := by
  have hc := c.isLt
  have hk := k.isLt
  refine Fin.ext ?_
  show (s * 512 + ((c.val / 128) % 4 * 128 + k.val) % 512) % 1536 = (((s * 512 + c.val) % 1536) / 128 * 128 + k.val) % 1536
  omega

theorem chan_lane (s : Nat) (hs : s < 3) (c : Fin 512) : plOf c = lane (chan s c) := by
  have hc := c.isLt
  refine Fin.ext ?_
  show c.val % 128 = ((s * 512 + c.val) % 1536) % 128
  omega

theorem pick (s : Nat) (hs : s < 3) (x y : EReal) : Scalar.select (Scalar.cmpi .slt (BitVec.ofNat 32 s) 2#32) x y = if s < 2 then x else y := by
  match s, hs with
  | 0, _ => rfl
  | 1, _ => rfl
  | 2, _ => rfl

section
variable (d : Arr S3x8192x512) (p : Arr S4x2048x3200) (w : Arr S4x1536) (n : Nat)

/-- What a point reads of the three arrays. -/
def xBl : Arr S2048x512 := fun y => flatA p (ix2 (Fin.ofNat 8192 (n % 4 * 2048 + (r0 y).val)) (Fin.ofNat 3200 (n / 4 * 512 + (c1 y).val)))
def dBl : Arr S1x2048x512 := fun y => d (ix3 (Fin.ofNat 3 (n / 4)) (Fin.ofNat 8192 (n % 4 * 2048 + (d1 y).val)) (d2 y))
def wBl : Arr S4x512 := fun y => w (ix2 (Fin.ofNat 4 (0 * 4 + (r0 y).val)) (Fin.ofNat 1536 (n / 4 * 512 + (c1 y).val)))

/-- What the point adds. -/
def pBl : Arr S4x512 := fun j =>
  ∑ r : Fin 2048, gK d p w (Fin.ofNat 4 n) r (chan (n / 4) (c1 j)) * tapE (r0 j).val (seqS p (Fin.ofNat 4 n) (chan (n / 4) (c1 j))) r

theorem xBl_at (hn : n < 12) (r : Fin 2048) (c : Fin 512) : xBl p n (ix2 r c) = seqS p (Fin.ofNat 4 n) (chan (n / 4) c) r := by
  have hr := r.isLt
  have hc := c.isLt
  have e0 : Fin.ofNat 4 ((Fin.ofNat 8192 (n % 4 * 2048 + r.val)).val / 2048) = Fin.ofNat 4 n := Fin.ext (by
    show ((n % 4 * 2048 + r.val) % 8192 / 2048) % 4 = n % 4; omega)
  have e1 : Fin.ofNat 2048 (Fin.ofNat 8192 (n % 4 * 2048 + r.val)).val = r := Fin.ext (by
    show ((n % 4 * 2048 + r.val) % 8192) % 2048 = r.val; omega)
  have hs : n / 4 < 3 := by omega
  have e2 : Fin.ofNat 3200 (n / 4 * 512 + c.val) = Fin.ofNat 3200 (chan (n / 4) c).val := Fin.ext (by
    show (n / 4 * 512 + c.val) % 3200 = ((n / 4 * 512 + c.val) % 1536) % 3200; rw [Nat.mod_eq_of_lt (show n / 4 * 512 + c.val < 1536 by omega)])
  exact congr3 (fun a b c => p (ix3 a b c)) e0 e1 e2

theorem cB_at (hn : n < 12) (r : Fin 2048) (c : Fin 512) : cB (xBl p n) (wBl w n) (ix2 r c) = cvS p w (Fin.ofNat 4 n) r (chan (n / 4) c) :=
  congrArg₂ (fun g v => cvE g v r) (funext fun r => xBl_at p n hn r c)
    (funext fun q => congrArg (fun q => w (ix2 q (chan (n / 4) c))) (ofNat_fst q 4))

theorem dB_at (hn : n < 12) (r : Fin 2048) (c : Fin 512) : dB (dBl d n) (ix2 r c) = dS d (Fin.ofNat 4 n) r (chan (n / 4) c) := by
  have hc := c.isLt
  have e0 : Fin.ofNat 3 (n / 4) = Fin.ofNat 3 ((chan (n / 4) c).val / 512) := Fin.ext (by
    show (n / 4) % 3 = (((n / 4 * 512 + c.val) % 1536) / 512) % 3; omega)
  have e2 : c = Fin.ofNat 512 (chan (n / 4) c).val := Fin.ext (by
    show c.val = ((n / 4 * 512 + c.val) % 1536) % 512; omega)
  exact congrArg₂ (fun a b => d (ix3 a (Fin.ofNat 8192 (n % 4 * 2048 + r.val)) b)) e0 e2

theorem gB_at (hn : n < 12) (r : Fin 2048) (c : Fin 512) :
    gB (BitVec.ofNat 32 (n / 4)) (xBl p n) (dBl d n) (wBl w n) (ix2 r c) = gK d p w (Fin.ofNat 4 n) r (chan (n / 4) c) := by
  have hs : n / 4 < 3 := by omega
  have hc := c.isLt
  have e : (chan (n / 4) c).val / 512 = n / 4 := by
    show ((n / 4 * 512 + c.val) % 1536) / 512 = n / 4; omega
  refine congrArg₂ (· * ·) ?_ (congrArg dsilE (cB_at p w n hn r c))
  refine (pick (n / 4) hs _ _).trans ?_
  rw [e]
  refine congrArg₂ (fun x y : EReal => if n / 4 < 2 then x else y) ?_ (dB_at d n hn r c)
  refine congr3 (fun a b k => nrmE a b k) (funext fun k => ?_) (funext fun k => ?_) (chan_lane _ hs c)
  · exact congrArg silE ((cB_at p w n hn r _).trans (congrArg _ (chan_base _ hs c k)))
  · exact (dB_at d n hn r _).trans (congrArg _ (chan_base _ hs c k))

theorem pB_at (hn : n < 12) : pB (BitVec.ofNat 32 (n / 4)) (xBl p n) (dBl d n) (wBl w n) = pBl d p w n :=
  funext fun j => Finset.sum_congr rfl fun r _ => congrArg₂ (· * ·) (gB_at d p w n hn r (c1 j))
    (congrArg (fun g => tapE (r0 j).val g r) (funext fun r => xBl_at p n hn r (c1 j)))

end

section
variable (m : (ℓ : Loc nD τ sig) → Buf (Elt Ideal) ℓ) (c : Dev nD) (d : Arr S3x8192x512) (p : Arr S4x2048x3200) (w : Arr S4x1536)
  (h0 : m ((c : Thread nD τ).loc main_arg0) = d) (h1 : m ((c : Thread nD τ).loc main_arg1) = p) (h2 : m ((c : Thread nD τ).loc main_arg2) = w)
include h0 h1 h2

theorem blocks (t : Fin cfg0.N) : (X0_0 m c t : S2048x512.Idx → EReal) = xBl p t.val ∧ (iblk m c 1 t : S1x2048x512.Idx → EReal) = dBl d t.val
    ∧ (iblk m c 2 t : S4x512.Idx → EReal) = wBl w t.val := by
  refine ⟨part0 m c t _ ?_, rd1 m c t _ ?_, rd2 m c t _ ?_⟩
  · rw [← h1]; exact flat8 (m ((c : Thread nD τ).loc main_arg1)) shapeCasts_S4x2048x3200_S8192x3200
  · rw [← h0]; rfl
  · rw [← h2]; rfl

theorem tapsAtA (t : Fin cfg0.N) (hq : t.val % 4 = 0) : ((outsAt0 m c t.val t.isLt).2 : S4x512.Idx → EReal) = pBl d p w t.val := by
  obtain ⟨b0, b1, b2⟩ := blocks m c d p w h0 h1 h2 t
  rw [outsAt0_A m c t hq]
  dsimp only
  refine (leftA c (grid0.coords t) _ _ _ _ _ _ _ _ _ _ (X0_0 m c t) (iblk m c 1 t) (iblk m c 2 t) _).trans ?_
  rw [b0, b1, b2, sec_of t]
  exact pB_at d p w t.val (hN ▸ t.isLt)

theorem tapsAtB (t : Fin cfg0.N) (hq : ¬t.val % 4 = 0) : ((outsAt0 m c t.val t.isLt).2 : S4x512.Idx → EReal)
    = fun j => ((outsAt0 m c (t.val - 1) (Nat.lt_of_le_of_lt (Nat.sub_le _ _) t.isLt)).2 : S4x512.Idx → EReal) j + pBl d p w t.val j := by
  obtain ⟨b0, b1, b2⟩ := blocks m c d p w h0 h1 h2 t
  rw [outsAt0_B m c t hq]
  dsimp only
  refine (leftB c (grid0.coords t) _ _ _ _ _ _ _ _ _ _ (X0_0 m c t) (iblk m c 1 t) (iblk m c 2 t) _ _).trans ?_
  rw [b0, b1, b2, sec_of t, pB_at d p w t.val (hN ▸ t.isLt)]

/-- The block after a point: the sum of the points' terms so far. -/
theorem tapsAcc : ∀ n h, ((outsAt0 m c n h).2 : S4x512.Idx → EReal) = part 4 (pBl d p w) n := by
  refine sweep 4 (fun n h => ((outsAt0 m c n h).2 : S4x512.Idx → EReal) = part 4 (pBl d p w) n) (fun n h hq => ?_) (fun n h hq h' ih => ?_)
  · rw [part_first 4 _ n hq]
    exact tapsAtA m c d p w h0 h1 h2 ⟨n, h⟩ hq
  · rw [← part_next 4 (pBl d p w) n hq (by decide)]
    exact (tapsAtB m c d p w h0 h1 h2 ⟨n, h⟩ hq).trans (funext fun j => congrArg (· + _) (congrFun ih j))

theorem array4 : ((dats m 0 c).arrAt 4 cfg0.N : S4x1536.Idx → EReal) = tapSum (gK d p w) p := by
  refine arr4 m c (fun t j => tapSum (gK d p w) p (ix2 (r0 j) (chan (t.val / 4) (c1 j)))) _ (fun t hf => ?_) (fun t _ y => ?_)
  · have hl := (flush0_4 t).mp hf
    refine (after0_4 m c t).trans ((tapsAcc m c d p w h0 h1 h2 t.val t.isLt).trans ?_)
    funext j
    rw [part_last 4 _ _ (by omega)]
    refine Finset.sum_congr rfl fun b _ => ?_
    have hb := b.isLt
    have e0 : Fin.ofNat 4 (t.val - t.val % 4 + b.val) = b := Fin.ext (by show (t.val - t.val % 4 + b.val) % 4 = b.val; omega)
    have e1 : (t.val - t.val % 4 + b.val) / 4 = t.val / 4 := by omega
    show ∑ r : Fin 2048, gK d p w (Fin.ofNat 4 (t.val - t.val % 4 + b.val)) r (chan ((t.val - t.val % 4 + b.val) / 4) (c1 j))
      * tapE (r0 j).val (seqS p (Fin.ofNat 4 (t.val - t.val % 4 + b.val)) (chan ((t.val - t.val % 4 + b.val) / 4) (c1 j))) r = _
    rw [e0, e1]
    rfl
  · rw [ofNat_fst]
    rfl

end

end Cert.PrepBwd

end
-- ==== Proof.PrepBwd.Ref.lean ====
/- The gradient of the taps as the reference leaves it. -/
module

public import proofs.«01_k».proof.Proof.Gen.Reference25Ideal.Run
public import proofs.«01_k».proof.Proof.PrepBwd.Spec

@[expose] public section

noncomputable section

namespace Cert.PrepBwd

open Cert.Reference25Ideal Cert.Reference25Ideal.Gen Cert.Reference25Ideal.Value Cert.Ext Idealize.ShloMosaic Idealize.ShloMosaic.TcCoe Idealize.SL.Sem Cert.Lift Idealize.ShloMosaic.ValueIdx

/-! ### Layout -/

section
variable {α : Type} {C : Nat}

theorem toVec (a : (⟨2, ![1, C]⟩ : Shape).Idx → α) (h) : shapeCast ⟨1, ![C]⟩ a h = fun j => a (ix2 0 (v0 j)) := by
  funext j
  refine shapeCast_apply a h j _ ?_
  rw [Shape.rowMajor_val_one, Shape.rowMajor_val_two]
  show 0 * C + (v0 j).val = (v0 j).val
  omega

theorem vecRow (h : (⟨1, ![C]⟩ : Shape).BroadcastsInDim ⟨2, ![1, C]⟩ ![1]) (a : (⟨1, ![C]⟩ : Shape).Idx → α) :
    broadcastInDim ⟨2, ![1, C]⟩ ![1] h a = fun j => a (ix1 (c1 j)) := by
  funext j
  have hj : (c1 j).val < C := (c1 j).isLt
  refine broadcastInDim_apply _ h _ j _ fun e => ?_
  match e with
  | ⟨0, _⟩ =>
    show (c1 j).val = if C = 1 then 0 else (c1 j).val
    split <;> omega

/-- One of the three tables, its rows cut in heads. -/
theorem tableHeads (s : Nat) (hs : s < 3) (a : (⟨3, ![3, 8192, 512]⟩ : Shape).Idx → α) (h) (h') (h'') :
    shapeCast ⟨3, ![8192, 4, 128]⟩ (shapeCast ⟨2, ![8192, 512]⟩ (extractStridedSlice ⟨3, ![1, 8192, 512]⟩ ![s, 0, 0] a h) h') h''
      = fun j => a (ix3 (Fin.ofNat 3 s) (d0 j) (hd (d1 j) (d2 j))) := by
  funext j
  have g0 : (d0 j).val < 8192 := (d0 j).isLt
  have g1 : (d1 j).val < 4 := (d1 j).isLt
  have g2 : (d2 j).val < 128 := (d2 j).isLt
  refine (shapeCast_apply _ h'' j (ix2 (d0 j) (hd (d1 j) (d2 j))) ?_).trans ?_
  · rw [Shape.rowMajor_val_two, Shape.rowMajor_val_three]
    show (d0 j).val * 512 + ((d1 j).val * 128 + (d2 j).val) % 512 = ((d0 j).val * 4 + (d1 j).val) * 128 + (d2 j).val
    omega
  refine (shapeCast_apply _ h' _ (ix3 0 (d0 j) (hd (d1 j) (d2 j))) ?_).trans ?_
  · rw [Shape.rowMajor_val_two, Shape.rowMajor_val_three]
    show (0 * 8192 + (d0 j).val) * 512 + (hd (d1 j) (d2 j)).val = (d0 j).val * 512 + (hd (d1 j) (d2 j)).val
    omega
  refine extractStridedSlice_apply _ a h _ _ fun e => ?_
  match e with
  | ⟨0, _⟩ => show s % 3 = s + 0; omega
  | ⟨1, _⟩ => show (d0 j).val = 0 + (d0 j).val; omega
  | ⟨2, _⟩ => show (hd (d1 j) (d2 j)).val = 0 + (hd (d1 j) (d2 j)).val; omega

/-- The heads joined again, over the batch. -/
theorem joined3 (a : (⟨3, ![8192, 4, 128]⟩ : Shape).Idx → α) (h) :
    shapeCast ⟨3, ![4, 2048, 512]⟩ a h = fun j => a (ix3 (Fin.ofNat 8192 ((d0 j).val * 2048 + (d1 j).val)) (Fin.ofNat 4 ((d2 j).val / 128)) (Fin.ofNat 128 (d2 j).val)) := by
  funext j
  have g0 : (d0 j).val < 4 := (d0 j).isLt
  have g1 : (d1 j).val < 2048 := (d1 j).isLt
  have g2 : (d2 j).val < 512 := (d2 j).isLt
  refine shapeCast_apply a h _ _ ?_
  rw [Shape.rowMajor_val_three, Shape.rowMajor_val_three]
  show (((d0 j).val * 2048 + (d1 j).val) % 8192 * 4 + (d2 j).val / 128 % 4) * 128 + (d2 j).val % 128 = ((d0 j).val * 2048 + (d1 j).val) * 512 + (d2 j).val
  omega

end

/-! ### The normalisation's derivative -/

theorem hostNorm {B R C : Nat} {u : Shape} (y dd : Arr ⟨3, ![B, R, C]⟩) (v : Arr ⟨3, ![B, R, 1]⟩)
    (hv : v = fun j => (∑ k : Fin C, y (ix3 (d0 j) (d1 j) k) * y (ix3 (d0 j) (d1 j) k)) + Ideal.ofBits .f32 0x358637BD#32) (h) (h') (hu : 0 < u.numel)
    (hc : (⟨3, ![B, R, 1]⟩ : Shape).BroadcastsInDim ⟨3, ![B, R, C]⟩ ![0, 1, 2]) (ha : (⟨2, ![B, R]⟩ : Shape).BroadcastsInDim ⟨3, ![B, R, C]⟩ ![0, 1])
    (hs : (⟨2, ![B, R]⟩ : Shape).ShapeCasts ⟨3, ![B, R, 1]⟩) (u1 : Shape) (x1 : Fin u1.rank → Fin 3)
    (h1 : u1.BroadcastsInDim ⟨3, ![B, R, 1]⟩ x1) (q : Arr ⟨3, ![B, R, C]⟩)
    (hq : q = broadcastInDim ⟨3, ![B, R, C]⟩ ![0, 1] ha (Host.reduceAdd (F := Ideal) (φ := .f32) (axes := [2]) (t := ⟨2, ![B, R]⟩)
        (mulf (F := Ideal) (φ := .f32)
          (shapeCast ⟨3, ![B, R, 1]⟩ (Host.reduceAdd (F := Ideal) (φ := .f32) (axes := [2]) (t := ⟨2, ![B, R]⟩) (mulf (F := Ideal) (φ := .f32) y dd) (constant (F := Ideal) u .f32 0x00000000#32) h hu : Arr ⟨2, ![B, R]⟩) hs)
          (mulf (F := Ideal) (φ := .f32) (broadcastInDim (s := u1) ⟨3, ![B, R, 1]⟩ x1 h1 (constant (F := Ideal) u1 .f32 0xBF000000#32))
            (Host.divf (F := Ideal) (φ := .f32) (Host.rsqrt (F := Ideal) (φ := .f32) v) v))) (constant (F := Ideal) u .f32 0x00000000#32) h' hu : Arr ⟨2, ![B, R]⟩)) :
    (addf (F := Ideal) (φ := .f32) (addf (F := Ideal) (φ := .f32) (mulf (F := Ideal) (φ := .f32) dd
        (broadcastInDim ⟨3, ![B, R, C]⟩ ![0, 1, 2] hc (Host.rsqrt (F := Ideal) (φ := .f32) v)))
        (mulf (F := Ideal) (φ := .f32) y q)) (mulf (F := Ideal) (φ := .f32) q y) : Arr ⟨3, ![B, R, C]⟩)
      = fun j => nrmH (fun k => y (ix3 (d0 j) (d1 j) k)) (fun k => dd (ix3 (d0 j) (d1 j) k)) (d2 j) := by
  have e : q = fun j => (∑ k : Fin C, y (ix3 (d0 j) (d1 j) k) * dd (ix3 (d0 j) (d1 j) k)) * (Ideal.ofBits .f32 0xBF000000#32
      * Ideal.div (Ideal.rsqrt ((∑ k : Fin C, y (ix3 (d0 j) (d1 j) k) * y (ix3 (d0 j) (d1 j) k)) + Ideal.ofBits .f32 0x358637BD#32)) ((∑ k : Fin C, y (ix3 (d0 j) (d1 j) k) * y (ix3 (d0 j) (d1 j) k)) + Ideal.ofBits .f32 0x358637BD#32)) := by
    rw [hq, along, hostLast3, cast1, hostLast3, hv]
    funext j
    exact Fin.sum_univ_one _
  rw [e, widen, hv]
  funext j
  rw [eq_dd j]
  rfl

theorem hostSq {B R C : Nat} {u : Shape} (y : Arr ⟨3, ![B, R, C]⟩) (h) (hu : 0 < u.numel) (hb : (⟨2, ![B, R]⟩ : Shape).BroadcastsInDim ⟨3, ![B, R, 1]⟩ ![0, 1])
    (u2 : Shape) (x2 : Fin u2.rank → Fin 3) (h2 : u2.BroadcastsInDim ⟨3, ![B, R, 1]⟩ x2) :
    (addf (F := Ideal) (φ := .f32)
        (broadcastInDim ⟨3, ![B, R, 1]⟩ ![0, 1] hb (Host.reduceAdd (F := Ideal) (φ := .f32) (axes := [2]) (t := ⟨2, ![B, R]⟩) (mulf (F := Ideal) (φ := .f32) y y) (constant (F := Ideal) u .f32 0x00000000#32) h hu))
        (broadcastInDim (s := u2) ⟨3, ![B, R, 1]⟩ x2 h2 (constant (F := Ideal) u2 .f32 0x358637BD#32)) : Arr ⟨3, ![B, R, 1]⟩)
      = fun j => (∑ k : Fin C, y (ix3 (d0 j) (d1 j) k) * y (ix3 (d0 j) (d1 j) k)) + Ideal.ofBits .f32 0x358637BD#32 := by
  rw [under, hostLast3]
  rfl

/-! ### The reference's lines -/

section
variable (V0 : Valuation τ sig (Elt Ideal)) (d : Arr S3x8192x512) (p : Arr S4x2048x3200) (w : Arr S4x1536)

section
variable (h1 : V0 (Proc.devRef .tc main_arg1) = p) (h2 : V0 (Proc.devRef .tc main_arg2) = w)

include h1 in
theorem tapsH (q : Nat) (hs) : (extractStridedSlice S4x2048x1536 ![0, q, 0] (res_main_v10 V0) hs : Arr S4x2048x1536) = fun j => tapE q (seqS p (d0 j) (d2 j)) (d1 j) := by
  unfold res_main_v10
  rw [h1]
  refine (host_tap q _ (sitofp (F := Ideal) .f32 (constantI S_ 32 0#32) : Arr S_) (fun i => ?_) _ _ hs).trans (funext fun j => congrArg (fun g => tapE q g (d1 j)) (funext fun r => ?_))
  · show (((0#32 : BitVec 32).toInt : ℝ) : EReal) = 0
    simp
  · exact (congrFun (lastE 0 (by decide) p _) _).trans (congrArg (fun z => p (ix3 (d0 j) r (Fin.ofNat 3200 z))) (Nat.zero_add _))

theorem wRow (q : Nat) (hq : q < 4) (a : Arr S4x1536) (hs) (hc) (hb) (hb') :
    (broadcastInDim S4x2048x1536 ![0, 1, 2] hb (broadcastInDim S1x1x1536 ![2] hb' (shapeCast S1536 (extractStridedSlice S1x1536 ![q, 0] a hs) hc)) : Arr S4x2048x1536)
      = fun j => a (ix2 ⟨q, hq⟩ (d2 j)) := by
  refine (last hb hb' _).trans (funext fun j => ?_)
  exact (congrFun (toVec _ hc) _).trans (row_apply q hq a hs _)

include h1 h2

theorem cvR : (res_main_v37 V0 : Arr S4x2048x1536) = fun j => cvS p w (d0 j) (d1 j) (d2 j) := by
  have t0 : (res_main_v11 V0 : Arr S4x2048x1536) = fun j => tapE 0 (seqS p (d0 j) (d2 j)) (d1 j) := tapsH V0 p h1 0 _
  have t1 : (res_main_v17 V0 : Arr S4x2048x1536) = fun j => tapE 1 (seqS p (d0 j) (d2 j)) (d1 j) := tapsH V0 p h1 1 _
  have t2 : (res_main_v24 V0 : Arr S4x2048x1536) = fun j => tapE 2 (seqS p (d0 j) (d2 j)) (d1 j) := tapsH V0 p h1 2 _
  have t3 : (res_main_v31 V0 : Arr S4x2048x1536) = fun j => tapE 3 (seqS p (d0 j) (d2 j)) (d1 j) := tapsH V0 p h1 3 _
  unfold res_main_v37
  rw [h2, t0, t1, t2, t3, wRow 0 (by decide) w, wRow 1 (by decide) w, wRow 2 (by decide) w, wRow 3 (by decide) w]
  rfl

theorem sgR : (res_main_v38_2 V0 : Arr S4x2048x1536) = fun j => sg (cvS p w (d0 j) (d1 j) (d2 j)) := by
  unfold res_main_v38_2
  rw [cvR V0 p w h1 h2]
  rfl

theorem yR : (res_main_v38_0 V0 : Arr S4x2048x1536) = fun j => silE (cvS p w (d0 j) (d1 j) (d2 j)) := by
  unfold res_main_v38_0
  rw [cvR V0 p w h1 h2, sgR V0 p w h1 h2]
  rfl

theorem yH (q : Nat) (hq : q + 512 ≤ 1536) (hs) (hc) :
    (shapeCast S8192x4x128 (extractStridedSlice S4x2048x512 ![0, 0, q] (res_main_v38_0 V0) hs) hc : Arr S8192x4x128)
      = fun j => silE (cvS p w (Fin.ofNat 4 ((d0 j).val / 2048)) (Fin.ofNat 2048 (d0 j).val) (Fin.ofNat 1536 (q + (hd (d1 j) (d2 j)).val))) := by
  refine (headsE _ hc).trans ?_
  rw [lastE q hq (res_main_v38_0 V0 : Arr S4x2048x1536) hs, yR V0 p w h1 h2]
  rfl

end

/-- A head's part in the spec's terms. -/
theorem headV (s q : Nat) (hs : s < 3) (hq : q = s * 512) (y dd : Arr S8192x4x128)
    (hy : y = fun j => silE (cvS p w (Fin.ofNat 4 ((d0 j).val / 2048)) (Fin.ofNat 2048 (d0 j).val) (Fin.ofNat 1536 (q + (hd (d1 j) (d2 j)).val))))
    (hd' : dd = fun j => d (ix3 (Fin.ofNat 3 s) (d0 j) (hd (d1 j) (d2 j)))) (b : Fin 4) (r : Fin 2048) (c : Fin 512) (ch : Fin 1536) (hch : ch.val = q + c.val) :
    nrmH (fun k => y (ix3 (Fin.ofNat 8192 (b.val * 2048 + r.val)) (Fin.ofNat 4 (c.val / 128)) k)) (fun k => dd (ix3 (Fin.ofNat 8192 (b.val * 2048 + r.val)) (Fin.ofNat 4 (c.val / 128)) k)) (Fin.ofNat 128 c.val)
      = nrmH (fun k => silE (cvS p w b r (base ch k))) (fun k => dS d b r (base ch k)) (lane ch) := by
  have hb := b.isLt
  have hr := r.isLt
  have hc := c.isLt
  subst hy hd'
  refine congr3 (fun x y k => nrmH x y k) (funext fun k => ?_) (funext fun k => ?_) (Fin.ext ?_)
  · have hk := k.isLt
    refine congr3 (fun b r c => silE (cvS p w b r c)) (Fin.ext ?_) (Fin.ext ?_) (Fin.ext ?_)
    · show (b.val * 2048 + r.val) % 8192 / 2048 % 4 = b.val; omega
    · show (b.val * 2048 + r.val) % 8192 % 2048 = r.val; omega
    · show (q + (c.val / 128 % 4 * 128 + k.val) % 512) % 1536 = (ch.val / 128 * 128 + k.val) % 1536
      rw [hch, hq]; omega
  · have hk := k.isLt
    have e : (base ch k).val = s * 512 + (c.val / 128 * 128 + k.val) := by
      show (ch.val / 128 * 128 + k.val) % 1536 = _
      rw [hch, hq]; omega
    refine congr3 (fun a b c => d (ix3 a b c)) (Fin.ext ?_) rfl (Fin.ext ?_)
    · show s % 3 = ((base ch k).val / 512) % 3
      rw [e]; omega
    · show (c.val / 128 % 4 * 128 + k.val) % 512 = (base ch k).val % 512
      rw [e]; omega
  · show c.val % 128 = ch.val % 128
    rw [hch, hq]; omega

variable (h0 : V0 (Proc.devRef .tc main_arg0) = d) (h1 : V0 (Proc.devRef .tc main_arg1) = p) (h2 : V0 (Proc.devRef .tc main_arg2) = w)
include h0 h1 h2

theorem dvR : (res_main_v98 V0 : Arr S4x2048x1536) = fun j =>
    if (d2 j).val / 512 < 2 then nrmH (fun k => silE (cvS p w (d0 j) (d1 j) (base (d2 j) k))) (fun k => dS d (d0 j) (d1 j) (base (d2 j) k)) (lane (d2 j)) else dS d (d0 j) (d1 j) (d2 j) := by
  have y0 := yH V0 p w h1 h2 0 (by decide) slices_S4x2048x1536_S4x2048x512_0_0_0 shapeCasts_S4x2048x512_S8192x4x128
  have y1 := yH V0 p w h1 h2 512 (by decide) slices_S4x2048x1536_S4x2048x512_0_0_512 shapeCasts_S4x2048x512_S8192x4x128
  have g0 : (res_main_v2 V0 : Arr S8192x4x128) = fun j => d (ix3 (Fin.ofNat 3 0) (d0 j) (hd (d1 j) (d2 j))) := by
    unfold res_main_v2; rw [h0]; exact tableHeads 0 (by decide) d _ _ _
  have g1 : (res_main_v5 V0 : Arr S8192x4x128) = fun j => d (ix3 (Fin.ofNat 3 1) (d0 j) (hd (d1 j) (d2 j))) := by
    unfold res_main_v5; rw [h0]; exact tableHeads 1 (by decide) d _ _ _
  have n0 := hostNorm (u := S_) (res_main_v40 V0 : Arr S8192x4x128) (res_main_v2 V0) (res_main_v45 V0) (hostSq _ _ _ _ _ _ _) reducesTo_S8192x4x128_S8192x4_d2 reducesTo_S8192x4x1_S8192x4_d2 h_S_
    bcast_S8192x4x1_S8192x4x128_0_1_2 bcast_S8192x4_S8192x4x128_0_1 shapeCasts_S8192x4_S8192x4x1 S_ ![] bcast_S_S8192x4x1 (res_main_v91 V0) rfl
  have n1 := hostNorm (u := S_) (res_main_v53 V0 : Arr S8192x4x128) (res_main_v5 V0) (res_main_v58 V0) (hostSq _ _ _ _ _ _ _) reducesTo_S8192x4x128_S8192x4_d2 reducesTo_S8192x4x1_S8192x4_d2 h_S_
    bcast_S8192x4x1_S8192x4x128_0_1_2 bcast_S8192x4_S8192x4x128_0_1 shapeCasts_S8192x4_S8192x4x1 S_ ![] bcast_S_S8192x4x1 (res_main_v76 V0) rfl
  have z : ∀ i, (constant (F := Ideal) S_ .f32 0x00000000#32 : Arr S_) i = 0 := fun _ => zeroF
  funext j
  have hb : (d0 j).val < 4 := (d0 j).isLt
  have hr : (d1 j).val < 2048 := (d1 j).isLt
  have hc : (d2 j).val < 1536 := (d2 j).isLt
  have e0 := pad_cols (D := 1536) 0 1024 (shapeCast S4x2048x512 (fun j => nrmH (fun k => (res_main_v40 V0 : Arr S8192x4x128) (ix3 (d0 j) (d1 j) k)) (fun k => (res_main_v2 V0 : Arr S8192x4x128) (ix3 (d0 j) (d1 j) k)) (d2 j) : Arr S8192x4x128) shapeCasts_S8192x4x128_S4x2048x512 : Arr S4x2048x512) (constant (F := Ideal) S_ .f32 0x00000000#32) z pads_S4x2048x512_S4x2048x1536_000_000_010240 h_S_ j
  have e1 := pad_cols (D := 1536) 512 512 (shapeCast S4x2048x512 (fun j => nrmH (fun k => (res_main_v53 V0 : Arr S8192x4x128) (ix3 (d0 j) (d1 j) k)) (fun k => (res_main_v5 V0 : Arr S8192x4x128) (ix3 (d0 j) (d1 j) k)) (d2 j) : Arr S8192x4x128) shapeCasts_S8192x4x128_S4x2048x512 : Arr S4x2048x512) (constant (F := Ideal) S_ .f32 0x00000000#32) z pads_S4x2048x512_S4x2048x1536_000_000_5125120 h_S_ j
  have e2 := pad_cols (D := 1536) 1024 0 (shapeCast S4x2048x512 (fun j => d (ix3 (Fin.ofNat 3 2) (d0 j) (hd (d1 j) (d2 j))) : Arr S8192x4x128) shapeCasts_S8192x4x128_S4x2048x512 : Arr S4x2048x512) (constant (F := Ideal) S_ .f32 0x00000000#32) z pads_S4x2048x512_S4x2048x1536_000_000_102400 h_S_ j
  unfold res_main_v98
  rw [h0, tableHeads 2 (by decide) d]
  rw [show res_main_v46 V0 = Host.rsqrt (F := Ideal) (φ := .f32) (res_main_v45 V0) from rfl, show res_main_v59 V0 = Host.rsqrt (F := Ideal) (φ := .f32) (res_main_v58 V0) from rfl, n0, n1]
  refine (congr3 (fun a b c : EReal => (a + b) + c) e2 e1 e0).trans ?_
  by_cases c0 : (d2 j).val < 512
  · rw [dif_neg (by omega), dif_neg (by omega), dif_pos (show 0 ≤ (d2 j).val ∧ (d2 j).val - 0 < 512 by omega), if_pos (by omega), zero_add, zero_add, joined3]
    exact headV d p w 0 0 (by decide) rfl _ _ y0 g0 (d0 j) (d1 j) ⟨(d2 j).val - 0, by omega⟩ (d2 j) (by show _ = 0 + ((d2 j).val - 0); omega)
  by_cases c1 : (d2 j).val < 1024
  · rw [dif_neg (by omega), dif_pos (show 512 ≤ (d2 j).val ∧ (d2 j).val - 512 < 512 by omega), dif_neg (by omega), if_pos (by omega), zero_add, add_zero, joined3]
    exact headV d p w 1 512 (by decide) rfl _ _ y1 g1 (d0 j) (d1 j) ⟨(d2 j).val - 512, by omega⟩ (d2 j) (by show _ = 512 + ((d2 j).val - 512); omega)
  · rw [dif_pos (show 1024 ≤ (d2 j).val ∧ (d2 j).val - 1024 < 512 by omega), dif_neg (by omega), dif_neg (by omega), if_neg (by omega), add_zero, add_zero, joined3]
    refine congr3 (fun a b c => d (ix3 a b c)) (Fin.ext ?_) rfl (Fin.ext ?_)
    · show 2 % 3 = ((d2 j).val / 512) % 3; omega
    · show (((d2 j).val - 1024) / 128 % 4 * 128 + ((d2 j).val - 1024) % 128) % 512 = (d2 j).val % 512; omega

theorem dcR : (res_main_v99 V0 : Arr S4x2048x1536) = fun j => gH d p w (d0 j) (d1 j) (d2 j) := by
  unfold res_main_v99
  rw [dvR V0 d p w h0 h1 h2, cvR V0 p w h1 h2, sgR V0 p w h1 h2]
  rfl

omit h0 h1 h2 in
theorem rowG (t v : Arr S4x2048x1536) (h) (h') (hc) (hb) :
    (broadcastInDim S1x1536 ![1] hb (Host.reduceAdd (F := Ideal) (φ := .f32) (axes := [0, 1]) (t := S1536) (shapeCast S1x1x1536 (Host.reduceAdd (F := Ideal) (φ := .f32) (axes := [0, 1]) (t := S1536) (mulf (F := Ideal) (φ := .f32) t v) (constant (F := Ideal) S_ .f32 0x00000000#32) h h_S_ : Arr S1536) hc)
        (constant (F := Ideal) S_ .f32 0x00000000#32) h' h_S_ : Arr S1536) : Arr S1x1536)
      = fun j => ∑ b : Fin 4, ∑ r : Fin 2048, t (ix3 b r (c1 j)) * v (ix3 b r (c1 j)) := by
  refine (vecRow hb _).trans ?_
  rw [hostRows3 _ h', hostRows3 _ h, cast11]
  funext j
  exact (Fin.sum_univ_one _).trans (Fin.sum_univ_one _)

theorem resR (a3 a2 a1 a0) : (addf (F := Ideal) (φ := .f32) (addf (F := Ideal) (φ := .f32) (addf (F := Ideal) (φ := .f32)
      (pad S4x1536 ![3, 0] ![0, 0] ![0, 0] (broadcastInDim S1x1536 ![1] bcast_S1536_S1x1536_1 (Host.reduceAdd (F := Ideal) (shapeCast _ (Host.reduceAdd (F := Ideal) (mulf (F := Ideal) (res_main_v31 V0) (res_main_v99 V0)) (constant S_ .f32 0x00000000#32) reducesTo_S4x2048x1536_S1536_d0_1 h_S_) shapeCasts_S1536_S1x1x1536) (constant S_ .f32 0x00000000#32) reducesTo_S1x1x1536_S1536_d0_1 h_S_)) (constant (F := Ideal) S_ .f32 0x00000000#32) a3 h_S_)
      (pad S4x1536 ![2, 0] ![1, 0] ![0, 0] (broadcastInDim S1x1536 ![1] bcast_S1536_S1x1536_1 (Host.reduceAdd (F := Ideal) (shapeCast _ (Host.reduceAdd (F := Ideal) (mulf (F := Ideal) (res_main_v24 V0) (res_main_v99 V0)) (constant S_ .f32 0x00000000#32) reducesTo_S4x2048x1536_S1536_d0_1 h_S_) shapeCasts_S1536_S1x1x1536) (constant S_ .f32 0x00000000#32) reducesTo_S1x1x1536_S1536_d0_1 h_S_)) (constant (F := Ideal) S_ .f32 0x00000000#32) a2 h_S_))
      (pad S4x1536 ![1, 0] ![2, 0] ![0, 0] (broadcastInDim S1x1536 ![1] bcast_S1536_S1x1536_1 (Host.reduceAdd (F := Ideal) (shapeCast _ (Host.reduceAdd (F := Ideal) (mulf (F := Ideal) (res_main_v17 V0) (res_main_v99 V0)) (constant S_ .f32 0x00000000#32) reducesTo_S4x2048x1536_S1536_d0_1 h_S_) shapeCasts_S1536_S1x1x1536) (constant S_ .f32 0x00000000#32) reducesTo_S1x1x1536_S1536_d0_1 h_S_)) (constant (F := Ideal) S_ .f32 0x00000000#32) a1 h_S_))
      (pad S4x1536 ![0, 0] ![3, 0] ![0, 0] (broadcastInDim S1x1536 ![1] bcast_S1536_S1x1536_1 (Host.reduceAdd (F := Ideal) (shapeCast _ (Host.reduceAdd (F := Ideal) (mulf (F := Ideal) (res_main_v11 V0) (res_main_v99 V0)) (constant S_ .f32 0x00000000#32) reducesTo_S4x2048x1536_S1536_d0_1 h_S_) shapeCasts_S1536_S1x1x1536) (constant S_ .f32 0x00000000#32) reducesTo_S1x1x1536_S1536_d0_1 h_S_)) (constant (F := Ideal) S_ .f32 0x00000000#32) a0 h_S_) : Arr S4x1536)
      = tapSum (gH d p w) p := by
  rw [show (res_main_v11 V0 : Arr S4x2048x1536) = _ from tapsH V0 p h1 0 _, show (res_main_v17 V0 : Arr S4x2048x1536) = _ from tapsH V0 p h1 1 _,
    show (res_main_v24 V0 : Arr S4x2048x1536) = _ from tapsH V0 p h1 2 _, show (res_main_v31 V0 : Arr S4x2048x1536) = _ from tapsH V0 p h1 3 _, dcR V0 d p w h0 h1 h2, rowG, rowG, rowG, rowG]
  refine (four_rows (fun q => fun j => ∑ b : Fin 4, ∑ r : Fin 2048, tapE q.val (seqS p b (c1 j)) r * gH d p w b r (c1 j)) (constant (F := Ideal) S_ .f32 0x00000000#32) (fun _ => zeroF) a3 a2 a1 a0 h_S_).trans ?_
  exact funext fun j => Finset.sum_congr rfl fun b _ => Finset.sum_congr rfl fun r _ => mul_comm _ _

end

end Cert.PrepBwd

end
-- ==== Proof.PrepBwd.Claims.lean ====
/- The claims about the backward pass of the convolution: the gradient of its taps. -/
module

public import proofs.«01_k».proof.Defs
public import proofs.«01_k».proof.Proof.PrepBwd.Value
public import proofs.«01_k».proof.Proof.PrepBwd.Ref
public import proofs.«01_k».proof.Proof.Gen.Kernel25.Frame
public import proofs.«01_k».proof.Proof.Gen.Pre_finite_prep
public import proofs.«01_k».proof.Proof.Lift.Host
public import Idealize.ShloMosaic.Adequacy
public import Idealize.ShloMosaic.Init

@[expose] public section

noncomputable section

namespace Cert.PrepBwd

open Idealize.ShloMosaic Idealize.ShloMosaic.TcCoe Idealize.SL.Sem Cert.Ext Cert.Lift Idealize.ShloMosaic.ValueIdx

theorem frame_p : Cert.quiescent_Kernel25 := fun m ρ _ => Cert.Kernel25.Gen.frame m ρ
theorem frame_pi : Cert.quiescent_Kernel25Ideal := fun m ρ _ => Cert.Kernel25Ideal.Gen.frame m ρ
theorem frame_pi_pre : Cert.quiescent_Kernel25Ideal_pre_finite_prep := fun m ρ _ => Cert.Kernel25Ideal.Gen.frame m ρ
theorem frame_ri : Cert.quiescent_Reference25Ideal := fun m ρ _ => (θ_run Cert.Reference25Ideal.defs _ _).mono (fun r h => ⟨fun c => (h c).2,
      Idealize.ShloMosaic.sem_eq_zero_of_no_sems (by decide) r.2⟩)
    (Cert.Reference25Ideal.Value.run (F := Ideal) m ρ)
theorem frame_ri_pre : Cert.quiescent_Reference25Ideal_pre_finite_prep := fun m ρ _ => (θ_run Cert.Reference25Ideal.defs _ _).mono (fun r h => ⟨fun c => (h c).2,
      Idealize.ShloMosaic.sem_eq_zero_of_no_sems (by decide) r.2⟩)
    (Cert.Reference25Ideal.Value.run (F := Ideal) m ρ)

theorem preserves : Cert.preserves_Kernel25_Kernel25Ideal := trivial

/-! ### On real arguments the two forms agree -/

section
variable (D : (⟨3, ![3, 8192, 512]⟩ : Shape).Idx → ℝ) (P : (⟨3, ![4, 2048, 3200]⟩ : Shape).Idx → ℝ) (W : (⟨2, ![4, 1536]⟩ : Shape).Idx → ℝ)

theorem cvS_real (b : Fin 4) (r : Fin 2048) (ch : Fin 1536) : ∃ v : ℝ, cvS (up P) (up W) b r ch = (v : EReal) :=
  ⟨_, cv_real (fun r => P (ix3 b r (Fin.ofNat 3200 ch.val))) (fun q => W (ix2 q ch)) r⟩

theorem silE_real (x : ℝ) : ∃ v : ℝ, silE (x : EReal) = (v : EReal) := by
  obtain ⟨s, hs⟩ := sg_real x
  exact ⟨x * s, (congrArg ((x : EReal) * ·) hs).trans (EReal.coe_mul x s).symm⟩

theorem agree (b : Fin 4) (r : Fin 2048) (ch : Fin 1536) : gK (up D) (up P) (up W) b r ch = gH (up D) (up P) (up W) b r ch := by
  have hy : ∀ k : Fin 128, ∃ v : ℝ, silE (cvS (up P) (up W) b r (base ch k)) = (v : EReal) := fun k => by
    obtain ⟨x, hx⟩ := cvS_real P W b r (base ch k)
    rw [hx]
    exact silE_real x
  choose y hy using hy
  obtain ⟨x, hx⟩ := cvS_real P W b r ch
  obtain ⟨v, e1, e2⟩ := nrm_real y (fun k => D (ix3 (Fin.ofNat 3 ((base ch k).val / 512)) (Fin.ofNat 8192 (b.val * 2048 + r.val)) (Fin.ofNat 512 (base ch k).val))) (lane ch)
  have e1' : nrmE (fun k => silE (cvS (up P) (up W) b r (base ch k))) (fun k => dS (up D) b r (base ch k)) (lane ch) = (v : EReal) :=
    (congrArg (fun f => nrmE f _ _) (funext hy)).trans e1
  have e2' : nrmH (fun k => silE (cvS (up P) (up W) b r (base ch k))) (fun k => dS (up D) b r (base ch k)) (lane ch) = (v : EReal) :=
    (congrArg (fun f => nrmH f _ _) (funext hy)).trans e2
  show (if ch.val / 512 < 2 then nrmE (fun k => silE (cvS (up P) (up W) b r (base ch k))) (fun k => dS (up D) b r (base ch k)) (lane ch) else dS (up D) b r ch) * dsilE (cvS (up P) (up W) b r ch)
    = silH (cvS (up P) (up W) b r ch) (if ch.val / 512 < 2 then nrmH (fun k => silE (cvS (up P) (up W) b r (base ch k))) (fun k => dS (up D) b r (base ch k)) (lane ch) else dS (up D) b r ch)
  rw [e1', e2', hx]
  split
  · exact (sil_agree x v).symm
  · exact (sil_agree x _).symm

end

instance : Subsingleton Cert.Pre_finite_prep.S_.Idx := ⟨fun a b => funext fun x => x.elim0⟩

/-- Bounded arguments are real arrays. -/
theorem holds {m : (ℓ : Loc Cert.Kernel25Ideal.nD Cert.Kernel25Ideal.τ Cert.Kernel25Ideal.sig) → Buf (Elt Ideal) ℓ}
    (hpre : Cert.Pre_Kernel25Ideal_finite_prep m) (c : Dev Cert.Kernel25Ideal.nD) :
    ∃ (D : (⟨3, ![3, 8192, 512]⟩ : Shape).Idx → ℝ) (P : (⟨3, ![4, 2048, 3200]⟩ : Shape).Idx → ℝ) (W : (⟨2, ![4, 1536]⟩ : Shape).Idx → ℝ),
      (m ((c : Thread Cert.Kernel25Ideal.nD Cert.Kernel25Ideal.τ).loc Cert.Kernel25Ideal.main_arg0) : (⟨3, ![3, 8192, 512]⟩ : Shape).Idx → EReal) = up D
      ∧ (m ((c : Thread Cert.Kernel25Ideal.nD Cert.Kernel25Ideal.τ).loc Cert.Kernel25Ideal.main_arg1) : (⟨3, ![4, 2048, 3200]⟩ : Shape).Idx → EReal) = up P
      ∧ (m ((c : Thread Cert.Kernel25Ideal.nD Cert.Kernel25Ideal.τ).loc Cert.Kernel25Ideal.main_arg2) : (⟨2, ![4, 1536]⟩ : Shape).Idx → EReal) = up W := by
  have h := congrFun (hpre c) (fun a => a.elim0)
  unfold Cert.Pre_finite_prep.fn at h
  obtain ⟨h, h2⟩ := IntOp.andi_eq_one.1 h
  obtain ⟨h0, h1⟩ := IntOp.andi_eq_one.1 h
  exact ⟨_, _, _, real_of_bounded _ _ _ _ _ _ _ h0, real_of_bounded _ _ _ _ _ _ _ h1, real_of_bounded _ _ _ _ _ _ _ h2⟩

theorem algebraic : Cert.algebraic_Kernel25Ideal_Reference25Ideal_pre_finite_prep := by
  intro m ρ m' ρ' hpre hagree
  refine ⟨_, (θ_run Cert.Kernel25Ideal.defs _ _).mono (fun _ h c => ⟨(h c).2.1, (h c).2.2⟩) (Cert.Kernel25Ideal.Value.run_blocks (F := Ideal) m ρ), ?_⟩
  refine (θ_run Cert.Reference25Ideal.defs _ _).mono (fun _ h c => ?_) (Cert.Reference25Ideal.Value.run (F := Ideal) m' ρ')
  obtain ⟨D, P, W, a0, a1, a2⟩ := holds hpre c
  obtain ⟨e0, e1, e2⟩ := hagree c
  refine ⟨(h c).1.trans ((resR (StableHlo.launchContents m' c) (up D) (up P) (up W) (e0.trans a0) (e1.trans a1) (e2.trans a2) _ _ _ _).trans ?_), (h c).2⟩
  refine Eq.trans ?_ (array4 m c (up D) (up P) (up W) a0 a1 a2).symm
  exact congrArg (fun g => tapSum g (up P)) (funext fun b => funext fun r => funext fun ch => (agree D P W b r ch).symm)

end Cert.PrepBwd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Pre_finite
public import proofs.«01_k».proof.Proof.Gen.Pre_finite_prep
public import proofs.«01_k».proof.Proof.Act.Claims
public import proofs.«01_k».proof.Proof.FfnInBwd.Claims
public import proofs.«01_k».proof.Proof.DFfnWg.Claims
public import proofs.«01_k».proof.Proof.DFfnWu.Claims
public import proofs.«01_k».proof.Proof.FfnIn.Claims
public import proofs.«01_k».proof.Proof.FfnOut.Claims
public import proofs.«01_k».proof.Proof.DWOut.Claims
public import proofs.«01_k».proof.Proof.DPleWg.Claims
public import proofs.«01_k».proof.Proof.DPleWp.Claims
public import proofs.«01_k».proof.Proof.InProj.Claims
public import proofs.«01_k».proof.Proof.DWIn.Claims
public import proofs.«01_k».proof.Proof.InProjBwd.Claims
public import proofs.«01_k».proof.Proof.PleBwd.Claims
public import proofs.«01_k».proof.Proof.LossHead.Claims
public import proofs.«01_k».proof.Proof.AdamWIn.Claims
public import proofs.«01_k».proof.Proof.AdamWOut.Claims
public import proofs.«01_k».proof.Proof.AdamWg.Claims
public import proofs.«01_k».proof.Proof.AdamWu.Claims
public import proofs.«01_k».proof.Proof.AdamWd.Claims
public import proofs.«01_k».proof.Proof.AdamPleWg.Claims
public import proofs.«01_k».proof.Proof.AdamPleWp.Claims
public import proofs.«01_k».proof.Proof.AdamSmall.Claims
public import proofs.«01_k».proof.Proof.MixBwd.Claims
public import proofs.«01_k».proof.Proof.PrepBwd.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Pre_finite.Gen.facts, Cert.Pre_finite_prep.Gen.facts,
  Cert.Act.frame_p, Cert.Act.frame_pi, Cert.Act.frame_pi_pre, Cert.Act.frame_ri, Cert.Act.frame_ri_pre,
  Cert.FfnInBwd.frame_p, Cert.FfnInBwd.frame_pi, Cert.FfnInBwd.frame_ri, Cert.DFfnWg.frame_p, Cert.DFfnWg.frame_pi,
  Cert.DFfnWg.frame_ri, Cert.DFfnWu.frame_p, Cert.DFfnWu.frame_pi, Cert.DFfnWu.frame_ri, Cert.FfnIn.frame_p,
  Cert.FfnIn.frame_pi, Cert.FfnIn.frame_ri, Cert.FfnOut.frame_p, Cert.FfnOut.frame_pi, Cert.FfnOut.frame_ri,
  Cert.DWOut.frame_p, Cert.DWOut.frame_pi, Cert.DWOut.frame_ri, Cert.DPleWg.frame_p, Cert.DPleWg.frame_pi,
  Cert.DPleWg.frame_ri, Cert.DPleWp.frame_p, Cert.DPleWp.frame_pi, Cert.DPleWp.frame_ri, Cert.InProj.frame_p,
  Cert.InProj.frame_pi, Cert.InProj.frame_ri, Cert.DWIn.frame_p, Cert.DWIn.frame_pi, Cert.DWIn.frame_ri,
  Cert.InProjBwd.frame_p, Cert.InProjBwd.frame_pi, Cert.InProjBwd.frame_ri, Cert.PleBwd.frame_p, Cert.PleBwd.frame_pi,
  Cert.PleBwd.frame_ri, Cert.LossHead.frame_p, Cert.LossHead.frame_pi, Cert.LossHead.frame_ri, Cert.AdamWIn.frame_p,
  Cert.AdamWIn.frame_pi, Cert.AdamWIn.frame_ri, Cert.AdamWOut.frame_p, Cert.AdamWOut.frame_pi, Cert.AdamWOut.frame_ri,
  Cert.AdamWg.frame_p, Cert.AdamWg.frame_pi, Cert.AdamWg.frame_ri, Cert.AdamWu.frame_p, Cert.AdamWu.frame_pi,
  Cert.AdamWu.frame_ri, Cert.AdamWd.frame_p, Cert.AdamWd.frame_pi, Cert.AdamWd.frame_ri, Cert.AdamPleWg.frame_p,
  Cert.AdamPleWg.frame_pi, Cert.AdamPleWg.frame_ri, Cert.AdamPleWp.frame_p, Cert.AdamPleWp.frame_pi, Cert.AdamPleWp.frame_ri,
  Cert.AdamSmall.frame_p, Cert.AdamSmall.frame_pi, Cert.AdamSmall.frame_ri, Cert.MixBwd.frame_p, Cert.MixBwd.frame_pi,
  Cert.MixBwd.frame_ri, Cert.PrepBwd.frame_p, Cert.PrepBwd.frame_pi, Cert.PrepBwd.frame_pi_pre, Cert.PrepBwd.frame_ri, Cert.PrepBwd.frame_ri_pre, Cert.Act.preserves,
  Cert.Act.algebraic, Cert.FfnInBwd.preserves, Cert.FfnInBwd.algebraic, Cert.DFfnWg.preserves, Cert.DFfnWg.algebraic,
  Cert.DFfnWu.preserves, Cert.DFfnWu.algebraic, Cert.FfnIn.preserves, Cert.FfnIn.algebraic, Cert.FfnOut.preserves,
  Cert.FfnOut.algebraic, Cert.DWOut.preserves, Cert.DWOut.algebraic, Cert.DPleWg.preserves, Cert.DPleWg.algebraic,
  Cert.DPleWp.preserves, Cert.DPleWp.algebraic, Cert.InProj.preserves, Cert.InProj.algebraic, Cert.DWIn.preserves,
  Cert.DWIn.algebraic, Cert.InProjBwd.preserves, Cert.InProjBwd.algebraic, Cert.PleBwd.preserves, Cert.PleBwd.algebraic,
  Cert.LossHead.preserves, Cert.LossHead.algebraic, Cert.AdamWIn.preserves, Cert.AdamWIn.algebraic, Cert.AdamWOut.preserves,
  Cert.AdamWOut.algebraic, Cert.AdamWg.preserves, Cert.AdamWg.algebraic, Cert.AdamWu.preserves, Cert.AdamWu.algebraic,
  Cert.AdamWd.preserves, Cert.AdamWd.algebraic, Cert.AdamPleWg.preserves, Cert.AdamPleWg.algebraic, Cert.AdamPleWp.preserves,
  Cert.AdamPleWp.algebraic, Cert.AdamSmall.preserves, Cert.AdamSmall.algebraic, Cert.MixBwd.preserves, Cert.MixBwd.algebraic,
  Cert.PrepBwd.preserves, Cert.PrepBwd.algebraic⟩

end Cert.Proof

end
